-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 [hPre_slots_in_range : Cert.Pre_slots_in_range.Facts] (m : (ℓ : Loc Cert.Kernel2.nD Cert.Kernel2.τ Cert.Kernel2.sig) → Buf (Elt Bits) ℓ) : Prop :=
  ∀ c : Dev Cert.Kernel2.nD,
    (Cert.Pre_slots_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_slots_in_range : Cert.Pre_slots_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_slots_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal [hPre_slots_in_range : Cert.Pre_slots_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_slots_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] [hPre_slots_in_range : Cert.Pre_slots_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_slots_in_range : Cert.Pre_slots_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] [hPre_slots_in_range : Cert.Pre_slots_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] [hPre_slots_in_range : Cert.Pre_slots_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_in_range : Cert.Pre_in_range.Facts) (hPre_slots_in_range : Cert.Pre_slots_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ quiescent_Kernel2 (hKernel2 := hKernel2) (hPre_slots_in_range := hPre_slots_in_range)
    ∧ quiescent_Kernel2Ideal (hKernel2Ideal := hKernel2Ideal) (hPre_slots_in_range := hPre_slots_in_range)
    ∧ quiescent_Reference2Ideal (hReference2Ideal := hReference2Ideal) (hPre_slots_in_range := hPre_slots_in_range)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal) (hPre_in_range := hPre_in_range)
    ∧ preserves_Kernel2_Kernel2Ideal
    ∧ algebraic_Kernel2Ideal_Reference2Ideal (hKernel2Ideal := hKernel2Ideal) (hReference2Ideal := hReference2Ideal) (hPre_slots_in_range := hPre_slots_in_range)
    ∧ preserves_Kernel3_Kernel3Ideal
    ∧ algebraic_Kernel3Ideal_Reference3Ideal (hKernel3Ideal := hKernel3Ideal) (hReference3Ideal := hReference3Ideal)
-- ==== Pre_in_range.lean ====
abbrev S262144x128 : Shape := ⟨2, ![262144, 128]⟩
abbrev S73728 : Shape := ⟨1, ![73728]⟩
abbrev S72 : Shape := ⟨1, ![72]⟩
abbrev S1 : Shape := ⟨1, ![1]⟩
abbrev S16x1024x3584 : Shape := ⟨3, ![16, 1024, 3584]⟩
abbrev S16x3584x1024 : Shape := ⟨3, ![16, 3584, 1024]⟩
abbrev S_ : Shape := ⟨0, ![]⟩
abbrev S72x1024 : Shape := ⟨2, ![72, 1024]⟩
abbrev S72x1 : Shape := ⟨2, ![72, 1]⟩
abbrev S1x1 : Shape := ⟨2, ![1, 1]⟩

class Facts : Prop where
  bcast_S_S73728 : S_.BroadcastsInDim S73728 (![] : Fin 0 → Fin S73728.rank)
  shapeCasts_S73728_S72x1024 : S73728.ShapeCasts S72x1024
  bcast_S_S72 : S_.BroadcastsInDim S72 (![] : Fin 0 → Fin S72.rank)
  bcast_S72_S72x1_0 : S72.BroadcastsInDim S72x1 (![0] : Fin 1 → Fin S72x1.rank)
  bcast_S72x1_S72x1024_0_1 : S72x1.BroadcastsInDim S72x1024 (![0, 1] : Fin 2 → Fin S72x1024.rank)
  bcast_S_S1 : S_.BroadcastsInDim S1 (![] : Fin 0 → Fin S1.rank)
  bcast_S1_S1x1_1 : S1.BroadcastsInDim S1x1 (![1] : Fin 1 → Fin S1x1.rank)
  bcast_S1x1_S72x1024_0_1 : S1x1.BroadcastsInDim S72x1024 (![0, 1] : Fin 2 → Fin S72x1024.rank)

variable [Facts]

def fn {F : FTy → Type} [FloatOps F] (main_arg0 : FVec F S262144x128 .f32) (main_arg1 : IVec S73728 32) (main_arg2 : IVec S72 32) (main_arg3 : IVec S1 32) (main_arg4 : FVec F S16x1024x3584 .f32) (main_arg5 : FVec F S16x1024x3584 .f32) (main_arg6 : FVec F S16x3584x1024 .f32) : IVec S72x1024 1 :=
  let main_c : IVec S_ 32 := constantI S_ 32 0#32
  let main_v0 : IVec S73728 32 := broadcastInDim S73728 ![] bcast_S_S73728 main_c
  let main_v1 : IVec S73728 1 := cmpi .sge main_arg1 main_v0
  let main_c_0 : IVec S_ 32 := constantI S_ 32 32768#32
  let main_v2 : IVec S73728 32 := broadcastInDim S73728 ![] bcast_S_S73728 main_c_0
  let main_v3 : IVec S73728 1 := cmpi .slt main_arg1 main_v2
  let main_v4 : IVec S73728 1 := andi main_v1 main_v3
  let main_v5 : IVec S72x1024 1 := shapeCast S72x1024 main_v4 shapeCasts_S73728_S72x1024
  let main_c_1 : IVec S_ 32 := constantI S_ 32 0#32
  let main_v6 : IVec S72 32 := broadcastInDim S72 ![] bcast_S_S72 main_c_1
  let main_v7 : IVec S72 1 := cmpi .sge main_arg2 main_v6
  let main_c_2 : IVec S_ 32 := constantI S_ 32 16#32
  let main_v8 : IVec S72 32 := broadcastInDim S72 ![] bcast_S_S72 main_c_2
  let main_v9 : IVec S72 1 := cmpi .slt main_arg2 main_v8
  let main_v10 : IVec S72 1 := andi main_v7 main_v9
  let main_v11 : IVec S72x1 1 := broadcastInDim S72x1 ![0] bcast_S72_S72x1_0 main_v10
  let main_v12 : IVec S72x1024 1 := broadcastInDim S72x1024 ![0, 1] bcast_S72x1_S72x1024_0_1 main_v11
  let main_v13 : IVec S72x1024 1 := andi main_v5 main_v12
  let main_c_3 : IVec S_ 32 := constantI S_ 32 72#32
  let main_v14 : IVec S1 32 := broadcastInDim S1 ![] bcast_S_S1 main_c_3
  let main_v15 : IVec S1 1 := cmpi .sle main_arg3 main_v14
  let main_v16 : IVec S1x1 1 := broadcastInDim S1x1 ![1] bcast_S1_S1x1_1 main_v15
  let main_v17 : IVec S72x1024 1 := broadcastInDim S72x1024 ![0, 1] bcast_S1x1_S72x1024_0_1 main_v16
  let main_v18 : IVec S72x1024 1 := andi main_v13 main_v17
  main_v18
-- ==== Pre_slots_in_range.lean ====
abbrev S589824x128 : Shape := ⟨2, ![589824, 128]⟩
abbrev S32768 : Shape := ⟨1, ![32768]⟩
abbrev S32768x128 : Shape := ⟨2, ![32768, 128]⟩
abbrev S1024 : Shape := ⟨1, ![1024]⟩
abbrev S2x1x1024 : Shape := ⟨3, ![2, 1, 1024]⟩
abbrev S32768x1024 : Shape := ⟨2, ![32768, 1024]⟩
abbrev S_ : Shape := ⟨0, ![]⟩

class Facts : Prop where
  bcast_S_S32768 : S_.BroadcastsInDim S32768 (![] : Fin 0 → Fin S32768.rank)

variable [Facts]

def fn {F : FTy → Type} [FloatOps F] (main_arg0 : FVec F S589824x128 .f32) (main_arg1 : IVec S32768 32) (main_arg2 : IVec S32768 32) (main_arg3 : FVec F S32768x128 .f32) (main_arg4 : FVec F S1024 .f32) (main_arg5 : FVec F S2x1x1024 .f32) (main_arg6 : FVec F S32768x1024 .f32) : IVec S32768 1 :=
  let main_c : IVec S_ 32 := constantI S_ 32 0#32
  let main_v0 : IVec S32768 32 := broadcastInDim S32768 ![] bcast_S_S32768 main_c
  let main_v1 : IVec S32768 1 := cmpi .sge main_arg1 main_v0
  let main_c_0 : IVec S_ 32 := constantI S_ 32 73728#32
  let main_v2 : IVec S32768 32 := broadcastInDim S32768 ![] bcast_S_S32768 main_c_0
  let main_v3 : IVec S32768 1 := cmpi .slt main_arg1 main_v2
  let main_v4 : IVec S32768 1 := andi main_v1 main_v3
  let main_c_1 : IVec S_ 32 := constantI S_ 32 0#32
  let main_v5 : IVec S32768 32 := broadcastInDim S32768 ![] bcast_S_S32768 main_c_1
  let main_v6 : IVec S32768 1 := cmpi .sge main_arg2 main_v5
  let main_v7 : IVec S32768 1 := andi main_v4 main_v6
  let main_c_2 : IVec S_ 32 := constantI S_ 32 73728#32
  let main_v8 : IVec S32768 32 := broadcastInDim S32768 ![] bcast_S_S32768 main_c_2
  let main_v9 : IVec S32768 1 := cmpi .slt main_arg2 main_v8
  let main_v10 : IVec S32768 1 := andi main_v7 main_v9
  main_v10
-- ==== Kernel.lean ====
abbrev S262144x128 : Shape := ⟨2, ![262144, 128]⟩
abbrev S73728 : Shape := ⟨1, ![73728]⟩
abbrev S72 : Shape := ⟨1, ![72]⟩
abbrev S1 : Shape := ⟨1, ![1]⟩
abbrev S16x1024x3584 : Shape := ⟨3, ![16, 1024, 3584]⟩
abbrev S16x3584x1024 : Shape := ⟨3, ![16, 3584, 1024]⟩
abbrev S589824x128 : Shape := ⟨2, ![589824, 128]⟩
abbrev S1024 : Shape := ⟨1, ![1024]⟩
abbrev S1x1024x512 : Shape := ⟨3, ![1, 1024, 512]⟩
abbrev S1x512x1024 : Shape := ⟨3, ![1, 512, 1024]⟩
abbrev S8192x128 : Shape := ⟨2, ![8192, 128]⟩
abbrev S2x8192x128 : Shape := ⟨3, ![2, 8192, 128]⟩
abbrev S2 : Shape := ⟨1, ![2]⟩
abbrev S1024x1024 : Shape := ⟨2, ![1024, 1024]⟩
abbrev S_ : Shape := ⟨0, ![]⟩
abbrev S1x8x128 : Shape := ⟨3, ![1, 8, 128]⟩
abbrev S8x128 : Shape := ⟨2, ![8, 128]⟩
abbrev S1x8192x128 : Shape := ⟨3, ![1, 8192, 128]⟩
abbrev S1024x128 : Shape := ⟨2, ![1024, 128]⟩
abbrev S1024x512 : Shape := ⟨2, ![1024, 512]⟩
abbrev S512x1024 : Shape := ⟨2, ![512, 1024]⟩

abbrev nBuf : Space → Nat
  | .hbm => 6
  | .vmem => 11
  | .smem => 5
  | _ => 0

abbrev bufTy : (tb : Table) → Fin (tcTables nBuf tb) → BufTy
  | .hbm, ⟨0, _⟩ => ⟨S262144x128, .f32⟩
  | .hbm, ⟨1, _⟩ => ⟨S73728, .i32⟩
  | .hbm, ⟨2, _⟩ => ⟨S16x1024x3584, .f32⟩
  | .hbm, ⟨3, _⟩ => ⟨S16x1024x3584, .f32⟩
  | .hbm, ⟨4, _⟩ => ⟨S16x3584x1024, .f32⟩
  | .hbm, ⟨5, _⟩ => ⟨S589824x128, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1x512x1024, .f32⟩
  | .local _ .vmem, ⟨5, _⟩ => ⟨S1x512x1024, .f32⟩
  | .local _ .vmem, ⟨6, _⟩ => ⟨S8192x128, .f32⟩
  | .local _ .vmem, ⟨7, _⟩ => ⟨S8192x128, .f32⟩
  | .local _ .vmem, ⟨8, _⟩ => ⟨S2x8192x128, .f32⟩
  | .local _ .vmem, ⟨9, _⟩ => ⟨S1024x1024, .bf16⟩
  | .local _ .vmem, ⟨10, _⟩ => ⟨S1024x1024, .f32⟩
  | .local _ .smem, ⟨0, _⟩ => ⟨S72, .i32⟩
  | .local _ .smem, ⟨1, _⟩ => ⟨S1, .i32⟩
  | .local _ .smem, ⟨2, _⟩ => ⟨S1024, .i32⟩
  | .local _ .smem, ⟨3, _⟩ => ⟨S1024, .i32⟩
  | .local _ .smem, ⟨4, _⟩ => ⟨S1024, .i32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg2 : Ref sig .tc := ⟨.smem, 0, rfl⟩
abbrev main_arg3 : Ref sig .tc := ⟨.smem, 1, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch2 : Ref sig .tc := ⟨.vmem, 9, rfl⟩
abbrev cc0_scratch3 : Ref sig .tc := ⟨.vmem, 10, rfl⟩
abbrev cc0_stg0_0 : Ref sig .tc := ⟨.smem, 2, rfl⟩
abbrev cc0_stg1_0 : Ref sig .tc := ⟨.smem, 3, rfl⟩
abbrev cc0_stg1_1 : Ref sig .tc := ⟨.smem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![72, 7], ![false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg0 : BitVec 32 := BitVec.ofNat 32 (i 0).val
  let c0_i32_5 : BitVec 32 := 0#32
  let v19 : BitVec 1 := Scalar.cmpi .eq arg0 c0_i32_5
  let arg1 : BitVec 32 := BitVec.ofNat 32 (i 1).val
  let c0_i32_6 : BitVec 32 := 0#32
  let v20 : BitVec 1 := Scalar.cmpi .eq arg1 c0_i32_6
  let v21 : BitVec 1 := Scalar.andi v19 v20
  let v22 : BitVec 32 := Scalar.extui v21
  let c0_i32_7 : BitVec 32 := 0#32
  let v23 : BitVec 1 := Scalar.cmpi .ne v22 c0_i32_7
  v23

@[reducible] def k0_t1_loop : Scf.Loop 32 :=
  let c0_i32_35 : BitVec 32 := 0#32
  let c1024_i32 : BitVec 32 := 1024#32
  let v66 : BitVec 32 := Scalar.addi c0_i32_35 c1024_i32
  let c1_i32_36 : BitVec 32 := 1#32
  ⟨c0_i32_35, v66, c1_i32_36⟩
def k0_off2 (k0_t1 : Fin k0_t1_loop.trips) : Fin 1 → Nat :=
  let c0_i32_35 : BitVec 32 := 0#32
  let c1_i32_36 : BitVec 32 := 1#32
  let arg15 : BitVec 32 := Scf.iv c0_i32_35 c1_i32_36 k0_t1
  let v67 : Index := Scalar.indexCast arg15
  ![v67.toNat]
def k0_mult1 (v68 : BitVec 32) : BitVec 32 :=
  let c8_i32 : BitVec 32 := 8#32
  let v69 : BitVec 32 := Scalar.muli v68 c8_i32
  v69
def k0_cond1 (i : grid0.Coords) (v0 : BitVec 32) : BitVec 1 :=
  let arg0 : BitVec 32 := BitVec.ofNat 32 (i 0).val
  let v1 : BitVec 1 := Scalar.cmpi .slt arg0 v0
  let v12 : BitVec 32 := Scalar.extui v1
  let c0_i32_3 : BitVec 32 := 0#32
  let v13 : BitVec 1 := Scalar.cmpi .ne v12 c0_i32_3
  v13

def k0_mult2 (k0_t1 : Fin k0_t1_loop.trips) : BitVec 32 :=
  let c0_i32_35 : BitVec 32 := 0#32
  let c1_i32_36 : BitVec 32 := 1#32
  let arg15 : BitVec 32 := Scf.iv c0_i32_35 c1_i32_36 k0_t1
  let c8_i32_38 : BitVec 32 := 8#32
  let v71 : BitVec 32 := Scalar.muli arg15 c8_i32_38
  v71
def k0_off3 (k0_t1 : Fin k0_t1_loop.trips) : Fin 3 → Nat :=
  let c0_i32_39 : BitVec 32 := 0#32
  let c0_i32_35 : BitVec 32 := 0#32
  let c1_i32_36 : BitVec 32 := 1#32
  let arg15 : BitVec 32 := Scf.iv c0_i32_35 c1_i32_36 k0_t1
  let c8_i32_38 : BitVec 32 := 8#32
  let v71 : BitVec 32 := Scalar.muli arg15 c8_i32_38
  let v72 : BitVec 32 := v71
  let c0_i32_41 : BitVec 32 := 0#32
  ![0, v72.toNat, 0]
def k0_off4 (v68 : BitVec 32) : Fin 2 → Nat :=
  let c8_i32 : BitVec 32 := 8#32
  let v69 : BitVec 32 := Scalar.muli v68 c8_i32
  let v70 : BitVec 32 := v69
  let c0_i32_42 : BitVec 32 := 0#32
  ![v70.toNat, 0]

def k0_chk1 (i : grid0.Coords) (v0 : BitVec 32) (v68 : BitVec 32) : Prop :=
  (∀ (k0_h1 : k0_cond1 i v0 = 1#1), ∀ (k0_h2 : k0_cond2 i = 1#1), 8 ∣ (k0_mult1 v68).toNat) ∧
  (∀ (k0_h1 : k0_cond1 i v0 = 1#1), ∀ (k0_h2 : k0_cond2 i = 1#1), ∀ a, (k0_off4 v68) a + S8x128.size a ≤ S262144x128.size a)
theorem k0_mult1_dvd : ∀ (i : grid0.Coords) (v0 : BitVec 32) (v68 : BitVec 32) (k0_hw1 : k0_chk1 i v0 v68), ∀ (k0_h1 : k0_cond1 i v0 = 1#1), ∀ (k0_h2 : k0_cond2 i = 1#1), 8 ∣ (k0_mult1 v68).toNat := fun i v0 v68 k0_hw1 k0_h1 k0_h2 => k0_hw1.1 k0_h1 k0_h2
theorem k0_off4_inb : ∀ (i : grid0.Coords) (v0 : BitVec 32) (v68 : BitVec 32) (k0_hw1 : k0_chk1 i v0 v68), ∀ (k0_h1 : k0_cond1 i v0 = 1#1), ∀ (k0_h2 : k0_cond2 i = 1#1), ∀ a, (k0_off4 v68) a + S8x128.size a ≤ S262144x128.size a := fun i v0 v68 k0_hw1 k0_h1 k0_h2 => k0_hw1.2 k0_h1 k0_h2

def k0_cond3 (i : grid0.Coords) : BitVec 1 :=
  let arg1 : BitVec 32 := BitVec.ofNat 32 (i 1).val
  let c0_i32_8 : BitVec 32 := 0#32
  let v24 : BitVec 1 := Scalar.cmpi .eq arg1 c0_i32_8
  let v25 : BitVec 32 := Scalar.extui v24
  let c0_i32_9 : BitVec 32 := 0#32
  let v26 : BitVec 1 := Scalar.cmpi .ne v25 c0_i32_9
  v26

def k0_off5 (i : grid0.Coords) : Fin 1 → Nat :=
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  ![v11.toNat]
def k0_off6 (i : grid0.Coords) : Fin 3 → Nat :=
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_35 : BitVec 32 := 0#32
  let c0_i32_36 : BitVec 32 := 0#32
  ![v11.toNat, 0, 0]
def k0_off7 (i : grid0.Coords) : Fin 1 → Nat :=
  let arg1 : BitVec 32 := BitVec.ofNat 32 (i 1).val
  let c256_i32 : BitVec 32 := 256#32
  let v66 : BitVec 32 := Scalar.muli arg1 c256_i32
  let c0_i32_35 : BitVec 32 := 0#32
  let v67 : BitVec 32 := Scalar.addi v66 c0_i32_35
  let v69 : Index := Scalar.indexCast v67
  ![v69.toNat]
def k0_cond4 (i : grid0.Coords) (v28 : BitVec 32) : BitVec 1 :=
  let arg0 : BitVec 32 := BitVec.ofNat 32 (i 0).val
  let c1_i32_10 : BitVec 32 := 1#32
  let v27 : BitVec 32 := Scalar.addi arg0 c1_i32_10
  let v29 : BitVec 1 := Scalar.cmpi .slt v27 v28
  let arg1 : BitVec 32 := BitVec.ofNat 32 (i 1).val
  let c4_i32 : BitVec 32 := 4#32
  let v30 : BitVec 1 := Scalar.cmpi .slt arg1 c4_i32
  let v31 : BitVec 1 := Scalar.andi v29 v30
  let v32 : BitVec 32 := Scalar.extui v31
  let c0_i32_12 : BitVec 32 := 0#32
  let v33 : BitVec 1 := Scalar.cmpi .ne v32 c0_i32_12
  v33

def k0_mult3 (v70 : BitVec 32) : BitVec 32 :=
  let c8_i32 : BitVec 32 := 8#32
  let v71 : BitVec 32 := Scalar.muli v70 c8_i32
  v71

def k0_mult4 (i : grid0.Coords) : BitVec 32 :=
  let arg1 : BitVec 32 := BitVec.ofNat 32 (i 1).val
  let c256_i32 : BitVec 32 := 256#32
  let v66 : BitVec 32 := Scalar.muli arg1 c256_i32
  let c0_i32_35 : BitVec 32 := 0#32
  let v67 : BitVec 32 := Scalar.addi v66 c0_i32_35
  let c8_i32_37 : BitVec 32 := 8#32
  let v73 : BitVec 32 := Scalar.muli v67 c8_i32_37
  v73
def k0_off8 (i : grid0.Coords) : Fin 1 → Nat :=
  let c1_i32_36 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v68 : BitVec 32 := Scalar.subi c1_i32_36 v11
  ![v68.toNat]
def k0_off9 (i : grid0.Coords) : Fin 3 → Nat :=
  let c1_i32_36 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v68 : BitVec 32 := Scalar.subi c1_i32_36 v11
  let arg1 : BitVec 32 := BitVec.ofNat 32 (i 1).val
  let c256_i32 : BitVec 32 := 256#32
  let v66 : BitVec 32 := Scalar.muli arg1 c256_i32
  let c0_i32_35 : BitVec 32 := 0#32
  let v67 : BitVec 32 := Scalar.addi v66 c0_i32_35
  let c8_i32_37 : BitVec 32 := 8#32
  let v73 : BitVec 32 := Scalar.muli v67 c8_i32_37
  let v74 : BitVec 32 := v73
  let c0_i32_38 : BitVec 32 := 0#32
  ![v68.toNat, v74.toNat, 0]
def k0_off10 (v70 : BitVec 32) : Fin 2 → Nat :=
  let c8_i32 : BitVec 32 := 8#32
  let v71 : BitVec 32 := Scalar.muli v70 c8_i32
  let v72 : BitVec 32 := v71
  let c0_i32_39 : BitVec 32 := 0#32
  ![v72.toNat, 0]

def k0_chk3 (i : grid0.Coords) (v0 : BitVec 32) (v28 : BitVec 32) (v70 : BitVec 32) : Prop :=
  (∀ (k0_h1 : k0_cond1 i v0 = 1#1), ∀ (k0_h4 : k0_cond4 i v28 = 1#1), 8 ∣ (k0_mult3 v70).toNat) ∧
  (∀ (k0_h1 : k0_cond1 i v0 = 1#1), ∀ (k0_h4 : k0_cond4 i v28 = 1#1), ∀ a, (k0_off10 v70) a + S8x128.size a ≤ S262144x128.size a)
theorem k0_mult3_dvd : ∀ (i : grid0.Coords) (v0 : BitVec 32) (v28 : BitVec 32) (v70 : BitVec 32) (k0_hw3 : k0_chk3 i v0 v28 v70), ∀ (k0_h1 : k0_cond1 i v0 = 1#1), ∀ (k0_h4 : k0_cond4 i v28 = 1#1), 8 ∣ (k0_mult3 v70).toNat := fun i v0 v28 v70 k0_hw3 k0_h1 k0_h4 => k0_hw3.1 k0_h1 k0_h4
theorem k0_off10_inb : ∀ (i : grid0.Coords) (v0 : BitVec 32) (v28 : BitVec 32) (v70 : BitVec 32) (k0_hw3 : k0_chk3 i v0 v28 v70), ∀ (k0_h1 : k0_cond1 i v0 = 1#1), ∀ (k0_h4 : k0_cond4 i v28 = 1#1), ∀ a, (k0_off10 v70) a + S8x128.size a ≤ S262144x128.size a := fun i v0 v28 v70 k0_hw3 k0_h1 k0_h4 => k0_hw3.2 k0_h1 k0_h4

def k0_off11 (i : grid0.Coords) : Fin 1 → Nat :=
  let arg1 : BitVec 32 := BitVec.ofNat 32 (i 1).val
  let c256_i32_40 : BitVec 32 := 256#32
  let v80 : BitVec 32 := Scalar.muli arg1 c256_i32_40
  let c1_i32_41 : BitVec 32 := 1#32
  let v81 : BitVec 32 := Scalar.addi v80 c1_i32_41
  let v83 : Index := Scalar.indexCast v81
  ![v83.toNat]
def k0_mult5 (v84 : BitVec 32) : BitVec 32 :=
  let c8_i32_43 : BitVec 32 := 8#32
  let v85 : BitVec 32 := Scalar.muli v84 c8_i32_43
  v85

def k0_mult6 (i : grid0.Coords) : BitVec 32 :=
  let arg1 : BitVec 32 := BitVec.ofNat 32 (i 1).val
  let c256_i32_40 : BitVec 32 := 256#32
  let v80 : BitVec 32 := Scalar.muli arg1 c256_i32_40
  let c1_i32_41 : BitVec 32 := 1#32
  let v81 : BitVec 32 := Scalar.addi v80 c1_i32_41
  let c8_i32_44 : BitVec 32 := 8#32
  let v87 : BitVec 32 := Scalar.muli v81 c8_i32_44
  v87
def k0_off12 (i : grid0.Coords) : Fin 1 → Nat :=
  let c1_i32_42 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v82 : BitVec 32 := Scalar.subi c1_i32_42 v11
  ![v82.toNat]
def k0_off13 (i : grid0.Coords) : Fin 3 → Nat :=
  let c1_i32_42 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v82 : BitVec 32 := Scalar.subi c1_i32_42 v11
  let arg1 : BitVec 32 := BitVec.ofNat 32 (i 1).val
  let c256_i32_40 : BitVec 32 := 256#32
  let v80 : BitVec 32 := Scalar.muli arg1 c256_i32_40
  let c1_i32_41 : BitVec 32 := 1#32
  let v81 : BitVec 32 := Scalar.addi v80 c1_i32_41
  let c8_i32_44 : BitVec 32 := 8#32
  let v87 : BitVec 32 := Scalar.muli v81 c8_i32_44
  let v88 : BitVec 32 := v87
  let c0_i32_45 : BitVec 32 := 0#32
  ![v82.toNat, v88.toNat, 0]
def k0_off14 (v84 : BitVec 32) : Fin 2 → Nat :=
  let c8_i32_43 : BitVec 32 := 8#32
  let v85 : BitVec 32 := Scalar.muli v84 c8_i32_43
  let v86 : BitVec 32 := v85
  let c0_i32_46 : BitVec 32 := 0#32
  ![v86.toNat, 0]

def k0_chk4 (i : grid0.Coords) (v0 : BitVec 32) (v28 : BitVec 32) (v84 : BitVec 32) : Prop :=
  (∀ (k0_h1 : k0_cond1 i v0 = 1#1), ∀ (k0_h4 : k0_cond4 i v28 = 1#1), 8 ∣ (k0_mult5 v84).toNat) ∧
  (∀ (k0_h1 : k0_cond1 i v0 = 1#1), ∀ (k0_h4 : k0_cond4 i v28 = 1#1), ∀ a, (k0_off14 v84) a + S8x128.size a ≤ S262144x128.size a)
theorem k0_mult5_dvd : ∀ (i : grid0.Coords) (v0 : BitVec 32) (v28 : BitVec 32) (v84 : BitVec 32) (k0_hw4 : k0_chk4 i v0 v28 v84), ∀ (k0_h1 : k0_cond1 i v0 = 1#1), ∀ (k0_h4 : k0_cond4 i v28 = 1#1), 8 ∣ (k0_mult5 v84).toNat := fun i v0 v28 v84 k0_hw4 k0_h1 k0_h4 => k0_hw4.1 k0_h1 k0_h4
theorem k0_off14_inb : ∀ (i : grid0.Coords) (v0 : BitVec 32) (v28 : BitVec 32) (v84 : BitVec 32) (k0_hw4 : k0_chk4 i v0 v28 v84), ∀ (k0_h1 : k0_cond1 i v0 = 1#1), ∀ (k0_h4 : k0_cond4 i v28 = 1#1), ∀ a, (k0_off14 v84) a + S8x128.size a ≤ S262144x128.size a := fun i v0 v28 v84 k0_hw4 k0_h1 k0_h4 => k0_hw4.2 k0_h1 k0_h4

def k0_off15 (i : grid0.Coords) : Fin 1 → Nat :=
  let arg1 : BitVec 32 := BitVec.ofNat 32 (i 1).val
  let c256_i32_47 : BitVec 32 := 256#32
  let v94 : BitVec 32 := Scalar.muli arg1 c256_i32_47
  let c2_i32_48 : BitVec 32 := 2#32
  let v95 : BitVec 32 := Scalar.addi v94 c2_i32_48
  let v97 : Index := Scalar.indexCast v95
  ![v97.toNat]
def k0_mult7 (v98 : BitVec 32) : BitVec 32 :=
  let c8_i32_50 : BitVec 32 := 8#32
  let v99 : BitVec 32 := Scalar.muli v98 c8_i32_50
  v99

def k0_mult8 (i : grid0.Coords) : BitVec 32 :=
  let arg1 : BitVec 32 := BitVec.ofNat 32 (i 1).val
  let c256_i32_47 : BitVec 32 := 256#32
  let v94 : BitVec 32 := Scalar.muli arg1 c256_i32_47
  let c2_i32_48 : BitVec 32 := 2#32
  let v95 : BitVec 32 := Scalar.addi v94 c2_i32_48
  let c8_i32_51 : BitVec 32 := 8#32
  let v101 : BitVec 32 := Scalar.muli v95 c8_i32_51
  v101
def k0_off16 (i : grid0.Coords) : Fin 1 → Nat :=
  let c1_i32_49 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v96 : BitVec 32 := Scalar.subi c1_i32_49 v11
  ![v96.toNat]
def k0_off17 (i : grid0.Coords) : Fin 3 → Nat :=
  let c1_i32_49 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v96 : BitVec 32 := Scalar.subi c1_i32_49 v11
  let arg1 : BitVec 32 := BitVec.ofNat 32 (i 1).val
  let c256_i32_47 : BitVec 32 := 256#32
  let v94 : BitVec 32 := Scalar.muli arg1 c256_i32_47
  let c2_i32_48 : BitVec 32 := 2#32
  let v95 : BitVec 32 := Scalar.addi v94 c2_i32_48
  let c8_i32_51 : BitVec 32 := 8#32
  let v101 : BitVec 32 := Scalar.muli v95 c8_i32_51
  let v102 : BitVec 32 := v101
  let c0_i32_52 : BitVec 32 := 0#32
  ![v96.toNat, v102.toNat, 0]
def k0_off18 (v98 : BitVec 32) : Fin 2 → Nat :=
  let c8_i32_50 : BitVec 32 := 8#32
  let v99 : BitVec 32 := Scalar.muli v98 c8_i32_50
  let v100 : BitVec 32 := v99
  let c0_i32_53 : BitVec 32 := 0#32
  ![v100.toNat, 0]

def k0_chk5 (i : grid0.Coords) (v0 : BitVec 32) (v28 : BitVec 32) (v98 : BitVec 32) : Prop :=
  (∀ (k0_h1 : k0_cond1 i v0 = 1#1), ∀ (k0_h4 : k0_cond4 i v28 = 1#1), 8 ∣ (k0_mult7 v98).toNat) ∧
  (∀ (k0_h1 : k0_cond1 i v0 = 1#1), ∀ (k0_h4 : k0_cond4 i v28 = 1#1), ∀ a, (k0_off18 v98) a + S8x128.size a ≤ S262144x128.size a)
theorem k0_mult7_dvd : ∀ (i : grid0.Coords) (v0 : BitVec 32) (v28 : BitVec 32) (v98 : BitVec 32) (k0_hw5 : k0_chk5 i v0 v28 v98), ∀ (k0_h1 : k0_cond1 i v0 = 1#1), ∀ (k0_h4 : k0_cond4 i v28 = 1#1), 8 ∣ (k0_mult7 v98).toNat := fun i v0 v28 v98 k0_hw5 k0_h1 k0_h4 => k0_hw5.1 k0_h1 k0_h4
theorem k0_off18_inb : ∀ (i : grid0.Coords) (v0 : BitVec 32) (v28 : BitVec 32) (v98 : BitVec 32) (k0_hw5 : k0_chk5 i v0 v28 v98), ∀ (k0_h1 : k0_cond1 i v0 = 1#1), ∀ (k0_h4 : k0_cond4 i v28 = 1#1), ∀ a, (k0_off18 v98) a + S8x128.size a ≤ S262144x128.size a := fun i v0 v28 v98 k0_hw5 k0_h1 k0_h4 => k0_hw5.2 k0_h1 k0_h4

def k0_off19 (i : grid0.Coords) : Fin 1 → Nat :=
  let arg1 : BitVec 32 := BitVec.ofNat 32 (i 1).val
  let c256_i32_54 : BitVec 32 := 256#32
  let v108 : BitVec 32 := Scalar.muli arg1 c256_i32_54
  let c3_i32 : BitVec 32 := 3#32
  let v109 : BitVec 32 := Scalar.addi v108 c3_i32
  let v111 : Index := Scalar.indexCast v109
  ![v111.toNat]
def k0_mult9 (v112 : BitVec 32) : BitVec 32 :=
  let c8_i32_56 : BitVec 32 := 8#32
  let v113 : BitVec 32 := Scalar.muli v112 c8_i32_56
  v113

def k0_mult10 (i : grid0.Coords) : BitVec 32 :=
  let arg1 : BitVec 32 := BitVec.ofNat 32 (i 1).val
  let c256_i32_54 : BitVec 32 := 256#32
  let v108 : BitVec 32 := Scalar.muli arg1 c256_i32_54
  let c3_i32 : BitVec 32 := 3#32
  let v109 : BitVec 32 := Scalar.addi v108 c3_i32
  let c8_i32_57 : BitVec 32 := 8#32
  let v115 : BitVec 32 := Scalar.muli v109 c8_i32_57
  v115
def k0_off20 (i : grid0.Coords) : Fin 1 → Nat :=
  let c1_i32_55 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v110 : BitVec 32 := Scalar.subi c1_i32_55 v11
  ![v110.toNat]
def k0_off21 (i : grid0.Coords) : Fin 3 → Nat :=
  let c1_i32_55 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v110 : BitVec 32 := Scalar.subi c1_i32_55 v11
  let arg1 : BitVec 32 := BitVec.ofNat 32 (i 1).val
  let c256_i32_54 : BitVec 32 := 256#32
  let v108 : BitVec 32 := Scalar.muli arg1 c256_i32_54
  let c3_i32 : BitVec 32 := 3#32
  let v109 : BitVec 32 := Scalar.addi v108 c3_i32
  let c8_i32_57 : BitVec 32 := 8#32
  let v115 : BitVec 32 := Scalar.muli v109 c8_i32_57
  let v116 : BitVec 32 := v115
  let c0_i32_58 : BitVec 32 := 0#32
  ![v110.toNat, v116.toNat, 0]
def k0_off22 (v112 : BitVec 32) : Fin 2 → Nat :=
  let c8_i32_56 : BitVec 32 := 8#32
  let v113 : BitVec 32 := Scalar.muli v112 c8_i32_56
  let v114 : BitVec 32 := v113
  let c0_i32_59 : BitVec 32 := 0#32
  ![v114.toNat, 0]

def k0_chk6 (i : grid0.Coords) (v0 : BitVec 32) (v28 : BitVec 32) (v112 : BitVec 32) : Prop :=
  (∀ (k0_h1 : k0_cond1 i v0 = 1#1), ∀ (k0_h4 : k0_cond4 i v28 = 1#1), 8 ∣ (k0_mult9 v112).toNat) ∧
  (∀ (k0_h1 : k0_cond1 i v0 = 1#1), ∀ (k0_h4 : k0_cond4 i v28 = 1#1), ∀ a, (k0_off22 v112) a + S8x128.size a ≤ S262144x128.size a)
theorem k0_mult9_dvd : ∀ (i : grid0.Coords) (v0 : BitVec 32) (v28 : BitVec 32) (v112 : BitVec 32) (k0_hw6 : k0_chk6 i v0 v28 v112), ∀ (k0_h1 : k0_cond1 i v0 = 1#1), ∀ (k0_h4 : k0_cond4 i v28 = 1#1), 8 ∣ (k0_mult9 v112).toNat := fun i v0 v28 v112 k0_hw6 k0_h1 k0_h4 => k0_hw6.1 k0_h1 k0_h4
theorem k0_off22_inb : ∀ (i : grid0.Coords) (v0 : BitVec 32) (v28 : BitVec 32) (v112 : BitVec 32) (k0_hw6 : k0_chk6 i v0 v28 v112), ∀ (k0_h1 : k0_cond1 i v0 = 1#1), ∀ (k0_h4 : k0_cond4 i v28 = 1#1), ∀ a, (k0_off22 v112) a + S8x128.size a ≤ S262144x128.size a := fun i v0 v28 v112 k0_hw6 k0_h1 k0_h4 => k0_hw6.2 k0_h1 k0_h4

def k0_off23 (i : grid0.Coords) : Fin 1 → Nat :=
  let arg1 : BitVec 32 := BitVec.ofNat 32 (i 1).val
  let c256_i32_60 : BitVec 32 := 256#32
  let v122 : BitVec 32 := Scalar.muli arg1 c256_i32_60
  let c4_i32_61 : BitVec 32 := 4#32
  let v123 : BitVec 32 := Scalar.addi v122 c4_i32_61
  let v125 : Index := Scalar.indexCast v123
  ![v125.toNat]
def k0_mult11 (v126 : BitVec 32) : BitVec 32 :=
  let c8_i32_63 : BitVec 32 := 8#32
  let v127 : BitVec 32 := Scalar.muli v126 c8_i32_63
  v127

def k0_mult12 (i : grid0.Coords) : BitVec 32 :=
  let arg1 : BitVec 32 := BitVec.ofNat 32 (i 1).val
  let c256_i32_60 : BitVec 32 := 256#32
  let v122 : BitVec 32 := Scalar.muli arg1 c256_i32_60
  let c4_i32_61 : BitVec 32 := 4#32
  let v123 : BitVec 32 := Scalar.addi v122 c4_i32_61
  let c8_i32_64 : BitVec 32 := 8#32
  let v129 : BitVec 32 := Scalar.muli v123 c8_i32_64
  v129
def k0_off24 (i : grid0.Coords) : Fin 1 → Nat :=
  let c1_i32_62 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v124 : BitVec 32 := Scalar.subi c1_i32_62 v11
  ![v124.toNat]
def k0_off25 (i : grid0.Coords) : Fin 3 → Nat :=
  let c1_i32_62 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v124 : BitVec 32 := Scalar.subi c1_i32_62 v11
  let arg1 : BitVec 32 := BitVec.ofNat 32 (i 1).val
  let c256_i32_60 : BitVec 32 := 256#32
  let v122 : BitVec 32 := Scalar.muli arg1 c256_i32_60
  let c4_i32_61 : BitVec 32 := 4#32
  let v123 : BitVec 32 := Scalar.addi v122 c4_i32_61
  let c8_i32_64 : BitVec 32 := 8#32
  let v129 : BitVec 32 := Scalar.muli v123 c8_i32_64
  let v130 : BitVec 32 := v129
  let c0_i32_65 : BitVec 32 := 0#32
  ![v124.toNat, v130.toNat, 0]
def k0_off26 (v126 : BitVec 32) : Fin 2 → Nat :=
  let c8_i32_63 : BitVec 32 := 8#32
  let v127 : BitVec 32 := Scalar.muli v126 c8_i32_63
  let v128 : BitVec 32 := v127
  let c0_i32_66 : BitVec 32 := 0#32
  ![v128.toNat, 0]

def k0_chk7 (i : grid0.Coords) (v0 : BitVec 32) (v28 : BitVec 32) (v126 : BitVec 32) : Prop :=
  (∀ (k0_h1 : k0_cond1 i v0 = 1#1), ∀ (k0_h4 : k0_cond4 i v28 = 1#1), 8 ∣ (k0_mult11 v126).toNat) ∧
  (∀ (k0_h1 : k0_cond1 i v0 = 1#1), ∀ (k0_h4 : k0_cond4 i v28 = 1#1), ∀ a, (k0_off26 v126) a + S8x128.size a ≤ S262144x128.size a)
theorem k0_mult11_dvd : ∀ (i : grid0.Coords) (v0 : BitVec 32) (v28 : BitVec 32) (v126 : BitVec 32) (k0_hw7 : k0_chk7 i v0 v28 v126), ∀ (k0_h1 : k0_cond1 i v0 = 1#1), ∀ (k0_h4 : k0_cond4 i v28 = 1#1), 8 ∣ (k0_mult11 v126).toNat := fun i v0 v28 v126 k0_hw7 k0_h1 k0_h4 => k0_hw7.1 k0_h1 k0_h4
theorem k0_off26_inb : ∀ (i : grid0.Coords) (v0 : BitVec 32) (v28 : BitVec 32) (v126 : BitVec 32) (k0_hw7 : k0_chk7 i v0 v28 v126), ∀ (k0_h1 : k0_cond1 i v0 = 1#1), ∀ (k0_h4 : k0_cond4 i v28 = 1#1), ∀ a, (k0_off26 v126) a + S8x128.size a ≤ S262144x128.size a := fun i v0 v28 v126 k0_hw7 k0_h1 k0_h4 => k0_hw7.2 k0_h1 k0_h4

def k0_off27 (i : grid0.Coords) : Fin 1 → Nat :=
  let arg1 : BitVec 32 := BitVec.ofNat 32 (i 1).val
  let c256_i32_67 : BitVec 32 := 256#32
  let v136 : BitVec 32 := Scalar.muli arg1 c256_i32_67
  let c5_i32 : BitVec 32 := 5#32
  let v137 : BitVec 32 := Scalar.addi v136 c5_i32
  let v139 : Index := Scalar.indexCast v137
  ![v139.toNat]
def k0_mult13 (v140 : BitVec 32) : BitVec 32 :=
  let c8_i32_69 : BitVec 32 := 8#32
  let v141 : BitVec 32 := Scalar.muli v140 c8_i32_69
  v141

def k0_mult14 (i : grid0.Coords) : BitVec 32 :=
  let arg1 : BitVec 32 := BitVec.ofNat 32 (i 1).val
  let c256_i32_67 : BitVec 32 := 256#32
  let v136 : BitVec 32 := Scalar.muli arg1 c256_i32_67
  let c5_i32 : BitVec 32 := 5#32
  let v137 : BitVec 32 := Scalar.addi v136 c5_i32
  let c8_i32_70 : BitVec 32 := 8#32
  let v143 : BitVec 32 := Scalar.muli v137 c8_i32_70
  v143
def k0_off28 (i : grid0.Coords) : Fin 1 → Nat :=
  let c1_i32_68 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v138 : BitVec 32 := Scalar.subi c1_i32_68 v11
  ![v138.toNat]
def k0_off29 (i : grid0.Coords) : Fin 3 → Nat :=
  let c1_i32_68 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v138 : BitVec 32 := Scalar.subi c1_i32_68 v11
  let arg1 : BitVec 32 := BitVec.ofNat 32 (i 1).val
  let c256_i32_67 : BitVec 32 := 256#32
  let v136 : BitVec 32 := Scalar.muli arg1 c256_i32_67
  let c5_i32 : BitVec 32 := 5#32
  let v137 : BitVec 32 := Scalar.addi v136 c5_i32
  let c8_i32_70 : BitVec 32 := 8#32
  let v143 : BitVec 32 := Scalar.muli v137 c8_i32_70
  let v144 : BitVec 32 := v143
  let c0_i32_71 : BitVec 32 := 0#32
  ![v138.toNat, v144.toNat, 0]
def k0_off30 (v140 : BitVec 32) : Fin 2 → Nat :=
  let c8_i32_69 : BitVec 32 := 8#32
  let v141 : BitVec 32 := Scalar.muli v140 c8_i32_69
  let v142 : BitVec 32 := v141
  let c0_i32_72 : BitVec 32 := 0#32
  ![v142.toNat, 0]

def k0_chk8 (i : grid0.Coords) (v0 : BitVec 32) (v28 : BitVec 32) (v140 : BitVec 32) : Prop :=
  (∀ (k0_h1 : k0_cond1 i v0 = 1#1), ∀ (k0_h4 : k0_cond4 i v28 = 1#1), 8 ∣ (k0_mult13 v140).toNat) ∧
  (∀ (k0_h1 : k0_cond1 i v0 = 1#1), ∀ (k0_h4 : k0_cond4 i v28 = 1#1), ∀ a, (k0_off30 v140) a + S8x128.size a ≤ S262144x128.size a)
theorem k0_mult13_dvd : ∀ (i : grid0.Coords) (v0 : BitVec 32) (v28 : BitVec 32) (v140 : BitVec 32) (k0_hw8 : k0_chk8 i v0 v28 v140), ∀ (k0_h1 : k0_cond1 i v0 = 1#1), ∀ (k0_h4 : k0_cond4 i v28 = 1#1), 8 ∣ (k0_mult13 v140).toNat := fun i v0 v28 v140 k0_hw8 k0_h1 k0_h4 => k0_hw8.1 k0_h1 k0_h4
theorem k0_off30_inb : ∀ (i : grid0.Coords) (v0 : BitVec 32) (v28 : BitVec 32) (v140 : BitVec 32) (k0_hw8 : k0_chk8 i v0 v28 v140), ∀ (k0_h1 : k0_cond1 i v0 = 1#1), ∀ (k0_h4 : k0_cond4 i v28 = 1#1), ∀ a, (k0_off30 v140) a + S8x128.size a ≤ S262144x128.size a := fun i v0 v28 v140 k0_hw8 k0_h1 k0_h4 => k0_hw8.2 k0_h1 k0_h4

def k0_off31 (i : grid0.Coords) : Fin 1 → Nat :=
  let arg1 : BitVec 32 := BitVec.ofNat 32 (i 1).val
  let c256_i32_73 : BitVec 32 := 256#32
  let v150 : BitVec 32 := Scalar.muli arg1 c256_i32_73
  let c6_i32_74 : BitVec 32 := 6#32
  let v151 : BitVec 32 := Scalar.addi v150 c6_i32_74
  let v153 : Index := Scalar.indexCast v151
  ![v153.toNat]
def k0_mult15 (v154 : BitVec 32) : BitVec 32 :=
  let c8_i32_76 : BitVec 32 := 8#32
  let v155 : BitVec 32 := Scalar.muli v154 c8_i32_76
  v155

def k0_mult16 (i : grid0.Coords) : BitVec 32 :=
  let arg1 : BitVec 32 := BitVec.ofNat 32 (i 1).val
  let c256_i32_73 : BitVec 32 := 256#32
  let v150 : BitVec 32 := Scalar.muli arg1 c256_i32_73
  let c6_i32_74 : BitVec 32 := 6#32
  let v151 : BitVec 32 := Scalar.addi v150 c6_i32_74
  let c8_i32_77 : BitVec 32 := 8#32
  let v157 : BitVec 32 := Scalar.muli v151 c8_i32_77
  v157
def k0_off32 (i : grid0.Coords) : Fin 1 → Nat :=
  let c1_i32_75 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v152 : BitVec 32 := Scalar.subi c1_i32_75 v11
  ![v152.toNat]
def k0_off33 (i : grid0.Coords) : Fin 3 → Nat :=
  let c1_i32_75 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v152 : BitVec 32 := Scalar.subi c1_i32_75 v11
  let arg1 : BitVec 32 := BitVec.ofNat 32 (i 1).val
  let c256_i32_73 : BitVec 32 := 256#32
  let v150 : BitVec 32 := Scalar.muli arg1 c256_i32_73
  let c6_i32_74 : BitVec 32 := 6#32
  let v151 : BitVec 32 := Scalar.addi v150 c6_i32_74
  let c8_i32_77 : BitVec 32 := 8#32
  let v157 : BitVec 32 := Scalar.muli v151 c8_i32_77
  let v158 : BitVec 32 := v157
  let c0_i32_78 : BitVec 32 := 0#32
  ![v152.toNat, v158.toNat, 0]
def k0_off34 (v154 : BitVec 32) : Fin 2 → Nat :=
  let c8_i32_76 : BitVec 32 := 8#32
  let v155 : BitVec 32 := Scalar.muli v154 c8_i32_76
  let v156 : BitVec 32 := v155
  let c0_i32_79 : BitVec 32 := 0#32
  ![v156.toNat, 0]

def k0_chk9 (i : grid0.Coords) (v0 : BitVec 32) (v28 : BitVec 32) (v154 : BitVec 32) : Prop :=
  (∀ (k0_h1 : k0_cond1 i v0 = 1#1), ∀ (k0_h4 : k0_cond4 i v28 = 1#1), 8 ∣ (k0_mult15 v154).toNat) ∧
  (∀ (k0_h1 : k0_cond1 i v0 = 1#1), ∀ (k0_h4 : k0_cond4 i v28 = 1#1), ∀ a, (k0_off34 v154) a + S8x128.size a ≤ S262144x128.size a)
theorem k0_mult15_dvd : ∀ (i : grid0.Coords) (v0 : BitVec 32) (v28 : BitVec 32) (v154 : BitVec 32) (k0_hw9 : k0_chk9 i v0 v28 v154), ∀ (k0_h1 : k0_cond1 i v0 = 1#1), ∀ (k0_h4 : k0_cond4 i v28 = 1#1), 8 ∣ (k0_mult15 v154).toNat := fun i v0 v28 v154 k0_hw9 k0_h1 k0_h4 => k0_hw9.1 k0_h1 k0_h4
theorem k0_off34_inb : ∀ (i : grid0.Coords) (v0 : BitVec 32) (v28 : BitVec 32) (v154 : BitVec 32) (k0_hw9 : k0_chk9 i v0 v28 v154), ∀ (k0_h1 : k0_cond1 i v0 = 1#1), ∀ (k0_h4 : k0_cond4 i v28 = 1#1), ∀ a, (k0_off34 v154) a + S8x128.size a ≤ S262144x128.size a := fun i v0 v28 v154 k0_hw9 k0_h1 k0_h4 => k0_hw9.2 k0_h1 k0_h4

def k0_off35 (i : grid0.Coords) : Fin 1 → Nat :=
  let arg1 : BitVec 32 := BitVec.ofNat 32 (i 1).val
  let c256_i32_80 : BitVec 32 := 256#32
  let v164 : BitVec 32 := Scalar.muli arg1 c256_i32_80
  let c7_i32 : BitVec 32 := 7#32
  let v165 : BitVec 32 := Scalar.addi v164 c7_i32
  let v167 : Index := Scalar.indexCast v165
  ![v167.toNat]
def k0_mult17 (v168 : BitVec 32) : BitVec 32 :=
  let c8_i32_82 : BitVec 32 := 8#32
  let v169 : BitVec 32 := Scalar.muli v168 c8_i32_82
  v169

def k0_mult18 (i : grid0.Coords) : BitVec 32 :=
  let arg1 : BitVec 32 := BitVec.ofNat 32 (i 1).val
  let c256_i32_80 : BitVec 32 := 256#32
  let v164 : BitVec 32 := Scalar.muli arg1 c256_i32_80
  let c7_i32 : BitVec 32 := 7#32
  let v165 : BitVec 32 := Scalar.addi v164 c7_i32
  let c8_i32_83 : BitVec 32 := 8#32
  let v171 : BitVec 32 := Scalar.muli v165 c8_i32_83
  v171
def k0_off36 (i : grid0.Coords) : Fin 1 → Nat :=
  let c1_i32_81 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v166 : BitVec 32 := Scalar.subi c1_i32_81 v11
  ![v166.toNat]
def k0_off37 (i : grid0.Coords) : Fin 3 → Nat :=
  let c1_i32_81 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v166 : BitVec 32 := Scalar.subi c1_i32_81 v11
  let arg1 : BitVec 32 := BitVec.ofNat 32 (i 1).val
  let c256_i32_80 : BitVec 32 := 256#32
  let v164 : BitVec 32 := Scalar.muli arg1 c256_i32_80
  let c7_i32 : BitVec 32 := 7#32
  let v165 : BitVec 32 := Scalar.addi v164 c7_i32
  let c8_i32_83 : BitVec 32 := 8#32
  let v171 : BitVec 32 := Scalar.muli v165 c8_i32_83
  let v172 : BitVec 32 := v171
  let c0_i32_84 : BitVec 32 := 0#32
  ![v166.toNat, v172.toNat, 0]
def k0_off38 (v168 : BitVec 32) : Fin 2 → Nat :=
  let c8_i32_82 : BitVec 32 := 8#32
  let v169 : BitVec 32 := Scalar.muli v168 c8_i32_82
  let v170 : BitVec 32 := v169
  let c0_i32_85 : BitVec 32 := 0#32
  ![v170.toNat, 0]

def k0_chk10 (i : grid0.Coords) (v0 : BitVec 32) (v28 : BitVec 32) (v168 : BitVec 32) : Prop :=
  (∀ (k0_h1 : k0_cond1 i v0 = 1#1), ∀ (k0_h4 : k0_cond4 i v28 = 1#1), 8 ∣ (k0_mult17 v168).toNat) ∧
  (∀ (k0_h1 : k0_cond1 i v0 = 1#1), ∀ (k0_h4 : k0_cond4 i v28 = 1#1), ∀ a, (k0_off38 v168) a + S8x128.size a ≤ S262144x128.size a)
theorem k0_mult17_dvd : ∀ (i : grid0.Coords) (v0 : BitVec 32) (v28 : BitVec 32) (v168 : BitVec 32) (k0_hw10 : k0_chk10 i v0 v28 v168), ∀ (k0_h1 : k0_cond1 i v0 = 1#1), ∀ (k0_h4 : k0_cond4 i v28 = 1#1), 8 ∣ (k0_mult17 v168).toNat := fun i v0 v28 v168 k0_hw10 k0_h1 k0_h4 => k0_hw10.1 k0_h1 k0_h4
theorem k0_off38_inb : ∀ (i : grid0.Coords) (v0 : BitVec 32) (v28 : BitVec 32) (v168 : BitVec 32) (k0_hw10 : k0_chk10 i v0 v28 v168), ∀ (k0_h1 : k0_cond1 i v0 = 1#1), ∀ (k0_h4 : k0_cond4 i v28 = 1#1), ∀ a, (k0_off38 v168) a + S8x128.size a ≤ S262144x128.size a := fun i v0 v28 v168 k0_hw10 k0_h1 k0_h4 => k0_hw10.2 k0_h1 k0_h4

def k0_off39 (i : grid0.Coords) : Fin 1 → Nat :=
  let arg1 : BitVec 32 := BitVec.ofNat 32 (i 1).val
  let c256_i32_86 : BitVec 32 := 256#32
  let v178 : BitVec 32 := Scalar.muli arg1 c256_i32_86
  let c8_i32_87 : BitVec 32 := 8#32
  let v179 : BitVec 32 := Scalar.addi v178 c8_i32_87
  let v181 : Index := Scalar.indexCast v179
  ![v181.toNat]
def k0_mult19 (v182 : BitVec 32) : BitVec 32 :=
  let c8_i32_89 : BitVec 32 := 8#32
  let v183 : BitVec 32 := Scalar.muli v182 c8_i32_89
  v183

def k0_mult20 (i : grid0.Coords) : BitVec 32 :=
  let arg1 : BitVec 32 := BitVec.ofNat 32 (i 1).val
  let c256_i32_86 : BitVec 32 := 256#32
  let v178 : BitVec 32 := Scalar.muli arg1 c256_i32_86
  let c8_i32_87 : BitVec 32 := 8#32
  let v179 : BitVec 32 := Scalar.addi v178 c8_i32_87
  let c8_i32_90 : BitVec 32 := 8#32
  let v185 : BitVec 32 := Scalar.muli v179 c8_i32_90
  v185
def k0_off40 (i : grid0.Coords) : Fin 1 → Nat :=
  let c1_i32_88 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v180 : BitVec 32 := Scalar.subi c1_i32_88 v11
  ![v180.toNat]
def k0_off41 (i : grid0.Coords) : Fin 3 → Nat :=
  let c1_i32_88 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v180 : BitVec 32 := Scalar.subi c1_i32_88 v11
  let arg1 : BitVec 32 := BitVec.ofNat 32 (i 1).val
  let c256_i32_86 : BitVec 32 := 256#32
  let v178 : BitVec 32 := Scalar.muli arg1 c256_i32_86
  let c8_i32_87 : BitVec 32 := 8#32
  let v179 : BitVec 32 := Scalar.addi v178 c8_i32_87
  let c8_i32_90 : BitVec 32 := 8#32
  let v185 : BitVec 32 := Scalar.muli v179 c8_i32_90
  let v186 : BitVec 32 := v185
  let c0_i32_91 : BitVec 32 := 0#32
  ![v180.toNat, v186.toNat, 0]
def k0_off42 (v182 : BitVec 32) : Fin 2 → Nat :=
  let c8_i32_89 : BitVec 32 := 8#32
  let v183 : BitVec 32 := Scalar.muli v182 c8_i32_89
  let v184 : BitVec 32 := v183
  let c0_i32_92 : BitVec 32 := 0#32
  ![v184.toNat, 0]

def k0_chk11 (i : grid0.Coords) (v0 : BitVec 32) (v28 : BitVec 32) (v182 : BitVec 32) : Prop :=
  (∀ (k0_h1 : k0_cond1 i v0 = 1#1), ∀ (k0_h4 : k0_cond4 i v28 = 1#1), 8 ∣ (k0_mult19 v182).toNat) ∧
  (∀ (k0_h1 : k0_cond1 i v0 = 1#1), ∀ (k0_h4 : k0_cond4 i v28 = 1#1), ∀ a, (k0_off42 v182) a + S8x128.size a ≤ S262144x128.size a)
theorem k0_mult19_dvd : ∀ (i : grid0.Coords) (v0 : BitVec 32) (v28 : BitVec 32) (v182 : BitVec 32) (k0_hw11 : k0_chk11 i v0 v28 v182), ∀ (k0_h1 : k0_cond1 i v0 = 1#1), ∀ (k0_h4 : k0_cond4 i v28 = 1#1), 8 ∣ (k0_mult19 v182).toNat := fun i v0 v28 v182 k0_hw11 k0_h1 k0_h4 => k0_hw11.1 k0_h1 k0_h4
theorem k0_off42_inb : ∀ (i : grid0.Coords) (v0 : BitVec 32) (v28 : BitVec 32) (v182 : BitVec 32) (k0_hw11 : k0_chk11 i v0 v28 v182), ∀ (k0_h1 : k0_cond1 i v0 = 1#1), ∀ (k0_h4 : k0_cond4 i v28 = 1#1), ∀ a, (k0_off42 v182) a + S8x128.size a ≤ S262144x128.size a := fun i v0 v28 v182 k0_hw11 k0_h1 k0_h4 => k0_hw11.2 k0_h1 k0_h4

def k0_off43 (i : grid0.Coords) : Fin 1 → Nat :=
  let arg1 : BitVec 32 := BitVec.ofNat 32 (i 1).val
  let c256_i32_93 : BitVec 32 := 256#32
  let v192 : BitVec 32 := Scalar.muli arg1 c256_i32_93
  let c9_i32 : BitVec 32 := 9#32
  let v193 : BitVec 32 := Scalar.addi v192 c9_i32
  let v195 : Index := Scalar.indexCast v193
  ![v195.toNat]
def k0_mult21 (v196 : BitVec 32) : BitVec 32 :=
  let c8_i32_95 : BitVec 32 := 8#32
  let v197 : BitVec 32 := Scalar.muli v196 c8_i32_95
  v197

def k0_mult22 (i : grid0.Coords) : BitVec 32 :=
  let arg1 : BitVec 32 := BitVec.ofNat 32 (i 1).val
  let c256_i32_93 : BitVec 32 := 256#32
  let v192 : BitVec 32 := Scalar.muli arg1 c256_i32_93
  let c9_i32 : BitVec 32 := 9#32
  let v193 : BitVec 32 := Scalar.addi v192 c9_i32
  let c8_i32_96 : BitVec 32 := 8#32
  let v199 : BitVec 32 := Scalar.muli v193 c8_i32_96
  v199
def k0_off44 (i : grid0.Coords) : Fin 1 → Nat :=
  let c1_i32_94 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v194 : BitVec 32 := Scalar.subi c1_i32_94 v11
  ![v194.toNat]
def k0_off45 (i : grid0.Coords) : Fin 3 → Nat :=
  let c1_i32_94 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v194 : BitVec 32 := Scalar.subi c1_i32_94 v11
  let arg1 : BitVec 32 := BitVec.ofNat 32 (i 1).val
  let c256_i32_93 : BitVec 32 := 256#32
  let v192 : BitVec 32 := Scalar.muli arg1 c256_i32_93
  let c9_i32 : BitVec 32 := 9#32
  let v193 : BitVec 32 := Scalar.addi v192 c9_i32
  let c8_i32_96 : BitVec 32 := 8#32
  let v199 : BitVec 32 := Scalar.muli v193 c8_i32_96
  let v200 : BitVec 32 := v199
  let c0_i32_97 : BitVec 32 := 0#32
  ![v194.toNat, v200.toNat, 0]
def k0_off46 (v196 : BitVec 32) : Fin 2 → Nat :=
  let c8_i32_95 : BitVec 32 := 8#32
  let v197 : BitVec 32 := Scalar.muli v196 c8_i32_95
  let v198 : BitVec 32 := v197
  let c0_i32_98 : BitVec 32 := 0#32
  ![v198.toNat, 0]

def k0_chk12 (i : grid0.Coords) (v0 : BitVec 32) (v28 : BitVec 32) (v196 : BitVec 32) : Prop :=
  (∀ (k0_h1 : k0_cond1 i v0 = 1#1), ∀ (k0_h4 : k0_cond4 i v28 = 1#1), 8 ∣ (k0_mult21 v196).toNat) ∧
  (∀ (k0_h1 : k0_cond1 i v0 = 1#1), ∀ (k0_h4 : k0_cond4 i v28 = 1#1), ∀ a, (k0_off46 v196) a + S8x128.size a ≤ S262144x128.size a)
theorem k0_mult21_dvd : ∀ (i : grid0.Coords) (v0 : BitVec 32) (v28 : BitVec 32) (v196 : BitVec 32) (k0_hw12 : k0_chk12 i v0 v28 v196), ∀ (k0_h1 : k0_cond1 i v0 = 1#1), ∀ (k0_h4 : k0_cond4 i v28 = 1#1), 8 ∣ (k0_mult21 v196).toNat := fun i v0 v28 v196 k0_hw12 k0_h1 k0_h4 => k0_hw12.1 k0_h1 k0_h4
theorem k0_off46_inb : ∀ (i : grid0.Coords) (v0 : BitVec 32) (v28 : BitVec 32) (v196 : BitVec 32) (k0_hw12 : k0_chk12 i v0 v28 v196), ∀ (k0_h1 : k0_cond1 i v0 = 1#1), ∀ (k0_h4 : k0_cond4 i v28 = 1#1), ∀ a, (k0_off46 v196) a + S8x128.size a ≤ S262144x128.size a := fun i v0 v28 v196 k0_hw12 k0_h1 k0_h4 => k0_hw12.2 k0_h1 k0_h4

def k0_off47 (i : grid0.Coords) : Fin 1 → Nat :=
  let arg1 : BitVec 32 := BitVec.ofNat 32 (i 1).val
  let c256_i32_99 : BitVec 32 := 256#32
  let v206 : BitVec 32 := Scalar.muli arg1 c256_i32_99
  let c10_i32 : BitVec 32 := 10#32
  let v207 : BitVec 32 := Scalar.addi v206 c10_i32
  let v209 : Index := Scalar.indexCast v207
  ![v209.toNat]
def k0_mult23 (v210 : BitVec 32) : BitVec 32 :=
  let c8_i32_101 : BitVec 32 := 8#32
  let v211 : BitVec 32 := Scalar.muli v210 c8_i32_101
  v211

def k0_mult24 (i : grid0.Coords) : BitVec 32 :=
  let arg1 : BitVec 32 := BitVec.ofNat 32 (i 1).val
  let c256_i32_99 : BitVec 32 := 256#32
  let v206 : BitVec 32 := Scalar.muli arg1 c256_i32_99
  let c10_i32 : BitVec 32 := 10#32
  let v207 : BitVec 32 := Scalar.addi v206 c10_i32
  let c8_i32_102 : BitVec 32 := 8#32
  let v213 : BitVec 32 := Scalar.muli v207 c8_i32_102
  v213
def k0_off48 (i : grid0.Coords) : Fin 1 → Nat :=
  let c1_i32_100 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v208 : BitVec 32 := Scalar.subi c1_i32_100 v11
  ![v208.toNat]
def k0_off49 (i : grid0.Coords) : Fin 3 → Nat :=
  let c1_i32_100 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v208 : BitVec 32 := Scalar.subi c1_i32_100 v11
  let arg1 : BitVec 32 := BitVec.ofNat 32 (i 1).val
  let c256_i32_99 : BitVec 32 := 256#32
  let v206 : BitVec 32 := Scalar.muli arg1 c256_i32_99
  let c10_i32 : BitVec 32 := 10#32
  let v207 : BitVec 32 := Scalar.addi v206 c10_i32
  let c8_i32_102 : BitVec 32 := 8#32
  let v213 : BitVec 32 := Scalar.muli v207 c8_i32_102
  let v214 : BitVec 32 := v213
  let c0_i32_103 : BitVec 32 := 0#32
  ![v208.toNat, v214.toNat, 0]
def k0_off50 (v210 : BitVec 32) : Fin 2 → Nat :=
  let c8_i32_101 : BitVec 32 := 8#32
  let v211 : BitVec 32 := Scalar.muli v210 c8_i32_101
  let v212 : BitVec 32 := v211
  let c0_i32_104 : BitVec 32 := 0#32
  ![v212.toNat, 0]

def k0_chk13 (i : grid0.Coords) (v0 : BitVec 32) (v28 : BitVec 32) (v210 : BitVec 32) : Prop :=
  (∀ (k0_h1 : k0_cond1 i v0 = 1#1), ∀ (k0_h4 : k0_cond4 i v28 = 1#1), 8 ∣ (k0_mult23 v210).toNat) ∧
  (∀ (k0_h1 : k0_cond1 i v0 = 1#1), ∀ (k0_h4 : k0_cond4 i v28 = 1#1), ∀ a, (k0_off50 v210) a + S8x128.size a ≤ S262144x128.size a)
theorem k0_mult23_dvd : ∀ (i : grid0.Coords) (v0 : BitVec 32) (v28 : BitVec 32) (v210 : BitVec 32) (k0_hw13 : k0_chk13 i v0 v28 v210), ∀ (k0_h1 : k0_cond1 i v0 = 1#1), ∀ (k0_h4 : k0_cond4 i v28 = 1#1), 8 ∣ (k0_mult23 v210).toNat := fun i v0 v28 v210 k0_hw13 k0_h1 k0_h4 => k0_hw13.1 k0_h1 k0_h4
theorem k0_off50_inb : ∀ (i : grid0.Coords) (v0 : BitVec 32) (v28 : BitVec 32) (v210 : BitVec 32) (k0_hw13 : k0_chk13 i v0 v28 v210), ∀ (k0_h1 : k0_cond1 i v0 = 1#1), ∀ (k0_h4 : k0_cond4 i v28 = 1#1), ∀ a, (k0_off50 v210) a + S8x128.size a ≤ S262144x128.size a := fun i v0 v28 v210 k0_hw13 k0_h1 k0_h4 => k0_hw13.2 k0_h1 k0_h4

def k0_off51 (i : grid0.Coords) : Fin 1 → Nat :=
  let arg1 : BitVec 32 := BitVec.ofNat 32 (i 1).val
  let c256_i32_105 : BitVec 32 := 256#32
  let v220 : BitVec 32 := Scalar.muli arg1 c256_i32_105
  let c11_i32 : BitVec 32 := 11#32
  let v221 : BitVec 32 := Scalar.addi v220 c11_i32
  let v223 : Index := Scalar.indexCast v221
  ![v223.toNat]
def k0_mult25 (v224 : BitVec 32) : BitVec 32 :=
  let c8_i32_107 : BitVec 32 := 8#32
  let v225 : BitVec 32 := Scalar.muli v224 c8_i32_107
  v225

def k0_mult26 (i : grid0.Coords) : BitVec 32 :=
  let arg1 : BitVec 32 := BitVec.ofNat 32 (i 1).val
  let c256_i32_105 : BitVec 32 := 256#32
  let v220 : BitVec 32 := Scalar.muli arg1 c256_i32_105
  let c11_i32 : BitVec 32 := 11#32
  let v221 : BitVec 32 := Scalar.addi v220 c11_i32
  let c8_i32_108 : BitVec 32 := 8#32
  let v227 : BitVec 32 := Scalar.muli v221 c8_i32_108
  v227
def k0_off52 (i : grid0.Coords) : Fin 1 → Nat :=
  let c1_i32_106 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v222 : BitVec 32 := Scalar.subi c1_i32_106 v11
  ![v222.toNat]
def k0_off53 (i : grid0.Coords) : Fin 3 → Nat :=
  let c1_i32_106 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v222 : BitVec 32 := Scalar.subi c1_i32_106 v11
  let arg1 : BitVec 32 := BitVec.ofNat 32 (i 1).val
  let c256_i32_105 : BitVec 32 := 256#32
  let v220 : BitVec 32 := Scalar.muli arg1 c256_i32_105
  let c11_i32 : BitVec 32 := 11#32
  let v221 : BitVec 32 := Scalar.addi v220 c11_i32
  let c8_i32_108 : BitVec 32 := 8#32
  let v227 : BitVec 32 := Scalar.muli v221 c8_i32_108
  let v228 : BitVec 32 := v227
  let c0_i32_109 : BitVec 32 := 0#32
  ![v222.toNat, v228.toNat, 0]
def k0_off54 (v224 : BitVec 32) : Fin 2 → Nat :=
  let c8_i32_107 : BitVec 32 := 8#32
  let v225 : BitVec 32 := Scalar.muli v224 c8_i32_107
  let v226 : BitVec 32 := v225
  let c0_i32_110 : BitVec 32 := 0#32
  ![v226.toNat, 0]

def k0_chk14 (i : grid0.Coords) (v0 : BitVec 32) (v28 : BitVec 32) (v224 : BitVec 32) : Prop :=
  (∀ (k0_h1 : k0_cond1 i v0 = 1#1), ∀ (k0_h4 : k0_cond4 i v28 = 1#1), 8 ∣ (k0_mult25 v224).toNat) ∧
  (∀ (k0_h1 : k0_cond1 i v0 = 1#1), ∀ (k0_h4 : k0_cond4 i v28 = 1#1), ∀ a, (k0_off54 v224) a + S8x128.size a ≤ S262144x128.size a)
theorem k0_mult25_dvd : ∀ (i : grid0.Coords) (v0 : BitVec 32) (v28 : BitVec 32) (v224 : BitVec 32) (k0_hw14 : k0_chk14 i v0 v28 v224), ∀ (k0_h1 : k0_cond1 i v0 = 1#1), ∀ (k0_h4 : k0_cond4 i v28 = 1#1), 8 ∣ (k0_mult25 v224).toNat := fun i v0 v28 v224 k0_hw14 k0_h1 k0_h4 => k0_hw14.1 k0_h1 k0_h4
theorem k0_off54_inb : ∀ (i : grid0.Coords) (v0 : BitVec 32) (v28 : BitVec 32) (v224 : BitVec 32) (k0_hw14 : k0_chk14 i v0 v28 v224), ∀ (k0_h1 : k0_cond1 i v0 = 1#1), ∀ (k0_h4 : k0_cond4 i v28 = 1#1), ∀ a, (k0_off54 v224) a + S8x128.size a ≤ S262144x128.size a := fun i v0 v28 v224 k0_hw14 k0_h1 k0_h4 => k0_hw14.2 k0_h1 k0_h4

def k0_off55 (i : grid0.Coords) : Fin 1 → Nat :=
  let arg1 : BitVec 32 := BitVec.ofNat 32 (i 1).val
  let c256_i32_111 : BitVec 32 := 256#32
  let v234 : BitVec 32 := Scalar.muli arg1 c256_i32_111
  let c12_i32 : BitVec 32 := 12#32
  let v235 : BitVec 32 := Scalar.addi v234 c12_i32
  let v237 : Index := Scalar.indexCast v235
  ![v237.toNat]
def k0_mult27 (v238 : BitVec 32) : BitVec 32 :=
  let c8_i32_113 : BitVec 32 := 8#32
  let v239 : BitVec 32 := Scalar.muli v238 c8_i32_113
  v239

def k0_mult28 (i : grid0.Coords) : BitVec 32 :=
  let arg1 : BitVec 32 := BitVec.ofNat 32 (i 1).val
  let c256_i32_111 : BitVec 32 := 256#32
  let v234 : BitVec 32 := Scalar.muli arg1 c256_i32_111
  let c12_i32 : BitVec 32 := 12#32
  let v235 : BitVec 32 := Scalar.addi v234 c12_i32
  let c8_i32_114 : BitVec 32 := 8#32
  let v241 : BitVec 32 := Scalar.muli v235 c8_i32_114
  v241
def k0_off56 (i : grid0.Coords) : Fin 1 → Nat :=
  let c1_i32_112 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v236 : BitVec 32 := Scalar.subi c1_i32_112 v11
  ![v236.toNat]
def k0_off57 (i : grid0.Coords) : Fin 3 → Nat :=
  let c1_i32_112 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v236 : BitVec 32 := Scalar.subi c1_i32_112 v11
  let arg1 : BitVec 32 := BitVec.ofNat 32 (i 1).val
  let c256_i32_111 : BitVec 32 := 256#32
  let v234 : BitVec 32 := Scalar.muli arg1 c256_i32_111
  let c12_i32 : BitVec 32 := 12#32
  let v235 : BitVec 32 := Scalar.addi v234 c12_i32
  let c8_i32_114 : BitVec 32 := 8#32
  let v241 : BitVec 32 := Scalar.muli v235 c8_i32_114
  let v242 : BitVec 32 := v241
  let c0_i32_115 : BitVec 32 := 0#32
  ![v236.toNat, v242.toNat, 0]
def k0_off58 (v238 : BitVec 32) : Fin 2 → Nat :=
  let c8_i32_113 : BitVec 32 := 8#32
  let v239 : BitVec 32 := Scalar.muli v238 c8_i32_113
  let v240 : BitVec 32 := v239
  let c0_i32_116 : BitVec 32 := 0#32
  ![v240.toNat, 0]

def k0_chk15 (i : grid0.Coords) (v0 : BitVec 32) (v28 : BitVec 32) (v238 : BitVec 32) : Prop :=
  (∀ (k0_h1 : k0_cond1 i v0 = 1#1), ∀ (k0_h4 : k0_cond4 i v28 = 1#1), 8 ∣ (k0_mult27 v238).toNat) ∧
  (∀ (k0_h1 : k0_cond1 i v0 = 1#1), ∀ (k0_h4 : k0_cond4 i v28 = 1#1), ∀ a, (k0_off58 v238) a + S8x128.size a ≤ S262144x128.size a)
theorem k0_mult27_dvd : ∀ (i : grid0.Coords) (v0 : BitVec 32) (v28 : BitVec 32) (v238 : BitVec 32) (k0_hw15 : k0_chk15 i v0 v28 v238), ∀ (k0_h1 : k0_cond1 i v0 = 1#1), ∀ (k0_h4 : k0_cond4 i v28 = 1#1), 8 ∣ (k0_mult27 v238).toNat := fun i v0 v28 v238 k0_hw15 k0_h1 k0_h4 => k0_hw15.1 k0_h1 k0_h4
theorem k0_off58_inb : ∀ (i : grid0.Coords) (v0 : BitVec 32) (v28 : BitVec 32) (v238 : BitVec 32) (k0_hw15 : k0_chk15 i v0 v28 v238), ∀ (k0_h1 : k0_cond1 i v0 = 1#1), ∀ (k0_h4 : k0_cond4 i v28 = 1#1), ∀ a, (k0_off58 v238) a + S8x128.size a ≤ S262144x128.size a := fun i v0 v28 v238 k0_hw15 k0_h1 k0_h4 => k0_hw15.2 k0_h1 k0_h4

def k0_off59 (i : grid0.Coords) : Fin 1 → Nat :=
  let arg1 : BitVec 32 := BitVec.ofNat 32 (i 1).val
  let c256_i32_117 : BitVec 32 := 256#32
  let v248 : BitVec 32 := Scalar.muli arg1 c256_i32_117
  let c13_i32 : BitVec 32 := 13#32
  let v249 : BitVec 32 := Scalar.addi v248 c13_i32
  let v251 : Index := Scalar.indexCast v249
  ![v251.toNat]
def k0_mult29 (v252 : BitVec 32) : BitVec 32 :=
  let c8_i32_119 : BitVec 32 := 8#32
  let v253 : BitVec 32 := Scalar.muli v252 c8_i32_119
  v253

def k0_mult30 (i : grid0.Coords) : BitVec 32 :=
  let arg1 : BitVec 32 := BitVec.ofNat 32 (i 1).val
  let c256_i32_117 : BitVec 32 := 256#32
  let v248 : BitVec 32 := Scalar.muli arg1 c256_i32_117
  let c13_i32 : BitVec 32 := 13#32
  let v249 : BitVec 32 := Scalar.addi v248 c13_i32
  let c8_i32_120 : BitVec 32 := 8#32
  let v255 : BitVec 32 := Scalar.muli v249 c8_i32_120
  v255
def k0_off60 (i : grid0.Coords) : Fin 1 → Nat :=
  let c1_i32_118 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v250 : BitVec 32 := Scalar.subi c1_i32_118 v11
  ![v250.toNat]
def k0_off61 (i : grid0.Coords) : Fin 3 → Nat :=
  let c1_i32_118 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v250 : BitVec 32 := Scalar.subi c1_i32_118 v11
  let arg1 : BitVec 32 := BitVec.ofNat 32 (i 1).val
  let c256_i32_117 : BitVec 32 := 256#32
  let v248 : BitVec 32 := Scalar.muli arg1 c256_i32_117
  let c13_i32 : BitVec 32 := 13#32
  let v249 : BitVec 32 := Scalar.addi v248 c13_i32
  let c8_i32_120 : BitVec 32 := 8#32
  let v255 : BitVec 32 := Scalar.muli v249 c8_i32_120
  let v256 : BitVec 32 := v255
  let c0_i32_121 : BitVec 32 := 0#32
  ![v250.toNat, v256.toNat, 0]
def k0_off62 (v252 : BitVec 32) : Fin 2 → Nat :=
  let c8_i32_119 : BitVec 32 := 8#32
  let v253 : BitVec 32 := Scalar.muli v252 c8_i32_119
  let v254 : BitVec 32 := v253
  let c0_i32_122 : BitVec 32 := 0#32
  ![v254.toNat, 0]

def k0_chk16 (i : grid0.Coords) (v0 : BitVec 32) (v28 : BitVec 32) (v252 : BitVec 32) : Prop :=
  (∀ (k0_h1 : k0_cond1 i v0 = 1#1), ∀ (k0_h4 : k0_cond4 i v28 = 1#1), 8 ∣ (k0_mult29 v252).toNat) ∧
  (∀ (k0_h1 : k0_cond1 i v0 = 1#1), ∀ (k0_h4 : k0_cond4 i v28 = 1#1), ∀ a, (k0_off62 v252) a + S8x128.size a ≤ S262144x128.size a)
theorem k0_mult29_dvd : ∀ (i : grid0.Coords) (v0 : BitVec 32) (v28 : BitVec 32) (v252 : BitVec 32) (k0_hw16 : k0_chk16 i v0 v28 v252), ∀ (k0_h1 : k0_cond1 i v0 = 1#1), ∀ (k0_h4 : k0_cond4 i v28 = 1#1), 8 ∣ (k0_mult29 v252).toNat := fun i v0 v28 v252 k0_hw16 k0_h1 k0_h4 => k0_hw16.1 k0_h1 k0_h4
theorem k0_off62_inb : ∀ (i : grid0.Coords) (v0 : BitVec 32) (v28 : BitVec 32) (v252 : BitVec 32) (k0_hw16 : k0_chk16 i v0 v28 v252), ∀ (k0_h1 : k0_cond1 i v0 = 1#1), ∀ (k0_h4 : k0_cond4 i v28 = 1#1), ∀ a, (k0_off62 v252) a + S8x128.size a ≤ S262144x128.size a := fun i v0 v28 v252 k0_hw16 k0_h1 k0_h4 => k0_hw16.2 k0_h1 k0_h4

def k0_off63 (i : grid0.Coords) : Fin 1 → Nat :=
  let arg1 : BitVec 32 := BitVec.ofNat 32 (i 1).val
  let c256_i32_123 : BitVec 32 := 256#32
  let v262 : BitVec 32 := Scalar.muli arg1 c256_i32_123
  let c14_i32 : BitVec 32 := 14#32
  let v263 : BitVec 32 := Scalar.addi v262 c14_i32
  let v265 : Index := Scalar.indexCast v263
  ![v265.toNat]
def k0_mult31 (v266 : BitVec 32) : BitVec 32 :=
  let c8_i32_125 : BitVec 32 := 8#32
  let v267 : BitVec 32 := Scalar.muli v266 c8_i32_125
  v267

def k0_mult32 (i : grid0.Coords) : BitVec 32 :=
  let arg1 : BitVec 32 := BitVec.ofNat 32 (i 1).val
  let c256_i32_123 : BitVec 32 := 256#32
  let v262 : BitVec 32 := Scalar.muli arg1 c256_i32_123
  let c14_i32 : BitVec 32 := 14#32
  let v263 : BitVec 32 := Scalar.addi v262 c14_i32
  let c8_i32_126 : BitVec 32 := 8#32
  let v269 : BitVec 32 := Scalar.muli v263 c8_i32_126
  v269
def k0_off64 (i : grid0.Coords) : Fin 1 → Nat :=
  let c1_i32_124 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v264 : BitVec 32 := Scalar.subi c1_i32_124 v11
  ![v264.toNat]
def k0_off65 (i : grid0.Coords) : Fin 3 → Nat :=
  let c1_i32_124 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v264 : BitVec 32 := Scalar.subi c1_i32_124 v11
  let arg1 : BitVec 32 := BitVec.ofNat 32 (i 1).val
  let c256_i32_123 : BitVec 32 := 256#32
  let v262 : BitVec 32 := Scalar.muli arg1 c256_i32_123
  let c14_i32 : BitVec 32 := 14#32
  let v263 : BitVec 32 := Scalar.addi v262 c14_i32
  let c8_i32_126 : BitVec 32 := 8#32
  let v269 : BitVec 32 := Scalar.muli v263 c8_i32_126
  let v270 : BitVec 32 := v269
  let c0_i32_127 : BitVec 32 := 0#32
  ![v264.toNat, v270.toNat, 0]
def k0_off66 (v266 : BitVec 32) : Fin 2 → Nat :=
  let c8_i32_125 : BitVec 32 := 8#32
  let v267 : BitVec 32 := Scalar.muli v266 c8_i32_125
  let v268 : BitVec 32 := v267
  let c0_i32_128 : BitVec 32 := 0#32
  ![v268.toNat, 0]

def k0_chk17 (i : grid0.Coords) (v0 : BitVec 32) (v28 : BitVec 32) (v266 : BitVec 32) : Prop :=
  (∀ (k0_h1 : k0_cond1 i v0 = 1#1), ∀ (k0_h4 : k0_cond4 i v28 = 1#1), 8 ∣ (k0_mult31 v266).toNat) ∧
  (∀ (k0_h1 : k0_cond1 i v0 = 1#1), ∀ (k0_h4 : k0_cond4 i v28 = 1#1), ∀ a, (k0_off66 v266) a + S8x128.size a ≤ S262144x128.size a)
theorem k0_mult31_dvd : ∀ (i : grid0.Coords) (v0 : BitVec 32) (v28 : BitVec 32) (v266 : BitVec 32) (k0_hw17 : k0_chk17 i v0 v28 v266), ∀ (k0_h1 : k0_cond1 i v0 = 1#1), ∀ (k0_h4 : k0_cond4 i v28 = 1#1), 8 ∣ (k0_mult31 v266).toNat := fun i v0 v28 v266 k0_hw17 k0_h1 k0_h4 => k0_hw17.1 k0_h1 k0_h4
theorem k0_off66_inb : ∀ (i : grid0.Coords) (v0 : BitVec 32) (v28 : BitVec 32) (v266 : BitVec 32) (k0_hw17 : k0_chk17 i v0 v28 v266), ∀ (k0_h1 : k0_cond1 i v0 = 1#1), ∀ (k0_h4 : k0_cond4 i v28 = 1#1), ∀ a, (k0_off66 v266) a + S8x128.size a ≤ S262144x128.size a := fun i v0 v28 v266 k0_hw17 k0_h1 k0_h4 => k0_hw17.2 k0_h1 k0_h4

def k0_off67 (i : grid0.Coords) : Fin 1 → Nat :=
  let arg1 : BitVec 32 := BitVec.ofNat 32 (i 1).val
  let c256_i32_129 : BitVec 32 := 256#32
  let v276 : BitVec 32 := Scalar.muli arg1 c256_i32_129
  let c15_i32 : BitVec 32 := 15#32
  let v277 : BitVec 32 := Scalar.addi v276 c15_i32
  let v279 : Index := Scalar.indexCast v277
  ![v279.toNat]
def k0_mult33 (v280 : BitVec 32) : BitVec 32 :=
  let c8_i32_131 : BitVec 32 := 8#32
  let v281 : BitVec 32 := Scalar.muli v280 c8_i32_131
  v281

def k0_mult34 (i : grid0.Coords) : BitVec 32 :=
  let arg1 : BitVec 32 := BitVec.ofNat 32 (i 1).val
  let c256_i32_129 : BitVec 32 := 256#32
  let v276 : BitVec 32 := Scalar.muli arg1 c256_i32_129
  let c15_i32 : BitVec 32 := 15#32
  let v277 : BitVec 32 := Scalar.addi v276 c15_i32
  let c8_i32_132 : BitVec 32 := 8#32
  let v283 : BitVec 32 := Scalar.muli v277 c8_i32_132
  v283
def k0_off68 (i : grid0.Coords) : Fin 1 → Nat :=
  let c1_i32_130 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v278 : BitVec 32 := Scalar.subi c1_i32_130 v11
  ![v278.toNat]
def k0_off69 (i : grid0.Coords) : Fin 3 → Nat :=
  let c1_i32_130 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v278 : BitVec 32 := Scalar.subi c1_i32_130 v11
  let arg1 : BitVec 32 := BitVec.ofNat 32 (i 1).val
  let c256_i32_129 : BitVec 32 := 256#32
  let v276 : BitVec 32 := Scalar.muli arg1 c256_i32_129
  let c15_i32 : BitVec 32 := 15#32
  let v277 : BitVec 32 := Scalar.addi v276 c15_i32
  let c8_i32_132 : BitVec 32 := 8#32
  let v283 : BitVec 32 := Scalar.muli v277 c8_i32_132
  let v284 : BitVec 32 := v283
  let c0_i32_133 : BitVec 32 := 0#32
  ![v278.toNat, v284.toNat, 0]
def k0_off70 (v280 : BitVec 32) : Fin 2 → Nat :=
  let c8_i32_131 : BitVec 32 := 8#32
  let v281 : BitVec 32 := Scalar.muli v280 c8_i32_131
  let v282 : BitVec 32 := v281
  let c0_i32_134 : BitVec 32 := 0#32
  ![v282.toNat, 0]

def k0_chk18 (i : grid0.Coords) (v0 : BitVec 32) (v28 : BitVec 32) (v280 : BitVec 32) : Prop :=
  (∀ (k0_h1 : k0_cond1 i v0 = 1#1), ∀ (k0_h4 : k0_cond4 i v28 = 1#1), 8 ∣ (k0_mult33 v280).toNat) ∧
  (∀ (k0_h1 : k0_cond1 i v0 = 1#1), ∀ (k0_h4 : k0_cond4 i v28 = 1#1), ∀ a, (k0_off70 v280) a + S8x128.size a ≤ S262144x128.size a)
theorem k0_mult33_dvd : ∀ (i : grid0.Coords) (v0 : BitVec 32) (v28 : BitVec 32) (v280 : BitVec 32) (k0_hw18 : k0_chk18 i v0 v28 v280), ∀ (k0_h1 : k0_cond1 i v0 = 1#1), ∀ (k0_h4 : k0_cond4 i v28 = 1#1), 8 ∣ (k0_mult33 v280).toNat := fun i v0 v28 v280 k0_hw18 k0_h1 k0_h4 => k0_hw18.1 k0_h1 k0_h4
theorem k0_off70_inb : ∀ (i : grid0.Coords) (v0 : BitVec 32) (v28 : BitVec 32) (v280 : BitVec 32) (k0_hw18 : k0_chk18 i v0 v28 v280), ∀ (k0_h1 : k0_cond1 i v0 = 1#1), ∀ (k0_h4 : k0_cond4 i v28 = 1#1), ∀ a, (k0_off70 v280) a + S8x128.size a ≤ S262144x128.size a := fun i v0 v28 v280 k0_hw18 k0_h1 k0_h4 => k0_hw18.2 k0_h1 k0_h4

def k0_off71 (i : grid0.Coords) : Fin 1 → Nat :=
  let arg1 : BitVec 32 := BitVec.ofNat 32 (i 1).val
  let c256_i32_135 : BitVec 32 := 256#32
  let v290 : BitVec 32 := Scalar.muli arg1 c256_i32_135
  let c16_i32 : BitVec 32 := 16#32
  let v291 : BitVec 32 := Scalar.addi v290 c16_i32
  let v293 : Index := Scalar.indexCast v291
  ![v293.toNat]
def k0_mult35 (v294 : BitVec 32) : BitVec 32 :=
  let c8_i32_137 : BitVec 32 := 8#32
  let v295 : BitVec 32 := Scalar.muli v294 c8_i32_137
  v295

def k0_mult36 (i : grid0.Coords) : BitVec 32 :=
  let arg1 : BitVec 32 := BitVec.ofNat 32 (i 1).val
  let c256_i32_135 : BitVec 32 := 256#32
  let v290 : BitVec 32 := Scalar.muli arg1 c256_i32_135
  let c16_i32 : BitVec 32 := 16#32
  let v291 : BitVec 32 := Scalar.addi v290 c16_i32
  let c8_i32_138 : BitVec 32 := 8#32
  let v297 : BitVec 32 := Scalar.muli v291 c8_i32_138
  v297
def k0_off72 (i : grid0.Coords) : Fin 1 → Nat :=
  let c1_i32_136 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v292 : BitVec 32 := Scalar.subi c1_i32_136 v11
  ![v292.toNat]
def k0_off73 (i : grid0.Coords) : Fin 3 → Nat :=
  let c1_i32_136 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v292 : BitVec 32 := Scalar.subi c1_i32_136 v11
  let arg1 : BitVec 32 := BitVec.ofNat 32 (i 1).val
  let c256_i32_135 : BitVec 32 := 256#32
  let v290 : BitVec 32 := Scalar.muli arg1 c256_i32_135
  let c16_i32 : BitVec 32 := 16#32
  let v291 : BitVec 32 := Scalar.addi v290 c16_i32
  let c8_i32_138 : BitVec 32 := 8#32
  let v297 : BitVec 32 := Scalar.muli v291 c8_i32_138
  let v298 : BitVec 32 := v297
  let c0_i32_139 : BitVec 32 := 0#32
  ![v292.toNat, v298.toNat, 0]
def k0_off74 (v294 : BitVec 32) : Fin 2 → Nat :=
  let c8_i32_137 : BitVec 32 := 8#32
  let v295 : BitVec 32 := Scalar.muli v294 c8_i32_137
  let v296 : BitVec 32 := v295
  let c0_i32_140 : BitVec 32 := 0#32
  ![v296.toNat, 0]

def k0_chk19 (i : grid0.Coords) (v0 : BitVec 32) (v28 : BitVec 32) (v294 : BitVec 32) : Prop :=
  (∀ (k0_h1 : k0_cond1 i v0 = 1#1), ∀ (k0_h4 : k0_cond4 i v28 = 1#1), 8 ∣ (k0_mult35 v294).toNat) ∧
  (∀ (k0_h1 : k0_cond1 i v0 = 1#1), ∀ (k0_h4 : k0_cond4 i v28 = 1#1), ∀ a, (k0_off74 v294) a + S8x128.size a ≤ S262144x128.size a)
theorem k0_mult35_dvd : ∀ (i : grid0.Coords) (v0 : BitVec 32) (v28 : BitVec 32) (v294 : BitVec 32) (k0_hw19 : k0_chk19 i v0 v28 v294), ∀ (k0_h1 : k0_cond1 i v0 = 1#1), ∀ (k0_h4 : k0_cond4 i v28 = 1#1), 8 ∣ (k0_mult35 v294).toNat := fun i v0 v28 v294 k0_hw19 k0_h1 k0_h4 => k0_hw19.1 k0_h1 k0_h4
theorem k0_off74_inb : ∀ (i : grid0.Coords) (v0 : BitVec 32) (v28 : BitVec 32) (v294 : BitVec 32) (k0_hw19 : k0_chk19 i v0 v28 v294), ∀ (k0_h1 : k0_cond1 i v0 = 1#1), ∀ (k0_h4 : k0_cond4 i v28 = 1#1), ∀ a, (k0_off74 v294) a + S8x128.size a ≤ S262144x128.size a := fun i v0 v28 v294 k0_hw19 k0_h1 k0_h4 => k0_hw19.2 k0_h1 k0_h4

def k0_off75 (i : grid0.Coords) : Fin 1 → Nat :=
  let arg1 : BitVec 32 := BitVec.ofNat 32 (i 1).val
  let c256_i32_141 : BitVec 32 := 256#32
  let v304 : BitVec 32 := Scalar.muli arg1 c256_i32_141
  let c17_i32 : BitVec 32 := 17#32
  let v305 : BitVec 32 := Scalar.addi v304 c17_i32
  let v307 : Index := Scalar.indexCast v305
  ![v307.toNat]
def k0_mult37 (v308 : BitVec 32) : BitVec 32 :=
  let c8_i32_143 : BitVec 32 := 8#32
  let v309 : BitVec 32 := Scalar.muli v308 c8_i32_143
  v309

def k0_mult38 (i : grid0.Coords) : BitVec 32 :=
  let arg1 : BitVec 32 := BitVec.ofNat 32 (i 1).val
  let c256_i32_141 : BitVec 32 := 256#32
  let v304 : BitVec 32 := Scalar.muli arg1 c256_i32_141
  let c17_i32 : BitVec 32 := 17#32
  let v305 : BitVec 32 := Scalar.addi v304 c17_i32
  let c8_i32_144 : BitVec 32 := 8#32
  let v311 : BitVec 32 := Scalar.muli v305 c8_i32_144
  v311
def k0_off76 (i : grid0.Coords) : Fin 1 → Nat :=
  let c1_i32_142 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v306 : BitVec 32 := Scalar.subi c1_i32_142 v11
  ![v306.toNat]
def k0_off77 (i : grid0.Coords) : Fin 3 → Nat :=
  let c1_i32_142 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v306 : BitVec 32 := Scalar.subi c1_i32_142 v11
  let arg1 : BitVec 32 := BitVec.ofNat 32 (i 1).val
  let c256_i32_141 : BitVec 32 := 256#32
  let v304 : BitVec 32 := Scalar.muli arg1 c256_i32_141
  let c17_i32 : BitVec 32 := 17#32
  let v305 : BitVec 32 := Scalar.addi v304 c17_i32
  let c8_i32_144 : BitVec 32 := 8#32
  let v311 : BitVec 32 := Scalar.muli v305 c8_i32_144
  let v312 : BitVec 32 := v311
  let c0_i32_145 : BitVec 32 := 0#32
  ![v306.toNat, v312.toNat, 0]
def k0_off78 (v308 : BitVec 32) : Fin 2 → Nat :=
  let c8_i32_143 : BitVec 32 := 8#32
  let v309 : BitVec 32 := Scalar.muli v308 c8_i32_143
  let v310 : BitVec 32 := v309
  let c0_i32_146 : BitVec 32 := 0#32
  ![v310.toNat, 0]

def k0_chk20 (i : grid0.Coords) (v0 : BitVec 32) (v28 : BitVec 32) (v308 : BitVec 32) : Prop :=
  (∀ (k0_h1 : k0_cond1 i v0 = 1#1), ∀ (k0_h4 : k0_cond4 i v28 = 1#1), 8 ∣ (k0_mult37 v308).toNat) ∧
  (∀ (k0_h1 : k0_cond1 i v0 = 1#1), ∀ (k0_h4 : k0_cond4 i v28 = 1#1), ∀ a, (k0_off78 v308) a + S8x128.size a ≤ S262144x128.size a)
theorem k0_mult37_dvd : ∀ (i : grid0.Coords) (v0 : BitVec 32) (v28 : BitVec 32) (v308 : BitVec 32) (k0_hw20 : k0_chk20 i v0 v28 v308), ∀ (k0_h1 : k0_cond1 i v0 = 1#1), ∀ (k0_h4 : k0_cond4 i v28 = 1#1), 8 ∣ (k0_mult37 v308).toNat := fun i v0 v28 v308 k0_hw20 k0_h1 k0_h4 => k0_hw20.1 k0_h1 k0_h4
theorem k0_off78_inb : ∀ (i : grid0.Coords) (v0 : BitVec 32) (v28 : BitVec 32) (v308 : BitVec 32) (k0_hw20 : k0_chk20 i v0 v28 v308), ∀ (k0_h1 : k0_cond1 i v0 = 1#1), ∀ (k0_h4 : k0_cond4 i v28 = 1#1), ∀ a, (k0_off78 v308) a + S8x128.size a ≤ S262144x128.size a := fun i v0 v28 v308 k0_hw20 k0_h1 k0_h4 => k0_hw20.2 k0_h1 k0_h4

def k0_off79 (i : grid0.Coords) : Fin 1 → Nat :=
  let arg1 : BitVec 32 := BitVec.ofNat 32 (i 1).val
  let c256_i32_147 : BitVec 32 := 256#32
  let v318 : BitVec 32 := Scalar.muli arg1 c256_i32_147
  let c18_i32 : BitVec 32 := 18#32
  let v319 : BitVec 32 := Scalar.addi v318 c18_i32
  let v321 : Index := Scalar.indexCast v319
  ![v321.toNat]
def k0_mult39 (v322 : BitVec 32) : BitVec 32 :=
  let c8_i32_149 : BitVec 32 := 8#32
  let v323 : BitVec 32 := Scalar.muli v322 c8_i32_149
  v323

def k0_mult40 (i : grid0.Coords) : BitVec 32 :=
  let arg1 : BitVec 32 := BitVec.ofNat 32 (i 1).val
  let c256_i32_147 : BitVec 32 := 256#32
  let v318 : BitVec 32 := Scalar.muli arg1 c256_i32_147
  let c18_i32 : BitVec 32 := 18#32
  let v319 : BitVec 32 := Scalar.addi v318 c18_i32
  let c8_i32_150 : BitVec 32 := 8#32
  let v325 : BitVec 32 := Scalar.muli v319 c8_i32_150
  v325
def k0_off80 (i : grid0.Coords) : Fin 1 → Nat :=
  let c1_i32_148 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v320 : BitVec 32 := Scalar.subi c1_i32_148 v11
  ![v320.toNat]
def k0_off81 (i : grid0.Coords) : Fin 3 → Nat :=
  let c1_i32_148 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v320 : BitVec 32 := Scalar.subi c1_i32_148 v11
  let arg1 : BitVec 32 := BitVec.ofNat 32 (i 1).val
  let c256_i32_147 : BitVec 32 := 256#32
  let v318 : BitVec 32 := Scalar.muli arg1 c256_i32_147
  let c18_i32 : BitVec 32 := 18#32
  let v319 : BitVec 32 := Scalar.addi v318 c18_i32
  let c8_i32_150 : BitVec 32 := 8#32
  let v325 : BitVec 32 := Scalar.muli v319 c8_i32_150
  let v326 : BitVec 32 := v325
  let c0_i32_151 : BitVec 32 := 0#32
  ![v320.toNat, v326.toNat, 0]
def k0_off82 (v322 : BitVec 32) : Fin 2 → Nat :=
  let c8_i32_149 : BitVec 32 := 8#32
  let v323 : BitVec 32 := Scalar.muli v322 c8_i32_149
  let v324 : BitVec 32 := v323
  let c0_i32_152 : BitVec 32 := 0#32
  ![v324.toNat, 0]

def k0_chk21 (i : grid0.Coords) (v0 : BitVec 32) (v28 : BitVec 32) (v322 : BitVec 32) : Prop :=
  (∀ (k0_h1 : k0_cond1 i v0 = 1#1), ∀ (k0_h4 : k0_cond4 i v28 = 1#1), 8 ∣ (k0_mult39 v322).toNat) ∧
  (∀ (k0_h1 : k0_cond1 i v0 = 1#1), ∀ (k0_h4 : k0_cond4 i v28 = 1#1), ∀ a, (k0_off82 v322) a + S8x128.size a ≤ S262144x128.size a)
theorem k0_mult39_dvd : ∀ (i : grid0.Coords) (v0 : BitVec 32) (v28 : BitVec 32) (v322 : BitVec 32) (k0_hw21 : k0_chk21 i v0 v28 v322), ∀ (k0_h1 : k0_cond1 i v0 = 1#1), ∀ (k0_h4 : k0_cond4 i v28 = 1#1), 8 ∣ (k0_mult39 v322).toNat := fun i v0 v28 v322 k0_hw21 k0_h1 k0_h4 => k0_hw21.1 k0_h1 k0_h4
theorem k0_off82_inb : ∀ (i : grid0.Coords) (v0 : BitVec 32) (v28 : BitVec 32) (v322 : BitVec 32) (k0_hw21 : k0_chk21 i v0 v28 v322), ∀ (k0_h1 : k0_cond1 i v0 = 1#1), ∀ (k0_h4 : k0_cond4 i v28 = 1#1), ∀ a, (k0_off82 v322) a + S8x128.size a ≤ S262144x128.size a := fun i v0 v28 v322 k0_hw21 k0_h1 k0_h4 => k0_hw21.2 k0_h1 k0_h4

def k0_off83 (i : grid0.Coords) : Fin 1 → Nat :=
  let arg1 : BitVec 32 := BitVec.ofNat 32 (i 1).val
  let c256_i32_153 : BitVec 32 := 256#32
  let v332 : BitVec 32 := Scalar.muli arg1 c256_i32_153
  let c19_i32 : BitVec 32 := 19#32
  let v333 : BitVec 32 := Scalar.addi v332 c19_i32
  let v335 : Index := Scalar.indexCast v333
  ![v335.toNat]
def k0_mult41 (v336 : BitVec 32) : BitVec 32 :=
  let c8_i32_155 : BitVec 32 := 8#32
  let v337 : BitVec 32 := Scalar.muli v336 c8_i32_155
  v337

def k0_mult42 (i : grid0.Coords) : BitVec 32 :=
  let arg1 : BitVec 32 := BitVec.ofNat 32 (i 1).val
  let c256_i32_153 : BitVec 32 := 256#32
  let v332 : BitVec 32 := Scalar.muli arg1 c256_i32_153
  let c19_i32 : BitVec 32 := 19#32
  let v333 : BitVec 32 := Scalar.addi v332 c19_i32
  let c8_i32_156 : BitVec 32 := 8#32
  let v339 : BitVec 32 := Scalar.muli v333 c8_i32_156
  v339
def k0_off84 (i : grid0.Coords) : Fin 1 → Nat :=
  let c1_i32_154 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v334 : BitVec 32 := Scalar.subi c1_i32_154 v11
  ![v334.toNat]
def k0_off85 (i : grid0.Coords) : Fin 3 → Nat :=
  let c1_i32_154 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v334 : BitVec 32 := Scalar.subi c1_i32_154 v11
  let arg1 : BitVec 32 := BitVec.ofNat 32 (i 1).val
  let c256_i32_153 : BitVec 32 := 256#32
  let v332 : BitVec 32 := Scalar.muli arg1 c256_i32_153
  let c19_i32 : BitVec 32 := 19#32
  let v333 : BitVec 32 := Scalar.addi v332 c19_i32
  let c8_i32_156 : BitVec 32 := 8#32
  let v339 : BitVec 32 := Scalar.muli v333 c8_i32_156
  let v340 : BitVec 32 := v339
  let c0_i32_157 : BitVec 32 := 0#32
  ![v334.toNat, v340.toNat, 0]
def k0_off86 (v336 : BitVec 32) : Fin 2 → Nat :=
  let c8_i32_155 : BitVec 32 := 8#32
  let v337 : BitVec 32 := Scalar.muli v336 c8_i32_155
  let v338 : BitVec 32 := v337
  let c0_i32_158 : BitVec 32 := 0#32
  ![v338.toNat, 0]

def k0_chk22 (i : grid0.Coords) (v0 : BitVec 32) (v28 : BitVec 32) (v336 : BitVec 32) : Prop :=
  (∀ (k0_h1 : k0_cond1 i v0 = 1#1), ∀ (k0_h4 : k0_cond4 i v28 = 1#1), 8 ∣ (k0_mult41 v336).toNat) ∧
  (∀ (k0_h1 : k0_cond1 i v0 = 1#1), ∀ (k0_h4 : k0_cond4 i v28 = 1#1), ∀ a, (k0_off86 v336) a + S8x128.size a ≤ S262144x128.size a)
theorem k0_mult41_dvd : ∀ (i : grid0.Coords) (v0 : BitVec 32) (v28 : BitVec 32) (v336 : BitVec 32) (k0_hw22 : k0_chk22 i v0 v28 v336), ∀ (k0_h1 : k0_cond1 i v0 = 1#1), ∀ (k0_h4 : k0_cond4 i v28 = 1#1), 8 ∣ (k0_mult41 v336).toNat := fun i v0 v28 v336 k0_hw22 k0_h1 k0_h4 => k0_hw22.1 k0_h1 k0_h4
theorem k0_off86_inb : ∀ (i : grid0.Coords) (v0 : BitVec 32) (v28 : BitVec 32) (v336 : BitVec 32) (k0_hw22 : k0_chk22 i v0 v28 v336), ∀ (k0_h1 : k0_cond1 i v0 = 1#1), ∀ (k0_h4 : k0_cond4 i v28 = 1#1), ∀ a, (k0_off86 v336) a + S8x128.size a ≤ S262144x128.size a := fun i v0 v28 v336 k0_hw22 k0_h1 k0_h4 => k0_hw22.2 k0_h1 k0_h4

def k0_off87 (i : grid0.Coords) : Fin 1 → Nat :=
  let arg1 : BitVec 32 := BitVec.ofNat 32 (i 1).val
  let c256_i32_159 : BitVec 32 := 256#32
  let v346 : BitVec 32 := Scalar.muli arg1 c256_i32_159
  let c20_i32 : BitVec 32 := 20#32
  let v347 : BitVec 32 := Scalar.addi v346 c20_i32
  let v349 : Index := Scalar.indexCast v347
  ![v349.toNat]
def k0_mult43 (v350 : BitVec 32) : BitVec 32 :=
  let c8_i32_161 : BitVec 32 := 8#32
  let v351 : BitVec 32 := Scalar.muli v350 c8_i32_161
  v351

def k0_mult44 (i : grid0.Coords) : BitVec 32 :=
  let arg1 : BitVec 32 := BitVec.ofNat 32 (i 1).val
  let c256_i32_159 : BitVec 32 := 256#32
  let v346 : BitVec 32 := Scalar.muli arg1 c256_i32_159
  let c20_i32 : BitVec 32 := 20#32
  let v347 : BitVec 32 := Scalar.addi v346 c20_i32
  let c8_i32_162 : BitVec 32 := 8#32
  let v353 : BitVec 32 := Scalar.muli v347 c8_i32_162
  v353
def k0_off88 (i : grid0.Coords) : Fin 1 → Nat :=
  let c1_i32_160 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v348 : BitVec 32 := Scalar.subi c1_i32_160 v11
  ![v348.toNat]
def k0_off89 (i : grid0.Coords) : Fin 3 → Nat :=
  let c1_i32_160 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v348 : BitVec 32 := Scalar.subi c1_i32_160 v11
  let arg1 : BitVec 32 := BitVec.ofNat 32 (i 1).val
  let c256_i32_159 : BitVec 32 := 256#32
  let v346 : BitVec 32 := Scalar.muli arg1 c256_i32_159
  let c20_i32 : BitVec 32 := 20#32
  let v347 : BitVec 32 := Scalar.addi v346 c20_i32
  let c8_i32_162 : BitVec 32 := 8#32
  let v353 : BitVec 32 := Scalar.muli v347 c8_i32_162
  let v354 : BitVec 32 := v353
  let c0_i32_163 : BitVec 32 := 0#32
  ![v348.toNat, v354.toNat, 0]
def k0_off90 (v350 : BitVec 32) : Fin 2 → Nat :=
  let c8_i32_161 : BitVec 32 := 8#32
  let v351 : BitVec 32 := Scalar.muli v350 c8_i32_161
  let v352 : BitVec 32 := v351
  let c0_i32_164 : BitVec 32 := 0#32
  ![v352.toNat, 0]

def k0_chk23 (i : grid0.Coords) (v0 : BitVec 32) (v28 : BitVec 32) (v350 : BitVec 32) : Prop :=
  (∀ (k0_h1 : k0_cond1 i v0 = 1#1), ∀ (k0_h4 : k0_cond4 i v28 = 1#1), 8 ∣ (k0_mult43 v350).toNat) ∧
  (∀ (k0_h1 : k0_cond1 i v0 = 1#1), ∀ (k0_h4 : k0_cond4 i v28 = 1#1), ∀ a, (k0_off90 v350) a + S8x128.size a ≤ S262144x128.size a)
theorem k0_mult43_dvd : ∀ (i : grid0.Coords) (v0 : BitVec 32) (v28 : BitVec 32) (v350 : BitVec 32) (k0_hw23 : k0_chk23 i v0 v28 v350), ∀ (k0_h1 : k0_cond1 i v0 = 1#1), ∀ (k0_h4 : k0_cond4 i v28 = 1#1), 8 ∣ (k0_mult43 v350).toNat := fun i v0 v28 v350 k0_hw23 k0_h1 k0_h4 => k0_hw23.1 k0_h1 k0_h4
theorem k0_off90_inb : ∀ (i : grid0.Coords) (v0 : BitVec 32) (v28 : BitVec 32) (v350 : BitVec 32) (k0_hw23 : k0_chk23 i v0 v28 v350), ∀ (k0_h1 : k0_cond1 i v0 = 1#1), ∀ (k0_h4 : k0_cond4 i v28 = 1#1), ∀ a, (k0_off90 v350) a + S8x128.size a ≤ S262144x128.size a := fun i v0 v28 v350 k0_hw23 k0_h1 k0_h4 => k0_hw23.2 k0_h1 k0_h4

def k0_off91 (i : grid0.Coords) : Fin 1 → Nat :=
  let arg1 : BitVec 32 := BitVec.ofNat 32 (i 1).val
  let c256_i32_165 : BitVec 32 := 256#32
  let v360 : BitVec 32 := Scalar.muli arg1 c256_i32_165
  let c21_i32 : BitVec 32 := 21#32
  let v361 : BitVec 32 := Scalar.addi v360 c21_i32
  let v363 : Index := Scalar.indexCast v361
  ![v363.toNat]
def k0_mult45 (v364 : BitVec 32) : BitVec 32 :=
  let c8_i32_167 : BitVec 32 := 8#32
  let v365 : BitVec 32 := Scalar.muli v364 c8_i32_167
  v365

def k0_mult46 (i : grid0.Coords) : BitVec 32 :=
  let arg1 : BitVec 32 := BitVec.ofNat 32 (i 1).val
  let c256_i32_165 : BitVec 32 := 256#32
  let v360 : BitVec 32 := Scalar.muli arg1 c256_i32_165
  let c21_i32 : BitVec 32 := 21#32
  let v361 : BitVec 32 := Scalar.addi v360 c21_i32
  let c8_i32_168 : BitVec 32 := 8#32
  let v367 : BitVec 32 := Scalar.muli v361 c8_i32_168
  v367
def k0_off92 (i : grid0.Coords) : Fin 1 → Nat :=
  let c1_i32_166 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v362 : BitVec 32 := Scalar.subi c1_i32_166 v11
  ![v362.toNat]
def k0_off93 (i : grid0.Coords) : Fin 3 → Nat :=
  let c1_i32_166 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v362 : BitVec 32 := Scalar.subi c1_i32_166 v11
  let arg1 : BitVec 32 := BitVec.ofNat 32 (i 1).val
  let c256_i32_165 : BitVec 32 := 256#32
  let v360 : BitVec 32 := Scalar.muli arg1 c256_i32_165
  let c21_i32 : BitVec 32 := 21#32
  let v361 : BitVec 32 := Scalar.addi v360 c21_i32
  let c8_i32_168 : BitVec 32 := 8#32
  let v367 : BitVec 32 := Scalar.muli v361 c8_i32_168
  let v368 : BitVec 32 := v367
  let c0_i32_169 : BitVec 32 := 0#32
  ![v362.toNat, v368.toNat, 0]
def k0_off94 (v364 : BitVec 32) : Fin 2 → Nat :=
  let c8_i32_167 : BitVec 32 := 8#32
  let v365 : BitVec 32 := Scalar.muli v364 c8_i32_167
  let v366 : BitVec 32 := v365
  let c0_i32_170 : BitVec 32 := 0#32
  ![v366.toNat, 0]

def k0_chk24 (i : grid0.Coords) (v0 : BitVec 32) (v28 : BitVec 32) (v364 : BitVec 32) : Prop :=
  (∀ (k0_h1 : k0_cond1 i v0 = 1#1), ∀ (k0_h4 : k0_cond4 i v28 = 1#1), 8 ∣ (k0_mult45 v364).toNat) ∧
  (∀ (k0_h1 : k0_cond1 i v0 = 1#1), ∀ (k0_h4 : k0_cond4 i v28 = 1#1), ∀ a, (k0_off94 v364) a + S8x128.size a ≤ S262144x128.size a)
theorem k0_mult45_dvd : ∀ (i : grid0.Coords) (v0 : BitVec 32) (v28 : BitVec 32) (v364 : BitVec 32) (k0_hw24 : k0_chk24 i v0 v28 v364), ∀ (k0_h1 : k0_cond1 i v0 = 1#1), ∀ (k0_h4 : k0_cond4 i v28 = 1#1), 8 ∣ (k0_mult45 v364).toNat := fun i v0 v28 v364 k0_hw24 k0_h1 k0_h4 => k0_hw24.1 k0_h1 k0_h4
theorem k0_off94_inb : ∀ (i : grid0.Coords) (v0 : BitVec 32) (v28 : BitVec 32) (v364 : BitVec 32) (k0_hw24 : k0_chk24 i v0 v28 v364), ∀ (k0_h1 : k0_cond1 i v0 = 1#1), ∀ (k0_h4 : k0_cond4 i v28 = 1#1), ∀ a, (k0_off94 v364) a + S8x128.size a ≤ S262144x128.size a := fun i v0 v28 v364 k0_hw24 k0_h1 k0_h4 => k0_hw24.2 k0_h1 k0_h4

def k0_off95 (i : grid0.Coords) : Fin 1 → Nat :=
  let arg1 : BitVec 32 := BitVec.ofNat 32 (i 1).val
  let c256_i32_171 : BitVec 32 := 256#32
  let v374 : BitVec 32 := Scalar.muli arg1 c256_i32_171
  let c22_i32 : BitVec 32 := 22#32
  let v375 : BitVec 32 := Scalar.addi v374 c22_i32
  let v377 : Index := Scalar.indexCast v375
  ![v377.toNat]
def k0_mult47 (v378 : BitVec 32) : BitVec 32 :=
  let c8_i32_173 : BitVec 32 := 8#32
  let v379 : BitVec 32 := Scalar.muli v378 c8_i32_173
  v379

def k0_mult48 (i : grid0.Coords) : BitVec 32 :=
  let arg1 : BitVec 32 := BitVec.ofNat 32 (i 1).val
  let c256_i32_171 : BitVec 32 := 256#32
  let v374 : BitVec 32 := Scalar.muli arg1 c256_i32_171
  let c22_i32 : BitVec 32 := 22#32
  let v375 : BitVec 32 := Scalar.addi v374 c22_i32
  let c8_i32_174 : BitVec 32 := 8#32
  let v381 : BitVec 32 := Scalar.muli v375 c8_i32_174
  v381
def k0_off96 (i : grid0.Coords) : Fin 1 → Nat :=
  let c1_i32_172 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v376 : BitVec 32 := Scalar.subi c1_i32_172 v11
  ![v376.toNat]
def k0_off97 (i : grid0.Coords) : Fin 3 → Nat :=
  let c1_i32_172 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v376 : BitVec 32 := Scalar.subi c1_i32_172 v11
  let arg1 : BitVec 32 := BitVec.ofNat 32 (i 1).val
  let c256_i32_171 : BitVec 32 := 256#32
  let v374 : BitVec 32 := Scalar.muli arg1 c256_i32_171
  let c22_i32 : BitVec 32 := 22#32
  let v375 : BitVec 32 := Scalar.addi v374 c22_i32
  let c8_i32_174 : BitVec 32 := 8#32
  let v381 : BitVec 32 := Scalar.muli v375 c8_i32_174
  let v382 : BitVec 32 := v381
  let c0_i32_175 : BitVec 32 := 0#32
  ![v376.toNat, v382.toNat, 0]
def k0_off98 (v378 : BitVec 32) : Fin 2 → Nat :=
  let c8_i32_173 : BitVec 32 := 8#32
  let v379 : BitVec 32 := Scalar.muli v378 c8_i32_173
  let v380 : BitVec 32 := v379
  let c0_i32_176 : BitVec 32 := 0#32
  ![v380.toNat, 0]

def k0_chk25 (i : grid0.Coords) (v0 : BitVec 32) (v28 : BitVec 32) (v378 : BitVec 32) : Prop :=
  (∀ (k0_h1 : k0_cond1 i v0 = 1#1), ∀ (k0_h4 : k0_cond4 i v28 = 1#1), 8 ∣ (k0_mult47 v378).toNat) ∧
  (∀ (k0_h1 : k0_cond1 i v0 = 1#1), ∀ (k0_h4 : k0_cond4 i v28 = 1#1), ∀ a, (k0_off98 v378) a + S8x128.size a ≤ S262144x128.size a)
theorem k0_mult47_dvd : ∀ (i : grid0.Coords) (v0 : BitVec 32) (v28 : BitVec 32) (v378 : BitVec 32) (k0_hw25 : k0_chk25 i v0 v28 v378), ∀ (k0_h1 : k0_cond1 i v0 = 1#1), ∀ (k0_h4 : k0_cond4 i v28 = 1#1), 8 ∣ (k0_mult47 v378).toNat := fun i v0 v28 v378 k0_hw25 k0_h1 k0_h4 => k0_hw25.1 k0_h1 k0_h4
theorem k0_off98_inb : ∀ (i : grid0.Coords) (v0 : BitVec 32) (v28 : BitVec 32) (v378 : BitVec 32) (k0_hw25 : k0_chk25 i v0 v28 v378), ∀ (k0_h1 : k0_cond1 i v0 = 1#1), ∀ (k0_h4 : k0_cond4 i v28 = 1#1), ∀ a, (k0_off98 v378) a + S8x128.size a ≤ S262144x128.size a := fun i v0 v28 v378 k0_hw25 k0_h1 k0_h4 => k0_hw25.2 k0_h1 k0_h4

def k0_off99 (i : grid0.Coords) : Fin 1 → Nat :=
  let arg1 : BitVec 32 := BitVec.ofNat 32 (i 1).val
  let c256_i32_177 : BitVec 32 := 256#32
  let v388 : BitVec 32 := Scalar.muli arg1 c256_i32_177
  let c23_i32 : BitVec 32 := 23#32
  let v389 : BitVec 32 := Scalar.addi v388 c23_i32
  let v391 : Index := Scalar.indexCast v389
  ![v391.toNat]
def k0_mult49 (v392 : BitVec 32) : BitVec 32 :=
  let c8_i32_179 : BitVec 32 := 8#32
  let v393 : BitVec 32 := Scalar.muli v392 c8_i32_179
  v393

def k0_mult50 (i : grid0.Coords) : BitVec 32 :=
  let arg1 : BitVec 32 := BitVec.ofNat 32 (i 1).val
  let c256_i32_177 : BitVec 32 := 256#32
  let v388 : BitVec 32 := Scalar.muli arg1 c256_i32_177
  let c23_i32 : BitVec 32 := 23#32
  let v389 : BitVec 32 := Scalar.addi v388 c23_i32
  let c8_i32_180 : BitVec 32 := 8#32
  let v395 : BitVec 32 := Scalar.muli v389 c8_i32_180
  v395
def k0_off100 (i : grid0.Coords) : Fin 1 → Nat :=
  let c1_i32_178 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v390 : BitVec 32 := Scalar.subi c1_i32_178 v11
  ![v390.toNat]
def k0_off101 (i : grid0.Coords) : Fin 3 → Nat :=
  let c1_i32_178 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v390 : BitVec 32 := Scalar.subi c1_i32_178 v11
  let arg1 : BitVec 32 := BitVec.ofNat 32 (i 1).val
  let c256_i32_177 : BitVec 32 := 256#32
  let v388 : BitVec 32 := Scalar.muli arg1 c256_i32_177
  let c23_i32 : BitVec 32 := 23#32
  let v389 : BitVec 32 := Scalar.addi v388 c23_i32
  let c8_i32_180 : BitVec 32 := 8#32
  let v395 : BitVec 32 := Scalar.muli v389 c8_i32_180
  let v396 : BitVec 32 := v395
  let c0_i32_181 : BitVec 32 := 0#32
  ![v390.toNat, v396.toNat, 0]
def k0_off102 (v392 : BitVec 32) : Fin 2 → Nat :=
  let c8_i32_179 : BitVec 32 := 8#32
  let v393 : BitVec 32 := Scalar.muli v392 c8_i32_179
  let v394 : BitVec 32 := v393
  let c0_i32_182 : BitVec 32 := 0#32
  ![v394.toNat, 0]

def k0_chk26 (i : grid0.Coords) (v0 : BitVec 32) (v28 : BitVec 32) (v392 : BitVec 32) : Prop :=
  (∀ (k0_h1 : k0_cond1 i v0 = 1#1), ∀ (k0_h4 : k0_cond4 i v28 = 1#1), 8 ∣ (k0_mult49 v392).toNat) ∧
  (∀ (k0_h1 : k0_cond1 i v0 = 1#1), ∀ (k0_h4 : k0_cond4 i v28 = 1#1), ∀ a, (k0_off102 v392) a + S8x128.size a ≤ S262144x128.size a)
theorem k0_mult49_dvd : ∀ (i : grid0.Coords) (v0 : BitVec 32) (v28 : BitVec 32) (v392 : BitVec 32) (k0_hw26 : k0_chk26 i v0 v28 v392), ∀ (k0_h1 : k0_cond1 i v0 = 1#1), ∀ (k0_h4 : k0_cond4 i v28 = 1#1), 8 ∣ (k0_mult49 v392).toNat := fun i v0 v28 v392 k0_hw26 k0_h1 k0_h4 => k0_hw26.1 k0_h1 k0_h4
theorem k0_off102_inb : ∀ (i : grid0.Coords) (v0 : BitVec 32) (v28 : BitVec 32) (v392 : BitVec 32) (k0_hw26 : k0_chk26 i v0 v28 v392), ∀ (k0_h1 : k0_cond1 i v0 = 1#1), ∀ (k0_h4 : k0_cond4 i v28 = 1#1), ∀ a, (k0_off102 v392) a + S8x128.size a ≤ S262144x128.size a := fun i v0 v28 v392 k0_hw26 k0_h1 k0_h4 => k0_hw26.2 k0_h1 k0_h4

def k0_off103 (i : grid0.Coords) : Fin 1 → Nat :=
  let arg1 : BitVec 32 := BitVec.ofNat 32 (i 1).val
  let c256_i32_183 : BitVec 32 := 256#32
  let v402 : BitVec 32 := Scalar.muli arg1 c256_i32_183
  let c24_i32 : BitVec 32 := 24#32
  let v403 : BitVec 32 := Scalar.addi v402 c24_i32
  let v405 : Index := Scalar.indexCast v403
  ![v405.toNat]
def k0_mult51 (v406 : BitVec 32) : BitVec 32 :=
  let c8_i32_185 : BitVec 32 := 8#32
  let v407 : BitVec 32 := Scalar.muli v406 c8_i32_185
  v407

def k0_mult52 (i : grid0.Coords) : BitVec 32 :=
  let arg1 : BitVec 32 := BitVec.ofNat 32 (i 1).val
  let c256_i32_183 : BitVec 32 := 256#32
  let v402 : BitVec 32 := Scalar.muli arg1 c256_i32_183
  let c24_i32 : BitVec 32 := 24#32
  let v403 : BitVec 32 := Scalar.addi v402 c24_i32
  let c8_i32_186 : BitVec 32 := 8#32
  let v409 : BitVec 32 := Scalar.muli v403 c8_i32_186
  v409
def k0_off104 (i : grid0.Coords) : Fin 1 → Nat :=
  let c1_i32_184 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v404 : BitVec 32 := Scalar.subi c1_i32_184 v11
  ![v404.toNat]
def k0_off105 (i : grid0.Coords) : Fin 3 → Nat :=
  let c1_i32_184 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v404 : BitVec 32 := Scalar.subi c1_i32_184 v11
  let arg1 : BitVec 32 := BitVec.ofNat 32 (i 1).val
  let c256_i32_183 : BitVec 32 := 256#32
  let v402 : BitVec 32 := Scalar.muli arg1 c256_i32_183
  let c24_i32 : BitVec 32 := 24#32
  let v403 : BitVec 32 := Scalar.addi v402 c24_i32
  let c8_i32_186 : BitVec 32 := 8#32
  let v409 : BitVec 32 := Scalar.muli v403 c8_i32_186
  let v410 : BitVec 32 := v409
  let c0_i32_187 : BitVec 32 := 0#32
  ![v404.toNat, v410.toNat, 0]
def k0_off106 (v406 : BitVec 32) : Fin 2 → Nat :=
  let c8_i32_185 : BitVec 32 := 8#32
  let v407 : BitVec 32 := Scalar.muli v406 c8_i32_185
  let v408 : BitVec 32 := v407
  let c0_i32_188 : BitVec 32 := 0#32
  ![v408.toNat, 0]

def k0_chk27 (i : grid0.Coords) (v0 : BitVec 32) (v28 : BitVec 32) (v406 : BitVec 32) : Prop :=
  (∀ (k0_h1 : k0_cond1 i v0 = 1#1), ∀ (k0_h4 : k0_cond4 i v28 = 1#1), 8 ∣ (k0_mult51 v406).toNat) ∧
  (∀ (k0_h1 : k0_cond1 i v0 = 1#1), ∀ (k0_h4 : k0_cond4 i v28 = 1#1), ∀ a, (k0_off106 v406) a + S8x128.size a ≤ S262144x128.size a)
theorem k0_mult51_dvd : ∀ (i : grid0.Coords) (v0 : BitVec 32) (v28 : BitVec 32) (v406 : BitVec 32) (k0_hw27 : k0_chk27 i v0 v28 v406), ∀ (k0_h1 : k0_cond1 i v0 = 1#1), ∀ (k0_h4 : k0_cond4 i v28 = 1#1), 8 ∣ (k0_mult51 v406).toNat := fun i v0 v28 v406 k0_hw27 k0_h1 k0_h4 => k0_hw27.1 k0_h1 k0_h4
theorem k0_off106_inb : ∀ (i : grid0.Coords) (v0 : BitVec 32) (v28 : BitVec 32) (v406 : BitVec 32) (k0_hw27 : k0_chk27 i v0 v28 v406), ∀ (k0_h1 : k0_cond1 i v0 = 1#1), ∀ (k0_h4 : k0_cond4 i v28 = 1#1), ∀ a, (k0_off106 v406) a + S8x128.size a ≤ S262144x128.size a := fun i v0 v28 v406 k0_hw27 k0_h1 k0_h4 => k0_hw27.2 k0_h1 k0_h4

def k0_off107 (i : grid0.Coords) : Fin 1 → Nat :=
  let arg1 : BitVec 32 := BitVec.ofNat 32 (i 1).val
  let c256_i32_189 : BitVec 32 := 256#32
  let v416 : BitVec 32 := Scalar.muli arg1 c256_i32_189
  let c25_i32 : BitVec 32 := 25#32
  let v417 : BitVec 32 := Scalar.addi v416 c25_i32
  let v419 : Index := Scalar.indexCast v417
  ![v419.toNat]
def k0_mult53 (v420 : BitVec 32) : BitVec 32 :=
  let c8_i32_191 : BitVec 32 := 8#32
  let v421 : BitVec 32 := Scalar.muli v420 c8_i32_191
  v421

def k0_mult54 (i : grid0.Coords) : BitVec 32 :=
  let arg1 : BitVec 32 := BitVec.ofNat 32 (i 1).val
  let c256_i32_189 : BitVec 32 := 256#32
  let v416 : BitVec 32 := Scalar.muli arg1 c256_i32_189
  let c25_i32 : BitVec 32 := 25#32
  let v417 : BitVec 32 := Scalar.addi v416 c25_i32
  let c8_i32_192 : BitVec 32 := 8#32
  let v423 : BitVec 32 := Scalar.muli v417 c8_i32_192
  v423
def k0_off108 (i : grid0.Coords) : Fin 1 → Nat :=
  let c1_i32_190 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v418 : BitVec 32 := Scalar.subi c1_i32_190 v11
  ![v418.toNat]
def k0_off109 (i : grid0.Coords) : Fin 3 → Nat :=
  let c1_i32_190 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v418 : BitVec 32 := Scalar.subi c1_i32_190 v11
  let arg1 : BitVec 32 := BitVec.ofNat 32 (i 1).val
  let c256_i32_189 : BitVec 32 := 256#32
  let v416 : BitVec 32 := Scalar.muli arg1 c256_i32_189
  let c25_i32 : BitVec 32 := 25#32
  let v417 : BitVec 32 := Scalar.addi v416 c25_i32
  let c8_i32_192 : BitVec 32 := 8#32
  let v423 : BitVec 32 := Scalar.muli v417 c8_i32_192
  let v424 : BitVec 32 := v423
  let c0_i32_193 : BitVec 32 := 0#32
  ![v418.toNat, v424.toNat, 0]
def k0_off110 (v420 : BitVec 32) : Fin 2 → Nat :=
  let c8_i32_191 : BitVec 32 := 8#32
  let v421 : BitVec 32 := Scalar.muli v420 c8_i32_191
  let v422 : BitVec 32 := v421
  let c0_i32_194 : BitVec 32 := 0#32
  ![v422.toNat, 0]

def k0_chk28 (i : grid0.Coords) (v0 : BitVec 32) (v28 : BitVec 32) (v420 : BitVec 32) : Prop :=
  (∀ (k0_h1 : k0_cond1 i v0 = 1#1), ∀ (k0_h4 : k0_cond4 i v28 = 1#1), 8 ∣ (k0_mult53 v420).toNat) ∧
  (∀ (k0_h1 : k0_cond1 i v0 = 1#1), ∀ (k0_h4 : k0_cond4 i v28 = 1#1), ∀ a, (k0_off110 v420) a + S8x128.size a ≤ S262144x128.size a)
theorem k0_mult53_dvd : ∀ (i : grid0.Coords) (v0 : BitVec 32) (v28 : BitVec 32) (v420 : BitVec 32) (k0_hw28 : k0_chk28 i v0 v28 v420), ∀ (k0_h1 : k0_cond1 i v0 = 1#1), ∀ (k0_h4 : k0_cond4 i v28 = 1#1), 8 ∣ (k0_mult53 v420).toNat := fun i v0 v28 v420 k0_hw28 k0_h1 k0_h4 => k0_hw28.1 k0_h1 k0_h4
theorem k0_off110_inb : ∀ (i : grid0.Coords) (v0 : BitVec 32) (v28 : BitVec 32) (v420 : BitVec 32) (k0_hw28 : k0_chk28 i v0 v28 v420), ∀ (k0_h1 : k0_cond1 i v0 = 1#1), ∀ (k0_h4 : k0_cond4 i v28 = 1#1), ∀ a, (k0_off110 v420) a + S8x128.size a ≤ S262144x128.size a := fun i v0 v28 v420 k0_hw28 k0_h1 k0_h4 => k0_hw28.2 k0_h1 k0_h4

def k0_off111 (i : grid0.Coords) : Fin 1 → Nat :=
  let arg1 : BitVec 32 := BitVec.ofNat 32 (i 1).val
  let c256_i32_195 : BitVec 32 := 256#32
  let v430 : BitVec 32 := Scalar.muli arg1 c256_i32_195
  let c26_i32 : BitVec 32 := 26#32
  let v431 : BitVec 32 := Scalar.addi v430 c26_i32
  let v433 : Index := Scalar.indexCast v431
  ![v433.toNat]
def k0_mult55 (v434 : BitVec 32) : BitVec 32 :=
  let c8_i32_197 : BitVec 32 := 8#32
  let v435 : BitVec 32 := Scalar.muli v434 c8_i32_197
  v435

def k0_mult56 (i : grid0.Coords) : BitVec 32 :=
  let arg1 : BitVec 32 := BitVec.ofNat 32 (i 1).val
  let c256_i32_195 : BitVec 32 := 256#32
  let v430 : BitVec 32 := Scalar.muli arg1 c256_i32_195
  let c26_i32 : BitVec 32 := 26#32
  let v431 : BitVec 32 := Scalar.addi v430 c26_i32
  let c8_i32_198 : BitVec 32 := 8#32
  let v437 : BitVec 32 := Scalar.muli v431 c8_i32_198
  v437
def k0_off112 (i : grid0.Coords) : Fin 1 → Nat :=
  let c1_i32_196 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v432 : BitVec 32 := Scalar.subi c1_i32_196 v11
  ![v432.toNat]
def k0_off113 (i : grid0.Coords) : Fin 3 → Nat :=
  let c1_i32_196 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v432 : BitVec 32 := Scalar.subi c1_i32_196 v11
  let arg1 : BitVec 32 := BitVec.ofNat 32 (i 1).val
  let c256_i32_195 : BitVec 32 := 256#32
  let v430 : BitVec 32 := Scalar.muli arg1 c256_i32_195
  let c26_i32 : BitVec 32 := 26#32
  let v431 : BitVec 32 := Scalar.addi v430 c26_i32
  let c8_i32_198 : BitVec 32 := 8#32
  let v437 : BitVec 32 := Scalar.muli v431 c8_i32_198
  let v438 : BitVec 32 := v437
  let c0_i32_199 : BitVec 32 := 0#32
  ![v432.toNat, v438.toNat, 0]
def k0_off114 (v434 : BitVec 32) : Fin 2 → Nat :=
  let c8_i32_197 : BitVec 32 := 8#32
  let v435 : BitVec 32 := Scalar.muli v434 c8_i32_197
  let v436 : BitVec 32 := v435
  let c0_i32_200 : BitVec 32 := 0#32
  ![v436.toNat, 0]

def k0_chk29 (i : grid0.Coords) (v0 : BitVec 32) (v28 : BitVec 32) (v434 : BitVec 32) : Prop :=
  (∀ (k0_h1 : k0_cond1 i v0 = 1#1), ∀ (k0_h4 : k0_cond4 i v28 = 1#1), 8 ∣ (k0_mult55 v434).toNat) ∧
  (∀ (k0_h1 : k0_cond1 i v0 = 1#1), ∀ (k0_h4 : k0_cond4 i v28 = 1#1), ∀ a, (k0_off114 v434) a + S8x128.size a ≤ S262144x128.size a)
theorem k0_mult55_dvd : ∀ (i : grid0.Coords) (v0 : BitVec 32) (v28 : BitVec 32) (v434 : BitVec 32) (k0_hw29 : k0_chk29 i v0 v28 v434), ∀ (k0_h1 : k0_cond1 i v0 = 1#1), ∀ (k0_h4 : k0_cond4 i v28 = 1#1), 8 ∣ (k0_mult55 v434).toNat := fun i v0 v28 v434 k0_hw29 k0_h1 k0_h4 => k0_hw29.1 k0_h1 k0_h4
theorem k0_off114_inb : ∀ (i : grid0.Coords) (v0 : BitVec 32) (v28 : BitVec 32) (v434 : BitVec 32) (k0_hw29 : k0_chk29 i v0 v28 v434), ∀ (k0_h1 : k0_cond1 i v0 = 1#1), ∀ (k0_h4 : k0_cond4 i v28 = 1#1), ∀ a, (k0_off114 v434) a + S8x128.size a ≤ S262144x128.size a := fun i v0 v28 v434 k0_hw29 k0_h1 k0_h4 => k0_hw29.2 k0_h1 k0_h4

def k0_off115 (i : grid0.Coords) : Fin 1 → Nat :=
  let arg1 : BitVec 32 := BitVec.ofNat 32 (i 1).val
  let c256_i32_201 : BitVec 32 := 256#32
  let v444 : BitVec 32 := Scalar.muli arg1 c256_i32_201
  let c27_i32 : BitVec 32 := 27#32
  let v445 : BitVec 32 := Scalar.addi v444 c27_i32
  let v447 : Index := Scalar.indexCast v445
  ![v447.toNat]
def k0_mult57 (v448 : BitVec 32) : BitVec 32 :=
  let c8_i32_203 : BitVec 32 := 8#32
  let v449 : BitVec 32 := Scalar.muli v448 c8_i32_203
  v449

def k0_mult58 (i : grid0.Coords) : BitVec 32 :=
  let arg1 : BitVec 32 := BitVec.ofNat 32 (i 1).val
  let c256_i32_201 : BitVec 32 := 256#32
  let v444 : BitVec 32 := Scalar.muli arg1 c256_i32_201
  let c27_i32 : BitVec 32 := 27#32
  let v445 : BitVec 32 := Scalar.addi v444 c27_i32
  let c8_i32_204 : BitVec 32 := 8#32
  let v451 : BitVec 32 := Scalar.muli v445 c8_i32_204
  v451
def k0_off116 (i : grid0.Coords) : Fin 1 → Nat :=
  let c1_i32_202 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v446 : BitVec 32 := Scalar.subi c1_i32_202 v11
  ![v446.toNat]
def k0_off117 (i : grid0.Coords) : Fin 3 → Nat :=
  let c1_i32_202 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v446 : BitVec 32 := Scalar.subi c1_i32_202 v11
  let arg1 : BitVec 32 := BitVec.ofNat 32 (i 1).val
  let c256_i32_201 : BitVec 32 := 256#32
  let v444 : BitVec 32 := Scalar.muli arg1 c256_i32_201
  let c27_i32 : BitVec 32 := 27#32
  let v445 : BitVec 32 := Scalar.addi v444 c27_i32
  let c8_i32_204 : BitVec 32 := 8#32
  let v451 : BitVec 32 := Scalar.muli v445 c8_i32_204
  let v452 : BitVec 32 := v451
  let c0_i32_205 : BitVec 32 := 0#32
  ![v446.toNat, v452.toNat, 0]
def k0_off118 (v448 : BitVec 32) : Fin 2 → Nat :=
  let c8_i32_203 : BitVec 32 := 8#32
  let v449 : BitVec 32 := Scalar.muli v448 c8_i32_203
  let v450 : BitVec 32 := v449
  let c0_i32_206 : BitVec 32 := 0#32
  ![v450.toNat, 0]

def k0_chk30 (i : grid0.Coords) (v0 : BitVec 32) (v28 : BitVec 32) (v448 : BitVec 32) : Prop :=
  (∀ (k0_h1 : k0_cond1 i v0 = 1#1), ∀ (k0_h4 : k0_cond4 i v28 = 1#1), 8 ∣ (k0_mult57 v448).toNat) ∧
  (∀ (k0_h1 : k0_cond1 i v0 = 1#1), ∀ (k0_h4 : k0_cond4 i v28 = 1#1), ∀ a, (k0_off118 v448) a + S8x128.size a ≤ S262144x128.size a)
theorem k0_mult57_dvd : ∀ (i : grid0.Coords) (v0 : BitVec 32) (v28 : BitVec 32) (v448 : BitVec 32) (k0_hw30 : k0_chk30 i v0 v28 v448), ∀ (k0_h1 : k0_cond1 i v0 = 1#1), ∀ (k0_h4 : k0_cond4 i v28 = 1#1), 8 ∣ (k0_mult57 v448).toNat := fun i v0 v28 v448 k0_hw30 k0_h1 k0_h4 => k0_hw30.1 k0_h1 k0_h4
theorem k0_off118_inb : ∀ (i : grid0.Coords) (v0 : BitVec 32) (v28 : BitVec 32) (v448 : BitVec 32) (k0_hw30 : k0_chk30 i v0 v28 v448), ∀ (k0_h1 : k0_cond1 i v0 = 1#1), ∀ (k0_h4 : k0_cond4 i v28 = 1#1), ∀ a, (k0_off118 v448) a + S8x128.size a ≤ S262144x128.size a := fun i v0 v28 v448 k0_hw30 k0_h1 k0_h4 => k0_hw30.2 k0_h1 k0_h4

def k0_off119 (i : grid0.Coords) : Fin 1 → Nat :=
  let arg1 : BitVec 32 := BitVec.ofNat 32 (i 1).val
  let c256_i32_207 : BitVec 32 := 256#32
  let v458 : BitVec 32 := Scalar.muli arg1 c256_i32_207
  let c28_i32 : BitVec 32 := 28#32
  let v459 : BitVec 32 := Scalar.addi v458 c28_i32
  let v461 : Index := Scalar.indexCast v459
  ![v461.toNat]
def k0_mult59 (v462 : BitVec 32) : BitVec 32 :=
  let c8_i32_209 : BitVec 32 := 8#32
  let v463 : BitVec 32 := Scalar.muli v462 c8_i32_209
  v463

def k0_mult60 (i : grid0.Coords) : BitVec 32 :=
  let arg1 : BitVec 32 := BitVec.ofNat 32 (i 1).val
  let c256_i32_207 : BitVec 32 := 256#32
  let v458 : BitVec 32 := Scalar.muli arg1 c256_i32_207
  let c28_i32 : BitVec 32 := 28#32
  let v459 : BitVec 32 := Scalar.addi v458 c28_i32
  let c8_i32_210 : BitVec 32 := 8#32
  let v465 : BitVec 32 := Scalar.muli v459 c8_i32_210
  v465
def k0_off120 (i : grid0.Coords) : Fin 1 → Nat :=
  let c1_i32_208 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v460 : BitVec 32 := Scalar.subi c1_i32_208 v11
  ![v460.toNat]
def k0_off121 (i : grid0.Coords) : Fin 3 → Nat :=
  let c1_i32_208 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v460 : BitVec 32 := Scalar.subi c1_i32_208 v11
  let arg1 : BitVec 32 := BitVec.ofNat 32 (i 1).val
  let c256_i32_207 : BitVec 32 := 256#32
  let v458 : BitVec 32 := Scalar.muli arg1 c256_i32_207
  let c28_i32 : BitVec 32 := 28#32
  let v459 : BitVec 32 := Scalar.addi v458 c28_i32
  let c8_i32_210 : BitVec 32 := 8#32
  let v465 : BitVec 32 := Scalar.muli v459 c8_i32_210
  let v466 : BitVec 32 := v465
  let c0_i32_211 : BitVec 32 := 0#32
  ![v460.toNat, v466.toNat, 0]
def k0_off122 (v462 : BitVec 32) : Fin 2 → Nat :=
  let c8_i32_209 : BitVec 32 := 8#32
  let v463 : BitVec 32 := Scalar.muli v462 c8_i32_209
  let v464 : BitVec 32 := v463
  let c0_i32_212 : BitVec 32 := 0#32
  ![v464.toNat, 0]

def k0_chk31 (i : grid0.Coords) (v0 : BitVec 32) (v28 : BitVec 32) (v462 : BitVec 32) : Prop :=
  (∀ (k0_h1 : k0_cond1 i v0 = 1#1), ∀ (k0_h4 : k0_cond4 i v28 = 1#1), 8 ∣ (k0_mult59 v462).toNat) ∧
  (∀ (k0_h1 : k0_cond1 i v0 = 1#1), ∀ (k0_h4 : k0_cond4 i v28 = 1#1), ∀ a, (k0_off122 v462) a + S8x128.size a ≤ S262144x128.size a)
theorem k0_mult59_dvd : ∀ (i : grid0.Coords) (v0 : BitVec 32) (v28 : BitVec 32) (v462 : BitVec 32) (k0_hw31 : k0_chk31 i v0 v28 v462), ∀ (k0_h1 : k0_cond1 i v0 = 1#1), ∀ (k0_h4 : k0_cond4 i v28 = 1#1), 8 ∣ (k0_mult59 v462).toNat := fun i v0 v28 v462 k0_hw31 k0_h1 k0_h4 => k0_hw31.1 k0_h1 k0_h4
theorem k0_off122_inb : ∀ (i : grid0.Coords) (v0 : BitVec 32) (v28 : BitVec 32) (v462 : BitVec 32) (k0_hw31 : k0_chk31 i v0 v28 v462), ∀ (k0_h1 : k0_cond1 i v0 = 1#1), ∀ (k0_h4 : k0_cond4 i v28 = 1#1), ∀ a, (k0_off122 v462) a + S8x128.size a ≤ S262144x128.size a := fun i v0 v28 v462 k0_hw31 k0_h1 k0_h4 => k0_hw31.2 k0_h1 k0_h4

def k0_off123 (i : grid0.Coords) : Fin 1 → Nat :=
  let arg1 : BitVec 32 := BitVec.ofNat 32 (i 1).val
  let c256_i32_213 : BitVec 32 := 256#32
  let v472 : BitVec 32 := Scalar.muli arg1 c256_i32_213
  let c29_i32 : BitVec 32 := 29#32
  let v473 : BitVec 32 := Scalar.addi v472 c29_i32
  let v475 : Index := Scalar.indexCast v473
  ![v475.toNat]
def k0_mult61 (v476 : BitVec 32) : BitVec 32 :=
  let c8_i32_215 : BitVec 32 := 8#32
  let v477 : BitVec 32 := Scalar.muli v476 c8_i32_215
  v477

def k0_mult62 (i : grid0.Coords) : BitVec 32 :=
  let arg1 : BitVec 32 := BitVec.ofNat 32 (i 1).val
  let c256_i32_213 : BitVec 32 := 256#32
  let v472 : BitVec 32 := Scalar.muli arg1 c256_i32_213
  let c29_i32 : BitVec 32 := 29#32
  let v473 : BitVec 32 := Scalar.addi v472 c29_i32
  let c8_i32_216 : BitVec 32 := 8#32
  let v479 : BitVec 32 := Scalar.muli v473 c8_i32_216
  v479
def k0_off124 (i : grid0.Coords) : Fin 1 → Nat :=
  let c1_i32_214 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v474 : BitVec 32 := Scalar.subi c1_i32_214 v11
  ![v474.toNat]
def k0_off125 (i : grid0.Coords) : Fin 3 → Nat :=
  let c1_i32_214 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v474 : BitVec 32 := Scalar.subi c1_i32_214 v11
  let arg1 : BitVec 32 := BitVec.ofNat 32 (i 1).val
  let c256_i32_213 : BitVec 32 := 256#32
  let v472 : BitVec 32 := Scalar.muli arg1 c256_i32_213
  let c29_i32 : BitVec 32 := 29#32
  let v473 : BitVec 32 := Scalar.addi v472 c29_i32
  let c8_i32_216 : BitVec 32 := 8#32
  let v479 : BitVec 32 := Scalar.muli v473 c8_i32_216
  let v480 : BitVec 32 := v479
  let c0_i32_217 : BitVec 32 := 0#32
  ![v474.toNat, v480.toNat, 0]
def k0_off126 (v476 : BitVec 32) : Fin 2 → Nat :=
  let c8_i32_215 : BitVec 32 := 8#32
  let v477 : BitVec 32 := Scalar.muli v476 c8_i32_215
  let v478 : BitVec 32 := v477
  let c0_i32_218 : BitVec 32 := 0#32
  ![v478.toNat, 0]

def k0_chk32 (i : grid0.Coords) (v0 : BitVec 32) (v28 : BitVec 32) (v476 : BitVec 32) : Prop :=
  (∀ (k0_h1 : k0_cond1 i v0 = 1#1), ∀ (k0_h4 : k0_cond4 i v28 = 1#1), 8 ∣ (k0_mult61 v476).toNat) ∧
  (∀ (k0_h1 : k0_cond1 i v0 = 1#1), ∀ (k0_h4 : k0_cond4 i v28 = 1#1), ∀ a, (k0_off126 v476) a + S8x128.size a ≤ S262144x128.size a)
theorem k0_mult61_dvd : ∀ (i : grid0.Coords) (v0 : BitVec 32) (v28 : BitVec 32) (v476 : BitVec 32) (k0_hw32 : k0_chk32 i v0 v28 v476), ∀ (k0_h1 : k0_cond1 i v0 = 1#1), ∀ (k0_h4 : k0_cond4 i v28 = 1#1), 8 ∣ (k0_mult61 v476).toNat := fun i v0 v28 v476 k0_hw32 k0_h1 k0_h4 => k0_hw32.1 k0_h1 k0_h4
theorem k0_off126_inb : ∀ (i : grid0.Coords) (v0 : BitVec 32) (v28 : BitVec 32) (v476 : BitVec 32) (k0_hw32 : k0_chk32 i v0 v28 v476), ∀ (k0_h1 : k0_cond1 i v0 = 1#1), ∀ (k0_h4 : k0_cond4 i v28 = 1#1), ∀ a, (k0_off126 v476) a + S8x128.size a ≤ S262144x128.size a := fun i v0 v28 v476 k0_hw32 k0_h1 k0_h4 => k0_hw32.2 k0_h1 k0_h4

def k0_off127 (i : grid0.Coords) : Fin 1 → Nat :=
  let arg1 : BitVec 32 := BitVec.ofNat 32 (i 1).val
  let c256_i32_219 : BitVec 32 := 256#32
  let v486 : BitVec 32 := Scalar.muli arg1 c256_i32_219
  let c30_i32 : BitVec 32 := 30#32
  let v487 : BitVec 32 := Scalar.addi v486 c30_i32
  let v489 : Index := Scalar.indexCast v487
  ![v489.toNat]
def k0_mult63 (v490 : BitVec 32) : BitVec 32 :=
  let c8_i32_221 : BitVec 32 := 8#32
  let v491 : BitVec 32 := Scalar.muli v490 c8_i32_221
  v491

def k0_mult64 (i : grid0.Coords) : BitVec 32 :=
  let arg1 : BitVec 32 := BitVec.ofNat 32 (i 1).val
  let c256_i32_219 : BitVec 32 := 256#32
  let v486 : BitVec 32 := Scalar.muli arg1 c256_i32_219
  let c30_i32 : BitVec 32 := 30#32
  let v487 : BitVec 32 := Scalar.addi v486 c30_i32
  let c8_i32_222 : BitVec 32 := 8#32
  let v493 : BitVec 32 := Scalar.muli v487 c8_i32_222
  v493
def k0_off128 (i : grid0.Coords) : Fin 1 → Nat :=
  let c1_i32_220 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v488 : BitVec 32 := Scalar.subi c1_i32_220 v11
  ![v488.toNat]
def k0_off129 (i : grid0.Coords) : Fin 3 → Nat :=
  let c1_i32_220 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v488 : BitVec 32 := Scalar.subi c1_i32_220 v11
  let arg1 : BitVec 32 := BitVec.ofNat 32 (i 1).val
  let c256_i32_219 : BitVec 32 := 256#32
  let v486 : BitVec 32 := Scalar.muli arg1 c256_i32_219
  let c30_i32 : BitVec 32 := 30#32
  let v487 : BitVec 32 := Scalar.addi v486 c30_i32
  let c8_i32_222 : BitVec 32 := 8#32
  let v493 : BitVec 32 := Scalar.muli v487 c8_i32_222
  let v494 : BitVec 32 := v493
  let c0_i32_223 : BitVec 32 := 0#32
  ![v488.toNat, v494.toNat, 0]
def k0_off130 (v490 : BitVec 32) : Fin 2 → Nat :=
  let c8_i32_221 : BitVec 32 := 8#32
  let v491 : BitVec 32 := Scalar.muli v490 c8_i32_221
  let v492 : BitVec 32 := v491
  let c0_i32_224 : BitVec 32 := 0#32
  ![v492.toNat, 0]

def k0_chk33 (i : grid0.Coords) (v0 : BitVec 32) (v28 : BitVec 32) (v490 : BitVec 32) : Prop :=
  (∀ (k0_h1 : k0_cond1 i v0 = 1#1), ∀ (k0_h4 : k0_cond4 i v28 = 1#1), 8 ∣ (k0_mult63 v490).toNat) ∧
  (∀ (k0_h1 : k0_cond1 i v0 = 1#1), ∀ (k0_h4 : k0_cond4 i v28 = 1#1), ∀ a, (k0_off130 v490) a + S8x128.size a ≤ S262144x128.size a)
theorem k0_mult63_dvd : ∀ (i : grid0.Coords) (v0 : BitVec 32) (v28 : BitVec 32) (v490 : BitVec 32) (k0_hw33 : k0_chk33 i v0 v28 v490), ∀ (k0_h1 : k0_cond1 i v0 = 1#1), ∀ (k0_h4 : k0_cond4 i v28 = 1#1), 8 ∣ (k0_mult63 v490).toNat := fun i v0 v28 v490 k0_hw33 k0_h1 k0_h4 => k0_hw33.1 k0_h1 k0_h4
theorem k0_off130_inb : ∀ (i : grid0.Coords) (v0 : BitVec 32) (v28 : BitVec 32) (v490 : BitVec 32) (k0_hw33 : k0_chk33 i v0 v28 v490), ∀ (k0_h1 : k0_cond1 i v0 = 1#1), ∀ (k0_h4 : k0_cond4 i v28 = 1#1), ∀ a, (k0_off130 v490) a + S8x128.size a ≤ S262144x128.size a := fun i v0 v28 v490 k0_hw33 k0_h1 k0_h4 => k0_hw33.2 k0_h1 k0_h4

def k0_off131 (i : grid0.Coords) : Fin 1 → Nat :=
  let arg1 : BitVec 32 := BitVec.ofNat 32 (i 1).val
  let c256_i32_225 : BitVec 32 := 256#32
  let v500 : BitVec 32 := Scalar.muli arg1 c256_i32_225
  let c31_i32 : BitVec 32 := 31#32
  let v501 : BitVec 32 := Scalar.addi v500 c31_i32
  let v503 : Index := Scalar.indexCast v501
  ![v503.toNat]
def k0_mult65 (v504 : BitVec 32) : BitVec 32 :=
  let c8_i32_227 : BitVec 32 := 8#32
  let v505 : BitVec 32 := Scalar.muli v504 c8_i32_227
  v505

def k0_mult66 (i : grid0.Coords) : BitVec 32 :=
  let arg1 : BitVec 32 := BitVec.ofNat 32 (i 1).val
  let c256_i32_225 : BitVec 32 := 256#32
  let v500 : BitVec 32 := Scalar.muli arg1 c256_i32_225
  let c31_i32 : BitVec 32 := 31#32
  let v501 : BitVec 32 := Scalar.addi v500 c31_i32
  let c8_i32_228 : BitVec 32 := 8#32
  let v507 : BitVec 32 := Scalar.muli v501 c8_i32_228
  v507
def k0_off132 (i : grid0.Coords) : Fin 1 → Nat :=
  let c1_i32_226 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v502 : BitVec 32 := Scalar.subi c1_i32_226 v11
  ![v502.toNat]
def k0_off133 (i : grid0.Coords) : Fin 3 → Nat :=
  let c1_i32_226 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v502 : BitVec 32 := Scalar.subi c1_i32_226 v11
  let arg1 : BitVec 32 := BitVec.ofNat 32 (i 1).val
  let c256_i32_225 : BitVec 32 := 256#32
  let v500 : BitVec 32 := Scalar.muli arg1 c256_i32_225
  let c31_i32 : BitVec 32 := 31#32
  let v501 : BitVec 32 := Scalar.addi v500 c31_i32
  let c8_i32_228 : BitVec 32 := 8#32
  let v507 : BitVec 32 := Scalar.muli v501 c8_i32_228
  let v508 : BitVec 32 := v507
  let c0_i32_229 : BitVec 32 := 0#32
  ![v502.toNat, v508.toNat, 0]
def k0_off134 (v504 : BitVec 32) : Fin 2 → Nat :=
  let c8_i32_227 : BitVec 32 := 8#32
  let v505 : BitVec 32 := Scalar.muli v504 c8_i32_227
  let v506 : BitVec 32 := v505
  let c0_i32_230 : BitVec 32 := 0#32
  ![v506.toNat, 0]

def k0_chk34 (i : grid0.Coords) (v0 : BitVec 32) (v28 : BitVec 32) (v504 : BitVec 32) : Prop :=
  (∀ (k0_h1 : k0_cond1 i v0 = 1#1), ∀ (k0_h4 : k0_cond4 i v28 = 1#1), 8 ∣ (k0_mult65 v504).toNat) ∧
  (∀ (k0_h1 : k0_cond1 i v0 = 1#1), ∀ (k0_h4 : k0_cond4 i v28 = 1#1), ∀ a, (k0_off134 v504) a + S8x128.size a ≤ S262144x128.size a)
theorem k0_mult65_dvd : ∀ (i : grid0.Coords) (v0 : BitVec 32) (v28 : BitVec 32) (v504 : BitVec 32) (k0_hw34 : k0_chk34 i v0 v28 v504), ∀ (k0_h1 : k0_cond1 i v0 = 1#1), ∀ (k0_h4 : k0_cond4 i v28 = 1#1), 8 ∣ (k0_mult65 v504).toNat := fun i v0 v28 v504 k0_hw34 k0_h1 k0_h4 => k0_hw34.1 k0_h1 k0_h4
theorem k0_off134_inb : ∀ (i : grid0.Coords) (v0 : BitVec 32) (v28 : BitVec 32) (v504 : BitVec 32) (k0_hw34 : k0_chk34 i v0 v28 v504), ∀ (k0_h1 : k0_cond1 i v0 = 1#1), ∀ (k0_h4 : k0_cond4 i v28 = 1#1), ∀ a, (k0_off134 v504) a + S8x128.size a ≤ S262144x128.size a := fun i v0 v28 v504 k0_hw34 k0_h1 k0_h4 => k0_hw34.2 k0_h1 k0_h4

def k0_off135 (i : grid0.Coords) : Fin 1 → Nat :=
  let arg1 : BitVec 32 := BitVec.ofNat 32 (i 1).val
  let c256_i32_231 : BitVec 32 := 256#32
  let v514 : BitVec 32 := Scalar.muli arg1 c256_i32_231
  let c32_i32 : BitVec 32 := 32#32
  let v515 : BitVec 32 := Scalar.addi v514 c32_i32
  let v517 : Index := Scalar.indexCast v515
  ![v517.toNat]
def k0_mult67 (v518 : BitVec 32) : BitVec 32 :=
  let c8_i32_233 : BitVec 32 := 8#32
  let v519 : BitVec 32 := Scalar.muli v518 c8_i32_233
  v519

def k0_mult68 (i : grid0.Coords) : BitVec 32 :=
  let arg1 : BitVec 32 := BitVec.ofNat 32 (i 1).val
  let c256_i32_231 : BitVec 32 := 256#32
  let v514 : BitVec 32 := Scalar.muli arg1 c256_i32_231
  let c32_i32 : BitVec 32 := 32#32
  let v515 : BitVec 32 := Scalar.addi v514 c32_i32
  let c8_i32_234 : BitVec 32 := 8#32
  let v521 : BitVec 32 := Scalar.muli v515 c8_i32_234
  v521
def k0_off136 (i : grid0.Coords) : Fin 1 → Nat :=
  let c1_i32_232 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v516 : BitVec 32 := Scalar.subi c1_i32_232 v11
  ![v516.toNat]
def k0_off137 (i : grid0.Coords) : Fin 3 → Nat :=
  let c1_i32_232 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v516 : BitVec 32 := Scalar.subi c1_i32_232 v11
  let arg1 : BitVec 32 := BitVec.ofNat 32 (i 1).val
  let c256_i32_231 : BitVec 32 := 256#32
  let v514 : BitVec 32 := Scalar.muli arg1 c256_i32_231
  let c32_i32 : BitVec 32 := 32#32
  let v515 : BitVec 32 := Scalar.addi v514 c32_i32
  let c8_i32_234 : BitVec 32 := 8#32
  let v521 : BitVec 32 := Scalar.muli v515 c8_i32_234
  let v522 : BitVec 32 := v521
  let c0_i32_235 : BitVec 32 := 0#32
  ![v516.toNat, v522.toNat, 0]
def k0_off138 (v518 : BitVec 32) : Fin 2 → Nat :=
  let c8_i32_233 : BitVec 32 := 8#32
  let v519 : BitVec 32 := Scalar.muli v518 c8_i32_233
  let v520 : BitVec 32 := v519
  let c0_i32_236 : BitVec 32 := 0#32
  ![v520.toNat, 0]

def k0_chk35 (i : grid0.Coords) (v0 : BitVec 32) (v28 : BitVec 32) (v518 : BitVec 32) : Prop :=
  (∀ (k0_h1 : k0_cond1 i v0 = 1#1), ∀ (k0_h4 : k0_cond4 i v28 = 1#1), 8 ∣ (k0_mult67 v518).toNat) ∧
  (∀ (k0_h1 : k0_cond1 i v0 = 1#1), ∀ (k0_h4 : k0_cond4 i v28 = 1#1), ∀ a, (k0_off138 v518) a + S8x128.size a ≤ S262144x128.size a)
theorem k0_mult67_dvd : ∀ (i : grid0.Coords) (v0 : BitVec 32) (v28 : BitVec 32) (v518 : BitVec 32) (k0_hw35 : k0_chk35 i v0 v28 v518), ∀ (k0_h1 : k0_cond1 i v0 = 1#1), ∀ (k0_h4 : k0_cond4 i v28 = 1#1), 8 ∣ (k0_mult67 v518).toNat := fun i v0 v28 v518 k0_hw35 k0_h1 k0_h4 => k0_hw35.1 k0_h1 k0_h4
theorem k0_off138_inb : ∀ (i : grid0.Coords) (v0 : BitVec 32) (v28 : BitVec 32) (v518 : BitVec 32) (k0_hw35 : k0_chk35 i v0 v28 v518), ∀ (k0_h1 : k0_cond1 i v0 = 1#1), ∀ (k0_h4 : k0_cond4 i v28 = 1#1), ∀ a, (k0_off138 v518) a + S8x128.size a ≤ S262144x128.size a := fun i v0 v28 v518 k0_hw35 k0_h1 k0_h4 => k0_hw35.2 k0_h1 k0_h4

def k0_off139 (i : grid0.Coords) : Fin 1 → Nat :=
  let arg1 : BitVec 32 := BitVec.ofNat 32 (i 1).val
  let c256_i32_237 : BitVec 32 := 256#32
  let v528 : BitVec 32 := Scalar.muli arg1 c256_i32_237
  let c33_i32 : BitVec 32 := 33#32
  let v529 : BitVec 32 := Scalar.addi v528 c33_i32
  let v531 : Index := Scalar.indexCast v529
  ![v531.toNat]
def k0_mult69 (v532 : BitVec 32) : BitVec 32 :=
  let c8_i32_239 : BitVec 32 := 8#32
  let v533 : BitVec 32 := Scalar.muli v532 c8_i32_239
  v533

def k0_mult70 (i : grid0.Coords) : BitVec 32 :=
  let arg1 : BitVec 32 := BitVec.ofNat 32 (i 1).val
  let c256_i32_237 : BitVec 32 := 256#32
  let v528 : BitVec 32 := Scalar.muli arg1 c256_i32_237
  let c33_i32 : BitVec 32 := 33#32
  let v529 : BitVec 32 := Scalar.addi v528 c33_i32
  let c8_i32_240 : BitVec 32 := 8#32
  let v535 : BitVec 32 := Scalar.muli v529 c8_i32_240
  v535
def k0_off140 (i : grid0.Coords) : Fin 1 → Nat :=
  let c1_i32_238 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v530 : BitVec 32 := Scalar.subi c1_i32_238 v11
  ![v530.toNat]
def k0_off141 (i : grid0.Coords) : Fin 3 → Nat :=
  let c1_i32_238 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v530 : BitVec 32 := Scalar.subi c1_i32_238 v11
  let arg1 : BitVec 32 := BitVec.ofNat 32 (i 1).val
  let c256_i32_237 : BitVec 32 := 256#32
  let v528 : BitVec 32 := Scalar.muli arg1 c256_i32_237
  let c33_i32 : BitVec 32 := 33#32
  let v529 : BitVec 32 := Scalar.addi v528 c33_i32
  let c8_i32_240 : BitVec 32 := 8#32
  let v535 : BitVec 32 := Scalar.muli v529 c8_i32_240
  let v536 : BitVec 32 := v535
  let c0_i32_241 : BitVec 32 := 0#32
  ![v530.toNat, v536.toNat, 0]
def k0_off142 (v532 : BitVec 32) : Fin 2 → Nat :=
  let c8_i32_239 : BitVec 32 := 8#32
  let v533 : BitVec 32 := Scalar.muli v532 c8_i32_239
  let v534 : BitVec 32 := v533
  let c0_i32_242 : BitVec 32 := 0#32
  ![v534.toNat, 0]

def k0_chk36 (i : grid0.Coords) (v0 : BitVec 32) (v28 : BitVec 32) (v532 : BitVec 32) : Prop :=
  (∀ (k0_h1 : k0_cond1 i v0 = 1#1), ∀ (k0_h4 : k0_cond4 i v28 = 1#1), 8 ∣ (k0_mult69 v532).toNat) ∧
  (∀ (k0_h1 : k0_cond1 i v0 = 1#1), ∀ (k0_h4 : k0_cond4 i v28 = 1#1), ∀ a, (k0_off142 v532) a + S8x128.size a ≤ S262144x128.size a)
theorem k0_mult69_dvd : ∀ (i : grid0.Coords) (v0 : BitVec 32) (v28 : BitVec 32) (v532 : BitVec 32) (k0_hw36 : k0_chk36 i v0 v28 v532), ∀ (k0_h1 : k0_cond1 i v0 = 1#1), ∀ (k0_h4 : k0_cond4 i v28 = 1#1), 8 ∣ (k0_mult69 v532).toNat := fun i v0 v28 v532 k0_hw36 k0_h1 k0_h4 => k0_hw36.1 k0_h1 k0_h4
theorem k0_off142_inb : ∀ (i : grid0.Coords) (v0 : BitVec 32) (v28 : BitVec 32) (v532 : BitVec 32) (k0_hw36 : k0_chk36 i v0 v28 v532), ∀ (k0_h1 : k0_cond1 i v0 = 1#1), ∀ (k0_h4 : k0_cond4 i v28 = 1#1), ∀ a, (k0_off142 v532) a + S8x128.size a ≤ S262144x128.size a := fun i v0 v28 v532 k0_hw36 k0_h1 k0_h4 => k0_hw36.2 k0_h1 k0_h4

def k0_off143 (i : grid0.Coords) : Fin 1 → Nat :=
  let arg1 : BitVec 32 := BitVec.ofNat 32 (i 1).val
  let c256_i32_243 : BitVec 32 := 256#32
  let v542 : BitVec 32 := Scalar.muli arg1 c256_i32_243
  let c34_i32 : BitVec 32 := 34#32
  let v543 : BitVec 32 := Scalar.addi v542 c34_i32
  let v545 : Index := Scalar.indexCast v543
  ![v545.toNat]
def k0_mult71 (v546 : BitVec 32) : BitVec 32 :=
  let c8_i32_245 : BitVec 32 := 8#32
  let v547 : BitVec 32 := Scalar.muli v546 c8_i32_245
  v547

def k0_mult72 (i : grid0.Coords) : BitVec 32 :=
  let arg1 : BitVec 32 := BitVec.ofNat 32 (i 1).val
  let c256_i32_243 : BitVec 32 := 256#32
  let v542 : BitVec 32 := Scalar.muli arg1 c256_i32_243
  let c34_i32 : BitVec 32 := 34#32
  let v543 : BitVec 32 := Scalar.addi v542 c34_i32
  let c8_i32_246 : BitVec 32 := 8#32
  let v549 : BitVec 32 := Scalar.muli v543 c8_i32_246
  v549
def k0_off144 (i : grid0.Coords) : Fin 1 → Nat :=
  let c1_i32_244 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v544 : BitVec 32 := Scalar.subi c1_i32_244 v11
  ![v544.toNat]
def k0_off145 (i : grid0.Coords) : Fin 3 → Nat :=
  let c1_i32_244 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v544 : BitVec 32 := Scalar.subi c1_i32_244 v11
  let arg1 : BitVec 32 := BitVec.ofNat 32 (i 1).val
  let c256_i32_243 : BitVec 32 := 256#32
  let v542 : BitVec 32 := Scalar.muli arg1 c256_i32_243
  let c34_i32 : BitVec 32 := 34#32
  let v543 : BitVec 32 := Scalar.addi v542 c34_i32
  let c8_i32_246 : BitVec 32 := 8#32
  let v549 : BitVec 32 := Scalar.muli v543 c8_i32_246
  let v550 : BitVec 32 := v549
  let c0_i32_247 : BitVec 32 := 0#32
  ![v544.toNat, v550.toNat, 0]
def k0_off146 (v546 : BitVec 32) : Fin 2 → Nat :=
  let c8_i32_245 : BitVec 32 := 8#32
  let v547 : BitVec 32 := Scalar.muli v546 c8_i32_245
  let v548 : BitVec 32 := v547
  let c0_i32_248 : BitVec 32 := 0#32
  ![v548.toNat, 0]

def k0_chk37 (i : grid0.Coords) (v0 : BitVec 32) (v28 : BitVec 32) (v546 : BitVec 32) : Prop :=
  (∀ (k0_h1 : k0_cond1 i v0 = 1#1), ∀ (k0_h4 : k0_cond4 i v28 = 1#1), 8 ∣ (k0_mult71 v546).toNat) ∧
  (∀ (k0_h1 : k0_cond1 i v0 = 1#1), ∀ (k0_h4 : k0_cond4 i v28 = 1#1), ∀ a, (k0_off146 v546) a + S8x128.size a ≤ S262144x128.size a)
theorem k0_mult71_dvd : ∀ (i : grid0.Coords) (v0 : BitVec 32) (v28 : BitVec 32) (v546 : BitVec 32) (k0_hw37 : k0_chk37 i v0 v28 v546), ∀ (k0_h1 : k0_cond1 i v0 = 1#1), ∀ (k0_h4 : k0_cond4 i v28 = 1#1), 8 ∣ (k0_mult71 v546).toNat := fun i v0 v28 v546 k0_hw37 k0_h1 k0_h4 => k0_hw37.1 k0_h1 k0_h4
theorem k0_off146_inb : ∀ (i : grid0.Coords) (v0 : BitVec 32) (v28 : BitVec 32) (v546 : BitVec 32) (k0_hw37 : k0_chk37 i v0 v28 v546), ∀ (k0_h1 : k0_cond1 i v0 = 1#1), ∀ (k0_h4 : k0_cond4 i v28 = 1#1), ∀ a, (k0_off146 v546) a + S8x128.size a ≤ S262144x128.size a := fun i v0 v28 v546 k0_hw37 k0_h1 k0_h4 => k0_hw37.2 k0_h1 k0_h4

def k0_off147 (i : grid0.Coords) : Fin 1 → Nat :=
  let arg1 : BitVec 32 := BitVec.ofNat 32 (i 1).val
  let c256_i32_249 : BitVec 32 := 256#32
  let v556 : BitVec 32 := Scalar.muli arg1 c256_i32_249
  let c35_i32 : BitVec 32 := 35#32
  let v557 : BitVec 32 := Scalar.addi v556 c35_i32
  let v559 : Index := Scalar.indexCast v557
  ![v559.toNat]
def k0_mult73 (v560 : BitVec 32) : BitVec 32 :=
  let c8_i32_251 : BitVec 32 := 8#32
  let v561 : BitVec 32 := Scalar.muli v560 c8_i32_251
  v561

def k0_mult74 (i : grid0.Coords) : BitVec 32 :=
  let arg1 : BitVec 32 := BitVec.ofNat 32 (i 1).val
  let c256_i32_249 : BitVec 32 := 256#32
  let v556 : BitVec 32 := Scalar.muli arg1 c256_i32_249
  let c35_i32 : BitVec 32 := 35#32
  let v557 : BitVec 32 := Scalar.addi v556 c35_i32
  let c8_i32_252 : BitVec 32 := 8#32
  let v563 : BitVec 32 := Scalar.muli v557 c8_i32_252
  v563
def k0_off148 (i : grid0.Coords) : Fin 1 → Nat :=
  let c1_i32_250 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v558 : BitVec 32 := Scalar.subi c1_i32_250 v11
  ![v558.toNat]
def k0_off149 (i : grid0.Coords) : Fin 3 → Nat :=
  let c1_i32_250 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v558 : BitVec 32 := Scalar.subi c1_i32_250 v11
  let arg1 : BitVec 32 := BitVec.ofNat 32 (i 1).val
  let c256_i32_249 : BitVec 32 := 256#32
  let v556 : BitVec 32 := Scalar.muli arg1 c256_i32_249
  let c35_i32 : BitVec 32 := 35#32
  let v557 : BitVec 32 := Scalar.addi v556 c35_i32
  let c8_i32_252 : BitVec 32 := 8#32
  let v563 : BitVec 32 := Scalar.muli v557 c8_i32_252
  let v564 : BitVec 32 := v563
  let c0_i32_253 : BitVec 32 := 0#32
  ![v558.toNat, v564.toNat, 0]
def k0_off150 (v560 : BitVec 32) : Fin 2 → Nat :=
  let c8_i32_251 : BitVec 32 := 8#32
  let v561 : BitVec 32 := Scalar.muli v560 c8_i32_251
  let v562 : BitVec 32 := v561
  let c0_i32_254 : BitVec 32 := 0#32
  ![v562.toNat, 0]

def k0_chk38 (i : grid0.Coords) (v0 : BitVec 32) (v28 : BitVec 32) (v560 : BitVec 32) : Prop :=
  (∀ (k0_h1 : k0_cond1 i v0 = 1#1), ∀ (k0_h4 : k0_cond4 i v28 = 1#1), 8 ∣ (k0_mult73 v560).toNat) ∧
  (∀ (k0_h1 : k0_cond1 i v0 = 1#1), ∀ (k0_h4 : k0_cond4 i v28 = 1#1), ∀ a, (k0_off150 v560) a + S8x128.size a ≤ S262144x128.size a)
theorem k0_mult73_dvd : ∀ (i : grid0.Coords) (v0 : BitVec 32) (v28 : BitVec 32) (v560 : BitVec 32) (k0_hw38 : k0_chk38 i v0 v28 v560), ∀ (k0_h1 : k0_cond1 i v0 = 1#1), ∀ (k0_h4 : k0_cond4 i v28 = 1#1), 8 ∣ (k0_mult73 v560).toNat := fun i v0 v28 v560 k0_hw38 k0_h1 k0_h4 => k0_hw38.1 k0_h1 k0_h4
theorem k0_off150_inb : ∀ (i : grid0.Coords) (v0 : BitVec 32) (v28 : BitVec 32) (v560 : BitVec 32) (k0_hw38 : k0_chk38 i v0 v28 v560), ∀ (k0_h1 : k0_cond1 i v0 = 1#1), ∀ (k0_h4 : k0_cond4 i v28 = 1#1), ∀ a, (k0_off150 v560) a + S8x128.size a ≤ S262144x128.size a := fun i v0 v28 v560 k0_hw38 k0_h1 k0_h4 => k0_hw38.2 k0_h1 k0_h4

def k0_off151 (i : grid0.Coords) : Fin 1 → Nat :=
  let arg1 : BitVec 32 := BitVec.ofNat 32 (i 1).val
  let c256_i32_255 : BitVec 32 := 256#32
  let v570 : BitVec 32 := Scalar.muli arg1 c256_i32_255
  let c36_i32 : BitVec 32 := 36#32
  let v571 : BitVec 32 := Scalar.addi v570 c36_i32
  let v573 : Index := Scalar.indexCast v571
  ![v573.toNat]
def k0_mult75 (v574 : BitVec 32) : BitVec 32 :=
  let c8_i32_257 : BitVec 32 := 8#32
  let v575 : BitVec 32 := Scalar.muli v574 c8_i32_257
  v575

def k0_mult76 (i : grid0.Coords) : BitVec 32 :=
  let arg1 : BitVec 32 := BitVec.ofNat 32 (i 1).val
  let c256_i32_255 : BitVec 32 := 256#32
  let v570 : BitVec 32 := Scalar.muli arg1 c256_i32_255
  let c36_i32 : BitVec 32 := 36#32
  let v571 : BitVec 32 := Scalar.addi v570 c36_i32
  let c8_i32_258 : BitVec 32 := 8#32
  let v577 : BitVec 32 := Scalar.muli v571 c8_i32_258
  v577
def k0_off152 (i : grid0.Coords) : Fin 1 → Nat :=
  let c1_i32_256 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v572 : BitVec 32 := Scalar.subi c1_i32_256 v11
  ![v572.toNat]
def k0_off153 (i : grid0.Coords) : Fin 3 → Nat :=
  let c1_i32_256 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v572 : BitVec 32 := Scalar.subi c1_i32_256 v11
  let arg1 : BitVec 32 := BitVec.ofNat 32 (i 1).val
  let c256_i32_255 : BitVec 32 := 256#32
  let v570 : BitVec 32 := Scalar.muli arg1 c256_i32_255
  let c36_i32 : BitVec 32 := 36#32
  let v571 : BitVec 32 := Scalar.addi v570 c36_i32
  let c8_i32_258 : BitVec 32 := 8#32
  let v577 : BitVec 32 := Scalar.muli v571 c8_i32_258
  let v578 : BitVec 32 := v577
  let c0_i32_259 : BitVec 32 := 0#32
  ![v572.toNat, v578.toNat, 0]
def k0_off154 (v574 : BitVec 32) : Fin 2 → Nat :=
  let c8_i32_257 : BitVec 32 := 8#32
  let v575 : BitVec 32 := Scalar.muli v574 c8_i32_257
  let v576 : BitVec 32 := v575
  let c0_i32_260 : BitVec 32 := 0#32
  ![v576.toNat, 0]

def k0_chk39 (i : grid0.Coords) (v0 : BitVec 32) (v28 : BitVec 32) (v574 : BitVec 32) : Prop :=
  (∀ (k0_h1 : k0_cond1 i v0 = 1#1), ∀ (k0_h4 : k0_cond4 i v28 = 1#1), 8 ∣ (k0_mult75 v574).toNat) ∧
  (∀ (k0_h1 : k0_cond1 i v0 = 1#1), ∀ (k0_h4 : k0_cond4 i v28 = 1#1), ∀ a, (k0_off154 v574) a + S8x128.size a ≤ S262144x128.size a)
theorem k0_mult75_dvd : ∀ (i : grid0.Coords) (v0 : BitVec 32) (v28 : BitVec 32) (v574 : BitVec 32) (k0_hw39 : k0_chk39 i v0 v28 v574), ∀ (k0_h1 : k0_cond1 i v0 = 1#1), ∀ (k0_h4 : k0_cond4 i v28 = 1#1), 8 ∣ (k0_mult75 v574).toNat := fun i v0 v28 v574 k0_hw39 k0_h1 k0_h4 => k0_hw39.1 k0_h1 k0_h4
theorem k0_off154_inb : ∀ (i : grid0.Coords) (v0 : BitVec 32) (v28 : BitVec 32) (v574 : BitVec 32) (k0_hw39 : k0_chk39 i v0 v28 v574), ∀ (k0_h1 : k0_cond1 i v0 = 1#1), ∀ (k0_h4 : k0_cond4 i v28 = 1#1), ∀ a, (k0_off154 v574) a + S8x128.size a ≤ S262144x128.size a := fun i v0 v28 v574 k0_hw39 k0_h1 k0_h4 => k0_hw39.2 k0_h1 k0_h4

def k0_off155 (i : grid0.Coords) : Fin 1 → Nat :=
  let arg1 : BitVec 32 := BitVec.ofNat 32 (i 1).val
  let c256_i32_261 : BitVec 32 := 256#32
  let v584 : BitVec 32 := Scalar.muli arg1 c256_i32_261
  let c37_i32 : BitVec 32 := 37#32
  let v585 : BitVec 32 := Scalar.addi v584 c37_i32
  let v587 : Index := Scalar.indexCast v585
  ![v587.toNat]
def k0_mult77 (v588 : BitVec 32) : BitVec 32 :=
  let c8_i32_263 : BitVec 32 := 8#32
  let v589 : BitVec 32 := Scalar.muli v588 c8_i32_263
  v589

def k0_mult78 (i : grid0.Coords) : BitVec 32 :=
  let arg1 : BitVec 32 := BitVec.ofNat 32 (i 1).val
  let c256_i32_261 : BitVec 32 := 256#32
  let v584 : BitVec 32 := Scalar.muli arg1 c256_i32_261
  let c37_i32 : BitVec 32 := 37#32
  let v585 : BitVec 32 := Scalar.addi v584 c37_i32
  let c8_i32_264 : BitVec 32 := 8#32
  let v591 : BitVec 32 := Scalar.muli v585 c8_i32_264
  v591
def k0_off156 (i : grid0.Coords) : Fin 1 → Nat :=
  let c1_i32_262 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v586 : BitVec 32 := Scalar.subi c1_i32_262 v11
  ![v586.toNat]
def k0_off157 (i : grid0.Coords) : Fin 3 → Nat :=
  let c1_i32_262 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v586 : BitVec 32 := Scalar.subi c1_i32_262 v11
  let arg1 : BitVec 32 := BitVec.ofNat 32 (i 1).val
  let c256_i32_261 : BitVec 32 := 256#32
  let v584 : BitVec 32 := Scalar.muli arg1 c256_i32_261
  let c37_i32 : BitVec 32 := 37#32
  let v585 : BitVec 32 := Scalar.addi v584 c37_i32
  let c8_i32_264 : BitVec 32 := 8#32
  let v591 : BitVec 32 := Scalar.muli v585 c8_i32_264
  let v592 : BitVec 32 := v591
  let c0_i32_265 : BitVec 32 := 0#32
  ![v586.toNat, v592.toNat, 0]
def k0_off158 (v588 : BitVec 32) : Fin 2 → Nat :=
  let c8_i32_263 : BitVec 32 := 8#32
  let v589 : BitVec 32 := Scalar.muli v588 c8_i32_263
  let v590 : BitVec 32 := v589
  let c0_i32_266 : BitVec 32 := 0#32
  ![v590.toNat, 0]

def k0_chk40 (i : grid0.Coords) (v0 : BitVec 32) (v28 : BitVec 32) (v588 : BitVec 32) : Prop :=
  (∀ (k0_h1 : k0_cond1 i v0 = 1#1), ∀ (k0_h4 : k0_cond4 i v28 = 1#1), 8 ∣ (k0_mult77 v588).toNat) ∧
  (∀ (k0_h1 : k0_cond1 i v0 = 1#1), ∀ (k0_h4 : k0_cond4 i v28 = 1#1), ∀ a, (k0_off158 v588) a + S8x128.size a ≤ S262144x128.size a)
theorem k0_mult77_dvd : ∀ (i : grid0.Coords) (v0 : BitVec 32) (v28 : BitVec 32) (v588 : BitVec 32) (k0_hw40 : k0_chk40 i v0 v28 v588), ∀ (k0_h1 : k0_cond1 i v0 = 1#1), ∀ (k0_h4 : k0_cond4 i v28 = 1#1), 8 ∣ (k0_mult77 v588).toNat := fun i v0 v28 v588 k0_hw40 k0_h1 k0_h4 => k0_hw40.1 k0_h1 k0_h4
theorem k0_off158_inb : ∀ (i : grid0.Coords) (v0 : BitVec 32) (v28 : BitVec 32) (v588 : BitVec 32) (k0_hw40 : k0_chk40 i v0 v28 v588), ∀ (k0_h1 : k0_cond1 i v0 = 1#1), ∀ (k0_h4 : k0_cond4 i v28 = 1#1), ∀ a, (k0_off158 v588) a + S8x128.size a ≤ S262144x128.size a := fun i v0 v28 v588 k0_hw40 k0_h1 k0_h4 => k0_hw40.2 k0_h1 k0_h4

def k0_off159 (i : grid0.Coords) : Fin 1 → Nat :=
  let arg1 : BitVec 32 := BitVec.ofNat 32 (i 1).val
  let c256_i32_267 : BitVec 32 := 256#32
  let v598 : BitVec 32 := Scalar.muli arg1 c256_i32_267
  let c38_i32 : BitVec 32 := 38#32
  let v599 : BitVec 32 := Scalar.addi v598 c38_i32
  let v601 : Index := Scalar.indexCast v599
  ![v601.toNat]
def k0_mult79 (v602 : BitVec 32) : BitVec 32 :=
  let c8_i32_269 : BitVec 32 := 8#32
  let v603 : BitVec 32 := Scalar.muli v602 c8_i32_269
  v603

def k0_mult80 (i : grid0.Coords) : BitVec 32 :=
  let arg1 : BitVec 32 := BitVec.ofNat 32 (i 1).val
  let c256_i32_267 : BitVec 32 := 256#32
  let v598 : BitVec 32 := Scalar.muli arg1 c256_i32_267
  let c38_i32 : BitVec 32 := 38#32
  let v599 : BitVec 32 := Scalar.addi v598 c38_i32
  let c8_i32_270 : BitVec 32 := 8#32
  let v605 : BitVec 32 := Scalar.muli v599 c8_i32_270
  v605
def k0_off160 (i : grid0.Coords) : Fin 1 → Nat :=
  let c1_i32_268 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v600 : BitVec 32 := Scalar.subi c1_i32_268 v11
  ![v600.toNat]
def k0_off161 (i : grid0.Coords) : Fin 3 → Nat :=
  let c1_i32_268 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v600 : BitVec 32 := Scalar.subi c1_i32_268 v11
  let arg1 : BitVec 32 := BitVec.ofNat 32 (i 1).val
  let c256_i32_267 : BitVec 32 := 256#32
  let v598 : BitVec 32 := Scalar.muli arg1 c256_i32_267
  let c38_i32 : BitVec 32 := 38#32
  let v599 : BitVec 32 := Scalar.addi v598 c38_i32
  let c8_i32_270 : BitVec 32 := 8#32
  let v605 : BitVec 32 := Scalar.muli v599 c8_i32_270
  let v606 : BitVec 32 := v605
  let c0_i32_271 : BitVec 32 := 0#32
  ![v600.toNat, v606.toNat, 0]
def k0_off162 (v602 : BitVec 32) : Fin 2 → Nat :=
  let c8_i32_269 : BitVec 32 := 8#32
  let v603 : BitVec 32 := Scalar.muli v602 c8_i32_269
  let v604 : BitVec 32 := v603
  let c0_i32_272 : BitVec 32 := 0#32
  ![v604.toNat, 0]

def k0_chk41 (i : grid0.Coords) (v0 : BitVec 32) (v28 : BitVec 32) (v602 : BitVec 32) : Prop :=
  (∀ (k0_h1 : k0_cond1 i v0 = 1#1), ∀ (k0_h4 : k0_cond4 i v28 = 1#1), 8 ∣ (k0_mult79 v602).toNat) ∧
  (∀ (k0_h1 : k0_cond1 i v0 = 1#1), ∀ (k0_h4 : k0_cond4 i v28 = 1#1), ∀ a, (k0_off162 v602) a + S8x128.size a ≤ S262144x128.size a)
theorem k0_mult79_dvd : ∀ (i : grid0.Coords) (v0 : BitVec 32) (v28 : BitVec 32) (v602 : BitVec 32) (k0_hw41 : k0_chk41 i v0 v28 v602), ∀ (k0_h1 : k0_cond1 i v0 = 1#1), ∀ (k0_h4 : k0_cond4 i v28 = 1#1), 8 ∣ (k0_mult79 v602).toNat := fun i v0 v28 v602 k0_hw41 k0_h1 k0_h4 => k0_hw41.1 k0_h1 k0_h4
theorem k0_off162_inb : ∀ (i : grid0.Coords) (v0 : BitVec 32) (v28 : BitVec 32) (v602 : BitVec 32) (k0_hw41 : k0_chk41 i v0 v28 v602), ∀ (k0_h1 : k0_cond1 i v0 = 1#1), ∀ (k0_h4 : k0_cond4 i v28 = 1#1), ∀ a, (k0_off162 v602) a + S8x128.size a ≤ S262144x128.size a := fun i v0 v28 v602 k0_hw41 k0_h1 k0_h4 => k0_hw41.2 k0_h1 k0_h4

def k0_off163 (i : grid0.Coords) : Fin 1 → Nat :=
  let arg1 : BitVec 32 := BitVec.ofNat 32 (i 1).val
  let c256_i32_273 : BitVec 32 := 256#32
  let v612 : BitVec 32 := Scalar.muli arg1 c256_i32_273
  let c39_i32 : BitVec 32 := 39#32
  let v613 : BitVec 32 := Scalar.addi v612 c39_i32
  let v615 : Index := Scalar.indexCast v613
  ![v615.toNat]
def k0_mult81 (v616 : BitVec 32) : BitVec 32 :=
  let c8_i32_275 : BitVec 32 := 8#32
  let v617 : BitVec 32 := Scalar.muli v616 c8_i32_275
  v617

def k0_mult82 (i : grid0.Coords) : BitVec 32 :=
  let arg1 : BitVec 32 := BitVec.ofNat 32 (i 1).val
  let c256_i32_273 : BitVec 32 := 256#32
  let v612 : BitVec 32 := Scalar.muli arg1 c256_i32_273
  let c39_i32 : BitVec 32 := 39#32
  let v613 : BitVec 32 := Scalar.addi v612 c39_i32
  let c8_i32_276 : BitVec 32 := 8#32
  let v619 : BitVec 32 := Scalar.muli v613 c8_i32_276
  v619
def k0_off164 (i : grid0.Coords) : Fin 1 → Nat :=
  let c1_i32_274 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v614 : BitVec 32 := Scalar.subi c1_i32_274 v11
  ![v614.toNat]
def k0_off165 (i : grid0.Coords) : Fin 3 → Nat :=
  let c1_i32_274 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v614 : BitVec 32 := Scalar.subi c1_i32_274 v11
  let arg1 : BitVec 32 := BitVec.ofNat 32 (i 1).val
  let c256_i32_273 : BitVec 32 := 256#32
  let v612 : BitVec 32 := Scalar.muli arg1 c256_i32_273
  let c39_i32 : BitVec 32 := 39#32
  let v613 : BitVec 32 := Scalar.addi v612 c39_i32
  let c8_i32_276 : BitVec 32 := 8#32
  let v619 : BitVec 32 := Scalar.muli v613 c8_i32_276
  let v620 : BitVec 32 := v619
  let c0_i32_277 : BitVec 32 := 0#32
  ![v614.toNat, v620.toNat, 0]
def k0_off166 (v616 : BitVec 32) : Fin 2 → Nat :=
  let c8_i32_275 : BitVec 32 := 8#32
  let v617 : BitVec 32 := Scalar.muli v616 c8_i32_275
  let v618 : BitVec 32 := v617
  let c0_i32_278 : BitVec 32 := 0#32
  ![v618.toNat, 0]

def k0_chk42 (i : grid0.Coords) (v0 : BitVec 32) (v28 : BitVec 32) (v616 : BitVec 32) : Prop :=
  (∀ (k0_h1 : k0_cond1 i v0 = 1#1), ∀ (k0_h4 : k0_cond4 i v28 = 1#1), 8 ∣ (k0_mult81 v616).toNat) ∧
  (∀ (k0_h1 : k0_cond1 i v0 = 1#1), ∀ (k0_h4 : k0_cond4 i v28 = 1#1), ∀ a, (k0_off166 v616) a + S8x128.size a ≤ S262144x128.size a)
theorem k0_mult81_dvd : ∀ (i : grid0.Coords) (v0 : BitVec 32) (v28 : BitVec 32) (v616 : BitVec 32) (k0_hw42 : k0_chk42 i v0 v28 v616), ∀ (k0_h1 : k0_cond1 i v0 = 1#1), ∀ (k0_h4 : k0_cond4 i v28 = 1#1), 8 ∣ (k0_mult81 v616).toNat := fun i v0 v28 v616 k0_hw42 k0_h1 k0_h4 => k0_hw42.1 k0_h1 k0_h4
theorem k0_off166_inb : ∀ (i : grid0.Coords) (v0 : BitVec 32) (v28 : BitVec 32) (v616 : BitVec 32) (k0_hw42 : k0_chk42 i v0 v28 v616), ∀ (k0_h1 : k0_cond1 i v0 = 1#1), ∀ (k0_h4 : k0_cond4 i v28 = 1#1), ∀ a, (k0_off166 v616) a + S8x128.size a ≤ S262144x128.size a := fun i v0 v28 v616 k0_hw42 k0_h1 k0_h4 => k0_hw42.2 k0_h1 k0_h4

def k0_off167 (i : grid0.Coords) : Fin 1 → Nat :=
  let arg1 : BitVec 32 := BitVec.ofNat 32 (i 1).val
  let c256_i32_279 : BitVec 32 := 256#32
  let v626 : BitVec 32 := Scalar.muli arg1 c256_i32_279
  let c40_i32 : BitVec 32 := 40#32
  let v627 : BitVec 32 := Scalar.addi v626 c40_i32
  let v629 : Index := Scalar.indexCast v627
  ![v629.toNat]
def k0_mult83 (v630 : BitVec 32) : BitVec 32 :=
  let c8_i32_281 : BitVec 32 := 8#32
  let v631 : BitVec 32 := Scalar.muli v630 c8_i32_281
  v631

def k0_mult84 (i : grid0.Coords) : BitVec 32 :=
  let arg1 : BitVec 32 := BitVec.ofNat 32 (i 1).val
  let c256_i32_279 : BitVec 32 := 256#32
  let v626 : BitVec 32 := Scalar.muli arg1 c256_i32_279
  let c40_i32 : BitVec 32 := 40#32
  let v627 : BitVec 32 := Scalar.addi v626 c40_i32
  let c8_i32_282 : BitVec 32 := 8#32
  let v633 : BitVec 32 := Scalar.muli v627 c8_i32_282
  v633
def k0_off168 (i : grid0.Coords) : Fin 1 → Nat :=
  let c1_i32_280 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v628 : BitVec 32 := Scalar.subi c1_i32_280 v11
  ![v628.toNat]
def k0_off169 (i : grid0.Coords) : Fin 3 → Nat :=
  let c1_i32_280 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v628 : BitVec 32 := Scalar.subi c1_i32_280 v11
  let arg1 : BitVec 32 := BitVec.ofNat 32 (i 1).val
  let c256_i32_279 : BitVec 32 := 256#32
  let v626 : BitVec 32 := Scalar.muli arg1 c256_i32_279
  let c40_i32 : BitVec 32 := 40#32
  let v627 : BitVec 32 := Scalar.addi v626 c40_i32
  let c8_i32_282 : BitVec 32 := 8#32
  let v633 : BitVec 32 := Scalar.muli v627 c8_i32_282
  let v634 : BitVec 32 := v633
  let c0_i32_283 : BitVec 32 := 0#32
  ![v628.toNat, v634.toNat, 0]
def k0_off170 (v630 : BitVec 32) : Fin 2 → Nat :=
  let c8_i32_281 : BitVec 32 := 8#32
  let v631 : BitVec 32 := Scalar.muli v630 c8_i32_281
  let v632 : BitVec 32 := v631
  let c0_i32_284 : BitVec 32 := 0#32
  ![v632.toNat, 0]

def k0_chk43 (i : grid0.Coords) (v0 : BitVec 32) (v28 : BitVec 32) (v630 : BitVec 32) : Prop :=
  (∀ (k0_h1 : k0_cond1 i v0 = 1#1), ∀ (k0_h4 : k0_cond4 i v28 = 1#1), 8 ∣ (k0_mult83 v630).toNat) ∧
  (∀ (k0_h1 : k0_cond1 i v0 = 1#1), ∀ (k0_h4 : k0_cond4 i v28 = 1#1), ∀ a, (k0_off170 v630) a + S8x128.size a ≤ S262144x128.size a)
theorem k0_mult83_dvd : ∀ (i : grid0.Coords) (v0 : BitVec 32) (v28 : BitVec 32) (v630 : BitVec 32) (k0_hw43 : k0_chk43 i v0 v28 v630), ∀ (k0_h1 : k0_cond1 i v0 = 1#1), ∀ (k0_h4 : k0_cond4 i v28 = 1#1), 8 ∣ (k0_mult83 v630).toNat := fun i v0 v28 v630 k0_hw43 k0_h1 k0_h4 => k0_hw43.1 k0_h1 k0_h4
theorem k0_off170_inb : ∀ (i : grid0.Coords) (v0 : BitVec 32) (v28 : BitVec 32) (v630 : BitVec 32) (k0_hw43 : k0_chk43 i v0 v28 v630), ∀ (k0_h1 : k0_cond1 i v0 = 1#1), ∀ (k0_h4 : k0_cond4 i v28 = 1#1), ∀ a, (k0_off170 v630) a + S8x128.size a ≤ S262144x128.size a := fun i v0 v28 v630 k0_hw43 k0_h1 k0_h4 => k0_hw43.2 k0_h1 k0_h4

def k0_off171 (i : grid0.Coords) : Fin 1 → Nat :=
  let arg1 : BitVec 32 := BitVec.ofNat 32 (i 1).val
  let c256_i32_285 : BitVec 32 := 256#32
  let v640 : BitVec 32 := Scalar.muli arg1 c256_i32_285
  let c41_i32 : BitVec 32 := 41#32
  let v641 : BitVec 32 := Scalar.addi v640 c41_i32
  let v643 : Index := Scalar.indexCast v641
  ![v643.toNat]
def k0_mult85 (v644 : BitVec 32) : BitVec 32 :=
  let c8_i32_287 : BitVec 32 := 8#32
  let v645 : BitVec 32 := Scalar.muli v644 c8_i32_287
  v645

def k0_mult86 (i : grid0.Coords) : BitVec 32 :=
  let arg1 : BitVec 32 := BitVec.ofNat 32 (i 1).val
  let c256_i32_285 : BitVec 32 := 256#32
  let v640 : BitVec 32 := Scalar.muli arg1 c256_i32_285
  let c41_i32 : BitVec 32 := 41#32
  let v641 : BitVec 32 := Scalar.addi v640 c41_i32
  let c8_i32_288 : BitVec 32 := 8#32
  let v647 : BitVec 32 := Scalar.muli v641 c8_i32_288
  v647
def k0_off172 (i : grid0.Coords) : Fin 1 → Nat :=
  let c1_i32_286 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v642 : BitVec 32 := Scalar.subi c1_i32_286 v11
  ![v642.toNat]
def k0_off173 (i : grid0.Coords) : Fin 3 → Nat :=
  let c1_i32_286 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v642 : BitVec 32 := Scalar.subi c1_i32_286 v11
  let arg1 : BitVec 32 := BitVec.ofNat 32 (i 1).val
  let c256_i32_285 : BitVec 32 := 256#32
  let v640 : BitVec 32 := Scalar.muli arg1 c256_i32_285
  let c41_i32 : BitVec 32 := 41#32
  let v641 : BitVec 32 := Scalar.addi v640 c41_i32
  let c8_i32_288 : BitVec 32 := 8#32
  let v647 : BitVec 32 := Scalar.muli v641 c8_i32_288
  let v648 : BitVec 32 := v647
  let c0_i32_289 : BitVec 32 := 0#32
  ![v642.toNat, v648.toNat, 0]
def k0_off174 (v644 : BitVec 32) : Fin 2 → Nat :=
  let c8_i32_287 : BitVec 32 := 8#32
  let v645 : BitVec 32 := Scalar.muli v644 c8_i32_287
  let v646 : BitVec 32 := v645
  let c0_i32_290 : BitVec 32 := 0#32
  ![v646.toNat, 0]

def k0_chk44 (i : grid0.Coords) (v0 : BitVec 32) (v28 : BitVec 32) (v644 : BitVec 32) : Prop :=
  (∀ (k0_h1 : k0_cond1 i v0 = 1#1), ∀ (k0_h4 : k0_cond4 i v28 = 1#1), 8 ∣ (k0_mult85 v644).toNat) ∧
  (∀ (k0_h1 : k0_cond1 i v0 = 1#1), ∀ (k0_h4 : k0_cond4 i v28 = 1#1), ∀ a, (k0_off174 v644) a + S8x128.size a ≤ S262144x128.size a)
theorem k0_mult85_dvd : ∀ (i : grid0.Coords) (v0 : BitVec 32) (v28 : BitVec 32) (v644 : BitVec 32) (k0_hw44 : k0_chk44 i v0 v28 v644), ∀ (k0_h1 : k0_cond1 i v0 = 1#1), ∀ (k0_h4 : k0_cond4 i v28 = 1#1), 8 ∣ (k0_mult85 v644).toNat := fun i v0 v28 v644 k0_hw44 k0_h1 k0_h4 => k0_hw44.1 k0_h1 k0_h4
theorem k0_off174_inb : ∀ (i : grid0.Coords) (v0 : BitVec 32) (v28 : BitVec 32) (v644 : BitVec 32) (k0_hw44 : k0_chk44 i v0 v28 v644), ∀ (k0_h1 : k0_cond1 i v0 = 1#1), ∀ (k0_h4 : k0_cond4 i v28 = 1#1), ∀ a, (k0_off174 v644) a + S8x128.size a ≤ S262144x128.size a := fun i v0 v28 v644 k0_hw44 k0_h1 k0_h4 => k0_hw44.2 k0_h1 k0_h4

def k0_off175 (i : grid0.Coords) : Fin 1 → Nat :=
  let arg1 : BitVec 32 := BitVec.ofNat 32 (i 1).val
  let c256_i32_291 : BitVec 32 := 256#32
  let v654 : BitVec 32 := Scalar.muli arg1 c256_i32_291
  let c42_i32 : BitVec 32 := 42#32
  let v655 : BitVec 32 := Scalar.addi v654 c42_i32
  let v657 : Index := Scalar.indexCast v655
  ![v657.toNat]
def k0_mult87 (v658 : BitVec 32) : BitVec 32 :=
  let c8_i32_293 : BitVec 32 := 8#32
  let v659 : BitVec 32 := Scalar.muli v658 c8_i32_293
  v659

def k0_mult88 (i : grid0.Coords) : BitVec 32 :=
  let arg1 : BitVec 32 := BitVec.ofNat 32 (i 1).val
  let c256_i32_291 : BitVec 32 := 256#32
  let v654 : BitVec 32 := Scalar.muli arg1 c256_i32_291
  let c42_i32 : BitVec 32 := 42#32
  let v655 : BitVec 32 := Scalar.addi v654 c42_i32
  let c8_i32_294 : BitVec 32 := 8#32
  let v661 : BitVec 32 := Scalar.muli v655 c8_i32_294
  v661
def k0_off176 (i : grid0.Coords) : Fin 1 → Nat :=
  let c1_i32_292 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v656 : BitVec 32 := Scalar.subi c1_i32_292 v11
  ![v656.toNat]
def k0_off177 (i : grid0.Coords) : Fin 3 → Nat :=
  let c1_i32_292 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v656 : BitVec 32 := Scalar.subi c1_i32_292 v11
  let arg1 : BitVec 32 := BitVec.ofNat 32 (i 1).val
  let c256_i32_291 : BitVec 32 := 256#32
  let v654 : BitVec 32 := Scalar.muli arg1 c256_i32_291
  let c42_i32 : BitVec 32 := 42#32
  let v655 : BitVec 32 := Scalar.addi v654 c42_i32
  let c8_i32_294 : BitVec 32 := 8#32
  let v661 : BitVec 32 := Scalar.muli v655 c8_i32_294
  let v662 : BitVec 32 := v661
  let c0_i32_295 : BitVec 32 := 0#32
  ![v656.toNat, v662.toNat, 0]
def k0_off178 (v658 : BitVec 32) : Fin 2 → Nat :=
  let c8_i32_293 : BitVec 32 := 8#32
  let v659 : BitVec 32 := Scalar.muli v658 c8_i32_293
  let v660 : BitVec 32 := v659
  let c0_i32_296 : BitVec 32 := 0#32
  ![v660.toNat, 0]

def k0_chk45 (i : grid0.Coords) (v0 : BitVec 32) (v28 : BitVec 32) (v658 : BitVec 32) : Prop :=
  (∀ (k0_h1 : k0_cond1 i v0 = 1#1), ∀ (k0_h4 : k0_cond4 i v28 = 1#1), 8 ∣ (k0_mult87 v658).toNat) ∧
  (∀ (k0_h1 : k0_cond1 i v0 = 1#1), ∀ (k0_h4 : k0_cond4 i v28 = 1#1), ∀ a, (k0_off178 v658) a + S8x128.size a ≤ S262144x128.size a)
theorem k0_mult87_dvd : ∀ (i : grid0.Coords) (v0 : BitVec 32) (v28 : BitVec 32) (v658 : BitVec 32) (k0_hw45 : k0_chk45 i v0 v28 v658), ∀ (k0_h1 : k0_cond1 i v0 = 1#1), ∀ (k0_h4 : k0_cond4 i v28 = 1#1), 8 ∣ (k0_mult87 v658).toNat := fun i v0 v28 v658 k0_hw45 k0_h1 k0_h4 => k0_hw45.1 k0_h1 k0_h4
theorem k0_off178_inb : ∀ (i : grid0.Coords) (v0 : BitVec 32) (v28 : BitVec 32) (v658 : BitVec 32) (k0_hw45 : k0_chk45 i v0 v28 v658), ∀ (k0_h1 : k0_cond1 i v0 = 1#1), ∀ (k0_h4 : k0_cond4 i v28 = 1#1), ∀ a, (k0_off178 v658) a + S8x128.size a ≤ S262144x128.size a := fun i v0 v28 v658 k0_hw45 k0_h1 k0_h4 => k0_hw45.2 k0_h1 k0_h4

def k0_off179 (i : grid0.Coords) : Fin 1 → Nat :=
  let arg1 : BitVec 32 := BitVec.ofNat 32 (i 1).val
  let c256_i32_297 : BitVec 32 := 256#32
  let v668 : BitVec 32 := Scalar.muli arg1 c256_i32_297
  let c43_i32 : BitVec 32 := 43#32
  let v669 : BitVec 32 := Scalar.addi v668 c43_i32
  let v671 : Index := Scalar.indexCast v669
  ![v671.toNat]
def k0_mult89 (v672 : BitVec 32) : BitVec 32 :=
  let c8_i32_299 : BitVec 32 := 8#32
  let v673 : BitVec 32 := Scalar.muli v672 c8_i32_299
  v673

def k0_mult90 (i : grid0.Coords) : BitVec 32 :=
  let arg1 : BitVec 32 := BitVec.ofNat 32 (i 1).val
  let c256_i32_297 : BitVec 32 := 256#32
  let v668 : BitVec 32 := Scalar.muli arg1 c256_i32_297
  let c43_i32 : BitVec 32 := 43#32
  let v669 : BitVec 32 := Scalar.addi v668 c43_i32
  let c8_i32_300 : BitVec 32 := 8#32
  let v675 : BitVec 32 := Scalar.muli v669 c8_i32_300
  v675
def k0_off180 (i : grid0.Coords) : Fin 1 → Nat :=
  let c1_i32_298 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v670 : BitVec 32 := Scalar.subi c1_i32_298 v11
  ![v670.toNat]
def k0_off181 (i : grid0.Coords) : Fin 3 → Nat :=
  let c1_i32_298 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v670 : BitVec 32 := Scalar.subi c1_i32_298 v11
  let arg1 : BitVec 32 := BitVec.ofNat 32 (i 1).val
  let c256_i32_297 : BitVec 32 := 256#32
  let v668 : BitVec 32 := Scalar.muli arg1 c256_i32_297
  let c43_i32 : BitVec 32 := 43#32
  let v669 : BitVec 32 := Scalar.addi v668 c43_i32
  let c8_i32_300 : BitVec 32 := 8#32
  let v675 : BitVec 32 := Scalar.muli v669 c8_i32_300
  let v676 : BitVec 32 := v675
  let c0_i32_301 : BitVec 32 := 0#32
  ![v670.toNat, v676.toNat, 0]
def k0_off182 (v672 : BitVec 32) : Fin 2 → Nat :=
  let c8_i32_299 : BitVec 32 := 8#32
  let v673 : BitVec 32 := Scalar.muli v672 c8_i32_299
  let v674 : BitVec 32 := v673
  let c0_i32_302 : BitVec 32 := 0#32
  ![v674.toNat, 0]

def k0_chk46 (i : grid0.Coords) (v0 : BitVec 32) (v28 : BitVec 32) (v672 : BitVec 32) : Prop :=
  (∀ (k0_h1 : k0_cond1 i v0 = 1#1), ∀ (k0_h4 : k0_cond4 i v28 = 1#1), 8 ∣ (k0_mult89 v672).toNat) ∧
  (∀ (k0_h1 : k0_cond1 i v0 = 1#1), ∀ (k0_h4 : k0_cond4 i v28 = 1#1), ∀ a, (k0_off182 v672) a + S8x128.size a ≤ S262144x128.size a)
theorem k0_mult89_dvd : ∀ (i : grid0.Coords) (v0 : BitVec 32) (v28 : BitVec 32) (v672 : BitVec 32) (k0_hw46 : k0_chk46 i v0 v28 v672), ∀ (k0_h1 : k0_cond1 i v0 = 1#1), ∀ (k0_h4 : k0_cond4 i v28 = 1#1), 8 ∣ (k0_mult89 v672).toNat := fun i v0 v28 v672 k0_hw46 k0_h1 k0_h4 => k0_hw46.1 k0_h1 k0_h4
theorem k0_off182_inb : ∀ (i : grid0.Coords) (v0 : BitVec 32) (v28 : BitVec 32) (v672 : BitVec 32) (k0_hw46 : k0_chk46 i v0 v28 v672), ∀ (k0_h1 : k0_cond1 i v0 = 1#1), ∀ (k0_h4 : k0_cond4 i v28 = 1#1), ∀ a, (k0_off182 v672) a + S8x128.size a ≤ S262144x128.size a := fun i v0 v28 v672 k0_hw46 k0_h1 k0_h4 => k0_hw46.2 k0_h1 k0_h4

def k0_off183 (i : grid0.Coords) : Fin 1 → Nat :=
  let arg1 : BitVec 32 := BitVec.ofNat 32 (i 1).val
  let c256_i32_303 : BitVec 32 := 256#32
  let v682 : BitVec 32 := Scalar.muli arg1 c256_i32_303
  let c44_i32 : BitVec 32 := 44#32
  let v683 : BitVec 32 := Scalar.addi v682 c44_i32
  let v685 : Index := Scalar.indexCast v683
  ![v685.toNat]
def k0_mult91 (v686 : BitVec 32) : BitVec 32 :=
  let c8_i32_305 : BitVec 32 := 8#32
  let v687 : BitVec 32 := Scalar.muli v686 c8_i32_305
  v687

def k0_mult92 (i : grid0.Coords) : BitVec 32 :=
  let arg1 : BitVec 32 := BitVec.ofNat 32 (i 1).val
  let c256_i32_303 : BitVec 32 := 256#32
  let v682 : BitVec 32 := Scalar.muli arg1 c256_i32_303
  let c44_i32 : BitVec 32 := 44#32
  let v683 : BitVec 32 := Scalar.addi v682 c44_i32
  let c8_i32_306 : BitVec 32 := 8#32
  let v689 : BitVec 32 := Scalar.muli v683 c8_i32_306
  v689
def k0_off184 (i : grid0.Coords) : Fin 1 → Nat :=
  let c1_i32_304 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v684 : BitVec 32 := Scalar.subi c1_i32_304 v11
  ![v684.toNat]
def k0_off185 (i : grid0.Coords) : Fin 3 → Nat :=
  let c1_i32_304 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v684 : BitVec 32 := Scalar.subi c1_i32_304 v11
  let arg1 : BitVec 32 := BitVec.ofNat 32 (i 1).val
  let c256_i32_303 : BitVec 32 := 256#32
  let v682 : BitVec 32 := Scalar.muli arg1 c256_i32_303
  let c44_i32 : BitVec 32 := 44#32
  let v683 : BitVec 32 := Scalar.addi v682 c44_i32
  let c8_i32_306 : BitVec 32 := 8#32
  let v689 : BitVec 32 := Scalar.muli v683 c8_i32_306
  let v690 : BitVec 32 := v689
  let c0_i32_307 : BitVec 32 := 0#32
  ![v684.toNat, v690.toNat, 0]
def k0_off186 (v686 : BitVec 32) : Fin 2 → Nat :=
  let c8_i32_305 : BitVec 32 := 8#32
  let v687 : BitVec 32 := Scalar.muli v686 c8_i32_305
  let v688 : BitVec 32 := v687
  let c0_i32_308 : BitVec 32 := 0#32
  ![v688.toNat, 0]

def k0_chk47 (i : grid0.Coords) (v0 : BitVec 32) (v28 : BitVec 32) (v686 : BitVec 32) : Prop :=
  (∀ (k0_h1 : k0_cond1 i v0 = 1#1), ∀ (k0_h4 : k0_cond4 i v28 = 1#1), 8 ∣ (k0_mult91 v686).toNat) ∧
  (∀ (k0_h1 : k0_cond1 i v0 = 1#1), ∀ (k0_h4 : k0_cond4 i v28 = 1#1), ∀ a, (k0_off186 v686) a + S8x128.size a ≤ S262144x128.size a)
theorem k0_mult91_dvd : ∀ (i : grid0.Coords) (v0 : BitVec 32) (v28 : BitVec 32) (v686 : BitVec 32) (k0_hw47 : k0_chk47 i v0 v28 v686), ∀ (k0_h1 : k0_cond1 i v0 = 1#1), ∀ (k0_h4 : k0_cond4 i v28 = 1#1), 8 ∣ (k0_mult91 v686).toNat := fun i v0 v28 v686 k0_hw47 k0_h1 k0_h4 => k0_hw47.1 k0_h1 k0_h4
theorem k0_off186_inb : ∀ (i : grid0.Coords) (v0 : BitVec 32) (v28 : BitVec 32) (v686 : BitVec 32) (k0_hw47 : k0_chk47 i v0 v28 v686), ∀ (k0_h1 : k0_cond1 i v0 = 1#1), ∀ (k0_h4 : k0_cond4 i v28 = 1#1), ∀ a, (k0_off186 v686) a + S8x128.size a ≤ S262144x128.size a := fun i v0 v28 v686 k0_hw47 k0_h1 k0_h4 => k0_hw47.2 k0_h1 k0_h4

def k0_off187 (i : grid0.Coords) : Fin 1 → Nat :=
  let arg1 : BitVec 32 := BitVec.ofNat 32 (i 1).val
  let c256_i32_309 : BitVec 32 := 256#32
  let v696 : BitVec 32 := Scalar.muli arg1 c256_i32_309
  let c45_i32 : BitVec 32 := 45#32
  let v697 : BitVec 32 := Scalar.addi v696 c45_i32
  let v699 : Index := Scalar.indexCast v697
  ![v699.toNat]
def k0_mult93 (v700 : BitVec 32) : BitVec 32 :=
  let c8_i32_311 : BitVec 32 := 8#32
  let v701 : BitVec 32 := Scalar.muli v700 c8_i32_311
  v701

def k0_mult94 (i : grid0.Coords) : BitVec 32 :=
  let arg1 : BitVec 32 := BitVec.ofNat 32 (i 1).val
  let c256_i32_309 : BitVec 32 := 256#32
  let v696 : BitVec 32 := Scalar.muli arg1 c256_i32_309
  let c45_i32 : BitVec 32 := 45#32
  let v697 : BitVec 32 := Scalar.addi v696 c45_i32
  let c8_i32_312 : BitVec 32 := 8#32
  let v703 : BitVec 32 := Scalar.muli v697 c8_i32_312
  v703
def k0_off188 (i : grid0.Coords) : Fin 1 → Nat :=
  let c1_i32_310 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v698 : BitVec 32 := Scalar.subi c1_i32_310 v11
  ![v698.toNat]
def k0_off189 (i : grid0.Coords) : Fin 3 → Nat :=
  let c1_i32_310 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v698 : BitVec 32 := Scalar.subi c1_i32_310 v11
  let arg1 : BitVec 32 := BitVec.ofNat 32 (i 1).val
  let c256_i32_309 : BitVec 32 := 256#32
  let v696 : BitVec 32 := Scalar.muli arg1 c256_i32_309
  let c45_i32 : BitVec 32 := 45#32
  let v697 : BitVec 32 := Scalar.addi v696 c45_i32
  let c8_i32_312 : BitVec 32 := 8#32
  let v703 : BitVec 32 := Scalar.muli v697 c8_i32_312
  let v704 : BitVec 32 := v703
  let c0_i32_313 : BitVec 32 := 0#32
  ![v698.toNat, v704.toNat, 0]
def k0_off190 (v700 : BitVec 32) : Fin 2 → Nat :=
  let c8_i32_311 : BitVec 32 := 8#32
  let v701 : BitVec 32 := Scalar.muli v700 c8_i32_311
  let v702 : BitVec 32 := v701
  let c0_i32_314 : BitVec 32 := 0#32
  ![v702.toNat, 0]

def k0_chk48 (i : grid0.Coords) (v0 : BitVec 32) (v28 : BitVec 32) (v700 : BitVec 32) : Prop :=
  (∀ (k0_h1 : k0_cond1 i v0 = 1#1), ∀ (k0_h4 : k0_cond4 i v28 = 1#1), 8 ∣ (k0_mult93 v700).toNat) ∧
  (∀ (k0_h1 : k0_cond1 i v0 = 1#1), ∀ (k0_h4 : k0_cond4 i v28 = 1#1), ∀ a, (k0_off190 v700) a + S8x128.size a ≤ S262144x128.size a)
theorem k0_mult93_dvd : ∀ (i : grid0.Coords) (v0 : BitVec 32) (v28 : BitVec 32) (v700 : BitVec 32) (k0_hw48 : k0_chk48 i v0 v28 v700), ∀ (k0_h1 : k0_cond1 i v0 = 1#1), ∀ (k0_h4 : k0_cond4 i v28 = 1#1), 8 ∣ (k0_mult93 v700).toNat := fun i v0 v28 v700 k0_hw48 k0_h1 k0_h4 => k0_hw48.1 k0_h1 k0_h4
theorem k0_off190_inb : ∀ (i : grid0.Coords) (v0 : BitVec 32) (v28 : BitVec 32) (v700 : BitVec 32) (k0_hw48 : k0_chk48 i v0 v28 v700), ∀ (k0_h1 : k0_cond1 i v0 = 1#1), ∀ (k0_h4 : k0_cond4 i v28 = 1#1), ∀ a, (k0_off190 v700) a + S8x128.size a ≤ S262144x128.size a := fun i v0 v28 v700 k0_hw48 k0_h1 k0_h4 => k0_hw48.2 k0_h1 k0_h4

def k0_off191 (i : grid0.Coords) : Fin 1 → Nat :=
  let arg1 : BitVec 32 := BitVec.ofNat 32 (i 1).val
  let c256_i32_315 : BitVec 32 := 256#32
  let v710 : BitVec 32 := Scalar.muli arg1 c256_i32_315
  let c46_i32 : BitVec 32 := 46#32
  let v711 : BitVec 32 := Scalar.addi v710 c46_i32
  let v713 : Index := Scalar.indexCast v711
  ![v713.toNat]
def k0_mult95 (v714 : BitVec 32) : BitVec 32 :=
  let c8_i32_317 : BitVec 32 := 8#32
  let v715 : BitVec 32 := Scalar.muli v714 c8_i32_317
  v715

def k0_mult96 (i : grid0.Coords) : BitVec 32 :=
  let arg1 : BitVec 32 := BitVec.ofNat 32 (i 1).val
  let c256_i32_315 : BitVec 32 := 256#32
  let v710 : BitVec 32 := Scalar.muli arg1 c256_i32_315
  let c46_i32 : BitVec 32 := 46#32
  let v711 : BitVec 32 := Scalar.addi v710 c46_i32
  let c8_i32_318 : BitVec 32 := 8#32
  let v717 : BitVec 32 := Scalar.muli v711 c8_i32_318
  v717
def k0_off192 (i : grid0.Coords) : Fin 1 → Nat :=
  let c1_i32_316 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v712 : BitVec 32 := Scalar.subi c1_i32_316 v11
  ![v712.toNat]
def k0_off193 (i : grid0.Coords) : Fin 3 → Nat :=
  let c1_i32_316 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v712 : BitVec 32 := Scalar.subi c1_i32_316 v11
  let arg1 : BitVec 32 := BitVec.ofNat 32 (i 1).val
  let c256_i32_315 : BitVec 32 := 256#32
  let v710 : BitVec 32 := Scalar.muli arg1 c256_i32_315
  let c46_i32 : BitVec 32 := 46#32
  let v711 : BitVec 32 := Scalar.addi v710 c46_i32
  let c8_i32_318 : BitVec 32 := 8#32
  let v717 : BitVec 32 := Scalar.muli v711 c8_i32_318
  let v718 : BitVec 32 := v717
  let c0_i32_319 : BitVec 32 := 0#32
  ![v712.toNat, v718.toNat, 0]
def k0_off194 (v714 : BitVec 32) : Fin 2 → Nat :=
  let c8_i32_317 : BitVec 32 := 8#32
  let v715 : BitVec 32 := Scalar.muli v714 c8_i32_317
  let v716 : BitVec 32 := v715
  let c0_i32_320 : BitVec 32 := 0#32
  ![v716.toNat, 0]

def k0_chk49 (i : grid0.Coords) (v0 : BitVec 32) (v28 : BitVec 32) (v714 : BitVec 32) : Prop :=
  (∀ (k0_h1 : k0_cond1 i v0 = 1#1), ∀ (k0_h4 : k0_cond4 i v28 = 1#1), 8 ∣ (k0_mult95 v714).toNat) ∧
  (∀ (k0_h1 : k0_cond1 i v0 = 1#1), ∀ (k0_h4 : k0_cond4 i v28 = 1#1), ∀ a, (k0_off194 v714) a + S8x128.size a ≤ S262144x128.size a)
theorem k0_mult95_dvd : ∀ (i : grid0.Coords) (v0 : BitVec 32) (v28 : BitVec 32) (v714 : BitVec 32) (k0_hw49 : k0_chk49 i v0 v28 v714), ∀ (k0_h1 : k0_cond1 i v0 = 1#1), ∀ (k0_h4 : k0_cond4 i v28 = 1#1), 8 ∣ (k0_mult95 v714).toNat := fun i v0 v28 v714 k0_hw49 k0_h1 k0_h4 => k0_hw49.1 k0_h1 k0_h4
theorem k0_off194_inb : ∀ (i : grid0.Coords) (v0 : BitVec 32) (v28 : BitVec 32) (v714 : BitVec 32) (k0_hw49 : k0_chk49 i v0 v28 v714), ∀ (k0_h1 : k0_cond1 i v0 = 1#1), ∀ (k0_h4 : k0_cond4 i v28 = 1#1), ∀ a, (k0_off194 v714) a + S8x128.size a ≤ S262144x128.size a := fun i v0 v28 v714 k0_hw49 k0_h1 k0_h4 => k0_hw49.2 k0_h1 k0_h4

def k0_off195 (i : grid0.Coords) : Fin 1 → Nat :=
  let arg1 : BitVec 32 := BitVec.ofNat 32 (i 1).val
  let c256_i32_321 : BitVec 32 := 256#32
  let v724 : BitVec 32 := Scalar.muli arg1 c256_i32_321
  let c47_i32 : BitVec 32 := 47#32
  let v725 : BitVec 32 := Scalar.addi v724 c47_i32
  let v727 : Index := Scalar.indexCast v725
  ![v727.toNat]
def k0_mult97 (v728 : BitVec 32) : BitVec 32 :=
  let c8_i32_323 : BitVec 32 := 8#32
  let v729 : BitVec 32 := Scalar.muli v728 c8_i32_323
  v729

def k0_mult98 (i : grid0.Coords) : BitVec 32 :=
  let arg1 : BitVec 32 := BitVec.ofNat 32 (i 1).val
  let c256_i32_321 : BitVec 32 := 256#32
  let v724 : BitVec 32 := Scalar.muli arg1 c256_i32_321
  let c47_i32 : BitVec 32 := 47#32
  let v725 : BitVec 32 := Scalar.addi v724 c47_i32
  let c8_i32_324 : BitVec 32 := 8#32
  let v731 : BitVec 32 := Scalar.muli v725 c8_i32_324
  v731
def k0_off196 (i : grid0.Coords) : Fin 1 → Nat :=
  let c1_i32_322 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v726 : BitVec 32 := Scalar.subi c1_i32_322 v11
  ![v726.toNat]
def k0_off197 (i : grid0.Coords) : Fin 3 → Nat :=
  let c1_i32_322 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v726 : BitVec 32 := Scalar.subi c1_i32_322 v11
  let arg1 : BitVec 32 := BitVec.ofNat 32 (i 1).val
  let c256_i32_321 : BitVec 32 := 256#32
  let v724 : BitVec 32 := Scalar.muli arg1 c256_i32_321
  let c47_i32 : BitVec 32 := 47#32
  let v725 : BitVec 32 := Scalar.addi v724 c47_i32
  let c8_i32_324 : BitVec 32 := 8#32
  let v731 : BitVec 32 := Scalar.muli v725 c8_i32_324
  let v732 : BitVec 32 := v731
  let c0_i32_325 : BitVec 32 := 0#32
  ![v726.toNat, v732.toNat, 0]
def k0_off198 (v728 : BitVec 32) : Fin 2 → Nat :=
  let c8_i32_323 : BitVec 32 := 8#32
  let v729 : BitVec 32 := Scalar.muli v728 c8_i32_323
  let v730 : BitVec 32 := v729
  let c0_i32_326 : BitVec 32 := 0#32
  ![v730.toNat, 0]

def k0_chk50 (i : grid0.Coords) (v0 : BitVec 32) (v28 : BitVec 32) (v728 : BitVec 32) : Prop :=
  (∀ (k0_h1 : k0_cond1 i v0 = 1#1), ∀ (k0_h4 : k0_cond4 i v28 = 1#1), 8 ∣ (k0_mult97 v728).toNat) ∧
  (∀ (k0_h1 : k0_cond1 i v0 = 1#1), ∀ (k0_h4 : k0_cond4 i v28 = 1#1), ∀ a, (k0_off198 v728) a + S8x128.size a ≤ S262144x128.size a)
theorem k0_mult97_dvd : ∀ (i : grid0.Coords) (v0 : BitVec 32) (v28 : BitVec 32) (v728 : BitVec 32) (k0_hw50 : k0_chk50 i v0 v28 v728), ∀ (k0_h1 : k0_cond1 i v0 = 1#1), ∀ (k0_h4 : k0_cond4 i v28 = 1#1), 8 ∣ (k0_mult97 v728).toNat := fun i v0 v28 v728 k0_hw50 k0_h1 k0_h4 => k0_hw50.1 k0_h1 k0_h4
theorem k0_off198_inb : ∀ (i : grid0.Coords) (v0 : BitVec 32) (v28 : BitVec 32) (v728 : BitVec 32) (k0_hw50 : k0_chk50 i v0 v28 v728), ∀ (k0_h1 : k0_cond1 i v0 = 1#1), ∀ (k0_h4 : k0_cond4 i v28 = 1#1), ∀ a, (k0_off198 v728) a + S8x128.size a ≤ S262144x128.size a := fun i v0 v28 v728 k0_hw50 k0_h1 k0_h4 => k0_hw50.2 k0_h1 k0_h4

def k0_off199 (i : grid0.Coords) : Fin 1 → Nat :=
  let arg1 : BitVec 32 := BitVec.ofNat 32 (i 1).val
  let c256_i32_327 : BitVec 32 := 256#32
  let v738 : BitVec 32 := Scalar.muli arg1 c256_i32_327
  let c48_i32 : BitVec 32 := 48#32
  let v739 : BitVec 32 := Scalar.addi v738 c48_i32
  let v741 : Index := Scalar.indexCast v739
  ![v741.toNat]
def k0_mult99 (v742 : BitVec 32) : BitVec 32 :=
  let c8_i32_329 : BitVec 32 := 8#32
  let v743 : BitVec 32 := Scalar.muli v742 c8_i32_329
  v743

def k0_mult100 (i : grid0.Coords) : BitVec 32 :=
  let arg1 : BitVec 32 := BitVec.ofNat 32 (i 1).val
  let c256_i32_327 : BitVec 32 := 256#32
  let v738 : BitVec 32 := Scalar.muli arg1 c256_i32_327
  let c48_i32 : BitVec 32 := 48#32
  let v739 : BitVec 32 := Scalar.addi v738 c48_i32
  let c8_i32_330 : BitVec 32 := 8#32
  let v745 : BitVec 32 := Scalar.muli v739 c8_i32_330
  v745
def k0_off200 (i : grid0.Coords) : Fin 1 → Nat :=
  let c1_i32_328 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v740 : BitVec 32 := Scalar.subi c1_i32_328 v11
  ![v740.toNat]
def k0_off201 (i : grid0.Coords) : Fin 3 → Nat :=
  let c1_i32_328 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v740 : BitVec 32 := Scalar.subi c1_i32_328 v11
  let arg1 : BitVec 32 := BitVec.ofNat 32 (i 1).val
  let c256_i32_327 : BitVec 32 := 256#32
  let v738 : BitVec 32 := Scalar.muli arg1 c256_i32_327
  let c48_i32 : BitVec 32 := 48#32
  let v739 : BitVec 32 := Scalar.addi v738 c48_i32
  let c8_i32_330 : BitVec 32 := 8#32
  let v745 : BitVec 32 := Scalar.muli v739 c8_i32_330
  let v746 : BitVec 32 := v745
  let c0_i32_331 : BitVec 32 := 0#32
  ![v740.toNat, v746.toNat, 0]
def k0_off202 (v742 : BitVec 32) : Fin 2 → Nat :=
  let c8_i32_329 : BitVec 32 := 8#32
  let v743 : BitVec 32 := Scalar.muli v742 c8_i32_329
  let v744 : BitVec 32 := v743
  let c0_i32_332 : BitVec 32 := 0#32
  ![v744.toNat, 0]

def k0_chk51 (i : grid0.Coords) (v0 : BitVec 32) (v28 : BitVec 32) (v742 : BitVec 32) : Prop :=
  (∀ (k0_h1 : k0_cond1 i v0 = 1#1), ∀ (k0_h4 : k0_cond4 i v28 = 1#1), 8 ∣ (k0_mult99 v742).toNat) ∧
  (∀ (k0_h1 : k0_cond1 i v0 = 1#1), ∀ (k0_h4 : k0_cond4 i v28 = 1#1), ∀ a, (k0_off202 v742) a + S8x128.size a ≤ S262144x128.size a)
theorem k0_mult99_dvd : ∀ (i : grid0.Coords) (v0 : BitVec 32) (v28 : BitVec 32) (v742 : BitVec 32) (k0_hw51 : k0_chk51 i v0 v28 v742), ∀ (k0_h1 : k0_cond1 i v0 = 1#1), ∀ (k0_h4 : k0_cond4 i v28 = 1#1), 8 ∣ (k0_mult99 v742).toNat := fun i v0 v28 v742 k0_hw51 k0_h1 k0_h4 => k0_hw51.1 k0_h1 k0_h4
theorem k0_off202_inb : ∀ (i : grid0.Coords) (v0 : BitVec 32) (v28 : BitVec 32) (v742 : BitVec 32) (k0_hw51 : k0_chk51 i v0 v28 v742), ∀ (k0_h1 : k0_cond1 i v0 = 1#1), ∀ (k0_h4 : k0_cond4 i v28 = 1#1), ∀ a, (k0_off202 v742) a + S8x128.size a ≤ S262144x128.size a := fun i v0 v28 v742 k0_hw51 k0_h1 k0_h4 => k0_hw51.2 k0_h1 k0_h4

def k0_off203 (i : grid0.Coords) : Fin 1 → Nat :=
  let arg1 : BitVec 32 := BitVec.ofNat 32 (i 1).val
  let c256_i32_333 : BitVec 32 := 256#32
  let v752 : BitVec 32 := Scalar.muli arg1 c256_i32_333
  let c49_i32 : BitVec 32 := 49#32
  let v753 : BitVec 32 := Scalar.addi v752 c49_i32
  let v755 : Index := Scalar.indexCast v753
  ![v755.toNat]
def k0_mult101 (v756 : BitVec 32) : BitVec 32 :=
  let c8_i32_335 : BitVec 32 := 8#32
  let v757 : BitVec 32 := Scalar.muli v756 c8_i32_335
  v757

def k0_mult102 (i : grid0.Coords) : BitVec 32 :=
  let arg1 : BitVec 32 := BitVec.ofNat 32 (i 1).val
  let c256_i32_333 : BitVec 32 := 256#32
  let v752 : BitVec 32 := Scalar.muli arg1 c256_i32_333
  let c49_i32 : BitVec 32 := 49#32
  let v753 : BitVec 32 := Scalar.addi v752 c49_i32
  let c8_i32_336 : BitVec 32 := 8#32
  let v759 : BitVec 32 := Scalar.muli v753 c8_i32_336
  v759
def k0_off204 (i : grid0.Coords) : Fin 1 → Nat :=
  let c1_i32_334 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v754 : BitVec 32 := Scalar.subi c1_i32_334 v11
  ![v754.toNat]
def k0_off205 (i : grid0.Coords) : Fin 3 → Nat :=
  let c1_i32_334 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v754 : BitVec 32 := Scalar.subi c1_i32_334 v11
  let arg1 : BitVec 32 := BitVec.ofNat 32 (i 1).val
  let c256_i32_333 : BitVec 32 := 256#32
  let v752 : BitVec 32 := Scalar.muli arg1 c256_i32_333
  let c49_i32 : BitVec 32 := 49#32
  let v753 : BitVec 32 := Scalar.addi v752 c49_i32
  let c8_i32_336 : BitVec 32 := 8#32
  let v759 : BitVec 32 := Scalar.muli v753 c8_i32_336
  let v760 : BitVec 32 := v759
  let c0_i32_337 : BitVec 32 := 0#32
  ![v754.toNat, v760.toNat, 0]
def k0_off206 (v756 : BitVec 32) : Fin 2 → Nat :=
  let c8_i32_335 : BitVec 32 := 8#32
  let v757 : BitVec 32 := Scalar.muli v756 c8_i32_335
  let v758 : BitVec 32 := v757
  let c0_i32_338 : BitVec 32 := 0#32
  ![v758.toNat, 0]

def k0_chk52 (i : grid0.Coords) (v0 : BitVec 32) (v28 : BitVec 32) (v756 : BitVec 32) : Prop :=
  (∀ (k0_h1 : k0_cond1 i v0 = 1#1), ∀ (k0_h4 : k0_cond4 i v28 = 1#1), 8 ∣ (k0_mult101 v756).toNat) ∧
  (∀ (k0_h1 : k0_cond1 i v0 = 1#1), ∀ (k0_h4 : k0_cond4 i v28 = 1#1), ∀ a, (k0_off206 v756) a + S8x128.size a ≤ S262144x128.size a)
theorem k0_mult101_dvd : ∀ (i : grid0.Coords) (v0 : BitVec 32) (v28 : BitVec 32) (v756 : BitVec 32) (k0_hw52 : k0_chk52 i v0 v28 v756), ∀ (k0_h1 : k0_cond1 i v0 = 1#1), ∀ (k0_h4 : k0_cond4 i v28 = 1#1), 8 ∣ (k0_mult101 v756).toNat := fun i v0 v28 v756 k0_hw52 k0_h1 k0_h4 => k0_hw52.1 k0_h1 k0_h4
theorem k0_off206_inb : ∀ (i : grid0.Coords) (v0 : BitVec 32) (v28 : BitVec 32) (v756 : BitVec 32) (k0_hw52 : k0_chk52 i v0 v28 v756), ∀ (k0_h1 : k0_cond1 i v0 = 1#1), ∀ (k0_h4 : k0_cond4 i v28 = 1#1), ∀ a, (k0_off206 v756) a + S8x128.size a ≤ S262144x128.size a := fun i v0 v28 v756 k0_hw52 k0_h1 k0_h4 => k0_hw52.2 k0_h1 k0_h4

def k0_off207 (i : grid0.Coords) : Fin 1 → Nat :=
  let arg1 : BitVec 32 := BitVec.ofNat 32 (i 1).val
  let c256_i32_339 : BitVec 32 := 256#32
  let v766 : BitVec 32 := Scalar.muli arg1 c256_i32_339
  let c50_i32 : BitVec 32 := 50#32
  let v767 : BitVec 32 := Scalar.addi v766 c50_i32
  let v769 : Index := Scalar.indexCast v767
  ![v769.toNat]
def k0_mult103 (v770 : BitVec 32) : BitVec 32 :=
  let c8_i32_341 : BitVec 32 := 8#32
  let v771 : BitVec 32 := Scalar.muli v770 c8_i32_341
  v771

def k0_mult104 (i : grid0.Coords) : BitVec 32 :=
  let arg1 : BitVec 32 := BitVec.ofNat 32 (i 1).val
  let c256_i32_339 : BitVec 32 := 256#32
  let v766 : BitVec 32 := Scalar.muli arg1 c256_i32_339
  let c50_i32 : BitVec 32 := 50#32
  let v767 : BitVec 32 := Scalar.addi v766 c50_i32
  let c8_i32_342 : BitVec 32 := 8#32
  let v773 : BitVec 32 := Scalar.muli v767 c8_i32_342
  v773
def k0_off208 (i : grid0.Coords) : Fin 1 → Nat :=
  let c1_i32_340 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v768 : BitVec 32 := Scalar.subi c1_i32_340 v11
  ![v768.toNat]
def k0_off209 (i : grid0.Coords) : Fin 3 → Nat :=
  let c1_i32_340 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v768 : BitVec 32 := Scalar.subi c1_i32_340 v11
  let arg1 : BitVec 32 := BitVec.ofNat 32 (i 1).val
  let c256_i32_339 : BitVec 32 := 256#32
  let v766 : BitVec 32 := Scalar.muli arg1 c256_i32_339
  let c50_i32 : BitVec 32 := 50#32
  let v767 : BitVec 32 := Scalar.addi v766 c50_i32
  let c8_i32_342 : BitVec 32 := 8#32
  let v773 : BitVec 32 := Scalar.muli v767 c8_i32_342
  let v774 : BitVec 32 := v773
  let c0_i32_343 : BitVec 32 := 0#32
  ![v768.toNat, v774.toNat, 0]
def k0_off210 (v770 : BitVec 32) : Fin 2 → Nat :=
  let c8_i32_341 : BitVec 32 := 8#32
  let v771 : BitVec 32 := Scalar.muli v770 c8_i32_341
  let v772 : BitVec 32 := v771
  let c0_i32_344 : BitVec 32 := 0#32
  ![v772.toNat, 0]

def k0_chk53 (i : grid0.Coords) (v0 : BitVec 32) (v28 : BitVec 32) (v770 : BitVec 32) : Prop :=
  (∀ (k0_h1 : k0_cond1 i v0 = 1#1), ∀ (k0_h4 : k0_cond4 i v28 = 1#1), 8 ∣ (k0_mult103 v770).toNat) ∧
  (∀ (k0_h1 : k0_cond1 i v0 = 1#1), ∀ (k0_h4 : k0_cond4 i v28 = 1#1), ∀ a, (k0_off210 v770) a + S8x128.size a ≤ S262144x128.size a)
theorem k0_mult103_dvd : ∀ (i : grid0.Coords) (v0 : BitVec 32) (v28 : BitVec 32) (v770 : BitVec 32) (k0_hw53 : k0_chk53 i v0 v28 v770), ∀ (k0_h1 : k0_cond1 i v0 = 1#1), ∀ (k0_h4 : k0_cond4 i v28 = 1#1), 8 ∣ (k0_mult103 v770).toNat := fun i v0 v28 v770 k0_hw53 k0_h1 k0_h4 => k0_hw53.1 k0_h1 k0_h4
theorem k0_off210_inb : ∀ (i : grid0.Coords) (v0 : BitVec 32) (v28 : BitVec 32) (v770 : BitVec 32) (k0_hw53 : k0_chk53 i v0 v28 v770), ∀ (k0_h1 : k0_cond1 i v0 = 1#1), ∀ (k0_h4 : k0_cond4 i v28 = 1#1), ∀ a, (k0_off210 v770) a + S8x128.size a ≤ S262144x128.size a := fun i v0 v28 v770 k0_hw53 k0_h1 k0_h4 => k0_hw53.2 k0_h1 k0_h4

def k0_off211 (i : grid0.Coords) : Fin 1 → Nat :=
  let arg1 : BitVec 32 := BitVec.ofNat 32 (i 1).val
  let c256_i32_345 : BitVec 32 := 256#32
  let v780 : BitVec 32 := Scalar.muli arg1 c256_i32_345
  let c51_i32 : BitVec 32 := 51#32
  let v781 : BitVec 32 := Scalar.addi v780 c51_i32
  let v783 : Index := Scalar.indexCast v781
  ![v783.toNat]
def k0_mult105 (v784 : BitVec 32) : BitVec 32 :=
  let c8_i32_347 : BitVec 32 := 8#32
  let v785 : BitVec 32 := Scalar.muli v784 c8_i32_347
  v785

def k0_mult106 (i : grid0.Coords) : BitVec 32 :=
  let arg1 : BitVec 32 := BitVec.ofNat 32 (i 1).val
  let c256_i32_345 : BitVec 32 := 256#32
  let v780 : BitVec 32 := Scalar.muli arg1 c256_i32_345
  let c51_i32 : BitVec 32 := 51#32
  let v781 : BitVec 32 := Scalar.addi v780 c51_i32
  let c8_i32_348 : BitVec 32 := 8#32
  let v787 : BitVec 32 := Scalar.muli v781 c8_i32_348
  v787
def k0_off212 (i : grid0.Coords) : Fin 1 → Nat :=
  let c1_i32_346 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v782 : BitVec 32 := Scalar.subi c1_i32_346 v11
  ![v782.toNat]
def k0_off213 (i : grid0.Coords) : Fin 3 → Nat :=
  let c1_i32_346 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v782 : BitVec 32 := Scalar.subi c1_i32_346 v11
  let arg1 : BitVec 32 := BitVec.ofNat 32 (i 1).val
  let c256_i32_345 : BitVec 32 := 256#32
  let v780 : BitVec 32 := Scalar.muli arg1 c256_i32_345
  let c51_i32 : BitVec 32 := 51#32
  let v781 : BitVec 32 := Scalar.addi v780 c51_i32
  let c8_i32_348 : BitVec 32 := 8#32
  let v787 : BitVec 32 := Scalar.muli v781 c8_i32_348
  let v788 : BitVec 32 := v787
  let c0_i32_349 : BitVec 32 := 0#32
  ![v782.toNat, v788.toNat, 0]
def k0_off214 (v784 : BitVec 32) : Fin 2 → Nat :=
  let c8_i32_347 : BitVec 32 := 8#32
  let v785 : BitVec 32 := Scalar.muli v784 c8_i32_347
  let v786 : BitVec 32 := v785
  let c0_i32_350 : BitVec 32 := 0#32
  ![v786.toNat, 0]

def k0_chk54 (i : grid0.Coords) (v0 : BitVec 32) (v28 : BitVec 32) (v784 : BitVec 32) : Prop :=
  (∀ (k0_h1 : k0_cond1 i v0 = 1#1), ∀ (k0_h4 : k0_cond4 i v28 = 1#1), 8 ∣ (k0_mult105 v784).toNat) ∧
  (∀ (k0_h1 : k0_cond1 i v0 = 1#1), ∀ (k0_h4 : k0_cond4 i v28 = 1#1), ∀ a, (k0_off214 v784) a + S8x128.size a ≤ S262144x128.size a)
theorem k0_mult105_dvd : ∀ (i : grid0.Coords) (v0 : BitVec 32) (v28 : BitVec 32) (v784 : BitVec 32) (k0_hw54 : k0_chk54 i v0 v28 v784), ∀ (k0_h1 : k0_cond1 i v0 = 1#1), ∀ (k0_h4 : k0_cond4 i v28 = 1#1), 8 ∣ (k0_mult105 v784).toNat := fun i v0 v28 v784 k0_hw54 k0_h1 k0_h4 => k0_hw54.1 k0_h1 k0_h4
theorem k0_off214_inb : ∀ (i : grid0.Coords) (v0 : BitVec 32) (v28 : BitVec 32) (v784 : BitVec 32) (k0_hw54 : k0_chk54 i v0 v28 v784), ∀ (k0_h1 : k0_cond1 i v0 = 1#1), ∀ (k0_h4 : k0_cond4 i v28 = 1#1), ∀ a, (k0_off214 v784) a + S8x128.size a ≤ S262144x128.size a := fun i v0 v28 v784 k0_hw54 k0_h1 k0_h4 => k0_hw54.2 k0_h1 k0_h4

def k0_off215 (i : grid0.Coords) : Fin 1 → Nat :=
  let arg1 : BitVec 32 := BitVec.ofNat 32 (i 1).val
  let c256_i32_351 : BitVec 32 := 256#32
  let v794 : BitVec 32 := Scalar.muli arg1 c256_i32_351
  let c52_i32 : BitVec 32 := 52#32
  let v795 : BitVec 32 := Scalar.addi v794 c52_i32
  let v797 : Index := Scalar.indexCast v795
  ![v797.toNat]
def k0_mult107 (v798 : BitVec 32) : BitVec 32 :=
  let c8_i32_353 : BitVec 32 := 8#32
  let v799 : BitVec 32 := Scalar.muli v798 c8_i32_353
  v799

def k0_mult108 (i : grid0.Coords) : BitVec 32 :=
  let arg1 : BitVec 32 := BitVec.ofNat 32 (i 1).val
  let c256_i32_351 : BitVec 32 := 256#32
  let v794 : BitVec 32 := Scalar.muli arg1 c256_i32_351
  let c52_i32 : BitVec 32 := 52#32
  let v795 : BitVec 32 := Scalar.addi v794 c52_i32
  let c8_i32_354 : BitVec 32 := 8#32
  let v801 : BitVec 32 := Scalar.muli v795 c8_i32_354
  v801
def k0_off216 (i : grid0.Coords) : Fin 1 → Nat :=
  let c1_i32_352 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v796 : BitVec 32 := Scalar.subi c1_i32_352 v11
  ![v796.toNat]
def k0_off217 (i : grid0.Coords) : Fin 3 → Nat :=
  let c1_i32_352 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v796 : BitVec 32 := Scalar.subi c1_i32_352 v11
  let arg1 : BitVec 32 := BitVec.ofNat 32 (i 1).val
  let c256_i32_351 : BitVec 32 := 256#32
  let v794 : BitVec 32 := Scalar.muli arg1 c256_i32_351
  let c52_i32 : BitVec 32 := 52#32
  let v795 : BitVec 32 := Scalar.addi v794 c52_i32
  let c8_i32_354 : BitVec 32 := 8#32
  let v801 : BitVec 32 := Scalar.muli v795 c8_i32_354
  let v802 : BitVec 32 := v801
  let c0_i32_355 : BitVec 32 := 0#32
  ![v796.toNat, v802.toNat, 0]
def k0_off218 (v798 : BitVec 32) : Fin 2 → Nat :=
  let c8_i32_353 : BitVec 32 := 8#32
  let v799 : BitVec 32 := Scalar.muli v798 c8_i32_353
  let v800 : BitVec 32 := v799
  let c0_i32_356 : BitVec 32 := 0#32
  ![v800.toNat, 0]

def k0_chk55 (i : grid0.Coords) (v0 : BitVec 32) (v28 : BitVec 32) (v798 : BitVec 32) : Prop :=
  (∀ (k0_h1 : k0_cond1 i v0 = 1#1), ∀ (k0_h4 : k0_cond4 i v28 = 1#1), 8 ∣ (k0_mult107 v798).toNat) ∧
  (∀ (k0_h1 : k0_cond1 i v0 = 1#1), ∀ (k0_h4 : k0_cond4 i v28 = 1#1), ∀ a, (k0_off218 v798) a + S8x128.size a ≤ S262144x128.size a)
theorem k0_mult107_dvd : ∀ (i : grid0.Coords) (v0 : BitVec 32) (v28 : BitVec 32) (v798 : BitVec 32) (k0_hw55 : k0_chk55 i v0 v28 v798), ∀ (k0_h1 : k0_cond1 i v0 = 1#1), ∀ (k0_h4 : k0_cond4 i v28 = 1#1), 8 ∣ (k0_mult107 v798).toNat := fun i v0 v28 v798 k0_hw55 k0_h1 k0_h4 => k0_hw55.1 k0_h1 k0_h4
theorem k0_off218_inb : ∀ (i : grid0.Coords) (v0 : BitVec 32) (v28 : BitVec 32) (v798 : BitVec 32) (k0_hw55 : k0_chk55 i v0 v28 v798), ∀ (k0_h1 : k0_cond1 i v0 = 1#1), ∀ (k0_h4 : k0_cond4 i v28 = 1#1), ∀ a, (k0_off218 v798) a + S8x128.size a ≤ S262144x128.size a := fun i v0 v28 v798 k0_hw55 k0_h1 k0_h4 => k0_hw55.2 k0_h1 k0_h4

def k0_off219 (i : grid0.Coords) : Fin 1 → Nat :=
  let arg1 : BitVec 32 := BitVec.ofNat 32 (i 1).val
  let c256_i32_357 : BitVec 32 := 256#32
  let v808 : BitVec 32 := Scalar.muli arg1 c256_i32_357
  let c53_i32 : BitVec 32 := 53#32
  let v809 : BitVec 32 := Scalar.addi v808 c53_i32
  let v811 : Index := Scalar.indexCast v809
  ![v811.toNat]
def k0_mult109 (v812 : BitVec 32) : BitVec 32 :=
  let c8_i32_359 : BitVec 32 := 8#32
  let v813 : BitVec 32 := Scalar.muli v812 c8_i32_359
  v813

def k0_mult110 (i : grid0.Coords) : BitVec 32 :=
  let arg1 : BitVec 32 := BitVec.ofNat 32 (i 1).val
  let c256_i32_357 : BitVec 32 := 256#32
  let v808 : BitVec 32 := Scalar.muli arg1 c256_i32_357
  let c53_i32 : BitVec 32 := 53#32
  let v809 : BitVec 32 := Scalar.addi v808 c53_i32
  let c8_i32_360 : BitVec 32 := 8#32
  let v815 : BitVec 32 := Scalar.muli v809 c8_i32_360
  v815
def k0_off220 (i : grid0.Coords) : Fin 1 → Nat :=
  let c1_i32_358 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v810 : BitVec 32 := Scalar.subi c1_i32_358 v11
  ![v810.toNat]
def k0_off221 (i : grid0.Coords) : Fin 3 → Nat :=
  let c1_i32_358 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v810 : BitVec 32 := Scalar.subi c1_i32_358 v11
  let arg1 : BitVec 32 := BitVec.ofNat 32 (i 1).val
  let c256_i32_357 : BitVec 32 := 256#32
  let v808 : BitVec 32 := Scalar.muli arg1 c256_i32_357
  let c53_i32 : BitVec 32 := 53#32
  let v809 : BitVec 32 := Scalar.addi v808 c53_i32
  let c8_i32_360 : BitVec 32 := 8#32
  let v815 : BitVec 32 := Scalar.muli v809 c8_i32_360
  let v816 : BitVec 32 := v815
  let c0_i32_361 : BitVec 32 := 0#32
  ![v810.toNat, v816.toNat, 0]
def k0_off222 (v812 : BitVec 32) : Fin 2 → Nat :=
  let c8_i32_359 : BitVec 32 := 8#32
  let v813 : BitVec 32 := Scalar.muli v812 c8_i32_359
  let v814 : BitVec 32 := v813
  let c0_i32_362 : BitVec 32 := 0#32
  ![v814.toNat, 0]

def k0_chk56 (i : grid0.Coords) (v0 : BitVec 32) (v28 : BitVec 32) (v812 : BitVec 32) : Prop :=
  (∀ (k0_h1 : k0_cond1 i v0 = 1#1), ∀ (k0_h4 : k0_cond4 i v28 = 1#1), 8 ∣ (k0_mult109 v812).toNat) ∧
  (∀ (k0_h1 : k0_cond1 i v0 = 1#1), ∀ (k0_h4 : k0_cond4 i v28 = 1#1), ∀ a, (k0_off222 v812) a + S8x128.size a ≤ S262144x128.size a)
theorem k0_mult109_dvd : ∀ (i : grid0.Coords) (v0 : BitVec 32) (v28 : BitVec 32) (v812 : BitVec 32) (k0_hw56 : k0_chk56 i v0 v28 v812), ∀ (k0_h1 : k0_cond1 i v0 = 1#1), ∀ (k0_h4 : k0_cond4 i v28 = 1#1), 8 ∣ (k0_mult109 v812).toNat := fun i v0 v28 v812 k0_hw56 k0_h1 k0_h4 => k0_hw56.1 k0_h1 k0_h4
theorem k0_off222_inb : ∀ (i : grid0.Coords) (v0 : BitVec 32) (v28 : BitVec 32) (v812 : BitVec 32) (k0_hw56 : k0_chk56 i v0 v28 v812), ∀ (k0_h1 : k0_cond1 i v0 = 1#1), ∀ (k0_h4 : k0_cond4 i v28 = 1#1), ∀ a, (k0_off222 v812) a + S8x128.size a ≤ S262144x128.size a := fun i v0 v28 v812 k0_hw56 k0_h1 k0_h4 => k0_hw56.2 k0_h1 k0_h4

def k0_off223 (i : grid0.Coords) : Fin 1 → Nat :=
  let arg1 : BitVec 32 := BitVec.ofNat 32 (i 1).val
  let c256_i32_363 : BitVec 32 := 256#32
  let v822 : BitVec 32 := Scalar.muli arg1 c256_i32_363
  let c54_i32 : BitVec 32 := 54#32
  let v823 : BitVec 32 := Scalar.addi v822 c54_i32
  let v825 : Index := Scalar.indexCast v823
  ![v825.toNat]
def k0_mult111 (v826 : BitVec 32) : BitVec 32 :=
  let c8_i32_365 : BitVec 32 := 8#32
  let v827 : BitVec 32 := Scalar.muli v826 c8_i32_365
  v827

def k0_mult112 (i : grid0.Coords) : BitVec 32 :=
  let arg1 : BitVec 32 := BitVec.ofNat 32 (i 1).val
  let c256_i32_363 : BitVec 32 := 256#32
  let v822 : BitVec 32 := Scalar.muli arg1 c256_i32_363
  let c54_i32 : BitVec 32 := 54#32
  let v823 : BitVec 32 := Scalar.addi v822 c54_i32
  let c8_i32_366 : BitVec 32 := 8#32
  let v829 : BitVec 32 := Scalar.muli v823 c8_i32_366
  v829
def k0_off224 (i : grid0.Coords) : Fin 1 → Nat :=
  let c1_i32_364 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v824 : BitVec 32 := Scalar.subi c1_i32_364 v11
  ![v824.toNat]
def k0_off225 (i : grid0.Coords) : Fin 3 → Nat :=
  let c1_i32_364 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v824 : BitVec 32 := Scalar.subi c1_i32_364 v11
  let arg1 : BitVec 32 := BitVec.ofNat 32 (i 1).val
  let c256_i32_363 : BitVec 32 := 256#32
  let v822 : BitVec 32 := Scalar.muli arg1 c256_i32_363
  let c54_i32 : BitVec 32 := 54#32
  let v823 : BitVec 32 := Scalar.addi v822 c54_i32
  let c8_i32_366 : BitVec 32 := 8#32
  let v829 : BitVec 32 := Scalar.muli v823 c8_i32_366
  let v830 : BitVec 32 := v829
  let c0_i32_367 : BitVec 32 := 0#32
  ![v824.toNat, v830.toNat, 0]
def k0_off226 (v826 : BitVec 32) : Fin 2 → Nat :=
  let c8_i32_365 : BitVec 32 := 8#32
  let v827 : BitVec 32 := Scalar.muli v826 c8_i32_365
  let v828 : BitVec 32 := v827
  let c0_i32_368 : BitVec 32 := 0#32
  ![v828.toNat, 0]

def k0_chk57 (i : grid0.Coords) (v0 : BitVec 32) (v28 : BitVec 32) (v826 : BitVec 32) : Prop :=
  (∀ (k0_h1 : k0_cond1 i v0 = 1#1), ∀ (k0_h4 : k0_cond4 i v28 = 1#1), 8 ∣ (k0_mult111 v826).toNat) ∧
  (∀ (k0_h1 : k0_cond1 i v0 = 1#1), ∀ (k0_h4 : k0_cond4 i v28 = 1#1), ∀ a, (k0_off226 v826) a + S8x128.size a ≤ S262144x128.size a)
theorem k0_mult111_dvd : ∀ (i : grid0.Coords) (v0 : BitVec 32) (v28 : BitVec 32) (v826 : BitVec 32) (k0_hw57 : k0_chk57 i v0 v28 v826), ∀ (k0_h1 : k0_cond1 i v0 = 1#1), ∀ (k0_h4 : k0_cond4 i v28 = 1#1), 8 ∣ (k0_mult111 v826).toNat := fun i v0 v28 v826 k0_hw57 k0_h1 k0_h4 => k0_hw57.1 k0_h1 k0_h4
theorem k0_off226_inb : ∀ (i : grid0.Coords) (v0 : BitVec 32) (v28 : BitVec 32) (v826 : BitVec 32) (k0_hw57 : k0_chk57 i v0 v28 v826), ∀ (k0_h1 : k0_cond1 i v0 = 1#1), ∀ (k0_h4 : k0_cond4 i v28 = 1#1), ∀ a, (k0_off226 v826) a + S8x128.size a ≤ S262144x128.size a := fun i v0 v28 v826 k0_hw57 k0_h1 k0_h4 => k0_hw57.2 k0_h1 k0_h4

def k0_off227 (i : grid0.Coords) : Fin 1 → Nat :=
  let arg1 : BitVec 32 := BitVec.ofNat 32 (i 1).val
  let c256_i32_369 : BitVec 32 := 256#32
  let v836 : BitVec 32 := Scalar.muli arg1 c256_i32_369
  let c55_i32 : BitVec 32 := 55#32
  let v837 : BitVec 32 := Scalar.addi v836 c55_i32
  let v839 : Index := Scalar.indexCast v837
  ![v839.toNat]
def k0_mult113 (v840 : BitVec 32) : BitVec 32 :=
  let c8_i32_371 : BitVec 32 := 8#32
  let v841 : BitVec 32 := Scalar.muli v840 c8_i32_371
  v841

def k0_mult114 (i : grid0.Coords) : BitVec 32 :=
  let arg1 : BitVec 32 := BitVec.ofNat 32 (i 1).val
  let c256_i32_369 : BitVec 32 := 256#32
  let v836 : BitVec 32 := Scalar.muli arg1 c256_i32_369
  let c55_i32 : BitVec 32 := 55#32
  let v837 : BitVec 32 := Scalar.addi v836 c55_i32
  let c8_i32_372 : BitVec 32 := 8#32
  let v843 : BitVec 32 := Scalar.muli v837 c8_i32_372
  v843
def k0_off228 (i : grid0.Coords) : Fin 1 → Nat :=
  let c1_i32_370 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v838 : BitVec 32 := Scalar.subi c1_i32_370 v11
  ![v838.toNat]
def k0_off229 (i : grid0.Coords) : Fin 3 → Nat :=
  let c1_i32_370 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v838 : BitVec 32 := Scalar.subi c1_i32_370 v11
  let arg1 : BitVec 32 := BitVec.ofNat 32 (i 1).val
  let c256_i32_369 : BitVec 32 := 256#32
  let v836 : BitVec 32 := Scalar.muli arg1 c256_i32_369
  let c55_i32 : BitVec 32 := 55#32
  let v837 : BitVec 32 := Scalar.addi v836 c55_i32
  let c8_i32_372 : BitVec 32 := 8#32
  let v843 : BitVec 32 := Scalar.muli v837 c8_i32_372
  let v844 : BitVec 32 := v843
  let c0_i32_373 : BitVec 32 := 0#32
  ![v838.toNat, v844.toNat, 0]
def k0_off230 (v840 : BitVec 32) : Fin 2 → Nat :=
  let c8_i32_371 : BitVec 32 := 8#32
  let v841 : BitVec 32 := Scalar.muli v840 c8_i32_371
  let v842 : BitVec 32 := v841
  let c0_i32_374 : BitVec 32 := 0#32
  ![v842.toNat, 0]

def k0_chk58 (i : grid0.Coords) (v0 : BitVec 32) (v28 : BitVec 32) (v840 : BitVec 32) : Prop :=
  (∀ (k0_h1 : k0_cond1 i v0 = 1#1), ∀ (k0_h4 : k0_cond4 i v28 = 1#1), 8 ∣ (k0_mult113 v840).toNat) ∧
  (∀ (k0_h1 : k0_cond1 i v0 = 1#1), ∀ (k0_h4 : k0_cond4 i v28 = 1#1), ∀ a, (k0_off230 v840) a + S8x128.size a ≤ S262144x128.size a)
theorem k0_mult113_dvd : ∀ (i : grid0.Coords) (v0 : BitVec 32) (v28 : BitVec 32) (v840 : BitVec 32) (k0_hw58 : k0_chk58 i v0 v28 v840), ∀ (k0_h1 : k0_cond1 i v0 = 1#1), ∀ (k0_h4 : k0_cond4 i v28 = 1#1), 8 ∣ (k0_mult113 v840).toNat := fun i v0 v28 v840 k0_hw58 k0_h1 k0_h4 => k0_hw58.1 k0_h1 k0_h4
theorem k0_off230_inb : ∀ (i : grid0.Coords) (v0 : BitVec 32) (v28 : BitVec 32) (v840 : BitVec 32) (k0_hw58 : k0_chk58 i v0 v28 v840), ∀ (k0_h1 : k0_cond1 i v0 = 1#1), ∀ (k0_h4 : k0_cond4 i v28 = 1#1), ∀ a, (k0_off230 v840) a + S8x128.size a ≤ S262144x128.size a := fun i v0 v28 v840 k0_hw58 k0_h1 k0_h4 => k0_hw58.2 k0_h1 k0_h4

def k0_off231 (i : grid0.Coords) : Fin 1 → Nat :=
  let arg1 : BitVec 32 := BitVec.ofNat 32 (i 1).val
  let c256_i32_375 : BitVec 32 := 256#32
  let v850 : BitVec 32 := Scalar.muli arg1 c256_i32_375
  let c56_i32 : BitVec 32 := 56#32
  let v851 : BitVec 32 := Scalar.addi v850 c56_i32
  let v853 : Index := Scalar.indexCast v851
  ![v853.toNat]
def k0_mult115 (v854 : BitVec 32) : BitVec 32 :=
  let c8_i32_377 : BitVec 32 := 8#32
  let v855 : BitVec 32 := Scalar.muli v854 c8_i32_377
  v855

def k0_mult116 (i : grid0.Coords) : BitVec 32 :=
  let arg1 : BitVec 32 := BitVec.ofNat 32 (i 1).val
  let c256_i32_375 : BitVec 32 := 256#32
  let v850 : BitVec 32 := Scalar.muli arg1 c256_i32_375
  let c56_i32 : BitVec 32 := 56#32
  let v851 : BitVec 32 := Scalar.addi v850 c56_i32
  let c8_i32_378 : BitVec 32 := 8#32
  let v857 : BitVec 32 := Scalar.muli v851 c8_i32_378
  v857
def k0_off232 (i : grid0.Coords) : Fin 1 → Nat :=
  let c1_i32_376 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v852 : BitVec 32 := Scalar.subi c1_i32_376 v11
  ![v852.toNat]
def k0_off233 (i : grid0.Coords) : Fin 3 → Nat :=
  let c1_i32_376 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v852 : BitVec 32 := Scalar.subi c1_i32_376 v11
  let arg1 : BitVec 32 := BitVec.ofNat 32 (i 1).val
  let c256_i32_375 : BitVec 32 := 256#32
  let v850 : BitVec 32 := Scalar.muli arg1 c256_i32_375
  let c56_i32 : BitVec 32 := 56#32
  let v851 : BitVec 32 := Scalar.addi v850 c56_i32
  let c8_i32_378 : BitVec 32 := 8#32
  let v857 : BitVec 32 := Scalar.muli v851 c8_i32_378
  let v858 : BitVec 32 := v857
  let c0_i32_379 : BitVec 32 := 0#32
  ![v852.toNat, v858.toNat, 0]
def k0_off234 (v854 : BitVec 32) : Fin 2 → Nat :=
  let c8_i32_377 : BitVec 32 := 8#32
  let v855 : BitVec 32 := Scalar.muli v854 c8_i32_377
  let v856 : BitVec 32 := v855
  let c0_i32_380 : BitVec 32 := 0#32
  ![v856.toNat, 0]

def k0_chk59 (i : grid0.Coords) (v0 : BitVec 32) (v28 : BitVec 32) (v854 : BitVec 32) : Prop :=
  (∀ (k0_h1 : k0_cond1 i v0 = 1#1), ∀ (k0_h4 : k0_cond4 i v28 = 1#1), 8 ∣ (k0_mult115 v854).toNat) ∧
  (∀ (k0_h1 : k0_cond1 i v0 = 1#1), ∀ (k0_h4 : k0_cond4 i v28 = 1#1), ∀ a, (k0_off234 v854) a + S8x128.size a ≤ S262144x128.size a)
theorem k0_mult115_dvd : ∀ (i : grid0.Coords) (v0 : BitVec 32) (v28 : BitVec 32) (v854 : BitVec 32) (k0_hw59 : k0_chk59 i v0 v28 v854), ∀ (k0_h1 : k0_cond1 i v0 = 1#1), ∀ (k0_h4 : k0_cond4 i v28 = 1#1), 8 ∣ (k0_mult115 v854).toNat := fun i v0 v28 v854 k0_hw59 k0_h1 k0_h4 => k0_hw59.1 k0_h1 k0_h4
theorem k0_off234_inb : ∀ (i : grid0.Coords) (v0 : BitVec 32) (v28 : BitVec 32) (v854 : BitVec 32) (k0_hw59 : k0_chk59 i v0 v28 v854), ∀ (k0_h1 : k0_cond1 i v0 = 1#1), ∀ (k0_h4 : k0_cond4 i v28 = 1#1), ∀ a, (k0_off234 v854) a + S8x128.size a ≤ S262144x128.size a := fun i v0 v28 v854 k0_hw59 k0_h1 k0_h4 => k0_hw59.2 k0_h1 k0_h4

def k0_off235 (i : grid0.Coords) : Fin 1 → Nat :=
  let arg1 : BitVec 32 := BitVec.ofNat 32 (i 1).val
  let c256_i32_381 : BitVec 32 := 256#32
  let v864 : BitVec 32 := Scalar.muli arg1 c256_i32_381
  let c57_i32 : BitVec 32 := 57#32
  let v865 : BitVec 32 := Scalar.addi v864 c57_i32
  let v867 : Index := Scalar.indexCast v865
  ![v867.toNat]
def k0_mult117 (v868 : BitVec 32) : BitVec 32 :=
  let c8_i32_383 : BitVec 32 := 8#32
  let v869 : BitVec 32 := Scalar.muli v868 c8_i32_383
  v869

def k0_mult118 (i : grid0.Coords) : BitVec 32 :=
  let arg1 : BitVec 32 := BitVec.ofNat 32 (i 1).val
  let c256_i32_381 : BitVec 32 := 256#32
  let v864 : BitVec 32 := Scalar.muli arg1 c256_i32_381
  let c57_i32 : BitVec 32 := 57#32
  let v865 : BitVec 32 := Scalar.addi v864 c57_i32
  let c8_i32_384 : BitVec 32 := 8#32
  let v871 : BitVec 32 := Scalar.muli v865 c8_i32_384
  v871
def k0_off236 (i : grid0.Coords) : Fin 1 → Nat :=
  let c1_i32_382 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v866 : BitVec 32 := Scalar.subi c1_i32_382 v11
  ![v866.toNat]
def k0_off237 (i : grid0.Coords) : Fin 3 → Nat :=
  let c1_i32_382 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v866 : BitVec 32 := Scalar.subi c1_i32_382 v11
  let arg1 : BitVec 32 := BitVec.ofNat 32 (i 1).val
  let c256_i32_381 : BitVec 32 := 256#32
  let v864 : BitVec 32 := Scalar.muli arg1 c256_i32_381
  let c57_i32 : BitVec 32 := 57#32
  let v865 : BitVec 32 := Scalar.addi v864 c57_i32
  let c8_i32_384 : BitVec 32 := 8#32
  let v871 : BitVec 32 := Scalar.muli v865 c8_i32_384
  let v872 : BitVec 32 := v871
  let c0_i32_385 : BitVec 32 := 0#32
  ![v866.toNat, v872.toNat, 0]
def k0_off238 (v868 : BitVec 32) : Fin 2 → Nat :=
  let c8_i32_383 : BitVec 32 := 8#32
  let v869 : BitVec 32 := Scalar.muli v868 c8_i32_383
  let v870 : BitVec 32 := v869
  let c0_i32_386 : BitVec 32 := 0#32
  ![v870.toNat, 0]

def k0_chk60 (i : grid0.Coords) (v0 : BitVec 32) (v28 : BitVec 32) (v868 : BitVec 32) : Prop :=
  (∀ (k0_h1 : k0_cond1 i v0 = 1#1), ∀ (k0_h4 : k0_cond4 i v28 = 1#1), 8 ∣ (k0_mult117 v868).toNat) ∧
  (∀ (k0_h1 : k0_cond1 i v0 = 1#1), ∀ (k0_h4 : k0_cond4 i v28 = 1#1), ∀ a, (k0_off238 v868) a + S8x128.size a ≤ S262144x128.size a)
theorem k0_mult117_dvd : ∀ (i : grid0.Coords) (v0 : BitVec 32) (v28 : BitVec 32) (v868 : BitVec 32) (k0_hw60 : k0_chk60 i v0 v28 v868), ∀ (k0_h1 : k0_cond1 i v0 = 1#1), ∀ (k0_h4 : k0_cond4 i v28 = 1#1), 8 ∣ (k0_mult117 v868).toNat := fun i v0 v28 v868 k0_hw60 k0_h1 k0_h4 => k0_hw60.1 k0_h1 k0_h4
theorem k0_off238_inb : ∀ (i : grid0.Coords) (v0 : BitVec 32) (v28 : BitVec 32) (v868 : BitVec 32) (k0_hw60 : k0_chk60 i v0 v28 v868), ∀ (k0_h1 : k0_cond1 i v0 = 1#1), ∀ (k0_h4 : k0_cond4 i v28 = 1#1), ∀ a, (k0_off238 v868) a + S8x128.size a ≤ S262144x128.size a := fun i v0 v28 v868 k0_hw60 k0_h1 k0_h4 => k0_hw60.2 k0_h1 k0_h4

def k0_off239 (i : grid0.Coords) : Fin 1 → Nat :=
  let arg1 : BitVec 32 := BitVec.ofNat 32 (i 1).val
  let c256_i32_387 : BitVec 32 := 256#32
  let v878 : BitVec 32 := Scalar.muli arg1 c256_i32_387
  let c58_i32 : BitVec 32 := 58#32
  let v879 : BitVec 32 := Scalar.addi v878 c58_i32
  let v881 : Index := Scalar.indexCast v879
  ![v881.toNat]
def k0_mult119 (v882 : BitVec 32) : BitVec 32 :=
  let c8_i32_389 : BitVec 32 := 8#32
  let v883 : BitVec 32 := Scalar.muli v882 c8_i32_389
  v883

def k0_mult120 (i : grid0.Coords) : BitVec 32 :=
  let arg1 : BitVec 32 := BitVec.ofNat 32 (i 1).val
  let c256_i32_387 : BitVec 32 := 256#32
  let v878 : BitVec 32 := Scalar.muli arg1 c256_i32_387
  let c58_i32 : BitVec 32 := 58#32
  let v879 : BitVec 32 := Scalar.addi v878 c58_i32
  let c8_i32_390 : BitVec 32 := 8#32
  let v885 : BitVec 32 := Scalar.muli v879 c8_i32_390
  v885
def k0_off240 (i : grid0.Coords) : Fin 1 → Nat :=
  let c1_i32_388 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v880 : BitVec 32 := Scalar.subi c1_i32_388 v11
  ![v880.toNat]
def k0_off241 (i : grid0.Coords) : Fin 3 → Nat :=
  let c1_i32_388 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v880 : BitVec 32 := Scalar.subi c1_i32_388 v11
  let arg1 : BitVec 32 := BitVec.ofNat 32 (i 1).val
  let c256_i32_387 : BitVec 32 := 256#32
  let v878 : BitVec 32 := Scalar.muli arg1 c256_i32_387
  let c58_i32 : BitVec 32 := 58#32
  let v879 : BitVec 32 := Scalar.addi v878 c58_i32
  let c8_i32_390 : BitVec 32 := 8#32
  let v885 : BitVec 32 := Scalar.muli v879 c8_i32_390
  let v886 : BitVec 32 := v885
  let c0_i32_391 : BitVec 32 := 0#32
  ![v880.toNat, v886.toNat, 0]
def k0_off242 (v882 : BitVec 32) : Fin 2 → Nat :=
  let c8_i32_389 : BitVec 32 := 8#32
  let v883 : BitVec 32 := Scalar.muli v882 c8_i32_389
  let v884 : BitVec 32 := v883
  let c0_i32_392 : BitVec 32 := 0#32
  ![v884.toNat, 0]

def k0_chk61 (i : grid0.Coords) (v0 : BitVec 32) (v28 : BitVec 32) (v882 : BitVec 32) : Prop :=
  (∀ (k0_h1 : k0_cond1 i v0 = 1#1), ∀ (k0_h4 : k0_cond4 i v28 = 1#1), 8 ∣ (k0_mult119 v882).toNat) ∧
  (∀ (k0_h1 : k0_cond1 i v0 = 1#1), ∀ (k0_h4 : k0_cond4 i v28 = 1#1), ∀ a, (k0_off242 v882) a + S8x128.size a ≤ S262144x128.size a)
theorem k0_mult119_dvd : ∀ (i : grid0.Coords) (v0 : BitVec 32) (v28 : BitVec 32) (v882 : BitVec 32) (k0_hw61 : k0_chk61 i v0 v28 v882), ∀ (k0_h1 : k0_cond1 i v0 = 1#1), ∀ (k0_h4 : k0_cond4 i v28 = 1#1), 8 ∣ (k0_mult119 v882).toNat := fun i v0 v28 v882 k0_hw61 k0_h1 k0_h4 => k0_hw61.1 k0_h1 k0_h4
theorem k0_off242_inb : ∀ (i : grid0.Coords) (v0 : BitVec 32) (v28 : BitVec 32) (v882 : BitVec 32) (k0_hw61 : k0_chk61 i v0 v28 v882), ∀ (k0_h1 : k0_cond1 i v0 = 1#1), ∀ (k0_h4 : k0_cond4 i v28 = 1#1), ∀ a, (k0_off242 v882) a + S8x128.size a ≤ S262144x128.size a := fun i v0 v28 v882 k0_hw61 k0_h1 k0_h4 => k0_hw61.2 k0_h1 k0_h4

def k0_off243 (i : grid0.Coords) : Fin 1 → Nat :=
  let arg1 : BitVec 32 := BitVec.ofNat 32 (i 1).val
  let c256_i32_393 : BitVec 32 := 256#32
  let v892 : BitVec 32 := Scalar.muli arg1 c256_i32_393
  let c59_i32 : BitVec 32 := 59#32
  let v893 : BitVec 32 := Scalar.addi v892 c59_i32
  let v895 : Index := Scalar.indexCast v893
  ![v895.toNat]
def k0_mult121 (v896 : BitVec 32) : BitVec 32 :=
  let c8_i32_395 : BitVec 32 := 8#32
  let v897 : BitVec 32 := Scalar.muli v896 c8_i32_395
  v897

def k0_mult122 (i : grid0.Coords) : BitVec 32 :=
  let arg1 : BitVec 32 := BitVec.ofNat 32 (i 1).val
  let c256_i32_393 : BitVec 32 := 256#32
  let v892 : BitVec 32 := Scalar.muli arg1 c256_i32_393
  let c59_i32 : BitVec 32 := 59#32
  let v893 : BitVec 32 := Scalar.addi v892 c59_i32
  let c8_i32_396 : BitVec 32 := 8#32
  let v899 : BitVec 32 := Scalar.muli v893 c8_i32_396
  v899
def k0_off244 (i : grid0.Coords) : Fin 1 → Nat :=
  let c1_i32_394 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v894 : BitVec 32 := Scalar.subi c1_i32_394 v11
  ![v894.toNat]
def k0_off245 (i : grid0.Coords) : Fin 3 → Nat :=
  let c1_i32_394 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v894 : BitVec 32 := Scalar.subi c1_i32_394 v11
  let arg1 : BitVec 32 := BitVec.ofNat 32 (i 1).val
  let c256_i32_393 : BitVec 32 := 256#32
  let v892 : BitVec 32 := Scalar.muli arg1 c256_i32_393
  let c59_i32 : BitVec 32 := 59#32
  let v893 : BitVec 32 := Scalar.addi v892 c59_i32
  let c8_i32_396 : BitVec 32 := 8#32
  let v899 : BitVec 32 := Scalar.muli v893 c8_i32_396
  let v900 : BitVec 32 := v899
  let c0_i32_397 : BitVec 32 := 0#32
  ![v894.toNat, v900.toNat, 0]
def k0_off246 (v896 : BitVec 32) : Fin 2 → Nat :=
  let c8_i32_395 : BitVec 32 := 8#32
  let v897 : BitVec 32 := Scalar.muli v896 c8_i32_395
  let v898 : BitVec 32 := v897
  let c0_i32_398 : BitVec 32 := 0#32
  ![v898.toNat, 0]

def k0_chk62 (i : grid0.Coords) (v0 : BitVec 32) (v28 : BitVec 32) (v896 : BitVec 32) : Prop :=
  (∀ (k0_h1 : k0_cond1 i v0 = 1#1), ∀ (k0_h4 : k0_cond4 i v28 = 1#1), 8 ∣ (k0_mult121 v896).toNat) ∧
  (∀ (k0_h1 : k0_cond1 i v0 = 1#1), ∀ (k0_h4 : k0_cond4 i v28 = 1#1), ∀ a, (k0_off246 v896) a + S8x128.size a ≤ S262144x128.size a)
theorem k0_mult121_dvd : ∀ (i : grid0.Coords) (v0 : BitVec 32) (v28 : BitVec 32) (v896 : BitVec 32) (k0_hw62 : k0_chk62 i v0 v28 v896), ∀ (k0_h1 : k0_cond1 i v0 = 1#1), ∀ (k0_h4 : k0_cond4 i v28 = 1#1), 8 ∣ (k0_mult121 v896).toNat := fun i v0 v28 v896 k0_hw62 k0_h1 k0_h4 => k0_hw62.1 k0_h1 k0_h4
theorem k0_off246_inb : ∀ (i : grid0.Coords) (v0 : BitVec 32) (v28 : BitVec 32) (v896 : BitVec 32) (k0_hw62 : k0_chk62 i v0 v28 v896), ∀ (k0_h1 : k0_cond1 i v0 = 1#1), ∀ (k0_h4 : k0_cond4 i v28 = 1#1), ∀ a, (k0_off246 v896) a + S8x128.size a ≤ S262144x128.size a := fun i v0 v28 v896 k0_hw62 k0_h1 k0_h4 => k0_hw62.2 k0_h1 k0_h4

def k0_off247 (i : grid0.Coords) : Fin 1 → Nat :=
  let arg1 : BitVec 32 := BitVec.ofNat 32 (i 1).val
  let c256_i32_399 : BitVec 32 := 256#32
  let v906 : BitVec 32 := Scalar.muli arg1 c256_i32_399
  let c60_i32 : BitVec 32 := 60#32
  let v907 : BitVec 32 := Scalar.addi v906 c60_i32
  let v909 : Index := Scalar.indexCast v907
  ![v909.toNat]
def k0_mult123 (v910 : BitVec 32) : BitVec 32 :=
  let c8_i32_401 : BitVec 32 := 8#32
  let v911 : BitVec 32 := Scalar.muli v910 c8_i32_401
  v911

def k0_mult124 (i : grid0.Coords) : BitVec 32 :=
  let arg1 : BitVec 32 := BitVec.ofNat 32 (i 1).val
  let c256_i32_399 : BitVec 32 := 256#32
  let v906 : BitVec 32 := Scalar.muli arg1 c256_i32_399
  let c60_i32 : BitVec 32 := 60#32
  let v907 : BitVec 32 := Scalar.addi v906 c60_i32
  let c8_i32_402 : BitVec 32 := 8#32
  let v913 : BitVec 32 := Scalar.muli v907 c8_i32_402
  v913
def k0_off248 (i : grid0.Coords) : Fin 1 → Nat :=
  let c1_i32_400 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v908 : BitVec 32 := Scalar.subi c1_i32_400 v11
  ![v908.toNat]
def k0_off249 (i : grid0.Coords) : Fin 3 → Nat :=
  let c1_i32_400 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v908 : BitVec 32 := Scalar.subi c1_i32_400 v11
  let arg1 : BitVec 32 := BitVec.ofNat 32 (i 1).val
  let c256_i32_399 : BitVec 32 := 256#32
  let v906 : BitVec 32 := Scalar.muli arg1 c256_i32_399
  let c60_i32 : BitVec 32 := 60#32
  let v907 : BitVec 32 := Scalar.addi v906 c60_i32
  let c8_i32_402 : BitVec 32 := 8#32
  let v913 : BitVec 32 := Scalar.muli v907 c8_i32_402
  let v914 : BitVec 32 := v913
  let c0_i32_403 : BitVec 32 := 0#32
  ![v908.toNat, v914.toNat, 0]
def k0_off250 (v910 : BitVec 32) : Fin 2 → Nat :=
  let c8_i32_401 : BitVec 32 := 8#32
  let v911 : BitVec 32 := Scalar.muli v910 c8_i32_401
  let v912 : BitVec 32 := v911
  let c0_i32_404 : BitVec 32 := 0#32
  ![v912.toNat, 0]

def k0_chk63 (i : grid0.Coords) (v0 : BitVec 32) (v28 : BitVec 32) (v910 : BitVec 32) : Prop :=
  (∀ (k0_h1 : k0_cond1 i v0 = 1#1), ∀ (k0_h4 : k0_cond4 i v28 = 1#1), 8 ∣ (k0_mult123 v910).toNat) ∧
  (∀ (k0_h1 : k0_cond1 i v0 = 1#1), ∀ (k0_h4 : k0_cond4 i v28 = 1#1), ∀ a, (k0_off250 v910) a + S8x128.size a ≤ S262144x128.size a)
theorem k0_mult123_dvd : ∀ (i : grid0.Coords) (v0 : BitVec 32) (v28 : BitVec 32) (v910 : BitVec 32) (k0_hw63 : k0_chk63 i v0 v28 v910), ∀ (k0_h1 : k0_cond1 i v0 = 1#1), ∀ (k0_h4 : k0_cond4 i v28 = 1#1), 8 ∣ (k0_mult123 v910).toNat := fun i v0 v28 v910 k0_hw63 k0_h1 k0_h4 => k0_hw63.1 k0_h1 k0_h4
theorem k0_off250_inb : ∀ (i : grid0.Coords) (v0 : BitVec 32) (v28 : BitVec 32) (v910 : BitVec 32) (k0_hw63 : k0_chk63 i v0 v28 v910), ∀ (k0_h1 : k0_cond1 i v0 = 1#1), ∀ (k0_h4 : k0_cond4 i v28 = 1#1), ∀ a, (k0_off250 v910) a + S8x128.size a ≤ S262144x128.size a := fun i v0 v28 v910 k0_hw63 k0_h1 k0_h4 => k0_hw63.2 k0_h1 k0_h4

def k0_off251 (i : grid0.Coords) : Fin 1 → Nat :=
  let arg1 : BitVec 32 := BitVec.ofNat 32 (i 1).val
  let c256_i32_405 : BitVec 32 := 256#32
  let v920 : BitVec 32 := Scalar.muli arg1 c256_i32_405
  let c61_i32 : BitVec 32 := 61#32
  let v921 : BitVec 32 := Scalar.addi v920 c61_i32
  let v923 : Index := Scalar.indexCast v921
  ![v923.toNat]
def k0_mult125 (v924 : BitVec 32) : BitVec 32 :=
  let c8_i32_407 : BitVec 32 := 8#32
  let v925 : BitVec 32 := Scalar.muli v924 c8_i32_407
  v925

def k0_mult126 (i : grid0.Coords) : BitVec 32 :=
  let arg1 : BitVec 32 := BitVec.ofNat 32 (i 1).val
  let c256_i32_405 : BitVec 32 := 256#32
  let v920 : BitVec 32 := Scalar.muli arg1 c256_i32_405
  let c61_i32 : BitVec 32 := 61#32
  let v921 : BitVec 32 := Scalar.addi v920 c61_i32
  let c8_i32_408 : BitVec 32 := 8#32
  let v927 : BitVec 32 := Scalar.muli v921 c8_i32_408
  v927
def k0_off252 (i : grid0.Coords) : Fin 1 → Nat :=
  let c1_i32_406 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v922 : BitVec 32 := Scalar.subi c1_i32_406 v11
  ![v922.toNat]
def k0_off253 (i : grid0.Coords) : Fin 3 → Nat :=
  let c1_i32_406 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v922 : BitVec 32 := Scalar.subi c1_i32_406 v11
  let arg1 : BitVec 32 := BitVec.ofNat 32 (i 1).val
  let c256_i32_405 : BitVec 32 := 256#32
  let v920 : BitVec 32 := Scalar.muli arg1 c256_i32_405
  let c61_i32 : BitVec 32 := 61#32
  let v921 : BitVec 32 := Scalar.addi v920 c61_i32
  let c8_i32_408 : BitVec 32 := 8#32
  let v927 : BitVec 32 := Scalar.muli v921 c8_i32_408
  let v928 : BitVec 32 := v927
  let c0_i32_409 : BitVec 32 := 0#32
  ![v922.toNat, v928.toNat, 0]
def k0_off254 (v924 : BitVec 32) : Fin 2 → Nat :=
  let c8_i32_407 : BitVec 32 := 8#32
  let v925 : BitVec 32 := Scalar.muli v924 c8_i32_407
  let v926 : BitVec 32 := v925
  let c0_i32_410 : BitVec 32 := 0#32
  ![v926.toNat, 0]

def k0_chk64 (i : grid0.Coords) (v0 : BitVec 32) (v28 : BitVec 32) (v924 : BitVec 32) : Prop :=
  (∀ (k0_h1 : k0_cond1 i v0 = 1#1), ∀ (k0_h4 : k0_cond4 i v28 = 1#1), 8 ∣ (k0_mult125 v924).toNat) ∧
  (∀ (k0_h1 : k0_cond1 i v0 = 1#1), ∀ (k0_h4 : k0_cond4 i v28 = 1#1), ∀ a, (k0_off254 v924) a + S8x128.size a ≤ S262144x128.size a)
theorem k0_mult125_dvd : ∀ (i : grid0.Coords) (v0 : BitVec 32) (v28 : BitVec 32) (v924 : BitVec 32) (k0_hw64 : k0_chk64 i v0 v28 v924), ∀ (k0_h1 : k0_cond1 i v0 = 1#1), ∀ (k0_h4 : k0_cond4 i v28 = 1#1), 8 ∣ (k0_mult125 v924).toNat := fun i v0 v28 v924 k0_hw64 k0_h1 k0_h4 => k0_hw64.1 k0_h1 k0_h4
theorem k0_off254_inb : ∀ (i : grid0.Coords) (v0 : BitVec 32) (v28 : BitVec 32) (v924 : BitVec 32) (k0_hw64 : k0_chk64 i v0 v28 v924), ∀ (k0_h1 : k0_cond1 i v0 = 1#1), ∀ (k0_h4 : k0_cond4 i v28 = 1#1), ∀ a, (k0_off254 v924) a + S8x128.size a ≤ S262144x128.size a := fun i v0 v28 v924 k0_hw64 k0_h1 k0_h4 => k0_hw64.2 k0_h1 k0_h4

def k0_off255 (i : grid0.Coords) : Fin 1 → Nat :=
  let arg1 : BitVec 32 := BitVec.ofNat 32 (i 1).val
  let c256_i32_411 : BitVec 32 := 256#32
  let v934 : BitVec 32 := Scalar.muli arg1 c256_i32_411
  let c62_i32 : BitVec 32 := 62#32
  let v935 : BitVec 32 := Scalar.addi v934 c62_i32
  let v937 : Index := Scalar.indexCast v935
  ![v937.toNat]
def k0_mult127 (v938 : BitVec 32) : BitVec 32 :=
  let c8_i32_413 : BitVec 32 := 8#32
  let v939 : BitVec 32 := Scalar.muli v938 c8_i32_413
  v939

def k0_mult128 (i : grid0.Coords) : BitVec 32 :=
  let arg1 : BitVec 32 := BitVec.ofNat 32 (i 1).val
  let c256_i32_411 : BitVec 32 := 256#32
  let v934 : BitVec 32 := Scalar.muli arg1 c256_i32_411
  let c62_i32 : BitVec 32 := 62#32
  let v935 : BitVec 32 := Scalar.addi v934 c62_i32
  let c8_i32_414 : BitVec 32 := 8#32
  let v941 : BitVec 32 := Scalar.muli v935 c8_i32_414
  v941
def k0_off256 (i : grid0.Coords) : Fin 1 → Nat :=
  let c1_i32_412 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v936 : BitVec 32 := Scalar.subi c1_i32_412 v11
  ![v936.toNat]
def k0_off257 (i : grid0.Coords) : Fin 3 → Nat :=
  let c1_i32_412 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v936 : BitVec 32 := Scalar.subi c1_i32_412 v11
  let arg1 : BitVec 32 := BitVec.ofNat 32 (i 1).val
  let c256_i32_411 : BitVec 32 := 256#32
  let v934 : BitVec 32 := Scalar.muli arg1 c256_i32_411
  let c62_i32 : BitVec 32 := 62#32
  let v935 : BitVec 32 := Scalar.addi v934 c62_i32
  let c8_i32_414 : BitVec 32 := 8#32
  let v941 : BitVec 32 := Scalar.muli v935 c8_i32_414
  let v942 : BitVec 32 := v941
  let c0_i32_415 : BitVec 32 := 0#32
  ![v936.toNat, v942.toNat, 0]
def k0_off258 (v938 : BitVec 32) : Fin 2 → Nat :=
  let c8_i32_413 : BitVec 32 := 8#32
  let v939 : BitVec 32 := Scalar.muli v938 c8_i32_413
  let v940 : BitVec 32 := v939
  let c0_i32_416 : BitVec 32 := 0#32
  ![v940.toNat, 0]

def k0_chk65 (i : grid0.Coords) (v0 : BitVec 32) (v28 : BitVec 32) (v938 : BitVec 32) : Prop :=
  (∀ (k0_h1 : k0_cond1 i v0 = 1#1), ∀ (k0_h4 : k0_cond4 i v28 = 1#1), 8 ∣ (k0_mult127 v938).toNat) ∧
  (∀ (k0_h1 : k0_cond1 i v0 = 1#1), ∀ (k0_h4 : k0_cond4 i v28 = 1#1), ∀ a, (k0_off258 v938) a + S8x128.size a ≤ S262144x128.size a)
theorem k0_mult127_dvd : ∀ (i : grid0.Coords) (v0 : BitVec 32) (v28 : BitVec 32) (v938 : BitVec 32) (k0_hw65 : k0_chk65 i v0 v28 v938), ∀ (k0_h1 : k0_cond1 i v0 = 1#1), ∀ (k0_h4 : k0_cond4 i v28 = 1#1), 8 ∣ (k0_mult127 v938).toNat := fun i v0 v28 v938 k0_hw65 k0_h1 k0_h4 => k0_hw65.1 k0_h1 k0_h4
theorem k0_off258_inb : ∀ (i : grid0.Coords) (v0 : BitVec 32) (v28 : BitVec 32) (v938 : BitVec 32) (k0_hw65 : k0_chk65 i v0 v28 v938), ∀ (k0_h1 : k0_cond1 i v0 = 1#1), ∀ (k0_h4 : k0_cond4 i v28 = 1#1), ∀ a, (k0_off258 v938) a + S8x128.size a ≤ S262144x128.size a := fun i v0 v28 v938 k0_hw65 k0_h1 k0_h4 => k0_hw65.2 k0_h1 k0_h4

def k0_off259 (i : grid0.Coords) : Fin 1 → Nat :=
  let arg1 : BitVec 32 := BitVec.ofNat 32 (i 1).val
  let c256_i32_417 : BitVec 32 := 256#32
  let v948 : BitVec 32 := Scalar.muli arg1 c256_i32_417
  let c63_i32 : BitVec 32 := 63#32
  let v949 : BitVec 32 := Scalar.addi v948 c63_i32
  let v951 : Index := Scalar.indexCast v949
  ![v951.toNat]
def k0_mult129 (v952 : BitVec 32) : BitVec 32 :=
  let c8_i32_419 : BitVec 32 := 8#32
  let v953 : BitVec 32 := Scalar.muli v952 c8_i32_419
  v953

def k0_mult130 (i : grid0.Coords) : BitVec 32 :=
  let arg1 : BitVec 32 := BitVec.ofNat 32 (i 1).val
  let c256_i32_417 : BitVec 32 := 256#32
  let v948 : BitVec 32 := Scalar.muli arg1 c256_i32_417
  let c63_i32 : BitVec 32 := 63#32
  let v949 : BitVec 32 := Scalar.addi v948 c63_i32
  let c8_i32_420 : BitVec 32 := 8#32
  let v955 : BitVec 32 := Scalar.muli v949 c8_i32_420
  v955
def k0_off260 (i : grid0.Coords) : Fin 1 → Nat :=
  let c1_i32_418 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v950 : BitVec 32 := Scalar.subi c1_i32_418 v11
  ![v950.toNat]
def k0_off261 (i : grid0.Coords) : Fin 3 → Nat :=
  let c1_i32_418 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v950 : BitVec 32 := Scalar.subi c1_i32_418 v11
  let arg1 : BitVec 32 := BitVec.ofNat 32 (i 1).val
  let c256_i32_417 : BitVec 32 := 256#32
  let v948 : BitVec 32 := Scalar.muli arg1 c256_i32_417
  let c63_i32 : BitVec 32 := 63#32
  let v949 : BitVec 32 := Scalar.addi v948 c63_i32
  let c8_i32_420 : BitVec 32 := 8#32
  let v955 : BitVec 32 := Scalar.muli v949 c8_i32_420
  let v956 : BitVec 32 := v955
  let c0_i32_421 : BitVec 32 := 0#32
  ![v950.toNat, v956.toNat, 0]
def k0_off262 (v952 : BitVec 32) : Fin 2 → Nat :=
  let c8_i32_419 : BitVec 32 := 8#32
  let v953 : BitVec 32 := Scalar.muli v952 c8_i32_419
  let v954 : BitVec 32 := v953
  let c0_i32_422 : BitVec 32 := 0#32
  ![v954.toNat, 0]

def k0_chk66 (i : grid0.Coords) (v0 : BitVec 32) (v28 : BitVec 32) (v952 : BitVec 32) : Prop :=
  (∀ (k0_h1 : k0_cond1 i v0 = 1#1), ∀ (k0_h4 : k0_cond4 i v28 = 1#1), 8 ∣ (k0_mult129 v952).toNat) ∧
  (∀ (k0_h1 : k0_cond1 i v0 = 1#1), ∀ (k0_h4 : k0_cond4 i v28 = 1#1), ∀ a, (k0_off262 v952) a + S8x128.size a ≤ S262144x128.size a)
theorem k0_mult129_dvd : ∀ (i : grid0.Coords) (v0 : BitVec 32) (v28 : BitVec 32) (v952 : BitVec 32) (k0_hw66 : k0_chk66 i v0 v28 v952), ∀ (k0_h1 : k0_cond1 i v0 = 1#1), ∀ (k0_h4 : k0_cond4 i v28 = 1#1), 8 ∣ (k0_mult129 v952).toNat := fun i v0 v28 v952 k0_hw66 k0_h1 k0_h4 => k0_hw66.1 k0_h1 k0_h4
theorem k0_off262_inb : ∀ (i : grid0.Coords) (v0 : BitVec 32) (v28 : BitVec 32) (v952 : BitVec 32) (k0_hw66 : k0_chk66 i v0 v28 v952), ∀ (k0_h1 : k0_cond1 i v0 = 1#1), ∀ (k0_h4 : k0_cond4 i v28 = 1#1), ∀ a, (k0_off262 v952) a + S8x128.size a ≤ S262144x128.size a := fun i v0 v28 v952 k0_hw66 k0_h1 k0_h4 => k0_hw66.2 k0_h1 k0_h4

def k0_off263 (i : grid0.Coords) : Fin 1 → Nat :=
  let arg1 : BitVec 32 := BitVec.ofNat 32 (i 1).val
  let c256_i32_423 : BitVec 32 := 256#32
  let v962 : BitVec 32 := Scalar.muli arg1 c256_i32_423
  let c64_i32 : BitVec 32 := 64#32
  let v963 : BitVec 32 := Scalar.addi v962 c64_i32
  let v965 : Index := Scalar.indexCast v963
  ![v965.toNat]
def k0_mult131 (v966 : BitVec 32) : BitVec 32 :=
  let c8_i32_425 : BitVec 32 := 8#32
  let v967 : BitVec 32 := Scalar.muli v966 c8_i32_425
  v967

def k0_mult132 (i : grid0.Coords) : BitVec 32 :=
  let arg1 : BitVec 32 := BitVec.ofNat 32 (i 1).val
  let c256_i32_423 : BitVec 32 := 256#32
  let v962 : BitVec 32 := Scalar.muli arg1 c256_i32_423
  let c64_i32 : BitVec 32 := 64#32
  let v963 : BitVec 32 := Scalar.addi v962 c64_i32
  let c8_i32_426 : BitVec 32 := 8#32
  let v969 : BitVec 32 := Scalar.muli v963 c8_i32_426
  v969
def k0_off264 (i : grid0.Coords) : Fin 1 → Nat :=
  let c1_i32_424 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v964 : BitVec 32 := Scalar.subi c1_i32_424 v11
  ![v964.toNat]
def k0_off265 (i : grid0.Coords) : Fin 3 → Nat :=
  let c1_i32_424 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v964 : BitVec 32 := Scalar.subi c1_i32_424 v11
  let arg1 : BitVec 32 := BitVec.ofNat 32 (i 1).val
  let c256_i32_423 : BitVec 32 := 256#32
  let v962 : BitVec 32 := Scalar.muli arg1 c256_i32_423
  let c64_i32 : BitVec 32 := 64#32
  let v963 : BitVec 32 := Scalar.addi v962 c64_i32
  let c8_i32_426 : BitVec 32 := 8#32
  let v969 : BitVec 32 := Scalar.muli v963 c8_i32_426
  let v970 : BitVec 32 := v969
  let c0_i32_427 : BitVec 32 := 0#32
  ![v964.toNat, v970.toNat, 0]
def k0_off266 (v966 : BitVec 32) : Fin 2 → Nat :=
  let c8_i32_425 : BitVec 32 := 8#32
  let v967 : BitVec 32 := Scalar.muli v966 c8_i32_425
  let v968 : BitVec 32 := v967
  let c0_i32_428 : BitVec 32 := 0#32
  ![v968.toNat, 0]

def k0_chk67 (i : grid0.Coords) (v0 : BitVec 32) (v28 : BitVec 32) (v966 : BitVec 32) : Prop :=
  (∀ (k0_h1 : k0_cond1 i v0 = 1#1), ∀ (k0_h4 : k0_cond4 i v28 = 1#1), 8 ∣ (k0_mult131 v966).toNat) ∧
  (∀ (k0_h1 : k0_cond1 i v0 = 1#1), ∀ (k0_h4 : k0_cond4 i v28 = 1#1), ∀ a, (k0_off266 v966) a + S8x128.size a ≤ S262144x128.size a)
theorem k0_mult131_dvd : ∀ (i : grid0.Coords) (v0 : BitVec 32) (v28 : BitVec 32) (v966 : BitVec 32) (k0_hw67 : k0_chk67 i v0 v28 v966), ∀ (k0_h1 : k0_cond1 i v0 = 1#1), ∀ (k0_h4 : k0_cond4 i v28 = 1#1), 8 ∣ (k0_mult131 v966).toNat := fun i v0 v28 v966 k0_hw67 k0_h1 k0_h4 => k0_hw67.1 k0_h1 k0_h4
theorem k0_off266_inb : ∀ (i : grid0.Coords) (v0 : BitVec 32) (v28 : BitVec 32) (v966 : BitVec 32) (k0_hw67 : k0_chk67 i v0 v28 v966), ∀ (k0_h1 : k0_cond1 i v0 = 1#1), ∀ (k0_h4 : k0_cond4 i v28 = 1#1), ∀ a, (k0_off266 v966) a + S8x128.size a ≤ S262144x128.size a := fun i v0 v28 v966 k0_hw67 k0_h1 k0_h4 => k0_hw67.2 k0_h1 k0_h4

def k0_off267 (i : grid0.Coords) : Fin 1 → Nat :=
  let arg1 : BitVec 32 := BitVec.ofNat 32 (i 1).val
  let c256_i32_429 : BitVec 32 := 256#32
  let v976 : BitVec 32 := Scalar.muli arg1 c256_i32_429
  let c65_i32 : BitVec 32 := 65#32
  let v977 : BitVec 32 := Scalar.addi v976 c65_i32
  let v979 : Index := Scalar.indexCast v977
  ![v979.toNat]
def k0_mult133 (v980 : BitVec 32) : BitVec 32 :=
  let c8_i32_431 : BitVec 32 := 8#32
  let v981 : BitVec 32 := Scalar.muli v980 c8_i32_431
  v981

def k0_mult134 (i : grid0.Coords) : BitVec 32 :=
  let arg1 : BitVec 32 := BitVec.ofNat 32 (i 1).val
  let c256_i32_429 : BitVec 32 := 256#32
  let v976 : BitVec 32 := Scalar.muli arg1 c256_i32_429
  let c65_i32 : BitVec 32 := 65#32
  let v977 : BitVec 32 := Scalar.addi v976 c65_i32
  let c8_i32_432 : BitVec 32 := 8#32
  let v983 : BitVec 32 := Scalar.muli v977 c8_i32_432
  v983
def k0_off268 (i : grid0.Coords) : Fin 1 → Nat :=
  let c1_i32_430 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v978 : BitVec 32 := Scalar.subi c1_i32_430 v11
  ![v978.toNat]
def k0_off269 (i : grid0.Coords) : Fin 3 → Nat :=
  let c1_i32_430 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v978 : BitVec 32 := Scalar.subi c1_i32_430 v11
  let arg1 : BitVec 32 := BitVec.ofNat 32 (i 1).val
  let c256_i32_429 : BitVec 32 := 256#32
  let v976 : BitVec 32 := Scalar.muli arg1 c256_i32_429
  let c65_i32 : BitVec 32 := 65#32
  let v977 : BitVec 32 := Scalar.addi v976 c65_i32
  let c8_i32_432 : BitVec 32 := 8#32
  let v983 : BitVec 32 := Scalar.muli v977 c8_i32_432
  let v984 : BitVec 32 := v983
  let c0_i32_433 : BitVec 32 := 0#32
  ![v978.toNat, v984.toNat, 0]
def k0_off270 (v980 : BitVec 32) : Fin 2 → Nat :=
  let c8_i32_431 : BitVec 32 := 8#32
  let v981 : BitVec 32 := Scalar.muli v980 c8_i32_431
  let v982 : BitVec 32 := v981
  let c0_i32_434 : BitVec 32 := 0#32
  ![v982.toNat, 0]

def k0_chk68 (i : grid0.Coords) (v0 : BitVec 32) (v28 : BitVec 32) (v980 : BitVec 32) : Prop :=
  (∀ (k0_h1 : k0_cond1 i v0 = 1#1), ∀ (k0_h4 : k0_cond4 i v28 = 1#1), 8 ∣ (k0_mult133 v980).toNat) ∧
  (∀ (k0_h1 : k0_cond1 i v0 = 1#1), ∀ (k0_h4 : k0_cond4 i v28 = 1#1), ∀ a, (k0_off270 v980) a + S8x128.size a ≤ S262144x128.size a)
theorem k0_mult133_dvd : ∀ (i : grid0.Coords) (v0 : BitVec 32) (v28 : BitVec 32) (v980 : BitVec 32) (k0_hw68 : k0_chk68 i v0 v28 v980), ∀ (k0_h1 : k0_cond1 i v0 = 1#1), ∀ (k0_h4 : k0_cond4 i v28 = 1#1), 8 ∣ (k0_mult133 v980).toNat := fun i v0 v28 v980 k0_hw68 k0_h1 k0_h4 => k0_hw68.1 k0_h1 k0_h4
theorem k0_off270_inb : ∀ (i : grid0.Coords) (v0 : BitVec 32) (v28 : BitVec 32) (v980 : BitVec 32) (k0_hw68 : k0_chk68 i v0 v28 v980), ∀ (k0_h1 : k0_cond1 i v0 = 1#1), ∀ (k0_h4 : k0_cond4 i v28 = 1#1), ∀ a, (k0_off270 v980) a + S8x128.size a ≤ S262144x128.size a := fun i v0 v28 v980 k0_hw68 k0_h1 k0_h4 => k0_hw68.2 k0_h1 k0_h4

def k0_off271 (i : grid0.Coords) : Fin 1 → Nat :=
  let arg1 : BitVec 32 := BitVec.ofNat 32 (i 1).val
  let c256_i32_435 : BitVec 32 := 256#32
  let v990 : BitVec 32 := Scalar.muli arg1 c256_i32_435
  let c66_i32 : BitVec 32 := 66#32
  let v991 : BitVec 32 := Scalar.addi v990 c66_i32
  let v993 : Index := Scalar.indexCast v991
  ![v993.toNat]
def k0_mult135 (v994 : BitVec 32) : BitVec 32 :=
  let c8_i32_437 : BitVec 32 := 8#32
  let v995 : BitVec 32 := Scalar.muli v994 c8_i32_437
  v995

def k0_mult136 (i : grid0.Coords) : BitVec 32 :=
  let arg1 : BitVec 32 := BitVec.ofNat 32 (i 1).val
  let c256_i32_435 : BitVec 32 := 256#32
  let v990 : BitVec 32 := Scalar.muli arg1 c256_i32_435
  let c66_i32 : BitVec 32 := 66#32
  let v991 : BitVec 32 := Scalar.addi v990 c66_i32
  let c8_i32_438 : BitVec 32 := 8#32
  let v997 : BitVec 32 := Scalar.muli v991 c8_i32_438
  v997
def k0_off272 (i : grid0.Coords) : Fin 1 → Nat :=
  let c1_i32_436 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v992 : BitVec 32 := Scalar.subi c1_i32_436 v11
  ![v992.toNat]
def k0_off273 (i : grid0.Coords) : Fin 3 → Nat :=
  let c1_i32_436 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v992 : BitVec 32 := Scalar.subi c1_i32_436 v11
  let arg1 : BitVec 32 := BitVec.ofNat 32 (i 1).val
  let c256_i32_435 : BitVec 32 := 256#32
  let v990 : BitVec 32 := Scalar.muli arg1 c256_i32_435
  let c66_i32 : BitVec 32 := 66#32
  let v991 : BitVec 32 := Scalar.addi v990 c66_i32
  let c8_i32_438 : BitVec 32 := 8#32
  let v997 : BitVec 32 := Scalar.muli v991 c8_i32_438
  let v998 : BitVec 32 := v997
  let c0_i32_439 : BitVec 32 := 0#32
  ![v992.toNat, v998.toNat, 0]
def k0_off274 (v994 : BitVec 32) : Fin 2 → Nat :=
  let c8_i32_437 : BitVec 32 := 8#32
  let v995 : BitVec 32 := Scalar.muli v994 c8_i32_437
  let v996 : BitVec 32 := v995
  let c0_i32_440 : BitVec 32 := 0#32
  ![v996.toNat, 0]

def k0_chk69 (i : grid0.Coords) (v0 : BitVec 32) (v28 : BitVec 32) (v994 : BitVec 32) : Prop :=
  (∀ (k0_h1 : k0_cond1 i v0 = 1#1), ∀ (k0_h4 : k0_cond4 i v28 = 1#1), 8 ∣ (k0_mult135 v994).toNat) ∧
  (∀ (k0_h1 : k0_cond1 i v0 = 1#1), ∀ (k0_h4 : k0_cond4 i v28 = 1#1), ∀ a, (k0_off274 v994) a + S8x128.size a ≤ S262144x128.size a)
theorem k0_mult135_dvd : ∀ (i : grid0.Coords) (v0 : BitVec 32) (v28 : BitVec 32) (v994 : BitVec 32) (k0_hw69 : k0_chk69 i v0 v28 v994), ∀ (k0_h1 : k0_cond1 i v0 = 1#1), ∀ (k0_h4 : k0_cond4 i v28 = 1#1), 8 ∣ (k0_mult135 v994).toNat := fun i v0 v28 v994 k0_hw69 k0_h1 k0_h4 => k0_hw69.1 k0_h1 k0_h4
theorem k0_off274_inb : ∀ (i : grid0.Coords) (v0 : BitVec 32) (v28 : BitVec 32) (v994 : BitVec 32) (k0_hw69 : k0_chk69 i v0 v28 v994), ∀ (k0_h1 : k0_cond1 i v0 = 1#1), ∀ (k0_h4 : k0_cond4 i v28 = 1#1), ∀ a, (k0_off274 v994) a + S8x128.size a ≤ S262144x128.size a := fun i v0 v28 v994 k0_hw69 k0_h1 k0_h4 => k0_hw69.2 k0_h1 k0_h4

def k0_off275 (i : grid0.Coords) : Fin 1 → Nat :=
  let arg1 : BitVec 32 := BitVec.ofNat 32 (i 1).val
  let c256_i32_441 : BitVec 32 := 256#32
  let v1004 : BitVec 32 := Scalar.muli arg1 c256_i32_441
  let c67_i32 : BitVec 32 := 67#32
  let v1005 : BitVec 32 := Scalar.addi v1004 c67_i32
  let v1007 : Index := Scalar.indexCast v1005
  ![v1007.toNat]
def k0_mult137 (v1008 : BitVec 32) : BitVec 32 :=
  let c8_i32_443 : BitVec 32 := 8#32
  let v1009 : BitVec 32 := Scalar.muli v1008 c8_i32_443
  v1009

def k0_mult138 (i : grid0.Coords) : BitVec 32 :=
  let arg1 : BitVec 32 := BitVec.ofNat 32 (i 1).val
  let c256_i32_441 : BitVec 32 := 256#32
  let v1004 : BitVec 32 := Scalar.muli arg1 c256_i32_441
  let c67_i32 : BitVec 32 := 67#32
  let v1005 : BitVec 32 := Scalar.addi v1004 c67_i32
  let c8_i32_444 : BitVec 32 := 8#32
  let v1011 : BitVec 32 := Scalar.muli v1005 c8_i32_444
  v1011
def k0_off276 (i : grid0.Coords) : Fin 1 → Nat :=
  let c1_i32_442 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1006 : BitVec 32 := Scalar.subi c1_i32_442 v11
  ![v1006.toNat]
def k0_off277 (i : grid0.Coords) : Fin 3 → Nat :=
  let c1_i32_442 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1006 : BitVec 32 := Scalar.subi c1_i32_442 v11
  let arg1 : BitVec 32 := BitVec.ofNat 32 (i 1).val
  let c256_i32_441 : BitVec 32 := 256#32
  let v1004 : BitVec 32 := Scalar.muli arg1 c256_i32_441
  let c67_i32 : BitVec 32 := 67#32
  let v1005 : BitVec 32 := Scalar.addi v1004 c67_i32
  let c8_i32_444 : BitVec 32 := 8#32
  let v1011 : BitVec 32 := Scalar.muli v1005 c8_i32_444
  let v1012 : BitVec 32 := v1011
  let c0_i32_445 : BitVec 32 := 0#32
  ![v1006.toNat, v1012.toNat, 0]
def k0_off278 (v1008 : BitVec 32) : Fin 2 → Nat :=
  let c8_i32_443 : BitVec 32 := 8#32
  let v1009 : BitVec 32 := Scalar.muli v1008 c8_i32_443
  let v1010 : BitVec 32 := v1009
  let c0_i32_446 : BitVec 32 := 0#32
  ![v1010.toNat, 0]

def k0_chk70 (i : grid0.Coords) (v0 : BitVec 32) (v28 : BitVec 32) (v1008 : BitVec 32) : Prop :=
  (∀ (k0_h1 : k0_cond1 i v0 = 1#1), ∀ (k0_h4 : k0_cond4 i v28 = 1#1), 8 ∣ (k0_mult137 v1008).toNat) ∧
  (∀ (k0_h1 : k0_cond1 i v0 = 1#1), ∀ (k0_h4 : k0_cond4 i v28 = 1#1), ∀ a, (k0_off278 v1008) a + S8x128.size a ≤ S262144x128.size a)
theorem k0_mult137_dvd : ∀ (i : grid0.Coords) (v0 : BitVec 32) (v28 : BitVec 32) (v1008 : BitVec 32) (k0_hw70 : k0_chk70 i v0 v28 v1008), ∀ (k0_h1 : k0_cond1 i v0 = 1#1), ∀ (k0_h4 : k0_cond4 i v28 = 1#1), 8 ∣ (k0_mult137 v1008).toNat := fun i v0 v28 v1008 k0_hw70 k0_h1 k0_h4 => k0_hw70.1 k0_h1 k0_h4
theorem k0_off278_inb : ∀ (i : grid0.Coords) (v0 : BitVec 32) (v28 : BitVec 32) (v1008 : BitVec 32) (k0_hw70 : k0_chk70 i v0 v28 v1008), ∀ (k0_h1 : k0_cond1 i v0 = 1#1), ∀ (k0_h4 : k0_cond4 i v28 = 1#1), ∀ a, (k0_off278 v1008) a + S8x128.size a ≤ S262144x128.size a := fun i v0 v28 v1008 k0_hw70 k0_h1 k0_h4 => k0_hw70.2 k0_h1 k0_h4

def k0_off279 (i : grid0.Coords) : Fin 1 → Nat :=
  let arg1 : BitVec 32 := BitVec.ofNat 32 (i 1).val
  let c256_i32_447 : BitVec 32 := 256#32
  let v1018 : BitVec 32 := Scalar.muli arg1 c256_i32_447
  let c68_i32 : BitVec 32 := 68#32
  let v1019 : BitVec 32 := Scalar.addi v1018 c68_i32
  let v1021 : Index := Scalar.indexCast v1019
  ![v1021.toNat]
def k0_mult139 (v1022 : BitVec 32) : BitVec 32 :=
  let c8_i32_449 : BitVec 32 := 8#32
  let v1023 : BitVec 32 := Scalar.muli v1022 c8_i32_449
  v1023

def k0_mult140 (i : grid0.Coords) : BitVec 32 :=
  let arg1 : BitVec 32 := BitVec.ofNat 32 (i 1).val
  let c256_i32_447 : BitVec 32 := 256#32
  let v1018 : BitVec 32 := Scalar.muli arg1 c256_i32_447
  let c68_i32 : BitVec 32 := 68#32
  let v1019 : BitVec 32 := Scalar.addi v1018 c68_i32
  let c8_i32_450 : BitVec 32 := 8#32
  let v1025 : BitVec 32 := Scalar.muli v1019 c8_i32_450
  v1025
def k0_off280 (i : grid0.Coords) : Fin 1 → Nat :=
  let c1_i32_448 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1020 : BitVec 32 := Scalar.subi c1_i32_448 v11
  ![v1020.toNat]
def k0_off281 (i : grid0.Coords) : Fin 3 → Nat :=
  let c1_i32_448 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1020 : BitVec 32 := Scalar.subi c1_i32_448 v11
  let arg1 : BitVec 32 := BitVec.ofNat 32 (i 1).val
  let c256_i32_447 : BitVec 32 := 256#32
  let v1018 : BitVec 32 := Scalar.muli arg1 c256_i32_447
  let c68_i32 : BitVec 32 := 68#32
  let v1019 : BitVec 32 := Scalar.addi v1018 c68_i32
  let c8_i32_450 : BitVec 32 := 8#32
  let v1025 : BitVec 32 := Scalar.muli v1019 c8_i32_450
  let v1026 : BitVec 32 := v1025
  let c0_i32_451 : BitVec 32 := 0#32
  ![v1020.toNat, v1026.toNat, 0]
def k0_off282 (v1022 : BitVec 32) : Fin 2 → Nat :=
  let c8_i32_449 : BitVec 32 := 8#32
  let v1023 : BitVec 32 := Scalar.muli v1022 c8_i32_449
  let v1024 : BitVec 32 := v1023
  let c0_i32_452 : BitVec 32 := 0#32
  ![v1024.toNat, 0]

def k0_chk71 (i : grid0.Coords) (v0 : BitVec 32) (v28 : BitVec 32) (v1022 : BitVec 32) : Prop :=
  (∀ (k0_h1 : k0_cond1 i v0 = 1#1), ∀ (k0_h4 : k0_cond4 i v28 = 1#1), 8 ∣ (k0_mult139 v1022).toNat) ∧
  (∀ (k0_h1 : k0_cond1 i v0 = 1#1), ∀ (k0_h4 : k0_cond4 i v28 = 1#1), ∀ a, (k0_off282 v1022) a + S8x128.size a ≤ S262144x128.size a)
theorem k0_mult139_dvd : ∀ (i : grid0.Coords) (v0 : BitVec 32) (v28 : BitVec 32) (v1022 : BitVec 32) (k0_hw71 : k0_chk71 i v0 v28 v1022), ∀ (k0_h1 : k0_cond1 i v0 = 1#1), ∀ (k0_h4 : k0_cond4 i v28 = 1#1), 8 ∣ (k0_mult139 v1022).toNat := fun i v0 v28 v1022 k0_hw71 k0_h1 k0_h4 => k0_hw71.1 k0_h1 k0_h4
theorem k0_off282_inb : ∀ (i : grid0.Coords) (v0 : BitVec 32) (v28 : BitVec 32) (v1022 : BitVec 32) (k0_hw71 : k0_chk71 i v0 v28 v1022), ∀ (k0_h1 : k0_cond1 i v0 = 1#1), ∀ (k0_h4 : k0_cond4 i v28 = 1#1), ∀ a, (k0_off282 v1022) a + S8x128.size a ≤ S262144x128.size a := fun i v0 v28 v1022 k0_hw71 k0_h1 k0_h4 => k0_hw71.2 k0_h1 k0_h4

def k0_off283 (i : grid0.Coords) : Fin 1 → Nat :=
  let arg1 : BitVec 32 := BitVec.ofNat 32 (i 1).val
  let c256_i32_453 : BitVec 32 := 256#32
  let v1032 : BitVec 32 := Scalar.muli arg1 c256_i32_453
  let c69_i32 : BitVec 32 := 69#32
  let v1033 : BitVec 32 := Scalar.addi v1032 c69_i32
  let v1035 : Index := Scalar.indexCast v1033
  ![v1035.toNat]
def k0_mult141 (v1036 : BitVec 32) : BitVec 32 :=
  let c8_i32_455 : BitVec 32 := 8#32
  let v1037 : BitVec 32 := Scalar.muli v1036 c8_i32_455
  v1037

def k0_mult142 (i : grid0.Coords) : BitVec 32 :=
  let arg1 : BitVec 32 := BitVec.ofNat 32 (i 1).val
  let c256_i32_453 : BitVec 32 := 256#32
  let v1032 : BitVec 32 := Scalar.muli arg1 c256_i32_453
  let c69_i32 : BitVec 32 := 69#32
  let v1033 : BitVec 32 := Scalar.addi v1032 c69_i32
  let c8_i32_456 : BitVec 32 := 8#32
  let v1039 : BitVec 32 := Scalar.muli v1033 c8_i32_456
  v1039
def k0_off284 (i : grid0.Coords) : Fin 1 → Nat :=
  let c1_i32_454 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1034 : BitVec 32 := Scalar.subi c1_i32_454 v11
  ![v1034.toNat]
def k0_off285 (i : grid0.Coords) : Fin 3 → Nat :=
  let c1_i32_454 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1034 : BitVec 32 := Scalar.subi c1_i32_454 v11
  let arg1 : BitVec 32 := BitVec.ofNat 32 (i 1).val
  let c256_i32_453 : BitVec 32 := 256#32
  let v1032 : BitVec 32 := Scalar.muli arg1 c256_i32_453
  let c69_i32 : BitVec 32 := 69#32
  let v1033 : BitVec 32 := Scalar.addi v1032 c69_i32
  let c8_i32_456 : BitVec 32 := 8#32
  let v1039 : BitVec 32 := Scalar.muli v1033 c8_i32_456
  let v1040 : BitVec 32 := v1039
  let c0_i32_457 : BitVec 32 := 0#32
  ![v1034.toNat, v1040.toNat, 0]
def k0_off286 (v1036 : BitVec 32) : Fin 2 → Nat :=
  let c8_i32_455 : BitVec 32 := 8#32
  let v1037 : BitVec 32 := Scalar.muli v1036 c8_i32_455
  let v1038 : BitVec 32 := v1037
  let c0_i32_458 : BitVec 32 := 0#32
  ![v1038.toNat, 0]

def k0_chk72 (i : grid0.Coords) (v0 : BitVec 32) (v28 : BitVec 32) (v1036 : BitVec 32) : Prop :=
  (∀ (k0_h1 : k0_cond1 i v0 = 1#1), ∀ (k0_h4 : k0_cond4 i v28 = 1#1), 8 ∣ (k0_mult141 v1036).toNat) ∧
  (∀ (k0_h1 : k0_cond1 i v0 = 1#1), ∀ (k0_h4 : k0_cond4 i v28 = 1#1), ∀ a, (k0_off286 v1036) a + S8x128.size a ≤ S262144x128.size a)
theorem k0_mult141_dvd : ∀ (i : grid0.Coords) (v0 : BitVec 32) (v28 : BitVec 32) (v1036 : BitVec 32) (k0_hw72 : k0_chk72 i v0 v28 v1036), ∀ (k0_h1 : k0_cond1 i v0 = 1#1), ∀ (k0_h4 : k0_cond4 i v28 = 1#1), 8 ∣ (k0_mult141 v1036).toNat := fun i v0 v28 v1036 k0_hw72 k0_h1 k0_h4 => k0_hw72.1 k0_h1 k0_h4
theorem k0_off286_inb : ∀ (i : grid0.Coords) (v0 : BitVec 32) (v28 : BitVec 32) (v1036 : BitVec 32) (k0_hw72 : k0_chk72 i v0 v28 v1036), ∀ (k0_h1 : k0_cond1 i v0 = 1#1), ∀ (k0_h4 : k0_cond4 i v28 = 1#1), ∀ a, (k0_off286 v1036) a + S8x128.size a ≤ S262144x128.size a := fun i v0 v28 v1036 k0_hw72 k0_h1 k0_h4 => k0_hw72.2 k0_h1 k0_h4

def k0_off287 (i : grid0.Coords) : Fin 1 → Nat :=
  let arg1 : BitVec 32 := BitVec.ofNat 32 (i 1).val
  let c256_i32_459 : BitVec 32 := 256#32
  let v1046 : BitVec 32 := Scalar.muli arg1 c256_i32_459
  let c70_i32 : BitVec 32 := 70#32
  let v1047 : BitVec 32 := Scalar.addi v1046 c70_i32
  let v1049 : Index := Scalar.indexCast v1047
  ![v1049.toNat]
def k0_mult143 (v1050 : BitVec 32) : BitVec 32 :=
  let c8_i32_461 : BitVec 32 := 8#32
  let v1051 : BitVec 32 := Scalar.muli v1050 c8_i32_461
  v1051

def k0_mult144 (i : grid0.Coords) : BitVec 32 :=
  let arg1 : BitVec 32 := BitVec.ofNat 32 (i 1).val
  let c256_i32_459 : BitVec 32 := 256#32
  let v1046 : BitVec 32 := Scalar.muli arg1 c256_i32_459
  let c70_i32 : BitVec 32 := 70#32
  let v1047 : BitVec 32 := Scalar.addi v1046 c70_i32
  let c8_i32_462 : BitVec 32 := 8#32
  let v1053 : BitVec 32 := Scalar.muli v1047 c8_i32_462
  v1053
def k0_off288 (i : grid0.Coords) : Fin 1 → Nat :=
  let c1_i32_460 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1048 : BitVec 32 := Scalar.subi c1_i32_460 v11
  ![v1048.toNat]
def k0_off289 (i : grid0.Coords) : Fin 3 → Nat :=
  let c1_i32_460 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1048 : BitVec 32 := Scalar.subi c1_i32_460 v11
  let arg1 : BitVec 32 := BitVec.ofNat 32 (i 1).val
  let c256_i32_459 : BitVec 32 := 256#32
  let v1046 : BitVec 32 := Scalar.muli arg1 c256_i32_459
  let c70_i32 : BitVec 32 := 70#32
  let v1047 : BitVec 32 := Scalar.addi v1046 c70_i32
  let c8_i32_462 : BitVec 32 := 8#32
  let v1053 : BitVec 32 := Scalar.muli v1047 c8_i32_462
  let v1054 : BitVec 32 := v1053
  let c0_i32_463 : BitVec 32 := 0#32
  ![v1048.toNat, v1054.toNat, 0]
def k0_off290 (v1050 : BitVec 32) : Fin 2 → Nat :=
  let c8_i32_461 : BitVec 32 := 8#32
  let v1051 : BitVec 32 := Scalar.muli v1050 c8_i32_461
  let v1052 : BitVec 32 := v1051
  let c0_i32_464 : BitVec 32 := 0#32
  ![v1052.toNat, 0]

def k0_chk73 (i : grid0.Coords) (v0 : BitVec 32) (v28 : BitVec 32) (v1050 : BitVec 32) : Prop :=
  (∀ (k0_h1 : k0_cond1 i v0 = 1#1), ∀ (k0_h4 : k0_cond4 i v28 = 1#1), 8 ∣ (k0_mult143 v1050).toNat) ∧
  (∀ (k0_h1 : k0_cond1 i v0 = 1#1), ∀ (k0_h4 : k0_cond4 i v28 = 1#1), ∀ a, (k0_off290 v1050) a + S8x128.size a ≤ S262144x128.size a)
theorem k0_mult143_dvd : ∀ (i : grid0.Coords) (v0 : BitVec 32) (v28 : BitVec 32) (v1050 : BitVec 32) (k0_hw73 : k0_chk73 i v0 v28 v1050), ∀ (k0_h1 : k0_cond1 i v0 = 1#1), ∀ (k0_h4 : k0_cond4 i v28 = 1#1), 8 ∣ (k0_mult143 v1050).toNat := fun i v0 v28 v1050 k0_hw73 k0_h1 k0_h4 => k0_hw73.1 k0_h1 k0_h4
theorem k0_off290_inb : ∀ (i : grid0.Coords) (v0 : BitVec 32) (v28 : BitVec 32) (v1050 : BitVec 32) (k0_hw73 : k0_chk73 i v0 v28 v1050), ∀ (k0_h1 : k0_cond1 i v0 = 1#1), ∀ (k0_h4 : k0_cond4 i v28 = 1#1), ∀ a, (k0_off290 v1050) a + S8x128.size a ≤ S262144x128.size a := fun i v0 v28 v1050 k0_hw73 k0_h1 k0_h4 => k0_hw73.2 k0_h1 k0_h4

def k0_off291 (i : grid0.Coords) : Fin 1 → Nat :=
  let arg1 : BitVec 32 := BitVec.ofNat 32 (i 1).val
  let c256_i32_465 : BitVec 32 := 256#32
  let v1060 : BitVec 32 := Scalar.muli arg1 c256_i32_465
  let c71_i32 : BitVec 32 := 71#32
  let v1061 : BitVec 32 := Scalar.addi v1060 c71_i32
  let v1063 : Index := Scalar.indexCast v1061
  ![v1063.toNat]
def k0_mult145 (v1064 : BitVec 32) : BitVec 32 :=
  let c8_i32_467 : BitVec 32 := 8#32
  let v1065 : BitVec 32 := Scalar.muli v1064 c8_i32_467
  v1065

def k0_mult146 (i : grid0.Coords) : BitVec 32 :=
  let arg1 : BitVec 32 := BitVec.ofNat 32 (i 1).val
  let c256_i32_465 : BitVec 32 := 256#32
  let v1060 : BitVec 32 := Scalar.muli arg1 c256_i32_465
  let c71_i32 : BitVec 32 := 71#32
  let v1061 : BitVec 32 := Scalar.addi v1060 c71_i32
  let c8_i32_468 : BitVec 32 := 8#32
  let v1067 : BitVec 32 := Scalar.muli v1061 c8_i32_468
  v1067
def k0_off292 (i : grid0.Coords) : Fin 1 → Nat :=
  let c1_i32_466 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1062 : BitVec 32 := Scalar.subi c1_i32_466 v11
  ![v1062.toNat]
def k0_off293 (i : grid0.Coords) : Fin 3 → Nat :=
  let c1_i32_466 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1062 : BitVec 32 := Scalar.subi c1_i32_466 v11
  let arg1 : BitVec 32 := BitVec.ofNat 32 (i 1).val
  let c256_i32_465 : BitVec 32 := 256#32
  let v1060 : BitVec 32 := Scalar.muli arg1 c256_i32_465
  let c71_i32 : BitVec 32 := 71#32
  let v1061 : BitVec 32 := Scalar.addi v1060 c71_i32
  let c8_i32_468 : BitVec 32 := 8#32
  let v1067 : BitVec 32 := Scalar.muli v1061 c8_i32_468
  let v1068 : BitVec 32 := v1067
  let c0_i32_469 : BitVec 32 := 0#32
  ![v1062.toNat, v1068.toNat, 0]
def k0_off294 (v1064 : BitVec 32) : Fin 2 → Nat :=
  let c8_i32_467 : BitVec 32 := 8#32
  let v1065 : BitVec 32 := Scalar.muli v1064 c8_i32_467
  let v1066 : BitVec 32 := v1065
  let c0_i32_470 : BitVec 32 := 0#32
  ![v1066.toNat, 0]

def k0_chk74 (i : grid0.Coords) (v0 : BitVec 32) (v28 : BitVec 32) (v1064 : BitVec 32) : Prop :=
  (∀ (k0_h1 : k0_cond1 i v0 = 1#1), ∀ (k0_h4 : k0_cond4 i v28 = 1#1), 8 ∣ (k0_mult145 v1064).toNat) ∧
  (∀ (k0_h1 : k0_cond1 i v0 = 1#1), ∀ (k0_h4 : k0_cond4 i v28 = 1#1), ∀ a, (k0_off294 v1064) a + S8x128.size a ≤ S262144x128.size a)
theorem k0_mult145_dvd : ∀ (i : grid0.Coords) (v0 : BitVec 32) (v28 : BitVec 32) (v1064 : BitVec 32) (k0_hw74 : k0_chk74 i v0 v28 v1064), ∀ (k0_h1 : k0_cond1 i v0 = 1#1), ∀ (k0_h4 : k0_cond4 i v28 = 1#1), 8 ∣ (k0_mult145 v1064).toNat := fun i v0 v28 v1064 k0_hw74 k0_h1 k0_h4 => k0_hw74.1 k0_h1 k0_h4
theorem k0_off294_inb : ∀ (i : grid0.Coords) (v0 : BitVec 32) (v28 : BitVec 32) (v1064 : BitVec 32) (k0_hw74 : k0_chk74 i v0 v28 v1064), ∀ (k0_h1 : k0_cond1 i v0 = 1#1), ∀ (k0_h4 : k0_cond4 i v28 = 1#1), ∀ a, (k0_off294 v1064) a + S8x128.size a ≤ S262144x128.size a := fun i v0 v28 v1064 k0_hw74 k0_h1 k0_h4 => k0_hw74.2 k0_h1 k0_h4

def k0_off295 (i : grid0.Coords) : Fin 1 → Nat :=
  let arg1 : BitVec 32 := BitVec.ofNat 32 (i 1).val
  let c256_i32_471 : BitVec 32 := 256#32
  let v1074 : BitVec 32 := Scalar.muli arg1 c256_i32_471
  let c72_i32 : BitVec 32 := 72#32
  let v1075 : BitVec 32 := Scalar.addi v1074 c72_i32
  let v1077 : Index := Scalar.indexCast v1075
  ![v1077.toNat]
def k0_mult147 (v1078 : BitVec 32) : BitVec 32 :=
  let c8_i32_473 : BitVec 32 := 8#32
  let v1079 : BitVec 32 := Scalar.muli v1078 c8_i32_473
  v1079

def k0_mult148 (i : grid0.Coords) : BitVec 32 :=
  let arg1 : BitVec 32 := BitVec.ofNat 32 (i 1).val
  let c256_i32_471 : BitVec 32 := 256#32
  let v1074 : BitVec 32 := Scalar.muli arg1 c256_i32_471
  let c72_i32 : BitVec 32 := 72#32
  let v1075 : BitVec 32 := Scalar.addi v1074 c72_i32
  let c8_i32_474 : BitVec 32 := 8#32
  let v1081 : BitVec 32 := Scalar.muli v1075 c8_i32_474
  v1081
def k0_off296 (i : grid0.Coords) : Fin 1 → Nat :=
  let c1_i32_472 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1076 : BitVec 32 := Scalar.subi c1_i32_472 v11
  ![v1076.toNat]
def k0_off297 (i : grid0.Coords) : Fin 3 → Nat :=
  let c1_i32_472 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1076 : BitVec 32 := Scalar.subi c1_i32_472 v11
  let arg1 : BitVec 32 := BitVec.ofNat 32 (i 1).val
  let c256_i32_471 : BitVec 32 := 256#32
  let v1074 : BitVec 32 := Scalar.muli arg1 c256_i32_471
  let c72_i32 : BitVec 32 := 72#32
  let v1075 : BitVec 32 := Scalar.addi v1074 c72_i32
  let c8_i32_474 : BitVec 32 := 8#32
  let v1081 : BitVec 32 := Scalar.muli v1075 c8_i32_474
  let v1082 : BitVec 32 := v1081
  let c0_i32_475 : BitVec 32 := 0#32
  ![v1076.toNat, v1082.toNat, 0]
def k0_off298 (v1078 : BitVec 32) : Fin 2 → Nat :=
  let c8_i32_473 : BitVec 32 := 8#32
  let v1079 : BitVec 32 := Scalar.muli v1078 c8_i32_473
  let v1080 : BitVec 32 := v1079
  let c0_i32_476 : BitVec 32 := 0#32
  ![v1080.toNat, 0]

def k0_chk75 (i : grid0.Coords) (v0 : BitVec 32) (v28 : BitVec 32) (v1078 : BitVec 32) : Prop :=
  (∀ (k0_h1 : k0_cond1 i v0 = 1#1), ∀ (k0_h4 : k0_cond4 i v28 = 1#1), 8 ∣ (k0_mult147 v1078).toNat) ∧
  (∀ (k0_h1 : k0_cond1 i v0 = 1#1), ∀ (k0_h4 : k0_cond4 i v28 = 1#1), ∀ a, (k0_off298 v1078) a + S8x128.size a ≤ S262144x128.size a)
theorem k0_mult147_dvd : ∀ (i : grid0.Coords) (v0 : BitVec 32) (v28 : BitVec 32) (v1078 : BitVec 32) (k0_hw75 : k0_chk75 i v0 v28 v1078), ∀ (k0_h1 : k0_cond1 i v0 = 1#1), ∀ (k0_h4 : k0_cond4 i v28 = 1#1), 8 ∣ (k0_mult147 v1078).toNat := fun i v0 v28 v1078 k0_hw75 k0_h1 k0_h4 => k0_hw75.1 k0_h1 k0_h4
theorem k0_off298_inb : ∀ (i : grid0.Coords) (v0 : BitVec 32) (v28 : BitVec 32) (v1078 : BitVec 32) (k0_hw75 : k0_chk75 i v0 v28 v1078), ∀ (k0_h1 : k0_cond1 i v0 = 1#1), ∀ (k0_h4 : k0_cond4 i v28 = 1#1), ∀ a, (k0_off298 v1078) a + S8x128.size a ≤ S262144x128.size a := fun i v0 v28 v1078 k0_hw75 k0_h1 k0_h4 => k0_hw75.2 k0_h1 k0_h4

def k0_off299 (i : grid0.Coords) : Fin 1 → Nat :=
  let arg1 : BitVec 32 := BitVec.ofNat 32 (i 1).val
  let c256_i32_477 : BitVec 32 := 256#32
  let v1088 : BitVec 32 := Scalar.muli arg1 c256_i32_477
  let c73_i32 : BitVec 32 := 73#32
  let v1089 : BitVec 32 := Scalar.addi v1088 c73_i32
  let v1091 : Index := Scalar.indexCast v1089
  ![v1091.toNat]
def k0_mult149 (v1092 : BitVec 32) : BitVec 32 :=
  let c8_i32_479 : BitVec 32 := 8#32
  let v1093 : BitVec 32 := Scalar.muli v1092 c8_i32_479
  v1093

def k0_mult150 (i : grid0.Coords) : BitVec 32 :=
  let arg1 : BitVec 32 := BitVec.ofNat 32 (i 1).val
  let c256_i32_477 : BitVec 32 := 256#32
  let v1088 : BitVec 32 := Scalar.muli arg1 c256_i32_477
  let c73_i32 : BitVec 32 := 73#32
  let v1089 : BitVec 32 := Scalar.addi v1088 c73_i32
  let c8_i32_480 : BitVec 32 := 8#32
  let v1095 : BitVec 32 := Scalar.muli v1089 c8_i32_480
  v1095
def k0_off300 (i : grid0.Coords) : Fin 1 → Nat :=
  let c1_i32_478 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1090 : BitVec 32 := Scalar.subi c1_i32_478 v11
  ![v1090.toNat]
def k0_off301 (i : grid0.Coords) : Fin 3 → Nat :=
  let c1_i32_478 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1090 : BitVec 32 := Scalar.subi c1_i32_478 v11
  let arg1 : BitVec 32 := BitVec.ofNat 32 (i 1).val
  let c256_i32_477 : BitVec 32 := 256#32
  let v1088 : BitVec 32 := Scalar.muli arg1 c256_i32_477
  let c73_i32 : BitVec 32 := 73#32
  let v1089 : BitVec 32 := Scalar.addi v1088 c73_i32
  let c8_i32_480 : BitVec 32 := 8#32
  let v1095 : BitVec 32 := Scalar.muli v1089 c8_i32_480
  let v1096 : BitVec 32 := v1095
  let c0_i32_481 : BitVec 32 := 0#32
  ![v1090.toNat, v1096.toNat, 0]
def k0_off302 (v1092 : BitVec 32) : Fin 2 → Nat :=
  let c8_i32_479 : BitVec 32 := 8#32
  let v1093 : BitVec 32 := Scalar.muli v1092 c8_i32_479
  let v1094 : BitVec 32 := v1093
  let c0_i32_482 : BitVec 32 := 0#32
  ![v1094.toNat, 0]

def k0_chk76 (i : grid0.Coords) (v0 : BitVec 32) (v28 : BitVec 32) (v1092 : BitVec 32) : Prop :=
  (∀ (k0_h1 : k0_cond1 i v0 = 1#1), ∀ (k0_h4 : k0_cond4 i v28 = 1#1), 8 ∣ (k0_mult149 v1092).toNat) ∧
  (∀ (k0_h1 : k0_cond1 i v0 = 1#1), ∀ (k0_h4 : k0_cond4 i v28 = 1#1), ∀ a, (k0_off302 v1092) a + S8x128.size a ≤ S262144x128.size a)
theorem k0_mult149_dvd : ∀ (i : grid0.Coords) (v0 : BitVec 32) (v28 : BitVec 32) (v1092 : BitVec 32) (k0_hw76 : k0_chk76 i v0 v28 v1092), ∀ (k0_h1 : k0_cond1 i v0 = 1#1), ∀ (k0_h4 : k0_cond4 i v28 = 1#1), 8 ∣ (k0_mult149 v1092).toNat := fun i v0 v28 v1092 k0_hw76 k0_h1 k0_h4 => k0_hw76.1 k0_h1 k0_h4
theorem k0_off302_inb : ∀ (i : grid0.Coords) (v0 : BitVec 32) (v28 : BitVec 32) (v1092 : BitVec 32) (k0_hw76 : k0_chk76 i v0 v28 v1092), ∀ (k0_h1 : k0_cond1 i v0 = 1#1), ∀ (k0_h4 : k0_cond4 i v28 = 1#1), ∀ a, (k0_off302 v1092) a + S8x128.size a ≤ S262144x128.size a := fun i v0 v28 v1092 k0_hw76 k0_h1 k0_h4 => k0_hw76.2 k0_h1 k0_h4

def k0_off303 (i : grid0.Coords) : Fin 1 → Nat :=
  let arg1 : BitVec 32 := BitVec.ofNat 32 (i 1).val
  let c256_i32_483 : BitVec 32 := 256#32
  let v1102 : BitVec 32 := Scalar.muli arg1 c256_i32_483
  let c74_i32 : BitVec 32 := 74#32
  let v1103 : BitVec 32 := Scalar.addi v1102 c74_i32
  let v1105 : Index := Scalar.indexCast v1103
  ![v1105.toNat]
def k0_mult151 (v1106 : BitVec 32) : BitVec 32 :=
  let c8_i32_485 : BitVec 32 := 8#32
  let v1107 : BitVec 32 := Scalar.muli v1106 c8_i32_485
  v1107

def k0_mult152 (i : grid0.Coords) : BitVec 32 :=
  let arg1 : BitVec 32 := BitVec.ofNat 32 (i 1).val
  let c256_i32_483 : BitVec 32 := 256#32
  let v1102 : BitVec 32 := Scalar.muli arg1 c256_i32_483
  let c74_i32 : BitVec 32 := 74#32
  let v1103 : BitVec 32 := Scalar.addi v1102 c74_i32
  let c8_i32_486 : BitVec 32 := 8#32
  let v1109 : BitVec 32 := Scalar.muli v1103 c8_i32_486
  v1109
def k0_off304 (i : grid0.Coords) : Fin 1 → Nat :=
  let c1_i32_484 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1104 : BitVec 32 := Scalar.subi c1_i32_484 v11
  ![v1104.toNat]
def k0_off305 (i : grid0.Coords) : Fin 3 → Nat :=
  let c1_i32_484 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1104 : BitVec 32 := Scalar.subi c1_i32_484 v11
  let arg1 : BitVec 32 := BitVec.ofNat 32 (i 1).val
  let c256_i32_483 : BitVec 32 := 256#32
  let v1102 : BitVec 32 := Scalar.muli arg1 c256_i32_483
  let c74_i32 : BitVec 32 := 74#32
  let v1103 : BitVec 32 := Scalar.addi v1102 c74_i32
  let c8_i32_486 : BitVec 32 := 8#32
  let v1109 : BitVec 32 := Scalar.muli v1103 c8_i32_486
  let v1110 : BitVec 32 := v1109
  let c0_i32_487 : BitVec 32 := 0#32
  ![v1104.toNat, v1110.toNat, 0]
def k0_off306 (v1106 : BitVec 32) : Fin 2 → Nat :=
  let c8_i32_485 : BitVec 32 := 8#32
  let v1107 : BitVec 32 := Scalar.muli v1106 c8_i32_485
  let v1108 : BitVec 32 := v1107
  let c0_i32_488 : BitVec 32 := 0#32
  ![v1108.toNat, 0]

def k0_chk77 (i : grid0.Coords) (v0 : BitVec 32) (v28 : BitVec 32) (v1106 : BitVec 32) : Prop :=
  (∀ (k0_h1 : k0_cond1 i v0 = 1#1), ∀ (k0_h4 : k0_cond4 i v28 = 1#1), 8 ∣ (k0_mult151 v1106).toNat) ∧
  (∀ (k0_h1 : k0_cond1 i v0 = 1#1), ∀ (k0_h4 : k0_cond4 i v28 = 1#1), ∀ a, (k0_off306 v1106) a + S8x128.size a ≤ S262144x128.size a)
theorem k0_mult151_dvd : ∀ (i : grid0.Coords) (v0 : BitVec 32) (v28 : BitVec 32) (v1106 : BitVec 32) (k0_hw77 : k0_chk77 i v0 v28 v1106), ∀ (k0_h1 : k0_cond1 i v0 = 1#1), ∀ (k0_h4 : k0_cond4 i v28 = 1#1), 8 ∣ (k0_mult151 v1106).toNat := fun i v0 v28 v1106 k0_hw77 k0_h1 k0_h4 => k0_hw77.1 k0_h1 k0_h4
theorem k0_off306_inb : ∀ (i : grid0.Coords) (v0 : BitVec 32) (v28 : BitVec 32) (v1106 : BitVec 32) (k0_hw77 : k0_chk77 i v0 v28 v1106), ∀ (k0_h1 : k0_cond1 i v0 = 1#1), ∀ (k0_h4 : k0_cond4 i v28 = 1#1), ∀ a, (k0_off306 v1106) a + S8x128.size a ≤ S262144x128.size a := fun i v0 v28 v1106 k0_hw77 k0_h1 k0_h4 => k0_hw77.2 k0_h1 k0_h4

def k0_off307 (i : grid0.Coords) : Fin 1 → Nat :=
  let arg1 : BitVec 32 := BitVec.ofNat 32 (i 1).val
  let c256_i32_489 : BitVec 32 := 256#32
  let v1116 : BitVec 32 := Scalar.muli arg1 c256_i32_489
  let c75_i32 : BitVec 32 := 75#32
  let v1117 : BitVec 32 := Scalar.addi v1116 c75_i32
  let v1119 : Index := Scalar.indexCast v1117
  ![v1119.toNat]
def k0_mult153 (v1120 : BitVec 32) : BitVec 32 :=
  let c8_i32_491 : BitVec 32 := 8#32
  let v1121 : BitVec 32 := Scalar.muli v1120 c8_i32_491
  v1121

def k0_mult154 (i : grid0.Coords) : BitVec 32 :=
  let arg1 : BitVec 32 := BitVec.ofNat 32 (i 1).val
  let c256_i32_489 : BitVec 32 := 256#32
  let v1116 : BitVec 32 := Scalar.muli arg1 c256_i32_489
  let c75_i32 : BitVec 32 := 75#32
  let v1117 : BitVec 32 := Scalar.addi v1116 c75_i32
  let c8_i32_492 : BitVec 32 := 8#32
  let v1123 : BitVec 32 := Scalar.muli v1117 c8_i32_492
  v1123
def k0_off308 (i : grid0.Coords) : Fin 1 → Nat :=
  let c1_i32_490 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1118 : BitVec 32 := Scalar.subi c1_i32_490 v11
  ![v1118.toNat]
def k0_off309 (i : grid0.Coords) : Fin 3 → Nat :=
  let c1_i32_490 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1118 : BitVec 32 := Scalar.subi c1_i32_490 v11
  let arg1 : BitVec 32 := BitVec.ofNat 32 (i 1).val
  let c256_i32_489 : BitVec 32 := 256#32
  let v1116 : BitVec 32 := Scalar.muli arg1 c256_i32_489
  let c75_i32 : BitVec 32 := 75#32
  let v1117 : BitVec 32 := Scalar.addi v1116 c75_i32
  let c8_i32_492 : BitVec 32 := 8#32
  let v1123 : BitVec 32 := Scalar.muli v1117 c8_i32_492
  let v1124 : BitVec 32 := v1123
  let c0_i32_493 : BitVec 32 := 0#32
  ![v1118.toNat, v1124.toNat, 0]
def k0_off310 (v1120 : BitVec 32) : Fin 2 → Nat :=
  let c8_i32_491 : BitVec 32 := 8#32
  let v1121 : BitVec 32 := Scalar.muli v1120 c8_i32_491
  let v1122 : BitVec 32 := v1121
  let c0_i32_494 : BitVec 32 := 0#32
  ![v1122.toNat, 0]

def k0_chk78 (i : grid0.Coords) (v0 : BitVec 32) (v28 : BitVec 32) (v1120 : BitVec 32) : Prop :=
  (∀ (k0_h1 : k0_cond1 i v0 = 1#1), ∀ (k0_h4 : k0_cond4 i v28 = 1#1), 8 ∣ (k0_mult153 v1120).toNat) ∧
  (∀ (k0_h1 : k0_cond1 i v0 = 1#1), ∀ (k0_h4 : k0_cond4 i v28 = 1#1), ∀ a, (k0_off310 v1120) a + S8x128.size a ≤ S262144x128.size a)
theorem k0_mult153_dvd : ∀ (i : grid0.Coords) (v0 : BitVec 32) (v28 : BitVec 32) (v1120 : BitVec 32) (k0_hw78 : k0_chk78 i v0 v28 v1120), ∀ (k0_h1 : k0_cond1 i v0 = 1#1), ∀ (k0_h4 : k0_cond4 i v28 = 1#1), 8 ∣ (k0_mult153 v1120).toNat := fun i v0 v28 v1120 k0_hw78 k0_h1 k0_h4 => k0_hw78.1 k0_h1 k0_h4
theorem k0_off310_inb : ∀ (i : grid0.Coords) (v0 : BitVec 32) (v28 : BitVec 32) (v1120 : BitVec 32) (k0_hw78 : k0_chk78 i v0 v28 v1120), ∀ (k0_h1 : k0_cond1 i v0 = 1#1), ∀ (k0_h4 : k0_cond4 i v28 = 1#1), ∀ a, (k0_off310 v1120) a + S8x128.size a ≤ S262144x128.size a := fun i v0 v28 v1120 k0_hw78 k0_h1 k0_h4 => k0_hw78.2 k0_h1 k0_h4

def k0_off311 (i : grid0.Coords) : Fin 1 → Nat :=
  let arg1 : BitVec 32 := BitVec.ofNat 32 (i 1).val
  let c256_i32_495 : BitVec 32 := 256#32
  let v1130 : BitVec 32 := Scalar.muli arg1 c256_i32_495
  let c76_i32 : BitVec 32 := 76#32
  let v1131 : BitVec 32 := Scalar.addi v1130 c76_i32
  let v1133 : Index := Scalar.indexCast v1131
  ![v1133.toNat]
def k0_mult155 (v1134 : BitVec 32) : BitVec 32 :=
  let c8_i32_497 : BitVec 32 := 8#32
  let v1135 : BitVec 32 := Scalar.muli v1134 c8_i32_497
  v1135

def k0_mult156 (i : grid0.Coords) : BitVec 32 :=
  let arg1 : BitVec 32 := BitVec.ofNat 32 (i 1).val
  let c256_i32_495 : BitVec 32 := 256#32
  let v1130 : BitVec 32 := Scalar.muli arg1 c256_i32_495
  let c76_i32 : BitVec 32 := 76#32
  let v1131 : BitVec 32 := Scalar.addi v1130 c76_i32
  let c8_i32_498 : BitVec 32 := 8#32
  let v1137 : BitVec 32 := Scalar.muli v1131 c8_i32_498
  v1137
def k0_off312 (i : grid0.Coords) : Fin 1 → Nat :=
  let c1_i32_496 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1132 : BitVec 32 := Scalar.subi c1_i32_496 v11
  ![v1132.toNat]
def k0_off313 (i : grid0.Coords) : Fin 3 → Nat :=
  let c1_i32_496 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1132 : BitVec 32 := Scalar.subi c1_i32_496 v11
  let arg1 : BitVec 32 := BitVec.ofNat 32 (i 1).val
  let c256_i32_495 : BitVec 32 := 256#32
  let v1130 : BitVec 32 := Scalar.muli arg1 c256_i32_495
  let c76_i32 : BitVec 32 := 76#32
  let v1131 : BitVec 32 := Scalar.addi v1130 c76_i32
  let c8_i32_498 : BitVec 32 := 8#32
  let v1137 : BitVec 32 := Scalar.muli v1131 c8_i32_498
  let v1138 : BitVec 32 := v1137
  let c0_i32_499 : BitVec 32 := 0#32
  ![v1132.toNat, v1138.toNat, 0]
def k0_off314 (v1134 : BitVec 32) : Fin 2 → Nat :=
  let c8_i32_497 : BitVec 32 := 8#32
  let v1135 : BitVec 32 := Scalar.muli v1134 c8_i32_497
  let v1136 : BitVec 32 := v1135
  let c0_i32_500 : BitVec 32 := 0#32
  ![v1136.toNat, 0]

def k0_chk79 (i : grid0.Coords) (v0 : BitVec 32) (v28 : BitVec 32) (v1134 : BitVec 32) : Prop :=
  (∀ (k0_h1 : k0_cond1 i v0 = 1#1), ∀ (k0_h4 : k0_cond4 i v28 = 1#1), 8 ∣ (k0_mult155 v1134).toNat) ∧
  (∀ (k0_h1 : k0_cond1 i v0 = 1#1), ∀ (k0_h4 : k0_cond4 i v28 = 1#1), ∀ a, (k0_off314 v1134) a + S8x128.size a ≤ S262144x128.size a)
theorem k0_mult155_dvd : ∀ (i : grid0.Coords) (v0 : BitVec 32) (v28 : BitVec 32) (v1134 : BitVec 32) (k0_hw79 : k0_chk79 i v0 v28 v1134), ∀ (k0_h1 : k0_cond1 i v0 = 1#1), ∀ (k0_h4 : k0_cond4 i v28 = 1#1), 8 ∣ (k0_mult155 v1134).toNat := fun i v0 v28 v1134 k0_hw79 k0_h1 k0_h4 => k0_hw79.1 k0_h1 k0_h4
theorem k0_off314_inb : ∀ (i : grid0.Coords) (v0 : BitVec 32) (v28 : BitVec 32) (v1134 : BitVec 32) (k0_hw79 : k0_chk79 i v0 v28 v1134), ∀ (k0_h1 : k0_cond1 i v0 = 1#1), ∀ (k0_h4 : k0_cond4 i v28 = 1#1), ∀ a, (k0_off314 v1134) a + S8x128.size a ≤ S262144x128.size a := fun i v0 v28 v1134 k0_hw79 k0_h1 k0_h4 => k0_hw79.2 k0_h1 k0_h4

def k0_off315 (i : grid0.Coords) : Fin 1 → Nat :=
  let arg1 : BitVec 32 := BitVec.ofNat 32 (i 1).val
  let c256_i32_501 : BitVec 32 := 256#32
  let v1144 : BitVec 32 := Scalar.muli arg1 c256_i32_501
  let c77_i32 : BitVec 32 := 77#32
  let v1145 : BitVec 32 := Scalar.addi v1144 c77_i32
  let v1147 : Index := Scalar.indexCast v1145
  ![v1147.toNat]
def k0_mult157 (v1148 : BitVec 32) : BitVec 32 :=
  let c8_i32_503 : BitVec 32 := 8#32
  let v1149 : BitVec 32 := Scalar.muli v1148 c8_i32_503
  v1149

def k0_mult158 (i : grid0.Coords) : BitVec 32 :=
  let arg1 : BitVec 32 := BitVec.ofNat 32 (i 1).val
  let c256_i32_501 : BitVec 32 := 256#32
  let v1144 : BitVec 32 := Scalar.muli arg1 c256_i32_501
  let c77_i32 : BitVec 32 := 77#32
  let v1145 : BitVec 32 := Scalar.addi v1144 c77_i32
  let c8_i32_504 : BitVec 32 := 8#32
  let v1151 : BitVec 32 := Scalar.muli v1145 c8_i32_504
  v1151
def k0_off316 (i : grid0.Coords) : Fin 1 → Nat :=
  let c1_i32_502 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1146 : BitVec 32 := Scalar.subi c1_i32_502 v11
  ![v1146.toNat]
def k0_off317 (i : grid0.Coords) : Fin 3 → Nat :=
  let c1_i32_502 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1146 : BitVec 32 := Scalar.subi c1_i32_502 v11
  let arg1 : BitVec 32 := BitVec.ofNat 32 (i 1).val
  let c256_i32_501 : BitVec 32 := 256#32
  let v1144 : BitVec 32 := Scalar.muli arg1 c256_i32_501
  let c77_i32 : BitVec 32 := 77#32
  let v1145 : BitVec 32 := Scalar.addi v1144 c77_i32
  let c8_i32_504 : BitVec 32 := 8#32
  let v1151 : BitVec 32 := Scalar.muli v1145 c8_i32_504
  let v1152 : BitVec 32 := v1151
  let c0_i32_505 : BitVec 32 := 0#32
  ![v1146.toNat, v1152.toNat, 0]
def k0_off318 (v1148 : BitVec 32) : Fin 2 → Nat :=
  let c8_i32_503 : BitVec 32 := 8#32
  let v1149 : BitVec 32 := Scalar.muli v1148 c8_i32_503
  let v1150 : BitVec 32 := v1149
  let c0_i32_506 : BitVec 32 := 0#32
  ![v1150.toNat, 0]

def k0_chk80 (i : grid0.Coords) (v0 : BitVec 32) (v28 : BitVec 32) (v1148 : BitVec 32) : Prop :=
  (∀ (k0_h1 : k0_cond1 i v0 = 1#1), ∀ (k0_h4 : k0_cond4 i v28 = 1#1), 8 ∣ (k0_mult157 v1148).toNat) ∧
  (∀ (k0_h1 : k0_cond1 i v0 = 1#1), ∀ (k0_h4 : k0_cond4 i v28 = 1#1), ∀ a, (k0_off318 v1148) a + S8x128.size a ≤ S262144x128.size a)
theorem k0_mult157_dvd : ∀ (i : grid0.Coords) (v0 : BitVec 32) (v28 : BitVec 32) (v1148 : BitVec 32) (k0_hw80 : k0_chk80 i v0 v28 v1148), ∀ (k0_h1 : k0_cond1 i v0 = 1#1), ∀ (k0_h4 : k0_cond4 i v28 = 1#1), 8 ∣ (k0_mult157 v1148).toNat := fun i v0 v28 v1148 k0_hw80 k0_h1 k0_h4 => k0_hw80.1 k0_h1 k0_h4
theorem k0_off318_inb : ∀ (i : grid0.Coords) (v0 : BitVec 32) (v28 : BitVec 32) (v1148 : BitVec 32) (k0_hw80 : k0_chk80 i v0 v28 v1148), ∀ (k0_h1 : k0_cond1 i v0 = 1#1), ∀ (k0_h4 : k0_cond4 i v28 = 1#1), ∀ a, (k0_off318 v1148) a + S8x128.size a ≤ S262144x128.size a := fun i v0 v28 v1148 k0_hw80 k0_h1 k0_h4 => k0_hw80.2 k0_h1 k0_h4

def k0_off319 (i : grid0.Coords) : Fin 1 → Nat :=
  let arg1 : BitVec 32 := BitVec.ofNat 32 (i 1).val
  let c256_i32_507 : BitVec 32 := 256#32
  let v1158 : BitVec 32 := Scalar.muli arg1 c256_i32_507
  let c78_i32 : BitVec 32 := 78#32
  let v1159 : BitVec 32 := Scalar.addi v1158 c78_i32
  let v1161 : Index := Scalar.indexCast v1159
  ![v1161.toNat]
def k0_mult159 (v1162 : BitVec 32) : BitVec 32 :=
  let c8_i32_509 : BitVec 32 := 8#32
  let v1163 : BitVec 32 := Scalar.muli v1162 c8_i32_509
  v1163

def k0_mult160 (i : grid0.Coords) : BitVec 32 :=
  let arg1 : BitVec 32 := BitVec.ofNat 32 (i 1).val
  let c256_i32_507 : BitVec 32 := 256#32
  let v1158 : BitVec 32 := Scalar.muli arg1 c256_i32_507
  let c78_i32 : BitVec 32 := 78#32
  let v1159 : BitVec 32 := Scalar.addi v1158 c78_i32
  let c8_i32_510 : BitVec 32 := 8#32
  let v1165 : BitVec 32 := Scalar.muli v1159 c8_i32_510
  v1165
def k0_off320 (i : grid0.Coords) : Fin 1 → Nat :=
  let c1_i32_508 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1160 : BitVec 32 := Scalar.subi c1_i32_508 v11
  ![v1160.toNat]
def k0_off321 (i : grid0.Coords) : Fin 3 → Nat :=
  let c1_i32_508 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1160 : BitVec 32 := Scalar.subi c1_i32_508 v11
  let arg1 : BitVec 32 := BitVec.ofNat 32 (i 1).val
  let c256_i32_507 : BitVec 32 := 256#32
  let v1158 : BitVec 32 := Scalar.muli arg1 c256_i32_507
  let c78_i32 : BitVec 32 := 78#32
  let v1159 : BitVec 32 := Scalar.addi v1158 c78_i32
  let c8_i32_510 : BitVec 32 := 8#32
  let v1165 : BitVec 32 := Scalar.muli v1159 c8_i32_510
  let v1166 : BitVec 32 := v1165
  let c0_i32_511 : BitVec 32 := 0#32
  ![v1160.toNat, v1166.toNat, 0]
def k0_off322 (v1162 : BitVec 32) : Fin 2 → Nat :=
  let c8_i32_509 : BitVec 32 := 8#32
  let v1163 : BitVec 32 := Scalar.muli v1162 c8_i32_509
  let v1164 : BitVec 32 := v1163
  let c0_i32_512 : BitVec 32 := 0#32
  ![v1164.toNat, 0]

def k0_chk81 (i : grid0.Coords) (v0 : BitVec 32) (v28 : BitVec 32) (v1162 : BitVec 32) : Prop :=
  (∀ (k0_h1 : k0_cond1 i v0 = 1#1), ∀ (k0_h4 : k0_cond4 i v28 = 1#1), 8 ∣ (k0_mult159 v1162).toNat) ∧
  (∀ (k0_h1 : k0_cond1 i v0 = 1#1), ∀ (k0_h4 : k0_cond4 i v28 = 1#1), ∀ a, (k0_off322 v1162) a + S8x128.size a ≤ S262144x128.size a)
theorem k0_mult159_dvd : ∀ (i : grid0.Coords) (v0 : BitVec 32) (v28 : BitVec 32) (v1162 : BitVec 32) (k0_hw81 : k0_chk81 i v0 v28 v1162), ∀ (k0_h1 : k0_cond1 i v0 = 1#1), ∀ (k0_h4 : k0_cond4 i v28 = 1#1), 8 ∣ (k0_mult159 v1162).toNat := fun i v0 v28 v1162 k0_hw81 k0_h1 k0_h4 => k0_hw81.1 k0_h1 k0_h4
theorem k0_off322_inb : ∀ (i : grid0.Coords) (v0 : BitVec 32) (v28 : BitVec 32) (v1162 : BitVec 32) (k0_hw81 : k0_chk81 i v0 v28 v1162), ∀ (k0_h1 : k0_cond1 i v0 = 1#1), ∀ (k0_h4 : k0_cond4 i v28 = 1#1), ∀ a, (k0_off322 v1162) a + S8x128.size a ≤ S262144x128.size a := fun i v0 v28 v1162 k0_hw81 k0_h1 k0_h4 => k0_hw81.2 k0_h1 k0_h4

def k0_off323 (i : grid0.Coords) : Fin 1 → Nat :=
  let arg1 : BitVec 32 := BitVec.ofNat 32 (i 1).val
  let c256_i32_513 : BitVec 32 := 256#32
  let v1172 : BitVec 32 := Scalar.muli arg1 c256_i32_513
  let c79_i32 : BitVec 32 := 79#32
  let v1173 : BitVec 32 := Scalar.addi v1172 c79_i32
  let v1175 : Index := Scalar.indexCast v1173
  ![v1175.toNat]
def k0_mult161 (v1176 : BitVec 32) : BitVec 32 :=
  let c8_i32_515 : BitVec 32 := 8#32
  let v1177 : BitVec 32 := Scalar.muli v1176 c8_i32_515
  v1177

def k0_mult162 (i : grid0.Coords) : BitVec 32 :=
  let arg1 : BitVec 32 := BitVec.ofNat 32 (i 1).val
  let c256_i32_513 : BitVec 32 := 256#32
  let v1172 : BitVec 32 := Scalar.muli arg1 c256_i32_513
  let c79_i32 : BitVec 32 := 79#32
  let v1173 : BitVec 32 := Scalar.addi v1172 c79_i32
  let c8_i32_516 : BitVec 32 := 8#32
  let v1179 : BitVec 32 := Scalar.muli v1173 c8_i32_516
  v1179
def k0_off324 (i : grid0.Coords) : Fin 1 → Nat :=
  let c1_i32_514 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1174 : BitVec 32 := Scalar.subi c1_i32_514 v11
  ![v1174.toNat]
def k0_off325 (i : grid0.Coords) : Fin 3 → Nat :=
  let c1_i32_514 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1174 : BitVec 32 := Scalar.subi c1_i32_514 v11
  let arg1 : BitVec 32 := BitVec.ofNat 32 (i 1).val
  let c256_i32_513 : BitVec 32 := 256#32
  let v1172 : BitVec 32 := Scalar.muli arg1 c256_i32_513
  let c79_i32 : BitVec 32 := 79#32
  let v1173 : BitVec 32 := Scalar.addi v1172 c79_i32
  let c8_i32_516 : BitVec 32 := 8#32
  let v1179 : BitVec 32 := Scalar.muli v1173 c8_i32_516
  let v1180 : BitVec 32 := v1179
  let c0_i32_517 : BitVec 32 := 0#32
  ![v1174.toNat, v1180.toNat, 0]
def k0_off326 (v1176 : BitVec 32) : Fin 2 → Nat :=
  let c8_i32_515 : BitVec 32 := 8#32
  let v1177 : BitVec 32 := Scalar.muli v1176 c8_i32_515
  let v1178 : BitVec 32 := v1177
  let c0_i32_518 : BitVec 32 := 0#32
  ![v1178.toNat, 0]

def k0_chk82 (i : grid0.Coords) (v0 : BitVec 32) (v28 : BitVec 32) (v1176 : BitVec 32) : Prop :=
  (∀ (k0_h1 : k0_cond1 i v0 = 1#1), ∀ (k0_h4 : k0_cond4 i v28 = 1#1), 8 ∣ (k0_mult161 v1176).toNat) ∧
  (∀ (k0_h1 : k0_cond1 i v0 = 1#1), ∀ (k0_h4 : k0_cond4 i v28 = 1#1), ∀ a, (k0_off326 v1176) a + S8x128.size a ≤ S262144x128.size a)
theorem k0_mult161_dvd : ∀ (i : grid0.Coords) (v0 : BitVec 32) (v28 : BitVec 32) (v1176 : BitVec 32) (k0_hw82 : k0_chk82 i v0 v28 v1176), ∀ (k0_h1 : k0_cond1 i v0 = 1#1), ∀ (k0_h4 : k0_cond4 i v28 = 1#1), 8 ∣ (k0_mult161 v1176).toNat := fun i v0 v28 v1176 k0_hw82 k0_h1 k0_h4 => k0_hw82.1 k0_h1 k0_h4
theorem k0_off326_inb : ∀ (i : grid0.Coords) (v0 : BitVec 32) (v28 : BitVec 32) (v1176 : BitVec 32) (k0_hw82 : k0_chk82 i v0 v28 v1176), ∀ (k0_h1 : k0_cond1 i v0 = 1#1), ∀ (k0_h4 : k0_cond4 i v28 = 1#1), ∀ a, (k0_off326 v1176) a + S8x128.size a ≤ S262144x128.size a := fun i v0 v28 v1176 k0_hw82 k0_h1 k0_h4 => k0_hw82.2 k0_h1 k0_h4

def k0_off327 (i : grid0.Coords) : Fin 1 → Nat :=
  let arg1 : BitVec 32 := BitVec.ofNat 32 (i 1).val
  let c256_i32_519 : BitVec 32 := 256#32
  let v1186 : BitVec 32 := Scalar.muli arg1 c256_i32_519
  let c80_i32 : BitVec 32 := 80#32
  let v1187 : BitVec 32 := Scalar.addi v1186 c80_i32
  let v1189 : Index := Scalar.indexCast v1187
  ![v1189.toNat]
def k0_mult163 (v1190 : BitVec 32) : BitVec 32 :=
  let c8_i32_521 : BitVec 32 := 8#32
  let v1191 : BitVec 32 := Scalar.muli v1190 c8_i32_521
  v1191

def k0_mult164 (i : grid0.Coords) : BitVec 32 :=
  let arg1 : BitVec 32 := BitVec.ofNat 32 (i 1).val
  let c256_i32_519 : BitVec 32 := 256#32
  let v1186 : BitVec 32 := Scalar.muli arg1 c256_i32_519
  let c80_i32 : BitVec 32 := 80#32
  let v1187 : BitVec 32 := Scalar.addi v1186 c80_i32
  let c8_i32_522 : BitVec 32 := 8#32
  let v1193 : BitVec 32 := Scalar.muli v1187 c8_i32_522
  v1193
def k0_off328 (i : grid0.Coords) : Fin 1 → Nat :=
  let c1_i32_520 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1188 : BitVec 32 := Scalar.subi c1_i32_520 v11
  ![v1188.toNat]
def k0_off329 (i : grid0.Coords) : Fin 3 → Nat :=
  let c1_i32_520 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1188 : BitVec 32 := Scalar.subi c1_i32_520 v11
  let arg1 : BitVec 32 := BitVec.ofNat 32 (i 1).val
  let c256_i32_519 : BitVec 32 := 256#32
  let v1186 : BitVec 32 := Scalar.muli arg1 c256_i32_519
  let c80_i32 : BitVec 32 := 80#32
  let v1187 : BitVec 32 := Scalar.addi v1186 c80_i32
  let c8_i32_522 : BitVec 32 := 8#32
  let v1193 : BitVec 32 := Scalar.muli v1187 c8_i32_522
  let v1194 : BitVec 32 := v1193
  let c0_i32_523 : BitVec 32 := 0#32
  ![v1188.toNat, v1194.toNat, 0]
def k0_off330 (v1190 : BitVec 32) : Fin 2 → Nat :=
  let c8_i32_521 : BitVec 32 := 8#32
  let v1191 : BitVec 32 := Scalar.muli v1190 c8_i32_521
  let v1192 : BitVec 32 := v1191
  let c0_i32_524 : BitVec 32 := 0#32
  ![v1192.toNat, 0]

def k0_chk83 (i : grid0.Coords) (v0 : BitVec 32) (v28 : BitVec 32) (v1190 : BitVec 32) : Prop :=
  (∀ (k0_h1 : k0_cond1 i v0 = 1#1), ∀ (k0_h4 : k0_cond4 i v28 = 1#1), 8 ∣ (k0_mult163 v1190).toNat) ∧
  (∀ (k0_h1 : k0_cond1 i v0 = 1#1), ∀ (k0_h4 : k0_cond4 i v28 = 1#1), ∀ a, (k0_off330 v1190) a + S8x128.size a ≤ S262144x128.size a)
theorem k0_mult163_dvd : ∀ (i : grid0.Coords) (v0 : BitVec 32) (v28 : BitVec 32) (v1190 : BitVec 32) (k0_hw83 : k0_chk83 i v0 v28 v1190), ∀ (k0_h1 : k0_cond1 i v0 = 1#1), ∀ (k0_h4 : k0_cond4 i v28 = 1#1), 8 ∣ (k0_mult163 v1190).toNat := fun i v0 v28 v1190 k0_hw83 k0_h1 k0_h4 => k0_hw83.1 k0_h1 k0_h4
theorem k0_off330_inb : ∀ (i : grid0.Coords) (v0 : BitVec 32) (v28 : BitVec 32) (v1190 : BitVec 32) (k0_hw83 : k0_chk83 i v0 v28 v1190), ∀ (k0_h1 : k0_cond1 i v0 = 1#1), ∀ (k0_h4 : k0_cond4 i v28 = 1#1), ∀ a, (k0_off330 v1190) a + S8x128.size a ≤ S262144x128.size a := fun i v0 v28 v1190 k0_hw83 k0_h1 k0_h4 => k0_hw83.2 k0_h1 k0_h4

def k0_off331 (i : grid0.Coords) : Fin 1 → Nat :=
  let arg1 : BitVec 32 := BitVec.ofNat 32 (i 1).val
  let c256_i32_525 : BitVec 32 := 256#32
  let v1200 : BitVec 32 := Scalar.muli arg1 c256_i32_525
  let c81_i32 : BitVec 32 := 81#32
  let v1201 : BitVec 32 := Scalar.addi v1200 c81_i32
  let v1203 : Index := Scalar.indexCast v1201
  ![v1203.toNat]
def k0_mult165 (v1204 : BitVec 32) : BitVec 32 :=
  let c8_i32_527 : BitVec 32 := 8#32
  let v1205 : BitVec 32 := Scalar.muli v1204 c8_i32_527
  v1205

def k0_mult166 (i : grid0.Coords) : BitVec 32 :=
  let arg1 : BitVec 32 := BitVec.ofNat 32 (i 1).val
  let c256_i32_525 : BitVec 32 := 256#32
  let v1200 : BitVec 32 := Scalar.muli arg1 c256_i32_525
  let c81_i32 : BitVec 32 := 81#32
  let v1201 : BitVec 32 := Scalar.addi v1200 c81_i32
  let c8_i32_528 : BitVec 32 := 8#32
  let v1207 : BitVec 32 := Scalar.muli v1201 c8_i32_528
  v1207
def k0_off332 (i : grid0.Coords) : Fin 1 → Nat :=
  let c1_i32_526 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1202 : BitVec 32 := Scalar.subi c1_i32_526 v11
  ![v1202.toNat]
def k0_off333 (i : grid0.Coords) : Fin 3 → Nat :=
  let c1_i32_526 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1202 : BitVec 32 := Scalar.subi c1_i32_526 v11
  let arg1 : BitVec 32 := BitVec.ofNat 32 (i 1).val
  let c256_i32_525 : BitVec 32 := 256#32
  let v1200 : BitVec 32 := Scalar.muli arg1 c256_i32_525
  let c81_i32 : BitVec 32 := 81#32
  let v1201 : BitVec 32 := Scalar.addi v1200 c81_i32
  let c8_i32_528 : BitVec 32 := 8#32
  let v1207 : BitVec 32 := Scalar.muli v1201 c8_i32_528
  let v1208 : BitVec 32 := v1207
  let c0_i32_529 : BitVec 32 := 0#32
  ![v1202.toNat, v1208.toNat, 0]
def k0_off334 (v1204 : BitVec 32) : Fin 2 → Nat :=
  let c8_i32_527 : BitVec 32 := 8#32
  let v1205 : BitVec 32 := Scalar.muli v1204 c8_i32_527
  let v1206 : BitVec 32 := v1205
  let c0_i32_530 : BitVec 32 := 0#32
  ![v1206.toNat, 0]

def k0_chk84 (i : grid0.Coords) (v0 : BitVec 32) (v28 : BitVec 32) (v1204 : BitVec 32) : Prop :=
  (∀ (k0_h1 : k0_cond1 i v0 = 1#1), ∀ (k0_h4 : k0_cond4 i v28 = 1#1), 8 ∣ (k0_mult165 v1204).toNat) ∧
  (∀ (k0_h1 : k0_cond1 i v0 = 1#1), ∀ (k0_h4 : k0_cond4 i v28 = 1#1), ∀ a, (k0_off334 v1204) a + S8x128.size a ≤ S262144x128.size a)
theorem k0_mult165_dvd : ∀ (i : grid0.Coords) (v0 : BitVec 32) (v28 : BitVec 32) (v1204 : BitVec 32) (k0_hw84 : k0_chk84 i v0 v28 v1204), ∀ (k0_h1 : k0_cond1 i v0 = 1#1), ∀ (k0_h4 : k0_cond4 i v28 = 1#1), 8 ∣ (k0_mult165 v1204).toNat := fun i v0 v28 v1204 k0_hw84 k0_h1 k0_h4 => k0_hw84.1 k0_h1 k0_h4
theorem k0_off334_inb : ∀ (i : grid0.Coords) (v0 : BitVec 32) (v28 : BitVec 32) (v1204 : BitVec 32) (k0_hw84 : k0_chk84 i v0 v28 v1204), ∀ (k0_h1 : k0_cond1 i v0 = 1#1), ∀ (k0_h4 : k0_cond4 i v28 = 1#1), ∀ a, (k0_off334 v1204) a + S8x128.size a ≤ S262144x128.size a := fun i v0 v28 v1204 k0_hw84 k0_h1 k0_h4 => k0_hw84.2 k0_h1 k0_h4

def k0_off335 (i : grid0.Coords) : Fin 1 → Nat :=
  let arg1 : BitVec 32 := BitVec.ofNat 32 (i 1).val
  let c256_i32_531 : BitVec 32 := 256#32
  let v1214 : BitVec 32 := Scalar.muli arg1 c256_i32_531
  let c82_i32 : BitVec 32 := 82#32
  let v1215 : BitVec 32 := Scalar.addi v1214 c82_i32
  let v1217 : Index := Scalar.indexCast v1215
  ![v1217.toNat]
def k0_mult167 (v1218 : BitVec 32) : BitVec 32 :=
  let c8_i32_533 : BitVec 32 := 8#32
  let v1219 : BitVec 32 := Scalar.muli v1218 c8_i32_533
  v1219

def k0_mult168 (i : grid0.Coords) : BitVec 32 :=
  let arg1 : BitVec 32 := BitVec.ofNat 32 (i 1).val
  let c256_i32_531 : BitVec 32 := 256#32
  let v1214 : BitVec 32 := Scalar.muli arg1 c256_i32_531
  let c82_i32 : BitVec 32 := 82#32
  let v1215 : BitVec 32 := Scalar.addi v1214 c82_i32
  let c8_i32_534 : BitVec 32 := 8#32
  let v1221 : BitVec 32 := Scalar.muli v1215 c8_i32_534
  v1221
def k0_off336 (i : grid0.Coords) : Fin 1 → Nat :=
  let c1_i32_532 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1216 : BitVec 32 := Scalar.subi c1_i32_532 v11
  ![v1216.toNat]
def k0_off337 (i : grid0.Coords) : Fin 3 → Nat :=
  let c1_i32_532 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1216 : BitVec 32 := Scalar.subi c1_i32_532 v11
  let arg1 : BitVec 32 := BitVec.ofNat 32 (i 1).val
  let c256_i32_531 : BitVec 32 := 256#32
  let v1214 : BitVec 32 := Scalar.muli arg1 c256_i32_531
  let c82_i32 : BitVec 32 := 82#32
  let v1215 : BitVec 32 := Scalar.addi v1214 c82_i32
  let c8_i32_534 : BitVec 32 := 8#32
  let v1221 : BitVec 32 := Scalar.muli v1215 c8_i32_534
  let v1222 : BitVec 32 := v1221
  let c0_i32_535 : BitVec 32 := 0#32
  ![v1216.toNat, v1222.toNat, 0]
def k0_off338 (v1218 : BitVec 32) : Fin 2 → Nat :=
  let c8_i32_533 : BitVec 32 := 8#32
  let v1219 : BitVec 32 := Scalar.muli v1218 c8_i32_533
  let v1220 : BitVec 32 := v1219
  let c0_i32_536 : BitVec 32 := 0#32
  ![v1220.toNat, 0]

def k0_chk85 (i : grid0.Coords) (v0 : BitVec 32) (v28 : BitVec 32) (v1218 : BitVec 32) : Prop :=
  (∀ (k0_h1 : k0_cond1 i v0 = 1#1), ∀ (k0_h4 : k0_cond4 i v28 = 1#1), 8 ∣ (k0_mult167 v1218).toNat) ∧
  (∀ (k0_h1 : k0_cond1 i v0 = 1#1), ∀ (k0_h4 : k0_cond4 i v28 = 1#1), ∀ a, (k0_off338 v1218) a + S8x128.size a ≤ S262144x128.size a)
theorem k0_mult167_dvd : ∀ (i : grid0.Coords) (v0 : BitVec 32) (v28 : BitVec 32) (v1218 : BitVec 32) (k0_hw85 : k0_chk85 i v0 v28 v1218), ∀ (k0_h1 : k0_cond1 i v0 = 1#1), ∀ (k0_h4 : k0_cond4 i v28 = 1#1), 8 ∣ (k0_mult167 v1218).toNat := fun i v0 v28 v1218 k0_hw85 k0_h1 k0_h4 => k0_hw85.1 k0_h1 k0_h4
theorem k0_off338_inb : ∀ (i : grid0.Coords) (v0 : BitVec 32) (v28 : BitVec 32) (v1218 : BitVec 32) (k0_hw85 : k0_chk85 i v0 v28 v1218), ∀ (k0_h1 : k0_cond1 i v0 = 1#1), ∀ (k0_h4 : k0_cond4 i v28 = 1#1), ∀ a, (k0_off338 v1218) a + S8x128.size a ≤ S262144x128.size a := fun i v0 v28 v1218 k0_hw85 k0_h1 k0_h4 => k0_hw85.2 k0_h1 k0_h4

def k0_off339 (i : grid0.Coords) : Fin 1 → Nat :=
  let arg1 : BitVec 32 := BitVec.ofNat 32 (i 1).val
  let c256_i32_537 : BitVec 32 := 256#32
  let v1228 : BitVec 32 := Scalar.muli arg1 c256_i32_537
  let c83_i32 : BitVec 32 := 83#32
  let v1229 : BitVec 32 := Scalar.addi v1228 c83_i32
  let v1231 : Index := Scalar.indexCast v1229
  ![v1231.toNat]
def k0_mult169 (v1232 : BitVec 32) : BitVec 32 :=
  let c8_i32_539 : BitVec 32 := 8#32
  let v1233 : BitVec 32 := Scalar.muli v1232 c8_i32_539
  v1233

def k0_mult170 (i : grid0.Coords) : BitVec 32 :=
  let arg1 : BitVec 32 := BitVec.ofNat 32 (i 1).val
  let c256_i32_537 : BitVec 32 := 256#32
  let v1228 : BitVec 32 := Scalar.muli arg1 c256_i32_537
  let c83_i32 : BitVec 32 := 83#32
  let v1229 : BitVec 32 := Scalar.addi v1228 c83_i32
  let c8_i32_540 : BitVec 32 := 8#32
  let v1235 : BitVec 32 := Scalar.muli v1229 c8_i32_540
  v1235
def k0_off340 (i : grid0.Coords) : Fin 1 → Nat :=
  let c1_i32_538 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1230 : BitVec 32 := Scalar.subi c1_i32_538 v11
  ![v1230.toNat]
def k0_off341 (i : grid0.Coords) : Fin 3 → Nat :=
  let c1_i32_538 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1230 : BitVec 32 := Scalar.subi c1_i32_538 v11
  let arg1 : BitVec 32 := BitVec.ofNat 32 (i 1).val
  let c256_i32_537 : BitVec 32 := 256#32
  let v1228 : BitVec 32 := Scalar.muli arg1 c256_i32_537
  let c83_i32 : BitVec 32 := 83#32
  let v1229 : BitVec 32 := Scalar.addi v1228 c83_i32
  let c8_i32_540 : BitVec 32 := 8#32
  let v1235 : BitVec 32 := Scalar.muli v1229 c8_i32_540
  let v1236 : BitVec 32 := v1235
  let c0_i32_541 : BitVec 32 := 0#32
  ![v1230.toNat, v1236.toNat, 0]
def k0_off342 (v1232 : BitVec 32) : Fin 2 → Nat :=
  let c8_i32_539 : BitVec 32 := 8#32
  let v1233 : BitVec 32 := Scalar.muli v1232 c8_i32_539
  let v1234 : BitVec 32 := v1233
  let c0_i32_542 : BitVec 32 := 0#32
  ![v1234.toNat, 0]

def k0_chk86 (i : grid0.Coords) (v0 : BitVec 32) (v28 : BitVec 32) (v1232 : BitVec 32) : Prop :=
  (∀ (k0_h1 : k0_cond1 i v0 = 1#1), ∀ (k0_h4 : k0_cond4 i v28 = 1#1), 8 ∣ (k0_mult169 v1232).toNat) ∧
  (∀ (k0_h1 : k0_cond1 i v0 = 1#1), ∀ (k0_h4 : k0_cond4 i v28 = 1#1), ∀ a, (k0_off342 v1232) a + S8x128.size a ≤ S262144x128.size a)
theorem k0_mult169_dvd : ∀ (i : grid0.Coords) (v0 : BitVec 32) (v28 : BitVec 32) (v1232 : BitVec 32) (k0_hw86 : k0_chk86 i v0 v28 v1232), ∀ (k0_h1 : k0_cond1 i v0 = 1#1), ∀ (k0_h4 : k0_cond4 i v28 = 1#1), 8 ∣ (k0_mult169 v1232).toNat := fun i v0 v28 v1232 k0_hw86 k0_h1 k0_h4 => k0_hw86.1 k0_h1 k0_h4
theorem k0_off342_inb : ∀ (i : grid0.Coords) (v0 : BitVec 32) (v28 : BitVec 32) (v1232 : BitVec 32) (k0_hw86 : k0_chk86 i v0 v28 v1232), ∀ (k0_h1 : k0_cond1 i v0 = 1#1), ∀ (k0_h4 : k0_cond4 i v28 = 1#1), ∀ a, (k0_off342 v1232) a + S8x128.size a ≤ S262144x128.size a := fun i v0 v28 v1232 k0_hw86 k0_h1 k0_h4 => k0_hw86.2 k0_h1 k0_h4

def k0_off343 (i : grid0.Coords) : Fin 1 → Nat :=
  let arg1 : BitVec 32 := BitVec.ofNat 32 (i 1).val
  let c256_i32_543 : BitVec 32 := 256#32
  let v1242 : BitVec 32 := Scalar.muli arg1 c256_i32_543
  let c84_i32 : BitVec 32 := 84#32
  let v1243 : BitVec 32 := Scalar.addi v1242 c84_i32
  let v1245 : Index := Scalar.indexCast v1243
  ![v1245.toNat]
def k0_mult171 (v1246 : BitVec 32) : BitVec 32 :=
  let c8_i32_545 : BitVec 32 := 8#32
  let v1247 : BitVec 32 := Scalar.muli v1246 c8_i32_545
  v1247

def k0_mult172 (i : grid0.Coords) : BitVec 32 :=
  let arg1 : BitVec 32 := BitVec.ofNat 32 (i 1).val
  let c256_i32_543 : BitVec 32 := 256#32
  let v1242 : BitVec 32 := Scalar.muli arg1 c256_i32_543
  let c84_i32 : BitVec 32 := 84#32
  let v1243 : BitVec 32 := Scalar.addi v1242 c84_i32
  let c8_i32_546 : BitVec 32 := 8#32
  let v1249 : BitVec 32 := Scalar.muli v1243 c8_i32_546
  v1249
def k0_off344 (i : grid0.Coords) : Fin 1 → Nat :=
  let c1_i32_544 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1244 : BitVec 32 := Scalar.subi c1_i32_544 v11
  ![v1244.toNat]
def k0_off345 (i : grid0.Coords) : Fin 3 → Nat :=
  let c1_i32_544 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1244 : BitVec 32 := Scalar.subi c1_i32_544 v11
  let arg1 : BitVec 32 := BitVec.ofNat 32 (i 1).val
  let c256_i32_543 : BitVec 32 := 256#32
  let v1242 : BitVec 32 := Scalar.muli arg1 c256_i32_543
  let c84_i32 : BitVec 32 := 84#32
  let v1243 : BitVec 32 := Scalar.addi v1242 c84_i32
  let c8_i32_546 : BitVec 32 := 8#32
  let v1249 : BitVec 32 := Scalar.muli v1243 c8_i32_546
  let v1250 : BitVec 32 := v1249
  let c0_i32_547 : BitVec 32 := 0#32
  ![v1244.toNat, v1250.toNat, 0]
def k0_off346 (v1246 : BitVec 32) : Fin 2 → Nat :=
  let c8_i32_545 : BitVec 32 := 8#32
  let v1247 : BitVec 32 := Scalar.muli v1246 c8_i32_545
  let v1248 : BitVec 32 := v1247
  let c0_i32_548 : BitVec 32 := 0#32
  ![v1248.toNat, 0]

def k0_chk87 (i : grid0.Coords) (v0 : BitVec 32) (v28 : BitVec 32) (v1246 : BitVec 32) : Prop :=
  (∀ (k0_h1 : k0_cond1 i v0 = 1#1), ∀ (k0_h4 : k0_cond4 i v28 = 1#1), 8 ∣ (k0_mult171 v1246).toNat) ∧
  (∀ (k0_h1 : k0_cond1 i v0 = 1#1), ∀ (k0_h4 : k0_cond4 i v28 = 1#1), ∀ a, (k0_off346 v1246) a + S8x128.size a ≤ S262144x128.size a)
theorem k0_mult171_dvd : ∀ (i : grid0.Coords) (v0 : BitVec 32) (v28 : BitVec 32) (v1246 : BitVec 32) (k0_hw87 : k0_chk87 i v0 v28 v1246), ∀ (k0_h1 : k0_cond1 i v0 = 1#1), ∀ (k0_h4 : k0_cond4 i v28 = 1#1), 8 ∣ (k0_mult171 v1246).toNat := fun i v0 v28 v1246 k0_hw87 k0_h1 k0_h4 => k0_hw87.1 k0_h1 k0_h4
theorem k0_off346_inb : ∀ (i : grid0.Coords) (v0 : BitVec 32) (v28 : BitVec 32) (v1246 : BitVec 32) (k0_hw87 : k0_chk87 i v0 v28 v1246), ∀ (k0_h1 : k0_cond1 i v0 = 1#1), ∀ (k0_h4 : k0_cond4 i v28 = 1#1), ∀ a, (k0_off346 v1246) a + S8x128.size a ≤ S262144x128.size a := fun i v0 v28 v1246 k0_hw87 k0_h1 k0_h4 => k0_hw87.2 k0_h1 k0_h4

def k0_off347 (i : grid0.Coords) : Fin 1 → Nat :=
  let arg1 : BitVec 32 := BitVec.ofNat 32 (i 1).val
  let c256_i32_549 : BitVec 32 := 256#32
  let v1256 : BitVec 32 := Scalar.muli arg1 c256_i32_549
  let c85_i32 : BitVec 32 := 85#32
  let v1257 : BitVec 32 := Scalar.addi v1256 c85_i32
  let v1259 : Index := Scalar.indexCast v1257
  ![v1259.toNat]
def k0_mult173 (v1260 : BitVec 32) : BitVec 32 :=
  let c8_i32_551 : BitVec 32 := 8#32
  let v1261 : BitVec 32 := Scalar.muli v1260 c8_i32_551
  v1261

def k0_mult174 (i : grid0.Coords) : BitVec 32 :=
  let arg1 : BitVec 32 := BitVec.ofNat 32 (i 1).val
  let c256_i32_549 : BitVec 32 := 256#32
  let v1256 : BitVec 32 := Scalar.muli arg1 c256_i32_549
  let c85_i32 : BitVec 32 := 85#32
  let v1257 : BitVec 32 := Scalar.addi v1256 c85_i32
  let c8_i32_552 : BitVec 32 := 8#32
  let v1263 : BitVec 32 := Scalar.muli v1257 c8_i32_552
  v1263
def k0_off348 (i : grid0.Coords) : Fin 1 → Nat :=
  let c1_i32_550 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1258 : BitVec 32 := Scalar.subi c1_i32_550 v11
  ![v1258.toNat]
def k0_off349 (i : grid0.Coords) : Fin 3 → Nat :=
  let c1_i32_550 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1258 : BitVec 32 := Scalar.subi c1_i32_550 v11
  let arg1 : BitVec 32 := BitVec.ofNat 32 (i 1).val
  let c256_i32_549 : BitVec 32 := 256#32
  let v1256 : BitVec 32 := Scalar.muli arg1 c256_i32_549
  let c85_i32 : BitVec 32 := 85#32
  let v1257 : BitVec 32 := Scalar.addi v1256 c85_i32
  let c8_i32_552 : BitVec 32 := 8#32
  let v1263 : BitVec 32 := Scalar.muli v1257 c8_i32_552
  let v1264 : BitVec 32 := v1263
  let c0_i32_553 : BitVec 32 := 0#32
  ![v1258.toNat, v1264.toNat, 0]
def k0_off350 (v1260 : BitVec 32) : Fin 2 → Nat :=
  let c8_i32_551 : BitVec 32 := 8#32
  let v1261 : BitVec 32 := Scalar.muli v1260 c8_i32_551
  let v1262 : BitVec 32 := v1261
  let c0_i32_554 : BitVec 32 := 0#32
  ![v1262.toNat, 0]

def k0_chk88 (i : grid0.Coords) (v0 : BitVec 32) (v28 : BitVec 32) (v1260 : BitVec 32) : Prop :=
  (∀ (k0_h1 : k0_cond1 i v0 = 1#1), ∀ (k0_h4 : k0_cond4 i v28 = 1#1), 8 ∣ (k0_mult173 v1260).toNat) ∧
  (∀ (k0_h1 : k0_cond1 i v0 = 1#1), ∀ (k0_h4 : k0_cond4 i v28 = 1#1), ∀ a, (k0_off350 v1260) a + S8x128.size a ≤ S262144x128.size a)
theorem k0_mult173_dvd : ∀ (i : grid0.Coords) (v0 : BitVec 32) (v28 : BitVec 32) (v1260 : BitVec 32) (k0_hw88 : k0_chk88 i v0 v28 v1260), ∀ (k0_h1 : k0_cond1 i v0 = 1#1), ∀ (k0_h4 : k0_cond4 i v28 = 1#1), 8 ∣ (k0_mult173 v1260).toNat := fun i v0 v28 v1260 k0_hw88 k0_h1 k0_h4 => k0_hw88.1 k0_h1 k0_h4
theorem k0_off350_inb : ∀ (i : grid0.Coords) (v0 : BitVec 32) (v28 : BitVec 32) (v1260 : BitVec 32) (k0_hw88 : k0_chk88 i v0 v28 v1260), ∀ (k0_h1 : k0_cond1 i v0 = 1#1), ∀ (k0_h4 : k0_cond4 i v28 = 1#1), ∀ a, (k0_off350 v1260) a + S8x128.size a ≤ S262144x128.size a := fun i v0 v28 v1260 k0_hw88 k0_h1 k0_h4 => k0_hw88.2 k0_h1 k0_h4

def k0_off351 (i : grid0.Coords) : Fin 1 → Nat :=
  let arg1 : BitVec 32 := BitVec.ofNat 32 (i 1).val
  let c256_i32_555 : BitVec 32 := 256#32
  let v1270 : BitVec 32 := Scalar.muli arg1 c256_i32_555
  let c86_i32 : BitVec 32 := 86#32
  let v1271 : BitVec 32 := Scalar.addi v1270 c86_i32
  let v1273 : Index := Scalar.indexCast v1271
  ![v1273.toNat]
def k0_mult175 (v1274 : BitVec 32) : BitVec 32 :=
  let c8_i32_557 : BitVec 32 := 8#32
  let v1275 : BitVec 32 := Scalar.muli v1274 c8_i32_557
  v1275

def k0_mult176 (i : grid0.Coords) : BitVec 32 :=
  let arg1 : BitVec 32 := BitVec.ofNat 32 (i 1).val
  let c256_i32_555 : BitVec 32 := 256#32
  let v1270 : BitVec 32 := Scalar.muli arg1 c256_i32_555
  let c86_i32 : BitVec 32 := 86#32
  let v1271 : BitVec 32 := Scalar.addi v1270 c86_i32
  let c8_i32_558 : BitVec 32 := 8#32
  let v1277 : BitVec 32 := Scalar.muli v1271 c8_i32_558
  v1277
def k0_off352 (i : grid0.Coords) : Fin 1 → Nat :=
  let c1_i32_556 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1272 : BitVec 32 := Scalar.subi c1_i32_556 v11
  ![v1272.toNat]
def k0_off353 (i : grid0.Coords) : Fin 3 → Nat :=
  let c1_i32_556 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1272 : BitVec 32 := Scalar.subi c1_i32_556 v11
  let arg1 : BitVec 32 := BitVec.ofNat 32 (i 1).val
  let c256_i32_555 : BitVec 32 := 256#32
  let v1270 : BitVec 32 := Scalar.muli arg1 c256_i32_555
  let c86_i32 : BitVec 32 := 86#32
  let v1271 : BitVec 32 := Scalar.addi v1270 c86_i32
  let c8_i32_558 : BitVec 32 := 8#32
  let v1277 : BitVec 32 := Scalar.muli v1271 c8_i32_558
  let v1278 : BitVec 32 := v1277
  let c0_i32_559 : BitVec 32 := 0#32
  ![v1272.toNat, v1278.toNat, 0]
def k0_off354 (v1274 : BitVec 32) : Fin 2 → Nat :=
  let c8_i32_557 : BitVec 32 := 8#32
  let v1275 : BitVec 32 := Scalar.muli v1274 c8_i32_557
  let v1276 : BitVec 32 := v1275
  let c0_i32_560 : BitVec 32 := 0#32
  ![v1276.toNat, 0]

def k0_chk89 (i : grid0.Coords) (v0 : BitVec 32) (v28 : BitVec 32) (v1274 : BitVec 32) : Prop :=
  (∀ (k0_h1 : k0_cond1 i v0 = 1#1), ∀ (k0_h4 : k0_cond4 i v28 = 1#1), 8 ∣ (k0_mult175 v1274).toNat) ∧
  (∀ (k0_h1 : k0_cond1 i v0 = 1#1), ∀ (k0_h4 : k0_cond4 i v28 = 1#1), ∀ a, (k0_off354 v1274) a + S8x128.size a ≤ S262144x128.size a)
theorem k0_mult175_dvd : ∀ (i : grid0.Coords) (v0 : BitVec 32) (v28 : BitVec 32) (v1274 : BitVec 32) (k0_hw89 : k0_chk89 i v0 v28 v1274), ∀ (k0_h1 : k0_cond1 i v0 = 1#1), ∀ (k0_h4 : k0_cond4 i v28 = 1#1), 8 ∣ (k0_mult175 v1274).toNat := fun i v0 v28 v1274 k0_hw89 k0_h1 k0_h4 => k0_hw89.1 k0_h1 k0_h4
theorem k0_off354_inb : ∀ (i : grid0.Coords) (v0 : BitVec 32) (v28 : BitVec 32) (v1274 : BitVec 32) (k0_hw89 : k0_chk89 i v0 v28 v1274), ∀ (k0_h1 : k0_cond1 i v0 = 1#1), ∀ (k0_h4 : k0_cond4 i v28 = 1#1), ∀ a, (k0_off354 v1274) a + S8x128.size a ≤ S262144x128.size a := fun i v0 v28 v1274 k0_hw89 k0_h1 k0_h4 => k0_hw89.2 k0_h1 k0_h4

def k0_off355 (i : grid0.Coords) : Fin 1 → Nat :=
  let arg1 : BitVec 32 := BitVec.ofNat 32 (i 1).val
  let c256_i32_561 : BitVec 32 := 256#32
  let v1284 : BitVec 32 := Scalar.muli arg1 c256_i32_561
  let c87_i32 : BitVec 32 := 87#32
  let v1285 : BitVec 32 := Scalar.addi v1284 c87_i32
  let v1287 : Index := Scalar.indexCast v1285
  ![v1287.toNat]
def k0_mult177 (v1288 : BitVec 32) : BitVec 32 :=
  let c8_i32_563 : BitVec 32 := 8#32
  let v1289 : BitVec 32 := Scalar.muli v1288 c8_i32_563
  v1289

def k0_mult178 (i : grid0.Coords) : BitVec 32 :=
  let arg1 : BitVec 32 := BitVec.ofNat 32 (i 1).val
  let c256_i32_561 : BitVec 32 := 256#32
  let v1284 : BitVec 32 := Scalar.muli arg1 c256_i32_561
  let c87_i32 : BitVec 32 := 87#32
  let v1285 : BitVec 32 := Scalar.addi v1284 c87_i32
  let c8_i32_564 : BitVec 32 := 8#32
  let v1291 : BitVec 32 := Scalar.muli v1285 c8_i32_564
  v1291
def k0_off356 (i : grid0.Coords) : Fin 1 → Nat :=
  let c1_i32_562 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1286 : BitVec 32 := Scalar.subi c1_i32_562 v11
  ![v1286.toNat]
def k0_off357 (i : grid0.Coords) : Fin 3 → Nat :=
  let c1_i32_562 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1286 : BitVec 32 := Scalar.subi c1_i32_562 v11
  let arg1 : BitVec 32 := BitVec.ofNat 32 (i 1).val
  let c256_i32_561 : BitVec 32 := 256#32
  let v1284 : BitVec 32 := Scalar.muli arg1 c256_i32_561
  let c87_i32 : BitVec 32 := 87#32
  let v1285 : BitVec 32 := Scalar.addi v1284 c87_i32
  let c8_i32_564 : BitVec 32 := 8#32
  let v1291 : BitVec 32 := Scalar.muli v1285 c8_i32_564
  let v1292 : BitVec 32 := v1291
  let c0_i32_565 : BitVec 32 := 0#32
  ![v1286.toNat, v1292.toNat, 0]
def k0_off358 (v1288 : BitVec 32) : Fin 2 → Nat :=
  let c8_i32_563 : BitVec 32 := 8#32
  let v1289 : BitVec 32 := Scalar.muli v1288 c8_i32_563
  let v1290 : BitVec 32 := v1289
  let c0_i32_566 : BitVec 32 := 0#32
  ![v1290.toNat, 0]

def k0_chk90 (i : grid0.Coords) (v0 : BitVec 32) (v28 : BitVec 32) (v1288 : BitVec 32) : Prop :=
  (∀ (k0_h1 : k0_cond1 i v0 = 1#1), ∀ (k0_h4 : k0_cond4 i v28 = 1#1), 8 ∣ (k0_mult177 v1288).toNat) ∧
  (∀ (k0_h1 : k0_cond1 i v0 = 1#1), ∀ (k0_h4 : k0_cond4 i v28 = 1#1), ∀ a, (k0_off358 v1288) a + S8x128.size a ≤ S262144x128.size a)
theorem k0_mult177_dvd : ∀ (i : grid0.Coords) (v0 : BitVec 32) (v28 : BitVec 32) (v1288 : BitVec 32) (k0_hw90 : k0_chk90 i v0 v28 v1288), ∀ (k0_h1 : k0_cond1 i v0 = 1#1), ∀ (k0_h4 : k0_cond4 i v28 = 1#1), 8 ∣ (k0_mult177 v1288).toNat := fun i v0 v28 v1288 k0_hw90 k0_h1 k0_h4 => k0_hw90.1 k0_h1 k0_h4
theorem k0_off358_inb : ∀ (i : grid0.Coords) (v0 : BitVec 32) (v28 : BitVec 32) (v1288 : BitVec 32) (k0_hw90 : k0_chk90 i v0 v28 v1288), ∀ (k0_h1 : k0_cond1 i v0 = 1#1), ∀ (k0_h4 : k0_cond4 i v28 = 1#1), ∀ a, (k0_off358 v1288) a + S8x128.size a ≤ S262144x128.size a := fun i v0 v28 v1288 k0_hw90 k0_h1 k0_h4 => k0_hw90.2 k0_h1 k0_h4

def k0_off359 (i : grid0.Coords) : Fin 1 → Nat :=
  let arg1 : BitVec 32 := BitVec.ofNat 32 (i 1).val
  let c256_i32_567 : BitVec 32 := 256#32
  let v1298 : BitVec 32 := Scalar.muli arg1 c256_i32_567
  let c88_i32 : BitVec 32 := 88#32
  let v1299 : BitVec 32 := Scalar.addi v1298 c88_i32
  let v1301 : Index := Scalar.indexCast v1299
  ![v1301.toNat]
def k0_mult179 (v1302 : BitVec 32) : BitVec 32 :=
  let c8_i32_569 : BitVec 32 := 8#32
  let v1303 : BitVec 32 := Scalar.muli v1302 c8_i32_569
  v1303

def k0_mult180 (i : grid0.Coords) : BitVec 32 :=
  let arg1 : BitVec 32 := BitVec.ofNat 32 (i 1).val
  let c256_i32_567 : BitVec 32 := 256#32
  let v1298 : BitVec 32 := Scalar.muli arg1 c256_i32_567
  let c88_i32 : BitVec 32 := 88#32
  let v1299 : BitVec 32 := Scalar.addi v1298 c88_i32
  let c8_i32_570 : BitVec 32 := 8#32
  let v1305 : BitVec 32 := Scalar.muli v1299 c8_i32_570
  v1305
def k0_off360 (i : grid0.Coords) : Fin 1 → Nat :=
  let c1_i32_568 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1300 : BitVec 32 := Scalar.subi c1_i32_568 v11
  ![v1300.toNat]
def k0_off361 (i : grid0.Coords) : Fin 3 → Nat :=
  let c1_i32_568 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1300 : BitVec 32 := Scalar.subi c1_i32_568 v11
  let arg1 : BitVec 32 := BitVec.ofNat 32 (i 1).val
  let c256_i32_567 : BitVec 32 := 256#32
  let v1298 : BitVec 32 := Scalar.muli arg1 c256_i32_567
  let c88_i32 : BitVec 32 := 88#32
  let v1299 : BitVec 32 := Scalar.addi v1298 c88_i32
  let c8_i32_570 : BitVec 32 := 8#32
  let v1305 : BitVec 32 := Scalar.muli v1299 c8_i32_570
  let v1306 : BitVec 32 := v1305
  let c0_i32_571 : BitVec 32 := 0#32
  ![v1300.toNat, v1306.toNat, 0]
def k0_off362 (v1302 : BitVec 32) : Fin 2 → Nat :=
  let c8_i32_569 : BitVec 32 := 8#32
  let v1303 : BitVec 32 := Scalar.muli v1302 c8_i32_569
  let v1304 : BitVec 32 := v1303
  let c0_i32_572 : BitVec 32 := 0#32
  ![v1304.toNat, 0]

def k0_chk91 (i : grid0.Coords) (v0 : BitVec 32) (v28 : BitVec 32) (v1302 : BitVec 32) : Prop :=
  (∀ (k0_h1 : k0_cond1 i v0 = 1#1), ∀ (k0_h4 : k0_cond4 i v28 = 1#1), 8 ∣ (k0_mult179 v1302).toNat) ∧
  (∀ (k0_h1 : k0_cond1 i v0 = 1#1), ∀ (k0_h4 : k0_cond4 i v28 = 1#1), ∀ a, (k0_off362 v1302) a + S8x128.size a ≤ S262144x128.size a)
theorem k0_mult179_dvd : ∀ (i : grid0.Coords) (v0 : BitVec 32) (v28 : BitVec 32) (v1302 : BitVec 32) (k0_hw91 : k0_chk91 i v0 v28 v1302), ∀ (k0_h1 : k0_cond1 i v0 = 1#1), ∀ (k0_h4 : k0_cond4 i v28 = 1#1), 8 ∣ (k0_mult179 v1302).toNat := fun i v0 v28 v1302 k0_hw91 k0_h1 k0_h4 => k0_hw91.1 k0_h1 k0_h4
theorem k0_off362_inb : ∀ (i : grid0.Coords) (v0 : BitVec 32) (v28 : BitVec 32) (v1302 : BitVec 32) (k0_hw91 : k0_chk91 i v0 v28 v1302), ∀ (k0_h1 : k0_cond1 i v0 = 1#1), ∀ (k0_h4 : k0_cond4 i v28 = 1#1), ∀ a, (k0_off362 v1302) a + S8x128.size a ≤ S262144x128.size a := fun i v0 v28 v1302 k0_hw91 k0_h1 k0_h4 => k0_hw91.2 k0_h1 k0_h4

def k0_off363 (i : grid0.Coords) : Fin 1 → Nat :=
  let arg1 : BitVec 32 := BitVec.ofNat 32 (i 1).val
  let c256_i32_573 : BitVec 32 := 256#32
  let v1312 : BitVec 32 := Scalar.muli arg1 c256_i32_573
  let c89_i32 : BitVec 32 := 89#32
  let v1313 : BitVec 32 := Scalar.addi v1312 c89_i32
  let v1315 : Index := Scalar.indexCast v1313
  ![v1315.toNat]
def k0_mult181 (v1316 : BitVec 32) : BitVec 32 :=
  let c8_i32_575 : BitVec 32 := 8#32
  let v1317 : BitVec 32 := Scalar.muli v1316 c8_i32_575
  v1317

def k0_mult182 (i : grid0.Coords) : BitVec 32 :=
  let arg1 : BitVec 32 := BitVec.ofNat 32 (i 1).val
  let c256_i32_573 : BitVec 32 := 256#32
  let v1312 : BitVec 32 := Scalar.muli arg1 c256_i32_573
  let c89_i32 : BitVec 32 := 89#32
  let v1313 : BitVec 32 := Scalar.addi v1312 c89_i32
  let c8_i32_576 : BitVec 32 := 8#32
  let v1319 : BitVec 32 := Scalar.muli v1313 c8_i32_576
  v1319
def k0_off364 (i : grid0.Coords) : Fin 1 → Nat :=
  let c1_i32_574 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1314 : BitVec 32 := Scalar.subi c1_i32_574 v11
  ![v1314.toNat]
def k0_off365 (i : grid0.Coords) : Fin 3 → Nat :=
  let c1_i32_574 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1314 : BitVec 32 := Scalar.subi c1_i32_574 v11
  let arg1 : BitVec 32 := BitVec.ofNat 32 (i 1).val
  let c256_i32_573 : BitVec 32 := 256#32
  let v1312 : BitVec 32 := Scalar.muli arg1 c256_i32_573
  let c89_i32 : BitVec 32 := 89#32
  let v1313 : BitVec 32 := Scalar.addi v1312 c89_i32
  let c8_i32_576 : BitVec 32 := 8#32
  let v1319 : BitVec 32 := Scalar.muli v1313 c8_i32_576
  let v1320 : BitVec 32 := v1319
  let c0_i32_577 : BitVec 32 := 0#32
  ![v1314.toNat, v1320.toNat, 0]
def k0_off366 (v1316 : BitVec 32) : Fin 2 → Nat :=
  let c8_i32_575 : BitVec 32 := 8#32
  let v1317 : BitVec 32 := Scalar.muli v1316 c8_i32_575
  let v1318 : BitVec 32 := v1317
  let c0_i32_578 : BitVec 32 := 0#32
  ![v1318.toNat, 0]

def k0_chk92 (i : grid0.Coords) (v0 : BitVec 32) (v28 : BitVec 32) (v1316 : BitVec 32) : Prop :=
  (∀ (k0_h1 : k0_cond1 i v0 = 1#1), ∀ (k0_h4 : k0_cond4 i v28 = 1#1), 8 ∣ (k0_mult181 v1316).toNat) ∧
  (∀ (k0_h1 : k0_cond1 i v0 = 1#1), ∀ (k0_h4 : k0_cond4 i v28 = 1#1), ∀ a, (k0_off366 v1316) a + S8x128.size a ≤ S262144x128.size a)
theorem k0_mult181_dvd : ∀ (i : grid0.Coords) (v0 : BitVec 32) (v28 : BitVec 32) (v1316 : BitVec 32) (k0_hw92 : k0_chk92 i v0 v28 v1316), ∀ (k0_h1 : k0_cond1 i v0 = 1#1), ∀ (k0_h4 : k0_cond4 i v28 = 1#1), 8 ∣ (k0_mult181 v1316).toNat := fun i v0 v28 v1316 k0_hw92 k0_h1 k0_h4 => k0_hw92.1 k0_h1 k0_h4
theorem k0_off366_inb : ∀ (i : grid0.Coords) (v0 : BitVec 32) (v28 : BitVec 32) (v1316 : BitVec 32) (k0_hw92 : k0_chk92 i v0 v28 v1316), ∀ (k0_h1 : k0_cond1 i v0 = 1#1), ∀ (k0_h4 : k0_cond4 i v28 = 1#1), ∀ a, (k0_off366 v1316) a + S8x128.size a ≤ S262144x128.size a := fun i v0 v28 v1316 k0_hw92 k0_h1 k0_h4 => k0_hw92.2 k0_h1 k0_h4

def k0_off367 (i : grid0.Coords) : Fin 1 → Nat :=
  let arg1 : BitVec 32 := BitVec.ofNat 32 (i 1).val
  let c256_i32_579 : BitVec 32 := 256#32
  let v1326 : BitVec 32 := Scalar.muli arg1 c256_i32_579
  let c90_i32 : BitVec 32 := 90#32
  let v1327 : BitVec 32 := Scalar.addi v1326 c90_i32
  let v1329 : Index := Scalar.indexCast v1327
  ![v1329.toNat]
def k0_mult183 (v1330 : BitVec 32) : BitVec 32 :=
  let c8_i32_581 : BitVec 32 := 8#32
  let v1331 : BitVec 32 := Scalar.muli v1330 c8_i32_581
  v1331

def k0_mult184 (i : grid0.Coords) : BitVec 32 :=
  let arg1 : BitVec 32 := BitVec.ofNat 32 (i 1).val
  let c256_i32_579 : BitVec 32 := 256#32
  let v1326 : BitVec 32 := Scalar.muli arg1 c256_i32_579
  let c90_i32 : BitVec 32 := 90#32
  let v1327 : BitVec 32 := Scalar.addi v1326 c90_i32
  let c8_i32_582 : BitVec 32 := 8#32
  let v1333 : BitVec 32 := Scalar.muli v1327 c8_i32_582
  v1333
def k0_off368 (i : grid0.Coords) : Fin 1 → Nat :=
  let c1_i32_580 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1328 : BitVec 32 := Scalar.subi c1_i32_580 v11
  ![v1328.toNat]
def k0_off369 (i : grid0.Coords) : Fin 3 → Nat :=
  let c1_i32_580 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1328 : BitVec 32 := Scalar.subi c1_i32_580 v11
  let arg1 : BitVec 32 := BitVec.ofNat 32 (i 1).val
  let c256_i32_579 : BitVec 32 := 256#32
  let v1326 : BitVec 32 := Scalar.muli arg1 c256_i32_579
  let c90_i32 : BitVec 32 := 90#32
  let v1327 : BitVec 32 := Scalar.addi v1326 c90_i32
  let c8_i32_582 : BitVec 32 := 8#32
  let v1333 : BitVec 32 := Scalar.muli v1327 c8_i32_582
  let v1334 : BitVec 32 := v1333
  let c0_i32_583 : BitVec 32 := 0#32
  ![v1328.toNat, v1334.toNat, 0]
def k0_off370 (v1330 : BitVec 32) : Fin 2 → Nat :=
  let c8_i32_581 : BitVec 32 := 8#32
  let v1331 : BitVec 32 := Scalar.muli v1330 c8_i32_581
  let v1332 : BitVec 32 := v1331
  let c0_i32_584 : BitVec 32 := 0#32
  ![v1332.toNat, 0]

def k0_chk93 (i : grid0.Coords) (v0 : BitVec 32) (v28 : BitVec 32) (v1330 : BitVec 32) : Prop :=
  (∀ (k0_h1 : k0_cond1 i v0 = 1#1), ∀ (k0_h4 : k0_cond4 i v28 = 1#1), 8 ∣ (k0_mult183 v1330).toNat) ∧
  (∀ (k0_h1 : k0_cond1 i v0 = 1#1), ∀ (k0_h4 : k0_cond4 i v28 = 1#1), ∀ a, (k0_off370 v1330) a + S8x128.size a ≤ S262144x128.size a)
theorem k0_mult183_dvd : ∀ (i : grid0.Coords) (v0 : BitVec 32) (v28 : BitVec 32) (v1330 : BitVec 32) (k0_hw93 : k0_chk93 i v0 v28 v1330), ∀ (k0_h1 : k0_cond1 i v0 = 1#1), ∀ (k0_h4 : k0_cond4 i v28 = 1#1), 8 ∣ (k0_mult183 v1330).toNat := fun i v0 v28 v1330 k0_hw93 k0_h1 k0_h4 => k0_hw93.1 k0_h1 k0_h4
theorem k0_off370_inb : ∀ (i : grid0.Coords) (v0 : BitVec 32) (v28 : BitVec 32) (v1330 : BitVec 32) (k0_hw93 : k0_chk93 i v0 v28 v1330), ∀ (k0_h1 : k0_cond1 i v0 = 1#1), ∀ (k0_h4 : k0_cond4 i v28 = 1#1), ∀ a, (k0_off370 v1330) a + S8x128.size a ≤ S262144x128.size a := fun i v0 v28 v1330 k0_hw93 k0_h1 k0_h4 => k0_hw93.2 k0_h1 k0_h4

def k0_off371 (i : grid0.Coords) : Fin 1 → Nat :=
  let arg1 : BitVec 32 := BitVec.ofNat 32 (i 1).val
  let c256_i32_585 : BitVec 32 := 256#32
  let v1340 : BitVec 32 := Scalar.muli arg1 c256_i32_585
  let c91_i32 : BitVec 32 := 91#32
  let v1341 : BitVec 32 := Scalar.addi v1340 c91_i32
  let v1343 : Index := Scalar.indexCast v1341
  ![v1343.toNat]
def k0_mult185 (v1344 : BitVec 32) : BitVec 32 :=
  let c8_i32_587 : BitVec 32 := 8#32
  let v1345 : BitVec 32 := Scalar.muli v1344 c8_i32_587
  v1345

def k0_mult186 (i : grid0.Coords) : BitVec 32 :=
  let arg1 : BitVec 32 := BitVec.ofNat 32 (i 1).val
  let c256_i32_585 : BitVec 32 := 256#32
  let v1340 : BitVec 32 := Scalar.muli arg1 c256_i32_585
  let c91_i32 : BitVec 32 := 91#32
  let v1341 : BitVec 32 := Scalar.addi v1340 c91_i32
  let c8_i32_588 : BitVec 32 := 8#32
  let v1347 : BitVec 32 := Scalar.muli v1341 c8_i32_588
  v1347
def k0_off372 (i : grid0.Coords) : Fin 1 → Nat :=
  let c1_i32_586 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1342 : BitVec 32 := Scalar.subi c1_i32_586 v11
  ![v1342.toNat]
def k0_off373 (i : grid0.Coords) : Fin 3 → Nat :=
  let c1_i32_586 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1342 : BitVec 32 := Scalar.subi c1_i32_586 v11
  let arg1 : BitVec 32 := BitVec.ofNat 32 (i 1).val
  let c256_i32_585 : BitVec 32 := 256#32
  let v1340 : BitVec 32 := Scalar.muli arg1 c256_i32_585
  let c91_i32 : BitVec 32 := 91#32
  let v1341 : BitVec 32 := Scalar.addi v1340 c91_i32
  let c8_i32_588 : BitVec 32 := 8#32
  let v1347 : BitVec 32 := Scalar.muli v1341 c8_i32_588
  let v1348 : BitVec 32 := v1347
  let c0_i32_589 : BitVec 32 := 0#32
  ![v1342.toNat, v1348.toNat, 0]
def k0_off374 (v1344 : BitVec 32) : Fin 2 → Nat :=
  let c8_i32_587 : BitVec 32 := 8#32
  let v1345 : BitVec 32 := Scalar.muli v1344 c8_i32_587
  let v1346 : BitVec 32 := v1345
  let c0_i32_590 : BitVec 32 := 0#32
  ![v1346.toNat, 0]

def k0_chk94 (i : grid0.Coords) (v0 : BitVec 32) (v28 : BitVec 32) (v1344 : BitVec 32) : Prop :=
  (∀ (k0_h1 : k0_cond1 i v0 = 1#1), ∀ (k0_h4 : k0_cond4 i v28 = 1#1), 8 ∣ (k0_mult185 v1344).toNat) ∧
  (∀ (k0_h1 : k0_cond1 i v0 = 1#1), ∀ (k0_h4 : k0_cond4 i v28 = 1#1), ∀ a, (k0_off374 v1344) a + S8x128.size a ≤ S262144x128.size a)
theorem k0_mult185_dvd : ∀ (i : grid0.Coords) (v0 : BitVec 32) (v28 : BitVec 32) (v1344 : BitVec 32) (k0_hw94 : k0_chk94 i v0 v28 v1344), ∀ (k0_h1 : k0_cond1 i v0 = 1#1), ∀ (k0_h4 : k0_cond4 i v28 = 1#1), 8 ∣ (k0_mult185 v1344).toNat := fun i v0 v28 v1344 k0_hw94 k0_h1 k0_h4 => k0_hw94.1 k0_h1 k0_h4
theorem k0_off374_inb : ∀ (i : grid0.Coords) (v0 : BitVec 32) (v28 : BitVec 32) (v1344 : BitVec 32) (k0_hw94 : k0_chk94 i v0 v28 v1344), ∀ (k0_h1 : k0_cond1 i v0 = 1#1), ∀ (k0_h4 : k0_cond4 i v28 = 1#1), ∀ a, (k0_off374 v1344) a + S8x128.size a ≤ S262144x128.size a := fun i v0 v28 v1344 k0_hw94 k0_h1 k0_h4 => k0_hw94.2 k0_h1 k0_h4

def k0_off375 (i : grid0.Coords) : Fin 1 → Nat :=
  let arg1 : BitVec 32 := BitVec.ofNat 32 (i 1).val
  let c256_i32_591 : BitVec 32 := 256#32
  let v1354 : BitVec 32 := Scalar.muli arg1 c256_i32_591
  let c92_i32 : BitVec 32 := 92#32
  let v1355 : BitVec 32 := Scalar.addi v1354 c92_i32
  let v1357 : Index := Scalar.indexCast v1355
  ![v1357.toNat]
def k0_mult187 (v1358 : BitVec 32) : BitVec 32 :=
  let c8_i32_593 : BitVec 32 := 8#32
  let v1359 : BitVec 32 := Scalar.muli v1358 c8_i32_593
  v1359

def k0_mult188 (i : grid0.Coords) : BitVec 32 :=
  let arg1 : BitVec 32 := BitVec.ofNat 32 (i 1).val
  let c256_i32_591 : BitVec 32 := 256#32
  let v1354 : BitVec 32 := Scalar.muli arg1 c256_i32_591
  let c92_i32 : BitVec 32 := 92#32
  let v1355 : BitVec 32 := Scalar.addi v1354 c92_i32
  let c8_i32_594 : BitVec 32 := 8#32
  let v1361 : BitVec 32 := Scalar.muli v1355 c8_i32_594
  v1361
def k0_off376 (i : grid0.Coords) : Fin 1 → Nat :=
  let c1_i32_592 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1356 : BitVec 32 := Scalar.subi c1_i32_592 v11
  ![v1356.toNat]
def k0_off377 (i : grid0.Coords) : Fin 3 → Nat :=
  let c1_i32_592 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1356 : BitVec 32 := Scalar.subi c1_i32_592 v11
  let arg1 : BitVec 32 := BitVec.ofNat 32 (i 1).val
  let c256_i32_591 : BitVec 32 := 256#32
  let v1354 : BitVec 32 := Scalar.muli arg1 c256_i32_591
  let c92_i32 : BitVec 32 := 92#32
  let v1355 : BitVec 32 := Scalar.addi v1354 c92_i32
  let c8_i32_594 : BitVec 32 := 8#32
  let v1361 : BitVec 32 := Scalar.muli v1355 c8_i32_594
  let v1362 : BitVec 32 := v1361
  let c0_i32_595 : BitVec 32 := 0#32
  ![v1356.toNat, v1362.toNat, 0]
def k0_off378 (v1358 : BitVec 32) : Fin 2 → Nat :=
  let c8_i32_593 : BitVec 32 := 8#32
  let v1359 : BitVec 32 := Scalar.muli v1358 c8_i32_593
  let v1360 : BitVec 32 := v1359
  let c0_i32_596 : BitVec 32 := 0#32
  ![v1360.toNat, 0]

def k0_chk95 (i : grid0.Coords) (v0 : BitVec 32) (v28 : BitVec 32) (v1358 : BitVec 32) : Prop :=
  (∀ (k0_h1 : k0_cond1 i v0 = 1#1), ∀ (k0_h4 : k0_cond4 i v28 = 1#1), 8 ∣ (k0_mult187 v1358).toNat) ∧
  (∀ (k0_h1 : k0_cond1 i v0 = 1#1), ∀ (k0_h4 : k0_cond4 i v28 = 1#1), ∀ a, (k0_off378 v1358) a + S8x128.size a ≤ S262144x128.size a)
theorem k0_mult187_dvd : ∀ (i : grid0.Coords) (v0 : BitVec 32) (v28 : BitVec 32) (v1358 : BitVec 32) (k0_hw95 : k0_chk95 i v0 v28 v1358), ∀ (k0_h1 : k0_cond1 i v0 = 1#1), ∀ (k0_h4 : k0_cond4 i v28 = 1#1), 8 ∣ (k0_mult187 v1358).toNat := fun i v0 v28 v1358 k0_hw95 k0_h1 k0_h4 => k0_hw95.1 k0_h1 k0_h4
theorem k0_off378_inb : ∀ (i : grid0.Coords) (v0 : BitVec 32) (v28 : BitVec 32) (v1358 : BitVec 32) (k0_hw95 : k0_chk95 i v0 v28 v1358), ∀ (k0_h1 : k0_cond1 i v0 = 1#1), ∀ (k0_h4 : k0_cond4 i v28 = 1#1), ∀ a, (k0_off378 v1358) a + S8x128.size a ≤ S262144x128.size a := fun i v0 v28 v1358 k0_hw95 k0_h1 k0_h4 => k0_hw95.2 k0_h1 k0_h4

def k0_off379 (i : grid0.Coords) : Fin 1 → Nat :=
  let arg1 : BitVec 32 := BitVec.ofNat 32 (i 1).val
  let c256_i32_597 : BitVec 32 := 256#32
  let v1368 : BitVec 32 := Scalar.muli arg1 c256_i32_597
  let c93_i32 : BitVec 32 := 93#32
  let v1369 : BitVec 32 := Scalar.addi v1368 c93_i32
  let v1371 : Index := Scalar.indexCast v1369
  ![v1371.toNat]
def k0_mult189 (v1372 : BitVec 32) : BitVec 32 :=
  let c8_i32_599 : BitVec 32 := 8#32
  let v1373 : BitVec 32 := Scalar.muli v1372 c8_i32_599
  v1373

def k0_mult190 (i : grid0.Coords) : BitVec 32 :=
  let arg1 : BitVec 32 := BitVec.ofNat 32 (i 1).val
  let c256_i32_597 : BitVec 32 := 256#32
  let v1368 : BitVec 32 := Scalar.muli arg1 c256_i32_597
  let c93_i32 : BitVec 32 := 93#32
  let v1369 : BitVec 32 := Scalar.addi v1368 c93_i32
  let c8_i32_600 : BitVec 32 := 8#32
  let v1375 : BitVec 32 := Scalar.muli v1369 c8_i32_600
  v1375
def k0_off380 (i : grid0.Coords) : Fin 1 → Nat :=
  let c1_i32_598 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1370 : BitVec 32 := Scalar.subi c1_i32_598 v11
  ![v1370.toNat]
def k0_off381 (i : grid0.Coords) : Fin 3 → Nat :=
  let c1_i32_598 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1370 : BitVec 32 := Scalar.subi c1_i32_598 v11
  let arg1 : BitVec 32 := BitVec.ofNat 32 (i 1).val
  let c256_i32_597 : BitVec 32 := 256#32
  let v1368 : BitVec 32 := Scalar.muli arg1 c256_i32_597
  let c93_i32 : BitVec 32 := 93#32
  let v1369 : BitVec 32 := Scalar.addi v1368 c93_i32
  let c8_i32_600 : BitVec 32 := 8#32
  let v1375 : BitVec 32 := Scalar.muli v1369 c8_i32_600
  let v1376 : BitVec 32 := v1375
  let c0_i32_601 : BitVec 32 := 0#32
  ![v1370.toNat, v1376.toNat, 0]
def k0_off382 (v1372 : BitVec 32) : Fin 2 → Nat :=
  let c8_i32_599 : BitVec 32 := 8#32
  let v1373 : BitVec 32 := Scalar.muli v1372 c8_i32_599
  let v1374 : BitVec 32 := v1373
  let c0_i32_602 : BitVec 32 := 0#32
  ![v1374.toNat, 0]

def k0_chk96 (i : grid0.Coords) (v0 : BitVec 32) (v28 : BitVec 32) (v1372 : BitVec 32) : Prop :=
  (∀ (k0_h1 : k0_cond1 i v0 = 1#1), ∀ (k0_h4 : k0_cond4 i v28 = 1#1), 8 ∣ (k0_mult189 v1372).toNat) ∧
  (∀ (k0_h1 : k0_cond1 i v0 = 1#1), ∀ (k0_h4 : k0_cond4 i v28 = 1#1), ∀ a, (k0_off382 v1372) a + S8x128.size a ≤ S262144x128.size a)
theorem k0_mult189_dvd : ∀ (i : grid0.Coords) (v0 : BitVec 32) (v28 : BitVec 32) (v1372 : BitVec 32) (k0_hw96 : k0_chk96 i v0 v28 v1372), ∀ (k0_h1 : k0_cond1 i v0 = 1#1), ∀ (k0_h4 : k0_cond4 i v28 = 1#1), 8 ∣ (k0_mult189 v1372).toNat := fun i v0 v28 v1372 k0_hw96 k0_h1 k0_h4 => k0_hw96.1 k0_h1 k0_h4
theorem k0_off382_inb : ∀ (i : grid0.Coords) (v0 : BitVec 32) (v28 : BitVec 32) (v1372 : BitVec 32) (k0_hw96 : k0_chk96 i v0 v28 v1372), ∀ (k0_h1 : k0_cond1 i v0 = 1#1), ∀ (k0_h4 : k0_cond4 i v28 = 1#1), ∀ a, (k0_off382 v1372) a + S8x128.size a ≤ S262144x128.size a := fun i v0 v28 v1372 k0_hw96 k0_h1 k0_h4 => k0_hw96.2 k0_h1 k0_h4

def k0_off383 (i : grid0.Coords) : Fin 1 → Nat :=
  let arg1 : BitVec 32 := BitVec.ofNat 32 (i 1).val
  let c256_i32_603 : BitVec 32 := 256#32
  let v1382 : BitVec 32 := Scalar.muli arg1 c256_i32_603
  let c94_i32 : BitVec 32 := 94#32
  let v1383 : BitVec 32 := Scalar.addi v1382 c94_i32
  let v1385 : Index := Scalar.indexCast v1383
  ![v1385.toNat]
def k0_mult191 (v1386 : BitVec 32) : BitVec 32 :=
  let c8_i32_605 : BitVec 32 := 8#32
  let v1387 : BitVec 32 := Scalar.muli v1386 c8_i32_605
  v1387

def k0_mult192 (i : grid0.Coords) : BitVec 32 :=
  let arg1 : BitVec 32 := BitVec.ofNat 32 (i 1).val
  let c256_i32_603 : BitVec 32 := 256#32
  let v1382 : BitVec 32 := Scalar.muli arg1 c256_i32_603
  let c94_i32 : BitVec 32 := 94#32
  let v1383 : BitVec 32 := Scalar.addi v1382 c94_i32
  let c8_i32_606 : BitVec 32 := 8#32
  let v1389 : BitVec 32 := Scalar.muli v1383 c8_i32_606
  v1389
def k0_off384 (i : grid0.Coords) : Fin 1 → Nat :=
  let c1_i32_604 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1384 : BitVec 32 := Scalar.subi c1_i32_604 v11
  ![v1384.toNat]
def k0_off385 (i : grid0.Coords) : Fin 3 → Nat :=
  let c1_i32_604 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1384 : BitVec 32 := Scalar.subi c1_i32_604 v11
  let arg1 : BitVec 32 := BitVec.ofNat 32 (i 1).val
  let c256_i32_603 : BitVec 32 := 256#32
  let v1382 : BitVec 32 := Scalar.muli arg1 c256_i32_603
  let c94_i32 : BitVec 32 := 94#32
  let v1383 : BitVec 32 := Scalar.addi v1382 c94_i32
  let c8_i32_606 : BitVec 32 := 8#32
  let v1389 : BitVec 32 := Scalar.muli v1383 c8_i32_606
  let v1390 : BitVec 32 := v1389
  let c0_i32_607 : BitVec 32 := 0#32
  ![v1384.toNat, v1390.toNat, 0]
def k0_off386 (v1386 : BitVec 32) : Fin 2 → Nat :=
  let c8_i32_605 : BitVec 32 := 8#32
  let v1387 : BitVec 32 := Scalar.muli v1386 c8_i32_605
  let v1388 : BitVec 32 := v1387
  let c0_i32_608 : BitVec 32 := 0#32
  ![v1388.toNat, 0]

def k0_chk97 (i : grid0.Coords) (v0 : BitVec 32) (v28 : BitVec 32) (v1386 : BitVec 32) : Prop :=
  (∀ (k0_h1 : k0_cond1 i v0 = 1#1), ∀ (k0_h4 : k0_cond4 i v28 = 1#1), 8 ∣ (k0_mult191 v1386).toNat) ∧
  (∀ (k0_h1 : k0_cond1 i v0 = 1#1), ∀ (k0_h4 : k0_cond4 i v28 = 1#1), ∀ a, (k0_off386 v1386) a + S8x128.size a ≤ S262144x128.size a)
theorem k0_mult191_dvd : ∀ (i : grid0.Coords) (v0 : BitVec 32) (v28 : BitVec 32) (v1386 : BitVec 32) (k0_hw97 : k0_chk97 i v0 v28 v1386), ∀ (k0_h1 : k0_cond1 i v0 = 1#1), ∀ (k0_h4 : k0_cond4 i v28 = 1#1), 8 ∣ (k0_mult191 v1386).toNat := fun i v0 v28 v1386 k0_hw97 k0_h1 k0_h4 => k0_hw97.1 k0_h1 k0_h4
theorem k0_off386_inb : ∀ (i : grid0.Coords) (v0 : BitVec 32) (v28 : BitVec 32) (v1386 : BitVec 32) (k0_hw97 : k0_chk97 i v0 v28 v1386), ∀ (k0_h1 : k0_cond1 i v0 = 1#1), ∀ (k0_h4 : k0_cond4 i v28 = 1#1), ∀ a, (k0_off386 v1386) a + S8x128.size a ≤ S262144x128.size a := fun i v0 v28 v1386 k0_hw97 k0_h1 k0_h4 => k0_hw97.2 k0_h1 k0_h4

def k0_off387 (i : grid0.Coords) : Fin 1 → Nat :=
  let arg1 : BitVec 32 := BitVec.ofNat 32 (i 1).val
  let c256_i32_609 : BitVec 32 := 256#32
  let v1396 : BitVec 32 := Scalar.muli arg1 c256_i32_609
  let c95_i32 : BitVec 32 := 95#32
  let v1397 : BitVec 32 := Scalar.addi v1396 c95_i32
  let v1399 : Index := Scalar.indexCast v1397
  ![v1399.toNat]
def k0_mult193 (v1400 : BitVec 32) : BitVec 32 :=
  let c8_i32_611 : BitVec 32 := 8#32
  let v1401 : BitVec 32 := Scalar.muli v1400 c8_i32_611
  v1401

def k0_mult194 (i : grid0.Coords) : BitVec 32 :=
  let arg1 : BitVec 32 := BitVec.ofNat 32 (i 1).val
  let c256_i32_609 : BitVec 32 := 256#32
  let v1396 : BitVec 32 := Scalar.muli arg1 c256_i32_609
  let c95_i32 : BitVec 32 := 95#32
  let v1397 : BitVec 32 := Scalar.addi v1396 c95_i32
  let c8_i32_612 : BitVec 32 := 8#32
  let v1403 : BitVec 32 := Scalar.muli v1397 c8_i32_612
  v1403
def k0_off388 (i : grid0.Coords) : Fin 1 → Nat :=
  let c1_i32_610 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1398 : BitVec 32 := Scalar.subi c1_i32_610 v11
  ![v1398.toNat]
def k0_off389 (i : grid0.Coords) : Fin 3 → Nat :=
  let c1_i32_610 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1398 : BitVec 32 := Scalar.subi c1_i32_610 v11
  let arg1 : BitVec 32 := BitVec.ofNat 32 (i 1).val
  let c256_i32_609 : BitVec 32 := 256#32
  let v1396 : BitVec 32 := Scalar.muli arg1 c256_i32_609
  let c95_i32 : BitVec 32 := 95#32
  let v1397 : BitVec 32 := Scalar.addi v1396 c95_i32
  let c8_i32_612 : BitVec 32 := 8#32
  let v1403 : BitVec 32 := Scalar.muli v1397 c8_i32_612
  let v1404 : BitVec 32 := v1403
  let c0_i32_613 : BitVec 32 := 0#32
  ![v1398.toNat, v1404.toNat, 0]
def k0_off390 (v1400 : BitVec 32) : Fin 2 → Nat :=
  let c8_i32_611 : BitVec 32 := 8#32
  let v1401 : BitVec 32 := Scalar.muli v1400 c8_i32_611
  let v1402 : BitVec 32 := v1401
  let c0_i32_614 : BitVec 32 := 0#32
  ![v1402.toNat, 0]

def k0_chk98 (i : grid0.Coords) (v0 : BitVec 32) (v28 : BitVec 32) (v1400 : BitVec 32) : Prop :=
  (∀ (k0_h1 : k0_cond1 i v0 = 1#1), ∀ (k0_h4 : k0_cond4 i v28 = 1#1), 8 ∣ (k0_mult193 v1400).toNat) ∧
  (∀ (k0_h1 : k0_cond1 i v0 = 1#1), ∀ (k0_h4 : k0_cond4 i v28 = 1#1), ∀ a, (k0_off390 v1400) a + S8x128.size a ≤ S262144x128.size a)
theorem k0_mult193_dvd : ∀ (i : grid0.Coords) (v0 : BitVec 32) (v28 : BitVec 32) (v1400 : BitVec 32) (k0_hw98 : k0_chk98 i v0 v28 v1400), ∀ (k0_h1 : k0_cond1 i v0 = 1#1), ∀ (k0_h4 : k0_cond4 i v28 = 1#1), 8 ∣ (k0_mult193 v1400).toNat := fun i v0 v28 v1400 k0_hw98 k0_h1 k0_h4 => k0_hw98.1 k0_h1 k0_h4
theorem k0_off390_inb : ∀ (i : grid0.Coords) (v0 : BitVec 32) (v28 : BitVec 32) (v1400 : BitVec 32) (k0_hw98 : k0_chk98 i v0 v28 v1400), ∀ (k0_h1 : k0_cond1 i v0 = 1#1), ∀ (k0_h4 : k0_cond4 i v28 = 1#1), ∀ a, (k0_off390 v1400) a + S8x128.size a ≤ S262144x128.size a := fun i v0 v28 v1400 k0_hw98 k0_h1 k0_h4 => k0_hw98.2 k0_h1 k0_h4

def k0_off391 (i : grid0.Coords) : Fin 1 → Nat :=
  let arg1 : BitVec 32 := BitVec.ofNat 32 (i 1).val
  let c256_i32_615 : BitVec 32 := 256#32
  let v1410 : BitVec 32 := Scalar.muli arg1 c256_i32_615
  let c96_i32 : BitVec 32 := 96#32
  let v1411 : BitVec 32 := Scalar.addi v1410 c96_i32
  let v1413 : Index := Scalar.indexCast v1411
  ![v1413.toNat]
def k0_mult195 (v1414 : BitVec 32) : BitVec 32 :=
  let c8_i32_617 : BitVec 32 := 8#32
  let v1415 : BitVec 32 := Scalar.muli v1414 c8_i32_617
  v1415

def k0_mult196 (i : grid0.Coords) : BitVec 32 :=
  let arg1 : BitVec 32 := BitVec.ofNat 32 (i 1).val
  let c256_i32_615 : BitVec 32 := 256#32
  let v1410 : BitVec 32 := Scalar.muli arg1 c256_i32_615
  let c96_i32 : BitVec 32 := 96#32
  let v1411 : BitVec 32 := Scalar.addi v1410 c96_i32
  let c8_i32_618 : BitVec 32 := 8#32
  let v1417 : BitVec 32 := Scalar.muli v1411 c8_i32_618
  v1417
def k0_off392 (i : grid0.Coords) : Fin 1 → Nat :=
  let c1_i32_616 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1412 : BitVec 32 := Scalar.subi c1_i32_616 v11
  ![v1412.toNat]
def k0_off393 (i : grid0.Coords) : Fin 3 → Nat :=
  let c1_i32_616 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1412 : BitVec 32 := Scalar.subi c1_i32_616 v11
  let arg1 : BitVec 32 := BitVec.ofNat 32 (i 1).val
  let c256_i32_615 : BitVec 32 := 256#32
  let v1410 : BitVec 32 := Scalar.muli arg1 c256_i32_615
  let c96_i32 : BitVec 32 := 96#32
  let v1411 : BitVec 32 := Scalar.addi v1410 c96_i32
  let c8_i32_618 : BitVec 32 := 8#32
  let v1417 : BitVec 32 := Scalar.muli v1411 c8_i32_618
  let v1418 : BitVec 32 := v1417
  let c0_i32_619 : BitVec 32 := 0#32
  ![v1412.toNat, v1418.toNat, 0]
def k0_off394 (v1414 : BitVec 32) : Fin 2 → Nat :=
  let c8_i32_617 : BitVec 32 := 8#32
  let v1415 : BitVec 32 := Scalar.muli v1414 c8_i32_617
  let v1416 : BitVec 32 := v1415
  let c0_i32_620 : BitVec 32 := 0#32
  ![v1416.toNat, 0]

def k0_chk99 (i : grid0.Coords) (v0 : BitVec 32) (v28 : BitVec 32) (v1414 : BitVec 32) : Prop :=
  (∀ (k0_h1 : k0_cond1 i v0 = 1#1), ∀ (k0_h4 : k0_cond4 i v28 = 1#1), 8 ∣ (k0_mult195 v1414).toNat) ∧
  (∀ (k0_h1 : k0_cond1 i v0 = 1#1), ∀ (k0_h4 : k0_cond4 i v28 = 1#1), ∀ a, (k0_off394 v1414) a + S8x128.size a ≤ S262144x128.size a)
theorem k0_mult195_dvd : ∀ (i : grid0.Coords) (v0 : BitVec 32) (v28 : BitVec 32) (v1414 : BitVec 32) (k0_hw99 : k0_chk99 i v0 v28 v1414), ∀ (k0_h1 : k0_cond1 i v0 = 1#1), ∀ (k0_h4 : k0_cond4 i v28 = 1#1), 8 ∣ (k0_mult195 v1414).toNat := fun i v0 v28 v1414 k0_hw99 k0_h1 k0_h4 => k0_hw99.1 k0_h1 k0_h4
theorem k0_off394_inb : ∀ (i : grid0.Coords) (v0 : BitVec 32) (v28 : BitVec 32) (v1414 : BitVec 32) (k0_hw99 : k0_chk99 i v0 v28 v1414), ∀ (k0_h1 : k0_cond1 i v0 = 1#1), ∀ (k0_h4 : k0_cond4 i v28 = 1#1), ∀ a, (k0_off394 v1414) a + S8x128.size a ≤ S262144x128.size a := fun i v0 v28 v1414 k0_hw99 k0_h1 k0_h4 => k0_hw99.2 k0_h1 k0_h4

def k0_off395 (i : grid0.Coords) : Fin 1 → Nat :=
  let arg1 : BitVec 32 := BitVec.ofNat 32 (i 1).val
  let c256_i32_621 : BitVec 32 := 256#32
  let v1424 : BitVec 32 := Scalar.muli arg1 c256_i32_621
  let c97_i32 : BitVec 32 := 97#32
  let v1425 : BitVec 32 := Scalar.addi v1424 c97_i32
  let v1427 : Index := Scalar.indexCast v1425
  ![v1427.toNat]
def k0_mult197 (v1428 : BitVec 32) : BitVec 32 :=
  let c8_i32_623 : BitVec 32 := 8#32
  let v1429 : BitVec 32 := Scalar.muli v1428 c8_i32_623
  v1429

def k0_mult198 (i : grid0.Coords) : BitVec 32 :=
  let arg1 : BitVec 32 := BitVec.ofNat 32 (i 1).val
  let c256_i32_621 : BitVec 32 := 256#32
  let v1424 : BitVec 32 := Scalar.muli arg1 c256_i32_621
  let c97_i32 : BitVec 32 := 97#32
  let v1425 : BitVec 32 := Scalar.addi v1424 c97_i32
  let c8_i32_624 : BitVec 32 := 8#32
  let v1431 : BitVec 32 := Scalar.muli v1425 c8_i32_624
  v1431
def k0_off396 (i : grid0.Coords) : Fin 1 → Nat :=
  let c1_i32_622 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1426 : BitVec 32 := Scalar.subi c1_i32_622 v11
  ![v1426.toNat]
def k0_off397 (i : grid0.Coords) : Fin 3 → Nat :=
  let c1_i32_622 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1426 : BitVec 32 := Scalar.subi c1_i32_622 v11
  let arg1 : BitVec 32 := BitVec.ofNat 32 (i 1).val
  let c256_i32_621 : BitVec 32 := 256#32
  let v1424 : BitVec 32 := Scalar.muli arg1 c256_i32_621
  let c97_i32 : BitVec 32 := 97#32
  let v1425 : BitVec 32 := Scalar.addi v1424 c97_i32
  let c8_i32_624 : BitVec 32 := 8#32
  let v1431 : BitVec 32 := Scalar.muli v1425 c8_i32_624
  let v1432 : BitVec 32 := v1431
  let c0_i32_625 : BitVec 32 := 0#32
  ![v1426.toNat, v1432.toNat, 0]
def k0_off398 (v1428 : BitVec 32) : Fin 2 → Nat :=
  let c8_i32_623 : BitVec 32 := 8#32
  let v1429 : BitVec 32 := Scalar.muli v1428 c8_i32_623
  let v1430 : BitVec 32 := v1429
  let c0_i32_626 : BitVec 32 := 0#32
  ![v1430.toNat, 0]

def k0_chk100 (i : grid0.Coords) (v0 : BitVec 32) (v28 : BitVec 32) (v1428 : BitVec 32) : Prop :=
  (∀ (k0_h1 : k0_cond1 i v0 = 1#1), ∀ (k0_h4 : k0_cond4 i v28 = 1#1), 8 ∣ (k0_mult197 v1428).toNat) ∧
  (∀ (k0_h1 : k0_cond1 i v0 = 1#1), ∀ (k0_h4 : k0_cond4 i v28 = 1#1), ∀ a, (k0_off398 v1428) a + S8x128.size a ≤ S262144x128.size a)
theorem k0_mult197_dvd : ∀ (i : grid0.Coords) (v0 : BitVec 32) (v28 : BitVec 32) (v1428 : BitVec 32) (k0_hw100 : k0_chk100 i v0 v28 v1428), ∀ (k0_h1 : k0_cond1 i v0 = 1#1), ∀ (k0_h4 : k0_cond4 i v28 = 1#1), 8 ∣ (k0_mult197 v1428).toNat := fun i v0 v28 v1428 k0_hw100 k0_h1 k0_h4 => k0_hw100.1 k0_h1 k0_h4
theorem k0_off398_inb : ∀ (i : grid0.Coords) (v0 : BitVec 32) (v28 : BitVec 32) (v1428 : BitVec 32) (k0_hw100 : k0_chk100 i v0 v28 v1428), ∀ (k0_h1 : k0_cond1 i v0 = 1#1), ∀ (k0_h4 : k0_cond4 i v28 = 1#1), ∀ a, (k0_off398 v1428) a + S8x128.size a ≤ S262144x128.size a := fun i v0 v28 v1428 k0_hw100 k0_h1 k0_h4 => k0_hw100.2 k0_h1 k0_h4

def k0_off399 (i : grid0.Coords) : Fin 1 → Nat :=
  let arg1 : BitVec 32 := BitVec.ofNat 32 (i 1).val
  let c256_i32_627 : BitVec 32 := 256#32
  let v1438 : BitVec 32 := Scalar.muli arg1 c256_i32_627
  let c98_i32 : BitVec 32 := 98#32
  let v1439 : BitVec 32 := Scalar.addi v1438 c98_i32
  let v1441 : Index := Scalar.indexCast v1439
  ![v1441.toNat]
def k0_mult199 (v1442 : BitVec 32) : BitVec 32 :=
  let c8_i32_629 : BitVec 32 := 8#32
  let v1443 : BitVec 32 := Scalar.muli v1442 c8_i32_629
  v1443

def k0_mult200 (i : grid0.Coords) : BitVec 32 :=
  let arg1 : BitVec 32 := BitVec.ofNat 32 (i 1).val
  let c256_i32_627 : BitVec 32 := 256#32
  let v1438 : BitVec 32 := Scalar.muli arg1 c256_i32_627
  let c98_i32 : BitVec 32 := 98#32
  let v1439 : BitVec 32 := Scalar.addi v1438 c98_i32
  let c8_i32_630 : BitVec 32 := 8#32
  let v1445 : BitVec 32 := Scalar.muli v1439 c8_i32_630
  v1445
def k0_off400 (i : grid0.Coords) : Fin 1 → Nat :=
  let c1_i32_628 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1440 : BitVec 32 := Scalar.subi c1_i32_628 v11
  ![v1440.toNat]
def k0_off401 (i : grid0.Coords) : Fin 3 → Nat :=
  let c1_i32_628 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1440 : BitVec 32 := Scalar.subi c1_i32_628 v11
  let arg1 : BitVec 32 := BitVec.ofNat 32 (i 1).val
  let c256_i32_627 : BitVec 32 := 256#32
  let v1438 : BitVec 32 := Scalar.muli arg1 c256_i32_627
  let c98_i32 : BitVec 32 := 98#32
  let v1439 : BitVec 32 := Scalar.addi v1438 c98_i32
  let c8_i32_630 : BitVec 32 := 8#32
  let v1445 : BitVec 32 := Scalar.muli v1439 c8_i32_630
  let v1446 : BitVec 32 := v1445
  let c0_i32_631 : BitVec 32 := 0#32
  ![v1440.toNat, v1446.toNat, 0]
def k0_off402 (v1442 : BitVec 32) : Fin 2 → Nat :=
  let c8_i32_629 : BitVec 32 := 8#32
  let v1443 : BitVec 32 := Scalar.muli v1442 c8_i32_629
  let v1444 : BitVec 32 := v1443
  let c0_i32_632 : BitVec 32 := 0#32
  ![v1444.toNat, 0]

def k0_chk101 (i : grid0.Coords) (v0 : BitVec 32) (v28 : BitVec 32) (v1442 : BitVec 32) : Prop :=
  (∀ (k0_h1 : k0_cond1 i v0 = 1#1), ∀ (k0_h4 : k0_cond4 i v28 = 1#1), 8 ∣ (k0_mult199 v1442).toNat) ∧
  (∀ (k0_h1 : k0_cond1 i v0 = 1#1), ∀ (k0_h4 : k0_cond4 i v28 = 1#1), ∀ a, (k0_off402 v1442) a + S8x128.size a ≤ S262144x128.size a)
theorem k0_mult199_dvd : ∀ (i : grid0.Coords) (v0 : BitVec 32) (v28 : BitVec 32) (v1442 : BitVec 32) (k0_hw101 : k0_chk101 i v0 v28 v1442), ∀ (k0_h1 : k0_cond1 i v0 = 1#1), ∀ (k0_h4 : k0_cond4 i v28 = 1#1), 8 ∣ (k0_mult199 v1442).toNat := fun i v0 v28 v1442 k0_hw101 k0_h1 k0_h4 => k0_hw101.1 k0_h1 k0_h4
theorem k0_off402_inb : ∀ (i : grid0.Coords) (v0 : BitVec 32) (v28 : BitVec 32) (v1442 : BitVec 32) (k0_hw101 : k0_chk101 i v0 v28 v1442), ∀ (k0_h1 : k0_cond1 i v0 = 1#1), ∀ (k0_h4 : k0_cond4 i v28 = 1#1), ∀ a, (k0_off402 v1442) a + S8x128.size a ≤ S262144x128.size a := fun i v0 v28 v1442 k0_hw101 k0_h1 k0_h4 => k0_hw101.2 k0_h1 k0_h4

def k0_off403 (i : grid0.Coords) : Fin 1 → Nat :=
  let arg1 : BitVec 32 := BitVec.ofNat 32 (i 1).val
  let c256_i32_633 : BitVec 32 := 256#32
  let v1452 : BitVec 32 := Scalar.muli arg1 c256_i32_633
  let c99_i32 : BitVec 32 := 99#32
  let v1453 : BitVec 32 := Scalar.addi v1452 c99_i32
  let v1455 : Index := Scalar.indexCast v1453
  ![v1455.toNat]
def k0_mult201 (v1456 : BitVec 32) : BitVec 32 :=
  let c8_i32_635 : BitVec 32 := 8#32
  let v1457 : BitVec 32 := Scalar.muli v1456 c8_i32_635
  v1457

def k0_mult202 (i : grid0.Coords) : BitVec 32 :=
  let arg1 : BitVec 32 := BitVec.ofNat 32 (i 1).val
  let c256_i32_633 : BitVec 32 := 256#32
  let v1452 : BitVec 32 := Scalar.muli arg1 c256_i32_633
  let c99_i32 : BitVec 32 := 99#32
  let v1453 : BitVec 32 := Scalar.addi v1452 c99_i32
  let c8_i32_636 : BitVec 32 := 8#32
  let v1459 : BitVec 32 := Scalar.muli v1453 c8_i32_636
  v1459
def k0_off404 (i : grid0.Coords) : Fin 1 → Nat :=
  let c1_i32_634 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1454 : BitVec 32 := Scalar.subi c1_i32_634 v11
  ![v1454.toNat]
def k0_off405 (i : grid0.Coords) : Fin 3 → Nat :=
  let c1_i32_634 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1454 : BitVec 32 := Scalar.subi c1_i32_634 v11
  let arg1 : BitVec 32 := BitVec.ofNat 32 (i 1).val
  let c256_i32_633 : BitVec 32 := 256#32
  let v1452 : BitVec 32 := Scalar.muli arg1 c256_i32_633
  let c99_i32 : BitVec 32 := 99#32
  let v1453 : BitVec 32 := Scalar.addi v1452 c99_i32
  let c8_i32_636 : BitVec 32 := 8#32
  let v1459 : BitVec 32 := Scalar.muli v1453 c8_i32_636
  let v1460 : BitVec 32 := v1459
  let c0_i32_637 : BitVec 32 := 0#32
  ![v1454.toNat, v1460.toNat, 0]
def k0_off406 (v1456 : BitVec 32) : Fin 2 → Nat :=
  let c8_i32_635 : BitVec 32 := 8#32
  let v1457 : BitVec 32 := Scalar.muli v1456 c8_i32_635
  let v1458 : BitVec 32 := v1457
  let c0_i32_638 : BitVec 32 := 0#32
  ![v1458.toNat, 0]

def k0_chk102 (i : grid0.Coords) (v0 : BitVec 32) (v28 : BitVec 32) (v1456 : BitVec 32) : Prop :=
  (∀ (k0_h1 : k0_cond1 i v0 = 1#1), ∀ (k0_h4 : k0_cond4 i v28 = 1#1), 8 ∣ (k0_mult201 v1456).toNat) ∧
  (∀ (k0_h1 : k0_cond1 i v0 = 1#1), ∀ (k0_h4 : k0_cond4 i v28 = 1#1), ∀ a, (k0_off406 v1456) a + S8x128.size a ≤ S262144x128.size a)
theorem k0_mult201_dvd : ∀ (i : grid0.Coords) (v0 : BitVec 32) (v28 : BitVec 32) (v1456 : BitVec 32) (k0_hw102 : k0_chk102 i v0 v28 v1456), ∀ (k0_h1 : k0_cond1 i v0 = 1#1), ∀ (k0_h4 : k0_cond4 i v28 = 1#1), 8 ∣ (k0_mult201 v1456).toNat := fun i v0 v28 v1456 k0_hw102 k0_h1 k0_h4 => k0_hw102.1 k0_h1 k0_h4
theorem k0_off406_inb : ∀ (i : grid0.Coords) (v0 : BitVec 32) (v28 : BitVec 32) (v1456 : BitVec 32) (k0_hw102 : k0_chk102 i v0 v28 v1456), ∀ (k0_h1 : k0_cond1 i v0 = 1#1), ∀ (k0_h4 : k0_cond4 i v28 = 1#1), ∀ a, (k0_off406 v1456) a + S8x128.size a ≤ S262144x128.size a := fun i v0 v28 v1456 k0_hw102 k0_h1 k0_h4 => k0_hw102.2 k0_h1 k0_h4

def k0_off407 (i : grid0.Coords) : Fin 1 → Nat :=
  let arg1 : BitVec 32 := BitVec.ofNat 32 (i 1).val
  let c256_i32_639 : BitVec 32 := 256#32
  let v1466 : BitVec 32 := Scalar.muli arg1 c256_i32_639
  let c100_i32 : BitVec 32 := 100#32
  let v1467 : BitVec 32 := Scalar.addi v1466 c100_i32
  let v1469 : Index := Scalar.indexCast v1467
  ![v1469.toNat]
def k0_mult203 (v1470 : BitVec 32) : BitVec 32 :=
  let c8_i32_641 : BitVec 32 := 8#32
  let v1471 : BitVec 32 := Scalar.muli v1470 c8_i32_641
  v1471

def k0_mult204 (i : grid0.Coords) : BitVec 32 :=
  let arg1 : BitVec 32 := BitVec.ofNat 32 (i 1).val
  let c256_i32_639 : BitVec 32 := 256#32
  let v1466 : BitVec 32 := Scalar.muli arg1 c256_i32_639
  let c100_i32 : BitVec 32 := 100#32
  let v1467 : BitVec 32 := Scalar.addi v1466 c100_i32
  let c8_i32_642 : BitVec 32 := 8#32
  let v1473 : BitVec 32 := Scalar.muli v1467 c8_i32_642
  v1473
def k0_off408 (i : grid0.Coords) : Fin 1 → Nat :=
  let c1_i32_640 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1468 : BitVec 32 := Scalar.subi c1_i32_640 v11
  ![v1468.toNat]
def k0_off409 (i : grid0.Coords) : Fin 3 → Nat :=
  let c1_i32_640 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1468 : BitVec 32 := Scalar.subi c1_i32_640 v11
  let arg1 : BitVec 32 := BitVec.ofNat 32 (i 1).val
  let c256_i32_639 : BitVec 32 := 256#32
  let v1466 : BitVec 32 := Scalar.muli arg1 c256_i32_639
  let c100_i32 : BitVec 32 := 100#32
  let v1467 : BitVec 32 := Scalar.addi v1466 c100_i32
  let c8_i32_642 : BitVec 32 := 8#32
  let v1473 : BitVec 32 := Scalar.muli v1467 c8_i32_642
  let v1474 : BitVec 32 := v1473
  let c0_i32_643 : BitVec 32 := 0#32
  ![v1468.toNat, v1474.toNat, 0]
def k0_off410 (v1470 : BitVec 32) : Fin 2 → Nat :=
  let c8_i32_641 : BitVec 32 := 8#32
  let v1471 : BitVec 32 := Scalar.muli v1470 c8_i32_641
  let v1472 : BitVec 32 := v1471
  let c0_i32_644 : BitVec 32 := 0#32
  ![v1472.toNat, 0]

def k0_chk103 (i : grid0.Coords) (v0 : BitVec 32) (v28 : BitVec 32) (v1470 : BitVec 32) : Prop :=
  (∀ (k0_h1 : k0_cond1 i v0 = 1#1), ∀ (k0_h4 : k0_cond4 i v28 = 1#1), 8 ∣ (k0_mult203 v1470).toNat) ∧
  (∀ (k0_h1 : k0_cond1 i v0 = 1#1), ∀ (k0_h4 : k0_cond4 i v28 = 1#1), ∀ a, (k0_off410 v1470) a + S8x128.size a ≤ S262144x128.size a)
theorem k0_mult203_dvd : ∀ (i : grid0.Coords) (v0 : BitVec 32) (v28 : BitVec 32) (v1470 : BitVec 32) (k0_hw103 : k0_chk103 i v0 v28 v1470), ∀ (k0_h1 : k0_cond1 i v0 = 1#1), ∀ (k0_h4 : k0_cond4 i v28 = 1#1), 8 ∣ (k0_mult203 v1470).toNat := fun i v0 v28 v1470 k0_hw103 k0_h1 k0_h4 => k0_hw103.1 k0_h1 k0_h4
theorem k0_off410_inb : ∀ (i : grid0.Coords) (v0 : BitVec 32) (v28 : BitVec 32) (v1470 : BitVec 32) (k0_hw103 : k0_chk103 i v0 v28 v1470), ∀ (k0_h1 : k0_cond1 i v0 = 1#1), ∀ (k0_h4 : k0_cond4 i v28 = 1#1), ∀ a, (k0_off410 v1470) a + S8x128.size a ≤ S262144x128.size a := fun i v0 v28 v1470 k0_hw103 k0_h1 k0_h4 => k0_hw103.2 k0_h1 k0_h4

def k0_off411 (i : grid0.Coords) : Fin 1 → Nat :=
  let arg1 : BitVec 32 := BitVec.ofNat 32 (i 1).val
  let c256_i32_645 : BitVec 32 := 256#32
  let v1480 : BitVec 32 := Scalar.muli arg1 c256_i32_645
  let c101_i32 : BitVec 32 := 101#32
  let v1481 : BitVec 32 := Scalar.addi v1480 c101_i32
  let v1483 : Index := Scalar.indexCast v1481
  ![v1483.toNat]
def k0_mult205 (v1484 : BitVec 32) : BitVec 32 :=
  let c8_i32_647 : BitVec 32 := 8#32
  let v1485 : BitVec 32 := Scalar.muli v1484 c8_i32_647
  v1485

def k0_mult206 (i : grid0.Coords) : BitVec 32 :=
  let arg1 : BitVec 32 := BitVec.ofNat 32 (i 1).val
  let c256_i32_645 : BitVec 32 := 256#32
  let v1480 : BitVec 32 := Scalar.muli arg1 c256_i32_645
  let c101_i32 : BitVec 32 := 101#32
  let v1481 : BitVec 32 := Scalar.addi v1480 c101_i32
  let c8_i32_648 : BitVec 32 := 8#32
  let v1487 : BitVec 32 := Scalar.muli v1481 c8_i32_648
  v1487
def k0_off412 (i : grid0.Coords) : Fin 1 → Nat :=
  let c1_i32_646 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1482 : BitVec 32 := Scalar.subi c1_i32_646 v11
  ![v1482.toNat]
def k0_off413 (i : grid0.Coords) : Fin 3 → Nat :=
  let c1_i32_646 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1482 : BitVec 32 := Scalar.subi c1_i32_646 v11
  let arg1 : BitVec 32 := BitVec.ofNat 32 (i 1).val
  let c256_i32_645 : BitVec 32 := 256#32
  let v1480 : BitVec 32 := Scalar.muli arg1 c256_i32_645
  let c101_i32 : BitVec 32 := 101#32
  let v1481 : BitVec 32 := Scalar.addi v1480 c101_i32
  let c8_i32_648 : BitVec 32 := 8#32
  let v1487 : BitVec 32 := Scalar.muli v1481 c8_i32_648
  let v1488 : BitVec 32 := v1487
  let c0_i32_649 : BitVec 32 := 0#32
  ![v1482.toNat, v1488.toNat, 0]
def k0_off414 (v1484 : BitVec 32) : Fin 2 → Nat :=
  let c8_i32_647 : BitVec 32 := 8#32
  let v1485 : BitVec 32 := Scalar.muli v1484 c8_i32_647
  let v1486 : BitVec 32 := v1485
  let c0_i32_650 : BitVec 32 := 0#32
  ![v1486.toNat, 0]

def k0_chk104 (i : grid0.Coords) (v0 : BitVec 32) (v28 : BitVec 32) (v1484 : BitVec 32) : Prop :=
  (∀ (k0_h1 : k0_cond1 i v0 = 1#1), ∀ (k0_h4 : k0_cond4 i v28 = 1#1), 8 ∣ (k0_mult205 v1484).toNat) ∧
  (∀ (k0_h1 : k0_cond1 i v0 = 1#1), ∀ (k0_h4 : k0_cond4 i v28 = 1#1), ∀ a, (k0_off414 v1484) a + S8x128.size a ≤ S262144x128.size a)
theorem k0_mult205_dvd : ∀ (i : grid0.Coords) (v0 : BitVec 32) (v28 : BitVec 32) (v1484 : BitVec 32) (k0_hw104 : k0_chk104 i v0 v28 v1484), ∀ (k0_h1 : k0_cond1 i v0 = 1#1), ∀ (k0_h4 : k0_cond4 i v28 = 1#1), 8 ∣ (k0_mult205 v1484).toNat := fun i v0 v28 v1484 k0_hw104 k0_h1 k0_h4 => k0_hw104.1 k0_h1 k0_h4
theorem k0_off414_inb : ∀ (i : grid0.Coords) (v0 : BitVec 32) (v28 : BitVec 32) (v1484 : BitVec 32) (k0_hw104 : k0_chk104 i v0 v28 v1484), ∀ (k0_h1 : k0_cond1 i v0 = 1#1), ∀ (k0_h4 : k0_cond4 i v28 = 1#1), ∀ a, (k0_off414 v1484) a + S8x128.size a ≤ S262144x128.size a := fun i v0 v28 v1484 k0_hw104 k0_h1 k0_h4 => k0_hw104.2 k0_h1 k0_h4

def k0_off415 (i : grid0.Coords) : Fin 1 → Nat :=
  let arg1 : BitVec 32 := BitVec.ofNat 32 (i 1).val
  let c256_i32_651 : BitVec 32 := 256#32
  let v1494 : BitVec 32 := Scalar.muli arg1 c256_i32_651
  let c102_i32 : BitVec 32 := 102#32
  let v1495 : BitVec 32 := Scalar.addi v1494 c102_i32
  let v1497 : Index := Scalar.indexCast v1495
  ![v1497.toNat]
def k0_mult207 (v1498 : BitVec 32) : BitVec 32 :=
  let c8_i32_653 : BitVec 32 := 8#32
  let v1499 : BitVec 32 := Scalar.muli v1498 c8_i32_653
  v1499

def k0_mult208 (i : grid0.Coords) : BitVec 32 :=
  let arg1 : BitVec 32 := BitVec.ofNat 32 (i 1).val
  let c256_i32_651 : BitVec 32 := 256#32
  let v1494 : BitVec 32 := Scalar.muli arg1 c256_i32_651
  let c102_i32 : BitVec 32 := 102#32
  let v1495 : BitVec 32 := Scalar.addi v1494 c102_i32
  let c8_i32_654 : BitVec 32 := 8#32
  let v1501 : BitVec 32 := Scalar.muli v1495 c8_i32_654
  v1501
def k0_off416 (i : grid0.Coords) : Fin 1 → Nat :=
  let c1_i32_652 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1496 : BitVec 32 := Scalar.subi c1_i32_652 v11
  ![v1496.toNat]
def k0_off417 (i : grid0.Coords) : Fin 3 → Nat :=
  let c1_i32_652 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1496 : BitVec 32 := Scalar.subi c1_i32_652 v11
  let arg1 : BitVec 32 := BitVec.ofNat 32 (i 1).val
  let c256_i32_651 : BitVec 32 := 256#32
  let v1494 : BitVec 32 := Scalar.muli arg1 c256_i32_651
  let c102_i32 : BitVec 32 := 102#32
  let v1495 : BitVec 32 := Scalar.addi v1494 c102_i32
  let c8_i32_654 : BitVec 32 := 8#32
  let v1501 : BitVec 32 := Scalar.muli v1495 c8_i32_654
  let v1502 : BitVec 32 := v1501
  let c0_i32_655 : BitVec 32 := 0#32
  ![v1496.toNat, v1502.toNat, 0]
def k0_off418 (v1498 : BitVec 32) : Fin 2 → Nat :=
  let c8_i32_653 : BitVec 32 := 8#32
  let v1499 : BitVec 32 := Scalar.muli v1498 c8_i32_653
  let v1500 : BitVec 32 := v1499
  let c0_i32_656 : BitVec 32 := 0#32
  ![v1500.toNat, 0]

def k0_chk105 (i : grid0.Coords) (v0 : BitVec 32) (v28 : BitVec 32) (v1498 : BitVec 32) : Prop :=
  (∀ (k0_h1 : k0_cond1 i v0 = 1#1), ∀ (k0_h4 : k0_cond4 i v28 = 1#1), 8 ∣ (k0_mult207 v1498).toNat) ∧
  (∀ (k0_h1 : k0_cond1 i v0 = 1#1), ∀ (k0_h4 : k0_cond4 i v28 = 1#1), ∀ a, (k0_off418 v1498) a + S8x128.size a ≤ S262144x128.size a)
theorem k0_mult207_dvd : ∀ (i : grid0.Coords) (v0 : BitVec 32) (v28 : BitVec 32) (v1498 : BitVec 32) (k0_hw105 : k0_chk105 i v0 v28 v1498), ∀ (k0_h1 : k0_cond1 i v0 = 1#1), ∀ (k0_h4 : k0_cond4 i v28 = 1#1), 8 ∣ (k0_mult207 v1498).toNat := fun i v0 v28 v1498 k0_hw105 k0_h1 k0_h4 => k0_hw105.1 k0_h1 k0_h4
theorem k0_off418_inb : ∀ (i : grid0.Coords) (v0 : BitVec 32) (v28 : BitVec 32) (v1498 : BitVec 32) (k0_hw105 : k0_chk105 i v0 v28 v1498), ∀ (k0_h1 : k0_cond1 i v0 = 1#1), ∀ (k0_h4 : k0_cond4 i v28 = 1#1), ∀ a, (k0_off418 v1498) a + S8x128.size a ≤ S262144x128.size a := fun i v0 v28 v1498 k0_hw105 k0_h1 k0_h4 => k0_hw105.2 k0_h1 k0_h4

def k0_off419 (i : grid0.Coords) : Fin 1 → Nat :=
  let arg1 : BitVec 32 := BitVec.ofNat 32 (i 1).val
  let c256_i32_657 : BitVec 32 := 256#32
  let v1508 : BitVec 32 := Scalar.muli arg1 c256_i32_657
  let c103_i32 : BitVec 32 := 103#32
  let v1509 : BitVec 32 := Scalar.addi v1508 c103_i32
  let v1511 : Index := Scalar.indexCast v1509
  ![v1511.toNat]
def k0_mult209 (v1512 : BitVec 32) : BitVec 32 :=
  let c8_i32_659 : BitVec 32 := 8#32
  let v1513 : BitVec 32 := Scalar.muli v1512 c8_i32_659
  v1513

def k0_mult210 (i : grid0.Coords) : BitVec 32 :=
  let arg1 : BitVec 32 := BitVec.ofNat 32 (i 1).val
  let c256_i32_657 : BitVec 32 := 256#32
  let v1508 : BitVec 32 := Scalar.muli arg1 c256_i32_657
  let c103_i32 : BitVec 32 := 103#32
  let v1509 : BitVec 32 := Scalar.addi v1508 c103_i32
  let c8_i32_660 : BitVec 32 := 8#32
  let v1515 : BitVec 32 := Scalar.muli v1509 c8_i32_660
  v1515
def k0_off420 (i : grid0.Coords) : Fin 1 → Nat :=
  let c1_i32_658 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1510 : BitVec 32 := Scalar.subi c1_i32_658 v11
  ![v1510.toNat]
def k0_off421 (i : grid0.Coords) : Fin 3 → Nat :=
  let c1_i32_658 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1510 : BitVec 32 := Scalar.subi c1_i32_658 v11
  let arg1 : BitVec 32 := BitVec.ofNat 32 (i 1).val
  let c256_i32_657 : BitVec 32 := 256#32
  let v1508 : BitVec 32 := Scalar.muli arg1 c256_i32_657
  let c103_i32 : BitVec 32 := 103#32
  let v1509 : BitVec 32 := Scalar.addi v1508 c103_i32
  let c8_i32_660 : BitVec 32 := 8#32
  let v1515 : BitVec 32 := Scalar.muli v1509 c8_i32_660
  let v1516 : BitVec 32 := v1515
  let c0_i32_661 : BitVec 32 := 0#32
  ![v1510.toNat, v1516.toNat, 0]
def k0_off422 (v1512 : BitVec 32) : Fin 2 → Nat :=
  let c8_i32_659 : BitVec 32 := 8#32
  let v1513 : BitVec 32 := Scalar.muli v1512 c8_i32_659
  let v1514 : BitVec 32 := v1513
  let c0_i32_662 : BitVec 32 := 0#32
  ![v1514.toNat, 0]

def k0_chk106 (i : grid0.Coords) (v0 : BitVec 32) (v28 : BitVec 32) (v1512 : BitVec 32) : Prop :=
  (∀ (k0_h1 : k0_cond1 i v0 = 1#1), ∀ (k0_h4 : k0_cond4 i v28 = 1#1), 8 ∣ (k0_mult209 v1512).toNat) ∧
  (∀ (k0_h1 : k0_cond1 i v0 = 1#1), ∀ (k0_h4 : k0_cond4 i v28 = 1#1), ∀ a, (k0_off422 v1512) a + S8x128.size a ≤ S262144x128.size a)
theorem k0_mult209_dvd : ∀ (i : grid0.Coords) (v0 : BitVec 32) (v28 : BitVec 32) (v1512 : BitVec 32) (k0_hw106 : k0_chk106 i v0 v28 v1512), ∀ (k0_h1 : k0_cond1 i v0 = 1#1), ∀ (k0_h4 : k0_cond4 i v28 = 1#1), 8 ∣ (k0_mult209 v1512).toNat := fun i v0 v28 v1512 k0_hw106 k0_h1 k0_h4 => k0_hw106.1 k0_h1 k0_h4
theorem k0_off422_inb : ∀ (i : grid0.Coords) (v0 : BitVec 32) (v28 : BitVec 32) (v1512 : BitVec 32) (k0_hw106 : k0_chk106 i v0 v28 v1512), ∀ (k0_h1 : k0_cond1 i v0 = 1#1), ∀ (k0_h4 : k0_cond4 i v28 = 1#1), ∀ a, (k0_off422 v1512) a + S8x128.size a ≤ S262144x128.size a := fun i v0 v28 v1512 k0_hw106 k0_h1 k0_h4 => k0_hw106.2 k0_h1 k0_h4

def k0_off423 (i : grid0.Coords) : Fin 1 → Nat :=
  let arg1 : BitVec 32 := BitVec.ofNat 32 (i 1).val
  let c256_i32_663 : BitVec 32 := 256#32
  let v1522 : BitVec 32 := Scalar.muli arg1 c256_i32_663
  let c104_i32 : BitVec 32 := 104#32
  let v1523 : BitVec 32 := Scalar.addi v1522 c104_i32
  let v1525 : Index := Scalar.indexCast v1523
  ![v1525.toNat]
def k0_mult211 (v1526 : BitVec 32) : BitVec 32 :=
  let c8_i32_665 : BitVec 32 := 8#32
  let v1527 : BitVec 32 := Scalar.muli v1526 c8_i32_665
  v1527

def k0_mult212 (i : grid0.Coords) : BitVec 32 :=
  let arg1 : BitVec 32 := BitVec.ofNat 32 (i 1).val
  let c256_i32_663 : BitVec 32 := 256#32
  let v1522 : BitVec 32 := Scalar.muli arg1 c256_i32_663
  let c104_i32 : BitVec 32 := 104#32
  let v1523 : BitVec 32 := Scalar.addi v1522 c104_i32
  let c8_i32_666 : BitVec 32 := 8#32
  let v1529 : BitVec 32 := Scalar.muli v1523 c8_i32_666
  v1529
def k0_off424 (i : grid0.Coords) : Fin 1 → Nat :=
  let c1_i32_664 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1524 : BitVec 32 := Scalar.subi c1_i32_664 v11
  ![v1524.toNat]
def k0_off425 (i : grid0.Coords) : Fin 3 → Nat :=
  let c1_i32_664 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1524 : BitVec 32 := Scalar.subi c1_i32_664 v11
  let arg1 : BitVec 32 := BitVec.ofNat 32 (i 1).val
  let c256_i32_663 : BitVec 32 := 256#32
  let v1522 : BitVec 32 := Scalar.muli arg1 c256_i32_663
  let c104_i32 : BitVec 32 := 104#32
  let v1523 : BitVec 32 := Scalar.addi v1522 c104_i32
  let c8_i32_666 : BitVec 32 := 8#32
  let v1529 : BitVec 32 := Scalar.muli v1523 c8_i32_666
  let v1530 : BitVec 32 := v1529
  let c0_i32_667 : BitVec 32 := 0#32
  ![v1524.toNat, v1530.toNat, 0]
def k0_off426 (v1526 : BitVec 32) : Fin 2 → Nat :=
  let c8_i32_665 : BitVec 32 := 8#32
  let v1527 : BitVec 32 := Scalar.muli v1526 c8_i32_665
  let v1528 : BitVec 32 := v1527
  let c0_i32_668 : BitVec 32 := 0#32
  ![v1528.toNat, 0]

def k0_chk107 (i : grid0.Coords) (v0 : BitVec 32) (v28 : BitVec 32) (v1526 : BitVec 32) : Prop :=
  (∀ (k0_h1 : k0_cond1 i v0 = 1#1), ∀ (k0_h4 : k0_cond4 i v28 = 1#1), 8 ∣ (k0_mult211 v1526).toNat) ∧
  (∀ (k0_h1 : k0_cond1 i v0 = 1#1), ∀ (k0_h4 : k0_cond4 i v28 = 1#1), ∀ a, (k0_off426 v1526) a + S8x128.size a ≤ S262144x128.size a)
theorem k0_mult211_dvd : ∀ (i : grid0.Coords) (v0 : BitVec 32) (v28 : BitVec 32) (v1526 : BitVec 32) (k0_hw107 : k0_chk107 i v0 v28 v1526), ∀ (k0_h1 : k0_cond1 i v0 = 1#1), ∀ (k0_h4 : k0_cond4 i v28 = 1#1), 8 ∣ (k0_mult211 v1526).toNat := fun i v0 v28 v1526 k0_hw107 k0_h1 k0_h4 => k0_hw107.1 k0_h1 k0_h4
theorem k0_off426_inb : ∀ (i : grid0.Coords) (v0 : BitVec 32) (v28 : BitVec 32) (v1526 : BitVec 32) (k0_hw107 : k0_chk107 i v0 v28 v1526), ∀ (k0_h1 : k0_cond1 i v0 = 1#1), ∀ (k0_h4 : k0_cond4 i v28 = 1#1), ∀ a, (k0_off426 v1526) a + S8x128.size a ≤ S262144x128.size a := fun i v0 v28 v1526 k0_hw107 k0_h1 k0_h4 => k0_hw107.2 k0_h1 k0_h4

def k0_off427 (i : grid0.Coords) : Fin 1 → Nat :=
  let arg1 : BitVec 32 := BitVec.ofNat 32 (i 1).val
  let c256_i32_669 : BitVec 32 := 256#32
  let v1536 : BitVec 32 := Scalar.muli arg1 c256_i32_669
  let c105_i32 : BitVec 32 := 105#32
  let v1537 : BitVec 32 := Scalar.addi v1536 c105_i32
  let v1539 : Index := Scalar.indexCast v1537
  ![v1539.toNat]
def k0_mult213 (v1540 : BitVec 32) : BitVec 32 :=
  let c8_i32_671 : BitVec 32 := 8#32
  let v1541 : BitVec 32 := Scalar.muli v1540 c8_i32_671
  v1541

def k0_mult214 (i : grid0.Coords) : BitVec 32 :=
  let arg1 : BitVec 32 := BitVec.ofNat 32 (i 1).val
  let c256_i32_669 : BitVec 32 := 256#32
  let v1536 : BitVec 32 := Scalar.muli arg1 c256_i32_669
  let c105_i32 : BitVec 32 := 105#32
  let v1537 : BitVec 32 := Scalar.addi v1536 c105_i32
  let c8_i32_672 : BitVec 32 := 8#32
  let v1543 : BitVec 32 := Scalar.muli v1537 c8_i32_672
  v1543
def k0_off428 (i : grid0.Coords) : Fin 1 → Nat :=
  let c1_i32_670 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1538 : BitVec 32 := Scalar.subi c1_i32_670 v11
  ![v1538.toNat]
def k0_off429 (i : grid0.Coords) : Fin 3 → Nat :=
  let c1_i32_670 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1538 : BitVec 32 := Scalar.subi c1_i32_670 v11
  let arg1 : BitVec 32 := BitVec.ofNat 32 (i 1).val
  let c256_i32_669 : BitVec 32 := 256#32
  let v1536 : BitVec 32 := Scalar.muli arg1 c256_i32_669
  let c105_i32 : BitVec 32 := 105#32
  let v1537 : BitVec 32 := Scalar.addi v1536 c105_i32
  let c8_i32_672 : BitVec 32 := 8#32
  let v1543 : BitVec 32 := Scalar.muli v1537 c8_i32_672
  let v1544 : BitVec 32 := v1543
  let c0_i32_673 : BitVec 32 := 0#32
  ![v1538.toNat, v1544.toNat, 0]
def k0_off430 (v1540 : BitVec 32) : Fin 2 → Nat :=
  let c8_i32_671 : BitVec 32 := 8#32
  let v1541 : BitVec 32 := Scalar.muli v1540 c8_i32_671
  let v1542 : BitVec 32 := v1541
  let c0_i32_674 : BitVec 32 := 0#32
  ![v1542.toNat, 0]

def k0_chk108 (i : grid0.Coords) (v0 : BitVec 32) (v28 : BitVec 32) (v1540 : BitVec 32) : Prop :=
  (∀ (k0_h1 : k0_cond1 i v0 = 1#1), ∀ (k0_h4 : k0_cond4 i v28 = 1#1), 8 ∣ (k0_mult213 v1540).toNat) ∧
  (∀ (k0_h1 : k0_cond1 i v0 = 1#1), ∀ (k0_h4 : k0_cond4 i v28 = 1#1), ∀ a, (k0_off430 v1540) a + S8x128.size a ≤ S262144x128.size a)
theorem k0_mult213_dvd : ∀ (i : grid0.Coords) (v0 : BitVec 32) (v28 : BitVec 32) (v1540 : BitVec 32) (k0_hw108 : k0_chk108 i v0 v28 v1540), ∀ (k0_h1 : k0_cond1 i v0 = 1#1), ∀ (k0_h4 : k0_cond4 i v28 = 1#1), 8 ∣ (k0_mult213 v1540).toNat := fun i v0 v28 v1540 k0_hw108 k0_h1 k0_h4 => k0_hw108.1 k0_h1 k0_h4
theorem k0_off430_inb : ∀ (i : grid0.Coords) (v0 : BitVec 32) (v28 : BitVec 32) (v1540 : BitVec 32) (k0_hw108 : k0_chk108 i v0 v28 v1540), ∀ (k0_h1 : k0_cond1 i v0 = 1#1), ∀ (k0_h4 : k0_cond4 i v28 = 1#1), ∀ a, (k0_off430 v1540) a + S8x128.size a ≤ S262144x128.size a := fun i v0 v28 v1540 k0_hw108 k0_h1 k0_h4 => k0_hw108.2 k0_h1 k0_h4

def k0_off431 (i : grid0.Coords) : Fin 1 → Nat :=
  let arg1 : BitVec 32 := BitVec.ofNat 32 (i 1).val
  let c256_i32_675 : BitVec 32 := 256#32
  let v1550 : BitVec 32 := Scalar.muli arg1 c256_i32_675
  let c106_i32 : BitVec 32 := 106#32
  let v1551 : BitVec 32 := Scalar.addi v1550 c106_i32
  let v1553 : Index := Scalar.indexCast v1551
  ![v1553.toNat]
def k0_mult215 (v1554 : BitVec 32) : BitVec 32 :=
  let c8_i32_677 : BitVec 32 := 8#32
  let v1555 : BitVec 32 := Scalar.muli v1554 c8_i32_677
  v1555

def k0_mult216 (i : grid0.Coords) : BitVec 32 :=
  let arg1 : BitVec 32 := BitVec.ofNat 32 (i 1).val
  let c256_i32_675 : BitVec 32 := 256#32
  let v1550 : BitVec 32 := Scalar.muli arg1 c256_i32_675
  let c106_i32 : BitVec 32 := 106#32
  let v1551 : BitVec 32 := Scalar.addi v1550 c106_i32
  let c8_i32_678 : BitVec 32 := 8#32
  let v1557 : BitVec 32 := Scalar.muli v1551 c8_i32_678
  v1557
def k0_off432 (i : grid0.Coords) : Fin 1 → Nat :=
  let c1_i32_676 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1552 : BitVec 32 := Scalar.subi c1_i32_676 v11
  ![v1552.toNat]
def k0_off433 (i : grid0.Coords) : Fin 3 → Nat :=
  let c1_i32_676 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1552 : BitVec 32 := Scalar.subi c1_i32_676 v11
  let arg1 : BitVec 32 := BitVec.ofNat 32 (i 1).val
  let c256_i32_675 : BitVec 32 := 256#32
  let v1550 : BitVec 32 := Scalar.muli arg1 c256_i32_675
  let c106_i32 : BitVec 32 := 106#32
  let v1551 : BitVec 32 := Scalar.addi v1550 c106_i32
  let c8_i32_678 : BitVec 32 := 8#32
  let v1557 : BitVec 32 := Scalar.muli v1551 c8_i32_678
  let v1558 : BitVec 32 := v1557
  let c0_i32_679 : BitVec 32 := 0#32
  ![v1552.toNat, v1558.toNat, 0]
def k0_off434 (v1554 : BitVec 32) : Fin 2 → Nat :=
  let c8_i32_677 : BitVec 32 := 8#32
  let v1555 : BitVec 32 := Scalar.muli v1554 c8_i32_677
  let v1556 : BitVec 32 := v1555
  let c0_i32_680 : BitVec 32 := 0#32
  ![v1556.toNat, 0]

def k0_chk109 (i : grid0.Coords) (v0 : BitVec 32) (v28 : BitVec 32) (v1554 : BitVec 32) : Prop :=
  (∀ (k0_h1 : k0_cond1 i v0 = 1#1), ∀ (k0_h4 : k0_cond4 i v28 = 1#1), 8 ∣ (k0_mult215 v1554).toNat) ∧
  (∀ (k0_h1 : k0_cond1 i v0 = 1#1), ∀ (k0_h4 : k0_cond4 i v28 = 1#1), ∀ a, (k0_off434 v1554) a + S8x128.size a ≤ S262144x128.size a)
theorem k0_mult215_dvd : ∀ (i : grid0.Coords) (v0 : BitVec 32) (v28 : BitVec 32) (v1554 : BitVec 32) (k0_hw109 : k0_chk109 i v0 v28 v1554), ∀ (k0_h1 : k0_cond1 i v0 = 1#1), ∀ (k0_h4 : k0_cond4 i v28 = 1#1), 8 ∣ (k0_mult215 v1554).toNat := fun i v0 v28 v1554 k0_hw109 k0_h1 k0_h4 => k0_hw109.1 k0_h1 k0_h4
theorem k0_off434_inb : ∀ (i : grid0.Coords) (v0 : BitVec 32) (v28 : BitVec 32) (v1554 : BitVec 32) (k0_hw109 : k0_chk109 i v0 v28 v1554), ∀ (k0_h1 : k0_cond1 i v0 = 1#1), ∀ (k0_h4 : k0_cond4 i v28 = 1#1), ∀ a, (k0_off434 v1554) a + S8x128.size a ≤ S262144x128.size a := fun i v0 v28 v1554 k0_hw109 k0_h1 k0_h4 => k0_hw109.2 k0_h1 k0_h4

def k0_off435 (i : grid0.Coords) : Fin 1 → Nat :=
  let arg1 : BitVec 32 := BitVec.ofNat 32 (i 1).val
  let c256_i32_681 : BitVec 32 := 256#32
  let v1564 : BitVec 32 := Scalar.muli arg1 c256_i32_681
  let c107_i32 : BitVec 32 := 107#32
  let v1565 : BitVec 32 := Scalar.addi v1564 c107_i32
  let v1567 : Index := Scalar.indexCast v1565
  ![v1567.toNat]
def k0_mult217 (v1568 : BitVec 32) : BitVec 32 :=
  let c8_i32_683 : BitVec 32 := 8#32
  let v1569 : BitVec 32 := Scalar.muli v1568 c8_i32_683
  v1569

def k0_mult218 (i : grid0.Coords) : BitVec 32 :=
  let arg1 : BitVec 32 := BitVec.ofNat 32 (i 1).val
  let c256_i32_681 : BitVec 32 := 256#32
  let v1564 : BitVec 32 := Scalar.muli arg1 c256_i32_681
  let c107_i32 : BitVec 32 := 107#32
  let v1565 : BitVec 32 := Scalar.addi v1564 c107_i32
  let c8_i32_684 : BitVec 32 := 8#32
  let v1571 : BitVec 32 := Scalar.muli v1565 c8_i32_684
  v1571
def k0_off436 (i : grid0.Coords) : Fin 1 → Nat :=
  let c1_i32_682 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1566 : BitVec 32 := Scalar.subi c1_i32_682 v11
  ![v1566.toNat]
def k0_off437 (i : grid0.Coords) : Fin 3 → Nat :=
  let c1_i32_682 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1566 : BitVec 32 := Scalar.subi c1_i32_682 v11
  let arg1 : BitVec 32 := BitVec.ofNat 32 (i 1).val
  let c256_i32_681 : BitVec 32 := 256#32
  let v1564 : BitVec 32 := Scalar.muli arg1 c256_i32_681
  let c107_i32 : BitVec 32 := 107#32
  let v1565 : BitVec 32 := Scalar.addi v1564 c107_i32
  let c8_i32_684 : BitVec 32 := 8#32
  let v1571 : BitVec 32 := Scalar.muli v1565 c8_i32_684
  let v1572 : BitVec 32 := v1571
  let c0_i32_685 : BitVec 32 := 0#32
  ![v1566.toNat, v1572.toNat, 0]
def k0_off438 (v1568 : BitVec 32) : Fin 2 → Nat :=
  let c8_i32_683 : BitVec 32 := 8#32
  let v1569 : BitVec 32 := Scalar.muli v1568 c8_i32_683
  let v1570 : BitVec 32 := v1569
  let c0_i32_686 : BitVec 32 := 0#32
  ![v1570.toNat, 0]

def k0_chk110 (i : grid0.Coords) (v0 : BitVec 32) (v28 : BitVec 32) (v1568 : BitVec 32) : Prop :=
  (∀ (k0_h1 : k0_cond1 i v0 = 1#1), ∀ (k0_h4 : k0_cond4 i v28 = 1#1), 8 ∣ (k0_mult217 v1568).toNat) ∧
  (∀ (k0_h1 : k0_cond1 i v0 = 1#1), ∀ (k0_h4 : k0_cond4 i v28 = 1#1), ∀ a, (k0_off438 v1568) a + S8x128.size a ≤ S262144x128.size a)
theorem k0_mult217_dvd : ∀ (i : grid0.Coords) (v0 : BitVec 32) (v28 : BitVec 32) (v1568 : BitVec 32) (k0_hw110 : k0_chk110 i v0 v28 v1568), ∀ (k0_h1 : k0_cond1 i v0 = 1#1), ∀ (k0_h4 : k0_cond4 i v28 = 1#1), 8 ∣ (k0_mult217 v1568).toNat := fun i v0 v28 v1568 k0_hw110 k0_h1 k0_h4 => k0_hw110.1 k0_h1 k0_h4
theorem k0_off438_inb : ∀ (i : grid0.Coords) (v0 : BitVec 32) (v28 : BitVec 32) (v1568 : BitVec 32) (k0_hw110 : k0_chk110 i v0 v28 v1568), ∀ (k0_h1 : k0_cond1 i v0 = 1#1), ∀ (k0_h4 : k0_cond4 i v28 = 1#1), ∀ a, (k0_off438 v1568) a + S8x128.size a ≤ S262144x128.size a := fun i v0 v28 v1568 k0_hw110 k0_h1 k0_h4 => k0_hw110.2 k0_h1 k0_h4

def k0_off439 (i : grid0.Coords) : Fin 1 → Nat :=
  let arg1 : BitVec 32 := BitVec.ofNat 32 (i 1).val
  let c256_i32_687 : BitVec 32 := 256#32
  let v1578 : BitVec 32 := Scalar.muli arg1 c256_i32_687
  let c108_i32 : BitVec 32 := 108#32
  let v1579 : BitVec 32 := Scalar.addi v1578 c108_i32
  let v1581 : Index := Scalar.indexCast v1579
  ![v1581.toNat]
def k0_mult219 (v1582 : BitVec 32) : BitVec 32 :=
  let c8_i32_689 : BitVec 32 := 8#32
  let v1583 : BitVec 32 := Scalar.muli v1582 c8_i32_689
  v1583

def k0_mult220 (i : grid0.Coords) : BitVec 32 :=
  let arg1 : BitVec 32 := BitVec.ofNat 32 (i 1).val
  let c256_i32_687 : BitVec 32 := 256#32
  let v1578 : BitVec 32 := Scalar.muli arg1 c256_i32_687
  let c108_i32 : BitVec 32 := 108#32
  let v1579 : BitVec 32 := Scalar.addi v1578 c108_i32
  let c8_i32_690 : BitVec 32 := 8#32
  let v1585 : BitVec 32 := Scalar.muli v1579 c8_i32_690
  v1585
def k0_off440 (i : grid0.Coords) : Fin 1 → Nat :=
  let c1_i32_688 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1580 : BitVec 32 := Scalar.subi c1_i32_688 v11
  ![v1580.toNat]
def k0_off441 (i : grid0.Coords) : Fin 3 → Nat :=
  let c1_i32_688 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1580 : BitVec 32 := Scalar.subi c1_i32_688 v11
  let arg1 : BitVec 32 := BitVec.ofNat 32 (i 1).val
  let c256_i32_687 : BitVec 32 := 256#32
  let v1578 : BitVec 32 := Scalar.muli arg1 c256_i32_687
  let c108_i32 : BitVec 32 := 108#32
  let v1579 : BitVec 32 := Scalar.addi v1578 c108_i32
  let c8_i32_690 : BitVec 32 := 8#32
  let v1585 : BitVec 32 := Scalar.muli v1579 c8_i32_690
  let v1586 : BitVec 32 := v1585
  let c0_i32_691 : BitVec 32 := 0#32
  ![v1580.toNat, v1586.toNat, 0]
def k0_off442 (v1582 : BitVec 32) : Fin 2 → Nat :=
  let c8_i32_689 : BitVec 32 := 8#32
  let v1583 : BitVec 32 := Scalar.muli v1582 c8_i32_689
  let v1584 : BitVec 32 := v1583
  let c0_i32_692 : BitVec 32 := 0#32
  ![v1584.toNat, 0]

def k0_chk111 (i : grid0.Coords) (v0 : BitVec 32) (v28 : BitVec 32) (v1582 : BitVec 32) : Prop :=
  (∀ (k0_h1 : k0_cond1 i v0 = 1#1), ∀ (k0_h4 : k0_cond4 i v28 = 1#1), 8 ∣ (k0_mult219 v1582).toNat) ∧
  (∀ (k0_h1 : k0_cond1 i v0 = 1#1), ∀ (k0_h4 : k0_cond4 i v28 = 1#1), ∀ a, (k0_off442 v1582) a + S8x128.size a ≤ S262144x128.size a)
theorem k0_mult219_dvd : ∀ (i : grid0.Coords) (v0 : BitVec 32) (v28 : BitVec 32) (v1582 : BitVec 32) (k0_hw111 : k0_chk111 i v0 v28 v1582), ∀ (k0_h1 : k0_cond1 i v0 = 1#1), ∀ (k0_h4 : k0_cond4 i v28 = 1#1), 8 ∣ (k0_mult219 v1582).toNat := fun i v0 v28 v1582 k0_hw111 k0_h1 k0_h4 => k0_hw111.1 k0_h1 k0_h4
theorem k0_off442_inb : ∀ (i : grid0.Coords) (v0 : BitVec 32) (v28 : BitVec 32) (v1582 : BitVec 32) (k0_hw111 : k0_chk111 i v0 v28 v1582), ∀ (k0_h1 : k0_cond1 i v0 = 1#1), ∀ (k0_h4 : k0_cond4 i v28 = 1#1), ∀ a, (k0_off442 v1582) a + S8x128.size a ≤ S262144x128.size a := fun i v0 v28 v1582 k0_hw111 k0_h1 k0_h4 => k0_hw111.2 k0_h1 k0_h4

def k0_off443 (i : grid0.Coords) : Fin 1 → Nat :=
  let arg1 : BitVec 32 := BitVec.ofNat 32 (i 1).val
  let c256_i32_693 : BitVec 32 := 256#32
  let v1592 : BitVec 32 := Scalar.muli arg1 c256_i32_693
  let c109_i32 : BitVec 32 := 109#32
  let v1593 : BitVec 32 := Scalar.addi v1592 c109_i32
  let v1595 : Index := Scalar.indexCast v1593
  ![v1595.toNat]
def k0_mult221 (v1596 : BitVec 32) : BitVec 32 :=
  let c8_i32_695 : BitVec 32 := 8#32
  let v1597 : BitVec 32 := Scalar.muli v1596 c8_i32_695
  v1597

def k0_mult222 (i : grid0.Coords) : BitVec 32 :=
  let arg1 : BitVec 32 := BitVec.ofNat 32 (i 1).val
  let c256_i32_693 : BitVec 32 := 256#32
  let v1592 : BitVec 32 := Scalar.muli arg1 c256_i32_693
  let c109_i32 : BitVec 32 := 109#32
  let v1593 : BitVec 32 := Scalar.addi v1592 c109_i32
  let c8_i32_696 : BitVec 32 := 8#32
  let v1599 : BitVec 32 := Scalar.muli v1593 c8_i32_696
  v1599
def k0_off444 (i : grid0.Coords) : Fin 1 → Nat :=
  let c1_i32_694 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1594 : BitVec 32 := Scalar.subi c1_i32_694 v11
  ![v1594.toNat]
def k0_off445 (i : grid0.Coords) : Fin 3 → Nat :=
  let c1_i32_694 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1594 : BitVec 32 := Scalar.subi c1_i32_694 v11
  let arg1 : BitVec 32 := BitVec.ofNat 32 (i 1).val
  let c256_i32_693 : BitVec 32 := 256#32
  let v1592 : BitVec 32 := Scalar.muli arg1 c256_i32_693
  let c109_i32 : BitVec 32 := 109#32
  let v1593 : BitVec 32 := Scalar.addi v1592 c109_i32
  let c8_i32_696 : BitVec 32 := 8#32
  let v1599 : BitVec 32 := Scalar.muli v1593 c8_i32_696
  let v1600 : BitVec 32 := v1599
  let c0_i32_697 : BitVec 32 := 0#32
  ![v1594.toNat, v1600.toNat, 0]
def k0_off446 (v1596 : BitVec 32) : Fin 2 → Nat :=
  let c8_i32_695 : BitVec 32 := 8#32
  let v1597 : BitVec 32 := Scalar.muli v1596 c8_i32_695
  let v1598 : BitVec 32 := v1597
  let c0_i32_698 : BitVec 32 := 0#32
  ![v1598.toNat, 0]

def k0_chk112 (i : grid0.Coords) (v0 : BitVec 32) (v28 : BitVec 32) (v1596 : BitVec 32) : Prop :=
  (∀ (k0_h1 : k0_cond1 i v0 = 1#1), ∀ (k0_h4 : k0_cond4 i v28 = 1#1), 8 ∣ (k0_mult221 v1596).toNat) ∧
  (∀ (k0_h1 : k0_cond1 i v0 = 1#1), ∀ (k0_h4 : k0_cond4 i v28 = 1#1), ∀ a, (k0_off446 v1596) a + S8x128.size a ≤ S262144x128.size a)
theorem k0_mult221_dvd : ∀ (i : grid0.Coords) (v0 : BitVec 32) (v28 : BitVec 32) (v1596 : BitVec 32) (k0_hw112 : k0_chk112 i v0 v28 v1596), ∀ (k0_h1 : k0_cond1 i v0 = 1#1), ∀ (k0_h4 : k0_cond4 i v28 = 1#1), 8 ∣ (k0_mult221 v1596).toNat := fun i v0 v28 v1596 k0_hw112 k0_h1 k0_h4 => k0_hw112.1 k0_h1 k0_h4
theorem k0_off446_inb : ∀ (i : grid0.Coords) (v0 : BitVec 32) (v28 : BitVec 32) (v1596 : BitVec 32) (k0_hw112 : k0_chk112 i v0 v28 v1596), ∀ (k0_h1 : k0_cond1 i v0 = 1#1), ∀ (k0_h4 : k0_cond4 i v28 = 1#1), ∀ a, (k0_off446 v1596) a + S8x128.size a ≤ S262144x128.size a := fun i v0 v28 v1596 k0_hw112 k0_h1 k0_h4 => k0_hw112.2 k0_h1 k0_h4

def k0_off447 (i : grid0.Coords) : Fin 1 → Nat :=
  let arg1 : BitVec 32 := BitVec.ofNat 32 (i 1).val
  let c256_i32_699 : BitVec 32 := 256#32
  let v1606 : BitVec 32 := Scalar.muli arg1 c256_i32_699
  let c110_i32 : BitVec 32 := 110#32
  let v1607 : BitVec 32 := Scalar.addi v1606 c110_i32
  let v1609 : Index := Scalar.indexCast v1607
  ![v1609.toNat]
def k0_mult223 (v1610 : BitVec 32) : BitVec 32 :=
  let c8_i32_701 : BitVec 32 := 8#32
  let v1611 : BitVec 32 := Scalar.muli v1610 c8_i32_701
  v1611

def k0_mult224 (i : grid0.Coords) : BitVec 32 :=
  let arg1 : BitVec 32 := BitVec.ofNat 32 (i 1).val
  let c256_i32_699 : BitVec 32 := 256#32
  let v1606 : BitVec 32 := Scalar.muli arg1 c256_i32_699
  let c110_i32 : BitVec 32 := 110#32
  let v1607 : BitVec 32 := Scalar.addi v1606 c110_i32
  let c8_i32_702 : BitVec 32 := 8#32
  let v1613 : BitVec 32 := Scalar.muli v1607 c8_i32_702
  v1613
def k0_off448 (i : grid0.Coords) : Fin 1 → Nat :=
  let c1_i32_700 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1608 : BitVec 32 := Scalar.subi c1_i32_700 v11
  ![v1608.toNat]
def k0_off449 (i : grid0.Coords) : Fin 3 → Nat :=
  let c1_i32_700 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1608 : BitVec 32 := Scalar.subi c1_i32_700 v11
  let arg1 : BitVec 32 := BitVec.ofNat 32 (i 1).val
  let c256_i32_699 : BitVec 32 := 256#32
  let v1606 : BitVec 32 := Scalar.muli arg1 c256_i32_699
  let c110_i32 : BitVec 32 := 110#32
  let v1607 : BitVec 32 := Scalar.addi v1606 c110_i32
  let c8_i32_702 : BitVec 32 := 8#32
  let v1613 : BitVec 32 := Scalar.muli v1607 c8_i32_702
  let v1614 : BitVec 32 := v1613
  let c0_i32_703 : BitVec 32 := 0#32
  ![v1608.toNat, v1614.toNat, 0]
def k0_off450 (v1610 : BitVec 32) : Fin 2 → Nat :=
  let c8_i32_701 : BitVec 32 := 8#32
  let v1611 : BitVec 32 := Scalar.muli v1610 c8_i32_701
  let v1612 : BitVec 32 := v1611
  let c0_i32_704 : BitVec 32 := 0#32
  ![v1612.toNat, 0]

def k0_chk113 (i : grid0.Coords) (v0 : BitVec 32) (v28 : BitVec 32) (v1610 : BitVec 32) : Prop :=
  (∀ (k0_h1 : k0_cond1 i v0 = 1#1), ∀ (k0_h4 : k0_cond4 i v28 = 1#1), 8 ∣ (k0_mult223 v1610).toNat) ∧
  (∀ (k0_h1 : k0_cond1 i v0 = 1#1), ∀ (k0_h4 : k0_cond4 i v28 = 1#1), ∀ a, (k0_off450 v1610) a + S8x128.size a ≤ S262144x128.size a)
theorem k0_mult223_dvd : ∀ (i : grid0.Coords) (v0 : BitVec 32) (v28 : BitVec 32) (v1610 : BitVec 32) (k0_hw113 : k0_chk113 i v0 v28 v1610), ∀ (k0_h1 : k0_cond1 i v0 = 1#1), ∀ (k0_h4 : k0_cond4 i v28 = 1#1), 8 ∣ (k0_mult223 v1610).toNat := fun i v0 v28 v1610 k0_hw113 k0_h1 k0_h4 => k0_hw113.1 k0_h1 k0_h4
theorem k0_off450_inb : ∀ (i : grid0.Coords) (v0 : BitVec 32) (v28 : BitVec 32) (v1610 : BitVec 32) (k0_hw113 : k0_chk113 i v0 v28 v1610), ∀ (k0_h1 : k0_cond1 i v0 = 1#1), ∀ (k0_h4 : k0_cond4 i v28 = 1#1), ∀ a, (k0_off450 v1610) a + S8x128.size a ≤ S262144x128.size a := fun i v0 v28 v1610 k0_hw113 k0_h1 k0_h4 => k0_hw113.2 k0_h1 k0_h4

def k0_off451 (i : grid0.Coords) : Fin 1 → Nat :=
  let arg1 : BitVec 32 := BitVec.ofNat 32 (i 1).val
  let c256_i32_705 : BitVec 32 := 256#32
  let v1620 : BitVec 32 := Scalar.muli arg1 c256_i32_705
  let c111_i32 : BitVec 32 := 111#32
  let v1621 : BitVec 32 := Scalar.addi v1620 c111_i32
  let v1623 : Index := Scalar.indexCast v1621
  ![v1623.toNat]
def k0_mult225 (v1624 : BitVec 32) : BitVec 32 :=
  let c8_i32_707 : BitVec 32 := 8#32
  let v1625 : BitVec 32 := Scalar.muli v1624 c8_i32_707
  v1625

def k0_mult226 (i : grid0.Coords) : BitVec 32 :=
  let arg1 : BitVec 32 := BitVec.ofNat 32 (i 1).val
  let c256_i32_705 : BitVec 32 := 256#32
  let v1620 : BitVec 32 := Scalar.muli arg1 c256_i32_705
  let c111_i32 : BitVec 32 := 111#32
  let v1621 : BitVec 32 := Scalar.addi v1620 c111_i32
  let c8_i32_708 : BitVec 32 := 8#32
  let v1627 : BitVec 32 := Scalar.muli v1621 c8_i32_708
  v1627
def k0_off452 (i : grid0.Coords) : Fin 1 → Nat :=
  let c1_i32_706 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1622 : BitVec 32 := Scalar.subi c1_i32_706 v11
  ![v1622.toNat]
def k0_off453 (i : grid0.Coords) : Fin 3 → Nat :=
  let c1_i32_706 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1622 : BitVec 32 := Scalar.subi c1_i32_706 v11
  let arg1 : BitVec 32 := BitVec.ofNat 32 (i 1).val
  let c256_i32_705 : BitVec 32 := 256#32
  let v1620 : BitVec 32 := Scalar.muli arg1 c256_i32_705
  let c111_i32 : BitVec 32 := 111#32
  let v1621 : BitVec 32 := Scalar.addi v1620 c111_i32
  let c8_i32_708 : BitVec 32 := 8#32
  let v1627 : BitVec 32 := Scalar.muli v1621 c8_i32_708
  let v1628 : BitVec 32 := v1627
  let c0_i32_709 : BitVec 32 := 0#32
  ![v1622.toNat, v1628.toNat, 0]
def k0_off454 (v1624 : BitVec 32) : Fin 2 → Nat :=
  let c8_i32_707 : BitVec 32 := 8#32
  let v1625 : BitVec 32 := Scalar.muli v1624 c8_i32_707
  let v1626 : BitVec 32 := v1625
  let c0_i32_710 : BitVec 32 := 0#32
  ![v1626.toNat, 0]

def k0_chk114 (i : grid0.Coords) (v0 : BitVec 32) (v28 : BitVec 32) (v1624 : BitVec 32) : Prop :=
  (∀ (k0_h1 : k0_cond1 i v0 = 1#1), ∀ (k0_h4 : k0_cond4 i v28 = 1#1), 8 ∣ (k0_mult225 v1624).toNat) ∧
  (∀ (k0_h1 : k0_cond1 i v0 = 1#1), ∀ (k0_h4 : k0_cond4 i v28 = 1#1), ∀ a, (k0_off454 v1624) a + S8x128.size a ≤ S262144x128.size a)
theorem k0_mult225_dvd : ∀ (i : grid0.Coords) (v0 : BitVec 32) (v28 : BitVec 32) (v1624 : BitVec 32) (k0_hw114 : k0_chk114 i v0 v28 v1624), ∀ (k0_h1 : k0_cond1 i v0 = 1#1), ∀ (k0_h4 : k0_cond4 i v28 = 1#1), 8 ∣ (k0_mult225 v1624).toNat := fun i v0 v28 v1624 k0_hw114 k0_h1 k0_h4 => k0_hw114.1 k0_h1 k0_h4
theorem k0_off454_inb : ∀ (i : grid0.Coords) (v0 : BitVec 32) (v28 : BitVec 32) (v1624 : BitVec 32) (k0_hw114 : k0_chk114 i v0 v28 v1624), ∀ (k0_h1 : k0_cond1 i v0 = 1#1), ∀ (k0_h4 : k0_cond4 i v28 = 1#1), ∀ a, (k0_off454 v1624) a + S8x128.size a ≤ S262144x128.size a := fun i v0 v28 v1624 k0_hw114 k0_h1 k0_h4 => k0_hw114.2 k0_h1 k0_h4

def k0_off455 (i : grid0.Coords) : Fin 1 → Nat :=
  let arg1 : BitVec 32 := BitVec.ofNat 32 (i 1).val
  let c256_i32_711 : BitVec 32 := 256#32
  let v1634 : BitVec 32 := Scalar.muli arg1 c256_i32_711
  let c112_i32 : BitVec 32 := 112#32
  let v1635 : BitVec 32 := Scalar.addi v1634 c112_i32
  let v1637 : Index := Scalar.indexCast v1635
  ![v1637.toNat]
def k0_mult227 (v1638 : BitVec 32) : BitVec 32 :=
  let c8_i32_713 : BitVec 32 := 8#32
  let v1639 : BitVec 32 := Scalar.muli v1638 c8_i32_713
  v1639

def k0_mult228 (i : grid0.Coords) : BitVec 32 :=
  let arg1 : BitVec 32 := BitVec.ofNat 32 (i 1).val
  let c256_i32_711 : BitVec 32 := 256#32
  let v1634 : BitVec 32 := Scalar.muli arg1 c256_i32_711
  let c112_i32 : BitVec 32 := 112#32
  let v1635 : BitVec 32 := Scalar.addi v1634 c112_i32
  let c8_i32_714 : BitVec 32 := 8#32
  let v1641 : BitVec 32 := Scalar.muli v1635 c8_i32_714
  v1641
def k0_off456 (i : grid0.Coords) : Fin 1 → Nat :=
  let c1_i32_712 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1636 : BitVec 32 := Scalar.subi c1_i32_712 v11
  ![v1636.toNat]
def k0_off457 (i : grid0.Coords) : Fin 3 → Nat :=
  let c1_i32_712 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1636 : BitVec 32 := Scalar.subi c1_i32_712 v11
  let arg1 : BitVec 32 := BitVec.ofNat 32 (i 1).val
  let c256_i32_711 : BitVec 32 := 256#32
  let v1634 : BitVec 32 := Scalar.muli arg1 c256_i32_711
  let c112_i32 : BitVec 32 := 112#32
  let v1635 : BitVec 32 := Scalar.addi v1634 c112_i32
  let c8_i32_714 : BitVec 32 := 8#32
  let v1641 : BitVec 32 := Scalar.muli v1635 c8_i32_714
  let v1642 : BitVec 32 := v1641
  let c0_i32_715 : BitVec 32 := 0#32
  ![v1636.toNat, v1642.toNat, 0]
def k0_off458 (v1638 : BitVec 32) : Fin 2 → Nat :=
  let c8_i32_713 : BitVec 32 := 8#32
  let v1639 : BitVec 32 := Scalar.muli v1638 c8_i32_713
  let v1640 : BitVec 32 := v1639
  let c0_i32_716 : BitVec 32 := 0#32
  ![v1640.toNat, 0]

def k0_chk115 (i : grid0.Coords) (v0 : BitVec 32) (v28 : BitVec 32) (v1638 : BitVec 32) : Prop :=
  (∀ (k0_h1 : k0_cond1 i v0 = 1#1), ∀ (k0_h4 : k0_cond4 i v28 = 1#1), 8 ∣ (k0_mult227 v1638).toNat) ∧
  (∀ (k0_h1 : k0_cond1 i v0 = 1#1), ∀ (k0_h4 : k0_cond4 i v28 = 1#1), ∀ a, (k0_off458 v1638) a + S8x128.size a ≤ S262144x128.size a)
theorem k0_mult227_dvd : ∀ (i : grid0.Coords) (v0 : BitVec 32) (v28 : BitVec 32) (v1638 : BitVec 32) (k0_hw115 : k0_chk115 i v0 v28 v1638), ∀ (k0_h1 : k0_cond1 i v0 = 1#1), ∀ (k0_h4 : k0_cond4 i v28 = 1#1), 8 ∣ (k0_mult227 v1638).toNat := fun i v0 v28 v1638 k0_hw115 k0_h1 k0_h4 => k0_hw115.1 k0_h1 k0_h4
theorem k0_off458_inb : ∀ (i : grid0.Coords) (v0 : BitVec 32) (v28 : BitVec 32) (v1638 : BitVec 32) (k0_hw115 : k0_chk115 i v0 v28 v1638), ∀ (k0_h1 : k0_cond1 i v0 = 1#1), ∀ (k0_h4 : k0_cond4 i v28 = 1#1), ∀ a, (k0_off458 v1638) a + S8x128.size a ≤ S262144x128.size a := fun i v0 v28 v1638 k0_hw115 k0_h1 k0_h4 => k0_hw115.2 k0_h1 k0_h4

def k0_off459 (i : grid0.Coords) : Fin 1 → Nat :=
  let arg1 : BitVec 32 := BitVec.ofNat 32 (i 1).val
  let c256_i32_717 : BitVec 32 := 256#32
  let v1648 : BitVec 32 := Scalar.muli arg1 c256_i32_717
  let c113_i32 : BitVec 32 := 113#32
  let v1649 : BitVec 32 := Scalar.addi v1648 c113_i32
  let v1651 : Index := Scalar.indexCast v1649
  ![v1651.toNat]
def k0_mult229 (v1652 : BitVec 32) : BitVec 32 :=
  let c8_i32_719 : BitVec 32 := 8#32
  let v1653 : BitVec 32 := Scalar.muli v1652 c8_i32_719
  v1653

def k0_mult230 (i : grid0.Coords) : BitVec 32 :=
  let arg1 : BitVec 32 := BitVec.ofNat 32 (i 1).val
  let c256_i32_717 : BitVec 32 := 256#32
  let v1648 : BitVec 32 := Scalar.muli arg1 c256_i32_717
  let c113_i32 : BitVec 32 := 113#32
  let v1649 : BitVec 32 := Scalar.addi v1648 c113_i32
  let c8_i32_720 : BitVec 32 := 8#32
  let v1655 : BitVec 32 := Scalar.muli v1649 c8_i32_720
  v1655
def k0_off460 (i : grid0.Coords) : Fin 1 → Nat :=
  let c1_i32_718 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1650 : BitVec 32 := Scalar.subi c1_i32_718 v11
  ![v1650.toNat]
def k0_off461 (i : grid0.Coords) : Fin 3 → Nat :=
  let c1_i32_718 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1650 : BitVec 32 := Scalar.subi c1_i32_718 v11
  let arg1 : BitVec 32 := BitVec.ofNat 32 (i 1).val
  let c256_i32_717 : BitVec 32 := 256#32
  let v1648 : BitVec 32 := Scalar.muli arg1 c256_i32_717
  let c113_i32 : BitVec 32 := 113#32
  let v1649 : BitVec 32 := Scalar.addi v1648 c113_i32
  let c8_i32_720 : BitVec 32 := 8#32
  let v1655 : BitVec 32 := Scalar.muli v1649 c8_i32_720
  let v1656 : BitVec 32 := v1655
  let c0_i32_721 : BitVec 32 := 0#32
  ![v1650.toNat, v1656.toNat, 0]
def k0_off462 (v1652 : BitVec 32) : Fin 2 → Nat :=
  let c8_i32_719 : BitVec 32 := 8#32
  let v1653 : BitVec 32 := Scalar.muli v1652 c8_i32_719
  let v1654 : BitVec 32 := v1653
  let c0_i32_722 : BitVec 32 := 0#32
  ![v1654.toNat, 0]

def k0_chk116 (i : grid0.Coords) (v0 : BitVec 32) (v28 : BitVec 32) (v1652 : BitVec 32) : Prop :=
  (∀ (k0_h1 : k0_cond1 i v0 = 1#1), ∀ (k0_h4 : k0_cond4 i v28 = 1#1), 8 ∣ (k0_mult229 v1652).toNat) ∧
  (∀ (k0_h1 : k0_cond1 i v0 = 1#1), ∀ (k0_h4 : k0_cond4 i v28 = 1#1), ∀ a, (k0_off462 v1652) a + S8x128.size a ≤ S262144x128.size a)
theorem k0_mult229_dvd : ∀ (i : grid0.Coords) (v0 : BitVec 32) (v28 : BitVec 32) (v1652 : BitVec 32) (k0_hw116 : k0_chk116 i v0 v28 v1652), ∀ (k0_h1 : k0_cond1 i v0 = 1#1), ∀ (k0_h4 : k0_cond4 i v28 = 1#1), 8 ∣ (k0_mult229 v1652).toNat := fun i v0 v28 v1652 k0_hw116 k0_h1 k0_h4 => k0_hw116.1 k0_h1 k0_h4
theorem k0_off462_inb : ∀ (i : grid0.Coords) (v0 : BitVec 32) (v28 : BitVec 32) (v1652 : BitVec 32) (k0_hw116 : k0_chk116 i v0 v28 v1652), ∀ (k0_h1 : k0_cond1 i v0 = 1#1), ∀ (k0_h4 : k0_cond4 i v28 = 1#1), ∀ a, (k0_off462 v1652) a + S8x128.size a ≤ S262144x128.size a := fun i v0 v28 v1652 k0_hw116 k0_h1 k0_h4 => k0_hw116.2 k0_h1 k0_h4

def k0_off463 (i : grid0.Coords) : Fin 1 → Nat :=
  let arg1 : BitVec 32 := BitVec.ofNat 32 (i 1).val
  let c256_i32_723 : BitVec 32 := 256#32
  let v1662 : BitVec 32 := Scalar.muli arg1 c256_i32_723
  let c114_i32 : BitVec 32 := 114#32
  let v1663 : BitVec 32 := Scalar.addi v1662 c114_i32
  let v1665 : Index := Scalar.indexCast v1663
  ![v1665.toNat]
def k0_mult231 (v1666 : BitVec 32) : BitVec 32 :=
  let c8_i32_725 : BitVec 32 := 8#32
  let v1667 : BitVec 32 := Scalar.muli v1666 c8_i32_725
  v1667

def k0_mult232 (i : grid0.Coords) : BitVec 32 :=
  let arg1 : BitVec 32 := BitVec.ofNat 32 (i 1).val
  let c256_i32_723 : BitVec 32 := 256#32
  let v1662 : BitVec 32 := Scalar.muli arg1 c256_i32_723
  let c114_i32 : BitVec 32 := 114#32
  let v1663 : BitVec 32 := Scalar.addi v1662 c114_i32
  let c8_i32_726 : BitVec 32 := 8#32
  let v1669 : BitVec 32 := Scalar.muli v1663 c8_i32_726
  v1669
def k0_off464 (i : grid0.Coords) : Fin 1 → Nat :=
  let c1_i32_724 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1664 : BitVec 32 := Scalar.subi c1_i32_724 v11
  ![v1664.toNat]
def k0_off465 (i : grid0.Coords) : Fin 3 → Nat :=
  let c1_i32_724 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1664 : BitVec 32 := Scalar.subi c1_i32_724 v11
  let arg1 : BitVec 32 := BitVec.ofNat 32 (i 1).val
  let c256_i32_723 : BitVec 32 := 256#32
  let v1662 : BitVec 32 := Scalar.muli arg1 c256_i32_723
  let c114_i32 : BitVec 32 := 114#32
  let v1663 : BitVec 32 := Scalar.addi v1662 c114_i32
  let c8_i32_726 : BitVec 32 := 8#32
  let v1669 : BitVec 32 := Scalar.muli v1663 c8_i32_726
  let v1670 : BitVec 32 := v1669
  let c0_i32_727 : BitVec 32 := 0#32
  ![v1664.toNat, v1670.toNat, 0]
def k0_off466 (v1666 : BitVec 32) : Fin 2 → Nat :=
  let c8_i32_725 : BitVec 32 := 8#32
  let v1667 : BitVec 32 := Scalar.muli v1666 c8_i32_725
  let v1668 : BitVec 32 := v1667
  let c0_i32_728 : BitVec 32 := 0#32
  ![v1668.toNat, 0]

def k0_chk117 (i : grid0.Coords) (v0 : BitVec 32) (v28 : BitVec 32) (v1666 : BitVec 32) : Prop :=
  (∀ (k0_h1 : k0_cond1 i v0 = 1#1), ∀ (k0_h4 : k0_cond4 i v28 = 1#1), 8 ∣ (k0_mult231 v1666).toNat) ∧
  (∀ (k0_h1 : k0_cond1 i v0 = 1#1), ∀ (k0_h4 : k0_cond4 i v28 = 1#1), ∀ a, (k0_off466 v1666) a + S8x128.size a ≤ S262144x128.size a)
theorem k0_mult231_dvd : ∀ (i : grid0.Coords) (v0 : BitVec 32) (v28 : BitVec 32) (v1666 : BitVec 32) (k0_hw117 : k0_chk117 i v0 v28 v1666), ∀ (k0_h1 : k0_cond1 i v0 = 1#1), ∀ (k0_h4 : k0_cond4 i v28 = 1#1), 8 ∣ (k0_mult231 v1666).toNat := fun i v0 v28 v1666 k0_hw117 k0_h1 k0_h4 => k0_hw117.1 k0_h1 k0_h4
theorem k0_off466_inb : ∀ (i : grid0.Coords) (v0 : BitVec 32) (v28 : BitVec 32) (v1666 : BitVec 32) (k0_hw117 : k0_chk117 i v0 v28 v1666), ∀ (k0_h1 : k0_cond1 i v0 = 1#1), ∀ (k0_h4 : k0_cond4 i v28 = 1#1), ∀ a, (k0_off466 v1666) a + S8x128.size a ≤ S262144x128.size a := fun i v0 v28 v1666 k0_hw117 k0_h1 k0_h4 => k0_hw117.2 k0_h1 k0_h4

def k0_off467 (i : grid0.Coords) : Fin 1 → Nat :=
  let arg1 : BitVec 32 := BitVec.ofNat 32 (i 1).val
  let c256_i32_729 : BitVec 32 := 256#32
  let v1676 : BitVec 32 := Scalar.muli arg1 c256_i32_729
  let c115_i32 : BitVec 32 := 115#32
  let v1677 : BitVec 32 := Scalar.addi v1676 c115_i32
  let v1679 : Index := Scalar.indexCast v1677
  ![v1679.toNat]
def k0_mult233 (v1680 : BitVec 32) : BitVec 32 :=
  let c8_i32_731 : BitVec 32 := 8#32
  let v1681 : BitVec 32 := Scalar.muli v1680 c8_i32_731
  v1681

def k0_mult234 (i : grid0.Coords) : BitVec 32 :=
  let arg1 : BitVec 32 := BitVec.ofNat 32 (i 1).val
  let c256_i32_729 : BitVec 32 := 256#32
  let v1676 : BitVec 32 := Scalar.muli arg1 c256_i32_729
  let c115_i32 : BitVec 32 := 115#32
  let v1677 : BitVec 32 := Scalar.addi v1676 c115_i32
  let c8_i32_732 : BitVec 32 := 8#32
  let v1683 : BitVec 32 := Scalar.muli v1677 c8_i32_732
  v1683
def k0_off468 (i : grid0.Coords) : Fin 1 → Nat :=
  let c1_i32_730 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1678 : BitVec 32 := Scalar.subi c1_i32_730 v11
  ![v1678.toNat]
def k0_off469 (i : grid0.Coords) : Fin 3 → Nat :=
  let c1_i32_730 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1678 : BitVec 32 := Scalar.subi c1_i32_730 v11
  let arg1 : BitVec 32 := BitVec.ofNat 32 (i 1).val
  let c256_i32_729 : BitVec 32 := 256#32
  let v1676 : BitVec 32 := Scalar.muli arg1 c256_i32_729
  let c115_i32 : BitVec 32 := 115#32
  let v1677 : BitVec 32 := Scalar.addi v1676 c115_i32
  let c8_i32_732 : BitVec 32 := 8#32
  let v1683 : BitVec 32 := Scalar.muli v1677 c8_i32_732
  let v1684 : BitVec 32 := v1683
  let c0_i32_733 : BitVec 32 := 0#32
  ![v1678.toNat, v1684.toNat, 0]
def k0_off470 (v1680 : BitVec 32) : Fin 2 → Nat :=
  let c8_i32_731 : BitVec 32 := 8#32
  let v1681 : BitVec 32 := Scalar.muli v1680 c8_i32_731
  let v1682 : BitVec 32 := v1681
  let c0_i32_734 : BitVec 32 := 0#32
  ![v1682.toNat, 0]

def k0_chk118 (i : grid0.Coords) (v0 : BitVec 32) (v28 : BitVec 32) (v1680 : BitVec 32) : Prop :=
  (∀ (k0_h1 : k0_cond1 i v0 = 1#1), ∀ (k0_h4 : k0_cond4 i v28 = 1#1), 8 ∣ (k0_mult233 v1680).toNat) ∧
  (∀ (k0_h1 : k0_cond1 i v0 = 1#1), ∀ (k0_h4 : k0_cond4 i v28 = 1#1), ∀ a, (k0_off470 v1680) a + S8x128.size a ≤ S262144x128.size a)
theorem k0_mult233_dvd : ∀ (i : grid0.Coords) (v0 : BitVec 32) (v28 : BitVec 32) (v1680 : BitVec 32) (k0_hw118 : k0_chk118 i v0 v28 v1680), ∀ (k0_h1 : k0_cond1 i v0 = 1#1), ∀ (k0_h4 : k0_cond4 i v28 = 1#1), 8 ∣ (k0_mult233 v1680).toNat := fun i v0 v28 v1680 k0_hw118 k0_h1 k0_h4 => k0_hw118.1 k0_h1 k0_h4
theorem k0_off470_inb : ∀ (i : grid0.Coords) (v0 : BitVec 32) (v28 : BitVec 32) (v1680 : BitVec 32) (k0_hw118 : k0_chk118 i v0 v28 v1680), ∀ (k0_h1 : k0_cond1 i v0 = 1#1), ∀ (k0_h4 : k0_cond4 i v28 = 1#1), ∀ a, (k0_off470 v1680) a + S8x128.size a ≤ S262144x128.size a := fun i v0 v28 v1680 k0_hw118 k0_h1 k0_h4 => k0_hw118.2 k0_h1 k0_h4

def k0_off471 (i : grid0.Coords) : Fin 1 → Nat :=
  let arg1 : BitVec 32 := BitVec.ofNat 32 (i 1).val
  let c256_i32_735 : BitVec 32 := 256#32
  let v1690 : BitVec 32 := Scalar.muli arg1 c256_i32_735
  let c116_i32 : BitVec 32 := 116#32
  let v1691 : BitVec 32 := Scalar.addi v1690 c116_i32
  let v1693 : Index := Scalar.indexCast v1691
  ![v1693.toNat]
def k0_mult235 (v1694 : BitVec 32) : BitVec 32 :=
  let c8_i32_737 : BitVec 32 := 8#32
  let v1695 : BitVec 32 := Scalar.muli v1694 c8_i32_737
  v1695

def k0_mult236 (i : grid0.Coords) : BitVec 32 :=
  let arg1 : BitVec 32 := BitVec.ofNat 32 (i 1).val
  let c256_i32_735 : BitVec 32 := 256#32
  let v1690 : BitVec 32 := Scalar.muli arg1 c256_i32_735
  let c116_i32 : BitVec 32 := 116#32
  let v1691 : BitVec 32 := Scalar.addi v1690 c116_i32
  let c8_i32_738 : BitVec 32 := 8#32
  let v1697 : BitVec 32 := Scalar.muli v1691 c8_i32_738
  v1697
def k0_off472 (i : grid0.Coords) : Fin 1 → Nat :=
  let c1_i32_736 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1692 : BitVec 32 := Scalar.subi c1_i32_736 v11
  ![v1692.toNat]
def k0_off473 (i : grid0.Coords) : Fin 3 → Nat :=
  let c1_i32_736 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1692 : BitVec 32 := Scalar.subi c1_i32_736 v11
  let arg1 : BitVec 32 := BitVec.ofNat 32 (i 1).val
  let c256_i32_735 : BitVec 32 := 256#32
  let v1690 : BitVec 32 := Scalar.muli arg1 c256_i32_735
  let c116_i32 : BitVec 32 := 116#32
  let v1691 : BitVec 32 := Scalar.addi v1690 c116_i32
  let c8_i32_738 : BitVec 32 := 8#32
  let v1697 : BitVec 32 := Scalar.muli v1691 c8_i32_738
  let v1698 : BitVec 32 := v1697
  let c0_i32_739 : BitVec 32 := 0#32
  ![v1692.toNat, v1698.toNat, 0]
def k0_off474 (v1694 : BitVec 32) : Fin 2 → Nat :=
  let c8_i32_737 : BitVec 32 := 8#32
  let v1695 : BitVec 32 := Scalar.muli v1694 c8_i32_737
  let v1696 : BitVec 32 := v1695
  let c0_i32_740 : BitVec 32 := 0#32
  ![v1696.toNat, 0]

def k0_chk119 (i : grid0.Coords) (v0 : BitVec 32) (v28 : BitVec 32) (v1694 : BitVec 32) : Prop :=
  (∀ (k0_h1 : k0_cond1 i v0 = 1#1), ∀ (k0_h4 : k0_cond4 i v28 = 1#1), 8 ∣ (k0_mult235 v1694).toNat) ∧
  (∀ (k0_h1 : k0_cond1 i v0 = 1#1), ∀ (k0_h4 : k0_cond4 i v28 = 1#1), ∀ a, (k0_off474 v1694) a + S8x128.size a ≤ S262144x128.size a)
theorem k0_mult235_dvd : ∀ (i : grid0.Coords) (v0 : BitVec 32) (v28 : BitVec 32) (v1694 : BitVec 32) (k0_hw119 : k0_chk119 i v0 v28 v1694), ∀ (k0_h1 : k0_cond1 i v0 = 1#1), ∀ (k0_h4 : k0_cond4 i v28 = 1#1), 8 ∣ (k0_mult235 v1694).toNat := fun i v0 v28 v1694 k0_hw119 k0_h1 k0_h4 => k0_hw119.1 k0_h1 k0_h4
theorem k0_off474_inb : ∀ (i : grid0.Coords) (v0 : BitVec 32) (v28 : BitVec 32) (v1694 : BitVec 32) (k0_hw119 : k0_chk119 i v0 v28 v1694), ∀ (k0_h1 : k0_cond1 i v0 = 1#1), ∀ (k0_h4 : k0_cond4 i v28 = 1#1), ∀ a, (k0_off474 v1694) a + S8x128.size a ≤ S262144x128.size a := fun i v0 v28 v1694 k0_hw119 k0_h1 k0_h4 => k0_hw119.2 k0_h1 k0_h4

def k0_off475 (i : grid0.Coords) : Fin 1 → Nat :=
  let arg1 : BitVec 32 := BitVec.ofNat 32 (i 1).val
  let c256_i32_741 : BitVec 32 := 256#32
  let v1704 : BitVec 32 := Scalar.muli arg1 c256_i32_741
  let c117_i32 : BitVec 32 := 117#32
  let v1705 : BitVec 32 := Scalar.addi v1704 c117_i32
  let v1707 : Index := Scalar.indexCast v1705
  ![v1707.toNat]
def k0_mult237 (v1708 : BitVec 32) : BitVec 32 :=
  let c8_i32_743 : BitVec 32 := 8#32
  let v1709 : BitVec 32 := Scalar.muli v1708 c8_i32_743
  v1709

def k0_mult238 (i : grid0.Coords) : BitVec 32 :=
  let arg1 : BitVec 32 := BitVec.ofNat 32 (i 1).val
  let c256_i32_741 : BitVec 32 := 256#32
  let v1704 : BitVec 32 := Scalar.muli arg1 c256_i32_741
  let c117_i32 : BitVec 32 := 117#32
  let v1705 : BitVec 32 := Scalar.addi v1704 c117_i32
  let c8_i32_744 : BitVec 32 := 8#32
  let v1711 : BitVec 32 := Scalar.muli v1705 c8_i32_744
  v1711
def k0_off476 (i : grid0.Coords) : Fin 1 → Nat :=
  let c1_i32_742 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1706 : BitVec 32 := Scalar.subi c1_i32_742 v11
  ![v1706.toNat]
def k0_off477 (i : grid0.Coords) : Fin 3 → Nat :=
  let c1_i32_742 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1706 : BitVec 32 := Scalar.subi c1_i32_742 v11
  let arg1 : BitVec 32 := BitVec.ofNat 32 (i 1).val
  let c256_i32_741 : BitVec 32 := 256#32
  let v1704 : BitVec 32 := Scalar.muli arg1 c256_i32_741
  let c117_i32 : BitVec 32 := 117#32
  let v1705 : BitVec 32 := Scalar.addi v1704 c117_i32
  let c8_i32_744 : BitVec 32 := 8#32
  let v1711 : BitVec 32 := Scalar.muli v1705 c8_i32_744
  let v1712 : BitVec 32 := v1711
  let c0_i32_745 : BitVec 32 := 0#32
  ![v1706.toNat, v1712.toNat, 0]
def k0_off478 (v1708 : BitVec 32) : Fin 2 → Nat :=
  let c8_i32_743 : BitVec 32 := 8#32
  let v1709 : BitVec 32 := Scalar.muli v1708 c8_i32_743
  let v1710 : BitVec 32 := v1709
  let c0_i32_746 : BitVec 32 := 0#32
  ![v1710.toNat, 0]

def k0_chk120 (i : grid0.Coords) (v0 : BitVec 32) (v28 : BitVec 32) (v1708 : BitVec 32) : Prop :=
  (∀ (k0_h1 : k0_cond1 i v0 = 1#1), ∀ (k0_h4 : k0_cond4 i v28 = 1#1), 8 ∣ (k0_mult237 v1708).toNat) ∧
  (∀ (k0_h1 : k0_cond1 i v0 = 1#1), ∀ (k0_h4 : k0_cond4 i v28 = 1#1), ∀ a, (k0_off478 v1708) a + S8x128.size a ≤ S262144x128.size a)
theorem k0_mult237_dvd : ∀ (i : grid0.Coords) (v0 : BitVec 32) (v28 : BitVec 32) (v1708 : BitVec 32) (k0_hw120 : k0_chk120 i v0 v28 v1708), ∀ (k0_h1 : k0_cond1 i v0 = 1#1), ∀ (k0_h4 : k0_cond4 i v28 = 1#1), 8 ∣ (k0_mult237 v1708).toNat := fun i v0 v28 v1708 k0_hw120 k0_h1 k0_h4 => k0_hw120.1 k0_h1 k0_h4
theorem k0_off478_inb : ∀ (i : grid0.Coords) (v0 : BitVec 32) (v28 : BitVec 32) (v1708 : BitVec 32) (k0_hw120 : k0_chk120 i v0 v28 v1708), ∀ (k0_h1 : k0_cond1 i v0 = 1#1), ∀ (k0_h4 : k0_cond4 i v28 = 1#1), ∀ a, (k0_off478 v1708) a + S8x128.size a ≤ S262144x128.size a := fun i v0 v28 v1708 k0_hw120 k0_h1 k0_h4 => k0_hw120.2 k0_h1 k0_h4

def k0_off479 (i : grid0.Coords) : Fin 1 → Nat :=
  let arg1 : BitVec 32 := BitVec.ofNat 32 (i 1).val
  let c256_i32_747 : BitVec 32 := 256#32
  let v1718 : BitVec 32 := Scalar.muli arg1 c256_i32_747
  let c118_i32 : BitVec 32 := 118#32
  let v1719 : BitVec 32 := Scalar.addi v1718 c118_i32
  let v1721 : Index := Scalar.indexCast v1719
  ![v1721.toNat]
def k0_mult239 (v1722 : BitVec 32) : BitVec 32 :=
  let c8_i32_749 : BitVec 32 := 8#32
  let v1723 : BitVec 32 := Scalar.muli v1722 c8_i32_749
  v1723

def k0_mult240 (i : grid0.Coords) : BitVec 32 :=
  let arg1 : BitVec 32 := BitVec.ofNat 32 (i 1).val
  let c256_i32_747 : BitVec 32 := 256#32
  let v1718 : BitVec 32 := Scalar.muli arg1 c256_i32_747
  let c118_i32 : BitVec 32 := 118#32
  let v1719 : BitVec 32 := Scalar.addi v1718 c118_i32
  let c8_i32_750 : BitVec 32 := 8#32
  let v1725 : BitVec 32 := Scalar.muli v1719 c8_i32_750
  v1725
def k0_off480 (i : grid0.Coords) : Fin 1 → Nat :=
  let c1_i32_748 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1720 : BitVec 32 := Scalar.subi c1_i32_748 v11
  ![v1720.toNat]
def k0_off481 (i : grid0.Coords) : Fin 3 → Nat :=
  let c1_i32_748 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1720 : BitVec 32 := Scalar.subi c1_i32_748 v11
  let arg1 : BitVec 32 := BitVec.ofNat 32 (i 1).val
  let c256_i32_747 : BitVec 32 := 256#32
  let v1718 : BitVec 32 := Scalar.muli arg1 c256_i32_747
  let c118_i32 : BitVec 32 := 118#32
  let v1719 : BitVec 32 := Scalar.addi v1718 c118_i32
  let c8_i32_750 : BitVec 32 := 8#32
  let v1725 : BitVec 32 := Scalar.muli v1719 c8_i32_750
  let v1726 : BitVec 32 := v1725
  let c0_i32_751 : BitVec 32 := 0#32
  ![v1720.toNat, v1726.toNat, 0]
def k0_off482 (v1722 : BitVec 32) : Fin 2 → Nat :=
  let c8_i32_749 : BitVec 32 := 8#32
  let v1723 : BitVec 32 := Scalar.muli v1722 c8_i32_749
  let v1724 : BitVec 32 := v1723
  let c0_i32_752 : BitVec 32 := 0#32
  ![v1724.toNat, 0]

def k0_chk121 (i : grid0.Coords) (v0 : BitVec 32) (v28 : BitVec 32) (v1722 : BitVec 32) : Prop :=
  (∀ (k0_h1 : k0_cond1 i v0 = 1#1), ∀ (k0_h4 : k0_cond4 i v28 = 1#1), 8 ∣ (k0_mult239 v1722).toNat) ∧
  (∀ (k0_h1 : k0_cond1 i v0 = 1#1), ∀ (k0_h4 : k0_cond4 i v28 = 1#1), ∀ a, (k0_off482 v1722) a + S8x128.size a ≤ S262144x128.size a)
theorem k0_mult239_dvd : ∀ (i : grid0.Coords) (v0 : BitVec 32) (v28 : BitVec 32) (v1722 : BitVec 32) (k0_hw121 : k0_chk121 i v0 v28 v1722), ∀ (k0_h1 : k0_cond1 i v0 = 1#1), ∀ (k0_h4 : k0_cond4 i v28 = 1#1), 8 ∣ (k0_mult239 v1722).toNat := fun i v0 v28 v1722 k0_hw121 k0_h1 k0_h4 => k0_hw121.1 k0_h1 k0_h4
theorem k0_off482_inb : ∀ (i : grid0.Coords) (v0 : BitVec 32) (v28 : BitVec 32) (v1722 : BitVec 32) (k0_hw121 : k0_chk121 i v0 v28 v1722), ∀ (k0_h1 : k0_cond1 i v0 = 1#1), ∀ (k0_h4 : k0_cond4 i v28 = 1#1), ∀ a, (k0_off482 v1722) a + S8x128.size a ≤ S262144x128.size a := fun i v0 v28 v1722 k0_hw121 k0_h1 k0_h4 => k0_hw121.2 k0_h1 k0_h4

def k0_off483 (i : grid0.Coords) : Fin 1 → Nat :=
  let arg1 : BitVec 32 := BitVec.ofNat 32 (i 1).val
  let c256_i32_753 : BitVec 32 := 256#32
  let v1732 : BitVec 32 := Scalar.muli arg1 c256_i32_753
  let c119_i32 : BitVec 32 := 119#32
  let v1733 : BitVec 32 := Scalar.addi v1732 c119_i32
  let v1735 : Index := Scalar.indexCast v1733
  ![v1735.toNat]
def k0_mult241 (v1736 : BitVec 32) : BitVec 32 :=
  let c8_i32_755 : BitVec 32 := 8#32
  let v1737 : BitVec 32 := Scalar.muli v1736 c8_i32_755
  v1737

def k0_mult242 (i : grid0.Coords) : BitVec 32 :=
  let arg1 : BitVec 32 := BitVec.ofNat 32 (i 1).val
  let c256_i32_753 : BitVec 32 := 256#32
  let v1732 : BitVec 32 := Scalar.muli arg1 c256_i32_753
  let c119_i32 : BitVec 32 := 119#32
  let v1733 : BitVec 32 := Scalar.addi v1732 c119_i32
  let c8_i32_756 : BitVec 32 := 8#32
  let v1739 : BitVec 32 := Scalar.muli v1733 c8_i32_756
  v1739
def k0_off484 (i : grid0.Coords) : Fin 1 → Nat :=
  let c1_i32_754 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1734 : BitVec 32 := Scalar.subi c1_i32_754 v11
  ![v1734.toNat]
def k0_off485 (i : grid0.Coords) : Fin 3 → Nat :=
  let c1_i32_754 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1734 : BitVec 32 := Scalar.subi c1_i32_754 v11
  let arg1 : BitVec 32 := BitVec.ofNat 32 (i 1).val
  let c256_i32_753 : BitVec 32 := 256#32
  let v1732 : BitVec 32 := Scalar.muli arg1 c256_i32_753
  let c119_i32 : BitVec 32 := 119#32
  let v1733 : BitVec 32 := Scalar.addi v1732 c119_i32
  let c8_i32_756 : BitVec 32 := 8#32
  let v1739 : BitVec 32 := Scalar.muli v1733 c8_i32_756
  let v1740 : BitVec 32 := v1739
  let c0_i32_757 : BitVec 32 := 0#32
  ![v1734.toNat, v1740.toNat, 0]
def k0_off486 (v1736 : BitVec 32) : Fin 2 → Nat :=
  let c8_i32_755 : BitVec 32 := 8#32
  let v1737 : BitVec 32 := Scalar.muli v1736 c8_i32_755
  let v1738 : BitVec 32 := v1737
  let c0_i32_758 : BitVec 32 := 0#32
  ![v1738.toNat, 0]

def k0_chk122 (i : grid0.Coords) (v0 : BitVec 32) (v28 : BitVec 32) (v1736 : BitVec 32) : Prop :=
  (∀ (k0_h1 : k0_cond1 i v0 = 1#1), ∀ (k0_h4 : k0_cond4 i v28 = 1#1), 8 ∣ (k0_mult241 v1736).toNat) ∧
  (∀ (k0_h1 : k0_cond1 i v0 = 1#1), ∀ (k0_h4 : k0_cond4 i v28 = 1#1), ∀ a, (k0_off486 v1736) a + S8x128.size a ≤ S262144x128.size a)
theorem k0_mult241_dvd : ∀ (i : grid0.Coords) (v0 : BitVec 32) (v28 : BitVec 32) (v1736 : BitVec 32) (k0_hw122 : k0_chk122 i v0 v28 v1736), ∀ (k0_h1 : k0_cond1 i v0 = 1#1), ∀ (k0_h4 : k0_cond4 i v28 = 1#1), 8 ∣ (k0_mult241 v1736).toNat := fun i v0 v28 v1736 k0_hw122 k0_h1 k0_h4 => k0_hw122.1 k0_h1 k0_h4
theorem k0_off486_inb : ∀ (i : grid0.Coords) (v0 : BitVec 32) (v28 : BitVec 32) (v1736 : BitVec 32) (k0_hw122 : k0_chk122 i v0 v28 v1736), ∀ (k0_h1 : k0_cond1 i v0 = 1#1), ∀ (k0_h4 : k0_cond4 i v28 = 1#1), ∀ a, (k0_off486 v1736) a + S8x128.size a ≤ S262144x128.size a := fun i v0 v28 v1736 k0_hw122 k0_h1 k0_h4 => k0_hw122.2 k0_h1 k0_h4

def k0_off487 (i : grid0.Coords) : Fin 1 → Nat :=
  let arg1 : BitVec 32 := BitVec.ofNat 32 (i 1).val
  let c256_i32_759 : BitVec 32 := 256#32
  let v1746 : BitVec 32 := Scalar.muli arg1 c256_i32_759
  let c120_i32 : BitVec 32 := 120#32
  let v1747 : BitVec 32 := Scalar.addi v1746 c120_i32
  let v1749 : Index := Scalar.indexCast v1747
  ![v1749.toNat]
def k0_mult243 (v1750 : BitVec 32) : BitVec 32 :=
  let c8_i32_761 : BitVec 32 := 8#32
  let v1751 : BitVec 32 := Scalar.muli v1750 c8_i32_761
  v1751

def k0_mult244 (i : grid0.Coords) : BitVec 32 :=
  let arg1 : BitVec 32 := BitVec.ofNat 32 (i 1).val
  let c256_i32_759 : BitVec 32 := 256#32
  let v1746 : BitVec 32 := Scalar.muli arg1 c256_i32_759
  let c120_i32 : BitVec 32 := 120#32
  let v1747 : BitVec 32 := Scalar.addi v1746 c120_i32
  let c8_i32_762 : BitVec 32 := 8#32
  let v1753 : BitVec 32 := Scalar.muli v1747 c8_i32_762
  v1753
def k0_off488 (i : grid0.Coords) : Fin 1 → Nat :=
  let c1_i32_760 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1748 : BitVec 32 := Scalar.subi c1_i32_760 v11
  ![v1748.toNat]
def k0_off489 (i : grid0.Coords) : Fin 3 → Nat :=
  let c1_i32_760 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1748 : BitVec 32 := Scalar.subi c1_i32_760 v11
  let arg1 : BitVec 32 := BitVec.ofNat 32 (i 1).val
  let c256_i32_759 : BitVec 32 := 256#32
  let v1746 : BitVec 32 := Scalar.muli arg1 c256_i32_759
  let c120_i32 : BitVec 32 := 120#32
  let v1747 : BitVec 32 := Scalar.addi v1746 c120_i32
  let c8_i32_762 : BitVec 32 := 8#32
  let v1753 : BitVec 32 := Scalar.muli v1747 c8_i32_762
  let v1754 : BitVec 32 := v1753
  let c0_i32_763 : BitVec 32 := 0#32
  ![v1748.toNat, v1754.toNat, 0]
def k0_off490 (v1750 : BitVec 32) : Fin 2 → Nat :=
  let c8_i32_761 : BitVec 32 := 8#32
  let v1751 : BitVec 32 := Scalar.muli v1750 c8_i32_761
  let v1752 : BitVec 32 := v1751
  let c0_i32_764 : BitVec 32 := 0#32
  ![v1752.toNat, 0]

def k0_chk123 (i : grid0.Coords) (v0 : BitVec 32) (v28 : BitVec 32) (v1750 : BitVec 32) : Prop :=
  (∀ (k0_h1 : k0_cond1 i v0 = 1#1), ∀ (k0_h4 : k0_cond4 i v28 = 1#1), 8 ∣ (k0_mult243 v1750).toNat) ∧
  (∀ (k0_h1 : k0_cond1 i v0 = 1#1), ∀ (k0_h4 : k0_cond4 i v28 = 1#1), ∀ a, (k0_off490 v1750) a + S8x128.size a ≤ S262144x128.size a)
theorem k0_mult243_dvd : ∀ (i : grid0.Coords) (v0 : BitVec 32) (v28 : BitVec 32) (v1750 : BitVec 32) (k0_hw123 : k0_chk123 i v0 v28 v1750), ∀ (k0_h1 : k0_cond1 i v0 = 1#1), ∀ (k0_h4 : k0_cond4 i v28 = 1#1), 8 ∣ (k0_mult243 v1750).toNat := fun i v0 v28 v1750 k0_hw123 k0_h1 k0_h4 => k0_hw123.1 k0_h1 k0_h4
theorem k0_off490_inb : ∀ (i : grid0.Coords) (v0 : BitVec 32) (v28 : BitVec 32) (v1750 : BitVec 32) (k0_hw123 : k0_chk123 i v0 v28 v1750), ∀ (k0_h1 : k0_cond1 i v0 = 1#1), ∀ (k0_h4 : k0_cond4 i v28 = 1#1), ∀ a, (k0_off490 v1750) a + S8x128.size a ≤ S262144x128.size a := fun i v0 v28 v1750 k0_hw123 k0_h1 k0_h4 => k0_hw123.2 k0_h1 k0_h4

def k0_off491 (i : grid0.Coords) : Fin 1 → Nat :=
  let arg1 : BitVec 32 := BitVec.ofNat 32 (i 1).val
  let c256_i32_765 : BitVec 32 := 256#32
  let v1760 : BitVec 32 := Scalar.muli arg1 c256_i32_765
  let c121_i32 : BitVec 32 := 121#32
  let v1761 : BitVec 32 := Scalar.addi v1760 c121_i32
  let v1763 : Index := Scalar.indexCast v1761
  ![v1763.toNat]
def k0_mult245 (v1764 : BitVec 32) : BitVec 32 :=
  let c8_i32_767 : BitVec 32 := 8#32
  let v1765 : BitVec 32 := Scalar.muli v1764 c8_i32_767
  v1765

def k0_mult246 (i : grid0.Coords) : BitVec 32 :=
  let arg1 : BitVec 32 := BitVec.ofNat 32 (i 1).val
  let c256_i32_765 : BitVec 32 := 256#32
  let v1760 : BitVec 32 := Scalar.muli arg1 c256_i32_765
  let c121_i32 : BitVec 32 := 121#32
  let v1761 : BitVec 32 := Scalar.addi v1760 c121_i32
  let c8_i32_768 : BitVec 32 := 8#32
  let v1767 : BitVec 32 := Scalar.muli v1761 c8_i32_768
  v1767
def k0_off492 (i : grid0.Coords) : Fin 1 → Nat :=
  let c1_i32_766 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1762 : BitVec 32 := Scalar.subi c1_i32_766 v11
  ![v1762.toNat]
def k0_off493 (i : grid0.Coords) : Fin 3 → Nat :=
  let c1_i32_766 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1762 : BitVec 32 := Scalar.subi c1_i32_766 v11
  let arg1 : BitVec 32 := BitVec.ofNat 32 (i 1).val
  let c256_i32_765 : BitVec 32 := 256#32
  let v1760 : BitVec 32 := Scalar.muli arg1 c256_i32_765
  let c121_i32 : BitVec 32 := 121#32
  let v1761 : BitVec 32 := Scalar.addi v1760 c121_i32
  let c8_i32_768 : BitVec 32 := 8#32
  let v1767 : BitVec 32 := Scalar.muli v1761 c8_i32_768
  let v1768 : BitVec 32 := v1767
  let c0_i32_769 : BitVec 32 := 0#32
  ![v1762.toNat, v1768.toNat, 0]
def k0_off494 (v1764 : BitVec 32) : Fin 2 → Nat :=
  let c8_i32_767 : BitVec 32 := 8#32
  let v1765 : BitVec 32 := Scalar.muli v1764 c8_i32_767
  let v1766 : BitVec 32 := v1765
  let c0_i32_770 : BitVec 32 := 0#32
  ![v1766.toNat, 0]

def k0_chk124 (i : grid0.Coords) (v0 : BitVec 32) (v28 : BitVec 32) (v1764 : BitVec 32) : Prop :=
  (∀ (k0_h1 : k0_cond1 i v0 = 1#1), ∀ (k0_h4 : k0_cond4 i v28 = 1#1), 8 ∣ (k0_mult245 v1764).toNat) ∧
  (∀ (k0_h1 : k0_cond1 i v0 = 1#1), ∀ (k0_h4 : k0_cond4 i v28 = 1#1), ∀ a, (k0_off494 v1764) a + S8x128.size a ≤ S262144x128.size a)
theorem k0_mult245_dvd : ∀ (i : grid0.Coords) (v0 : BitVec 32) (v28 : BitVec 32) (v1764 : BitVec 32) (k0_hw124 : k0_chk124 i v0 v28 v1764), ∀ (k0_h1 : k0_cond1 i v0 = 1#1), ∀ (k0_h4 : k0_cond4 i v28 = 1#1), 8 ∣ (k0_mult245 v1764).toNat := fun i v0 v28 v1764 k0_hw124 k0_h1 k0_h4 => k0_hw124.1 k0_h1 k0_h4
theorem k0_off494_inb : ∀ (i : grid0.Coords) (v0 : BitVec 32) (v28 : BitVec 32) (v1764 : BitVec 32) (k0_hw124 : k0_chk124 i v0 v28 v1764), ∀ (k0_h1 : k0_cond1 i v0 = 1#1), ∀ (k0_h4 : k0_cond4 i v28 = 1#1), ∀ a, (k0_off494 v1764) a + S8x128.size a ≤ S262144x128.size a := fun i v0 v28 v1764 k0_hw124 k0_h1 k0_h4 => k0_hw124.2 k0_h1 k0_h4

def k0_off495 (i : grid0.Coords) : Fin 1 → Nat :=
  let arg1 : BitVec 32 := BitVec.ofNat 32 (i 1).val
  let c256_i32_771 : BitVec 32 := 256#32
  let v1774 : BitVec 32 := Scalar.muli arg1 c256_i32_771
  let c122_i32 : BitVec 32 := 122#32
  let v1775 : BitVec 32 := Scalar.addi v1774 c122_i32
  let v1777 : Index := Scalar.indexCast v1775
  ![v1777.toNat]
def k0_mult247 (v1778 : BitVec 32) : BitVec 32 :=
  let c8_i32_773 : BitVec 32 := 8#32
  let v1779 : BitVec 32 := Scalar.muli v1778 c8_i32_773
  v1779

def k0_mult248 (i : grid0.Coords) : BitVec 32 :=
  let arg1 : BitVec 32 := BitVec.ofNat 32 (i 1).val
  let c256_i32_771 : BitVec 32 := 256#32
  let v1774 : BitVec 32 := Scalar.muli arg1 c256_i32_771
  let c122_i32 : BitVec 32 := 122#32
  let v1775 : BitVec 32 := Scalar.addi v1774 c122_i32
  let c8_i32_774 : BitVec 32 := 8#32
  let v1781 : BitVec 32 := Scalar.muli v1775 c8_i32_774
  v1781
def k0_off496 (i : grid0.Coords) : Fin 1 → Nat :=
  let c1_i32_772 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1776 : BitVec 32 := Scalar.subi c1_i32_772 v11
  ![v1776.toNat]
def k0_off497 (i : grid0.Coords) : Fin 3 → Nat :=
  let c1_i32_772 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1776 : BitVec 32 := Scalar.subi c1_i32_772 v11
  let arg1 : BitVec 32 := BitVec.ofNat 32 (i 1).val
  let c256_i32_771 : BitVec 32 := 256#32
  let v1774 : BitVec 32 := Scalar.muli arg1 c256_i32_771
  let c122_i32 : BitVec 32 := 122#32
  let v1775 : BitVec 32 := Scalar.addi v1774 c122_i32
  let c8_i32_774 : BitVec 32 := 8#32
  let v1781 : BitVec 32 := Scalar.muli v1775 c8_i32_774
  let v1782 : BitVec 32 := v1781
  let c0_i32_775 : BitVec 32 := 0#32
  ![v1776.toNat, v1782.toNat, 0]
def k0_off498 (v1778 : BitVec 32) : Fin 2 → Nat :=
  let c8_i32_773 : BitVec 32 := 8#32
  let v1779 : BitVec 32 := Scalar.muli v1778 c8_i32_773
  let v1780 : BitVec 32 := v1779
  let c0_i32_776 : BitVec 32 := 0#32
  ![v1780.toNat, 0]

def k0_chk125 (i : grid0.Coords) (v0 : BitVec 32) (v28 : BitVec 32) (v1778 : BitVec 32) : Prop :=
  (∀ (k0_h1 : k0_cond1 i v0 = 1#1), ∀ (k0_h4 : k0_cond4 i v28 = 1#1), 8 ∣ (k0_mult247 v1778).toNat) ∧
  (∀ (k0_h1 : k0_cond1 i v0 = 1#1), ∀ (k0_h4 : k0_cond4 i v28 = 1#1), ∀ a, (k0_off498 v1778) a + S8x128.size a ≤ S262144x128.size a)
theorem k0_mult247_dvd : ∀ (i : grid0.Coords) (v0 : BitVec 32) (v28 : BitVec 32) (v1778 : BitVec 32) (k0_hw125 : k0_chk125 i v0 v28 v1778), ∀ (k0_h1 : k0_cond1 i v0 = 1#1), ∀ (k0_h4 : k0_cond4 i v28 = 1#1), 8 ∣ (k0_mult247 v1778).toNat := fun i v0 v28 v1778 k0_hw125 k0_h1 k0_h4 => k0_hw125.1 k0_h1 k0_h4
theorem k0_off498_inb : ∀ (i : grid0.Coords) (v0 : BitVec 32) (v28 : BitVec 32) (v1778 : BitVec 32) (k0_hw125 : k0_chk125 i v0 v28 v1778), ∀ (k0_h1 : k0_cond1 i v0 = 1#1), ∀ (k0_h4 : k0_cond4 i v28 = 1#1), ∀ a, (k0_off498 v1778) a + S8x128.size a ≤ S262144x128.size a := fun i v0 v28 v1778 k0_hw125 k0_h1 k0_h4 => k0_hw125.2 k0_h1 k0_h4

def k0_off499 (i : grid0.Coords) : Fin 1 → Nat :=
  let arg1 : BitVec 32 := BitVec.ofNat 32 (i 1).val
  let c256_i32_777 : BitVec 32 := 256#32
  let v1788 : BitVec 32 := Scalar.muli arg1 c256_i32_777
  let c123_i32 : BitVec 32 := 123#32
  let v1789 : BitVec 32 := Scalar.addi v1788 c123_i32
  let v1791 : Index := Scalar.indexCast v1789
  ![v1791.toNat]
def k0_mult249 (v1792 : BitVec 32) : BitVec 32 :=
  let c8_i32_779 : BitVec 32 := 8#32
  let v1793 : BitVec 32 := Scalar.muli v1792 c8_i32_779
  v1793

def k0_mult250 (i : grid0.Coords) : BitVec 32 :=
  let arg1 : BitVec 32 := BitVec.ofNat 32 (i 1).val
  let c256_i32_777 : BitVec 32 := 256#32
  let v1788 : BitVec 32 := Scalar.muli arg1 c256_i32_777
  let c123_i32 : BitVec 32 := 123#32
  let v1789 : BitVec 32 := Scalar.addi v1788 c123_i32
  let c8_i32_780 : BitVec 32 := 8#32
  let v1795 : BitVec 32 := Scalar.muli v1789 c8_i32_780
  v1795
def k0_off500 (i : grid0.Coords) : Fin 1 → Nat :=
  let c1_i32_778 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1790 : BitVec 32 := Scalar.subi c1_i32_778 v11
  ![v1790.toNat]
def k0_off501 (i : grid0.Coords) : Fin 3 → Nat :=
  let c1_i32_778 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1790 : BitVec 32 := Scalar.subi c1_i32_778 v11
  let arg1 : BitVec 32 := BitVec.ofNat 32 (i 1).val
  let c256_i32_777 : BitVec 32 := 256#32
  let v1788 : BitVec 32 := Scalar.muli arg1 c256_i32_777
  let c123_i32 : BitVec 32 := 123#32
  let v1789 : BitVec 32 := Scalar.addi v1788 c123_i32
  let c8_i32_780 : BitVec 32 := 8#32
  let v1795 : BitVec 32 := Scalar.muli v1789 c8_i32_780
  let v1796 : BitVec 32 := v1795
  let c0_i32_781 : BitVec 32 := 0#32
  ![v1790.toNat, v1796.toNat, 0]
def k0_off502 (v1792 : BitVec 32) : Fin 2 → Nat :=
  let c8_i32_779 : BitVec 32 := 8#32
  let v1793 : BitVec 32 := Scalar.muli v1792 c8_i32_779
  let v1794 : BitVec 32 := v1793
  let c0_i32_782 : BitVec 32 := 0#32
  ![v1794.toNat, 0]

def k0_chk126 (i : grid0.Coords) (v0 : BitVec 32) (v28 : BitVec 32) (v1792 : BitVec 32) : Prop :=
  (∀ (k0_h1 : k0_cond1 i v0 = 1#1), ∀ (k0_h4 : k0_cond4 i v28 = 1#1), 8 ∣ (k0_mult249 v1792).toNat) ∧
  (∀ (k0_h1 : k0_cond1 i v0 = 1#1), ∀ (k0_h4 : k0_cond4 i v28 = 1#1), ∀ a, (k0_off502 v1792) a + S8x128.size a ≤ S262144x128.size a)
theorem k0_mult249_dvd : ∀ (i : grid0.Coords) (v0 : BitVec 32) (v28 : BitVec 32) (v1792 : BitVec 32) (k0_hw126 : k0_chk126 i v0 v28 v1792), ∀ (k0_h1 : k0_cond1 i v0 = 1#1), ∀ (k0_h4 : k0_cond4 i v28 = 1#1), 8 ∣ (k0_mult249 v1792).toNat := fun i v0 v28 v1792 k0_hw126 k0_h1 k0_h4 => k0_hw126.1 k0_h1 k0_h4
theorem k0_off502_inb : ∀ (i : grid0.Coords) (v0 : BitVec 32) (v28 : BitVec 32) (v1792 : BitVec 32) (k0_hw126 : k0_chk126 i v0 v28 v1792), ∀ (k0_h1 : k0_cond1 i v0 = 1#1), ∀ (k0_h4 : k0_cond4 i v28 = 1#1), ∀ a, (k0_off502 v1792) a + S8x128.size a ≤ S262144x128.size a := fun i v0 v28 v1792 k0_hw126 k0_h1 k0_h4 => k0_hw126.2 k0_h1 k0_h4

def k0_off503 (i : grid0.Coords) : Fin 1 → Nat :=
  let arg1 : BitVec 32 := BitVec.ofNat 32 (i 1).val
  let c256_i32_783 : BitVec 32 := 256#32
  let v1802 : BitVec 32 := Scalar.muli arg1 c256_i32_783
  let c124_i32 : BitVec 32 := 124#32
  let v1803 : BitVec 32 := Scalar.addi v1802 c124_i32
  let v1805 : Index := Scalar.indexCast v1803
  ![v1805.toNat]
def k0_mult251 (v1806 : BitVec 32) : BitVec 32 :=
  let c8_i32_785 : BitVec 32 := 8#32
  let v1807 : BitVec 32 := Scalar.muli v1806 c8_i32_785
  v1807

def k0_mult252 (i : grid0.Coords) : BitVec 32 :=
  let arg1 : BitVec 32 := BitVec.ofNat 32 (i 1).val
  let c256_i32_783 : BitVec 32 := 256#32
  let v1802 : BitVec 32 := Scalar.muli arg1 c256_i32_783
  let c124_i32 : BitVec 32 := 124#32
  let v1803 : BitVec 32 := Scalar.addi v1802 c124_i32
  let c8_i32_786 : BitVec 32 := 8#32
  let v1809 : BitVec 32 := Scalar.muli v1803 c8_i32_786
  v1809
def k0_off504 (i : grid0.Coords) : Fin 1 → Nat :=
  let c1_i32_784 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1804 : BitVec 32 := Scalar.subi c1_i32_784 v11
  ![v1804.toNat]
def k0_off505 (i : grid0.Coords) : Fin 3 → Nat :=
  let c1_i32_784 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1804 : BitVec 32 := Scalar.subi c1_i32_784 v11
  let arg1 : BitVec 32 := BitVec.ofNat 32 (i 1).val
  let c256_i32_783 : BitVec 32 := 256#32
  let v1802 : BitVec 32 := Scalar.muli arg1 c256_i32_783
  let c124_i32 : BitVec 32 := 124#32
  let v1803 : BitVec 32 := Scalar.addi v1802 c124_i32
  let c8_i32_786 : BitVec 32 := 8#32
  let v1809 : BitVec 32 := Scalar.muli v1803 c8_i32_786
  let v1810 : BitVec 32 := v1809
  let c0_i32_787 : BitVec 32 := 0#32
  ![v1804.toNat, v1810.toNat, 0]
def k0_off506 (v1806 : BitVec 32) : Fin 2 → Nat :=
  let c8_i32_785 : BitVec 32 := 8#32
  let v1807 : BitVec 32 := Scalar.muli v1806 c8_i32_785
  let v1808 : BitVec 32 := v1807
  let c0_i32_788 : BitVec 32 := 0#32
  ![v1808.toNat, 0]

def k0_chk127 (i : grid0.Coords) (v0 : BitVec 32) (v28 : BitVec 32) (v1806 : BitVec 32) : Prop :=
  (∀ (k0_h1 : k0_cond1 i v0 = 1#1), ∀ (k0_h4 : k0_cond4 i v28 = 1#1), 8 ∣ (k0_mult251 v1806).toNat) ∧
  (∀ (k0_h1 : k0_cond1 i v0 = 1#1), ∀ (k0_h4 : k0_cond4 i v28 = 1#1), ∀ a, (k0_off506 v1806) a + S8x128.size a ≤ S262144x128.size a)
theorem k0_mult251_dvd : ∀ (i : grid0.Coords) (v0 : BitVec 32) (v28 : BitVec 32) (v1806 : BitVec 32) (k0_hw127 : k0_chk127 i v0 v28 v1806), ∀ (k0_h1 : k0_cond1 i v0 = 1#1), ∀ (k0_h4 : k0_cond4 i v28 = 1#1), 8 ∣ (k0_mult251 v1806).toNat := fun i v0 v28 v1806 k0_hw127 k0_h1 k0_h4 => k0_hw127.1 k0_h1 k0_h4
theorem k0_off506_inb : ∀ (i : grid0.Coords) (v0 : BitVec 32) (v28 : BitVec 32) (v1806 : BitVec 32) (k0_hw127 : k0_chk127 i v0 v28 v1806), ∀ (k0_h1 : k0_cond1 i v0 = 1#1), ∀ (k0_h4 : k0_cond4 i v28 = 1#1), ∀ a, (k0_off506 v1806) a + S8x128.size a ≤ S262144x128.size a := fun i v0 v28 v1806 k0_hw127 k0_h1 k0_h4 => k0_hw127.2 k0_h1 k0_h4

def k0_off507 (i : grid0.Coords) : Fin 1 → Nat :=
  let arg1 : BitVec 32 := BitVec.ofNat 32 (i 1).val
  let c256_i32_789 : BitVec 32 := 256#32
  let v1816 : BitVec 32 := Scalar.muli arg1 c256_i32_789
  let c125_i32 : BitVec 32 := 125#32
  let v1817 : BitVec 32 := Scalar.addi v1816 c125_i32
  let v1819 : Index := Scalar.indexCast v1817
  ![v1819.toNat]
def k0_mult253 (v1820 : BitVec 32) : BitVec 32 :=
  let c8_i32_791 : BitVec 32 := 8#32
  let v1821 : BitVec 32 := Scalar.muli v1820 c8_i32_791
  v1821

def k0_mult254 (i : grid0.Coords) : BitVec 32 :=
  let arg1 : BitVec 32 := BitVec.ofNat 32 (i 1).val
  let c256_i32_789 : BitVec 32 := 256#32
  let v1816 : BitVec 32 := Scalar.muli arg1 c256_i32_789
  let c125_i32 : BitVec 32 := 125#32
  let v1817 : BitVec 32 := Scalar.addi v1816 c125_i32
  let c8_i32_792 : BitVec 32 := 8#32
  let v1823 : BitVec 32 := Scalar.muli v1817 c8_i32_792
  v1823
def k0_off508 (i : grid0.Coords) : Fin 1 → Nat :=
  let c1_i32_790 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1818 : BitVec 32 := Scalar.subi c1_i32_790 v11
  ![v1818.toNat]
def k0_off509 (i : grid0.Coords) : Fin 3 → Nat :=
  let c1_i32_790 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1818 : BitVec 32 := Scalar.subi c1_i32_790 v11
  let arg1 : BitVec 32 := BitVec.ofNat 32 (i 1).val
  let c256_i32_789 : BitVec 32 := 256#32
  let v1816 : BitVec 32 := Scalar.muli arg1 c256_i32_789
  let c125_i32 : BitVec 32 := 125#32
  let v1817 : BitVec 32 := Scalar.addi v1816 c125_i32
  let c8_i32_792 : BitVec 32 := 8#32
  let v1823 : BitVec 32 := Scalar.muli v1817 c8_i32_792
  let v1824 : BitVec 32 := v1823
  let c0_i32_793 : BitVec 32 := 0#32
  ![v1818.toNat, v1824.toNat, 0]
def k0_off510 (v1820 : BitVec 32) : Fin 2 → Nat :=
  let c8_i32_791 : BitVec 32 := 8#32
  let v1821 : BitVec 32 := Scalar.muli v1820 c8_i32_791
  let v1822 : BitVec 32 := v1821
  let c0_i32_794 : BitVec 32 := 0#32
  ![v1822.toNat, 0]

def k0_chk128 (i : grid0.Coords) (v0 : BitVec 32) (v28 : BitVec 32) (v1820 : BitVec 32) : Prop :=
  (∀ (k0_h1 : k0_cond1 i v0 = 1#1), ∀ (k0_h4 : k0_cond4 i v28 = 1#1), 8 ∣ (k0_mult253 v1820).toNat) ∧
  (∀ (k0_h1 : k0_cond1 i v0 = 1#1), ∀ (k0_h4 : k0_cond4 i v28 = 1#1), ∀ a, (k0_off510 v1820) a + S8x128.size a ≤ S262144x128.size a)
theorem k0_mult253_dvd : ∀ (i : grid0.Coords) (v0 : BitVec 32) (v28 : BitVec 32) (v1820 : BitVec 32) (k0_hw128 : k0_chk128 i v0 v28 v1820), ∀ (k0_h1 : k0_cond1 i v0 = 1#1), ∀ (k0_h4 : k0_cond4 i v28 = 1#1), 8 ∣ (k0_mult253 v1820).toNat := fun i v0 v28 v1820 k0_hw128 k0_h1 k0_h4 => k0_hw128.1 k0_h1 k0_h4
theorem k0_off510_inb : ∀ (i : grid0.Coords) (v0 : BitVec 32) (v28 : BitVec 32) (v1820 : BitVec 32) (k0_hw128 : k0_chk128 i v0 v28 v1820), ∀ (k0_h1 : k0_cond1 i v0 = 1#1), ∀ (k0_h4 : k0_cond4 i v28 = 1#1), ∀ a, (k0_off510 v1820) a + S8x128.size a ≤ S262144x128.size a := fun i v0 v28 v1820 k0_hw128 k0_h1 k0_h4 => k0_hw128.2 k0_h1 k0_h4

def k0_off511 (i : grid0.Coords) : Fin 1 → Nat :=
  let arg1 : BitVec 32 := BitVec.ofNat 32 (i 1).val
  let c256_i32_795 : BitVec 32 := 256#32
  let v1830 : BitVec 32 := Scalar.muli arg1 c256_i32_795
  let c126_i32 : BitVec 32 := 126#32
  let v1831 : BitVec 32 := Scalar.addi v1830 c126_i32
  let v1833 : Index := Scalar.indexCast v1831
  ![v1833.toNat]
def k0_mult255 (v1834 : BitVec 32) : BitVec 32 :=
  let c8_i32_797 : BitVec 32 := 8#32
  let v1835 : BitVec 32 := Scalar.muli v1834 c8_i32_797
  v1835

def k0_mult256 (i : grid0.Coords) : BitVec 32 :=
  let arg1 : BitVec 32 := BitVec.ofNat 32 (i 1).val
  let c256_i32_795 : BitVec 32 := 256#32
  let v1830 : BitVec 32 := Scalar.muli arg1 c256_i32_795
  let c126_i32 : BitVec 32 := 126#32
  let v1831 : BitVec 32 := Scalar.addi v1830 c126_i32
  let c8_i32_798 : BitVec 32 := 8#32
  let v1837 : BitVec 32 := Scalar.muli v1831 c8_i32_798
  v1837
def k0_off512 (i : grid0.Coords) : Fin 1 → Nat :=
  let c1_i32_796 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1832 : BitVec 32 := Scalar.subi c1_i32_796 v11
  ![v1832.toNat]
def k0_off513 (i : grid0.Coords) : Fin 3 → Nat :=
  let c1_i32_796 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1832 : BitVec 32 := Scalar.subi c1_i32_796 v11
  let arg1 : BitVec 32 := BitVec.ofNat 32 (i 1).val
  let c256_i32_795 : BitVec 32 := 256#32
  let v1830 : BitVec 32 := Scalar.muli arg1 c256_i32_795
  let c126_i32 : BitVec 32 := 126#32
  let v1831 : BitVec 32 := Scalar.addi v1830 c126_i32
  let c8_i32_798 : BitVec 32 := 8#32
  let v1837 : BitVec 32 := Scalar.muli v1831 c8_i32_798
  let v1838 : BitVec 32 := v1837
  let c0_i32_799 : BitVec 32 := 0#32
  ![v1832.toNat, v1838.toNat, 0]
def k0_off514 (v1834 : BitVec 32) : Fin 2 → Nat :=
  let c8_i32_797 : BitVec 32 := 8#32
  let v1835 : BitVec 32 := Scalar.muli v1834 c8_i32_797
  let v1836 : BitVec 32 := v1835
  let c0_i32_800 : BitVec 32 := 0#32
  ![v1836.toNat, 0]

def k0_chk129 (i : grid0.Coords) (v0 : BitVec 32) (v28 : BitVec 32) (v1834 : BitVec 32) : Prop :=
  (∀ (k0_h1 : k0_cond1 i v0 = 1#1), ∀ (k0_h4 : k0_cond4 i v28 = 1#1), 8 ∣ (k0_mult255 v1834).toNat) ∧
  (∀ (k0_h1 : k0_cond1 i v0 = 1#1), ∀ (k0_h4 : k0_cond4 i v28 = 1#1), ∀ a, (k0_off514 v1834) a + S8x128.size a ≤ S262144x128.size a)
theorem k0_mult255_dvd : ∀ (i : grid0.Coords) (v0 : BitVec 32) (v28 : BitVec 32) (v1834 : BitVec 32) (k0_hw129 : k0_chk129 i v0 v28 v1834), ∀ (k0_h1 : k0_cond1 i v0 = 1#1), ∀ (k0_h4 : k0_cond4 i v28 = 1#1), 8 ∣ (k0_mult255 v1834).toNat := fun i v0 v28 v1834 k0_hw129 k0_h1 k0_h4 => k0_hw129.1 k0_h1 k0_h4
theorem k0_off514_inb : ∀ (i : grid0.Coords) (v0 : BitVec 32) (v28 : BitVec 32) (v1834 : BitVec 32) (k0_hw129 : k0_chk129 i v0 v28 v1834), ∀ (k0_h1 : k0_cond1 i v0 = 1#1), ∀ (k0_h4 : k0_cond4 i v28 = 1#1), ∀ a, (k0_off514 v1834) a + S8x128.size a ≤ S262144x128.size a := fun i v0 v28 v1834 k0_hw129 k0_h1 k0_h4 => k0_hw129.2 k0_h1 k0_h4

def k0_off515 (i : grid0.Coords) : Fin 1 → Nat :=
  let arg1 : BitVec 32 := BitVec.ofNat 32 (i 1).val
  let c256_i32_801 : BitVec 32 := 256#32
  let v1844 : BitVec 32 := Scalar.muli arg1 c256_i32_801
  let c127_i32 : BitVec 32 := 127#32
  let v1845 : BitVec 32 := Scalar.addi v1844 c127_i32
  let v1847 : Index := Scalar.indexCast v1845
  ![v1847.toNat]
def k0_mult257 (v1848 : BitVec 32) : BitVec 32 :=
  let c8_i32_803 : BitVec 32 := 8#32
  let v1849 : BitVec 32 := Scalar.muli v1848 c8_i32_803
  v1849

def k0_mult258 (i : grid0.Coords) : BitVec 32 :=
  let arg1 : BitVec 32 := BitVec.ofNat 32 (i 1).val
  let c256_i32_801 : BitVec 32 := 256#32
  let v1844 : BitVec 32 := Scalar.muli arg1 c256_i32_801
  let c127_i32 : BitVec 32 := 127#32
  let v1845 : BitVec 32 := Scalar.addi v1844 c127_i32
  let c8_i32_804 : BitVec 32 := 8#32
  let v1851 : BitVec 32 := Scalar.muli v1845 c8_i32_804
  v1851
def k0_off516 (i : grid0.Coords) : Fin 1 → Nat :=
  let c1_i32_802 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1846 : BitVec 32 := Scalar.subi c1_i32_802 v11
  ![v1846.toNat]
def k0_off517 (i : grid0.Coords) : Fin 3 → Nat :=
  let c1_i32_802 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1846 : BitVec 32 := Scalar.subi c1_i32_802 v11
  let arg1 : BitVec 32 := BitVec.ofNat 32 (i 1).val
  let c256_i32_801 : BitVec 32 := 256#32
  let v1844 : BitVec 32 := Scalar.muli arg1 c256_i32_801
  let c127_i32 : BitVec 32 := 127#32
  let v1845 : BitVec 32 := Scalar.addi v1844 c127_i32
  let c8_i32_804 : BitVec 32 := 8#32
  let v1851 : BitVec 32 := Scalar.muli v1845 c8_i32_804
  let v1852 : BitVec 32 := v1851
  let c0_i32_805 : BitVec 32 := 0#32
  ![v1846.toNat, v1852.toNat, 0]
def k0_off518 (v1848 : BitVec 32) : Fin 2 → Nat :=
  let c8_i32_803 : BitVec 32 := 8#32
  let v1849 : BitVec 32 := Scalar.muli v1848 c8_i32_803
  let v1850 : BitVec 32 := v1849
  let c0_i32_806 : BitVec 32 := 0#32
  ![v1850.toNat, 0]

def k0_chk130 (i : grid0.Coords) (v0 : BitVec 32) (v28 : BitVec 32) (v1848 : BitVec 32) : Prop :=
  (∀ (k0_h1 : k0_cond1 i v0 = 1#1), ∀ (k0_h4 : k0_cond4 i v28 = 1#1), 8 ∣ (k0_mult257 v1848).toNat) ∧
  (∀ (k0_h1 : k0_cond1 i v0 = 1#1), ∀ (k0_h4 : k0_cond4 i v28 = 1#1), ∀ a, (k0_off518 v1848) a + S8x128.size a ≤ S262144x128.size a)
theorem k0_mult257_dvd : ∀ (i : grid0.Coords) (v0 : BitVec 32) (v28 : BitVec 32) (v1848 : BitVec 32) (k0_hw130 : k0_chk130 i v0 v28 v1848), ∀ (k0_h1 : k0_cond1 i v0 = 1#1), ∀ (k0_h4 : k0_cond4 i v28 = 1#1), 8 ∣ (k0_mult257 v1848).toNat := fun i v0 v28 v1848 k0_hw130 k0_h1 k0_h4 => k0_hw130.1 k0_h1 k0_h4
theorem k0_off518_inb : ∀ (i : grid0.Coords) (v0 : BitVec 32) (v28 : BitVec 32) (v1848 : BitVec 32) (k0_hw130 : k0_chk130 i v0 v28 v1848), ∀ (k0_h1 : k0_cond1 i v0 = 1#1), ∀ (k0_h4 : k0_cond4 i v28 = 1#1), ∀ a, (k0_off518 v1848) a + S8x128.size a ≤ S262144x128.size a := fun i v0 v28 v1848 k0_hw130 k0_h1 k0_h4 => k0_hw130.2 k0_h1 k0_h4

def k0_off519 (i : grid0.Coords) : Fin 1 → Nat :=
  let arg1 : BitVec 32 := BitVec.ofNat 32 (i 1).val
  let c256_i32_807 : BitVec 32 := 256#32
  let v1858 : BitVec 32 := Scalar.muli arg1 c256_i32_807
  let c128_i32 : BitVec 32 := 128#32
  let v1859 : BitVec 32 := Scalar.addi v1858 c128_i32
  let v1861 : Index := Scalar.indexCast v1859
  ![v1861.toNat]
def k0_mult259 (v1862 : BitVec 32) : BitVec 32 :=
  let c8_i32_809 : BitVec 32 := 8#32
  let v1863 : BitVec 32 := Scalar.muli v1862 c8_i32_809
  v1863

def k0_mult260 (i : grid0.Coords) : BitVec 32 :=
  let arg1 : BitVec 32 := BitVec.ofNat 32 (i 1).val
  let c256_i32_807 : BitVec 32 := 256#32
  let v1858 : BitVec 32 := Scalar.muli arg1 c256_i32_807
  let c128_i32 : BitVec 32 := 128#32
  let v1859 : BitVec 32 := Scalar.addi v1858 c128_i32
  let c8_i32_810 : BitVec 32 := 8#32
  let v1865 : BitVec 32 := Scalar.muli v1859 c8_i32_810
  v1865
def k0_off520 (i : grid0.Coords) : Fin 1 → Nat :=
  let c1_i32_808 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1860 : BitVec 32 := Scalar.subi c1_i32_808 v11
  ![v1860.toNat]
def k0_off521 (i : grid0.Coords) : Fin 3 → Nat :=
  let c1_i32_808 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1860 : BitVec 32 := Scalar.subi c1_i32_808 v11
  let arg1 : BitVec 32 := BitVec.ofNat 32 (i 1).val
  let c256_i32_807 : BitVec 32 := 256#32
  let v1858 : BitVec 32 := Scalar.muli arg1 c256_i32_807
  let c128_i32 : BitVec 32 := 128#32
  let v1859 : BitVec 32 := Scalar.addi v1858 c128_i32
  let c8_i32_810 : BitVec 32 := 8#32
  let v1865 : BitVec 32 := Scalar.muli v1859 c8_i32_810
  let v1866 : BitVec 32 := v1865
  let c0_i32_811 : BitVec 32 := 0#32
  ![v1860.toNat, v1866.toNat, 0]
def k0_off522 (v1862 : BitVec 32) : Fin 2 → Nat :=
  let c8_i32_809 : BitVec 32 := 8#32
  let v1863 : BitVec 32 := Scalar.muli v1862 c8_i32_809
  let v1864 : BitVec 32 := v1863
  let c0_i32_812 : BitVec 32 := 0#32
  ![v1864.toNat, 0]

def k0_chk131 (i : grid0.Coords) (v0 : BitVec 32) (v28 : BitVec 32) (v1862 : BitVec 32) : Prop :=
  (∀ (k0_h1 : k0_cond1 i v0 = 1#1), ∀ (k0_h4 : k0_cond4 i v28 = 1#1), 8 ∣ (k0_mult259 v1862).toNat) ∧
  (∀ (k0_h1 : k0_cond1 i v0 = 1#1), ∀ (k0_h4 : k0_cond4 i v28 = 1#1), ∀ a, (k0_off522 v1862) a + S8x128.size a ≤ S262144x128.size a)
theorem k0_mult259_dvd : ∀ (i : grid0.Coords) (v0 : BitVec 32) (v28 : BitVec 32) (v1862 : BitVec 32) (k0_hw131 : k0_chk131 i v0 v28 v1862), ∀ (k0_h1 : k0_cond1 i v0 = 1#1), ∀ (k0_h4 : k0_cond4 i v28 = 1#1), 8 ∣ (k0_mult259 v1862).toNat := fun i v0 v28 v1862 k0_hw131 k0_h1 k0_h4 => k0_hw131.1 k0_h1 k0_h4
theorem k0_off522_inb : ∀ (i : grid0.Coords) (v0 : BitVec 32) (v28 : BitVec 32) (v1862 : BitVec 32) (k0_hw131 : k0_chk131 i v0 v28 v1862), ∀ (k0_h1 : k0_cond1 i v0 = 1#1), ∀ (k0_h4 : k0_cond4 i v28 = 1#1), ∀ a, (k0_off522 v1862) a + S8x128.size a ≤ S262144x128.size a := fun i v0 v28 v1862 k0_hw131 k0_h1 k0_h4 => k0_hw131.2 k0_h1 k0_h4

def k0_off523 (i : grid0.Coords) : Fin 1 → Nat :=
  let arg1 : BitVec 32 := BitVec.ofNat 32 (i 1).val
  let c256_i32_813 : BitVec 32 := 256#32
  let v1872 : BitVec 32 := Scalar.muli arg1 c256_i32_813
  let c129_i32 : BitVec 32 := 129#32
  let v1873 : BitVec 32 := Scalar.addi v1872 c129_i32
  let v1875 : Index := Scalar.indexCast v1873
  ![v1875.toNat]
def k0_mult261 (v1876 : BitVec 32) : BitVec 32 :=
  let c8_i32_815 : BitVec 32 := 8#32
  let v1877 : BitVec 32 := Scalar.muli v1876 c8_i32_815
  v1877

def k0_mult262 (i : grid0.Coords) : BitVec 32 :=
  let arg1 : BitVec 32 := BitVec.ofNat 32 (i 1).val
  let c256_i32_813 : BitVec 32 := 256#32
  let v1872 : BitVec 32 := Scalar.muli arg1 c256_i32_813
  let c129_i32 : BitVec 32 := 129#32
  let v1873 : BitVec 32 := Scalar.addi v1872 c129_i32
  let c8_i32_816 : BitVec 32 := 8#32
  let v1879 : BitVec 32 := Scalar.muli v1873 c8_i32_816
  v1879
def k0_off524 (i : grid0.Coords) : Fin 1 → Nat :=
  let c1_i32_814 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1874 : BitVec 32 := Scalar.subi c1_i32_814 v11
  ![v1874.toNat]
def k0_off525 (i : grid0.Coords) : Fin 3 → Nat :=
  let c1_i32_814 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1874 : BitVec 32 := Scalar.subi c1_i32_814 v11
  let arg1 : BitVec 32 := BitVec.ofNat 32 (i 1).val
  let c256_i32_813 : BitVec 32 := 256#32
  let v1872 : BitVec 32 := Scalar.muli arg1 c256_i32_813
  let c129_i32 : BitVec 32 := 129#32
  let v1873 : BitVec 32 := Scalar.addi v1872 c129_i32
  let c8_i32_816 : BitVec 32 := 8#32
  let v1879 : BitVec 32 := Scalar.muli v1873 c8_i32_816
  let v1880 : BitVec 32 := v1879
  let c0_i32_817 : BitVec 32 := 0#32
  ![v1874.toNat, v1880.toNat, 0]
def k0_off526 (v1876 : BitVec 32) : Fin 2 → Nat :=
  let c8_i32_815 : BitVec 32 := 8#32
  let v1877 : BitVec 32 := Scalar.muli v1876 c8_i32_815
  let v1878 : BitVec 32 := v1877
  let c0_i32_818 : BitVec 32 := 0#32
  ![v1878.toNat, 0]

def k0_chk132 (i : grid0.Coords) (v0 : BitVec 32) (v28 : BitVec 32) (v1876 : BitVec 32) : Prop :=
  (∀ (k0_h1 : k0_cond1 i v0 = 1#1), ∀ (k0_h4 : k0_cond4 i v28 = 1#1), 8 ∣ (k0_mult261 v1876).toNat) ∧
  (∀ (k0_h1 : k0_cond1 i v0 = 1#1), ∀ (k0_h4 : k0_cond4 i v28 = 1#1), ∀ a, (k0_off526 v1876) a + S8x128.size a ≤ S262144x128.size a)
theorem k0_mult261_dvd : ∀ (i : grid0.Coords) (v0 : BitVec 32) (v28 : BitVec 32) (v1876 : BitVec 32) (k0_hw132 : k0_chk132 i v0 v28 v1876), ∀ (k0_h1 : k0_cond1 i v0 = 1#1), ∀ (k0_h4 : k0_cond4 i v28 = 1#1), 8 ∣ (k0_mult261 v1876).toNat := fun i v0 v28 v1876 k0_hw132 k0_h1 k0_h4 => k0_hw132.1 k0_h1 k0_h4
theorem k0_off526_inb : ∀ (i : grid0.Coords) (v0 : BitVec 32) (v28 : BitVec 32) (v1876 : BitVec 32) (k0_hw132 : k0_chk132 i v0 v28 v1876), ∀ (k0_h1 : k0_cond1 i v0 = 1#1), ∀ (k0_h4 : k0_cond4 i v28 = 1#1), ∀ a, (k0_off526 v1876) a + S8x128.size a ≤ S262144x128.size a := fun i v0 v28 v1876 k0_hw132 k0_h1 k0_h4 => k0_hw132.2 k0_h1 k0_h4

def k0_off527 (i : grid0.Coords) : Fin 1 → Nat :=
  let arg1 : BitVec 32 := BitVec.ofNat 32 (i 1).val
  let c256_i32_819 : BitVec 32 := 256#32
  let v1886 : BitVec 32 := Scalar.muli arg1 c256_i32_819
  let c130_i32 : BitVec 32 := 130#32
  let v1887 : BitVec 32 := Scalar.addi v1886 c130_i32
  let v1889 : Index := Scalar.indexCast v1887
  ![v1889.toNat]
def k0_mult263 (v1890 : BitVec 32) : BitVec 32 :=
  let c8_i32_821 : BitVec 32 := 8#32
  let v1891 : BitVec 32 := Scalar.muli v1890 c8_i32_821
  v1891

def k0_mult264 (i : grid0.Coords) : BitVec 32 :=
  let arg1 : BitVec 32 := BitVec.ofNat 32 (i 1).val
  let c256_i32_819 : BitVec 32 := 256#32
  let v1886 : BitVec 32 := Scalar.muli arg1 c256_i32_819
  let c130_i32 : BitVec 32 := 130#32
  let v1887 : BitVec 32 := Scalar.addi v1886 c130_i32
  let c8_i32_822 : BitVec 32 := 8#32
  let v1893 : BitVec 32 := Scalar.muli v1887 c8_i32_822
  v1893
def k0_off528 (i : grid0.Coords) : Fin 1 → Nat :=
  let c1_i32_820 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1888 : BitVec 32 := Scalar.subi c1_i32_820 v11
  ![v1888.toNat]
def k0_off529 (i : grid0.Coords) : Fin 3 → Nat :=
  let c1_i32_820 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1888 : BitVec 32 := Scalar.subi c1_i32_820 v11
  let arg1 : BitVec 32 := BitVec.ofNat 32 (i 1).val
  let c256_i32_819 : BitVec 32 := 256#32
  let v1886 : BitVec 32 := Scalar.muli arg1 c256_i32_819
  let c130_i32 : BitVec 32 := 130#32
  let v1887 : BitVec 32 := Scalar.addi v1886 c130_i32
  let c8_i32_822 : BitVec 32 := 8#32
  let v1893 : BitVec 32 := Scalar.muli v1887 c8_i32_822
  let v1894 : BitVec 32 := v1893
  let c0_i32_823 : BitVec 32 := 0#32
  ![v1888.toNat, v1894.toNat, 0]
def k0_off530 (v1890 : BitVec 32) : Fin 2 → Nat :=
  let c8_i32_821 : BitVec 32 := 8#32
  let v1891 : BitVec 32 := Scalar.muli v1890 c8_i32_821
  let v1892 : BitVec 32 := v1891
  let c0_i32_824 : BitVec 32 := 0#32
  ![v1892.toNat, 0]

def k0_chk133 (i : grid0.Coords) (v0 : BitVec 32) (v28 : BitVec 32) (v1890 : BitVec 32) : Prop :=
  (∀ (k0_h1 : k0_cond1 i v0 = 1#1), ∀ (k0_h4 : k0_cond4 i v28 = 1#1), 8 ∣ (k0_mult263 v1890).toNat) ∧
  (∀ (k0_h1 : k0_cond1 i v0 = 1#1), ∀ (k0_h4 : k0_cond4 i v28 = 1#1), ∀ a, (k0_off530 v1890) a + S8x128.size a ≤ S262144x128.size a)
theorem k0_mult263_dvd : ∀ (i : grid0.Coords) (v0 : BitVec 32) (v28 : BitVec 32) (v1890 : BitVec 32) (k0_hw133 : k0_chk133 i v0 v28 v1890), ∀ (k0_h1 : k0_cond1 i v0 = 1#1), ∀ (k0_h4 : k0_cond4 i v28 = 1#1), 8 ∣ (k0_mult263 v1890).toNat := fun i v0 v28 v1890 k0_hw133 k0_h1 k0_h4 => k0_hw133.1 k0_h1 k0_h4
theorem k0_off530_inb : ∀ (i : grid0.Coords) (v0 : BitVec 32) (v28 : BitVec 32) (v1890 : BitVec 32) (k0_hw133 : k0_chk133 i v0 v28 v1890), ∀ (k0_h1 : k0_cond1 i v0 = 1#1), ∀ (k0_h4 : k0_cond4 i v28 = 1#1), ∀ a, (k0_off530 v1890) a + S8x128.size a ≤ S262144x128.size a := fun i v0 v28 v1890 k0_hw133 k0_h1 k0_h4 => k0_hw133.2 k0_h1 k0_h4

def k0_off531 (i : grid0.Coords) : Fin 1 → Nat :=
  let arg1 : BitVec 32 := BitVec.ofNat 32 (i 1).val
  let c256_i32_825 : BitVec 32 := 256#32
  let v1900 : BitVec 32 := Scalar.muli arg1 c256_i32_825
  let c131_i32 : BitVec 32 := 131#32
  let v1901 : BitVec 32 := Scalar.addi v1900 c131_i32
  let v1903 : Index := Scalar.indexCast v1901
  ![v1903.toNat]
def k0_mult265 (v1904 : BitVec 32) : BitVec 32 :=
  let c8_i32_827 : BitVec 32 := 8#32
  let v1905 : BitVec 32 := Scalar.muli v1904 c8_i32_827
  v1905

def k0_mult266 (i : grid0.Coords) : BitVec 32 :=
  let arg1 : BitVec 32 := BitVec.ofNat 32 (i 1).val
  let c256_i32_825 : BitVec 32 := 256#32
  let v1900 : BitVec 32 := Scalar.muli arg1 c256_i32_825
  let c131_i32 : BitVec 32 := 131#32
  let v1901 : BitVec 32 := Scalar.addi v1900 c131_i32
  let c8_i32_828 : BitVec 32 := 8#32
  let v1907 : BitVec 32 := Scalar.muli v1901 c8_i32_828
  v1907
def k0_off532 (i : grid0.Coords) : Fin 1 → Nat :=
  let c1_i32_826 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1902 : BitVec 32 := Scalar.subi c1_i32_826 v11
  ![v1902.toNat]
def k0_off533 (i : grid0.Coords) : Fin 3 → Nat :=
  let c1_i32_826 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1902 : BitVec 32 := Scalar.subi c1_i32_826 v11
  let arg1 : BitVec 32 := BitVec.ofNat 32 (i 1).val
  let c256_i32_825 : BitVec 32 := 256#32
  let v1900 : BitVec 32 := Scalar.muli arg1 c256_i32_825
  let c131_i32 : BitVec 32 := 131#32
  let v1901 : BitVec 32 := Scalar.addi v1900 c131_i32
  let c8_i32_828 : BitVec 32 := 8#32
  let v1907 : BitVec 32 := Scalar.muli v1901 c8_i32_828
  let v1908 : BitVec 32 := v1907
  let c0_i32_829 : BitVec 32 := 0#32
  ![v1902.toNat, v1908.toNat, 0]
def k0_off534 (v1904 : BitVec 32) : Fin 2 → Nat :=
  let c8_i32_827 : BitVec 32 := 8#32
  let v1905 : BitVec 32 := Scalar.muli v1904 c8_i32_827
  let v1906 : BitVec 32 := v1905
  let c0_i32_830 : BitVec 32 := 0#32
  ![v1906.toNat, 0]

def k0_chk134 (i : grid0.Coords) (v0 : BitVec 32) (v28 : BitVec 32) (v1904 : BitVec 32) : Prop :=
  (∀ (k0_h1 : k0_cond1 i v0 = 1#1), ∀ (k0_h4 : k0_cond4 i v28 = 1#1), 8 ∣ (k0_mult265 v1904).toNat) ∧
  (∀ (k0_h1 : k0_cond1 i v0 = 1#1), ∀ (k0_h4 : k0_cond4 i v28 = 1#1), ∀ a, (k0_off534 v1904) a + S8x128.size a ≤ S262144x128.size a)
theorem k0_mult265_dvd : ∀ (i : grid0.Coords) (v0 : BitVec 32) (v28 : BitVec 32) (v1904 : BitVec 32) (k0_hw134 : k0_chk134 i v0 v28 v1904), ∀ (k0_h1 : k0_cond1 i v0 = 1#1), ∀ (k0_h4 : k0_cond4 i v28 = 1#1), 8 ∣ (k0_mult265 v1904).toNat := fun i v0 v28 v1904 k0_hw134 k0_h1 k0_h4 => k0_hw134.1 k0_h1 k0_h4
theorem k0_off534_inb : ∀ (i : grid0.Coords) (v0 : BitVec 32) (v28 : BitVec 32) (v1904 : BitVec 32) (k0_hw134 : k0_chk134 i v0 v28 v1904), ∀ (k0_h1 : k0_cond1 i v0 = 1#1), ∀ (k0_h4 : k0_cond4 i v28 = 1#1), ∀ a, (k0_off534 v1904) a + S8x128.size a ≤ S262144x128.size a := fun i v0 v28 v1904 k0_hw134 k0_h1 k0_h4 => k0_hw134.2 k0_h1 k0_h4

def k0_off535 (i : grid0.Coords) : Fin 1 → Nat :=
  let arg1 : BitVec 32 := BitVec.ofNat 32 (i 1).val
  let c256_i32_831 : BitVec 32 := 256#32
  let v1914 : BitVec 32 := Scalar.muli arg1 c256_i32_831
  let c132_i32 : BitVec 32 := 132#32
  let v1915 : BitVec 32 := Scalar.addi v1914 c132_i32
  let v1917 : Index := Scalar.indexCast v1915
  ![v1917.toNat]
def k0_mult267 (v1918 : BitVec 32) : BitVec 32 :=
  let c8_i32_833 : BitVec 32 := 8#32
  let v1919 : BitVec 32 := Scalar.muli v1918 c8_i32_833
  v1919

def k0_mult268 (i : grid0.Coords) : BitVec 32 :=
  let arg1 : BitVec 32 := BitVec.ofNat 32 (i 1).val
  let c256_i32_831 : BitVec 32 := 256#32
  let v1914 : BitVec 32 := Scalar.muli arg1 c256_i32_831
  let c132_i32 : BitVec 32 := 132#32
  let v1915 : BitVec 32 := Scalar.addi v1914 c132_i32
  let c8_i32_834 : BitVec 32 := 8#32
  let v1921 : BitVec 32 := Scalar.muli v1915 c8_i32_834
  v1921
def k0_off536 (i : grid0.Coords) : Fin 1 → Nat :=
  let c1_i32_832 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1916 : BitVec 32 := Scalar.subi c1_i32_832 v11
  ![v1916.toNat]
def k0_off537 (i : grid0.Coords) : Fin 3 → Nat :=
  let c1_i32_832 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1916 : BitVec 32 := Scalar.subi c1_i32_832 v11
  let arg1 : BitVec 32 := BitVec.ofNat 32 (i 1).val
  let c256_i32_831 : BitVec 32 := 256#32
  let v1914 : BitVec 32 := Scalar.muli arg1 c256_i32_831
  let c132_i32 : BitVec 32 := 132#32
  let v1915 : BitVec 32 := Scalar.addi v1914 c132_i32
  let c8_i32_834 : BitVec 32 := 8#32
  let v1921 : BitVec 32 := Scalar.muli v1915 c8_i32_834
  let v1922 : BitVec 32 := v1921
  let c0_i32_835 : BitVec 32 := 0#32
  ![v1916.toNat, v1922.toNat, 0]
def k0_off538 (v1918 : BitVec 32) : Fin 2 → Nat :=
  let c8_i32_833 : BitVec 32 := 8#32
  let v1919 : BitVec 32 := Scalar.muli v1918 c8_i32_833
  let v1920 : BitVec 32 := v1919
  let c0_i32_836 : BitVec 32 := 0#32
  ![v1920.toNat, 0]

def k0_chk135 (i : grid0.Coords) (v0 : BitVec 32) (v28 : BitVec 32) (v1918 : BitVec 32) : Prop :=
  (∀ (k0_h1 : k0_cond1 i v0 = 1#1), ∀ (k0_h4 : k0_cond4 i v28 = 1#1), 8 ∣ (k0_mult267 v1918).toNat) ∧
  (∀ (k0_h1 : k0_cond1 i v0 = 1#1), ∀ (k0_h4 : k0_cond4 i v28 = 1#1), ∀ a, (k0_off538 v1918) a + S8x128.size a ≤ S262144x128.size a)
theorem k0_mult267_dvd : ∀ (i : grid0.Coords) (v0 : BitVec 32) (v28 : BitVec 32) (v1918 : BitVec 32) (k0_hw135 : k0_chk135 i v0 v28 v1918), ∀ (k0_h1 : k0_cond1 i v0 = 1#1), ∀ (k0_h4 : k0_cond4 i v28 = 1#1), 8 ∣ (k0_mult267 v1918).toNat := fun i v0 v28 v1918 k0_hw135 k0_h1 k0_h4 => k0_hw135.1 k0_h1 k0_h4
theorem k0_off538_inb : ∀ (i : grid0.Coords) (v0 : BitVec 32) (v28 : BitVec 32) (v1918 : BitVec 32) (k0_hw135 : k0_chk135 i v0 v28 v1918), ∀ (k0_h1 : k0_cond1 i v0 = 1#1), ∀ (k0_h4 : k0_cond4 i v28 = 1#1), ∀ a, (k0_off538 v1918) a + S8x128.size a ≤ S262144x128.size a := fun i v0 v28 v1918 k0_hw135 k0_h1 k0_h4 => k0_hw135.2 k0_h1 k0_h4

def k0_off539 (i : grid0.Coords) : Fin 1 → Nat :=
  let arg1 : BitVec 32 := BitVec.ofNat 32 (i 1).val
  let c256_i32_837 : BitVec 32 := 256#32
  let v1928 : BitVec 32 := Scalar.muli arg1 c256_i32_837
  let c133_i32 : BitVec 32 := 133#32
  let v1929 : BitVec 32 := Scalar.addi v1928 c133_i32
  let v1931 : Index := Scalar.indexCast v1929
  ![v1931.toNat]
def k0_mult269 (v1932 : BitVec 32) : BitVec 32 :=
  let c8_i32_839 : BitVec 32 := 8#32
  let v1933 : BitVec 32 := Scalar.muli v1932 c8_i32_839
  v1933

def k0_mult270 (i : grid0.Coords) : BitVec 32 :=
  let arg1 : BitVec 32 := BitVec.ofNat 32 (i 1).val
  let c256_i32_837 : BitVec 32 := 256#32
  let v1928 : BitVec 32 := Scalar.muli arg1 c256_i32_837
  let c133_i32 : BitVec 32 := 133#32
  let v1929 : BitVec 32 := Scalar.addi v1928 c133_i32
  let c8_i32_840 : BitVec 32 := 8#32
  let v1935 : BitVec 32 := Scalar.muli v1929 c8_i32_840
  v1935
def k0_off540 (i : grid0.Coords) : Fin 1 → Nat :=
  let c1_i32_838 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1930 : BitVec 32 := Scalar.subi c1_i32_838 v11
  ![v1930.toNat]
def k0_off541 (i : grid0.Coords) : Fin 3 → Nat :=
  let c1_i32_838 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1930 : BitVec 32 := Scalar.subi c1_i32_838 v11
  let arg1 : BitVec 32 := BitVec.ofNat 32 (i 1).val
  let c256_i32_837 : BitVec 32 := 256#32
  let v1928 : BitVec 32 := Scalar.muli arg1 c256_i32_837
  let c133_i32 : BitVec 32 := 133#32
  let v1929 : BitVec 32 := Scalar.addi v1928 c133_i32
  let c8_i32_840 : BitVec 32 := 8#32
  let v1935 : BitVec 32 := Scalar.muli v1929 c8_i32_840
  let v1936 : BitVec 32 := v1935
  let c0_i32_841 : BitVec 32 := 0#32
  ![v1930.toNat, v1936.toNat, 0]
def k0_off542 (v1932 : BitVec 32) : Fin 2 → Nat :=
  let c8_i32_839 : BitVec 32 := 8#32
  let v1933 : BitVec 32 := Scalar.muli v1932 c8_i32_839
  let v1934 : BitVec 32 := v1933
  let c0_i32_842 : BitVec 32 := 0#32
  ![v1934.toNat, 0]

def k0_chk136 (i : grid0.Coords) (v0 : BitVec 32) (v28 : BitVec 32) (v1932 : BitVec 32) : Prop :=
  (∀ (k0_h1 : k0_cond1 i v0 = 1#1), ∀ (k0_h4 : k0_cond4 i v28 = 1#1), 8 ∣ (k0_mult269 v1932).toNat) ∧
  (∀ (k0_h1 : k0_cond1 i v0 = 1#1), ∀ (k0_h4 : k0_cond4 i v28 = 1#1), ∀ a, (k0_off542 v1932) a + S8x128.size a ≤ S262144x128.size a)
theorem k0_mult269_dvd : ∀ (i : grid0.Coords) (v0 : BitVec 32) (v28 : BitVec 32) (v1932 : BitVec 32) (k0_hw136 : k0_chk136 i v0 v28 v1932), ∀ (k0_h1 : k0_cond1 i v0 = 1#1), ∀ (k0_h4 : k0_cond4 i v28 = 1#1), 8 ∣ (k0_mult269 v1932).toNat := fun i v0 v28 v1932 k0_hw136 k0_h1 k0_h4 => k0_hw136.1 k0_h1 k0_h4
theorem k0_off542_inb : ∀ (i : grid0.Coords) (v0 : BitVec 32) (v28 : BitVec 32) (v1932 : BitVec 32) (k0_hw136 : k0_chk136 i v0 v28 v1932), ∀ (k0_h1 : k0_cond1 i v0 = 1#1), ∀ (k0_h4 : k0_cond4 i v28 = 1#1), ∀ a, (k0_off542 v1932) a + S8x128.size a ≤ S262144x128.size a := fun i v0 v28 v1932 k0_hw136 k0_h1 k0_h4 => k0_hw136.2 k0_h1 k0_h4

def k0_off543 (i : grid0.Coords) : Fin 1 → Nat :=
  let arg1 : BitVec 32 := BitVec.ofNat 32 (i 1).val
  let c256_i32_843 : BitVec 32 := 256#32
  let v1942 : BitVec 32 := Scalar.muli arg1 c256_i32_843
  let c134_i32 : BitVec 32 := 134#32
  let v1943 : BitVec 32 := Scalar.addi v1942 c134_i32
  let v1945 : Index := Scalar.indexCast v1943
  ![v1945.toNat]
def k0_mult271 (v1946 : BitVec 32) : BitVec 32 :=
  let c8_i32_845 : BitVec 32 := 8#32
  let v1947 : BitVec 32 := Scalar.muli v1946 c8_i32_845
  v1947

def k0_mult272 (i : grid0.Coords) : BitVec 32 :=
  let arg1 : BitVec 32 := BitVec.ofNat 32 (i 1).val
  let c256_i32_843 : BitVec 32 := 256#32
  let v1942 : BitVec 32 := Scalar.muli arg1 c256_i32_843
  let c134_i32 : BitVec 32 := 134#32
  let v1943 : BitVec 32 := Scalar.addi v1942 c134_i32
  let c8_i32_846 : BitVec 32 := 8#32
  let v1949 : BitVec 32 := Scalar.muli v1943 c8_i32_846
  v1949
def k0_off544 (i : grid0.Coords) : Fin 1 → Nat :=
  let c1_i32_844 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1944 : BitVec 32 := Scalar.subi c1_i32_844 v11
  ![v1944.toNat]
def k0_off545 (i : grid0.Coords) : Fin 3 → Nat :=
  let c1_i32_844 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1944 : BitVec 32 := Scalar.subi c1_i32_844 v11
  let arg1 : BitVec 32 := BitVec.ofNat 32 (i 1).val
  let c256_i32_843 : BitVec 32 := 256#32
  let v1942 : BitVec 32 := Scalar.muli arg1 c256_i32_843
  let c134_i32 : BitVec 32 := 134#32
  let v1943 : BitVec 32 := Scalar.addi v1942 c134_i32
  let c8_i32_846 : BitVec 32 := 8#32
  let v1949 : BitVec 32 := Scalar.muli v1943 c8_i32_846
  let v1950 : BitVec 32 := v1949
  let c0_i32_847 : BitVec 32 := 0#32
  ![v1944.toNat, v1950.toNat, 0]
def k0_off546 (v1946 : BitVec 32) : Fin 2 → Nat :=
  let c8_i32_845 : BitVec 32 := 8#32
  let v1947 : BitVec 32 := Scalar.muli v1946 c8_i32_845
  let v1948 : BitVec 32 := v1947
  let c0_i32_848 : BitVec 32 := 0#32
  ![v1948.toNat, 0]

def k0_chk137 (i : grid0.Coords) (v0 : BitVec 32) (v28 : BitVec 32) (v1946 : BitVec 32) : Prop :=
  (∀ (k0_h1 : k0_cond1 i v0 = 1#1), ∀ (k0_h4 : k0_cond4 i v28 = 1#1), 8 ∣ (k0_mult271 v1946).toNat) ∧
  (∀ (k0_h1 : k0_cond1 i v0 = 1#1), ∀ (k0_h4 : k0_cond4 i v28 = 1#1), ∀ a, (k0_off546 v1946) a + S8x128.size a ≤ S262144x128.size a)
theorem k0_mult271_dvd : ∀ (i : grid0.Coords) (v0 : BitVec 32) (v28 : BitVec 32) (v1946 : BitVec 32) (k0_hw137 : k0_chk137 i v0 v28 v1946), ∀ (k0_h1 : k0_cond1 i v0 = 1#1), ∀ (k0_h4 : k0_cond4 i v28 = 1#1), 8 ∣ (k0_mult271 v1946).toNat := fun i v0 v28 v1946 k0_hw137 k0_h1 k0_h4 => k0_hw137.1 k0_h1 k0_h4
theorem k0_off546_inb : ∀ (i : grid0.Coords) (v0 : BitVec 32) (v28 : BitVec 32) (v1946 : BitVec 32) (k0_hw137 : k0_chk137 i v0 v28 v1946), ∀ (k0_h1 : k0_cond1 i v0 = 1#1), ∀ (k0_h4 : k0_cond4 i v28 = 1#1), ∀ a, (k0_off546 v1946) a + S8x128.size a ≤ S262144x128.size a := fun i v0 v28 v1946 k0_hw137 k0_h1 k0_h4 => k0_hw137.2 k0_h1 k0_h4

def k0_off547 (i : grid0.Coords) : Fin 1 → Nat :=
  let arg1 : BitVec 32 := BitVec.ofNat 32 (i 1).val
  let c256_i32_849 : BitVec 32 := 256#32
  let v1956 : BitVec 32 := Scalar.muli arg1 c256_i32_849
  let c135_i32 : BitVec 32 := 135#32
  let v1957 : BitVec 32 := Scalar.addi v1956 c135_i32
  let v1959 : Index := Scalar.indexCast v1957
  ![v1959.toNat]
def k0_mult273 (v1960 : BitVec 32) : BitVec 32 :=
  let c8_i32_851 : BitVec 32 := 8#32
  let v1961 : BitVec 32 := Scalar.muli v1960 c8_i32_851
  v1961

def k0_mult274 (i : grid0.Coords) : BitVec 32 :=
  let arg1 : BitVec 32 := BitVec.ofNat 32 (i 1).val
  let c256_i32_849 : BitVec 32 := 256#32
  let v1956 : BitVec 32 := Scalar.muli arg1 c256_i32_849
  let c135_i32 : BitVec 32 := 135#32
  let v1957 : BitVec 32 := Scalar.addi v1956 c135_i32
  let c8_i32_852 : BitVec 32 := 8#32
  let v1963 : BitVec 32 := Scalar.muli v1957 c8_i32_852
  v1963
def k0_off548 (i : grid0.Coords) : Fin 1 → Nat :=
  let c1_i32_850 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1958 : BitVec 32 := Scalar.subi c1_i32_850 v11
  ![v1958.toNat]
def k0_off549 (i : grid0.Coords) : Fin 3 → Nat :=
  let c1_i32_850 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1958 : BitVec 32 := Scalar.subi c1_i32_850 v11
  let arg1 : BitVec 32 := BitVec.ofNat 32 (i 1).val
  let c256_i32_849 : BitVec 32 := 256#32
  let v1956 : BitVec 32 := Scalar.muli arg1 c256_i32_849
  let c135_i32 : BitVec 32 := 135#32
  let v1957 : BitVec 32 := Scalar.addi v1956 c135_i32
  let c8_i32_852 : BitVec 32 := 8#32
  let v1963 : BitVec 32 := Scalar.muli v1957 c8_i32_852
  let v1964 : BitVec 32 := v1963
  let c0_i32_853 : BitVec 32 := 0#32
  ![v1958.toNat, v1964.toNat, 0]
def k0_off550 (v1960 : BitVec 32) : Fin 2 → Nat :=
  let c8_i32_851 : BitVec 32 := 8#32
  let v1961 : BitVec 32 := Scalar.muli v1960 c8_i32_851
  let v1962 : BitVec 32 := v1961
  let c0_i32_854 : BitVec 32 := 0#32
  ![v1962.toNat, 0]

def k0_chk138 (i : grid0.Coords) (v0 : BitVec 32) (v28 : BitVec 32) (v1960 : BitVec 32) : Prop :=
  (∀ (k0_h1 : k0_cond1 i v0 = 1#1), ∀ (k0_h4 : k0_cond4 i v28 = 1#1), 8 ∣ (k0_mult273 v1960).toNat) ∧
  (∀ (k0_h1 : k0_cond1 i v0 = 1#1), ∀ (k0_h4 : k0_cond4 i v28 = 1#1), ∀ a, (k0_off550 v1960) a + S8x128.size a ≤ S262144x128.size a)
theorem k0_mult273_dvd : ∀ (i : grid0.Coords) (v0 : BitVec 32) (v28 : BitVec 32) (v1960 : BitVec 32) (k0_hw138 : k0_chk138 i v0 v28 v1960), ∀ (k0_h1 : k0_cond1 i v0 = 1#1), ∀ (k0_h4 : k0_cond4 i v28 = 1#1), 8 ∣ (k0_mult273 v1960).toNat := fun i v0 v28 v1960 k0_hw138 k0_h1 k0_h4 => k0_hw138.1 k0_h1 k0_h4
theorem k0_off550_inb : ∀ (i : grid0.Coords) (v0 : BitVec 32) (v28 : BitVec 32) (v1960 : BitVec 32) (k0_hw138 : k0_chk138 i v0 v28 v1960), ∀ (k0_h1 : k0_cond1 i v0 = 1#1), ∀ (k0_h4 : k0_cond4 i v28 = 1#1), ∀ a, (k0_off550 v1960) a + S8x128.size a ≤ S262144x128.size a := fun i v0 v28 v1960 k0_hw138 k0_h1 k0_h4 => k0_hw138.2 k0_h1 k0_h4

def k0_off551 (i : grid0.Coords) : Fin 1 → Nat :=
  let arg1 : BitVec 32 := BitVec.ofNat 32 (i 1).val
  let c256_i32_855 : BitVec 32 := 256#32
  let v1970 : BitVec 32 := Scalar.muli arg1 c256_i32_855
  let c136_i32 : BitVec 32 := 136#32
  let v1971 : BitVec 32 := Scalar.addi v1970 c136_i32
  let v1973 : Index := Scalar.indexCast v1971
  ![v1973.toNat]
def k0_mult275 (v1974 : BitVec 32) : BitVec 32 :=
  let c8_i32_857 : BitVec 32 := 8#32
  let v1975 : BitVec 32 := Scalar.muli v1974 c8_i32_857
  v1975

def k0_mult276 (i : grid0.Coords) : BitVec 32 :=
  let arg1 : BitVec 32 := BitVec.ofNat 32 (i 1).val
  let c256_i32_855 : BitVec 32 := 256#32
  let v1970 : BitVec 32 := Scalar.muli arg1 c256_i32_855
  let c136_i32 : BitVec 32 := 136#32
  let v1971 : BitVec 32 := Scalar.addi v1970 c136_i32
  let c8_i32_858 : BitVec 32 := 8#32
  let v1977 : BitVec 32 := Scalar.muli v1971 c8_i32_858
  v1977
def k0_off552 (i : grid0.Coords) : Fin 1 → Nat :=
  let c1_i32_856 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1972 : BitVec 32 := Scalar.subi c1_i32_856 v11
  ![v1972.toNat]
def k0_off553 (i : grid0.Coords) : Fin 3 → Nat :=
  let c1_i32_856 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1972 : BitVec 32 := Scalar.subi c1_i32_856 v11
  let arg1 : BitVec 32 := BitVec.ofNat 32 (i 1).val
  let c256_i32_855 : BitVec 32 := 256#32
  let v1970 : BitVec 32 := Scalar.muli arg1 c256_i32_855
  let c136_i32 : BitVec 32 := 136#32
  let v1971 : BitVec 32 := Scalar.addi v1970 c136_i32
  let c8_i32_858 : BitVec 32 := 8#32
  let v1977 : BitVec 32 := Scalar.muli v1971 c8_i32_858
  let v1978 : BitVec 32 := v1977
  let c0_i32_859 : BitVec 32 := 0#32
  ![v1972.toNat, v1978.toNat, 0]
def k0_off554 (v1974 : BitVec 32) : Fin 2 → Nat :=
  let c8_i32_857 : BitVec 32 := 8#32
  let v1975 : BitVec 32 := Scalar.muli v1974 c8_i32_857
  let v1976 : BitVec 32 := v1975
  let c0_i32_860 : BitVec 32 := 0#32
  ![v1976.toNat, 0]

def k0_chk139 (i : grid0.Coords) (v0 : BitVec 32) (v28 : BitVec 32) (v1974 : BitVec 32) : Prop :=
  (∀ (k0_h1 : k0_cond1 i v0 = 1#1), ∀ (k0_h4 : k0_cond4 i v28 = 1#1), 8 ∣ (k0_mult275 v1974).toNat) ∧
  (∀ (k0_h1 : k0_cond1 i v0 = 1#1), ∀ (k0_h4 : k0_cond4 i v28 = 1#1), ∀ a, (k0_off554 v1974) a + S8x128.size a ≤ S262144x128.size a)
theorem k0_mult275_dvd : ∀ (i : grid0.Coords) (v0 : BitVec 32) (v28 : BitVec 32) (v1974 : BitVec 32) (k0_hw139 : k0_chk139 i v0 v28 v1974), ∀ (k0_h1 : k0_cond1 i v0 = 1#1), ∀ (k0_h4 : k0_cond4 i v28 = 1#1), 8 ∣ (k0_mult275 v1974).toNat := fun i v0 v28 v1974 k0_hw139 k0_h1 k0_h4 => k0_hw139.1 k0_h1 k0_h4
theorem k0_off554_inb : ∀ (i : grid0.Coords) (v0 : BitVec 32) (v28 : BitVec 32) (v1974 : BitVec 32) (k0_hw139 : k0_chk139 i v0 v28 v1974), ∀ (k0_h1 : k0_cond1 i v0 = 1#1), ∀ (k0_h4 : k0_cond4 i v28 = 1#1), ∀ a, (k0_off554 v1974) a + S8x128.size a ≤ S262144x128.size a := fun i v0 v28 v1974 k0_hw139 k0_h1 k0_h4 => k0_hw139.2 k0_h1 k0_h4

def k0_off555 (i : grid0.Coords) : Fin 1 → Nat :=
  let arg1 : BitVec 32 := BitVec.ofNat 32 (i 1).val
  let c256_i32_861 : BitVec 32 := 256#32
  let v1984 : BitVec 32 := Scalar.muli arg1 c256_i32_861
  let c137_i32 : BitVec 32 := 137#32
  let v1985 : BitVec 32 := Scalar.addi v1984 c137_i32
  let v1987 : Index := Scalar.indexCast v1985
  ![v1987.toNat]
def k0_mult277 (v1988 : BitVec 32) : BitVec 32 :=
  let c8_i32_863 : BitVec 32 := 8#32
  let v1989 : BitVec 32 := Scalar.muli v1988 c8_i32_863
  v1989

def k0_mult278 (i : grid0.Coords) : BitVec 32 :=
  let arg1 : BitVec 32 := BitVec.ofNat 32 (i 1).val
  let c256_i32_861 : BitVec 32 := 256#32
  let v1984 : BitVec 32 := Scalar.muli arg1 c256_i32_861
  let c137_i32 : BitVec 32 := 137#32
  let v1985 : BitVec 32 := Scalar.addi v1984 c137_i32
  let c8_i32_864 : BitVec 32 := 8#32
  let v1991 : BitVec 32 := Scalar.muli v1985 c8_i32_864
  v1991
def k0_off556 (i : grid0.Coords) : Fin 1 → Nat :=
  let c1_i32_862 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1986 : BitVec 32 := Scalar.subi c1_i32_862 v11
  ![v1986.toNat]
def k0_off557 (i : grid0.Coords) : Fin 3 → Nat :=
  let c1_i32_862 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1986 : BitVec 32 := Scalar.subi c1_i32_862 v11
  let arg1 : BitVec 32 := BitVec.ofNat 32 (i 1).val
  let c256_i32_861 : BitVec 32 := 256#32
  let v1984 : BitVec 32 := Scalar.muli arg1 c256_i32_861
  let c137_i32 : BitVec 32 := 137#32
  let v1985 : BitVec 32 := Scalar.addi v1984 c137_i32
  let c8_i32_864 : BitVec 32 := 8#32
  let v1991 : BitVec 32 := Scalar.muli v1985 c8_i32_864
  let v1992 : BitVec 32 := v1991
  let c0_i32_865 : BitVec 32 := 0#32
  ![v1986.toNat, v1992.toNat, 0]
def k0_off558 (v1988 : BitVec 32) : Fin 2 → Nat :=
  let c8_i32_863 : BitVec 32 := 8#32
  let v1989 : BitVec 32 := Scalar.muli v1988 c8_i32_863
  let v1990 : BitVec 32 := v1989
  let c0_i32_866 : BitVec 32 := 0#32
  ![v1990.toNat, 0]

def k0_chk140 (i : grid0.Coords) (v0 : BitVec 32) (v28 : BitVec 32) (v1988 : BitVec 32) : Prop :=
  (∀ (k0_h1 : k0_cond1 i v0 = 1#1), ∀ (k0_h4 : k0_cond4 i v28 = 1#1), 8 ∣ (k0_mult277 v1988).toNat) ∧
  (∀ (k0_h1 : k0_cond1 i v0 = 1#1), ∀ (k0_h4 : k0_cond4 i v28 = 1#1), ∀ a, (k0_off558 v1988) a + S8x128.size a ≤ S262144x128.size a)
theorem k0_mult277_dvd : ∀ (i : grid0.Coords) (v0 : BitVec 32) (v28 : BitVec 32) (v1988 : BitVec 32) (k0_hw140 : k0_chk140 i v0 v28 v1988), ∀ (k0_h1 : k0_cond1 i v0 = 1#1), ∀ (k0_h4 : k0_cond4 i v28 = 1#1), 8 ∣ (k0_mult277 v1988).toNat := fun i v0 v28 v1988 k0_hw140 k0_h1 k0_h4 => k0_hw140.1 k0_h1 k0_h4
theorem k0_off558_inb : ∀ (i : grid0.Coords) (v0 : BitVec 32) (v28 : BitVec 32) (v1988 : BitVec 32) (k0_hw140 : k0_chk140 i v0 v28 v1988), ∀ (k0_h1 : k0_cond1 i v0 = 1#1), ∀ (k0_h4 : k0_cond4 i v28 = 1#1), ∀ a, (k0_off558 v1988) a + S8x128.size a ≤ S262144x128.size a := fun i v0 v28 v1988 k0_hw140 k0_h1 k0_h4 => k0_hw140.2 k0_h1 k0_h4

def k0_off559 (i : grid0.Coords) : Fin 1 → Nat :=
  let arg1 : BitVec 32 := BitVec.ofNat 32 (i 1).val
  let c256_i32_867 : BitVec 32 := 256#32
  let v1998 : BitVec 32 := Scalar.muli arg1 c256_i32_867
  let c138_i32 : BitVec 32 := 138#32
  let v1999 : BitVec 32 := Scalar.addi v1998 c138_i32
  let v2001 : Index := Scalar.indexCast v1999
  ![v2001.toNat]
def k0_mult279 (v2002 : BitVec 32) : BitVec 32 :=
  let c8_i32_869 : BitVec 32 := 8#32
  let v2003 : BitVec 32 := Scalar.muli v2002 c8_i32_869
  v2003

def k0_mult280 (i : grid0.Coords) : BitVec 32 :=
  let arg1 : BitVec 32 := BitVec.ofNat 32 (i 1).val
  let c256_i32_867 : BitVec 32 := 256#32
  let v1998 : BitVec 32 := Scalar.muli arg1 c256_i32_867
  let c138_i32 : BitVec 32 := 138#32
  let v1999 : BitVec 32 := Scalar.addi v1998 c138_i32
  let c8_i32_870 : BitVec 32 := 8#32
  let v2005 : BitVec 32 := Scalar.muli v1999 c8_i32_870
  v2005
def k0_off560 (i : grid0.Coords) : Fin 1 → Nat :=
  let c1_i32_868 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2000 : BitVec 32 := Scalar.subi c1_i32_868 v11
  ![v2000.toNat]
def k0_off561 (i : grid0.Coords) : Fin 3 → Nat :=
  let c1_i32_868 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2000 : BitVec 32 := Scalar.subi c1_i32_868 v11
  let arg1 : BitVec 32 := BitVec.ofNat 32 (i 1).val
  let c256_i32_867 : BitVec 32 := 256#32
  let v1998 : BitVec 32 := Scalar.muli arg1 c256_i32_867
  let c138_i32 : BitVec 32 := 138#32
  let v1999 : BitVec 32 := Scalar.addi v1998 c138_i32
  let c8_i32_870 : BitVec 32 := 8#32
  let v2005 : BitVec 32 := Scalar.muli v1999 c8_i32_870
  let v2006 : BitVec 32 := v2005
  let c0_i32_871 : BitVec 32 := 0#32
  ![v2000.toNat, v2006.toNat, 0]
def k0_off562 (v2002 : BitVec 32) : Fin 2 → Nat :=
  let c8_i32_869 : BitVec 32 := 8#32
  let v2003 : BitVec 32 := Scalar.muli v2002 c8_i32_869
  let v2004 : BitVec 32 := v2003
  let c0_i32_872 : BitVec 32 := 0#32
  ![v2004.toNat, 0]

def k0_chk141 (i : grid0.Coords) (v0 : BitVec 32) (v28 : BitVec 32) (v2002 : BitVec 32) : Prop :=
  (∀ (k0_h1 : k0_cond1 i v0 = 1#1), ∀ (k0_h4 : k0_cond4 i v28 = 1#1), 8 ∣ (k0_mult279 v2002).toNat) ∧
  (∀ (k0_h1 : k0_cond1 i v0 = 1#1), ∀ (k0_h4 : k0_cond4 i v28 = 1#1), ∀ a, (k0_off562 v2002) a + S8x128.size a ≤ S262144x128.size a)
theorem k0_mult279_dvd : ∀ (i : grid0.Coords) (v0 : BitVec 32) (v28 : BitVec 32) (v2002 : BitVec 32) (k0_hw141 : k0_chk141 i v0 v28 v2002), ∀ (k0_h1 : k0_cond1 i v0 = 1#1), ∀ (k0_h4 : k0_cond4 i v28 = 1#1), 8 ∣ (k0_mult279 v2002).toNat := fun i v0 v28 v2002 k0_hw141 k0_h1 k0_h4 => k0_hw141.1 k0_h1 k0_h4
theorem k0_off562_inb : ∀ (i : grid0.Coords) (v0 : BitVec 32) (v28 : BitVec 32) (v2002 : BitVec 32) (k0_hw141 : k0_chk141 i v0 v28 v2002), ∀ (k0_h1 : k0_cond1 i v0 = 1#1), ∀ (k0_h4 : k0_cond4 i v28 = 1#1), ∀ a, (k0_off562 v2002) a + S8x128.size a ≤ S262144x128.size a := fun i v0 v28 v2002 k0_hw141 k0_h1 k0_h4 => k0_hw141.2 k0_h1 k0_h4

def k0_off563 (i : grid0.Coords) : Fin 1 → Nat :=
  let arg1 : BitVec 32 := BitVec.ofNat 32 (i 1).val
  let c256_i32_873 : BitVec 32 := 256#32
  let v2012 : BitVec 32 := Scalar.muli arg1 c256_i32_873
  let c139_i32 : BitVec 32 := 139#32
  let v2013 : BitVec 32 := Scalar.addi v2012 c139_i32
  let v2015 : Index := Scalar.indexCast v2013
  ![v2015.toNat]
def k0_mult281 (v2016 : BitVec 32) : BitVec 32 :=
  let c8_i32_875 : BitVec 32 := 8#32
  let v2017 : BitVec 32 := Scalar.muli v2016 c8_i32_875
  v2017

def k0_mult282 (i : grid0.Coords) : BitVec 32 :=
  let arg1 : BitVec 32 := BitVec.ofNat 32 (i 1).val
  let c256_i32_873 : BitVec 32 := 256#32
  let v2012 : BitVec 32 := Scalar.muli arg1 c256_i32_873
  let c139_i32 : BitVec 32 := 139#32
  let v2013 : BitVec 32 := Scalar.addi v2012 c139_i32
  let c8_i32_876 : BitVec 32 := 8#32
  let v2019 : BitVec 32 := Scalar.muli v2013 c8_i32_876
  v2019
def k0_off564 (i : grid0.Coords) : Fin 1 → Nat :=
  let c1_i32_874 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2014 : BitVec 32 := Scalar.subi c1_i32_874 v11
  ![v2014.toNat]
def k0_off565 (i : grid0.Coords) : Fin 3 → Nat :=
  let c1_i32_874 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2014 : BitVec 32 := Scalar.subi c1_i32_874 v11
  let arg1 : BitVec 32 := BitVec.ofNat 32 (i 1).val
  let c256_i32_873 : BitVec 32 := 256#32
  let v2012 : BitVec 32 := Scalar.muli arg1 c256_i32_873
  let c139_i32 : BitVec 32 := 139#32
  let v2013 : BitVec 32 := Scalar.addi v2012 c139_i32
  let c8_i32_876 : BitVec 32 := 8#32
  let v2019 : BitVec 32 := Scalar.muli v2013 c8_i32_876
  let v2020 : BitVec 32 := v2019
  let c0_i32_877 : BitVec 32 := 0#32
  ![v2014.toNat, v2020.toNat, 0]
def k0_off566 (v2016 : BitVec 32) : Fin 2 → Nat :=
  let c8_i32_875 : BitVec 32 := 8#32
  let v2017 : BitVec 32 := Scalar.muli v2016 c8_i32_875
  let v2018 : BitVec 32 := v2017
  let c0_i32_878 : BitVec 32 := 0#32
  ![v2018.toNat, 0]

def k0_chk142 (i : grid0.Coords) (v0 : BitVec 32) (v28 : BitVec 32) (v2016 : BitVec 32) : Prop :=
  (∀ (k0_h1 : k0_cond1 i v0 = 1#1), ∀ (k0_h4 : k0_cond4 i v28 = 1#1), 8 ∣ (k0_mult281 v2016).toNat) ∧
  (∀ (k0_h1 : k0_cond1 i v0 = 1#1), ∀ (k0_h4 : k0_cond4 i v28 = 1#1), ∀ a, (k0_off566 v2016) a + S8x128.size a ≤ S262144x128.size a)
theorem k0_mult281_dvd : ∀ (i : grid0.Coords) (v0 : BitVec 32) (v28 : BitVec 32) (v2016 : BitVec 32) (k0_hw142 : k0_chk142 i v0 v28 v2016), ∀ (k0_h1 : k0_cond1 i v0 = 1#1), ∀ (k0_h4 : k0_cond4 i v28 = 1#1), 8 ∣ (k0_mult281 v2016).toNat := fun i v0 v28 v2016 k0_hw142 k0_h1 k0_h4 => k0_hw142.1 k0_h1 k0_h4
theorem k0_off566_inb : ∀ (i : grid0.Coords) (v0 : BitVec 32) (v28 : BitVec 32) (v2016 : BitVec 32) (k0_hw142 : k0_chk142 i v0 v28 v2016), ∀ (k0_h1 : k0_cond1 i v0 = 1#1), ∀ (k0_h4 : k0_cond4 i v28 = 1#1), ∀ a, (k0_off566 v2016) a + S8x128.size a ≤ S262144x128.size a := fun i v0 v28 v2016 k0_hw142 k0_h1 k0_h4 => k0_hw142.2 k0_h1 k0_h4

def k0_off567 (i : grid0.Coords) : Fin 1 → Nat :=
  let arg1 : BitVec 32 := BitVec.ofNat 32 (i 1).val
  let c256_i32_879 : BitVec 32 := 256#32
  let v2026 : BitVec 32 := Scalar.muli arg1 c256_i32_879
  let c140_i32 : BitVec 32 := 140#32
  let v2027 : BitVec 32 := Scalar.addi v2026 c140_i32
  let v2029 : Index := Scalar.indexCast v2027
  ![v2029.toNat]
def k0_mult283 (v2030 : BitVec 32) : BitVec 32 :=
  let c8_i32_881 : BitVec 32 := 8#32
  let v2031 : BitVec 32 := Scalar.muli v2030 c8_i32_881
  v2031

def k0_mult284 (i : grid0.Coords) : BitVec 32 :=
  let arg1 : BitVec 32 := BitVec.ofNat 32 (i 1).val
  let c256_i32_879 : BitVec 32 := 256#32
  let v2026 : BitVec 32 := Scalar.muli arg1 c256_i32_879
  let c140_i32 : BitVec 32 := 140#32
  let v2027 : BitVec 32 := Scalar.addi v2026 c140_i32
  let c8_i32_882 : BitVec 32 := 8#32
  let v2033 : BitVec 32 := Scalar.muli v2027 c8_i32_882
  v2033
def k0_off568 (i : grid0.Coords) : Fin 1 → Nat :=
  let c1_i32_880 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2028 : BitVec 32 := Scalar.subi c1_i32_880 v11
  ![v2028.toNat]
def k0_off569 (i : grid0.Coords) : Fin 3 → Nat :=
  let c1_i32_880 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2028 : BitVec 32 := Scalar.subi c1_i32_880 v11
  let arg1 : BitVec 32 := BitVec.ofNat 32 (i 1).val
  let c256_i32_879 : BitVec 32 := 256#32
  let v2026 : BitVec 32 := Scalar.muli arg1 c256_i32_879
  let c140_i32 : BitVec 32 := 140#32
  let v2027 : BitVec 32 := Scalar.addi v2026 c140_i32
  let c8_i32_882 : BitVec 32 := 8#32
  let v2033 : BitVec 32 := Scalar.muli v2027 c8_i32_882
  let v2034 : BitVec 32 := v2033
  let c0_i32_883 : BitVec 32 := 0#32
  ![v2028.toNat, v2034.toNat, 0]
def k0_off570 (v2030 : BitVec 32) : Fin 2 → Nat :=
  let c8_i32_881 : BitVec 32 := 8#32
  let v2031 : BitVec 32 := Scalar.muli v2030 c8_i32_881
  let v2032 : BitVec 32 := v2031
  let c0_i32_884 : BitVec 32 := 0#32
  ![v2032.toNat, 0]

def k0_chk143 (i : grid0.Coords) (v0 : BitVec 32) (v28 : BitVec 32) (v2030 : BitVec 32) : Prop :=
  (∀ (k0_h1 : k0_cond1 i v0 = 1#1), ∀ (k0_h4 : k0_cond4 i v28 = 1#1), 8 ∣ (k0_mult283 v2030).toNat) ∧
  (∀ (k0_h1 : k0_cond1 i v0 = 1#1), ∀ (k0_h4 : k0_cond4 i v28 = 1#1), ∀ a, (k0_off570 v2030) a + S8x128.size a ≤ S262144x128.size a)
theorem k0_mult283_dvd : ∀ (i : grid0.Coords) (v0 : BitVec 32) (v28 : BitVec 32) (v2030 : BitVec 32) (k0_hw143 : k0_chk143 i v0 v28 v2030), ∀ (k0_h1 : k0_cond1 i v0 = 1#1), ∀ (k0_h4 : k0_cond4 i v28 = 1#1), 8 ∣ (k0_mult283 v2030).toNat := fun i v0 v28 v2030 k0_hw143 k0_h1 k0_h4 => k0_hw143.1 k0_h1 k0_h4
theorem k0_off570_inb : ∀ (i : grid0.Coords) (v0 : BitVec 32) (v28 : BitVec 32) (v2030 : BitVec 32) (k0_hw143 : k0_chk143 i v0 v28 v2030), ∀ (k0_h1 : k0_cond1 i v0 = 1#1), ∀ (k0_h4 : k0_cond4 i v28 = 1#1), ∀ a, (k0_off570 v2030) a + S8x128.size a ≤ S262144x128.size a := fun i v0 v28 v2030 k0_hw143 k0_h1 k0_h4 => k0_hw143.2 k0_h1 k0_h4

def k0_off571 (i : grid0.Coords) : Fin 1 → Nat :=
  let arg1 : BitVec 32 := BitVec.ofNat 32 (i 1).val
  let c256_i32_885 : BitVec 32 := 256#32
  let v2040 : BitVec 32 := Scalar.muli arg1 c256_i32_885
  let c141_i32 : BitVec 32 := 141#32
  let v2041 : BitVec 32 := Scalar.addi v2040 c141_i32
  let v2043 : Index := Scalar.indexCast v2041
  ![v2043.toNat]
def k0_mult285 (v2044 : BitVec 32) : BitVec 32 :=
  let c8_i32_887 : BitVec 32 := 8#32
  let v2045 : BitVec 32 := Scalar.muli v2044 c8_i32_887
  v2045

def k0_mult286 (i : grid0.Coords) : BitVec 32 :=
  let arg1 : BitVec 32 := BitVec.ofNat 32 (i 1).val
  let c256_i32_885 : BitVec 32 := 256#32
  let v2040 : BitVec 32 := Scalar.muli arg1 c256_i32_885
  let c141_i32 : BitVec 32 := 141#32
  let v2041 : BitVec 32 := Scalar.addi v2040 c141_i32
  let c8_i32_888 : BitVec 32 := 8#32
  let v2047 : BitVec 32 := Scalar.muli v2041 c8_i32_888
  v2047
def k0_off572 (i : grid0.Coords) : Fin 1 → Nat :=
  let c1_i32_886 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2042 : BitVec 32 := Scalar.subi c1_i32_886 v11
  ![v2042.toNat]
def k0_off573 (i : grid0.Coords) : Fin 3 → Nat :=
  let c1_i32_886 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2042 : BitVec 32 := Scalar.subi c1_i32_886 v11
  let arg1 : BitVec 32 := BitVec.ofNat 32 (i 1).val
  let c256_i32_885 : BitVec 32 := 256#32
  let v2040 : BitVec 32 := Scalar.muli arg1 c256_i32_885
  let c141_i32 : BitVec 32 := 141#32
  let v2041 : BitVec 32 := Scalar.addi v2040 c141_i32
  let c8_i32_888 : BitVec 32 := 8#32
  let v2047 : BitVec 32 := Scalar.muli v2041 c8_i32_888
  let v2048 : BitVec 32 := v2047
  let c0_i32_889 : BitVec 32 := 0#32
  ![v2042.toNat, v2048.toNat, 0]
def k0_off574 (v2044 : BitVec 32) : Fin 2 → Nat :=
  let c8_i32_887 : BitVec 32 := 8#32
  let v2045 : BitVec 32 := Scalar.muli v2044 c8_i32_887
  let v2046 : BitVec 32 := v2045
  let c0_i32_890 : BitVec 32 := 0#32
  ![v2046.toNat, 0]

def k0_chk144 (i : grid0.Coords) (v0 : BitVec 32) (v28 : BitVec 32) (v2044 : BitVec 32) : Prop :=
  (∀ (k0_h1 : k0_cond1 i v0 = 1#1), ∀ (k0_h4 : k0_cond4 i v28 = 1#1), 8 ∣ (k0_mult285 v2044).toNat) ∧
  (∀ (k0_h1 : k0_cond1 i v0 = 1#1), ∀ (k0_h4 : k0_cond4 i v28 = 1#1), ∀ a, (k0_off574 v2044) a + S8x128.size a ≤ S262144x128.size a)
theorem k0_mult285_dvd : ∀ (i : grid0.Coords) (v0 : BitVec 32) (v28 : BitVec 32) (v2044 : BitVec 32) (k0_hw144 : k0_chk144 i v0 v28 v2044), ∀ (k0_h1 : k0_cond1 i v0 = 1#1), ∀ (k0_h4 : k0_cond4 i v28 = 1#1), 8 ∣ (k0_mult285 v2044).toNat := fun i v0 v28 v2044 k0_hw144 k0_h1 k0_h4 => k0_hw144.1 k0_h1 k0_h4
theorem k0_off574_inb : ∀ (i : grid0.Coords) (v0 : BitVec 32) (v28 : BitVec 32) (v2044 : BitVec 32) (k0_hw144 : k0_chk144 i v0 v28 v2044), ∀ (k0_h1 : k0_cond1 i v0 = 1#1), ∀ (k0_h4 : k0_cond4 i v28 = 1#1), ∀ a, (k0_off574 v2044) a + S8x128.size a ≤ S262144x128.size a := fun i v0 v28 v2044 k0_hw144 k0_h1 k0_h4 => k0_hw144.2 k0_h1 k0_h4

def k0_off575 (i : grid0.Coords) : Fin 1 → Nat :=
  let arg1 : BitVec 32 := BitVec.ofNat 32 (i 1).val
  let c256_i32_891 : BitVec 32 := 256#32
  let v2054 : BitVec 32 := Scalar.muli arg1 c256_i32_891
  let c142_i32 : BitVec 32 := 142#32
  let v2055 : BitVec 32 := Scalar.addi v2054 c142_i32
  let v2057 : Index := Scalar.indexCast v2055
  ![v2057.toNat]
def k0_mult287 (v2058 : BitVec 32) : BitVec 32 :=
  let c8_i32_893 : BitVec 32 := 8#32
  let v2059 : BitVec 32 := Scalar.muli v2058 c8_i32_893
  v2059

def k0_mult288 (i : grid0.Coords) : BitVec 32 :=
  let arg1 : BitVec 32 := BitVec.ofNat 32 (i 1).val
  let c256_i32_891 : BitVec 32 := 256#32
  let v2054 : BitVec 32 := Scalar.muli arg1 c256_i32_891
  let c142_i32 : BitVec 32 := 142#32
  let v2055 : BitVec 32 := Scalar.addi v2054 c142_i32
  let c8_i32_894 : BitVec 32 := 8#32
  let v2061 : BitVec 32 := Scalar.muli v2055 c8_i32_894
  v2061
def k0_off576 (i : grid0.Coords) : Fin 1 → Nat :=
  let c1_i32_892 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2056 : BitVec 32 := Scalar.subi c1_i32_892 v11
  ![v2056.toNat]
def k0_off577 (i : grid0.Coords) : Fin 3 → Nat :=
  let c1_i32_892 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2056 : BitVec 32 := Scalar.subi c1_i32_892 v11
  let arg1 : BitVec 32 := BitVec.ofNat 32 (i 1).val
  let c256_i32_891 : BitVec 32 := 256#32
  let v2054 : BitVec 32 := Scalar.muli arg1 c256_i32_891
  let c142_i32 : BitVec 32 := 142#32
  let v2055 : BitVec 32 := Scalar.addi v2054 c142_i32
  let c8_i32_894 : BitVec 32 := 8#32
  let v2061 : BitVec 32 := Scalar.muli v2055 c8_i32_894
  let v2062 : BitVec 32 := v2061
  let c0_i32_895 : BitVec 32 := 0#32
  ![v2056.toNat, v2062.toNat, 0]
def k0_off578 (v2058 : BitVec 32) : Fin 2 → Nat :=
  let c8_i32_893 : BitVec 32 := 8#32
  let v2059 : BitVec 32 := Scalar.muli v2058 c8_i32_893
  let v2060 : BitVec 32 := v2059
  let c0_i32_896 : BitVec 32 := 0#32
  ![v2060.toNat, 0]

def k0_chk145 (i : grid0.Coords) (v0 : BitVec 32) (v28 : BitVec 32) (v2058 : BitVec 32) : Prop :=
  (∀ (k0_h1 : k0_cond1 i v0 = 1#1), ∀ (k0_h4 : k0_cond4 i v28 = 1#1), 8 ∣ (k0_mult287 v2058).toNat) ∧
  (∀ (k0_h1 : k0_cond1 i v0 = 1#1), ∀ (k0_h4 : k0_cond4 i v28 = 1#1), ∀ a, (k0_off578 v2058) a + S8x128.size a ≤ S262144x128.size a)
theorem k0_mult287_dvd : ∀ (i : grid0.Coords) (v0 : BitVec 32) (v28 : BitVec 32) (v2058 : BitVec 32) (k0_hw145 : k0_chk145 i v0 v28 v2058), ∀ (k0_h1 : k0_cond1 i v0 = 1#1), ∀ (k0_h4 : k0_cond4 i v28 = 1#1), 8 ∣ (k0_mult287 v2058).toNat := fun i v0 v28 v2058 k0_hw145 k0_h1 k0_h4 => k0_hw145.1 k0_h1 k0_h4
theorem k0_off578_inb : ∀ (i : grid0.Coords) (v0 : BitVec 32) (v28 : BitVec 32) (v2058 : BitVec 32) (k0_hw145 : k0_chk145 i v0 v28 v2058), ∀ (k0_h1 : k0_cond1 i v0 = 1#1), ∀ (k0_h4 : k0_cond4 i v28 = 1#1), ∀ a, (k0_off578 v2058) a + S8x128.size a ≤ S262144x128.size a := fun i v0 v28 v2058 k0_hw145 k0_h1 k0_h4 => k0_hw145.2 k0_h1 k0_h4

def k0_off579 (i : grid0.Coords) : Fin 1 → Nat :=
  let arg1 : BitVec 32 := BitVec.ofNat 32 (i 1).val
  let c256_i32_897 : BitVec 32 := 256#32
  let v2068 : BitVec 32 := Scalar.muli arg1 c256_i32_897
  let c143_i32 : BitVec 32 := 143#32
  let v2069 : BitVec 32 := Scalar.addi v2068 c143_i32
  let v2071 : Index := Scalar.indexCast v2069
  ![v2071.toNat]
def k0_mult289 (v2072 : BitVec 32) : BitVec 32 :=
  let c8_i32_899 : BitVec 32 := 8#32
  let v2073 : BitVec 32 := Scalar.muli v2072 c8_i32_899
  v2073

def k0_mult290 (i : grid0.Coords) : BitVec 32 :=
  let arg1 : BitVec 32 := BitVec.ofNat 32 (i 1).val
  let c256_i32_897 : BitVec 32 := 256#32
  let v2068 : BitVec 32 := Scalar.muli arg1 c256_i32_897
  let c143_i32 : BitVec 32 := 143#32
  let v2069 : BitVec 32 := Scalar.addi v2068 c143_i32
  let c8_i32_900 : BitVec 32 := 8#32
  let v2075 : BitVec 32 := Scalar.muli v2069 c8_i32_900
  v2075
def k0_off580 (i : grid0.Coords) : Fin 1 → Nat :=
  let c1_i32_898 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2070 : BitVec 32 := Scalar.subi c1_i32_898 v11
  ![v2070.toNat]
def k0_off581 (i : grid0.Coords) : Fin 3 → Nat :=
  let c1_i32_898 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2070 : BitVec 32 := Scalar.subi c1_i32_898 v11
  let arg1 : BitVec 32 := BitVec.ofNat 32 (i 1).val
  let c256_i32_897 : BitVec 32 := 256#32
  let v2068 : BitVec 32 := Scalar.muli arg1 c256_i32_897
  let c143_i32 : BitVec 32 := 143#32
  let v2069 : BitVec 32 := Scalar.addi v2068 c143_i32
  let c8_i32_900 : BitVec 32 := 8#32
  let v2075 : BitVec 32 := Scalar.muli v2069 c8_i32_900
  let v2076 : BitVec 32 := v2075
  let c0_i32_901 : BitVec 32 := 0#32
  ![v2070.toNat, v2076.toNat, 0]
def k0_off582 (v2072 : BitVec 32) : Fin 2 → Nat :=
  let c8_i32_899 : BitVec 32 := 8#32
  let v2073 : BitVec 32 := Scalar.muli v2072 c8_i32_899
  let v2074 : BitVec 32 := v2073
  let c0_i32_902 : BitVec 32 := 0#32
  ![v2074.toNat, 0]

def k0_chk146 (i : grid0.Coords) (v0 : BitVec 32) (v28 : BitVec 32) (v2072 : BitVec 32) : Prop :=
  (∀ (k0_h1 : k0_cond1 i v0 = 1#1), ∀ (k0_h4 : k0_cond4 i v28 = 1#1), 8 ∣ (k0_mult289 v2072).toNat) ∧
  (∀ (k0_h1 : k0_cond1 i v0 = 1#1), ∀ (k0_h4 : k0_cond4 i v28 = 1#1), ∀ a, (k0_off582 v2072) a + S8x128.size a ≤ S262144x128.size a)
theorem k0_mult289_dvd : ∀ (i : grid0.Coords) (v0 : BitVec 32) (v28 : BitVec 32) (v2072 : BitVec 32) (k0_hw146 : k0_chk146 i v0 v28 v2072), ∀ (k0_h1 : k0_cond1 i v0 = 1#1), ∀ (k0_h4 : k0_cond4 i v28 = 1#1), 8 ∣ (k0_mult289 v2072).toNat := fun i v0 v28 v2072 k0_hw146 k0_h1 k0_h4 => k0_hw146.1 k0_h1 k0_h4
theorem k0_off582_inb : ∀ (i : grid0.Coords) (v0 : BitVec 32) (v28 : BitVec 32) (v2072 : BitVec 32) (k0_hw146 : k0_chk146 i v0 v28 v2072), ∀ (k0_h1 : k0_cond1 i v0 = 1#1), ∀ (k0_h4 : k0_cond4 i v28 = 1#1), ∀ a, (k0_off582 v2072) a + S8x128.size a ≤ S262144x128.size a := fun i v0 v28 v2072 k0_hw146 k0_h1 k0_h4 => k0_hw146.2 k0_h1 k0_h4

def k0_off583 (i : grid0.Coords) : Fin 1 → Nat :=
  let arg1 : BitVec 32 := BitVec.ofNat 32 (i 1).val
  let c256_i32_903 : BitVec 32 := 256#32
  let v2082 : BitVec 32 := Scalar.muli arg1 c256_i32_903
  let c144_i32 : BitVec 32 := 144#32
  let v2083 : BitVec 32 := Scalar.addi v2082 c144_i32
  let v2085 : Index := Scalar.indexCast v2083
  ![v2085.toNat]
def k0_mult291 (v2086 : BitVec 32) : BitVec 32 :=
  let c8_i32_905 : BitVec 32 := 8#32
  let v2087 : BitVec 32 := Scalar.muli v2086 c8_i32_905
  v2087

def k0_mult292 (i : grid0.Coords) : BitVec 32 :=
  let arg1 : BitVec 32 := BitVec.ofNat 32 (i 1).val
  let c256_i32_903 : BitVec 32 := 256#32
  let v2082 : BitVec 32 := Scalar.muli arg1 c256_i32_903
  let c144_i32 : BitVec 32 := 144#32
  let v2083 : BitVec 32 := Scalar.addi v2082 c144_i32
  let c8_i32_906 : BitVec 32 := 8#32
  let v2089 : BitVec 32 := Scalar.muli v2083 c8_i32_906
  v2089
def k0_off584 (i : grid0.Coords) : Fin 1 → Nat :=
  let c1_i32_904 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2084 : BitVec 32 := Scalar.subi c1_i32_904 v11
  ![v2084.toNat]
def k0_off585 (i : grid0.Coords) : Fin 3 → Nat :=
  let c1_i32_904 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2084 : BitVec 32 := Scalar.subi c1_i32_904 v11
  let arg1 : BitVec 32 := BitVec.ofNat 32 (i 1).val
  let c256_i32_903 : BitVec 32 := 256#32
  let v2082 : BitVec 32 := Scalar.muli arg1 c256_i32_903
  let c144_i32 : BitVec 32 := 144#32
  let v2083 : BitVec 32 := Scalar.addi v2082 c144_i32
  let c8_i32_906 : BitVec 32 := 8#32
  let v2089 : BitVec 32 := Scalar.muli v2083 c8_i32_906
  let v2090 : BitVec 32 := v2089
  let c0_i32_907 : BitVec 32 := 0#32
  ![v2084.toNat, v2090.toNat, 0]
def k0_off586 (v2086 : BitVec 32) : Fin 2 → Nat :=
  let c8_i32_905 : BitVec 32 := 8#32
  let v2087 : BitVec 32 := Scalar.muli v2086 c8_i32_905
  let v2088 : BitVec 32 := v2087
  let c0_i32_908 : BitVec 32 := 0#32
  ![v2088.toNat, 0]

def k0_chk147 (i : grid0.Coords) (v0 : BitVec 32) (v28 : BitVec 32) (v2086 : BitVec 32) : Prop :=
  (∀ (k0_h1 : k0_cond1 i v0 = 1#1), ∀ (k0_h4 : k0_cond4 i v28 = 1#1), 8 ∣ (k0_mult291 v2086).toNat) ∧
  (∀ (k0_h1 : k0_cond1 i v0 = 1#1), ∀ (k0_h4 : k0_cond4 i v28 = 1#1), ∀ a, (k0_off586 v2086) a + S8x128.size a ≤ S262144x128.size a)
theorem k0_mult291_dvd : ∀ (i : grid0.Coords) (v0 : BitVec 32) (v28 : BitVec 32) (v2086 : BitVec 32) (k0_hw147 : k0_chk147 i v0 v28 v2086), ∀ (k0_h1 : k0_cond1 i v0 = 1#1), ∀ (k0_h4 : k0_cond4 i v28 = 1#1), 8 ∣ (k0_mult291 v2086).toNat := fun i v0 v28 v2086 k0_hw147 k0_h1 k0_h4 => k0_hw147.1 k0_h1 k0_h4
theorem k0_off586_inb : ∀ (i : grid0.Coords) (v0 : BitVec 32) (v28 : BitVec 32) (v2086 : BitVec 32) (k0_hw147 : k0_chk147 i v0 v28 v2086), ∀ (k0_h1 : k0_cond1 i v0 = 1#1), ∀ (k0_h4 : k0_cond4 i v28 = 1#1), ∀ a, (k0_off586 v2086) a + S8x128.size a ≤ S262144x128.size a := fun i v0 v28 v2086 k0_hw147 k0_h1 k0_h4 => k0_hw147.2 k0_h1 k0_h4

def k0_off587 (i : grid0.Coords) : Fin 1 → Nat :=
  let arg1 : BitVec 32 := BitVec.ofNat 32 (i 1).val
  let c256_i32_909 : BitVec 32 := 256#32
  let v2096 : BitVec 32 := Scalar.muli arg1 c256_i32_909
  let c145_i32 : BitVec 32 := 145#32
  let v2097 : BitVec 32 := Scalar.addi v2096 c145_i32
  let v2099 : Index := Scalar.indexCast v2097
  ![v2099.toNat]
def k0_mult293 (v2100 : BitVec 32) : BitVec 32 :=
  let c8_i32_911 : BitVec 32 := 8#32
  let v2101 : BitVec 32 := Scalar.muli v2100 c8_i32_911
  v2101

def k0_mult294 (i : grid0.Coords) : BitVec 32 :=
  let arg1 : BitVec 32 := BitVec.ofNat 32 (i 1).val
  let c256_i32_909 : BitVec 32 := 256#32
  let v2096 : BitVec 32 := Scalar.muli arg1 c256_i32_909
  let c145_i32 : BitVec 32 := 145#32
  let v2097 : BitVec 32 := Scalar.addi v2096 c145_i32
  let c8_i32_912 : BitVec 32 := 8#32
  let v2103 : BitVec 32 := Scalar.muli v2097 c8_i32_912
  v2103
def k0_off588 (i : grid0.Coords) : Fin 1 → Nat :=
  let c1_i32_910 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2098 : BitVec 32 := Scalar.subi c1_i32_910 v11
  ![v2098.toNat]
def k0_off589 (i : grid0.Coords) : Fin 3 → Nat :=
  let c1_i32_910 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2098 : BitVec 32 := Scalar.subi c1_i32_910 v11
  let arg1 : BitVec 32 := BitVec.ofNat 32 (i 1).val
  let c256_i32_909 : BitVec 32 := 256#32
  let v2096 : BitVec 32 := Scalar.muli arg1 c256_i32_909
  let c145_i32 : BitVec 32 := 145#32
  let v2097 : BitVec 32 := Scalar.addi v2096 c145_i32
  let c8_i32_912 : BitVec 32 := 8#32
  let v2103 : BitVec 32 := Scalar.muli v2097 c8_i32_912
  let v2104 : BitVec 32 := v2103
  let c0_i32_913 : BitVec 32 := 0#32
  ![v2098.toNat, v2104.toNat, 0]
def k0_off590 (v2100 : BitVec 32) : Fin 2 → Nat :=
  let c8_i32_911 : BitVec 32 := 8#32
  let v2101 : BitVec 32 := Scalar.muli v2100 c8_i32_911
  let v2102 : BitVec 32 := v2101
  let c0_i32_914 : BitVec 32 := 0#32
  ![v2102.toNat, 0]

def k0_chk148 (i : grid0.Coords) (v0 : BitVec 32) (v28 : BitVec 32) (v2100 : BitVec 32) : Prop :=
  (∀ (k0_h1 : k0_cond1 i v0 = 1#1), ∀ (k0_h4 : k0_cond4 i v28 = 1#1), 8 ∣ (k0_mult293 v2100).toNat) ∧
  (∀ (k0_h1 : k0_cond1 i v0 = 1#1), ∀ (k0_h4 : k0_cond4 i v28 = 1#1), ∀ a, (k0_off590 v2100) a + S8x128.size a ≤ S262144x128.size a)
theorem k0_mult293_dvd : ∀ (i : grid0.Coords) (v0 : BitVec 32) (v28 : BitVec 32) (v2100 : BitVec 32) (k0_hw148 : k0_chk148 i v0 v28 v2100), ∀ (k0_h1 : k0_cond1 i v0 = 1#1), ∀ (k0_h4 : k0_cond4 i v28 = 1#1), 8 ∣ (k0_mult293 v2100).toNat := fun i v0 v28 v2100 k0_hw148 k0_h1 k0_h4 => k0_hw148.1 k0_h1 k0_h4
theorem k0_off590_inb : ∀ (i : grid0.Coords) (v0 : BitVec 32) (v28 : BitVec 32) (v2100 : BitVec 32) (k0_hw148 : k0_chk148 i v0 v28 v2100), ∀ (k0_h1 : k0_cond1 i v0 = 1#1), ∀ (k0_h4 : k0_cond4 i v28 = 1#1), ∀ a, (k0_off590 v2100) a + S8x128.size a ≤ S262144x128.size a := fun i v0 v28 v2100 k0_hw148 k0_h1 k0_h4 => k0_hw148.2 k0_h1 k0_h4

def k0_off591 (i : grid0.Coords) : Fin 1 → Nat :=
  let arg1 : BitVec 32 := BitVec.ofNat 32 (i 1).val
  let c256_i32_915 : BitVec 32 := 256#32
  let v2110 : BitVec 32 := Scalar.muli arg1 c256_i32_915
  let c146_i32 : BitVec 32 := 146#32
  let v2111 : BitVec 32 := Scalar.addi v2110 c146_i32
  let v2113 : Index := Scalar.indexCast v2111
  ![v2113.toNat]
def k0_mult295 (v2114 : BitVec 32) : BitVec 32 :=
  let c8_i32_917 : BitVec 32 := 8#32
  let v2115 : BitVec 32 := Scalar.muli v2114 c8_i32_917
  v2115

def k0_mult296 (i : grid0.Coords) : BitVec 32 :=
  let arg1 : BitVec 32 := BitVec.ofNat 32 (i 1).val
  let c256_i32_915 : BitVec 32 := 256#32
  let v2110 : BitVec 32 := Scalar.muli arg1 c256_i32_915
  let c146_i32 : BitVec 32 := 146#32
  let v2111 : BitVec 32 := Scalar.addi v2110 c146_i32
  let c8_i32_918 : BitVec 32 := 8#32
  let v2117 : BitVec 32 := Scalar.muli v2111 c8_i32_918
  v2117
def k0_off592 (i : grid0.Coords) : Fin 1 → Nat :=
  let c1_i32_916 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2112 : BitVec 32 := Scalar.subi c1_i32_916 v11
  ![v2112.toNat]
def k0_off593 (i : grid0.Coords) : Fin 3 → Nat :=
  let c1_i32_916 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2112 : BitVec 32 := Scalar.subi c1_i32_916 v11
  let arg1 : BitVec 32 := BitVec.ofNat 32 (i 1).val
  let c256_i32_915 : BitVec 32 := 256#32
  let v2110 : BitVec 32 := Scalar.muli arg1 c256_i32_915
  let c146_i32 : BitVec 32 := 146#32
  let v2111 : BitVec 32 := Scalar.addi v2110 c146_i32
  let c8_i32_918 : BitVec 32 := 8#32
  let v2117 : BitVec 32 := Scalar.muli v2111 c8_i32_918
  let v2118 : BitVec 32 := v2117
  let c0_i32_919 : BitVec 32 := 0#32
  ![v2112.toNat, v2118.toNat, 0]
def k0_off594 (v2114 : BitVec 32) : Fin 2 → Nat :=
  let c8_i32_917 : BitVec 32 := 8#32
  let v2115 : BitVec 32 := Scalar.muli v2114 c8_i32_917
  let v2116 : BitVec 32 := v2115
  let c0_i32_920 : BitVec 32 := 0#32
  ![v2116.toNat, 0]

def k0_chk149 (i : grid0.Coords) (v0 : BitVec 32) (v28 : BitVec 32) (v2114 : BitVec 32) : Prop :=
  (∀ (k0_h1 : k0_cond1 i v0 = 1#1), ∀ (k0_h4 : k0_cond4 i v28 = 1#1), 8 ∣ (k0_mult295 v2114).toNat) ∧
  (∀ (k0_h1 : k0_cond1 i v0 = 1#1), ∀ (k0_h4 : k0_cond4 i v28 = 1#1), ∀ a, (k0_off594 v2114) a + S8x128.size a ≤ S262144x128.size a)
theorem k0_mult295_dvd : ∀ (i : grid0.Coords) (v0 : BitVec 32) (v28 : BitVec 32) (v2114 : BitVec 32) (k0_hw149 : k0_chk149 i v0 v28 v2114), ∀ (k0_h1 : k0_cond1 i v0 = 1#1), ∀ (k0_h4 : k0_cond4 i v28 = 1#1), 8 ∣ (k0_mult295 v2114).toNat := fun i v0 v28 v2114 k0_hw149 k0_h1 k0_h4 => k0_hw149.1 k0_h1 k0_h4
theorem k0_off594_inb : ∀ (i : grid0.Coords) (v0 : BitVec 32) (v28 : BitVec 32) (v2114 : BitVec 32) (k0_hw149 : k0_chk149 i v0 v28 v2114), ∀ (k0_h1 : k0_cond1 i v0 = 1#1), ∀ (k0_h4 : k0_cond4 i v28 = 1#1), ∀ a, (k0_off594 v2114) a + S8x128.size a ≤ S262144x128.size a := fun i v0 v28 v2114 k0_hw149 k0_h1 k0_h4 => k0_hw149.2 k0_h1 k0_h4

def k0_off595 (i : grid0.Coords) : Fin 1 → Nat :=
  let arg1 : BitVec 32 := BitVec.ofNat 32 (i 1).val
  let c256_i32_921 : BitVec 32 := 256#32
  let v2124 : BitVec 32 := Scalar.muli arg1 c256_i32_921
  let c147_i32 : BitVec 32 := 147#32
  let v2125 : BitVec 32 := Scalar.addi v2124 c147_i32
  let v2127 : Index := Scalar.indexCast v2125
  ![v2127.toNat]
def k0_mult297 (v2128 : BitVec 32) : BitVec 32 :=
  let c8_i32_923 : BitVec 32 := 8#32
  let v2129 : BitVec 32 := Scalar.muli v2128 c8_i32_923
  v2129

def k0_mult298 (i : grid0.Coords) : BitVec 32 :=
  let arg1 : BitVec 32 := BitVec.ofNat 32 (i 1).val
  let c256_i32_921 : BitVec 32 := 256#32
  let v2124 : BitVec 32 := Scalar.muli arg1 c256_i32_921
  let c147_i32 : BitVec 32 := 147#32
  let v2125 : BitVec 32 := Scalar.addi v2124 c147_i32
  let c8_i32_924 : BitVec 32 := 8#32
  let v2131 : BitVec 32 := Scalar.muli v2125 c8_i32_924
  v2131
def k0_off596 (i : grid0.Coords) : Fin 1 → Nat :=
  let c1_i32_922 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2126 : BitVec 32 := Scalar.subi c1_i32_922 v11
  ![v2126.toNat]
def k0_off597 (i : grid0.Coords) : Fin 3 → Nat :=
  let c1_i32_922 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2126 : BitVec 32 := Scalar.subi c1_i32_922 v11
  let arg1 : BitVec 32 := BitVec.ofNat 32 (i 1).val
  let c256_i32_921 : BitVec 32 := 256#32
  let v2124 : BitVec 32 := Scalar.muli arg1 c256_i32_921
  let c147_i32 : BitVec 32 := 147#32
  let v2125 : BitVec 32 := Scalar.addi v2124 c147_i32
  let c8_i32_924 : BitVec 32 := 8#32
  let v2131 : BitVec 32 := Scalar.muli v2125 c8_i32_924
  let v2132 : BitVec 32 := v2131
  let c0_i32_925 : BitVec 32 := 0#32
  ![v2126.toNat, v2132.toNat, 0]
def k0_off598 (v2128 : BitVec 32) : Fin 2 → Nat :=
  let c8_i32_923 : BitVec 32 := 8#32
  let v2129 : BitVec 32 := Scalar.muli v2128 c8_i32_923
  let v2130 : BitVec 32 := v2129
  let c0_i32_926 : BitVec 32 := 0#32
  ![v2130.toNat, 0]

def k0_chk150 (i : grid0.Coords) (v0 : BitVec 32) (v28 : BitVec 32) (v2128 : BitVec 32) : Prop :=
  (∀ (k0_h1 : k0_cond1 i v0 = 1#1), ∀ (k0_h4 : k0_cond4 i v28 = 1#1), 8 ∣ (k0_mult297 v2128).toNat) ∧
  (∀ (k0_h1 : k0_cond1 i v0 = 1#1), ∀ (k0_h4 : k0_cond4 i v28 = 1#1), ∀ a, (k0_off598 v2128) a + S8x128.size a ≤ S262144x128.size a)
theorem k0_mult297_dvd : ∀ (i : grid0.Coords) (v0 : BitVec 32) (v28 : BitVec 32) (v2128 : BitVec 32) (k0_hw150 : k0_chk150 i v0 v28 v2128), ∀ (k0_h1 : k0_cond1 i v0 = 1#1), ∀ (k0_h4 : k0_cond4 i v28 = 1#1), 8 ∣ (k0_mult297 v2128).toNat := fun i v0 v28 v2128 k0_hw150 k0_h1 k0_h4 => k0_hw150.1 k0_h1 k0_h4
theorem k0_off598_inb : ∀ (i : grid0.Coords) (v0 : BitVec 32) (v28 : BitVec 32) (v2128 : BitVec 32) (k0_hw150 : k0_chk150 i v0 v28 v2128), ∀ (k0_h1 : k0_cond1 i v0 = 1#1), ∀ (k0_h4 : k0_cond4 i v28 = 1#1), ∀ a, (k0_off598 v2128) a + S8x128.size a ≤ S262144x128.size a := fun i v0 v28 v2128 k0_hw150 k0_h1 k0_h4 => k0_hw150.2 k0_h1 k0_h4

def k0_off599 (i : grid0.Coords) : Fin 1 → Nat :=
  let arg1 : BitVec 32 := BitVec.ofNat 32 (i 1).val
  let c256_i32_927 : BitVec 32 := 256#32
  let v2138 : BitVec 32 := Scalar.muli arg1 c256_i32_927
  let c148_i32 : BitVec 32 := 148#32
  let v2139 : BitVec 32 := Scalar.addi v2138 c148_i32
  let v2141 : Index := Scalar.indexCast v2139
  ![v2141.toNat]
def k0_mult299 (v2142 : BitVec 32) : BitVec 32 :=
  let c8_i32_929 : BitVec 32 := 8#32
  let v2143 : BitVec 32 := Scalar.muli v2142 c8_i32_929
  v2143

def k0_mult300 (i : grid0.Coords) : BitVec 32 :=
  let arg1 : BitVec 32 := BitVec.ofNat 32 (i 1).val
  let c256_i32_927 : BitVec 32 := 256#32
  let v2138 : BitVec 32 := Scalar.muli arg1 c256_i32_927
  let c148_i32 : BitVec 32 := 148#32
  let v2139 : BitVec 32 := Scalar.addi v2138 c148_i32
  let c8_i32_930 : BitVec 32 := 8#32
  let v2145 : BitVec 32 := Scalar.muli v2139 c8_i32_930
  v2145
def k0_off600 (i : grid0.Coords) : Fin 1 → Nat :=
  let c1_i32_928 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2140 : BitVec 32 := Scalar.subi c1_i32_928 v11
  ![v2140.toNat]
def k0_off601 (i : grid0.Coords) : Fin 3 → Nat :=
  let c1_i32_928 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2140 : BitVec 32 := Scalar.subi c1_i32_928 v11
  let arg1 : BitVec 32 := BitVec.ofNat 32 (i 1).val
  let c256_i32_927 : BitVec 32 := 256#32
  let v2138 : BitVec 32 := Scalar.muli arg1 c256_i32_927
  let c148_i32 : BitVec 32 := 148#32
  let v2139 : BitVec 32 := Scalar.addi v2138 c148_i32
  let c8_i32_930 : BitVec 32 := 8#32
  let v2145 : BitVec 32 := Scalar.muli v2139 c8_i32_930
  let v2146 : BitVec 32 := v2145
  let c0_i32_931 : BitVec 32 := 0#32
  ![v2140.toNat, v2146.toNat, 0]
def k0_off602 (v2142 : BitVec 32) : Fin 2 → Nat :=
  let c8_i32_929 : BitVec 32 := 8#32
  let v2143 : BitVec 32 := Scalar.muli v2142 c8_i32_929
  let v2144 : BitVec 32 := v2143
  let c0_i32_932 : BitVec 32 := 0#32
  ![v2144.toNat, 0]

def k0_chk151 (i : grid0.Coords) (v0 : BitVec 32) (v28 : BitVec 32) (v2142 : BitVec 32) : Prop :=
  (∀ (k0_h1 : k0_cond1 i v0 = 1#1), ∀ (k0_h4 : k0_cond4 i v28 = 1#1), 8 ∣ (k0_mult299 v2142).toNat) ∧
  (∀ (k0_h1 : k0_cond1 i v0 = 1#1), ∀ (k0_h4 : k0_cond4 i v28 = 1#1), ∀ a, (k0_off602 v2142) a + S8x128.size a ≤ S262144x128.size a)
theorem k0_mult299_dvd : ∀ (i : grid0.Coords) (v0 : BitVec 32) (v28 : BitVec 32) (v2142 : BitVec 32) (k0_hw151 : k0_chk151 i v0 v28 v2142), ∀ (k0_h1 : k0_cond1 i v0 = 1#1), ∀ (k0_h4 : k0_cond4 i v28 = 1#1), 8 ∣ (k0_mult299 v2142).toNat := fun i v0 v28 v2142 k0_hw151 k0_h1 k0_h4 => k0_hw151.1 k0_h1 k0_h4
theorem k0_off602_inb : ∀ (i : grid0.Coords) (v0 : BitVec 32) (v28 : BitVec 32) (v2142 : BitVec 32) (k0_hw151 : k0_chk151 i v0 v28 v2142), ∀ (k0_h1 : k0_cond1 i v0 = 1#1), ∀ (k0_h4 : k0_cond4 i v28 = 1#1), ∀ a, (k0_off602 v2142) a + S8x128.size a ≤ S262144x128.size a := fun i v0 v28 v2142 k0_hw151 k0_h1 k0_h4 => k0_hw151.2 k0_h1 k0_h4

def k0_off603 (i : grid0.Coords) : Fin 1 → Nat :=
  let arg1 : BitVec 32 := BitVec.ofNat 32 (i 1).val
  let c256_i32_933 : BitVec 32 := 256#32
  let v2152 : BitVec 32 := Scalar.muli arg1 c256_i32_933
  let c149_i32 : BitVec 32 := 149#32
  let v2153 : BitVec 32 := Scalar.addi v2152 c149_i32
  let v2155 : Index := Scalar.indexCast v2153
  ![v2155.toNat]
def k0_mult301 (v2156 : BitVec 32) : BitVec 32 :=
  let c8_i32_935 : BitVec 32 := 8#32
  let v2157 : BitVec 32 := Scalar.muli v2156 c8_i32_935
  v2157

def k0_mult302 (i : grid0.Coords) : BitVec 32 :=
  let arg1 : BitVec 32 := BitVec.ofNat 32 (i 1).val
  let c256_i32_933 : BitVec 32 := 256#32
  let v2152 : BitVec 32 := Scalar.muli arg1 c256_i32_933
  let c149_i32 : BitVec 32 := 149#32
  let v2153 : BitVec 32 := Scalar.addi v2152 c149_i32
  let c8_i32_936 : BitVec 32 := 8#32
  let v2159 : BitVec 32 := Scalar.muli v2153 c8_i32_936
  v2159
def k0_off604 (i : grid0.Coords) : Fin 1 → Nat :=
  let c1_i32_934 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2154 : BitVec 32 := Scalar.subi c1_i32_934 v11
  ![v2154.toNat]
def k0_off605 (i : grid0.Coords) : Fin 3 → Nat :=
  let c1_i32_934 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2154 : BitVec 32 := Scalar.subi c1_i32_934 v11
  let arg1 : BitVec 32 := BitVec.ofNat 32 (i 1).val
  let c256_i32_933 : BitVec 32 := 256#32
  let v2152 : BitVec 32 := Scalar.muli arg1 c256_i32_933
  let c149_i32 : BitVec 32 := 149#32
  let v2153 : BitVec 32 := Scalar.addi v2152 c149_i32
  let c8_i32_936 : BitVec 32 := 8#32
  let v2159 : BitVec 32 := Scalar.muli v2153 c8_i32_936
  let v2160 : BitVec 32 := v2159
  let c0_i32_937 : BitVec 32 := 0#32
  ![v2154.toNat, v2160.toNat, 0]
def k0_off606 (v2156 : BitVec 32) : Fin 2 → Nat :=
  let c8_i32_935 : BitVec 32 := 8#32
  let v2157 : BitVec 32 := Scalar.muli v2156 c8_i32_935
  let v2158 : BitVec 32 := v2157
  let c0_i32_938 : BitVec 32 := 0#32
  ![v2158.toNat, 0]

def k0_chk152 (i : grid0.Coords) (v0 : BitVec 32) (v28 : BitVec 32) (v2156 : BitVec 32) : Prop :=
  (∀ (k0_h1 : k0_cond1 i v0 = 1#1), ∀ (k0_h4 : k0_cond4 i v28 = 1#1), 8 ∣ (k0_mult301 v2156).toNat) ∧
  (∀ (k0_h1 : k0_cond1 i v0 = 1#1), ∀ (k0_h4 : k0_cond4 i v28 = 1#1), ∀ a, (k0_off606 v2156) a + S8x128.size a ≤ S262144x128.size a)
theorem k0_mult301_dvd : ∀ (i : grid0.Coords) (v0 : BitVec 32) (v28 : BitVec 32) (v2156 : BitVec 32) (k0_hw152 : k0_chk152 i v0 v28 v2156), ∀ (k0_h1 : k0_cond1 i v0 = 1#1), ∀ (k0_h4 : k0_cond4 i v28 = 1#1), 8 ∣ (k0_mult301 v2156).toNat := fun i v0 v28 v2156 k0_hw152 k0_h1 k0_h4 => k0_hw152.1 k0_h1 k0_h4
theorem k0_off606_inb : ∀ (i : grid0.Coords) (v0 : BitVec 32) (v28 : BitVec 32) (v2156 : BitVec 32) (k0_hw152 : k0_chk152 i v0 v28 v2156), ∀ (k0_h1 : k0_cond1 i v0 = 1#1), ∀ (k0_h4 : k0_cond4 i v28 = 1#1), ∀ a, (k0_off606 v2156) a + S8x128.size a ≤ S262144x128.size a := fun i v0 v28 v2156 k0_hw152 k0_h1 k0_h4 => k0_hw152.2 k0_h1 k0_h4

def k0_off607 (i : grid0.Coords) : Fin 1 → Nat :=
  let arg1 : BitVec 32 := BitVec.ofNat 32 (i 1).val
  let c256_i32_939 : BitVec 32 := 256#32
  let v2166 : BitVec 32 := Scalar.muli arg1 c256_i32_939
  let c150_i32 : BitVec 32 := 150#32
  let v2167 : BitVec 32 := Scalar.addi v2166 c150_i32
  let v2169 : Index := Scalar.indexCast v2167
  ![v2169.toNat]
def k0_mult303 (v2170 : BitVec 32) : BitVec 32 :=
  let c8_i32_941 : BitVec 32 := 8#32
  let v2171 : BitVec 32 := Scalar.muli v2170 c8_i32_941
  v2171

def k0_mult304 (i : grid0.Coords) : BitVec 32 :=
  let arg1 : BitVec 32 := BitVec.ofNat 32 (i 1).val
  let c256_i32_939 : BitVec 32 := 256#32
  let v2166 : BitVec 32 := Scalar.muli arg1 c256_i32_939
  let c150_i32 : BitVec 32 := 150#32
  let v2167 : BitVec 32 := Scalar.addi v2166 c150_i32
  let c8_i32_942 : BitVec 32 := 8#32
  let v2173 : BitVec 32 := Scalar.muli v2167 c8_i32_942
  v2173
def k0_off608 (i : grid0.Coords) : Fin 1 → Nat :=
  let c1_i32_940 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2168 : BitVec 32 := Scalar.subi c1_i32_940 v11
  ![v2168.toNat]
def k0_off609 (i : grid0.Coords) : Fin 3 → Nat :=
  let c1_i32_940 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2168 : BitVec 32 := Scalar.subi c1_i32_940 v11
  let arg1 : BitVec 32 := BitVec.ofNat 32 (i 1).val
  let c256_i32_939 : BitVec 32 := 256#32
  let v2166 : BitVec 32 := Scalar.muli arg1 c256_i32_939
  let c150_i32 : BitVec 32 := 150#32
  let v2167 : BitVec 32 := Scalar.addi v2166 c150_i32
  let c8_i32_942 : BitVec 32 := 8#32
  let v2173 : BitVec 32 := Scalar.muli v2167 c8_i32_942
  let v2174 : BitVec 32 := v2173
  let c0_i32_943 : BitVec 32 := 0#32
  ![v2168.toNat, v2174.toNat, 0]
def k0_off610 (v2170 : BitVec 32) : Fin 2 → Nat :=
  let c8_i32_941 : BitVec 32 := 8#32
  let v2171 : BitVec 32 := Scalar.muli v2170 c8_i32_941
  let v2172 : BitVec 32 := v2171
  let c0_i32_944 : BitVec 32 := 0#32
  ![v2172.toNat, 0]

def k0_chk153 (i : grid0.Coords) (v0 : BitVec 32) (v28 : BitVec 32) (v2170 : BitVec 32) : Prop :=
  (∀ (k0_h1 : k0_cond1 i v0 = 1#1), ∀ (k0_h4 : k0_cond4 i v28 = 1#1), 8 ∣ (k0_mult303 v2170).toNat) ∧
  (∀ (k0_h1 : k0_cond1 i v0 = 1#1), ∀ (k0_h4 : k0_cond4 i v28 = 1#1), ∀ a, (k0_off610 v2170) a + S8x128.size a ≤ S262144x128.size a)
theorem k0_mult303_dvd : ∀ (i : grid0.Coords) (v0 : BitVec 32) (v28 : BitVec 32) (v2170 : BitVec 32) (k0_hw153 : k0_chk153 i v0 v28 v2170), ∀ (k0_h1 : k0_cond1 i v0 = 1#1), ∀ (k0_h4 : k0_cond4 i v28 = 1#1), 8 ∣ (k0_mult303 v2170).toNat := fun i v0 v28 v2170 k0_hw153 k0_h1 k0_h4 => k0_hw153.1 k0_h1 k0_h4
theorem k0_off610_inb : ∀ (i : grid0.Coords) (v0 : BitVec 32) (v28 : BitVec 32) (v2170 : BitVec 32) (k0_hw153 : k0_chk153 i v0 v28 v2170), ∀ (k0_h1 : k0_cond1 i v0 = 1#1), ∀ (k0_h4 : k0_cond4 i v28 = 1#1), ∀ a, (k0_off610 v2170) a + S8x128.size a ≤ S262144x128.size a := fun i v0 v28 v2170 k0_hw153 k0_h1 k0_h4 => k0_hw153.2 k0_h1 k0_h4

def k0_off611 (i : grid0.Coords) : Fin 1 → Nat :=
  let arg1 : BitVec 32 := BitVec.ofNat 32 (i 1).val
  let c256_i32_945 : BitVec 32 := 256#32
  let v2180 : BitVec 32 := Scalar.muli arg1 c256_i32_945
  let c151_i32 : BitVec 32 := 151#32
  let v2181 : BitVec 32 := Scalar.addi v2180 c151_i32
  let v2183 : Index := Scalar.indexCast v2181
  ![v2183.toNat]
def k0_mult305 (v2184 : BitVec 32) : BitVec 32 :=
  let c8_i32_947 : BitVec 32 := 8#32
  let v2185 : BitVec 32 := Scalar.muli v2184 c8_i32_947
  v2185

def k0_mult306 (i : grid0.Coords) : BitVec 32 :=
  let arg1 : BitVec 32 := BitVec.ofNat 32 (i 1).val
  let c256_i32_945 : BitVec 32 := 256#32
  let v2180 : BitVec 32 := Scalar.muli arg1 c256_i32_945
  let c151_i32 : BitVec 32 := 151#32
  let v2181 : BitVec 32 := Scalar.addi v2180 c151_i32
  let c8_i32_948 : BitVec 32 := 8#32
  let v2187 : BitVec 32 := Scalar.muli v2181 c8_i32_948
  v2187
def k0_off612 (i : grid0.Coords) : Fin 1 → Nat :=
  let c1_i32_946 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2182 : BitVec 32 := Scalar.subi c1_i32_946 v11
  ![v2182.toNat]
def k0_off613 (i : grid0.Coords) : Fin 3 → Nat :=
  let c1_i32_946 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2182 : BitVec 32 := Scalar.subi c1_i32_946 v11
  let arg1 : BitVec 32 := BitVec.ofNat 32 (i 1).val
  let c256_i32_945 : BitVec 32 := 256#32
  let v2180 : BitVec 32 := Scalar.muli arg1 c256_i32_945
  let c151_i32 : BitVec 32 := 151#32
  let v2181 : BitVec 32 := Scalar.addi v2180 c151_i32
  let c8_i32_948 : BitVec 32 := 8#32
  let v2187 : BitVec 32 := Scalar.muli v2181 c8_i32_948
  let v2188 : BitVec 32 := v2187
  let c0_i32_949 : BitVec 32 := 0#32
  ![v2182.toNat, v2188.toNat, 0]
def k0_off614 (v2184 : BitVec 32) : Fin 2 → Nat :=
  let c8_i32_947 : BitVec 32 := 8#32
  let v2185 : BitVec 32 := Scalar.muli v2184 c8_i32_947
  let v2186 : BitVec 32 := v2185
  let c0_i32_950 : BitVec 32 := 0#32
  ![v2186.toNat, 0]

def k0_chk154 (i : grid0.Coords) (v0 : BitVec 32) (v28 : BitVec 32) (v2184 : BitVec 32) : Prop :=
  (∀ (k0_h1 : k0_cond1 i v0 = 1#1), ∀ (k0_h4 : k0_cond4 i v28 = 1#1), 8 ∣ (k0_mult305 v2184).toNat) ∧
  (∀ (k0_h1 : k0_cond1 i v0 = 1#1), ∀ (k0_h4 : k0_cond4 i v28 = 1#1), ∀ a, (k0_off614 v2184) a + S8x128.size a ≤ S262144x128.size a)
theorem k0_mult305_dvd : ∀ (i : grid0.Coords) (v0 : BitVec 32) (v28 : BitVec 32) (v2184 : BitVec 32) (k0_hw154 : k0_chk154 i v0 v28 v2184), ∀ (k0_h1 : k0_cond1 i v0 = 1#1), ∀ (k0_h4 : k0_cond4 i v28 = 1#1), 8 ∣ (k0_mult305 v2184).toNat := fun i v0 v28 v2184 k0_hw154 k0_h1 k0_h4 => k0_hw154.1 k0_h1 k0_h4
theorem k0_off614_inb : ∀ (i : grid0.Coords) (v0 : BitVec 32) (v28 : BitVec 32) (v2184 : BitVec 32) (k0_hw154 : k0_chk154 i v0 v28 v2184), ∀ (k0_h1 : k0_cond1 i v0 = 1#1), ∀ (k0_h4 : k0_cond4 i v28 = 1#1), ∀ a, (k0_off614 v2184) a + S8x128.size a ≤ S262144x128.size a := fun i v0 v28 v2184 k0_hw154 k0_h1 k0_h4 => k0_hw154.2 k0_h1 k0_h4

def k0_off615 (i : grid0.Coords) : Fin 1 → Nat :=
  let arg1 : BitVec 32 := BitVec.ofNat 32 (i 1).val
  let c256_i32_951 : BitVec 32 := 256#32
  let v2194 : BitVec 32 := Scalar.muli arg1 c256_i32_951
  let c152_i32 : BitVec 32 := 152#32
  let v2195 : BitVec 32 := Scalar.addi v2194 c152_i32
  let v2197 : Index := Scalar.indexCast v2195
  ![v2197.toNat]
def k0_mult307 (v2198 : BitVec 32) : BitVec 32 :=
  let c8_i32_953 : BitVec 32 := 8#32
  let v2199 : BitVec 32 := Scalar.muli v2198 c8_i32_953
  v2199

def k0_mult308 (i : grid0.Coords) : BitVec 32 :=
  let arg1 : BitVec 32 := BitVec.ofNat 32 (i 1).val
  let c256_i32_951 : BitVec 32 := 256#32
  let v2194 : BitVec 32 := Scalar.muli arg1 c256_i32_951
  let c152_i32 : BitVec 32 := 152#32
  let v2195 : BitVec 32 := Scalar.addi v2194 c152_i32
  let c8_i32_954 : BitVec 32 := 8#32
  let v2201 : BitVec 32 := Scalar.muli v2195 c8_i32_954
  v2201
def k0_off616 (i : grid0.Coords) : Fin 1 → Nat :=
  let c1_i32_952 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2196 : BitVec 32 := Scalar.subi c1_i32_952 v11
  ![v2196.toNat]
def k0_off617 (i : grid0.Coords) : Fin 3 → Nat :=
  let c1_i32_952 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2196 : BitVec 32 := Scalar.subi c1_i32_952 v11
  let arg1 : BitVec 32 := BitVec.ofNat 32 (i 1).val
  let c256_i32_951 : BitVec 32 := 256#32
  let v2194 : BitVec 32 := Scalar.muli arg1 c256_i32_951
  let c152_i32 : BitVec 32 := 152#32
  let v2195 : BitVec 32 := Scalar.addi v2194 c152_i32
  let c8_i32_954 : BitVec 32 := 8#32
  let v2201 : BitVec 32 := Scalar.muli v2195 c8_i32_954
  let v2202 : BitVec 32 := v2201
  let c0_i32_955 : BitVec 32 := 0#32
  ![v2196.toNat, v2202.toNat, 0]
def k0_off618 (v2198 : BitVec 32) : Fin 2 → Nat :=
  let c8_i32_953 : BitVec 32 := 8#32
  let v2199 : BitVec 32 := Scalar.muli v2198 c8_i32_953
  let v2200 : BitVec 32 := v2199
  let c0_i32_956 : BitVec 32 := 0#32
  ![v2200.toNat, 0]

def k0_chk155 (i : grid0.Coords) (v0 : BitVec 32) (v28 : BitVec 32) (v2198 : BitVec 32) : Prop :=
  (∀ (k0_h1 : k0_cond1 i v0 = 1#1), ∀ (k0_h4 : k0_cond4 i v28 = 1#1), 8 ∣ (k0_mult307 v2198).toNat) ∧
  (∀ (k0_h1 : k0_cond1 i v0 = 1#1), ∀ (k0_h4 : k0_cond4 i v28 = 1#1), ∀ a, (k0_off618 v2198) a + S8x128.size a ≤ S262144x128.size a)
theorem k0_mult307_dvd : ∀ (i : grid0.Coords) (v0 : BitVec 32) (v28 : BitVec 32) (v2198 : BitVec 32) (k0_hw155 : k0_chk155 i v0 v28 v2198), ∀ (k0_h1 : k0_cond1 i v0 = 1#1), ∀ (k0_h4 : k0_cond4 i v28 = 1#1), 8 ∣ (k0_mult307 v2198).toNat := fun i v0 v28 v2198 k0_hw155 k0_h1 k0_h4 => k0_hw155.1 k0_h1 k0_h4
theorem k0_off618_inb : ∀ (i : grid0.Coords) (v0 : BitVec 32) (v28 : BitVec 32) (v2198 : BitVec 32) (k0_hw155 : k0_chk155 i v0 v28 v2198), ∀ (k0_h1 : k0_cond1 i v0 = 1#1), ∀ (k0_h4 : k0_cond4 i v28 = 1#1), ∀ a, (k0_off618 v2198) a + S8x128.size a ≤ S262144x128.size a := fun i v0 v28 v2198 k0_hw155 k0_h1 k0_h4 => k0_hw155.2 k0_h1 k0_h4

def k0_off619 (i : grid0.Coords) : Fin 1 → Nat :=
  let arg1 : BitVec 32 := BitVec.ofNat 32 (i 1).val
  let c256_i32_957 : BitVec 32 := 256#32
  let v2208 : BitVec 32 := Scalar.muli arg1 c256_i32_957
  let c153_i32 : BitVec 32 := 153#32
  let v2209 : BitVec 32 := Scalar.addi v2208 c153_i32
  let v2211 : Index := Scalar.indexCast v2209
  ![v2211.toNat]
def k0_mult309 (v2212 : BitVec 32) : BitVec 32 :=
  let c8_i32_959 : BitVec 32 := 8#32
  let v2213 : BitVec 32 := Scalar.muli v2212 c8_i32_959
  v2213

def k0_mult310 (i : grid0.Coords) : BitVec 32 :=
  let arg1 : BitVec 32 := BitVec.ofNat 32 (i 1).val
  let c256_i32_957 : BitVec 32 := 256#32
  let v2208 : BitVec 32 := Scalar.muli arg1 c256_i32_957
  let c153_i32 : BitVec 32 := 153#32
  let v2209 : BitVec 32 := Scalar.addi v2208 c153_i32
  let c8_i32_960 : BitVec 32 := 8#32
  let v2215 : BitVec 32 := Scalar.muli v2209 c8_i32_960
  v2215
def k0_off620 (i : grid0.Coords) : Fin 1 → Nat :=
  let c1_i32_958 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2210 : BitVec 32 := Scalar.subi c1_i32_958 v11
  ![v2210.toNat]
def k0_off621 (i : grid0.Coords) : Fin 3 → Nat :=
  let c1_i32_958 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2210 : BitVec 32 := Scalar.subi c1_i32_958 v11
  let arg1 : BitVec 32 := BitVec.ofNat 32 (i 1).val
  let c256_i32_957 : BitVec 32 := 256#32
  let v2208 : BitVec 32 := Scalar.muli arg1 c256_i32_957
  let c153_i32 : BitVec 32 := 153#32
  let v2209 : BitVec 32 := Scalar.addi v2208 c153_i32
  let c8_i32_960 : BitVec 32 := 8#32
  let v2215 : BitVec 32 := Scalar.muli v2209 c8_i32_960
  let v2216 : BitVec 32 := v2215
  let c0_i32_961 : BitVec 32 := 0#32
  ![v2210.toNat, v2216.toNat, 0]
def k0_off622 (v2212 : BitVec 32) : Fin 2 → Nat :=
  let c8_i32_959 : BitVec 32 := 8#32
  let v2213 : BitVec 32 := Scalar.muli v2212 c8_i32_959
  let v2214 : BitVec 32 := v2213
  let c0_i32_962 : BitVec 32 := 0#32
  ![v2214.toNat, 0]

def k0_chk156 (i : grid0.Coords) (v0 : BitVec 32) (v28 : BitVec 32) (v2212 : BitVec 32) : Prop :=
  (∀ (k0_h1 : k0_cond1 i v0 = 1#1), ∀ (k0_h4 : k0_cond4 i v28 = 1#1), 8 ∣ (k0_mult309 v2212).toNat) ∧
  (∀ (k0_h1 : k0_cond1 i v0 = 1#1), ∀ (k0_h4 : k0_cond4 i v28 = 1#1), ∀ a, (k0_off622 v2212) a + S8x128.size a ≤ S262144x128.size a)
theorem k0_mult309_dvd : ∀ (i : grid0.Coords) (v0 : BitVec 32) (v28 : BitVec 32) (v2212 : BitVec 32) (k0_hw156 : k0_chk156 i v0 v28 v2212), ∀ (k0_h1 : k0_cond1 i v0 = 1#1), ∀ (k0_h4 : k0_cond4 i v28 = 1#1), 8 ∣ (k0_mult309 v2212).toNat := fun i v0 v28 v2212 k0_hw156 k0_h1 k0_h4 => k0_hw156.1 k0_h1 k0_h4
theorem k0_off622_inb : ∀ (i : grid0.Coords) (v0 : BitVec 32) (v28 : BitVec 32) (v2212 : BitVec 32) (k0_hw156 : k0_chk156 i v0 v28 v2212), ∀ (k0_h1 : k0_cond1 i v0 = 1#1), ∀ (k0_h4 : k0_cond4 i v28 = 1#1), ∀ a, (k0_off622 v2212) a + S8x128.size a ≤ S262144x128.size a := fun i v0 v28 v2212 k0_hw156 k0_h1 k0_h4 => k0_hw156.2 k0_h1 k0_h4

def k0_off623 (i : grid0.Coords) : Fin 1 → Nat :=
  let arg1 : BitVec 32 := BitVec.ofNat 32 (i 1).val
  let c256_i32_963 : BitVec 32 := 256#32
  let v2222 : BitVec 32 := Scalar.muli arg1 c256_i32_963
  let c154_i32 : BitVec 32 := 154#32
  let v2223 : BitVec 32 := Scalar.addi v2222 c154_i32
  let v2225 : Index := Scalar.indexCast v2223
  ![v2225.toNat]
def k0_mult311 (v2226 : BitVec 32) : BitVec 32 :=
  let c8_i32_965 : BitVec 32 := 8#32
  let v2227 : BitVec 32 := Scalar.muli v2226 c8_i32_965
  v2227

def k0_mult312 (i : grid0.Coords) : BitVec 32 :=
  let arg1 : BitVec 32 := BitVec.ofNat 32 (i 1).val
  let c256_i32_963 : BitVec 32 := 256#32
  let v2222 : BitVec 32 := Scalar.muli arg1 c256_i32_963
  let c154_i32 : BitVec 32 := 154#32
  let v2223 : BitVec 32 := Scalar.addi v2222 c154_i32
  let c8_i32_966 : BitVec 32 := 8#32
  let v2229 : BitVec 32 := Scalar.muli v2223 c8_i32_966
  v2229
def k0_off624 (i : grid0.Coords) : Fin 1 → Nat :=
  let c1_i32_964 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2224 : BitVec 32 := Scalar.subi c1_i32_964 v11
  ![v2224.toNat]
def k0_off625 (i : grid0.Coords) : Fin 3 → Nat :=
  let c1_i32_964 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2224 : BitVec 32 := Scalar.subi c1_i32_964 v11
  let arg1 : BitVec 32 := BitVec.ofNat 32 (i 1).val
  let c256_i32_963 : BitVec 32 := 256#32
  let v2222 : BitVec 32 := Scalar.muli arg1 c256_i32_963
  let c154_i32 : BitVec 32 := 154#32
  let v2223 : BitVec 32 := Scalar.addi v2222 c154_i32
  let c8_i32_966 : BitVec 32 := 8#32
  let v2229 : BitVec 32 := Scalar.muli v2223 c8_i32_966
  let v2230 : BitVec 32 := v2229
  let c0_i32_967 : BitVec 32 := 0#32
  ![v2224.toNat, v2230.toNat, 0]
def k0_off626 (v2226 : BitVec 32) : Fin 2 → Nat :=
  let c8_i32_965 : BitVec 32 := 8#32
  let v2227 : BitVec 32 := Scalar.muli v2226 c8_i32_965
  let v2228 : BitVec 32 := v2227
  let c0_i32_968 : BitVec 32 := 0#32
  ![v2228.toNat, 0]

def k0_chk157 (i : grid0.Coords) (v0 : BitVec 32) (v28 : BitVec 32) (v2226 : BitVec 32) : Prop :=
  (∀ (k0_h1 : k0_cond1 i v0 = 1#1), ∀ (k0_h4 : k0_cond4 i v28 = 1#1), 8 ∣ (k0_mult311 v2226).toNat) ∧
  (∀ (k0_h1 : k0_cond1 i v0 = 1#1), ∀ (k0_h4 : k0_cond4 i v28 = 1#1), ∀ a, (k0_off626 v2226) a + S8x128.size a ≤ S262144x128.size a)
theorem k0_mult311_dvd : ∀ (i : grid0.Coords) (v0 : BitVec 32) (v28 : BitVec 32) (v2226 : BitVec 32) (k0_hw157 : k0_chk157 i v0 v28 v2226), ∀ (k0_h1 : k0_cond1 i v0 = 1#1), ∀ (k0_h4 : k0_cond4 i v28 = 1#1), 8 ∣ (k0_mult311 v2226).toNat := fun i v0 v28 v2226 k0_hw157 k0_h1 k0_h4 => k0_hw157.1 k0_h1 k0_h4
theorem k0_off626_inb : ∀ (i : grid0.Coords) (v0 : BitVec 32) (v28 : BitVec 32) (v2226 : BitVec 32) (k0_hw157 : k0_chk157 i v0 v28 v2226), ∀ (k0_h1 : k0_cond1 i v0 = 1#1), ∀ (k0_h4 : k0_cond4 i v28 = 1#1), ∀ a, (k0_off626 v2226) a + S8x128.size a ≤ S262144x128.size a := fun i v0 v28 v2226 k0_hw157 k0_h1 k0_h4 => k0_hw157.2 k0_h1 k0_h4

def k0_off627 (i : grid0.Coords) : Fin 1 → Nat :=
  let arg1 : BitVec 32 := BitVec.ofNat 32 (i 1).val
  let c256_i32_969 : BitVec 32 := 256#32
  let v2236 : BitVec 32 := Scalar.muli arg1 c256_i32_969
  let c155_i32 : BitVec 32 := 155#32
  let v2237 : BitVec 32 := Scalar.addi v2236 c155_i32
  let v2239 : Index := Scalar.indexCast v2237
  ![v2239.toNat]
def k0_mult313 (v2240 : BitVec 32) : BitVec 32 :=
  let c8_i32_971 : BitVec 32 := 8#32
  let v2241 : BitVec 32 := Scalar.muli v2240 c8_i32_971
  v2241

def k0_mult314 (i : grid0.Coords) : BitVec 32 :=
  let arg1 : BitVec 32 := BitVec.ofNat 32 (i 1).val
  let c256_i32_969 : BitVec 32 := 256#32
  let v2236 : BitVec 32 := Scalar.muli arg1 c256_i32_969
  let c155_i32 : BitVec 32 := 155#32
  let v2237 : BitVec 32 := Scalar.addi v2236 c155_i32
  let c8_i32_972 : BitVec 32 := 8#32
  let v2243 : BitVec 32 := Scalar.muli v2237 c8_i32_972
  v2243
def k0_off628 (i : grid0.Coords) : Fin 1 → Nat :=
  let c1_i32_970 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2238 : BitVec 32 := Scalar.subi c1_i32_970 v11
  ![v2238.toNat]
def k0_off629 (i : grid0.Coords) : Fin 3 → Nat :=
  let c1_i32_970 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2238 : BitVec 32 := Scalar.subi c1_i32_970 v11
  let arg1 : BitVec 32 := BitVec.ofNat 32 (i 1).val
  let c256_i32_969 : BitVec 32 := 256#32
  let v2236 : BitVec 32 := Scalar.muli arg1 c256_i32_969
  let c155_i32 : BitVec 32 := 155#32
  let v2237 : BitVec 32 := Scalar.addi v2236 c155_i32
  let c8_i32_972 : BitVec 32 := 8#32
  let v2243 : BitVec 32 := Scalar.muli v2237 c8_i32_972
  let v2244 : BitVec 32 := v2243
  let c0_i32_973 : BitVec 32 := 0#32
  ![v2238.toNat, v2244.toNat, 0]
def k0_off630 (v2240 : BitVec 32) : Fin 2 → Nat :=
  let c8_i32_971 : BitVec 32 := 8#32
  let v2241 : BitVec 32 := Scalar.muli v2240 c8_i32_971
  let v2242 : BitVec 32 := v2241
  let c0_i32_974 : BitVec 32 := 0#32
  ![v2242.toNat, 0]

def k0_chk158 (i : grid0.Coords) (v0 : BitVec 32) (v28 : BitVec 32) (v2240 : BitVec 32) : Prop :=
  (∀ (k0_h1 : k0_cond1 i v0 = 1#1), ∀ (k0_h4 : k0_cond4 i v28 = 1#1), 8 ∣ (k0_mult313 v2240).toNat) ∧
  (∀ (k0_h1 : k0_cond1 i v0 = 1#1), ∀ (k0_h4 : k0_cond4 i v28 = 1#1), ∀ a, (k0_off630 v2240) a + S8x128.size a ≤ S262144x128.size a)
theorem k0_mult313_dvd : ∀ (i : grid0.Coords) (v0 : BitVec 32) (v28 : BitVec 32) (v2240 : BitVec 32) (k0_hw158 : k0_chk158 i v0 v28 v2240), ∀ (k0_h1 : k0_cond1 i v0 = 1#1), ∀ (k0_h4 : k0_cond4 i v28 = 1#1), 8 ∣ (k0_mult313 v2240).toNat := fun i v0 v28 v2240 k0_hw158 k0_h1 k0_h4 => k0_hw158.1 k0_h1 k0_h4
theorem k0_off630_inb : ∀ (i : grid0.Coords) (v0 : BitVec 32) (v28 : BitVec 32) (v2240 : BitVec 32) (k0_hw158 : k0_chk158 i v0 v28 v2240), ∀ (k0_h1 : k0_cond1 i v0 = 1#1), ∀ (k0_h4 : k0_cond4 i v28 = 1#1), ∀ a, (k0_off630 v2240) a + S8x128.size a ≤ S262144x128.size a := fun i v0 v28 v2240 k0_hw158 k0_h1 k0_h4 => k0_hw158.2 k0_h1 k0_h4

def k0_off631 (i : grid0.Coords) : Fin 1 → Nat :=
  let arg1 : BitVec 32 := BitVec.ofNat 32 (i 1).val
  let c256_i32_975 : BitVec 32 := 256#32
  let v2250 : BitVec 32 := Scalar.muli arg1 c256_i32_975
  let c156_i32 : BitVec 32 := 156#32
  let v2251 : BitVec 32 := Scalar.addi v2250 c156_i32
  let v2253 : Index := Scalar.indexCast v2251
  ![v2253.toNat]
def k0_mult315 (v2254 : BitVec 32) : BitVec 32 :=
  let c8_i32_977 : BitVec 32 := 8#32
  let v2255 : BitVec 32 := Scalar.muli v2254 c8_i32_977
  v2255

def k0_mult316 (i : grid0.Coords) : BitVec 32 :=
  let arg1 : BitVec 32 := BitVec.ofNat 32 (i 1).val
  let c256_i32_975 : BitVec 32 := 256#32
  let v2250 : BitVec 32 := Scalar.muli arg1 c256_i32_975
  let c156_i32 : BitVec 32 := 156#32
  let v2251 : BitVec 32 := Scalar.addi v2250 c156_i32
  let c8_i32_978 : BitVec 32 := 8#32
  let v2257 : BitVec 32 := Scalar.muli v2251 c8_i32_978
  v2257
def k0_off632 (i : grid0.Coords) : Fin 1 → Nat :=
  let c1_i32_976 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2252 : BitVec 32 := Scalar.subi c1_i32_976 v11
  ![v2252.toNat]
def k0_off633 (i : grid0.Coords) : Fin 3 → Nat :=
  let c1_i32_976 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2252 : BitVec 32 := Scalar.subi c1_i32_976 v11
  let arg1 : BitVec 32 := BitVec.ofNat 32 (i 1).val
  let c256_i32_975 : BitVec 32 := 256#32
  let v2250 : BitVec 32 := Scalar.muli arg1 c256_i32_975
  let c156_i32 : BitVec 32 := 156#32
  let v2251 : BitVec 32 := Scalar.addi v2250 c156_i32
  let c8_i32_978 : BitVec 32 := 8#32
  let v2257 : BitVec 32 := Scalar.muli v2251 c8_i32_978
  let v2258 : BitVec 32 := v2257
  let c0_i32_979 : BitVec 32 := 0#32
  ![v2252.toNat, v2258.toNat, 0]
def k0_off634 (v2254 : BitVec 32) : Fin 2 → Nat :=
  let c8_i32_977 : BitVec 32 := 8#32
  let v2255 : BitVec 32 := Scalar.muli v2254 c8_i32_977
  let v2256 : BitVec 32 := v2255
  let c0_i32_980 : BitVec 32 := 0#32
  ![v2256.toNat, 0]

def k0_chk159 (i : grid0.Coords) (v0 : BitVec 32) (v28 : BitVec 32) (v2254 : BitVec 32) : Prop :=
  (∀ (k0_h1 : k0_cond1 i v0 = 1#1), ∀ (k0_h4 : k0_cond4 i v28 = 1#1), 8 ∣ (k0_mult315 v2254).toNat) ∧
  (∀ (k0_h1 : k0_cond1 i v0 = 1#1), ∀ (k0_h4 : k0_cond4 i v28 = 1#1), ∀ a, (k0_off634 v2254) a + S8x128.size a ≤ S262144x128.size a)
theorem k0_mult315_dvd : ∀ (i : grid0.Coords) (v0 : BitVec 32) (v28 : BitVec 32) (v2254 : BitVec 32) (k0_hw159 : k0_chk159 i v0 v28 v2254), ∀ (k0_h1 : k0_cond1 i v0 = 1#1), ∀ (k0_h4 : k0_cond4 i v28 = 1#1), 8 ∣ (k0_mult315 v2254).toNat := fun i v0 v28 v2254 k0_hw159 k0_h1 k0_h4 => k0_hw159.1 k0_h1 k0_h4
theorem k0_off634_inb : ∀ (i : grid0.Coords) (v0 : BitVec 32) (v28 : BitVec 32) (v2254 : BitVec 32) (k0_hw159 : k0_chk159 i v0 v28 v2254), ∀ (k0_h1 : k0_cond1 i v0 = 1#1), ∀ (k0_h4 : k0_cond4 i v28 = 1#1), ∀ a, (k0_off634 v2254) a + S8x128.size a ≤ S262144x128.size a := fun i v0 v28 v2254 k0_hw159 k0_h1 k0_h4 => k0_hw159.2 k0_h1 k0_h4

def k0_off635 (i : grid0.Coords) : Fin 1 → Nat :=
  let arg1 : BitVec 32 := BitVec.ofNat 32 (i 1).val
  let c256_i32_981 : BitVec 32 := 256#32
  let v2264 : BitVec 32 := Scalar.muli arg1 c256_i32_981
  let c157_i32 : BitVec 32 := 157#32
  let v2265 : BitVec 32 := Scalar.addi v2264 c157_i32
  let v2267 : Index := Scalar.indexCast v2265
  ![v2267.toNat]
def k0_mult317 (v2268 : BitVec 32) : BitVec 32 :=
  let c8_i32_983 : BitVec 32 := 8#32
  let v2269 : BitVec 32 := Scalar.muli v2268 c8_i32_983
  v2269

def k0_mult318 (i : grid0.Coords) : BitVec 32 :=
  let arg1 : BitVec 32 := BitVec.ofNat 32 (i 1).val
  let c256_i32_981 : BitVec 32 := 256#32
  let v2264 : BitVec 32 := Scalar.muli arg1 c256_i32_981
  let c157_i32 : BitVec 32 := 157#32
  let v2265 : BitVec 32 := Scalar.addi v2264 c157_i32
  let c8_i32_984 : BitVec 32 := 8#32
  let v2271 : BitVec 32 := Scalar.muli v2265 c8_i32_984
  v2271
def k0_off636 (i : grid0.Coords) : Fin 1 → Nat :=
  let c1_i32_982 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2266 : BitVec 32 := Scalar.subi c1_i32_982 v11
  ![v2266.toNat]
def k0_off637 (i : grid0.Coords) : Fin 3 → Nat :=
  let c1_i32_982 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2266 : BitVec 32 := Scalar.subi c1_i32_982 v11
  let arg1 : BitVec 32 := BitVec.ofNat 32 (i 1).val
  let c256_i32_981 : BitVec 32 := 256#32
  let v2264 : BitVec 32 := Scalar.muli arg1 c256_i32_981
  let c157_i32 : BitVec 32 := 157#32
  let v2265 : BitVec 32 := Scalar.addi v2264 c157_i32
  let c8_i32_984 : BitVec 32 := 8#32
  let v2271 : BitVec 32 := Scalar.muli v2265 c8_i32_984
  let v2272 : BitVec 32 := v2271
  let c0_i32_985 : BitVec 32 := 0#32
  ![v2266.toNat, v2272.toNat, 0]
def k0_off638 (v2268 : BitVec 32) : Fin 2 → Nat :=
  let c8_i32_983 : BitVec 32 := 8#32
  let v2269 : BitVec 32 := Scalar.muli v2268 c8_i32_983
  let v2270 : BitVec 32 := v2269
  let c0_i32_986 : BitVec 32 := 0#32
  ![v2270.toNat, 0]

def k0_chk160 (i : grid0.Coords) (v0 : BitVec 32) (v28 : BitVec 32) (v2268 : BitVec 32) : Prop :=
  (∀ (k0_h1 : k0_cond1 i v0 = 1#1), ∀ (k0_h4 : k0_cond4 i v28 = 1#1), 8 ∣ (k0_mult317 v2268).toNat) ∧
  (∀ (k0_h1 : k0_cond1 i v0 = 1#1), ∀ (k0_h4 : k0_cond4 i v28 = 1#1), ∀ a, (k0_off638 v2268) a + S8x128.size a ≤ S262144x128.size a)
theorem k0_mult317_dvd : ∀ (i : grid0.Coords) (v0 : BitVec 32) (v28 : BitVec 32) (v2268 : BitVec 32) (k0_hw160 : k0_chk160 i v0 v28 v2268), ∀ (k0_h1 : k0_cond1 i v0 = 1#1), ∀ (k0_h4 : k0_cond4 i v28 = 1#1), 8 ∣ (k0_mult317 v2268).toNat := fun i v0 v28 v2268 k0_hw160 k0_h1 k0_h4 => k0_hw160.1 k0_h1 k0_h4
theorem k0_off638_inb : ∀ (i : grid0.Coords) (v0 : BitVec 32) (v28 : BitVec 32) (v2268 : BitVec 32) (k0_hw160 : k0_chk160 i v0 v28 v2268), ∀ (k0_h1 : k0_cond1 i v0 = 1#1), ∀ (k0_h4 : k0_cond4 i v28 = 1#1), ∀ a, (k0_off638 v2268) a + S8x128.size a ≤ S262144x128.size a := fun i v0 v28 v2268 k0_hw160 k0_h1 k0_h4 => k0_hw160.2 k0_h1 k0_h4

def k0_off639 (i : grid0.Coords) : Fin 1 → Nat :=
  let arg1 : BitVec 32 := BitVec.ofNat 32 (i 1).val
  let c256_i32_987 : BitVec 32 := 256#32
  let v2278 : BitVec 32 := Scalar.muli arg1 c256_i32_987
  let c158_i32 : BitVec 32 := 158#32
  let v2279 : BitVec 32 := Scalar.addi v2278 c158_i32
  let v2281 : Index := Scalar.indexCast v2279
  ![v2281.toNat]
def k0_mult319 (v2282 : BitVec 32) : BitVec 32 :=
  let c8_i32_989 : BitVec 32 := 8#32
  let v2283 : BitVec 32 := Scalar.muli v2282 c8_i32_989
  v2283

def k0_mult320 (i : grid0.Coords) : BitVec 32 :=
  let arg1 : BitVec 32 := BitVec.ofNat 32 (i 1).val
  let c256_i32_987 : BitVec 32 := 256#32
  let v2278 : BitVec 32 := Scalar.muli arg1 c256_i32_987
  let c158_i32 : BitVec 32 := 158#32
  let v2279 : BitVec 32 := Scalar.addi v2278 c158_i32
  let c8_i32_990 : BitVec 32 := 8#32
  let v2285 : BitVec 32 := Scalar.muli v2279 c8_i32_990
  v2285
def k0_off640 (i : grid0.Coords) : Fin 1 → Nat :=
  let c1_i32_988 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2280 : BitVec 32 := Scalar.subi c1_i32_988 v11
  ![v2280.toNat]
def k0_off641 (i : grid0.Coords) : Fin 3 → Nat :=
  let c1_i32_988 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2280 : BitVec 32 := Scalar.subi c1_i32_988 v11
  let arg1 : BitVec 32 := BitVec.ofNat 32 (i 1).val
  let c256_i32_987 : BitVec 32 := 256#32
  let v2278 : BitVec 32 := Scalar.muli arg1 c256_i32_987
  let c158_i32 : BitVec 32 := 158#32
  let v2279 : BitVec 32 := Scalar.addi v2278 c158_i32
  let c8_i32_990 : BitVec 32 := 8#32
  let v2285 : BitVec 32 := Scalar.muli v2279 c8_i32_990
  let v2286 : BitVec 32 := v2285
  let c0_i32_991 : BitVec 32 := 0#32
  ![v2280.toNat, v2286.toNat, 0]
def k0_off642 (v2282 : BitVec 32) : Fin 2 → Nat :=
  let c8_i32_989 : BitVec 32 := 8#32
  let v2283 : BitVec 32 := Scalar.muli v2282 c8_i32_989
  let v2284 : BitVec 32 := v2283
  let c0_i32_992 : BitVec 32 := 0#32
  ![v2284.toNat, 0]

def k0_chk161 (i : grid0.Coords) (v0 : BitVec 32) (v28 : BitVec 32) (v2282 : BitVec 32) : Prop :=
  (∀ (k0_h1 : k0_cond1 i v0 = 1#1), ∀ (k0_h4 : k0_cond4 i v28 = 1#1), 8 ∣ (k0_mult319 v2282).toNat) ∧
  (∀ (k0_h1 : k0_cond1 i v0 = 1#1), ∀ (k0_h4 : k0_cond4 i v28 = 1#1), ∀ a, (k0_off642 v2282) a + S8x128.size a ≤ S262144x128.size a)
theorem k0_mult319_dvd : ∀ (i : grid0.Coords) (v0 : BitVec 32) (v28 : BitVec 32) (v2282 : BitVec 32) (k0_hw161 : k0_chk161 i v0 v28 v2282), ∀ (k0_h1 : k0_cond1 i v0 = 1#1), ∀ (k0_h4 : k0_cond4 i v28 = 1#1), 8 ∣ (k0_mult319 v2282).toNat := fun i v0 v28 v2282 k0_hw161 k0_h1 k0_h4 => k0_hw161.1 k0_h1 k0_h4
theorem k0_off642_inb : ∀ (i : grid0.Coords) (v0 : BitVec 32) (v28 : BitVec 32) (v2282 : BitVec 32) (k0_hw161 : k0_chk161 i v0 v28 v2282), ∀ (k0_h1 : k0_cond1 i v0 = 1#1), ∀ (k0_h4 : k0_cond4 i v28 = 1#1), ∀ a, (k0_off642 v2282) a + S8x128.size a ≤ S262144x128.size a := fun i v0 v28 v2282 k0_hw161 k0_h1 k0_h4 => k0_hw161.2 k0_h1 k0_h4

def k0_off643 (i : grid0.Coords) : Fin 1 → Nat :=
  let arg1 : BitVec 32 := BitVec.ofNat 32 (i 1).val
  let c256_i32_993 : BitVec 32 := 256#32
  let v2292 : BitVec 32 := Scalar.muli arg1 c256_i32_993
  let c159_i32 : BitVec 32 := 159#32
  let v2293 : BitVec 32 := Scalar.addi v2292 c159_i32
  let v2295 : Index := Scalar.indexCast v2293
  ![v2295.toNat]
def k0_mult321 (v2296 : BitVec 32) : BitVec 32 :=
  let c8_i32_995 : BitVec 32 := 8#32
  let v2297 : BitVec 32 := Scalar.muli v2296 c8_i32_995
  v2297

def k0_mult322 (i : grid0.Coords) : BitVec 32 :=
  let arg1 : BitVec 32 := BitVec.ofNat 32 (i 1).val
  let c256_i32_993 : BitVec 32 := 256#32
  let v2292 : BitVec 32 := Scalar.muli arg1 c256_i32_993
  let c159_i32 : BitVec 32 := 159#32
  let v2293 : BitVec 32 := Scalar.addi v2292 c159_i32
  let c8_i32_996 : BitVec 32 := 8#32
  let v2299 : BitVec 32 := Scalar.muli v2293 c8_i32_996
  v2299
def k0_off644 (i : grid0.Coords) : Fin 1 → Nat :=
  let c1_i32_994 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2294 : BitVec 32 := Scalar.subi c1_i32_994 v11
  ![v2294.toNat]
def k0_off645 (i : grid0.Coords) : Fin 3 → Nat :=
  let c1_i32_994 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2294 : BitVec 32 := Scalar.subi c1_i32_994 v11
  let arg1 : BitVec 32 := BitVec.ofNat 32 (i 1).val
  let c256_i32_993 : BitVec 32 := 256#32
  let v2292 : BitVec 32 := Scalar.muli arg1 c256_i32_993
  let c159_i32 : BitVec 32 := 159#32
  let v2293 : BitVec 32 := Scalar.addi v2292 c159_i32
  let c8_i32_996 : BitVec 32 := 8#32
  let v2299 : BitVec 32 := Scalar.muli v2293 c8_i32_996
  let v2300 : BitVec 32 := v2299
  let c0_i32_997 : BitVec 32 := 0#32
  ![v2294.toNat, v2300.toNat, 0]
def k0_off646 (v2296 : BitVec 32) : Fin 2 → Nat :=
  let c8_i32_995 : BitVec 32 := 8#32
  let v2297 : BitVec 32 := Scalar.muli v2296 c8_i32_995
  let v2298 : BitVec 32 := v2297
  let c0_i32_998 : BitVec 32 := 0#32
  ![v2298.toNat, 0]

def k0_chk162 (i : grid0.Coords) (v0 : BitVec 32) (v28 : BitVec 32) (v2296 : BitVec 32) : Prop :=
  (∀ (k0_h1 : k0_cond1 i v0 = 1#1), ∀ (k0_h4 : k0_cond4 i v28 = 1#1), 8 ∣ (k0_mult321 v2296).toNat) ∧
  (∀ (k0_h1 : k0_cond1 i v0 = 1#1), ∀ (k0_h4 : k0_cond4 i v28 = 1#1), ∀ a, (k0_off646 v2296) a + S8x128.size a ≤ S262144x128.size a)
theorem k0_mult321_dvd : ∀ (i : grid0.Coords) (v0 : BitVec 32) (v28 : BitVec 32) (v2296 : BitVec 32) (k0_hw162 : k0_chk162 i v0 v28 v2296), ∀ (k0_h1 : k0_cond1 i v0 = 1#1), ∀ (k0_h4 : k0_cond4 i v28 = 1#1), 8 ∣ (k0_mult321 v2296).toNat := fun i v0 v28 v2296 k0_hw162 k0_h1 k0_h4 => k0_hw162.1 k0_h1 k0_h4
theorem k0_off646_inb : ∀ (i : grid0.Coords) (v0 : BitVec 32) (v28 : BitVec 32) (v2296 : BitVec 32) (k0_hw162 : k0_chk162 i v0 v28 v2296), ∀ (k0_h1 : k0_cond1 i v0 = 1#1), ∀ (k0_h4 : k0_cond4 i v28 = 1#1), ∀ a, (k0_off646 v2296) a + S8x128.size a ≤ S262144x128.size a := fun i v0 v28 v2296 k0_hw162 k0_h1 k0_h4 => k0_hw162.2 k0_h1 k0_h4

def k0_off647 (i : grid0.Coords) : Fin 1 → Nat :=
  let arg1 : BitVec 32 := BitVec.ofNat 32 (i 1).val
  let c256_i32_999 : BitVec 32 := 256#32
  let v2306 : BitVec 32 := Scalar.muli arg1 c256_i32_999
  let c160_i32 : BitVec 32 := 160#32
  let v2307 : BitVec 32 := Scalar.addi v2306 c160_i32
  let v2309 : Index := Scalar.indexCast v2307
  ![v2309.toNat]
def k0_mult323 (v2310 : BitVec 32) : BitVec 32 :=
  let c8_i32_1001 : BitVec 32 := 8#32
  let v2311 : BitVec 32 := Scalar.muli v2310 c8_i32_1001
  v2311

def k0_mult324 (i : grid0.Coords) : BitVec 32 :=
  let arg1 : BitVec 32 := BitVec.ofNat 32 (i 1).val
  let c256_i32_999 : BitVec 32 := 256#32
  let v2306 : BitVec 32 := Scalar.muli arg1 c256_i32_999
  let c160_i32 : BitVec 32 := 160#32
  let v2307 : BitVec 32 := Scalar.addi v2306 c160_i32
  let c8_i32_1002 : BitVec 32 := 8#32
  let v2313 : BitVec 32 := Scalar.muli v2307 c8_i32_1002
  v2313
def k0_off648 (i : grid0.Coords) : Fin 1 → Nat :=
  let c1_i32_1000 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2308 : BitVec 32 := Scalar.subi c1_i32_1000 v11
  ![v2308.toNat]
def k0_off649 (i : grid0.Coords) : Fin 3 → Nat :=
  let c1_i32_1000 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2308 : BitVec 32 := Scalar.subi c1_i32_1000 v11
  let arg1 : BitVec 32 := BitVec.ofNat 32 (i 1).val
  let c256_i32_999 : BitVec 32 := 256#32
  let v2306 : BitVec 32 := Scalar.muli arg1 c256_i32_999
  let c160_i32 : BitVec 32 := 160#32
  let v2307 : BitVec 32 := Scalar.addi v2306 c160_i32
  let c8_i32_1002 : BitVec 32 := 8#32
  let v2313 : BitVec 32 := Scalar.muli v2307 c8_i32_1002
  let v2314 : BitVec 32 := v2313
  let c0_i32_1003 : BitVec 32 := 0#32
  ![v2308.toNat, v2314.toNat, 0]
def k0_off650 (v2310 : BitVec 32) : Fin 2 → Nat :=
  let c8_i32_1001 : BitVec 32 := 8#32
  let v2311 : BitVec 32 := Scalar.muli v2310 c8_i32_1001
  let v2312 : BitVec 32 := v2311
  let c0_i32_1004 : BitVec 32 := 0#32
  ![v2312.toNat, 0]

def k0_chk163 (i : grid0.Coords) (v0 : BitVec 32) (v28 : BitVec 32) (v2310 : BitVec 32) : Prop :=
  (∀ (k0_h1 : k0_cond1 i v0 = 1#1), ∀ (k0_h4 : k0_cond4 i v28 = 1#1), 8 ∣ (k0_mult323 v2310).toNat) ∧
  (∀ (k0_h1 : k0_cond1 i v0 = 1#1), ∀ (k0_h4 : k0_cond4 i v28 = 1#1), ∀ a, (k0_off650 v2310) a + S8x128.size a ≤ S262144x128.size a)
theorem k0_mult323_dvd : ∀ (i : grid0.Coords) (v0 : BitVec 32) (v28 : BitVec 32) (v2310 : BitVec 32) (k0_hw163 : k0_chk163 i v0 v28 v2310), ∀ (k0_h1 : k0_cond1 i v0 = 1#1), ∀ (k0_h4 : k0_cond4 i v28 = 1#1), 8 ∣ (k0_mult323 v2310).toNat := fun i v0 v28 v2310 k0_hw163 k0_h1 k0_h4 => k0_hw163.1 k0_h1 k0_h4
theorem k0_off650_inb : ∀ (i : grid0.Coords) (v0 : BitVec 32) (v28 : BitVec 32) (v2310 : BitVec 32) (k0_hw163 : k0_chk163 i v0 v28 v2310), ∀ (k0_h1 : k0_cond1 i v0 = 1#1), ∀ (k0_h4 : k0_cond4 i v28 = 1#1), ∀ a, (k0_off650 v2310) a + S8x128.size a ≤ S262144x128.size a := fun i v0 v28 v2310 k0_hw163 k0_h1 k0_h4 => k0_hw163.2 k0_h1 k0_h4

def k0_off651 (i : grid0.Coords) : Fin 1 → Nat :=
  let arg1 : BitVec 32 := BitVec.ofNat 32 (i 1).val
  let c256_i32_1005 : BitVec 32 := 256#32
  let v2320 : BitVec 32 := Scalar.muli arg1 c256_i32_1005
  let c161_i32 : BitVec 32 := 161#32
  let v2321 : BitVec 32 := Scalar.addi v2320 c161_i32
  let v2323 : Index := Scalar.indexCast v2321
  ![v2323.toNat]
def k0_mult325 (v2324 : BitVec 32) : BitVec 32 :=
  let c8_i32_1007 : BitVec 32 := 8#32
  let v2325 : BitVec 32 := Scalar.muli v2324 c8_i32_1007
  v2325

def k0_mult326 (i : grid0.Coords) : BitVec 32 :=
  let arg1 : BitVec 32 := BitVec.ofNat 32 (i 1).val
  let c256_i32_1005 : BitVec 32 := 256#32
  let v2320 : BitVec 32 := Scalar.muli arg1 c256_i32_1005
  let c161_i32 : BitVec 32 := 161#32
  let v2321 : BitVec 32 := Scalar.addi v2320 c161_i32
  let c8_i32_1008 : BitVec 32 := 8#32
  let v2327 : BitVec 32 := Scalar.muli v2321 c8_i32_1008
  v2327
def k0_off652 (i : grid0.Coords) : Fin 1 → Nat :=
  let c1_i32_1006 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2322 : BitVec 32 := Scalar.subi c1_i32_1006 v11
  ![v2322.toNat]
def k0_off653 (i : grid0.Coords) : Fin 3 → Nat :=
  let c1_i32_1006 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2322 : BitVec 32 := Scalar.subi c1_i32_1006 v11
  let arg1 : BitVec 32 := BitVec.ofNat 32 (i 1).val
  let c256_i32_1005 : BitVec 32 := 256#32
  let v2320 : BitVec 32 := Scalar.muli arg1 c256_i32_1005
  let c161_i32 : BitVec 32 := 161#32
  let v2321 : BitVec 32 := Scalar.addi v2320 c161_i32
  let c8_i32_1008 : BitVec 32 := 8#32
  let v2327 : BitVec 32 := Scalar.muli v2321 c8_i32_1008
  let v2328 : BitVec 32 := v2327
  let c0_i32_1009 : BitVec 32 := 0#32
  ![v2322.toNat, v2328.toNat, 0]
def k0_off654 (v2324 : BitVec 32) : Fin 2 → Nat :=
  let c8_i32_1007 : BitVec 32 := 8#32
  let v2325 : BitVec 32 := Scalar.muli v2324 c8_i32_1007
  let v2326 : BitVec 32 := v2325
  let c0_i32_1010 : BitVec 32 := 0#32
  ![v2326.toNat, 0]

def k0_chk164 (i : grid0.Coords) (v0 : BitVec 32) (v28 : BitVec 32) (v2324 : BitVec 32) : Prop :=
  (∀ (k0_h1 : k0_cond1 i v0 = 1#1), ∀ (k0_h4 : k0_cond4 i v28 = 1#1), 8 ∣ (k0_mult325 v2324).toNat) ∧
  (∀ (k0_h1 : k0_cond1 i v0 = 1#1), ∀ (k0_h4 : k0_cond4 i v28 = 1#1), ∀ a, (k0_off654 v2324) a + S8x128.size a ≤ S262144x128.size a)
theorem k0_mult325_dvd : ∀ (i : grid0.Coords) (v0 : BitVec 32) (v28 : BitVec 32) (v2324 : BitVec 32) (k0_hw164 : k0_chk164 i v0 v28 v2324), ∀ (k0_h1 : k0_cond1 i v0 = 1#1), ∀ (k0_h4 : k0_cond4 i v28 = 1#1), 8 ∣ (k0_mult325 v2324).toNat := fun i v0 v28 v2324 k0_hw164 k0_h1 k0_h4 => k0_hw164.1 k0_h1 k0_h4
theorem k0_off654_inb : ∀ (i : grid0.Coords) (v0 : BitVec 32) (v28 : BitVec 32) (v2324 : BitVec 32) (k0_hw164 : k0_chk164 i v0 v28 v2324), ∀ (k0_h1 : k0_cond1 i v0 = 1#1), ∀ (k0_h4 : k0_cond4 i v28 = 1#1), ∀ a, (k0_off654 v2324) a + S8x128.size a ≤ S262144x128.size a := fun i v0 v28 v2324 k0_hw164 k0_h1 k0_h4 => k0_hw164.2 k0_h1 k0_h4

def k0_off655 (i : grid0.Coords) : Fin 1 → Nat :=
  let arg1 : BitVec 32 := BitVec.ofNat 32 (i 1).val
  let c256_i32_1011 : BitVec 32 := 256#32
  let v2334 : BitVec 32 := Scalar.muli arg1 c256_i32_1011
  let c162_i32 : BitVec 32 := 162#32
  let v2335 : BitVec 32 := Scalar.addi v2334 c162_i32
  let v2337 : Index := Scalar.indexCast v2335
  ![v2337.toNat]
def k0_mult327 (v2338 : BitVec 32) : BitVec 32 :=
  let c8_i32_1013 : BitVec 32 := 8#32
  let v2339 : BitVec 32 := Scalar.muli v2338 c8_i32_1013
  v2339

def k0_mult328 (i : grid0.Coords) : BitVec 32 :=
  let arg1 : BitVec 32 := BitVec.ofNat 32 (i 1).val
  let c256_i32_1011 : BitVec 32 := 256#32
  let v2334 : BitVec 32 := Scalar.muli arg1 c256_i32_1011
  let c162_i32 : BitVec 32 := 162#32
  let v2335 : BitVec 32 := Scalar.addi v2334 c162_i32
  let c8_i32_1014 : BitVec 32 := 8#32
  let v2341 : BitVec 32 := Scalar.muli v2335 c8_i32_1014
  v2341
def k0_off656 (i : grid0.Coords) : Fin 1 → Nat :=
  let c1_i32_1012 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2336 : BitVec 32 := Scalar.subi c1_i32_1012 v11
  ![v2336.toNat]
def k0_off657 (i : grid0.Coords) : Fin 3 → Nat :=
  let c1_i32_1012 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2336 : BitVec 32 := Scalar.subi c1_i32_1012 v11
  let arg1 : BitVec 32 := BitVec.ofNat 32 (i 1).val
  let c256_i32_1011 : BitVec 32 := 256#32
  let v2334 : BitVec 32 := Scalar.muli arg1 c256_i32_1011
  let c162_i32 : BitVec 32 := 162#32
  let v2335 : BitVec 32 := Scalar.addi v2334 c162_i32
  let c8_i32_1014 : BitVec 32 := 8#32
  let v2341 : BitVec 32 := Scalar.muli v2335 c8_i32_1014
  let v2342 : BitVec 32 := v2341
  let c0_i32_1015 : BitVec 32 := 0#32
  ![v2336.toNat, v2342.toNat, 0]
def k0_off658 (v2338 : BitVec 32) : Fin 2 → Nat :=
  let c8_i32_1013 : BitVec 32 := 8#32
  let v2339 : BitVec 32 := Scalar.muli v2338 c8_i32_1013
  let v2340 : BitVec 32 := v2339
  let c0_i32_1016 : BitVec 32 := 0#32
  ![v2340.toNat, 0]

def k0_chk165 (i : grid0.Coords) (v0 : BitVec 32) (v28 : BitVec 32) (v2338 : BitVec 32) : Prop :=
  (∀ (k0_h1 : k0_cond1 i v0 = 1#1), ∀ (k0_h4 : k0_cond4 i v28 = 1#1), 8 ∣ (k0_mult327 v2338).toNat) ∧
  (∀ (k0_h1 : k0_cond1 i v0 = 1#1), ∀ (k0_h4 : k0_cond4 i v28 = 1#1), ∀ a, (k0_off658 v2338) a + S8x128.size a ≤ S262144x128.size a)
theorem k0_mult327_dvd : ∀ (i : grid0.Coords) (v0 : BitVec 32) (v28 : BitVec 32) (v2338 : BitVec 32) (k0_hw165 : k0_chk165 i v0 v28 v2338), ∀ (k0_h1 : k0_cond1 i v0 = 1#1), ∀ (k0_h4 : k0_cond4 i v28 = 1#1), 8 ∣ (k0_mult327 v2338).toNat := fun i v0 v28 v2338 k0_hw165 k0_h1 k0_h4 => k0_hw165.1 k0_h1 k0_h4
theorem k0_off658_inb : ∀ (i : grid0.Coords) (v0 : BitVec 32) (v28 : BitVec 32) (v2338 : BitVec 32) (k0_hw165 : k0_chk165 i v0 v28 v2338), ∀ (k0_h1 : k0_cond1 i v0 = 1#1), ∀ (k0_h4 : k0_cond4 i v28 = 1#1), ∀ a, (k0_off658 v2338) a + S8x128.size a ≤ S262144x128.size a := fun i v0 v28 v2338 k0_hw165 k0_h1 k0_h4 => k0_hw165.2 k0_h1 k0_h4

def k0_off659 (i : grid0.Coords) : Fin 1 → Nat :=
  let arg1 : BitVec 32 := BitVec.ofNat 32 (i 1).val
  let c256_i32_1017 : BitVec 32 := 256#32
  let v2348 : BitVec 32 := Scalar.muli arg1 c256_i32_1017
  let c163_i32 : BitVec 32 := 163#32
  let v2349 : BitVec 32 := Scalar.addi v2348 c163_i32
  let v2351 : Index := Scalar.indexCast v2349
  ![v2351.toNat]
def k0_mult329 (v2352 : BitVec 32) : BitVec 32 :=
  let c8_i32_1019 : BitVec 32 := 8#32
  let v2353 : BitVec 32 := Scalar.muli v2352 c8_i32_1019
  v2353

def k0_mult330 (i : grid0.Coords) : BitVec 32 :=
  let arg1 : BitVec 32 := BitVec.ofNat 32 (i 1).val
  let c256_i32_1017 : BitVec 32 := 256#32
  let v2348 : BitVec 32 := Scalar.muli arg1 c256_i32_1017
  let c163_i32 : BitVec 32 := 163#32
  let v2349 : BitVec 32 := Scalar.addi v2348 c163_i32
  let c8_i32_1020 : BitVec 32 := 8#32
  let v2355 : BitVec 32 := Scalar.muli v2349 c8_i32_1020
  v2355
def k0_off660 (i : grid0.Coords) : Fin 1 → Nat :=
  let c1_i32_1018 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2350 : BitVec 32 := Scalar.subi c1_i32_1018 v11
  ![v2350.toNat]
def k0_off661 (i : grid0.Coords) : Fin 3 → Nat :=
  let c1_i32_1018 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2350 : BitVec 32 := Scalar.subi c1_i32_1018 v11
  let arg1 : BitVec 32 := BitVec.ofNat 32 (i 1).val
  let c256_i32_1017 : BitVec 32 := 256#32
  let v2348 : BitVec 32 := Scalar.muli arg1 c256_i32_1017
  let c163_i32 : BitVec 32 := 163#32
  let v2349 : BitVec 32 := Scalar.addi v2348 c163_i32
  let c8_i32_1020 : BitVec 32 := 8#32
  let v2355 : BitVec 32 := Scalar.muli v2349 c8_i32_1020
  let v2356 : BitVec 32 := v2355
  let c0_i32_1021 : BitVec 32 := 0#32
  ![v2350.toNat, v2356.toNat, 0]
def k0_off662 (v2352 : BitVec 32) : Fin 2 → Nat :=
  let c8_i32_1019 : BitVec 32 := 8#32
  let v2353 : BitVec 32 := Scalar.muli v2352 c8_i32_1019
  let v2354 : BitVec 32 := v2353
  let c0_i32_1022 : BitVec 32 := 0#32
  ![v2354.toNat, 0]

def k0_chk166 (i : grid0.Coords) (v0 : BitVec 32) (v28 : BitVec 32) (v2352 : BitVec 32) : Prop :=
  (∀ (k0_h1 : k0_cond1 i v0 = 1#1), ∀ (k0_h4 : k0_cond4 i v28 = 1#1), 8 ∣ (k0_mult329 v2352).toNat) ∧
  (∀ (k0_h1 : k0_cond1 i v0 = 1#1), ∀ (k0_h4 : k0_cond4 i v28 = 1#1), ∀ a, (k0_off662 v2352) a + S8x128.size a ≤ S262144x128.size a)
theorem k0_mult329_dvd : ∀ (i : grid0.Coords) (v0 : BitVec 32) (v28 : BitVec 32) (v2352 : BitVec 32) (k0_hw166 : k0_chk166 i v0 v28 v2352), ∀ (k0_h1 : k0_cond1 i v0 = 1#1), ∀ (k0_h4 : k0_cond4 i v28 = 1#1), 8 ∣ (k0_mult329 v2352).toNat := fun i v0 v28 v2352 k0_hw166 k0_h1 k0_h4 => k0_hw166.1 k0_h1 k0_h4
theorem k0_off662_inb : ∀ (i : grid0.Coords) (v0 : BitVec 32) (v28 : BitVec 32) (v2352 : BitVec 32) (k0_hw166 : k0_chk166 i v0 v28 v2352), ∀ (k0_h1 : k0_cond1 i v0 = 1#1), ∀ (k0_h4 : k0_cond4 i v28 = 1#1), ∀ a, (k0_off662 v2352) a + S8x128.size a ≤ S262144x128.size a := fun i v0 v28 v2352 k0_hw166 k0_h1 k0_h4 => k0_hw166.2 k0_h1 k0_h4

def k0_off663 (i : grid0.Coords) : Fin 1 → Nat :=
  let arg1 : BitVec 32 := BitVec.ofNat 32 (i 1).val
  let c256_i32_1023 : BitVec 32 := 256#32
  let v2362 : BitVec 32 := Scalar.muli arg1 c256_i32_1023
  let c164_i32 : BitVec 32 := 164#32
  let v2363 : BitVec 32 := Scalar.addi v2362 c164_i32
  let v2365 : Index := Scalar.indexCast v2363
  ![v2365.toNat]
def k0_mult331 (v2366 : BitVec 32) : BitVec 32 :=
  let c8_i32_1025 : BitVec 32 := 8#32
  let v2367 : BitVec 32 := Scalar.muli v2366 c8_i32_1025
  v2367

def k0_mult332 (i : grid0.Coords) : BitVec 32 :=
  let arg1 : BitVec 32 := BitVec.ofNat 32 (i 1).val
  let c256_i32_1023 : BitVec 32 := 256#32
  let v2362 : BitVec 32 := Scalar.muli arg1 c256_i32_1023
  let c164_i32 : BitVec 32 := 164#32
  let v2363 : BitVec 32 := Scalar.addi v2362 c164_i32
  let c8_i32_1026 : BitVec 32 := 8#32
  let v2369 : BitVec 32 := Scalar.muli v2363 c8_i32_1026
  v2369
def k0_off664 (i : grid0.Coords) : Fin 1 → Nat :=
  let c1_i32_1024 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2364 : BitVec 32 := Scalar.subi c1_i32_1024 v11
  ![v2364.toNat]
def k0_off665 (i : grid0.Coords) : Fin 3 → Nat :=
  let c1_i32_1024 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2364 : BitVec 32 := Scalar.subi c1_i32_1024 v11
  let arg1 : BitVec 32 := BitVec.ofNat 32 (i 1).val
  let c256_i32_1023 : BitVec 32 := 256#32
  let v2362 : BitVec 32 := Scalar.muli arg1 c256_i32_1023
  let c164_i32 : BitVec 32 := 164#32
  let v2363 : BitVec 32 := Scalar.addi v2362 c164_i32
  let c8_i32_1026 : BitVec 32 := 8#32
  let v2369 : BitVec 32 := Scalar.muli v2363 c8_i32_1026
  let v2370 : BitVec 32 := v2369
  let c0_i32_1027 : BitVec 32 := 0#32
  ![v2364.toNat, v2370.toNat, 0]
def k0_off666 (v2366 : BitVec 32) : Fin 2 → Nat :=
  let c8_i32_1025 : BitVec 32 := 8#32
  let v2367 : BitVec 32 := Scalar.muli v2366 c8_i32_1025
  let v2368 : BitVec 32 := v2367
  let c0_i32_1028 : BitVec 32 := 0#32
  ![v2368.toNat, 0]

def k0_chk167 (i : grid0.Coords) (v0 : BitVec 32) (v28 : BitVec 32) (v2366 : BitVec 32) : Prop :=
  (∀ (k0_h1 : k0_cond1 i v0 = 1#1), ∀ (k0_h4 : k0_cond4 i v28 = 1#1), 8 ∣ (k0_mult331 v2366).toNat) ∧
  (∀ (k0_h1 : k0_cond1 i v0 = 1#1), ∀ (k0_h4 : k0_cond4 i v28 = 1#1), ∀ a, (k0_off666 v2366) a + S8x128.size a ≤ S262144x128.size a)
theorem k0_mult331_dvd : ∀ (i : grid0.Coords) (v0 : BitVec 32) (v28 : BitVec 32) (v2366 : BitVec 32) (k0_hw167 : k0_chk167 i v0 v28 v2366), ∀ (k0_h1 : k0_cond1 i v0 = 1#1), ∀ (k0_h4 : k0_cond4 i v28 = 1#1), 8 ∣ (k0_mult331 v2366).toNat := fun i v0 v28 v2366 k0_hw167 k0_h1 k0_h4 => k0_hw167.1 k0_h1 k0_h4
theorem k0_off666_inb : ∀ (i : grid0.Coords) (v0 : BitVec 32) (v28 : BitVec 32) (v2366 : BitVec 32) (k0_hw167 : k0_chk167 i v0 v28 v2366), ∀ (k0_h1 : k0_cond1 i v0 = 1#1), ∀ (k0_h4 : k0_cond4 i v28 = 1#1), ∀ a, (k0_off666 v2366) a + S8x128.size a ≤ S262144x128.size a := fun i v0 v28 v2366 k0_hw167 k0_h1 k0_h4 => k0_hw167.2 k0_h1 k0_h4

def k0_off667 (i : grid0.Coords) : Fin 1 → Nat :=
  let arg1 : BitVec 32 := BitVec.ofNat 32 (i 1).val
  let c256_i32_1029 : BitVec 32 := 256#32
  let v2376 : BitVec 32 := Scalar.muli arg1 c256_i32_1029
  let c165_i32 : BitVec 32 := 165#32
  let v2377 : BitVec 32 := Scalar.addi v2376 c165_i32
  let v2379 : Index := Scalar.indexCast v2377
  ![v2379.toNat]
def k0_mult333 (v2380 : BitVec 32) : BitVec 32 :=
  let c8_i32_1031 : BitVec 32 := 8#32
  let v2381 : BitVec 32 := Scalar.muli v2380 c8_i32_1031
  v2381

def k0_mult334 (i : grid0.Coords) : BitVec 32 :=
  let arg1 : BitVec 32 := BitVec.ofNat 32 (i 1).val
  let c256_i32_1029 : BitVec 32 := 256#32
  let v2376 : BitVec 32 := Scalar.muli arg1 c256_i32_1029
  let c165_i32 : BitVec 32 := 165#32
  let v2377 : BitVec 32 := Scalar.addi v2376 c165_i32
  let c8_i32_1032 : BitVec 32 := 8#32
  let v2383 : BitVec 32 := Scalar.muli v2377 c8_i32_1032
  v2383
def k0_off668 (i : grid0.Coords) : Fin 1 → Nat :=
  let c1_i32_1030 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2378 : BitVec 32 := Scalar.subi c1_i32_1030 v11
  ![v2378.toNat]
def k0_off669 (i : grid0.Coords) : Fin 3 → Nat :=
  let c1_i32_1030 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2378 : BitVec 32 := Scalar.subi c1_i32_1030 v11
  let arg1 : BitVec 32 := BitVec.ofNat 32 (i 1).val
  let c256_i32_1029 : BitVec 32 := 256#32
  let v2376 : BitVec 32 := Scalar.muli arg1 c256_i32_1029
  let c165_i32 : BitVec 32 := 165#32
  let v2377 : BitVec 32 := Scalar.addi v2376 c165_i32
  let c8_i32_1032 : BitVec 32 := 8#32
  let v2383 : BitVec 32 := Scalar.muli v2377 c8_i32_1032
  let v2384 : BitVec 32 := v2383
  let c0_i32_1033 : BitVec 32 := 0#32
  ![v2378.toNat, v2384.toNat, 0]
def k0_off670 (v2380 : BitVec 32) : Fin 2 → Nat :=
  let c8_i32_1031 : BitVec 32 := 8#32
  let v2381 : BitVec 32 := Scalar.muli v2380 c8_i32_1031
  let v2382 : BitVec 32 := v2381
  let c0_i32_1034 : BitVec 32 := 0#32
  ![v2382.toNat, 0]

def k0_chk168 (i : grid0.Coords) (v0 : BitVec 32) (v28 : BitVec 32) (v2380 : BitVec 32) : Prop :=
  (∀ (k0_h1 : k0_cond1 i v0 = 1#1), ∀ (k0_h4 : k0_cond4 i v28 = 1#1), 8 ∣ (k0_mult333 v2380).toNat) ∧
  (∀ (k0_h1 : k0_cond1 i v0 = 1#1), ∀ (k0_h4 : k0_cond4 i v28 = 1#1), ∀ a, (k0_off670 v2380) a + S8x128.size a ≤ S262144x128.size a)
theorem k0_mult333_dvd : ∀ (i : grid0.Coords) (v0 : BitVec 32) (v28 : BitVec 32) (v2380 : BitVec 32) (k0_hw168 : k0_chk168 i v0 v28 v2380), ∀ (k0_h1 : k0_cond1 i v0 = 1#1), ∀ (k0_h4 : k0_cond4 i v28 = 1#1), 8 ∣ (k0_mult333 v2380).toNat := fun i v0 v28 v2380 k0_hw168 k0_h1 k0_h4 => k0_hw168.1 k0_h1 k0_h4
theorem k0_off670_inb : ∀ (i : grid0.Coords) (v0 : BitVec 32) (v28 : BitVec 32) (v2380 : BitVec 32) (k0_hw168 : k0_chk168 i v0 v28 v2380), ∀ (k0_h1 : k0_cond1 i v0 = 1#1), ∀ (k0_h4 : k0_cond4 i v28 = 1#1), ∀ a, (k0_off670 v2380) a + S8x128.size a ≤ S262144x128.size a := fun i v0 v28 v2380 k0_hw168 k0_h1 k0_h4 => k0_hw168.2 k0_h1 k0_h4

def k0_off671 (i : grid0.Coords) : Fin 1 → Nat :=
  let arg1 : BitVec 32 := BitVec.ofNat 32 (i 1).val
  let c256_i32_1035 : BitVec 32 := 256#32
  let v2390 : BitVec 32 := Scalar.muli arg1 c256_i32_1035
  let c166_i32 : BitVec 32 := 166#32
  let v2391 : BitVec 32 := Scalar.addi v2390 c166_i32
  let v2393 : Index := Scalar.indexCast v2391
  ![v2393.toNat]
def k0_mult335 (v2394 : BitVec 32) : BitVec 32 :=
  let c8_i32_1037 : BitVec 32 := 8#32
  let v2395 : BitVec 32 := Scalar.muli v2394 c8_i32_1037
  v2395

def k0_mult336 (i : grid0.Coords) : BitVec 32 :=
  let arg1 : BitVec 32 := BitVec.ofNat 32 (i 1).val
  let c256_i32_1035 : BitVec 32 := 256#32
  let v2390 : BitVec 32 := Scalar.muli arg1 c256_i32_1035
  let c166_i32 : BitVec 32 := 166#32
  let v2391 : BitVec 32 := Scalar.addi v2390 c166_i32
  let c8_i32_1038 : BitVec 32 := 8#32
  let v2397 : BitVec 32 := Scalar.muli v2391 c8_i32_1038
  v2397
def k0_off672 (i : grid0.Coords) : Fin 1 → Nat :=
  let c1_i32_1036 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2392 : BitVec 32 := Scalar.subi c1_i32_1036 v11
  ![v2392.toNat]
def k0_off673 (i : grid0.Coords) : Fin 3 → Nat :=
  let c1_i32_1036 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2392 : BitVec 32 := Scalar.subi c1_i32_1036 v11
  let arg1 : BitVec 32 := BitVec.ofNat 32 (i 1).val
  let c256_i32_1035 : BitVec 32 := 256#32
  let v2390 : BitVec 32 := Scalar.muli arg1 c256_i32_1035
  let c166_i32 : BitVec 32 := 166#32
  let v2391 : BitVec 32 := Scalar.addi v2390 c166_i32
  let c8_i32_1038 : BitVec 32 := 8#32
  let v2397 : BitVec 32 := Scalar.muli v2391 c8_i32_1038
  let v2398 : BitVec 32 := v2397
  let c0_i32_1039 : BitVec 32 := 0#32
  ![v2392.toNat, v2398.toNat, 0]
def k0_off674 (v2394 : BitVec 32) : Fin 2 → Nat :=
  let c8_i32_1037 : BitVec 32 := 8#32
  let v2395 : BitVec 32 := Scalar.muli v2394 c8_i32_1037
  let v2396 : BitVec 32 := v2395
  let c0_i32_1040 : BitVec 32 := 0#32
  ![v2396.toNat, 0]

def k0_chk169 (i : grid0.Coords) (v0 : BitVec 32) (v28 : BitVec 32) (v2394 : BitVec 32) : Prop :=
  (∀ (k0_h1 : k0_cond1 i v0 = 1#1), ∀ (k0_h4 : k0_cond4 i v28 = 1#1), 8 ∣ (k0_mult335 v2394).toNat) ∧
  (∀ (k0_h1 : k0_cond1 i v0 = 1#1), ∀ (k0_h4 : k0_cond4 i v28 = 1#1), ∀ a, (k0_off674 v2394) a + S8x128.size a ≤ S262144x128.size a)
theorem k0_mult335_dvd : ∀ (i : grid0.Coords) (v0 : BitVec 32) (v28 : BitVec 32) (v2394 : BitVec 32) (k0_hw169 : k0_chk169 i v0 v28 v2394), ∀ (k0_h1 : k0_cond1 i v0 = 1#1), ∀ (k0_h4 : k0_cond4 i v28 = 1#1), 8 ∣ (k0_mult335 v2394).toNat := fun i v0 v28 v2394 k0_hw169 k0_h1 k0_h4 => k0_hw169.1 k0_h1 k0_h4
theorem k0_off674_inb : ∀ (i : grid0.Coords) (v0 : BitVec 32) (v28 : BitVec 32) (v2394 : BitVec 32) (k0_hw169 : k0_chk169 i v0 v28 v2394), ∀ (k0_h1 : k0_cond1 i v0 = 1#1), ∀ (k0_h4 : k0_cond4 i v28 = 1#1), ∀ a, (k0_off674 v2394) a + S8x128.size a ≤ S262144x128.size a := fun i v0 v28 v2394 k0_hw169 k0_h1 k0_h4 => k0_hw169.2 k0_h1 k0_h4

def k0_off675 (i : grid0.Coords) : Fin 1 → Nat :=
  let arg1 : BitVec 32 := BitVec.ofNat 32 (i 1).val
  let c256_i32_1041 : BitVec 32 := 256#32
  let v2404 : BitVec 32 := Scalar.muli arg1 c256_i32_1041
  let c167_i32 : BitVec 32 := 167#32
  let v2405 : BitVec 32 := Scalar.addi v2404 c167_i32
  let v2407 : Index := Scalar.indexCast v2405
  ![v2407.toNat]
def k0_mult337 (v2408 : BitVec 32) : BitVec 32 :=
  let c8_i32_1043 : BitVec 32 := 8#32
  let v2409 : BitVec 32 := Scalar.muli v2408 c8_i32_1043
  v2409

def k0_mult338 (i : grid0.Coords) : BitVec 32 :=
  let arg1 : BitVec 32 := BitVec.ofNat 32 (i 1).val
  let c256_i32_1041 : BitVec 32 := 256#32
  let v2404 : BitVec 32 := Scalar.muli arg1 c256_i32_1041
  let c167_i32 : BitVec 32 := 167#32
  let v2405 : BitVec 32 := Scalar.addi v2404 c167_i32
  let c8_i32_1044 : BitVec 32 := 8#32
  let v2411 : BitVec 32 := Scalar.muli v2405 c8_i32_1044
  v2411
def k0_off676 (i : grid0.Coords) : Fin 1 → Nat :=
  let c1_i32_1042 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2406 : BitVec 32 := Scalar.subi c1_i32_1042 v11
  ![v2406.toNat]
def k0_off677 (i : grid0.Coords) : Fin 3 → Nat :=
  let c1_i32_1042 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2406 : BitVec 32 := Scalar.subi c1_i32_1042 v11
  let arg1 : BitVec 32 := BitVec.ofNat 32 (i 1).val
  let c256_i32_1041 : BitVec 32 := 256#32
  let v2404 : BitVec 32 := Scalar.muli arg1 c256_i32_1041
  let c167_i32 : BitVec 32 := 167#32
  let v2405 : BitVec 32 := Scalar.addi v2404 c167_i32
  let c8_i32_1044 : BitVec 32 := 8#32
  let v2411 : BitVec 32 := Scalar.muli v2405 c8_i32_1044
  let v2412 : BitVec 32 := v2411
  let c0_i32_1045 : BitVec 32 := 0#32
  ![v2406.toNat, v2412.toNat, 0]
def k0_off678 (v2408 : BitVec 32) : Fin 2 → Nat :=
  let c8_i32_1043 : BitVec 32 := 8#32
  let v2409 : BitVec 32 := Scalar.muli v2408 c8_i32_1043
  let v2410 : BitVec 32 := v2409
  let c0_i32_1046 : BitVec 32 := 0#32
  ![v2410.toNat, 0]

def k0_chk170 (i : grid0.Coords) (v0 : BitVec 32) (v28 : BitVec 32) (v2408 : BitVec 32) : Prop :=
  (∀ (k0_h1 : k0_cond1 i v0 = 1#1), ∀ (k0_h4 : k0_cond4 i v28 = 1#1), 8 ∣ (k0_mult337 v2408).toNat) ∧
  (∀ (k0_h1 : k0_cond1 i v0 = 1#1), ∀ (k0_h4 : k0_cond4 i v28 = 1#1), ∀ a, (k0_off678 v2408) a + S8x128.size a ≤ S262144x128.size a)
theorem k0_mult337_dvd : ∀ (i : grid0.Coords) (v0 : BitVec 32) (v28 : BitVec 32) (v2408 : BitVec 32) (k0_hw170 : k0_chk170 i v0 v28 v2408), ∀ (k0_h1 : k0_cond1 i v0 = 1#1), ∀ (k0_h4 : k0_cond4 i v28 = 1#1), 8 ∣ (k0_mult337 v2408).toNat := fun i v0 v28 v2408 k0_hw170 k0_h1 k0_h4 => k0_hw170.1 k0_h1 k0_h4
theorem k0_off678_inb : ∀ (i : grid0.Coords) (v0 : BitVec 32) (v28 : BitVec 32) (v2408 : BitVec 32) (k0_hw170 : k0_chk170 i v0 v28 v2408), ∀ (k0_h1 : k0_cond1 i v0 = 1#1), ∀ (k0_h4 : k0_cond4 i v28 = 1#1), ∀ a, (k0_off678 v2408) a + S8x128.size a ≤ S262144x128.size a := fun i v0 v28 v2408 k0_hw170 k0_h1 k0_h4 => k0_hw170.2 k0_h1 k0_h4

def k0_off679 (i : grid0.Coords) : Fin 1 → Nat :=
  let arg1 : BitVec 32 := BitVec.ofNat 32 (i 1).val
  let c256_i32_1047 : BitVec 32 := 256#32
  let v2418 : BitVec 32 := Scalar.muli arg1 c256_i32_1047
  let c168_i32 : BitVec 32 := 168#32
  let v2419 : BitVec 32 := Scalar.addi v2418 c168_i32
  let v2421 : Index := Scalar.indexCast v2419
  ![v2421.toNat]
def k0_mult339 (v2422 : BitVec 32) : BitVec 32 :=
  let c8_i32_1049 : BitVec 32 := 8#32
  let v2423 : BitVec 32 := Scalar.muli v2422 c8_i32_1049
  v2423

def k0_mult340 (i : grid0.Coords) : BitVec 32 :=
  let arg1 : BitVec 32 := BitVec.ofNat 32 (i 1).val
  let c256_i32_1047 : BitVec 32 := 256#32
  let v2418 : BitVec 32 := Scalar.muli arg1 c256_i32_1047
  let c168_i32 : BitVec 32 := 168#32
  let v2419 : BitVec 32 := Scalar.addi v2418 c168_i32
  let c8_i32_1050 : BitVec 32 := 8#32
  let v2425 : BitVec 32 := Scalar.muli v2419 c8_i32_1050
  v2425
def k0_off680 (i : grid0.Coords) : Fin 1 → Nat :=
  let c1_i32_1048 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2420 : BitVec 32 := Scalar.subi c1_i32_1048 v11
  ![v2420.toNat]
def k0_off681 (i : grid0.Coords) : Fin 3 → Nat :=
  let c1_i32_1048 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2420 : BitVec 32 := Scalar.subi c1_i32_1048 v11
  let arg1 : BitVec 32 := BitVec.ofNat 32 (i 1).val
  let c256_i32_1047 : BitVec 32 := 256#32
  let v2418 : BitVec 32 := Scalar.muli arg1 c256_i32_1047
  let c168_i32 : BitVec 32 := 168#32
  let v2419 : BitVec 32 := Scalar.addi v2418 c168_i32
  let c8_i32_1050 : BitVec 32 := 8#32
  let v2425 : BitVec 32 := Scalar.muli v2419 c8_i32_1050
  let v2426 : BitVec 32 := v2425
  let c0_i32_1051 : BitVec 32 := 0#32
  ![v2420.toNat, v2426.toNat, 0]
def k0_off682 (v2422 : BitVec 32) : Fin 2 → Nat :=
  let c8_i32_1049 : BitVec 32 := 8#32
  let v2423 : BitVec 32 := Scalar.muli v2422 c8_i32_1049
  let v2424 : BitVec 32 := v2423
  let c0_i32_1052 : BitVec 32 := 0#32
  ![v2424.toNat, 0]

def k0_chk171 (i : grid0.Coords) (v0 : BitVec 32) (v28 : BitVec 32) (v2422 : BitVec 32) : Prop :=
  (∀ (k0_h1 : k0_cond1 i v0 = 1#1), ∀ (k0_h4 : k0_cond4 i v28 = 1#1), 8 ∣ (k0_mult339 v2422).toNat) ∧
  (∀ (k0_h1 : k0_cond1 i v0 = 1#1), ∀ (k0_h4 : k0_cond4 i v28 = 1#1), ∀ a, (k0_off682 v2422) a + S8x128.size a ≤ S262144x128.size a)
theorem k0_mult339_dvd : ∀ (i : grid0.Coords) (v0 : BitVec 32) (v28 : BitVec 32) (v2422 : BitVec 32) (k0_hw171 : k0_chk171 i v0 v28 v2422), ∀ (k0_h1 : k0_cond1 i v0 = 1#1), ∀ (k0_h4 : k0_cond4 i v28 = 1#1), 8 ∣ (k0_mult339 v2422).toNat := fun i v0 v28 v2422 k0_hw171 k0_h1 k0_h4 => k0_hw171.1 k0_h1 k0_h4
theorem k0_off682_inb : ∀ (i : grid0.Coords) (v0 : BitVec 32) (v28 : BitVec 32) (v2422 : BitVec 32) (k0_hw171 : k0_chk171 i v0 v28 v2422), ∀ (k0_h1 : k0_cond1 i v0 = 1#1), ∀ (k0_h4 : k0_cond4 i v28 = 1#1), ∀ a, (k0_off682 v2422) a + S8x128.size a ≤ S262144x128.size a := fun i v0 v28 v2422 k0_hw171 k0_h1 k0_h4 => k0_hw171.2 k0_h1 k0_h4

def k0_off683 (i : grid0.Coords) : Fin 1 → Nat :=
  let arg1 : BitVec 32 := BitVec.ofNat 32 (i 1).val
  let c256_i32_1053 : BitVec 32 := 256#32
  let v2432 : BitVec 32 := Scalar.muli arg1 c256_i32_1053
  let c169_i32 : BitVec 32 := 169#32
  let v2433 : BitVec 32 := Scalar.addi v2432 c169_i32
  let v2435 : Index := Scalar.indexCast v2433
  ![v2435.toNat]
def k0_mult341 (v2436 : BitVec 32) : BitVec 32 :=
  let c8_i32_1055 : BitVec 32 := 8#32
  let v2437 : BitVec 32 := Scalar.muli v2436 c8_i32_1055
  v2437

def k0_mult342 (i : grid0.Coords) : BitVec 32 :=
  let arg1 : BitVec 32 := BitVec.ofNat 32 (i 1).val
  let c256_i32_1053 : BitVec 32 := 256#32
  let v2432 : BitVec 32 := Scalar.muli arg1 c256_i32_1053
  let c169_i32 : BitVec 32 := 169#32
  let v2433 : BitVec 32 := Scalar.addi v2432 c169_i32
  let c8_i32_1056 : BitVec 32 := 8#32
  let v2439 : BitVec 32 := Scalar.muli v2433 c8_i32_1056
  v2439
def k0_off684 (i : grid0.Coords) : Fin 1 → Nat :=
  let c1_i32_1054 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2434 : BitVec 32 := Scalar.subi c1_i32_1054 v11
  ![v2434.toNat]
def k0_off685 (i : grid0.Coords) : Fin 3 → Nat :=
  let c1_i32_1054 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2434 : BitVec 32 := Scalar.subi c1_i32_1054 v11
  let arg1 : BitVec 32 := BitVec.ofNat 32 (i 1).val
  let c256_i32_1053 : BitVec 32 := 256#32
  let v2432 : BitVec 32 := Scalar.muli arg1 c256_i32_1053
  let c169_i32 : BitVec 32 := 169#32
  let v2433 : BitVec 32 := Scalar.addi v2432 c169_i32
  let c8_i32_1056 : BitVec 32 := 8#32
  let v2439 : BitVec 32 := Scalar.muli v2433 c8_i32_1056
  let v2440 : BitVec 32 := v2439
  let c0_i32_1057 : BitVec 32 := 0#32
  ![v2434.toNat, v2440.toNat, 0]
def k0_off686 (v2436 : BitVec 32) : Fin 2 → Nat :=
  let c8_i32_1055 : BitVec 32 := 8#32
  let v2437 : BitVec 32 := Scalar.muli v2436 c8_i32_1055
  let v2438 : BitVec 32 := v2437
  let c0_i32_1058 : BitVec 32 := 0#32
  ![v2438.toNat, 0]

def k0_chk172 (i : grid0.Coords) (v0 : BitVec 32) (v28 : BitVec 32) (v2436 : BitVec 32) : Prop :=
  (∀ (k0_h1 : k0_cond1 i v0 = 1#1), ∀ (k0_h4 : k0_cond4 i v28 = 1#1), 8 ∣ (k0_mult341 v2436).toNat) ∧
  (∀ (k0_h1 : k0_cond1 i v0 = 1#1), ∀ (k0_h4 : k0_cond4 i v28 = 1#1), ∀ a, (k0_off686 v2436) a + S8x128.size a ≤ S262144x128.size a)
theorem k0_mult341_dvd : ∀ (i : grid0.Coords) (v0 : BitVec 32) (v28 : BitVec 32) (v2436 : BitVec 32) (k0_hw172 : k0_chk172 i v0 v28 v2436), ∀ (k0_h1 : k0_cond1 i v0 = 1#1), ∀ (k0_h4 : k0_cond4 i v28 = 1#1), 8 ∣ (k0_mult341 v2436).toNat := fun i v0 v28 v2436 k0_hw172 k0_h1 k0_h4 => k0_hw172.1 k0_h1 k0_h4
theorem k0_off686_inb : ∀ (i : grid0.Coords) (v0 : BitVec 32) (v28 : BitVec 32) (v2436 : BitVec 32) (k0_hw172 : k0_chk172 i v0 v28 v2436), ∀ (k0_h1 : k0_cond1 i v0 = 1#1), ∀ (k0_h4 : k0_cond4 i v28 = 1#1), ∀ a, (k0_off686 v2436) a + S8x128.size a ≤ S262144x128.size a := fun i v0 v28 v2436 k0_hw172 k0_h1 k0_h4 => k0_hw172.2 k0_h1 k0_h4

def k0_off687 (i : grid0.Coords) : Fin 1 → Nat :=
  let arg1 : BitVec 32 := BitVec.ofNat 32 (i 1).val
  let c256_i32_1059 : BitVec 32 := 256#32
  let v2446 : BitVec 32 := Scalar.muli arg1 c256_i32_1059
  let c170_i32 : BitVec 32 := 170#32
  let v2447 : BitVec 32 := Scalar.addi v2446 c170_i32
  let v2449 : Index := Scalar.indexCast v2447
  ![v2449.toNat]
def k0_mult343 (v2450 : BitVec 32) : BitVec 32 :=
  let c8_i32_1061 : BitVec 32 := 8#32
  let v2451 : BitVec 32 := Scalar.muli v2450 c8_i32_1061
  v2451

def k0_mult344 (i : grid0.Coords) : BitVec 32 :=
  let arg1 : BitVec 32 := BitVec.ofNat 32 (i 1).val
  let c256_i32_1059 : BitVec 32 := 256#32
  let v2446 : BitVec 32 := Scalar.muli arg1 c256_i32_1059
  let c170_i32 : BitVec 32 := 170#32
  let v2447 : BitVec 32 := Scalar.addi v2446 c170_i32
  let c8_i32_1062 : BitVec 32 := 8#32
  let v2453 : BitVec 32 := Scalar.muli v2447 c8_i32_1062
  v2453
def k0_off688 (i : grid0.Coords) : Fin 1 → Nat :=
  let c1_i32_1060 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2448 : BitVec 32 := Scalar.subi c1_i32_1060 v11
  ![v2448.toNat]
def k0_off689 (i : grid0.Coords) : Fin 3 → Nat :=
  let c1_i32_1060 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2448 : BitVec 32 := Scalar.subi c1_i32_1060 v11
  let arg1 : BitVec 32 := BitVec.ofNat 32 (i 1).val
  let c256_i32_1059 : BitVec 32 := 256#32
  let v2446 : BitVec 32 := Scalar.muli arg1 c256_i32_1059
  let c170_i32 : BitVec 32 := 170#32
  let v2447 : BitVec 32 := Scalar.addi v2446 c170_i32
  let c8_i32_1062 : BitVec 32 := 8#32
  let v2453 : BitVec 32 := Scalar.muli v2447 c8_i32_1062
  let v2454 : BitVec 32 := v2453
  let c0_i32_1063 : BitVec 32 := 0#32
  ![v2448.toNat, v2454.toNat, 0]
def k0_off690 (v2450 : BitVec 32) : Fin 2 → Nat :=
  let c8_i32_1061 : BitVec 32 := 8#32
  let v2451 : BitVec 32 := Scalar.muli v2450 c8_i32_1061
  let v2452 : BitVec 32 := v2451
  let c0_i32_1064 : BitVec 32 := 0#32
  ![v2452.toNat, 0]

def k0_chk173 (i : grid0.Coords) (v0 : BitVec 32) (v28 : BitVec 32) (v2450 : BitVec 32) : Prop :=
  (∀ (k0_h1 : k0_cond1 i v0 = 1#1), ∀ (k0_h4 : k0_cond4 i v28 = 1#1), 8 ∣ (k0_mult343 v2450).toNat) ∧
  (∀ (k0_h1 : k0_cond1 i v0 = 1#1), ∀ (k0_h4 : k0_cond4 i v28 = 1#1), ∀ a, (k0_off690 v2450) a + S8x128.size a ≤ S262144x128.size a)
theorem k0_mult343_dvd : ∀ (i : grid0.Coords) (v0 : BitVec 32) (v28 : BitVec 32) (v2450 : BitVec 32) (k0_hw173 : k0_chk173 i v0 v28 v2450), ∀ (k0_h1 : k0_cond1 i v0 = 1#1), ∀ (k0_h4 : k0_cond4 i v28 = 1#1), 8 ∣ (k0_mult343 v2450).toNat := fun i v0 v28 v2450 k0_hw173 k0_h1 k0_h4 => k0_hw173.1 k0_h1 k0_h4
theorem k0_off690_inb : ∀ (i : grid0.Coords) (v0 : BitVec 32) (v28 : BitVec 32) (v2450 : BitVec 32) (k0_hw173 : k0_chk173 i v0 v28 v2450), ∀ (k0_h1 : k0_cond1 i v0 = 1#1), ∀ (k0_h4 : k0_cond4 i v28 = 1#1), ∀ a, (k0_off690 v2450) a + S8x128.size a ≤ S262144x128.size a := fun i v0 v28 v2450 k0_hw173 k0_h1 k0_h4 => k0_hw173.2 k0_h1 k0_h4

def k0_off691 (i : grid0.Coords) : Fin 1 → Nat :=
  let arg1 : BitVec 32 := BitVec.ofNat 32 (i 1).val
  let c256_i32_1065 : BitVec 32 := 256#32
  let v2460 : BitVec 32 := Scalar.muli arg1 c256_i32_1065
  let c171_i32 : BitVec 32 := 171#32
  let v2461 : BitVec 32 := Scalar.addi v2460 c171_i32
  let v2463 : Index := Scalar.indexCast v2461
  ![v2463.toNat]
def k0_mult345 (v2464 : BitVec 32) : BitVec 32 :=
  let c8_i32_1067 : BitVec 32 := 8#32
  let v2465 : BitVec 32 := Scalar.muli v2464 c8_i32_1067
  v2465

def k0_mult346 (i : grid0.Coords) : BitVec 32 :=
  let arg1 : BitVec 32 := BitVec.ofNat 32 (i 1).val
  let c256_i32_1065 : BitVec 32 := 256#32
  let v2460 : BitVec 32 := Scalar.muli arg1 c256_i32_1065
  let c171_i32 : BitVec 32 := 171#32
  let v2461 : BitVec 32 := Scalar.addi v2460 c171_i32
  let c8_i32_1068 : BitVec 32 := 8#32
  let v2467 : BitVec 32 := Scalar.muli v2461 c8_i32_1068
  v2467
def k0_off692 (i : grid0.Coords) : Fin 1 → Nat :=
  let c1_i32_1066 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2462 : BitVec 32 := Scalar.subi c1_i32_1066 v11
  ![v2462.toNat]
def k0_off693 (i : grid0.Coords) : Fin 3 → Nat :=
  let c1_i32_1066 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2462 : BitVec 32 := Scalar.subi c1_i32_1066 v11
  let arg1 : BitVec 32 := BitVec.ofNat 32 (i 1).val
  let c256_i32_1065 : BitVec 32 := 256#32
  let v2460 : BitVec 32 := Scalar.muli arg1 c256_i32_1065
  let c171_i32 : BitVec 32 := 171#32
  let v2461 : BitVec 32 := Scalar.addi v2460 c171_i32
  let c8_i32_1068 : BitVec 32 := 8#32
  let v2467 : BitVec 32 := Scalar.muli v2461 c8_i32_1068
  let v2468 : BitVec 32 := v2467
  let c0_i32_1069 : BitVec 32 := 0#32
  ![v2462.toNat, v2468.toNat, 0]
def k0_off694 (v2464 : BitVec 32) : Fin 2 → Nat :=
  let c8_i32_1067 : BitVec 32 := 8#32
  let v2465 : BitVec 32 := Scalar.muli v2464 c8_i32_1067
  let v2466 : BitVec 32 := v2465
  let c0_i32_1070 : BitVec 32 := 0#32
  ![v2466.toNat, 0]

def k0_chk174 (i : grid0.Coords) (v0 : BitVec 32) (v28 : BitVec 32) (v2464 : BitVec 32) : Prop :=
  (∀ (k0_h1 : k0_cond1 i v0 = 1#1), ∀ (k0_h4 : k0_cond4 i v28 = 1#1), 8 ∣ (k0_mult345 v2464).toNat) ∧
  (∀ (k0_h1 : k0_cond1 i v0 = 1#1), ∀ (k0_h4 : k0_cond4 i v28 = 1#1), ∀ a, (k0_off694 v2464) a + S8x128.size a ≤ S262144x128.size a)
theorem k0_mult345_dvd : ∀ (i : grid0.Coords) (v0 : BitVec 32) (v28 : BitVec 32) (v2464 : BitVec 32) (k0_hw174 : k0_chk174 i v0 v28 v2464), ∀ (k0_h1 : k0_cond1 i v0 = 1#1), ∀ (k0_h4 : k0_cond4 i v28 = 1#1), 8 ∣ (k0_mult345 v2464).toNat := fun i v0 v28 v2464 k0_hw174 k0_h1 k0_h4 => k0_hw174.1 k0_h1 k0_h4
theorem k0_off694_inb : ∀ (i : grid0.Coords) (v0 : BitVec 32) (v28 : BitVec 32) (v2464 : BitVec 32) (k0_hw174 : k0_chk174 i v0 v28 v2464), ∀ (k0_h1 : k0_cond1 i v0 = 1#1), ∀ (k0_h4 : k0_cond4 i v28 = 1#1), ∀ a, (k0_off694 v2464) a + S8x128.size a ≤ S262144x128.size a := fun i v0 v28 v2464 k0_hw174 k0_h1 k0_h4 => k0_hw174.2 k0_h1 k0_h4

def k0_off695 (i : grid0.Coords) : Fin 1 → Nat :=
  let arg1 : BitVec 32 := BitVec.ofNat 32 (i 1).val
  let c256_i32_1071 : BitVec 32 := 256#32
  let v2474 : BitVec 32 := Scalar.muli arg1 c256_i32_1071
  let c172_i32 : BitVec 32 := 172#32
  let v2475 : BitVec 32 := Scalar.addi v2474 c172_i32
  let v2477 : Index := Scalar.indexCast v2475
  ![v2477.toNat]
def k0_mult347 (v2478 : BitVec 32) : BitVec 32 :=
  let c8_i32_1073 : BitVec 32 := 8#32
  let v2479 : BitVec 32 := Scalar.muli v2478 c8_i32_1073
  v2479

def k0_mult348 (i : grid0.Coords) : BitVec 32 :=
  let arg1 : BitVec 32 := BitVec.ofNat 32 (i 1).val
  let c256_i32_1071 : BitVec 32 := 256#32
  let v2474 : BitVec 32 := Scalar.muli arg1 c256_i32_1071
  let c172_i32 : BitVec 32 := 172#32
  let v2475 : BitVec 32 := Scalar.addi v2474 c172_i32
  let c8_i32_1074 : BitVec 32 := 8#32
  let v2481 : BitVec 32 := Scalar.muli v2475 c8_i32_1074
  v2481
def k0_off696 (i : grid0.Coords) : Fin 1 → Nat :=
  let c1_i32_1072 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2476 : BitVec 32 := Scalar.subi c1_i32_1072 v11
  ![v2476.toNat]
def k0_off697 (i : grid0.Coords) : Fin 3 → Nat :=
  let c1_i32_1072 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2476 : BitVec 32 := Scalar.subi c1_i32_1072 v11
  let arg1 : BitVec 32 := BitVec.ofNat 32 (i 1).val
  let c256_i32_1071 : BitVec 32 := 256#32
  let v2474 : BitVec 32 := Scalar.muli arg1 c256_i32_1071
  let c172_i32 : BitVec 32 := 172#32
  let v2475 : BitVec 32 := Scalar.addi v2474 c172_i32
  let c8_i32_1074 : BitVec 32 := 8#32
  let v2481 : BitVec 32 := Scalar.muli v2475 c8_i32_1074
  let v2482 : BitVec 32 := v2481
  let c0_i32_1075 : BitVec 32 := 0#32
  ![v2476.toNat, v2482.toNat, 0]
def k0_off698 (v2478 : BitVec 32) : Fin 2 → Nat :=
  let c8_i32_1073 : BitVec 32 := 8#32
  let v2479 : BitVec 32 := Scalar.muli v2478 c8_i32_1073
  let v2480 : BitVec 32 := v2479
  let c0_i32_1076 : BitVec 32 := 0#32
  ![v2480.toNat, 0]

def k0_chk175 (i : grid0.Coords) (v0 : BitVec 32) (v28 : BitVec 32) (v2478 : BitVec 32) : Prop :=
  (∀ (k0_h1 : k0_cond1 i v0 = 1#1), ∀ (k0_h4 : k0_cond4 i v28 = 1#1), 8 ∣ (k0_mult347 v2478).toNat) ∧
  (∀ (k0_h1 : k0_cond1 i v0 = 1#1), ∀ (k0_h4 : k0_cond4 i v28 = 1#1), ∀ a, (k0_off698 v2478) a + S8x128.size a ≤ S262144x128.size a)
theorem k0_mult347_dvd : ∀ (i : grid0.Coords) (v0 : BitVec 32) (v28 : BitVec 32) (v2478 : BitVec 32) (k0_hw175 : k0_chk175 i v0 v28 v2478), ∀ (k0_h1 : k0_cond1 i v0 = 1#1), ∀ (k0_h4 : k0_cond4 i v28 = 1#1), 8 ∣ (k0_mult347 v2478).toNat := fun i v0 v28 v2478 k0_hw175 k0_h1 k0_h4 => k0_hw175.1 k0_h1 k0_h4
theorem k0_off698_inb : ∀ (i : grid0.Coords) (v0 : BitVec 32) (v28 : BitVec 32) (v2478 : BitVec 32) (k0_hw175 : k0_chk175 i v0 v28 v2478), ∀ (k0_h1 : k0_cond1 i v0 = 1#1), ∀ (k0_h4 : k0_cond4 i v28 = 1#1), ∀ a, (k0_off698 v2478) a + S8x128.size a ≤ S262144x128.size a := fun i v0 v28 v2478 k0_hw175 k0_h1 k0_h4 => k0_hw175.2 k0_h1 k0_h4

def k0_off699 (i : grid0.Coords) : Fin 1 → Nat :=
  let arg1 : BitVec 32 := BitVec.ofNat 32 (i 1).val
  let c256_i32_1077 : BitVec 32 := 256#32
  let v2488 : BitVec 32 := Scalar.muli arg1 c256_i32_1077
  let c173_i32 : BitVec 32 := 173#32
  let v2489 : BitVec 32 := Scalar.addi v2488 c173_i32
  let v2491 : Index := Scalar.indexCast v2489
  ![v2491.toNat]
def k0_mult349 (v2492 : BitVec 32) : BitVec 32 :=
  let c8_i32_1079 : BitVec 32 := 8#32
  let v2493 : BitVec 32 := Scalar.muli v2492 c8_i32_1079
  v2493

def k0_mult350 (i : grid0.Coords) : BitVec 32 :=
  let arg1 : BitVec 32 := BitVec.ofNat 32 (i 1).val
  let c256_i32_1077 : BitVec 32 := 256#32
  let v2488 : BitVec 32 := Scalar.muli arg1 c256_i32_1077
  let c173_i32 : BitVec 32 := 173#32
  let v2489 : BitVec 32 := Scalar.addi v2488 c173_i32
  let c8_i32_1080 : BitVec 32 := 8#32
  let v2495 : BitVec 32 := Scalar.muli v2489 c8_i32_1080
  v2495
def k0_off700 (i : grid0.Coords) : Fin 1 → Nat :=
  let c1_i32_1078 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2490 : BitVec 32 := Scalar.subi c1_i32_1078 v11
  ![v2490.toNat]
def k0_off701 (i : grid0.Coords) : Fin 3 → Nat :=
  let c1_i32_1078 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2490 : BitVec 32 := Scalar.subi c1_i32_1078 v11
  let arg1 : BitVec 32 := BitVec.ofNat 32 (i 1).val
  let c256_i32_1077 : BitVec 32 := 256#32
  let v2488 : BitVec 32 := Scalar.muli arg1 c256_i32_1077
  let c173_i32 : BitVec 32 := 173#32
  let v2489 : BitVec 32 := Scalar.addi v2488 c173_i32
  let c8_i32_1080 : BitVec 32 := 8#32
  let v2495 : BitVec 32 := Scalar.muli v2489 c8_i32_1080
  let v2496 : BitVec 32 := v2495
  let c0_i32_1081 : BitVec 32 := 0#32
  ![v2490.toNat, v2496.toNat, 0]
def k0_off702 (v2492 : BitVec 32) : Fin 2 → Nat :=
  let c8_i32_1079 : BitVec 32 := 8#32
  let v2493 : BitVec 32 := Scalar.muli v2492 c8_i32_1079
  let v2494 : BitVec 32 := v2493
  let c0_i32_1082 : BitVec 32 := 0#32
  ![v2494.toNat, 0]

def k0_chk176 (i : grid0.Coords) (v0 : BitVec 32) (v28 : BitVec 32) (v2492 : BitVec 32) : Prop :=
  (∀ (k0_h1 : k0_cond1 i v0 = 1#1), ∀ (k0_h4 : k0_cond4 i v28 = 1#1), 8 ∣ (k0_mult349 v2492).toNat) ∧
  (∀ (k0_h1 : k0_cond1 i v0 = 1#1), ∀ (k0_h4 : k0_cond4 i v28 = 1#1), ∀ a, (k0_off702 v2492) a + S8x128.size a ≤ S262144x128.size a)
theorem k0_mult349_dvd : ∀ (i : grid0.Coords) (v0 : BitVec 32) (v28 : BitVec 32) (v2492 : BitVec 32) (k0_hw176 : k0_chk176 i v0 v28 v2492), ∀ (k0_h1 : k0_cond1 i v0 = 1#1), ∀ (k0_h4 : k0_cond4 i v28 = 1#1), 8 ∣ (k0_mult349 v2492).toNat := fun i v0 v28 v2492 k0_hw176 k0_h1 k0_h4 => k0_hw176.1 k0_h1 k0_h4
theorem k0_off702_inb : ∀ (i : grid0.Coords) (v0 : BitVec 32) (v28 : BitVec 32) (v2492 : BitVec 32) (k0_hw176 : k0_chk176 i v0 v28 v2492), ∀ (k0_h1 : k0_cond1 i v0 = 1#1), ∀ (k0_h4 : k0_cond4 i v28 = 1#1), ∀ a, (k0_off702 v2492) a + S8x128.size a ≤ S262144x128.size a := fun i v0 v28 v2492 k0_hw176 k0_h1 k0_h4 => k0_hw176.2 k0_h1 k0_h4

def k0_off703 (i : grid0.Coords) : Fin 1 → Nat :=
  let arg1 : BitVec 32 := BitVec.ofNat 32 (i 1).val
  let c256_i32_1083 : BitVec 32 := 256#32
  let v2502 : BitVec 32 := Scalar.muli arg1 c256_i32_1083
  let c174_i32 : BitVec 32 := 174#32
  let v2503 : BitVec 32 := Scalar.addi v2502 c174_i32
  let v2505 : Index := Scalar.indexCast v2503
  ![v2505.toNat]
def k0_mult351 (v2506 : BitVec 32) : BitVec 32 :=
  let c8_i32_1085 : BitVec 32 := 8#32
  let v2507 : BitVec 32 := Scalar.muli v2506 c8_i32_1085
  v2507

def k0_mult352 (i : grid0.Coords) : BitVec 32 :=
  let arg1 : BitVec 32 := BitVec.ofNat 32 (i 1).val
  let c256_i32_1083 : BitVec 32 := 256#32
  let v2502 : BitVec 32 := Scalar.muli arg1 c256_i32_1083
  let c174_i32 : BitVec 32 := 174#32
  let v2503 : BitVec 32 := Scalar.addi v2502 c174_i32
  let c8_i32_1086 : BitVec 32 := 8#32
  let v2509 : BitVec 32 := Scalar.muli v2503 c8_i32_1086
  v2509
def k0_off704 (i : grid0.Coords) : Fin 1 → Nat :=
  let c1_i32_1084 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2504 : BitVec 32 := Scalar.subi c1_i32_1084 v11
  ![v2504.toNat]
def k0_off705 (i : grid0.Coords) : Fin 3 → Nat :=
  let c1_i32_1084 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2504 : BitVec 32 := Scalar.subi c1_i32_1084 v11
  let arg1 : BitVec 32 := BitVec.ofNat 32 (i 1).val
  let c256_i32_1083 : BitVec 32 := 256#32
  let v2502 : BitVec 32 := Scalar.muli arg1 c256_i32_1083
  let c174_i32 : BitVec 32 := 174#32
  let v2503 : BitVec 32 := Scalar.addi v2502 c174_i32
  let c8_i32_1086 : BitVec 32 := 8#32
  let v2509 : BitVec 32 := Scalar.muli v2503 c8_i32_1086
  let v2510 : BitVec 32 := v2509
  let c0_i32_1087 : BitVec 32 := 0#32
  ![v2504.toNat, v2510.toNat, 0]
def k0_off706 (v2506 : BitVec 32) : Fin 2 → Nat :=
  let c8_i32_1085 : BitVec 32 := 8#32
  let v2507 : BitVec 32 := Scalar.muli v2506 c8_i32_1085
  let v2508 : BitVec 32 := v2507
  let c0_i32_1088 : BitVec 32 := 0#32
  ![v2508.toNat, 0]

def k0_chk177 (i : grid0.Coords) (v0 : BitVec 32) (v28 : BitVec 32) (v2506 : BitVec 32) : Prop :=
  (∀ (k0_h1 : k0_cond1 i v0 = 1#1), ∀ (k0_h4 : k0_cond4 i v28 = 1#1), 8 ∣ (k0_mult351 v2506).toNat) ∧
  (∀ (k0_h1 : k0_cond1 i v0 = 1#1), ∀ (k0_h4 : k0_cond4 i v28 = 1#1), ∀ a, (k0_off706 v2506) a + S8x128.size a ≤ S262144x128.size a)
theorem k0_mult351_dvd : ∀ (i : grid0.Coords) (v0 : BitVec 32) (v28 : BitVec 32) (v2506 : BitVec 32) (k0_hw177 : k0_chk177 i v0 v28 v2506), ∀ (k0_h1 : k0_cond1 i v0 = 1#1), ∀ (k0_h4 : k0_cond4 i v28 = 1#1), 8 ∣ (k0_mult351 v2506).toNat := fun i v0 v28 v2506 k0_hw177 k0_h1 k0_h4 => k0_hw177.1 k0_h1 k0_h4
theorem k0_off706_inb : ∀ (i : grid0.Coords) (v0 : BitVec 32) (v28 : BitVec 32) (v2506 : BitVec 32) (k0_hw177 : k0_chk177 i v0 v28 v2506), ∀ (k0_h1 : k0_cond1 i v0 = 1#1), ∀ (k0_h4 : k0_cond4 i v28 = 1#1), ∀ a, (k0_off706 v2506) a + S8x128.size a ≤ S262144x128.size a := fun i v0 v28 v2506 k0_hw177 k0_h1 k0_h4 => k0_hw177.2 k0_h1 k0_h4

def k0_off707 (i : grid0.Coords) : Fin 1 → Nat :=
  let arg1 : BitVec 32 := BitVec.ofNat 32 (i 1).val
  let c256_i32_1089 : BitVec 32 := 256#32
  let v2516 : BitVec 32 := Scalar.muli arg1 c256_i32_1089
  let c175_i32 : BitVec 32 := 175#32
  let v2517 : BitVec 32 := Scalar.addi v2516 c175_i32
  let v2519 : Index := Scalar.indexCast v2517
  ![v2519.toNat]
def k0_mult353 (v2520 : BitVec 32) : BitVec 32 :=
  let c8_i32_1091 : BitVec 32 := 8#32
  let v2521 : BitVec 32 := Scalar.muli v2520 c8_i32_1091
  v2521

def k0_mult354 (i : grid0.Coords) : BitVec 32 :=
  let arg1 : BitVec 32 := BitVec.ofNat 32 (i 1).val
  let c256_i32_1089 : BitVec 32 := 256#32
  let v2516 : BitVec 32 := Scalar.muli arg1 c256_i32_1089
  let c175_i32 : BitVec 32 := 175#32
  let v2517 : BitVec 32 := Scalar.addi v2516 c175_i32
  let c8_i32_1092 : BitVec 32 := 8#32
  let v2523 : BitVec 32 := Scalar.muli v2517 c8_i32_1092
  v2523
def k0_off708 (i : grid0.Coords) : Fin 1 → Nat :=
  let c1_i32_1090 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2518 : BitVec 32 := Scalar.subi c1_i32_1090 v11
  ![v2518.toNat]
def k0_off709 (i : grid0.Coords) : Fin 3 → Nat :=
  let c1_i32_1090 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2518 : BitVec 32 := Scalar.subi c1_i32_1090 v11
  let arg1 : BitVec 32 := BitVec.ofNat 32 (i 1).val
  let c256_i32_1089 : BitVec 32 := 256#32
  let v2516 : BitVec 32 := Scalar.muli arg1 c256_i32_1089
  let c175_i32 : BitVec 32 := 175#32
  let v2517 : BitVec 32 := Scalar.addi v2516 c175_i32
  let c8_i32_1092 : BitVec 32 := 8#32
  let v2523 : BitVec 32 := Scalar.muli v2517 c8_i32_1092
  let v2524 : BitVec 32 := v2523
  let c0_i32_1093 : BitVec 32 := 0#32
  ![v2518.toNat, v2524.toNat, 0]
def k0_off710 (v2520 : BitVec 32) : Fin 2 → Nat :=
  let c8_i32_1091 : BitVec 32 := 8#32
  let v2521 : BitVec 32 := Scalar.muli v2520 c8_i32_1091
  let v2522 : BitVec 32 := v2521
  let c0_i32_1094 : BitVec 32 := 0#32
  ![v2522.toNat, 0]

def k0_chk178 (i : grid0.Coords) (v0 : BitVec 32) (v28 : BitVec 32) (v2520 : BitVec 32) : Prop :=
  (∀ (k0_h1 : k0_cond1 i v0 = 1#1), ∀ (k0_h4 : k0_cond4 i v28 = 1#1), 8 ∣ (k0_mult353 v2520).toNat) ∧
  (∀ (k0_h1 : k0_cond1 i v0 = 1#1), ∀ (k0_h4 : k0_cond4 i v28 = 1#1), ∀ a, (k0_off710 v2520) a + S8x128.size a ≤ S262144x128.size a)
theorem k0_mult353_dvd : ∀ (i : grid0.Coords) (v0 : BitVec 32) (v28 : BitVec 32) (v2520 : BitVec 32) (k0_hw178 : k0_chk178 i v0 v28 v2520), ∀ (k0_h1 : k0_cond1 i v0 = 1#1), ∀ (k0_h4 : k0_cond4 i v28 = 1#1), 8 ∣ (k0_mult353 v2520).toNat := fun i v0 v28 v2520 k0_hw178 k0_h1 k0_h4 => k0_hw178.1 k0_h1 k0_h4
theorem k0_off710_inb : ∀ (i : grid0.Coords) (v0 : BitVec 32) (v28 : BitVec 32) (v2520 : BitVec 32) (k0_hw178 : k0_chk178 i v0 v28 v2520), ∀ (k0_h1 : k0_cond1 i v0 = 1#1), ∀ (k0_h4 : k0_cond4 i v28 = 1#1), ∀ a, (k0_off710 v2520) a + S8x128.size a ≤ S262144x128.size a := fun i v0 v28 v2520 k0_hw178 k0_h1 k0_h4 => k0_hw178.2 k0_h1 k0_h4

def k0_off711 (i : grid0.Coords) : Fin 1 → Nat :=
  let arg1 : BitVec 32 := BitVec.ofNat 32 (i 1).val
  let c256_i32_1095 : BitVec 32 := 256#32
  let v2530 : BitVec 32 := Scalar.muli arg1 c256_i32_1095
  let c176_i32 : BitVec 32 := 176#32
  let v2531 : BitVec 32 := Scalar.addi v2530 c176_i32
  let v2533 : Index := Scalar.indexCast v2531
  ![v2533.toNat]
def k0_mult355 (v2534 : BitVec 32) : BitVec 32 :=
  let c8_i32_1097 : BitVec 32 := 8#32
  let v2535 : BitVec 32 := Scalar.muli v2534 c8_i32_1097
  v2535

def k0_mult356 (i : grid0.Coords) : BitVec 32 :=
  let arg1 : BitVec 32 := BitVec.ofNat 32 (i 1).val
  let c256_i32_1095 : BitVec 32 := 256#32
  let v2530 : BitVec 32 := Scalar.muli arg1 c256_i32_1095
  let c176_i32 : BitVec 32 := 176#32
  let v2531 : BitVec 32 := Scalar.addi v2530 c176_i32
  let c8_i32_1098 : BitVec 32 := 8#32
  let v2537 : BitVec 32 := Scalar.muli v2531 c8_i32_1098
  v2537
def k0_off712 (i : grid0.Coords) : Fin 1 → Nat :=
  let c1_i32_1096 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2532 : BitVec 32 := Scalar.subi c1_i32_1096 v11
  ![v2532.toNat]
def k0_off713 (i : grid0.Coords) : Fin 3 → Nat :=
  let c1_i32_1096 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2532 : BitVec 32 := Scalar.subi c1_i32_1096 v11
  let arg1 : BitVec 32 := BitVec.ofNat 32 (i 1).val
  let c256_i32_1095 : BitVec 32 := 256#32
  let v2530 : BitVec 32 := Scalar.muli arg1 c256_i32_1095
  let c176_i32 : BitVec 32 := 176#32
  let v2531 : BitVec 32 := Scalar.addi v2530 c176_i32
  let c8_i32_1098 : BitVec 32 := 8#32
  let v2537 : BitVec 32 := Scalar.muli v2531 c8_i32_1098
  let v2538 : BitVec 32 := v2537
  let c0_i32_1099 : BitVec 32 := 0#32
  ![v2532.toNat, v2538.toNat, 0]
def k0_off714 (v2534 : BitVec 32) : Fin 2 → Nat :=
  let c8_i32_1097 : BitVec 32 := 8#32
  let v2535 : BitVec 32 := Scalar.muli v2534 c8_i32_1097
  let v2536 : BitVec 32 := v2535
  let c0_i32_1100 : BitVec 32 := 0#32
  ![v2536.toNat, 0]

def k0_chk179 (i : grid0.Coords) (v0 : BitVec 32) (v28 : BitVec 32) (v2534 : BitVec 32) : Prop :=
  (∀ (k0_h1 : k0_cond1 i v0 = 1#1), ∀ (k0_h4 : k0_cond4 i v28 = 1#1), 8 ∣ (k0_mult355 v2534).toNat) ∧
  (∀ (k0_h1 : k0_cond1 i v0 = 1#1), ∀ (k0_h4 : k0_cond4 i v28 = 1#1), ∀ a, (k0_off714 v2534) a + S8x128.size a ≤ S262144x128.size a)
theorem k0_mult355_dvd : ∀ (i : grid0.Coords) (v0 : BitVec 32) (v28 : BitVec 32) (v2534 : BitVec 32) (k0_hw179 : k0_chk179 i v0 v28 v2534), ∀ (k0_h1 : k0_cond1 i v0 = 1#1), ∀ (k0_h4 : k0_cond4 i v28 = 1#1), 8 ∣ (k0_mult355 v2534).toNat := fun i v0 v28 v2534 k0_hw179 k0_h1 k0_h4 => k0_hw179.1 k0_h1 k0_h4
theorem k0_off714_inb : ∀ (i : grid0.Coords) (v0 : BitVec 32) (v28 : BitVec 32) (v2534 : BitVec 32) (k0_hw179 : k0_chk179 i v0 v28 v2534), ∀ (k0_h1 : k0_cond1 i v0 = 1#1), ∀ (k0_h4 : k0_cond4 i v28 = 1#1), ∀ a, (k0_off714 v2534) a + S8x128.size a ≤ S262144x128.size a := fun i v0 v28 v2534 k0_hw179 k0_h1 k0_h4 => k0_hw179.2 k0_h1 k0_h4

def k0_off715 (i : grid0.Coords) : Fin 1 → Nat :=
  let arg1 : BitVec 32 := BitVec.ofNat 32 (i 1).val
  let c256_i32_1101 : BitVec 32 := 256#32
  let v2544 : BitVec 32 := Scalar.muli arg1 c256_i32_1101
  let c177_i32 : BitVec 32 := 177#32
  let v2545 : BitVec 32 := Scalar.addi v2544 c177_i32
  let v2547 : Index := Scalar.indexCast v2545
  ![v2547.toNat]
def k0_mult357 (v2548 : BitVec 32) : BitVec 32 :=
  let c8_i32_1103 : BitVec 32 := 8#32
  let v2549 : BitVec 32 := Scalar.muli v2548 c8_i32_1103
  v2549

def k0_mult358 (i : grid0.Coords) : BitVec 32 :=
  let arg1 : BitVec 32 := BitVec.ofNat 32 (i 1).val
  let c256_i32_1101 : BitVec 32 := 256#32
  let v2544 : BitVec 32 := Scalar.muli arg1 c256_i32_1101
  let c177_i32 : BitVec 32 := 177#32
  let v2545 : BitVec 32 := Scalar.addi v2544 c177_i32
  let c8_i32_1104 : BitVec 32 := 8#32
  let v2551 : BitVec 32 := Scalar.muli v2545 c8_i32_1104
  v2551
def k0_off716 (i : grid0.Coords) : Fin 1 → Nat :=
  let c1_i32_1102 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2546 : BitVec 32 := Scalar.subi c1_i32_1102 v11
  ![v2546.toNat]
def k0_off717 (i : grid0.Coords) : Fin 3 → Nat :=
  let c1_i32_1102 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2546 : BitVec 32 := Scalar.subi c1_i32_1102 v11
  let arg1 : BitVec 32 := BitVec.ofNat 32 (i 1).val
  let c256_i32_1101 : BitVec 32 := 256#32
  let v2544 : BitVec 32 := Scalar.muli arg1 c256_i32_1101
  let c177_i32 : BitVec 32 := 177#32
  let v2545 : BitVec 32 := Scalar.addi v2544 c177_i32
  let c8_i32_1104 : BitVec 32 := 8#32
  let v2551 : BitVec 32 := Scalar.muli v2545 c8_i32_1104
  let v2552 : BitVec 32 := v2551
  let c0_i32_1105 : BitVec 32 := 0#32
  ![v2546.toNat, v2552.toNat, 0]
def k0_off718 (v2548 : BitVec 32) : Fin 2 → Nat :=
  let c8_i32_1103 : BitVec 32 := 8#32
  let v2549 : BitVec 32 := Scalar.muli v2548 c8_i32_1103
  let v2550 : BitVec 32 := v2549
  let c0_i32_1106 : BitVec 32 := 0#32
  ![v2550.toNat, 0]

def k0_chk180 (i : grid0.Coords) (v0 : BitVec 32) (v28 : BitVec 32) (v2548 : BitVec 32) : Prop :=
  (∀ (k0_h1 : k0_cond1 i v0 = 1#1), ∀ (k0_h4 : k0_cond4 i v28 = 1#1), 8 ∣ (k0_mult357 v2548).toNat) ∧
  (∀ (k0_h1 : k0_cond1 i v0 = 1#1), ∀ (k0_h4 : k0_cond4 i v28 = 1#1), ∀ a, (k0_off718 v2548) a + S8x128.size a ≤ S262144x128.size a)
theorem k0_mult357_dvd : ∀ (i : grid0.Coords) (v0 : BitVec 32) (v28 : BitVec 32) (v2548 : BitVec 32) (k0_hw180 : k0_chk180 i v0 v28 v2548), ∀ (k0_h1 : k0_cond1 i v0 = 1#1), ∀ (k0_h4 : k0_cond4 i v28 = 1#1), 8 ∣ (k0_mult357 v2548).toNat := fun i v0 v28 v2548 k0_hw180 k0_h1 k0_h4 => k0_hw180.1 k0_h1 k0_h4
theorem k0_off718_inb : ∀ (i : grid0.Coords) (v0 : BitVec 32) (v28 : BitVec 32) (v2548 : BitVec 32) (k0_hw180 : k0_chk180 i v0 v28 v2548), ∀ (k0_h1 : k0_cond1 i v0 = 1#1), ∀ (k0_h4 : k0_cond4 i v28 = 1#1), ∀ a, (k0_off718 v2548) a + S8x128.size a ≤ S262144x128.size a := fun i v0 v28 v2548 k0_hw180 k0_h1 k0_h4 => k0_hw180.2 k0_h1 k0_h4

def k0_off719 (i : grid0.Coords) : Fin 1 → Nat :=
  let arg1 : BitVec 32 := BitVec.ofNat 32 (i 1).val
  let c256_i32_1107 : BitVec 32 := 256#32
  let v2558 : BitVec 32 := Scalar.muli arg1 c256_i32_1107
  let c178_i32 : BitVec 32 := 178#32
  let v2559 : BitVec 32 := Scalar.addi v2558 c178_i32
  let v2561 : Index := Scalar.indexCast v2559
  ![v2561.toNat]
def k0_mult359 (v2562 : BitVec 32) : BitVec 32 :=
  let c8_i32_1109 : BitVec 32 := 8#32
  let v2563 : BitVec 32 := Scalar.muli v2562 c8_i32_1109
  v2563

def k0_mult360 (i : grid0.Coords) : BitVec 32 :=
  let arg1 : BitVec 32 := BitVec.ofNat 32 (i 1).val
  let c256_i32_1107 : BitVec 32 := 256#32
  let v2558 : BitVec 32 := Scalar.muli arg1 c256_i32_1107
  let c178_i32 : BitVec 32 := 178#32
  let v2559 : BitVec 32 := Scalar.addi v2558 c178_i32
  let c8_i32_1110 : BitVec 32 := 8#32
  let v2565 : BitVec 32 := Scalar.muli v2559 c8_i32_1110
  v2565
def k0_off720 (i : grid0.Coords) : Fin 1 → Nat :=
  let c1_i32_1108 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2560 : BitVec 32 := Scalar.subi c1_i32_1108 v11
  ![v2560.toNat]
def k0_off721 (i : grid0.Coords) : Fin 3 → Nat :=
  let c1_i32_1108 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2560 : BitVec 32 := Scalar.subi c1_i32_1108 v11
  let arg1 : BitVec 32 := BitVec.ofNat 32 (i 1).val
  let c256_i32_1107 : BitVec 32 := 256#32
  let v2558 : BitVec 32 := Scalar.muli arg1 c256_i32_1107
  let c178_i32 : BitVec 32 := 178#32
  let v2559 : BitVec 32 := Scalar.addi v2558 c178_i32
  let c8_i32_1110 : BitVec 32 := 8#32
  let v2565 : BitVec 32 := Scalar.muli v2559 c8_i32_1110
  let v2566 : BitVec 32 := v2565
  let c0_i32_1111 : BitVec 32 := 0#32
  ![v2560.toNat, v2566.toNat, 0]
def k0_off722 (v2562 : BitVec 32) : Fin 2 → Nat :=
  let c8_i32_1109 : BitVec 32 := 8#32
  let v2563 : BitVec 32 := Scalar.muli v2562 c8_i32_1109
  let v2564 : BitVec 32 := v2563
  let c0_i32_1112 : BitVec 32 := 0#32
  ![v2564.toNat, 0]

def k0_chk181 (i : grid0.Coords) (v0 : BitVec 32) (v28 : BitVec 32) (v2562 : BitVec 32) : Prop :=
  (∀ (k0_h1 : k0_cond1 i v0 = 1#1), ∀ (k0_h4 : k0_cond4 i v28 = 1#1), 8 ∣ (k0_mult359 v2562).toNat) ∧
  (∀ (k0_h1 : k0_cond1 i v0 = 1#1), ∀ (k0_h4 : k0_cond4 i v28 = 1#1), ∀ a, (k0_off722 v2562) a + S8x128.size a ≤ S262144x128.size a)
theorem k0_mult359_dvd : ∀ (i : grid0.Coords) (v0 : BitVec 32) (v28 : BitVec 32) (v2562 : BitVec 32) (k0_hw181 : k0_chk181 i v0 v28 v2562), ∀ (k0_h1 : k0_cond1 i v0 = 1#1), ∀ (k0_h4 : k0_cond4 i v28 = 1#1), 8 ∣ (k0_mult359 v2562).toNat := fun i v0 v28 v2562 k0_hw181 k0_h1 k0_h4 => k0_hw181.1 k0_h1 k0_h4
theorem k0_off722_inb : ∀ (i : grid0.Coords) (v0 : BitVec 32) (v28 : BitVec 32) (v2562 : BitVec 32) (k0_hw181 : k0_chk181 i v0 v28 v2562), ∀ (k0_h1 : k0_cond1 i v0 = 1#1), ∀ (k0_h4 : k0_cond4 i v28 = 1#1), ∀ a, (k0_off722 v2562) a + S8x128.size a ≤ S262144x128.size a := fun i v0 v28 v2562 k0_hw181 k0_h1 k0_h4 => k0_hw181.2 k0_h1 k0_h4

def k0_off723 (i : grid0.Coords) : Fin 1 → Nat :=
  let arg1 : BitVec 32 := BitVec.ofNat 32 (i 1).val
  let c256_i32_1113 : BitVec 32 := 256#32
  let v2572 : BitVec 32 := Scalar.muli arg1 c256_i32_1113
  let c179_i32 : BitVec 32 := 179#32
  let v2573 : BitVec 32 := Scalar.addi v2572 c179_i32
  let v2575 : Index := Scalar.indexCast v2573
  ![v2575.toNat]
def k0_mult361 (v2576 : BitVec 32) : BitVec 32 :=
  let c8_i32_1115 : BitVec 32 := 8#32
  let v2577 : BitVec 32 := Scalar.muli v2576 c8_i32_1115
  v2577

def k0_mult362 (i : grid0.Coords) : BitVec 32 :=
  let arg1 : BitVec 32 := BitVec.ofNat 32 (i 1).val
  let c256_i32_1113 : BitVec 32 := 256#32
  let v2572 : BitVec 32 := Scalar.muli arg1 c256_i32_1113
  let c179_i32 : BitVec 32 := 179#32
  let v2573 : BitVec 32 := Scalar.addi v2572 c179_i32
  let c8_i32_1116 : BitVec 32 := 8#32
  let v2579 : BitVec 32 := Scalar.muli v2573 c8_i32_1116
  v2579
def k0_off724 (i : grid0.Coords) : Fin 1 → Nat :=
  let c1_i32_1114 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2574 : BitVec 32 := Scalar.subi c1_i32_1114 v11
  ![v2574.toNat]
def k0_off725 (i : grid0.Coords) : Fin 3 → Nat :=
  let c1_i32_1114 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2574 : BitVec 32 := Scalar.subi c1_i32_1114 v11
  let arg1 : BitVec 32 := BitVec.ofNat 32 (i 1).val
  let c256_i32_1113 : BitVec 32 := 256#32
  let v2572 : BitVec 32 := Scalar.muli arg1 c256_i32_1113
  let c179_i32 : BitVec 32 := 179#32
  let v2573 : BitVec 32 := Scalar.addi v2572 c179_i32
  let c8_i32_1116 : BitVec 32 := 8#32
  let v2579 : BitVec 32 := Scalar.muli v2573 c8_i32_1116
  let v2580 : BitVec 32 := v2579
  let c0_i32_1117 : BitVec 32 := 0#32
  ![v2574.toNat, v2580.toNat, 0]
def k0_off726 (v2576 : BitVec 32) : Fin 2 → Nat :=
  let c8_i32_1115 : BitVec 32 := 8#32
  let v2577 : BitVec 32 := Scalar.muli v2576 c8_i32_1115
  let v2578 : BitVec 32 := v2577
  let c0_i32_1118 : BitVec 32 := 0#32
  ![v2578.toNat, 0]

def k0_chk182 (i : grid0.Coords) (v0 : BitVec 32) (v28 : BitVec 32) (v2576 : BitVec 32) : Prop :=
  (∀ (k0_h1 : k0_cond1 i v0 = 1#1), ∀ (k0_h4 : k0_cond4 i v28 = 1#1), 8 ∣ (k0_mult361 v2576).toNat) ∧
  (∀ (k0_h1 : k0_cond1 i v0 = 1#1), ∀ (k0_h4 : k0_cond4 i v28 = 1#1), ∀ a, (k0_off726 v2576) a + S8x128.size a ≤ S262144x128.size a)
theorem k0_mult361_dvd : ∀ (i : grid0.Coords) (v0 : BitVec 32) (v28 : BitVec 32) (v2576 : BitVec 32) (k0_hw182 : k0_chk182 i v0 v28 v2576), ∀ (k0_h1 : k0_cond1 i v0 = 1#1), ∀ (k0_h4 : k0_cond4 i v28 = 1#1), 8 ∣ (k0_mult361 v2576).toNat := fun i v0 v28 v2576 k0_hw182 k0_h1 k0_h4 => k0_hw182.1 k0_h1 k0_h4
theorem k0_off726_inb : ∀ (i : grid0.Coords) (v0 : BitVec 32) (v28 : BitVec 32) (v2576 : BitVec 32) (k0_hw182 : k0_chk182 i v0 v28 v2576), ∀ (k0_h1 : k0_cond1 i v0 = 1#1), ∀ (k0_h4 : k0_cond4 i v28 = 1#1), ∀ a, (k0_off726 v2576) a + S8x128.size a ≤ S262144x128.size a := fun i v0 v28 v2576 k0_hw182 k0_h1 k0_h4 => k0_hw182.2 k0_h1 k0_h4

def k0_off727 (i : grid0.Coords) : Fin 1 → Nat :=
  let arg1 : BitVec 32 := BitVec.ofNat 32 (i 1).val
  let c256_i32_1119 : BitVec 32 := 256#32
  let v2586 : BitVec 32 := Scalar.muli arg1 c256_i32_1119
  let c180_i32 : BitVec 32 := 180#32
  let v2587 : BitVec 32 := Scalar.addi v2586 c180_i32
  let v2589 : Index := Scalar.indexCast v2587
  ![v2589.toNat]
def k0_mult363 (v2590 : BitVec 32) : BitVec 32 :=
  let c8_i32_1121 : BitVec 32 := 8#32
  let v2591 : BitVec 32 := Scalar.muli v2590 c8_i32_1121
  v2591

def k0_mult364 (i : grid0.Coords) : BitVec 32 :=
  let arg1 : BitVec 32 := BitVec.ofNat 32 (i 1).val
  let c256_i32_1119 : BitVec 32 := 256#32
  let v2586 : BitVec 32 := Scalar.muli arg1 c256_i32_1119
  let c180_i32 : BitVec 32 := 180#32
  let v2587 : BitVec 32 := Scalar.addi v2586 c180_i32
  let c8_i32_1122 : BitVec 32 := 8#32
  let v2593 : BitVec 32 := Scalar.muli v2587 c8_i32_1122
  v2593
def k0_off728 (i : grid0.Coords) : Fin 1 → Nat :=
  let c1_i32_1120 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2588 : BitVec 32 := Scalar.subi c1_i32_1120 v11
  ![v2588.toNat]
def k0_off729 (i : grid0.Coords) : Fin 3 → Nat :=
  let c1_i32_1120 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2588 : BitVec 32 := Scalar.subi c1_i32_1120 v11
  let arg1 : BitVec 32 := BitVec.ofNat 32 (i 1).val
  let c256_i32_1119 : BitVec 32 := 256#32
  let v2586 : BitVec 32 := Scalar.muli arg1 c256_i32_1119
  let c180_i32 : BitVec 32 := 180#32
  let v2587 : BitVec 32 := Scalar.addi v2586 c180_i32
  let c8_i32_1122 : BitVec 32 := 8#32
  let v2593 : BitVec 32 := Scalar.muli v2587 c8_i32_1122
  let v2594 : BitVec 32 := v2593
  let c0_i32_1123 : BitVec 32 := 0#32
  ![v2588.toNat, v2594.toNat, 0]
def k0_off730 (v2590 : BitVec 32) : Fin 2 → Nat :=
  let c8_i32_1121 : BitVec 32 := 8#32
  let v2591 : BitVec 32 := Scalar.muli v2590 c8_i32_1121
  let v2592 : BitVec 32 := v2591
  let c0_i32_1124 : BitVec 32 := 0#32
  ![v2592.toNat, 0]

def k0_chk183 (i : grid0.Coords) (v0 : BitVec 32) (v28 : BitVec 32) (v2590 : BitVec 32) : Prop :=
  (∀ (k0_h1 : k0_cond1 i v0 = 1#1), ∀ (k0_h4 : k0_cond4 i v28 = 1#1), 8 ∣ (k0_mult363 v2590).toNat) ∧
  (∀ (k0_h1 : k0_cond1 i v0 = 1#1), ∀ (k0_h4 : k0_cond4 i v28 = 1#1), ∀ a, (k0_off730 v2590) a + S8x128.size a ≤ S262144x128.size a)
theorem k0_mult363_dvd : ∀ (i : grid0.Coords) (v0 : BitVec 32) (v28 : BitVec 32) (v2590 : BitVec 32) (k0_hw183 : k0_chk183 i v0 v28 v2590), ∀ (k0_h1 : k0_cond1 i v0 = 1#1), ∀ (k0_h4 : k0_cond4 i v28 = 1#1), 8 ∣ (k0_mult363 v2590).toNat := fun i v0 v28 v2590 k0_hw183 k0_h1 k0_h4 => k0_hw183.1 k0_h1 k0_h4
theorem k0_off730_inb : ∀ (i : grid0.Coords) (v0 : BitVec 32) (v28 : BitVec 32) (v2590 : BitVec 32) (k0_hw183 : k0_chk183 i v0 v28 v2590), ∀ (k0_h1 : k0_cond1 i v0 = 1#1), ∀ (k0_h4 : k0_cond4 i v28 = 1#1), ∀ a, (k0_off730 v2590) a + S8x128.size a ≤ S262144x128.size a := fun i v0 v28 v2590 k0_hw183 k0_h1 k0_h4 => k0_hw183.2 k0_h1 k0_h4

def k0_off731 (i : grid0.Coords) : Fin 1 → Nat :=
  let arg1 : BitVec 32 := BitVec.ofNat 32 (i 1).val
  let c256_i32_1125 : BitVec 32 := 256#32
  let v2600 : BitVec 32 := Scalar.muli arg1 c256_i32_1125
  let c181_i32 : BitVec 32 := 181#32
  let v2601 : BitVec 32 := Scalar.addi v2600 c181_i32
  let v2603 : Index := Scalar.indexCast v2601
  ![v2603.toNat]
def k0_mult365 (v2604 : BitVec 32) : BitVec 32 :=
  let c8_i32_1127 : BitVec 32 := 8#32
  let v2605 : BitVec 32 := Scalar.muli v2604 c8_i32_1127
  v2605

def k0_mult366 (i : grid0.Coords) : BitVec 32 :=
  let arg1 : BitVec 32 := BitVec.ofNat 32 (i 1).val
  let c256_i32_1125 : BitVec 32 := 256#32
  let v2600 : BitVec 32 := Scalar.muli arg1 c256_i32_1125
  let c181_i32 : BitVec 32 := 181#32
  let v2601 : BitVec 32 := Scalar.addi v2600 c181_i32
  let c8_i32_1128 : BitVec 32 := 8#32
  let v2607 : BitVec 32 := Scalar.muli v2601 c8_i32_1128
  v2607
def k0_off732 (i : grid0.Coords) : Fin 1 → Nat :=
  let c1_i32_1126 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2602 : BitVec 32 := Scalar.subi c1_i32_1126 v11
  ![v2602.toNat]
def k0_off733 (i : grid0.Coords) : Fin 3 → Nat :=
  let c1_i32_1126 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2602 : BitVec 32 := Scalar.subi c1_i32_1126 v11
  let arg1 : BitVec 32 := BitVec.ofNat 32 (i 1).val
  let c256_i32_1125 : BitVec 32 := 256#32
  let v2600 : BitVec 32 := Scalar.muli arg1 c256_i32_1125
  let c181_i32 : BitVec 32 := 181#32
  let v2601 : BitVec 32 := Scalar.addi v2600 c181_i32
  let c8_i32_1128 : BitVec 32 := 8#32
  let v2607 : BitVec 32 := Scalar.muli v2601 c8_i32_1128
  let v2608 : BitVec 32 := v2607
  let c0_i32_1129 : BitVec 32 := 0#32
  ![v2602.toNat, v2608.toNat, 0]
def k0_off734 (v2604 : BitVec 32) : Fin 2 → Nat :=
  let c8_i32_1127 : BitVec 32 := 8#32
  let v2605 : BitVec 32 := Scalar.muli v2604 c8_i32_1127
  let v2606 : BitVec 32 := v2605
  let c0_i32_1130 : BitVec 32 := 0#32
  ![v2606.toNat, 0]

def k0_chk184 (i : grid0.Coords) (v0 : BitVec 32) (v28 : BitVec 32) (v2604 : BitVec 32) : Prop :=
  (∀ (k0_h1 : k0_cond1 i v0 = 1#1), ∀ (k0_h4 : k0_cond4 i v28 = 1#1), 8 ∣ (k0_mult365 v2604).toNat) ∧
  (∀ (k0_h1 : k0_cond1 i v0 = 1#1), ∀ (k0_h4 : k0_cond4 i v28 = 1#1), ∀ a, (k0_off734 v2604) a + S8x128.size a ≤ S262144x128.size a)
theorem k0_mult365_dvd : ∀ (i : grid0.Coords) (v0 : BitVec 32) (v28 : BitVec 32) (v2604 : BitVec 32) (k0_hw184 : k0_chk184 i v0 v28 v2604), ∀ (k0_h1 : k0_cond1 i v0 = 1#1), ∀ (k0_h4 : k0_cond4 i v28 = 1#1), 8 ∣ (k0_mult365 v2604).toNat := fun i v0 v28 v2604 k0_hw184 k0_h1 k0_h4 => k0_hw184.1 k0_h1 k0_h4
theorem k0_off734_inb : ∀ (i : grid0.Coords) (v0 : BitVec 32) (v28 : BitVec 32) (v2604 : BitVec 32) (k0_hw184 : k0_chk184 i v0 v28 v2604), ∀ (k0_h1 : k0_cond1 i v0 = 1#1), ∀ (k0_h4 : k0_cond4 i v28 = 1#1), ∀ a, (k0_off734 v2604) a + S8x128.size a ≤ S262144x128.size a := fun i v0 v28 v2604 k0_hw184 k0_h1 k0_h4 => k0_hw184.2 k0_h1 k0_h4

def k0_off735 (i : grid0.Coords) : Fin 1 → Nat :=
  let arg1 : BitVec 32 := BitVec.ofNat 32 (i 1).val
  let c256_i32_1131 : BitVec 32 := 256#32
  let v2614 : BitVec 32 := Scalar.muli arg1 c256_i32_1131
  let c182_i32 : BitVec 32 := 182#32
  let v2615 : BitVec 32 := Scalar.addi v2614 c182_i32
  let v2617 : Index := Scalar.indexCast v2615
  ![v2617.toNat]
def k0_mult367 (v2618 : BitVec 32) : BitVec 32 :=
  let c8_i32_1133 : BitVec 32 := 8#32
  let v2619 : BitVec 32 := Scalar.muli v2618 c8_i32_1133
  v2619

def k0_mult368 (i : grid0.Coords) : BitVec 32 :=
  let arg1 : BitVec 32 := BitVec.ofNat 32 (i 1).val
  let c256_i32_1131 : BitVec 32 := 256#32
  let v2614 : BitVec 32 := Scalar.muli arg1 c256_i32_1131
  let c182_i32 : BitVec 32 := 182#32
  let v2615 : BitVec 32 := Scalar.addi v2614 c182_i32
  let c8_i32_1134 : BitVec 32 := 8#32
  let v2621 : BitVec 32 := Scalar.muli v2615 c8_i32_1134
  v2621
def k0_off736 (i : grid0.Coords) : Fin 1 → Nat :=
  let c1_i32_1132 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2616 : BitVec 32 := Scalar.subi c1_i32_1132 v11
  ![v2616.toNat]
def k0_off737 (i : grid0.Coords) : Fin 3 → Nat :=
  let c1_i32_1132 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2616 : BitVec 32 := Scalar.subi c1_i32_1132 v11
  let arg1 : BitVec 32 := BitVec.ofNat 32 (i 1).val
  let c256_i32_1131 : BitVec 32 := 256#32
  let v2614 : BitVec 32 := Scalar.muli arg1 c256_i32_1131
  let c182_i32 : BitVec 32 := 182#32
  let v2615 : BitVec 32 := Scalar.addi v2614 c182_i32
  let c8_i32_1134 : BitVec 32 := 8#32
  let v2621 : BitVec 32 := Scalar.muli v2615 c8_i32_1134
  let v2622 : BitVec 32 := v2621
  let c0_i32_1135 : BitVec 32 := 0#32
  ![v2616.toNat, v2622.toNat, 0]
def k0_off738 (v2618 : BitVec 32) : Fin 2 → Nat :=
  let c8_i32_1133 : BitVec 32 := 8#32
  let v2619 : BitVec 32 := Scalar.muli v2618 c8_i32_1133
  let v2620 : BitVec 32 := v2619
  let c0_i32_1136 : BitVec 32 := 0#32
  ![v2620.toNat, 0]

def k0_chk185 (i : grid0.Coords) (v0 : BitVec 32) (v28 : BitVec 32) (v2618 : BitVec 32) : Prop :=
  (∀ (k0_h1 : k0_cond1 i v0 = 1#1), ∀ (k0_h4 : k0_cond4 i v28 = 1#1), 8 ∣ (k0_mult367 v2618).toNat) ∧
  (∀ (k0_h1 : k0_cond1 i v0 = 1#1), ∀ (k0_h4 : k0_cond4 i v28 = 1#1), ∀ a, (k0_off738 v2618) a + S8x128.size a ≤ S262144x128.size a)
theorem k0_mult367_dvd : ∀ (i : grid0.Coords) (v0 : BitVec 32) (v28 : BitVec 32) (v2618 : BitVec 32) (k0_hw185 : k0_chk185 i v0 v28 v2618), ∀ (k0_h1 : k0_cond1 i v0 = 1#1), ∀ (k0_h4 : k0_cond4 i v28 = 1#1), 8 ∣ (k0_mult367 v2618).toNat := fun i v0 v28 v2618 k0_hw185 k0_h1 k0_h4 => k0_hw185.1 k0_h1 k0_h4
theorem k0_off738_inb : ∀ (i : grid0.Coords) (v0 : BitVec 32) (v28 : BitVec 32) (v2618 : BitVec 32) (k0_hw185 : k0_chk185 i v0 v28 v2618), ∀ (k0_h1 : k0_cond1 i v0 = 1#1), ∀ (k0_h4 : k0_cond4 i v28 = 1#1), ∀ a, (k0_off738 v2618) a + S8x128.size a ≤ S262144x128.size a := fun i v0 v28 v2618 k0_hw185 k0_h1 k0_h4 => k0_hw185.2 k0_h1 k0_h4

def k0_off739 (i : grid0.Coords) : Fin 1 → Nat :=
  let arg1 : BitVec 32 := BitVec.ofNat 32 (i 1).val
  let c256_i32_1137 : BitVec 32 := 256#32
  let v2628 : BitVec 32 := Scalar.muli arg1 c256_i32_1137
  let c183_i32 : BitVec 32 := 183#32
  let v2629 : BitVec 32 := Scalar.addi v2628 c183_i32
  let v2631 : Index := Scalar.indexCast v2629
  ![v2631.toNat]
def k0_mult369 (v2632 : BitVec 32) : BitVec 32 :=
  let c8_i32_1139 : BitVec 32 := 8#32
  let v2633 : BitVec 32 := Scalar.muli v2632 c8_i32_1139
  v2633

def k0_mult370 (i : grid0.Coords) : BitVec 32 :=
  let arg1 : BitVec 32 := BitVec.ofNat 32 (i 1).val
  let c256_i32_1137 : BitVec 32 := 256#32
  let v2628 : BitVec 32 := Scalar.muli arg1 c256_i32_1137
  let c183_i32 : BitVec 32 := 183#32
  let v2629 : BitVec 32 := Scalar.addi v2628 c183_i32
  let c8_i32_1140 : BitVec 32 := 8#32
  let v2635 : BitVec 32 := Scalar.muli v2629 c8_i32_1140
  v2635
def k0_off740 (i : grid0.Coords) : Fin 1 → Nat :=
  let c1_i32_1138 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2630 : BitVec 32 := Scalar.subi c1_i32_1138 v11
  ![v2630.toNat]
def k0_off741 (i : grid0.Coords) : Fin 3 → Nat :=
  let c1_i32_1138 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2630 : BitVec 32 := Scalar.subi c1_i32_1138 v11
  let arg1 : BitVec 32 := BitVec.ofNat 32 (i 1).val
  let c256_i32_1137 : BitVec 32 := 256#32
  let v2628 : BitVec 32 := Scalar.muli arg1 c256_i32_1137
  let c183_i32 : BitVec 32 := 183#32
  let v2629 : BitVec 32 := Scalar.addi v2628 c183_i32
  let c8_i32_1140 : BitVec 32 := 8#32
  let v2635 : BitVec 32 := Scalar.muli v2629 c8_i32_1140
  let v2636 : BitVec 32 := v2635
  let c0_i32_1141 : BitVec 32 := 0#32
  ![v2630.toNat, v2636.toNat, 0]
def k0_off742 (v2632 : BitVec 32) : Fin 2 → Nat :=
  let c8_i32_1139 : BitVec 32 := 8#32
  let v2633 : BitVec 32 := Scalar.muli v2632 c8_i32_1139
  let v2634 : BitVec 32 := v2633
  let c0_i32_1142 : BitVec 32 := 0#32
  ![v2634.toNat, 0]

def k0_chk186 (i : grid0.Coords) (v0 : BitVec 32) (v28 : BitVec 32) (v2632 : BitVec 32) : Prop :=
  (∀ (k0_h1 : k0_cond1 i v0 = 1#1), ∀ (k0_h4 : k0_cond4 i v28 = 1#1), 8 ∣ (k0_mult369 v2632).toNat) ∧
  (∀ (k0_h1 : k0_cond1 i v0 = 1#1), ∀ (k0_h4 : k0_cond4 i v28 = 1#1), ∀ a, (k0_off742 v2632) a + S8x128.size a ≤ S262144x128.size a)
theorem k0_mult369_dvd : ∀ (i : grid0.Coords) (v0 : BitVec 32) (v28 : BitVec 32) (v2632 : BitVec 32) (k0_hw186 : k0_chk186 i v0 v28 v2632), ∀ (k0_h1 : k0_cond1 i v0 = 1#1), ∀ (k0_h4 : k0_cond4 i v28 = 1#1), 8 ∣ (k0_mult369 v2632).toNat := fun i v0 v28 v2632 k0_hw186 k0_h1 k0_h4 => k0_hw186.1 k0_h1 k0_h4
theorem k0_off742_inb : ∀ (i : grid0.Coords) (v0 : BitVec 32) (v28 : BitVec 32) (v2632 : BitVec 32) (k0_hw186 : k0_chk186 i v0 v28 v2632), ∀ (k0_h1 : k0_cond1 i v0 = 1#1), ∀ (k0_h4 : k0_cond4 i v28 = 1#1), ∀ a, (k0_off742 v2632) a + S8x128.size a ≤ S262144x128.size a := fun i v0 v28 v2632 k0_hw186 k0_h1 k0_h4 => k0_hw186.2 k0_h1 k0_h4

def k0_off743 (i : grid0.Coords) : Fin 1 → Nat :=
  let arg1 : BitVec 32 := BitVec.ofNat 32 (i 1).val
  let c256_i32_1143 : BitVec 32 := 256#32
  let v2642 : BitVec 32 := Scalar.muli arg1 c256_i32_1143
  let c184_i32 : BitVec 32 := 184#32
  let v2643 : BitVec 32 := Scalar.addi v2642 c184_i32
  let v2645 : Index := Scalar.indexCast v2643
  ![v2645.toNat]
def k0_mult371 (v2646 : BitVec 32) : BitVec 32 :=
  let c8_i32_1145 : BitVec 32 := 8#32
  let v2647 : BitVec 32 := Scalar.muli v2646 c8_i32_1145
  v2647

def k0_mult372 (i : grid0.Coords) : BitVec 32 :=
  let arg1 : BitVec 32 := BitVec.ofNat 32 (i 1).val
  let c256_i32_1143 : BitVec 32 := 256#32
  let v2642 : BitVec 32 := Scalar.muli arg1 c256_i32_1143
  let c184_i32 : BitVec 32 := 184#32
  let v2643 : BitVec 32 := Scalar.addi v2642 c184_i32
  let c8_i32_1146 : BitVec 32 := 8#32
  let v2649 : BitVec 32 := Scalar.muli v2643 c8_i32_1146
  v2649
def k0_off744 (i : grid0.Coords) : Fin 1 → Nat :=
  let c1_i32_1144 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2644 : BitVec 32 := Scalar.subi c1_i32_1144 v11
  ![v2644.toNat]
def k0_off745 (i : grid0.Coords) : Fin 3 → Nat :=
  let c1_i32_1144 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2644 : BitVec 32 := Scalar.subi c1_i32_1144 v11
  let arg1 : BitVec 32 := BitVec.ofNat 32 (i 1).val
  let c256_i32_1143 : BitVec 32 := 256#32
  let v2642 : BitVec 32 := Scalar.muli arg1 c256_i32_1143
  let c184_i32 : BitVec 32 := 184#32
  let v2643 : BitVec 32 := Scalar.addi v2642 c184_i32
  let c8_i32_1146 : BitVec 32 := 8#32
  let v2649 : BitVec 32 := Scalar.muli v2643 c8_i32_1146
  let v2650 : BitVec 32 := v2649
  let c0_i32_1147 : BitVec 32 := 0#32
  ![v2644.toNat, v2650.toNat, 0]
def k0_off746 (v2646 : BitVec 32) : Fin 2 → Nat :=
  let c8_i32_1145 : BitVec 32 := 8#32
  let v2647 : BitVec 32 := Scalar.muli v2646 c8_i32_1145
  let v2648 : BitVec 32 := v2647
  let c0_i32_1148 : BitVec 32 := 0#32
  ![v2648.toNat, 0]

def k0_chk187 (i : grid0.Coords) (v0 : BitVec 32) (v28 : BitVec 32) (v2646 : BitVec 32) : Prop :=
  (∀ (k0_h1 : k0_cond1 i v0 = 1#1), ∀ (k0_h4 : k0_cond4 i v28 = 1#1), 8 ∣ (k0_mult371 v2646).toNat) ∧
  (∀ (k0_h1 : k0_cond1 i v0 = 1#1), ∀ (k0_h4 : k0_cond4 i v28 = 1#1), ∀ a, (k0_off746 v2646) a + S8x128.size a ≤ S262144x128.size a)
theorem k0_mult371_dvd : ∀ (i : grid0.Coords) (v0 : BitVec 32) (v28 : BitVec 32) (v2646 : BitVec 32) (k0_hw187 : k0_chk187 i v0 v28 v2646), ∀ (k0_h1 : k0_cond1 i v0 = 1#1), ∀ (k0_h4 : k0_cond4 i v28 = 1#1), 8 ∣ (k0_mult371 v2646).toNat := fun i v0 v28 v2646 k0_hw187 k0_h1 k0_h4 => k0_hw187.1 k0_h1 k0_h4
theorem k0_off746_inb : ∀ (i : grid0.Coords) (v0 : BitVec 32) (v28 : BitVec 32) (v2646 : BitVec 32) (k0_hw187 : k0_chk187 i v0 v28 v2646), ∀ (k0_h1 : k0_cond1 i v0 = 1#1), ∀ (k0_h4 : k0_cond4 i v28 = 1#1), ∀ a, (k0_off746 v2646) a + S8x128.size a ≤ S262144x128.size a := fun i v0 v28 v2646 k0_hw187 k0_h1 k0_h4 => k0_hw187.2 k0_h1 k0_h4

def k0_off747 (i : grid0.Coords) : Fin 1 → Nat :=
  let arg1 : BitVec 32 := BitVec.ofNat 32 (i 1).val
  let c256_i32_1149 : BitVec 32 := 256#32
  let v2656 : BitVec 32 := Scalar.muli arg1 c256_i32_1149
  let c185_i32 : BitVec 32 := 185#32
  let v2657 : BitVec 32 := Scalar.addi v2656 c185_i32
  let v2659 : Index := Scalar.indexCast v2657
  ![v2659.toNat]
def k0_mult373 (v2660 : BitVec 32) : BitVec 32 :=
  let c8_i32_1151 : BitVec 32 := 8#32
  let v2661 : BitVec 32 := Scalar.muli v2660 c8_i32_1151
  v2661

def k0_mult374 (i : grid0.Coords) : BitVec 32 :=
  let arg1 : BitVec 32 := BitVec.ofNat 32 (i 1).val
  let c256_i32_1149 : BitVec 32 := 256#32
  let v2656 : BitVec 32 := Scalar.muli arg1 c256_i32_1149
  let c185_i32 : BitVec 32 := 185#32
  let v2657 : BitVec 32 := Scalar.addi v2656 c185_i32
  let c8_i32_1152 : BitVec 32 := 8#32
  let v2663 : BitVec 32 := Scalar.muli v2657 c8_i32_1152
  v2663
def k0_off748 (i : grid0.Coords) : Fin 1 → Nat :=
  let c1_i32_1150 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2658 : BitVec 32 := Scalar.subi c1_i32_1150 v11
  ![v2658.toNat]
def k0_off749 (i : grid0.Coords) : Fin 3 → Nat :=
  let c1_i32_1150 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2658 : BitVec 32 := Scalar.subi c1_i32_1150 v11
  let arg1 : BitVec 32 := BitVec.ofNat 32 (i 1).val
  let c256_i32_1149 : BitVec 32 := 256#32
  let v2656 : BitVec 32 := Scalar.muli arg1 c256_i32_1149
  let c185_i32 : BitVec 32 := 185#32
  let v2657 : BitVec 32 := Scalar.addi v2656 c185_i32
  let c8_i32_1152 : BitVec 32 := 8#32
  let v2663 : BitVec 32 := Scalar.muli v2657 c8_i32_1152
  let v2664 : BitVec 32 := v2663
  let c0_i32_1153 : BitVec 32 := 0#32
  ![v2658.toNat, v2664.toNat, 0]
def k0_off750 (v2660 : BitVec 32) : Fin 2 → Nat :=
  let c8_i32_1151 : BitVec 32 := 8#32
  let v2661 : BitVec 32 := Scalar.muli v2660 c8_i32_1151
  let v2662 : BitVec 32 := v2661
  let c0_i32_1154 : BitVec 32 := 0#32
  ![v2662.toNat, 0]

def k0_chk188 (i : grid0.Coords) (v0 : BitVec 32) (v28 : BitVec 32) (v2660 : BitVec 32) : Prop :=
  (∀ (k0_h1 : k0_cond1 i v0 = 1#1), ∀ (k0_h4 : k0_cond4 i v28 = 1#1), 8 ∣ (k0_mult373 v2660).toNat) ∧
  (∀ (k0_h1 : k0_cond1 i v0 = 1#1), ∀ (k0_h4 : k0_cond4 i v28 = 1#1), ∀ a, (k0_off750 v2660) a + S8x128.size a ≤ S262144x128.size a)
theorem k0_mult373_dvd : ∀ (i : grid0.Coords) (v0 : BitVec 32) (v28 : BitVec 32) (v2660 : BitVec 32) (k0_hw188 : k0_chk188 i v0 v28 v2660), ∀ (k0_h1 : k0_cond1 i v0 = 1#1), ∀ (k0_h4 : k0_cond4 i v28 = 1#1), 8 ∣ (k0_mult373 v2660).toNat := fun i v0 v28 v2660 k0_hw188 k0_h1 k0_h4 => k0_hw188.1 k0_h1 k0_h4
theorem k0_off750_inb : ∀ (i : grid0.Coords) (v0 : BitVec 32) (v28 : BitVec 32) (v2660 : BitVec 32) (k0_hw188 : k0_chk188 i v0 v28 v2660), ∀ (k0_h1 : k0_cond1 i v0 = 1#1), ∀ (k0_h4 : k0_cond4 i v28 = 1#1), ∀ a, (k0_off750 v2660) a + S8x128.size a ≤ S262144x128.size a := fun i v0 v28 v2660 k0_hw188 k0_h1 k0_h4 => k0_hw188.2 k0_h1 k0_h4

def k0_off751 (i : grid0.Coords) : Fin 1 → Nat :=
  let arg1 : BitVec 32 := BitVec.ofNat 32 (i 1).val
  let c256_i32_1155 : BitVec 32 := 256#32
  let v2670 : BitVec 32 := Scalar.muli arg1 c256_i32_1155
  let c186_i32 : BitVec 32 := 186#32
  let v2671 : BitVec 32 := Scalar.addi v2670 c186_i32
  let v2673 : Index := Scalar.indexCast v2671
  ![v2673.toNat]
def k0_mult375 (v2674 : BitVec 32) : BitVec 32 :=
  let c8_i32_1157 : BitVec 32 := 8#32
  let v2675 : BitVec 32 := Scalar.muli v2674 c8_i32_1157
  v2675

def k0_mult376 (i : grid0.Coords) : BitVec 32 :=
  let arg1 : BitVec 32 := BitVec.ofNat 32 (i 1).val
  let c256_i32_1155 : BitVec 32 := 256#32
  let v2670 : BitVec 32 := Scalar.muli arg1 c256_i32_1155
  let c186_i32 : BitVec 32 := 186#32
  let v2671 : BitVec 32 := Scalar.addi v2670 c186_i32
  let c8_i32_1158 : BitVec 32 := 8#32
  let v2677 : BitVec 32 := Scalar.muli v2671 c8_i32_1158
  v2677
def k0_off752 (i : grid0.Coords) : Fin 1 → Nat :=
  let c1_i32_1156 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2672 : BitVec 32 := Scalar.subi c1_i32_1156 v11
  ![v2672.toNat]
def k0_off753 (i : grid0.Coords) : Fin 3 → Nat :=
  let c1_i32_1156 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2672 : BitVec 32 := Scalar.subi c1_i32_1156 v11
  let arg1 : BitVec 32 := BitVec.ofNat 32 (i 1).val
  let c256_i32_1155 : BitVec 32 := 256#32
  let v2670 : BitVec 32 := Scalar.muli arg1 c256_i32_1155
  let c186_i32 : BitVec 32 := 186#32
  let v2671 : BitVec 32 := Scalar.addi v2670 c186_i32
  let c8_i32_1158 : BitVec 32 := 8#32
  let v2677 : BitVec 32 := Scalar.muli v2671 c8_i32_1158
  let v2678 : BitVec 32 := v2677
  let c0_i32_1159 : BitVec 32 := 0#32
  ![v2672.toNat, v2678.toNat, 0]
def k0_off754 (v2674 : BitVec 32) : Fin 2 → Nat :=
  let c8_i32_1157 : BitVec 32 := 8#32
  let v2675 : BitVec 32 := Scalar.muli v2674 c8_i32_1157
  let v2676 : BitVec 32 := v2675
  let c0_i32_1160 : BitVec 32 := 0#32
  ![v2676.toNat, 0]

def k0_chk189 (i : grid0.Coords) (v0 : BitVec 32) (v28 : BitVec 32) (v2674 : BitVec 32) : Prop :=
  (∀ (k0_h1 : k0_cond1 i v0 = 1#1), ∀ (k0_h4 : k0_cond4 i v28 = 1#1), 8 ∣ (k0_mult375 v2674).toNat) ∧
  (∀ (k0_h1 : k0_cond1 i v0 = 1#1), ∀ (k0_h4 : k0_cond4 i v28 = 1#1), ∀ a, (k0_off754 v2674) a + S8x128.size a ≤ S262144x128.size a)
theorem k0_mult375_dvd : ∀ (i : grid0.Coords) (v0 : BitVec 32) (v28 : BitVec 32) (v2674 : BitVec 32) (k0_hw189 : k0_chk189 i v0 v28 v2674), ∀ (k0_h1 : k0_cond1 i v0 = 1#1), ∀ (k0_h4 : k0_cond4 i v28 = 1#1), 8 ∣ (k0_mult375 v2674).toNat := fun i v0 v28 v2674 k0_hw189 k0_h1 k0_h4 => k0_hw189.1 k0_h1 k0_h4
theorem k0_off754_inb : ∀ (i : grid0.Coords) (v0 : BitVec 32) (v28 : BitVec 32) (v2674 : BitVec 32) (k0_hw189 : k0_chk189 i v0 v28 v2674), ∀ (k0_h1 : k0_cond1 i v0 = 1#1), ∀ (k0_h4 : k0_cond4 i v28 = 1#1), ∀ a, (k0_off754 v2674) a + S8x128.size a ≤ S262144x128.size a := fun i v0 v28 v2674 k0_hw189 k0_h1 k0_h4 => k0_hw189.2 k0_h1 k0_h4

def k0_off755 (i : grid0.Coords) : Fin 1 → Nat :=
  let arg1 : BitVec 32 := BitVec.ofNat 32 (i 1).val
  let c256_i32_1161 : BitVec 32 := 256#32
  let v2684 : BitVec 32 := Scalar.muli arg1 c256_i32_1161
  let c187_i32 : BitVec 32 := 187#32
  let v2685 : BitVec 32 := Scalar.addi v2684 c187_i32
  let v2687 : Index := Scalar.indexCast v2685
  ![v2687.toNat]
def k0_mult377 (v2688 : BitVec 32) : BitVec 32 :=
  let c8_i32_1163 : BitVec 32 := 8#32
  let v2689 : BitVec 32 := Scalar.muli v2688 c8_i32_1163
  v2689

def k0_mult378 (i : grid0.Coords) : BitVec 32 :=
  let arg1 : BitVec 32 := BitVec.ofNat 32 (i 1).val
  let c256_i32_1161 : BitVec 32 := 256#32
  let v2684 : BitVec 32 := Scalar.muli arg1 c256_i32_1161
  let c187_i32 : BitVec 32 := 187#32
  let v2685 : BitVec 32 := Scalar.addi v2684 c187_i32
  let c8_i32_1164 : BitVec 32 := 8#32
  let v2691 : BitVec 32 := Scalar.muli v2685 c8_i32_1164
  v2691
def k0_off756 (i : grid0.Coords) : Fin 1 → Nat :=
  let c1_i32_1162 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2686 : BitVec 32 := Scalar.subi c1_i32_1162 v11
  ![v2686.toNat]
def k0_off757 (i : grid0.Coords) : Fin 3 → Nat :=
  let c1_i32_1162 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2686 : BitVec 32 := Scalar.subi c1_i32_1162 v11
  let arg1 : BitVec 32 := BitVec.ofNat 32 (i 1).val
  let c256_i32_1161 : BitVec 32 := 256#32
  let v2684 : BitVec 32 := Scalar.muli arg1 c256_i32_1161
  let c187_i32 : BitVec 32 := 187#32
  let v2685 : BitVec 32 := Scalar.addi v2684 c187_i32
  let c8_i32_1164 : BitVec 32 := 8#32
  let v2691 : BitVec 32 := Scalar.muli v2685 c8_i32_1164
  let v2692 : BitVec 32 := v2691
  let c0_i32_1165 : BitVec 32 := 0#32
  ![v2686.toNat, v2692.toNat, 0]
def k0_off758 (v2688 : BitVec 32) : Fin 2 → Nat :=
  let c8_i32_1163 : BitVec 32 := 8#32
  let v2689 : BitVec 32 := Scalar.muli v2688 c8_i32_1163
  let v2690 : BitVec 32 := v2689
  let c0_i32_1166 : BitVec 32 := 0#32
  ![v2690.toNat, 0]

def k0_chk190 (i : grid0.Coords) (v0 : BitVec 32) (v28 : BitVec 32) (v2688 : BitVec 32) : Prop :=
  (∀ (k0_h1 : k0_cond1 i v0 = 1#1), ∀ (k0_h4 : k0_cond4 i v28 = 1#1), 8 ∣ (k0_mult377 v2688).toNat) ∧
  (∀ (k0_h1 : k0_cond1 i v0 = 1#1), ∀ (k0_h4 : k0_cond4 i v28 = 1#1), ∀ a, (k0_off758 v2688) a + S8x128.size a ≤ S262144x128.size a)
theorem k0_mult377_dvd : ∀ (i : grid0.Coords) (v0 : BitVec 32) (v28 : BitVec 32) (v2688 : BitVec 32) (k0_hw190 : k0_chk190 i v0 v28 v2688), ∀ (k0_h1 : k0_cond1 i v0 = 1#1), ∀ (k0_h4 : k0_cond4 i v28 = 1#1), 8 ∣ (k0_mult377 v2688).toNat := fun i v0 v28 v2688 k0_hw190 k0_h1 k0_h4 => k0_hw190.1 k0_h1 k0_h4
theorem k0_off758_inb : ∀ (i : grid0.Coords) (v0 : BitVec 32) (v28 : BitVec 32) (v2688 : BitVec 32) (k0_hw190 : k0_chk190 i v0 v28 v2688), ∀ (k0_h1 : k0_cond1 i v0 = 1#1), ∀ (k0_h4 : k0_cond4 i v28 = 1#1), ∀ a, (k0_off758 v2688) a + S8x128.size a ≤ S262144x128.size a := fun i v0 v28 v2688 k0_hw190 k0_h1 k0_h4 => k0_hw190.2 k0_h1 k0_h4

def k0_off759 (i : grid0.Coords) : Fin 1 → Nat :=
  let arg1 : BitVec 32 := BitVec.ofNat 32 (i 1).val
  let c256_i32_1167 : BitVec 32 := 256#32
  let v2698 : BitVec 32 := Scalar.muli arg1 c256_i32_1167
  let c188_i32 : BitVec 32 := 188#32
  let v2699 : BitVec 32 := Scalar.addi v2698 c188_i32
  let v2701 : Index := Scalar.indexCast v2699
  ![v2701.toNat]
def k0_mult379 (v2702 : BitVec 32) : BitVec 32 :=
  let c8_i32_1169 : BitVec 32 := 8#32
  let v2703 : BitVec 32 := Scalar.muli v2702 c8_i32_1169
  v2703

def k0_mult380 (i : grid0.Coords) : BitVec 32 :=
  let arg1 : BitVec 32 := BitVec.ofNat 32 (i 1).val
  let c256_i32_1167 : BitVec 32 := 256#32
  let v2698 : BitVec 32 := Scalar.muli arg1 c256_i32_1167
  let c188_i32 : BitVec 32 := 188#32
  let v2699 : BitVec 32 := Scalar.addi v2698 c188_i32
  let c8_i32_1170 : BitVec 32 := 8#32
  let v2705 : BitVec 32 := Scalar.muli v2699 c8_i32_1170
  v2705
def k0_off760 (i : grid0.Coords) : Fin 1 → Nat :=
  let c1_i32_1168 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2700 : BitVec 32 := Scalar.subi c1_i32_1168 v11
  ![v2700.toNat]
def k0_off761 (i : grid0.Coords) : Fin 3 → Nat :=
  let c1_i32_1168 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2700 : BitVec 32 := Scalar.subi c1_i32_1168 v11
  let arg1 : BitVec 32 := BitVec.ofNat 32 (i 1).val
  let c256_i32_1167 : BitVec 32 := 256#32
  let v2698 : BitVec 32 := Scalar.muli arg1 c256_i32_1167
  let c188_i32 : BitVec 32 := 188#32
  let v2699 : BitVec 32 := Scalar.addi v2698 c188_i32
  let c8_i32_1170 : BitVec 32 := 8#32
  let v2705 : BitVec 32 := Scalar.muli v2699 c8_i32_1170
  let v2706 : BitVec 32 := v2705
  let c0_i32_1171 : BitVec 32 := 0#32
  ![v2700.toNat, v2706.toNat, 0]
def k0_off762 (v2702 : BitVec 32) : Fin 2 → Nat :=
  let c8_i32_1169 : BitVec 32 := 8#32
  let v2703 : BitVec 32 := Scalar.muli v2702 c8_i32_1169
  let v2704 : BitVec 32 := v2703
  let c0_i32_1172 : BitVec 32 := 0#32
  ![v2704.toNat, 0]

def k0_chk191 (i : grid0.Coords) (v0 : BitVec 32) (v28 : BitVec 32) (v2702 : BitVec 32) : Prop :=
  (∀ (k0_h1 : k0_cond1 i v0 = 1#1), ∀ (k0_h4 : k0_cond4 i v28 = 1#1), 8 ∣ (k0_mult379 v2702).toNat) ∧
  (∀ (k0_h1 : k0_cond1 i v0 = 1#1), ∀ (k0_h4 : k0_cond4 i v28 = 1#1), ∀ a, (k0_off762 v2702) a + S8x128.size a ≤ S262144x128.size a)
theorem k0_mult379_dvd : ∀ (i : grid0.Coords) (v0 : BitVec 32) (v28 : BitVec 32) (v2702 : BitVec 32) (k0_hw191 : k0_chk191 i v0 v28 v2702), ∀ (k0_h1 : k0_cond1 i v0 = 1#1), ∀ (k0_h4 : k0_cond4 i v28 = 1#1), 8 ∣ (k0_mult379 v2702).toNat := fun i v0 v28 v2702 k0_hw191 k0_h1 k0_h4 => k0_hw191.1 k0_h1 k0_h4
theorem k0_off762_inb : ∀ (i : grid0.Coords) (v0 : BitVec 32) (v28 : BitVec 32) (v2702 : BitVec 32) (k0_hw191 : k0_chk191 i v0 v28 v2702), ∀ (k0_h1 : k0_cond1 i v0 = 1#1), ∀ (k0_h4 : k0_cond4 i v28 = 1#1), ∀ a, (k0_off762 v2702) a + S8x128.size a ≤ S262144x128.size a := fun i v0 v28 v2702 k0_hw191 k0_h1 k0_h4 => k0_hw191.2 k0_h1 k0_h4

def k0_off763 (i : grid0.Coords) : Fin 1 → Nat :=
  let arg1 : BitVec 32 := BitVec.ofNat 32 (i 1).val
  let c256_i32_1173 : BitVec 32 := 256#32
  let v2712 : BitVec 32 := Scalar.muli arg1 c256_i32_1173
  let c189_i32 : BitVec 32 := 189#32
  let v2713 : BitVec 32 := Scalar.addi v2712 c189_i32
  let v2715 : Index := Scalar.indexCast v2713
  ![v2715.toNat]
def k0_mult381 (v2716 : BitVec 32) : BitVec 32 :=
  let c8_i32_1175 : BitVec 32 := 8#32
  let v2717 : BitVec 32 := Scalar.muli v2716 c8_i32_1175
  v2717

def k0_mult382 (i : grid0.Coords) : BitVec 32 :=
  let arg1 : BitVec 32 := BitVec.ofNat 32 (i 1).val
  let c256_i32_1173 : BitVec 32 := 256#32
  let v2712 : BitVec 32 := Scalar.muli arg1 c256_i32_1173
  let c189_i32 : BitVec 32 := 189#32
  let v2713 : BitVec 32 := Scalar.addi v2712 c189_i32
  let c8_i32_1176 : BitVec 32 := 8#32
  let v2719 : BitVec 32 := Scalar.muli v2713 c8_i32_1176
  v2719
def k0_off764 (i : grid0.Coords) : Fin 1 → Nat :=
  let c1_i32_1174 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2714 : BitVec 32 := Scalar.subi c1_i32_1174 v11
  ![v2714.toNat]
def k0_off765 (i : grid0.Coords) : Fin 3 → Nat :=
  let c1_i32_1174 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2714 : BitVec 32 := Scalar.subi c1_i32_1174 v11
  let arg1 : BitVec 32 := BitVec.ofNat 32 (i 1).val
  let c256_i32_1173 : BitVec 32 := 256#32
  let v2712 : BitVec 32 := Scalar.muli arg1 c256_i32_1173
  let c189_i32 : BitVec 32 := 189#32
  let v2713 : BitVec 32 := Scalar.addi v2712 c189_i32
  let c8_i32_1176 : BitVec 32 := 8#32
  let v2719 : BitVec 32 := Scalar.muli v2713 c8_i32_1176
  let v2720 : BitVec 32 := v2719
  let c0_i32_1177 : BitVec 32 := 0#32
  ![v2714.toNat, v2720.toNat, 0]
def k0_off766 (v2716 : BitVec 32) : Fin 2 → Nat :=
  let c8_i32_1175 : BitVec 32 := 8#32
  let v2717 : BitVec 32 := Scalar.muli v2716 c8_i32_1175
  let v2718 : BitVec 32 := v2717
  let c0_i32_1178 : BitVec 32 := 0#32
  ![v2718.toNat, 0]

def k0_chk192 (i : grid0.Coords) (v0 : BitVec 32) (v28 : BitVec 32) (v2716 : BitVec 32) : Prop :=
  (∀ (k0_h1 : k0_cond1 i v0 = 1#1), ∀ (k0_h4 : k0_cond4 i v28 = 1#1), 8 ∣ (k0_mult381 v2716).toNat) ∧
  (∀ (k0_h1 : k0_cond1 i v0 = 1#1), ∀ (k0_h4 : k0_cond4 i v28 = 1#1), ∀ a, (k0_off766 v2716) a + S8x128.size a ≤ S262144x128.size a)
theorem k0_mult381_dvd : ∀ (i : grid0.Coords) (v0 : BitVec 32) (v28 : BitVec 32) (v2716 : BitVec 32) (k0_hw192 : k0_chk192 i v0 v28 v2716), ∀ (k0_h1 : k0_cond1 i v0 = 1#1), ∀ (k0_h4 : k0_cond4 i v28 = 1#1), 8 ∣ (k0_mult381 v2716).toNat := fun i v0 v28 v2716 k0_hw192 k0_h1 k0_h4 => k0_hw192.1 k0_h1 k0_h4
theorem k0_off766_inb : ∀ (i : grid0.Coords) (v0 : BitVec 32) (v28 : BitVec 32) (v2716 : BitVec 32) (k0_hw192 : k0_chk192 i v0 v28 v2716), ∀ (k0_h1 : k0_cond1 i v0 = 1#1), ∀ (k0_h4 : k0_cond4 i v28 = 1#1), ∀ a, (k0_off766 v2716) a + S8x128.size a ≤ S262144x128.size a := fun i v0 v28 v2716 k0_hw192 k0_h1 k0_h4 => k0_hw192.2 k0_h1 k0_h4

def k0_off767 (i : grid0.Coords) : Fin 1 → Nat :=
  let arg1 : BitVec 32 := BitVec.ofNat 32 (i 1).val
  let c256_i32_1179 : BitVec 32 := 256#32
  let v2726 : BitVec 32 := Scalar.muli arg1 c256_i32_1179
  let c190_i32 : BitVec 32 := 190#32
  let v2727 : BitVec 32 := Scalar.addi v2726 c190_i32
  let v2729 : Index := Scalar.indexCast v2727
  ![v2729.toNat]
def k0_mult383 (v2730 : BitVec 32) : BitVec 32 :=
  let c8_i32_1181 : BitVec 32 := 8#32
  let v2731 : BitVec 32 := Scalar.muli v2730 c8_i32_1181
  v2731

def k0_mult384 (i : grid0.Coords) : BitVec 32 :=
  let arg1 : BitVec 32 := BitVec.ofNat 32 (i 1).val
  let c256_i32_1179 : BitVec 32 := 256#32
  let v2726 : BitVec 32 := Scalar.muli arg1 c256_i32_1179
  let c190_i32 : BitVec 32 := 190#32
  let v2727 : BitVec 32 := Scalar.addi v2726 c190_i32
  let c8_i32_1182 : BitVec 32 := 8#32
  let v2733 : BitVec 32 := Scalar.muli v2727 c8_i32_1182
  v2733
def k0_off768 (i : grid0.Coords) : Fin 1 → Nat :=
  let c1_i32_1180 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2728 : BitVec 32 := Scalar.subi c1_i32_1180 v11
  ![v2728.toNat]
def k0_off769 (i : grid0.Coords) : Fin 3 → Nat :=
  let c1_i32_1180 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2728 : BitVec 32 := Scalar.subi c1_i32_1180 v11
  let arg1 : BitVec 32 := BitVec.ofNat 32 (i 1).val
  let c256_i32_1179 : BitVec 32 := 256#32
  let v2726 : BitVec 32 := Scalar.muli arg1 c256_i32_1179
  let c190_i32 : BitVec 32 := 190#32
  let v2727 : BitVec 32 := Scalar.addi v2726 c190_i32
  let c8_i32_1182 : BitVec 32 := 8#32
  let v2733 : BitVec 32 := Scalar.muli v2727 c8_i32_1182
  let v2734 : BitVec 32 := v2733
  let c0_i32_1183 : BitVec 32 := 0#32
  ![v2728.toNat, v2734.toNat, 0]
def k0_off770 (v2730 : BitVec 32) : Fin 2 → Nat :=
  let c8_i32_1181 : BitVec 32 := 8#32
  let v2731 : BitVec 32 := Scalar.muli v2730 c8_i32_1181
  let v2732 : BitVec 32 := v2731
  let c0_i32_1184 : BitVec 32 := 0#32
  ![v2732.toNat, 0]

def k0_chk193 (i : grid0.Coords) (v0 : BitVec 32) (v28 : BitVec 32) (v2730 : BitVec 32) : Prop :=
  (∀ (k0_h1 : k0_cond1 i v0 = 1#1), ∀ (k0_h4 : k0_cond4 i v28 = 1#1), 8 ∣ (k0_mult383 v2730).toNat) ∧
  (∀ (k0_h1 : k0_cond1 i v0 = 1#1), ∀ (k0_h4 : k0_cond4 i v28 = 1#1), ∀ a, (k0_off770 v2730) a + S8x128.size a ≤ S262144x128.size a)
theorem k0_mult383_dvd : ∀ (i : grid0.Coords) (v0 : BitVec 32) (v28 : BitVec 32) (v2730 : BitVec 32) (k0_hw193 : k0_chk193 i v0 v28 v2730), ∀ (k0_h1 : k0_cond1 i v0 = 1#1), ∀ (k0_h4 : k0_cond4 i v28 = 1#1), 8 ∣ (k0_mult383 v2730).toNat := fun i v0 v28 v2730 k0_hw193 k0_h1 k0_h4 => k0_hw193.1 k0_h1 k0_h4
theorem k0_off770_inb : ∀ (i : grid0.Coords) (v0 : BitVec 32) (v28 : BitVec 32) (v2730 : BitVec 32) (k0_hw193 : k0_chk193 i v0 v28 v2730), ∀ (k0_h1 : k0_cond1 i v0 = 1#1), ∀ (k0_h4 : k0_cond4 i v28 = 1#1), ∀ a, (k0_off770 v2730) a + S8x128.size a ≤ S262144x128.size a := fun i v0 v28 v2730 k0_hw193 k0_h1 k0_h4 => k0_hw193.2 k0_h1 k0_h4

def k0_off771 (i : grid0.Coords) : Fin 1 → Nat :=
  let arg1 : BitVec 32 := BitVec.ofNat 32 (i 1).val
  let c256_i32_1185 : BitVec 32 := 256#32
  let v2740 : BitVec 32 := Scalar.muli arg1 c256_i32_1185
  let c191_i32 : BitVec 32 := 191#32
  let v2741 : BitVec 32 := Scalar.addi v2740 c191_i32
  let v2743 : Index := Scalar.indexCast v2741
  ![v2743.toNat]
def k0_mult385 (v2744 : BitVec 32) : BitVec 32 :=
  let c8_i32_1187 : BitVec 32 := 8#32
  let v2745 : BitVec 32 := Scalar.muli v2744 c8_i32_1187
  v2745

def k0_mult386 (i : grid0.Coords) : BitVec 32 :=
  let arg1 : BitVec 32 := BitVec.ofNat 32 (i 1).val
  let c256_i32_1185 : BitVec 32 := 256#32
  let v2740 : BitVec 32 := Scalar.muli arg1 c256_i32_1185
  let c191_i32 : BitVec 32 := 191#32
  let v2741 : BitVec 32 := Scalar.addi v2740 c191_i32
  let c8_i32_1188 : BitVec 32 := 8#32
  let v2747 : BitVec 32 := Scalar.muli v2741 c8_i32_1188
  v2747
def k0_off772 (i : grid0.Coords) : Fin 1 → Nat :=
  let c1_i32_1186 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2742 : BitVec 32 := Scalar.subi c1_i32_1186 v11
  ![v2742.toNat]
def k0_off773 (i : grid0.Coords) : Fin 3 → Nat :=
  let c1_i32_1186 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2742 : BitVec 32 := Scalar.subi c1_i32_1186 v11
  let arg1 : BitVec 32 := BitVec.ofNat 32 (i 1).val
  let c256_i32_1185 : BitVec 32 := 256#32
  let v2740 : BitVec 32 := Scalar.muli arg1 c256_i32_1185
  let c191_i32 : BitVec 32 := 191#32
  let v2741 : BitVec 32 := Scalar.addi v2740 c191_i32
  let c8_i32_1188 : BitVec 32 := 8#32
  let v2747 : BitVec 32 := Scalar.muli v2741 c8_i32_1188
  let v2748 : BitVec 32 := v2747
  let c0_i32_1189 : BitVec 32 := 0#32
  ![v2742.toNat, v2748.toNat, 0]
def k0_off774 (v2744 : BitVec 32) : Fin 2 → Nat :=
  let c8_i32_1187 : BitVec 32 := 8#32
  let v2745 : BitVec 32 := Scalar.muli v2744 c8_i32_1187
  let v2746 : BitVec 32 := v2745
  let c0_i32_1190 : BitVec 32 := 0#32
  ![v2746.toNat, 0]

def k0_chk194 (i : grid0.Coords) (v0 : BitVec 32) (v28 : BitVec 32) (v2744 : BitVec 32) : Prop :=
  (∀ (k0_h1 : k0_cond1 i v0 = 1#1), ∀ (k0_h4 : k0_cond4 i v28 = 1#1), 8 ∣ (k0_mult385 v2744).toNat) ∧
  (∀ (k0_h1 : k0_cond1 i v0 = 1#1), ∀ (k0_h4 : k0_cond4 i v28 = 1#1), ∀ a, (k0_off774 v2744) a + S8x128.size a ≤ S262144x128.size a)
theorem k0_mult385_dvd : ∀ (i : grid0.Coords) (v0 : BitVec 32) (v28 : BitVec 32) (v2744 : BitVec 32) (k0_hw194 : k0_chk194 i v0 v28 v2744), ∀ (k0_h1 : k0_cond1 i v0 = 1#1), ∀ (k0_h4 : k0_cond4 i v28 = 1#1), 8 ∣ (k0_mult385 v2744).toNat := fun i v0 v28 v2744 k0_hw194 k0_h1 k0_h4 => k0_hw194.1 k0_h1 k0_h4
theorem k0_off774_inb : ∀ (i : grid0.Coords) (v0 : BitVec 32) (v28 : BitVec 32) (v2744 : BitVec 32) (k0_hw194 : k0_chk194 i v0 v28 v2744), ∀ (k0_h1 : k0_cond1 i v0 = 1#1), ∀ (k0_h4 : k0_cond4 i v28 = 1#1), ∀ a, (k0_off774 v2744) a + S8x128.size a ≤ S262144x128.size a := fun i v0 v28 v2744 k0_hw194 k0_h1 k0_h4 => k0_hw194.2 k0_h1 k0_h4

def k0_off775 (i : grid0.Coords) : Fin 1 → Nat :=
  let arg1 : BitVec 32 := BitVec.ofNat 32 (i 1).val
  let c256_i32_1191 : BitVec 32 := 256#32
  let v2754 : BitVec 32 := Scalar.muli arg1 c256_i32_1191
  let c192_i32 : BitVec 32 := 192#32
  let v2755 : BitVec 32 := Scalar.addi v2754 c192_i32
  let v2757 : Index := Scalar.indexCast v2755
  ![v2757.toNat]
def k0_mult387 (v2758 : BitVec 32) : BitVec 32 :=
  let c8_i32_1193 : BitVec 32 := 8#32
  let v2759 : BitVec 32 := Scalar.muli v2758 c8_i32_1193
  v2759

def k0_mult388 (i : grid0.Coords) : BitVec 32 :=
  let arg1 : BitVec 32 := BitVec.ofNat 32 (i 1).val
  let c256_i32_1191 : BitVec 32 := 256#32
  let v2754 : BitVec 32 := Scalar.muli arg1 c256_i32_1191
  let c192_i32 : BitVec 32 := 192#32
  let v2755 : BitVec 32 := Scalar.addi v2754 c192_i32
  let c8_i32_1194 : BitVec 32 := 8#32
  let v2761 : BitVec 32 := Scalar.muli v2755 c8_i32_1194
  v2761
def k0_off776 (i : grid0.Coords) : Fin 1 → Nat :=
  let c1_i32_1192 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2756 : BitVec 32 := Scalar.subi c1_i32_1192 v11
  ![v2756.toNat]
def k0_off777 (i : grid0.Coords) : Fin 3 → Nat :=
  let c1_i32_1192 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2756 : BitVec 32 := Scalar.subi c1_i32_1192 v11
  let arg1 : BitVec 32 := BitVec.ofNat 32 (i 1).val
  let c256_i32_1191 : BitVec 32 := 256#32
  let v2754 : BitVec 32 := Scalar.muli arg1 c256_i32_1191
  let c192_i32 : BitVec 32 := 192#32
  let v2755 : BitVec 32 := Scalar.addi v2754 c192_i32
  let c8_i32_1194 : BitVec 32 := 8#32
  let v2761 : BitVec 32 := Scalar.muli v2755 c8_i32_1194
  let v2762 : BitVec 32 := v2761
  let c0_i32_1195 : BitVec 32 := 0#32
  ![v2756.toNat, v2762.toNat, 0]
def k0_off778 (v2758 : BitVec 32) : Fin 2 → Nat :=
  let c8_i32_1193 : BitVec 32 := 8#32
  let v2759 : BitVec 32 := Scalar.muli v2758 c8_i32_1193
  let v2760 : BitVec 32 := v2759
  let c0_i32_1196 : BitVec 32 := 0#32
  ![v2760.toNat, 0]

def k0_chk195 (i : grid0.Coords) (v0 : BitVec 32) (v28 : BitVec 32) (v2758 : BitVec 32) : Prop :=
  (∀ (k0_h1 : k0_cond1 i v0 = 1#1), ∀ (k0_h4 : k0_cond4 i v28 = 1#1), 8 ∣ (k0_mult387 v2758).toNat) ∧
  (∀ (k0_h1 : k0_cond1 i v0 = 1#1), ∀ (k0_h4 : k0_cond4 i v28 = 1#1), ∀ a, (k0_off778 v2758) a + S8x128.size a ≤ S262144x128.size a)
theorem k0_mult387_dvd : ∀ (i : grid0.Coords) (v0 : BitVec 32) (v28 : BitVec 32) (v2758 : BitVec 32) (k0_hw195 : k0_chk195 i v0 v28 v2758), ∀ (k0_h1 : k0_cond1 i v0 = 1#1), ∀ (k0_h4 : k0_cond4 i v28 = 1#1), 8 ∣ (k0_mult387 v2758).toNat := fun i v0 v28 v2758 k0_hw195 k0_h1 k0_h4 => k0_hw195.1 k0_h1 k0_h4
theorem k0_off778_inb : ∀ (i : grid0.Coords) (v0 : BitVec 32) (v28 : BitVec 32) (v2758 : BitVec 32) (k0_hw195 : k0_chk195 i v0 v28 v2758), ∀ (k0_h1 : k0_cond1 i v0 = 1#1), ∀ (k0_h4 : k0_cond4 i v28 = 1#1), ∀ a, (k0_off778 v2758) a + S8x128.size a ≤ S262144x128.size a := fun i v0 v28 v2758 k0_hw195 k0_h1 k0_h4 => k0_hw195.2 k0_h1 k0_h4

def k0_off779 (i : grid0.Coords) : Fin 1 → Nat :=
  let arg1 : BitVec 32 := BitVec.ofNat 32 (i 1).val
  let c256_i32_1197 : BitVec 32 := 256#32
  let v2768 : BitVec 32 := Scalar.muli arg1 c256_i32_1197
  let c193_i32 : BitVec 32 := 193#32
  let v2769 : BitVec 32 := Scalar.addi v2768 c193_i32
  let v2771 : Index := Scalar.indexCast v2769
  ![v2771.toNat]
def k0_mult389 (v2772 : BitVec 32) : BitVec 32 :=
  let c8_i32_1199 : BitVec 32 := 8#32
  let v2773 : BitVec 32 := Scalar.muli v2772 c8_i32_1199
  v2773

def k0_mult390 (i : grid0.Coords) : BitVec 32 :=
  let arg1 : BitVec 32 := BitVec.ofNat 32 (i 1).val
  let c256_i32_1197 : BitVec 32 := 256#32
  let v2768 : BitVec 32 := Scalar.muli arg1 c256_i32_1197
  let c193_i32 : BitVec 32 := 193#32
  let v2769 : BitVec 32 := Scalar.addi v2768 c193_i32
  let c8_i32_1200 : BitVec 32 := 8#32
  let v2775 : BitVec 32 := Scalar.muli v2769 c8_i32_1200
  v2775
def k0_off780 (i : grid0.Coords) : Fin 1 → Nat :=
  let c1_i32_1198 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2770 : BitVec 32 := Scalar.subi c1_i32_1198 v11
  ![v2770.toNat]
def k0_off781 (i : grid0.Coords) : Fin 3 → Nat :=
  let c1_i32_1198 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2770 : BitVec 32 := Scalar.subi c1_i32_1198 v11
  let arg1 : BitVec 32 := BitVec.ofNat 32 (i 1).val
  let c256_i32_1197 : BitVec 32 := 256#32
  let v2768 : BitVec 32 := Scalar.muli arg1 c256_i32_1197
  let c193_i32 : BitVec 32 := 193#32
  let v2769 : BitVec 32 := Scalar.addi v2768 c193_i32
  let c8_i32_1200 : BitVec 32 := 8#32
  let v2775 : BitVec 32 := Scalar.muli v2769 c8_i32_1200
  let v2776 : BitVec 32 := v2775
  let c0_i32_1201 : BitVec 32 := 0#32
  ![v2770.toNat, v2776.toNat, 0]
def k0_off782 (v2772 : BitVec 32) : Fin 2 → Nat :=
  let c8_i32_1199 : BitVec 32 := 8#32
  let v2773 : BitVec 32 := Scalar.muli v2772 c8_i32_1199
  let v2774 : BitVec 32 := v2773
  let c0_i32_1202 : BitVec 32 := 0#32
  ![v2774.toNat, 0]

def k0_chk196 (i : grid0.Coords) (v0 : BitVec 32) (v28 : BitVec 32) (v2772 : BitVec 32) : Prop :=
  (∀ (k0_h1 : k0_cond1 i v0 = 1#1), ∀ (k0_h4 : k0_cond4 i v28 = 1#1), 8 ∣ (k0_mult389 v2772).toNat) ∧
  (∀ (k0_h1 : k0_cond1 i v0 = 1#1), ∀ (k0_h4 : k0_cond4 i v28 = 1#1), ∀ a, (k0_off782 v2772) a + S8x128.size a ≤ S262144x128.size a)
theorem k0_mult389_dvd : ∀ (i : grid0.Coords) (v0 : BitVec 32) (v28 : BitVec 32) (v2772 : BitVec 32) (k0_hw196 : k0_chk196 i v0 v28 v2772), ∀ (k0_h1 : k0_cond1 i v0 = 1#1), ∀ (k0_h4 : k0_cond4 i v28 = 1#1), 8 ∣ (k0_mult389 v2772).toNat := fun i v0 v28 v2772 k0_hw196 k0_h1 k0_h4 => k0_hw196.1 k0_h1 k0_h4
theorem k0_off782_inb : ∀ (i : grid0.Coords) (v0 : BitVec 32) (v28 : BitVec 32) (v2772 : BitVec 32) (k0_hw196 : k0_chk196 i v0 v28 v2772), ∀ (k0_h1 : k0_cond1 i v0 = 1#1), ∀ (k0_h4 : k0_cond4 i v28 = 1#1), ∀ a, (k0_off782 v2772) a + S8x128.size a ≤ S262144x128.size a := fun i v0 v28 v2772 k0_hw196 k0_h1 k0_h4 => k0_hw196.2 k0_h1 k0_h4

def k0_off783 (i : grid0.Coords) : Fin 1 → Nat :=
  let arg1 : BitVec 32 := BitVec.ofNat 32 (i 1).val
  let c256_i32_1203 : BitVec 32 := 256#32
  let v2782 : BitVec 32 := Scalar.muli arg1 c256_i32_1203
  let c194_i32 : BitVec 32 := 194#32
  let v2783 : BitVec 32 := Scalar.addi v2782 c194_i32
  let v2785 : Index := Scalar.indexCast v2783
  ![v2785.toNat]
def k0_mult391 (v2786 : BitVec 32) : BitVec 32 :=
  let c8_i32_1205 : BitVec 32 := 8#32
  let v2787 : BitVec 32 := Scalar.muli v2786 c8_i32_1205
  v2787

def k0_mult392 (i : grid0.Coords) : BitVec 32 :=
  let arg1 : BitVec 32 := BitVec.ofNat 32 (i 1).val
  let c256_i32_1203 : BitVec 32 := 256#32
  let v2782 : BitVec 32 := Scalar.muli arg1 c256_i32_1203
  let c194_i32 : BitVec 32 := 194#32
  let v2783 : BitVec 32 := Scalar.addi v2782 c194_i32
  let c8_i32_1206 : BitVec 32 := 8#32
  let v2789 : BitVec 32 := Scalar.muli v2783 c8_i32_1206
  v2789
def k0_off784 (i : grid0.Coords) : Fin 1 → Nat :=
  let c1_i32_1204 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2784 : BitVec 32 := Scalar.subi c1_i32_1204 v11
  ![v2784.toNat]
def k0_off785 (i : grid0.Coords) : Fin 3 → Nat :=
  let c1_i32_1204 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2784 : BitVec 32 := Scalar.subi c1_i32_1204 v11
  let arg1 : BitVec 32 := BitVec.ofNat 32 (i 1).val
  let c256_i32_1203 : BitVec 32 := 256#32
  let v2782 : BitVec 32 := Scalar.muli arg1 c256_i32_1203
  let c194_i32 : BitVec 32 := 194#32
  let v2783 : BitVec 32 := Scalar.addi v2782 c194_i32
  let c8_i32_1206 : BitVec 32 := 8#32
  let v2789 : BitVec 32 := Scalar.muli v2783 c8_i32_1206
  let v2790 : BitVec 32 := v2789
  let c0_i32_1207 : BitVec 32 := 0#32
  ![v2784.toNat, v2790.toNat, 0]
def k0_off786 (v2786 : BitVec 32) : Fin 2 → Nat :=
  let c8_i32_1205 : BitVec 32 := 8#32
  let v2787 : BitVec 32 := Scalar.muli v2786 c8_i32_1205
  let v2788 : BitVec 32 := v2787
  let c0_i32_1208 : BitVec 32 := 0#32
  ![v2788.toNat, 0]

def k0_chk197 (i : grid0.Coords) (v0 : BitVec 32) (v28 : BitVec 32) (v2786 : BitVec 32) : Prop :=
  (∀ (k0_h1 : k0_cond1 i v0 = 1#1), ∀ (k0_h4 : k0_cond4 i v28 = 1#1), 8 ∣ (k0_mult391 v2786).toNat) ∧
  (∀ (k0_h1 : k0_cond1 i v0 = 1#1), ∀ (k0_h4 : k0_cond4 i v28 = 1#1), ∀ a, (k0_off786 v2786) a + S8x128.size a ≤ S262144x128.size a)
theorem k0_mult391_dvd : ∀ (i : grid0.Coords) (v0 : BitVec 32) (v28 : BitVec 32) (v2786 : BitVec 32) (k0_hw197 : k0_chk197 i v0 v28 v2786), ∀ (k0_h1 : k0_cond1 i v0 = 1#1), ∀ (k0_h4 : k0_cond4 i v28 = 1#1), 8 ∣ (k0_mult391 v2786).toNat := fun i v0 v28 v2786 k0_hw197 k0_h1 k0_h4 => k0_hw197.1 k0_h1 k0_h4
theorem k0_off786_inb : ∀ (i : grid0.Coords) (v0 : BitVec 32) (v28 : BitVec 32) (v2786 : BitVec 32) (k0_hw197 : k0_chk197 i v0 v28 v2786), ∀ (k0_h1 : k0_cond1 i v0 = 1#1), ∀ (k0_h4 : k0_cond4 i v28 = 1#1), ∀ a, (k0_off786 v2786) a + S8x128.size a ≤ S262144x128.size a := fun i v0 v28 v2786 k0_hw197 k0_h1 k0_h4 => k0_hw197.2 k0_h1 k0_h4

def k0_off787 (i : grid0.Coords) : Fin 1 → Nat :=
  let arg1 : BitVec 32 := BitVec.ofNat 32 (i 1).val
  let c256_i32_1209 : BitVec 32 := 256#32
  let v2796 : BitVec 32 := Scalar.muli arg1 c256_i32_1209
  let c195_i32 : BitVec 32 := 195#32
  let v2797 : BitVec 32 := Scalar.addi v2796 c195_i32
  let v2799 : Index := Scalar.indexCast v2797
  ![v2799.toNat]
def k0_mult393 (v2800 : BitVec 32) : BitVec 32 :=
  let c8_i32_1211 : BitVec 32 := 8#32
  let v2801 : BitVec 32 := Scalar.muli v2800 c8_i32_1211
  v2801

def k0_mult394 (i : grid0.Coords) : BitVec 32 :=
  let arg1 : BitVec 32 := BitVec.ofNat 32 (i 1).val
  let c256_i32_1209 : BitVec 32 := 256#32
  let v2796 : BitVec 32 := Scalar.muli arg1 c256_i32_1209
  let c195_i32 : BitVec 32 := 195#32
  let v2797 : BitVec 32 := Scalar.addi v2796 c195_i32
  let c8_i32_1212 : BitVec 32 := 8#32
  let v2803 : BitVec 32 := Scalar.muli v2797 c8_i32_1212
  v2803
def k0_off788 (i : grid0.Coords) : Fin 1 → Nat :=
  let c1_i32_1210 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2798 : BitVec 32 := Scalar.subi c1_i32_1210 v11
  ![v2798.toNat]
def k0_off789 (i : grid0.Coords) : Fin 3 → Nat :=
  let c1_i32_1210 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2798 : BitVec 32 := Scalar.subi c1_i32_1210 v11
  let arg1 : BitVec 32 := BitVec.ofNat 32 (i 1).val
  let c256_i32_1209 : BitVec 32 := 256#32
  let v2796 : BitVec 32 := Scalar.muli arg1 c256_i32_1209
  let c195_i32 : BitVec 32 := 195#32
  let v2797 : BitVec 32 := Scalar.addi v2796 c195_i32
  let c8_i32_1212 : BitVec 32 := 8#32
  let v2803 : BitVec 32 := Scalar.muli v2797 c8_i32_1212
  let v2804 : BitVec 32 := v2803
  let c0_i32_1213 : BitVec 32 := 0#32
  ![v2798.toNat, v2804.toNat, 0]
def k0_off790 (v2800 : BitVec 32) : Fin 2 → Nat :=
  let c8_i32_1211 : BitVec 32 := 8#32
  let v2801 : BitVec 32 := Scalar.muli v2800 c8_i32_1211
  let v2802 : BitVec 32 := v2801
  let c0_i32_1214 : BitVec 32 := 0#32
  ![v2802.toNat, 0]

def k0_chk198 (i : grid0.Coords) (v0 : BitVec 32) (v28 : BitVec 32) (v2800 : BitVec 32) : Prop :=
  (∀ (k0_h1 : k0_cond1 i v0 = 1#1), ∀ (k0_h4 : k0_cond4 i v28 = 1#1), 8 ∣ (k0_mult393 v2800).toNat) ∧
  (∀ (k0_h1 : k0_cond1 i v0 = 1#1), ∀ (k0_h4 : k0_cond4 i v28 = 1#1), ∀ a, (k0_off790 v2800) a + S8x128.size a ≤ S262144x128.size a)
theorem k0_mult393_dvd : ∀ (i : grid0.Coords) (v0 : BitVec 32) (v28 : BitVec 32) (v2800 : BitVec 32) (k0_hw198 : k0_chk198 i v0 v28 v2800), ∀ (k0_h1 : k0_cond1 i v0 = 1#1), ∀ (k0_h4 : k0_cond4 i v28 = 1#1), 8 ∣ (k0_mult393 v2800).toNat := fun i v0 v28 v2800 k0_hw198 k0_h1 k0_h4 => k0_hw198.1 k0_h1 k0_h4
theorem k0_off790_inb : ∀ (i : grid0.Coords) (v0 : BitVec 32) (v28 : BitVec 32) (v2800 : BitVec 32) (k0_hw198 : k0_chk198 i v0 v28 v2800), ∀ (k0_h1 : k0_cond1 i v0 = 1#1), ∀ (k0_h4 : k0_cond4 i v28 = 1#1), ∀ a, (k0_off790 v2800) a + S8x128.size a ≤ S262144x128.size a := fun i v0 v28 v2800 k0_hw198 k0_h1 k0_h4 => k0_hw198.2 k0_h1 k0_h4

def k0_off791 (i : grid0.Coords) : Fin 1 → Nat :=
  let arg1 : BitVec 32 := BitVec.ofNat 32 (i 1).val
  let c256_i32_1215 : BitVec 32 := 256#32
  let v2810 : BitVec 32 := Scalar.muli arg1 c256_i32_1215
  let c196_i32 : BitVec 32 := 196#32
  let v2811 : BitVec 32 := Scalar.addi v2810 c196_i32
  let v2813 : Index := Scalar.indexCast v2811
  ![v2813.toNat]
def k0_mult395 (v2814 : BitVec 32) : BitVec 32 :=
  let c8_i32_1217 : BitVec 32 := 8#32
  let v2815 : BitVec 32 := Scalar.muli v2814 c8_i32_1217
  v2815

def k0_mult396 (i : grid0.Coords) : BitVec 32 :=
  let arg1 : BitVec 32 := BitVec.ofNat 32 (i 1).val
  let c256_i32_1215 : BitVec 32 := 256#32
  let v2810 : BitVec 32 := Scalar.muli arg1 c256_i32_1215
  let c196_i32 : BitVec 32 := 196#32
  let v2811 : BitVec 32 := Scalar.addi v2810 c196_i32
  let c8_i32_1218 : BitVec 32 := 8#32
  let v2817 : BitVec 32 := Scalar.muli v2811 c8_i32_1218
  v2817
def k0_off792 (i : grid0.Coords) : Fin 1 → Nat :=
  let c1_i32_1216 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2812 : BitVec 32 := Scalar.subi c1_i32_1216 v11
  ![v2812.toNat]
def k0_off793 (i : grid0.Coords) : Fin 3 → Nat :=
  let c1_i32_1216 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2812 : BitVec 32 := Scalar.subi c1_i32_1216 v11
  let arg1 : BitVec 32 := BitVec.ofNat 32 (i 1).val
  let c256_i32_1215 : BitVec 32 := 256#32
  let v2810 : BitVec 32 := Scalar.muli arg1 c256_i32_1215
  let c196_i32 : BitVec 32 := 196#32
  let v2811 : BitVec 32 := Scalar.addi v2810 c196_i32
  let c8_i32_1218 : BitVec 32 := 8#32
  let v2817 : BitVec 32 := Scalar.muli v2811 c8_i32_1218
  let v2818 : BitVec 32 := v2817
  let c0_i32_1219 : BitVec 32 := 0#32
  ![v2812.toNat, v2818.toNat, 0]
def k0_off794 (v2814 : BitVec 32) : Fin 2 → Nat :=
  let c8_i32_1217 : BitVec 32 := 8#32
  let v2815 : BitVec 32 := Scalar.muli v2814 c8_i32_1217
  let v2816 : BitVec 32 := v2815
  let c0_i32_1220 : BitVec 32 := 0#32
  ![v2816.toNat, 0]

def k0_chk199 (i : grid0.Coords) (v0 : BitVec 32) (v28 : BitVec 32) (v2814 : BitVec 32) : Prop :=
  (∀ (k0_h1 : k0_cond1 i v0 = 1#1), ∀ (k0_h4 : k0_cond4 i v28 = 1#1), 8 ∣ (k0_mult395 v2814).toNat) ∧
  (∀ (k0_h1 : k0_cond1 i v0 = 1#1), ∀ (k0_h4 : k0_cond4 i v28 = 1#1), ∀ a, (k0_off794 v2814) a + S8x128.size a ≤ S262144x128.size a)
theorem k0_mult395_dvd : ∀ (i : grid0.Coords) (v0 : BitVec 32) (v28 : BitVec 32) (v2814 : BitVec 32) (k0_hw199 : k0_chk199 i v0 v28 v2814), ∀ (k0_h1 : k0_cond1 i v0 = 1#1), ∀ (k0_h4 : k0_cond4 i v28 = 1#1), 8 ∣ (k0_mult395 v2814).toNat := fun i v0 v28 v2814 k0_hw199 k0_h1 k0_h4 => k0_hw199.1 k0_h1 k0_h4
theorem k0_off794_inb : ∀ (i : grid0.Coords) (v0 : BitVec 32) (v28 : BitVec 32) (v2814 : BitVec 32) (k0_hw199 : k0_chk199 i v0 v28 v2814), ∀ (k0_h1 : k0_cond1 i v0 = 1#1), ∀ (k0_h4 : k0_cond4 i v28 = 1#1), ∀ a, (k0_off794 v2814) a + S8x128.size a ≤ S262144x128.size a := fun i v0 v28 v2814 k0_hw199 k0_h1 k0_h4 => k0_hw199.2 k0_h1 k0_h4

def k0_off795 (i : grid0.Coords) : Fin 1 → Nat :=
  let arg1 : BitVec 32 := BitVec.ofNat 32 (i 1).val
  let c256_i32_1221 : BitVec 32 := 256#32
  let v2824 : BitVec 32 := Scalar.muli arg1 c256_i32_1221
  let c197_i32 : BitVec 32 := 197#32
  let v2825 : BitVec 32 := Scalar.addi v2824 c197_i32
  let v2827 : Index := Scalar.indexCast v2825
  ![v2827.toNat]
def k0_mult397 (v2828 : BitVec 32) : BitVec 32 :=
  let c8_i32_1223 : BitVec 32 := 8#32
  let v2829 : BitVec 32 := Scalar.muli v2828 c8_i32_1223
  v2829

def k0_mult398 (i : grid0.Coords) : BitVec 32 :=
  let arg1 : BitVec 32 := BitVec.ofNat 32 (i 1).val
  let c256_i32_1221 : BitVec 32 := 256#32
  let v2824 : BitVec 32 := Scalar.muli arg1 c256_i32_1221
  let c197_i32 : BitVec 32 := 197#32
  let v2825 : BitVec 32 := Scalar.addi v2824 c197_i32
  let c8_i32_1224 : BitVec 32 := 8#32
  let v2831 : BitVec 32 := Scalar.muli v2825 c8_i32_1224
  v2831
def k0_off796 (i : grid0.Coords) : Fin 1 → Nat :=
  let c1_i32_1222 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2826 : BitVec 32 := Scalar.subi c1_i32_1222 v11
  ![v2826.toNat]
def k0_off797 (i : grid0.Coords) : Fin 3 → Nat :=
  let c1_i32_1222 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2826 : BitVec 32 := Scalar.subi c1_i32_1222 v11
  let arg1 : BitVec 32 := BitVec.ofNat 32 (i 1).val
  let c256_i32_1221 : BitVec 32 := 256#32
  let v2824 : BitVec 32 := Scalar.muli arg1 c256_i32_1221
  let c197_i32 : BitVec 32 := 197#32
  let v2825 : BitVec 32 := Scalar.addi v2824 c197_i32
  let c8_i32_1224 : BitVec 32 := 8#32
  let v2831 : BitVec 32 := Scalar.muli v2825 c8_i32_1224
  let v2832 : BitVec 32 := v2831
  let c0_i32_1225 : BitVec 32 := 0#32
  ![v2826.toNat, v2832.toNat, 0]
def k0_off798 (v2828 : BitVec 32) : Fin 2 → Nat :=
  let c8_i32_1223 : BitVec 32 := 8#32
  let v2829 : BitVec 32 := Scalar.muli v2828 c8_i32_1223
  let v2830 : BitVec 32 := v2829
  let c0_i32_1226 : BitVec 32 := 0#32
  ![v2830.toNat, 0]

def k0_chk200 (i : grid0.Coords) (v0 : BitVec 32) (v28 : BitVec 32) (v2828 : BitVec 32) : Prop :=
  (∀ (k0_h1 : k0_cond1 i v0 = 1#1), ∀ (k0_h4 : k0_cond4 i v28 = 1#1), 8 ∣ (k0_mult397 v2828).toNat) ∧
  (∀ (k0_h1 : k0_cond1 i v0 = 1#1), ∀ (k0_h4 : k0_cond4 i v28 = 1#1), ∀ a, (k0_off798 v2828) a + S8x128.size a ≤ S262144x128.size a)
theorem k0_mult397_dvd : ∀ (i : grid0.Coords) (v0 : BitVec 32) (v28 : BitVec 32) (v2828 : BitVec 32) (k0_hw200 : k0_chk200 i v0 v28 v2828), ∀ (k0_h1 : k0_cond1 i v0 = 1#1), ∀ (k0_h4 : k0_cond4 i v28 = 1#1), 8 ∣ (k0_mult397 v2828).toNat := fun i v0 v28 v2828 k0_hw200 k0_h1 k0_h4 => k0_hw200.1 k0_h1 k0_h4
theorem k0_off798_inb : ∀ (i : grid0.Coords) (v0 : BitVec 32) (v28 : BitVec 32) (v2828 : BitVec 32) (k0_hw200 : k0_chk200 i v0 v28 v2828), ∀ (k0_h1 : k0_cond1 i v0 = 1#1), ∀ (k0_h4 : k0_cond4 i v28 = 1#1), ∀ a, (k0_off798 v2828) a + S8x128.size a ≤ S262144x128.size a := fun i v0 v28 v2828 k0_hw200 k0_h1 k0_h4 => k0_hw200.2 k0_h1 k0_h4

def k0_off799 (i : grid0.Coords) : Fin 1 → Nat :=
  let arg1 : BitVec 32 := BitVec.ofNat 32 (i 1).val
  let c256_i32_1227 : BitVec 32 := 256#32
  let v2838 : BitVec 32 := Scalar.muli arg1 c256_i32_1227
  let c198_i32 : BitVec 32 := 198#32
  let v2839 : BitVec 32 := Scalar.addi v2838 c198_i32
  let v2841 : Index := Scalar.indexCast v2839
  ![v2841.toNat]
def k0_mult399 (v2842 : BitVec 32) : BitVec 32 :=
  let c8_i32_1229 : BitVec 32 := 8#32
  let v2843 : BitVec 32 := Scalar.muli v2842 c8_i32_1229
  v2843

def k0_mult400 (i : grid0.Coords) : BitVec 32 :=
  let arg1 : BitVec 32 := BitVec.ofNat 32 (i 1).val
  let c256_i32_1227 : BitVec 32 := 256#32
  let v2838 : BitVec 32 := Scalar.muli arg1 c256_i32_1227
  let c198_i32 : BitVec 32 := 198#32
  let v2839 : BitVec 32 := Scalar.addi v2838 c198_i32
  let c8_i32_1230 : BitVec 32 := 8#32
  let v2845 : BitVec 32 := Scalar.muli v2839 c8_i32_1230
  v2845
def k0_off800 (i : grid0.Coords) : Fin 1 → Nat :=
  let c1_i32_1228 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2840 : BitVec 32 := Scalar.subi c1_i32_1228 v11
  ![v2840.toNat]
def k0_off801 (i : grid0.Coords) : Fin 3 → Nat :=
  let c1_i32_1228 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2840 : BitVec 32 := Scalar.subi c1_i32_1228 v11
  let arg1 : BitVec 32 := BitVec.ofNat 32 (i 1).val
  let c256_i32_1227 : BitVec 32 := 256#32
  let v2838 : BitVec 32 := Scalar.muli arg1 c256_i32_1227
  let c198_i32 : BitVec 32 := 198#32
  let v2839 : BitVec 32 := Scalar.addi v2838 c198_i32
  let c8_i32_1230 : BitVec 32 := 8#32
  let v2845 : BitVec 32 := Scalar.muli v2839 c8_i32_1230
  let v2846 : BitVec 32 := v2845
  let c0_i32_1231 : BitVec 32 := 0#32
  ![v2840.toNat, v2846.toNat, 0]
def k0_off802 (v2842 : BitVec 32) : Fin 2 → Nat :=
  let c8_i32_1229 : BitVec 32 := 8#32
  let v2843 : BitVec 32 := Scalar.muli v2842 c8_i32_1229
  let v2844 : BitVec 32 := v2843
  let c0_i32_1232 : BitVec 32 := 0#32
  ![v2844.toNat, 0]

def k0_chk201 (i : grid0.Coords) (v0 : BitVec 32) (v28 : BitVec 32) (v2842 : BitVec 32) : Prop :=
  (∀ (k0_h1 : k0_cond1 i v0 = 1#1), ∀ (k0_h4 : k0_cond4 i v28 = 1#1), 8 ∣ (k0_mult399 v2842).toNat) ∧
  (∀ (k0_h1 : k0_cond1 i v0 = 1#1), ∀ (k0_h4 : k0_cond4 i v28 = 1#1), ∀ a, (k0_off802 v2842) a + S8x128.size a ≤ S262144x128.size a)
theorem k0_mult399_dvd : ∀ (i : grid0.Coords) (v0 : BitVec 32) (v28 : BitVec 32) (v2842 : BitVec 32) (k0_hw201 : k0_chk201 i v0 v28 v2842), ∀ (k0_h1 : k0_cond1 i v0 = 1#1), ∀ (k0_h4 : k0_cond4 i v28 = 1#1), 8 ∣ (k0_mult399 v2842).toNat := fun i v0 v28 v2842 k0_hw201 k0_h1 k0_h4 => k0_hw201.1 k0_h1 k0_h4
theorem k0_off802_inb : ∀ (i : grid0.Coords) (v0 : BitVec 32) (v28 : BitVec 32) (v2842 : BitVec 32) (k0_hw201 : k0_chk201 i v0 v28 v2842), ∀ (k0_h1 : k0_cond1 i v0 = 1#1), ∀ (k0_h4 : k0_cond4 i v28 = 1#1), ∀ a, (k0_off802 v2842) a + S8x128.size a ≤ S262144x128.size a := fun i v0 v28 v2842 k0_hw201 k0_h1 k0_h4 => k0_hw201.2 k0_h1 k0_h4

def k0_off803 (i : grid0.Coords) : Fin 1 → Nat :=
  let arg1 : BitVec 32 := BitVec.ofNat 32 (i 1).val
  let c256_i32_1233 : BitVec 32 := 256#32
  let v2852 : BitVec 32 := Scalar.muli arg1 c256_i32_1233
  let c199_i32 : BitVec 32 := 199#32
  let v2853 : BitVec 32 := Scalar.addi v2852 c199_i32
  let v2855 : Index := Scalar.indexCast v2853
  ![v2855.toNat]
def k0_mult401 (v2856 : BitVec 32) : BitVec 32 :=
  let c8_i32_1235 : BitVec 32 := 8#32
  let v2857 : BitVec 32 := Scalar.muli v2856 c8_i32_1235
  v2857

def k0_mult402 (i : grid0.Coords) : BitVec 32 :=
  let arg1 : BitVec 32 := BitVec.ofNat 32 (i 1).val
  let c256_i32_1233 : BitVec 32 := 256#32
  let v2852 : BitVec 32 := Scalar.muli arg1 c256_i32_1233
  let c199_i32 : BitVec 32 := 199#32
  let v2853 : BitVec 32 := Scalar.addi v2852 c199_i32
  let c8_i32_1236 : BitVec 32 := 8#32
  let v2859 : BitVec 32 := Scalar.muli v2853 c8_i32_1236
  v2859
def k0_off804 (i : grid0.Coords) : Fin 1 → Nat :=
  let c1_i32_1234 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2854 : BitVec 32 := Scalar.subi c1_i32_1234 v11
  ![v2854.toNat]
def k0_off805 (i : grid0.Coords) : Fin 3 → Nat :=
  let c1_i32_1234 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2854 : BitVec 32 := Scalar.subi c1_i32_1234 v11
  let arg1 : BitVec 32 := BitVec.ofNat 32 (i 1).val
  let c256_i32_1233 : BitVec 32 := 256#32
  let v2852 : BitVec 32 := Scalar.muli arg1 c256_i32_1233
  let c199_i32 : BitVec 32 := 199#32
  let v2853 : BitVec 32 := Scalar.addi v2852 c199_i32
  let c8_i32_1236 : BitVec 32 := 8#32
  let v2859 : BitVec 32 := Scalar.muli v2853 c8_i32_1236
  let v2860 : BitVec 32 := v2859
  let c0_i32_1237 : BitVec 32 := 0#32
  ![v2854.toNat, v2860.toNat, 0]
def k0_off806 (v2856 : BitVec 32) : Fin 2 → Nat :=
  let c8_i32_1235 : BitVec 32 := 8#32
  let v2857 : BitVec 32 := Scalar.muli v2856 c8_i32_1235
  let v2858 : BitVec 32 := v2857
  let c0_i32_1238 : BitVec 32 := 0#32
  ![v2858.toNat, 0]

def k0_chk202 (i : grid0.Coords) (v0 : BitVec 32) (v28 : BitVec 32) (v2856 : BitVec 32) : Prop :=
  (∀ (k0_h1 : k0_cond1 i v0 = 1#1), ∀ (k0_h4 : k0_cond4 i v28 = 1#1), 8 ∣ (k0_mult401 v2856).toNat) ∧
  (∀ (k0_h1 : k0_cond1 i v0 = 1#1), ∀ (k0_h4 : k0_cond4 i v28 = 1#1), ∀ a, (k0_off806 v2856) a + S8x128.size a ≤ S262144x128.size a)
theorem k0_mult401_dvd : ∀ (i : grid0.Coords) (v0 : BitVec 32) (v28 : BitVec 32) (v2856 : BitVec 32) (k0_hw202 : k0_chk202 i v0 v28 v2856), ∀ (k0_h1 : k0_cond1 i v0 = 1#1), ∀ (k0_h4 : k0_cond4 i v28 = 1#1), 8 ∣ (k0_mult401 v2856).toNat := fun i v0 v28 v2856 k0_hw202 k0_h1 k0_h4 => k0_hw202.1 k0_h1 k0_h4
theorem k0_off806_inb : ∀ (i : grid0.Coords) (v0 : BitVec 32) (v28 : BitVec 32) (v2856 : BitVec 32) (k0_hw202 : k0_chk202 i v0 v28 v2856), ∀ (k0_h1 : k0_cond1 i v0 = 1#1), ∀ (k0_h4 : k0_cond4 i v28 = 1#1), ∀ a, (k0_off806 v2856) a + S8x128.size a ≤ S262144x128.size a := fun i v0 v28 v2856 k0_hw202 k0_h1 k0_h4 => k0_hw202.2 k0_h1 k0_h4

def k0_off807 (i : grid0.Coords) : Fin 1 → Nat :=
  let arg1 : BitVec 32 := BitVec.ofNat 32 (i 1).val
  let c256_i32_1239 : BitVec 32 := 256#32
  let v2866 : BitVec 32 := Scalar.muli arg1 c256_i32_1239
  let c200_i32 : BitVec 32 := 200#32
  let v2867 : BitVec 32 := Scalar.addi v2866 c200_i32
  let v2869 : Index := Scalar.indexCast v2867
  ![v2869.toNat]
def k0_mult403 (v2870 : BitVec 32) : BitVec 32 :=
  let c8_i32_1241 : BitVec 32 := 8#32
  let v2871 : BitVec 32 := Scalar.muli v2870 c8_i32_1241
  v2871

def k0_mult404 (i : grid0.Coords) : BitVec 32 :=
  let arg1 : BitVec 32 := BitVec.ofNat 32 (i 1).val
  let c256_i32_1239 : BitVec 32 := 256#32
  let v2866 : BitVec 32 := Scalar.muli arg1 c256_i32_1239
  let c200_i32 : BitVec 32 := 200#32
  let v2867 : BitVec 32 := Scalar.addi v2866 c200_i32
  let c8_i32_1242 : BitVec 32 := 8#32
  let v2873 : BitVec 32 := Scalar.muli v2867 c8_i32_1242
  v2873
def k0_off808 (i : grid0.Coords) : Fin 1 → Nat :=
  let c1_i32_1240 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2868 : BitVec 32 := Scalar.subi c1_i32_1240 v11
  ![v2868.toNat]
def k0_off809 (i : grid0.Coords) : Fin 3 → Nat :=
  let c1_i32_1240 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2868 : BitVec 32 := Scalar.subi c1_i32_1240 v11
  let arg1 : BitVec 32 := BitVec.ofNat 32 (i 1).val
  let c256_i32_1239 : BitVec 32 := 256#32
  let v2866 : BitVec 32 := Scalar.muli arg1 c256_i32_1239
  let c200_i32 : BitVec 32 := 200#32
  let v2867 : BitVec 32 := Scalar.addi v2866 c200_i32
  let c8_i32_1242 : BitVec 32 := 8#32
  let v2873 : BitVec 32 := Scalar.muli v2867 c8_i32_1242
  let v2874 : BitVec 32 := v2873
  let c0_i32_1243 : BitVec 32 := 0#32
  ![v2868.toNat, v2874.toNat, 0]
def k0_off810 (v2870 : BitVec 32) : Fin 2 → Nat :=
  let c8_i32_1241 : BitVec 32 := 8#32
  let v2871 : BitVec 32 := Scalar.muli v2870 c8_i32_1241
  let v2872 : BitVec 32 := v2871
  let c0_i32_1244 : BitVec 32 := 0#32
  ![v2872.toNat, 0]

def k0_chk203 (i : grid0.Coords) (v0 : BitVec 32) (v28 : BitVec 32) (v2870 : BitVec 32) : Prop :=
  (∀ (k0_h1 : k0_cond1 i v0 = 1#1), ∀ (k0_h4 : k0_cond4 i v28 = 1#1), 8 ∣ (k0_mult403 v2870).toNat) ∧
  (∀ (k0_h1 : k0_cond1 i v0 = 1#1), ∀ (k0_h4 : k0_cond4 i v28 = 1#1), ∀ a, (k0_off810 v2870) a + S8x128.size a ≤ S262144x128.size a)
theorem k0_mult403_dvd : ∀ (i : grid0.Coords) (v0 : BitVec 32) (v28 : BitVec 32) (v2870 : BitVec 32) (k0_hw203 : k0_chk203 i v0 v28 v2870), ∀ (k0_h1 : k0_cond1 i v0 = 1#1), ∀ (k0_h4 : k0_cond4 i v28 = 1#1), 8 ∣ (k0_mult403 v2870).toNat := fun i v0 v28 v2870 k0_hw203 k0_h1 k0_h4 => k0_hw203.1 k0_h1 k0_h4
theorem k0_off810_inb : ∀ (i : grid0.Coords) (v0 : BitVec 32) (v28 : BitVec 32) (v2870 : BitVec 32) (k0_hw203 : k0_chk203 i v0 v28 v2870), ∀ (k0_h1 : k0_cond1 i v0 = 1#1), ∀ (k0_h4 : k0_cond4 i v28 = 1#1), ∀ a, (k0_off810 v2870) a + S8x128.size a ≤ S262144x128.size a := fun i v0 v28 v2870 k0_hw203 k0_h1 k0_h4 => k0_hw203.2 k0_h1 k0_h4

def k0_off811 (i : grid0.Coords) : Fin 1 → Nat :=
  let arg1 : BitVec 32 := BitVec.ofNat 32 (i 1).val
  let c256_i32_1245 : BitVec 32 := 256#32
  let v2880 : BitVec 32 := Scalar.muli arg1 c256_i32_1245
  let c201_i32 : BitVec 32 := 201#32
  let v2881 : BitVec 32 := Scalar.addi v2880 c201_i32
  let v2883 : Index := Scalar.indexCast v2881
  ![v2883.toNat]
def k0_mult405 (v2884 : BitVec 32) : BitVec 32 :=
  let c8_i32_1247 : BitVec 32 := 8#32
  let v2885 : BitVec 32 := Scalar.muli v2884 c8_i32_1247
  v2885

def k0_mult406 (i : grid0.Coords) : BitVec 32 :=
  let arg1 : BitVec 32 := BitVec.ofNat 32 (i 1).val
  let c256_i32_1245 : BitVec 32 := 256#32
  let v2880 : BitVec 32 := Scalar.muli arg1 c256_i32_1245
  let c201_i32 : BitVec 32 := 201#32
  let v2881 : BitVec 32 := Scalar.addi v2880 c201_i32
  let c8_i32_1248 : BitVec 32 := 8#32
  let v2887 : BitVec 32 := Scalar.muli v2881 c8_i32_1248
  v2887
def k0_off812 (i : grid0.Coords) : Fin 1 → Nat :=
  let c1_i32_1246 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2882 : BitVec 32 := Scalar.subi c1_i32_1246 v11
  ![v2882.toNat]
def k0_off813 (i : grid0.Coords) : Fin 3 → Nat :=
  let c1_i32_1246 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2882 : BitVec 32 := Scalar.subi c1_i32_1246 v11
  let arg1 : BitVec 32 := BitVec.ofNat 32 (i 1).val
  let c256_i32_1245 : BitVec 32 := 256#32
  let v2880 : BitVec 32 := Scalar.muli arg1 c256_i32_1245
  let c201_i32 : BitVec 32 := 201#32
  let v2881 : BitVec 32 := Scalar.addi v2880 c201_i32
  let c8_i32_1248 : BitVec 32 := 8#32
  let v2887 : BitVec 32 := Scalar.muli v2881 c8_i32_1248
  let v2888 : BitVec 32 := v2887
  let c0_i32_1249 : BitVec 32 := 0#32
  ![v2882.toNat, v2888.toNat, 0]
def k0_off814 (v2884 : BitVec 32) : Fin 2 → Nat :=
  let c8_i32_1247 : BitVec 32 := 8#32
  let v2885 : BitVec 32 := Scalar.muli v2884 c8_i32_1247
  let v2886 : BitVec 32 := v2885
  let c0_i32_1250 : BitVec 32 := 0#32
  ![v2886.toNat, 0]

def k0_chk204 (i : grid0.Coords) (v0 : BitVec 32) (v28 : BitVec 32) (v2884 : BitVec 32) : Prop :=
  (∀ (k0_h1 : k0_cond1 i v0 = 1#1), ∀ (k0_h4 : k0_cond4 i v28 = 1#1), 8 ∣ (k0_mult405 v2884).toNat) ∧
  (∀ (k0_h1 : k0_cond1 i v0 = 1#1), ∀ (k0_h4 : k0_cond4 i v28 = 1#1), ∀ a, (k0_off814 v2884) a + S8x128.size a ≤ S262144x128.size a)
theorem k0_mult405_dvd : ∀ (i : grid0.Coords) (v0 : BitVec 32) (v28 : BitVec 32) (v2884 : BitVec 32) (k0_hw204 : k0_chk204 i v0 v28 v2884), ∀ (k0_h1 : k0_cond1 i v0 = 1#1), ∀ (k0_h4 : k0_cond4 i v28 = 1#1), 8 ∣ (k0_mult405 v2884).toNat := fun i v0 v28 v2884 k0_hw204 k0_h1 k0_h4 => k0_hw204.1 k0_h1 k0_h4
theorem k0_off814_inb : ∀ (i : grid0.Coords) (v0 : BitVec 32) (v28 : BitVec 32) (v2884 : BitVec 32) (k0_hw204 : k0_chk204 i v0 v28 v2884), ∀ (k0_h1 : k0_cond1 i v0 = 1#1), ∀ (k0_h4 : k0_cond4 i v28 = 1#1), ∀ a, (k0_off814 v2884) a + S8x128.size a ≤ S262144x128.size a := fun i v0 v28 v2884 k0_hw204 k0_h1 k0_h4 => k0_hw204.2 k0_h1 k0_h4

def k0_off815 (i : grid0.Coords) : Fin 1 → Nat :=
  let arg1 : BitVec 32 := BitVec.ofNat 32 (i 1).val
  let c256_i32_1251 : BitVec 32 := 256#32
  let v2894 : BitVec 32 := Scalar.muli arg1 c256_i32_1251
  let c202_i32 : BitVec 32 := 202#32
  let v2895 : BitVec 32 := Scalar.addi v2894 c202_i32
  let v2897 : Index := Scalar.indexCast v2895
  ![v2897.toNat]
def k0_mult407 (v2898 : BitVec 32) : BitVec 32 :=
  let c8_i32_1253 : BitVec 32 := 8#32
  let v2899 : BitVec 32 := Scalar.muli v2898 c8_i32_1253
  v2899

def k0_mult408 (i : grid0.Coords) : BitVec 32 :=
  let arg1 : BitVec 32 := BitVec.ofNat 32 (i 1).val
  let c256_i32_1251 : BitVec 32 := 256#32
  let v2894 : BitVec 32 := Scalar.muli arg1 c256_i32_1251
  let c202_i32 : BitVec 32 := 202#32
  let v2895 : BitVec 32 := Scalar.addi v2894 c202_i32
  let c8_i32_1254 : BitVec 32 := 8#32
  let v2901 : BitVec 32 := Scalar.muli v2895 c8_i32_1254
  v2901
def k0_off816 (i : grid0.Coords) : Fin 1 → Nat :=
  let c1_i32_1252 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2896 : BitVec 32 := Scalar.subi c1_i32_1252 v11
  ![v2896.toNat]
def k0_off817 (i : grid0.Coords) : Fin 3 → Nat :=
  let c1_i32_1252 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2896 : BitVec 32 := Scalar.subi c1_i32_1252 v11
  let arg1 : BitVec 32 := BitVec.ofNat 32 (i 1).val
  let c256_i32_1251 : BitVec 32 := 256#32
  let v2894 : BitVec 32 := Scalar.muli arg1 c256_i32_1251
  let c202_i32 : BitVec 32 := 202#32
  let v2895 : BitVec 32 := Scalar.addi v2894 c202_i32
  let c8_i32_1254 : BitVec 32 := 8#32
  let v2901 : BitVec 32 := Scalar.muli v2895 c8_i32_1254
  let v2902 : BitVec 32 := v2901
  let c0_i32_1255 : BitVec 32 := 0#32
  ![v2896.toNat, v2902.toNat, 0]
def k0_off818 (v2898 : BitVec 32) : Fin 2 → Nat :=
  let c8_i32_1253 : BitVec 32 := 8#32
  let v2899 : BitVec 32 := Scalar.muli v2898 c8_i32_1253
  let v2900 : BitVec 32 := v2899
  let c0_i32_1256 : BitVec 32 := 0#32
  ![v2900.toNat, 0]

def k0_chk205 (i : grid0.Coords) (v0 : BitVec 32) (v28 : BitVec 32) (v2898 : BitVec 32) : Prop :=
  (∀ (k0_h1 : k0_cond1 i v0 = 1#1), ∀ (k0_h4 : k0_cond4 i v28 = 1#1), 8 ∣ (k0_mult407 v2898).toNat) ∧
  (∀ (k0_h1 : k0_cond1 i v0 = 1#1), ∀ (k0_h4 : k0_cond4 i v28 = 1#1), ∀ a, (k0_off818 v2898) a + S8x128.size a ≤ S262144x128.size a)
theorem k0_mult407_dvd : ∀ (i : grid0.Coords) (v0 : BitVec 32) (v28 : BitVec 32) (v2898 : BitVec 32) (k0_hw205 : k0_chk205 i v0 v28 v2898), ∀ (k0_h1 : k0_cond1 i v0 = 1#1), ∀ (k0_h4 : k0_cond4 i v28 = 1#1), 8 ∣ (k0_mult407 v2898).toNat := fun i v0 v28 v2898 k0_hw205 k0_h1 k0_h4 => k0_hw205.1 k0_h1 k0_h4
theorem k0_off818_inb : ∀ (i : grid0.Coords) (v0 : BitVec 32) (v28 : BitVec 32) (v2898 : BitVec 32) (k0_hw205 : k0_chk205 i v0 v28 v2898), ∀ (k0_h1 : k0_cond1 i v0 = 1#1), ∀ (k0_h4 : k0_cond4 i v28 = 1#1), ∀ a, (k0_off818 v2898) a + S8x128.size a ≤ S262144x128.size a := fun i v0 v28 v2898 k0_hw205 k0_h1 k0_h4 => k0_hw205.2 k0_h1 k0_h4

def k0_off819 (i : grid0.Coords) : Fin 1 → Nat :=
  let arg1 : BitVec 32 := BitVec.ofNat 32 (i 1).val
  let c256_i32_1257 : BitVec 32 := 256#32
  let v2908 : BitVec 32 := Scalar.muli arg1 c256_i32_1257
  let c203_i32 : BitVec 32 := 203#32
  let v2909 : BitVec 32 := Scalar.addi v2908 c203_i32
  let v2911 : Index := Scalar.indexCast v2909
  ![v2911.toNat]
def k0_mult409 (v2912 : BitVec 32) : BitVec 32 :=
  let c8_i32_1259 : BitVec 32 := 8#32
  let v2913 : BitVec 32 := Scalar.muli v2912 c8_i32_1259
  v2913

def k0_mult410 (i : grid0.Coords) : BitVec 32 :=
  let arg1 : BitVec 32 := BitVec.ofNat 32 (i 1).val
  let c256_i32_1257 : BitVec 32 := 256#32
  let v2908 : BitVec 32 := Scalar.muli arg1 c256_i32_1257
  let c203_i32 : BitVec 32 := 203#32
  let v2909 : BitVec 32 := Scalar.addi v2908 c203_i32
  let c8_i32_1260 : BitVec 32 := 8#32
  let v2915 : BitVec 32 := Scalar.muli v2909 c8_i32_1260
  v2915
def k0_off820 (i : grid0.Coords) : Fin 1 → Nat :=
  let c1_i32_1258 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2910 : BitVec 32 := Scalar.subi c1_i32_1258 v11
  ![v2910.toNat]
def k0_off821 (i : grid0.Coords) : Fin 3 → Nat :=
  let c1_i32_1258 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2910 : BitVec 32 := Scalar.subi c1_i32_1258 v11
  let arg1 : BitVec 32 := BitVec.ofNat 32 (i 1).val
  let c256_i32_1257 : BitVec 32 := 256#32
  let v2908 : BitVec 32 := Scalar.muli arg1 c256_i32_1257
  let c203_i32 : BitVec 32 := 203#32
  let v2909 : BitVec 32 := Scalar.addi v2908 c203_i32
  let c8_i32_1260 : BitVec 32 := 8#32
  let v2915 : BitVec 32 := Scalar.muli v2909 c8_i32_1260
  let v2916 : BitVec 32 := v2915
  let c0_i32_1261 : BitVec 32 := 0#32
  ![v2910.toNat, v2916.toNat, 0]
def k0_off822 (v2912 : BitVec 32) : Fin 2 → Nat :=
  let c8_i32_1259 : BitVec 32 := 8#32
  let v2913 : BitVec 32 := Scalar.muli v2912 c8_i32_1259
  let v2914 : BitVec 32 := v2913
  let c0_i32_1262 : BitVec 32 := 0#32
  ![v2914.toNat, 0]

def k0_chk206 (i : grid0.Coords) (v0 : BitVec 32) (v28 : BitVec 32) (v2912 : BitVec 32) : Prop :=
  (∀ (k0_h1 : k0_cond1 i v0 = 1#1), ∀ (k0_h4 : k0_cond4 i v28 = 1#1), 8 ∣ (k0_mult409 v2912).toNat) ∧
  (∀ (k0_h1 : k0_cond1 i v0 = 1#1), ∀ (k0_h4 : k0_cond4 i v28 = 1#1), ∀ a, (k0_off822 v2912) a + S8x128.size a ≤ S262144x128.size a)
theorem k0_mult409_dvd : ∀ (i : grid0.Coords) (v0 : BitVec 32) (v28 : BitVec 32) (v2912 : BitVec 32) (k0_hw206 : k0_chk206 i v0 v28 v2912), ∀ (k0_h1 : k0_cond1 i v0 = 1#1), ∀ (k0_h4 : k0_cond4 i v28 = 1#1), 8 ∣ (k0_mult409 v2912).toNat := fun i v0 v28 v2912 k0_hw206 k0_h1 k0_h4 => k0_hw206.1 k0_h1 k0_h4
theorem k0_off822_inb : ∀ (i : grid0.Coords) (v0 : BitVec 32) (v28 : BitVec 32) (v2912 : BitVec 32) (k0_hw206 : k0_chk206 i v0 v28 v2912), ∀ (k0_h1 : k0_cond1 i v0 = 1#1), ∀ (k0_h4 : k0_cond4 i v28 = 1#1), ∀ a, (k0_off822 v2912) a + S8x128.size a ≤ S262144x128.size a := fun i v0 v28 v2912 k0_hw206 k0_h1 k0_h4 => k0_hw206.2 k0_h1 k0_h4

def k0_off823 (i : grid0.Coords) : Fin 1 → Nat :=
  let arg1 : BitVec 32 := BitVec.ofNat 32 (i 1).val
  let c256_i32_1263 : BitVec 32 := 256#32
  let v2922 : BitVec 32 := Scalar.muli arg1 c256_i32_1263
  let c204_i32 : BitVec 32 := 204#32
  let v2923 : BitVec 32 := Scalar.addi v2922 c204_i32
  let v2925 : Index := Scalar.indexCast v2923
  ![v2925.toNat]
def k0_mult411 (v2926 : BitVec 32) : BitVec 32 :=
  let c8_i32_1265 : BitVec 32 := 8#32
  let v2927 : BitVec 32 := Scalar.muli v2926 c8_i32_1265
  v2927

def k0_mult412 (i : grid0.Coords) : BitVec 32 :=
  let arg1 : BitVec 32 := BitVec.ofNat 32 (i 1).val
  let c256_i32_1263 : BitVec 32 := 256#32
  let v2922 : BitVec 32 := Scalar.muli arg1 c256_i32_1263
  let c204_i32 : BitVec 32 := 204#32
  let v2923 : BitVec 32 := Scalar.addi v2922 c204_i32
  let c8_i32_1266 : BitVec 32 := 8#32
  let v2929 : BitVec 32 := Scalar.muli v2923 c8_i32_1266
  v2929
def k0_off824 (i : grid0.Coords) : Fin 1 → Nat :=
  let c1_i32_1264 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2924 : BitVec 32 := Scalar.subi c1_i32_1264 v11
  ![v2924.toNat]
def k0_off825 (i : grid0.Coords) : Fin 3 → Nat :=
  let c1_i32_1264 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2924 : BitVec 32 := Scalar.subi c1_i32_1264 v11
  let arg1 : BitVec 32 := BitVec.ofNat 32 (i 1).val
  let c256_i32_1263 : BitVec 32 := 256#32
  let v2922 : BitVec 32 := Scalar.muli arg1 c256_i32_1263
  let c204_i32 : BitVec 32 := 204#32
  let v2923 : BitVec 32 := Scalar.addi v2922 c204_i32
  let c8_i32_1266 : BitVec 32 := 8#32
  let v2929 : BitVec 32 := Scalar.muli v2923 c8_i32_1266
  let v2930 : BitVec 32 := v2929
  let c0_i32_1267 : BitVec 32 := 0#32
  ![v2924.toNat, v2930.toNat, 0]
def k0_off826 (v2926 : BitVec 32) : Fin 2 → Nat :=
  let c8_i32_1265 : BitVec 32 := 8#32
  let v2927 : BitVec 32 := Scalar.muli v2926 c8_i32_1265
  let v2928 : BitVec 32 := v2927
  let c0_i32_1268 : BitVec 32 := 0#32
  ![v2928.toNat, 0]

def k0_chk207 (i : grid0.Coords) (v0 : BitVec 32) (v28 : BitVec 32) (v2926 : BitVec 32) : Prop :=
  (∀ (k0_h1 : k0_cond1 i v0 = 1#1), ∀ (k0_h4 : k0_cond4 i v28 = 1#1), 8 ∣ (k0_mult411 v2926).toNat) ∧
  (∀ (k0_h1 : k0_cond1 i v0 = 1#1), ∀ (k0_h4 : k0_cond4 i v28 = 1#1), ∀ a, (k0_off826 v2926) a + S8x128.size a ≤ S262144x128.size a)
theorem k0_mult411_dvd : ∀ (i : grid0.Coords) (v0 : BitVec 32) (v28 : BitVec 32) (v2926 : BitVec 32) (k0_hw207 : k0_chk207 i v0 v28 v2926), ∀ (k0_h1 : k0_cond1 i v0 = 1#1), ∀ (k0_h4 : k0_cond4 i v28 = 1#1), 8 ∣ (k0_mult411 v2926).toNat := fun i v0 v28 v2926 k0_hw207 k0_h1 k0_h4 => k0_hw207.1 k0_h1 k0_h4
theorem k0_off826_inb : ∀ (i : grid0.Coords) (v0 : BitVec 32) (v28 : BitVec 32) (v2926 : BitVec 32) (k0_hw207 : k0_chk207 i v0 v28 v2926), ∀ (k0_h1 : k0_cond1 i v0 = 1#1), ∀ (k0_h4 : k0_cond4 i v28 = 1#1), ∀ a, (k0_off826 v2926) a + S8x128.size a ≤ S262144x128.size a := fun i v0 v28 v2926 k0_hw207 k0_h1 k0_h4 => k0_hw207.2 k0_h1 k0_h4

def k0_off827 (i : grid0.Coords) : Fin 1 → Nat :=
  let arg1 : BitVec 32 := BitVec.ofNat 32 (i 1).val
  let c256_i32_1269 : BitVec 32 := 256#32
  let v2936 : BitVec 32 := Scalar.muli arg1 c256_i32_1269
  let c205_i32 : BitVec 32 := 205#32
  let v2937 : BitVec 32 := Scalar.addi v2936 c205_i32
  let v2939 : Index := Scalar.indexCast v2937
  ![v2939.toNat]
def k0_mult413 (v2940 : BitVec 32) : BitVec 32 :=
  let c8_i32_1271 : BitVec 32 := 8#32
  let v2941 : BitVec 32 := Scalar.muli v2940 c8_i32_1271
  v2941

def k0_mult414 (i : grid0.Coords) : BitVec 32 :=
  let arg1 : BitVec 32 := BitVec.ofNat 32 (i 1).val
  let c256_i32_1269 : BitVec 32 := 256#32
  let v2936 : BitVec 32 := Scalar.muli arg1 c256_i32_1269
  let c205_i32 : BitVec 32 := 205#32
  let v2937 : BitVec 32 := Scalar.addi v2936 c205_i32
  let c8_i32_1272 : BitVec 32 := 8#32
  let v2943 : BitVec 32 := Scalar.muli v2937 c8_i32_1272
  v2943
def k0_off828 (i : grid0.Coords) : Fin 1 → Nat :=
  let c1_i32_1270 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2938 : BitVec 32 := Scalar.subi c1_i32_1270 v11
  ![v2938.toNat]
def k0_off829 (i : grid0.Coords) : Fin 3 → Nat :=
  let c1_i32_1270 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2938 : BitVec 32 := Scalar.subi c1_i32_1270 v11
  let arg1 : BitVec 32 := BitVec.ofNat 32 (i 1).val
  let c256_i32_1269 : BitVec 32 := 256#32
  let v2936 : BitVec 32 := Scalar.muli arg1 c256_i32_1269
  let c205_i32 : BitVec 32 := 205#32
  let v2937 : BitVec 32 := Scalar.addi v2936 c205_i32
  let c8_i32_1272 : BitVec 32 := 8#32
  let v2943 : BitVec 32 := Scalar.muli v2937 c8_i32_1272
  let v2944 : BitVec 32 := v2943
  let c0_i32_1273 : BitVec 32 := 0#32
  ![v2938.toNat, v2944.toNat, 0]
def k0_off830 (v2940 : BitVec 32) : Fin 2 → Nat :=
  let c8_i32_1271 : BitVec 32 := 8#32
  let v2941 : BitVec 32 := Scalar.muli v2940 c8_i32_1271
  let v2942 : BitVec 32 := v2941
  let c0_i32_1274 : BitVec 32 := 0#32
  ![v2942.toNat, 0]

def k0_chk208 (i : grid0.Coords) (v0 : BitVec 32) (v28 : BitVec 32) (v2940 : BitVec 32) : Prop :=
  (∀ (k0_h1 : k0_cond1 i v0 = 1#1), ∀ (k0_h4 : k0_cond4 i v28 = 1#1), 8 ∣ (k0_mult413 v2940).toNat) ∧
  (∀ (k0_h1 : k0_cond1 i v0 = 1#1), ∀ (k0_h4 : k0_cond4 i v28 = 1#1), ∀ a, (k0_off830 v2940) a + S8x128.size a ≤ S262144x128.size a)
theorem k0_mult413_dvd : ∀ (i : grid0.Coords) (v0 : BitVec 32) (v28 : BitVec 32) (v2940 : BitVec 32) (k0_hw208 : k0_chk208 i v0 v28 v2940), ∀ (k0_h1 : k0_cond1 i v0 = 1#1), ∀ (k0_h4 : k0_cond4 i v28 = 1#1), 8 ∣ (k0_mult413 v2940).toNat := fun i v0 v28 v2940 k0_hw208 k0_h1 k0_h4 => k0_hw208.1 k0_h1 k0_h4
theorem k0_off830_inb : ∀ (i : grid0.Coords) (v0 : BitVec 32) (v28 : BitVec 32) (v2940 : BitVec 32) (k0_hw208 : k0_chk208 i v0 v28 v2940), ∀ (k0_h1 : k0_cond1 i v0 = 1#1), ∀ (k0_h4 : k0_cond4 i v28 = 1#1), ∀ a, (k0_off830 v2940) a + S8x128.size a ≤ S262144x128.size a := fun i v0 v28 v2940 k0_hw208 k0_h1 k0_h4 => k0_hw208.2 k0_h1 k0_h4

def k0_off831 (i : grid0.Coords) : Fin 1 → Nat :=
  let arg1 : BitVec 32 := BitVec.ofNat 32 (i 1).val
  let c256_i32_1275 : BitVec 32 := 256#32
  let v2950 : BitVec 32 := Scalar.muli arg1 c256_i32_1275
  let c206_i32 : BitVec 32 := 206#32
  let v2951 : BitVec 32 := Scalar.addi v2950 c206_i32
  let v2953 : Index := Scalar.indexCast v2951
  ![v2953.toNat]
def k0_mult415 (v2954 : BitVec 32) : BitVec 32 :=
  let c8_i32_1277 : BitVec 32 := 8#32
  let v2955 : BitVec 32 := Scalar.muli v2954 c8_i32_1277
  v2955

def k0_mult416 (i : grid0.Coords) : BitVec 32 :=
  let arg1 : BitVec 32 := BitVec.ofNat 32 (i 1).val
  let c256_i32_1275 : BitVec 32 := 256#32
  let v2950 : BitVec 32 := Scalar.muli arg1 c256_i32_1275
  let c206_i32 : BitVec 32 := 206#32
  let v2951 : BitVec 32 := Scalar.addi v2950 c206_i32
  let c8_i32_1278 : BitVec 32 := 8#32
  let v2957 : BitVec 32 := Scalar.muli v2951 c8_i32_1278
  v2957
def k0_off832 (i : grid0.Coords) : Fin 1 → Nat :=
  let c1_i32_1276 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2952 : BitVec 32 := Scalar.subi c1_i32_1276 v11
  ![v2952.toNat]
def k0_off833 (i : grid0.Coords) : Fin 3 → Nat :=
  let c1_i32_1276 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2952 : BitVec 32 := Scalar.subi c1_i32_1276 v11
  let arg1 : BitVec 32 := BitVec.ofNat 32 (i 1).val
  let c256_i32_1275 : BitVec 32 := 256#32
  let v2950 : BitVec 32 := Scalar.muli arg1 c256_i32_1275
  let c206_i32 : BitVec 32 := 206#32
  let v2951 : BitVec 32 := Scalar.addi v2950 c206_i32
  let c8_i32_1278 : BitVec 32 := 8#32
  let v2957 : BitVec 32 := Scalar.muli v2951 c8_i32_1278
  let v2958 : BitVec 32 := v2957
  let c0_i32_1279 : BitVec 32 := 0#32
  ![v2952.toNat, v2958.toNat, 0]
def k0_off834 (v2954 : BitVec 32) : Fin 2 → Nat :=
  let c8_i32_1277 : BitVec 32 := 8#32
  let v2955 : BitVec 32 := Scalar.muli v2954 c8_i32_1277
  let v2956 : BitVec 32 := v2955
  let c0_i32_1280 : BitVec 32 := 0#32
  ![v2956.toNat, 0]

def k0_chk209 (i : grid0.Coords) (v0 : BitVec 32) (v28 : BitVec 32) (v2954 : BitVec 32) : Prop :=
  (∀ (k0_h1 : k0_cond1 i v0 = 1#1), ∀ (k0_h4 : k0_cond4 i v28 = 1#1), 8 ∣ (k0_mult415 v2954).toNat) ∧
  (∀ (k0_h1 : k0_cond1 i v0 = 1#1), ∀ (k0_h4 : k0_cond4 i v28 = 1#1), ∀ a, (k0_off834 v2954) a + S8x128.size a ≤ S262144x128.size a)
theorem k0_mult415_dvd : ∀ (i : grid0.Coords) (v0 : BitVec 32) (v28 : BitVec 32) (v2954 : BitVec 32) (k0_hw209 : k0_chk209 i v0 v28 v2954), ∀ (k0_h1 : k0_cond1 i v0 = 1#1), ∀ (k0_h4 : k0_cond4 i v28 = 1#1), 8 ∣ (k0_mult415 v2954).toNat := fun i v0 v28 v2954 k0_hw209 k0_h1 k0_h4 => k0_hw209.1 k0_h1 k0_h4
theorem k0_off834_inb : ∀ (i : grid0.Coords) (v0 : BitVec 32) (v28 : BitVec 32) (v2954 : BitVec 32) (k0_hw209 : k0_chk209 i v0 v28 v2954), ∀ (k0_h1 : k0_cond1 i v0 = 1#1), ∀ (k0_h4 : k0_cond4 i v28 = 1#1), ∀ a, (k0_off834 v2954) a + S8x128.size a ≤ S262144x128.size a := fun i v0 v28 v2954 k0_hw209 k0_h1 k0_h4 => k0_hw209.2 k0_h1 k0_h4

def k0_off835 (i : grid0.Coords) : Fin 1 → Nat :=
  let arg1 : BitVec 32 := BitVec.ofNat 32 (i 1).val
  let c256_i32_1281 : BitVec 32 := 256#32
  let v2964 : BitVec 32 := Scalar.muli arg1 c256_i32_1281
  let c207_i32 : BitVec 32 := 207#32
  let v2965 : BitVec 32 := Scalar.addi v2964 c207_i32
  let v2967 : Index := Scalar.indexCast v2965
  ![v2967.toNat]
def k0_mult417 (v2968 : BitVec 32) : BitVec 32 :=
  let c8_i32_1283 : BitVec 32 := 8#32
  let v2969 : BitVec 32 := Scalar.muli v2968 c8_i32_1283
  v2969

def k0_mult418 (i : grid0.Coords) : BitVec 32 :=
  let arg1 : BitVec 32 := BitVec.ofNat 32 (i 1).val
  let c256_i32_1281 : BitVec 32 := 256#32
  let v2964 : BitVec 32 := Scalar.muli arg1 c256_i32_1281
  let c207_i32 : BitVec 32 := 207#32
  let v2965 : BitVec 32 := Scalar.addi v2964 c207_i32
  let c8_i32_1284 : BitVec 32 := 8#32
  let v2971 : BitVec 32 := Scalar.muli v2965 c8_i32_1284
  v2971
def k0_off836 (i : grid0.Coords) : Fin 1 → Nat :=
  let c1_i32_1282 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2966 : BitVec 32 := Scalar.subi c1_i32_1282 v11
  ![v2966.toNat]
def k0_off837 (i : grid0.Coords) : Fin 3 → Nat :=
  let c1_i32_1282 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2966 : BitVec 32 := Scalar.subi c1_i32_1282 v11
  let arg1 : BitVec 32 := BitVec.ofNat 32 (i 1).val
  let c256_i32_1281 : BitVec 32 := 256#32
  let v2964 : BitVec 32 := Scalar.muli arg1 c256_i32_1281
  let c207_i32 : BitVec 32 := 207#32
  let v2965 : BitVec 32 := Scalar.addi v2964 c207_i32
  let c8_i32_1284 : BitVec 32 := 8#32
  let v2971 : BitVec 32 := Scalar.muli v2965 c8_i32_1284
  let v2972 : BitVec 32 := v2971
  let c0_i32_1285 : BitVec 32 := 0#32
  ![v2966.toNat, v2972.toNat, 0]
def k0_off838 (v2968 : BitVec 32) : Fin 2 → Nat :=
  let c8_i32_1283 : BitVec 32 := 8#32
  let v2969 : BitVec 32 := Scalar.muli v2968 c8_i32_1283
  let v2970 : BitVec 32 := v2969
  let c0_i32_1286 : BitVec 32 := 0#32
  ![v2970.toNat, 0]

def k0_chk210 (i : grid0.Coords) (v0 : BitVec 32) (v28 : BitVec 32) (v2968 : BitVec 32) : Prop :=
  (∀ (k0_h1 : k0_cond1 i v0 = 1#1), ∀ (k0_h4 : k0_cond4 i v28 = 1#1), 8 ∣ (k0_mult417 v2968).toNat) ∧
  (∀ (k0_h1 : k0_cond1 i v0 = 1#1), ∀ (k0_h4 : k0_cond4 i v28 = 1#1), ∀ a, (k0_off838 v2968) a + S8x128.size a ≤ S262144x128.size a)
theorem k0_mult417_dvd : ∀ (i : grid0.Coords) (v0 : BitVec 32) (v28 : BitVec 32) (v2968 : BitVec 32) (k0_hw210 : k0_chk210 i v0 v28 v2968), ∀ (k0_h1 : k0_cond1 i v0 = 1#1), ∀ (k0_h4 : k0_cond4 i v28 = 1#1), 8 ∣ (k0_mult417 v2968).toNat := fun i v0 v28 v2968 k0_hw210 k0_h1 k0_h4 => k0_hw210.1 k0_h1 k0_h4
theorem k0_off838_inb : ∀ (i : grid0.Coords) (v0 : BitVec 32) (v28 : BitVec 32) (v2968 : BitVec 32) (k0_hw210 : k0_chk210 i v0 v28 v2968), ∀ (k0_h1 : k0_cond1 i v0 = 1#1), ∀ (k0_h4 : k0_cond4 i v28 = 1#1), ∀ a, (k0_off838 v2968) a + S8x128.size a ≤ S262144x128.size a := fun i v0 v28 v2968 k0_hw210 k0_h1 k0_h4 => k0_hw210.2 k0_h1 k0_h4

def k0_off839 (i : grid0.Coords) : Fin 1 → Nat :=
  let arg1 : BitVec 32 := BitVec.ofNat 32 (i 1).val
  let c256_i32_1287 : BitVec 32 := 256#32
  let v2978 : BitVec 32 := Scalar.muli arg1 c256_i32_1287
  let c208_i32 : BitVec 32 := 208#32
  let v2979 : BitVec 32 := Scalar.addi v2978 c208_i32
  let v2981 : Index := Scalar.indexCast v2979
  ![v2981.toNat]
def k0_mult419 (v2982 : BitVec 32) : BitVec 32 :=
  let c8_i32_1289 : BitVec 32 := 8#32
  let v2983 : BitVec 32 := Scalar.muli v2982 c8_i32_1289
  v2983

def k0_mult420 (i : grid0.Coords) : BitVec 32 :=
  let arg1 : BitVec 32 := BitVec.ofNat 32 (i 1).val
  let c256_i32_1287 : BitVec 32 := 256#32
  let v2978 : BitVec 32 := Scalar.muli arg1 c256_i32_1287
  let c208_i32 : BitVec 32 := 208#32
  let v2979 : BitVec 32 := Scalar.addi v2978 c208_i32
  let c8_i32_1290 : BitVec 32 := 8#32
  let v2985 : BitVec 32 := Scalar.muli v2979 c8_i32_1290
  v2985
def k0_off840 (i : grid0.Coords) : Fin 1 → Nat :=
  let c1_i32_1288 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2980 : BitVec 32 := Scalar.subi c1_i32_1288 v11
  ![v2980.toNat]
def k0_off841 (i : grid0.Coords) : Fin 3 → Nat :=
  let c1_i32_1288 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2980 : BitVec 32 := Scalar.subi c1_i32_1288 v11
  let arg1 : BitVec 32 := BitVec.ofNat 32 (i 1).val
  let c256_i32_1287 : BitVec 32 := 256#32
  let v2978 : BitVec 32 := Scalar.muli arg1 c256_i32_1287
  let c208_i32 : BitVec 32 := 208#32
  let v2979 : BitVec 32 := Scalar.addi v2978 c208_i32
  let c8_i32_1290 : BitVec 32 := 8#32
  let v2985 : BitVec 32 := Scalar.muli v2979 c8_i32_1290
  let v2986 : BitVec 32 := v2985
  let c0_i32_1291 : BitVec 32 := 0#32
  ![v2980.toNat, v2986.toNat, 0]
def k0_off842 (v2982 : BitVec 32) : Fin 2 → Nat :=
  let c8_i32_1289 : BitVec 32 := 8#32
  let v2983 : BitVec 32 := Scalar.muli v2982 c8_i32_1289
  let v2984 : BitVec 32 := v2983
  let c0_i32_1292 : BitVec 32 := 0#32
  ![v2984.toNat, 0]

def k0_chk211 (i : grid0.Coords) (v0 : BitVec 32) (v28 : BitVec 32) (v2982 : BitVec 32) : Prop :=
  (∀ (k0_h1 : k0_cond1 i v0 = 1#1), ∀ (k0_h4 : k0_cond4 i v28 = 1#1), 8 ∣ (k0_mult419 v2982).toNat) ∧
  (∀ (k0_h1 : k0_cond1 i v0 = 1#1), ∀ (k0_h4 : k0_cond4 i v28 = 1#1), ∀ a, (k0_off842 v2982) a + S8x128.size a ≤ S262144x128.size a)
theorem k0_mult419_dvd : ∀ (i : grid0.Coords) (v0 : BitVec 32) (v28 : BitVec 32) (v2982 : BitVec 32) (k0_hw211 : k0_chk211 i v0 v28 v2982), ∀ (k0_h1 : k0_cond1 i v0 = 1#1), ∀ (k0_h4 : k0_cond4 i v28 = 1#1), 8 ∣ (k0_mult419 v2982).toNat := fun i v0 v28 v2982 k0_hw211 k0_h1 k0_h4 => k0_hw211.1 k0_h1 k0_h4
theorem k0_off842_inb : ∀ (i : grid0.Coords) (v0 : BitVec 32) (v28 : BitVec 32) (v2982 : BitVec 32) (k0_hw211 : k0_chk211 i v0 v28 v2982), ∀ (k0_h1 : k0_cond1 i v0 = 1#1), ∀ (k0_h4 : k0_cond4 i v28 = 1#1), ∀ a, (k0_off842 v2982) a + S8x128.size a ≤ S262144x128.size a := fun i v0 v28 v2982 k0_hw211 k0_h1 k0_h4 => k0_hw211.2 k0_h1 k0_h4

def k0_off843 (i : grid0.Coords) : Fin 1 → Nat :=
  let arg1 : BitVec 32 := BitVec.ofNat 32 (i 1).val
  let c256_i32_1293 : BitVec 32 := 256#32
  let v2992 : BitVec 32 := Scalar.muli arg1 c256_i32_1293
  let c209_i32 : BitVec 32 := 209#32
  let v2993 : BitVec 32 := Scalar.addi v2992 c209_i32
  let v2995 : Index := Scalar.indexCast v2993
  ![v2995.toNat]
def k0_mult421 (v2996 : BitVec 32) : BitVec 32 :=
  let c8_i32_1295 : BitVec 32 := 8#32
  let v2997 : BitVec 32 := Scalar.muli v2996 c8_i32_1295
  v2997

def k0_mult422 (i : grid0.Coords) : BitVec 32 :=
  let arg1 : BitVec 32 := BitVec.ofNat 32 (i 1).val
  let c256_i32_1293 : BitVec 32 := 256#32
  let v2992 : BitVec 32 := Scalar.muli arg1 c256_i32_1293
  let c209_i32 : BitVec 32 := 209#32
  let v2993 : BitVec 32 := Scalar.addi v2992 c209_i32
  let c8_i32_1296 : BitVec 32 := 8#32
  let v2999 : BitVec 32 := Scalar.muli v2993 c8_i32_1296
  v2999
def k0_off844 (i : grid0.Coords) : Fin 1 → Nat :=
  let c1_i32_1294 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2994 : BitVec 32 := Scalar.subi c1_i32_1294 v11
  ![v2994.toNat]
def k0_off845 (i : grid0.Coords) : Fin 3 → Nat :=
  let c1_i32_1294 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v2994 : BitVec 32 := Scalar.subi c1_i32_1294 v11
  let arg1 : BitVec 32 := BitVec.ofNat 32 (i 1).val
  let c256_i32_1293 : BitVec 32 := 256#32
  let v2992 : BitVec 32 := Scalar.muli arg1 c256_i32_1293
  let c209_i32 : BitVec 32 := 209#32
  let v2993 : BitVec 32 := Scalar.addi v2992 c209_i32
  let c8_i32_1296 : BitVec 32 := 8#32
  let v2999 : BitVec 32 := Scalar.muli v2993 c8_i32_1296
  let v3000 : BitVec 32 := v2999
  let c0_i32_1297 : BitVec 32 := 0#32
  ![v2994.toNat, v3000.toNat, 0]
def k0_off846 (v2996 : BitVec 32) : Fin 2 → Nat :=
  let c8_i32_1295 : BitVec 32 := 8#32
  let v2997 : BitVec 32 := Scalar.muli v2996 c8_i32_1295
  let v2998 : BitVec 32 := v2997
  let c0_i32_1298 : BitVec 32 := 0#32
  ![v2998.toNat, 0]

def k0_chk212 (i : grid0.Coords) (v0 : BitVec 32) (v28 : BitVec 32) (v2996 : BitVec 32) : Prop :=
  (∀ (k0_h1 : k0_cond1 i v0 = 1#1), ∀ (k0_h4 : k0_cond4 i v28 = 1#1), 8 ∣ (k0_mult421 v2996).toNat) ∧
  (∀ (k0_h1 : k0_cond1 i v0 = 1#1), ∀ (k0_h4 : k0_cond4 i v28 = 1#1), ∀ a, (k0_off846 v2996) a + S8x128.size a ≤ S262144x128.size a)
theorem k0_mult421_dvd : ∀ (i : grid0.Coords) (v0 : BitVec 32) (v28 : BitVec 32) (v2996 : BitVec 32) (k0_hw212 : k0_chk212 i v0 v28 v2996), ∀ (k0_h1 : k0_cond1 i v0 = 1#1), ∀ (k0_h4 : k0_cond4 i v28 = 1#1), 8 ∣ (k0_mult421 v2996).toNat := fun i v0 v28 v2996 k0_hw212 k0_h1 k0_h4 => k0_hw212.1 k0_h1 k0_h4
theorem k0_off846_inb : ∀ (i : grid0.Coords) (v0 : BitVec 32) (v28 : BitVec 32) (v2996 : BitVec 32) (k0_hw212 : k0_chk212 i v0 v28 v2996), ∀ (k0_h1 : k0_cond1 i v0 = 1#1), ∀ (k0_h4 : k0_cond4 i v28 = 1#1), ∀ a, (k0_off846 v2996) a + S8x128.size a ≤ S262144x128.size a := fun i v0 v28 v2996 k0_hw212 k0_h1 k0_h4 => k0_hw212.2 k0_h1 k0_h4

def k0_off847 (i : grid0.Coords) : Fin 1 → Nat :=
  let arg1 : BitVec 32 := BitVec.ofNat 32 (i 1).val
  let c256_i32_1299 : BitVec 32 := 256#32
  let v3006 : BitVec 32 := Scalar.muli arg1 c256_i32_1299
  let c210_i32 : BitVec 32 := 210#32
  let v3007 : BitVec 32 := Scalar.addi v3006 c210_i32
  let v3009 : Index := Scalar.indexCast v3007
  ![v3009.toNat]
def k0_mult423 (v3010 : BitVec 32) : BitVec 32 :=
  let c8_i32_1301 : BitVec 32 := 8#32
  let v3011 : BitVec 32 := Scalar.muli v3010 c8_i32_1301
  v3011

def k0_mult424 (i : grid0.Coords) : BitVec 32 :=
  let arg1 : BitVec 32 := BitVec.ofNat 32 (i 1).val
  let c256_i32_1299 : BitVec 32 := 256#32
  let v3006 : BitVec 32 := Scalar.muli arg1 c256_i32_1299
  let c210_i32 : BitVec 32 := 210#32
  let v3007 : BitVec 32 := Scalar.addi v3006 c210_i32
  let c8_i32_1302 : BitVec 32 := 8#32
  let v3013 : BitVec 32 := Scalar.muli v3007 c8_i32_1302
  v3013
def k0_off848 (i : grid0.Coords) : Fin 1 → Nat :=
  let c1_i32_1300 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3008 : BitVec 32 := Scalar.subi c1_i32_1300 v11
  ![v3008.toNat]
def k0_off849 (i : grid0.Coords) : Fin 3 → Nat :=
  let c1_i32_1300 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3008 : BitVec 32 := Scalar.subi c1_i32_1300 v11
  let arg1 : BitVec 32 := BitVec.ofNat 32 (i 1).val
  let c256_i32_1299 : BitVec 32 := 256#32
  let v3006 : BitVec 32 := Scalar.muli arg1 c256_i32_1299
  let c210_i32 : BitVec 32 := 210#32
  let v3007 : BitVec 32 := Scalar.addi v3006 c210_i32
  let c8_i32_1302 : BitVec 32 := 8#32
  let v3013 : BitVec 32 := Scalar.muli v3007 c8_i32_1302
  let v3014 : BitVec 32 := v3013
  let c0_i32_1303 : BitVec 32 := 0#32
  ![v3008.toNat, v3014.toNat, 0]
def k0_off850 (v3010 : BitVec 32) : Fin 2 → Nat :=
  let c8_i32_1301 : BitVec 32 := 8#32
  let v3011 : BitVec 32 := Scalar.muli v3010 c8_i32_1301
  let v3012 : BitVec 32 := v3011
  let c0_i32_1304 : BitVec 32 := 0#32
  ![v3012.toNat, 0]

def k0_chk213 (i : grid0.Coords) (v0 : BitVec 32) (v28 : BitVec 32) (v3010 : BitVec 32) : Prop :=
  (∀ (k0_h1 : k0_cond1 i v0 = 1#1), ∀ (k0_h4 : k0_cond4 i v28 = 1#1), 8 ∣ (k0_mult423 v3010).toNat) ∧
  (∀ (k0_h1 : k0_cond1 i v0 = 1#1), ∀ (k0_h4 : k0_cond4 i v28 = 1#1), ∀ a, (k0_off850 v3010) a + S8x128.size a ≤ S262144x128.size a)
theorem k0_mult423_dvd : ∀ (i : grid0.Coords) (v0 : BitVec 32) (v28 : BitVec 32) (v3010 : BitVec 32) (k0_hw213 : k0_chk213 i v0 v28 v3010), ∀ (k0_h1 : k0_cond1 i v0 = 1#1), ∀ (k0_h4 : k0_cond4 i v28 = 1#1), 8 ∣ (k0_mult423 v3010).toNat := fun i v0 v28 v3010 k0_hw213 k0_h1 k0_h4 => k0_hw213.1 k0_h1 k0_h4
theorem k0_off850_inb : ∀ (i : grid0.Coords) (v0 : BitVec 32) (v28 : BitVec 32) (v3010 : BitVec 32) (k0_hw213 : k0_chk213 i v0 v28 v3010), ∀ (k0_h1 : k0_cond1 i v0 = 1#1), ∀ (k0_h4 : k0_cond4 i v28 = 1#1), ∀ a, (k0_off850 v3010) a + S8x128.size a ≤ S262144x128.size a := fun i v0 v28 v3010 k0_hw213 k0_h1 k0_h4 => k0_hw213.2 k0_h1 k0_h4

def k0_off851 (i : grid0.Coords) : Fin 1 → Nat :=
  let arg1 : BitVec 32 := BitVec.ofNat 32 (i 1).val
  let c256_i32_1305 : BitVec 32 := 256#32
  let v3020 : BitVec 32 := Scalar.muli arg1 c256_i32_1305
  let c211_i32 : BitVec 32 := 211#32
  let v3021 : BitVec 32 := Scalar.addi v3020 c211_i32
  let v3023 : Index := Scalar.indexCast v3021
  ![v3023.toNat]
def k0_mult425 (v3024 : BitVec 32) : BitVec 32 :=
  let c8_i32_1307 : BitVec 32 := 8#32
  let v3025 : BitVec 32 := Scalar.muli v3024 c8_i32_1307
  v3025

def k0_mult426 (i : grid0.Coords) : BitVec 32 :=
  let arg1 : BitVec 32 := BitVec.ofNat 32 (i 1).val
  let c256_i32_1305 : BitVec 32 := 256#32
  let v3020 : BitVec 32 := Scalar.muli arg1 c256_i32_1305
  let c211_i32 : BitVec 32 := 211#32
  let v3021 : BitVec 32 := Scalar.addi v3020 c211_i32
  let c8_i32_1308 : BitVec 32 := 8#32
  let v3027 : BitVec 32 := Scalar.muli v3021 c8_i32_1308
  v3027
def k0_off852 (i : grid0.Coords) : Fin 1 → Nat :=
  let c1_i32_1306 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3022 : BitVec 32 := Scalar.subi c1_i32_1306 v11
  ![v3022.toNat]
def k0_off853 (i : grid0.Coords) : Fin 3 → Nat :=
  let c1_i32_1306 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3022 : BitVec 32 := Scalar.subi c1_i32_1306 v11
  let arg1 : BitVec 32 := BitVec.ofNat 32 (i 1).val
  let c256_i32_1305 : BitVec 32 := 256#32
  let v3020 : BitVec 32 := Scalar.muli arg1 c256_i32_1305
  let c211_i32 : BitVec 32 := 211#32
  let v3021 : BitVec 32 := Scalar.addi v3020 c211_i32
  let c8_i32_1308 : BitVec 32 := 8#32
  let v3027 : BitVec 32 := Scalar.muli v3021 c8_i32_1308
  let v3028 : BitVec 32 := v3027
  let c0_i32_1309 : BitVec 32 := 0#32
  ![v3022.toNat, v3028.toNat, 0]
def k0_off854 (v3024 : BitVec 32) : Fin 2 → Nat :=
  let c8_i32_1307 : BitVec 32 := 8#32
  let v3025 : BitVec 32 := Scalar.muli v3024 c8_i32_1307
  let v3026 : BitVec 32 := v3025
  let c0_i32_1310 : BitVec 32 := 0#32
  ![v3026.toNat, 0]

def k0_chk214 (i : grid0.Coords) (v0 : BitVec 32) (v28 : BitVec 32) (v3024 : BitVec 32) : Prop :=
  (∀ (k0_h1 : k0_cond1 i v0 = 1#1), ∀ (k0_h4 : k0_cond4 i v28 = 1#1), 8 ∣ (k0_mult425 v3024).toNat) ∧
  (∀ (k0_h1 : k0_cond1 i v0 = 1#1), ∀ (k0_h4 : k0_cond4 i v28 = 1#1), ∀ a, (k0_off854 v3024) a + S8x128.size a ≤ S262144x128.size a)
theorem k0_mult425_dvd : ∀ (i : grid0.Coords) (v0 : BitVec 32) (v28 : BitVec 32) (v3024 : BitVec 32) (k0_hw214 : k0_chk214 i v0 v28 v3024), ∀ (k0_h1 : k0_cond1 i v0 = 1#1), ∀ (k0_h4 : k0_cond4 i v28 = 1#1), 8 ∣ (k0_mult425 v3024).toNat := fun i v0 v28 v3024 k0_hw214 k0_h1 k0_h4 => k0_hw214.1 k0_h1 k0_h4
theorem k0_off854_inb : ∀ (i : grid0.Coords) (v0 : BitVec 32) (v28 : BitVec 32) (v3024 : BitVec 32) (k0_hw214 : k0_chk214 i v0 v28 v3024), ∀ (k0_h1 : k0_cond1 i v0 = 1#1), ∀ (k0_h4 : k0_cond4 i v28 = 1#1), ∀ a, (k0_off854 v3024) a + S8x128.size a ≤ S262144x128.size a := fun i v0 v28 v3024 k0_hw214 k0_h1 k0_h4 => k0_hw214.2 k0_h1 k0_h4

def k0_off855 (i : grid0.Coords) : Fin 1 → Nat :=
  let arg1 : BitVec 32 := BitVec.ofNat 32 (i 1).val
  let c256_i32_1311 : BitVec 32 := 256#32
  let v3034 : BitVec 32 := Scalar.muli arg1 c256_i32_1311
  let c212_i32 : BitVec 32 := 212#32
  let v3035 : BitVec 32 := Scalar.addi v3034 c212_i32
  let v3037 : Index := Scalar.indexCast v3035
  ![v3037.toNat]
def k0_mult427 (v3038 : BitVec 32) : BitVec 32 :=
  let c8_i32_1313 : BitVec 32 := 8#32
  let v3039 : BitVec 32 := Scalar.muli v3038 c8_i32_1313
  v3039

def k0_mult428 (i : grid0.Coords) : BitVec 32 :=
  let arg1 : BitVec 32 := BitVec.ofNat 32 (i 1).val
  let c256_i32_1311 : BitVec 32 := 256#32
  let v3034 : BitVec 32 := Scalar.muli arg1 c256_i32_1311
  let c212_i32 : BitVec 32 := 212#32
  let v3035 : BitVec 32 := Scalar.addi v3034 c212_i32
  let c8_i32_1314 : BitVec 32 := 8#32
  let v3041 : BitVec 32 := Scalar.muli v3035 c8_i32_1314
  v3041
def k0_off856 (i : grid0.Coords) : Fin 1 → Nat :=
  let c1_i32_1312 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3036 : BitVec 32 := Scalar.subi c1_i32_1312 v11
  ![v3036.toNat]
def k0_off857 (i : grid0.Coords) : Fin 3 → Nat :=
  let c1_i32_1312 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3036 : BitVec 32 := Scalar.subi c1_i32_1312 v11
  let arg1 : BitVec 32 := BitVec.ofNat 32 (i 1).val
  let c256_i32_1311 : BitVec 32 := 256#32
  let v3034 : BitVec 32 := Scalar.muli arg1 c256_i32_1311
  let c212_i32 : BitVec 32 := 212#32
  let v3035 : BitVec 32 := Scalar.addi v3034 c212_i32
  let c8_i32_1314 : BitVec 32 := 8#32
  let v3041 : BitVec 32 := Scalar.muli v3035 c8_i32_1314
  let v3042 : BitVec 32 := v3041
  let c0_i32_1315 : BitVec 32 := 0#32
  ![v3036.toNat, v3042.toNat, 0]
def k0_off858 (v3038 : BitVec 32) : Fin 2 → Nat :=
  let c8_i32_1313 : BitVec 32 := 8#32
  let v3039 : BitVec 32 := Scalar.muli v3038 c8_i32_1313
  let v3040 : BitVec 32 := v3039
  let c0_i32_1316 : BitVec 32 := 0#32
  ![v3040.toNat, 0]

def k0_chk215 (i : grid0.Coords) (v0 : BitVec 32) (v28 : BitVec 32) (v3038 : BitVec 32) : Prop :=
  (∀ (k0_h1 : k0_cond1 i v0 = 1#1), ∀ (k0_h4 : k0_cond4 i v28 = 1#1), 8 ∣ (k0_mult427 v3038).toNat) ∧
  (∀ (k0_h1 : k0_cond1 i v0 = 1#1), ∀ (k0_h4 : k0_cond4 i v28 = 1#1), ∀ a, (k0_off858 v3038) a + S8x128.size a ≤ S262144x128.size a)
theorem k0_mult427_dvd : ∀ (i : grid0.Coords) (v0 : BitVec 32) (v28 : BitVec 32) (v3038 : BitVec 32) (k0_hw215 : k0_chk215 i v0 v28 v3038), ∀ (k0_h1 : k0_cond1 i v0 = 1#1), ∀ (k0_h4 : k0_cond4 i v28 = 1#1), 8 ∣ (k0_mult427 v3038).toNat := fun i v0 v28 v3038 k0_hw215 k0_h1 k0_h4 => k0_hw215.1 k0_h1 k0_h4
theorem k0_off858_inb : ∀ (i : grid0.Coords) (v0 : BitVec 32) (v28 : BitVec 32) (v3038 : BitVec 32) (k0_hw215 : k0_chk215 i v0 v28 v3038), ∀ (k0_h1 : k0_cond1 i v0 = 1#1), ∀ (k0_h4 : k0_cond4 i v28 = 1#1), ∀ a, (k0_off858 v3038) a + S8x128.size a ≤ S262144x128.size a := fun i v0 v28 v3038 k0_hw215 k0_h1 k0_h4 => k0_hw215.2 k0_h1 k0_h4

def k0_off859 (i : grid0.Coords) : Fin 1 → Nat :=
  let arg1 : BitVec 32 := BitVec.ofNat 32 (i 1).val
  let c256_i32_1317 : BitVec 32 := 256#32
  let v3048 : BitVec 32 := Scalar.muli arg1 c256_i32_1317
  let c213_i32 : BitVec 32 := 213#32
  let v3049 : BitVec 32 := Scalar.addi v3048 c213_i32
  let v3051 : Index := Scalar.indexCast v3049
  ![v3051.toNat]
def k0_mult429 (v3052 : BitVec 32) : BitVec 32 :=
  let c8_i32_1319 : BitVec 32 := 8#32
  let v3053 : BitVec 32 := Scalar.muli v3052 c8_i32_1319
  v3053

def k0_mult430 (i : grid0.Coords) : BitVec 32 :=
  let arg1 : BitVec 32 := BitVec.ofNat 32 (i 1).val
  let c256_i32_1317 : BitVec 32 := 256#32
  let v3048 : BitVec 32 := Scalar.muli arg1 c256_i32_1317
  let c213_i32 : BitVec 32 := 213#32
  let v3049 : BitVec 32 := Scalar.addi v3048 c213_i32
  let c8_i32_1320 : BitVec 32 := 8#32
  let v3055 : BitVec 32 := Scalar.muli v3049 c8_i32_1320
  v3055
def k0_off860 (i : grid0.Coords) : Fin 1 → Nat :=
  let c1_i32_1318 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3050 : BitVec 32 := Scalar.subi c1_i32_1318 v11
  ![v3050.toNat]
def k0_off861 (i : grid0.Coords) : Fin 3 → Nat :=
  let c1_i32_1318 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3050 : BitVec 32 := Scalar.subi c1_i32_1318 v11
  let arg1 : BitVec 32 := BitVec.ofNat 32 (i 1).val
  let c256_i32_1317 : BitVec 32 := 256#32
  let v3048 : BitVec 32 := Scalar.muli arg1 c256_i32_1317
  let c213_i32 : BitVec 32 := 213#32
  let v3049 : BitVec 32 := Scalar.addi v3048 c213_i32
  let c8_i32_1320 : BitVec 32 := 8#32
  let v3055 : BitVec 32 := Scalar.muli v3049 c8_i32_1320
  let v3056 : BitVec 32 := v3055
  let c0_i32_1321 : BitVec 32 := 0#32
  ![v3050.toNat, v3056.toNat, 0]
def k0_off862 (v3052 : BitVec 32) : Fin 2 → Nat :=
  let c8_i32_1319 : BitVec 32 := 8#32
  let v3053 : BitVec 32 := Scalar.muli v3052 c8_i32_1319
  let v3054 : BitVec 32 := v3053
  let c0_i32_1322 : BitVec 32 := 0#32
  ![v3054.toNat, 0]

def k0_chk216 (i : grid0.Coords) (v0 : BitVec 32) (v28 : BitVec 32) (v3052 : BitVec 32) : Prop :=
  (∀ (k0_h1 : k0_cond1 i v0 = 1#1), ∀ (k0_h4 : k0_cond4 i v28 = 1#1), 8 ∣ (k0_mult429 v3052).toNat) ∧
  (∀ (k0_h1 : k0_cond1 i v0 = 1#1), ∀ (k0_h4 : k0_cond4 i v28 = 1#1), ∀ a, (k0_off862 v3052) a + S8x128.size a ≤ S262144x128.size a)
theorem k0_mult429_dvd : ∀ (i : grid0.Coords) (v0 : BitVec 32) (v28 : BitVec 32) (v3052 : BitVec 32) (k0_hw216 : k0_chk216 i v0 v28 v3052), ∀ (k0_h1 : k0_cond1 i v0 = 1#1), ∀ (k0_h4 : k0_cond4 i v28 = 1#1), 8 ∣ (k0_mult429 v3052).toNat := fun i v0 v28 v3052 k0_hw216 k0_h1 k0_h4 => k0_hw216.1 k0_h1 k0_h4
theorem k0_off862_inb : ∀ (i : grid0.Coords) (v0 : BitVec 32) (v28 : BitVec 32) (v3052 : BitVec 32) (k0_hw216 : k0_chk216 i v0 v28 v3052), ∀ (k0_h1 : k0_cond1 i v0 = 1#1), ∀ (k0_h4 : k0_cond4 i v28 = 1#1), ∀ a, (k0_off862 v3052) a + S8x128.size a ≤ S262144x128.size a := fun i v0 v28 v3052 k0_hw216 k0_h1 k0_h4 => k0_hw216.2 k0_h1 k0_h4

def k0_off863 (i : grid0.Coords) : Fin 1 → Nat :=
  let arg1 : BitVec 32 := BitVec.ofNat 32 (i 1).val
  let c256_i32_1323 : BitVec 32 := 256#32
  let v3062 : BitVec 32 := Scalar.muli arg1 c256_i32_1323
  let c214_i32 : BitVec 32 := 214#32
  let v3063 : BitVec 32 := Scalar.addi v3062 c214_i32
  let v3065 : Index := Scalar.indexCast v3063
  ![v3065.toNat]
def k0_mult431 (v3066 : BitVec 32) : BitVec 32 :=
  let c8_i32_1325 : BitVec 32 := 8#32
  let v3067 : BitVec 32 := Scalar.muli v3066 c8_i32_1325
  v3067

def k0_mult432 (i : grid0.Coords) : BitVec 32 :=
  let arg1 : BitVec 32 := BitVec.ofNat 32 (i 1).val
  let c256_i32_1323 : BitVec 32 := 256#32
  let v3062 : BitVec 32 := Scalar.muli arg1 c256_i32_1323
  let c214_i32 : BitVec 32 := 214#32
  let v3063 : BitVec 32 := Scalar.addi v3062 c214_i32
  let c8_i32_1326 : BitVec 32 := 8#32
  let v3069 : BitVec 32 := Scalar.muli v3063 c8_i32_1326
  v3069
def k0_off864 (i : grid0.Coords) : Fin 1 → Nat :=
  let c1_i32_1324 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3064 : BitVec 32 := Scalar.subi c1_i32_1324 v11
  ![v3064.toNat]
def k0_off865 (i : grid0.Coords) : Fin 3 → Nat :=
  let c1_i32_1324 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3064 : BitVec 32 := Scalar.subi c1_i32_1324 v11
  let arg1 : BitVec 32 := BitVec.ofNat 32 (i 1).val
  let c256_i32_1323 : BitVec 32 := 256#32
  let v3062 : BitVec 32 := Scalar.muli arg1 c256_i32_1323
  let c214_i32 : BitVec 32 := 214#32
  let v3063 : BitVec 32 := Scalar.addi v3062 c214_i32
  let c8_i32_1326 : BitVec 32 := 8#32
  let v3069 : BitVec 32 := Scalar.muli v3063 c8_i32_1326
  let v3070 : BitVec 32 := v3069
  let c0_i32_1327 : BitVec 32 := 0#32
  ![v3064.toNat, v3070.toNat, 0]
def k0_off866 (v3066 : BitVec 32) : Fin 2 → Nat :=
  let c8_i32_1325 : BitVec 32 := 8#32
  let v3067 : BitVec 32 := Scalar.muli v3066 c8_i32_1325
  let v3068 : BitVec 32 := v3067
  let c0_i32_1328 : BitVec 32 := 0#32
  ![v3068.toNat, 0]

def k0_chk217 (i : grid0.Coords) (v0 : BitVec 32) (v28 : BitVec 32) (v3066 : BitVec 32) : Prop :=
  (∀ (k0_h1 : k0_cond1 i v0 = 1#1), ∀ (k0_h4 : k0_cond4 i v28 = 1#1), 8 ∣ (k0_mult431 v3066).toNat) ∧
  (∀ (k0_h1 : k0_cond1 i v0 = 1#1), ∀ (k0_h4 : k0_cond4 i v28 = 1#1), ∀ a, (k0_off866 v3066) a + S8x128.size a ≤ S262144x128.size a)
theorem k0_mult431_dvd : ∀ (i : grid0.Coords) (v0 : BitVec 32) (v28 : BitVec 32) (v3066 : BitVec 32) (k0_hw217 : k0_chk217 i v0 v28 v3066), ∀ (k0_h1 : k0_cond1 i v0 = 1#1), ∀ (k0_h4 : k0_cond4 i v28 = 1#1), 8 ∣ (k0_mult431 v3066).toNat := fun i v0 v28 v3066 k0_hw217 k0_h1 k0_h4 => k0_hw217.1 k0_h1 k0_h4
theorem k0_off866_inb : ∀ (i : grid0.Coords) (v0 : BitVec 32) (v28 : BitVec 32) (v3066 : BitVec 32) (k0_hw217 : k0_chk217 i v0 v28 v3066), ∀ (k0_h1 : k0_cond1 i v0 = 1#1), ∀ (k0_h4 : k0_cond4 i v28 = 1#1), ∀ a, (k0_off866 v3066) a + S8x128.size a ≤ S262144x128.size a := fun i v0 v28 v3066 k0_hw217 k0_h1 k0_h4 => k0_hw217.2 k0_h1 k0_h4

def k0_off867 (i : grid0.Coords) : Fin 1 → Nat :=
  let arg1 : BitVec 32 := BitVec.ofNat 32 (i 1).val
  let c256_i32_1329 : BitVec 32 := 256#32
  let v3076 : BitVec 32 := Scalar.muli arg1 c256_i32_1329
  let c215_i32 : BitVec 32 := 215#32
  let v3077 : BitVec 32 := Scalar.addi v3076 c215_i32
  let v3079 : Index := Scalar.indexCast v3077
  ![v3079.toNat]
def k0_mult433 (v3080 : BitVec 32) : BitVec 32 :=
  let c8_i32_1331 : BitVec 32 := 8#32
  let v3081 : BitVec 32 := Scalar.muli v3080 c8_i32_1331
  v3081

def k0_mult434 (i : grid0.Coords) : BitVec 32 :=
  let arg1 : BitVec 32 := BitVec.ofNat 32 (i 1).val
  let c256_i32_1329 : BitVec 32 := 256#32
  let v3076 : BitVec 32 := Scalar.muli arg1 c256_i32_1329
  let c215_i32 : BitVec 32 := 215#32
  let v3077 : BitVec 32 := Scalar.addi v3076 c215_i32
  let c8_i32_1332 : BitVec 32 := 8#32
  let v3083 : BitVec 32 := Scalar.muli v3077 c8_i32_1332
  v3083
def k0_off868 (i : grid0.Coords) : Fin 1 → Nat :=
  let c1_i32_1330 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3078 : BitVec 32 := Scalar.subi c1_i32_1330 v11
  ![v3078.toNat]
def k0_off869 (i : grid0.Coords) : Fin 3 → Nat :=
  let c1_i32_1330 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3078 : BitVec 32 := Scalar.subi c1_i32_1330 v11
  let arg1 : BitVec 32 := BitVec.ofNat 32 (i 1).val
  let c256_i32_1329 : BitVec 32 := 256#32
  let v3076 : BitVec 32 := Scalar.muli arg1 c256_i32_1329
  let c215_i32 : BitVec 32 := 215#32
  let v3077 : BitVec 32 := Scalar.addi v3076 c215_i32
  let c8_i32_1332 : BitVec 32 := 8#32
  let v3083 : BitVec 32 := Scalar.muli v3077 c8_i32_1332
  let v3084 : BitVec 32 := v3083
  let c0_i32_1333 : BitVec 32 := 0#32
  ![v3078.toNat, v3084.toNat, 0]
def k0_off870 (v3080 : BitVec 32) : Fin 2 → Nat :=
  let c8_i32_1331 : BitVec 32 := 8#32
  let v3081 : BitVec 32 := Scalar.muli v3080 c8_i32_1331
  let v3082 : BitVec 32 := v3081
  let c0_i32_1334 : BitVec 32 := 0#32
  ![v3082.toNat, 0]

def k0_chk218 (i : grid0.Coords) (v0 : BitVec 32) (v28 : BitVec 32) (v3080 : BitVec 32) : Prop :=
  (∀ (k0_h1 : k0_cond1 i v0 = 1#1), ∀ (k0_h4 : k0_cond4 i v28 = 1#1), 8 ∣ (k0_mult433 v3080).toNat) ∧
  (∀ (k0_h1 : k0_cond1 i v0 = 1#1), ∀ (k0_h4 : k0_cond4 i v28 = 1#1), ∀ a, (k0_off870 v3080) a + S8x128.size a ≤ S262144x128.size a)
theorem k0_mult433_dvd : ∀ (i : grid0.Coords) (v0 : BitVec 32) (v28 : BitVec 32) (v3080 : BitVec 32) (k0_hw218 : k0_chk218 i v0 v28 v3080), ∀ (k0_h1 : k0_cond1 i v0 = 1#1), ∀ (k0_h4 : k0_cond4 i v28 = 1#1), 8 ∣ (k0_mult433 v3080).toNat := fun i v0 v28 v3080 k0_hw218 k0_h1 k0_h4 => k0_hw218.1 k0_h1 k0_h4
theorem k0_off870_inb : ∀ (i : grid0.Coords) (v0 : BitVec 32) (v28 : BitVec 32) (v3080 : BitVec 32) (k0_hw218 : k0_chk218 i v0 v28 v3080), ∀ (k0_h1 : k0_cond1 i v0 = 1#1), ∀ (k0_h4 : k0_cond4 i v28 = 1#1), ∀ a, (k0_off870 v3080) a + S8x128.size a ≤ S262144x128.size a := fun i v0 v28 v3080 k0_hw218 k0_h1 k0_h4 => k0_hw218.2 k0_h1 k0_h4

def k0_off871 (i : grid0.Coords) : Fin 1 → Nat :=
  let arg1 : BitVec 32 := BitVec.ofNat 32 (i 1).val
  let c256_i32_1335 : BitVec 32 := 256#32
  let v3090 : BitVec 32 := Scalar.muli arg1 c256_i32_1335
  let c216_i32 : BitVec 32 := 216#32
  let v3091 : BitVec 32 := Scalar.addi v3090 c216_i32
  let v3093 : Index := Scalar.indexCast v3091
  ![v3093.toNat]
def k0_mult435 (v3094 : BitVec 32) : BitVec 32 :=
  let c8_i32_1337 : BitVec 32 := 8#32
  let v3095 : BitVec 32 := Scalar.muli v3094 c8_i32_1337
  v3095

def k0_mult436 (i : grid0.Coords) : BitVec 32 :=
  let arg1 : BitVec 32 := BitVec.ofNat 32 (i 1).val
  let c256_i32_1335 : BitVec 32 := 256#32
  let v3090 : BitVec 32 := Scalar.muli arg1 c256_i32_1335
  let c216_i32 : BitVec 32 := 216#32
  let v3091 : BitVec 32 := Scalar.addi v3090 c216_i32
  let c8_i32_1338 : BitVec 32 := 8#32
  let v3097 : BitVec 32 := Scalar.muli v3091 c8_i32_1338
  v3097
def k0_off872 (i : grid0.Coords) : Fin 1 → Nat :=
  let c1_i32_1336 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3092 : BitVec 32 := Scalar.subi c1_i32_1336 v11
  ![v3092.toNat]
def k0_off873 (i : grid0.Coords) : Fin 3 → Nat :=
  let c1_i32_1336 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3092 : BitVec 32 := Scalar.subi c1_i32_1336 v11
  let arg1 : BitVec 32 := BitVec.ofNat 32 (i 1).val
  let c256_i32_1335 : BitVec 32 := 256#32
  let v3090 : BitVec 32 := Scalar.muli arg1 c256_i32_1335
  let c216_i32 : BitVec 32 := 216#32
  let v3091 : BitVec 32 := Scalar.addi v3090 c216_i32
  let c8_i32_1338 : BitVec 32 := 8#32
  let v3097 : BitVec 32 := Scalar.muli v3091 c8_i32_1338
  let v3098 : BitVec 32 := v3097
  let c0_i32_1339 : BitVec 32 := 0#32
  ![v3092.toNat, v3098.toNat, 0]
def k0_off874 (v3094 : BitVec 32) : Fin 2 → Nat :=
  let c8_i32_1337 : BitVec 32 := 8#32
  let v3095 : BitVec 32 := Scalar.muli v3094 c8_i32_1337
  let v3096 : BitVec 32 := v3095
  let c0_i32_1340 : BitVec 32 := 0#32
  ![v3096.toNat, 0]

def k0_chk219 (i : grid0.Coords) (v0 : BitVec 32) (v28 : BitVec 32) (v3094 : BitVec 32) : Prop :=
  (∀ (k0_h1 : k0_cond1 i v0 = 1#1), ∀ (k0_h4 : k0_cond4 i v28 = 1#1), 8 ∣ (k0_mult435 v3094).toNat) ∧
  (∀ (k0_h1 : k0_cond1 i v0 = 1#1), ∀ (k0_h4 : k0_cond4 i v28 = 1#1), ∀ a, (k0_off874 v3094) a + S8x128.size a ≤ S262144x128.size a)
theorem k0_mult435_dvd : ∀ (i : grid0.Coords) (v0 : BitVec 32) (v28 : BitVec 32) (v3094 : BitVec 32) (k0_hw219 : k0_chk219 i v0 v28 v3094), ∀ (k0_h1 : k0_cond1 i v0 = 1#1), ∀ (k0_h4 : k0_cond4 i v28 = 1#1), 8 ∣ (k0_mult435 v3094).toNat := fun i v0 v28 v3094 k0_hw219 k0_h1 k0_h4 => k0_hw219.1 k0_h1 k0_h4
theorem k0_off874_inb : ∀ (i : grid0.Coords) (v0 : BitVec 32) (v28 : BitVec 32) (v3094 : BitVec 32) (k0_hw219 : k0_chk219 i v0 v28 v3094), ∀ (k0_h1 : k0_cond1 i v0 = 1#1), ∀ (k0_h4 : k0_cond4 i v28 = 1#1), ∀ a, (k0_off874 v3094) a + S8x128.size a ≤ S262144x128.size a := fun i v0 v28 v3094 k0_hw219 k0_h1 k0_h4 => k0_hw219.2 k0_h1 k0_h4

def k0_off875 (i : grid0.Coords) : Fin 1 → Nat :=
  let arg1 : BitVec 32 := BitVec.ofNat 32 (i 1).val
  let c256_i32_1341 : BitVec 32 := 256#32
  let v3104 : BitVec 32 := Scalar.muli arg1 c256_i32_1341
  let c217_i32 : BitVec 32 := 217#32
  let v3105 : BitVec 32 := Scalar.addi v3104 c217_i32
  let v3107 : Index := Scalar.indexCast v3105
  ![v3107.toNat]
def k0_mult437 (v3108 : BitVec 32) : BitVec 32 :=
  let c8_i32_1343 : BitVec 32 := 8#32
  let v3109 : BitVec 32 := Scalar.muli v3108 c8_i32_1343
  v3109

def k0_mult438 (i : grid0.Coords) : BitVec 32 :=
  let arg1 : BitVec 32 := BitVec.ofNat 32 (i 1).val
  let c256_i32_1341 : BitVec 32 := 256#32
  let v3104 : BitVec 32 := Scalar.muli arg1 c256_i32_1341
  let c217_i32 : BitVec 32 := 217#32
  let v3105 : BitVec 32 := Scalar.addi v3104 c217_i32
  let c8_i32_1344 : BitVec 32 := 8#32
  let v3111 : BitVec 32 := Scalar.muli v3105 c8_i32_1344
  v3111
def k0_off876 (i : grid0.Coords) : Fin 1 → Nat :=
  let c1_i32_1342 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3106 : BitVec 32 := Scalar.subi c1_i32_1342 v11
  ![v3106.toNat]
def k0_off877 (i : grid0.Coords) : Fin 3 → Nat :=
  let c1_i32_1342 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3106 : BitVec 32 := Scalar.subi c1_i32_1342 v11
  let arg1 : BitVec 32 := BitVec.ofNat 32 (i 1).val
  let c256_i32_1341 : BitVec 32 := 256#32
  let v3104 : BitVec 32 := Scalar.muli arg1 c256_i32_1341
  let c217_i32 : BitVec 32 := 217#32
  let v3105 : BitVec 32 := Scalar.addi v3104 c217_i32
  let c8_i32_1344 : BitVec 32 := 8#32
  let v3111 : BitVec 32 := Scalar.muli v3105 c8_i32_1344
  let v3112 : BitVec 32 := v3111
  let c0_i32_1345 : BitVec 32 := 0#32
  ![v3106.toNat, v3112.toNat, 0]
def k0_off878 (v3108 : BitVec 32) : Fin 2 → Nat :=
  let c8_i32_1343 : BitVec 32 := 8#32
  let v3109 : BitVec 32 := Scalar.muli v3108 c8_i32_1343
  let v3110 : BitVec 32 := v3109
  let c0_i32_1346 : BitVec 32 := 0#32
  ![v3110.toNat, 0]

def k0_chk220 (i : grid0.Coords) (v0 : BitVec 32) (v28 : BitVec 32) (v3108 : BitVec 32) : Prop :=
  (∀ (k0_h1 : k0_cond1 i v0 = 1#1), ∀ (k0_h4 : k0_cond4 i v28 = 1#1), 8 ∣ (k0_mult437 v3108).toNat) ∧
  (∀ (k0_h1 : k0_cond1 i v0 = 1#1), ∀ (k0_h4 : k0_cond4 i v28 = 1#1), ∀ a, (k0_off878 v3108) a + S8x128.size a ≤ S262144x128.size a)
theorem k0_mult437_dvd : ∀ (i : grid0.Coords) (v0 : BitVec 32) (v28 : BitVec 32) (v3108 : BitVec 32) (k0_hw220 : k0_chk220 i v0 v28 v3108), ∀ (k0_h1 : k0_cond1 i v0 = 1#1), ∀ (k0_h4 : k0_cond4 i v28 = 1#1), 8 ∣ (k0_mult437 v3108).toNat := fun i v0 v28 v3108 k0_hw220 k0_h1 k0_h4 => k0_hw220.1 k0_h1 k0_h4
theorem k0_off878_inb : ∀ (i : grid0.Coords) (v0 : BitVec 32) (v28 : BitVec 32) (v3108 : BitVec 32) (k0_hw220 : k0_chk220 i v0 v28 v3108), ∀ (k0_h1 : k0_cond1 i v0 = 1#1), ∀ (k0_h4 : k0_cond4 i v28 = 1#1), ∀ a, (k0_off878 v3108) a + S8x128.size a ≤ S262144x128.size a := fun i v0 v28 v3108 k0_hw220 k0_h1 k0_h4 => k0_hw220.2 k0_h1 k0_h4

def k0_off879 (i : grid0.Coords) : Fin 1 → Nat :=
  let arg1 : BitVec 32 := BitVec.ofNat 32 (i 1).val
  let c256_i32_1347 : BitVec 32 := 256#32
  let v3118 : BitVec 32 := Scalar.muli arg1 c256_i32_1347
  let c218_i32 : BitVec 32 := 218#32
  let v3119 : BitVec 32 := Scalar.addi v3118 c218_i32
  let v3121 : Index := Scalar.indexCast v3119
  ![v3121.toNat]
def k0_mult439 (v3122 : BitVec 32) : BitVec 32 :=
  let c8_i32_1349 : BitVec 32 := 8#32
  let v3123 : BitVec 32 := Scalar.muli v3122 c8_i32_1349
  v3123

def k0_mult440 (i : grid0.Coords) : BitVec 32 :=
  let arg1 : BitVec 32 := BitVec.ofNat 32 (i 1).val
  let c256_i32_1347 : BitVec 32 := 256#32
  let v3118 : BitVec 32 := Scalar.muli arg1 c256_i32_1347
  let c218_i32 : BitVec 32 := 218#32
  let v3119 : BitVec 32 := Scalar.addi v3118 c218_i32
  let c8_i32_1350 : BitVec 32 := 8#32
  let v3125 : BitVec 32 := Scalar.muli v3119 c8_i32_1350
  v3125
def k0_off880 (i : grid0.Coords) : Fin 1 → Nat :=
  let c1_i32_1348 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3120 : BitVec 32 := Scalar.subi c1_i32_1348 v11
  ![v3120.toNat]
def k0_off881 (i : grid0.Coords) : Fin 3 → Nat :=
  let c1_i32_1348 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3120 : BitVec 32 := Scalar.subi c1_i32_1348 v11
  let arg1 : BitVec 32 := BitVec.ofNat 32 (i 1).val
  let c256_i32_1347 : BitVec 32 := 256#32
  let v3118 : BitVec 32 := Scalar.muli arg1 c256_i32_1347
  let c218_i32 : BitVec 32 := 218#32
  let v3119 : BitVec 32 := Scalar.addi v3118 c218_i32
  let c8_i32_1350 : BitVec 32 := 8#32
  let v3125 : BitVec 32 := Scalar.muli v3119 c8_i32_1350
  let v3126 : BitVec 32 := v3125
  let c0_i32_1351 : BitVec 32 := 0#32
  ![v3120.toNat, v3126.toNat, 0]
def k0_off882 (v3122 : BitVec 32) : Fin 2 → Nat :=
  let c8_i32_1349 : BitVec 32 := 8#32
  let v3123 : BitVec 32 := Scalar.muli v3122 c8_i32_1349
  let v3124 : BitVec 32 := v3123
  let c0_i32_1352 : BitVec 32 := 0#32
  ![v3124.toNat, 0]

def k0_chk221 (i : grid0.Coords) (v0 : BitVec 32) (v28 : BitVec 32) (v3122 : BitVec 32) : Prop :=
  (∀ (k0_h1 : k0_cond1 i v0 = 1#1), ∀ (k0_h4 : k0_cond4 i v28 = 1#1), 8 ∣ (k0_mult439 v3122).toNat) ∧
  (∀ (k0_h1 : k0_cond1 i v0 = 1#1), ∀ (k0_h4 : k0_cond4 i v28 = 1#1), ∀ a, (k0_off882 v3122) a + S8x128.size a ≤ S262144x128.size a)
theorem k0_mult439_dvd : ∀ (i : grid0.Coords) (v0 : BitVec 32) (v28 : BitVec 32) (v3122 : BitVec 32) (k0_hw221 : k0_chk221 i v0 v28 v3122), ∀ (k0_h1 : k0_cond1 i v0 = 1#1), ∀ (k0_h4 : k0_cond4 i v28 = 1#1), 8 ∣ (k0_mult439 v3122).toNat := fun i v0 v28 v3122 k0_hw221 k0_h1 k0_h4 => k0_hw221.1 k0_h1 k0_h4
theorem k0_off882_inb : ∀ (i : grid0.Coords) (v0 : BitVec 32) (v28 : BitVec 32) (v3122 : BitVec 32) (k0_hw221 : k0_chk221 i v0 v28 v3122), ∀ (k0_h1 : k0_cond1 i v0 = 1#1), ∀ (k0_h4 : k0_cond4 i v28 = 1#1), ∀ a, (k0_off882 v3122) a + S8x128.size a ≤ S262144x128.size a := fun i v0 v28 v3122 k0_hw221 k0_h1 k0_h4 => k0_hw221.2 k0_h1 k0_h4

def k0_off883 (i : grid0.Coords) : Fin 1 → Nat :=
  let arg1 : BitVec 32 := BitVec.ofNat 32 (i 1).val
  let c256_i32_1353 : BitVec 32 := 256#32
  let v3132 : BitVec 32 := Scalar.muli arg1 c256_i32_1353
  let c219_i32 : BitVec 32 := 219#32
  let v3133 : BitVec 32 := Scalar.addi v3132 c219_i32
  let v3135 : Index := Scalar.indexCast v3133
  ![v3135.toNat]
def k0_mult441 (v3136 : BitVec 32) : BitVec 32 :=
  let c8_i32_1355 : BitVec 32 := 8#32
  let v3137 : BitVec 32 := Scalar.muli v3136 c8_i32_1355
  v3137

def k0_mult442 (i : grid0.Coords) : BitVec 32 :=
  let arg1 : BitVec 32 := BitVec.ofNat 32 (i 1).val
  let c256_i32_1353 : BitVec 32 := 256#32
  let v3132 : BitVec 32 := Scalar.muli arg1 c256_i32_1353
  let c219_i32 : BitVec 32 := 219#32
  let v3133 : BitVec 32 := Scalar.addi v3132 c219_i32
  let c8_i32_1356 : BitVec 32 := 8#32
  let v3139 : BitVec 32 := Scalar.muli v3133 c8_i32_1356
  v3139
def k0_off884 (i : grid0.Coords) : Fin 1 → Nat :=
  let c1_i32_1354 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3134 : BitVec 32 := Scalar.subi c1_i32_1354 v11
  ![v3134.toNat]
def k0_off885 (i : grid0.Coords) : Fin 3 → Nat :=
  let c1_i32_1354 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3134 : BitVec 32 := Scalar.subi c1_i32_1354 v11
  let arg1 : BitVec 32 := BitVec.ofNat 32 (i 1).val
  let c256_i32_1353 : BitVec 32 := 256#32
  let v3132 : BitVec 32 := Scalar.muli arg1 c256_i32_1353
  let c219_i32 : BitVec 32 := 219#32
  let v3133 : BitVec 32 := Scalar.addi v3132 c219_i32
  let c8_i32_1356 : BitVec 32 := 8#32
  let v3139 : BitVec 32 := Scalar.muli v3133 c8_i32_1356
  let v3140 : BitVec 32 := v3139
  let c0_i32_1357 : BitVec 32 := 0#32
  ![v3134.toNat, v3140.toNat, 0]
def k0_off886 (v3136 : BitVec 32) : Fin 2 → Nat :=
  let c8_i32_1355 : BitVec 32 := 8#32
  let v3137 : BitVec 32 := Scalar.muli v3136 c8_i32_1355
  let v3138 : BitVec 32 := v3137
  let c0_i32_1358 : BitVec 32 := 0#32
  ![v3138.toNat, 0]

def k0_chk222 (i : grid0.Coords) (v0 : BitVec 32) (v28 : BitVec 32) (v3136 : BitVec 32) : Prop :=
  (∀ (k0_h1 : k0_cond1 i v0 = 1#1), ∀ (k0_h4 : k0_cond4 i v28 = 1#1), 8 ∣ (k0_mult441 v3136).toNat) ∧
  (∀ (k0_h1 : k0_cond1 i v0 = 1#1), ∀ (k0_h4 : k0_cond4 i v28 = 1#1), ∀ a, (k0_off886 v3136) a + S8x128.size a ≤ S262144x128.size a)
theorem k0_mult441_dvd : ∀ (i : grid0.Coords) (v0 : BitVec 32) (v28 : BitVec 32) (v3136 : BitVec 32) (k0_hw222 : k0_chk222 i v0 v28 v3136), ∀ (k0_h1 : k0_cond1 i v0 = 1#1), ∀ (k0_h4 : k0_cond4 i v28 = 1#1), 8 ∣ (k0_mult441 v3136).toNat := fun i v0 v28 v3136 k0_hw222 k0_h1 k0_h4 => k0_hw222.1 k0_h1 k0_h4
theorem k0_off886_inb : ∀ (i : grid0.Coords) (v0 : BitVec 32) (v28 : BitVec 32) (v3136 : BitVec 32) (k0_hw222 : k0_chk222 i v0 v28 v3136), ∀ (k0_h1 : k0_cond1 i v0 = 1#1), ∀ (k0_h4 : k0_cond4 i v28 = 1#1), ∀ a, (k0_off886 v3136) a + S8x128.size a ≤ S262144x128.size a := fun i v0 v28 v3136 k0_hw222 k0_h1 k0_h4 => k0_hw222.2 k0_h1 k0_h4

def k0_off887 (i : grid0.Coords) : Fin 1 → Nat :=
  let arg1 : BitVec 32 := BitVec.ofNat 32 (i 1).val
  let c256_i32_1359 : BitVec 32 := 256#32
  let v3146 : BitVec 32 := Scalar.muli arg1 c256_i32_1359
  let c220_i32 : BitVec 32 := 220#32
  let v3147 : BitVec 32 := Scalar.addi v3146 c220_i32
  let v3149 : Index := Scalar.indexCast v3147
  ![v3149.toNat]
def k0_mult443 (v3150 : BitVec 32) : BitVec 32 :=
  let c8_i32_1361 : BitVec 32 := 8#32
  let v3151 : BitVec 32 := Scalar.muli v3150 c8_i32_1361
  v3151

def k0_mult444 (i : grid0.Coords) : BitVec 32 :=
  let arg1 : BitVec 32 := BitVec.ofNat 32 (i 1).val
  let c256_i32_1359 : BitVec 32 := 256#32
  let v3146 : BitVec 32 := Scalar.muli arg1 c256_i32_1359
  let c220_i32 : BitVec 32 := 220#32
  let v3147 : BitVec 32 := Scalar.addi v3146 c220_i32
  let c8_i32_1362 : BitVec 32 := 8#32
  let v3153 : BitVec 32 := Scalar.muli v3147 c8_i32_1362
  v3153
def k0_off888 (i : grid0.Coords) : Fin 1 → Nat :=
  let c1_i32_1360 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3148 : BitVec 32 := Scalar.subi c1_i32_1360 v11
  ![v3148.toNat]
def k0_off889 (i : grid0.Coords) : Fin 3 → Nat :=
  let c1_i32_1360 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3148 : BitVec 32 := Scalar.subi c1_i32_1360 v11
  let arg1 : BitVec 32 := BitVec.ofNat 32 (i 1).val
  let c256_i32_1359 : BitVec 32 := 256#32
  let v3146 : BitVec 32 := Scalar.muli arg1 c256_i32_1359
  let c220_i32 : BitVec 32 := 220#32
  let v3147 : BitVec 32 := Scalar.addi v3146 c220_i32
  let c8_i32_1362 : BitVec 32 := 8#32
  let v3153 : BitVec 32 := Scalar.muli v3147 c8_i32_1362
  let v3154 : BitVec 32 := v3153
  let c0_i32_1363 : BitVec 32 := 0#32
  ![v3148.toNat, v3154.toNat, 0]
def k0_off890 (v3150 : BitVec 32) : Fin 2 → Nat :=
  let c8_i32_1361 : BitVec 32 := 8#32
  let v3151 : BitVec 32 := Scalar.muli v3150 c8_i32_1361
  let v3152 : BitVec 32 := v3151
  let c0_i32_1364 : BitVec 32 := 0#32
  ![v3152.toNat, 0]

def k0_chk223 (i : grid0.Coords) (v0 : BitVec 32) (v28 : BitVec 32) (v3150 : BitVec 32) : Prop :=
  (∀ (k0_h1 : k0_cond1 i v0 = 1#1), ∀ (k0_h4 : k0_cond4 i v28 = 1#1), 8 ∣ (k0_mult443 v3150).toNat) ∧
  (∀ (k0_h1 : k0_cond1 i v0 = 1#1), ∀ (k0_h4 : k0_cond4 i v28 = 1#1), ∀ a, (k0_off890 v3150) a + S8x128.size a ≤ S262144x128.size a)
theorem k0_mult443_dvd : ∀ (i : grid0.Coords) (v0 : BitVec 32) (v28 : BitVec 32) (v3150 : BitVec 32) (k0_hw223 : k0_chk223 i v0 v28 v3150), ∀ (k0_h1 : k0_cond1 i v0 = 1#1), ∀ (k0_h4 : k0_cond4 i v28 = 1#1), 8 ∣ (k0_mult443 v3150).toNat := fun i v0 v28 v3150 k0_hw223 k0_h1 k0_h4 => k0_hw223.1 k0_h1 k0_h4
theorem k0_off890_inb : ∀ (i : grid0.Coords) (v0 : BitVec 32) (v28 : BitVec 32) (v3150 : BitVec 32) (k0_hw223 : k0_chk223 i v0 v28 v3150), ∀ (k0_h1 : k0_cond1 i v0 = 1#1), ∀ (k0_h4 : k0_cond4 i v28 = 1#1), ∀ a, (k0_off890 v3150) a + S8x128.size a ≤ S262144x128.size a := fun i v0 v28 v3150 k0_hw223 k0_h1 k0_h4 => k0_hw223.2 k0_h1 k0_h4

def k0_off891 (i : grid0.Coords) : Fin 1 → Nat :=
  let arg1 : BitVec 32 := BitVec.ofNat 32 (i 1).val
  let c256_i32_1365 : BitVec 32 := 256#32
  let v3160 : BitVec 32 := Scalar.muli arg1 c256_i32_1365
  let c221_i32 : BitVec 32 := 221#32
  let v3161 : BitVec 32 := Scalar.addi v3160 c221_i32
  let v3163 : Index := Scalar.indexCast v3161
  ![v3163.toNat]
def k0_mult445 (v3164 : BitVec 32) : BitVec 32 :=
  let c8_i32_1367 : BitVec 32 := 8#32
  let v3165 : BitVec 32 := Scalar.muli v3164 c8_i32_1367
  v3165

def k0_mult446 (i : grid0.Coords) : BitVec 32 :=
  let arg1 : BitVec 32 := BitVec.ofNat 32 (i 1).val
  let c256_i32_1365 : BitVec 32 := 256#32
  let v3160 : BitVec 32 := Scalar.muli arg1 c256_i32_1365
  let c221_i32 : BitVec 32 := 221#32
  let v3161 : BitVec 32 := Scalar.addi v3160 c221_i32
  let c8_i32_1368 : BitVec 32 := 8#32
  let v3167 : BitVec 32 := Scalar.muli v3161 c8_i32_1368
  v3167
def k0_off892 (i : grid0.Coords) : Fin 1 → Nat :=
  let c1_i32_1366 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3162 : BitVec 32 := Scalar.subi c1_i32_1366 v11
  ![v3162.toNat]
def k0_off893 (i : grid0.Coords) : Fin 3 → Nat :=
  let c1_i32_1366 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3162 : BitVec 32 := Scalar.subi c1_i32_1366 v11
  let arg1 : BitVec 32 := BitVec.ofNat 32 (i 1).val
  let c256_i32_1365 : BitVec 32 := 256#32
  let v3160 : BitVec 32 := Scalar.muli arg1 c256_i32_1365
  let c221_i32 : BitVec 32 := 221#32
  let v3161 : BitVec 32 := Scalar.addi v3160 c221_i32
  let c8_i32_1368 : BitVec 32 := 8#32
  let v3167 : BitVec 32 := Scalar.muli v3161 c8_i32_1368
  let v3168 : BitVec 32 := v3167
  let c0_i32_1369 : BitVec 32 := 0#32
  ![v3162.toNat, v3168.toNat, 0]
def k0_off894 (v3164 : BitVec 32) : Fin 2 → Nat :=
  let c8_i32_1367 : BitVec 32 := 8#32
  let v3165 : BitVec 32 := Scalar.muli v3164 c8_i32_1367
  let v3166 : BitVec 32 := v3165
  let c0_i32_1370 : BitVec 32 := 0#32
  ![v3166.toNat, 0]

def k0_chk224 (i : grid0.Coords) (v0 : BitVec 32) (v28 : BitVec 32) (v3164 : BitVec 32) : Prop :=
  (∀ (k0_h1 : k0_cond1 i v0 = 1#1), ∀ (k0_h4 : k0_cond4 i v28 = 1#1), 8 ∣ (k0_mult445 v3164).toNat) ∧
  (∀ (k0_h1 : k0_cond1 i v0 = 1#1), ∀ (k0_h4 : k0_cond4 i v28 = 1#1), ∀ a, (k0_off894 v3164) a + S8x128.size a ≤ S262144x128.size a)
theorem k0_mult445_dvd : ∀ (i : grid0.Coords) (v0 : BitVec 32) (v28 : BitVec 32) (v3164 : BitVec 32) (k0_hw224 : k0_chk224 i v0 v28 v3164), ∀ (k0_h1 : k0_cond1 i v0 = 1#1), ∀ (k0_h4 : k0_cond4 i v28 = 1#1), 8 ∣ (k0_mult445 v3164).toNat := fun i v0 v28 v3164 k0_hw224 k0_h1 k0_h4 => k0_hw224.1 k0_h1 k0_h4
theorem k0_off894_inb : ∀ (i : grid0.Coords) (v0 : BitVec 32) (v28 : BitVec 32) (v3164 : BitVec 32) (k0_hw224 : k0_chk224 i v0 v28 v3164), ∀ (k0_h1 : k0_cond1 i v0 = 1#1), ∀ (k0_h4 : k0_cond4 i v28 = 1#1), ∀ a, (k0_off894 v3164) a + S8x128.size a ≤ S262144x128.size a := fun i v0 v28 v3164 k0_hw224 k0_h1 k0_h4 => k0_hw224.2 k0_h1 k0_h4

def k0_off895 (i : grid0.Coords) : Fin 1 → Nat :=
  let arg1 : BitVec 32 := BitVec.ofNat 32 (i 1).val
  let c256_i32_1371 : BitVec 32 := 256#32
  let v3174 : BitVec 32 := Scalar.muli arg1 c256_i32_1371
  let c222_i32 : BitVec 32 := 222#32
  let v3175 : BitVec 32 := Scalar.addi v3174 c222_i32
  let v3177 : Index := Scalar.indexCast v3175
  ![v3177.toNat]
def k0_mult447 (v3178 : BitVec 32) : BitVec 32 :=
  let c8_i32_1373 : BitVec 32 := 8#32
  let v3179 : BitVec 32 := Scalar.muli v3178 c8_i32_1373
  v3179

def k0_mult448 (i : grid0.Coords) : BitVec 32 :=
  let arg1 : BitVec 32 := BitVec.ofNat 32 (i 1).val
  let c256_i32_1371 : BitVec 32 := 256#32
  let v3174 : BitVec 32 := Scalar.muli arg1 c256_i32_1371
  let c222_i32 : BitVec 32 := 222#32
  let v3175 : BitVec 32 := Scalar.addi v3174 c222_i32
  let c8_i32_1374 : BitVec 32 := 8#32
  let v3181 : BitVec 32 := Scalar.muli v3175 c8_i32_1374
  v3181
def k0_off896 (i : grid0.Coords) : Fin 1 → Nat :=
  let c1_i32_1372 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3176 : BitVec 32 := Scalar.subi c1_i32_1372 v11
  ![v3176.toNat]
def k0_off897 (i : grid0.Coords) : Fin 3 → Nat :=
  let c1_i32_1372 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3176 : BitVec 32 := Scalar.subi c1_i32_1372 v11
  let arg1 : BitVec 32 := BitVec.ofNat 32 (i 1).val
  let c256_i32_1371 : BitVec 32 := 256#32
  let v3174 : BitVec 32 := Scalar.muli arg1 c256_i32_1371
  let c222_i32 : BitVec 32 := 222#32
  let v3175 : BitVec 32 := Scalar.addi v3174 c222_i32
  let c8_i32_1374 : BitVec 32 := 8#32
  let v3181 : BitVec 32 := Scalar.muli v3175 c8_i32_1374
  let v3182 : BitVec 32 := v3181
  let c0_i32_1375 : BitVec 32 := 0#32
  ![v3176.toNat, v3182.toNat, 0]
def k0_off898 (v3178 : BitVec 32) : Fin 2 → Nat :=
  let c8_i32_1373 : BitVec 32 := 8#32
  let v3179 : BitVec 32 := Scalar.muli v3178 c8_i32_1373
  let v3180 : BitVec 32 := v3179
  let c0_i32_1376 : BitVec 32 := 0#32
  ![v3180.toNat, 0]

def k0_chk225 (i : grid0.Coords) (v0 : BitVec 32) (v28 : BitVec 32) (v3178 : BitVec 32) : Prop :=
  (∀ (k0_h1 : k0_cond1 i v0 = 1#1), ∀ (k0_h4 : k0_cond4 i v28 = 1#1), 8 ∣ (k0_mult447 v3178).toNat) ∧
  (∀ (k0_h1 : k0_cond1 i v0 = 1#1), ∀ (k0_h4 : k0_cond4 i v28 = 1#1), ∀ a, (k0_off898 v3178) a + S8x128.size a ≤ S262144x128.size a)
theorem k0_mult447_dvd : ∀ (i : grid0.Coords) (v0 : BitVec 32) (v28 : BitVec 32) (v3178 : BitVec 32) (k0_hw225 : k0_chk225 i v0 v28 v3178), ∀ (k0_h1 : k0_cond1 i v0 = 1#1), ∀ (k0_h4 : k0_cond4 i v28 = 1#1), 8 ∣ (k0_mult447 v3178).toNat := fun i v0 v28 v3178 k0_hw225 k0_h1 k0_h4 => k0_hw225.1 k0_h1 k0_h4
theorem k0_off898_inb : ∀ (i : grid0.Coords) (v0 : BitVec 32) (v28 : BitVec 32) (v3178 : BitVec 32) (k0_hw225 : k0_chk225 i v0 v28 v3178), ∀ (k0_h1 : k0_cond1 i v0 = 1#1), ∀ (k0_h4 : k0_cond4 i v28 = 1#1), ∀ a, (k0_off898 v3178) a + S8x128.size a ≤ S262144x128.size a := fun i v0 v28 v3178 k0_hw225 k0_h1 k0_h4 => k0_hw225.2 k0_h1 k0_h4

def k0_off899 (i : grid0.Coords) : Fin 1 → Nat :=
  let arg1 : BitVec 32 := BitVec.ofNat 32 (i 1).val
  let c256_i32_1377 : BitVec 32 := 256#32
  let v3188 : BitVec 32 := Scalar.muli arg1 c256_i32_1377
  let c223_i32 : BitVec 32 := 223#32
  let v3189 : BitVec 32 := Scalar.addi v3188 c223_i32
  let v3191 : Index := Scalar.indexCast v3189
  ![v3191.toNat]
def k0_mult449 (v3192 : BitVec 32) : BitVec 32 :=
  let c8_i32_1379 : BitVec 32 := 8#32
  let v3193 : BitVec 32 := Scalar.muli v3192 c8_i32_1379
  v3193

def k0_mult450 (i : grid0.Coords) : BitVec 32 :=
  let arg1 : BitVec 32 := BitVec.ofNat 32 (i 1).val
  let c256_i32_1377 : BitVec 32 := 256#32
  let v3188 : BitVec 32 := Scalar.muli arg1 c256_i32_1377
  let c223_i32 : BitVec 32 := 223#32
  let v3189 : BitVec 32 := Scalar.addi v3188 c223_i32
  let c8_i32_1380 : BitVec 32 := 8#32
  let v3195 : BitVec 32 := Scalar.muli v3189 c8_i32_1380
  v3195
def k0_off900 (i : grid0.Coords) : Fin 1 → Nat :=
  let c1_i32_1378 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3190 : BitVec 32 := Scalar.subi c1_i32_1378 v11
  ![v3190.toNat]
def k0_off901 (i : grid0.Coords) : Fin 3 → Nat :=
  let c1_i32_1378 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3190 : BitVec 32 := Scalar.subi c1_i32_1378 v11
  let arg1 : BitVec 32 := BitVec.ofNat 32 (i 1).val
  let c256_i32_1377 : BitVec 32 := 256#32
  let v3188 : BitVec 32 := Scalar.muli arg1 c256_i32_1377
  let c223_i32 : BitVec 32 := 223#32
  let v3189 : BitVec 32 := Scalar.addi v3188 c223_i32
  let c8_i32_1380 : BitVec 32 := 8#32
  let v3195 : BitVec 32 := Scalar.muli v3189 c8_i32_1380
  let v3196 : BitVec 32 := v3195
  let c0_i32_1381 : BitVec 32 := 0#32
  ![v3190.toNat, v3196.toNat, 0]
def k0_off902 (v3192 : BitVec 32) : Fin 2 → Nat :=
  let c8_i32_1379 : BitVec 32 := 8#32
  let v3193 : BitVec 32 := Scalar.muli v3192 c8_i32_1379
  let v3194 : BitVec 32 := v3193
  let c0_i32_1382 : BitVec 32 := 0#32
  ![v3194.toNat, 0]

def k0_chk226 (i : grid0.Coords) (v0 : BitVec 32) (v28 : BitVec 32) (v3192 : BitVec 32) : Prop :=
  (∀ (k0_h1 : k0_cond1 i v0 = 1#1), ∀ (k0_h4 : k0_cond4 i v28 = 1#1), 8 ∣ (k0_mult449 v3192).toNat) ∧
  (∀ (k0_h1 : k0_cond1 i v0 = 1#1), ∀ (k0_h4 : k0_cond4 i v28 = 1#1), ∀ a, (k0_off902 v3192) a + S8x128.size a ≤ S262144x128.size a)
theorem k0_mult449_dvd : ∀ (i : grid0.Coords) (v0 : BitVec 32) (v28 : BitVec 32) (v3192 : BitVec 32) (k0_hw226 : k0_chk226 i v0 v28 v3192), ∀ (k0_h1 : k0_cond1 i v0 = 1#1), ∀ (k0_h4 : k0_cond4 i v28 = 1#1), 8 ∣ (k0_mult449 v3192).toNat := fun i v0 v28 v3192 k0_hw226 k0_h1 k0_h4 => k0_hw226.1 k0_h1 k0_h4
theorem k0_off902_inb : ∀ (i : grid0.Coords) (v0 : BitVec 32) (v28 : BitVec 32) (v3192 : BitVec 32) (k0_hw226 : k0_chk226 i v0 v28 v3192), ∀ (k0_h1 : k0_cond1 i v0 = 1#1), ∀ (k0_h4 : k0_cond4 i v28 = 1#1), ∀ a, (k0_off902 v3192) a + S8x128.size a ≤ S262144x128.size a := fun i v0 v28 v3192 k0_hw226 k0_h1 k0_h4 => k0_hw226.2 k0_h1 k0_h4

def k0_off903 (i : grid0.Coords) : Fin 1 → Nat :=
  let arg1 : BitVec 32 := BitVec.ofNat 32 (i 1).val
  let c256_i32_1383 : BitVec 32 := 256#32
  let v3202 : BitVec 32 := Scalar.muli arg1 c256_i32_1383
  let c224_i32 : BitVec 32 := 224#32
  let v3203 : BitVec 32 := Scalar.addi v3202 c224_i32
  let v3205 : Index := Scalar.indexCast v3203
  ![v3205.toNat]
def k0_mult451 (v3206 : BitVec 32) : BitVec 32 :=
  let c8_i32_1385 : BitVec 32 := 8#32
  let v3207 : BitVec 32 := Scalar.muli v3206 c8_i32_1385
  v3207

def k0_mult452 (i : grid0.Coords) : BitVec 32 :=
  let arg1 : BitVec 32 := BitVec.ofNat 32 (i 1).val
  let c256_i32_1383 : BitVec 32 := 256#32
  let v3202 : BitVec 32 := Scalar.muli arg1 c256_i32_1383
  let c224_i32 : BitVec 32 := 224#32
  let v3203 : BitVec 32 := Scalar.addi v3202 c224_i32
  let c8_i32_1386 : BitVec 32 := 8#32
  let v3209 : BitVec 32 := Scalar.muli v3203 c8_i32_1386
  v3209
def k0_off904 (i : grid0.Coords) : Fin 1 → Nat :=
  let c1_i32_1384 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3204 : BitVec 32 := Scalar.subi c1_i32_1384 v11
  ![v3204.toNat]
def k0_off905 (i : grid0.Coords) : Fin 3 → Nat :=
  let c1_i32_1384 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3204 : BitVec 32 := Scalar.subi c1_i32_1384 v11
  let arg1 : BitVec 32 := BitVec.ofNat 32 (i 1).val
  let c256_i32_1383 : BitVec 32 := 256#32
  let v3202 : BitVec 32 := Scalar.muli arg1 c256_i32_1383
  let c224_i32 : BitVec 32 := 224#32
  let v3203 : BitVec 32 := Scalar.addi v3202 c224_i32
  let c8_i32_1386 : BitVec 32 := 8#32
  let v3209 : BitVec 32 := Scalar.muli v3203 c8_i32_1386
  let v3210 : BitVec 32 := v3209
  let c0_i32_1387 : BitVec 32 := 0#32
  ![v3204.toNat, v3210.toNat, 0]
def k0_off906 (v3206 : BitVec 32) : Fin 2 → Nat :=
  let c8_i32_1385 : BitVec 32 := 8#32
  let v3207 : BitVec 32 := Scalar.muli v3206 c8_i32_1385
  let v3208 : BitVec 32 := v3207
  let c0_i32_1388 : BitVec 32 := 0#32
  ![v3208.toNat, 0]

def k0_chk227 (i : grid0.Coords) (v0 : BitVec 32) (v28 : BitVec 32) (v3206 : BitVec 32) : Prop :=
  (∀ (k0_h1 : k0_cond1 i v0 = 1#1), ∀ (k0_h4 : k0_cond4 i v28 = 1#1), 8 ∣ (k0_mult451 v3206).toNat) ∧
  (∀ (k0_h1 : k0_cond1 i v0 = 1#1), ∀ (k0_h4 : k0_cond4 i v28 = 1#1), ∀ a, (k0_off906 v3206) a + S8x128.size a ≤ S262144x128.size a)
theorem k0_mult451_dvd : ∀ (i : grid0.Coords) (v0 : BitVec 32) (v28 : BitVec 32) (v3206 : BitVec 32) (k0_hw227 : k0_chk227 i v0 v28 v3206), ∀ (k0_h1 : k0_cond1 i v0 = 1#1), ∀ (k0_h4 : k0_cond4 i v28 = 1#1), 8 ∣ (k0_mult451 v3206).toNat := fun i v0 v28 v3206 k0_hw227 k0_h1 k0_h4 => k0_hw227.1 k0_h1 k0_h4
theorem k0_off906_inb : ∀ (i : grid0.Coords) (v0 : BitVec 32) (v28 : BitVec 32) (v3206 : BitVec 32) (k0_hw227 : k0_chk227 i v0 v28 v3206), ∀ (k0_h1 : k0_cond1 i v0 = 1#1), ∀ (k0_h4 : k0_cond4 i v28 = 1#1), ∀ a, (k0_off906 v3206) a + S8x128.size a ≤ S262144x128.size a := fun i v0 v28 v3206 k0_hw227 k0_h1 k0_h4 => k0_hw227.2 k0_h1 k0_h4

def k0_off907 (i : grid0.Coords) : Fin 1 → Nat :=
  let arg1 : BitVec 32 := BitVec.ofNat 32 (i 1).val
  let c256_i32_1389 : BitVec 32 := 256#32
  let v3216 : BitVec 32 := Scalar.muli arg1 c256_i32_1389
  let c225_i32 : BitVec 32 := 225#32
  let v3217 : BitVec 32 := Scalar.addi v3216 c225_i32
  let v3219 : Index := Scalar.indexCast v3217
  ![v3219.toNat]
def k0_mult453 (v3220 : BitVec 32) : BitVec 32 :=
  let c8_i32_1391 : BitVec 32 := 8#32
  let v3221 : BitVec 32 := Scalar.muli v3220 c8_i32_1391
  v3221

def k0_mult454 (i : grid0.Coords) : BitVec 32 :=
  let arg1 : BitVec 32 := BitVec.ofNat 32 (i 1).val
  let c256_i32_1389 : BitVec 32 := 256#32
  let v3216 : BitVec 32 := Scalar.muli arg1 c256_i32_1389
  let c225_i32 : BitVec 32 := 225#32
  let v3217 : BitVec 32 := Scalar.addi v3216 c225_i32
  let c8_i32_1392 : BitVec 32 := 8#32
  let v3223 : BitVec 32 := Scalar.muli v3217 c8_i32_1392
  v3223
def k0_off908 (i : grid0.Coords) : Fin 1 → Nat :=
  let c1_i32_1390 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3218 : BitVec 32 := Scalar.subi c1_i32_1390 v11
  ![v3218.toNat]
def k0_off909 (i : grid0.Coords) : Fin 3 → Nat :=
  let c1_i32_1390 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3218 : BitVec 32 := Scalar.subi c1_i32_1390 v11
  let arg1 : BitVec 32 := BitVec.ofNat 32 (i 1).val
  let c256_i32_1389 : BitVec 32 := 256#32
  let v3216 : BitVec 32 := Scalar.muli arg1 c256_i32_1389
  let c225_i32 : BitVec 32 := 225#32
  let v3217 : BitVec 32 := Scalar.addi v3216 c225_i32
  let c8_i32_1392 : BitVec 32 := 8#32
  let v3223 : BitVec 32 := Scalar.muli v3217 c8_i32_1392
  let v3224 : BitVec 32 := v3223
  let c0_i32_1393 : BitVec 32 := 0#32
  ![v3218.toNat, v3224.toNat, 0]
def k0_off910 (v3220 : BitVec 32) : Fin 2 → Nat :=
  let c8_i32_1391 : BitVec 32 := 8#32
  let v3221 : BitVec 32 := Scalar.muli v3220 c8_i32_1391
  let v3222 : BitVec 32 := v3221
  let c0_i32_1394 : BitVec 32 := 0#32
  ![v3222.toNat, 0]

def k0_chk228 (i : grid0.Coords) (v0 : BitVec 32) (v28 : BitVec 32) (v3220 : BitVec 32) : Prop :=
  (∀ (k0_h1 : k0_cond1 i v0 = 1#1), ∀ (k0_h4 : k0_cond4 i v28 = 1#1), 8 ∣ (k0_mult453 v3220).toNat) ∧
  (∀ (k0_h1 : k0_cond1 i v0 = 1#1), ∀ (k0_h4 : k0_cond4 i v28 = 1#1), ∀ a, (k0_off910 v3220) a + S8x128.size a ≤ S262144x128.size a)
theorem k0_mult453_dvd : ∀ (i : grid0.Coords) (v0 : BitVec 32) (v28 : BitVec 32) (v3220 : BitVec 32) (k0_hw228 : k0_chk228 i v0 v28 v3220), ∀ (k0_h1 : k0_cond1 i v0 = 1#1), ∀ (k0_h4 : k0_cond4 i v28 = 1#1), 8 ∣ (k0_mult453 v3220).toNat := fun i v0 v28 v3220 k0_hw228 k0_h1 k0_h4 => k0_hw228.1 k0_h1 k0_h4
theorem k0_off910_inb : ∀ (i : grid0.Coords) (v0 : BitVec 32) (v28 : BitVec 32) (v3220 : BitVec 32) (k0_hw228 : k0_chk228 i v0 v28 v3220), ∀ (k0_h1 : k0_cond1 i v0 = 1#1), ∀ (k0_h4 : k0_cond4 i v28 = 1#1), ∀ a, (k0_off910 v3220) a + S8x128.size a ≤ S262144x128.size a := fun i v0 v28 v3220 k0_hw228 k0_h1 k0_h4 => k0_hw228.2 k0_h1 k0_h4

def k0_off911 (i : grid0.Coords) : Fin 1 → Nat :=
  let arg1 : BitVec 32 := BitVec.ofNat 32 (i 1).val
  let c256_i32_1395 : BitVec 32 := 256#32
  let v3230 : BitVec 32 := Scalar.muli arg1 c256_i32_1395
  let c226_i32 : BitVec 32 := 226#32
  let v3231 : BitVec 32 := Scalar.addi v3230 c226_i32
  let v3233 : Index := Scalar.indexCast v3231
  ![v3233.toNat]
def k0_mult455 (v3234 : BitVec 32) : BitVec 32 :=
  let c8_i32_1397 : BitVec 32 := 8#32
  let v3235 : BitVec 32 := Scalar.muli v3234 c8_i32_1397
  v3235

def k0_mult456 (i : grid0.Coords) : BitVec 32 :=
  let arg1 : BitVec 32 := BitVec.ofNat 32 (i 1).val
  let c256_i32_1395 : BitVec 32 := 256#32
  let v3230 : BitVec 32 := Scalar.muli arg1 c256_i32_1395
  let c226_i32 : BitVec 32 := 226#32
  let v3231 : BitVec 32 := Scalar.addi v3230 c226_i32
  let c8_i32_1398 : BitVec 32 := 8#32
  let v3237 : BitVec 32 := Scalar.muli v3231 c8_i32_1398
  v3237
def k0_off912 (i : grid0.Coords) : Fin 1 → Nat :=
  let c1_i32_1396 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3232 : BitVec 32 := Scalar.subi c1_i32_1396 v11
  ![v3232.toNat]
def k0_off913 (i : grid0.Coords) : Fin 3 → Nat :=
  let c1_i32_1396 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3232 : BitVec 32 := Scalar.subi c1_i32_1396 v11
  let arg1 : BitVec 32 := BitVec.ofNat 32 (i 1).val
  let c256_i32_1395 : BitVec 32 := 256#32
  let v3230 : BitVec 32 := Scalar.muli arg1 c256_i32_1395
  let c226_i32 : BitVec 32 := 226#32
  let v3231 : BitVec 32 := Scalar.addi v3230 c226_i32
  let c8_i32_1398 : BitVec 32 := 8#32
  let v3237 : BitVec 32 := Scalar.muli v3231 c8_i32_1398
  let v3238 : BitVec 32 := v3237
  let c0_i32_1399 : BitVec 32 := 0#32
  ![v3232.toNat, v3238.toNat, 0]
def k0_off914 (v3234 : BitVec 32) : Fin 2 → Nat :=
  let c8_i32_1397 : BitVec 32 := 8#32
  let v3235 : BitVec 32 := Scalar.muli v3234 c8_i32_1397
  let v3236 : BitVec 32 := v3235
  let c0_i32_1400 : BitVec 32 := 0#32
  ![v3236.toNat, 0]

def k0_chk229 (i : grid0.Coords) (v0 : BitVec 32) (v28 : BitVec 32) (v3234 : BitVec 32) : Prop :=
  (∀ (k0_h1 : k0_cond1 i v0 = 1#1), ∀ (k0_h4 : k0_cond4 i v28 = 1#1), 8 ∣ (k0_mult455 v3234).toNat) ∧
  (∀ (k0_h1 : k0_cond1 i v0 = 1#1), ∀ (k0_h4 : k0_cond4 i v28 = 1#1), ∀ a, (k0_off914 v3234) a + S8x128.size a ≤ S262144x128.size a)
theorem k0_mult455_dvd : ∀ (i : grid0.Coords) (v0 : BitVec 32) (v28 : BitVec 32) (v3234 : BitVec 32) (k0_hw229 : k0_chk229 i v0 v28 v3234), ∀ (k0_h1 : k0_cond1 i v0 = 1#1), ∀ (k0_h4 : k0_cond4 i v28 = 1#1), 8 ∣ (k0_mult455 v3234).toNat := fun i v0 v28 v3234 k0_hw229 k0_h1 k0_h4 => k0_hw229.1 k0_h1 k0_h4
theorem k0_off914_inb : ∀ (i : grid0.Coords) (v0 : BitVec 32) (v28 : BitVec 32) (v3234 : BitVec 32) (k0_hw229 : k0_chk229 i v0 v28 v3234), ∀ (k0_h1 : k0_cond1 i v0 = 1#1), ∀ (k0_h4 : k0_cond4 i v28 = 1#1), ∀ a, (k0_off914 v3234) a + S8x128.size a ≤ S262144x128.size a := fun i v0 v28 v3234 k0_hw229 k0_h1 k0_h4 => k0_hw229.2 k0_h1 k0_h4

def k0_off915 (i : grid0.Coords) : Fin 1 → Nat :=
  let arg1 : BitVec 32 := BitVec.ofNat 32 (i 1).val
  let c256_i32_1401 : BitVec 32 := 256#32
  let v3244 : BitVec 32 := Scalar.muli arg1 c256_i32_1401
  let c227_i32 : BitVec 32 := 227#32
  let v3245 : BitVec 32 := Scalar.addi v3244 c227_i32
  let v3247 : Index := Scalar.indexCast v3245
  ![v3247.toNat]
def k0_mult457 (v3248 : BitVec 32) : BitVec 32 :=
  let c8_i32_1403 : BitVec 32 := 8#32
  let v3249 : BitVec 32 := Scalar.muli v3248 c8_i32_1403
  v3249

def k0_mult458 (i : grid0.Coords) : BitVec 32 :=
  let arg1 : BitVec 32 := BitVec.ofNat 32 (i 1).val
  let c256_i32_1401 : BitVec 32 := 256#32
  let v3244 : BitVec 32 := Scalar.muli arg1 c256_i32_1401
  let c227_i32 : BitVec 32 := 227#32
  let v3245 : BitVec 32 := Scalar.addi v3244 c227_i32
  let c8_i32_1404 : BitVec 32 := 8#32
  let v3251 : BitVec 32 := Scalar.muli v3245 c8_i32_1404
  v3251
def k0_off916 (i : grid0.Coords) : Fin 1 → Nat :=
  let c1_i32_1402 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3246 : BitVec 32 := Scalar.subi c1_i32_1402 v11
  ![v3246.toNat]
def k0_off917 (i : grid0.Coords) : Fin 3 → Nat :=
  let c1_i32_1402 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3246 : BitVec 32 := Scalar.subi c1_i32_1402 v11
  let arg1 : BitVec 32 := BitVec.ofNat 32 (i 1).val
  let c256_i32_1401 : BitVec 32 := 256#32
  let v3244 : BitVec 32 := Scalar.muli arg1 c256_i32_1401
  let c227_i32 : BitVec 32 := 227#32
  let v3245 : BitVec 32 := Scalar.addi v3244 c227_i32
  let c8_i32_1404 : BitVec 32 := 8#32
  let v3251 : BitVec 32 := Scalar.muli v3245 c8_i32_1404
  let v3252 : BitVec 32 := v3251
  let c0_i32_1405 : BitVec 32 := 0#32
  ![v3246.toNat, v3252.toNat, 0]
def k0_off918 (v3248 : BitVec 32) : Fin 2 → Nat :=
  let c8_i32_1403 : BitVec 32 := 8#32
  let v3249 : BitVec 32 := Scalar.muli v3248 c8_i32_1403
  let v3250 : BitVec 32 := v3249
  let c0_i32_1406 : BitVec 32 := 0#32
  ![v3250.toNat, 0]

def k0_chk230 (i : grid0.Coords) (v0 : BitVec 32) (v28 : BitVec 32) (v3248 : BitVec 32) : Prop :=
  (∀ (k0_h1 : k0_cond1 i v0 = 1#1), ∀ (k0_h4 : k0_cond4 i v28 = 1#1), 8 ∣ (k0_mult457 v3248).toNat) ∧
  (∀ (k0_h1 : k0_cond1 i v0 = 1#1), ∀ (k0_h4 : k0_cond4 i v28 = 1#1), ∀ a, (k0_off918 v3248) a + S8x128.size a ≤ S262144x128.size a)
theorem k0_mult457_dvd : ∀ (i : grid0.Coords) (v0 : BitVec 32) (v28 : BitVec 32) (v3248 : BitVec 32) (k0_hw230 : k0_chk230 i v0 v28 v3248), ∀ (k0_h1 : k0_cond1 i v0 = 1#1), ∀ (k0_h4 : k0_cond4 i v28 = 1#1), 8 ∣ (k0_mult457 v3248).toNat := fun i v0 v28 v3248 k0_hw230 k0_h1 k0_h4 => k0_hw230.1 k0_h1 k0_h4
theorem k0_off918_inb : ∀ (i : grid0.Coords) (v0 : BitVec 32) (v28 : BitVec 32) (v3248 : BitVec 32) (k0_hw230 : k0_chk230 i v0 v28 v3248), ∀ (k0_h1 : k0_cond1 i v0 = 1#1), ∀ (k0_h4 : k0_cond4 i v28 = 1#1), ∀ a, (k0_off918 v3248) a + S8x128.size a ≤ S262144x128.size a := fun i v0 v28 v3248 k0_hw230 k0_h1 k0_h4 => k0_hw230.2 k0_h1 k0_h4

def k0_off919 (i : grid0.Coords) : Fin 1 → Nat :=
  let arg1 : BitVec 32 := BitVec.ofNat 32 (i 1).val
  let c256_i32_1407 : BitVec 32 := 256#32
  let v3258 : BitVec 32 := Scalar.muli arg1 c256_i32_1407
  let c228_i32 : BitVec 32 := 228#32
  let v3259 : BitVec 32 := Scalar.addi v3258 c228_i32
  let v3261 : Index := Scalar.indexCast v3259
  ![v3261.toNat]
def k0_mult459 (v3262 : BitVec 32) : BitVec 32 :=
  let c8_i32_1409 : BitVec 32 := 8#32
  let v3263 : BitVec 32 := Scalar.muli v3262 c8_i32_1409
  v3263

def k0_mult460 (i : grid0.Coords) : BitVec 32 :=
  let arg1 : BitVec 32 := BitVec.ofNat 32 (i 1).val
  let c256_i32_1407 : BitVec 32 := 256#32
  let v3258 : BitVec 32 := Scalar.muli arg1 c256_i32_1407
  let c228_i32 : BitVec 32 := 228#32
  let v3259 : BitVec 32 := Scalar.addi v3258 c228_i32
  let c8_i32_1410 : BitVec 32 := 8#32
  let v3265 : BitVec 32 := Scalar.muli v3259 c8_i32_1410
  v3265
def k0_off920 (i : grid0.Coords) : Fin 1 → Nat :=
  let c1_i32_1408 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3260 : BitVec 32 := Scalar.subi c1_i32_1408 v11
  ![v3260.toNat]
def k0_off921 (i : grid0.Coords) : Fin 3 → Nat :=
  let c1_i32_1408 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3260 : BitVec 32 := Scalar.subi c1_i32_1408 v11
  let arg1 : BitVec 32 := BitVec.ofNat 32 (i 1).val
  let c256_i32_1407 : BitVec 32 := 256#32
  let v3258 : BitVec 32 := Scalar.muli arg1 c256_i32_1407
  let c228_i32 : BitVec 32 := 228#32
  let v3259 : BitVec 32 := Scalar.addi v3258 c228_i32
  let c8_i32_1410 : BitVec 32 := 8#32
  let v3265 : BitVec 32 := Scalar.muli v3259 c8_i32_1410
  let v3266 : BitVec 32 := v3265
  let c0_i32_1411 : BitVec 32 := 0#32
  ![v3260.toNat, v3266.toNat, 0]
def k0_off922 (v3262 : BitVec 32) : Fin 2 → Nat :=
  let c8_i32_1409 : BitVec 32 := 8#32
  let v3263 : BitVec 32 := Scalar.muli v3262 c8_i32_1409
  let v3264 : BitVec 32 := v3263
  let c0_i32_1412 : BitVec 32 := 0#32
  ![v3264.toNat, 0]

def k0_chk231 (i : grid0.Coords) (v0 : BitVec 32) (v28 : BitVec 32) (v3262 : BitVec 32) : Prop :=
  (∀ (k0_h1 : k0_cond1 i v0 = 1#1), ∀ (k0_h4 : k0_cond4 i v28 = 1#1), 8 ∣ (k0_mult459 v3262).toNat) ∧
  (∀ (k0_h1 : k0_cond1 i v0 = 1#1), ∀ (k0_h4 : k0_cond4 i v28 = 1#1), ∀ a, (k0_off922 v3262) a + S8x128.size a ≤ S262144x128.size a)
theorem k0_mult459_dvd : ∀ (i : grid0.Coords) (v0 : BitVec 32) (v28 : BitVec 32) (v3262 : BitVec 32) (k0_hw231 : k0_chk231 i v0 v28 v3262), ∀ (k0_h1 : k0_cond1 i v0 = 1#1), ∀ (k0_h4 : k0_cond4 i v28 = 1#1), 8 ∣ (k0_mult459 v3262).toNat := fun i v0 v28 v3262 k0_hw231 k0_h1 k0_h4 => k0_hw231.1 k0_h1 k0_h4
theorem k0_off922_inb : ∀ (i : grid0.Coords) (v0 : BitVec 32) (v28 : BitVec 32) (v3262 : BitVec 32) (k0_hw231 : k0_chk231 i v0 v28 v3262), ∀ (k0_h1 : k0_cond1 i v0 = 1#1), ∀ (k0_h4 : k0_cond4 i v28 = 1#1), ∀ a, (k0_off922 v3262) a + S8x128.size a ≤ S262144x128.size a := fun i v0 v28 v3262 k0_hw231 k0_h1 k0_h4 => k0_hw231.2 k0_h1 k0_h4

def k0_off923 (i : grid0.Coords) : Fin 1 → Nat :=
  let arg1 : BitVec 32 := BitVec.ofNat 32 (i 1).val
  let c256_i32_1413 : BitVec 32 := 256#32
  let v3272 : BitVec 32 := Scalar.muli arg1 c256_i32_1413
  let c229_i32 : BitVec 32 := 229#32
  let v3273 : BitVec 32 := Scalar.addi v3272 c229_i32
  let v3275 : Index := Scalar.indexCast v3273
  ![v3275.toNat]
def k0_mult461 (v3276 : BitVec 32) : BitVec 32 :=
  let c8_i32_1415 : BitVec 32 := 8#32
  let v3277 : BitVec 32 := Scalar.muli v3276 c8_i32_1415
  v3277

def k0_mult462 (i : grid0.Coords) : BitVec 32 :=
  let arg1 : BitVec 32 := BitVec.ofNat 32 (i 1).val
  let c256_i32_1413 : BitVec 32 := 256#32
  let v3272 : BitVec 32 := Scalar.muli arg1 c256_i32_1413
  let c229_i32 : BitVec 32 := 229#32
  let v3273 : BitVec 32 := Scalar.addi v3272 c229_i32
  let c8_i32_1416 : BitVec 32 := 8#32
  let v3279 : BitVec 32 := Scalar.muli v3273 c8_i32_1416
  v3279
def k0_off924 (i : grid0.Coords) : Fin 1 → Nat :=
  let c1_i32_1414 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3274 : BitVec 32 := Scalar.subi c1_i32_1414 v11
  ![v3274.toNat]
def k0_off925 (i : grid0.Coords) : Fin 3 → Nat :=
  let c1_i32_1414 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3274 : BitVec 32 := Scalar.subi c1_i32_1414 v11
  let arg1 : BitVec 32 := BitVec.ofNat 32 (i 1).val
  let c256_i32_1413 : BitVec 32 := 256#32
  let v3272 : BitVec 32 := Scalar.muli arg1 c256_i32_1413
  let c229_i32 : BitVec 32 := 229#32
  let v3273 : BitVec 32 := Scalar.addi v3272 c229_i32
  let c8_i32_1416 : BitVec 32 := 8#32
  let v3279 : BitVec 32 := Scalar.muli v3273 c8_i32_1416
  let v3280 : BitVec 32 := v3279
  let c0_i32_1417 : BitVec 32 := 0#32
  ![v3274.toNat, v3280.toNat, 0]
def k0_off926 (v3276 : BitVec 32) : Fin 2 → Nat :=
  let c8_i32_1415 : BitVec 32 := 8#32
  let v3277 : BitVec 32 := Scalar.muli v3276 c8_i32_1415
  let v3278 : BitVec 32 := v3277
  let c0_i32_1418 : BitVec 32 := 0#32
  ![v3278.toNat, 0]

def k0_chk232 (i : grid0.Coords) (v0 : BitVec 32) (v28 : BitVec 32) (v3276 : BitVec 32) : Prop :=
  (∀ (k0_h1 : k0_cond1 i v0 = 1#1), ∀ (k0_h4 : k0_cond4 i v28 = 1#1), 8 ∣ (k0_mult461 v3276).toNat) ∧
  (∀ (k0_h1 : k0_cond1 i v0 = 1#1), ∀ (k0_h4 : k0_cond4 i v28 = 1#1), ∀ a, (k0_off926 v3276) a + S8x128.size a ≤ S262144x128.size a)
theorem k0_mult461_dvd : ∀ (i : grid0.Coords) (v0 : BitVec 32) (v28 : BitVec 32) (v3276 : BitVec 32) (k0_hw232 : k0_chk232 i v0 v28 v3276), ∀ (k0_h1 : k0_cond1 i v0 = 1#1), ∀ (k0_h4 : k0_cond4 i v28 = 1#1), 8 ∣ (k0_mult461 v3276).toNat := fun i v0 v28 v3276 k0_hw232 k0_h1 k0_h4 => k0_hw232.1 k0_h1 k0_h4
theorem k0_off926_inb : ∀ (i : grid0.Coords) (v0 : BitVec 32) (v28 : BitVec 32) (v3276 : BitVec 32) (k0_hw232 : k0_chk232 i v0 v28 v3276), ∀ (k0_h1 : k0_cond1 i v0 = 1#1), ∀ (k0_h4 : k0_cond4 i v28 = 1#1), ∀ a, (k0_off926 v3276) a + S8x128.size a ≤ S262144x128.size a := fun i v0 v28 v3276 k0_hw232 k0_h1 k0_h4 => k0_hw232.2 k0_h1 k0_h4

def k0_off927 (i : grid0.Coords) : Fin 1 → Nat :=
  let arg1 : BitVec 32 := BitVec.ofNat 32 (i 1).val
  let c256_i32_1419 : BitVec 32 := 256#32
  let v3286 : BitVec 32 := Scalar.muli arg1 c256_i32_1419
  let c230_i32 : BitVec 32 := 230#32
  let v3287 : BitVec 32 := Scalar.addi v3286 c230_i32
  let v3289 : Index := Scalar.indexCast v3287
  ![v3289.toNat]
def k0_mult463 (v3290 : BitVec 32) : BitVec 32 :=
  let c8_i32_1421 : BitVec 32 := 8#32
  let v3291 : BitVec 32 := Scalar.muli v3290 c8_i32_1421
  v3291

def k0_mult464 (i : grid0.Coords) : BitVec 32 :=
  let arg1 : BitVec 32 := BitVec.ofNat 32 (i 1).val
  let c256_i32_1419 : BitVec 32 := 256#32
  let v3286 : BitVec 32 := Scalar.muli arg1 c256_i32_1419
  let c230_i32 : BitVec 32 := 230#32
  let v3287 : BitVec 32 := Scalar.addi v3286 c230_i32
  let c8_i32_1422 : BitVec 32 := 8#32
  let v3293 : BitVec 32 := Scalar.muli v3287 c8_i32_1422
  v3293
def k0_off928 (i : grid0.Coords) : Fin 1 → Nat :=
  let c1_i32_1420 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3288 : BitVec 32 := Scalar.subi c1_i32_1420 v11
  ![v3288.toNat]
def k0_off929 (i : grid0.Coords) : Fin 3 → Nat :=
  let c1_i32_1420 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3288 : BitVec 32 := Scalar.subi c1_i32_1420 v11
  let arg1 : BitVec 32 := BitVec.ofNat 32 (i 1).val
  let c256_i32_1419 : BitVec 32 := 256#32
  let v3286 : BitVec 32 := Scalar.muli arg1 c256_i32_1419
  let c230_i32 : BitVec 32 := 230#32
  let v3287 : BitVec 32 := Scalar.addi v3286 c230_i32
  let c8_i32_1422 : BitVec 32 := 8#32
  let v3293 : BitVec 32 := Scalar.muli v3287 c8_i32_1422
  let v3294 : BitVec 32 := v3293
  let c0_i32_1423 : BitVec 32 := 0#32
  ![v3288.toNat, v3294.toNat, 0]
def k0_off930 (v3290 : BitVec 32) : Fin 2 → Nat :=
  let c8_i32_1421 : BitVec 32 := 8#32
  let v3291 : BitVec 32 := Scalar.muli v3290 c8_i32_1421
  let v3292 : BitVec 32 := v3291
  let c0_i32_1424 : BitVec 32 := 0#32
  ![v3292.toNat, 0]

def k0_chk233 (i : grid0.Coords) (v0 : BitVec 32) (v28 : BitVec 32) (v3290 : BitVec 32) : Prop :=
  (∀ (k0_h1 : k0_cond1 i v0 = 1#1), ∀ (k0_h4 : k0_cond4 i v28 = 1#1), 8 ∣ (k0_mult463 v3290).toNat) ∧
  (∀ (k0_h1 : k0_cond1 i v0 = 1#1), ∀ (k0_h4 : k0_cond4 i v28 = 1#1), ∀ a, (k0_off930 v3290) a + S8x128.size a ≤ S262144x128.size a)
theorem k0_mult463_dvd : ∀ (i : grid0.Coords) (v0 : BitVec 32) (v28 : BitVec 32) (v3290 : BitVec 32) (k0_hw233 : k0_chk233 i v0 v28 v3290), ∀ (k0_h1 : k0_cond1 i v0 = 1#1), ∀ (k0_h4 : k0_cond4 i v28 = 1#1), 8 ∣ (k0_mult463 v3290).toNat := fun i v0 v28 v3290 k0_hw233 k0_h1 k0_h4 => k0_hw233.1 k0_h1 k0_h4
theorem k0_off930_inb : ∀ (i : grid0.Coords) (v0 : BitVec 32) (v28 : BitVec 32) (v3290 : BitVec 32) (k0_hw233 : k0_chk233 i v0 v28 v3290), ∀ (k0_h1 : k0_cond1 i v0 = 1#1), ∀ (k0_h4 : k0_cond4 i v28 = 1#1), ∀ a, (k0_off930 v3290) a + S8x128.size a ≤ S262144x128.size a := fun i v0 v28 v3290 k0_hw233 k0_h1 k0_h4 => k0_hw233.2 k0_h1 k0_h4

def k0_off931 (i : grid0.Coords) : Fin 1 → Nat :=
  let arg1 : BitVec 32 := BitVec.ofNat 32 (i 1).val
  let c256_i32_1425 : BitVec 32 := 256#32
  let v3300 : BitVec 32 := Scalar.muli arg1 c256_i32_1425
  let c231_i32 : BitVec 32 := 231#32
  let v3301 : BitVec 32 := Scalar.addi v3300 c231_i32
  let v3303 : Index := Scalar.indexCast v3301
  ![v3303.toNat]
def k0_mult465 (v3304 : BitVec 32) : BitVec 32 :=
  let c8_i32_1427 : BitVec 32 := 8#32
  let v3305 : BitVec 32 := Scalar.muli v3304 c8_i32_1427
  v3305

def k0_mult466 (i : grid0.Coords) : BitVec 32 :=
  let arg1 : BitVec 32 := BitVec.ofNat 32 (i 1).val
  let c256_i32_1425 : BitVec 32 := 256#32
  let v3300 : BitVec 32 := Scalar.muli arg1 c256_i32_1425
  let c231_i32 : BitVec 32 := 231#32
  let v3301 : BitVec 32 := Scalar.addi v3300 c231_i32
  let c8_i32_1428 : BitVec 32 := 8#32
  let v3307 : BitVec 32 := Scalar.muli v3301 c8_i32_1428
  v3307
def k0_off932 (i : grid0.Coords) : Fin 1 → Nat :=
  let c1_i32_1426 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3302 : BitVec 32 := Scalar.subi c1_i32_1426 v11
  ![v3302.toNat]
def k0_off933 (i : grid0.Coords) : Fin 3 → Nat :=
  let c1_i32_1426 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3302 : BitVec 32 := Scalar.subi c1_i32_1426 v11
  let arg1 : BitVec 32 := BitVec.ofNat 32 (i 1).val
  let c256_i32_1425 : BitVec 32 := 256#32
  let v3300 : BitVec 32 := Scalar.muli arg1 c256_i32_1425
  let c231_i32 : BitVec 32 := 231#32
  let v3301 : BitVec 32 := Scalar.addi v3300 c231_i32
  let c8_i32_1428 : BitVec 32 := 8#32
  let v3307 : BitVec 32 := Scalar.muli v3301 c8_i32_1428
  let v3308 : BitVec 32 := v3307
  let c0_i32_1429 : BitVec 32 := 0#32
  ![v3302.toNat, v3308.toNat, 0]
def k0_off934 (v3304 : BitVec 32) : Fin 2 → Nat :=
  let c8_i32_1427 : BitVec 32 := 8#32
  let v3305 : BitVec 32 := Scalar.muli v3304 c8_i32_1427
  let v3306 : BitVec 32 := v3305
  let c0_i32_1430 : BitVec 32 := 0#32
  ![v3306.toNat, 0]

def k0_chk234 (i : grid0.Coords) (v0 : BitVec 32) (v28 : BitVec 32) (v3304 : BitVec 32) : Prop :=
  (∀ (k0_h1 : k0_cond1 i v0 = 1#1), ∀ (k0_h4 : k0_cond4 i v28 = 1#1), 8 ∣ (k0_mult465 v3304).toNat) ∧
  (∀ (k0_h1 : k0_cond1 i v0 = 1#1), ∀ (k0_h4 : k0_cond4 i v28 = 1#1), ∀ a, (k0_off934 v3304) a + S8x128.size a ≤ S262144x128.size a)
theorem k0_mult465_dvd : ∀ (i : grid0.Coords) (v0 : BitVec 32) (v28 : BitVec 32) (v3304 : BitVec 32) (k0_hw234 : k0_chk234 i v0 v28 v3304), ∀ (k0_h1 : k0_cond1 i v0 = 1#1), ∀ (k0_h4 : k0_cond4 i v28 = 1#1), 8 ∣ (k0_mult465 v3304).toNat := fun i v0 v28 v3304 k0_hw234 k0_h1 k0_h4 => k0_hw234.1 k0_h1 k0_h4
theorem k0_off934_inb : ∀ (i : grid0.Coords) (v0 : BitVec 32) (v28 : BitVec 32) (v3304 : BitVec 32) (k0_hw234 : k0_chk234 i v0 v28 v3304), ∀ (k0_h1 : k0_cond1 i v0 = 1#1), ∀ (k0_h4 : k0_cond4 i v28 = 1#1), ∀ a, (k0_off934 v3304) a + S8x128.size a ≤ S262144x128.size a := fun i v0 v28 v3304 k0_hw234 k0_h1 k0_h4 => k0_hw234.2 k0_h1 k0_h4

def k0_off935 (i : grid0.Coords) : Fin 1 → Nat :=
  let arg1 : BitVec 32 := BitVec.ofNat 32 (i 1).val
  let c256_i32_1431 : BitVec 32 := 256#32
  let v3314 : BitVec 32 := Scalar.muli arg1 c256_i32_1431
  let c232_i32 : BitVec 32 := 232#32
  let v3315 : BitVec 32 := Scalar.addi v3314 c232_i32
  let v3317 : Index := Scalar.indexCast v3315
  ![v3317.toNat]
def k0_mult467 (v3318 : BitVec 32) : BitVec 32 :=
  let c8_i32_1433 : BitVec 32 := 8#32
  let v3319 : BitVec 32 := Scalar.muli v3318 c8_i32_1433
  v3319

def k0_mult468 (i : grid0.Coords) : BitVec 32 :=
  let arg1 : BitVec 32 := BitVec.ofNat 32 (i 1).val
  let c256_i32_1431 : BitVec 32 := 256#32
  let v3314 : BitVec 32 := Scalar.muli arg1 c256_i32_1431
  let c232_i32 : BitVec 32 := 232#32
  let v3315 : BitVec 32 := Scalar.addi v3314 c232_i32
  let c8_i32_1434 : BitVec 32 := 8#32
  let v3321 : BitVec 32 := Scalar.muli v3315 c8_i32_1434
  v3321
def k0_off936 (i : grid0.Coords) : Fin 1 → Nat :=
  let c1_i32_1432 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3316 : BitVec 32 := Scalar.subi c1_i32_1432 v11
  ![v3316.toNat]
def k0_off937 (i : grid0.Coords) : Fin 3 → Nat :=
  let c1_i32_1432 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3316 : BitVec 32 := Scalar.subi c1_i32_1432 v11
  let arg1 : BitVec 32 := BitVec.ofNat 32 (i 1).val
  let c256_i32_1431 : BitVec 32 := 256#32
  let v3314 : BitVec 32 := Scalar.muli arg1 c256_i32_1431
  let c232_i32 : BitVec 32 := 232#32
  let v3315 : BitVec 32 := Scalar.addi v3314 c232_i32
  let c8_i32_1434 : BitVec 32 := 8#32
  let v3321 : BitVec 32 := Scalar.muli v3315 c8_i32_1434
  let v3322 : BitVec 32 := v3321
  let c0_i32_1435 : BitVec 32 := 0#32
  ![v3316.toNat, v3322.toNat, 0]
def k0_off938 (v3318 : BitVec 32) : Fin 2 → Nat :=
  let c8_i32_1433 : BitVec 32 := 8#32
  let v3319 : BitVec 32 := Scalar.muli v3318 c8_i32_1433
  let v3320 : BitVec 32 := v3319
  let c0_i32_1436 : BitVec 32 := 0#32
  ![v3320.toNat, 0]

def k0_chk235 (i : grid0.Coords) (v0 : BitVec 32) (v28 : BitVec 32) (v3318 : BitVec 32) : Prop :=
  (∀ (k0_h1 : k0_cond1 i v0 = 1#1), ∀ (k0_h4 : k0_cond4 i v28 = 1#1), 8 ∣ (k0_mult467 v3318).toNat) ∧
  (∀ (k0_h1 : k0_cond1 i v0 = 1#1), ∀ (k0_h4 : k0_cond4 i v28 = 1#1), ∀ a, (k0_off938 v3318) a + S8x128.size a ≤ S262144x128.size a)
theorem k0_mult467_dvd : ∀ (i : grid0.Coords) (v0 : BitVec 32) (v28 : BitVec 32) (v3318 : BitVec 32) (k0_hw235 : k0_chk235 i v0 v28 v3318), ∀ (k0_h1 : k0_cond1 i v0 = 1#1), ∀ (k0_h4 : k0_cond4 i v28 = 1#1), 8 ∣ (k0_mult467 v3318).toNat := fun i v0 v28 v3318 k0_hw235 k0_h1 k0_h4 => k0_hw235.1 k0_h1 k0_h4
theorem k0_off938_inb : ∀ (i : grid0.Coords) (v0 : BitVec 32) (v28 : BitVec 32) (v3318 : BitVec 32) (k0_hw235 : k0_chk235 i v0 v28 v3318), ∀ (k0_h1 : k0_cond1 i v0 = 1#1), ∀ (k0_h4 : k0_cond4 i v28 = 1#1), ∀ a, (k0_off938 v3318) a + S8x128.size a ≤ S262144x128.size a := fun i v0 v28 v3318 k0_hw235 k0_h1 k0_h4 => k0_hw235.2 k0_h1 k0_h4

def k0_off939 (i : grid0.Coords) : Fin 1 → Nat :=
  let arg1 : BitVec 32 := BitVec.ofNat 32 (i 1).val
  let c256_i32_1437 : BitVec 32 := 256#32
  let v3328 : BitVec 32 := Scalar.muli arg1 c256_i32_1437
  let c233_i32 : BitVec 32 := 233#32
  let v3329 : BitVec 32 := Scalar.addi v3328 c233_i32
  let v3331 : Index := Scalar.indexCast v3329
  ![v3331.toNat]
def k0_mult469 (v3332 : BitVec 32) : BitVec 32 :=
  let c8_i32_1439 : BitVec 32 := 8#32
  let v3333 : BitVec 32 := Scalar.muli v3332 c8_i32_1439
  v3333

def k0_mult470 (i : grid0.Coords) : BitVec 32 :=
  let arg1 : BitVec 32 := BitVec.ofNat 32 (i 1).val
  let c256_i32_1437 : BitVec 32 := 256#32
  let v3328 : BitVec 32 := Scalar.muli arg1 c256_i32_1437
  let c233_i32 : BitVec 32 := 233#32
  let v3329 : BitVec 32 := Scalar.addi v3328 c233_i32
  let c8_i32_1440 : BitVec 32 := 8#32
  let v3335 : BitVec 32 := Scalar.muli v3329 c8_i32_1440
  v3335
def k0_off940 (i : grid0.Coords) : Fin 1 → Nat :=
  let c1_i32_1438 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3330 : BitVec 32 := Scalar.subi c1_i32_1438 v11
  ![v3330.toNat]
def k0_off941 (i : grid0.Coords) : Fin 3 → Nat :=
  let c1_i32_1438 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3330 : BitVec 32 := Scalar.subi c1_i32_1438 v11
  let arg1 : BitVec 32 := BitVec.ofNat 32 (i 1).val
  let c256_i32_1437 : BitVec 32 := 256#32
  let v3328 : BitVec 32 := Scalar.muli arg1 c256_i32_1437
  let c233_i32 : BitVec 32 := 233#32
  let v3329 : BitVec 32 := Scalar.addi v3328 c233_i32
  let c8_i32_1440 : BitVec 32 := 8#32
  let v3335 : BitVec 32 := Scalar.muli v3329 c8_i32_1440
  let v3336 : BitVec 32 := v3335
  let c0_i32_1441 : BitVec 32 := 0#32
  ![v3330.toNat, v3336.toNat, 0]
def k0_off942 (v3332 : BitVec 32) : Fin 2 → Nat :=
  let c8_i32_1439 : BitVec 32 := 8#32
  let v3333 : BitVec 32 := Scalar.muli v3332 c8_i32_1439
  let v3334 : BitVec 32 := v3333
  let c0_i32_1442 : BitVec 32 := 0#32
  ![v3334.toNat, 0]

def k0_chk236 (i : grid0.Coords) (v0 : BitVec 32) (v28 : BitVec 32) (v3332 : BitVec 32) : Prop :=
  (∀ (k0_h1 : k0_cond1 i v0 = 1#1), ∀ (k0_h4 : k0_cond4 i v28 = 1#1), 8 ∣ (k0_mult469 v3332).toNat) ∧
  (∀ (k0_h1 : k0_cond1 i v0 = 1#1), ∀ (k0_h4 : k0_cond4 i v28 = 1#1), ∀ a, (k0_off942 v3332) a + S8x128.size a ≤ S262144x128.size a)
theorem k0_mult469_dvd : ∀ (i : grid0.Coords) (v0 : BitVec 32) (v28 : BitVec 32) (v3332 : BitVec 32) (k0_hw236 : k0_chk236 i v0 v28 v3332), ∀ (k0_h1 : k0_cond1 i v0 = 1#1), ∀ (k0_h4 : k0_cond4 i v28 = 1#1), 8 ∣ (k0_mult469 v3332).toNat := fun i v0 v28 v3332 k0_hw236 k0_h1 k0_h4 => k0_hw236.1 k0_h1 k0_h4
theorem k0_off942_inb : ∀ (i : grid0.Coords) (v0 : BitVec 32) (v28 : BitVec 32) (v3332 : BitVec 32) (k0_hw236 : k0_chk236 i v0 v28 v3332), ∀ (k0_h1 : k0_cond1 i v0 = 1#1), ∀ (k0_h4 : k0_cond4 i v28 = 1#1), ∀ a, (k0_off942 v3332) a + S8x128.size a ≤ S262144x128.size a := fun i v0 v28 v3332 k0_hw236 k0_h1 k0_h4 => k0_hw236.2 k0_h1 k0_h4

def k0_off943 (i : grid0.Coords) : Fin 1 → Nat :=
  let arg1 : BitVec 32 := BitVec.ofNat 32 (i 1).val
  let c256_i32_1443 : BitVec 32 := 256#32
  let v3342 : BitVec 32 := Scalar.muli arg1 c256_i32_1443
  let c234_i32 : BitVec 32 := 234#32
  let v3343 : BitVec 32 := Scalar.addi v3342 c234_i32
  let v3345 : Index := Scalar.indexCast v3343
  ![v3345.toNat]
def k0_mult471 (v3346 : BitVec 32) : BitVec 32 :=
  let c8_i32_1445 : BitVec 32 := 8#32
  let v3347 : BitVec 32 := Scalar.muli v3346 c8_i32_1445
  v3347

def k0_mult472 (i : grid0.Coords) : BitVec 32 :=
  let arg1 : BitVec 32 := BitVec.ofNat 32 (i 1).val
  let c256_i32_1443 : BitVec 32 := 256#32
  let v3342 : BitVec 32 := Scalar.muli arg1 c256_i32_1443
  let c234_i32 : BitVec 32 := 234#32
  let v3343 : BitVec 32 := Scalar.addi v3342 c234_i32
  let c8_i32_1446 : BitVec 32 := 8#32
  let v3349 : BitVec 32 := Scalar.muli v3343 c8_i32_1446
  v3349
def k0_off944 (i : grid0.Coords) : Fin 1 → Nat :=
  let c1_i32_1444 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3344 : BitVec 32 := Scalar.subi c1_i32_1444 v11
  ![v3344.toNat]
def k0_off945 (i : grid0.Coords) : Fin 3 → Nat :=
  let c1_i32_1444 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3344 : BitVec 32 := Scalar.subi c1_i32_1444 v11
  let arg1 : BitVec 32 := BitVec.ofNat 32 (i 1).val
  let c256_i32_1443 : BitVec 32 := 256#32
  let v3342 : BitVec 32 := Scalar.muli arg1 c256_i32_1443
  let c234_i32 : BitVec 32 := 234#32
  let v3343 : BitVec 32 := Scalar.addi v3342 c234_i32
  let c8_i32_1446 : BitVec 32 := 8#32
  let v3349 : BitVec 32 := Scalar.muli v3343 c8_i32_1446
  let v3350 : BitVec 32 := v3349
  let c0_i32_1447 : BitVec 32 := 0#32
  ![v3344.toNat, v3350.toNat, 0]
def k0_off946 (v3346 : BitVec 32) : Fin 2 → Nat :=
  let c8_i32_1445 : BitVec 32 := 8#32
  let v3347 : BitVec 32 := Scalar.muli v3346 c8_i32_1445
  let v3348 : BitVec 32 := v3347
  let c0_i32_1448 : BitVec 32 := 0#32
  ![v3348.toNat, 0]

def k0_chk237 (i : grid0.Coords) (v0 : BitVec 32) (v28 : BitVec 32) (v3346 : BitVec 32) : Prop :=
  (∀ (k0_h1 : k0_cond1 i v0 = 1#1), ∀ (k0_h4 : k0_cond4 i v28 = 1#1), 8 ∣ (k0_mult471 v3346).toNat) ∧
  (∀ (k0_h1 : k0_cond1 i v0 = 1#1), ∀ (k0_h4 : k0_cond4 i v28 = 1#1), ∀ a, (k0_off946 v3346) a + S8x128.size a ≤ S262144x128.size a)
theorem k0_mult471_dvd : ∀ (i : grid0.Coords) (v0 : BitVec 32) (v28 : BitVec 32) (v3346 : BitVec 32) (k0_hw237 : k0_chk237 i v0 v28 v3346), ∀ (k0_h1 : k0_cond1 i v0 = 1#1), ∀ (k0_h4 : k0_cond4 i v28 = 1#1), 8 ∣ (k0_mult471 v3346).toNat := fun i v0 v28 v3346 k0_hw237 k0_h1 k0_h4 => k0_hw237.1 k0_h1 k0_h4
theorem k0_off946_inb : ∀ (i : grid0.Coords) (v0 : BitVec 32) (v28 : BitVec 32) (v3346 : BitVec 32) (k0_hw237 : k0_chk237 i v0 v28 v3346), ∀ (k0_h1 : k0_cond1 i v0 = 1#1), ∀ (k0_h4 : k0_cond4 i v28 = 1#1), ∀ a, (k0_off946 v3346) a + S8x128.size a ≤ S262144x128.size a := fun i v0 v28 v3346 k0_hw237 k0_h1 k0_h4 => k0_hw237.2 k0_h1 k0_h4

def k0_off947 (i : grid0.Coords) : Fin 1 → Nat :=
  let arg1 : BitVec 32 := BitVec.ofNat 32 (i 1).val
  let c256_i32_1449 : BitVec 32 := 256#32
  let v3356 : BitVec 32 := Scalar.muli arg1 c256_i32_1449
  let c235_i32 : BitVec 32 := 235#32
  let v3357 : BitVec 32 := Scalar.addi v3356 c235_i32
  let v3359 : Index := Scalar.indexCast v3357
  ![v3359.toNat]
def k0_mult473 (v3360 : BitVec 32) : BitVec 32 :=
  let c8_i32_1451 : BitVec 32 := 8#32
  let v3361 : BitVec 32 := Scalar.muli v3360 c8_i32_1451
  v3361

def k0_mult474 (i : grid0.Coords) : BitVec 32 :=
  let arg1 : BitVec 32 := BitVec.ofNat 32 (i 1).val
  let c256_i32_1449 : BitVec 32 := 256#32
  let v3356 : BitVec 32 := Scalar.muli arg1 c256_i32_1449
  let c235_i32 : BitVec 32 := 235#32
  let v3357 : BitVec 32 := Scalar.addi v3356 c235_i32
  let c8_i32_1452 : BitVec 32 := 8#32
  let v3363 : BitVec 32 := Scalar.muli v3357 c8_i32_1452
  v3363
def k0_off948 (i : grid0.Coords) : Fin 1 → Nat :=
  let c1_i32_1450 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3358 : BitVec 32 := Scalar.subi c1_i32_1450 v11
  ![v3358.toNat]
def k0_off949 (i : grid0.Coords) : Fin 3 → Nat :=
  let c1_i32_1450 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3358 : BitVec 32 := Scalar.subi c1_i32_1450 v11
  let arg1 : BitVec 32 := BitVec.ofNat 32 (i 1).val
  let c256_i32_1449 : BitVec 32 := 256#32
  let v3356 : BitVec 32 := Scalar.muli arg1 c256_i32_1449
  let c235_i32 : BitVec 32 := 235#32
  let v3357 : BitVec 32 := Scalar.addi v3356 c235_i32
  let c8_i32_1452 : BitVec 32 := 8#32
  let v3363 : BitVec 32 := Scalar.muli v3357 c8_i32_1452
  let v3364 : BitVec 32 := v3363
  let c0_i32_1453 : BitVec 32 := 0#32
  ![v3358.toNat, v3364.toNat, 0]
def k0_off950 (v3360 : BitVec 32) : Fin 2 → Nat :=
  let c8_i32_1451 : BitVec 32 := 8#32
  let v3361 : BitVec 32 := Scalar.muli v3360 c8_i32_1451
  let v3362 : BitVec 32 := v3361
  let c0_i32_1454 : BitVec 32 := 0#32
  ![v3362.toNat, 0]

def k0_chk238 (i : grid0.Coords) (v0 : BitVec 32) (v28 : BitVec 32) (v3360 : BitVec 32) : Prop :=
  (∀ (k0_h1 : k0_cond1 i v0 = 1#1), ∀ (k0_h4 : k0_cond4 i v28 = 1#1), 8 ∣ (k0_mult473 v3360).toNat) ∧
  (∀ (k0_h1 : k0_cond1 i v0 = 1#1), ∀ (k0_h4 : k0_cond4 i v28 = 1#1), ∀ a, (k0_off950 v3360) a + S8x128.size a ≤ S262144x128.size a)
theorem k0_mult473_dvd : ∀ (i : grid0.Coords) (v0 : BitVec 32) (v28 : BitVec 32) (v3360 : BitVec 32) (k0_hw238 : k0_chk238 i v0 v28 v3360), ∀ (k0_h1 : k0_cond1 i v0 = 1#1), ∀ (k0_h4 : k0_cond4 i v28 = 1#1), 8 ∣ (k0_mult473 v3360).toNat := fun i v0 v28 v3360 k0_hw238 k0_h1 k0_h4 => k0_hw238.1 k0_h1 k0_h4
theorem k0_off950_inb : ∀ (i : grid0.Coords) (v0 : BitVec 32) (v28 : BitVec 32) (v3360 : BitVec 32) (k0_hw238 : k0_chk238 i v0 v28 v3360), ∀ (k0_h1 : k0_cond1 i v0 = 1#1), ∀ (k0_h4 : k0_cond4 i v28 = 1#1), ∀ a, (k0_off950 v3360) a + S8x128.size a ≤ S262144x128.size a := fun i v0 v28 v3360 k0_hw238 k0_h1 k0_h4 => k0_hw238.2 k0_h1 k0_h4

def k0_off951 (i : grid0.Coords) : Fin 1 → Nat :=
  let arg1 : BitVec 32 := BitVec.ofNat 32 (i 1).val
  let c256_i32_1455 : BitVec 32 := 256#32
  let v3370 : BitVec 32 := Scalar.muli arg1 c256_i32_1455
  let c236_i32 : BitVec 32 := 236#32
  let v3371 : BitVec 32 := Scalar.addi v3370 c236_i32
  let v3373 : Index := Scalar.indexCast v3371
  ![v3373.toNat]
def k0_mult475 (v3374 : BitVec 32) : BitVec 32 :=
  let c8_i32_1457 : BitVec 32 := 8#32
  let v3375 : BitVec 32 := Scalar.muli v3374 c8_i32_1457
  v3375

def k0_mult476 (i : grid0.Coords) : BitVec 32 :=
  let arg1 : BitVec 32 := BitVec.ofNat 32 (i 1).val
  let c256_i32_1455 : BitVec 32 := 256#32
  let v3370 : BitVec 32 := Scalar.muli arg1 c256_i32_1455
  let c236_i32 : BitVec 32 := 236#32
  let v3371 : BitVec 32 := Scalar.addi v3370 c236_i32
  let c8_i32_1458 : BitVec 32 := 8#32
  let v3377 : BitVec 32 := Scalar.muli v3371 c8_i32_1458
  v3377
def k0_off952 (i : grid0.Coords) : Fin 1 → Nat :=
  let c1_i32_1456 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3372 : BitVec 32 := Scalar.subi c1_i32_1456 v11
  ![v3372.toNat]
def k0_off953 (i : grid0.Coords) : Fin 3 → Nat :=
  let c1_i32_1456 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3372 : BitVec 32 := Scalar.subi c1_i32_1456 v11
  let arg1 : BitVec 32 := BitVec.ofNat 32 (i 1).val
  let c256_i32_1455 : BitVec 32 := 256#32
  let v3370 : BitVec 32 := Scalar.muli arg1 c256_i32_1455
  let c236_i32 : BitVec 32 := 236#32
  let v3371 : BitVec 32 := Scalar.addi v3370 c236_i32
  let c8_i32_1458 : BitVec 32 := 8#32
  let v3377 : BitVec 32 := Scalar.muli v3371 c8_i32_1458
  let v3378 : BitVec 32 := v3377
  let c0_i32_1459 : BitVec 32 := 0#32
  ![v3372.toNat, v3378.toNat, 0]
def k0_off954 (v3374 : BitVec 32) : Fin 2 → Nat :=
  let c8_i32_1457 : BitVec 32 := 8#32
  let v3375 : BitVec 32 := Scalar.muli v3374 c8_i32_1457
  let v3376 : BitVec 32 := v3375
  let c0_i32_1460 : BitVec 32 := 0#32
  ![v3376.toNat, 0]

def k0_chk239 (i : grid0.Coords) (v0 : BitVec 32) (v28 : BitVec 32) (v3374 : BitVec 32) : Prop :=
  (∀ (k0_h1 : k0_cond1 i v0 = 1#1), ∀ (k0_h4 : k0_cond4 i v28 = 1#1), 8 ∣ (k0_mult475 v3374).toNat) ∧
  (∀ (k0_h1 : k0_cond1 i v0 = 1#1), ∀ (k0_h4 : k0_cond4 i v28 = 1#1), ∀ a, (k0_off954 v3374) a + S8x128.size a ≤ S262144x128.size a)
theorem k0_mult475_dvd : ∀ (i : grid0.Coords) (v0 : BitVec 32) (v28 : BitVec 32) (v3374 : BitVec 32) (k0_hw239 : k0_chk239 i v0 v28 v3374), ∀ (k0_h1 : k0_cond1 i v0 = 1#1), ∀ (k0_h4 : k0_cond4 i v28 = 1#1), 8 ∣ (k0_mult475 v3374).toNat := fun i v0 v28 v3374 k0_hw239 k0_h1 k0_h4 => k0_hw239.1 k0_h1 k0_h4
theorem k0_off954_inb : ∀ (i : grid0.Coords) (v0 : BitVec 32) (v28 : BitVec 32) (v3374 : BitVec 32) (k0_hw239 : k0_chk239 i v0 v28 v3374), ∀ (k0_h1 : k0_cond1 i v0 = 1#1), ∀ (k0_h4 : k0_cond4 i v28 = 1#1), ∀ a, (k0_off954 v3374) a + S8x128.size a ≤ S262144x128.size a := fun i v0 v28 v3374 k0_hw239 k0_h1 k0_h4 => k0_hw239.2 k0_h1 k0_h4

def k0_off955 (i : grid0.Coords) : Fin 1 → Nat :=
  let arg1 : BitVec 32 := BitVec.ofNat 32 (i 1).val
  let c256_i32_1461 : BitVec 32 := 256#32
  let v3384 : BitVec 32 := Scalar.muli arg1 c256_i32_1461
  let c237_i32 : BitVec 32 := 237#32
  let v3385 : BitVec 32 := Scalar.addi v3384 c237_i32
  let v3387 : Index := Scalar.indexCast v3385
  ![v3387.toNat]
def k0_mult477 (v3388 : BitVec 32) : BitVec 32 :=
  let c8_i32_1463 : BitVec 32 := 8#32
  let v3389 : BitVec 32 := Scalar.muli v3388 c8_i32_1463
  v3389

def k0_mult478 (i : grid0.Coords) : BitVec 32 :=
  let arg1 : BitVec 32 := BitVec.ofNat 32 (i 1).val
  let c256_i32_1461 : BitVec 32 := 256#32
  let v3384 : BitVec 32 := Scalar.muli arg1 c256_i32_1461
  let c237_i32 : BitVec 32 := 237#32
  let v3385 : BitVec 32 := Scalar.addi v3384 c237_i32
  let c8_i32_1464 : BitVec 32 := 8#32
  let v3391 : BitVec 32 := Scalar.muli v3385 c8_i32_1464
  v3391
def k0_off956 (i : grid0.Coords) : Fin 1 → Nat :=
  let c1_i32_1462 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3386 : BitVec 32 := Scalar.subi c1_i32_1462 v11
  ![v3386.toNat]
def k0_off957 (i : grid0.Coords) : Fin 3 → Nat :=
  let c1_i32_1462 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3386 : BitVec 32 := Scalar.subi c1_i32_1462 v11
  let arg1 : BitVec 32 := BitVec.ofNat 32 (i 1).val
  let c256_i32_1461 : BitVec 32 := 256#32
  let v3384 : BitVec 32 := Scalar.muli arg1 c256_i32_1461
  let c237_i32 : BitVec 32 := 237#32
  let v3385 : BitVec 32 := Scalar.addi v3384 c237_i32
  let c8_i32_1464 : BitVec 32 := 8#32
  let v3391 : BitVec 32 := Scalar.muli v3385 c8_i32_1464
  let v3392 : BitVec 32 := v3391
  let c0_i32_1465 : BitVec 32 := 0#32
  ![v3386.toNat, v3392.toNat, 0]
def k0_off958 (v3388 : BitVec 32) : Fin 2 → Nat :=
  let c8_i32_1463 : BitVec 32 := 8#32
  let v3389 : BitVec 32 := Scalar.muli v3388 c8_i32_1463
  let v3390 : BitVec 32 := v3389
  let c0_i32_1466 : BitVec 32 := 0#32
  ![v3390.toNat, 0]

def k0_chk240 (i : grid0.Coords) (v0 : BitVec 32) (v28 : BitVec 32) (v3388 : BitVec 32) : Prop :=
  (∀ (k0_h1 : k0_cond1 i v0 = 1#1), ∀ (k0_h4 : k0_cond4 i v28 = 1#1), 8 ∣ (k0_mult477 v3388).toNat) ∧
  (∀ (k0_h1 : k0_cond1 i v0 = 1#1), ∀ (k0_h4 : k0_cond4 i v28 = 1#1), ∀ a, (k0_off958 v3388) a + S8x128.size a ≤ S262144x128.size a)
theorem k0_mult477_dvd : ∀ (i : grid0.Coords) (v0 : BitVec 32) (v28 : BitVec 32) (v3388 : BitVec 32) (k0_hw240 : k0_chk240 i v0 v28 v3388), ∀ (k0_h1 : k0_cond1 i v0 = 1#1), ∀ (k0_h4 : k0_cond4 i v28 = 1#1), 8 ∣ (k0_mult477 v3388).toNat := fun i v0 v28 v3388 k0_hw240 k0_h1 k0_h4 => k0_hw240.1 k0_h1 k0_h4
theorem k0_off958_inb : ∀ (i : grid0.Coords) (v0 : BitVec 32) (v28 : BitVec 32) (v3388 : BitVec 32) (k0_hw240 : k0_chk240 i v0 v28 v3388), ∀ (k0_h1 : k0_cond1 i v0 = 1#1), ∀ (k0_h4 : k0_cond4 i v28 = 1#1), ∀ a, (k0_off958 v3388) a + S8x128.size a ≤ S262144x128.size a := fun i v0 v28 v3388 k0_hw240 k0_h1 k0_h4 => k0_hw240.2 k0_h1 k0_h4

def k0_off959 (i : grid0.Coords) : Fin 1 → Nat :=
  let arg1 : BitVec 32 := BitVec.ofNat 32 (i 1).val
  let c256_i32_1467 : BitVec 32 := 256#32
  let v3398 : BitVec 32 := Scalar.muli arg1 c256_i32_1467
  let c238_i32 : BitVec 32 := 238#32
  let v3399 : BitVec 32 := Scalar.addi v3398 c238_i32
  let v3401 : Index := Scalar.indexCast v3399
  ![v3401.toNat]
def k0_mult479 (v3402 : BitVec 32) : BitVec 32 :=
  let c8_i32_1469 : BitVec 32 := 8#32
  let v3403 : BitVec 32 := Scalar.muli v3402 c8_i32_1469
  v3403

def k0_mult480 (i : grid0.Coords) : BitVec 32 :=
  let arg1 : BitVec 32 := BitVec.ofNat 32 (i 1).val
  let c256_i32_1467 : BitVec 32 := 256#32
  let v3398 : BitVec 32 := Scalar.muli arg1 c256_i32_1467
  let c238_i32 : BitVec 32 := 238#32
  let v3399 : BitVec 32 := Scalar.addi v3398 c238_i32
  let c8_i32_1470 : BitVec 32 := 8#32
  let v3405 : BitVec 32 := Scalar.muli v3399 c8_i32_1470
  v3405
def k0_off960 (i : grid0.Coords) : Fin 1 → Nat :=
  let c1_i32_1468 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3400 : BitVec 32 := Scalar.subi c1_i32_1468 v11
  ![v3400.toNat]
def k0_off961 (i : grid0.Coords) : Fin 3 → Nat :=
  let c1_i32_1468 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3400 : BitVec 32 := Scalar.subi c1_i32_1468 v11
  let arg1 : BitVec 32 := BitVec.ofNat 32 (i 1).val
  let c256_i32_1467 : BitVec 32 := 256#32
  let v3398 : BitVec 32 := Scalar.muli arg1 c256_i32_1467
  let c238_i32 : BitVec 32 := 238#32
  let v3399 : BitVec 32 := Scalar.addi v3398 c238_i32
  let c8_i32_1470 : BitVec 32 := 8#32
  let v3405 : BitVec 32 := Scalar.muli v3399 c8_i32_1470
  let v3406 : BitVec 32 := v3405
  let c0_i32_1471 : BitVec 32 := 0#32
  ![v3400.toNat, v3406.toNat, 0]
def k0_off962 (v3402 : BitVec 32) : Fin 2 → Nat :=
  let c8_i32_1469 : BitVec 32 := 8#32
  let v3403 : BitVec 32 := Scalar.muli v3402 c8_i32_1469
  let v3404 : BitVec 32 := v3403
  let c0_i32_1472 : BitVec 32 := 0#32
  ![v3404.toNat, 0]

def k0_chk241 (i : grid0.Coords) (v0 : BitVec 32) (v28 : BitVec 32) (v3402 : BitVec 32) : Prop :=
  (∀ (k0_h1 : k0_cond1 i v0 = 1#1), ∀ (k0_h4 : k0_cond4 i v28 = 1#1), 8 ∣ (k0_mult479 v3402).toNat) ∧
  (∀ (k0_h1 : k0_cond1 i v0 = 1#1), ∀ (k0_h4 : k0_cond4 i v28 = 1#1), ∀ a, (k0_off962 v3402) a + S8x128.size a ≤ S262144x128.size a)
theorem k0_mult479_dvd : ∀ (i : grid0.Coords) (v0 : BitVec 32) (v28 : BitVec 32) (v3402 : BitVec 32) (k0_hw241 : k0_chk241 i v0 v28 v3402), ∀ (k0_h1 : k0_cond1 i v0 = 1#1), ∀ (k0_h4 : k0_cond4 i v28 = 1#1), 8 ∣ (k0_mult479 v3402).toNat := fun i v0 v28 v3402 k0_hw241 k0_h1 k0_h4 => k0_hw241.1 k0_h1 k0_h4
theorem k0_off962_inb : ∀ (i : grid0.Coords) (v0 : BitVec 32) (v28 : BitVec 32) (v3402 : BitVec 32) (k0_hw241 : k0_chk241 i v0 v28 v3402), ∀ (k0_h1 : k0_cond1 i v0 = 1#1), ∀ (k0_h4 : k0_cond4 i v28 = 1#1), ∀ a, (k0_off962 v3402) a + S8x128.size a ≤ S262144x128.size a := fun i v0 v28 v3402 k0_hw241 k0_h1 k0_h4 => k0_hw241.2 k0_h1 k0_h4

def k0_off963 (i : grid0.Coords) : Fin 1 → Nat :=
  let arg1 : BitVec 32 := BitVec.ofNat 32 (i 1).val
  let c256_i32_1473 : BitVec 32 := 256#32
  let v3412 : BitVec 32 := Scalar.muli arg1 c256_i32_1473
  let c239_i32 : BitVec 32 := 239#32
  let v3413 : BitVec 32 := Scalar.addi v3412 c239_i32
  let v3415 : Index := Scalar.indexCast v3413
  ![v3415.toNat]
def k0_mult481 (v3416 : BitVec 32) : BitVec 32 :=
  let c8_i32_1475 : BitVec 32 := 8#32
  let v3417 : BitVec 32 := Scalar.muli v3416 c8_i32_1475
  v3417

def k0_mult482 (i : grid0.Coords) : BitVec 32 :=
  let arg1 : BitVec 32 := BitVec.ofNat 32 (i 1).val
  let c256_i32_1473 : BitVec 32 := 256#32
  let v3412 : BitVec 32 := Scalar.muli arg1 c256_i32_1473
  let c239_i32 : BitVec 32 := 239#32
  let v3413 : BitVec 32 := Scalar.addi v3412 c239_i32
  let c8_i32_1476 : BitVec 32 := 8#32
  let v3419 : BitVec 32 := Scalar.muli v3413 c8_i32_1476
  v3419
def k0_off964 (i : grid0.Coords) : Fin 1 → Nat :=
  let c1_i32_1474 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3414 : BitVec 32 := Scalar.subi c1_i32_1474 v11
  ![v3414.toNat]
def k0_off965 (i : grid0.Coords) : Fin 3 → Nat :=
  let c1_i32_1474 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3414 : BitVec 32 := Scalar.subi c1_i32_1474 v11
  let arg1 : BitVec 32 := BitVec.ofNat 32 (i 1).val
  let c256_i32_1473 : BitVec 32 := 256#32
  let v3412 : BitVec 32 := Scalar.muli arg1 c256_i32_1473
  let c239_i32 : BitVec 32 := 239#32
  let v3413 : BitVec 32 := Scalar.addi v3412 c239_i32
  let c8_i32_1476 : BitVec 32 := 8#32
  let v3419 : BitVec 32 := Scalar.muli v3413 c8_i32_1476
  let v3420 : BitVec 32 := v3419
  let c0_i32_1477 : BitVec 32 := 0#32
  ![v3414.toNat, v3420.toNat, 0]
def k0_off966 (v3416 : BitVec 32) : Fin 2 → Nat :=
  let c8_i32_1475 : BitVec 32 := 8#32
  let v3417 : BitVec 32 := Scalar.muli v3416 c8_i32_1475
  let v3418 : BitVec 32 := v3417
  let c0_i32_1478 : BitVec 32 := 0#32
  ![v3418.toNat, 0]

def k0_chk242 (i : grid0.Coords) (v0 : BitVec 32) (v28 : BitVec 32) (v3416 : BitVec 32) : Prop :=
  (∀ (k0_h1 : k0_cond1 i v0 = 1#1), ∀ (k0_h4 : k0_cond4 i v28 = 1#1), 8 ∣ (k0_mult481 v3416).toNat) ∧
  (∀ (k0_h1 : k0_cond1 i v0 = 1#1), ∀ (k0_h4 : k0_cond4 i v28 = 1#1), ∀ a, (k0_off966 v3416) a + S8x128.size a ≤ S262144x128.size a)
theorem k0_mult481_dvd : ∀ (i : grid0.Coords) (v0 : BitVec 32) (v28 : BitVec 32) (v3416 : BitVec 32) (k0_hw242 : k0_chk242 i v0 v28 v3416), ∀ (k0_h1 : k0_cond1 i v0 = 1#1), ∀ (k0_h4 : k0_cond4 i v28 = 1#1), 8 ∣ (k0_mult481 v3416).toNat := fun i v0 v28 v3416 k0_hw242 k0_h1 k0_h4 => k0_hw242.1 k0_h1 k0_h4
theorem k0_off966_inb : ∀ (i : grid0.Coords) (v0 : BitVec 32) (v28 : BitVec 32) (v3416 : BitVec 32) (k0_hw242 : k0_chk242 i v0 v28 v3416), ∀ (k0_h1 : k0_cond1 i v0 = 1#1), ∀ (k0_h4 : k0_cond4 i v28 = 1#1), ∀ a, (k0_off966 v3416) a + S8x128.size a ≤ S262144x128.size a := fun i v0 v28 v3416 k0_hw242 k0_h1 k0_h4 => k0_hw242.2 k0_h1 k0_h4

def k0_off967 (i : grid0.Coords) : Fin 1 → Nat :=
  let arg1 : BitVec 32 := BitVec.ofNat 32 (i 1).val
  let c256_i32_1479 : BitVec 32 := 256#32
  let v3426 : BitVec 32 := Scalar.muli arg1 c256_i32_1479
  let c240_i32 : BitVec 32 := 240#32
  let v3427 : BitVec 32 := Scalar.addi v3426 c240_i32
  let v3429 : Index := Scalar.indexCast v3427
  ![v3429.toNat]
def k0_mult483 (v3430 : BitVec 32) : BitVec 32 :=
  let c8_i32_1481 : BitVec 32 := 8#32
  let v3431 : BitVec 32 := Scalar.muli v3430 c8_i32_1481
  v3431

def k0_mult484 (i : grid0.Coords) : BitVec 32 :=
  let arg1 : BitVec 32 := BitVec.ofNat 32 (i 1).val
  let c256_i32_1479 : BitVec 32 := 256#32
  let v3426 : BitVec 32 := Scalar.muli arg1 c256_i32_1479
  let c240_i32 : BitVec 32 := 240#32
  let v3427 : BitVec 32 := Scalar.addi v3426 c240_i32
  let c8_i32_1482 : BitVec 32 := 8#32
  let v3433 : BitVec 32 := Scalar.muli v3427 c8_i32_1482
  v3433
def k0_off968 (i : grid0.Coords) : Fin 1 → Nat :=
  let c1_i32_1480 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3428 : BitVec 32 := Scalar.subi c1_i32_1480 v11
  ![v3428.toNat]
def k0_off969 (i : grid0.Coords) : Fin 3 → Nat :=
  let c1_i32_1480 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3428 : BitVec 32 := Scalar.subi c1_i32_1480 v11
  let arg1 : BitVec 32 := BitVec.ofNat 32 (i 1).val
  let c256_i32_1479 : BitVec 32 := 256#32
  let v3426 : BitVec 32 := Scalar.muli arg1 c256_i32_1479
  let c240_i32 : BitVec 32 := 240#32
  let v3427 : BitVec 32 := Scalar.addi v3426 c240_i32
  let c8_i32_1482 : BitVec 32 := 8#32
  let v3433 : BitVec 32 := Scalar.muli v3427 c8_i32_1482
  let v3434 : BitVec 32 := v3433
  let c0_i32_1483 : BitVec 32 := 0#32
  ![v3428.toNat, v3434.toNat, 0]
def k0_off970 (v3430 : BitVec 32) : Fin 2 → Nat :=
  let c8_i32_1481 : BitVec 32 := 8#32
  let v3431 : BitVec 32 := Scalar.muli v3430 c8_i32_1481
  let v3432 : BitVec 32 := v3431
  let c0_i32_1484 : BitVec 32 := 0#32
  ![v3432.toNat, 0]

def k0_chk243 (i : grid0.Coords) (v0 : BitVec 32) (v28 : BitVec 32) (v3430 : BitVec 32) : Prop :=
  (∀ (k0_h1 : k0_cond1 i v0 = 1#1), ∀ (k0_h4 : k0_cond4 i v28 = 1#1), 8 ∣ (k0_mult483 v3430).toNat) ∧
  (∀ (k0_h1 : k0_cond1 i v0 = 1#1), ∀ (k0_h4 : k0_cond4 i v28 = 1#1), ∀ a, (k0_off970 v3430) a + S8x128.size a ≤ S262144x128.size a)
theorem k0_mult483_dvd : ∀ (i : grid0.Coords) (v0 : BitVec 32) (v28 : BitVec 32) (v3430 : BitVec 32) (k0_hw243 : k0_chk243 i v0 v28 v3430), ∀ (k0_h1 : k0_cond1 i v0 = 1#1), ∀ (k0_h4 : k0_cond4 i v28 = 1#1), 8 ∣ (k0_mult483 v3430).toNat := fun i v0 v28 v3430 k0_hw243 k0_h1 k0_h4 => k0_hw243.1 k0_h1 k0_h4
theorem k0_off970_inb : ∀ (i : grid0.Coords) (v0 : BitVec 32) (v28 : BitVec 32) (v3430 : BitVec 32) (k0_hw243 : k0_chk243 i v0 v28 v3430), ∀ (k0_h1 : k0_cond1 i v0 = 1#1), ∀ (k0_h4 : k0_cond4 i v28 = 1#1), ∀ a, (k0_off970 v3430) a + S8x128.size a ≤ S262144x128.size a := fun i v0 v28 v3430 k0_hw243 k0_h1 k0_h4 => k0_hw243.2 k0_h1 k0_h4

def k0_off971 (i : grid0.Coords) : Fin 1 → Nat :=
  let arg1 : BitVec 32 := BitVec.ofNat 32 (i 1).val
  let c256_i32_1485 : BitVec 32 := 256#32
  let v3440 : BitVec 32 := Scalar.muli arg1 c256_i32_1485
  let c241_i32 : BitVec 32 := 241#32
  let v3441 : BitVec 32 := Scalar.addi v3440 c241_i32
  let v3443 : Index := Scalar.indexCast v3441
  ![v3443.toNat]
def k0_mult485 (v3444 : BitVec 32) : BitVec 32 :=
  let c8_i32_1487 : BitVec 32 := 8#32
  let v3445 : BitVec 32 := Scalar.muli v3444 c8_i32_1487
  v3445

def k0_mult486 (i : grid0.Coords) : BitVec 32 :=
  let arg1 : BitVec 32 := BitVec.ofNat 32 (i 1).val
  let c256_i32_1485 : BitVec 32 := 256#32
  let v3440 : BitVec 32 := Scalar.muli arg1 c256_i32_1485
  let c241_i32 : BitVec 32 := 241#32
  let v3441 : BitVec 32 := Scalar.addi v3440 c241_i32
  let c8_i32_1488 : BitVec 32 := 8#32
  let v3447 : BitVec 32 := Scalar.muli v3441 c8_i32_1488
  v3447
def k0_off972 (i : grid0.Coords) : Fin 1 → Nat :=
  let c1_i32_1486 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3442 : BitVec 32 := Scalar.subi c1_i32_1486 v11
  ![v3442.toNat]
def k0_off973 (i : grid0.Coords) : Fin 3 → Nat :=
  let c1_i32_1486 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3442 : BitVec 32 := Scalar.subi c1_i32_1486 v11
  let arg1 : BitVec 32 := BitVec.ofNat 32 (i 1).val
  let c256_i32_1485 : BitVec 32 := 256#32
  let v3440 : BitVec 32 := Scalar.muli arg1 c256_i32_1485
  let c241_i32 : BitVec 32 := 241#32
  let v3441 : BitVec 32 := Scalar.addi v3440 c241_i32
  let c8_i32_1488 : BitVec 32 := 8#32
  let v3447 : BitVec 32 := Scalar.muli v3441 c8_i32_1488
  let v3448 : BitVec 32 := v3447
  let c0_i32_1489 : BitVec 32 := 0#32
  ![v3442.toNat, v3448.toNat, 0]
def k0_off974 (v3444 : BitVec 32) : Fin 2 → Nat :=
  let c8_i32_1487 : BitVec 32 := 8#32
  let v3445 : BitVec 32 := Scalar.muli v3444 c8_i32_1487
  let v3446 : BitVec 32 := v3445
  let c0_i32_1490 : BitVec 32 := 0#32
  ![v3446.toNat, 0]

def k0_chk244 (i : grid0.Coords) (v0 : BitVec 32) (v28 : BitVec 32) (v3444 : BitVec 32) : Prop :=
  (∀ (k0_h1 : k0_cond1 i v0 = 1#1), ∀ (k0_h4 : k0_cond4 i v28 = 1#1), 8 ∣ (k0_mult485 v3444).toNat) ∧
  (∀ (k0_h1 : k0_cond1 i v0 = 1#1), ∀ (k0_h4 : k0_cond4 i v28 = 1#1), ∀ a, (k0_off974 v3444) a + S8x128.size a ≤ S262144x128.size a)
theorem k0_mult485_dvd : ∀ (i : grid0.Coords) (v0 : BitVec 32) (v28 : BitVec 32) (v3444 : BitVec 32) (k0_hw244 : k0_chk244 i v0 v28 v3444), ∀ (k0_h1 : k0_cond1 i v0 = 1#1), ∀ (k0_h4 : k0_cond4 i v28 = 1#1), 8 ∣ (k0_mult485 v3444).toNat := fun i v0 v28 v3444 k0_hw244 k0_h1 k0_h4 => k0_hw244.1 k0_h1 k0_h4
theorem k0_off974_inb : ∀ (i : grid0.Coords) (v0 : BitVec 32) (v28 : BitVec 32) (v3444 : BitVec 32) (k0_hw244 : k0_chk244 i v0 v28 v3444), ∀ (k0_h1 : k0_cond1 i v0 = 1#1), ∀ (k0_h4 : k0_cond4 i v28 = 1#1), ∀ a, (k0_off974 v3444) a + S8x128.size a ≤ S262144x128.size a := fun i v0 v28 v3444 k0_hw244 k0_h1 k0_h4 => k0_hw244.2 k0_h1 k0_h4

def k0_off975 (i : grid0.Coords) : Fin 1 → Nat :=
  let arg1 : BitVec 32 := BitVec.ofNat 32 (i 1).val
  let c256_i32_1491 : BitVec 32 := 256#32
  let v3454 : BitVec 32 := Scalar.muli arg1 c256_i32_1491
  let c242_i32 : BitVec 32 := 242#32
  let v3455 : BitVec 32 := Scalar.addi v3454 c242_i32
  let v3457 : Index := Scalar.indexCast v3455
  ![v3457.toNat]
def k0_mult487 (v3458 : BitVec 32) : BitVec 32 :=
  let c8_i32_1493 : BitVec 32 := 8#32
  let v3459 : BitVec 32 := Scalar.muli v3458 c8_i32_1493
  v3459

def k0_mult488 (i : grid0.Coords) : BitVec 32 :=
  let arg1 : BitVec 32 := BitVec.ofNat 32 (i 1).val
  let c256_i32_1491 : BitVec 32 := 256#32
  let v3454 : BitVec 32 := Scalar.muli arg1 c256_i32_1491
  let c242_i32 : BitVec 32 := 242#32
  let v3455 : BitVec 32 := Scalar.addi v3454 c242_i32
  let c8_i32_1494 : BitVec 32 := 8#32
  let v3461 : BitVec 32 := Scalar.muli v3455 c8_i32_1494
  v3461
def k0_off976 (i : grid0.Coords) : Fin 1 → Nat :=
  let c1_i32_1492 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3456 : BitVec 32 := Scalar.subi c1_i32_1492 v11
  ![v3456.toNat]
def k0_off977 (i : grid0.Coords) : Fin 3 → Nat :=
  let c1_i32_1492 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3456 : BitVec 32 := Scalar.subi c1_i32_1492 v11
  let arg1 : BitVec 32 := BitVec.ofNat 32 (i 1).val
  let c256_i32_1491 : BitVec 32 := 256#32
  let v3454 : BitVec 32 := Scalar.muli arg1 c256_i32_1491
  let c242_i32 : BitVec 32 := 242#32
  let v3455 : BitVec 32 := Scalar.addi v3454 c242_i32
  let c8_i32_1494 : BitVec 32 := 8#32
  let v3461 : BitVec 32 := Scalar.muli v3455 c8_i32_1494
  let v3462 : BitVec 32 := v3461
  let c0_i32_1495 : BitVec 32 := 0#32
  ![v3456.toNat, v3462.toNat, 0]
def k0_off978 (v3458 : BitVec 32) : Fin 2 → Nat :=
  let c8_i32_1493 : BitVec 32 := 8#32
  let v3459 : BitVec 32 := Scalar.muli v3458 c8_i32_1493
  let v3460 : BitVec 32 := v3459
  let c0_i32_1496 : BitVec 32 := 0#32
  ![v3460.toNat, 0]

def k0_chk245 (i : grid0.Coords) (v0 : BitVec 32) (v28 : BitVec 32) (v3458 : BitVec 32) : Prop :=
  (∀ (k0_h1 : k0_cond1 i v0 = 1#1), ∀ (k0_h4 : k0_cond4 i v28 = 1#1), 8 ∣ (k0_mult487 v3458).toNat) ∧
  (∀ (k0_h1 : k0_cond1 i v0 = 1#1), ∀ (k0_h4 : k0_cond4 i v28 = 1#1), ∀ a, (k0_off978 v3458) a + S8x128.size a ≤ S262144x128.size a)
theorem k0_mult487_dvd : ∀ (i : grid0.Coords) (v0 : BitVec 32) (v28 : BitVec 32) (v3458 : BitVec 32) (k0_hw245 : k0_chk245 i v0 v28 v3458), ∀ (k0_h1 : k0_cond1 i v0 = 1#1), ∀ (k0_h4 : k0_cond4 i v28 = 1#1), 8 ∣ (k0_mult487 v3458).toNat := fun i v0 v28 v3458 k0_hw245 k0_h1 k0_h4 => k0_hw245.1 k0_h1 k0_h4
theorem k0_off978_inb : ∀ (i : grid0.Coords) (v0 : BitVec 32) (v28 : BitVec 32) (v3458 : BitVec 32) (k0_hw245 : k0_chk245 i v0 v28 v3458), ∀ (k0_h1 : k0_cond1 i v0 = 1#1), ∀ (k0_h4 : k0_cond4 i v28 = 1#1), ∀ a, (k0_off978 v3458) a + S8x128.size a ≤ S262144x128.size a := fun i v0 v28 v3458 k0_hw245 k0_h1 k0_h4 => k0_hw245.2 k0_h1 k0_h4

def k0_off979 (i : grid0.Coords) : Fin 1 → Nat :=
  let arg1 : BitVec 32 := BitVec.ofNat 32 (i 1).val
  let c256_i32_1497 : BitVec 32 := 256#32
  let v3468 : BitVec 32 := Scalar.muli arg1 c256_i32_1497
  let c243_i32 : BitVec 32 := 243#32
  let v3469 : BitVec 32 := Scalar.addi v3468 c243_i32
  let v3471 : Index := Scalar.indexCast v3469
  ![v3471.toNat]
def k0_mult489 (v3472 : BitVec 32) : BitVec 32 :=
  let c8_i32_1499 : BitVec 32 := 8#32
  let v3473 : BitVec 32 := Scalar.muli v3472 c8_i32_1499
  v3473

def k0_mult490 (i : grid0.Coords) : BitVec 32 :=
  let arg1 : BitVec 32 := BitVec.ofNat 32 (i 1).val
  let c256_i32_1497 : BitVec 32 := 256#32
  let v3468 : BitVec 32 := Scalar.muli arg1 c256_i32_1497
  let c243_i32 : BitVec 32 := 243#32
  let v3469 : BitVec 32 := Scalar.addi v3468 c243_i32
  let c8_i32_1500 : BitVec 32 := 8#32
  let v3475 : BitVec 32 := Scalar.muli v3469 c8_i32_1500
  v3475
def k0_off980 (i : grid0.Coords) : Fin 1 → Nat :=
  let c1_i32_1498 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3470 : BitVec 32 := Scalar.subi c1_i32_1498 v11
  ![v3470.toNat]
def k0_off981 (i : grid0.Coords) : Fin 3 → Nat :=
  let c1_i32_1498 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3470 : BitVec 32 := Scalar.subi c1_i32_1498 v11
  let arg1 : BitVec 32 := BitVec.ofNat 32 (i 1).val
  let c256_i32_1497 : BitVec 32 := 256#32
  let v3468 : BitVec 32 := Scalar.muli arg1 c256_i32_1497
  let c243_i32 : BitVec 32 := 243#32
  let v3469 : BitVec 32 := Scalar.addi v3468 c243_i32
  let c8_i32_1500 : BitVec 32 := 8#32
  let v3475 : BitVec 32 := Scalar.muli v3469 c8_i32_1500
  let v3476 : BitVec 32 := v3475
  let c0_i32_1501 : BitVec 32 := 0#32
  ![v3470.toNat, v3476.toNat, 0]
def k0_off982 (v3472 : BitVec 32) : Fin 2 → Nat :=
  let c8_i32_1499 : BitVec 32 := 8#32
  let v3473 : BitVec 32 := Scalar.muli v3472 c8_i32_1499
  let v3474 : BitVec 32 := v3473
  let c0_i32_1502 : BitVec 32 := 0#32
  ![v3474.toNat, 0]

def k0_chk246 (i : grid0.Coords) (v0 : BitVec 32) (v28 : BitVec 32) (v3472 : BitVec 32) : Prop :=
  (∀ (k0_h1 : k0_cond1 i v0 = 1#1), ∀ (k0_h4 : k0_cond4 i v28 = 1#1), 8 ∣ (k0_mult489 v3472).toNat) ∧
  (∀ (k0_h1 : k0_cond1 i v0 = 1#1), ∀ (k0_h4 : k0_cond4 i v28 = 1#1), ∀ a, (k0_off982 v3472) a + S8x128.size a ≤ S262144x128.size a)
theorem k0_mult489_dvd : ∀ (i : grid0.Coords) (v0 : BitVec 32) (v28 : BitVec 32) (v3472 : BitVec 32) (k0_hw246 : k0_chk246 i v0 v28 v3472), ∀ (k0_h1 : k0_cond1 i v0 = 1#1), ∀ (k0_h4 : k0_cond4 i v28 = 1#1), 8 ∣ (k0_mult489 v3472).toNat := fun i v0 v28 v3472 k0_hw246 k0_h1 k0_h4 => k0_hw246.1 k0_h1 k0_h4
theorem k0_off982_inb : ∀ (i : grid0.Coords) (v0 : BitVec 32) (v28 : BitVec 32) (v3472 : BitVec 32) (k0_hw246 : k0_chk246 i v0 v28 v3472), ∀ (k0_h1 : k0_cond1 i v0 = 1#1), ∀ (k0_h4 : k0_cond4 i v28 = 1#1), ∀ a, (k0_off982 v3472) a + S8x128.size a ≤ S262144x128.size a := fun i v0 v28 v3472 k0_hw246 k0_h1 k0_h4 => k0_hw246.2 k0_h1 k0_h4

def k0_off983 (i : grid0.Coords) : Fin 1 → Nat :=
  let arg1 : BitVec 32 := BitVec.ofNat 32 (i 1).val
  let c256_i32_1503 : BitVec 32 := 256#32
  let v3482 : BitVec 32 := Scalar.muli arg1 c256_i32_1503
  let c244_i32 : BitVec 32 := 244#32
  let v3483 : BitVec 32 := Scalar.addi v3482 c244_i32
  let v3485 : Index := Scalar.indexCast v3483
  ![v3485.toNat]
def k0_mult491 (v3486 : BitVec 32) : BitVec 32 :=
  let c8_i32_1505 : BitVec 32 := 8#32
  let v3487 : BitVec 32 := Scalar.muli v3486 c8_i32_1505
  v3487

def k0_mult492 (i : grid0.Coords) : BitVec 32 :=
  let arg1 : BitVec 32 := BitVec.ofNat 32 (i 1).val
  let c256_i32_1503 : BitVec 32 := 256#32
  let v3482 : BitVec 32 := Scalar.muli arg1 c256_i32_1503
  let c244_i32 : BitVec 32 := 244#32
  let v3483 : BitVec 32 := Scalar.addi v3482 c244_i32
  let c8_i32_1506 : BitVec 32 := 8#32
  let v3489 : BitVec 32 := Scalar.muli v3483 c8_i32_1506
  v3489
def k0_off984 (i : grid0.Coords) : Fin 1 → Nat :=
  let c1_i32_1504 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3484 : BitVec 32 := Scalar.subi c1_i32_1504 v11
  ![v3484.toNat]
def k0_off985 (i : grid0.Coords) : Fin 3 → Nat :=
  let c1_i32_1504 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3484 : BitVec 32 := Scalar.subi c1_i32_1504 v11
  let arg1 : BitVec 32 := BitVec.ofNat 32 (i 1).val
  let c256_i32_1503 : BitVec 32 := 256#32
  let v3482 : BitVec 32 := Scalar.muli arg1 c256_i32_1503
  let c244_i32 : BitVec 32 := 244#32
  let v3483 : BitVec 32 := Scalar.addi v3482 c244_i32
  let c8_i32_1506 : BitVec 32 := 8#32
  let v3489 : BitVec 32 := Scalar.muli v3483 c8_i32_1506
  let v3490 : BitVec 32 := v3489
  let c0_i32_1507 : BitVec 32 := 0#32
  ![v3484.toNat, v3490.toNat, 0]
def k0_off986 (v3486 : BitVec 32) : Fin 2 → Nat :=
  let c8_i32_1505 : BitVec 32 := 8#32
  let v3487 : BitVec 32 := Scalar.muli v3486 c8_i32_1505
  let v3488 : BitVec 32 := v3487
  let c0_i32_1508 : BitVec 32 := 0#32
  ![v3488.toNat, 0]

def k0_chk247 (i : grid0.Coords) (v0 : BitVec 32) (v28 : BitVec 32) (v3486 : BitVec 32) : Prop :=
  (∀ (k0_h1 : k0_cond1 i v0 = 1#1), ∀ (k0_h4 : k0_cond4 i v28 = 1#1), 8 ∣ (k0_mult491 v3486).toNat) ∧
  (∀ (k0_h1 : k0_cond1 i v0 = 1#1), ∀ (k0_h4 : k0_cond4 i v28 = 1#1), ∀ a, (k0_off986 v3486) a + S8x128.size a ≤ S262144x128.size a)
theorem k0_mult491_dvd : ∀ (i : grid0.Coords) (v0 : BitVec 32) (v28 : BitVec 32) (v3486 : BitVec 32) (k0_hw247 : k0_chk247 i v0 v28 v3486), ∀ (k0_h1 : k0_cond1 i v0 = 1#1), ∀ (k0_h4 : k0_cond4 i v28 = 1#1), 8 ∣ (k0_mult491 v3486).toNat := fun i v0 v28 v3486 k0_hw247 k0_h1 k0_h4 => k0_hw247.1 k0_h1 k0_h4
theorem k0_off986_inb : ∀ (i : grid0.Coords) (v0 : BitVec 32) (v28 : BitVec 32) (v3486 : BitVec 32) (k0_hw247 : k0_chk247 i v0 v28 v3486), ∀ (k0_h1 : k0_cond1 i v0 = 1#1), ∀ (k0_h4 : k0_cond4 i v28 = 1#1), ∀ a, (k0_off986 v3486) a + S8x128.size a ≤ S262144x128.size a := fun i v0 v28 v3486 k0_hw247 k0_h1 k0_h4 => k0_hw247.2 k0_h1 k0_h4

def k0_off987 (i : grid0.Coords) : Fin 1 → Nat :=
  let arg1 : BitVec 32 := BitVec.ofNat 32 (i 1).val
  let c256_i32_1509 : BitVec 32 := 256#32
  let v3496 : BitVec 32 := Scalar.muli arg1 c256_i32_1509
  let c245_i32 : BitVec 32 := 245#32
  let v3497 : BitVec 32 := Scalar.addi v3496 c245_i32
  let v3499 : Index := Scalar.indexCast v3497
  ![v3499.toNat]
def k0_mult493 (v3500 : BitVec 32) : BitVec 32 :=
  let c8_i32_1511 : BitVec 32 := 8#32
  let v3501 : BitVec 32 := Scalar.muli v3500 c8_i32_1511
  v3501

def k0_mult494 (i : grid0.Coords) : BitVec 32 :=
  let arg1 : BitVec 32 := BitVec.ofNat 32 (i 1).val
  let c256_i32_1509 : BitVec 32 := 256#32
  let v3496 : BitVec 32 := Scalar.muli arg1 c256_i32_1509
  let c245_i32 : BitVec 32 := 245#32
  let v3497 : BitVec 32 := Scalar.addi v3496 c245_i32
  let c8_i32_1512 : BitVec 32 := 8#32
  let v3503 : BitVec 32 := Scalar.muli v3497 c8_i32_1512
  v3503
def k0_off988 (i : grid0.Coords) : Fin 1 → Nat :=
  let c1_i32_1510 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3498 : BitVec 32 := Scalar.subi c1_i32_1510 v11
  ![v3498.toNat]
def k0_off989 (i : grid0.Coords) : Fin 3 → Nat :=
  let c1_i32_1510 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3498 : BitVec 32 := Scalar.subi c1_i32_1510 v11
  let arg1 : BitVec 32 := BitVec.ofNat 32 (i 1).val
  let c256_i32_1509 : BitVec 32 := 256#32
  let v3496 : BitVec 32 := Scalar.muli arg1 c256_i32_1509
  let c245_i32 : BitVec 32 := 245#32
  let v3497 : BitVec 32 := Scalar.addi v3496 c245_i32
  let c8_i32_1512 : BitVec 32 := 8#32
  let v3503 : BitVec 32 := Scalar.muli v3497 c8_i32_1512
  let v3504 : BitVec 32 := v3503
  let c0_i32_1513 : BitVec 32 := 0#32
  ![v3498.toNat, v3504.toNat, 0]
def k0_off990 (v3500 : BitVec 32) : Fin 2 → Nat :=
  let c8_i32_1511 : BitVec 32 := 8#32
  let v3501 : BitVec 32 := Scalar.muli v3500 c8_i32_1511
  let v3502 : BitVec 32 := v3501
  let c0_i32_1514 : BitVec 32 := 0#32
  ![v3502.toNat, 0]

def k0_chk248 (i : grid0.Coords) (v0 : BitVec 32) (v28 : BitVec 32) (v3500 : BitVec 32) : Prop :=
  (∀ (k0_h1 : k0_cond1 i v0 = 1#1), ∀ (k0_h4 : k0_cond4 i v28 = 1#1), 8 ∣ (k0_mult493 v3500).toNat) ∧
  (∀ (k0_h1 : k0_cond1 i v0 = 1#1), ∀ (k0_h4 : k0_cond4 i v28 = 1#1), ∀ a, (k0_off990 v3500) a + S8x128.size a ≤ S262144x128.size a)
theorem k0_mult493_dvd : ∀ (i : grid0.Coords) (v0 : BitVec 32) (v28 : BitVec 32) (v3500 : BitVec 32) (k0_hw248 : k0_chk248 i v0 v28 v3500), ∀ (k0_h1 : k0_cond1 i v0 = 1#1), ∀ (k0_h4 : k0_cond4 i v28 = 1#1), 8 ∣ (k0_mult493 v3500).toNat := fun i v0 v28 v3500 k0_hw248 k0_h1 k0_h4 => k0_hw248.1 k0_h1 k0_h4
theorem k0_off990_inb : ∀ (i : grid0.Coords) (v0 : BitVec 32) (v28 : BitVec 32) (v3500 : BitVec 32) (k0_hw248 : k0_chk248 i v0 v28 v3500), ∀ (k0_h1 : k0_cond1 i v0 = 1#1), ∀ (k0_h4 : k0_cond4 i v28 = 1#1), ∀ a, (k0_off990 v3500) a + S8x128.size a ≤ S262144x128.size a := fun i v0 v28 v3500 k0_hw248 k0_h1 k0_h4 => k0_hw248.2 k0_h1 k0_h4

def k0_off991 (i : grid0.Coords) : Fin 1 → Nat :=
  let arg1 : BitVec 32 := BitVec.ofNat 32 (i 1).val
  let c256_i32_1515 : BitVec 32 := 256#32
  let v3510 : BitVec 32 := Scalar.muli arg1 c256_i32_1515
  let c246_i32 : BitVec 32 := 246#32
  let v3511 : BitVec 32 := Scalar.addi v3510 c246_i32
  let v3513 : Index := Scalar.indexCast v3511
  ![v3513.toNat]
def k0_mult495 (v3514 : BitVec 32) : BitVec 32 :=
  let c8_i32_1517 : BitVec 32 := 8#32
  let v3515 : BitVec 32 := Scalar.muli v3514 c8_i32_1517
  v3515

def k0_mult496 (i : grid0.Coords) : BitVec 32 :=
  let arg1 : BitVec 32 := BitVec.ofNat 32 (i 1).val
  let c256_i32_1515 : BitVec 32 := 256#32
  let v3510 : BitVec 32 := Scalar.muli arg1 c256_i32_1515
  let c246_i32 : BitVec 32 := 246#32
  let v3511 : BitVec 32 := Scalar.addi v3510 c246_i32
  let c8_i32_1518 : BitVec 32 := 8#32
  let v3517 : BitVec 32 := Scalar.muli v3511 c8_i32_1518
  v3517
def k0_off992 (i : grid0.Coords) : Fin 1 → Nat :=
  let c1_i32_1516 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3512 : BitVec 32 := Scalar.subi c1_i32_1516 v11
  ![v3512.toNat]
def k0_off993 (i : grid0.Coords) : Fin 3 → Nat :=
  let c1_i32_1516 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3512 : BitVec 32 := Scalar.subi c1_i32_1516 v11
  let arg1 : BitVec 32 := BitVec.ofNat 32 (i 1).val
  let c256_i32_1515 : BitVec 32 := 256#32
  let v3510 : BitVec 32 := Scalar.muli arg1 c256_i32_1515
  let c246_i32 : BitVec 32 := 246#32
  let v3511 : BitVec 32 := Scalar.addi v3510 c246_i32
  let c8_i32_1518 : BitVec 32 := 8#32
  let v3517 : BitVec 32 := Scalar.muli v3511 c8_i32_1518
  let v3518 : BitVec 32 := v3517
  let c0_i32_1519 : BitVec 32 := 0#32
  ![v3512.toNat, v3518.toNat, 0]
def k0_off994 (v3514 : BitVec 32) : Fin 2 → Nat :=
  let c8_i32_1517 : BitVec 32 := 8#32
  let v3515 : BitVec 32 := Scalar.muli v3514 c8_i32_1517
  let v3516 : BitVec 32 := v3515
  let c0_i32_1520 : BitVec 32 := 0#32
  ![v3516.toNat, 0]

def k0_chk249 (i : grid0.Coords) (v0 : BitVec 32) (v28 : BitVec 32) (v3514 : BitVec 32) : Prop :=
  (∀ (k0_h1 : k0_cond1 i v0 = 1#1), ∀ (k0_h4 : k0_cond4 i v28 = 1#1), 8 ∣ (k0_mult495 v3514).toNat) ∧
  (∀ (k0_h1 : k0_cond1 i v0 = 1#1), ∀ (k0_h4 : k0_cond4 i v28 = 1#1), ∀ a, (k0_off994 v3514) a + S8x128.size a ≤ S262144x128.size a)
theorem k0_mult495_dvd : ∀ (i : grid0.Coords) (v0 : BitVec 32) (v28 : BitVec 32) (v3514 : BitVec 32) (k0_hw249 : k0_chk249 i v0 v28 v3514), ∀ (k0_h1 : k0_cond1 i v0 = 1#1), ∀ (k0_h4 : k0_cond4 i v28 = 1#1), 8 ∣ (k0_mult495 v3514).toNat := fun i v0 v28 v3514 k0_hw249 k0_h1 k0_h4 => k0_hw249.1 k0_h1 k0_h4
theorem k0_off994_inb : ∀ (i : grid0.Coords) (v0 : BitVec 32) (v28 : BitVec 32) (v3514 : BitVec 32) (k0_hw249 : k0_chk249 i v0 v28 v3514), ∀ (k0_h1 : k0_cond1 i v0 = 1#1), ∀ (k0_h4 : k0_cond4 i v28 = 1#1), ∀ a, (k0_off994 v3514) a + S8x128.size a ≤ S262144x128.size a := fun i v0 v28 v3514 k0_hw249 k0_h1 k0_h4 => k0_hw249.2 k0_h1 k0_h4

def k0_off995 (i : grid0.Coords) : Fin 1 → Nat :=
  let arg1 : BitVec 32 := BitVec.ofNat 32 (i 1).val
  let c256_i32_1521 : BitVec 32 := 256#32
  let v3524 : BitVec 32 := Scalar.muli arg1 c256_i32_1521
  let c247_i32 : BitVec 32 := 247#32
  let v3525 : BitVec 32 := Scalar.addi v3524 c247_i32
  let v3527 : Index := Scalar.indexCast v3525
  ![v3527.toNat]
def k0_mult497 (v3528 : BitVec 32) : BitVec 32 :=
  let c8_i32_1523 : BitVec 32 := 8#32
  let v3529 : BitVec 32 := Scalar.muli v3528 c8_i32_1523
  v3529

def k0_mult498 (i : grid0.Coords) : BitVec 32 :=
  let arg1 : BitVec 32 := BitVec.ofNat 32 (i 1).val
  let c256_i32_1521 : BitVec 32 := 256#32
  let v3524 : BitVec 32 := Scalar.muli arg1 c256_i32_1521
  let c247_i32 : BitVec 32 := 247#32
  let v3525 : BitVec 32 := Scalar.addi v3524 c247_i32
  let c8_i32_1524 : BitVec 32 := 8#32
  let v3531 : BitVec 32 := Scalar.muli v3525 c8_i32_1524
  v3531
def k0_off996 (i : grid0.Coords) : Fin 1 → Nat :=
  let c1_i32_1522 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3526 : BitVec 32 := Scalar.subi c1_i32_1522 v11
  ![v3526.toNat]
def k0_off997 (i : grid0.Coords) : Fin 3 → Nat :=
  let c1_i32_1522 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3526 : BitVec 32 := Scalar.subi c1_i32_1522 v11
  let arg1 : BitVec 32 := BitVec.ofNat 32 (i 1).val
  let c256_i32_1521 : BitVec 32 := 256#32
  let v3524 : BitVec 32 := Scalar.muli arg1 c256_i32_1521
  let c247_i32 : BitVec 32 := 247#32
  let v3525 : BitVec 32 := Scalar.addi v3524 c247_i32
  let c8_i32_1524 : BitVec 32 := 8#32
  let v3531 : BitVec 32 := Scalar.muli v3525 c8_i32_1524
  let v3532 : BitVec 32 := v3531
  let c0_i32_1525 : BitVec 32 := 0#32
  ![v3526.toNat, v3532.toNat, 0]
def k0_off998 (v3528 : BitVec 32) : Fin 2 → Nat :=
  let c8_i32_1523 : BitVec 32 := 8#32
  let v3529 : BitVec 32 := Scalar.muli v3528 c8_i32_1523
  let v3530 : BitVec 32 := v3529
  let c0_i32_1526 : BitVec 32 := 0#32
  ![v3530.toNat, 0]

def k0_chk250 (i : grid0.Coords) (v0 : BitVec 32) (v28 : BitVec 32) (v3528 : BitVec 32) : Prop :=
  (∀ (k0_h1 : k0_cond1 i v0 = 1#1), ∀ (k0_h4 : k0_cond4 i v28 = 1#1), 8 ∣ (k0_mult497 v3528).toNat) ∧
  (∀ (k0_h1 : k0_cond1 i v0 = 1#1), ∀ (k0_h4 : k0_cond4 i v28 = 1#1), ∀ a, (k0_off998 v3528) a + S8x128.size a ≤ S262144x128.size a)
theorem k0_mult497_dvd : ∀ (i : grid0.Coords) (v0 : BitVec 32) (v28 : BitVec 32) (v3528 : BitVec 32) (k0_hw250 : k0_chk250 i v0 v28 v3528), ∀ (k0_h1 : k0_cond1 i v0 = 1#1), ∀ (k0_h4 : k0_cond4 i v28 = 1#1), 8 ∣ (k0_mult497 v3528).toNat := fun i v0 v28 v3528 k0_hw250 k0_h1 k0_h4 => k0_hw250.1 k0_h1 k0_h4
theorem k0_off998_inb : ∀ (i : grid0.Coords) (v0 : BitVec 32) (v28 : BitVec 32) (v3528 : BitVec 32) (k0_hw250 : k0_chk250 i v0 v28 v3528), ∀ (k0_h1 : k0_cond1 i v0 = 1#1), ∀ (k0_h4 : k0_cond4 i v28 = 1#1), ∀ a, (k0_off998 v3528) a + S8x128.size a ≤ S262144x128.size a := fun i v0 v28 v3528 k0_hw250 k0_h1 k0_h4 => k0_hw250.2 k0_h1 k0_h4

def k0_off999 (i : grid0.Coords) : Fin 1 → Nat :=
  let arg1 : BitVec 32 := BitVec.ofNat 32 (i 1).val
  let c256_i32_1527 : BitVec 32 := 256#32
  let v3538 : BitVec 32 := Scalar.muli arg1 c256_i32_1527
  let c248_i32 : BitVec 32 := 248#32
  let v3539 : BitVec 32 := Scalar.addi v3538 c248_i32
  let v3541 : Index := Scalar.indexCast v3539
  ![v3541.toNat]
def k0_mult499 (v3542 : BitVec 32) : BitVec 32 :=
  let c8_i32_1529 : BitVec 32 := 8#32
  let v3543 : BitVec 32 := Scalar.muli v3542 c8_i32_1529
  v3543

def k0_mult500 (i : grid0.Coords) : BitVec 32 :=
  let arg1 : BitVec 32 := BitVec.ofNat 32 (i 1).val
  let c256_i32_1527 : BitVec 32 := 256#32
  let v3538 : BitVec 32 := Scalar.muli arg1 c256_i32_1527
  let c248_i32 : BitVec 32 := 248#32
  let v3539 : BitVec 32 := Scalar.addi v3538 c248_i32
  let c8_i32_1530 : BitVec 32 := 8#32
  let v3545 : BitVec 32 := Scalar.muli v3539 c8_i32_1530
  v3545
def k0_off1000 (i : grid0.Coords) : Fin 1 → Nat :=
  let c1_i32_1528 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3540 : BitVec 32 := Scalar.subi c1_i32_1528 v11
  ![v3540.toNat]
def k0_off1001 (i : grid0.Coords) : Fin 3 → Nat :=
  let c1_i32_1528 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3540 : BitVec 32 := Scalar.subi c1_i32_1528 v11
  let arg1 : BitVec 32 := BitVec.ofNat 32 (i 1).val
  let c256_i32_1527 : BitVec 32 := 256#32
  let v3538 : BitVec 32 := Scalar.muli arg1 c256_i32_1527
  let c248_i32 : BitVec 32 := 248#32
  let v3539 : BitVec 32 := Scalar.addi v3538 c248_i32
  let c8_i32_1530 : BitVec 32 := 8#32
  let v3545 : BitVec 32 := Scalar.muli v3539 c8_i32_1530
  let v3546 : BitVec 32 := v3545
  let c0_i32_1531 : BitVec 32 := 0#32
  ![v3540.toNat, v3546.toNat, 0]
def k0_off1002 (v3542 : BitVec 32) : Fin 2 → Nat :=
  let c8_i32_1529 : BitVec 32 := 8#32
  let v3543 : BitVec 32 := Scalar.muli v3542 c8_i32_1529
  let v3544 : BitVec 32 := v3543
  let c0_i32_1532 : BitVec 32 := 0#32
  ![v3544.toNat, 0]

def k0_chk251 (i : grid0.Coords) (v0 : BitVec 32) (v28 : BitVec 32) (v3542 : BitVec 32) : Prop :=
  (∀ (k0_h1 : k0_cond1 i v0 = 1#1), ∀ (k0_h4 : k0_cond4 i v28 = 1#1), 8 ∣ (k0_mult499 v3542).toNat) ∧
  (∀ (k0_h1 : k0_cond1 i v0 = 1#1), ∀ (k0_h4 : k0_cond4 i v28 = 1#1), ∀ a, (k0_off1002 v3542) a + S8x128.size a ≤ S262144x128.size a)
theorem k0_mult499_dvd : ∀ (i : grid0.Coords) (v0 : BitVec 32) (v28 : BitVec 32) (v3542 : BitVec 32) (k0_hw251 : k0_chk251 i v0 v28 v3542), ∀ (k0_h1 : k0_cond1 i v0 = 1#1), ∀ (k0_h4 : k0_cond4 i v28 = 1#1), 8 ∣ (k0_mult499 v3542).toNat := fun i v0 v28 v3542 k0_hw251 k0_h1 k0_h4 => k0_hw251.1 k0_h1 k0_h4
theorem k0_off1002_inb : ∀ (i : grid0.Coords) (v0 : BitVec 32) (v28 : BitVec 32) (v3542 : BitVec 32) (k0_hw251 : k0_chk251 i v0 v28 v3542), ∀ (k0_h1 : k0_cond1 i v0 = 1#1), ∀ (k0_h4 : k0_cond4 i v28 = 1#1), ∀ a, (k0_off1002 v3542) a + S8x128.size a ≤ S262144x128.size a := fun i v0 v28 v3542 k0_hw251 k0_h1 k0_h4 => k0_hw251.2 k0_h1 k0_h4

def k0_off1003 (i : grid0.Coords) : Fin 1 → Nat :=
  let arg1 : BitVec 32 := BitVec.ofNat 32 (i 1).val
  let c256_i32_1533 : BitVec 32 := 256#32
  let v3552 : BitVec 32 := Scalar.muli arg1 c256_i32_1533
  let c249_i32 : BitVec 32 := 249#32
  let v3553 : BitVec 32 := Scalar.addi v3552 c249_i32
  let v3555 : Index := Scalar.indexCast v3553
  ![v3555.toNat]
def k0_mult501 (v3556 : BitVec 32) : BitVec 32 :=
  let c8_i32_1535 : BitVec 32 := 8#32
  let v3557 : BitVec 32 := Scalar.muli v3556 c8_i32_1535
  v3557

def k0_mult502 (i : grid0.Coords) : BitVec 32 :=
  let arg1 : BitVec 32 := BitVec.ofNat 32 (i 1).val
  let c256_i32_1533 : BitVec 32 := 256#32
  let v3552 : BitVec 32 := Scalar.muli arg1 c256_i32_1533
  let c249_i32 : BitVec 32 := 249#32
  let v3553 : BitVec 32 := Scalar.addi v3552 c249_i32
  let c8_i32_1536 : BitVec 32 := 8#32
  let v3559 : BitVec 32 := Scalar.muli v3553 c8_i32_1536
  v3559
def k0_off1004 (i : grid0.Coords) : Fin 1 → Nat :=
  let c1_i32_1534 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3554 : BitVec 32 := Scalar.subi c1_i32_1534 v11
  ![v3554.toNat]
def k0_off1005 (i : grid0.Coords) : Fin 3 → Nat :=
  let c1_i32_1534 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3554 : BitVec 32 := Scalar.subi c1_i32_1534 v11
  let arg1 : BitVec 32 := BitVec.ofNat 32 (i 1).val
  let c256_i32_1533 : BitVec 32 := 256#32
  let v3552 : BitVec 32 := Scalar.muli arg1 c256_i32_1533
  let c249_i32 : BitVec 32 := 249#32
  let v3553 : BitVec 32 := Scalar.addi v3552 c249_i32
  let c8_i32_1536 : BitVec 32 := 8#32
  let v3559 : BitVec 32 := Scalar.muli v3553 c8_i32_1536
  let v3560 : BitVec 32 := v3559
  let c0_i32_1537 : BitVec 32 := 0#32
  ![v3554.toNat, v3560.toNat, 0]
def k0_off1006 (v3556 : BitVec 32) : Fin 2 → Nat :=
  let c8_i32_1535 : BitVec 32 := 8#32
  let v3557 : BitVec 32 := Scalar.muli v3556 c8_i32_1535
  let v3558 : BitVec 32 := v3557
  let c0_i32_1538 : BitVec 32 := 0#32
  ![v3558.toNat, 0]

def k0_chk252 (i : grid0.Coords) (v0 : BitVec 32) (v28 : BitVec 32) (v3556 : BitVec 32) : Prop :=
  (∀ (k0_h1 : k0_cond1 i v0 = 1#1), ∀ (k0_h4 : k0_cond4 i v28 = 1#1), 8 ∣ (k0_mult501 v3556).toNat) ∧
  (∀ (k0_h1 : k0_cond1 i v0 = 1#1), ∀ (k0_h4 : k0_cond4 i v28 = 1#1), ∀ a, (k0_off1006 v3556) a + S8x128.size a ≤ S262144x128.size a)
theorem k0_mult501_dvd : ∀ (i : grid0.Coords) (v0 : BitVec 32) (v28 : BitVec 32) (v3556 : BitVec 32) (k0_hw252 : k0_chk252 i v0 v28 v3556), ∀ (k0_h1 : k0_cond1 i v0 = 1#1), ∀ (k0_h4 : k0_cond4 i v28 = 1#1), 8 ∣ (k0_mult501 v3556).toNat := fun i v0 v28 v3556 k0_hw252 k0_h1 k0_h4 => k0_hw252.1 k0_h1 k0_h4
theorem k0_off1006_inb : ∀ (i : grid0.Coords) (v0 : BitVec 32) (v28 : BitVec 32) (v3556 : BitVec 32) (k0_hw252 : k0_chk252 i v0 v28 v3556), ∀ (k0_h1 : k0_cond1 i v0 = 1#1), ∀ (k0_h4 : k0_cond4 i v28 = 1#1), ∀ a, (k0_off1006 v3556) a + S8x128.size a ≤ S262144x128.size a := fun i v0 v28 v3556 k0_hw252 k0_h1 k0_h4 => k0_hw252.2 k0_h1 k0_h4

def k0_off1007 (i : grid0.Coords) : Fin 1 → Nat :=
  let arg1 : BitVec 32 := BitVec.ofNat 32 (i 1).val
  let c256_i32_1539 : BitVec 32 := 256#32
  let v3566 : BitVec 32 := Scalar.muli arg1 c256_i32_1539
  let c250_i32 : BitVec 32 := 250#32
  let v3567 : BitVec 32 := Scalar.addi v3566 c250_i32
  let v3569 : Index := Scalar.indexCast v3567
  ![v3569.toNat]
def k0_mult503 (v3570 : BitVec 32) : BitVec 32 :=
  let c8_i32_1541 : BitVec 32 := 8#32
  let v3571 : BitVec 32 := Scalar.muli v3570 c8_i32_1541
  v3571

def k0_mult504 (i : grid0.Coords) : BitVec 32 :=
  let arg1 : BitVec 32 := BitVec.ofNat 32 (i 1).val
  let c256_i32_1539 : BitVec 32 := 256#32
  let v3566 : BitVec 32 := Scalar.muli arg1 c256_i32_1539
  let c250_i32 : BitVec 32 := 250#32
  let v3567 : BitVec 32 := Scalar.addi v3566 c250_i32
  let c8_i32_1542 : BitVec 32 := 8#32
  let v3573 : BitVec 32 := Scalar.muli v3567 c8_i32_1542
  v3573
def k0_off1008 (i : grid0.Coords) : Fin 1 → Nat :=
  let c1_i32_1540 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3568 : BitVec 32 := Scalar.subi c1_i32_1540 v11
  ![v3568.toNat]
def k0_off1009 (i : grid0.Coords) : Fin 3 → Nat :=
  let c1_i32_1540 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3568 : BitVec 32 := Scalar.subi c1_i32_1540 v11
  let arg1 : BitVec 32 := BitVec.ofNat 32 (i 1).val
  let c256_i32_1539 : BitVec 32 := 256#32
  let v3566 : BitVec 32 := Scalar.muli arg1 c256_i32_1539
  let c250_i32 : BitVec 32 := 250#32
  let v3567 : BitVec 32 := Scalar.addi v3566 c250_i32
  let c8_i32_1542 : BitVec 32 := 8#32
  let v3573 : BitVec 32 := Scalar.muli v3567 c8_i32_1542
  let v3574 : BitVec 32 := v3573
  let c0_i32_1543 : BitVec 32 := 0#32
  ![v3568.toNat, v3574.toNat, 0]
def k0_off1010 (v3570 : BitVec 32) : Fin 2 → Nat :=
  let c8_i32_1541 : BitVec 32 := 8#32
  let v3571 : BitVec 32 := Scalar.muli v3570 c8_i32_1541
  let v3572 : BitVec 32 := v3571
  let c0_i32_1544 : BitVec 32 := 0#32
  ![v3572.toNat, 0]

def k0_chk253 (i : grid0.Coords) (v0 : BitVec 32) (v28 : BitVec 32) (v3570 : BitVec 32) : Prop :=
  (∀ (k0_h1 : k0_cond1 i v0 = 1#1), ∀ (k0_h4 : k0_cond4 i v28 = 1#1), 8 ∣ (k0_mult503 v3570).toNat) ∧
  (∀ (k0_h1 : k0_cond1 i v0 = 1#1), ∀ (k0_h4 : k0_cond4 i v28 = 1#1), ∀ a, (k0_off1010 v3570) a + S8x128.size a ≤ S262144x128.size a)
theorem k0_mult503_dvd : ∀ (i : grid0.Coords) (v0 : BitVec 32) (v28 : BitVec 32) (v3570 : BitVec 32) (k0_hw253 : k0_chk253 i v0 v28 v3570), ∀ (k0_h1 : k0_cond1 i v0 = 1#1), ∀ (k0_h4 : k0_cond4 i v28 = 1#1), 8 ∣ (k0_mult503 v3570).toNat := fun i v0 v28 v3570 k0_hw253 k0_h1 k0_h4 => k0_hw253.1 k0_h1 k0_h4
theorem k0_off1010_inb : ∀ (i : grid0.Coords) (v0 : BitVec 32) (v28 : BitVec 32) (v3570 : BitVec 32) (k0_hw253 : k0_chk253 i v0 v28 v3570), ∀ (k0_h1 : k0_cond1 i v0 = 1#1), ∀ (k0_h4 : k0_cond4 i v28 = 1#1), ∀ a, (k0_off1010 v3570) a + S8x128.size a ≤ S262144x128.size a := fun i v0 v28 v3570 k0_hw253 k0_h1 k0_h4 => k0_hw253.2 k0_h1 k0_h4

def k0_off1011 (i : grid0.Coords) : Fin 1 → Nat :=
  let arg1 : BitVec 32 := BitVec.ofNat 32 (i 1).val
  let c256_i32_1545 : BitVec 32 := 256#32
  let v3580 : BitVec 32 := Scalar.muli arg1 c256_i32_1545
  let c251_i32 : BitVec 32 := 251#32
  let v3581 : BitVec 32 := Scalar.addi v3580 c251_i32
  let v3583 : Index := Scalar.indexCast v3581
  ![v3583.toNat]
def k0_mult505 (v3584 : BitVec 32) : BitVec 32 :=
  let c8_i32_1547 : BitVec 32 := 8#32
  let v3585 : BitVec 32 := Scalar.muli v3584 c8_i32_1547
  v3585

def k0_mult506 (i : grid0.Coords) : BitVec 32 :=
  let arg1 : BitVec 32 := BitVec.ofNat 32 (i 1).val
  let c256_i32_1545 : BitVec 32 := 256#32
  let v3580 : BitVec 32 := Scalar.muli arg1 c256_i32_1545
  let c251_i32 : BitVec 32 := 251#32
  let v3581 : BitVec 32 := Scalar.addi v3580 c251_i32
  let c8_i32_1548 : BitVec 32 := 8#32
  let v3587 : BitVec 32 := Scalar.muli v3581 c8_i32_1548
  v3587
def k0_off1012 (i : grid0.Coords) : Fin 1 → Nat :=
  let c1_i32_1546 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3582 : BitVec 32 := Scalar.subi c1_i32_1546 v11
  ![v3582.toNat]
def k0_off1013 (i : grid0.Coords) : Fin 3 → Nat :=
  let c1_i32_1546 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3582 : BitVec 32 := Scalar.subi c1_i32_1546 v11
  let arg1 : BitVec 32 := BitVec.ofNat 32 (i 1).val
  let c256_i32_1545 : BitVec 32 := 256#32
  let v3580 : BitVec 32 := Scalar.muli arg1 c256_i32_1545
  let c251_i32 : BitVec 32 := 251#32
  let v3581 : BitVec 32 := Scalar.addi v3580 c251_i32
  let c8_i32_1548 : BitVec 32 := 8#32
  let v3587 : BitVec 32 := Scalar.muli v3581 c8_i32_1548
  let v3588 : BitVec 32 := v3587
  let c0_i32_1549 : BitVec 32 := 0#32
  ![v3582.toNat, v3588.toNat, 0]
def k0_off1014 (v3584 : BitVec 32) : Fin 2 → Nat :=
  let c8_i32_1547 : BitVec 32 := 8#32
  let v3585 : BitVec 32 := Scalar.muli v3584 c8_i32_1547
  let v3586 : BitVec 32 := v3585
  let c0_i32_1550 : BitVec 32 := 0#32
  ![v3586.toNat, 0]

def k0_chk254 (i : grid0.Coords) (v0 : BitVec 32) (v28 : BitVec 32) (v3584 : BitVec 32) : Prop :=
  (∀ (k0_h1 : k0_cond1 i v0 = 1#1), ∀ (k0_h4 : k0_cond4 i v28 = 1#1), 8 ∣ (k0_mult505 v3584).toNat) ∧
  (∀ (k0_h1 : k0_cond1 i v0 = 1#1), ∀ (k0_h4 : k0_cond4 i v28 = 1#1), ∀ a, (k0_off1014 v3584) a + S8x128.size a ≤ S262144x128.size a)
theorem k0_mult505_dvd : ∀ (i : grid0.Coords) (v0 : BitVec 32) (v28 : BitVec 32) (v3584 : BitVec 32) (k0_hw254 : k0_chk254 i v0 v28 v3584), ∀ (k0_h1 : k0_cond1 i v0 = 1#1), ∀ (k0_h4 : k0_cond4 i v28 = 1#1), 8 ∣ (k0_mult505 v3584).toNat := fun i v0 v28 v3584 k0_hw254 k0_h1 k0_h4 => k0_hw254.1 k0_h1 k0_h4
theorem k0_off1014_inb : ∀ (i : grid0.Coords) (v0 : BitVec 32) (v28 : BitVec 32) (v3584 : BitVec 32) (k0_hw254 : k0_chk254 i v0 v28 v3584), ∀ (k0_h1 : k0_cond1 i v0 = 1#1), ∀ (k0_h4 : k0_cond4 i v28 = 1#1), ∀ a, (k0_off1014 v3584) a + S8x128.size a ≤ S262144x128.size a := fun i v0 v28 v3584 k0_hw254 k0_h1 k0_h4 => k0_hw254.2 k0_h1 k0_h4

def k0_off1015 (i : grid0.Coords) : Fin 1 → Nat :=
  let arg1 : BitVec 32 := BitVec.ofNat 32 (i 1).val
  let c256_i32_1551 : BitVec 32 := 256#32
  let v3594 : BitVec 32 := Scalar.muli arg1 c256_i32_1551
  let c252_i32 : BitVec 32 := 252#32
  let v3595 : BitVec 32 := Scalar.addi v3594 c252_i32
  let v3597 : Index := Scalar.indexCast v3595
  ![v3597.toNat]
def k0_mult507 (v3598 : BitVec 32) : BitVec 32 :=
  let c8_i32_1553 : BitVec 32 := 8#32
  let v3599 : BitVec 32 := Scalar.muli v3598 c8_i32_1553
  v3599

def k0_mult508 (i : grid0.Coords) : BitVec 32 :=
  let arg1 : BitVec 32 := BitVec.ofNat 32 (i 1).val
  let c256_i32_1551 : BitVec 32 := 256#32
  let v3594 : BitVec 32 := Scalar.muli arg1 c256_i32_1551
  let c252_i32 : BitVec 32 := 252#32
  let v3595 : BitVec 32 := Scalar.addi v3594 c252_i32
  let c8_i32_1554 : BitVec 32 := 8#32
  let v3601 : BitVec 32 := Scalar.muli v3595 c8_i32_1554
  v3601
def k0_off1016 (i : grid0.Coords) : Fin 1 → Nat :=
  let c1_i32_1552 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3596 : BitVec 32 := Scalar.subi c1_i32_1552 v11
  ![v3596.toNat]
def k0_off1017 (i : grid0.Coords) : Fin 3 → Nat :=
  let c1_i32_1552 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3596 : BitVec 32 := Scalar.subi c1_i32_1552 v11
  let arg1 : BitVec 32 := BitVec.ofNat 32 (i 1).val
  let c256_i32_1551 : BitVec 32 := 256#32
  let v3594 : BitVec 32 := Scalar.muli arg1 c256_i32_1551
  let c252_i32 : BitVec 32 := 252#32
  let v3595 : BitVec 32 := Scalar.addi v3594 c252_i32
  let c8_i32_1554 : BitVec 32 := 8#32
  let v3601 : BitVec 32 := Scalar.muli v3595 c8_i32_1554
  let v3602 : BitVec 32 := v3601
  let c0_i32_1555 : BitVec 32 := 0#32
  ![v3596.toNat, v3602.toNat, 0]
def k0_off1018 (v3598 : BitVec 32) : Fin 2 → Nat :=
  let c8_i32_1553 : BitVec 32 := 8#32
  let v3599 : BitVec 32 := Scalar.muli v3598 c8_i32_1553
  let v3600 : BitVec 32 := v3599
  let c0_i32_1556 : BitVec 32 := 0#32
  ![v3600.toNat, 0]

def k0_chk255 (i : grid0.Coords) (v0 : BitVec 32) (v28 : BitVec 32) (v3598 : BitVec 32) : Prop :=
  (∀ (k0_h1 : k0_cond1 i v0 = 1#1), ∀ (k0_h4 : k0_cond4 i v28 = 1#1), 8 ∣ (k0_mult507 v3598).toNat) ∧
  (∀ (k0_h1 : k0_cond1 i v0 = 1#1), ∀ (k0_h4 : k0_cond4 i v28 = 1#1), ∀ a, (k0_off1018 v3598) a + S8x128.size a ≤ S262144x128.size a)
theorem k0_mult507_dvd : ∀ (i : grid0.Coords) (v0 : BitVec 32) (v28 : BitVec 32) (v3598 : BitVec 32) (k0_hw255 : k0_chk255 i v0 v28 v3598), ∀ (k0_h1 : k0_cond1 i v0 = 1#1), ∀ (k0_h4 : k0_cond4 i v28 = 1#1), 8 ∣ (k0_mult507 v3598).toNat := fun i v0 v28 v3598 k0_hw255 k0_h1 k0_h4 => k0_hw255.1 k0_h1 k0_h4
theorem k0_off1018_inb : ∀ (i : grid0.Coords) (v0 : BitVec 32) (v28 : BitVec 32) (v3598 : BitVec 32) (k0_hw255 : k0_chk255 i v0 v28 v3598), ∀ (k0_h1 : k0_cond1 i v0 = 1#1), ∀ (k0_h4 : k0_cond4 i v28 = 1#1), ∀ a, (k0_off1018 v3598) a + S8x128.size a ≤ S262144x128.size a := fun i v0 v28 v3598 k0_hw255 k0_h1 k0_h4 => k0_hw255.2 k0_h1 k0_h4

def k0_off1019 (i : grid0.Coords) : Fin 1 → Nat :=
  let arg1 : BitVec 32 := BitVec.ofNat 32 (i 1).val
  let c256_i32_1557 : BitVec 32 := 256#32
  let v3608 : BitVec 32 := Scalar.muli arg1 c256_i32_1557
  let c253_i32 : BitVec 32 := 253#32
  let v3609 : BitVec 32 := Scalar.addi v3608 c253_i32
  let v3611 : Index := Scalar.indexCast v3609
  ![v3611.toNat]
def k0_mult509 (v3612 : BitVec 32) : BitVec 32 :=
  let c8_i32_1559 : BitVec 32 := 8#32
  let v3613 : BitVec 32 := Scalar.muli v3612 c8_i32_1559
  v3613

def k0_mult510 (i : grid0.Coords) : BitVec 32 :=
  let arg1 : BitVec 32 := BitVec.ofNat 32 (i 1).val
  let c256_i32_1557 : BitVec 32 := 256#32
  let v3608 : BitVec 32 := Scalar.muli arg1 c256_i32_1557
  let c253_i32 : BitVec 32 := 253#32
  let v3609 : BitVec 32 := Scalar.addi v3608 c253_i32
  let c8_i32_1560 : BitVec 32 := 8#32
  let v3615 : BitVec 32 := Scalar.muli v3609 c8_i32_1560
  v3615
def k0_off1020 (i : grid0.Coords) : Fin 1 → Nat :=
  let c1_i32_1558 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3610 : BitVec 32 := Scalar.subi c1_i32_1558 v11
  ![v3610.toNat]
def k0_off1021 (i : grid0.Coords) : Fin 3 → Nat :=
  let c1_i32_1558 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3610 : BitVec 32 := Scalar.subi c1_i32_1558 v11
  let arg1 : BitVec 32 := BitVec.ofNat 32 (i 1).val
  let c256_i32_1557 : BitVec 32 := 256#32
  let v3608 : BitVec 32 := Scalar.muli arg1 c256_i32_1557
  let c253_i32 : BitVec 32 := 253#32
  let v3609 : BitVec 32 := Scalar.addi v3608 c253_i32
  let c8_i32_1560 : BitVec 32 := 8#32
  let v3615 : BitVec 32 := Scalar.muli v3609 c8_i32_1560
  let v3616 : BitVec 32 := v3615
  let c0_i32_1561 : BitVec 32 := 0#32
  ![v3610.toNat, v3616.toNat, 0]
def k0_off1022 (v3612 : BitVec 32) : Fin 2 → Nat :=
  let c8_i32_1559 : BitVec 32 := 8#32
  let v3613 : BitVec 32 := Scalar.muli v3612 c8_i32_1559
  let v3614 : BitVec 32 := v3613
  let c0_i32_1562 : BitVec 32 := 0#32
  ![v3614.toNat, 0]

def k0_chk256 (i : grid0.Coords) (v0 : BitVec 32) (v28 : BitVec 32) (v3612 : BitVec 32) : Prop :=
  (∀ (k0_h1 : k0_cond1 i v0 = 1#1), ∀ (k0_h4 : k0_cond4 i v28 = 1#1), 8 ∣ (k0_mult509 v3612).toNat) ∧
  (∀ (k0_h1 : k0_cond1 i v0 = 1#1), ∀ (k0_h4 : k0_cond4 i v28 = 1#1), ∀ a, (k0_off1022 v3612) a + S8x128.size a ≤ S262144x128.size a)
theorem k0_mult509_dvd : ∀ (i : grid0.Coords) (v0 : BitVec 32) (v28 : BitVec 32) (v3612 : BitVec 32) (k0_hw256 : k0_chk256 i v0 v28 v3612), ∀ (k0_h1 : k0_cond1 i v0 = 1#1), ∀ (k0_h4 : k0_cond4 i v28 = 1#1), 8 ∣ (k0_mult509 v3612).toNat := fun i v0 v28 v3612 k0_hw256 k0_h1 k0_h4 => k0_hw256.1 k0_h1 k0_h4
theorem k0_off1022_inb : ∀ (i : grid0.Coords) (v0 : BitVec 32) (v28 : BitVec 32) (v3612 : BitVec 32) (k0_hw256 : k0_chk256 i v0 v28 v3612), ∀ (k0_h1 : k0_cond1 i v0 = 1#1), ∀ (k0_h4 : k0_cond4 i v28 = 1#1), ∀ a, (k0_off1022 v3612) a + S8x128.size a ≤ S262144x128.size a := fun i v0 v28 v3612 k0_hw256 k0_h1 k0_h4 => k0_hw256.2 k0_h1 k0_h4

def k0_off1023 (i : grid0.Coords) : Fin 1 → Nat :=
  let arg1 : BitVec 32 := BitVec.ofNat 32 (i 1).val
  let c256_i32_1563 : BitVec 32 := 256#32
  let v3622 : BitVec 32 := Scalar.muli arg1 c256_i32_1563
  let c254_i32 : BitVec 32 := 254#32
  let v3623 : BitVec 32 := Scalar.addi v3622 c254_i32
  let v3625 : Index := Scalar.indexCast v3623
  ![v3625.toNat]
def k0_mult511 (v3626 : BitVec 32) : BitVec 32 :=
  let c8_i32_1565 : BitVec 32 := 8#32
  let v3627 : BitVec 32 := Scalar.muli v3626 c8_i32_1565
  v3627

def k0_mult512 (i : grid0.Coords) : BitVec 32 :=
  let arg1 : BitVec 32 := BitVec.ofNat 32 (i 1).val
  let c256_i32_1563 : BitVec 32 := 256#32
  let v3622 : BitVec 32 := Scalar.muli arg1 c256_i32_1563
  let c254_i32 : BitVec 32 := 254#32
  let v3623 : BitVec 32 := Scalar.addi v3622 c254_i32
  let c8_i32_1566 : BitVec 32 := 8#32
  let v3629 : BitVec 32 := Scalar.muli v3623 c8_i32_1566
  v3629
def k0_off1024 (i : grid0.Coords) : Fin 1 → Nat :=
  let c1_i32_1564 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3624 : BitVec 32 := Scalar.subi c1_i32_1564 v11
  ![v3624.toNat]
def k0_off1025 (i : grid0.Coords) : Fin 3 → Nat :=
  let c1_i32_1564 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3624 : BitVec 32 := Scalar.subi c1_i32_1564 v11
  let arg1 : BitVec 32 := BitVec.ofNat 32 (i 1).val
  let c256_i32_1563 : BitVec 32 := 256#32
  let v3622 : BitVec 32 := Scalar.muli arg1 c256_i32_1563
  let c254_i32 : BitVec 32 := 254#32
  let v3623 : BitVec 32 := Scalar.addi v3622 c254_i32
  let c8_i32_1566 : BitVec 32 := 8#32
  let v3629 : BitVec 32 := Scalar.muli v3623 c8_i32_1566
  let v3630 : BitVec 32 := v3629
  let c0_i32_1567 : BitVec 32 := 0#32
  ![v3624.toNat, v3630.toNat, 0]
def k0_off1026 (v3626 : BitVec 32) : Fin 2 → Nat :=
  let c8_i32_1565 : BitVec 32 := 8#32
  let v3627 : BitVec 32 := Scalar.muli v3626 c8_i32_1565
  let v3628 : BitVec 32 := v3627
  let c0_i32_1568 : BitVec 32 := 0#32
  ![v3628.toNat, 0]

def k0_chk257 (i : grid0.Coords) (v0 : BitVec 32) (v28 : BitVec 32) (v3626 : BitVec 32) : Prop :=
  (∀ (k0_h1 : k0_cond1 i v0 = 1#1), ∀ (k0_h4 : k0_cond4 i v28 = 1#1), 8 ∣ (k0_mult511 v3626).toNat) ∧
  (∀ (k0_h1 : k0_cond1 i v0 = 1#1), ∀ (k0_h4 : k0_cond4 i v28 = 1#1), ∀ a, (k0_off1026 v3626) a + S8x128.size a ≤ S262144x128.size a)
theorem k0_mult511_dvd : ∀ (i : grid0.Coords) (v0 : BitVec 32) (v28 : BitVec 32) (v3626 : BitVec 32) (k0_hw257 : k0_chk257 i v0 v28 v3626), ∀ (k0_h1 : k0_cond1 i v0 = 1#1), ∀ (k0_h4 : k0_cond4 i v28 = 1#1), 8 ∣ (k0_mult511 v3626).toNat := fun i v0 v28 v3626 k0_hw257 k0_h1 k0_h4 => k0_hw257.1 k0_h1 k0_h4
theorem k0_off1026_inb : ∀ (i : grid0.Coords) (v0 : BitVec 32) (v28 : BitVec 32) (v3626 : BitVec 32) (k0_hw257 : k0_chk257 i v0 v28 v3626), ∀ (k0_h1 : k0_cond1 i v0 = 1#1), ∀ (k0_h4 : k0_cond4 i v28 = 1#1), ∀ a, (k0_off1026 v3626) a + S8x128.size a ≤ S262144x128.size a := fun i v0 v28 v3626 k0_hw257 k0_h1 k0_h4 => k0_hw257.2 k0_h1 k0_h4

def k0_off1027 (i : grid0.Coords) : Fin 1 → Nat :=
  let arg1 : BitVec 32 := BitVec.ofNat 32 (i 1).val
  let c256_i32_1569 : BitVec 32 := 256#32
  let v3636 : BitVec 32 := Scalar.muli arg1 c256_i32_1569
  let c255_i32 : BitVec 32 := 255#32
  let v3637 : BitVec 32 := Scalar.addi v3636 c255_i32
  let v3639 : Index := Scalar.indexCast v3637
  ![v3639.toNat]
def k0_mult513 (v3640 : BitVec 32) : BitVec 32 :=
  let c8_i32_1571 : BitVec 32 := 8#32
  let v3641 : BitVec 32 := Scalar.muli v3640 c8_i32_1571
  v3641

def k0_mult514 (i : grid0.Coords) : BitVec 32 :=
  let arg1 : BitVec 32 := BitVec.ofNat 32 (i 1).val
  let c256_i32_1569 : BitVec 32 := 256#32
  let v3636 : BitVec 32 := Scalar.muli arg1 c256_i32_1569
  let c255_i32 : BitVec 32 := 255#32
  let v3637 : BitVec 32 := Scalar.addi v3636 c255_i32
  let c8_i32_1572 : BitVec 32 := 8#32
  let v3643 : BitVec 32 := Scalar.muli v3637 c8_i32_1572
  v3643
def k0_off1028 (i : grid0.Coords) : Fin 1 → Nat :=
  let c1_i32_1570 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3638 : BitVec 32 := Scalar.subi c1_i32_1570 v11
  ![v3638.toNat]
def k0_off1029 (i : grid0.Coords) : Fin 3 → Nat :=
  let c1_i32_1570 : BitVec 32 := 1#32
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v3638 : BitVec 32 := Scalar.subi c1_i32_1570 v11
  let arg1 : BitVec 32 := BitVec.ofNat 32 (i 1).val
  let c256_i32_1569 : BitVec 32 := 256#32
  let v3636 : BitVec 32 := Scalar.muli arg1 c256_i32_1569
  let c255_i32 : BitVec 32 := 255#32
  let v3637 : BitVec 32 := Scalar.addi v3636 c255_i32
  let c8_i32_1572 : BitVec 32 := 8#32
  let v3643 : BitVec 32 := Scalar.muli v3637 c8_i32_1572
  let v3644 : BitVec 32 := v3643
  let c0_i32_1573 : BitVec 32 := 0#32
  ![v3638.toNat, v3644.toNat, 0]

def k0_chk2_0 (i : grid0.Coords) (v0 : BitVec 32) (v28 : BitVec 32) : Prop :=
  (∀ (k0_h1 : k0_cond1 i v0 = 1#1), ∀ (k0_h4 : k0_cond4 i v28 = 1#1), ∀ a, (k0_off7 i) a + S1.size a ≤ S1024.size a) ∧
  (∀ (k0_h1 : k0_cond1 i v0 = 1#1), ∀ (k0_h4 : k0_cond4 i v28 = 1#1), ∀ a, (k0_off9 i) a + S1x8x128.size a ≤ S2x8192x128.size a) ∧
  (∀ (k0_h1 : k0_cond1 i v0 = 1#1), ∀ (k0_h4 : k0_cond4 i v28 = 1#1), ∀ a, (k0_off11 i) a + S1.size a ≤ S1024.size a) ∧
  (∀ (k0_h1 : k0_cond1 i v0 = 1#1), ∀ (k0_h4 : k0_cond4 i v28 = 1#1), ∀ a, (k0_off13 i) a + S1x8x128.size a ≤ S2x8192x128.size a) ∧
  (∀ (k0_h1 : k0_cond1 i v0 = 1#1), ∀ (k0_h4 : k0_cond4 i v28 = 1#1), ∀ a, (k0_off15 i) a + S1.size a ≤ S1024.size a) ∧
  (∀ (k0_h1 : k0_cond1 i v0 = 1#1), ∀ (k0_h4 : k0_cond4 i v28 = 1#1), ∀ a, (k0_off17 i) a + S1x8x128.size a ≤ S2x8192x128.size a) ∧
  (∀ (k0_h1 : k0_cond1 i v0 = 1#1), ∀ (k0_h4 : k0_cond4 i v28 = 1#1), ∀ a, (k0_off19 i) a + S1.size a ≤ S1024.size a) ∧
  (∀ (k0_h1 : k0_cond1 i v0 = 1#1), ∀ (k0_h4 : k0_cond4 i v28 = 1#1), ∀ a, (k0_off21 i) a + S1x8x128.size a ≤ S2x8192x128.size a) ∧
  (∀ (k0_h1 : k0_cond1 i v0 = 1#1), ∀ (k0_h4 : k0_cond4 i v28 = 1#1), ∀ a, (k0_off23 i) a + S1.size a ≤ S1024.size a) ∧
  (∀ (k0_h1 : k0_cond1 i v0 = 1#1), ∀ (k0_h4 : k0_cond4 i v28 = 1#1), ∀ a, (k0_off25 i) a + S1x8x128.size a ≤ S2x8192x128.size a) ∧
  (∀ (k0_h1 : k0_cond1 i v0 = 1#1), ∀ (k0_h4 : k0_cond4 i v28 = 1#1), ∀ a, (k0_off27 i) a + S1.size a ≤ S1024.size a) ∧
  (∀ (k0_h1 : k0_cond1 i v0 = 1#1), ∀ (k0_h4 : k0_cond4 i v28 = 1#1), ∀ a, (k0_off29 i) a + S1x8x128.size a ≤ S2x8192x128.size a) ∧
  (∀ (k0_h1 : k0_cond1 i v0 = 1#1), ∀ (k0_h4 : k0_cond4 i v28 = 1#1), ∀ a, (k0_off31 i) a + S1.size a ≤ S1024.size a) ∧
  (∀ (k0_h1 : k0_cond1 i v0 = 1#1), ∀ (k0_h4 : k0_cond4 i v28 = 1#1), ∀ a, (k0_off33 i) a + S1x8x128.size a ≤ S2x8192x128.size a) ∧
  (∀ (k0_h1 : k0_cond1 i v0 = 1#1), ∀ (k0_h4 : k0_cond4 i v28 = 1#1), ∀ a, (k0_off35 i) a + S1.size a ≤ S1024.size a) ∧
  (∀ (k0_h1 : k0_cond1 i v0 = 1#1), ∀ (k0_h4 : k0_cond4 i v28 = 1#1), ∀ a, (k0_off37 i) a + S1x8x128.size a ≤ S2x8192x128.size a) ∧
  (∀ (k0_h1 : k0_cond1 i v0 = 1#1), ∀ (k0_h4 : k0_cond4 i v28 = 1#1), ∀ a, (k0_off39 i) a + S1.size a ≤ S1024.size a) ∧
  (∀ (k0_h1 : k0_cond1 i v0 = 1#1), ∀ (k0_h4 : k0_cond4 i v28 = 1#1), ∀ a, (k0_off41 i) a + S1x8x128.size a ≤ S2x8192x128.size a) ∧
  (∀ (k0_h1 : k0_cond1 i v0 = 1#1), ∀ (k0_h4 : k0_cond4 i v28 = 1#1), ∀ a, (k0_off43 i) a + S1.size a ≤ S1024.size a) ∧
  (∀ (k0_h1 : k0_cond1 i v0 = 1#1), ∀ (k0_h4 : k0_cond4 i v28 = 1#1), ∀ a, (k0_off45 i) a + S1x8x128.size a ≤ S2x8192x128.size a) ∧
  (∀ (k0_h1 : k0_cond1 i v0 = 1#1), ∀ (k0_h4 : k0_cond4 i v28 = 1#1), ∀ a, (k0_off47 i) a + S1.size a ≤ S1024.size a) ∧
  (∀ (k0_h1 : k0_cond1 i v0 = 1#1), ∀ (k0_h4 : k0_cond4 i v28 = 1#1), ∀ a, (k0_off49 i) a + S1x8x128.size a ≤ S2x8192x128.size a) ∧
  (∀ (k0_h1 : k0_cond1 i v0 = 1#1), ∀ (k0_h4 : k0_cond4 i v28 = 1#1), ∀ a, (k0_off51 i) a + S1.size a ≤ S1024.size a) ∧
  (∀ (k0_h1 : k0_cond1 i v0 = 1#1), ∀ (k0_h4 : k0_cond4 i v28 = 1#1), ∀ a, (k0_off53 i) a + S1x8x128.size a ≤ S2x8192x128.size a) ∧
  (∀ (k0_h1 : k0_cond1 i v0 = 1#1), ∀ (k0_h4 : k0_cond4 i v28 = 1#1), ∀ a, (k0_off55 i) a + S1.size a ≤ S1024.size a) ∧
  (∀ (k0_h1 : k0_cond1 i v0 = 1#1), ∀ (k0_h4 : k0_cond4 i v28 = 1#1), ∀ a, (k0_off57 i) a + S1x8x128.size a ≤ S2x8192x128.size a) ∧
  (∀ (k0_h1 : k0_cond1 i v0 = 1#1), ∀ (k0_h4 : k0_cond4 i v28 = 1#1), ∀ a, (k0_off59 i) a + S1.size a ≤ S1024.size a) ∧
  (∀ (k0_h1 : k0_cond1 i v0 = 1#1), ∀ (k0_h4 : k0_cond4 i v28 = 1#1), ∀ a, (k0_off61 i) a + S1x8x128.size a ≤ S2x8192x128.size a) ∧
  (∀ (k0_h1 : k0_cond1 i v0 = 1#1), ∀ (k0_h4 : k0_cond4 i v28 = 1#1), ∀ a, (k0_off63 i) a + S1.size a ≤ S1024.size a) ∧
  (∀ (k0_h1 : k0_cond1 i v0 = 1#1), ∀ (k0_h4 : k0_cond4 i v28 = 1#1), ∀ a, (k0_off65 i) a + S1x8x128.size a ≤ S2x8192x128.size a) ∧
  (∀ (k0_h1 : k0_cond1 i v0 = 1#1), ∀ (k0_h4 : k0_cond4 i v28 = 1#1), ∀ a, (k0_off67 i) a + S1.size a ≤ S1024.size a) ∧
  (∀ (k0_h1 : k0_cond1 i v0 = 1#1), ∀ (k0_h4 : k0_cond4 i v28 = 1#1), ∀ a, (k0_off69 i) a + S1x8x128.size a ≤ S2x8192x128.size a)
def k0_chk2_1 (i : grid0.Coords) (v0 : BitVec 32) (v28 : BitVec 32) : Prop :=
  (∀ (k0_h1 : k0_cond1 i v0 = 1#1), ∀ (k0_h4 : k0_cond4 i v28 = 1#1), ∀ a, (k0_off71 i) a + S1.size a ≤ S1024.size a) ∧
  (∀ (k0_h1 : k0_cond1 i v0 = 1#1), ∀ (k0_h4 : k0_cond4 i v28 = 1#1), ∀ a, (k0_off73 i) a + S1x8x128.size a ≤ S2x8192x128.size a) ∧
  (∀ (k0_h1 : k0_cond1 i v0 = 1#1), ∀ (k0_h4 : k0_cond4 i v28 = 1#1), ∀ a, (k0_off75 i) a + S1.size a ≤ S1024.size a) ∧
  (∀ (k0_h1 : k0_cond1 i v0 = 1#1), ∀ (k0_h4 : k0_cond4 i v28 = 1#1), ∀ a, (k0_off77 i) a + S1x8x128.size a ≤ S2x8192x128.size a) ∧
  (∀ (k0_h1 : k0_cond1 i v0 = 1#1), ∀ (k0_h4 : k0_cond4 i v28 = 1#1), ∀ a, (k0_off79 i) a + S1.size a ≤ S1024.size a) ∧
  (∀ (k0_h1 : k0_cond1 i v0 = 1#1), ∀ (k0_h4 : k0_cond4 i v28 = 1#1), ∀ a, (k0_off81 i) a + S1x8x128.size a ≤ S2x8192x128.size a) ∧
  (∀ (k0_h1 : k0_cond1 i v0 = 1#1), ∀ (k0_h4 : k0_cond4 i v28 = 1#1), ∀ a, (k0_off83 i) a + S1.size a ≤ S1024.size a) ∧
  (∀ (k0_h1 : k0_cond1 i v0 = 1#1), ∀ (k0_h4 : k0_cond4 i v28 = 1#1), ∀ a, (k0_off85 i) a + S1x8x128.size a ≤ S2x8192x128.size a) ∧
  (∀ (k0_h1 : k0_cond1 i v0 = 1#1), ∀ (k0_h4 : k0_cond4 i v28 = 1#1), ∀ a, (k0_off87 i) a + S1.size a ≤ S1024.size a) ∧
  (∀ (k0_h1 : k0_cond1 i v0 = 1#1), ∀ (k0_h4 : k0_cond4 i v28 = 1#1), ∀ a, (k0_off89 i) a + S1x8x128.size a ≤ S2x8192x128.size a) ∧
  (∀ (k0_h1 : k0_cond1 i v0 = 1#1), ∀ (k0_h4 : k0_cond4 i v28 = 1#1), ∀ a, (k0_off91 i) a + S1.size a ≤ S1024.size a) ∧
  (∀ (k0_h1 : k0_cond1 i v0 = 1#1), ∀ (k0_h4 : k0_cond4 i v28 = 1#1), ∀ a, (k0_off93 i) a + S1x8x128.size a ≤ S2x8192x128.size a) ∧
  (∀ (k0_h1 : k0_cond1 i v0 = 1#1), ∀ (k0_h4 : k0_cond4 i v28 = 1#1), ∀ a, (k0_off95 i) a + S1.size a ≤ S1024.size a) ∧
  (∀ (k0_h1 : k0_cond1 i v0 = 1#1), ∀ (k0_h4 : k0_cond4 i v28 = 1#1), ∀ a, (k0_off97 i) a + S1x8x128.size a ≤ S2x8192x128.size a) ∧
  (∀ (k0_h1 : k0_cond1 i v0 = 1#1), ∀ (k0_h4 : k0_cond4 i v28 = 1#1), ∀ a, (k0_off99 i) a + S1.size a ≤ S1024.size a) ∧
  (∀ (k0_h1 : k0_cond1 i v0 = 1#1), ∀ (k0_h4 : k0_cond4 i v28 = 1#1), ∀ a, (k0_off101 i) a + S1x8x128.size a ≤ S2x8192x128.size a) ∧
  (∀ (k0_h1 : k0_cond1 i v0 = 1#1), ∀ (k0_h4 : k0_cond4 i v28 = 1#1), ∀ a, (k0_off103 i) a + S1.size a ≤ S1024.size a) ∧
  (∀ (k0_h1 : k0_cond1 i v0 = 1#1), ∀ (k0_h4 : k0_cond4 i v28 = 1#1), ∀ a, (k0_off105 i) a + S1x8x128.size a ≤ S2x8192x128.size a) ∧
  (∀ (k0_h1 : k0_cond1 i v0 = 1#1), ∀ (k0_h4 : k0_cond4 i v28 = 1#1), ∀ a, (k0_off107 i) a + S1.size a ≤ S1024.size a) ∧
  (∀ (k0_h1 : k0_cond1 i v0 = 1#1), ∀ (k0_h4 : k0_cond4 i v28 = 1#1), ∀ a, (k0_off109 i) a + S1x8x128.size a ≤ S2x8192x128.size a) ∧
  (∀ (k0_h1 : k0_cond1 i v0 = 1#1), ∀ (k0_h4 : k0_cond4 i v28 = 1#1), ∀ a, (k0_off111 i) a + S1.size a ≤ S1024.size a) ∧
  (∀ (k0_h1 : k0_cond1 i v0 = 1#1), ∀ (k0_h4 : k0_cond4 i v28 = 1#1), ∀ a, (k0_off113 i) a + S1x8x128.size a ≤ S2x8192x128.size a) ∧
  (∀ (k0_h1 : k0_cond1 i v0 = 1#1), ∀ (k0_h4 : k0_cond4 i v28 = 1#1), ∀ a, (k0_off115 i) a + S1.size a ≤ S1024.size a) ∧
  (∀ (k0_h1 : k0_cond1 i v0 = 1#1), ∀ (k0_h4 : k0_cond4 i v28 = 1#1), ∀ a, (k0_off117 i) a + S1x8x128.size a ≤ S2x8192x128.size a) ∧
  (∀ (k0_h1 : k0_cond1 i v0 = 1#1), ∀ (k0_h4 : k0_cond4 i v28 = 1#1), ∀ a, (k0_off119 i) a + S1.size a ≤ S1024.size a) ∧
  (∀ (k0_h1 : k0_cond1 i v0 = 1#1), ∀ (k0_h4 : k0_cond4 i v28 = 1#1), ∀ a, (k0_off121 i) a + S1x8x128.size a ≤ S2x8192x128.size a) ∧
  (∀ (k0_h1 : k0_cond1 i v0 = 1#1), ∀ (k0_h4 : k0_cond4 i v28 = 1#1), ∀ a, (k0_off123 i) a + S1.size a ≤ S1024.size a) ∧
  (∀ (k0_h1 : k0_cond1 i v0 = 1#1), ∀ (k0_h4 : k0_cond4 i v28 = 1#1), ∀ a, (k0_off125 i) a + S1x8x128.size a ≤ S2x8192x128.size a) ∧
  (∀ (k0_h1 : k0_cond1 i v0 = 1#1), ∀ (k0_h4 : k0_cond4 i v28 = 1#1), ∀ a, (k0_off127 i) a + S1.size a ≤ S1024.size a) ∧
  (∀ (k0_h1 : k0_cond1 i v0 = 1#1), ∀ (k0_h4 : k0_cond4 i v28 = 1#1), ∀ a, (k0_off129 i) a + S1x8x128.size a ≤ S2x8192x128.size a) ∧
  (∀ (k0_h1 : k0_cond1 i v0 = 1#1), ∀ (k0_h4 : k0_cond4 i v28 = 1#1), ∀ a, (k0_off131 i) a + S1.size a ≤ S1024.size a) ∧
  (∀ (k0_h1 : k0_cond1 i v0 = 1#1), ∀ (k0_h4 : k0_cond4 i v28 = 1#1), ∀ a, (k0_off133 i) a + S1x8x128.size a ≤ S2x8192x128.size a)
def k0_chk2_2 (i : grid0.Coords) (v0 : BitVec 32) (v28 : BitVec 32) : Prop :=
  (∀ (k0_h1 : k0_cond1 i v0 = 1#1), ∀ (k0_h4 : k0_cond4 i v28 = 1#1), ∀ a, (k0_off135 i) a + S1.size a ≤ S1024.size a) ∧
  (∀ (k0_h1 : k0_cond1 i v0 = 1#1), ∀ (k0_h4 : k0_cond4 i v28 = 1#1), ∀ a, (k0_off137 i) a + S1x8x128.size a ≤ S2x8192x128.size a) ∧
  (∀ (k0_h1 : k0_cond1 i v0 = 1#1), ∀ (k0_h4 : k0_cond4 i v28 = 1#1), ∀ a, (k0_off139 i) a + S1.size a ≤ S1024.size a) ∧
  (∀ (k0_h1 : k0_cond1 i v0 = 1#1), ∀ (k0_h4 : k0_cond4 i v28 = 1#1), ∀ a, (k0_off141 i) a + S1x8x128.size a ≤ S2x8192x128.size a) ∧
  (∀ (k0_h1 : k0_cond1 i v0 = 1#1), ∀ (k0_h4 : k0_cond4 i v28 = 1#1), ∀ a, (k0_off143 i) a + S1.size a ≤ S1024.size a) ∧
  (∀ (k0_h1 : k0_cond1 i v0 = 1#1), ∀ (k0_h4 : k0_cond4 i v28 = 1#1), ∀ a, (k0_off145 i) a + S1x8x128.size a ≤ S2x8192x128.size a) ∧
  (∀ (k0_h1 : k0_cond1 i v0 = 1#1), ∀ (k0_h4 : k0_cond4 i v28 = 1#1), ∀ a, (k0_off147 i) a + S1.size a ≤ S1024.size a) ∧
  (∀ (k0_h1 : k0_cond1 i v0 = 1#1), ∀ (k0_h4 : k0_cond4 i v28 = 1#1), ∀ a, (k0_off149 i) a + S1x8x128.size a ≤ S2x8192x128.size a) ∧
  (∀ (k0_h1 : k0_cond1 i v0 = 1#1), ∀ (k0_h4 : k0_cond4 i v28 = 1#1), ∀ a, (k0_off151 i) a + S1.size a ≤ S1024.size a) ∧
  (∀ (k0_h1 : k0_cond1 i v0 = 1#1), ∀ (k0_h4 : k0_cond4 i v28 = 1#1), ∀ a, (k0_off153 i) a + S1x8x128.size a ≤ S2x8192x128.size a) ∧
  (∀ (k0_h1 : k0_cond1 i v0 = 1#1), ∀ (k0_h4 : k0_cond4 i v28 = 1#1), ∀ a, (k0_off155 i) a + S1.size a ≤ S1024.size a) ∧
  (∀ (k0_h1 : k0_cond1 i v0 = 1#1), ∀ (k0_h4 : k0_cond4 i v28 = 1#1), ∀ a, (k0_off157 i) a + S1x8x128.size a ≤ S2x8192x128.size a) ∧
  (∀ (k0_h1 : k0_cond1 i v0 = 1#1), ∀ (k0_h4 : k0_cond4 i v28 = 1#1), ∀ a, (k0_off159 i) a + S1.size a ≤ S1024.size a) ∧
  (∀ (k0_h1 : k0_cond1 i v0 = 1#1), ∀ (k0_h4 : k0_cond4 i v28 = 1#1), ∀ a, (k0_off161 i) a + S1x8x128.size a ≤ S2x8192x128.size a) ∧
  (∀ (k0_h1 : k0_cond1 i v0 = 1#1), ∀ (k0_h4 : k0_cond4 i v28 = 1#1), ∀ a, (k0_off163 i) a + S1.size a ≤ S1024.size a) ∧
  (∀ (k0_h1 : k0_cond1 i v0 = 1#1), ∀ (k0_h4 : k0_cond4 i v28 = 1#1), ∀ a, (k0_off165 i) a + S1x8x128.size a ≤ S2x8192x128.size a) ∧
  (∀ (k0_h1 : k0_cond1 i v0 = 1#1), ∀ (k0_h4 : k0_cond4 i v28 = 1#1), ∀ a, (k0_off167 i) a + S1.size a ≤ S1024.size a) ∧
  (∀ (k0_h1 : k0_cond1 i v0 = 1#1), ∀ (k0_h4 : k0_cond4 i v28 = 1#1), ∀ a, (k0_off169 i) a + S1x8x128.size a ≤ S2x8192x128.size a) ∧
  (∀ (k0_h1 : k0_cond1 i v0 = 1#1), ∀ (k0_h4 : k0_cond4 i v28 = 1#1), ∀ a, (k0_off171 i) a + S1.size a ≤ S1024.size a) ∧
  (∀ (k0_h1 : k0_cond1 i v0 = 1#1), ∀ (k0_h4 : k0_cond4 i v28 = 1#1), ∀ a, (k0_off173 i) a + S1x8x128.size a ≤ S2x8192x128.size a) ∧
  (∀ (k0_h1 : k0_cond1 i v0 = 1#1), ∀ (k0_h4 : k0_cond4 i v28 = 1#1), ∀ a, (k0_off175 i) a + S1.size a ≤ S1024.size a) ∧
  (∀ (k0_h1 : k0_cond1 i v0 = 1#1), ∀ (k0_h4 : k0_cond4 i v28 = 1#1), ∀ a, (k0_off177 i) a + S1x8x128.size a ≤ S2x8192x128.size a) ∧
  (∀ (k0_h1 : k0_cond1 i v0 = 1#1), ∀ (k0_h4 : k0_cond4 i v28 = 1#1), ∀ a, (k0_off179 i) a + S1.size a ≤ S1024.size a) ∧
  (∀ (k0_h1 : k0_cond1 i v0 = 1#1), ∀ (k0_h4 : k0_cond4 i v28 = 1#1), ∀ a, (k0_off181 i) a + S1x8x128.size a ≤ S2x8192x128.size a) ∧
  (∀ (k0_h1 : k0_cond1 i v0 = 1#1), ∀ (k0_h4 : k0_cond4 i v28 = 1#1), ∀ a, (k0_off183 i) a + S1.size a ≤ S1024.size a) ∧
  (∀ (k0_h1 : k0_cond1 i v0 = 1#1), ∀ (k0_h4 : k0_cond4 i v28 = 1#1), ∀ a, (k0_off185 i) a + S1x8x128.size a ≤ S2x8192x128.size a) ∧
  (∀ (k0_h1 : k0_cond1 i v0 = 1#1), ∀ (k0_h4 : k0_cond4 i v28 = 1#1), ∀ a, (k0_off187 i) a + S1.size a ≤ S1024.size a) ∧
  (∀ (k0_h1 : k0_cond1 i v0 = 1#1), ∀ (k0_h4 : k0_cond4 i v28 = 1#1), ∀ a, (k0_off189 i) a + S1x8x128.size a ≤ S2x8192x128.size a) ∧
  (∀ (k0_h1 : k0_cond1 i v0 = 1#1), ∀ (k0_h4 : k0_cond4 i v28 = 1#1), ∀ a, (k0_off191 i) a + S1.size a ≤ S1024.size a) ∧
  (∀ (k0_h1 : k0_cond1 i v0 = 1#1), ∀ (k0_h4 : k0_cond4 i v28 = 1#1), ∀ a, (k0_off193 i) a + S1x8x128.size a ≤ S2x8192x128.size a) ∧
  (∀ (k0_h1 : k0_cond1 i v0 = 1#1), ∀ (k0_h4 : k0_cond4 i v28 = 1#1), ∀ a, (k0_off195 i) a + S1.size a ≤ S1024.size a) ∧
  (∀ (k0_h1 : k0_cond1 i v0 = 1#1), ∀ (k0_h4 : k0_cond4 i v28 = 1#1), ∀ a, (k0_off197 i) a + S1x8x128.size a ≤ S2x8192x128.size a)
def k0_chk2_3 (i : grid0.Coords) (v0 : BitVec 32) (v28 : BitVec 32) : Prop :=
  (∀ (k0_h1 : k0_cond1 i v0 = 1#1), ∀ (k0_h4 : k0_cond4 i v28 = 1#1), ∀ a, (k0_off199 i) a + S1.size a ≤ S1024.size a) ∧
  (∀ (k0_h1 : k0_cond1 i v0 = 1#1), ∀ (k0_h4 : k0_cond4 i v28 = 1#1), ∀ a, (k0_off201 i) a + S1x8x128.size a ≤ S2x8192x128.size a) ∧
  (∀ (k0_h1 : k0_cond1 i v0 = 1#1), ∀ (k0_h4 : k0_cond4 i v28 = 1#1), ∀ a, (k0_off203 i) a + S1.size a ≤ S1024.size a) ∧
  (∀ (k0_h1 : k0_cond1 i v0 = 1#1), ∀ (k0_h4 : k0_cond4 i v28 = 1#1), ∀ a, (k0_off205 i) a + S1x8x128.size a ≤ S2x8192x128.size a) ∧
  (∀ (k0_h1 : k0_cond1 i v0 = 1#1), ∀ (k0_h4 : k0_cond4 i v28 = 1#1), ∀ a, (k0_off207 i) a + S1.size a ≤ S1024.size a) ∧
  (∀ (k0_h1 : k0_cond1 i v0 = 1#1), ∀ (k0_h4 : k0_cond4 i v28 = 1#1), ∀ a, (k0_off209 i) a + S1x8x128.size a ≤ S2x8192x128.size a) ∧
  (∀ (k0_h1 : k0_cond1 i v0 = 1#1), ∀ (k0_h4 : k0_cond4 i v28 = 1#1), ∀ a, (k0_off211 i) a + S1.size a ≤ S1024.size a) ∧
  (∀ (k0_h1 : k0_cond1 i v0 = 1#1), ∀ (k0_h4 : k0_cond4 i v28 = 1#1), ∀ a, (k0_off213 i) a + S1x8x128.size a ≤ S2x8192x128.size a) ∧
  (∀ (k0_h1 : k0_cond1 i v0 = 1#1), ∀ (k0_h4 : k0_cond4 i v28 = 1#1), ∀ a, (k0_off215 i) a + S1.size a ≤ S1024.size a) ∧
  (∀ (k0_h1 : k0_cond1 i v0 = 1#1), ∀ (k0_h4 : k0_cond4 i v28 = 1#1), ∀ a, (k0_off217 i) a + S1x8x128.size a ≤ S2x8192x128.size a) ∧
  (∀ (k0_h1 : k0_cond1 i v0 = 1#1), ∀ (k0_h4 : k0_cond4 i v28 = 1#1), ∀ a, (k0_off219 i) a + S1.size a ≤ S1024.size a) ∧
  (∀ (k0_h1 : k0_cond1 i v0 = 1#1), ∀ (k0_h4 : k0_cond4 i v28 = 1#1), ∀ a, (k0_off221 i) a + S1x8x128.size a ≤ S2x8192x128.size a) ∧
  (∀ (k0_h1 : k0_cond1 i v0 = 1#1), ∀ (k0_h4 : k0_cond4 i v28 = 1#1), ∀ a, (k0_off223 i) a + S1.size a ≤ S1024.size a) ∧
  (∀ (k0_h1 : k0_cond1 i v0 = 1#1), ∀ (k0_h4 : k0_cond4 i v28 = 1#1), ∀ a, (k0_off225 i) a + S1x8x128.size a ≤ S2x8192x128.size a) ∧
  (∀ (k0_h1 : k0_cond1 i v0 = 1#1), ∀ (k0_h4 : k0_cond4 i v28 = 1#1), ∀ a, (k0_off227 i) a + S1.size a ≤ S1024.size a) ∧
  (∀ (k0_h1 : k0_cond1 i v0 = 1#1), ∀ (k0_h4 : k0_cond4 i v28 = 1#1), ∀ a, (k0_off229 i) a + S1x8x128.size a ≤ S2x8192x128.size a) ∧
  (∀ (k0_h1 : k0_cond1 i v0 = 1#1), ∀ (k0_h4 : k0_cond4 i v28 = 1#1), ∀ a, (k0_off231 i) a + S1.size a ≤ S1024.size a) ∧
  (∀ (k0_h1 : k0_cond1 i v0 = 1#1), ∀ (k0_h4 : k0_cond4 i v28 = 1#1), ∀ a, (k0_off233 i) a + S1x8x128.size a ≤ S2x8192x128.size a) ∧
  (∀ (k0_h1 : k0_cond1 i v0 = 1#1), ∀ (k0_h4 : k0_cond4 i v28 = 1#1), ∀ a, (k0_off235 i) a + S1.size a ≤ S1024.size a) ∧
  (∀ (k0_h1 : k0_cond1 i v0 = 1#1), ∀ (k0_h4 : k0_cond4 i v28 = 1#1), ∀ a, (k0_off237 i) a + S1x8x128.size a ≤ S2x8192x128.size a) ∧
  (∀ (k0_h1 : k0_cond1 i v0 = 1#1), ∀ (k0_h4 : k0_cond4 i v28 = 1#1), ∀ a, (k0_off239 i) a + S1.size a ≤ S1024.size a) ∧
  (∀ (k0_h1 : k0_cond1 i v0 = 1#1), ∀ (k0_h4 : k0_cond4 i v28 = 1#1), ∀ a, (k0_off241 i) a + S1x8x128.size a ≤ S2x8192x128.size a) ∧
  (∀ (k0_h1 : k0_cond1 i v0 = 1#1), ∀ (k0_h4 : k0_cond4 i v28 = 1#1), ∀ a, (k0_off243 i) a + S1.size a ≤ S1024.size a) ∧
  (∀ (k0_h1 : k0_cond1 i v0 = 1#1), ∀ (k0_h4 : k0_cond4 i v28 = 1#1), ∀ a, (k0_off245 i) a + S1x8x128.size a ≤ S2x8192x128.size a) ∧
  (∀ (k0_h1 : k0_cond1 i v0 = 1#1), ∀ (k0_h4 : k0_cond4 i v28 = 1#1), ∀ a, (k0_off247 i) a + S1.size a ≤ S1024.size a) ∧
  (∀ (k0_h1 : k0_cond1 i v0 = 1#1), ∀ (k0_h4 : k0_cond4 i v28 = 1#1), ∀ a, (k0_off249 i) a + S1x8x128.size a ≤ S2x8192x128.size a) ∧
  (∀ (k0_h1 : k0_cond1 i v0 = 1#1), ∀ (k0_h4 : k0_cond4 i v28 = 1#1), ∀ a, (k0_off251 i) a + S1.size a ≤ S1024.size a) ∧
  (∀ (k0_h1 : k0_cond1 i v0 = 1#1), ∀ (k0_h4 : k0_cond4 i v28 = 1#1), ∀ a, (k0_off253 i) a + S1x8x128.size a ≤ S2x8192x128.size a) ∧
  (∀ (k0_h1 : k0_cond1 i v0 = 1#1), ∀ (k0_h4 : k0_cond4 i v28 = 1#1), ∀ a, (k0_off255 i) a + S1.size a ≤ S1024.size a) ∧
  (∀ (k0_h1 : k0_cond1 i v0 = 1#1), ∀ (k0_h4 : k0_cond4 i v28 = 1#1), ∀ a, (k0_off257 i) a + S1x8x128.size a ≤ S2x8192x128.size a) ∧
  (∀ (k0_h1 : k0_cond1 i v0 = 1#1), ∀ (k0_h4 : k0_cond4 i v28 = 1#1), ∀ a, (k0_off259 i) a + S1.size a ≤ S1024.size a) ∧
  (∀ (k0_h1 : k0_cond1 i v0 = 1#1), ∀ (k0_h4 : k0_cond4 i v28 = 1#1), ∀ a, (k0_off261 i) a + S1x8x128.size a ≤ S2x8192x128.size a)
def k0_chk2_4 (i : grid0.Coords) (v0 : BitVec 32) (v28 : BitVec 32) : Prop :=
  (∀ (k0_h1 : k0_cond1 i v0 = 1#1), ∀ (k0_h4 : k0_cond4 i v28 = 1#1), ∀ a, (k0_off263 i) a + S1.size a ≤ S1024.size a) ∧
  (∀ (k0_h1 : k0_cond1 i v0 = 1#1), ∀ (k0_h4 : k0_cond4 i v28 = 1#1), ∀ a, (k0_off265 i) a + S1x8x128.size a ≤ S2x8192x128.size a) ∧
  (∀ (k0_h1 : k0_cond1 i v0 = 1#1), ∀ (k0_h4 : k0_cond4 i v28 = 1#1), ∀ a, (k0_off267 i) a + S1.size a ≤ S1024.size a) ∧
  (∀ (k0_h1 : k0_cond1 i v0 = 1#1), ∀ (k0_h4 : k0_cond4 i v28 = 1#1), ∀ a, (k0_off269 i) a + S1x8x128.size a ≤ S2x8192x128.size a) ∧
  (∀ (k0_h1 : k0_cond1 i v0 = 1#1), ∀ (k0_h4 : k0_cond4 i v28 = 1#1), ∀ a, (k0_off271 i) a + S1.size a ≤ S1024.size a) ∧
  (∀ (k0_h1 : k0_cond1 i v0 = 1#1), ∀ (k0_h4 : k0_cond4 i v28 = 1#1), ∀ a, (k0_off273 i) a + S1x8x128.size a ≤ S2x8192x128.size a) ∧
  (∀ (k0_h1 : k0_cond1 i v0 = 1#1), ∀ (k0_h4 : k0_cond4 i v28 = 1#1), ∀ a, (k0_off275 i) a + S1.size a ≤ S1024.size a) ∧
  (∀ (k0_h1 : k0_cond1 i v0 = 1#1), ∀ (k0_h4 : k0_cond4 i v28 = 1#1), ∀ a, (k0_off277 i) a + S1x8x128.size a ≤ S2x8192x128.size a) ∧
  (∀ (k0_h1 : k0_cond1 i v0 = 1#1), ∀ (k0_h4 : k0_cond4 i v28 = 1#1), ∀ a, (k0_off279 i) a + S1.size a ≤ S1024.size a) ∧
  (∀ (k0_h1 : k0_cond1 i v0 = 1#1), ∀ (k0_h4 : k0_cond4 i v28 = 1#1), ∀ a, (k0_off281 i) a + S1x8x128.size a ≤ S2x8192x128.size a) ∧
  (∀ (k0_h1 : k0_cond1 i v0 = 1#1), ∀ (k0_h4 : k0_cond4 i v28 = 1#1), ∀ a, (k0_off283 i) a + S1.size a ≤ S1024.size a) ∧
  (∀ (k0_h1 : k0_cond1 i v0 = 1#1), ∀ (k0_h4 : k0_cond4 i v28 = 1#1), ∀ a, (k0_off285 i) a + S1x8x128.size a ≤ S2x8192x128.size a) ∧
  (∀ (k0_h1 : k0_cond1 i v0 = 1#1), ∀ (k0_h4 : k0_cond4 i v28 = 1#1), ∀ a, (k0_off287 i) a + S1.size a ≤ S1024.size a) ∧
  (∀ (k0_h1 : k0_cond1 i v0 = 1#1), ∀ (k0_h4 : k0_cond4 i v28 = 1#1), ∀ a, (k0_off289 i) a + S1x8x128.size a ≤ S2x8192x128.size a) ∧
  (∀ (k0_h1 : k0_cond1 i v0 = 1#1), ∀ (k0_h4 : k0_cond4 i v28 = 1#1), ∀ a, (k0_off291 i) a + S1.size a ≤ S1024.size a) ∧
  (∀ (k0_h1 : k0_cond1 i v0 = 1#1), ∀ (k0_h4 : k0_cond4 i v28 = 1#1), ∀ a, (k0_off293 i) a + S1x8x128.size a ≤ S2x8192x128.size a) ∧
  (∀ (k0_h1 : k0_cond1 i v0 = 1#1), ∀ (k0_h4 : k0_cond4 i v28 = 1#1), ∀ a, (k0_off295 i) a + S1.size a ≤ S1024.size a) ∧
  (∀ (k0_h1 : k0_cond1 i v0 = 1#1), ∀ (k0_h4 : k0_cond4 i v28 = 1#1), ∀ a, (k0_off297 i) a + S1x8x128.size a ≤ S2x8192x128.size a) ∧
  (∀ (k0_h1 : k0_cond1 i v0 = 1#1), ∀ (k0_h4 : k0_cond4 i v28 = 1#1), ∀ a, (k0_off299 i) a + S1.size a ≤ S1024.size a) ∧
  (∀ (k0_h1 : k0_cond1 i v0 = 1#1), ∀ (k0_h4 : k0_cond4 i v28 = 1#1), ∀ a, (k0_off301 i) a + S1x8x128.size a ≤ S2x8192x128.size a) ∧
  (∀ (k0_h1 : k0_cond1 i v0 = 1#1), ∀ (k0_h4 : k0_cond4 i v28 = 1#1), ∀ a, (k0_off303 i) a + S1.size a ≤ S1024.size a) ∧
  (∀ (k0_h1 : k0_cond1 i v0 = 1#1), ∀ (k0_h4 : k0_cond4 i v28 = 1#1), ∀ a, (k0_off305 i) a + S1x8x128.size a ≤ S2x8192x128.size a) ∧
  (∀ (k0_h1 : k0_cond1 i v0 = 1#1), ∀ (k0_h4 : k0_cond4 i v28 = 1#1), ∀ a, (k0_off307 i) a + S1.size a ≤ S1024.size a) ∧
  (∀ (k0_h1 : k0_cond1 i v0 = 1#1), ∀ (k0_h4 : k0_cond4 i v28 = 1#1), ∀ a, (k0_off309 i) a + S1x8x128.size a ≤ S2x8192x128.size a) ∧
  (∀ (k0_h1 : k0_cond1 i v0 = 1#1), ∀ (k0_h4 : k0_cond4 i v28 = 1#1), ∀ a, (k0_off311 i) a + S1.size a ≤ S1024.size a) ∧
  (∀ (k0_h1 : k0_cond1 i v0 = 1#1), ∀ (k0_h4 : k0_cond4 i v28 = 1#1), ∀ a, (k0_off313 i) a + S1x8x128.size a ≤ S2x8192x128.size a) ∧
  (∀ (k0_h1 : k0_cond1 i v0 = 1#1), ∀ (k0_h4 : k0_cond4 i v28 = 1#1), ∀ a, (k0_off315 i) a + S1.size a ≤ S1024.size a) ∧
  (∀ (k0_h1 : k0_cond1 i v0 = 1#1), ∀ (k0_h4 : k0_cond4 i v28 = 1#1), ∀ a, (k0_off317 i) a + S1x8x128.size a ≤ S2x8192x128.size a) ∧
  (∀ (k0_h1 : k0_cond1 i v0 = 1#1), ∀ (k0_h4 : k0_cond4 i v28 = 1#1), ∀ a, (k0_off319 i) a + S1.size a ≤ S1024.size a) ∧
  (∀ (k0_h1 : k0_cond1 i v0 = 1#1), ∀ (k0_h4 : k0_cond4 i v28 = 1#1), ∀ a, (k0_off321 i) a + S1x8x128.size a ≤ S2x8192x128.size a) ∧
  (∀ (k0_h1 : k0_cond1 i v0 = 1#1), ∀ (k0_h4 : k0_cond4 i v28 = 1#1), ∀ a, (k0_off323 i) a + S1.size a ≤ S1024.size a) ∧
  (∀ (k0_h1 : k0_cond1 i v0 = 1#1), ∀ (k0_h4 : k0_cond4 i v28 = 1#1), ∀ a, (k0_off325 i) a + S1x8x128.size a ≤ S2x8192x128.size a)
def k0_chk2_5 (i : grid0.Coords) (v0 : BitVec 32) (v28 : BitVec 32) : Prop :=
  (∀ (k0_h1 : k0_cond1 i v0 = 1#1), ∀ (k0_h4 : k0_cond4 i v28 = 1#1), ∀ a, (k0_off327 i) a + S1.size a ≤ S1024.size a) ∧
  (∀ (k0_h1 : k0_cond1 i v0 = 1#1), ∀ (k0_h4 : k0_cond4 i v28 = 1#1), ∀ a, (k0_off329 i) a + S1x8x128.size a ≤ S2x8192x128.size a) ∧
  (∀ (k0_h1 : k0_cond1 i v0 = 1#1), ∀ (k0_h4 : k0_cond4 i v28 = 1#1), ∀ a, (k0_off331 i) a + S1.size a ≤ S1024.size a) ∧
  (∀ (k0_h1 : k0_cond1 i v0 = 1#1), ∀ (k0_h4 : k0_cond4 i v28 = 1#1), ∀ a, (k0_off333 i) a + S1x8x128.size a ≤ S2x8192x128.size a) ∧
  (∀ (k0_h1 : k0_cond1 i v0 = 1#1), ∀ (k0_h4 : k0_cond4 i v28 = 1#1), ∀ a, (k0_off335 i) a + S1.size a ≤ S1024.size a) ∧
  (∀ (k0_h1 : k0_cond1 i v0 = 1#1), ∀ (k0_h4 : k0_cond4 i v28 = 1#1), ∀ a, (k0_off337 i) a + S1x8x128.size a ≤ S2x8192x128.size a) ∧
  (∀ (k0_h1 : k0_cond1 i v0 = 1#1), ∀ (k0_h4 : k0_cond4 i v28 = 1#1), ∀ a, (k0_off339 i) a + S1.size a ≤ S1024.size a) ∧
  (∀ (k0_h1 : k0_cond1 i v0 = 1#1), ∀ (k0_h4 : k0_cond4 i v28 = 1#1), ∀ a, (k0_off341 i) a + S1x8x128.size a ≤ S2x8192x128.size a) ∧
  (∀ (k0_h1 : k0_cond1 i v0 = 1#1), ∀ (k0_h4 : k0_cond4 i v28 = 1#1), ∀ a, (k0_off343 i) a + S1.size a ≤ S1024.size a) ∧
  (∀ (k0_h1 : k0_cond1 i v0 = 1#1), ∀ (k0_h4 : k0_cond4 i v28 = 1#1), ∀ a, (k0_off345 i) a + S1x8x128.size a ≤ S2x8192x128.size a) ∧
  (∀ (k0_h1 : k0_cond1 i v0 = 1#1), ∀ (k0_h4 : k0_cond4 i v28 = 1#1), ∀ a, (k0_off347 i) a + S1.size a ≤ S1024.size a) ∧
  (∀ (k0_h1 : k0_cond1 i v0 = 1#1), ∀ (k0_h4 : k0_cond4 i v28 = 1#1), ∀ a, (k0_off349 i) a + S1x8x128.size a ≤ S2x8192x128.size a) ∧
  (∀ (k0_h1 : k0_cond1 i v0 = 1#1), ∀ (k0_h4 : k0_cond4 i v28 = 1#1), ∀ a, (k0_off351 i) a + S1.size a ≤ S1024.size a) ∧
  (∀ (k0_h1 : k0_cond1 i v0 = 1#1), ∀ (k0_h4 : k0_cond4 i v28 = 1#1), ∀ a, (k0_off353 i) a + S1x8x128.size a ≤ S2x8192x128.size a) ∧
  (∀ (k0_h1 : k0_cond1 i v0 = 1#1), ∀ (k0_h4 : k0_cond4 i v28 = 1#1), ∀ a, (k0_off355 i) a + S1.size a ≤ S1024.size a) ∧
  (∀ (k0_h1 : k0_cond1 i v0 = 1#1), ∀ (k0_h4 : k0_cond4 i v28 = 1#1), ∀ a, (k0_off357 i) a + S1x8x128.size a ≤ S2x8192x128.size a) ∧
  (∀ (k0_h1 : k0_cond1 i v0 = 1#1), ∀ (k0_h4 : k0_cond4 i v28 = 1#1), ∀ a, (k0_off359 i) a + S1.size a ≤ S1024.size a) ∧
  (∀ (k0_h1 : k0_cond1 i v0 = 1#1), ∀ (k0_h4 : k0_cond4 i v28 = 1#1), ∀ a, (k0_off361 i) a + S1x8x128.size a ≤ S2x8192x128.size a) ∧
  (∀ (k0_h1 : k0_cond1 i v0 = 1#1), ∀ (k0_h4 : k0_cond4 i v28 = 1#1), ∀ a, (k0_off363 i) a + S1.size a ≤ S1024.size a) ∧
  (∀ (k0_h1 : k0_cond1 i v0 = 1#1), ∀ (k0_h4 : k0_cond4 i v28 = 1#1), ∀ a, (k0_off365 i) a + S1x8x128.size a ≤ S2x8192x128.size a) ∧
  (∀ (k0_h1 : k0_cond1 i v0 = 1#1), ∀ (k0_h4 : k0_cond4 i v28 = 1#1), ∀ a, (k0_off367 i) a + S1.size a ≤ S1024.size a) ∧
  (∀ (k0_h1 : k0_cond1 i v0 = 1#1), ∀ (k0_h4 : k0_cond4 i v28 = 1#1), ∀ a, (k0_off369 i) a + S1x8x128.size a ≤ S2x8192x128.size a) ∧
  (∀ (k0_h1 : k0_cond1 i v0 = 1#1), ∀ (k0_h4 : k0_cond4 i v28 = 1#1), ∀ a, (k0_off371 i) a + S1.size a ≤ S1024.size a) ∧
  (∀ (k0_h1 : k0_cond1 i v0 = 1#1), ∀ (k0_h4 : k0_cond4 i v28 = 1#1), ∀ a, (k0_off373 i) a + S1x8x128.size a ≤ S2x8192x128.size a) ∧
  (∀ (k0_h1 : k0_cond1 i v0 = 1#1), ∀ (k0_h4 : k0_cond4 i v28 = 1#1), ∀ a, (k0_off375 i) a + S1.size a ≤ S1024.size a) ∧
  (∀ (k0_h1 : k0_cond1 i v0 = 1#1), ∀ (k0_h4 : k0_cond4 i v28 = 1#1), ∀ a, (k0_off377 i) a + S1x8x128.size a ≤ S2x8192x128.size a) ∧
  (∀ (k0_h1 : k0_cond1 i v0 = 1#1), ∀ (k0_h4 : k0_cond4 i v28 = 1#1), ∀ a, (k0_off379 i) a + S1.size a ≤ S1024.size a) ∧
  (∀ (k0_h1 : k0_cond1 i v0 = 1#1), ∀ (k0_h4 : k0_cond4 i v28 = 1#1), ∀ a, (k0_off381 i) a + S1x8x128.size a ≤ S2x8192x128.size a) ∧
  (∀ (k0_h1 : k0_cond1 i v0 = 1#1), ∀ (k0_h4 : k0_cond4 i v28 = 1#1), ∀ a, (k0_off383 i) a + S1.size a ≤ S1024.size a) ∧
  (∀ (k0_h1 : k0_cond1 i v0 = 1#1), ∀ (k0_h4 : k0_cond4 i v28 = 1#1), ∀ a, (k0_off385 i) a + S1x8x128.size a ≤ S2x8192x128.size a) ∧
  (∀ (k0_h1 : k0_cond1 i v0 = 1#1), ∀ (k0_h4 : k0_cond4 i v28 = 1#1), ∀ a, (k0_off387 i) a + S1.size a ≤ S1024.size a) ∧
  (∀ (k0_h1 : k0_cond1 i v0 = 1#1), ∀ (k0_h4 : k0_cond4 i v28 = 1#1), ∀ a, (k0_off389 i) a + S1x8x128.size a ≤ S2x8192x128.size a)
def k0_chk2_6 (i : grid0.Coords) (v0 : BitVec 32) (v28 : BitVec 32) : Prop :=
  (∀ (k0_h1 : k0_cond1 i v0 = 1#1), ∀ (k0_h4 : k0_cond4 i v28 = 1#1), ∀ a, (k0_off391 i) a + S1.size a ≤ S1024.size a) ∧
  (∀ (k0_h1 : k0_cond1 i v0 = 1#1), ∀ (k0_h4 : k0_cond4 i v28 = 1#1), ∀ a, (k0_off393 i) a + S1x8x128.size a ≤ S2x8192x128.size a) ∧
  (∀ (k0_h1 : k0_cond1 i v0 = 1#1), ∀ (k0_h4 : k0_cond4 i v28 = 1#1), ∀ a, (k0_off395 i) a + S1.size a ≤ S1024.size a) ∧
  (∀ (k0_h1 : k0_cond1 i v0 = 1#1), ∀ (k0_h4 : k0_cond4 i v28 = 1#1), ∀ a, (k0_off397 i) a + S1x8x128.size a ≤ S2x8192x128.size a) ∧
  (∀ (k0_h1 : k0_cond1 i v0 = 1#1), ∀ (k0_h4 : k0_cond4 i v28 = 1#1), ∀ a, (k0_off399 i) a + S1.size a ≤ S1024.size a) ∧
  (∀ (k0_h1 : k0_cond1 i v0 = 1#1), ∀ (k0_h4 : k0_cond4 i v28 = 1#1), ∀ a, (k0_off401 i) a + S1x8x128.size a ≤ S2x8192x128.size a) ∧
  (∀ (k0_h1 : k0_cond1 i v0 = 1#1), ∀ (k0_h4 : k0_cond4 i v28 = 1#1), ∀ a, (k0_off403 i) a + S1.size a ≤ S1024.size a) ∧
  (∀ (k0_h1 : k0_cond1 i v0 = 1#1), ∀ (k0_h4 : k0_cond4 i v28 = 1#1), ∀ a, (k0_off405 i) a + S1x8x128.size a ≤ S2x8192x128.size a) ∧
  (∀ (k0_h1 : k0_cond1 i v0 = 1#1), ∀ (k0_h4 : k0_cond4 i v28 = 1#1), ∀ a, (k0_off407 i) a + S1.size a ≤ S1024.size a) ∧
  (∀ (k0_h1 : k0_cond1 i v0 = 1#1), ∀ (k0_h4 : k0_cond4 i v28 = 1#1), ∀ a, (k0_off409 i) a + S1x8x128.size a ≤ S2x8192x128.size a) ∧
  (∀ (k0_h1 : k0_cond1 i v0 = 1#1), ∀ (k0_h4 : k0_cond4 i v28 = 1#1), ∀ a, (k0_off411 i) a + S1.size a ≤ S1024.size a) ∧
  (∀ (k0_h1 : k0_cond1 i v0 = 1#1), ∀ (k0_h4 : k0_cond4 i v28 = 1#1), ∀ a, (k0_off413 i) a + S1x8x128.size a ≤ S2x8192x128.size a) ∧
  (∀ (k0_h1 : k0_cond1 i v0 = 1#1), ∀ (k0_h4 : k0_cond4 i v28 = 1#1), ∀ a, (k0_off415 i) a + S1.size a ≤ S1024.size a) ∧
  (∀ (k0_h1 : k0_cond1 i v0 = 1#1), ∀ (k0_h4 : k0_cond4 i v28 = 1#1), ∀ a, (k0_off417 i) a + S1x8x128.size a ≤ S2x8192x128.size a) ∧
  (∀ (k0_h1 : k0_cond1 i v0 = 1#1), ∀ (k0_h4 : k0_cond4 i v28 = 1#1), ∀ a, (k0_off419 i) a + S1.size a ≤ S1024.size a) ∧
  (∀ (k0_h1 : k0_cond1 i v0 = 1#1), ∀ (k0_h4 : k0_cond4 i v28 = 1#1), ∀ a, (k0_off421 i) a + S1x8x128.size a ≤ S2x8192x128.size a) ∧
  (∀ (k0_h1 : k0_cond1 i v0 = 1#1), ∀ (k0_h4 : k0_cond4 i v28 = 1#1), ∀ a, (k0_off423 i) a + S1.size a ≤ S1024.size a) ∧
  (∀ (k0_h1 : k0_cond1 i v0 = 1#1), ∀ (k0_h4 : k0_cond4 i v28 = 1#1), ∀ a, (k0_off425 i) a + S1x8x128.size a ≤ S2x8192x128.size a) ∧
  (∀ (k0_h1 : k0_cond1 i v0 = 1#1), ∀ (k0_h4 : k0_cond4 i v28 = 1#1), ∀ a, (k0_off427 i) a + S1.size a ≤ S1024.size a) ∧
  (∀ (k0_h1 : k0_cond1 i v0 = 1#1), ∀ (k0_h4 : k0_cond4 i v28 = 1#1), ∀ a, (k0_off429 i) a + S1x8x128.size a ≤ S2x8192x128.size a) ∧
  (∀ (k0_h1 : k0_cond1 i v0 = 1#1), ∀ (k0_h4 : k0_cond4 i v28 = 1#1), ∀ a, (k0_off431 i) a + S1.size a ≤ S1024.size a) ∧
  (∀ (k0_h1 : k0_cond1 i v0 = 1#1), ∀ (k0_h4 : k0_cond4 i v28 = 1#1), ∀ a, (k0_off433 i) a + S1x8x128.size a ≤ S2x8192x128.size a) ∧
  (∀ (k0_h1 : k0_cond1 i v0 = 1#1), ∀ (k0_h4 : k0_cond4 i v28 = 1#1), ∀ a, (k0_off435 i) a + S1.size a ≤ S1024.size a) ∧
  (∀ (k0_h1 : k0_cond1 i v0 = 1#1), ∀ (k0_h4 : k0_cond4 i v28 = 1#1), ∀ a, (k0_off437 i) a + S1x8x128.size a ≤ S2x8192x128.size a) ∧
  (∀ (k0_h1 : k0_cond1 i v0 = 1#1), ∀ (k0_h4 : k0_cond4 i v28 = 1#1), ∀ a, (k0_off439 i) a + S1.size a ≤ S1024.size a) ∧
  (∀ (k0_h1 : k0_cond1 i v0 = 1#1), ∀ (k0_h4 : k0_cond4 i v28 = 1#1), ∀ a, (k0_off441 i) a + S1x8x128.size a ≤ S2x8192x128.size a) ∧
  (∀ (k0_h1 : k0_cond1 i v0 = 1#1), ∀ (k0_h4 : k0_cond4 i v28 = 1#1), ∀ a, (k0_off443 i) a + S1.size a ≤ S1024.size a) ∧
  (∀ (k0_h1 : k0_cond1 i v0 = 1#1), ∀ (k0_h4 : k0_cond4 i v28 = 1#1), ∀ a, (k0_off445 i) a + S1x8x128.size a ≤ S2x8192x128.size a) ∧
  (∀ (k0_h1 : k0_cond1 i v0 = 1#1), ∀ (k0_h4 : k0_cond4 i v28 = 1#1), ∀ a, (k0_off447 i) a + S1.size a ≤ S1024.size a) ∧
  (∀ (k0_h1 : k0_cond1 i v0 = 1#1), ∀ (k0_h4 : k0_cond4 i v28 = 1#1), ∀ a, (k0_off449 i) a + S1x8x128.size a ≤ S2x8192x128.size a) ∧
  (∀ (k0_h1 : k0_cond1 i v0 = 1#1), ∀ (k0_h4 : k0_cond4 i v28 = 1#1), ∀ a, (k0_off451 i) a + S1.size a ≤ S1024.size a) ∧
  (∀ (k0_h1 : k0_cond1 i v0 = 1#1), ∀ (k0_h4 : k0_cond4 i v28 = 1#1), ∀ a, (k0_off453 i) a + S1x8x128.size a ≤ S2x8192x128.size a)
def k0_chk2_7 (i : grid0.Coords) (v0 : BitVec 32) (v28 : BitVec 32) : Prop :=
  (∀ (k0_h1 : k0_cond1 i v0 = 1#1), ∀ (k0_h4 : k0_cond4 i v28 = 1#1), ∀ a, (k0_off455 i) a + S1.size a ≤ S1024.size a) ∧
  (∀ (k0_h1 : k0_cond1 i v0 = 1#1), ∀ (k0_h4 : k0_cond4 i v28 = 1#1), ∀ a, (k0_off457 i) a + S1x8x128.size a ≤ S2x8192x128.size a) ∧
  (∀ (k0_h1 : k0_cond1 i v0 = 1#1), ∀ (k0_h4 : k0_cond4 i v28 = 1#1), ∀ a, (k0_off459 i) a + S1.size a ≤ S1024.size a) ∧
  (∀ (k0_h1 : k0_cond1 i v0 = 1#1), ∀ (k0_h4 : k0_cond4 i v28 = 1#1), ∀ a, (k0_off461 i) a + S1x8x128.size a ≤ S2x8192x128.size a) ∧
  (∀ (k0_h1 : k0_cond1 i v0 = 1#1), ∀ (k0_h4 : k0_cond4 i v28 = 1#1), ∀ a, (k0_off463 i) a + S1.size a ≤ S1024.size a) ∧
  (∀ (k0_h1 : k0_cond1 i v0 = 1#1), ∀ (k0_h4 : k0_cond4 i v28 = 1#1), ∀ a, (k0_off465 i) a + S1x8x128.size a ≤ S2x8192x128.size a) ∧
  (∀ (k0_h1 : k0_cond1 i v0 = 1#1), ∀ (k0_h4 : k0_cond4 i v28 = 1#1), ∀ a, (k0_off467 i) a + S1.size a ≤ S1024.size a) ∧
  (∀ (k0_h1 : k0_cond1 i v0 = 1#1), ∀ (k0_h4 : k0_cond4 i v28 = 1#1), ∀ a, (k0_off469 i) a + S1x8x128.size a ≤ S2x8192x128.size a) ∧
  (∀ (k0_h1 : k0_cond1 i v0 = 1#1), ∀ (k0_h4 : k0_cond4 i v28 = 1#1), ∀ a, (k0_off471 i) a + S1.size a ≤ S1024.size a) ∧
  (∀ (k0_h1 : k0_cond1 i v0 = 1#1), ∀ (k0_h4 : k0_cond4 i v28 = 1#1), ∀ a, (k0_off473 i) a + S1x8x128.size a ≤ S2x8192x128.size a) ∧
  (∀ (k0_h1 : k0_cond1 i v0 = 1#1), ∀ (k0_h4 : k0_cond4 i v28 = 1#1), ∀ a, (k0_off475 i) a + S1.size a ≤ S1024.size a) ∧
  (∀ (k0_h1 : k0_cond1 i v0 = 1#1), ∀ (k0_h4 : k0_cond4 i v28 = 1#1), ∀ a, (k0_off477 i) a + S1x8x128.size a ≤ S2x8192x128.size a) ∧
  (∀ (k0_h1 : k0_cond1 i v0 = 1#1), ∀ (k0_h4 : k0_cond4 i v28 = 1#1), ∀ a, (k0_off479 i) a + S1.size a ≤ S1024.size a) ∧
  (∀ (k0_h1 : k0_cond1 i v0 = 1#1), ∀ (k0_h4 : k0_cond4 i v28 = 1#1), ∀ a, (k0_off481 i) a + S1x8x128.size a ≤ S2x8192x128.size a) ∧
  (∀ (k0_h1 : k0_cond1 i v0 = 1#1), ∀ (k0_h4 : k0_cond4 i v28 = 1#1), ∀ a, (k0_off483 i) a + S1.size a ≤ S1024.size a) ∧
  (∀ (k0_h1 : k0_cond1 i v0 = 1#1), ∀ (k0_h4 : k0_cond4 i v28 = 1#1), ∀ a, (k0_off485 i) a + S1x8x128.size a ≤ S2x8192x128.size a) ∧
  (∀ (k0_h1 : k0_cond1 i v0 = 1#1), ∀ (k0_h4 : k0_cond4 i v28 = 1#1), ∀ a, (k0_off487 i) a + S1.size a ≤ S1024.size a) ∧
  (∀ (k0_h1 : k0_cond1 i v0 = 1#1), ∀ (k0_h4 : k0_cond4 i v28 = 1#1), ∀ a, (k0_off489 i) a + S1x8x128.size a ≤ S2x8192x128.size a) ∧
  (∀ (k0_h1 : k0_cond1 i v0 = 1#1), ∀ (k0_h4 : k0_cond4 i v28 = 1#1), ∀ a, (k0_off491 i) a + S1.size a ≤ S1024.size a) ∧
  (∀ (k0_h1 : k0_cond1 i v0 = 1#1), ∀ (k0_h4 : k0_cond4 i v28 = 1#1), ∀ a, (k0_off493 i) a + S1x8x128.size a ≤ S2x8192x128.size a) ∧
  (∀ (k0_h1 : k0_cond1 i v0 = 1#1), ∀ (k0_h4 : k0_cond4 i v28 = 1#1), ∀ a, (k0_off495 i) a + S1.size a ≤ S1024.size a) ∧
  (∀ (k0_h1 : k0_cond1 i v0 = 1#1), ∀ (k0_h4 : k0_cond4 i v28 = 1#1), ∀ a, (k0_off497 i) a + S1x8x128.size a ≤ S2x8192x128.size a) ∧
  (∀ (k0_h1 : k0_cond1 i v0 = 1#1), ∀ (k0_h4 : k0_cond4 i v28 = 1#1), ∀ a, (k0_off499 i) a + S1.size a ≤ S1024.size a) ∧
  (∀ (k0_h1 : k0_cond1 i v0 = 1#1), ∀ (k0_h4 : k0_cond4 i v28 = 1#1), ∀ a, (k0_off501 i) a + S1x8x128.size a ≤ S2x8192x128.size a) ∧
  (∀ (k0_h1 : k0_cond1 i v0 = 1#1), ∀ (k0_h4 : k0_cond4 i v28 = 1#1), ∀ a, (k0_off503 i) a + S1.size a ≤ S1024.size a) ∧
  (∀ (k0_h1 : k0_cond1 i v0 = 1#1), ∀ (k0_h4 : k0_cond4 i v28 = 1#1), ∀ a, (k0_off505 i) a + S1x8x128.size a ≤ S2x8192x128.size a) ∧
  (∀ (k0_h1 : k0_cond1 i v0 = 1#1), ∀ (k0_h4 : k0_cond4 i v28 = 1#1), ∀ a, (k0_off507 i) a + S1.size a ≤ S1024.size a) ∧
  (∀ (k0_h1 : k0_cond1 i v0 = 1#1), ∀ (k0_h4 : k0_cond4 i v28 = 1#1), ∀ a, (k0_off509 i) a + S1x8x128.size a ≤ S2x8192x128.size a) ∧
  (∀ (k0_h1 : k0_cond1 i v0 = 1#1), ∀ (k0_h4 : k0_cond4 i v28 = 1#1), ∀ a, (k0_off511 i) a + S1.size a ≤ S1024.size a) ∧
  (∀ (k0_h1 : k0_cond1 i v0 = 1#1), ∀ (k0_h4 : k0_cond4 i v28 = 1#1), ∀ a, (k0_off513 i) a + S1x8x128.size a ≤ S2x8192x128.size a) ∧
  (∀ (k0_h1 : k0_cond1 i v0 = 1#1), ∀ (k0_h4 : k0_cond4 i v28 = 1#1), ∀ a, (k0_off515 i) a + S1.size a ≤ S1024.size a) ∧
  (∀ (k0_h1 : k0_cond1 i v0 = 1#1), ∀ (k0_h4 : k0_cond4 i v28 = 1#1), ∀ a, (k0_off517 i) a + S1x8x128.size a ≤ S2x8192x128.size a)
def k0_chk2_8 (i : grid0.Coords) (v0 : BitVec 32) (v28 : BitVec 32) : Prop :=
  (∀ (k0_h1 : k0_cond1 i v0 = 1#1), ∀ (k0_h4 : k0_cond4 i v28 = 1#1), ∀ a, (k0_off519 i) a + S1.size a ≤ S1024.size a) ∧
  (∀ (k0_h1 : k0_cond1 i v0 = 1#1), ∀ (k0_h4 : k0_cond4 i v28 = 1#1), ∀ a, (k0_off521 i) a + S1x8x128.size a ≤ S2x8192x128.size a) ∧
  (∀ (k0_h1 : k0_cond1 i v0 = 1#1), ∀ (k0_h4 : k0_cond4 i v28 = 1#1), ∀ a, (k0_off523 i) a + S1.size a ≤ S1024.size a) ∧
  (∀ (k0_h1 : k0_cond1 i v0 = 1#1), ∀ (k0_h4 : k0_cond4 i v28 = 1#1), ∀ a, (k0_off525 i) a + S1x8x128.size a ≤ S2x8192x128.size a) ∧
  (∀ (k0_h1 : k0_cond1 i v0 = 1#1), ∀ (k0_h4 : k0_cond4 i v28 = 1#1), ∀ a, (k0_off527 i) a + S1.size a ≤ S1024.size a) ∧
  (∀ (k0_h1 : k0_cond1 i v0 = 1#1), ∀ (k0_h4 : k0_cond4 i v28 = 1#1), ∀ a, (k0_off529 i) a + S1x8x128.size a ≤ S2x8192x128.size a) ∧
  (∀ (k0_h1 : k0_cond1 i v0 = 1#1), ∀ (k0_h4 : k0_cond4 i v28 = 1#1), ∀ a, (k0_off531 i) a + S1.size a ≤ S1024.size a) ∧
  (∀ (k0_h1 : k0_cond1 i v0 = 1#1), ∀ (k0_h4 : k0_cond4 i v28 = 1#1), ∀ a, (k0_off533 i) a + S1x8x128.size a ≤ S2x8192x128.size a) ∧
  (∀ (k0_h1 : k0_cond1 i v0 = 1#1), ∀ (k0_h4 : k0_cond4 i v28 = 1#1), ∀ a, (k0_off535 i) a + S1.size a ≤ S1024.size a) ∧
  (∀ (k0_h1 : k0_cond1 i v0 = 1#1), ∀ (k0_h4 : k0_cond4 i v28 = 1#1), ∀ a, (k0_off537 i) a + S1x8x128.size a ≤ S2x8192x128.size a) ∧
  (∀ (k0_h1 : k0_cond1 i v0 = 1#1), ∀ (k0_h4 : k0_cond4 i v28 = 1#1), ∀ a, (k0_off539 i) a + S1.size a ≤ S1024.size a) ∧
  (∀ (k0_h1 : k0_cond1 i v0 = 1#1), ∀ (k0_h4 : k0_cond4 i v28 = 1#1), ∀ a, (k0_off541 i) a + S1x8x128.size a ≤ S2x8192x128.size a) ∧
  (∀ (k0_h1 : k0_cond1 i v0 = 1#1), ∀ (k0_h4 : k0_cond4 i v28 = 1#1), ∀ a, (k0_off543 i) a + S1.size a ≤ S1024.size a) ∧
  (∀ (k0_h1 : k0_cond1 i v0 = 1#1), ∀ (k0_h4 : k0_cond4 i v28 = 1#1), ∀ a, (k0_off545 i) a + S1x8x128.size a ≤ S2x8192x128.size a) ∧
  (∀ (k0_h1 : k0_cond1 i v0 = 1#1), ∀ (k0_h4 : k0_cond4 i v28 = 1#1), ∀ a, (k0_off547 i) a + S1.size a ≤ S1024.size a) ∧
  (∀ (k0_h1 : k0_cond1 i v0 = 1#1), ∀ (k0_h4 : k0_cond4 i v28 = 1#1), ∀ a, (k0_off549 i) a + S1x8x128.size a ≤ S2x8192x128.size a) ∧
  (∀ (k0_h1 : k0_cond1 i v0 = 1#1), ∀ (k0_h4 : k0_cond4 i v28 = 1#1), ∀ a, (k0_off551 i) a + S1.size a ≤ S1024.size a) ∧
  (∀ (k0_h1 : k0_cond1 i v0 = 1#1), ∀ (k0_h4 : k0_cond4 i v28 = 1#1), ∀ a, (k0_off553 i) a + S1x8x128.size a ≤ S2x8192x128.size a) ∧
  (∀ (k0_h1 : k0_cond1 i v0 = 1#1), ∀ (k0_h4 : k0_cond4 i v28 = 1#1), ∀ a, (k0_off555 i) a + S1.size a ≤ S1024.size a) ∧
  (∀ (k0_h1 : k0_cond1 i v0 = 1#1), ∀ (k0_h4 : k0_cond4 i v28 = 1#1), ∀ a, (k0_off557 i) a + S1x8x128.size a ≤ S2x8192x128.size a) ∧
  (∀ (k0_h1 : k0_cond1 i v0 = 1#1), ∀ (k0_h4 : k0_cond4 i v28 = 1#1), ∀ a, (k0_off559 i) a + S1.size a ≤ S1024.size a) ∧
  (∀ (k0_h1 : k0_cond1 i v0 = 1#1), ∀ (k0_h4 : k0_cond4 i v28 = 1#1), ∀ a, (k0_off561 i) a + S1x8x128.size a ≤ S2x8192x128.size a) ∧
  (∀ (k0_h1 : k0_cond1 i v0 = 1#1), ∀ (k0_h4 : k0_cond4 i v28 = 1#1), ∀ a, (k0_off563 i) a + S1.size a ≤ S1024.size a) ∧
  (∀ (k0_h1 : k0_cond1 i v0 = 1#1), ∀ (k0_h4 : k0_cond4 i v28 = 1#1), ∀ a, (k0_off565 i) a + S1x8x128.size a ≤ S2x8192x128.size a) ∧
  (∀ (k0_h1 : k0_cond1 i v0 = 1#1), ∀ (k0_h4 : k0_cond4 i v28 = 1#1), ∀ a, (k0_off567 i) a + S1.size a ≤ S1024.size a) ∧
  (∀ (k0_h1 : k0_cond1 i v0 = 1#1), ∀ (k0_h4 : k0_cond4 i v28 = 1#1), ∀ a, (k0_off569 i) a + S1x8x128.size a ≤ S2x8192x128.size a) ∧
  (∀ (k0_h1 : k0_cond1 i v0 = 1#1), ∀ (k0_h4 : k0_cond4 i v28 = 1#1), ∀ a, (k0_off571 i) a + S1.size a ≤ S1024.size a) ∧
  (∀ (k0_h1 : k0_cond1 i v0 = 1#1), ∀ (k0_h4 : k0_cond4 i v28 = 1#1), ∀ a, (k0_off573 i) a + S1x8x128.size a ≤ S2x8192x128.size a) ∧
  (∀ (k0_h1 : k0_cond1 i v0 = 1#1), ∀ (k0_h4 : k0_cond4 i v28 = 1#1), ∀ a, (k0_off575 i) a + S1.size a ≤ S1024.size a) ∧
  (∀ (k0_h1 : k0_cond1 i v0 = 1#1), ∀ (k0_h4 : k0_cond4 i v28 = 1#1), ∀ a, (k0_off577 i) a + S1x8x128.size a ≤ S2x8192x128.size a) ∧
  (∀ (k0_h1 : k0_cond1 i v0 = 1#1), ∀ (k0_h4 : k0_cond4 i v28 = 1#1), ∀ a, (k0_off579 i) a + S1.size a ≤ S1024.size a) ∧
  (∀ (k0_h1 : k0_cond1 i v0 = 1#1), ∀ (k0_h4 : k0_cond4 i v28 = 1#1), ∀ a, (k0_off581 i) a + S1x8x128.size a ≤ S2x8192x128.size a)
def k0_chk2_9 (i : grid0.Coords) (v0 : BitVec 32) (v28 : BitVec 32) : Prop :=
  (∀ (k0_h1 : k0_cond1 i v0 = 1#1), ∀ (k0_h4 : k0_cond4 i v28 = 1#1), ∀ a, (k0_off583 i) a + S1.size a ≤ S1024.size a) ∧
  (∀ (k0_h1 : k0_cond1 i v0 = 1#1), ∀ (k0_h4 : k0_cond4 i v28 = 1#1), ∀ a, (k0_off585 i) a + S1x8x128.size a ≤ S2x8192x128.size a) ∧
  (∀ (k0_h1 : k0_cond1 i v0 = 1#1), ∀ (k0_h4 : k0_cond4 i v28 = 1#1), ∀ a, (k0_off587 i) a + S1.size a ≤ S1024.size a) ∧
  (∀ (k0_h1 : k0_cond1 i v0 = 1#1), ∀ (k0_h4 : k0_cond4 i v28 = 1#1), ∀ a, (k0_off589 i) a + S1x8x128.size a ≤ S2x8192x128.size a) ∧
  (∀ (k0_h1 : k0_cond1 i v0 = 1#1), ∀ (k0_h4 : k0_cond4 i v28 = 1#1), ∀ a, (k0_off591 i) a + S1.size a ≤ S1024.size a) ∧
  (∀ (k0_h1 : k0_cond1 i v0 = 1#1), ∀ (k0_h4 : k0_cond4 i v28 = 1#1), ∀ a, (k0_off593 i) a + S1x8x128.size a ≤ S2x8192x128.size a) ∧
  (∀ (k0_h1 : k0_cond1 i v0 = 1#1), ∀ (k0_h4 : k0_cond4 i v28 = 1#1), ∀ a, (k0_off595 i) a + S1.size a ≤ S1024.size a) ∧
  (∀ (k0_h1 : k0_cond1 i v0 = 1#1), ∀ (k0_h4 : k0_cond4 i v28 = 1#1), ∀ a, (k0_off597 i) a + S1x8x128.size a ≤ S2x8192x128.size a) ∧
  (∀ (k0_h1 : k0_cond1 i v0 = 1#1), ∀ (k0_h4 : k0_cond4 i v28 = 1#1), ∀ a, (k0_off599 i) a + S1.size a ≤ S1024.size a) ∧
  (∀ (k0_h1 : k0_cond1 i v0 = 1#1), ∀ (k0_h4 : k0_cond4 i v28 = 1#1), ∀ a, (k0_off601 i) a + S1x8x128.size a ≤ S2x8192x128.size a) ∧
  (∀ (k0_h1 : k0_cond1 i v0 = 1#1), ∀ (k0_h4 : k0_cond4 i v28 = 1#1), ∀ a, (k0_off603 i) a + S1.size a ≤ S1024.size a) ∧
  (∀ (k0_h1 : k0_cond1 i v0 = 1#1), ∀ (k0_h4 : k0_cond4 i v28 = 1#1), ∀ a, (k0_off605 i) a + S1x8x128.size a ≤ S2x8192x128.size a) ∧
  (∀ (k0_h1 : k0_cond1 i v0 = 1#1), ∀ (k0_h4 : k0_cond4 i v28 = 1#1), ∀ a, (k0_off607 i) a + S1.size a ≤ S1024.size a) ∧
  (∀ (k0_h1 : k0_cond1 i v0 = 1#1), ∀ (k0_h4 : k0_cond4 i v28 = 1#1), ∀ a, (k0_off609 i) a + S1x8x128.size a ≤ S2x8192x128.size a) ∧
  (∀ (k0_h1 : k0_cond1 i v0 = 1#1), ∀ (k0_h4 : k0_cond4 i v28 = 1#1), ∀ a, (k0_off611 i) a + S1.size a ≤ S1024.size a) ∧
  (∀ (k0_h1 : k0_cond1 i v0 = 1#1), ∀ (k0_h4 : k0_cond4 i v28 = 1#1), ∀ a, (k0_off613 i) a + S1x8x128.size a ≤ S2x8192x128.size a) ∧
  (∀ (k0_h1 : k0_cond1 i v0 = 1#1), ∀ (k0_h4 : k0_cond4 i v28 = 1#1), ∀ a, (k0_off615 i) a + S1.size a ≤ S1024.size a) ∧
  (∀ (k0_h1 : k0_cond1 i v0 = 1#1), ∀ (k0_h4 : k0_cond4 i v28 = 1#1), ∀ a, (k0_off617 i) a + S1x8x128.size a ≤ S2x8192x128.size a) ∧
  (∀ (k0_h1 : k0_cond1 i v0 = 1#1), ∀ (k0_h4 : k0_cond4 i v28 = 1#1), ∀ a, (k0_off619 i) a + S1.size a ≤ S1024.size a) ∧
  (∀ (k0_h1 : k0_cond1 i v0 = 1#1), ∀ (k0_h4 : k0_cond4 i v28 = 1#1), ∀ a, (k0_off621 i) a + S1x8x128.size a ≤ S2x8192x128.size a) ∧
  (∀ (k0_h1 : k0_cond1 i v0 = 1#1), ∀ (k0_h4 : k0_cond4 i v28 = 1#1), ∀ a, (k0_off623 i) a + S1.size a ≤ S1024.size a) ∧
  (∀ (k0_h1 : k0_cond1 i v0 = 1#1), ∀ (k0_h4 : k0_cond4 i v28 = 1#1), ∀ a, (k0_off625 i) a + S1x8x128.size a ≤ S2x8192x128.size a) ∧
  (∀ (k0_h1 : k0_cond1 i v0 = 1#1), ∀ (k0_h4 : k0_cond4 i v28 = 1#1), ∀ a, (k0_off627 i) a + S1.size a ≤ S1024.size a) ∧
  (∀ (k0_h1 : k0_cond1 i v0 = 1#1), ∀ (k0_h4 : k0_cond4 i v28 = 1#1), ∀ a, (k0_off629 i) a + S1x8x128.size a ≤ S2x8192x128.size a) ∧
  (∀ (k0_h1 : k0_cond1 i v0 = 1#1), ∀ (k0_h4 : k0_cond4 i v28 = 1#1), ∀ a, (k0_off631 i) a + S1.size a ≤ S1024.size a) ∧
  (∀ (k0_h1 : k0_cond1 i v0 = 1#1), ∀ (k0_h4 : k0_cond4 i v28 = 1#1), ∀ a, (k0_off633 i) a + S1x8x128.size a ≤ S2x8192x128.size a) ∧
  (∀ (k0_h1 : k0_cond1 i v0 = 1#1), ∀ (k0_h4 : k0_cond4 i v28 = 1#1), ∀ a, (k0_off635 i) a + S1.size a ≤ S1024.size a) ∧
  (∀ (k0_h1 : k0_cond1 i v0 = 1#1), ∀ (k0_h4 : k0_cond4 i v28 = 1#1), ∀ a, (k0_off637 i) a + S1x8x128.size a ≤ S2x8192x128.size a) ∧
  (∀ (k0_h1 : k0_cond1 i v0 = 1#1), ∀ (k0_h4 : k0_cond4 i v28 = 1#1), ∀ a, (k0_off639 i) a + S1.size a ≤ S1024.size a) ∧
  (∀ (k0_h1 : k0_cond1 i v0 = 1#1), ∀ (k0_h4 : k0_cond4 i v28 = 1#1), ∀ a, (k0_off641 i) a + S1x8x128.size a ≤ S2x8192x128.size a) ∧
  (∀ (k0_h1 : k0_cond1 i v0 = 1#1), ∀ (k0_h4 : k0_cond4 i v28 = 1#1), ∀ a, (k0_off643 i) a + S1.size a ≤ S1024.size a) ∧
  (∀ (k0_h1 : k0_cond1 i v0 = 1#1), ∀ (k0_h4 : k0_cond4 i v28 = 1#1), ∀ a, (k0_off645 i) a + S1x8x128.size a ≤ S2x8192x128.size a)
def k0_chk2_10 (i : grid0.Coords) (v0 : BitVec 32) (v28 : BitVec 32) : Prop :=
  (∀ (k0_h1 : k0_cond1 i v0 = 1#1), ∀ (k0_h4 : k0_cond4 i v28 = 1#1), ∀ a, (k0_off647 i) a + S1.size a ≤ S1024.size a) ∧
  (∀ (k0_h1 : k0_cond1 i v0 = 1#1), ∀ (k0_h4 : k0_cond4 i v28 = 1#1), ∀ a, (k0_off649 i) a + S1x8x128.size a ≤ S2x8192x128.size a) ∧
  (∀ (k0_h1 : k0_cond1 i v0 = 1#1), ∀ (k0_h4 : k0_cond4 i v28 = 1#1), ∀ a, (k0_off651 i) a + S1.size a ≤ S1024.size a) ∧
  (∀ (k0_h1 : k0_cond1 i v0 = 1#1), ∀ (k0_h4 : k0_cond4 i v28 = 1#1), ∀ a, (k0_off653 i) a + S1x8x128.size a ≤ S2x8192x128.size a) ∧
  (∀ (k0_h1 : k0_cond1 i v0 = 1#1), ∀ (k0_h4 : k0_cond4 i v28 = 1#1), ∀ a, (k0_off655 i) a + S1.size a ≤ S1024.size a) ∧
  (∀ (k0_h1 : k0_cond1 i v0 = 1#1), ∀ (k0_h4 : k0_cond4 i v28 = 1#1), ∀ a, (k0_off657 i) a + S1x8x128.size a ≤ S2x8192x128.size a) ∧
  (∀ (k0_h1 : k0_cond1 i v0 = 1#1), ∀ (k0_h4 : k0_cond4 i v28 = 1#1), ∀ a, (k0_off659 i) a + S1.size a ≤ S1024.size a) ∧
  (∀ (k0_h1 : k0_cond1 i v0 = 1#1), ∀ (k0_h4 : k0_cond4 i v28 = 1#1), ∀ a, (k0_off661 i) a + S1x8x128.size a ≤ S2x8192x128.size a) ∧
  (∀ (k0_h1 : k0_cond1 i v0 = 1#1), ∀ (k0_h4 : k0_cond4 i v28 = 1#1), ∀ a, (k0_off663 i) a + S1.size a ≤ S1024.size a) ∧
  (∀ (k0_h1 : k0_cond1 i v0 = 1#1), ∀ (k0_h4 : k0_cond4 i v28 = 1#1), ∀ a, (k0_off665 i) a + S1x8x128.size a ≤ S2x8192x128.size a) ∧
  (∀ (k0_h1 : k0_cond1 i v0 = 1#1), ∀ (k0_h4 : k0_cond4 i v28 = 1#1), ∀ a, (k0_off667 i) a + S1.size a ≤ S1024.size a) ∧
  (∀ (k0_h1 : k0_cond1 i v0 = 1#1), ∀ (k0_h4 : k0_cond4 i v28 = 1#1), ∀ a, (k0_off669 i) a + S1x8x128.size a ≤ S2x8192x128.size a) ∧
  (∀ (k0_h1 : k0_cond1 i v0 = 1#1), ∀ (k0_h4 : k0_cond4 i v28 = 1#1), ∀ a, (k0_off671 i) a + S1.size a ≤ S1024.size a) ∧
  (∀ (k0_h1 : k0_cond1 i v0 = 1#1), ∀ (k0_h4 : k0_cond4 i v28 = 1#1), ∀ a, (k0_off673 i) a + S1x8x128.size a ≤ S2x8192x128.size a) ∧
  (∀ (k0_h1 : k0_cond1 i v0 = 1#1), ∀ (k0_h4 : k0_cond4 i v28 = 1#1), ∀ a, (k0_off675 i) a + S1.size a ≤ S1024.size a) ∧
  (∀ (k0_h1 : k0_cond1 i v0 = 1#1), ∀ (k0_h4 : k0_cond4 i v28 = 1#1), ∀ a, (k0_off677 i) a + S1x8x128.size a ≤ S2x8192x128.size a) ∧
  (∀ (k0_h1 : k0_cond1 i v0 = 1#1), ∀ (k0_h4 : k0_cond4 i v28 = 1#1), ∀ a, (k0_off679 i) a + S1.size a ≤ S1024.size a) ∧
  (∀ (k0_h1 : k0_cond1 i v0 = 1#1), ∀ (k0_h4 : k0_cond4 i v28 = 1#1), ∀ a, (k0_off681 i) a + S1x8x128.size a ≤ S2x8192x128.size a) ∧
  (∀ (k0_h1 : k0_cond1 i v0 = 1#1), ∀ (k0_h4 : k0_cond4 i v28 = 1#1), ∀ a, (k0_off683 i) a + S1.size a ≤ S1024.size a) ∧
  (∀ (k0_h1 : k0_cond1 i v0 = 1#1), ∀ (k0_h4 : k0_cond4 i v28 = 1#1), ∀ a, (k0_off685 i) a + S1x8x128.size a ≤ S2x8192x128.size a) ∧
  (∀ (k0_h1 : k0_cond1 i v0 = 1#1), ∀ (k0_h4 : k0_cond4 i v28 = 1#1), ∀ a, (k0_off687 i) a + S1.size a ≤ S1024.size a) ∧
  (∀ (k0_h1 : k0_cond1 i v0 = 1#1), ∀ (k0_h4 : k0_cond4 i v28 = 1#1), ∀ a, (k0_off689 i) a + S1x8x128.size a ≤ S2x8192x128.size a) ∧
  (∀ (k0_h1 : k0_cond1 i v0 = 1#1), ∀ (k0_h4 : k0_cond4 i v28 = 1#1), ∀ a, (k0_off691 i) a + S1.size a ≤ S1024.size a) ∧
  (∀ (k0_h1 : k0_cond1 i v0 = 1#1), ∀ (k0_h4 : k0_cond4 i v28 = 1#1), ∀ a, (k0_off693 i) a + S1x8x128.size a ≤ S2x8192x128.size a) ∧
  (∀ (k0_h1 : k0_cond1 i v0 = 1#1), ∀ (k0_h4 : k0_cond4 i v28 = 1#1), ∀ a, (k0_off695 i) a + S1.size a ≤ S1024.size a) ∧
  (∀ (k0_h1 : k0_cond1 i v0 = 1#1), ∀ (k0_h4 : k0_cond4 i v28 = 1#1), ∀ a, (k0_off697 i) a + S1x8x128.size a ≤ S2x8192x128.size a) ∧
  (∀ (k0_h1 : k0_cond1 i v0 = 1#1), ∀ (k0_h4 : k0_cond4 i v28 = 1#1), ∀ a, (k0_off699 i) a + S1.size a ≤ S1024.size a) ∧
  (∀ (k0_h1 : k0_cond1 i v0 = 1#1), ∀ (k0_h4 : k0_cond4 i v28 = 1#1), ∀ a, (k0_off701 i) a + S1x8x128.size a ≤ S2x8192x128.size a) ∧
  (∀ (k0_h1 : k0_cond1 i v0 = 1#1), ∀ (k0_h4 : k0_cond4 i v28 = 1#1), ∀ a, (k0_off703 i) a + S1.size a ≤ S1024.size a) ∧
  (∀ (k0_h1 : k0_cond1 i v0 = 1#1), ∀ (k0_h4 : k0_cond4 i v28 = 1#1), ∀ a, (k0_off705 i) a + S1x8x128.size a ≤ S2x8192x128.size a) ∧
  (∀ (k0_h1 : k0_cond1 i v0 = 1#1), ∀ (k0_h4 : k0_cond4 i v28 = 1#1), ∀ a, (k0_off707 i) a + S1.size a ≤ S1024.size a) ∧
  (∀ (k0_h1 : k0_cond1 i v0 = 1#1), ∀ (k0_h4 : k0_cond4 i v28 = 1#1), ∀ a, (k0_off709 i) a + S1x8x128.size a ≤ S2x8192x128.size a)
def k0_chk2_11 (i : grid0.Coords) (v0 : BitVec 32) (v28 : BitVec 32) : Prop :=
  (∀ (k0_h1 : k0_cond1 i v0 = 1#1), ∀ (k0_h4 : k0_cond4 i v28 = 1#1), ∀ a, (k0_off711 i) a + S1.size a ≤ S1024.size a) ∧
  (∀ (k0_h1 : k0_cond1 i v0 = 1#1), ∀ (k0_h4 : k0_cond4 i v28 = 1#1), ∀ a, (k0_off713 i) a + S1x8x128.size a ≤ S2x8192x128.size a) ∧
  (∀ (k0_h1 : k0_cond1 i v0 = 1#1), ∀ (k0_h4 : k0_cond4 i v28 = 1#1), ∀ a, (k0_off715 i) a + S1.size a ≤ S1024.size a) ∧
  (∀ (k0_h1 : k0_cond1 i v0 = 1#1), ∀ (k0_h4 : k0_cond4 i v28 = 1#1), ∀ a, (k0_off717 i) a + S1x8x128.size a ≤ S2x8192x128.size a) ∧
  (∀ (k0_h1 : k0_cond1 i v0 = 1#1), ∀ (k0_h4 : k0_cond4 i v28 = 1#1), ∀ a, (k0_off719 i) a + S1.size a ≤ S1024.size a) ∧
  (∀ (k0_h1 : k0_cond1 i v0 = 1#1), ∀ (k0_h4 : k0_cond4 i v28 = 1#1), ∀ a, (k0_off721 i) a + S1x8x128.size a ≤ S2x8192x128.size a) ∧
  (∀ (k0_h1 : k0_cond1 i v0 = 1#1), ∀ (k0_h4 : k0_cond4 i v28 = 1#1), ∀ a, (k0_off723 i) a + S1.size a ≤ S1024.size a) ∧
  (∀ (k0_h1 : k0_cond1 i v0 = 1#1), ∀ (k0_h4 : k0_cond4 i v28 = 1#1), ∀ a, (k0_off725 i) a + S1x8x128.size a ≤ S2x8192x128.size a) ∧
  (∀ (k0_h1 : k0_cond1 i v0 = 1#1), ∀ (k0_h4 : k0_cond4 i v28 = 1#1), ∀ a, (k0_off727 i) a + S1.size a ≤ S1024.size a) ∧
  (∀ (k0_h1 : k0_cond1 i v0 = 1#1), ∀ (k0_h4 : k0_cond4 i v28 = 1#1), ∀ a, (k0_off729 i) a + S1x8x128.size a ≤ S2x8192x128.size a) ∧
  (∀ (k0_h1 : k0_cond1 i v0 = 1#1), ∀ (k0_h4 : k0_cond4 i v28 = 1#1), ∀ a, (k0_off731 i) a + S1.size a ≤ S1024.size a) ∧
  (∀ (k0_h1 : k0_cond1 i v0 = 1#1), ∀ (k0_h4 : k0_cond4 i v28 = 1#1), ∀ a, (k0_off733 i) a + S1x8x128.size a ≤ S2x8192x128.size a) ∧
  (∀ (k0_h1 : k0_cond1 i v0 = 1#1), ∀ (k0_h4 : k0_cond4 i v28 = 1#1), ∀ a, (k0_off735 i) a + S1.size a ≤ S1024.size a) ∧
  (∀ (k0_h1 : k0_cond1 i v0 = 1#1), ∀ (k0_h4 : k0_cond4 i v28 = 1#1), ∀ a, (k0_off737 i) a + S1x8x128.size a ≤ S2x8192x128.size a) ∧
  (∀ (k0_h1 : k0_cond1 i v0 = 1#1), ∀ (k0_h4 : k0_cond4 i v28 = 1#1), ∀ a, (k0_off739 i) a + S1.size a ≤ S1024.size a) ∧
  (∀ (k0_h1 : k0_cond1 i v0 = 1#1), ∀ (k0_h4 : k0_cond4 i v28 = 1#1), ∀ a, (k0_off741 i) a + S1x8x128.size a ≤ S2x8192x128.size a) ∧
  (∀ (k0_h1 : k0_cond1 i v0 = 1#1), ∀ (k0_h4 : k0_cond4 i v28 = 1#1), ∀ a, (k0_off743 i) a + S1.size a ≤ S1024.size a) ∧
  (∀ (k0_h1 : k0_cond1 i v0 = 1#1), ∀ (k0_h4 : k0_cond4 i v28 = 1#1), ∀ a, (k0_off745 i) a + S1x8x128.size a ≤ S2x8192x128.size a) ∧
  (∀ (k0_h1 : k0_cond1 i v0 = 1#1), ∀ (k0_h4 : k0_cond4 i v28 = 1#1), ∀ a, (k0_off747 i) a + S1.size a ≤ S1024.size a) ∧
  (∀ (k0_h1 : k0_cond1 i v0 = 1#1), ∀ (k0_h4 : k0_cond4 i v28 = 1#1), ∀ a, (k0_off749 i) a + S1x8x128.size a ≤ S2x8192x128.size a) ∧
  (∀ (k0_h1 : k0_cond1 i v0 = 1#1), ∀ (k0_h4 : k0_cond4 i v28 = 1#1), ∀ a, (k0_off751 i) a + S1.size a ≤ S1024.size a) ∧
  (∀ (k0_h1 : k0_cond1 i v0 = 1#1), ∀ (k0_h4 : k0_cond4 i v28 = 1#1), ∀ a, (k0_off753 i) a + S1x8x128.size a ≤ S2x8192x128.size a) ∧
  (∀ (k0_h1 : k0_cond1 i v0 = 1#1), ∀ (k0_h4 : k0_cond4 i v28 = 1#1), ∀ a, (k0_off755 i) a + S1.size a ≤ S1024.size a) ∧
  (∀ (k0_h1 : k0_cond1 i v0 = 1#1), ∀ (k0_h4 : k0_cond4 i v28 = 1#1), ∀ a, (k0_off757 i) a + S1x8x128.size a ≤ S2x8192x128.size a) ∧
  (∀ (k0_h1 : k0_cond1 i v0 = 1#1), ∀ (k0_h4 : k0_cond4 i v28 = 1#1), ∀ a, (k0_off759 i) a + S1.size a ≤ S1024.size a) ∧
  (∀ (k0_h1 : k0_cond1 i v0 = 1#1), ∀ (k0_h4 : k0_cond4 i v28 = 1#1), ∀ a, (k0_off761 i) a + S1x8x128.size a ≤ S2x8192x128.size a) ∧
  (∀ (k0_h1 : k0_cond1 i v0 = 1#1), ∀ (k0_h4 : k0_cond4 i v28 = 1#1), ∀ a, (k0_off763 i) a + S1.size a ≤ S1024.size a) ∧
  (∀ (k0_h1 : k0_cond1 i v0 = 1#1), ∀ (k0_h4 : k0_cond4 i v28 = 1#1), ∀ a, (k0_off765 i) a + S1x8x128.size a ≤ S2x8192x128.size a) ∧
  (∀ (k0_h1 : k0_cond1 i v0 = 1#1), ∀ (k0_h4 : k0_cond4 i v28 = 1#1), ∀ a, (k0_off767 i) a + S1.size a ≤ S1024.size a) ∧
  (∀ (k0_h1 : k0_cond1 i v0 = 1#1), ∀ (k0_h4 : k0_cond4 i v28 = 1#1), ∀ a, (k0_off769 i) a + S1x8x128.size a ≤ S2x8192x128.size a) ∧
  (∀ (k0_h1 : k0_cond1 i v0 = 1#1), ∀ (k0_h4 : k0_cond4 i v28 = 1#1), ∀ a, (k0_off771 i) a + S1.size a ≤ S1024.size a) ∧
  (∀ (k0_h1 : k0_cond1 i v0 = 1#1), ∀ (k0_h4 : k0_cond4 i v28 = 1#1), ∀ a, (k0_off773 i) a + S1x8x128.size a ≤ S2x8192x128.size a)
def k0_chk2_12 (i : grid0.Coords) (v0 : BitVec 32) (v28 : BitVec 32) : Prop :=
  (∀ (k0_h1 : k0_cond1 i v0 = 1#1), ∀ (k0_h4 : k0_cond4 i v28 = 1#1), ∀ a, (k0_off775 i) a + S1.size a ≤ S1024.size a) ∧
  (∀ (k0_h1 : k0_cond1 i v0 = 1#1), ∀ (k0_h4 : k0_cond4 i v28 = 1#1), ∀ a, (k0_off777 i) a + S1x8x128.size a ≤ S2x8192x128.size a) ∧
  (∀ (k0_h1 : k0_cond1 i v0 = 1#1), ∀ (k0_h4 : k0_cond4 i v28 = 1#1), ∀ a, (k0_off779 i) a + S1.size a ≤ S1024.size a) ∧
  (∀ (k0_h1 : k0_cond1 i v0 = 1#1), ∀ (k0_h4 : k0_cond4 i v28 = 1#1), ∀ a, (k0_off781 i) a + S1x8x128.size a ≤ S2x8192x128.size a) ∧
  (∀ (k0_h1 : k0_cond1 i v0 = 1#1), ∀ (k0_h4 : k0_cond4 i v28 = 1#1), ∀ a, (k0_off783 i) a + S1.size a ≤ S1024.size a) ∧
  (∀ (k0_h1 : k0_cond1 i v0 = 1#1), ∀ (k0_h4 : k0_cond4 i v28 = 1#1), ∀ a, (k0_off785 i) a + S1x8x128.size a ≤ S2x8192x128.size a) ∧
  (∀ (k0_h1 : k0_cond1 i v0 = 1#1), ∀ (k0_h4 : k0_cond4 i v28 = 1#1), ∀ a, (k0_off787 i) a + S1.size a ≤ S1024.size a) ∧
  (∀ (k0_h1 : k0_cond1 i v0 = 1#1), ∀ (k0_h4 : k0_cond4 i v28 = 1#1), ∀ a, (k0_off789 i) a + S1x8x128.size a ≤ S2x8192x128.size a) ∧
  (∀ (k0_h1 : k0_cond1 i v0 = 1#1), ∀ (k0_h4 : k0_cond4 i v28 = 1#1), ∀ a, (k0_off791 i) a + S1.size a ≤ S1024.size a) ∧
  (∀ (k0_h1 : k0_cond1 i v0 = 1#1), ∀ (k0_h4 : k0_cond4 i v28 = 1#1), ∀ a, (k0_off793 i) a + S1x8x128.size a ≤ S2x8192x128.size a) ∧
  (∀ (k0_h1 : k0_cond1 i v0 = 1#1), ∀ (k0_h4 : k0_cond4 i v28 = 1#1), ∀ a, (k0_off795 i) a + S1.size a ≤ S1024.size a) ∧
  (∀ (k0_h1 : k0_cond1 i v0 = 1#1), ∀ (k0_h4 : k0_cond4 i v28 = 1#1), ∀ a, (k0_off797 i) a + S1x8x128.size a ≤ S2x8192x128.size a) ∧
  (∀ (k0_h1 : k0_cond1 i v0 = 1#1), ∀ (k0_h4 : k0_cond4 i v28 = 1#1), ∀ a, (k0_off799 i) a + S1.size a ≤ S1024.size a) ∧
  (∀ (k0_h1 : k0_cond1 i v0 = 1#1), ∀ (k0_h4 : k0_cond4 i v28 = 1#1), ∀ a, (k0_off801 i) a + S1x8x128.size a ≤ S2x8192x128.size a) ∧
  (∀ (k0_h1 : k0_cond1 i v0 = 1#1), ∀ (k0_h4 : k0_cond4 i v28 = 1#1), ∀ a, (k0_off803 i) a + S1.size a ≤ S1024.size a) ∧
  (∀ (k0_h1 : k0_cond1 i v0 = 1#1), ∀ (k0_h4 : k0_cond4 i v28 = 1#1), ∀ a, (k0_off805 i) a + S1x8x128.size a ≤ S2x8192x128.size a) ∧
  (∀ (k0_h1 : k0_cond1 i v0 = 1#1), ∀ (k0_h4 : k0_cond4 i v28 = 1#1), ∀ a, (k0_off807 i) a + S1.size a ≤ S1024.size a) ∧
  (∀ (k0_h1 : k0_cond1 i v0 = 1#1), ∀ (k0_h4 : k0_cond4 i v28 = 1#1), ∀ a, (k0_off809 i) a + S1x8x128.size a ≤ S2x8192x128.size a) ∧
  (∀ (k0_h1 : k0_cond1 i v0 = 1#1), ∀ (k0_h4 : k0_cond4 i v28 = 1#1), ∀ a, (k0_off811 i) a + S1.size a ≤ S1024.size a) ∧
  (∀ (k0_h1 : k0_cond1 i v0 = 1#1), ∀ (k0_h4 : k0_cond4 i v28 = 1#1), ∀ a, (k0_off813 i) a + S1x8x128.size a ≤ S2x8192x128.size a) ∧
  (∀ (k0_h1 : k0_cond1 i v0 = 1#1), ∀ (k0_h4 : k0_cond4 i v28 = 1#1), ∀ a, (k0_off815 i) a + S1.size a ≤ S1024.size a) ∧
  (∀ (k0_h1 : k0_cond1 i v0 = 1#1), ∀ (k0_h4 : k0_cond4 i v28 = 1#1), ∀ a, (k0_off817 i) a + S1x8x128.size a ≤ S2x8192x128.size a) ∧
  (∀ (k0_h1 : k0_cond1 i v0 = 1#1), ∀ (k0_h4 : k0_cond4 i v28 = 1#1), ∀ a, (k0_off819 i) a + S1.size a ≤ S1024.size a) ∧
  (∀ (k0_h1 : k0_cond1 i v0 = 1#1), ∀ (k0_h4 : k0_cond4 i v28 = 1#1), ∀ a, (k0_off821 i) a + S1x8x128.size a ≤ S2x8192x128.size a) ∧
  (∀ (k0_h1 : k0_cond1 i v0 = 1#1), ∀ (k0_h4 : k0_cond4 i v28 = 1#1), ∀ a, (k0_off823 i) a + S1.size a ≤ S1024.size a) ∧
  (∀ (k0_h1 : k0_cond1 i v0 = 1#1), ∀ (k0_h4 : k0_cond4 i v28 = 1#1), ∀ a, (k0_off825 i) a + S1x8x128.size a ≤ S2x8192x128.size a) ∧
  (∀ (k0_h1 : k0_cond1 i v0 = 1#1), ∀ (k0_h4 : k0_cond4 i v28 = 1#1), ∀ a, (k0_off827 i) a + S1.size a ≤ S1024.size a) ∧
  (∀ (k0_h1 : k0_cond1 i v0 = 1#1), ∀ (k0_h4 : k0_cond4 i v28 = 1#1), ∀ a, (k0_off829 i) a + S1x8x128.size a ≤ S2x8192x128.size a) ∧
  (∀ (k0_h1 : k0_cond1 i v0 = 1#1), ∀ (k0_h4 : k0_cond4 i v28 = 1#1), ∀ a, (k0_off831 i) a + S1.size a ≤ S1024.size a) ∧
  (∀ (k0_h1 : k0_cond1 i v0 = 1#1), ∀ (k0_h4 : k0_cond4 i v28 = 1#1), ∀ a, (k0_off833 i) a + S1x8x128.size a ≤ S2x8192x128.size a) ∧
  (∀ (k0_h1 : k0_cond1 i v0 = 1#1), ∀ (k0_h4 : k0_cond4 i v28 = 1#1), ∀ a, (k0_off835 i) a + S1.size a ≤ S1024.size a) ∧
  (∀ (k0_h1 : k0_cond1 i v0 = 1#1), ∀ (k0_h4 : k0_cond4 i v28 = 1#1), ∀ a, (k0_off837 i) a + S1x8x128.size a ≤ S2x8192x128.size a)
def k0_chk2_13 (i : grid0.Coords) (v0 : BitVec 32) (v28 : BitVec 32) : Prop :=
  (∀ (k0_h1 : k0_cond1 i v0 = 1#1), ∀ (k0_h4 : k0_cond4 i v28 = 1#1), ∀ a, (k0_off839 i) a + S1.size a ≤ S1024.size a) ∧
  (∀ (k0_h1 : k0_cond1 i v0 = 1#1), ∀ (k0_h4 : k0_cond4 i v28 = 1#1), ∀ a, (k0_off841 i) a + S1x8x128.size a ≤ S2x8192x128.size a) ∧
  (∀ (k0_h1 : k0_cond1 i v0 = 1#1), ∀ (k0_h4 : k0_cond4 i v28 = 1#1), ∀ a, (k0_off843 i) a + S1.size a ≤ S1024.size a) ∧
  (∀ (k0_h1 : k0_cond1 i v0 = 1#1), ∀ (k0_h4 : k0_cond4 i v28 = 1#1), ∀ a, (k0_off845 i) a + S1x8x128.size a ≤ S2x8192x128.size a) ∧
  (∀ (k0_h1 : k0_cond1 i v0 = 1#1), ∀ (k0_h4 : k0_cond4 i v28 = 1#1), ∀ a, (k0_off847 i) a + S1.size a ≤ S1024.size a) ∧
  (∀ (k0_h1 : k0_cond1 i v0 = 1#1), ∀ (k0_h4 : k0_cond4 i v28 = 1#1), ∀ a, (k0_off849 i) a + S1x8x128.size a ≤ S2x8192x128.size a) ∧
  (∀ (k0_h1 : k0_cond1 i v0 = 1#1), ∀ (k0_h4 : k0_cond4 i v28 = 1#1), ∀ a, (k0_off851 i) a + S1.size a ≤ S1024.size a) ∧
  (∀ (k0_h1 : k0_cond1 i v0 = 1#1), ∀ (k0_h4 : k0_cond4 i v28 = 1#1), ∀ a, (k0_off853 i) a + S1x8x128.size a ≤ S2x8192x128.size a) ∧
  (∀ (k0_h1 : k0_cond1 i v0 = 1#1), ∀ (k0_h4 : k0_cond4 i v28 = 1#1), ∀ a, (k0_off855 i) a + S1.size a ≤ S1024.size a) ∧
  (∀ (k0_h1 : k0_cond1 i v0 = 1#1), ∀ (k0_h4 : k0_cond4 i v28 = 1#1), ∀ a, (k0_off857 i) a + S1x8x128.size a ≤ S2x8192x128.size a) ∧
  (∀ (k0_h1 : k0_cond1 i v0 = 1#1), ∀ (k0_h4 : k0_cond4 i v28 = 1#1), ∀ a, (k0_off859 i) a + S1.size a ≤ S1024.size a) ∧
  (∀ (k0_h1 : k0_cond1 i v0 = 1#1), ∀ (k0_h4 : k0_cond4 i v28 = 1#1), ∀ a, (k0_off861 i) a + S1x8x128.size a ≤ S2x8192x128.size a) ∧
  (∀ (k0_h1 : k0_cond1 i v0 = 1#1), ∀ (k0_h4 : k0_cond4 i v28 = 1#1), ∀ a, (k0_off863 i) a + S1.size a ≤ S1024.size a) ∧
  (∀ (k0_h1 : k0_cond1 i v0 = 1#1), ∀ (k0_h4 : k0_cond4 i v28 = 1#1), ∀ a, (k0_off865 i) a + S1x8x128.size a ≤ S2x8192x128.size a) ∧
  (∀ (k0_h1 : k0_cond1 i v0 = 1#1), ∀ (k0_h4 : k0_cond4 i v28 = 1#1), ∀ a, (k0_off867 i) a + S1.size a ≤ S1024.size a) ∧
  (∀ (k0_h1 : k0_cond1 i v0 = 1#1), ∀ (k0_h4 : k0_cond4 i v28 = 1#1), ∀ a, (k0_off869 i) a + S1x8x128.size a ≤ S2x8192x128.size a) ∧
  (∀ (k0_h1 : k0_cond1 i v0 = 1#1), ∀ (k0_h4 : k0_cond4 i v28 = 1#1), ∀ a, (k0_off871 i) a + S1.size a ≤ S1024.size a) ∧
  (∀ (k0_h1 : k0_cond1 i v0 = 1#1), ∀ (k0_h4 : k0_cond4 i v28 = 1#1), ∀ a, (k0_off873 i) a + S1x8x128.size a ≤ S2x8192x128.size a) ∧
  (∀ (k0_h1 : k0_cond1 i v0 = 1#1), ∀ (k0_h4 : k0_cond4 i v28 = 1#1), ∀ a, (k0_off875 i) a + S1.size a ≤ S1024.size a) ∧
  (∀ (k0_h1 : k0_cond1 i v0 = 1#1), ∀ (k0_h4 : k0_cond4 i v28 = 1#1), ∀ a, (k0_off877 i) a + S1x8x128.size a ≤ S2x8192x128.size a) ∧
  (∀ (k0_h1 : k0_cond1 i v0 = 1#1), ∀ (k0_h4 : k0_cond4 i v28 = 1#1), ∀ a, (k0_off879 i) a + S1.size a ≤ S1024.size a) ∧
  (∀ (k0_h1 : k0_cond1 i v0 = 1#1), ∀ (k0_h4 : k0_cond4 i v28 = 1#1), ∀ a, (k0_off881 i) a + S1x8x128.size a ≤ S2x8192x128.size a) ∧
  (∀ (k0_h1 : k0_cond1 i v0 = 1#1), ∀ (k0_h4 : k0_cond4 i v28 = 1#1), ∀ a, (k0_off883 i) a + S1.size a ≤ S1024.size a) ∧
  (∀ (k0_h1 : k0_cond1 i v0 = 1#1), ∀ (k0_h4 : k0_cond4 i v28 = 1#1), ∀ a, (k0_off885 i) a + S1x8x128.size a ≤ S2x8192x128.size a) ∧
  (∀ (k0_h1 : k0_cond1 i v0 = 1#1), ∀ (k0_h4 : k0_cond4 i v28 = 1#1), ∀ a, (k0_off887 i) a + S1.size a ≤ S1024.size a) ∧
  (∀ (k0_h1 : k0_cond1 i v0 = 1#1), ∀ (k0_h4 : k0_cond4 i v28 = 1#1), ∀ a, (k0_off889 i) a + S1x8x128.size a ≤ S2x8192x128.size a) ∧
  (∀ (k0_h1 : k0_cond1 i v0 = 1#1), ∀ (k0_h4 : k0_cond4 i v28 = 1#1), ∀ a, (k0_off891 i) a + S1.size a ≤ S1024.size a) ∧
  (∀ (k0_h1 : k0_cond1 i v0 = 1#1), ∀ (k0_h4 : k0_cond4 i v28 = 1#1), ∀ a, (k0_off893 i) a + S1x8x128.size a ≤ S2x8192x128.size a) ∧
  (∀ (k0_h1 : k0_cond1 i v0 = 1#1), ∀ (k0_h4 : k0_cond4 i v28 = 1#1), ∀ a, (k0_off895 i) a + S1.size a ≤ S1024.size a) ∧
  (∀ (k0_h1 : k0_cond1 i v0 = 1#1), ∀ (k0_h4 : k0_cond4 i v28 = 1#1), ∀ a, (k0_off897 i) a + S1x8x128.size a ≤ S2x8192x128.size a) ∧
  (∀ (k0_h1 : k0_cond1 i v0 = 1#1), ∀ (k0_h4 : k0_cond4 i v28 = 1#1), ∀ a, (k0_off899 i) a + S1.size a ≤ S1024.size a) ∧
  (∀ (k0_h1 : k0_cond1 i v0 = 1#1), ∀ (k0_h4 : k0_cond4 i v28 = 1#1), ∀ a, (k0_off901 i) a + S1x8x128.size a ≤ S2x8192x128.size a)
def k0_chk2_14 (i : grid0.Coords) (v0 : BitVec 32) (v28 : BitVec 32) : Prop :=
  (∀ (k0_h1 : k0_cond1 i v0 = 1#1), ∀ (k0_h4 : k0_cond4 i v28 = 1#1), ∀ a, (k0_off903 i) a + S1.size a ≤ S1024.size a) ∧
  (∀ (k0_h1 : k0_cond1 i v0 = 1#1), ∀ (k0_h4 : k0_cond4 i v28 = 1#1), ∀ a, (k0_off905 i) a + S1x8x128.size a ≤ S2x8192x128.size a) ∧
  (∀ (k0_h1 : k0_cond1 i v0 = 1#1), ∀ (k0_h4 : k0_cond4 i v28 = 1#1), ∀ a, (k0_off907 i) a + S1.size a ≤ S1024.size a) ∧
  (∀ (k0_h1 : k0_cond1 i v0 = 1#1), ∀ (k0_h4 : k0_cond4 i v28 = 1#1), ∀ a, (k0_off909 i) a + S1x8x128.size a ≤ S2x8192x128.size a) ∧
  (∀ (k0_h1 : k0_cond1 i v0 = 1#1), ∀ (k0_h4 : k0_cond4 i v28 = 1#1), ∀ a, (k0_off911 i) a + S1.size a ≤ S1024.size a) ∧
  (∀ (k0_h1 : k0_cond1 i v0 = 1#1), ∀ (k0_h4 : k0_cond4 i v28 = 1#1), ∀ a, (k0_off913 i) a + S1x8x128.size a ≤ S2x8192x128.size a) ∧
  (∀ (k0_h1 : k0_cond1 i v0 = 1#1), ∀ (k0_h4 : k0_cond4 i v28 = 1#1), ∀ a, (k0_off915 i) a + S1.size a ≤ S1024.size a) ∧
  (∀ (k0_h1 : k0_cond1 i v0 = 1#1), ∀ (k0_h4 : k0_cond4 i v28 = 1#1), ∀ a, (k0_off917 i) a + S1x8x128.size a ≤ S2x8192x128.size a) ∧
  (∀ (k0_h1 : k0_cond1 i v0 = 1#1), ∀ (k0_h4 : k0_cond4 i v28 = 1#1), ∀ a, (k0_off919 i) a + S1.size a ≤ S1024.size a) ∧
  (∀ (k0_h1 : k0_cond1 i v0 = 1#1), ∀ (k0_h4 : k0_cond4 i v28 = 1#1), ∀ a, (k0_off921 i) a + S1x8x128.size a ≤ S2x8192x128.size a) ∧
  (∀ (k0_h1 : k0_cond1 i v0 = 1#1), ∀ (k0_h4 : k0_cond4 i v28 = 1#1), ∀ a, (k0_off923 i) a + S1.size a ≤ S1024.size a) ∧
  (∀ (k0_h1 : k0_cond1 i v0 = 1#1), ∀ (k0_h4 : k0_cond4 i v28 = 1#1), ∀ a, (k0_off925 i) a + S1x8x128.size a ≤ S2x8192x128.size a) ∧
  (∀ (k0_h1 : k0_cond1 i v0 = 1#1), ∀ (k0_h4 : k0_cond4 i v28 = 1#1), ∀ a, (k0_off927 i) a + S1.size a ≤ S1024.size a) ∧
  (∀ (k0_h1 : k0_cond1 i v0 = 1#1), ∀ (k0_h4 : k0_cond4 i v28 = 1#1), ∀ a, (k0_off929 i) a + S1x8x128.size a ≤ S2x8192x128.size a) ∧
  (∀ (k0_h1 : k0_cond1 i v0 = 1#1), ∀ (k0_h4 : k0_cond4 i v28 = 1#1), ∀ a, (k0_off931 i) a + S1.size a ≤ S1024.size a) ∧
  (∀ (k0_h1 : k0_cond1 i v0 = 1#1), ∀ (k0_h4 : k0_cond4 i v28 = 1#1), ∀ a, (k0_off933 i) a + S1x8x128.size a ≤ S2x8192x128.size a) ∧
  (∀ (k0_h1 : k0_cond1 i v0 = 1#1), ∀ (k0_h4 : k0_cond4 i v28 = 1#1), ∀ a, (k0_off935 i) a + S1.size a ≤ S1024.size a) ∧
  (∀ (k0_h1 : k0_cond1 i v0 = 1#1), ∀ (k0_h4 : k0_cond4 i v28 = 1#1), ∀ a, (k0_off937 i) a + S1x8x128.size a ≤ S2x8192x128.size a) ∧
  (∀ (k0_h1 : k0_cond1 i v0 = 1#1), ∀ (k0_h4 : k0_cond4 i v28 = 1#1), ∀ a, (k0_off939 i) a + S1.size a ≤ S1024.size a) ∧
  (∀ (k0_h1 : k0_cond1 i v0 = 1#1), ∀ (k0_h4 : k0_cond4 i v28 = 1#1), ∀ a, (k0_off941 i) a + S1x8x128.size a ≤ S2x8192x128.size a) ∧
  (∀ (k0_h1 : k0_cond1 i v0 = 1#1), ∀ (k0_h4 : k0_cond4 i v28 = 1#1), ∀ a, (k0_off943 i) a + S1.size a ≤ S1024.size a) ∧
  (∀ (k0_h1 : k0_cond1 i v0 = 1#1), ∀ (k0_h4 : k0_cond4 i v28 = 1#1), ∀ a, (k0_off945 i) a + S1x8x128.size a ≤ S2x8192x128.size a) ∧
  (∀ (k0_h1 : k0_cond1 i v0 = 1#1), ∀ (k0_h4 : k0_cond4 i v28 = 1#1), ∀ a, (k0_off947 i) a + S1.size a ≤ S1024.size a) ∧
  (∀ (k0_h1 : k0_cond1 i v0 = 1#1), ∀ (k0_h4 : k0_cond4 i v28 = 1#1), ∀ a, (k0_off949 i) a + S1x8x128.size a ≤ S2x8192x128.size a) ∧
  (∀ (k0_h1 : k0_cond1 i v0 = 1#1), ∀ (k0_h4 : k0_cond4 i v28 = 1#1), ∀ a, (k0_off951 i) a + S1.size a ≤ S1024.size a) ∧
  (∀ (k0_h1 : k0_cond1 i v0 = 1#1), ∀ (k0_h4 : k0_cond4 i v28 = 1#1), ∀ a, (k0_off953 i) a + S1x8x128.size a ≤ S2x8192x128.size a) ∧
  (∀ (k0_h1 : k0_cond1 i v0 = 1#1), ∀ (k0_h4 : k0_cond4 i v28 = 1#1), ∀ a, (k0_off955 i) a + S1.size a ≤ S1024.size a) ∧
  (∀ (k0_h1 : k0_cond1 i v0 = 1#1), ∀ (k0_h4 : k0_cond4 i v28 = 1#1), ∀ a, (k0_off957 i) a + S1x8x128.size a ≤ S2x8192x128.size a) ∧
  (∀ (k0_h1 : k0_cond1 i v0 = 1#1), ∀ (k0_h4 : k0_cond4 i v28 = 1#1), ∀ a, (k0_off959 i) a + S1.size a ≤ S1024.size a) ∧
  (∀ (k0_h1 : k0_cond1 i v0 = 1#1), ∀ (k0_h4 : k0_cond4 i v28 = 1#1), ∀ a, (k0_off961 i) a + S1x8x128.size a ≤ S2x8192x128.size a) ∧
  (∀ (k0_h1 : k0_cond1 i v0 = 1#1), ∀ (k0_h4 : k0_cond4 i v28 = 1#1), ∀ a, (k0_off963 i) a + S1.size a ≤ S1024.size a) ∧
  (∀ (k0_h1 : k0_cond1 i v0 = 1#1), ∀ (k0_h4 : k0_cond4 i v28 = 1#1), ∀ a, (k0_off965 i) a + S1x8x128.size a ≤ S2x8192x128.size a)
def k0_chk2_15 (i : grid0.Coords) (v0 : BitVec 32) (v28 : BitVec 32) : Prop :=
  (∀ (k0_h1 : k0_cond1 i v0 = 1#1), ∀ (k0_h4 : k0_cond4 i v28 = 1#1), ∀ a, (k0_off967 i) a + S1.size a ≤ S1024.size a) ∧
  (∀ (k0_h1 : k0_cond1 i v0 = 1#1), ∀ (k0_h4 : k0_cond4 i v28 = 1#1), ∀ a, (k0_off969 i) a + S1x8x128.size a ≤ S2x8192x128.size a) ∧
  (∀ (k0_h1 : k0_cond1 i v0 = 1#1), ∀ (k0_h4 : k0_cond4 i v28 = 1#1), ∀ a, (k0_off971 i) a + S1.size a ≤ S1024.size a) ∧
  (∀ (k0_h1 : k0_cond1 i v0 = 1#1), ∀ (k0_h4 : k0_cond4 i v28 = 1#1), ∀ a, (k0_off973 i) a + S1x8x128.size a ≤ S2x8192x128.size a) ∧
  (∀ (k0_h1 : k0_cond1 i v0 = 1#1), ∀ (k0_h4 : k0_cond4 i v28 = 1#1), ∀ a, (k0_off975 i) a + S1.size a ≤ S1024.size a) ∧
  (∀ (k0_h1 : k0_cond1 i v0 = 1#1), ∀ (k0_h4 : k0_cond4 i v28 = 1#1), ∀ a, (k0_off977 i) a + S1x8x128.size a ≤ S2x8192x128.size a) ∧
  (∀ (k0_h1 : k0_cond1 i v0 = 1#1), ∀ (k0_h4 : k0_cond4 i v28 = 1#1), ∀ a, (k0_off979 i) a + S1.size a ≤ S1024.size a) ∧
  (∀ (k0_h1 : k0_cond1 i v0 = 1#1), ∀ (k0_h4 : k0_cond4 i v28 = 1#1), ∀ a, (k0_off981 i) a + S1x8x128.size a ≤ S2x8192x128.size a) ∧
  (∀ (k0_h1 : k0_cond1 i v0 = 1#1), ∀ (k0_h4 : k0_cond4 i v28 = 1#1), ∀ a, (k0_off983 i) a + S1.size a ≤ S1024.size a) ∧
  (∀ (k0_h1 : k0_cond1 i v0 = 1#1), ∀ (k0_h4 : k0_cond4 i v28 = 1#1), ∀ a, (k0_off985 i) a + S1x8x128.size a ≤ S2x8192x128.size a) ∧
  (∀ (k0_h1 : k0_cond1 i v0 = 1#1), ∀ (k0_h4 : k0_cond4 i v28 = 1#1), ∀ a, (k0_off987 i) a + S1.size a ≤ S1024.size a) ∧
  (∀ (k0_h1 : k0_cond1 i v0 = 1#1), ∀ (k0_h4 : k0_cond4 i v28 = 1#1), ∀ a, (k0_off989 i) a + S1x8x128.size a ≤ S2x8192x128.size a) ∧
  (∀ (k0_h1 : k0_cond1 i v0 = 1#1), ∀ (k0_h4 : k0_cond4 i v28 = 1#1), ∀ a, (k0_off991 i) a + S1.size a ≤ S1024.size a) ∧
  (∀ (k0_h1 : k0_cond1 i v0 = 1#1), ∀ (k0_h4 : k0_cond4 i v28 = 1#1), ∀ a, (k0_off993 i) a + S1x8x128.size a ≤ S2x8192x128.size a) ∧
  (∀ (k0_h1 : k0_cond1 i v0 = 1#1), ∀ (k0_h4 : k0_cond4 i v28 = 1#1), ∀ a, (k0_off995 i) a + S1.size a ≤ S1024.size a) ∧
  (∀ (k0_h1 : k0_cond1 i v0 = 1#1), ∀ (k0_h4 : k0_cond4 i v28 = 1#1), ∀ a, (k0_off997 i) a + S1x8x128.size a ≤ S2x8192x128.size a) ∧
  (∀ (k0_h1 : k0_cond1 i v0 = 1#1), ∀ (k0_h4 : k0_cond4 i v28 = 1#1), ∀ a, (k0_off999 i) a + S1.size a ≤ S1024.size a) ∧
  (∀ (k0_h1 : k0_cond1 i v0 = 1#1), ∀ (k0_h4 : k0_cond4 i v28 = 1#1), ∀ a, (k0_off1001 i) a + S1x8x128.size a ≤ S2x8192x128.size a) ∧
  (∀ (k0_h1 : k0_cond1 i v0 = 1#1), ∀ (k0_h4 : k0_cond4 i v28 = 1#1), ∀ a, (k0_off1003 i) a + S1.size a ≤ S1024.size a) ∧
  (∀ (k0_h1 : k0_cond1 i v0 = 1#1), ∀ (k0_h4 : k0_cond4 i v28 = 1#1), ∀ a, (k0_off1005 i) a + S1x8x128.size a ≤ S2x8192x128.size a) ∧
  (∀ (k0_h1 : k0_cond1 i v0 = 1#1), ∀ (k0_h4 : k0_cond4 i v28 = 1#1), ∀ a, (k0_off1007 i) a + S1.size a ≤ S1024.size a) ∧
  (∀ (k0_h1 : k0_cond1 i v0 = 1#1), ∀ (k0_h4 : k0_cond4 i v28 = 1#1), ∀ a, (k0_off1009 i) a + S1x8x128.size a ≤ S2x8192x128.size a) ∧
  (∀ (k0_h1 : k0_cond1 i v0 = 1#1), ∀ (k0_h4 : k0_cond4 i v28 = 1#1), ∀ a, (k0_off1011 i) a + S1.size a ≤ S1024.size a) ∧
  (∀ (k0_h1 : k0_cond1 i v0 = 1#1), ∀ (k0_h4 : k0_cond4 i v28 = 1#1), ∀ a, (k0_off1013 i) a + S1x8x128.size a ≤ S2x8192x128.size a) ∧
  (∀ (k0_h1 : k0_cond1 i v0 = 1#1), ∀ (k0_h4 : k0_cond4 i v28 = 1#1), ∀ a, (k0_off1015 i) a + S1.size a ≤ S1024.size a) ∧
  (∀ (k0_h1 : k0_cond1 i v0 = 1#1), ∀ (k0_h4 : k0_cond4 i v28 = 1#1), ∀ a, (k0_off1017 i) a + S1x8x128.size a ≤ S2x8192x128.size a) ∧
  (∀ (k0_h1 : k0_cond1 i v0 = 1#1), ∀ (k0_h4 : k0_cond4 i v28 = 1#1), ∀ a, (k0_off1019 i) a + S1.size a ≤ S1024.size a) ∧
  (∀ (k0_h1 : k0_cond1 i v0 = 1#1), ∀ (k0_h4 : k0_cond4 i v28 = 1#1), ∀ a, (k0_off1021 i) a + S1x8x128.size a ≤ S2x8192x128.size a) ∧
  (∀ (k0_h1 : k0_cond1 i v0 = 1#1), ∀ (k0_h4 : k0_cond4 i v28 = 1#1), ∀ a, (k0_off1023 i) a + S1.size a ≤ S1024.size a) ∧
  (∀ (k0_h1 : k0_cond1 i v0 = 1#1), ∀ (k0_h4 : k0_cond4 i v28 = 1#1), ∀ a, (k0_off1025 i) a + S1x8x128.size a ≤ S2x8192x128.size a) ∧
  (∀ (k0_h1 : k0_cond1 i v0 = 1#1), ∀ (k0_h4 : k0_cond4 i v28 = 1#1), ∀ a, (k0_off1027 i) a + S1.size a ≤ S1024.size a) ∧
  (∀ (k0_h1 : k0_cond1 i v0 = 1#1), ∀ (k0_h4 : k0_cond4 i v28 = 1#1), ∀ a, (k0_off1029 i) a + S1x8x128.size a ≤ S2x8192x128.size a)
def k0_chk2 (i : grid0.Coords) (v0 : BitVec 32) (v28 : BitVec 32) : Prop :=
  k0_chk2_0 i v0 v28 ∧
  k0_chk2_1 i v0 v28 ∧
  k0_chk2_2 i v0 v28 ∧
  k0_chk2_3 i v0 v28 ∧
  k0_chk2_4 i v0 v28 ∧
  k0_chk2_5 i v0 v28 ∧
  k0_chk2_6 i v0 v28 ∧
  k0_chk2_7 i v0 v28 ∧
  k0_chk2_8 i v0 v28 ∧
  k0_chk2_9 i v0 v28 ∧
  k0_chk2_10 i v0 v28 ∧
  k0_chk2_11 i v0 v28 ∧
  k0_chk2_12 i v0 v28 ∧
  k0_chk2_13 i v0 v28 ∧
  k0_chk2_14 i v0 v28 ∧
  k0_chk2_15 i v0 v28
theorem k0_off7_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off7 i) a + S1.size a ≤ S1024.size a := fun i v0 v28 k0_hw2 k0_h1 k0_h4 => k0_hw2.1.1 k0_h1 k0_h4
theorem k0_off9_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off9 i) a + S1x8x128.size a ≤ S2x8192x128.size a := fun i v0 v28 k0_hw2 k0_h1 k0_h4 => k0_hw2.1.2.1 k0_h1 k0_h4
theorem k0_off11_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off11 i) a + S1.size a ≤ S1024.size a := fun i v0 v28 k0_hw2 k0_h1 k0_h4 => k0_hw2.1.2.2.1 k0_h1 k0_h4
theorem k0_off13_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off13 i) a + S1x8x128.size a ≤ S2x8192x128.size a := fun i v0 v28 k0_hw2 k0_h1 k0_h4 => k0_hw2.1.2.2.2.1 k0_h1 k0_h4
theorem k0_off15_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off15 i) a + S1.size a ≤ S1024.size a := fun i v0 v28 k0_hw2 k0_h1 k0_h4 => k0_hw2.1.2.2.2.2.1 k0_h1 k0_h4
theorem k0_off17_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off17 i) a + S1x8x128.size a ≤ S2x8192x128.size a := fun i v0 v28 k0_hw2 k0_h1 k0_h4 => k0_hw2.1.2.2.2.2.2.1 k0_h1 k0_h4
theorem k0_off19_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off19 i) a + S1.size a ≤ S1024.size a := fun i v0 v28 k0_hw2 k0_h1 k0_h4 => k0_hw2.1.2.2.2.2.2.2.1 k0_h1 k0_h4
theorem k0_off21_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off21 i) a + S1x8x128.size a ≤ S2x8192x128.size a := fun i v0 v28 k0_hw2 k0_h1 k0_h4 => k0_hw2.1.2.2.2.2.2.2.2.1 k0_h1 k0_h4
theorem k0_off23_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off23 i) a + S1.size a ≤ S1024.size a := fun i v0 v28 k0_hw2 k0_h1 k0_h4 => k0_hw2.1.2.2.2.2.2.2.2.2.1 k0_h1 k0_h4
theorem k0_off25_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off25 i) a + S1x8x128.size a ≤ S2x8192x128.size a := fun i v0 v28 k0_hw2 k0_h1 k0_h4 => k0_hw2.1.2.2.2.2.2.2.2.2.2.1 k0_h1 k0_h4
theorem k0_off27_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off27 i) a + S1.size a ≤ S1024.size a := fun i v0 v28 k0_hw2 k0_h1 k0_h4 => k0_hw2.1.2.2.2.2.2.2.2.2.2.2.1 k0_h1 k0_h4
theorem k0_off29_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off29 i) a + S1x8x128.size a ≤ S2x8192x128.size a := fun i v0 v28 k0_hw2 k0_h1 k0_h4 => k0_hw2.1.2.2.2.2.2.2.2.2.2.2.2.1 k0_h1 k0_h4
theorem k0_off31_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off31 i) a + S1.size a ≤ S1024.size a := fun i v0 v28 k0_hw2 k0_h1 k0_h4 => k0_hw2.1.2.2.2.2.2.2.2.2.2.2.2.2.1 k0_h1 k0_h4
theorem k0_off33_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off33 i) a + S1x8x128.size a ≤ S2x8192x128.size a := fun i v0 v28 k0_hw2 k0_h1 k0_h4 => k0_hw2.1.2.2.2.2.2.2.2.2.2.2.2.2.2.1 k0_h1 k0_h4
theorem k0_off35_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off35 i) a + S1.size a ≤ S1024.size a := fun i v0 v28 k0_hw2 k0_h1 k0_h4 => k0_hw2.1.2.2.2.2.2.2.2.2.2.2.2.2.2.2.1 k0_h1 k0_h4
theorem k0_off37_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off37 i) a + S1x8x128.size a ≤ S2x8192x128.size a := fun i v0 v28 k0_hw2 k0_h1 k0_h4 => k0_hw2.1.2.2.2.2.2.2.2.2.2.2.2.2.2.2.2.1 k0_h1 k0_h4
theorem k0_off39_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off39 i) a + S1.size a ≤ S1024.size a := fun i v0 v28 k0_hw2 k0_h1 k0_h4 => k0_hw2.1.2.2.2.2.2.2.2.2.2.2.2.2.2.2.2.2.1 k0_h1 k0_h4
theorem k0_off41_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off41 i) a + S1x8x128.size a ≤ S2x8192x128.size a := fun i v0 v28 k0_hw2 k0_h1 k0_h4 => k0_hw2.1.2.2.2.2.2.2.2.2.2.2.2.2.2.2.2.2.2.1 k0_h1 k0_h4
theorem k0_off43_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off43 i) a + S1.size a ≤ S1024.size a := fun i v0 v28 k0_hw2 k0_h1 k0_h4 => k0_hw2.1.2.2.2.2.2.2.2.2.2.2.2.2.2.2.2.2.2.2.1 k0_h1 k0_h4
theorem k0_off45_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off45 i) a + S1x8x128.size a ≤ S2x8192x128.size a := fun i v0 v28 k0_hw2 k0_h1 k0_h4 => k0_hw2.1.2.2.2.2.2.2.2.2.2.2.2.2.2.2.2.2.2.2.2.1 k0_h1 k0_h4
theorem k0_off47_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off47 i) a + S1.size a ≤ S1024.size a := fun i v0 v28 k0_hw2 k0_h1 k0_h4 => k0_hw2.1.2.2.2.2.2.2.2.2.2.2.2.2.2.2.2.2.2.2.2.2.1 k0_h1 k0_h4
theorem k0_off49_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off49 i) a + S1x8x128.size a ≤ S2x8192x128.size a := fun i v0 v28 k0_hw2 k0_h1 k0_h4 => k0_hw2.1.2.2.2.2.2.2.2.2.2.2.2.2.2.2.2.2.2.2.2.2.2.1 k0_h1 k0_h4
theorem k0_off51_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off51 i) a + S1.size a ≤ S1024.size a := fun i v0 v28 k0_hw2 k0_h1 k0_h4 => k0_hw2.1.2.2.2.2.2.2.2.2.2.2.2.2.2.2.2.2.2.2.2.2.2.2.1 k0_h1 k0_h4
theorem k0_off53_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off53 i) a + S1x8x128.size a ≤ S2x8192x128.size a := fun i v0 v28 k0_hw2 k0_h1 k0_h4 => k0_hw2.1.2.2.2.2.2.2.2.2.2.2.2.2.2.2.2.2.2.2.2.2.2.2.2.1 k0_h1 k0_h4
theorem k0_off55_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off55 i) a + S1.size a ≤ S1024.size a := fun i v0 v28 k0_hw2 k0_h1 k0_h4 => k0_hw2.1.2.2.2.2.2.2.2.2.2.2.2.2.2.2.2.2.2.2.2.2.2.2.2.2.1 k0_h1 k0_h4
theorem k0_off57_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off57 i) a + S1x8x128.size a ≤ S2x8192x128.size a := fun i v0 v28 k0_hw2 k0_h1 k0_h4 => k0_hw2.1.2.2.2.2.2.2.2.2.2.2.2.2.2.2.2.2.2.2.2.2.2.2.2.2.2.1 k0_h1 k0_h4
theorem k0_off59_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off59 i) a + S1.size a ≤ S1024.size a := fun i v0 v28 k0_hw2 k0_h1 k0_h4 => k0_hw2.1.2.2.2.2.2.2.2.2.2.2.2.2.2.2.2.2.2.2.2.2.2.2.2.2.2.2.1 k0_h1 k0_h4
theorem k0_off61_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off61 i) a + S1x8x128.size a ≤ S2x8192x128.size a := fun i v0 v28 k0_hw2 k0_h1 k0_h4 => k0_hw2.1.2.2.2.2.2.2.2.2.2.2.2.2.2.2.2.2.2.2.2.2.2.2.2.2.2.2.2.1 k0_h1 k0_h4
theorem k0_off63_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off63 i) a + S1.size a ≤ S1024.size a := fun i v0 v28 k0_hw2 k0_h1 k0_h4 => k0_hw2.1.2.2.2.2.2.2.2.2.2.2.2.2.2.2.2.2.2.2.2.2.2.2.2.2.2.2.2.2.1 k0_h1 k0_h4
theorem k0_off65_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off65 i) a + S1x8x128.size a ≤ S2x8192x128.size a := fun i v0 v28 k0_hw2 k0_h1 k0_h4 => k0_hw2.1.2.2.2.2.2.2.2.2.2.2.2.2.2.2.2.2.2.2.2.2.2.2.2.2.2.2.2.2.2.1 k0_h1 k0_h4
theorem k0_off67_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off67 i) a + S1.size a ≤ S1024.size a := fun i v0 v28 k0_hw2 k0_h1 k0_h4 => k0_hw2.1.2.2.2.2.2.2.2.2.2.2.2.2.2.2.2.2.2.2.2.2.2.2.2.2.2.2.2.2.2.2.1 k0_h1 k0_h4
theorem k0_off69_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off69 i) a + S1x8x128.size a ≤ S2x8192x128.size a := fun i v0 v28 k0_hw2 k0_h1 k0_h4 => k0_hw2.1.2.2.2.2.2.2.2.2.2.2.2.2.2.2.2.2.2.2.2.2.2.2.2.2.2.2.2.2.2.2.2 k0_h1 k0_h4
theorem k0_off71_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off71 i) a + S1.size a ≤ S1024.size a := fun i v0 v28 k0_hw2 k0_h1 k0_h4 => k0_hw2.2.1.1 k0_h1 k0_h4
theorem k0_off73_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off73 i) a + S1x8x128.size a ≤ S2x8192x128.size a := fun i v0 v28 k0_hw2 k0_h1 k0_h4 => k0_hw2.2.1.2.1 k0_h1 k0_h4
theorem k0_off75_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off75 i) a + S1.size a ≤ S1024.size a := fun i v0 v28 k0_hw2 k0_h1 k0_h4 => k0_hw2.2.1.2.2.1 k0_h1 k0_h4
theorem k0_off77_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off77 i) a + S1x8x128.size a ≤ S2x8192x128.size a := fun i v0 v28 k0_hw2 k0_h1 k0_h4 => k0_hw2.2.1.2.2.2.1 k0_h1 k0_h4
theorem k0_off79_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off79 i) a + S1.size a ≤ S1024.size a := fun i v0 v28 k0_hw2 k0_h1 k0_h4 => k0_hw2.2.1.2.2.2.2.1 k0_h1 k0_h4
theorem k0_off81_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off81 i) a + S1x8x128.size a ≤ S2x8192x128.size a := fun i v0 v28 k0_hw2 k0_h1 k0_h4 => k0_hw2.2.1.2.2.2.2.2.1 k0_h1 k0_h4
theorem k0_off83_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off83 i) a + S1.size a ≤ S1024.size a := fun i v0 v28 k0_hw2 k0_h1 k0_h4 => k0_hw2.2.1.2.2.2.2.2.2.1 k0_h1 k0_h4
theorem k0_off85_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off85 i) a + S1x8x128.size a ≤ S2x8192x128.size a := fun i v0 v28 k0_hw2 k0_h1 k0_h4 => k0_hw2.2.1.2.2.2.2.2.2.2.1 k0_h1 k0_h4
theorem k0_off87_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off87 i) a + S1.size a ≤ S1024.size a := fun i v0 v28 k0_hw2 k0_h1 k0_h4 => k0_hw2.2.1.2.2.2.2.2.2.2.2.1 k0_h1 k0_h4
theorem k0_off89_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off89 i) a + S1x8x128.size a ≤ S2x8192x128.size a := fun i v0 v28 k0_hw2 k0_h1 k0_h4 => k0_hw2.2.1.2.2.2.2.2.2.2.2.2.1 k0_h1 k0_h4
theorem k0_off91_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off91 i) a + S1.size a ≤ S1024.size a := fun i v0 v28 k0_hw2 k0_h1 k0_h4 => k0_hw2.2.1.2.2.2.2.2.2.2.2.2.2.1 k0_h1 k0_h4
theorem k0_off93_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off93 i) a + S1x8x128.size a ≤ S2x8192x128.size a := fun i v0 v28 k0_hw2 k0_h1 k0_h4 => k0_hw2.2.1.2.2.2.2.2.2.2.2.2.2.2.1 k0_h1 k0_h4
theorem k0_off95_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off95 i) a + S1.size a ≤ S1024.size a := fun i v0 v28 k0_hw2 k0_h1 k0_h4 => k0_hw2.2.1.2.2.2.2.2.2.2.2.2.2.2.2.1 k0_h1 k0_h4
theorem k0_off97_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off97 i) a + S1x8x128.size a ≤ S2x8192x128.size a := fun i v0 v28 k0_hw2 k0_h1 k0_h4 => k0_hw2.2.1.2.2.2.2.2.2.2.2.2.2.2.2.2.1 k0_h1 k0_h4
theorem k0_off99_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off99 i) a + S1.size a ≤ S1024.size a := fun i v0 v28 k0_hw2 k0_h1 k0_h4 => k0_hw2.2.1.2.2.2.2.2.2.2.2.2.2.2.2.2.2.1 k0_h1 k0_h4
theorem k0_off101_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off101 i) a + S1x8x128.size a ≤ S2x8192x128.size a := fun i v0 v28 k0_hw2 k0_h1 k0_h4 => k0_hw2.2.1.2.2.2.2.2.2.2.2.2.2.2.2.2.2.2.1 k0_h1 k0_h4
theorem k0_off103_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off103 i) a + S1.size a ≤ S1024.size a := fun i v0 v28 k0_hw2 k0_h1 k0_h4 => k0_hw2.2.1.2.2.2.2.2.2.2.2.2.2.2.2.2.2.2.2.1 k0_h1 k0_h4
theorem k0_off105_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off105 i) a + S1x8x128.size a ≤ S2x8192x128.size a := fun i v0 v28 k0_hw2 k0_h1 k0_h4 => k0_hw2.2.1.2.2.2.2.2.2.2.2.2.2.2.2.2.2.2.2.2.1 k0_h1 k0_h4
theorem k0_off107_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off107 i) a + S1.size a ≤ S1024.size a := fun i v0 v28 k0_hw2 k0_h1 k0_h4 => k0_hw2.2.1.2.2.2.2.2.2.2.2.2.2.2.2.2.2.2.2.2.2.1 k0_h1 k0_h4
theorem k0_off109_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off109 i) a + S1x8x128.size a ≤ S2x8192x128.size a := fun i v0 v28 k0_hw2 k0_h1 k0_h4 => k0_hw2.2.1.2.2.2.2.2.2.2.2.2.2.2.2.2.2.2.2.2.2.2.1 k0_h1 k0_h4
theorem k0_off111_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off111 i) a + S1.size a ≤ S1024.size a := fun i v0 v28 k0_hw2 k0_h1 k0_h4 => k0_hw2.2.1.2.2.2.2.2.2.2.2.2.2.2.2.2.2.2.2.2.2.2.2.1 k0_h1 k0_h4
theorem k0_off113_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off113 i) a + S1x8x128.size a ≤ S2x8192x128.size a := fun i v0 v28 k0_hw2 k0_h1 k0_h4 => k0_hw2.2.1.2.2.2.2.2.2.2.2.2.2.2.2.2.2.2.2.2.2.2.2.2.1 k0_h1 k0_h4
theorem k0_off115_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off115 i) a + S1.size a ≤ S1024.size a := fun i v0 v28 k0_hw2 k0_h1 k0_h4 => k0_hw2.2.1.2.2.2.2.2.2.2.2.2.2.2.2.2.2.2.2.2.2.2.2.2.2.1 k0_h1 k0_h4
theorem k0_off117_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off117 i) a + S1x8x128.size a ≤ S2x8192x128.size a := fun i v0 v28 k0_hw2 k0_h1 k0_h4 => k0_hw2.2.1.2.2.2.2.2.2.2.2.2.2.2.2.2.2.2.2.2.2.2.2.2.2.2.1 k0_h1 k0_h4
theorem k0_off119_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off119 i) a + S1.size a ≤ S1024.size a := fun i v0 v28 k0_hw2 k0_h1 k0_h4 => k0_hw2.2.1.2.2.2.2.2.2.2.2.2.2.2.2.2.2.2.2.2.2.2.2.2.2.2.2.1 k0_h1 k0_h4
theorem k0_off121_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off121 i) a + S1x8x128.size a ≤ S2x8192x128.size a := fun i v0 v28 k0_hw2 k0_h1 k0_h4 => k0_hw2.2.1.2.2.2.2.2.2.2.2.2.2.2.2.2.2.2.2.2.2.2.2.2.2.2.2.2.1 k0_h1 k0_h4
theorem k0_off123_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off123 i) a + S1.size a ≤ S1024.size a := fun i v0 v28 k0_hw2 k0_h1 k0_h4 => k0_hw2.2.1.2.2.2.2.2.2.2.2.2.2.2.2.2.2.2.2.2.2.2.2.2.2.2.2.2.2.1 k0_h1 k0_h4
theorem k0_off125_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off125 i) a + S1x8x128.size a ≤ S2x8192x128.size a := fun i v0 v28 k0_hw2 k0_h1 k0_h4 => k0_hw2.2.1.2.2.2.2.2.2.2.2.2.2.2.2.2.2.2.2.2.2.2.2.2.2.2.2.2.2.2.1 k0_h1 k0_h4
theorem k0_off127_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off127 i) a + S1.size a ≤ S1024.size a := fun i v0 v28 k0_hw2 k0_h1 k0_h4 => k0_hw2.2.1.2.2.2.2.2.2.2.2.2.2.2.2.2.2.2.2.2.2.2.2.2.2.2.2.2.2.2.2.1 k0_h1 k0_h4
theorem k0_off129_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off129 i) a + S1x8x128.size a ≤ S2x8192x128.size a := fun i v0 v28 k0_hw2 k0_h1 k0_h4 => k0_hw2.2.1.2.2.2.2.2.2.2.2.2.2.2.2.2.2.2.2.2.2.2.2.2.2.2.2.2.2.2.2.2.1 k0_h1 k0_h4
theorem k0_off131_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off131 i) a + S1.size a ≤ S1024.size a := fun i v0 v28 k0_hw2 k0_h1 k0_h4 => k0_hw2.2.1.2.2.2.2.2.2.2.2.2.2.2.2.2.2.2.2.2.2.2.2.2.2.2.2.2.2.2.2.2.2.1 k0_h1 k0_h4
theorem k0_off133_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off133 i) a + S1x8x128.size a ≤ S2x8192x128.size a := fun i v0 v28 k0_hw2 k0_h1 k0_h4 => k0_hw2.2.1.2.2.2.2.2.2.2.2.2.2.2.2.2.2.2.2.2.2.2.2.2.2.2.2.2.2.2.2.2.2.2 k0_h1 k0_h4
theorem k0_off135_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off135 i) a + S1.size a ≤ S1024.size a := fun i v0 v28 k0_hw2 k0_h1 k0_h4 => k0_hw2.2.2.1.1 k0_h1 k0_h4
theorem k0_off137_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off137 i) a + S1x8x128.size a ≤ S2x8192x128.size a := fun i v0 v28 k0_hw2 k0_h1 k0_h4 => k0_hw2.2.2.1.2.1 k0_h1 k0_h4
theorem k0_off139_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off139 i) a + S1.size a ≤ S1024.size a := fun i v0 v28 k0_hw2 k0_h1 k0_h4 => k0_hw2.2.2.1.2.2.1 k0_h1 k0_h4
theorem k0_off141_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off141 i) a + S1x8x128.size a ≤ S2x8192x128.size a := fun i v0 v28 k0_hw2 k0_h1 k0_h4 => k0_hw2.2.2.1.2.2.2.1 k0_h1 k0_h4
theorem k0_off143_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off143 i) a + S1.size a ≤ S1024.size a := fun i v0 v28 k0_hw2 k0_h1 k0_h4 => k0_hw2.2.2.1.2.2.2.2.1 k0_h1 k0_h4
theorem k0_off145_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off145 i) a + S1x8x128.size a ≤ S2x8192x128.size a := fun i v0 v28 k0_hw2 k0_h1 k0_h4 => k0_hw2.2.2.1.2.2.2.2.2.1 k0_h1 k0_h4
theorem k0_off147_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off147 i) a + S1.size a ≤ S1024.size a := fun i v0 v28 k0_hw2 k0_h1 k0_h4 => k0_hw2.2.2.1.2.2.2.2.2.2.1 k0_h1 k0_h4
theorem k0_off149_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off149 i) a + S1x8x128.size a ≤ S2x8192x128.size a := fun i v0 v28 k0_hw2 k0_h1 k0_h4 => k0_hw2.2.2.1.2.2.2.2.2.2.2.1 k0_h1 k0_h4
theorem k0_off151_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off151 i) a + S1.size a ≤ S1024.size a := fun i v0 v28 k0_hw2 k0_h1 k0_h4 => k0_hw2.2.2.1.2.2.2.2.2.2.2.2.1 k0_h1 k0_h4
theorem k0_off153_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off153 i) a + S1x8x128.size a ≤ S2x8192x128.size a := fun i v0 v28 k0_hw2 k0_h1 k0_h4 => k0_hw2.2.2.1.2.2.2.2.2.2.2.2.2.1 k0_h1 k0_h4
theorem k0_off155_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off155 i) a + S1.size a ≤ S1024.size a := fun i v0 v28 k0_hw2 k0_h1 k0_h4 => k0_hw2.2.2.1.2.2.2.2.2.2.2.2.2.2.1 k0_h1 k0_h4
theorem k0_off157_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off157 i) a + S1x8x128.size a ≤ S2x8192x128.size a := fun i v0 v28 k0_hw2 k0_h1 k0_h4 => k0_hw2.2.2.1.2.2.2.2.2.2.2.2.2.2.2.1 k0_h1 k0_h4
theorem k0_off159_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off159 i) a + S1.size a ≤ S1024.size a := fun i v0 v28 k0_hw2 k0_h1 k0_h4 => k0_hw2.2.2.1.2.2.2.2.2.2.2.2.2.2.2.2.1 k0_h1 k0_h4
theorem k0_off161_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off161 i) a + S1x8x128.size a ≤ S2x8192x128.size a := fun i v0 v28 k0_hw2 k0_h1 k0_h4 => k0_hw2.2.2.1.2.2.2.2.2.2.2.2.2.2.2.2.2.1 k0_h1 k0_h4
theorem k0_off163_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off163 i) a + S1.size a ≤ S1024.size a := fun i v0 v28 k0_hw2 k0_h1 k0_h4 => k0_hw2.2.2.1.2.2.2.2.2.2.2.2.2.2.2.2.2.2.1 k0_h1 k0_h4
theorem k0_off165_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off165 i) a + S1x8x128.size a ≤ S2x8192x128.size a := fun i v0 v28 k0_hw2 k0_h1 k0_h4 => k0_hw2.2.2.1.2.2.2.2.2.2.2.2.2.2.2.2.2.2.2.1 k0_h1 k0_h4
theorem k0_off167_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off167 i) a + S1.size a ≤ S1024.size a := fun i v0 v28 k0_hw2 k0_h1 k0_h4 => k0_hw2.2.2.1.2.2.2.2.2.2.2.2.2.2.2.2.2.2.2.2.1 k0_h1 k0_h4
theorem k0_off169_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off169 i) a + S1x8x128.size a ≤ S2x8192x128.size a := fun i v0 v28 k0_hw2 k0_h1 k0_h4 => k0_hw2.2.2.1.2.2.2.2.2.2.2.2.2.2.2.2.2.2.2.2.2.1 k0_h1 k0_h4
theorem k0_off171_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off171 i) a + S1.size a ≤ S1024.size a := fun i v0 v28 k0_hw2 k0_h1 k0_h4 => k0_hw2.2.2.1.2.2.2.2.2.2.2.2.2.2.2.2.2.2.2.2.2.2.1 k0_h1 k0_h4
theorem k0_off173_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off173 i) a + S1x8x128.size a ≤ S2x8192x128.size a := fun i v0 v28 k0_hw2 k0_h1 k0_h4 => k0_hw2.2.2.1.2.2.2.2.2.2.2.2.2.2.2.2.2.2.2.2.2.2.2.1 k0_h1 k0_h4
theorem k0_off175_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off175 i) a + S1.size a ≤ S1024.size a := fun i v0 v28 k0_hw2 k0_h1 k0_h4 => k0_hw2.2.2.1.2.2.2.2.2.2.2.2.2.2.2.2.2.2.2.2.2.2.2.2.1 k0_h1 k0_h4
theorem k0_off177_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off177 i) a + S1x8x128.size a ≤ S2x8192x128.size a := fun i v0 v28 k0_hw2 k0_h1 k0_h4 => k0_hw2.2.2.1.2.2.2.2.2.2.2.2.2.2.2.2.2.2.2.2.2.2.2.2.2.1 k0_h1 k0_h4
theorem k0_off179_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off179 i) a + S1.size a ≤ S1024.size a := fun i v0 v28 k0_hw2 k0_h1 k0_h4 => k0_hw2.2.2.1.2.2.2.2.2.2.2.2.2.2.2.2.2.2.2.2.2.2.2.2.2.2.1 k0_h1 k0_h4
theorem k0_off181_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off181 i) a + S1x8x128.size a ≤ S2x8192x128.size a := fun i v0 v28 k0_hw2 k0_h1 k0_h4 => k0_hw2.2.2.1.2.2.2.2.2.2.2.2.2.2.2.2.2.2.2.2.2.2.2.2.2.2.2.1 k0_h1 k0_h4
theorem k0_off183_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off183 i) a + S1.size a ≤ S1024.size a := fun i v0 v28 k0_hw2 k0_h1 k0_h4 => k0_hw2.2.2.1.2.2.2.2.2.2.2.2.2.2.2.2.2.2.2.2.2.2.2.2.2.2.2.2.1 k0_h1 k0_h4
theorem k0_off185_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off185 i) a + S1x8x128.size a ≤ S2x8192x128.size a := fun i v0 v28 k0_hw2 k0_h1 k0_h4 => k0_hw2.2.2.1.2.2.2.2.2.2.2.2.2.2.2.2.2.2.2.2.2.2.2.2.2.2.2.2.2.1 k0_h1 k0_h4
theorem k0_off187_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off187 i) a + S1.size a ≤ S1024.size a := fun i v0 v28 k0_hw2 k0_h1 k0_h4 => k0_hw2.2.2.1.2.2.2.2.2.2.2.2.2.2.2.2.2.2.2.2.2.2.2.2.2.2.2.2.2.2.1 k0_h1 k0_h4
theorem k0_off189_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off189 i) a + S1x8x128.size a ≤ S2x8192x128.size a := fun i v0 v28 k0_hw2 k0_h1 k0_h4 => k0_hw2.2.2.1.2.2.2.2.2.2.2.2.2.2.2.2.2.2.2.2.2.2.2.2.2.2.2.2.2.2.2.1 k0_h1 k0_h4
theorem k0_off191_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off191 i) a + S1.size a ≤ S1024.size a := fun i v0 v28 k0_hw2 k0_h1 k0_h4 => k0_hw2.2.2.1.2.2.2.2.2.2.2.2.2.2.2.2.2.2.2.2.2.2.2.2.2.2.2.2.2.2.2.2.1 k0_h1 k0_h4
theorem k0_off193_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off193 i) a + S1x8x128.size a ≤ S2x8192x128.size a := fun i v0 v28 k0_hw2 k0_h1 k0_h4 => k0_hw2.2.2.1.2.2.2.2.2.2.2.2.2.2.2.2.2.2.2.2.2.2.2.2.2.2.2.2.2.2.2.2.2.1 k0_h1 k0_h4
theorem k0_off195_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off195 i) a + S1.size a ≤ S1024.size a := fun i v0 v28 k0_hw2 k0_h1 k0_h4 => k0_hw2.2.2.1.2.2.2.2.2.2.2.2.2.2.2.2.2.2.2.2.2.2.2.2.2.2.2.2.2.2.2.2.2.2.1 k0_h1 k0_h4
theorem k0_off197_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off197 i) a + S1x8x128.size a ≤ S2x8192x128.size a := fun i v0 v28 k0_hw2 k0_h1 k0_h4 => k0_hw2.2.2.1.2.2.2.2.2.2.2.2.2.2.2.2.2.2.2.2.2.2.2.2.2.2.2.2.2.2.2.2.2.2.2 k0_h1 k0_h4
theorem k0_off199_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off199 i) a + S1.size a ≤ S1024.size a := fun i v0 v28 k0_hw2 k0_h1 k0_h4 => k0_hw2.2.2.2.1.1 k0_h1 k0_h4
theorem k0_off201_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off201 i) a + S1x8x128.size a ≤ S2x8192x128.size a := fun i v0 v28 k0_hw2 k0_h1 k0_h4 => k0_hw2.2.2.2.1.2.1 k0_h1 k0_h4
theorem k0_off203_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off203 i) a + S1.size a ≤ S1024.size a := fun i v0 v28 k0_hw2 k0_h1 k0_h4 => k0_hw2.2.2.2.1.2.2.1 k0_h1 k0_h4
theorem k0_off205_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off205 i) a + S1x8x128.size a ≤ S2x8192x128.size a := fun i v0 v28 k0_hw2 k0_h1 k0_h4 => k0_hw2.2.2.2.1.2.2.2.1 k0_h1 k0_h4
theorem k0_off207_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off207 i) a + S1.size a ≤ S1024.size a := fun i v0 v28 k0_hw2 k0_h1 k0_h4 => k0_hw2.2.2.2.1.2.2.2.2.1 k0_h1 k0_h4
theorem k0_off209_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off209 i) a + S1x8x128.size a ≤ S2x8192x128.size a := fun i v0 v28 k0_hw2 k0_h1 k0_h4 => k0_hw2.2.2.2.1.2.2.2.2.2.1 k0_h1 k0_h4
theorem k0_off211_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off211 i) a + S1.size a ≤ S1024.size a := fun i v0 v28 k0_hw2 k0_h1 k0_h4 => k0_hw2.2.2.2.1.2.2.2.2.2.2.1 k0_h1 k0_h4
theorem k0_off213_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off213 i) a + S1x8x128.size a ≤ S2x8192x128.size a := fun i v0 v28 k0_hw2 k0_h1 k0_h4 => k0_hw2.2.2.2.1.2.2.2.2.2.2.2.1 k0_h1 k0_h4
theorem k0_off215_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off215 i) a + S1.size a ≤ S1024.size a := fun i v0 v28 k0_hw2 k0_h1 k0_h4 => k0_hw2.2.2.2.1.2.2.2.2.2.2.2.2.1 k0_h1 k0_h4
theorem k0_off217_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off217 i) a + S1x8x128.size a ≤ S2x8192x128.size a := fun i v0 v28 k0_hw2 k0_h1 k0_h4 => k0_hw2.2.2.2.1.2.2.2.2.2.2.2.2.2.1 k0_h1 k0_h4
theorem k0_off219_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off219 i) a + S1.size a ≤ S1024.size a := fun i v0 v28 k0_hw2 k0_h1 k0_h4 => k0_hw2.2.2.2.1.2.2.2.2.2.2.2.2.2.2.1 k0_h1 k0_h4
theorem k0_off221_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off221 i) a + S1x8x128.size a ≤ S2x8192x128.size a := fun i v0 v28 k0_hw2 k0_h1 k0_h4 => k0_hw2.2.2.2.1.2.2.2.2.2.2.2.2.2.2.2.1 k0_h1 k0_h4
theorem k0_off223_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off223 i) a + S1.size a ≤ S1024.size a := fun i v0 v28 k0_hw2 k0_h1 k0_h4 => k0_hw2.2.2.2.1.2.2.2.2.2.2.2.2.2.2.2.2.1 k0_h1 k0_h4
theorem k0_off225_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off225 i) a + S1x8x128.size a ≤ S2x8192x128.size a := fun i v0 v28 k0_hw2 k0_h1 k0_h4 => k0_hw2.2.2.2.1.2.2.2.2.2.2.2.2.2.2.2.2.2.1 k0_h1 k0_h4
theorem k0_off227_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off227 i) a + S1.size a ≤ S1024.size a := fun i v0 v28 k0_hw2 k0_h1 k0_h4 => k0_hw2.2.2.2.1.2.2.2.2.2.2.2.2.2.2.2.2.2.2.1 k0_h1 k0_h4
theorem k0_off229_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off229 i) a + S1x8x128.size a ≤ S2x8192x128.size a := fun i v0 v28 k0_hw2 k0_h1 k0_h4 => k0_hw2.2.2.2.1.2.2.2.2.2.2.2.2.2.2.2.2.2.2.2.1 k0_h1 k0_h4
theorem k0_off231_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off231 i) a + S1.size a ≤ S1024.size a := fun i v0 v28 k0_hw2 k0_h1 k0_h4 => k0_hw2.2.2.2.1.2.2.2.2.2.2.2.2.2.2.2.2.2.2.2.2.1 k0_h1 k0_h4
theorem k0_off233_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off233 i) a + S1x8x128.size a ≤ S2x8192x128.size a := fun i v0 v28 k0_hw2 k0_h1 k0_h4 => k0_hw2.2.2.2.1.2.2.2.2.2.2.2.2.2.2.2.2.2.2.2.2.2.1 k0_h1 k0_h4
theorem k0_off235_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off235 i) a + S1.size a ≤ S1024.size a := fun i v0 v28 k0_hw2 k0_h1 k0_h4 => k0_hw2.2.2.2.1.2.2.2.2.2.2.2.2.2.2.2.2.2.2.2.2.2.2.1 k0_h1 k0_h4
theorem k0_off237_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off237 i) a + S1x8x128.size a ≤ S2x8192x128.size a := fun i v0 v28 k0_hw2 k0_h1 k0_h4 => k0_hw2.2.2.2.1.2.2.2.2.2.2.2.2.2.2.2.2.2.2.2.2.2.2.2.1 k0_h1 k0_h4
theorem k0_off239_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off239 i) a + S1.size a ≤ S1024.size a := fun i v0 v28 k0_hw2 k0_h1 k0_h4 => k0_hw2.2.2.2.1.2.2.2.2.2.2.2.2.2.2.2.2.2.2.2.2.2.2.2.2.1 k0_h1 k0_h4
theorem k0_off241_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off241 i) a + S1x8x128.size a ≤ S2x8192x128.size a := fun i v0 v28 k0_hw2 k0_h1 k0_h4 => k0_hw2.2.2.2.1.2.2.2.2.2.2.2.2.2.2.2.2.2.2.2.2.2.2.2.2.2.1 k0_h1 k0_h4
theorem k0_off243_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off243 i) a + S1.size a ≤ S1024.size a := fun i v0 v28 k0_hw2 k0_h1 k0_h4 => k0_hw2.2.2.2.1.2.2.2.2.2.2.2.2.2.2.2.2.2.2.2.2.2.2.2.2.2.2.1 k0_h1 k0_h4
theorem k0_off245_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off245 i) a + S1x8x128.size a ≤ S2x8192x128.size a := fun i v0 v28 k0_hw2 k0_h1 k0_h4 => k0_hw2.2.2.2.1.2.2.2.2.2.2.2.2.2.2.2.2.2.2.2.2.2.2.2.2.2.2.2.1 k0_h1 k0_h4
theorem k0_off247_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off247 i) a + S1.size a ≤ S1024.size a := fun i v0 v28 k0_hw2 k0_h1 k0_h4 => k0_hw2.2.2.2.1.2.2.2.2.2.2.2.2.2.2.2.2.2.2.2.2.2.2.2.2.2.2.2.2.1 k0_h1 k0_h4
theorem k0_off249_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off249 i) a + S1x8x128.size a ≤ S2x8192x128.size a := fun i v0 v28 k0_hw2 k0_h1 k0_h4 => k0_hw2.2.2.2.1.2.2.2.2.2.2.2.2.2.2.2.2.2.2.2.2.2.2.2.2.2.2.2.2.2.1 k0_h1 k0_h4
theorem k0_off251_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off251 i) a + S1.size a ≤ S1024.size a := fun i v0 v28 k0_hw2 k0_h1 k0_h4 => k0_hw2.2.2.2.1.2.2.2.2.2.2.2.2.2.2.2.2.2.2.2.2.2.2.2.2.2.2.2.2.2.2.1 k0_h1 k0_h4
theorem k0_off253_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off253 i) a + S1x8x128.size a ≤ S2x8192x128.size a := fun i v0 v28 k0_hw2 k0_h1 k0_h4 => k0_hw2.2.2.2.1.2.2.2.2.2.2.2.2.2.2.2.2.2.2.2.2.2.2.2.2.2.2.2.2.2.2.2.1 k0_h1 k0_h4
theorem k0_off255_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off255 i) a + S1.size a ≤ S1024.size a := fun i v0 v28 k0_hw2 k0_h1 k0_h4 => k0_hw2.2.2.2.1.2.2.2.2.2.2.2.2.2.2.2.2.2.2.2.2.2.2.2.2.2.2.2.2.2.2.2.2.1 k0_h1 k0_h4
theorem k0_off257_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off257 i) a + S1x8x128.size a ≤ S2x8192x128.size a := fun i v0 v28 k0_hw2 k0_h1 k0_h4 => k0_hw2.2.2.2.1.2.2.2.2.2.2.2.2.2.2.2.2.2.2.2.2.2.2.2.2.2.2.2.2.2.2.2.2.2.1 k0_h1 k0_h4
theorem k0_off259_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off259 i) a + S1.size a ≤ S1024.size a := fun i v0 v28 k0_hw2 k0_h1 k0_h4 => k0_hw2.2.2.2.1.2.2.2.2.2.2.2.2.2.2.2.2.2.2.2.2.2.2.2.2.2.2.2.2.2.2.2.2.2.2.1 k0_h1 k0_h4
theorem k0_off261_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off261 i) a + S1x8x128.size a ≤ S2x8192x128.size a := fun i v0 v28 k0_hw2 k0_h1 k0_h4 => k0_hw2.2.2.2.1.2.2.2.2.2.2.2.2.2.2.2.2.2.2.2.2.2.2.2.2.2.2.2.2.2.2.2.2.2.2.2 k0_h1 k0_h4
theorem k0_off263_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off263 i) a + S1.size a ≤ S1024.size a := fun i v0 v28 k0_hw2 k0_h1 k0_h4 => k0_hw2.2.2.2.2.1.1 k0_h1 k0_h4
theorem k0_off265_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off265 i) a + S1x8x128.size a ≤ S2x8192x128.size a := fun i v0 v28 k0_hw2 k0_h1 k0_h4 => k0_hw2.2.2.2.2.1.2.1 k0_h1 k0_h4
theorem k0_off267_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off267 i) a + S1.size a ≤ S1024.size a := fun i v0 v28 k0_hw2 k0_h1 k0_h4 => k0_hw2.2.2.2.2.1.2.2.1 k0_h1 k0_h4
theorem k0_off269_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off269 i) a + S1x8x128.size a ≤ S2x8192x128.size a := fun i v0 v28 k0_hw2 k0_h1 k0_h4 => k0_hw2.2.2.2.2.1.2.2.2.1 k0_h1 k0_h4
theorem k0_off271_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off271 i) a + S1.size a ≤ S1024.size a := fun i v0 v28 k0_hw2 k0_h1 k0_h4 => k0_hw2.2.2.2.2.1.2.2.2.2.1 k0_h1 k0_h4
theorem k0_off273_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off273 i) a + S1x8x128.size a ≤ S2x8192x128.size a := fun i v0 v28 k0_hw2 k0_h1 k0_h4 => k0_hw2.2.2.2.2.1.2.2.2.2.2.1 k0_h1 k0_h4
theorem k0_off275_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off275 i) a + S1.size a ≤ S1024.size a := fun i v0 v28 k0_hw2 k0_h1 k0_h4 => k0_hw2.2.2.2.2.1.2.2.2.2.2.2.1 k0_h1 k0_h4
theorem k0_off277_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off277 i) a + S1x8x128.size a ≤ S2x8192x128.size a := fun i v0 v28 k0_hw2 k0_h1 k0_h4 => k0_hw2.2.2.2.2.1.2.2.2.2.2.2.2.1 k0_h1 k0_h4
theorem k0_off279_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off279 i) a + S1.size a ≤ S1024.size a := fun i v0 v28 k0_hw2 k0_h1 k0_h4 => k0_hw2.2.2.2.2.1.2.2.2.2.2.2.2.2.1 k0_h1 k0_h4
theorem k0_off281_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off281 i) a + S1x8x128.size a ≤ S2x8192x128.size a := fun i v0 v28 k0_hw2 k0_h1 k0_h4 => k0_hw2.2.2.2.2.1.2.2.2.2.2.2.2.2.2.1 k0_h1 k0_h4
theorem k0_off283_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off283 i) a + S1.size a ≤ S1024.size a := fun i v0 v28 k0_hw2 k0_h1 k0_h4 => k0_hw2.2.2.2.2.1.2.2.2.2.2.2.2.2.2.2.1 k0_h1 k0_h4
theorem k0_off285_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off285 i) a + S1x8x128.size a ≤ S2x8192x128.size a := fun i v0 v28 k0_hw2 k0_h1 k0_h4 => k0_hw2.2.2.2.2.1.2.2.2.2.2.2.2.2.2.2.2.1 k0_h1 k0_h4
theorem k0_off287_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off287 i) a + S1.size a ≤ S1024.size a := fun i v0 v28 k0_hw2 k0_h1 k0_h4 => k0_hw2.2.2.2.2.1.2.2.2.2.2.2.2.2.2.2.2.2.1 k0_h1 k0_h4
theorem k0_off289_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off289 i) a + S1x8x128.size a ≤ S2x8192x128.size a := fun i v0 v28 k0_hw2 k0_h1 k0_h4 => k0_hw2.2.2.2.2.1.2.2.2.2.2.2.2.2.2.2.2.2.2.1 k0_h1 k0_h4
theorem k0_off291_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off291 i) a + S1.size a ≤ S1024.size a := fun i v0 v28 k0_hw2 k0_h1 k0_h4 => k0_hw2.2.2.2.2.1.2.2.2.2.2.2.2.2.2.2.2.2.2.2.1 k0_h1 k0_h4
theorem k0_off293_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off293 i) a + S1x8x128.size a ≤ S2x8192x128.size a := fun i v0 v28 k0_hw2 k0_h1 k0_h4 => k0_hw2.2.2.2.2.1.2.2.2.2.2.2.2.2.2.2.2.2.2.2.2.1 k0_h1 k0_h4
theorem k0_off295_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off295 i) a + S1.size a ≤ S1024.size a := fun i v0 v28 k0_hw2 k0_h1 k0_h4 => k0_hw2.2.2.2.2.1.2.2.2.2.2.2.2.2.2.2.2.2.2.2.2.2.1 k0_h1 k0_h4
theorem k0_off297_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off297 i) a + S1x8x128.size a ≤ S2x8192x128.size a := fun i v0 v28 k0_hw2 k0_h1 k0_h4 => k0_hw2.2.2.2.2.1.2.2.2.2.2.2.2.2.2.2.2.2.2.2.2.2.2.1 k0_h1 k0_h4
theorem k0_off299_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off299 i) a + S1.size a ≤ S1024.size a := fun i v0 v28 k0_hw2 k0_h1 k0_h4 => k0_hw2.2.2.2.2.1.2.2.2.2.2.2.2.2.2.2.2.2.2.2.2.2.2.2.1 k0_h1 k0_h4
theorem k0_off301_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off301 i) a + S1x8x128.size a ≤ S2x8192x128.size a := fun i v0 v28 k0_hw2 k0_h1 k0_h4 => k0_hw2.2.2.2.2.1.2.2.2.2.2.2.2.2.2.2.2.2.2.2.2.2.2.2.2.1 k0_h1 k0_h4
theorem k0_off303_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off303 i) a + S1.size a ≤ S1024.size a := fun i v0 v28 k0_hw2 k0_h1 k0_h4 => k0_hw2.2.2.2.2.1.2.2.2.2.2.2.2.2.2.2.2.2.2.2.2.2.2.2.2.2.1 k0_h1 k0_h4
theorem k0_off305_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off305 i) a + S1x8x128.size a ≤ S2x8192x128.size a := fun i v0 v28 k0_hw2 k0_h1 k0_h4 => k0_hw2.2.2.2.2.1.2.2.2.2.2.2.2.2.2.2.2.2.2.2.2.2.2.2.2.2.2.1 k0_h1 k0_h4
theorem k0_off307_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off307 i) a + S1.size a ≤ S1024.size a := fun i v0 v28 k0_hw2 k0_h1 k0_h4 => k0_hw2.2.2.2.2.1.2.2.2.2.2.2.2.2.2.2.2.2.2.2.2.2.2.2.2.2.2.2.1 k0_h1 k0_h4
theorem k0_off309_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off309 i) a + S1x8x128.size a ≤ S2x8192x128.size a := fun i v0 v28 k0_hw2 k0_h1 k0_h4 => k0_hw2.2.2.2.2.1.2.2.2.2.2.2.2.2.2.2.2.2.2.2.2.2.2.2.2.2.2.2.2.1 k0_h1 k0_h4
theorem k0_off311_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off311 i) a + S1.size a ≤ S1024.size a := fun i v0 v28 k0_hw2 k0_h1 k0_h4 => k0_hw2.2.2.2.2.1.2.2.2.2.2.2.2.2.2.2.2.2.2.2.2.2.2.2.2.2.2.2.2.2.1 k0_h1 k0_h4
theorem k0_off313_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off313 i) a + S1x8x128.size a ≤ S2x8192x128.size a := fun i v0 v28 k0_hw2 k0_h1 k0_h4 => k0_hw2.2.2.2.2.1.2.2.2.2.2.2.2.2.2.2.2.2.2.2.2.2.2.2.2.2.2.2.2.2.2.1 k0_h1 k0_h4
theorem k0_off315_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off315 i) a + S1.size a ≤ S1024.size a := fun i v0 v28 k0_hw2 k0_h1 k0_h4 => k0_hw2.2.2.2.2.1.2.2.2.2.2.2.2.2.2.2.2.2.2.2.2.2.2.2.2.2.2.2.2.2.2.2.1 k0_h1 k0_h4
theorem k0_off317_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off317 i) a + S1x8x128.size a ≤ S2x8192x128.size a := fun i v0 v28 k0_hw2 k0_h1 k0_h4 => k0_hw2.2.2.2.2.1.2.2.2.2.2.2.2.2.2.2.2.2.2.2.2.2.2.2.2.2.2.2.2.2.2.2.2.1 k0_h1 k0_h4
theorem k0_off319_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off319 i) a + S1.size a ≤ S1024.size a := fun i v0 v28 k0_hw2 k0_h1 k0_h4 => k0_hw2.2.2.2.2.1.2.2.2.2.2.2.2.2.2.2.2.2.2.2.2.2.2.2.2.2.2.2.2.2.2.2.2.2.1 k0_h1 k0_h4
theorem k0_off321_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off321 i) a + S1x8x128.size a ≤ S2x8192x128.size a := fun i v0 v28 k0_hw2 k0_h1 k0_h4 => k0_hw2.2.2.2.2.1.2.2.2.2.2.2.2.2.2.2.2.2.2.2.2.2.2.2.2.2.2.2.2.2.2.2.2.2.2.1 k0_h1 k0_h4
theorem k0_off323_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off323 i) a + S1.size a ≤ S1024.size a := fun i v0 v28 k0_hw2 k0_h1 k0_h4 => k0_hw2.2.2.2.2.1.2.2.2.2.2.2.2.2.2.2.2.2.2.2.2.2.2.2.2.2.2.2.2.2.2.2.2.2.2.2.1 k0_h1 k0_h4
theorem k0_off325_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off325 i) a + S1x8x128.size a ≤ S2x8192x128.size a := fun i v0 v28 k0_hw2 k0_h1 k0_h4 => k0_hw2.2.2.2.2.1.2.2.2.2.2.2.2.2.2.2.2.2.2.2.2.2.2.2.2.2.2.2.2.2.2.2.2.2.2.2.2 k0_h1 k0_h4
theorem k0_off327_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off327 i) a + S1.size a ≤ S1024.size a := fun i v0 v28 k0_hw2 k0_h1 k0_h4 => k0_hw2.2.2.2.2.2.1.1 k0_h1 k0_h4
theorem k0_off329_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off329 i) a + S1x8x128.size a ≤ S2x8192x128.size a := fun i v0 v28 k0_hw2 k0_h1 k0_h4 => k0_hw2.2.2.2.2.2.1.2.1 k0_h1 k0_h4
theorem k0_off331_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off331 i) a + S1.size a ≤ S1024.size a := fun i v0 v28 k0_hw2 k0_h1 k0_h4 => k0_hw2.2.2.2.2.2.1.2.2.1 k0_h1 k0_h4
theorem k0_off333_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off333 i) a + S1x8x128.size a ≤ S2x8192x128.size a := fun i v0 v28 k0_hw2 k0_h1 k0_h4 => k0_hw2.2.2.2.2.2.1.2.2.2.1 k0_h1 k0_h4
theorem k0_off335_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off335 i) a + S1.size a ≤ S1024.size a := fun i v0 v28 k0_hw2 k0_h1 k0_h4 => k0_hw2.2.2.2.2.2.1.2.2.2.2.1 k0_h1 k0_h4
theorem k0_off337_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off337 i) a + S1x8x128.size a ≤ S2x8192x128.size a := fun i v0 v28 k0_hw2 k0_h1 k0_h4 => k0_hw2.2.2.2.2.2.1.2.2.2.2.2.1 k0_h1 k0_h4
theorem k0_off339_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off339 i) a + S1.size a ≤ S1024.size a := fun i v0 v28 k0_hw2 k0_h1 k0_h4 => k0_hw2.2.2.2.2.2.1.2.2.2.2.2.2.1 k0_h1 k0_h4
theorem k0_off341_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off341 i) a + S1x8x128.size a ≤ S2x8192x128.size a := fun i v0 v28 k0_hw2 k0_h1 k0_h4 => k0_hw2.2.2.2.2.2.1.2.2.2.2.2.2.2.1 k0_h1 k0_h4
theorem k0_off343_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off343 i) a + S1.size a ≤ S1024.size a := fun i v0 v28 k0_hw2 k0_h1 k0_h4 => k0_hw2.2.2.2.2.2.1.2.2.2.2.2.2.2.2.1 k0_h1 k0_h4
theorem k0_off345_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off345 i) a + S1x8x128.size a ≤ S2x8192x128.size a := fun i v0 v28 k0_hw2 k0_h1 k0_h4 => k0_hw2.2.2.2.2.2.1.2.2.2.2.2.2.2.2.2.1 k0_h1 k0_h4
theorem k0_off347_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off347 i) a + S1.size a ≤ S1024.size a := fun i v0 v28 k0_hw2 k0_h1 k0_h4 => k0_hw2.2.2.2.2.2.1.2.2.2.2.2.2.2.2.2.2.1 k0_h1 k0_h4
theorem k0_off349_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off349 i) a + S1x8x128.size a ≤ S2x8192x128.size a := fun i v0 v28 k0_hw2 k0_h1 k0_h4 => k0_hw2.2.2.2.2.2.1.2.2.2.2.2.2.2.2.2.2.2.1 k0_h1 k0_h4
theorem k0_off351_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off351 i) a + S1.size a ≤ S1024.size a := fun i v0 v28 k0_hw2 k0_h1 k0_h4 => k0_hw2.2.2.2.2.2.1.2.2.2.2.2.2.2.2.2.2.2.2.1 k0_h1 k0_h4
theorem k0_off353_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off353 i) a + S1x8x128.size a ≤ S2x8192x128.size a := fun i v0 v28 k0_hw2 k0_h1 k0_h4 => k0_hw2.2.2.2.2.2.1.2.2.2.2.2.2.2.2.2.2.2.2.2.1 k0_h1 k0_h4
theorem k0_off355_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off355 i) a + S1.size a ≤ S1024.size a := fun i v0 v28 k0_hw2 k0_h1 k0_h4 => k0_hw2.2.2.2.2.2.1.2.2.2.2.2.2.2.2.2.2.2.2.2.2.1 k0_h1 k0_h4
theorem k0_off357_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off357 i) a + S1x8x128.size a ≤ S2x8192x128.size a := fun i v0 v28 k0_hw2 k0_h1 k0_h4 => k0_hw2.2.2.2.2.2.1.2.2.2.2.2.2.2.2.2.2.2.2.2.2.2.1 k0_h1 k0_h4
theorem k0_off359_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off359 i) a + S1.size a ≤ S1024.size a := fun i v0 v28 k0_hw2 k0_h1 k0_h4 => k0_hw2.2.2.2.2.2.1.2.2.2.2.2.2.2.2.2.2.2.2.2.2.2.2.1 k0_h1 k0_h4
theorem k0_off361_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off361 i) a + S1x8x128.size a ≤ S2x8192x128.size a := fun i v0 v28 k0_hw2 k0_h1 k0_h4 => k0_hw2.2.2.2.2.2.1.2.2.2.2.2.2.2.2.2.2.2.2.2.2.2.2.2.1 k0_h1 k0_h4
theorem k0_off363_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off363 i) a + S1.size a ≤ S1024.size a := fun i v0 v28 k0_hw2 k0_h1 k0_h4 => k0_hw2.2.2.2.2.2.1.2.2.2.2.2.2.2.2.2.2.2.2.2.2.2.2.2.2.1 k0_h1 k0_h4
theorem k0_off365_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off365 i) a + S1x8x128.size a ≤ S2x8192x128.size a := fun i v0 v28 k0_hw2 k0_h1 k0_h4 => k0_hw2.2.2.2.2.2.1.2.2.2.2.2.2.2.2.2.2.2.2.2.2.2.2.2.2.2.1 k0_h1 k0_h4
theorem k0_off367_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off367 i) a + S1.size a ≤ S1024.size a := fun i v0 v28 k0_hw2 k0_h1 k0_h4 => k0_hw2.2.2.2.2.2.1.2.2.2.2.2.2.2.2.2.2.2.2.2.2.2.2.2.2.2.2.1 k0_h1 k0_h4
theorem k0_off369_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off369 i) a + S1x8x128.size a ≤ S2x8192x128.size a := fun i v0 v28 k0_hw2 k0_h1 k0_h4 => k0_hw2.2.2.2.2.2.1.2.2.2.2.2.2.2.2.2.2.2.2.2.2.2.2.2.2.2.2.2.1 k0_h1 k0_h4
theorem k0_off371_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off371 i) a + S1.size a ≤ S1024.size a := fun i v0 v28 k0_hw2 k0_h1 k0_h4 => k0_hw2.2.2.2.2.2.1.2.2.2.2.2.2.2.2.2.2.2.2.2.2.2.2.2.2.2.2.2.2.1 k0_h1 k0_h4
theorem k0_off373_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off373 i) a + S1x8x128.size a ≤ S2x8192x128.size a := fun i v0 v28 k0_hw2 k0_h1 k0_h4 => k0_hw2.2.2.2.2.2.1.2.2.2.2.2.2.2.2.2.2.2.2.2.2.2.2.2.2.2.2.2.2.2.1 k0_h1 k0_h4
theorem k0_off375_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off375 i) a + S1.size a ≤ S1024.size a := fun i v0 v28 k0_hw2 k0_h1 k0_h4 => k0_hw2.2.2.2.2.2.1.2.2.2.2.2.2.2.2.2.2.2.2.2.2.2.2.2.2.2.2.2.2.2.2.1 k0_h1 k0_h4
theorem k0_off377_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off377 i) a + S1x8x128.size a ≤ S2x8192x128.size a := fun i v0 v28 k0_hw2 k0_h1 k0_h4 => k0_hw2.2.2.2.2.2.1.2.2.2.2.2.2.2.2.2.2.2.2.2.2.2.2.2.2.2.2.2.2.2.2.2.1 k0_h1 k0_h4
theorem k0_off379_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off379 i) a + S1.size a ≤ S1024.size a := fun i v0 v28 k0_hw2 k0_h1 k0_h4 => k0_hw2.2.2.2.2.2.1.2.2.2.2.2.2.2.2.2.2.2.2.2.2.2.2.2.2.2.2.2.2.2.2.2.2.1 k0_h1 k0_h4
theorem k0_off381_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off381 i) a + S1x8x128.size a ≤ S2x8192x128.size a := fun i v0 v28 k0_hw2 k0_h1 k0_h4 => k0_hw2.2.2.2.2.2.1.2.2.2.2.2.2.2.2.2.2.2.2.2.2.2.2.2.2.2.2.2.2.2.2.2.2.2.1 k0_h1 k0_h4
theorem k0_off383_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off383 i) a + S1.size a ≤ S1024.size a := fun i v0 v28 k0_hw2 k0_h1 k0_h4 => k0_hw2.2.2.2.2.2.1.2.2.2.2.2.2.2.2.2.2.2.2.2.2.2.2.2.2.2.2.2.2.2.2.2.2.2.2.1 k0_h1 k0_h4
theorem k0_off385_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off385 i) a + S1x8x128.size a ≤ S2x8192x128.size a := fun i v0 v28 k0_hw2 k0_h1 k0_h4 => k0_hw2.2.2.2.2.2.1.2.2.2.2.2.2.2.2.2.2.2.2.2.2.2.2.2.2.2.2.2.2.2.2.2.2.2.2.2.1 k0_h1 k0_h4
theorem k0_off387_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off387 i) a + S1.size a ≤ S1024.size a := fun i v0 v28 k0_hw2 k0_h1 k0_h4 => k0_hw2.2.2.2.2.2.1.2.2.2.2.2.2.2.2.2.2.2.2.2.2.2.2.2.2.2.2.2.2.2.2.2.2.2.2.2.2.1 k0_h1 k0_h4
theorem k0_off389_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off389 i) a + S1x8x128.size a ≤ S2x8192x128.size a := fun i v0 v28 k0_hw2 k0_h1 k0_h4 => k0_hw2.2.2.2.2.2.1.2.2.2.2.2.2.2.2.2.2.2.2.2.2.2.2.2.2.2.2.2.2.2.2.2.2.2.2.2.2.2 k0_h1 k0_h4
theorem k0_off391_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off391 i) a + S1.size a ≤ S1024.size a := fun i v0 v28 k0_hw2 k0_h1 k0_h4 => k0_hw2.2.2.2.2.2.2.1.1 k0_h1 k0_h4
theorem k0_off393_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off393 i) a + S1x8x128.size a ≤ S2x8192x128.size a := fun i v0 v28 k0_hw2 k0_h1 k0_h4 => k0_hw2.2.2.2.2.2.2.1.2.1 k0_h1 k0_h4
theorem k0_off395_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off395 i) a + S1.size a ≤ S1024.size a := fun i v0 v28 k0_hw2 k0_h1 k0_h4 => k0_hw2.2.2.2.2.2.2.1.2.2.1 k0_h1 k0_h4
theorem k0_off397_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off397 i) a + S1x8x128.size a ≤ S2x8192x128.size a := fun i v0 v28 k0_hw2 k0_h1 k0_h4 => k0_hw2.2.2.2.2.2.2.1.2.2.2.1 k0_h1 k0_h4
theorem k0_off399_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off399 i) a + S1.size a ≤ S1024.size a := fun i v0 v28 k0_hw2 k0_h1 k0_h4 => k0_hw2.2.2.2.2.2.2.1.2.2.2.2.1 k0_h1 k0_h4
theorem k0_off401_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off401 i) a + S1x8x128.size a ≤ S2x8192x128.size a := fun i v0 v28 k0_hw2 k0_h1 k0_h4 => k0_hw2.2.2.2.2.2.2.1.2.2.2.2.2.1 k0_h1 k0_h4
theorem k0_off403_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off403 i) a + S1.size a ≤ S1024.size a := fun i v0 v28 k0_hw2 k0_h1 k0_h4 => k0_hw2.2.2.2.2.2.2.1.2.2.2.2.2.2.1 k0_h1 k0_h4
theorem k0_off405_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off405 i) a + S1x8x128.size a ≤ S2x8192x128.size a := fun i v0 v28 k0_hw2 k0_h1 k0_h4 => k0_hw2.2.2.2.2.2.2.1.2.2.2.2.2.2.2.1 k0_h1 k0_h4
theorem k0_off407_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off407 i) a + S1.size a ≤ S1024.size a := fun i v0 v28 k0_hw2 k0_h1 k0_h4 => k0_hw2.2.2.2.2.2.2.1.2.2.2.2.2.2.2.2.1 k0_h1 k0_h4
theorem k0_off409_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off409 i) a + S1x8x128.size a ≤ S2x8192x128.size a := fun i v0 v28 k0_hw2 k0_h1 k0_h4 => k0_hw2.2.2.2.2.2.2.1.2.2.2.2.2.2.2.2.2.1 k0_h1 k0_h4
theorem k0_off411_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off411 i) a + S1.size a ≤ S1024.size a := fun i v0 v28 k0_hw2 k0_h1 k0_h4 => k0_hw2.2.2.2.2.2.2.1.2.2.2.2.2.2.2.2.2.2.1 k0_h1 k0_h4
theorem k0_off413_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off413 i) a + S1x8x128.size a ≤ S2x8192x128.size a := fun i v0 v28 k0_hw2 k0_h1 k0_h4 => k0_hw2.2.2.2.2.2.2.1.2.2.2.2.2.2.2.2.2.2.2.1 k0_h1 k0_h4
theorem k0_off415_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off415 i) a + S1.size a ≤ S1024.size a := fun i v0 v28 k0_hw2 k0_h1 k0_h4 => k0_hw2.2.2.2.2.2.2.1.2.2.2.2.2.2.2.2.2.2.2.2.1 k0_h1 k0_h4
theorem k0_off417_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off417 i) a + S1x8x128.size a ≤ S2x8192x128.size a := fun i v0 v28 k0_hw2 k0_h1 k0_h4 => k0_hw2.2.2.2.2.2.2.1.2.2.2.2.2.2.2.2.2.2.2.2.2.1 k0_h1 k0_h4
theorem k0_off419_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off419 i) a + S1.size a ≤ S1024.size a := fun i v0 v28 k0_hw2 k0_h1 k0_h4 => k0_hw2.2.2.2.2.2.2.1.2.2.2.2.2.2.2.2.2.2.2.2.2.2.1 k0_h1 k0_h4
theorem k0_off421_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off421 i) a + S1x8x128.size a ≤ S2x8192x128.size a := fun i v0 v28 k0_hw2 k0_h1 k0_h4 => k0_hw2.2.2.2.2.2.2.1.2.2.2.2.2.2.2.2.2.2.2.2.2.2.2.1 k0_h1 k0_h4
theorem k0_off423_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off423 i) a + S1.size a ≤ S1024.size a := fun i v0 v28 k0_hw2 k0_h1 k0_h4 => k0_hw2.2.2.2.2.2.2.1.2.2.2.2.2.2.2.2.2.2.2.2.2.2.2.2.1 k0_h1 k0_h4
theorem k0_off425_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off425 i) a + S1x8x128.size a ≤ S2x8192x128.size a := fun i v0 v28 k0_hw2 k0_h1 k0_h4 => k0_hw2.2.2.2.2.2.2.1.2.2.2.2.2.2.2.2.2.2.2.2.2.2.2.2.2.1 k0_h1 k0_h4
theorem k0_off427_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off427 i) a + S1.size a ≤ S1024.size a := fun i v0 v28 k0_hw2 k0_h1 k0_h4 => k0_hw2.2.2.2.2.2.2.1.2.2.2.2.2.2.2.2.2.2.2.2.2.2.2.2.2.2.1 k0_h1 k0_h4
theorem k0_off429_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off429 i) a + S1x8x128.size a ≤ S2x8192x128.size a := fun i v0 v28 k0_hw2 k0_h1 k0_h4 => k0_hw2.2.2.2.2.2.2.1.2.2.2.2.2.2.2.2.2.2.2.2.2.2.2.2.2.2.2.1 k0_h1 k0_h4
theorem k0_off431_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off431 i) a + S1.size a ≤ S1024.size a := fun i v0 v28 k0_hw2 k0_h1 k0_h4 => k0_hw2.2.2.2.2.2.2.1.2.2.2.2.2.2.2.2.2.2.2.2.2.2.2.2.2.2.2.2.1 k0_h1 k0_h4
theorem k0_off433_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off433 i) a + S1x8x128.size a ≤ S2x8192x128.size a := fun i v0 v28 k0_hw2 k0_h1 k0_h4 => k0_hw2.2.2.2.2.2.2.1.2.2.2.2.2.2.2.2.2.2.2.2.2.2.2.2.2.2.2.2.2.1 k0_h1 k0_h4
theorem k0_off435_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off435 i) a + S1.size a ≤ S1024.size a := fun i v0 v28 k0_hw2 k0_h1 k0_h4 => k0_hw2.2.2.2.2.2.2.1.2.2.2.2.2.2.2.2.2.2.2.2.2.2.2.2.2.2.2.2.2.2.1 k0_h1 k0_h4
theorem k0_off437_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off437 i) a + S1x8x128.size a ≤ S2x8192x128.size a := fun i v0 v28 k0_hw2 k0_h1 k0_h4 => k0_hw2.2.2.2.2.2.2.1.2.2.2.2.2.2.2.2.2.2.2.2.2.2.2.2.2.2.2.2.2.2.2.1 k0_h1 k0_h4
theorem k0_off439_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off439 i) a + S1.size a ≤ S1024.size a := fun i v0 v28 k0_hw2 k0_h1 k0_h4 => k0_hw2.2.2.2.2.2.2.1.2.2.2.2.2.2.2.2.2.2.2.2.2.2.2.2.2.2.2.2.2.2.2.2.1 k0_h1 k0_h4
theorem k0_off441_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off441 i) a + S1x8x128.size a ≤ S2x8192x128.size a := fun i v0 v28 k0_hw2 k0_h1 k0_h4 => k0_hw2.2.2.2.2.2.2.1.2.2.2.2.2.2.2.2.2.2.2.2.2.2.2.2.2.2.2.2.2.2.2.2.2.1 k0_h1 k0_h4
theorem k0_off443_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off443 i) a + S1.size a ≤ S1024.size a := fun i v0 v28 k0_hw2 k0_h1 k0_h4 => k0_hw2.2.2.2.2.2.2.1.2.2.2.2.2.2.2.2.2.2.2.2.2.2.2.2.2.2.2.2.2.2.2.2.2.2.1 k0_h1 k0_h4
theorem k0_off445_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off445 i) a + S1x8x128.size a ≤ S2x8192x128.size a := fun i v0 v28 k0_hw2 k0_h1 k0_h4 => k0_hw2.2.2.2.2.2.2.1.2.2.2.2.2.2.2.2.2.2.2.2.2.2.2.2.2.2.2.2.2.2.2.2.2.2.2.1 k0_h1 k0_h4
theorem k0_off447_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off447 i) a + S1.size a ≤ S1024.size a := fun i v0 v28 k0_hw2 k0_h1 k0_h4 => k0_hw2.2.2.2.2.2.2.1.2.2.2.2.2.2.2.2.2.2.2.2.2.2.2.2.2.2.2.2.2.2.2.2.2.2.2.2.1 k0_h1 k0_h4
theorem k0_off449_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off449 i) a + S1x8x128.size a ≤ S2x8192x128.size a := fun i v0 v28 k0_hw2 k0_h1 k0_h4 => k0_hw2.2.2.2.2.2.2.1.2.2.2.2.2.2.2.2.2.2.2.2.2.2.2.2.2.2.2.2.2.2.2.2.2.2.2.2.2.1 k0_h1 k0_h4
theorem k0_off451_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off451 i) a + S1.size a ≤ S1024.size a := fun i v0 v28 k0_hw2 k0_h1 k0_h4 => k0_hw2.2.2.2.2.2.2.1.2.2.2.2.2.2.2.2.2.2.2.2.2.2.2.2.2.2.2.2.2.2.2.2.2.2.2.2.2.2.1 k0_h1 k0_h4
theorem k0_off453_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off453 i) a + S1x8x128.size a ≤ S2x8192x128.size a := fun i v0 v28 k0_hw2 k0_h1 k0_h4 => k0_hw2.2.2.2.2.2.2.1.2.2.2.2.2.2.2.2.2.2.2.2.2.2.2.2.2.2.2.2.2.2.2.2.2.2.2.2.2.2.2 k0_h1 k0_h4
theorem k0_off455_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off455 i) a + S1.size a ≤ S1024.size a := fun i v0 v28 k0_hw2 k0_h1 k0_h4 => k0_hw2.2.2.2.2.2.2.2.1.1 k0_h1 k0_h4
theorem k0_off457_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off457 i) a + S1x8x128.size a ≤ S2x8192x128.size a := fun i v0 v28 k0_hw2 k0_h1 k0_h4 => k0_hw2.2.2.2.2.2.2.2.1.2.1 k0_h1 k0_h4
theorem k0_off459_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off459 i) a + S1.size a ≤ S1024.size a := fun i v0 v28 k0_hw2 k0_h1 k0_h4 => k0_hw2.2.2.2.2.2.2.2.1.2.2.1 k0_h1 k0_h4
theorem k0_off461_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off461 i) a + S1x8x128.size a ≤ S2x8192x128.size a := fun i v0 v28 k0_hw2 k0_h1 k0_h4 => k0_hw2.2.2.2.2.2.2.2.1.2.2.2.1 k0_h1 k0_h4
theorem k0_off463_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off463 i) a + S1.size a ≤ S1024.size a := fun i v0 v28 k0_hw2 k0_h1 k0_h4 => k0_hw2.2.2.2.2.2.2.2.1.2.2.2.2.1 k0_h1 k0_h4
theorem k0_off465_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off465 i) a + S1x8x128.size a ≤ S2x8192x128.size a := fun i v0 v28 k0_hw2 k0_h1 k0_h4 => k0_hw2.2.2.2.2.2.2.2.1.2.2.2.2.2.1 k0_h1 k0_h4
theorem k0_off467_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off467 i) a + S1.size a ≤ S1024.size a := fun i v0 v28 k0_hw2 k0_h1 k0_h4 => k0_hw2.2.2.2.2.2.2.2.1.2.2.2.2.2.2.1 k0_h1 k0_h4
theorem k0_off469_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off469 i) a + S1x8x128.size a ≤ S2x8192x128.size a := fun i v0 v28 k0_hw2 k0_h1 k0_h4 => k0_hw2.2.2.2.2.2.2.2.1.2.2.2.2.2.2.2.1 k0_h1 k0_h4
theorem k0_off471_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off471 i) a + S1.size a ≤ S1024.size a := fun i v0 v28 k0_hw2 k0_h1 k0_h4 => k0_hw2.2.2.2.2.2.2.2.1.2.2.2.2.2.2.2.2.1 k0_h1 k0_h4
theorem k0_off473_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off473 i) a + S1x8x128.size a ≤ S2x8192x128.size a := fun i v0 v28 k0_hw2 k0_h1 k0_h4 => k0_hw2.2.2.2.2.2.2.2.1.2.2.2.2.2.2.2.2.2.1 k0_h1 k0_h4
theorem k0_off475_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off475 i) a + S1.size a ≤ S1024.size a := fun i v0 v28 k0_hw2 k0_h1 k0_h4 => k0_hw2.2.2.2.2.2.2.2.1.2.2.2.2.2.2.2.2.2.2.1 k0_h1 k0_h4
theorem k0_off477_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off477 i) a + S1x8x128.size a ≤ S2x8192x128.size a := fun i v0 v28 k0_hw2 k0_h1 k0_h4 => k0_hw2.2.2.2.2.2.2.2.1.2.2.2.2.2.2.2.2.2.2.2.1 k0_h1 k0_h4
theorem k0_off479_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off479 i) a + S1.size a ≤ S1024.size a := fun i v0 v28 k0_hw2 k0_h1 k0_h4 => k0_hw2.2.2.2.2.2.2.2.1.2.2.2.2.2.2.2.2.2.2.2.2.1 k0_h1 k0_h4
theorem k0_off481_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off481 i) a + S1x8x128.size a ≤ S2x8192x128.size a := fun i v0 v28 k0_hw2 k0_h1 k0_h4 => k0_hw2.2.2.2.2.2.2.2.1.2.2.2.2.2.2.2.2.2.2.2.2.2.1 k0_h1 k0_h4
theorem k0_off483_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off483 i) a + S1.size a ≤ S1024.size a := fun i v0 v28 k0_hw2 k0_h1 k0_h4 => k0_hw2.2.2.2.2.2.2.2.1.2.2.2.2.2.2.2.2.2.2.2.2.2.2.1 k0_h1 k0_h4
theorem k0_off485_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off485 i) a + S1x8x128.size a ≤ S2x8192x128.size a := fun i v0 v28 k0_hw2 k0_h1 k0_h4 => k0_hw2.2.2.2.2.2.2.2.1.2.2.2.2.2.2.2.2.2.2.2.2.2.2.2.1 k0_h1 k0_h4
theorem k0_off487_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off487 i) a + S1.size a ≤ S1024.size a := fun i v0 v28 k0_hw2 k0_h1 k0_h4 => k0_hw2.2.2.2.2.2.2.2.1.2.2.2.2.2.2.2.2.2.2.2.2.2.2.2.2.1 k0_h1 k0_h4
theorem k0_off489_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off489 i) a + S1x8x128.size a ≤ S2x8192x128.size a := fun i v0 v28 k0_hw2 k0_h1 k0_h4 => k0_hw2.2.2.2.2.2.2.2.1.2.2.2.2.2.2.2.2.2.2.2.2.2.2.2.2.2.1 k0_h1 k0_h4
theorem k0_off491_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off491 i) a + S1.size a ≤ S1024.size a := fun i v0 v28 k0_hw2 k0_h1 k0_h4 => k0_hw2.2.2.2.2.2.2.2.1.2.2.2.2.2.2.2.2.2.2.2.2.2.2.2.2.2.2.1 k0_h1 k0_h4
theorem k0_off493_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off493 i) a + S1x8x128.size a ≤ S2x8192x128.size a := fun i v0 v28 k0_hw2 k0_h1 k0_h4 => k0_hw2.2.2.2.2.2.2.2.1.2.2.2.2.2.2.2.2.2.2.2.2.2.2.2.2.2.2.2.1 k0_h1 k0_h4
theorem k0_off495_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off495 i) a + S1.size a ≤ S1024.size a := fun i v0 v28 k0_hw2 k0_h1 k0_h4 => k0_hw2.2.2.2.2.2.2.2.1.2.2.2.2.2.2.2.2.2.2.2.2.2.2.2.2.2.2.2.2.1 k0_h1 k0_h4
theorem k0_off497_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off497 i) a + S1x8x128.size a ≤ S2x8192x128.size a := fun i v0 v28 k0_hw2 k0_h1 k0_h4 => k0_hw2.2.2.2.2.2.2.2.1.2.2.2.2.2.2.2.2.2.2.2.2.2.2.2.2.2.2.2.2.2.1 k0_h1 k0_h4
theorem k0_off499_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off499 i) a + S1.size a ≤ S1024.size a := fun i v0 v28 k0_hw2 k0_h1 k0_h4 => k0_hw2.2.2.2.2.2.2.2.1.2.2.2.2.2.2.2.2.2.2.2.2.2.2.2.2.2.2.2.2.2.2.1 k0_h1 k0_h4
theorem k0_off501_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off501 i) a + S1x8x128.size a ≤ S2x8192x128.size a := fun i v0 v28 k0_hw2 k0_h1 k0_h4 => k0_hw2.2.2.2.2.2.2.2.1.2.2.2.2.2.2.2.2.2.2.2.2.2.2.2.2.2.2.2.2.2.2.2.1 k0_h1 k0_h4
theorem k0_off503_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off503 i) a + S1.size a ≤ S1024.size a := fun i v0 v28 k0_hw2 k0_h1 k0_h4 => k0_hw2.2.2.2.2.2.2.2.1.2.2.2.2.2.2.2.2.2.2.2.2.2.2.2.2.2.2.2.2.2.2.2.2.1 k0_h1 k0_h4
theorem k0_off505_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off505 i) a + S1x8x128.size a ≤ S2x8192x128.size a := fun i v0 v28 k0_hw2 k0_h1 k0_h4 => k0_hw2.2.2.2.2.2.2.2.1.2.2.2.2.2.2.2.2.2.2.2.2.2.2.2.2.2.2.2.2.2.2.2.2.2.1 k0_h1 k0_h4
theorem k0_off507_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off507 i) a + S1.size a ≤ S1024.size a := fun i v0 v28 k0_hw2 k0_h1 k0_h4 => k0_hw2.2.2.2.2.2.2.2.1.2.2.2.2.2.2.2.2.2.2.2.2.2.2.2.2.2.2.2.2.2.2.2.2.2.2.1 k0_h1 k0_h4
theorem k0_off509_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off509 i) a + S1x8x128.size a ≤ S2x8192x128.size a := fun i v0 v28 k0_hw2 k0_h1 k0_h4 => k0_hw2.2.2.2.2.2.2.2.1.2.2.2.2.2.2.2.2.2.2.2.2.2.2.2.2.2.2.2.2.2.2.2.2.2.2.2.1 k0_h1 k0_h4
theorem k0_off511_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off511 i) a + S1.size a ≤ S1024.size a := fun i v0 v28 k0_hw2 k0_h1 k0_h4 => k0_hw2.2.2.2.2.2.2.2.1.2.2.2.2.2.2.2.2.2.2.2.2.2.2.2.2.2.2.2.2.2.2.2.2.2.2.2.2.1 k0_h1 k0_h4
theorem k0_off513_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off513 i) a + S1x8x128.size a ≤ S2x8192x128.size a := fun i v0 v28 k0_hw2 k0_h1 k0_h4 => k0_hw2.2.2.2.2.2.2.2.1.2.2.2.2.2.2.2.2.2.2.2.2.2.2.2.2.2.2.2.2.2.2.2.2.2.2.2.2.2.1 k0_h1 k0_h4
theorem k0_off515_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off515 i) a + S1.size a ≤ S1024.size a := fun i v0 v28 k0_hw2 k0_h1 k0_h4 => k0_hw2.2.2.2.2.2.2.2.1.2.2.2.2.2.2.2.2.2.2.2.2.2.2.2.2.2.2.2.2.2.2.2.2.2.2.2.2.2.2.1 k0_h1 k0_h4
theorem k0_off517_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off517 i) a + S1x8x128.size a ≤ S2x8192x128.size a := fun i v0 v28 k0_hw2 k0_h1 k0_h4 => k0_hw2.2.2.2.2.2.2.2.1.2.2.2.2.2.2.2.2.2.2.2.2.2.2.2.2.2.2.2.2.2.2.2.2.2.2.2.2.2.2.2 k0_h1 k0_h4
theorem k0_off519_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off519 i) a + S1.size a ≤ S1024.size a := fun i v0 v28 k0_hw2 k0_h1 k0_h4 => k0_hw2.2.2.2.2.2.2.2.2.1.1 k0_h1 k0_h4
theorem k0_off521_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off521 i) a + S1x8x128.size a ≤ S2x8192x128.size a := fun i v0 v28 k0_hw2 k0_h1 k0_h4 => k0_hw2.2.2.2.2.2.2.2.2.1.2.1 k0_h1 k0_h4
theorem k0_off523_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off523 i) a + S1.size a ≤ S1024.size a := fun i v0 v28 k0_hw2 k0_h1 k0_h4 => k0_hw2.2.2.2.2.2.2.2.2.1.2.2.1 k0_h1 k0_h4
theorem k0_off525_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off525 i) a + S1x8x128.size a ≤ S2x8192x128.size a := fun i v0 v28 k0_hw2 k0_h1 k0_h4 => k0_hw2.2.2.2.2.2.2.2.2.1.2.2.2.1 k0_h1 k0_h4
theorem k0_off527_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off527 i) a + S1.size a ≤ S1024.size a := fun i v0 v28 k0_hw2 k0_h1 k0_h4 => k0_hw2.2.2.2.2.2.2.2.2.1.2.2.2.2.1 k0_h1 k0_h4
theorem k0_off529_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off529 i) a + S1x8x128.size a ≤ S2x8192x128.size a := fun i v0 v28 k0_hw2 k0_h1 k0_h4 => k0_hw2.2.2.2.2.2.2.2.2.1.2.2.2.2.2.1 k0_h1 k0_h4
theorem k0_off531_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off531 i) a + S1.size a ≤ S1024.size a := fun i v0 v28 k0_hw2 k0_h1 k0_h4 => k0_hw2.2.2.2.2.2.2.2.2.1.2.2.2.2.2.2.1 k0_h1 k0_h4
theorem k0_off533_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off533 i) a + S1x8x128.size a ≤ S2x8192x128.size a := fun i v0 v28 k0_hw2 k0_h1 k0_h4 => k0_hw2.2.2.2.2.2.2.2.2.1.2.2.2.2.2.2.2.1 k0_h1 k0_h4
theorem k0_off535_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off535 i) a + S1.size a ≤ S1024.size a := fun i v0 v28 k0_hw2 k0_h1 k0_h4 => k0_hw2.2.2.2.2.2.2.2.2.1.2.2.2.2.2.2.2.2.1 k0_h1 k0_h4
theorem k0_off537_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off537 i) a + S1x8x128.size a ≤ S2x8192x128.size a := fun i v0 v28 k0_hw2 k0_h1 k0_h4 => k0_hw2.2.2.2.2.2.2.2.2.1.2.2.2.2.2.2.2.2.2.1 k0_h1 k0_h4
theorem k0_off539_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off539 i) a + S1.size a ≤ S1024.size a := fun i v0 v28 k0_hw2 k0_h1 k0_h4 => k0_hw2.2.2.2.2.2.2.2.2.1.2.2.2.2.2.2.2.2.2.2.1 k0_h1 k0_h4
theorem k0_off541_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off541 i) a + S1x8x128.size a ≤ S2x8192x128.size a := fun i v0 v28 k0_hw2 k0_h1 k0_h4 => k0_hw2.2.2.2.2.2.2.2.2.1.2.2.2.2.2.2.2.2.2.2.2.1 k0_h1 k0_h4
theorem k0_off543_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off543 i) a + S1.size a ≤ S1024.size a := fun i v0 v28 k0_hw2 k0_h1 k0_h4 => k0_hw2.2.2.2.2.2.2.2.2.1.2.2.2.2.2.2.2.2.2.2.2.2.1 k0_h1 k0_h4
theorem k0_off545_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off545 i) a + S1x8x128.size a ≤ S2x8192x128.size a := fun i v0 v28 k0_hw2 k0_h1 k0_h4 => k0_hw2.2.2.2.2.2.2.2.2.1.2.2.2.2.2.2.2.2.2.2.2.2.2.1 k0_h1 k0_h4
theorem k0_off547_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off547 i) a + S1.size a ≤ S1024.size a := fun i v0 v28 k0_hw2 k0_h1 k0_h4 => k0_hw2.2.2.2.2.2.2.2.2.1.2.2.2.2.2.2.2.2.2.2.2.2.2.2.1 k0_h1 k0_h4
theorem k0_off549_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off549 i) a + S1x8x128.size a ≤ S2x8192x128.size a := fun i v0 v28 k0_hw2 k0_h1 k0_h4 => k0_hw2.2.2.2.2.2.2.2.2.1.2.2.2.2.2.2.2.2.2.2.2.2.2.2.2.1 k0_h1 k0_h4
theorem k0_off551_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off551 i) a + S1.size a ≤ S1024.size a := fun i v0 v28 k0_hw2 k0_h1 k0_h4 => k0_hw2.2.2.2.2.2.2.2.2.1.2.2.2.2.2.2.2.2.2.2.2.2.2.2.2.2.1 k0_h1 k0_h4
theorem k0_off553_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off553 i) a + S1x8x128.size a ≤ S2x8192x128.size a := fun i v0 v28 k0_hw2 k0_h1 k0_h4 => k0_hw2.2.2.2.2.2.2.2.2.1.2.2.2.2.2.2.2.2.2.2.2.2.2.2.2.2.2.1 k0_h1 k0_h4
theorem k0_off555_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off555 i) a + S1.size a ≤ S1024.size a := fun i v0 v28 k0_hw2 k0_h1 k0_h4 => k0_hw2.2.2.2.2.2.2.2.2.1.2.2.2.2.2.2.2.2.2.2.2.2.2.2.2.2.2.2.1 k0_h1 k0_h4
theorem k0_off557_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off557 i) a + S1x8x128.size a ≤ S2x8192x128.size a := fun i v0 v28 k0_hw2 k0_h1 k0_h4 => k0_hw2.2.2.2.2.2.2.2.2.1.2.2.2.2.2.2.2.2.2.2.2.2.2.2.2.2.2.2.2.1 k0_h1 k0_h4
theorem k0_off559_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off559 i) a + S1.size a ≤ S1024.size a := fun i v0 v28 k0_hw2 k0_h1 k0_h4 => k0_hw2.2.2.2.2.2.2.2.2.1.2.2.2.2.2.2.2.2.2.2.2.2.2.2.2.2.2.2.2.2.1 k0_h1 k0_h4
theorem k0_off561_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off561 i) a + S1x8x128.size a ≤ S2x8192x128.size a := fun i v0 v28 k0_hw2 k0_h1 k0_h4 => k0_hw2.2.2.2.2.2.2.2.2.1.2.2.2.2.2.2.2.2.2.2.2.2.2.2.2.2.2.2.2.2.2.1 k0_h1 k0_h4
theorem k0_off563_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off563 i) a + S1.size a ≤ S1024.size a := fun i v0 v28 k0_hw2 k0_h1 k0_h4 => k0_hw2.2.2.2.2.2.2.2.2.1.2.2.2.2.2.2.2.2.2.2.2.2.2.2.2.2.2.2.2.2.2.2.1 k0_h1 k0_h4
theorem k0_off565_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off565 i) a + S1x8x128.size a ≤ S2x8192x128.size a := fun i v0 v28 k0_hw2 k0_h1 k0_h4 => k0_hw2.2.2.2.2.2.2.2.2.1.2.2.2.2.2.2.2.2.2.2.2.2.2.2.2.2.2.2.2.2.2.2.2.1 k0_h1 k0_h4
theorem k0_off567_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off567 i) a + S1.size a ≤ S1024.size a := fun i v0 v28 k0_hw2 k0_h1 k0_h4 => k0_hw2.2.2.2.2.2.2.2.2.1.2.2.2.2.2.2.2.2.2.2.2.2.2.2.2.2.2.2.2.2.2.2.2.2.1 k0_h1 k0_h4
theorem k0_off569_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off569 i) a + S1x8x128.size a ≤ S2x8192x128.size a := fun i v0 v28 k0_hw2 k0_h1 k0_h4 => k0_hw2.2.2.2.2.2.2.2.2.1.2.2.2.2.2.2.2.2.2.2.2.2.2.2.2.2.2.2.2.2.2.2.2.2.2.1 k0_h1 k0_h4
theorem k0_off571_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off571 i) a + S1.size a ≤ S1024.size a := fun i v0 v28 k0_hw2 k0_h1 k0_h4 => k0_hw2.2.2.2.2.2.2.2.2.1.2.2.2.2.2.2.2.2.2.2.2.2.2.2.2.2.2.2.2.2.2.2.2.2.2.2.1 k0_h1 k0_h4
theorem k0_off573_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off573 i) a + S1x8x128.size a ≤ S2x8192x128.size a := fun i v0 v28 k0_hw2 k0_h1 k0_h4 => k0_hw2.2.2.2.2.2.2.2.2.1.2.2.2.2.2.2.2.2.2.2.2.2.2.2.2.2.2.2.2.2.2.2.2.2.2.2.2.1 k0_h1 k0_h4
theorem k0_off575_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off575 i) a + S1.size a ≤ S1024.size a := fun i v0 v28 k0_hw2 k0_h1 k0_h4 => k0_hw2.2.2.2.2.2.2.2.2.1.2.2.2.2.2.2.2.2.2.2.2.2.2.2.2.2.2.2.2.2.2.2.2.2.2.2.2.2.1 k0_h1 k0_h4
theorem k0_off577_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off577 i) a + S1x8x128.size a ≤ S2x8192x128.size a := fun i v0 v28 k0_hw2 k0_h1 k0_h4 => k0_hw2.2.2.2.2.2.2.2.2.1.2.2.2.2.2.2.2.2.2.2.2.2.2.2.2.2.2.2.2.2.2.2.2.2.2.2.2.2.2.1 k0_h1 k0_h4
theorem k0_off579_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off579 i) a + S1.size a ≤ S1024.size a := fun i v0 v28 k0_hw2 k0_h1 k0_h4 => k0_hw2.2.2.2.2.2.2.2.2.1.2.2.2.2.2.2.2.2.2.2.2.2.2.2.2.2.2.2.2.2.2.2.2.2.2.2.2.2.2.2.1 k0_h1 k0_h4
theorem k0_off581_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off581 i) a + S1x8x128.size a ≤ S2x8192x128.size a := fun i v0 v28 k0_hw2 k0_h1 k0_h4 => k0_hw2.2.2.2.2.2.2.2.2.1.2.2.2.2.2.2.2.2.2.2.2.2.2.2.2.2.2.2.2.2.2.2.2.2.2.2.2.2.2.2.2 k0_h1 k0_h4
theorem k0_off583_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off583 i) a + S1.size a ≤ S1024.size a := fun i v0 v28 k0_hw2 k0_h1 k0_h4 => k0_hw2.2.2.2.2.2.2.2.2.2.1.1 k0_h1 k0_h4
theorem k0_off585_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off585 i) a + S1x8x128.size a ≤ S2x8192x128.size a := fun i v0 v28 k0_hw2 k0_h1 k0_h4 => k0_hw2.2.2.2.2.2.2.2.2.2.1.2.1 k0_h1 k0_h4
theorem k0_off587_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off587 i) a + S1.size a ≤ S1024.size a := fun i v0 v28 k0_hw2 k0_h1 k0_h4 => k0_hw2.2.2.2.2.2.2.2.2.2.1.2.2.1 k0_h1 k0_h4
theorem k0_off589_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off589 i) a + S1x8x128.size a ≤ S2x8192x128.size a := fun i v0 v28 k0_hw2 k0_h1 k0_h4 => k0_hw2.2.2.2.2.2.2.2.2.2.1.2.2.2.1 k0_h1 k0_h4
theorem k0_off591_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off591 i) a + S1.size a ≤ S1024.size a := fun i v0 v28 k0_hw2 k0_h1 k0_h4 => k0_hw2.2.2.2.2.2.2.2.2.2.1.2.2.2.2.1 k0_h1 k0_h4
theorem k0_off593_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off593 i) a + S1x8x128.size a ≤ S2x8192x128.size a := fun i v0 v28 k0_hw2 k0_h1 k0_h4 => k0_hw2.2.2.2.2.2.2.2.2.2.1.2.2.2.2.2.1 k0_h1 k0_h4
theorem k0_off595_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off595 i) a + S1.size a ≤ S1024.size a := fun i v0 v28 k0_hw2 k0_h1 k0_h4 => k0_hw2.2.2.2.2.2.2.2.2.2.1.2.2.2.2.2.2.1 k0_h1 k0_h4
theorem k0_off597_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off597 i) a + S1x8x128.size a ≤ S2x8192x128.size a := fun i v0 v28 k0_hw2 k0_h1 k0_h4 => k0_hw2.2.2.2.2.2.2.2.2.2.1.2.2.2.2.2.2.2.1 k0_h1 k0_h4
theorem k0_off599_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off599 i) a + S1.size a ≤ S1024.size a := fun i v0 v28 k0_hw2 k0_h1 k0_h4 => k0_hw2.2.2.2.2.2.2.2.2.2.1.2.2.2.2.2.2.2.2.1 k0_h1 k0_h4
theorem k0_off601_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off601 i) a + S1x8x128.size a ≤ S2x8192x128.size a := fun i v0 v28 k0_hw2 k0_h1 k0_h4 => k0_hw2.2.2.2.2.2.2.2.2.2.1.2.2.2.2.2.2.2.2.2.1 k0_h1 k0_h4
theorem k0_off603_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off603 i) a + S1.size a ≤ S1024.size a := fun i v0 v28 k0_hw2 k0_h1 k0_h4 => k0_hw2.2.2.2.2.2.2.2.2.2.1.2.2.2.2.2.2.2.2.2.2.1 k0_h1 k0_h4
theorem k0_off605_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off605 i) a + S1x8x128.size a ≤ S2x8192x128.size a := fun i v0 v28 k0_hw2 k0_h1 k0_h4 => k0_hw2.2.2.2.2.2.2.2.2.2.1.2.2.2.2.2.2.2.2.2.2.2.1 k0_h1 k0_h4
theorem k0_off607_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off607 i) a + S1.size a ≤ S1024.size a := fun i v0 v28 k0_hw2 k0_h1 k0_h4 => k0_hw2.2.2.2.2.2.2.2.2.2.1.2.2.2.2.2.2.2.2.2.2.2.2.1 k0_h1 k0_h4
theorem k0_off609_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off609 i) a + S1x8x128.size a ≤ S2x8192x128.size a := fun i v0 v28 k0_hw2 k0_h1 k0_h4 => k0_hw2.2.2.2.2.2.2.2.2.2.1.2.2.2.2.2.2.2.2.2.2.2.2.2.1 k0_h1 k0_h4
theorem k0_off611_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off611 i) a + S1.size a ≤ S1024.size a := fun i v0 v28 k0_hw2 k0_h1 k0_h4 => k0_hw2.2.2.2.2.2.2.2.2.2.1.2.2.2.2.2.2.2.2.2.2.2.2.2.2.1 k0_h1 k0_h4
theorem k0_off613_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off613 i) a + S1x8x128.size a ≤ S2x8192x128.size a := fun i v0 v28 k0_hw2 k0_h1 k0_h4 => k0_hw2.2.2.2.2.2.2.2.2.2.1.2.2.2.2.2.2.2.2.2.2.2.2.2.2.2.1 k0_h1 k0_h4
theorem k0_off615_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off615 i) a + S1.size a ≤ S1024.size a := fun i v0 v28 k0_hw2 k0_h1 k0_h4 => k0_hw2.2.2.2.2.2.2.2.2.2.1.2.2.2.2.2.2.2.2.2.2.2.2.2.2.2.2.1 k0_h1 k0_h4
theorem k0_off617_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off617 i) a + S1x8x128.size a ≤ S2x8192x128.size a := fun i v0 v28 k0_hw2 k0_h1 k0_h4 => k0_hw2.2.2.2.2.2.2.2.2.2.1.2.2.2.2.2.2.2.2.2.2.2.2.2.2.2.2.2.1 k0_h1 k0_h4
theorem k0_off619_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off619 i) a + S1.size a ≤ S1024.size a := fun i v0 v28 k0_hw2 k0_h1 k0_h4 => k0_hw2.2.2.2.2.2.2.2.2.2.1.2.2.2.2.2.2.2.2.2.2.2.2.2.2.2.2.2.2.1 k0_h1 k0_h4
theorem k0_off621_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off621 i) a + S1x8x128.size a ≤ S2x8192x128.size a := fun i v0 v28 k0_hw2 k0_h1 k0_h4 => k0_hw2.2.2.2.2.2.2.2.2.2.1.2.2.2.2.2.2.2.2.2.2.2.2.2.2.2.2.2.2.2.1 k0_h1 k0_h4
theorem k0_off623_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off623 i) a + S1.size a ≤ S1024.size a := fun i v0 v28 k0_hw2 k0_h1 k0_h4 => k0_hw2.2.2.2.2.2.2.2.2.2.1.2.2.2.2.2.2.2.2.2.2.2.2.2.2.2.2.2.2.2.2.1 k0_h1 k0_h4
theorem k0_off625_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off625 i) a + S1x8x128.size a ≤ S2x8192x128.size a := fun i v0 v28 k0_hw2 k0_h1 k0_h4 => k0_hw2.2.2.2.2.2.2.2.2.2.1.2.2.2.2.2.2.2.2.2.2.2.2.2.2.2.2.2.2.2.2.2.1 k0_h1 k0_h4
theorem k0_off627_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off627 i) a + S1.size a ≤ S1024.size a := fun i v0 v28 k0_hw2 k0_h1 k0_h4 => k0_hw2.2.2.2.2.2.2.2.2.2.1.2.2.2.2.2.2.2.2.2.2.2.2.2.2.2.2.2.2.2.2.2.2.1 k0_h1 k0_h4
theorem k0_off629_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off629 i) a + S1x8x128.size a ≤ S2x8192x128.size a := fun i v0 v28 k0_hw2 k0_h1 k0_h4 => k0_hw2.2.2.2.2.2.2.2.2.2.1.2.2.2.2.2.2.2.2.2.2.2.2.2.2.2.2.2.2.2.2.2.2.2.1 k0_h1 k0_h4
theorem k0_off631_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off631 i) a + S1.size a ≤ S1024.size a := fun i v0 v28 k0_hw2 k0_h1 k0_h4 => k0_hw2.2.2.2.2.2.2.2.2.2.1.2.2.2.2.2.2.2.2.2.2.2.2.2.2.2.2.2.2.2.2.2.2.2.2.1 k0_h1 k0_h4
theorem k0_off633_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off633 i) a + S1x8x128.size a ≤ S2x8192x128.size a := fun i v0 v28 k0_hw2 k0_h1 k0_h4 => k0_hw2.2.2.2.2.2.2.2.2.2.1.2.2.2.2.2.2.2.2.2.2.2.2.2.2.2.2.2.2.2.2.2.2.2.2.2.1 k0_h1 k0_h4
theorem k0_off635_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off635 i) a + S1.size a ≤ S1024.size a := fun i v0 v28 k0_hw2 k0_h1 k0_h4 => k0_hw2.2.2.2.2.2.2.2.2.2.1.2.2.2.2.2.2.2.2.2.2.2.2.2.2.2.2.2.2.2.2.2.2.2.2.2.2.1 k0_h1 k0_h4
theorem k0_off637_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off637 i) a + S1x8x128.size a ≤ S2x8192x128.size a := fun i v0 v28 k0_hw2 k0_h1 k0_h4 => k0_hw2.2.2.2.2.2.2.2.2.2.1.2.2.2.2.2.2.2.2.2.2.2.2.2.2.2.2.2.2.2.2.2.2.2.2.2.2.2.1 k0_h1 k0_h4
theorem k0_off639_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off639 i) a + S1.size a ≤ S1024.size a := fun i v0 v28 k0_hw2 k0_h1 k0_h4 => k0_hw2.2.2.2.2.2.2.2.2.2.1.2.2.2.2.2.2.2.2.2.2.2.2.2.2.2.2.2.2.2.2.2.2.2.2.2.2.2.2.1 k0_h1 k0_h4
theorem k0_off641_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off641 i) a + S1x8x128.size a ≤ S2x8192x128.size a := fun i v0 v28 k0_hw2 k0_h1 k0_h4 => k0_hw2.2.2.2.2.2.2.2.2.2.1.2.2.2.2.2.2.2.2.2.2.2.2.2.2.2.2.2.2.2.2.2.2.2.2.2.2.2.2.2.1 k0_h1 k0_h4
theorem k0_off643_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off643 i) a + S1.size a ≤ S1024.size a := fun i v0 v28 k0_hw2 k0_h1 k0_h4 => k0_hw2.2.2.2.2.2.2.2.2.2.1.2.2.2.2.2.2.2.2.2.2.2.2.2.2.2.2.2.2.2.2.2.2.2.2.2.2.2.2.2.2.1 k0_h1 k0_h4
theorem k0_off645_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off645 i) a + S1x8x128.size a ≤ S2x8192x128.size a := fun i v0 v28 k0_hw2 k0_h1 k0_h4 => k0_hw2.2.2.2.2.2.2.2.2.2.1.2.2.2.2.2.2.2.2.2.2.2.2.2.2.2.2.2.2.2.2.2.2.2.2.2.2.2.2.2.2.2 k0_h1 k0_h4
theorem k0_off647_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off647 i) a + S1.size a ≤ S1024.size a := fun i v0 v28 k0_hw2 k0_h1 k0_h4 => k0_hw2.2.2.2.2.2.2.2.2.2.2.1.1 k0_h1 k0_h4
theorem k0_off649_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off649 i) a + S1x8x128.size a ≤ S2x8192x128.size a := fun i v0 v28 k0_hw2 k0_h1 k0_h4 => k0_hw2.2.2.2.2.2.2.2.2.2.2.1.2.1 k0_h1 k0_h4
theorem k0_off651_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off651 i) a + S1.size a ≤ S1024.size a := fun i v0 v28 k0_hw2 k0_h1 k0_h4 => k0_hw2.2.2.2.2.2.2.2.2.2.2.1.2.2.1 k0_h1 k0_h4
theorem k0_off653_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off653 i) a + S1x8x128.size a ≤ S2x8192x128.size a := fun i v0 v28 k0_hw2 k0_h1 k0_h4 => k0_hw2.2.2.2.2.2.2.2.2.2.2.1.2.2.2.1 k0_h1 k0_h4
theorem k0_off655_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off655 i) a + S1.size a ≤ S1024.size a := fun i v0 v28 k0_hw2 k0_h1 k0_h4 => k0_hw2.2.2.2.2.2.2.2.2.2.2.1.2.2.2.2.1 k0_h1 k0_h4
theorem k0_off657_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off657 i) a + S1x8x128.size a ≤ S2x8192x128.size a := fun i v0 v28 k0_hw2 k0_h1 k0_h4 => k0_hw2.2.2.2.2.2.2.2.2.2.2.1.2.2.2.2.2.1 k0_h1 k0_h4
theorem k0_off659_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off659 i) a + S1.size a ≤ S1024.size a := fun i v0 v28 k0_hw2 k0_h1 k0_h4 => k0_hw2.2.2.2.2.2.2.2.2.2.2.1.2.2.2.2.2.2.1 k0_h1 k0_h4
theorem k0_off661_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off661 i) a + S1x8x128.size a ≤ S2x8192x128.size a := fun i v0 v28 k0_hw2 k0_h1 k0_h4 => k0_hw2.2.2.2.2.2.2.2.2.2.2.1.2.2.2.2.2.2.2.1 k0_h1 k0_h4
theorem k0_off663_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off663 i) a + S1.size a ≤ S1024.size a := fun i v0 v28 k0_hw2 k0_h1 k0_h4 => k0_hw2.2.2.2.2.2.2.2.2.2.2.1.2.2.2.2.2.2.2.2.1 k0_h1 k0_h4
theorem k0_off665_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off665 i) a + S1x8x128.size a ≤ S2x8192x128.size a := fun i v0 v28 k0_hw2 k0_h1 k0_h4 => k0_hw2.2.2.2.2.2.2.2.2.2.2.1.2.2.2.2.2.2.2.2.2.1 k0_h1 k0_h4
theorem k0_off667_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off667 i) a + S1.size a ≤ S1024.size a := fun i v0 v28 k0_hw2 k0_h1 k0_h4 => k0_hw2.2.2.2.2.2.2.2.2.2.2.1.2.2.2.2.2.2.2.2.2.2.1 k0_h1 k0_h4
theorem k0_off669_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off669 i) a + S1x8x128.size a ≤ S2x8192x128.size a := fun i v0 v28 k0_hw2 k0_h1 k0_h4 => k0_hw2.2.2.2.2.2.2.2.2.2.2.1.2.2.2.2.2.2.2.2.2.2.2.1 k0_h1 k0_h4
theorem k0_off671_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off671 i) a + S1.size a ≤ S1024.size a := fun i v0 v28 k0_hw2 k0_h1 k0_h4 => k0_hw2.2.2.2.2.2.2.2.2.2.2.1.2.2.2.2.2.2.2.2.2.2.2.2.1 k0_h1 k0_h4
theorem k0_off673_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off673 i) a + S1x8x128.size a ≤ S2x8192x128.size a := fun i v0 v28 k0_hw2 k0_h1 k0_h4 => k0_hw2.2.2.2.2.2.2.2.2.2.2.1.2.2.2.2.2.2.2.2.2.2.2.2.2.1 k0_h1 k0_h4
theorem k0_off675_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off675 i) a + S1.size a ≤ S1024.size a := fun i v0 v28 k0_hw2 k0_h1 k0_h4 => k0_hw2.2.2.2.2.2.2.2.2.2.2.1.2.2.2.2.2.2.2.2.2.2.2.2.2.2.1 k0_h1 k0_h4
theorem k0_off677_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off677 i) a + S1x8x128.size a ≤ S2x8192x128.size a := fun i v0 v28 k0_hw2 k0_h1 k0_h4 => k0_hw2.2.2.2.2.2.2.2.2.2.2.1.2.2.2.2.2.2.2.2.2.2.2.2.2.2.2.1 k0_h1 k0_h4
theorem k0_off679_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off679 i) a + S1.size a ≤ S1024.size a := fun i v0 v28 k0_hw2 k0_h1 k0_h4 => k0_hw2.2.2.2.2.2.2.2.2.2.2.1.2.2.2.2.2.2.2.2.2.2.2.2.2.2.2.2.1 k0_h1 k0_h4
theorem k0_off681_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off681 i) a + S1x8x128.size a ≤ S2x8192x128.size a := fun i v0 v28 k0_hw2 k0_h1 k0_h4 => k0_hw2.2.2.2.2.2.2.2.2.2.2.1.2.2.2.2.2.2.2.2.2.2.2.2.2.2.2.2.2.1 k0_h1 k0_h4
theorem k0_off683_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off683 i) a + S1.size a ≤ S1024.size a := fun i v0 v28 k0_hw2 k0_h1 k0_h4 => k0_hw2.2.2.2.2.2.2.2.2.2.2.1.2.2.2.2.2.2.2.2.2.2.2.2.2.2.2.2.2.2.1 k0_h1 k0_h4
theorem k0_off685_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off685 i) a + S1x8x128.size a ≤ S2x8192x128.size a := fun i v0 v28 k0_hw2 k0_h1 k0_h4 => k0_hw2.2.2.2.2.2.2.2.2.2.2.1.2.2.2.2.2.2.2.2.2.2.2.2.2.2.2.2.2.2.2.1 k0_h1 k0_h4
theorem k0_off687_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off687 i) a + S1.size a ≤ S1024.size a := fun i v0 v28 k0_hw2 k0_h1 k0_h4 => k0_hw2.2.2.2.2.2.2.2.2.2.2.1.2.2.2.2.2.2.2.2.2.2.2.2.2.2.2.2.2.2.2.2.1 k0_h1 k0_h4
theorem k0_off689_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off689 i) a + S1x8x128.size a ≤ S2x8192x128.size a := fun i v0 v28 k0_hw2 k0_h1 k0_h4 => k0_hw2.2.2.2.2.2.2.2.2.2.2.1.2.2.2.2.2.2.2.2.2.2.2.2.2.2.2.2.2.2.2.2.2.1 k0_h1 k0_h4
theorem k0_off691_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off691 i) a + S1.size a ≤ S1024.size a := fun i v0 v28 k0_hw2 k0_h1 k0_h4 => k0_hw2.2.2.2.2.2.2.2.2.2.2.1.2.2.2.2.2.2.2.2.2.2.2.2.2.2.2.2.2.2.2.2.2.2.1 k0_h1 k0_h4
theorem k0_off693_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off693 i) a + S1x8x128.size a ≤ S2x8192x128.size a := fun i v0 v28 k0_hw2 k0_h1 k0_h4 => k0_hw2.2.2.2.2.2.2.2.2.2.2.1.2.2.2.2.2.2.2.2.2.2.2.2.2.2.2.2.2.2.2.2.2.2.2.1 k0_h1 k0_h4
theorem k0_off695_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off695 i) a + S1.size a ≤ S1024.size a := fun i v0 v28 k0_hw2 k0_h1 k0_h4 => k0_hw2.2.2.2.2.2.2.2.2.2.2.1.2.2.2.2.2.2.2.2.2.2.2.2.2.2.2.2.2.2.2.2.2.2.2.2.1 k0_h1 k0_h4
theorem k0_off697_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off697 i) a + S1x8x128.size a ≤ S2x8192x128.size a := fun i v0 v28 k0_hw2 k0_h1 k0_h4 => k0_hw2.2.2.2.2.2.2.2.2.2.2.1.2.2.2.2.2.2.2.2.2.2.2.2.2.2.2.2.2.2.2.2.2.2.2.2.2.1 k0_h1 k0_h4
theorem k0_off699_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off699 i) a + S1.size a ≤ S1024.size a := fun i v0 v28 k0_hw2 k0_h1 k0_h4 => k0_hw2.2.2.2.2.2.2.2.2.2.2.1.2.2.2.2.2.2.2.2.2.2.2.2.2.2.2.2.2.2.2.2.2.2.2.2.2.2.1 k0_h1 k0_h4
theorem k0_off701_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off701 i) a + S1x8x128.size a ≤ S2x8192x128.size a := fun i v0 v28 k0_hw2 k0_h1 k0_h4 => k0_hw2.2.2.2.2.2.2.2.2.2.2.1.2.2.2.2.2.2.2.2.2.2.2.2.2.2.2.2.2.2.2.2.2.2.2.2.2.2.2.1 k0_h1 k0_h4
theorem k0_off703_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off703 i) a + S1.size a ≤ S1024.size a := fun i v0 v28 k0_hw2 k0_h1 k0_h4 => k0_hw2.2.2.2.2.2.2.2.2.2.2.1.2.2.2.2.2.2.2.2.2.2.2.2.2.2.2.2.2.2.2.2.2.2.2.2.2.2.2.2.1 k0_h1 k0_h4
theorem k0_off705_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off705 i) a + S1x8x128.size a ≤ S2x8192x128.size a := fun i v0 v28 k0_hw2 k0_h1 k0_h4 => k0_hw2.2.2.2.2.2.2.2.2.2.2.1.2.2.2.2.2.2.2.2.2.2.2.2.2.2.2.2.2.2.2.2.2.2.2.2.2.2.2.2.2.1 k0_h1 k0_h4
theorem k0_off707_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off707 i) a + S1.size a ≤ S1024.size a := fun i v0 v28 k0_hw2 k0_h1 k0_h4 => k0_hw2.2.2.2.2.2.2.2.2.2.2.1.2.2.2.2.2.2.2.2.2.2.2.2.2.2.2.2.2.2.2.2.2.2.2.2.2.2.2.2.2.2.1 k0_h1 k0_h4
theorem k0_off709_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off709 i) a + S1x8x128.size a ≤ S2x8192x128.size a := fun i v0 v28 k0_hw2 k0_h1 k0_h4 => k0_hw2.2.2.2.2.2.2.2.2.2.2.1.2.2.2.2.2.2.2.2.2.2.2.2.2.2.2.2.2.2.2.2.2.2.2.2.2.2.2.2.2.2.2 k0_h1 k0_h4
theorem k0_off711_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off711 i) a + S1.size a ≤ S1024.size a := fun i v0 v28 k0_hw2 k0_h1 k0_h4 => k0_hw2.2.2.2.2.2.2.2.2.2.2.2.1.1 k0_h1 k0_h4
theorem k0_off713_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off713 i) a + S1x8x128.size a ≤ S2x8192x128.size a := fun i v0 v28 k0_hw2 k0_h1 k0_h4 => k0_hw2.2.2.2.2.2.2.2.2.2.2.2.1.2.1 k0_h1 k0_h4
theorem k0_off715_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off715 i) a + S1.size a ≤ S1024.size a := fun i v0 v28 k0_hw2 k0_h1 k0_h4 => k0_hw2.2.2.2.2.2.2.2.2.2.2.2.1.2.2.1 k0_h1 k0_h4
theorem k0_off717_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off717 i) a + S1x8x128.size a ≤ S2x8192x128.size a := fun i v0 v28 k0_hw2 k0_h1 k0_h4 => k0_hw2.2.2.2.2.2.2.2.2.2.2.2.1.2.2.2.1 k0_h1 k0_h4
theorem k0_off719_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off719 i) a + S1.size a ≤ S1024.size a := fun i v0 v28 k0_hw2 k0_h1 k0_h4 => k0_hw2.2.2.2.2.2.2.2.2.2.2.2.1.2.2.2.2.1 k0_h1 k0_h4
theorem k0_off721_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off721 i) a + S1x8x128.size a ≤ S2x8192x128.size a := fun i v0 v28 k0_hw2 k0_h1 k0_h4 => k0_hw2.2.2.2.2.2.2.2.2.2.2.2.1.2.2.2.2.2.1 k0_h1 k0_h4
theorem k0_off723_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off723 i) a + S1.size a ≤ S1024.size a := fun i v0 v28 k0_hw2 k0_h1 k0_h4 => k0_hw2.2.2.2.2.2.2.2.2.2.2.2.1.2.2.2.2.2.2.1 k0_h1 k0_h4
theorem k0_off725_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off725 i) a + S1x8x128.size a ≤ S2x8192x128.size a := fun i v0 v28 k0_hw2 k0_h1 k0_h4 => k0_hw2.2.2.2.2.2.2.2.2.2.2.2.1.2.2.2.2.2.2.2.1 k0_h1 k0_h4
theorem k0_off727_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off727 i) a + S1.size a ≤ S1024.size a := fun i v0 v28 k0_hw2 k0_h1 k0_h4 => k0_hw2.2.2.2.2.2.2.2.2.2.2.2.1.2.2.2.2.2.2.2.2.1 k0_h1 k0_h4
theorem k0_off729_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off729 i) a + S1x8x128.size a ≤ S2x8192x128.size a := fun i v0 v28 k0_hw2 k0_h1 k0_h4 => k0_hw2.2.2.2.2.2.2.2.2.2.2.2.1.2.2.2.2.2.2.2.2.2.1 k0_h1 k0_h4
theorem k0_off731_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off731 i) a + S1.size a ≤ S1024.size a := fun i v0 v28 k0_hw2 k0_h1 k0_h4 => k0_hw2.2.2.2.2.2.2.2.2.2.2.2.1.2.2.2.2.2.2.2.2.2.2.1 k0_h1 k0_h4
theorem k0_off733_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off733 i) a + S1x8x128.size a ≤ S2x8192x128.size a := fun i v0 v28 k0_hw2 k0_h1 k0_h4 => k0_hw2.2.2.2.2.2.2.2.2.2.2.2.1.2.2.2.2.2.2.2.2.2.2.2.1 k0_h1 k0_h4
theorem k0_off735_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off735 i) a + S1.size a ≤ S1024.size a := fun i v0 v28 k0_hw2 k0_h1 k0_h4 => k0_hw2.2.2.2.2.2.2.2.2.2.2.2.1.2.2.2.2.2.2.2.2.2.2.2.2.1 k0_h1 k0_h4
theorem k0_off737_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off737 i) a + S1x8x128.size a ≤ S2x8192x128.size a := fun i v0 v28 k0_hw2 k0_h1 k0_h4 => k0_hw2.2.2.2.2.2.2.2.2.2.2.2.1.2.2.2.2.2.2.2.2.2.2.2.2.2.1 k0_h1 k0_h4
theorem k0_off739_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off739 i) a + S1.size a ≤ S1024.size a := fun i v0 v28 k0_hw2 k0_h1 k0_h4 => k0_hw2.2.2.2.2.2.2.2.2.2.2.2.1.2.2.2.2.2.2.2.2.2.2.2.2.2.2.1 k0_h1 k0_h4
theorem k0_off741_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off741 i) a + S1x8x128.size a ≤ S2x8192x128.size a := fun i v0 v28 k0_hw2 k0_h1 k0_h4 => k0_hw2.2.2.2.2.2.2.2.2.2.2.2.1.2.2.2.2.2.2.2.2.2.2.2.2.2.2.2.1 k0_h1 k0_h4
theorem k0_off743_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off743 i) a + S1.size a ≤ S1024.size a := fun i v0 v28 k0_hw2 k0_h1 k0_h4 => k0_hw2.2.2.2.2.2.2.2.2.2.2.2.1.2.2.2.2.2.2.2.2.2.2.2.2.2.2.2.2.1 k0_h1 k0_h4
theorem k0_off745_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off745 i) a + S1x8x128.size a ≤ S2x8192x128.size a := fun i v0 v28 k0_hw2 k0_h1 k0_h4 => k0_hw2.2.2.2.2.2.2.2.2.2.2.2.1.2.2.2.2.2.2.2.2.2.2.2.2.2.2.2.2.2.1 k0_h1 k0_h4
theorem k0_off747_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off747 i) a + S1.size a ≤ S1024.size a := fun i v0 v28 k0_hw2 k0_h1 k0_h4 => k0_hw2.2.2.2.2.2.2.2.2.2.2.2.1.2.2.2.2.2.2.2.2.2.2.2.2.2.2.2.2.2.2.1 k0_h1 k0_h4
theorem k0_off749_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off749 i) a + S1x8x128.size a ≤ S2x8192x128.size a := fun i v0 v28 k0_hw2 k0_h1 k0_h4 => k0_hw2.2.2.2.2.2.2.2.2.2.2.2.1.2.2.2.2.2.2.2.2.2.2.2.2.2.2.2.2.2.2.2.1 k0_h1 k0_h4
theorem k0_off751_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off751 i) a + S1.size a ≤ S1024.size a := fun i v0 v28 k0_hw2 k0_h1 k0_h4 => k0_hw2.2.2.2.2.2.2.2.2.2.2.2.1.2.2.2.2.2.2.2.2.2.2.2.2.2.2.2.2.2.2.2.2.1 k0_h1 k0_h4
theorem k0_off753_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off753 i) a + S1x8x128.size a ≤ S2x8192x128.size a := fun i v0 v28 k0_hw2 k0_h1 k0_h4 => k0_hw2.2.2.2.2.2.2.2.2.2.2.2.1.2.2.2.2.2.2.2.2.2.2.2.2.2.2.2.2.2.2.2.2.2.1 k0_h1 k0_h4
theorem k0_off755_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off755 i) a + S1.size a ≤ S1024.size a := fun i v0 v28 k0_hw2 k0_h1 k0_h4 => k0_hw2.2.2.2.2.2.2.2.2.2.2.2.1.2.2.2.2.2.2.2.2.2.2.2.2.2.2.2.2.2.2.2.2.2.2.1 k0_h1 k0_h4
theorem k0_off757_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off757 i) a + S1x8x128.size a ≤ S2x8192x128.size a := fun i v0 v28 k0_hw2 k0_h1 k0_h4 => k0_hw2.2.2.2.2.2.2.2.2.2.2.2.1.2.2.2.2.2.2.2.2.2.2.2.2.2.2.2.2.2.2.2.2.2.2.2.1 k0_h1 k0_h4
theorem k0_off759_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off759 i) a + S1.size a ≤ S1024.size a := fun i v0 v28 k0_hw2 k0_h1 k0_h4 => k0_hw2.2.2.2.2.2.2.2.2.2.2.2.1.2.2.2.2.2.2.2.2.2.2.2.2.2.2.2.2.2.2.2.2.2.2.2.2.1 k0_h1 k0_h4
theorem k0_off761_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off761 i) a + S1x8x128.size a ≤ S2x8192x128.size a := fun i v0 v28 k0_hw2 k0_h1 k0_h4 => k0_hw2.2.2.2.2.2.2.2.2.2.2.2.1.2.2.2.2.2.2.2.2.2.2.2.2.2.2.2.2.2.2.2.2.2.2.2.2.2.1 k0_h1 k0_h4
theorem k0_off763_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off763 i) a + S1.size a ≤ S1024.size a := fun i v0 v28 k0_hw2 k0_h1 k0_h4 => k0_hw2.2.2.2.2.2.2.2.2.2.2.2.1.2.2.2.2.2.2.2.2.2.2.2.2.2.2.2.2.2.2.2.2.2.2.2.2.2.2.1 k0_h1 k0_h4
theorem k0_off765_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off765 i) a + S1x8x128.size a ≤ S2x8192x128.size a := fun i v0 v28 k0_hw2 k0_h1 k0_h4 => k0_hw2.2.2.2.2.2.2.2.2.2.2.2.1.2.2.2.2.2.2.2.2.2.2.2.2.2.2.2.2.2.2.2.2.2.2.2.2.2.2.2.1 k0_h1 k0_h4
theorem k0_off767_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off767 i) a + S1.size a ≤ S1024.size a := fun i v0 v28 k0_hw2 k0_h1 k0_h4 => k0_hw2.2.2.2.2.2.2.2.2.2.2.2.1.2.2.2.2.2.2.2.2.2.2.2.2.2.2.2.2.2.2.2.2.2.2.2.2.2.2.2.2.1 k0_h1 k0_h4
theorem k0_off769_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off769 i) a + S1x8x128.size a ≤ S2x8192x128.size a := fun i v0 v28 k0_hw2 k0_h1 k0_h4 => k0_hw2.2.2.2.2.2.2.2.2.2.2.2.1.2.2.2.2.2.2.2.2.2.2.2.2.2.2.2.2.2.2.2.2.2.2.2.2.2.2.2.2.2.1 k0_h1 k0_h4
theorem k0_off771_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off771 i) a + S1.size a ≤ S1024.size a := fun i v0 v28 k0_hw2 k0_h1 k0_h4 => k0_hw2.2.2.2.2.2.2.2.2.2.2.2.1.2.2.2.2.2.2.2.2.2.2.2.2.2.2.2.2.2.2.2.2.2.2.2.2.2.2.2.2.2.2.1 k0_h1 k0_h4
theorem k0_off773_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off773 i) a + S1x8x128.size a ≤ S2x8192x128.size a := fun i v0 v28 k0_hw2 k0_h1 k0_h4 => k0_hw2.2.2.2.2.2.2.2.2.2.2.2.1.2.2.2.2.2.2.2.2.2.2.2.2.2.2.2.2.2.2.2.2.2.2.2.2.2.2.2.2.2.2.2 k0_h1 k0_h4
theorem k0_off775_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off775 i) a + S1.size a ≤ S1024.size a := fun i v0 v28 k0_hw2 k0_h1 k0_h4 => k0_hw2.2.2.2.2.2.2.2.2.2.2.2.2.1.1 k0_h1 k0_h4
theorem k0_off777_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off777 i) a + S1x8x128.size a ≤ S2x8192x128.size a := fun i v0 v28 k0_hw2 k0_h1 k0_h4 => k0_hw2.2.2.2.2.2.2.2.2.2.2.2.2.1.2.1 k0_h1 k0_h4
theorem k0_off779_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off779 i) a + S1.size a ≤ S1024.size a := fun i v0 v28 k0_hw2 k0_h1 k0_h4 => k0_hw2.2.2.2.2.2.2.2.2.2.2.2.2.1.2.2.1 k0_h1 k0_h4
theorem k0_off781_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off781 i) a + S1x8x128.size a ≤ S2x8192x128.size a := fun i v0 v28 k0_hw2 k0_h1 k0_h4 => k0_hw2.2.2.2.2.2.2.2.2.2.2.2.2.1.2.2.2.1 k0_h1 k0_h4
theorem k0_off783_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off783 i) a + S1.size a ≤ S1024.size a := fun i v0 v28 k0_hw2 k0_h1 k0_h4 => k0_hw2.2.2.2.2.2.2.2.2.2.2.2.2.1.2.2.2.2.1 k0_h1 k0_h4
theorem k0_off785_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off785 i) a + S1x8x128.size a ≤ S2x8192x128.size a := fun i v0 v28 k0_hw2 k0_h1 k0_h4 => k0_hw2.2.2.2.2.2.2.2.2.2.2.2.2.1.2.2.2.2.2.1 k0_h1 k0_h4
theorem k0_off787_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off787 i) a + S1.size a ≤ S1024.size a := fun i v0 v28 k0_hw2 k0_h1 k0_h4 => k0_hw2.2.2.2.2.2.2.2.2.2.2.2.2.1.2.2.2.2.2.2.1 k0_h1 k0_h4
theorem k0_off789_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off789 i) a + S1x8x128.size a ≤ S2x8192x128.size a := fun i v0 v28 k0_hw2 k0_h1 k0_h4 => k0_hw2.2.2.2.2.2.2.2.2.2.2.2.2.1.2.2.2.2.2.2.2.1 k0_h1 k0_h4
theorem k0_off791_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off791 i) a + S1.size a ≤ S1024.size a := fun i v0 v28 k0_hw2 k0_h1 k0_h4 => k0_hw2.2.2.2.2.2.2.2.2.2.2.2.2.1.2.2.2.2.2.2.2.2.1 k0_h1 k0_h4
theorem k0_off793_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off793 i) a + S1x8x128.size a ≤ S2x8192x128.size a := fun i v0 v28 k0_hw2 k0_h1 k0_h4 => k0_hw2.2.2.2.2.2.2.2.2.2.2.2.2.1.2.2.2.2.2.2.2.2.2.1 k0_h1 k0_h4
theorem k0_off795_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off795 i) a + S1.size a ≤ S1024.size a := fun i v0 v28 k0_hw2 k0_h1 k0_h4 => k0_hw2.2.2.2.2.2.2.2.2.2.2.2.2.1.2.2.2.2.2.2.2.2.2.2.1 k0_h1 k0_h4
theorem k0_off797_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off797 i) a + S1x8x128.size a ≤ S2x8192x128.size a := fun i v0 v28 k0_hw2 k0_h1 k0_h4 => k0_hw2.2.2.2.2.2.2.2.2.2.2.2.2.1.2.2.2.2.2.2.2.2.2.2.2.1 k0_h1 k0_h4
theorem k0_off799_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off799 i) a + S1.size a ≤ S1024.size a := fun i v0 v28 k0_hw2 k0_h1 k0_h4 => k0_hw2.2.2.2.2.2.2.2.2.2.2.2.2.1.2.2.2.2.2.2.2.2.2.2.2.2.1 k0_h1 k0_h4
theorem k0_off801_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off801 i) a + S1x8x128.size a ≤ S2x8192x128.size a := fun i v0 v28 k0_hw2 k0_h1 k0_h4 => k0_hw2.2.2.2.2.2.2.2.2.2.2.2.2.1.2.2.2.2.2.2.2.2.2.2.2.2.2.1 k0_h1 k0_h4
theorem k0_off803_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off803 i) a + S1.size a ≤ S1024.size a := fun i v0 v28 k0_hw2 k0_h1 k0_h4 => k0_hw2.2.2.2.2.2.2.2.2.2.2.2.2.1.2.2.2.2.2.2.2.2.2.2.2.2.2.2.1 k0_h1 k0_h4
theorem k0_off805_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off805 i) a + S1x8x128.size a ≤ S2x8192x128.size a := fun i v0 v28 k0_hw2 k0_h1 k0_h4 => k0_hw2.2.2.2.2.2.2.2.2.2.2.2.2.1.2.2.2.2.2.2.2.2.2.2.2.2.2.2.2.1 k0_h1 k0_h4
theorem k0_off807_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off807 i) a + S1.size a ≤ S1024.size a := fun i v0 v28 k0_hw2 k0_h1 k0_h4 => k0_hw2.2.2.2.2.2.2.2.2.2.2.2.2.1.2.2.2.2.2.2.2.2.2.2.2.2.2.2.2.2.1 k0_h1 k0_h4
theorem k0_off809_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off809 i) a + S1x8x128.size a ≤ S2x8192x128.size a := fun i v0 v28 k0_hw2 k0_h1 k0_h4 => k0_hw2.2.2.2.2.2.2.2.2.2.2.2.2.1.2.2.2.2.2.2.2.2.2.2.2.2.2.2.2.2.2.1 k0_h1 k0_h4
theorem k0_off811_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off811 i) a + S1.size a ≤ S1024.size a := fun i v0 v28 k0_hw2 k0_h1 k0_h4 => k0_hw2.2.2.2.2.2.2.2.2.2.2.2.2.1.2.2.2.2.2.2.2.2.2.2.2.2.2.2.2.2.2.2.1 k0_h1 k0_h4
theorem k0_off813_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off813 i) a + S1x8x128.size a ≤ S2x8192x128.size a := fun i v0 v28 k0_hw2 k0_h1 k0_h4 => k0_hw2.2.2.2.2.2.2.2.2.2.2.2.2.1.2.2.2.2.2.2.2.2.2.2.2.2.2.2.2.2.2.2.2.1 k0_h1 k0_h4
theorem k0_off815_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off815 i) a + S1.size a ≤ S1024.size a := fun i v0 v28 k0_hw2 k0_h1 k0_h4 => k0_hw2.2.2.2.2.2.2.2.2.2.2.2.2.1.2.2.2.2.2.2.2.2.2.2.2.2.2.2.2.2.2.2.2.2.1 k0_h1 k0_h4
theorem k0_off817_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off817 i) a + S1x8x128.size a ≤ S2x8192x128.size a := fun i v0 v28 k0_hw2 k0_h1 k0_h4 => k0_hw2.2.2.2.2.2.2.2.2.2.2.2.2.1.2.2.2.2.2.2.2.2.2.2.2.2.2.2.2.2.2.2.2.2.2.1 k0_h1 k0_h4
theorem k0_off819_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off819 i) a + S1.size a ≤ S1024.size a := fun i v0 v28 k0_hw2 k0_h1 k0_h4 => k0_hw2.2.2.2.2.2.2.2.2.2.2.2.2.1.2.2.2.2.2.2.2.2.2.2.2.2.2.2.2.2.2.2.2.2.2.2.1 k0_h1 k0_h4
theorem k0_off821_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off821 i) a + S1x8x128.size a ≤ S2x8192x128.size a := fun i v0 v28 k0_hw2 k0_h1 k0_h4 => k0_hw2.2.2.2.2.2.2.2.2.2.2.2.2.1.2.2.2.2.2.2.2.2.2.2.2.2.2.2.2.2.2.2.2.2.2.2.2.1 k0_h1 k0_h4
theorem k0_off823_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off823 i) a + S1.size a ≤ S1024.size a := fun i v0 v28 k0_hw2 k0_h1 k0_h4 => k0_hw2.2.2.2.2.2.2.2.2.2.2.2.2.1.2.2.2.2.2.2.2.2.2.2.2.2.2.2.2.2.2.2.2.2.2.2.2.2.1 k0_h1 k0_h4
theorem k0_off825_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off825 i) a + S1x8x128.size a ≤ S2x8192x128.size a := fun i v0 v28 k0_hw2 k0_h1 k0_h4 => k0_hw2.2.2.2.2.2.2.2.2.2.2.2.2.1.2.2.2.2.2.2.2.2.2.2.2.2.2.2.2.2.2.2.2.2.2.2.2.2.2.1 k0_h1 k0_h4
theorem k0_off827_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off827 i) a + S1.size a ≤ S1024.size a := fun i v0 v28 k0_hw2 k0_h1 k0_h4 => k0_hw2.2.2.2.2.2.2.2.2.2.2.2.2.1.2.2.2.2.2.2.2.2.2.2.2.2.2.2.2.2.2.2.2.2.2.2.2.2.2.2.1 k0_h1 k0_h4
theorem k0_off829_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off829 i) a + S1x8x128.size a ≤ S2x8192x128.size a := fun i v0 v28 k0_hw2 k0_h1 k0_h4 => k0_hw2.2.2.2.2.2.2.2.2.2.2.2.2.1.2.2.2.2.2.2.2.2.2.2.2.2.2.2.2.2.2.2.2.2.2.2.2.2.2.2.2.1 k0_h1 k0_h4
theorem k0_off831_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off831 i) a + S1.size a ≤ S1024.size a := fun i v0 v28 k0_hw2 k0_h1 k0_h4 => k0_hw2.2.2.2.2.2.2.2.2.2.2.2.2.1.2.2.2.2.2.2.2.2.2.2.2.2.2.2.2.2.2.2.2.2.2.2.2.2.2.2.2.2.1 k0_h1 k0_h4
theorem k0_off833_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off833 i) a + S1x8x128.size a ≤ S2x8192x128.size a := fun i v0 v28 k0_hw2 k0_h1 k0_h4 => k0_hw2.2.2.2.2.2.2.2.2.2.2.2.2.1.2.2.2.2.2.2.2.2.2.2.2.2.2.2.2.2.2.2.2.2.2.2.2.2.2.2.2.2.2.1 k0_h1 k0_h4
theorem k0_off835_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off835 i) a + S1.size a ≤ S1024.size a := fun i v0 v28 k0_hw2 k0_h1 k0_h4 => k0_hw2.2.2.2.2.2.2.2.2.2.2.2.2.1.2.2.2.2.2.2.2.2.2.2.2.2.2.2.2.2.2.2.2.2.2.2.2.2.2.2.2.2.2.2.1 k0_h1 k0_h4
theorem k0_off837_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off837 i) a + S1x8x128.size a ≤ S2x8192x128.size a := fun i v0 v28 k0_hw2 k0_h1 k0_h4 => k0_hw2.2.2.2.2.2.2.2.2.2.2.2.2.1.2.2.2.2.2.2.2.2.2.2.2.2.2.2.2.2.2.2.2.2.2.2.2.2.2.2.2.2.2.2.2 k0_h1 k0_h4
theorem k0_off839_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off839 i) a + S1.size a ≤ S1024.size a := fun i v0 v28 k0_hw2 k0_h1 k0_h4 => k0_hw2.2.2.2.2.2.2.2.2.2.2.2.2.2.1.1 k0_h1 k0_h4
theorem k0_off841_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off841 i) a + S1x8x128.size a ≤ S2x8192x128.size a := fun i v0 v28 k0_hw2 k0_h1 k0_h4 => k0_hw2.2.2.2.2.2.2.2.2.2.2.2.2.2.1.2.1 k0_h1 k0_h4
theorem k0_off843_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off843 i) a + S1.size a ≤ S1024.size a := fun i v0 v28 k0_hw2 k0_h1 k0_h4 => k0_hw2.2.2.2.2.2.2.2.2.2.2.2.2.2.1.2.2.1 k0_h1 k0_h4
theorem k0_off845_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off845 i) a + S1x8x128.size a ≤ S2x8192x128.size a := fun i v0 v28 k0_hw2 k0_h1 k0_h4 => k0_hw2.2.2.2.2.2.2.2.2.2.2.2.2.2.1.2.2.2.1 k0_h1 k0_h4
theorem k0_off847_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off847 i) a + S1.size a ≤ S1024.size a := fun i v0 v28 k0_hw2 k0_h1 k0_h4 => k0_hw2.2.2.2.2.2.2.2.2.2.2.2.2.2.1.2.2.2.2.1 k0_h1 k0_h4
theorem k0_off849_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off849 i) a + S1x8x128.size a ≤ S2x8192x128.size a := fun i v0 v28 k0_hw2 k0_h1 k0_h4 => k0_hw2.2.2.2.2.2.2.2.2.2.2.2.2.2.1.2.2.2.2.2.1 k0_h1 k0_h4
theorem k0_off851_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off851 i) a + S1.size a ≤ S1024.size a := fun i v0 v28 k0_hw2 k0_h1 k0_h4 => k0_hw2.2.2.2.2.2.2.2.2.2.2.2.2.2.1.2.2.2.2.2.2.1 k0_h1 k0_h4
theorem k0_off853_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off853 i) a + S1x8x128.size a ≤ S2x8192x128.size a := fun i v0 v28 k0_hw2 k0_h1 k0_h4 => k0_hw2.2.2.2.2.2.2.2.2.2.2.2.2.2.1.2.2.2.2.2.2.2.1 k0_h1 k0_h4
theorem k0_off855_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off855 i) a + S1.size a ≤ S1024.size a := fun i v0 v28 k0_hw2 k0_h1 k0_h4 => k0_hw2.2.2.2.2.2.2.2.2.2.2.2.2.2.1.2.2.2.2.2.2.2.2.1 k0_h1 k0_h4
theorem k0_off857_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off857 i) a + S1x8x128.size a ≤ S2x8192x128.size a := fun i v0 v28 k0_hw2 k0_h1 k0_h4 => k0_hw2.2.2.2.2.2.2.2.2.2.2.2.2.2.1.2.2.2.2.2.2.2.2.2.1 k0_h1 k0_h4
theorem k0_off859_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off859 i) a + S1.size a ≤ S1024.size a := fun i v0 v28 k0_hw2 k0_h1 k0_h4 => k0_hw2.2.2.2.2.2.2.2.2.2.2.2.2.2.1.2.2.2.2.2.2.2.2.2.2.1 k0_h1 k0_h4
theorem k0_off861_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off861 i) a + S1x8x128.size a ≤ S2x8192x128.size a := fun i v0 v28 k0_hw2 k0_h1 k0_h4 => k0_hw2.2.2.2.2.2.2.2.2.2.2.2.2.2.1.2.2.2.2.2.2.2.2.2.2.2.1 k0_h1 k0_h4
theorem k0_off863_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off863 i) a + S1.size a ≤ S1024.size a := fun i v0 v28 k0_hw2 k0_h1 k0_h4 => k0_hw2.2.2.2.2.2.2.2.2.2.2.2.2.2.1.2.2.2.2.2.2.2.2.2.2.2.2.1 k0_h1 k0_h4
theorem k0_off865_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off865 i) a + S1x8x128.size a ≤ S2x8192x128.size a := fun i v0 v28 k0_hw2 k0_h1 k0_h4 => k0_hw2.2.2.2.2.2.2.2.2.2.2.2.2.2.1.2.2.2.2.2.2.2.2.2.2.2.2.2.1 k0_h1 k0_h4
theorem k0_off867_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off867 i) a + S1.size a ≤ S1024.size a := fun i v0 v28 k0_hw2 k0_h1 k0_h4 => k0_hw2.2.2.2.2.2.2.2.2.2.2.2.2.2.1.2.2.2.2.2.2.2.2.2.2.2.2.2.2.1 k0_h1 k0_h4
theorem k0_off869_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off869 i) a + S1x8x128.size a ≤ S2x8192x128.size a := fun i v0 v28 k0_hw2 k0_h1 k0_h4 => k0_hw2.2.2.2.2.2.2.2.2.2.2.2.2.2.1.2.2.2.2.2.2.2.2.2.2.2.2.2.2.2.1 k0_h1 k0_h4
theorem k0_off871_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off871 i) a + S1.size a ≤ S1024.size a := fun i v0 v28 k0_hw2 k0_h1 k0_h4 => k0_hw2.2.2.2.2.2.2.2.2.2.2.2.2.2.1.2.2.2.2.2.2.2.2.2.2.2.2.2.2.2.2.1 k0_h1 k0_h4
theorem k0_off873_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off873 i) a + S1x8x128.size a ≤ S2x8192x128.size a := fun i v0 v28 k0_hw2 k0_h1 k0_h4 => k0_hw2.2.2.2.2.2.2.2.2.2.2.2.2.2.1.2.2.2.2.2.2.2.2.2.2.2.2.2.2.2.2.2.1 k0_h1 k0_h4
theorem k0_off875_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off875 i) a + S1.size a ≤ S1024.size a := fun i v0 v28 k0_hw2 k0_h1 k0_h4 => k0_hw2.2.2.2.2.2.2.2.2.2.2.2.2.2.1.2.2.2.2.2.2.2.2.2.2.2.2.2.2.2.2.2.2.1 k0_h1 k0_h4
theorem k0_off877_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off877 i) a + S1x8x128.size a ≤ S2x8192x128.size a := fun i v0 v28 k0_hw2 k0_h1 k0_h4 => k0_hw2.2.2.2.2.2.2.2.2.2.2.2.2.2.1.2.2.2.2.2.2.2.2.2.2.2.2.2.2.2.2.2.2.2.1 k0_h1 k0_h4
theorem k0_off879_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off879 i) a + S1.size a ≤ S1024.size a := fun i v0 v28 k0_hw2 k0_h1 k0_h4 => k0_hw2.2.2.2.2.2.2.2.2.2.2.2.2.2.1.2.2.2.2.2.2.2.2.2.2.2.2.2.2.2.2.2.2.2.2.1 k0_h1 k0_h4
theorem k0_off881_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off881 i) a + S1x8x128.size a ≤ S2x8192x128.size a := fun i v0 v28 k0_hw2 k0_h1 k0_h4 => k0_hw2.2.2.2.2.2.2.2.2.2.2.2.2.2.1.2.2.2.2.2.2.2.2.2.2.2.2.2.2.2.2.2.2.2.2.2.1 k0_h1 k0_h4
theorem k0_off883_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off883 i) a + S1.size a ≤ S1024.size a := fun i v0 v28 k0_hw2 k0_h1 k0_h4 => k0_hw2.2.2.2.2.2.2.2.2.2.2.2.2.2.1.2.2.2.2.2.2.2.2.2.2.2.2.2.2.2.2.2.2.2.2.2.2.1 k0_h1 k0_h4
theorem k0_off885_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off885 i) a + S1x8x128.size a ≤ S2x8192x128.size a := fun i v0 v28 k0_hw2 k0_h1 k0_h4 => k0_hw2.2.2.2.2.2.2.2.2.2.2.2.2.2.1.2.2.2.2.2.2.2.2.2.2.2.2.2.2.2.2.2.2.2.2.2.2.2.1 k0_h1 k0_h4
theorem k0_off887_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off887 i) a + S1.size a ≤ S1024.size a := fun i v0 v28 k0_hw2 k0_h1 k0_h4 => k0_hw2.2.2.2.2.2.2.2.2.2.2.2.2.2.1.2.2.2.2.2.2.2.2.2.2.2.2.2.2.2.2.2.2.2.2.2.2.2.2.1 k0_h1 k0_h4
theorem k0_off889_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off889 i) a + S1x8x128.size a ≤ S2x8192x128.size a := fun i v0 v28 k0_hw2 k0_h1 k0_h4 => k0_hw2.2.2.2.2.2.2.2.2.2.2.2.2.2.1.2.2.2.2.2.2.2.2.2.2.2.2.2.2.2.2.2.2.2.2.2.2.2.2.2.1 k0_h1 k0_h4
theorem k0_off891_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off891 i) a + S1.size a ≤ S1024.size a := fun i v0 v28 k0_hw2 k0_h1 k0_h4 => k0_hw2.2.2.2.2.2.2.2.2.2.2.2.2.2.1.2.2.2.2.2.2.2.2.2.2.2.2.2.2.2.2.2.2.2.2.2.2.2.2.2.2.1 k0_h1 k0_h4
theorem k0_off893_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off893 i) a + S1x8x128.size a ≤ S2x8192x128.size a := fun i v0 v28 k0_hw2 k0_h1 k0_h4 => k0_hw2.2.2.2.2.2.2.2.2.2.2.2.2.2.1.2.2.2.2.2.2.2.2.2.2.2.2.2.2.2.2.2.2.2.2.2.2.2.2.2.2.2.1 k0_h1 k0_h4
theorem k0_off895_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off895 i) a + S1.size a ≤ S1024.size a := fun i v0 v28 k0_hw2 k0_h1 k0_h4 => k0_hw2.2.2.2.2.2.2.2.2.2.2.2.2.2.1.2.2.2.2.2.2.2.2.2.2.2.2.2.2.2.2.2.2.2.2.2.2.2.2.2.2.2.2.1 k0_h1 k0_h4
theorem k0_off897_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off897 i) a + S1x8x128.size a ≤ S2x8192x128.size a := fun i v0 v28 k0_hw2 k0_h1 k0_h4 => k0_hw2.2.2.2.2.2.2.2.2.2.2.2.2.2.1.2.2.2.2.2.2.2.2.2.2.2.2.2.2.2.2.2.2.2.2.2.2.2.2.2.2.2.2.2.1 k0_h1 k0_h4
theorem k0_off899_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off899 i) a + S1.size a ≤ S1024.size a := fun i v0 v28 k0_hw2 k0_h1 k0_h4 => k0_hw2.2.2.2.2.2.2.2.2.2.2.2.2.2.1.2.2.2.2.2.2.2.2.2.2.2.2.2.2.2.2.2.2.2.2.2.2.2.2.2.2.2.2.2.2.1 k0_h1 k0_h4
theorem k0_off901_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off901 i) a + S1x8x128.size a ≤ S2x8192x128.size a := fun i v0 v28 k0_hw2 k0_h1 k0_h4 => k0_hw2.2.2.2.2.2.2.2.2.2.2.2.2.2.1.2.2.2.2.2.2.2.2.2.2.2.2.2.2.2.2.2.2.2.2.2.2.2.2.2.2.2.2.2.2.2 k0_h1 k0_h4
theorem k0_off903_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off903 i) a + S1.size a ≤ S1024.size a := fun i v0 v28 k0_hw2 k0_h1 k0_h4 => k0_hw2.2.2.2.2.2.2.2.2.2.2.2.2.2.2.1.1 k0_h1 k0_h4
theorem k0_off905_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off905 i) a + S1x8x128.size a ≤ S2x8192x128.size a := fun i v0 v28 k0_hw2 k0_h1 k0_h4 => k0_hw2.2.2.2.2.2.2.2.2.2.2.2.2.2.2.1.2.1 k0_h1 k0_h4
theorem k0_off907_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off907 i) a + S1.size a ≤ S1024.size a := fun i v0 v28 k0_hw2 k0_h1 k0_h4 => k0_hw2.2.2.2.2.2.2.2.2.2.2.2.2.2.2.1.2.2.1 k0_h1 k0_h4
theorem k0_off909_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off909 i) a + S1x8x128.size a ≤ S2x8192x128.size a := fun i v0 v28 k0_hw2 k0_h1 k0_h4 => k0_hw2.2.2.2.2.2.2.2.2.2.2.2.2.2.2.1.2.2.2.1 k0_h1 k0_h4
theorem k0_off911_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off911 i) a + S1.size a ≤ S1024.size a := fun i v0 v28 k0_hw2 k0_h1 k0_h4 => k0_hw2.2.2.2.2.2.2.2.2.2.2.2.2.2.2.1.2.2.2.2.1 k0_h1 k0_h4
theorem k0_off913_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off913 i) a + S1x8x128.size a ≤ S2x8192x128.size a := fun i v0 v28 k0_hw2 k0_h1 k0_h4 => k0_hw2.2.2.2.2.2.2.2.2.2.2.2.2.2.2.1.2.2.2.2.2.1 k0_h1 k0_h4
theorem k0_off915_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off915 i) a + S1.size a ≤ S1024.size a := fun i v0 v28 k0_hw2 k0_h1 k0_h4 => k0_hw2.2.2.2.2.2.2.2.2.2.2.2.2.2.2.1.2.2.2.2.2.2.1 k0_h1 k0_h4
theorem k0_off917_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off917 i) a + S1x8x128.size a ≤ S2x8192x128.size a := fun i v0 v28 k0_hw2 k0_h1 k0_h4 => k0_hw2.2.2.2.2.2.2.2.2.2.2.2.2.2.2.1.2.2.2.2.2.2.2.1 k0_h1 k0_h4
theorem k0_off919_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off919 i) a + S1.size a ≤ S1024.size a := fun i v0 v28 k0_hw2 k0_h1 k0_h4 => k0_hw2.2.2.2.2.2.2.2.2.2.2.2.2.2.2.1.2.2.2.2.2.2.2.2.1 k0_h1 k0_h4
theorem k0_off921_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off921 i) a + S1x8x128.size a ≤ S2x8192x128.size a := fun i v0 v28 k0_hw2 k0_h1 k0_h4 => k0_hw2.2.2.2.2.2.2.2.2.2.2.2.2.2.2.1.2.2.2.2.2.2.2.2.2.1 k0_h1 k0_h4
theorem k0_off923_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off923 i) a + S1.size a ≤ S1024.size a := fun i v0 v28 k0_hw2 k0_h1 k0_h4 => k0_hw2.2.2.2.2.2.2.2.2.2.2.2.2.2.2.1.2.2.2.2.2.2.2.2.2.2.1 k0_h1 k0_h4
theorem k0_off925_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off925 i) a + S1x8x128.size a ≤ S2x8192x128.size a := fun i v0 v28 k0_hw2 k0_h1 k0_h4 => k0_hw2.2.2.2.2.2.2.2.2.2.2.2.2.2.2.1.2.2.2.2.2.2.2.2.2.2.2.1 k0_h1 k0_h4
theorem k0_off927_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off927 i) a + S1.size a ≤ S1024.size a := fun i v0 v28 k0_hw2 k0_h1 k0_h4 => k0_hw2.2.2.2.2.2.2.2.2.2.2.2.2.2.2.1.2.2.2.2.2.2.2.2.2.2.2.2.1 k0_h1 k0_h4
theorem k0_off929_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off929 i) a + S1x8x128.size a ≤ S2x8192x128.size a := fun i v0 v28 k0_hw2 k0_h1 k0_h4 => k0_hw2.2.2.2.2.2.2.2.2.2.2.2.2.2.2.1.2.2.2.2.2.2.2.2.2.2.2.2.2.1 k0_h1 k0_h4
theorem k0_off931_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off931 i) a + S1.size a ≤ S1024.size a := fun i v0 v28 k0_hw2 k0_h1 k0_h4 => k0_hw2.2.2.2.2.2.2.2.2.2.2.2.2.2.2.1.2.2.2.2.2.2.2.2.2.2.2.2.2.2.1 k0_h1 k0_h4
theorem k0_off933_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off933 i) a + S1x8x128.size a ≤ S2x8192x128.size a := fun i v0 v28 k0_hw2 k0_h1 k0_h4 => k0_hw2.2.2.2.2.2.2.2.2.2.2.2.2.2.2.1.2.2.2.2.2.2.2.2.2.2.2.2.2.2.2.1 k0_h1 k0_h4
theorem k0_off935_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off935 i) a + S1.size a ≤ S1024.size a := fun i v0 v28 k0_hw2 k0_h1 k0_h4 => k0_hw2.2.2.2.2.2.2.2.2.2.2.2.2.2.2.1.2.2.2.2.2.2.2.2.2.2.2.2.2.2.2.2.1 k0_h1 k0_h4
theorem k0_off937_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off937 i) a + S1x8x128.size a ≤ S2x8192x128.size a := fun i v0 v28 k0_hw2 k0_h1 k0_h4 => k0_hw2.2.2.2.2.2.2.2.2.2.2.2.2.2.2.1.2.2.2.2.2.2.2.2.2.2.2.2.2.2.2.2.2.1 k0_h1 k0_h4
theorem k0_off939_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off939 i) a + S1.size a ≤ S1024.size a := fun i v0 v28 k0_hw2 k0_h1 k0_h4 => k0_hw2.2.2.2.2.2.2.2.2.2.2.2.2.2.2.1.2.2.2.2.2.2.2.2.2.2.2.2.2.2.2.2.2.2.1 k0_h1 k0_h4
theorem k0_off941_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off941 i) a + S1x8x128.size a ≤ S2x8192x128.size a := fun i v0 v28 k0_hw2 k0_h1 k0_h4 => k0_hw2.2.2.2.2.2.2.2.2.2.2.2.2.2.2.1.2.2.2.2.2.2.2.2.2.2.2.2.2.2.2.2.2.2.2.1 k0_h1 k0_h4
theorem k0_off943_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off943 i) a + S1.size a ≤ S1024.size a := fun i v0 v28 k0_hw2 k0_h1 k0_h4 => k0_hw2.2.2.2.2.2.2.2.2.2.2.2.2.2.2.1.2.2.2.2.2.2.2.2.2.2.2.2.2.2.2.2.2.2.2.2.1 k0_h1 k0_h4
theorem k0_off945_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off945 i) a + S1x8x128.size a ≤ S2x8192x128.size a := fun i v0 v28 k0_hw2 k0_h1 k0_h4 => k0_hw2.2.2.2.2.2.2.2.2.2.2.2.2.2.2.1.2.2.2.2.2.2.2.2.2.2.2.2.2.2.2.2.2.2.2.2.2.1 k0_h1 k0_h4
theorem k0_off947_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off947 i) a + S1.size a ≤ S1024.size a := fun i v0 v28 k0_hw2 k0_h1 k0_h4 => k0_hw2.2.2.2.2.2.2.2.2.2.2.2.2.2.2.1.2.2.2.2.2.2.2.2.2.2.2.2.2.2.2.2.2.2.2.2.2.2.1 k0_h1 k0_h4
theorem k0_off949_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off949 i) a + S1x8x128.size a ≤ S2x8192x128.size a := fun i v0 v28 k0_hw2 k0_h1 k0_h4 => k0_hw2.2.2.2.2.2.2.2.2.2.2.2.2.2.2.1.2.2.2.2.2.2.2.2.2.2.2.2.2.2.2.2.2.2.2.2.2.2.2.1 k0_h1 k0_h4
theorem k0_off951_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off951 i) a + S1.size a ≤ S1024.size a := fun i v0 v28 k0_hw2 k0_h1 k0_h4 => k0_hw2.2.2.2.2.2.2.2.2.2.2.2.2.2.2.1.2.2.2.2.2.2.2.2.2.2.2.2.2.2.2.2.2.2.2.2.2.2.2.2.1 k0_h1 k0_h4
theorem k0_off953_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off953 i) a + S1x8x128.size a ≤ S2x8192x128.size a := fun i v0 v28 k0_hw2 k0_h1 k0_h4 => k0_hw2.2.2.2.2.2.2.2.2.2.2.2.2.2.2.1.2.2.2.2.2.2.2.2.2.2.2.2.2.2.2.2.2.2.2.2.2.2.2.2.2.1 k0_h1 k0_h4
theorem k0_off955_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off955 i) a + S1.size a ≤ S1024.size a := fun i v0 v28 k0_hw2 k0_h1 k0_h4 => k0_hw2.2.2.2.2.2.2.2.2.2.2.2.2.2.2.1.2.2.2.2.2.2.2.2.2.2.2.2.2.2.2.2.2.2.2.2.2.2.2.2.2.2.1 k0_h1 k0_h4
theorem k0_off957_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off957 i) a + S1x8x128.size a ≤ S2x8192x128.size a := fun i v0 v28 k0_hw2 k0_h1 k0_h4 => k0_hw2.2.2.2.2.2.2.2.2.2.2.2.2.2.2.1.2.2.2.2.2.2.2.2.2.2.2.2.2.2.2.2.2.2.2.2.2.2.2.2.2.2.2.1 k0_h1 k0_h4
theorem k0_off959_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off959 i) a + S1.size a ≤ S1024.size a := fun i v0 v28 k0_hw2 k0_h1 k0_h4 => k0_hw2.2.2.2.2.2.2.2.2.2.2.2.2.2.2.1.2.2.2.2.2.2.2.2.2.2.2.2.2.2.2.2.2.2.2.2.2.2.2.2.2.2.2.2.1 k0_h1 k0_h4
theorem k0_off961_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off961 i) a + S1x8x128.size a ≤ S2x8192x128.size a := fun i v0 v28 k0_hw2 k0_h1 k0_h4 => k0_hw2.2.2.2.2.2.2.2.2.2.2.2.2.2.2.1.2.2.2.2.2.2.2.2.2.2.2.2.2.2.2.2.2.2.2.2.2.2.2.2.2.2.2.2.2.1 k0_h1 k0_h4
theorem k0_off963_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off963 i) a + S1.size a ≤ S1024.size a := fun i v0 v28 k0_hw2 k0_h1 k0_h4 => k0_hw2.2.2.2.2.2.2.2.2.2.2.2.2.2.2.1.2.2.2.2.2.2.2.2.2.2.2.2.2.2.2.2.2.2.2.2.2.2.2.2.2.2.2.2.2.2.1 k0_h1 k0_h4
theorem k0_off965_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off965 i) a + S1x8x128.size a ≤ S2x8192x128.size a := fun i v0 v28 k0_hw2 k0_h1 k0_h4 => k0_hw2.2.2.2.2.2.2.2.2.2.2.2.2.2.2.1.2.2.2.2.2.2.2.2.2.2.2.2.2.2.2.2.2.2.2.2.2.2.2.2.2.2.2.2.2.2.2 k0_h1 k0_h4
theorem k0_off967_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off967 i) a + S1.size a ≤ S1024.size a := fun i v0 v28 k0_hw2 k0_h1 k0_h4 => k0_hw2.2.2.2.2.2.2.2.2.2.2.2.2.2.2.2.1 k0_h1 k0_h4
theorem k0_off969_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off969 i) a + S1x8x128.size a ≤ S2x8192x128.size a := fun i v0 v28 k0_hw2 k0_h1 k0_h4 => k0_hw2.2.2.2.2.2.2.2.2.2.2.2.2.2.2.2.2.1 k0_h1 k0_h4
theorem k0_off971_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off971 i) a + S1.size a ≤ S1024.size a := fun i v0 v28 k0_hw2 k0_h1 k0_h4 => k0_hw2.2.2.2.2.2.2.2.2.2.2.2.2.2.2.2.2.2.1 k0_h1 k0_h4
theorem k0_off973_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off973 i) a + S1x8x128.size a ≤ S2x8192x128.size a := fun i v0 v28 k0_hw2 k0_h1 k0_h4 => k0_hw2.2.2.2.2.2.2.2.2.2.2.2.2.2.2.2.2.2.2.1 k0_h1 k0_h4
theorem k0_off975_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off975 i) a + S1.size a ≤ S1024.size a := fun i v0 v28 k0_hw2 k0_h1 k0_h4 => k0_hw2.2.2.2.2.2.2.2.2.2.2.2.2.2.2.2.2.2.2.2.1 k0_h1 k0_h4
theorem k0_off977_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off977 i) a + S1x8x128.size a ≤ S2x8192x128.size a := fun i v0 v28 k0_hw2 k0_h1 k0_h4 => k0_hw2.2.2.2.2.2.2.2.2.2.2.2.2.2.2.2.2.2.2.2.2.1 k0_h1 k0_h4
theorem k0_off979_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off979 i) a + S1.size a ≤ S1024.size a := fun i v0 v28 k0_hw2 k0_h1 k0_h4 => k0_hw2.2.2.2.2.2.2.2.2.2.2.2.2.2.2.2.2.2.2.2.2.2.1 k0_h1 k0_h4
theorem k0_off981_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off981 i) a + S1x8x128.size a ≤ S2x8192x128.size a := fun i v0 v28 k0_hw2 k0_h1 k0_h4 => k0_hw2.2.2.2.2.2.2.2.2.2.2.2.2.2.2.2.2.2.2.2.2.2.2.1 k0_h1 k0_h4
theorem k0_off983_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off983 i) a + S1.size a ≤ S1024.size a := fun i v0 v28 k0_hw2 k0_h1 k0_h4 => k0_hw2.2.2.2.2.2.2.2.2.2.2.2.2.2.2.2.2.2.2.2.2.2.2.2.1 k0_h1 k0_h4
theorem k0_off985_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off985 i) a + S1x8x128.size a ≤ S2x8192x128.size a := fun i v0 v28 k0_hw2 k0_h1 k0_h4 => k0_hw2.2.2.2.2.2.2.2.2.2.2.2.2.2.2.2.2.2.2.2.2.2.2.2.2.1 k0_h1 k0_h4
theorem k0_off987_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off987 i) a + S1.size a ≤ S1024.size a := fun i v0 v28 k0_hw2 k0_h1 k0_h4 => k0_hw2.2.2.2.2.2.2.2.2.2.2.2.2.2.2.2.2.2.2.2.2.2.2.2.2.2.1 k0_h1 k0_h4
theorem k0_off989_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off989 i) a + S1x8x128.size a ≤ S2x8192x128.size a := fun i v0 v28 k0_hw2 k0_h1 k0_h4 => k0_hw2.2.2.2.2.2.2.2.2.2.2.2.2.2.2.2.2.2.2.2.2.2.2.2.2.2.2.1 k0_h1 k0_h4
theorem k0_off991_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off991 i) a + S1.size a ≤ S1024.size a := fun i v0 v28 k0_hw2 k0_h1 k0_h4 => k0_hw2.2.2.2.2.2.2.2.2.2.2.2.2.2.2.2.2.2.2.2.2.2.2.2.2.2.2.2.1 k0_h1 k0_h4
theorem k0_off993_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off993 i) a + S1x8x128.size a ≤ S2x8192x128.size a := fun i v0 v28 k0_hw2 k0_h1 k0_h4 => k0_hw2.2.2.2.2.2.2.2.2.2.2.2.2.2.2.2.2.2.2.2.2.2.2.2.2.2.2.2.2.1 k0_h1 k0_h4
theorem k0_off995_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off995 i) a + S1.size a ≤ S1024.size a := fun i v0 v28 k0_hw2 k0_h1 k0_h4 => k0_hw2.2.2.2.2.2.2.2.2.2.2.2.2.2.2.2.2.2.2.2.2.2.2.2.2.2.2.2.2.2.1 k0_h1 k0_h4
theorem k0_off997_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off997 i) a + S1x8x128.size a ≤ S2x8192x128.size a := fun i v0 v28 k0_hw2 k0_h1 k0_h4 => k0_hw2.2.2.2.2.2.2.2.2.2.2.2.2.2.2.2.2.2.2.2.2.2.2.2.2.2.2.2.2.2.2.1 k0_h1 k0_h4
theorem k0_off999_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off999 i) a + S1.size a ≤ S1024.size a := fun i v0 v28 k0_hw2 k0_h1 k0_h4 => k0_hw2.2.2.2.2.2.2.2.2.2.2.2.2.2.2.2.2.2.2.2.2.2.2.2.2.2.2.2.2.2.2.2.1 k0_h1 k0_h4
theorem k0_off1001_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off1001 i) a + S1x8x128.size a ≤ S2x8192x128.size a := fun i v0 v28 k0_hw2 k0_h1 k0_h4 => k0_hw2.2.2.2.2.2.2.2.2.2.2.2.2.2.2.2.2.2.2.2.2.2.2.2.2.2.2.2.2.2.2.2.2.1 k0_h1 k0_h4
theorem k0_off1003_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off1003 i) a + S1.size a ≤ S1024.size a := fun i v0 v28 k0_hw2 k0_h1 k0_h4 => k0_hw2.2.2.2.2.2.2.2.2.2.2.2.2.2.2.2.2.2.2.2.2.2.2.2.2.2.2.2.2.2.2.2.2.2.1 k0_h1 k0_h4
theorem k0_off1005_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off1005 i) a + S1x8x128.size a ≤ S2x8192x128.size a := fun i v0 v28 k0_hw2 k0_h1 k0_h4 => k0_hw2.2.2.2.2.2.2.2.2.2.2.2.2.2.2.2.2.2.2.2.2.2.2.2.2.2.2.2.2.2.2.2.2.2.2.1 k0_h1 k0_h4
theorem k0_off1007_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off1007 i) a + S1.size a ≤ S1024.size a := fun i v0 v28 k0_hw2 k0_h1 k0_h4 => k0_hw2.2.2.2.2.2.2.2.2.2.2.2.2.2.2.2.2.2.2.2.2.2.2.2.2.2.2.2.2.2.2.2.2.2.2.2.1 k0_h1 k0_h4
theorem k0_off1009_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off1009 i) a + S1x8x128.size a ≤ S2x8192x128.size a := fun i v0 v28 k0_hw2 k0_h1 k0_h4 => k0_hw2.2.2.2.2.2.2.2.2.2.2.2.2.2.2.2.2.2.2.2.2.2.2.2.2.2.2.2.2.2.2.2.2.2.2.2.2.1 k0_h1 k0_h4
theorem k0_off1011_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off1011 i) a + S1.size a ≤ S1024.size a := fun i v0 v28 k0_hw2 k0_h1 k0_h4 => k0_hw2.2.2.2.2.2.2.2.2.2.2.2.2.2.2.2.2.2.2.2.2.2.2.2.2.2.2.2.2.2.2.2.2.2.2.2.2.2.1 k0_h1 k0_h4
theorem k0_off1013_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off1013 i) a + S1x8x128.size a ≤ S2x8192x128.size a := fun i v0 v28 k0_hw2 k0_h1 k0_h4 => k0_hw2.2.2.2.2.2.2.2.2.2.2.2.2.2.2.2.2.2.2.2.2.2.2.2.2.2.2.2.2.2.2.2.2.2.2.2.2.2.2.1 k0_h1 k0_h4
theorem k0_off1015_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off1015 i) a + S1.size a ≤ S1024.size a := fun i v0 v28 k0_hw2 k0_h1 k0_h4 => k0_hw2.2.2.2.2.2.2.2.2.2.2.2.2.2.2.2.2.2.2.2.2.2.2.2.2.2.2.2.2.2.2.2.2.2.2.2.2.2.2.2.1 k0_h1 k0_h4
theorem k0_off1017_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off1017 i) a + S1x8x128.size a ≤ S2x8192x128.size a := fun i v0 v28 k0_hw2 k0_h1 k0_h4 => k0_hw2.2.2.2.2.2.2.2.2.2.2.2.2.2.2.2.2.2.2.2.2.2.2.2.2.2.2.2.2.2.2.2.2.2.2.2.2.2.2.2.2.1 k0_h1 k0_h4
theorem k0_off1019_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off1019 i) a + S1.size a ≤ S1024.size a := fun i v0 v28 k0_hw2 k0_h1 k0_h4 => k0_hw2.2.2.2.2.2.2.2.2.2.2.2.2.2.2.2.2.2.2.2.2.2.2.2.2.2.2.2.2.2.2.2.2.2.2.2.2.2.2.2.2.2.1 k0_h1 k0_h4
theorem k0_off1021_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off1021 i) a + S1x8x128.size a ≤ S2x8192x128.size a := fun i v0 v28 k0_hw2 k0_h1 k0_h4 => k0_hw2.2.2.2.2.2.2.2.2.2.2.2.2.2.2.2.2.2.2.2.2.2.2.2.2.2.2.2.2.2.2.2.2.2.2.2.2.2.2.2.2.2.2.1 k0_h1 k0_h4
theorem k0_off1023_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off1023 i) a + S1.size a ≤ S1024.size a := fun i v0 v28 k0_hw2 k0_h1 k0_h4 => k0_hw2.2.2.2.2.2.2.2.2.2.2.2.2.2.2.2.2.2.2.2.2.2.2.2.2.2.2.2.2.2.2.2.2.2.2.2.2.2.2.2.2.2.2.2.1 k0_h1 k0_h4
theorem k0_off1025_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off1025 i) a + S1x8x128.size a ≤ S2x8192x128.size a := fun i v0 v28 k0_hw2 k0_h1 k0_h4 => k0_hw2.2.2.2.2.2.2.2.2.2.2.2.2.2.2.2.2.2.2.2.2.2.2.2.2.2.2.2.2.2.2.2.2.2.2.2.2.2.2.2.2.2.2.2.2.1 k0_h1 k0_h4
theorem k0_off1027_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off1027 i) a + S1.size a ≤ S1024.size a := fun i v0 v28 k0_hw2 k0_h1 k0_h4 => k0_hw2.2.2.2.2.2.2.2.2.2.2.2.2.2.2.2.2.2.2.2.2.2.2.2.2.2.2.2.2.2.2.2.2.2.2.2.2.2.2.2.2.2.2.2.2.2.1 k0_h1 k0_h4
theorem k0_off1029_inb : ∀ (i : grid0.Coords) (v0 : BitVec 32) (v28 : BitVec 32) (k0_hw2 : k0_chk2 i v0 v28), ∀ (k0_h1 : k0_cond1 i v0 = 1#1), ∀ (k0_h4 : k0_cond4 i v28 = 1#1), ∀ a, (k0_off1029 i) a + S1x8x128.size a ≤ S2x8192x128.size a := fun i v0 v28 k0_hw2 k0_h1 k0_h4 => k0_hw2.2.2.2.2.2.2.2.2.2.2.2.2.2.2.2.2.2.2.2.2.2.2.2.2.2.2.2.2.2.2.2.2.2.2.2.2.2.2.2.2.2.2.2.2.2.2 k0_h1 k0_h4

def k0_off1030 (v3640 : BitVec 32) : Fin 2 → Nat :=
  let c8_i32_1571 : BitVec 32 := 8#32
  let v3641 : BitVec 32 := Scalar.muli v3640 c8_i32_1571
  let v3642 : BitVec 32 := v3641
  let c0_i32_1574 : BitVec 32 := 0#32
  ![v3642.toNat, 0]

def k0_chk258 (i : grid0.Coords) (v0 : BitVec 32) (v28 : BitVec 32) (v3640 : BitVec 32) : Prop :=
  (∀ (k0_h1 : k0_cond1 i v0 = 1#1), ∀ (k0_h4 : k0_cond4 i v28 = 1#1), 8 ∣ (k0_mult513 v3640).toNat) ∧
  (∀ (k0_h1 : k0_cond1 i v0 = 1#1), ∀ (k0_h4 : k0_cond4 i v28 = 1#1), ∀ a, (k0_off1030 v3640) a + S8x128.size a ≤ S262144x128.size a)
theorem k0_mult513_dvd : ∀ (i : grid0.Coords) (v0 : BitVec 32) (v28 : BitVec 32) (v3640 : BitVec 32) (k0_hw258 : k0_chk258 i v0 v28 v3640), ∀ (k0_h1 : k0_cond1 i v0 = 1#1), ∀ (k0_h4 : k0_cond4 i v28 = 1#1), 8 ∣ (k0_mult513 v3640).toNat := fun i v0 v28 v3640 k0_hw258 k0_h1 k0_h4 => k0_hw258.1 k0_h1 k0_h4
theorem k0_off1030_inb : ∀ (i : grid0.Coords) (v0 : BitVec 32) (v28 : BitVec 32) (v3640 : BitVec 32) (k0_hw258 : k0_chk258 i v0 v28 v3640), ∀ (k0_h1 : k0_cond1 i v0 = 1#1), ∀ (k0_h4 : k0_cond4 i v28 = 1#1), ∀ a, (k0_off1030 v3640) a + S8x128.size a ≤ S262144x128.size a := fun i v0 v28 v3640 k0_hw258 k0_h1 k0_h4 => k0_hw258.2 k0_h1 k0_h4

def k0_cond7 (i : grid0.Coords) : BitVec 1 :=
  let arg1 : BitVec 32 := BitVec.ofNat 32 (i 1).val
  let c6_i32_33 : BitVec 32 := 6#32
  let v63 : BitVec 1 := Scalar.cmpi .eq arg1 c6_i32_33
  let v64 : BitVec 32 := Scalar.extui v63
  let c0_i32_34 : BitVec 32 := 0#32
  let v65 : BitVec 1 := Scalar.cmpi .ne v64 c0_i32_34
  v65

def k0_cond8 (i : grid0.Coords) (v0 : BitVec 32) : BitVec 1 :=
  let arg0 : BitVec 32 := BitVec.ofNat 32 (i 0).val
  let v1 : BitVec 1 := Scalar.cmpi .slt arg0 v0
  let v_true : BitVec 1 := 1#1
  let v14 : BitVec 1 := Scalar.xori v1 v_true
  let arg1 : BitVec 32 := BitVec.ofNat 32 (i 1).val
  let c6_i32 : BitVec 32 := 6#32
  let v15 : BitVec 1 := Scalar.cmpi .eq arg1 c6_i32
  let v16 : BitVec 1 := Scalar.andi v14 v15
  let v17 : BitVec 32 := Scalar.extui v16
  let c0_i32_4 : BitVec 32 := 0#32
  let v18 : BitVec 1 := Scalar.cmpi .ne v17 c0_i32_4
  v18

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c71_i32 : BitVec 32 := 71#32
  let v1 : BitVec 32 := Scalar.minsi v0 c71_i32
  let c0_i32 : BitVec 32 := 0#32
  ![v1.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg1.toNat]

def cc0_transform_4 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg1.toNat]

def cc0_transform_5 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .smem S1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S262144x128 : Shape := ⟨2, ![262144, 128]⟩
abbrev S73728 : Shape := ⟨1, ![73728]⟩
abbrev S72 : Shape := ⟨1, ![72]⟩
abbrev S1 : Shape := ⟨1, ![1]⟩
abbrev S16x1024x3584 : Shape := ⟨3, ![16, 1024, 3584]⟩
abbrev S16x3584x1024 : Shape := ⟨3, ![16, 3584, 1024]⟩
abbrev S32768x1024 : Shape := ⟨2, ![32768, 1024]⟩
abbrev S73728x1 : Shape := ⟨2, ![73728, 1]⟩
abbrev S73728x1024 : Shape := ⟨2, ![73728, 1024]⟩
abbrev S72x1024x1024 : Shape := ⟨3, ![72, 1024, 1024]⟩
abbrev S72x1 : Shape := ⟨2, ![72, 1]⟩
abbrev S72x1024x3584 : Shape := ⟨3, ![72, 1024, 3584]⟩
abbrev S72x3584x1024 : Shape := ⟨3, ![72, 3584, 1024]⟩
abbrev S_ : Shape := ⟨0, ![]⟩
abbrev S72x1x1 : Shape := ⟨3, ![72, 1, 1]⟩
abbrev S589824x128 : Shape := ⟨2, ![589824, 128]⟩

abbrev nBuf : Space → Nat
  | .hbm => 41
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S73728, .i32⟩
  | .hbm, ⟨2, _⟩ => ⟨S72, .i32⟩
  | .hbm, ⟨3, _⟩ => ⟨S1, .i32⟩
  | .hbm, ⟨4, _⟩ => ⟨S16x1024x3584, .f32⟩
  | .hbm, ⟨5, _⟩ => ⟨S16x1024x3584, .f32⟩
  | .hbm, ⟨6, _⟩ => ⟨S16x3584x1024, .f32⟩
  | .hbm, ⟨7, _⟩ => ⟨S32768x1024, .f32⟩
  | .hbm, ⟨8, _⟩ => ⟨S73728x1, .i32⟩
  | .hbm, ⟨9, _⟩ => ⟨S73728x1024, .f32⟩
  | .hbm, ⟨10, _⟩ => ⟨S72x1024x1024, .f32⟩
  | .hbm, ⟨11, _⟩ => ⟨S72x1, .i32⟩
  | .hbm, ⟨12, _⟩ => ⟨S72x1024x3584, .f32⟩
  | .hbm, ⟨13, _⟩ => ⟨S72x1, .i32⟩
  | .hbm, ⟨14, _⟩ => ⟨S72x1024x3584, .f32⟩
  | .hbm, ⟨15, _⟩ => ⟨S72x1, .i32⟩
  | .hbm, ⟨16, _⟩ => ⟨S72x3584x1024, .f32⟩
  | .hbm, ⟨17, _⟩ => ⟨S72x1024x3584, .f32⟩
  | .hbm, ⟨18, _⟩ => ⟨S72x1024x3584, .f32⟩
  | .hbm, ⟨19, _⟩ => ⟨S72x1024x3584, .f32⟩
  | .hbm, ⟨20, _⟩ => ⟨S_, .f32⟩
  | .hbm, ⟨21, _⟩ => ⟨S72x1024x3584, .f32⟩
  | .hbm, ⟨22, _⟩ => ⟨S72x1024x3584, .f32⟩
  | .hbm, ⟨23, _⟩ => ⟨S_, .f32⟩
  | .hbm, ⟨24, _⟩ => ⟨S72x1024x3584, .f32⟩
  | .hbm, ⟨25, _⟩ => ⟨S72x1024x3584, .f32⟩
  | .hbm, ⟨26, _⟩ => ⟨S72x1024x3584, .f32⟩
  | .hbm, ⟨27, _⟩ => ⟨S72x1024x3584, .f32⟩
  | .hbm, ⟨28, _⟩ => ⟨S72x1024x3584, .f32⟩
  | .hbm, ⟨29, _⟩ => ⟨S72x1024x1024, .f32⟩
  | .hbm, ⟨30, _⟩ => ⟨S72, .i32⟩
  | .hbm, ⟨31, _⟩ => ⟨S_, .i32⟩
  | .hbm, ⟨32, _⟩ => ⟨S72, .i32⟩
  | .hbm, ⟨33, _⟩ => ⟨S72, .i1⟩
  | .hbm, ⟨34, _⟩ => ⟨S72x1x1, .i1⟩
  | .hbm, ⟨35, _⟩ => ⟨S_, .f32⟩
  | .hbm, ⟨36, _⟩ => ⟨S_, .f32⟩
  | .hbm, ⟨37, _⟩ => ⟨S72x1024x1024, .i1⟩
  | .hbm, ⟨38, _⟩ => ⟨S72x1024x1024, .f32⟩
  | .hbm, ⟨39, _⟩ => ⟨S72x1024x1024, .f32⟩
  | .hbm, ⟨40, _⟩ => ⟨S589824x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_call1_v0 : Ref sig .tc := ⟨.hbm, 11, rfl⟩
abbrev main_v3 : Ref sig .tc := ⟨.hbm, 12, rfl⟩
abbrev main_call2_v0 : Ref sig .tc := ⟨.hbm, 13, rfl⟩
abbrev main_v4 : Ref sig .tc := ⟨.hbm, 14, rfl⟩
abbrev main_call3_v0 : Ref sig .tc := ⟨.hbm, 15, rfl⟩
abbrev main_v5 : Ref sig .tc := ⟨.hbm, 16, rfl⟩
abbrev main_v6 : Ref sig .tc := ⟨.hbm, 17, rfl⟩
abbrev main_call4_v0 : Ref sig .tc := ⟨.hbm, 18, rfl⟩
abbrev main_call4_v1 : Ref sig .tc := ⟨.hbm, 19, rfl⟩
abbrev main_call4_cst : Ref sig .tc := ⟨.hbm, 20, rfl⟩
abbrev main_call4_v2 : Ref sig .tc := ⟨.hbm, 21, rfl⟩
abbrev main_call4_v3 : Ref sig .tc := ⟨.hbm, 22, rfl⟩
abbrev main_call4_cst_0 : Ref sig .tc := ⟨.hbm, 23, rfl⟩
abbrev main_call4_v4 : Ref sig .tc := ⟨.hbm, 24, rfl⟩
abbrev main_call4_v5 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_call5_v0 : Ref sig .tc := ⟨.hbm, 36, rfl⟩
abbrev main_call5_v1 : Ref sig .tc := ⟨.hbm, 37, rfl⟩
abbrev main_call5_v2 : Ref sig .tc := ⟨.hbm, 38, rfl⟩
abbrev main_v16 : Ref sig .tc := ⟨.hbm, 39, rfl⟩
abbrev main_v17 : Ref sig .tc := ⟨.hbm, 40, rfl⟩

abbrev nD : Nat := 1
abbrev τ : Topo := Topo.v7x

variable {F : FTy → Type} [FloatOps F]
-- ==== Kernel2.lean ====
abbrev S589824x128 : Shape := ⟨2, ![589824, 128]⟩
abbrev S32768 : Shape := ⟨1, ![32768]⟩
abbrev S32768x128 : Shape := ⟨2, ![32768, 128]⟩
abbrev S1024 : Shape := ⟨1, ![1024]⟩
abbrev S2x1x1024 : Shape := ⟨3, ![2, 1, 1024]⟩
abbrev S32768x1024 : Shape := ⟨2, ![32768, 1024]⟩
abbrev S1x1024 : Shape := ⟨2, ![1, 1024]⟩
abbrev S512 : Shape := ⟨1, ![512]⟩
abbrev S512x128 : Shape := ⟨2, ![512, 128]⟩
abbrev S1x1x1024 : Shape := ⟨3, ![1, 1, 1024]⟩
abbrev S512x1024 : Shape := ⟨2, ![512, 1024]⟩
abbrev S2x2x4096x128 : Shape := ⟨4, ![2, 2, 4096, 128]⟩
abbrev S2 : Shape := ⟨1, ![2]⟩
abbrev S1 : Shape := ⟨1, ![1]⟩
abbrev S_ : Shape := ⟨0, ![]⟩
abbrev S1x1x8x128 : Shape := ⟨4, ![1, 1, 8, 128]⟩
abbrev S8x128 : Shape := ⟨2, ![8, 128]⟩
abbrev S1x1x4096x128 : Shape := ⟨4, ![1, 1, 4096, 128]⟩
abbrev S4096x128 : Shape := ⟨2, ![4096, 128]⟩
abbrev S512x1 : Shape := ⟨2, ![512, 1]⟩

abbrev nBuf : Space → Nat
  | .hbm => 9
  | .vmem => 11
  | .smem => 6
  | _ => 0

abbrev bufTy : (tb : Table) → Fin (tcTables nBuf tb) → BufTy
  | .hbm, ⟨0, _⟩ => ⟨S589824x128, .f32⟩
  | .hbm, ⟨1, _⟩ => ⟨S32768, .i32⟩
  | .hbm, ⟨2, _⟩ => ⟨S32768, .i32⟩
  | .hbm, ⟨3, _⟩ => ⟨S32768x128, .f32⟩
  | .hbm, ⟨4, _⟩ => ⟨S1024, .f32⟩
  | .hbm, ⟨5, _⟩ => ⟨S2x1x1024, .f32⟩
  | .hbm, ⟨6, _⟩ => ⟨S32768x1024, .f32⟩
  | .hbm, ⟨7, _⟩ => ⟨S1x1024, .f32⟩
  | .hbm, ⟨8, _⟩ => ⟨S32768x1024, .f32⟩
  | .local _ .vmem, ⟨0, _⟩ => ⟨S512x128, .f32⟩
  | .local _ .vmem, ⟨1, _⟩ => ⟨S512x128, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S2x2x4096x128, .f32⟩
  | .local _ .vmem, ⟨10, _⟩ => ⟨S512x1024, .f32⟩
  | .local _ .smem, ⟨0, _⟩ => ⟨S512, .i32⟩
  | .local _ .smem, ⟨1, _⟩ => ⟨S512, .i32⟩
  | .local _ .smem, ⟨2, _⟩ => ⟨S512, .i32⟩
  | .local _ .smem, ⟨3, _⟩ => ⟨S512, .i32⟩
  | .local _ .smem, ⟨4, _⟩ => ⟨S512, .i32⟩
  | .local _ .smem, ⟨5, _⟩ => ⟨S512, .i32⟩
  | _, _ => ⟨S589824x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg4_0 : Ref sig .tc := ⟨.vmem, 0, rfl⟩
abbrev cc0_stg4_1 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg6_1 : Ref sig .tc := ⟨.vmem, 4, rfl⟩
abbrev cc0_stg7_0 : Ref sig .tc := ⟨.vmem, 5, rfl⟩
abbrev cc0_stg7_1 : Ref sig .tc := ⟨.vmem, 6, rfl⟩
abbrev cc0_stg8_0 : Ref sig .tc := ⟨.vmem, 7, rfl⟩
abbrev cc0_stg8_1 : Ref sig .tc := ⟨.vmem, 8, rfl⟩
abbrev cc0_scratch0 : Ref sig .tc := ⟨.vmem, 9, rfl⟩
abbrev cc0_scratch2 : Ref sig .tc := ⟨.vmem, 10, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg2_1 : Ref sig .tc := ⟨.smem, 3, rfl⟩
abbrev cc0_stg3_0 : Ref sig .tc := ⟨.smem, 4, rfl⟩
abbrev cc0_stg3_1 : Ref sig .tc := ⟨.smem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

@[reducible] def k0_t1_loop : Scf.Loop 32 :=
  let c0_i32_131 : BitVec 32 := 0#32
  let c64_i32_132 : BitVec 32 := 64#32
  let v154 : BitVec 32 := Scalar.addi c0_i32_131 c64_i32_132
  let c1_i32_133 : BitVec 32 := 1#32
  ⟨c0_i32_131, v154, c1_i32_133⟩
def k0_mult1 (k0_t1 : Fin k0_t1_loop.trips) : BitVec 32 :=
  let c8_i32 : BitVec 32 := 8#32
  let c0_i32_131 : BitVec 32 := 0#32
  let c1_i32_133 : BitVec 32 := 1#32
  let arg14 : BitVec 32 := Scf.iv c0_i32_131 c1_i32_133 k0_t1
  let v155 : BitVec 32 := Scalar.muli c8_i32 arg14
  let c0_i32_135 : BitVec 32 := 0#32
  let v156 : BitVec 32 := Scalar.addi v155 c0_i32_135
  let c8_i32_136 : BitVec 32 := 8#32
  let v157 : BitVec 32 := Scalar.muli v156 c8_i32_136
  v157
def k0_off1 (k0_t1 : Fin k0_t1_loop.trips) : Fin 1 → Nat :=
  let c8_i32 : BitVec 32 := 8#32
  let c0_i32_131 : BitVec 32 := 0#32
  let c1_i32_133 : BitVec 32 := 1#32
  let arg14 : BitVec 32 := Scf.iv c0_i32_131 c1_i32_133 k0_t1
  let v155 : BitVec 32 := Scalar.muli c8_i32 arg14
  let c0_i32_135 : BitVec 32 := 0#32
  let v156 : BitVec 32 := Scalar.addi v155 c0_i32_135
  let v159 : Index := Scalar.indexCast v156
  ![v159.toNat]
def k0_mult2 (v160 : BitVec 32) : BitVec 32 :=
  let c8_i32_137 : BitVec 32 := 8#32
  let v161 : BitVec 32 := Scalar.muli v160 c8_i32_137
  v161

def k0_off2 (k0_t1 : Fin k0_t1_loop.trips) : Fin 4 → Nat :=
  let c0_i32_138 : BitVec 32 := 0#32
  let c0_i32_139 : BitVec 32 := 0#32
  let c8_i32 : BitVec 32 := 8#32
  let c0_i32_131 : BitVec 32 := 0#32
  let c1_i32_133 : BitVec 32 := 1#32
  let arg14 : BitVec 32 := Scf.iv c0_i32_131 c1_i32_133 k0_t1
  let v155 : BitVec 32 := Scalar.muli c8_i32 arg14
  let c0_i32_135 : BitVec 32 := 0#32
  let v156 : BitVec 32 := Scalar.addi v155 c0_i32_135
  let c8_i32_136 : BitVec 32 := 8#32
  let v157 : BitVec 32 := Scalar.muli v156 c8_i32_136
  let v158 : BitVec 32 := v157
  let c0_i32_141 : BitVec 32 := 0#32
  ![0, 0, v158.toNat, 0]
def k0_off3 (v160 : BitVec 32) : Fin 2 → Nat :=
  let c8_i32_137 : BitVec 32 := 8#32
  let v161 : BitVec 32 := Scalar.muli v160 c8_i32_137
  let v162 : BitVec 32 := v161
  let c0_i32_142 : BitVec 32 := 0#32
  ![v162.toNat, 0]

def k0_chk1 (i : grid0.Coords) (v160 : BitVec 32) : Prop :=
  (∀ (k0_h1 : k0_cond1 i = 1#1), 8 ∣ (k0_mult2 v160).toNat) ∧
  (∀ (k0_h1 : k0_cond1 i = 1#1), ∀ a, (k0_off3 v160) a + S8x128.size a ≤ S589824x128.size a)
theorem k0_mult2_dvd : ∀ (i : grid0.Coords) (v160 : BitVec 32) (k0_hw1 : k0_chk1 i v160), ∀ (k0_h1 : k0_cond1 i = 1#1), 8 ∣ (k0_mult2 v160).toNat := fun i v160 k0_hw1 k0_h1 => k0_hw1.1 k0_h1
theorem k0_off3_inb : ∀ (i : grid0.Coords) (v160 : BitVec 32) (k0_hw1 : k0_chk1 i v160), ∀ (k0_h1 : k0_cond1 i = 1#1), ∀ a, (k0_off3 v160) a + S8x128.size a ≤ S589824x128.size a := fun i v160 k0_hw1 k0_h1 => k0_hw1.2 k0_h1

def k0_off4 (k0_t1 : Fin k0_t1_loop.trips) : Fin 1 → Nat :=
  let c8_i32 : BitVec 32 := 8#32
  let c0_i32_131 : BitVec 32 := 0#32
  let c1_i32_133 : BitVec 32 := 1#32
  let arg14 : BitVec 32 := Scf.iv c0_i32_131 c1_i32_133 k0_t1
  let v155 : BitVec 32 := Scalar.muli c8_i32 arg14
  let c0_i32_135 : BitVec 32 := 0#32
  let v156 : BitVec 32 := Scalar.addi v155 c0_i32_135
  let v168 : Index := Scalar.indexCast v156
  ![v168.toNat]
def k0_mult3 (v169 : BitVec 32) : BitVec 32 :=
  let c8_i32_143 : BitVec 32 := 8#32
  let v170 : BitVec 32 := Scalar.muli v169 c8_i32_143
  v170

def k0_off5 (k0_t1 : Fin k0_t1_loop.trips) : Fin 4 → Nat :=
  let c0_i32_144 : BitVec 32 := 0#32
  let c1_i32_145 : BitVec 32 := 1#32
  let c8_i32 : BitVec 32 := 8#32
  let c0_i32_131 : BitVec 32 := 0#32
  let c1_i32_133 : BitVec 32 := 1#32
  let arg14 : BitVec 32 := Scf.iv c0_i32_131 c1_i32_133 k0_t1
  let v155 : BitVec 32 := Scalar.muli c8_i32 arg14
  let c0_i32_135 : BitVec 32 := 0#32
  let v156 : BitVec 32 := Scalar.addi v155 c0_i32_135
  let c8_i32_136 : BitVec 32 := 8#32
  let v157 : BitVec 32 := Scalar.muli v156 c8_i32_136
  let v158 : BitVec 32 := v157
  let c0_i32_147 : BitVec 32 := 0#32
  ![0, 1, v158.toNat, 0]
def k0_off6 (v169 : BitVec 32) : Fin 2 → Nat :=
  let c8_i32_143 : BitVec 32 := 8#32
  let v170 : BitVec 32 := Scalar.muli v169 c8_i32_143
  let v171 : BitVec 32 := v170
  let c0_i32_148 : BitVec 32 := 0#32
  ![v171.toNat, 0]

def k0_chk2 (i : grid0.Coords) (v169 : BitVec 32) : Prop :=
  (∀ (k0_h1 : k0_cond1 i = 1#1), 8 ∣ (k0_mult3 v169).toNat) ∧
  (∀ (k0_h1 : k0_cond1 i = 1#1), ∀ a, (k0_off6 v169) a + S8x128.size a ≤ S589824x128.size a)
theorem k0_mult3_dvd : ∀ (i : grid0.Coords) (v169 : BitVec 32) (k0_hw2 : k0_chk2 i v169), ∀ (k0_h1 : k0_cond1 i = 1#1), 8 ∣ (k0_mult3 v169).toNat := fun i v169 k0_hw2 k0_h1 => k0_hw2.1 k0_h1
theorem k0_off6_inb : ∀ (i : grid0.Coords) (v169 : BitVec 32) (k0_hw2 : k0_chk2 i v169), ∀ (k0_h1 : k0_cond1 i = 1#1), ∀ a, (k0_off6 v169) a + S8x128.size a ≤ S589824x128.size a := fun i v169 k0_hw2 k0_h1 => k0_hw2.2 k0_h1

def k0_mult4 (k0_t1 : Fin k0_t1_loop.trips) : BitVec 32 :=
  let c8_i32_149 : BitVec 32 := 8#32
  let c0_i32_131 : BitVec 32 := 0#32
  let c1_i32_133 : BitVec 32 := 1#32
  let arg14 : BitVec 32 := Scf.iv c0_i32_131 c1_i32_133 k0_t1
  let v177 : BitVec 32 := Scalar.muli c8_i32_149 arg14
  let c1_i32_150 : BitVec 32 := 1#32
  let v178 : BitVec 32 := Scalar.addi v177 c1_i32_150
  let c8_i32_151 : BitVec 32 := 8#32
  let v179 : BitVec 32 := Scalar.muli v178 c8_i32_151
  v179
def k0_off7 (k0_t1 : Fin k0_t1_loop.trips) : Fin 1 → Nat :=
  let c8_i32_149 : BitVec 32 := 8#32
  let c0_i32_131 : BitVec 32 := 0#32
  let c1_i32_133 : BitVec 32 := 1#32
  let arg14 : BitVec 32 := Scf.iv c0_i32_131 c1_i32_133 k0_t1
  let v177 : BitVec 32 := Scalar.muli c8_i32_149 arg14
  let c1_i32_150 : BitVec 32 := 1#32
  let v178 : BitVec 32 := Scalar.addi v177 c1_i32_150
  let v181 : Index := Scalar.indexCast v178
  ![v181.toNat]
def k0_mult5 (v182 : BitVec 32) : BitVec 32 :=
  let c8_i32_152 : BitVec 32 := 8#32
  let v183 : BitVec 32 := Scalar.muli v182 c8_i32_152
  v183

def k0_off8 (k0_t1 : Fin k0_t1_loop.trips) : Fin 4 → Nat :=
  let c0_i32_153 : BitVec 32 := 0#32
  let c0_i32_154 : BitVec 32 := 0#32
  let c8_i32_149 : BitVec 32 := 8#32
  let c0_i32_131 : BitVec 32 := 0#32
  let c1_i32_133 : BitVec 32 := 1#32
  let arg14 : BitVec 32 := Scf.iv c0_i32_131 c1_i32_133 k0_t1
  let v177 : BitVec 32 := Scalar.muli c8_i32_149 arg14
  let c1_i32_150 : BitVec 32 := 1#32
  let v178 : BitVec 32 := Scalar.addi v177 c1_i32_150
  let c8_i32_151 : BitVec 32 := 8#32
  let v179 : BitVec 32 := Scalar.muli v178 c8_i32_151
  let v180 : BitVec 32 := v179
  let c0_i32_156 : BitVec 32 := 0#32
  ![0, 0, v180.toNat, 0]
def k0_off9 (v182 : BitVec 32) : Fin 2 → Nat :=
  let c8_i32_152 : BitVec 32 := 8#32
  let v183 : BitVec 32 := Scalar.muli v182 c8_i32_152
  let v184 : BitVec 32 := v183
  let c0_i32_157 : BitVec 32 := 0#32
  ![v184.toNat, 0]

def k0_chk3 (i : grid0.Coords) (v182 : BitVec 32) : Prop :=
  (∀ (k0_h1 : k0_cond1 i = 1#1), 8 ∣ (k0_mult5 v182).toNat) ∧
  (∀ (k0_h1 : k0_cond1 i = 1#1), ∀ a, (k0_off9 v182) a + S8x128.size a ≤ S589824x128.size a)
theorem k0_mult5_dvd : ∀ (i : grid0.Coords) (v182 : BitVec 32) (k0_hw3 : k0_chk3 i v182), ∀ (k0_h1 : k0_cond1 i = 1#1), 8 ∣ (k0_mult5 v182).toNat := fun i v182 k0_hw3 k0_h1 => k0_hw3.1 k0_h1
theorem k0_off9_inb : ∀ (i : grid0.Coords) (v182 : BitVec 32) (k0_hw3 : k0_chk3 i v182), ∀ (k0_h1 : k0_cond1 i = 1#1), ∀ a, (k0_off9 v182) a + S8x128.size a ≤ S589824x128.size a := fun i v182 k0_hw3 k0_h1 => k0_hw3.2 k0_h1

def k0_off10 (k0_t1 : Fin k0_t1_loop.trips) : Fin 1 → Nat :=
  let c8_i32_149 : BitVec 32 := 8#32
  let c0_i32_131 : BitVec 32 := 0#32
  let c1_i32_133 : BitVec 32 := 1#32
  let arg14 : BitVec 32 := Scf.iv c0_i32_131 c1_i32_133 k0_t1
  let v177 : BitVec 32 := Scalar.muli c8_i32_149 arg14
  let c1_i32_150 : BitVec 32 := 1#32
  let v178 : BitVec 32 := Scalar.addi v177 c1_i32_150
  let v190 : Index := Scalar.indexCast v178
  ![v190.toNat]
def k0_mult6 (v191 : BitVec 32) : BitVec 32 :=
  let c8_i32_158 : BitVec 32 := 8#32
  let v192 : BitVec 32 := Scalar.muli v191 c8_i32_158
  v192

def k0_off11 (k0_t1 : Fin k0_t1_loop.trips) : Fin 4 → Nat :=
  let c0_i32_159 : BitVec 32 := 0#32
  let c1_i32_160 : BitVec 32 := 1#32
  let c8_i32_149 : BitVec 32 := 8#32
  let c0_i32_131 : BitVec 32 := 0#32
  let c1_i32_133 : BitVec 32 := 1#32
  let arg14 : BitVec 32 := Scf.iv c0_i32_131 c1_i32_133 k0_t1
  let v177 : BitVec 32 := Scalar.muli c8_i32_149 arg14
  let c1_i32_150 : BitVec 32 := 1#32
  let v178 : BitVec 32 := Scalar.addi v177 c1_i32_150
  let c8_i32_151 : BitVec 32 := 8#32
  let v179 : BitVec 32 := Scalar.muli v178 c8_i32_151
  let v180 : BitVec 32 := v179
  let c0_i32_162 : BitVec 32 := 0#32
  ![0, 1, v180.toNat, 0]
def k0_off12 (v191 : BitVec 32) : Fin 2 → Nat :=
  let c8_i32_158 : BitVec 32 := 8#32
  let v192 : BitVec 32 := Scalar.muli v191 c8_i32_158
  let v193 : BitVec 32 := v192
  let c0_i32_163 : BitVec 32 := 0#32
  ![v193.toNat, 0]

def k0_chk4 (i : grid0.Coords) (v191 : BitVec 32) : Prop :=
  (∀ (k0_h1 : k0_cond1 i = 1#1), 8 ∣ (k0_mult6 v191).toNat) ∧
  (∀ (k0_h1 : k0_cond1 i = 1#1), ∀ a, (k0_off12 v191) a + S8x128.size a ≤ S589824x128.size a)
theorem k0_mult6_dvd : ∀ (i : grid0.Coords) (v191 : BitVec 32) (k0_hw4 : k0_chk4 i v191), ∀ (k0_h1 : k0_cond1 i = 1#1), 8 ∣ (k0_mult6 v191).toNat := fun i v191 k0_hw4 k0_h1 => k0_hw4.1 k0_h1
theorem k0_off12_inb : ∀ (i : grid0.Coords) (v191 : BitVec 32) (k0_hw4 : k0_chk4 i v191), ∀ (k0_h1 : k0_cond1 i = 1#1), ∀ a, (k0_off12 v191) a + S8x128.size a ≤ S589824x128.size a := fun i v191 k0_hw4 k0_h1 => k0_hw4.2 k0_h1

def k0_mult7 (k0_t1 : Fin k0_t1_loop.trips) : BitVec 32 :=
  let c8_i32_164 : BitVec 32 := 8#32
  let c0_i32_131 : BitVec 32 := 0#32
  let c1_i32_133 : BitVec 32 := 1#32
  let arg14 : BitVec 32 := Scf.iv c0_i32_131 c1_i32_133 k0_t1
  let v199 : BitVec 32 := Scalar.muli c8_i32_164 arg14
  let c2_i32_165 : BitVec 32 := 2#32
  let v200 : BitVec 32 := Scalar.addi v199 c2_i32_165
  let c8_i32_166 : BitVec 32 := 8#32
  let v201 : BitVec 32 := Scalar.muli v200 c8_i32_166
  v201
def k0_off13 (k0_t1 : Fin k0_t1_loop.trips) : Fin 1 → Nat :=
  let c8_i32_164 : BitVec 32 := 8#32
  let c0_i32_131 : BitVec 32 := 0#32
  let c1_i32_133 : BitVec 32 := 1#32
  let arg14 : BitVec 32 := Scf.iv c0_i32_131 c1_i32_133 k0_t1
  let v199 : BitVec 32 := Scalar.muli c8_i32_164 arg14
  let c2_i32_165 : BitVec 32 := 2#32
  let v200 : BitVec 32 := Scalar.addi v199 c2_i32_165
  let v203 : Index := Scalar.indexCast v200
  ![v203.toNat]
def k0_mult8 (v204 : BitVec 32) : BitVec 32 :=
  let c8_i32_167 : BitVec 32 := 8#32
  let v205 : BitVec 32 := Scalar.muli v204 c8_i32_167
  v205

def k0_off14 (k0_t1 : Fin k0_t1_loop.trips) : Fin 4 → Nat :=
  let c0_i32_168 : BitVec 32 := 0#32
  let c0_i32_169 : BitVec 32 := 0#32
  let c8_i32_164 : BitVec 32 := 8#32
  let c0_i32_131 : BitVec 32 := 0#32
  let c1_i32_133 : BitVec 32 := 1#32
  let arg14 : BitVec 32 := Scf.iv c0_i32_131 c1_i32_133 k0_t1
  let v199 : BitVec 32 := Scalar.muli c8_i32_164 arg14
  let c2_i32_165 : BitVec 32 := 2#32
  let v200 : BitVec 32 := Scalar.addi v199 c2_i32_165
  let c8_i32_166 : BitVec 32 := 8#32
  let v201 : BitVec 32 := Scalar.muli v200 c8_i32_166
  let v202 : BitVec 32 := v201
  let c0_i32_171 : BitVec 32 := 0#32
  ![0, 0, v202.toNat, 0]
def k0_off15 (v204 : BitVec 32) : Fin 2 → Nat :=
  let c8_i32_167 : BitVec 32 := 8#32
  let v205 : BitVec 32 := Scalar.muli v204 c8_i32_167
  let v206 : BitVec 32 := v205
  let c0_i32_172 : BitVec 32 := 0#32
  ![v206.toNat, 0]

def k0_chk5 (i : grid0.Coords) (v204 : BitVec 32) : Prop :=
  (∀ (k0_h1 : k0_cond1 i = 1#1), 8 ∣ (k0_mult8 v204).toNat) ∧
  (∀ (k0_h1 : k0_cond1 i = 1#1), ∀ a, (k0_off15 v204) a + S8x128.size a ≤ S589824x128.size a)
theorem k0_mult8_dvd : ∀ (i : grid0.Coords) (v204 : BitVec 32) (k0_hw5 : k0_chk5 i v204), ∀ (k0_h1 : k0_cond1 i = 1#1), 8 ∣ (k0_mult8 v204).toNat := fun i v204 k0_hw5 k0_h1 => k0_hw5.1 k0_h1
theorem k0_off15_inb : ∀ (i : grid0.Coords) (v204 : BitVec 32) (k0_hw5 : k0_chk5 i v204), ∀ (k0_h1 : k0_cond1 i = 1#1), ∀ a, (k0_off15 v204) a + S8x128.size a ≤ S589824x128.size a := fun i v204 k0_hw5 k0_h1 => k0_hw5.2 k0_h1

def k0_off16 (k0_t1 : Fin k0_t1_loop.trips) : Fin 1 → Nat :=
  let c8_i32_164 : BitVec 32 := 8#32
  let c0_i32_131 : BitVec 32 := 0#32
  let c1_i32_133 : BitVec 32 := 1#32
  let arg14 : BitVec 32 := Scf.iv c0_i32_131 c1_i32_133 k0_t1
  let v199 : BitVec 32 := Scalar.muli c8_i32_164 arg14
  let c2_i32_165 : BitVec 32 := 2#32
  let v200 : BitVec 32 := Scalar.addi v199 c2_i32_165
  let v212 : Index := Scalar.indexCast v200
  ![v212.toNat]
def k0_mult9 (v213 : BitVec 32) : BitVec 32 :=
  let c8_i32_173 : BitVec 32 := 8#32
  let v214 : BitVec 32 := Scalar.muli v213 c8_i32_173
  v214

def k0_off17 (k0_t1 : Fin k0_t1_loop.trips) : Fin 4 → Nat :=
  let c0_i32_174 : BitVec 32 := 0#32
  let c1_i32_175 : BitVec 32 := 1#32
  let c8_i32_164 : BitVec 32 := 8#32
  let c0_i32_131 : BitVec 32 := 0#32
  let c1_i32_133 : BitVec 32 := 1#32
  let arg14 : BitVec 32 := Scf.iv c0_i32_131 c1_i32_133 k0_t1
  let v199 : BitVec 32 := Scalar.muli c8_i32_164 arg14
  let c2_i32_165 : BitVec 32 := 2#32
  let v200 : BitVec 32 := Scalar.addi v199 c2_i32_165
  let c8_i32_166 : BitVec 32 := 8#32
  let v201 : BitVec 32 := Scalar.muli v200 c8_i32_166
  let v202 : BitVec 32 := v201
  let c0_i32_177 : BitVec 32 := 0#32
  ![0, 1, v202.toNat, 0]
def k0_off18 (v213 : BitVec 32) : Fin 2 → Nat :=
  let c8_i32_173 : BitVec 32 := 8#32
  let v214 : BitVec 32 := Scalar.muli v213 c8_i32_173
  let v215 : BitVec 32 := v214
  let c0_i32_178 : BitVec 32 := 0#32
  ![v215.toNat, 0]

def k0_chk6 (i : grid0.Coords) (v213 : BitVec 32) : Prop :=
  (∀ (k0_h1 : k0_cond1 i = 1#1), 8 ∣ (k0_mult9 v213).toNat) ∧
  (∀ (k0_h1 : k0_cond1 i = 1#1), ∀ a, (k0_off18 v213) a + S8x128.size a ≤ S589824x128.size a)
theorem k0_mult9_dvd : ∀ (i : grid0.Coords) (v213 : BitVec 32) (k0_hw6 : k0_chk6 i v213), ∀ (k0_h1 : k0_cond1 i = 1#1), 8 ∣ (k0_mult9 v213).toNat := fun i v213 k0_hw6 k0_h1 => k0_hw6.1 k0_h1
theorem k0_off18_inb : ∀ (i : grid0.Coords) (v213 : BitVec 32) (k0_hw6 : k0_chk6 i v213), ∀ (k0_h1 : k0_cond1 i = 1#1), ∀ a, (k0_off18 v213) a + S8x128.size a ≤ S589824x128.size a := fun i v213 k0_hw6 k0_h1 => k0_hw6.2 k0_h1

def k0_mult10 (k0_t1 : Fin k0_t1_loop.trips) : BitVec 32 :=
  let c8_i32_179 : BitVec 32 := 8#32
  let c0_i32_131 : BitVec 32 := 0#32
  let c1_i32_133 : BitVec 32 := 1#32
  let arg14 : BitVec 32 := Scf.iv c0_i32_131 c1_i32_133 k0_t1
  let v221 : BitVec 32 := Scalar.muli c8_i32_179 arg14
  let c3_i32 : BitVec 32 := 3#32
  let v222 : BitVec 32 := Scalar.addi v221 c3_i32
  let c8_i32_180 : BitVec 32 := 8#32
  let v223 : BitVec 32 := Scalar.muli v222 c8_i32_180
  v223
def k0_off19 (k0_t1 : Fin k0_t1_loop.trips) : Fin 1 → Nat :=
  let c8_i32_179 : BitVec 32 := 8#32
  let c0_i32_131 : BitVec 32 := 0#32
  let c1_i32_133 : BitVec 32 := 1#32
  let arg14 : BitVec 32 := Scf.iv c0_i32_131 c1_i32_133 k0_t1
  let v221 : BitVec 32 := Scalar.muli c8_i32_179 arg14
  let c3_i32 : BitVec 32 := 3#32
  let v222 : BitVec 32 := Scalar.addi v221 c3_i32
  let v225 : Index := Scalar.indexCast v222
  ![v225.toNat]
def k0_mult11 (v226 : BitVec 32) : BitVec 32 :=
  let c8_i32_181 : BitVec 32 := 8#32
  let v227 : BitVec 32 := Scalar.muli v226 c8_i32_181
  v227

def k0_off20 (k0_t1 : Fin k0_t1_loop.trips) : Fin 4 → Nat :=
  let c0_i32_182 : BitVec 32 := 0#32
  let c0_i32_183 : BitVec 32 := 0#32
  let c8_i32_179 : BitVec 32 := 8#32
  let c0_i32_131 : BitVec 32 := 0#32
  let c1_i32_133 : BitVec 32 := 1#32
  let arg14 : BitVec 32 := Scf.iv c0_i32_131 c1_i32_133 k0_t1
  let v221 : BitVec 32 := Scalar.muli c8_i32_179 arg14
  let c3_i32 : BitVec 32 := 3#32
  let v222 : BitVec 32 := Scalar.addi v221 c3_i32
  let c8_i32_180 : BitVec 32 := 8#32
  let v223 : BitVec 32 := Scalar.muli v222 c8_i32_180
  let v224 : BitVec 32 := v223
  let c0_i32_185 : BitVec 32 := 0#32
  ![0, 0, v224.toNat, 0]
def k0_off21 (v226 : BitVec 32) : Fin 2 → Nat :=
  let c8_i32_181 : BitVec 32 := 8#32
  let v227 : BitVec 32 := Scalar.muli v226 c8_i32_181
  let v228 : BitVec 32 := v227
  let c0_i32_186 : BitVec 32 := 0#32
  ![v228.toNat, 0]

def k0_chk7 (i : grid0.Coords) (v226 : BitVec 32) : Prop :=
  (∀ (k0_h1 : k0_cond1 i = 1#1), 8 ∣ (k0_mult11 v226).toNat) ∧
  (∀ (k0_h1 : k0_cond1 i = 1#1), ∀ a, (k0_off21 v226) a + S8x128.size a ≤ S589824x128.size a)
theorem k0_mult11_dvd : ∀ (i : grid0.Coords) (v226 : BitVec 32) (k0_hw7 : k0_chk7 i v226), ∀ (k0_h1 : k0_cond1 i = 1#1), 8 ∣ (k0_mult11 v226).toNat := fun i v226 k0_hw7 k0_h1 => k0_hw7.1 k0_h1
theorem k0_off21_inb : ∀ (i : grid0.Coords) (v226 : BitVec 32) (k0_hw7 : k0_chk7 i v226), ∀ (k0_h1 : k0_cond1 i = 1#1), ∀ a, (k0_off21 v226) a + S8x128.size a ≤ S589824x128.size a := fun i v226 k0_hw7 k0_h1 => k0_hw7.2 k0_h1

def k0_off22 (k0_t1 : Fin k0_t1_loop.trips) : Fin 1 → Nat :=
  let c8_i32_179 : BitVec 32 := 8#32
  let c0_i32_131 : BitVec 32 := 0#32
  let c1_i32_133 : BitVec 32 := 1#32
  let arg14 : BitVec 32 := Scf.iv c0_i32_131 c1_i32_133 k0_t1
  let v221 : BitVec 32 := Scalar.muli c8_i32_179 arg14
  let c3_i32 : BitVec 32 := 3#32
  let v222 : BitVec 32 := Scalar.addi v221 c3_i32
  let v234 : Index := Scalar.indexCast v222
  ![v234.toNat]
def k0_mult12 (v235 : BitVec 32) : BitVec 32 :=
  let c8_i32_187 : BitVec 32 := 8#32
  let v236 : BitVec 32 := Scalar.muli v235 c8_i32_187
  v236

def k0_off23 (k0_t1 : Fin k0_t1_loop.trips) : Fin 4 → Nat :=
  let c0_i32_188 : BitVec 32 := 0#32
  let c1_i32_189 : BitVec 32 := 1#32
  let c8_i32_179 : BitVec 32 := 8#32
  let c0_i32_131 : BitVec 32 := 0#32
  let c1_i32_133 : BitVec 32 := 1#32
  let arg14 : BitVec 32 := Scf.iv c0_i32_131 c1_i32_133 k0_t1
  let v221 : BitVec 32 := Scalar.muli c8_i32_179 arg14
  let c3_i32 : BitVec 32 := 3#32
  let v222 : BitVec 32 := Scalar.addi v221 c3_i32
  let c8_i32_180 : BitVec 32 := 8#32
  let v223 : BitVec 32 := Scalar.muli v222 c8_i32_180
  let v224 : BitVec 32 := v223
  let c0_i32_191 : BitVec 32 := 0#32
  ![0, 1, v224.toNat, 0]
def k0_off24 (v235 : BitVec 32) : Fin 2 → Nat :=
  let c8_i32_187 : BitVec 32 := 8#32
  let v236 : BitVec 32 := Scalar.muli v235 c8_i32_187
  let v237 : BitVec 32 := v236
  let c0_i32_192 : BitVec 32 := 0#32
  ![v237.toNat, 0]

def k0_chk8 (i : grid0.Coords) (v235 : BitVec 32) : Prop :=
  (∀ (k0_h1 : k0_cond1 i = 1#1), 8 ∣ (k0_mult12 v235).toNat) ∧
  (∀ (k0_h1 : k0_cond1 i = 1#1), ∀ a, (k0_off24 v235) a + S8x128.size a ≤ S589824x128.size a)
theorem k0_mult12_dvd : ∀ (i : grid0.Coords) (v235 : BitVec 32) (k0_hw8 : k0_chk8 i v235), ∀ (k0_h1 : k0_cond1 i = 1#1), 8 ∣ (k0_mult12 v235).toNat := fun i v235 k0_hw8 k0_h1 => k0_hw8.1 k0_h1
theorem k0_off24_inb : ∀ (i : grid0.Coords) (v235 : BitVec 32) (k0_hw8 : k0_chk8 i v235), ∀ (k0_h1 : k0_cond1 i = 1#1), ∀ a, (k0_off24 v235) a + S8x128.size a ≤ S589824x128.size a := fun i v235 k0_hw8 k0_h1 => k0_hw8.2 k0_h1

def k0_mult13 (k0_t1 : Fin k0_t1_loop.trips) : BitVec 32 :=
  let c8_i32_193 : BitVec 32 := 8#32
  let c0_i32_131 : BitVec 32 := 0#32
  let c1_i32_133 : BitVec 32 := 1#32
  let arg14 : BitVec 32 := Scf.iv c0_i32_131 c1_i32_133 k0_t1
  let v243 : BitVec 32 := Scalar.muli c8_i32_193 arg14
  let c4_i32 : BitVec 32 := 4#32
  let v244 : BitVec 32 := Scalar.addi v243 c4_i32
  let c8_i32_194 : BitVec 32 := 8#32
  let v245 : BitVec 32 := Scalar.muli v244 c8_i32_194
  v245
def k0_off25 (k0_t1 : Fin k0_t1_loop.trips) : Fin 1 → Nat :=
  let c8_i32_193 : BitVec 32 := 8#32
  let c0_i32_131 : BitVec 32 := 0#32
  let c1_i32_133 : BitVec 32 := 1#32
  let arg14 : BitVec 32 := Scf.iv c0_i32_131 c1_i32_133 k0_t1
  let v243 : BitVec 32 := Scalar.muli c8_i32_193 arg14
  let c4_i32 : BitVec 32 := 4#32
  let v244 : BitVec 32 := Scalar.addi v243 c4_i32
  let v247 : Index := Scalar.indexCast v244
  ![v247.toNat]
def k0_mult14 (v248 : BitVec 32) : BitVec 32 :=
  let c8_i32_195 : BitVec 32 := 8#32
  let v249 : BitVec 32 := Scalar.muli v248 c8_i32_195
  v249

def k0_off26 (k0_t1 : Fin k0_t1_loop.trips) : Fin 4 → Nat :=
  let c0_i32_196 : BitVec 32 := 0#32
  let c0_i32_197 : BitVec 32 := 0#32
  let c8_i32_193 : BitVec 32 := 8#32
  let c0_i32_131 : BitVec 32 := 0#32
  let c1_i32_133 : BitVec 32 := 1#32
  let arg14 : BitVec 32 := Scf.iv c0_i32_131 c1_i32_133 k0_t1
  let v243 : BitVec 32 := Scalar.muli c8_i32_193 arg14
  let c4_i32 : BitVec 32 := 4#32
  let v244 : BitVec 32 := Scalar.addi v243 c4_i32
  let c8_i32_194 : BitVec 32 := 8#32
  let v245 : BitVec 32 := Scalar.muli v244 c8_i32_194
  let v246 : BitVec 32 := v245
  let c0_i32_199 : BitVec 32 := 0#32
  ![0, 0, v246.toNat, 0]
def k0_off27 (v248 : BitVec 32) : Fin 2 → Nat :=
  let c8_i32_195 : BitVec 32 := 8#32
  let v249 : BitVec 32 := Scalar.muli v248 c8_i32_195
  let v250 : BitVec 32 := v249
  let c0_i32_200 : BitVec 32 := 0#32
  ![v250.toNat, 0]

def k0_chk9 (i : grid0.Coords) (v248 : BitVec 32) : Prop :=
  (∀ (k0_h1 : k0_cond1 i = 1#1), 8 ∣ (k0_mult14 v248).toNat) ∧
  (∀ (k0_h1 : k0_cond1 i = 1#1), ∀ a, (k0_off27 v248) a + S8x128.size a ≤ S589824x128.size a)
theorem k0_mult14_dvd : ∀ (i : grid0.Coords) (v248 : BitVec 32) (k0_hw9 : k0_chk9 i v248), ∀ (k0_h1 : k0_cond1 i = 1#1), 8 ∣ (k0_mult14 v248).toNat := fun i v248 k0_hw9 k0_h1 => k0_hw9.1 k0_h1
theorem k0_off27_inb : ∀ (i : grid0.Coords) (v248 : BitVec 32) (k0_hw9 : k0_chk9 i v248), ∀ (k0_h1 : k0_cond1 i = 1#1), ∀ a, (k0_off27 v248) a + S8x128.size a ≤ S589824x128.size a := fun i v248 k0_hw9 k0_h1 => k0_hw9.2 k0_h1

def k0_off28 (k0_t1 : Fin k0_t1_loop.trips) : Fin 1 → Nat :=
  let c8_i32_193 : BitVec 32 := 8#32
  let c0_i32_131 : BitVec 32 := 0#32
  let c1_i32_133 : BitVec 32 := 1#32
  let arg14 : BitVec 32 := Scf.iv c0_i32_131 c1_i32_133 k0_t1
  let v243 : BitVec 32 := Scalar.muli c8_i32_193 arg14
  let c4_i32 : BitVec 32 := 4#32
  let v244 : BitVec 32 := Scalar.addi v243 c4_i32
  let v256 : Index := Scalar.indexCast v244
  ![v256.toNat]
def k0_mult15 (v257 : BitVec 32) : BitVec 32 :=
  let c8_i32_201 : BitVec 32 := 8#32
  let v258 : BitVec 32 := Scalar.muli v257 c8_i32_201
  v258

def k0_off29 (k0_t1 : Fin k0_t1_loop.trips) : Fin 4 → Nat :=
  let c0_i32_202 : BitVec 32 := 0#32
  let c1_i32_203 : BitVec 32 := 1#32
  let c8_i32_193 : BitVec 32 := 8#32
  let c0_i32_131 : BitVec 32 := 0#32
  let c1_i32_133 : BitVec 32 := 1#32
  let arg14 : BitVec 32 := Scf.iv c0_i32_131 c1_i32_133 k0_t1
  let v243 : BitVec 32 := Scalar.muli c8_i32_193 arg14
  let c4_i32 : BitVec 32 := 4#32
  let v244 : BitVec 32 := Scalar.addi v243 c4_i32
  let c8_i32_194 : BitVec 32 := 8#32
  let v245 : BitVec 32 := Scalar.muli v244 c8_i32_194
  let v246 : BitVec 32 := v245
  let c0_i32_205 : BitVec 32 := 0#32
  ![0, 1, v246.toNat, 0]
def k0_off30 (v257 : BitVec 32) : Fin 2 → Nat :=
  let c8_i32_201 : BitVec 32 := 8#32
  let v258 : BitVec 32 := Scalar.muli v257 c8_i32_201
  let v259 : BitVec 32 := v258
  let c0_i32_206 : BitVec 32 := 0#32
  ![v259.toNat, 0]

def k0_chk10 (i : grid0.Coords) (v257 : BitVec 32) : Prop :=
  (∀ (k0_h1 : k0_cond1 i = 1#1), 8 ∣ (k0_mult15 v257).toNat) ∧
  (∀ (k0_h1 : k0_cond1 i = 1#1), ∀ a, (k0_off30 v257) a + S8x128.size a ≤ S589824x128.size a)
theorem k0_mult15_dvd : ∀ (i : grid0.Coords) (v257 : BitVec 32) (k0_hw10 : k0_chk10 i v257), ∀ (k0_h1 : k0_cond1 i = 1#1), 8 ∣ (k0_mult15 v257).toNat := fun i v257 k0_hw10 k0_h1 => k0_hw10.1 k0_h1
theorem k0_off30_inb : ∀ (i : grid0.Coords) (v257 : BitVec 32) (k0_hw10 : k0_chk10 i v257), ∀ (k0_h1 : k0_cond1 i = 1#1), ∀ a, (k0_off30 v257) a + S8x128.size a ≤ S589824x128.size a := fun i v257 k0_hw10 k0_h1 => k0_hw10.2 k0_h1

def k0_mult16 (k0_t1 : Fin k0_t1_loop.trips) : BitVec 32 :=
  let c8_i32_207 : BitVec 32 := 8#32
  let c0_i32_131 : BitVec 32 := 0#32
  let c1_i32_133 : BitVec 32 := 1#32
  let arg14 : BitVec 32 := Scf.iv c0_i32_131 c1_i32_133 k0_t1
  let v265 : BitVec 32 := Scalar.muli c8_i32_207 arg14
  let c5_i32 : BitVec 32 := 5#32
  let v266 : BitVec 32 := Scalar.addi v265 c5_i32
  let c8_i32_208 : BitVec 32 := 8#32
  let v267 : BitVec 32 := Scalar.muli v266 c8_i32_208
  v267
def k0_off31 (k0_t1 : Fin k0_t1_loop.trips) : Fin 1 → Nat :=
  let c8_i32_207 : BitVec 32 := 8#32
  let c0_i32_131 : BitVec 32 := 0#32
  let c1_i32_133 : BitVec 32 := 1#32
  let arg14 : BitVec 32 := Scf.iv c0_i32_131 c1_i32_133 k0_t1
  let v265 : BitVec 32 := Scalar.muli c8_i32_207 arg14
  let c5_i32 : BitVec 32 := 5#32
  let v266 : BitVec 32 := Scalar.addi v265 c5_i32
  let v269 : Index := Scalar.indexCast v266
  ![v269.toNat]
def k0_mult17 (v270 : BitVec 32) : BitVec 32 :=
  let c8_i32_209 : BitVec 32 := 8#32
  let v271 : BitVec 32 := Scalar.muli v270 c8_i32_209
  v271

def k0_off32 (k0_t1 : Fin k0_t1_loop.trips) : Fin 4 → Nat :=
  let c0_i32_210 : BitVec 32 := 0#32
  let c0_i32_211 : BitVec 32 := 0#32
  let c8_i32_207 : BitVec 32 := 8#32
  let c0_i32_131 : BitVec 32 := 0#32
  let c1_i32_133 : BitVec 32 := 1#32
  let arg14 : BitVec 32 := Scf.iv c0_i32_131 c1_i32_133 k0_t1
  let v265 : BitVec 32 := Scalar.muli c8_i32_207 arg14
  let c5_i32 : BitVec 32 := 5#32
  let v266 : BitVec 32 := Scalar.addi v265 c5_i32
  let c8_i32_208 : BitVec 32 := 8#32
  let v267 : BitVec 32 := Scalar.muli v266 c8_i32_208
  let v268 : BitVec 32 := v267
  let c0_i32_213 : BitVec 32 := 0#32
  ![0, 0, v268.toNat, 0]
def k0_off33 (v270 : BitVec 32) : Fin 2 → Nat :=
  let c8_i32_209 : BitVec 32 := 8#32
  let v271 : BitVec 32 := Scalar.muli v270 c8_i32_209
  let v272 : BitVec 32 := v271
  let c0_i32_214 : BitVec 32 := 0#32
  ![v272.toNat, 0]

def k0_chk11 (i : grid0.Coords) (v270 : BitVec 32) : Prop :=
  (∀ (k0_h1 : k0_cond1 i = 1#1), 8 ∣ (k0_mult17 v270).toNat) ∧
  (∀ (k0_h1 : k0_cond1 i = 1#1), ∀ a, (k0_off33 v270) a + S8x128.size a ≤ S589824x128.size a)
theorem k0_mult17_dvd : ∀ (i : grid0.Coords) (v270 : BitVec 32) (k0_hw11 : k0_chk11 i v270), ∀ (k0_h1 : k0_cond1 i = 1#1), 8 ∣ (k0_mult17 v270).toNat := fun i v270 k0_hw11 k0_h1 => k0_hw11.1 k0_h1
theorem k0_off33_inb : ∀ (i : grid0.Coords) (v270 : BitVec 32) (k0_hw11 : k0_chk11 i v270), ∀ (k0_h1 : k0_cond1 i = 1#1), ∀ a, (k0_off33 v270) a + S8x128.size a ≤ S589824x128.size a := fun i v270 k0_hw11 k0_h1 => k0_hw11.2 k0_h1

def k0_off34 (k0_t1 : Fin k0_t1_loop.trips) : Fin 1 → Nat :=
  let c8_i32_207 : BitVec 32 := 8#32
  let c0_i32_131 : BitVec 32 := 0#32
  let c1_i32_133 : BitVec 32 := 1#32
  let arg14 : BitVec 32 := Scf.iv c0_i32_131 c1_i32_133 k0_t1
  let v265 : BitVec 32 := Scalar.muli c8_i32_207 arg14
  let c5_i32 : BitVec 32 := 5#32
  let v266 : BitVec 32 := Scalar.addi v265 c5_i32
  let v278 : Index := Scalar.indexCast v266
  ![v278.toNat]
def k0_mult18 (v279 : BitVec 32) : BitVec 32 :=
  let c8_i32_215 : BitVec 32 := 8#32
  let v280 : BitVec 32 := Scalar.muli v279 c8_i32_215
  v280

def k0_off35 (k0_t1 : Fin k0_t1_loop.trips) : Fin 4 → Nat :=
  let c0_i32_216 : BitVec 32 := 0#32
  let c1_i32_217 : BitVec 32 := 1#32
  let c8_i32_207 : BitVec 32 := 8#32
  let c0_i32_131 : BitVec 32 := 0#32
  let c1_i32_133 : BitVec 32 := 1#32
  let arg14 : BitVec 32 := Scf.iv c0_i32_131 c1_i32_133 k0_t1
  let v265 : BitVec 32 := Scalar.muli c8_i32_207 arg14
  let c5_i32 : BitVec 32 := 5#32
  let v266 : BitVec 32 := Scalar.addi v265 c5_i32
  let c8_i32_208 : BitVec 32 := 8#32
  let v267 : BitVec 32 := Scalar.muli v266 c8_i32_208
  let v268 : BitVec 32 := v267
  let c0_i32_219 : BitVec 32 := 0#32
  ![0, 1, v268.toNat, 0]
def k0_off36 (v279 : BitVec 32) : Fin 2 → Nat :=
  let c8_i32_215 : BitVec 32 := 8#32
  let v280 : BitVec 32 := Scalar.muli v279 c8_i32_215
  let v281 : BitVec 32 := v280
  let c0_i32_220 : BitVec 32 := 0#32
  ![v281.toNat, 0]

def k0_chk12 (i : grid0.Coords) (v279 : BitVec 32) : Prop :=
  (∀ (k0_h1 : k0_cond1 i = 1#1), 8 ∣ (k0_mult18 v279).toNat) ∧
  (∀ (k0_h1 : k0_cond1 i = 1#1), ∀ a, (k0_off36 v279) a + S8x128.size a ≤ S589824x128.size a)
theorem k0_mult18_dvd : ∀ (i : grid0.Coords) (v279 : BitVec 32) (k0_hw12 : k0_chk12 i v279), ∀ (k0_h1 : k0_cond1 i = 1#1), 8 ∣ (k0_mult18 v279).toNat := fun i v279 k0_hw12 k0_h1 => k0_hw12.1 k0_h1
theorem k0_off36_inb : ∀ (i : grid0.Coords) (v279 : BitVec 32) (k0_hw12 : k0_chk12 i v279), ∀ (k0_h1 : k0_cond1 i = 1#1), ∀ a, (k0_off36 v279) a + S8x128.size a ≤ S589824x128.size a := fun i v279 k0_hw12 k0_h1 => k0_hw12.2 k0_h1

def k0_mult19 (k0_t1 : Fin k0_t1_loop.trips) : BitVec 32 :=
  let c8_i32_221 : BitVec 32 := 8#32
  let c0_i32_131 : BitVec 32 := 0#32
  let c1_i32_133 : BitVec 32 := 1#32
  let arg14 : BitVec 32 := Scf.iv c0_i32_131 c1_i32_133 k0_t1
  let v287 : BitVec 32 := Scalar.muli c8_i32_221 arg14
  let c6_i32 : BitVec 32 := 6#32
  let v288 : BitVec 32 := Scalar.addi v287 c6_i32
  let c8_i32_222 : BitVec 32 := 8#32
  let v289 : BitVec 32 := Scalar.muli v288 c8_i32_222
  v289
def k0_off37 (k0_t1 : Fin k0_t1_loop.trips) : Fin 1 → Nat :=
  let c8_i32_221 : BitVec 32 := 8#32
  let c0_i32_131 : BitVec 32 := 0#32
  let c1_i32_133 : BitVec 32 := 1#32
  let arg14 : BitVec 32 := Scf.iv c0_i32_131 c1_i32_133 k0_t1
  let v287 : BitVec 32 := Scalar.muli c8_i32_221 arg14
  let c6_i32 : BitVec 32 := 6#32
  let v288 : BitVec 32 := Scalar.addi v287 c6_i32
  let v291 : Index := Scalar.indexCast v288
  ![v291.toNat]
def k0_mult20 (v292 : BitVec 32) : BitVec 32 :=
  let c8_i32_223 : BitVec 32 := 8#32
  let v293 : BitVec 32 := Scalar.muli v292 c8_i32_223
  v293

def k0_off38 (k0_t1 : Fin k0_t1_loop.trips) : Fin 4 → Nat :=
  let c0_i32_224 : BitVec 32 := 0#32
  let c0_i32_225 : BitVec 32 := 0#32
  let c8_i32_221 : BitVec 32 := 8#32
  let c0_i32_131 : BitVec 32 := 0#32
  let c1_i32_133 : BitVec 32 := 1#32
  let arg14 : BitVec 32 := Scf.iv c0_i32_131 c1_i32_133 k0_t1
  let v287 : BitVec 32 := Scalar.muli c8_i32_221 arg14
  let c6_i32 : BitVec 32 := 6#32
  let v288 : BitVec 32 := Scalar.addi v287 c6_i32
  let c8_i32_222 : BitVec 32 := 8#32
  let v289 : BitVec 32 := Scalar.muli v288 c8_i32_222
  let v290 : BitVec 32 := v289
  let c0_i32_227 : BitVec 32 := 0#32
  ![0, 0, v290.toNat, 0]
def k0_off39 (v292 : BitVec 32) : Fin 2 → Nat :=
  let c8_i32_223 : BitVec 32 := 8#32
  let v293 : BitVec 32 := Scalar.muli v292 c8_i32_223
  let v294 : BitVec 32 := v293
  let c0_i32_228 : BitVec 32 := 0#32
  ![v294.toNat, 0]

def k0_chk13 (i : grid0.Coords) (v292 : BitVec 32) : Prop :=
  (∀ (k0_h1 : k0_cond1 i = 1#1), 8 ∣ (k0_mult20 v292).toNat) ∧
  (∀ (k0_h1 : k0_cond1 i = 1#1), ∀ a, (k0_off39 v292) a + S8x128.size a ≤ S589824x128.size a)
theorem k0_mult20_dvd : ∀ (i : grid0.Coords) (v292 : BitVec 32) (k0_hw13 : k0_chk13 i v292), ∀ (k0_h1 : k0_cond1 i = 1#1), 8 ∣ (k0_mult20 v292).toNat := fun i v292 k0_hw13 k0_h1 => k0_hw13.1 k0_h1
theorem k0_off39_inb : ∀ (i : grid0.Coords) (v292 : BitVec 32) (k0_hw13 : k0_chk13 i v292), ∀ (k0_h1 : k0_cond1 i = 1#1), ∀ a, (k0_off39 v292) a + S8x128.size a ≤ S589824x128.size a := fun i v292 k0_hw13 k0_h1 => k0_hw13.2 k0_h1

def k0_off40 (k0_t1 : Fin k0_t1_loop.trips) : Fin 1 → Nat :=
  let c8_i32_221 : BitVec 32 := 8#32
  let c0_i32_131 : BitVec 32 := 0#32
  let c1_i32_133 : BitVec 32 := 1#32
  let arg14 : BitVec 32 := Scf.iv c0_i32_131 c1_i32_133 k0_t1
  let v287 : BitVec 32 := Scalar.muli c8_i32_221 arg14
  let c6_i32 : BitVec 32 := 6#32
  let v288 : BitVec 32 := Scalar.addi v287 c6_i32
  let v300 : Index := Scalar.indexCast v288
  ![v300.toNat]
def k0_mult21 (v301 : BitVec 32) : BitVec 32 :=
  let c8_i32_229 : BitVec 32 := 8#32
  let v302 : BitVec 32 := Scalar.muli v301 c8_i32_229
  v302

def k0_off41 (k0_t1 : Fin k0_t1_loop.trips) : Fin 4 → Nat :=
  let c0_i32_230 : BitVec 32 := 0#32
  let c1_i32_231 : BitVec 32 := 1#32
  let c8_i32_221 : BitVec 32 := 8#32
  let c0_i32_131 : BitVec 32 := 0#32
  let c1_i32_133 : BitVec 32 := 1#32
  let arg14 : BitVec 32 := Scf.iv c0_i32_131 c1_i32_133 k0_t1
  let v287 : BitVec 32 := Scalar.muli c8_i32_221 arg14
  let c6_i32 : BitVec 32 := 6#32
  let v288 : BitVec 32 := Scalar.addi v287 c6_i32
  let c8_i32_222 : BitVec 32 := 8#32
  let v289 : BitVec 32 := Scalar.muli v288 c8_i32_222
  let v290 : BitVec 32 := v289
  let c0_i32_233 : BitVec 32 := 0#32
  ![0, 1, v290.toNat, 0]
def k0_off42 (v301 : BitVec 32) : Fin 2 → Nat :=
  let c8_i32_229 : BitVec 32 := 8#32
  let v302 : BitVec 32 := Scalar.muli v301 c8_i32_229
  let v303 : BitVec 32 := v302
  let c0_i32_234 : BitVec 32 := 0#32
  ![v303.toNat, 0]

def k0_chk14 (i : grid0.Coords) (v301 : BitVec 32) : Prop :=
  (∀ (k0_h1 : k0_cond1 i = 1#1), 8 ∣ (k0_mult21 v301).toNat) ∧
  (∀ (k0_h1 : k0_cond1 i = 1#1), ∀ a, (k0_off42 v301) a + S8x128.size a ≤ S589824x128.size a)
theorem k0_mult21_dvd : ∀ (i : grid0.Coords) (v301 : BitVec 32) (k0_hw14 : k0_chk14 i v301), ∀ (k0_h1 : k0_cond1 i = 1#1), 8 ∣ (k0_mult21 v301).toNat := fun i v301 k0_hw14 k0_h1 => k0_hw14.1 k0_h1
theorem k0_off42_inb : ∀ (i : grid0.Coords) (v301 : BitVec 32) (k0_hw14 : k0_chk14 i v301), ∀ (k0_h1 : k0_cond1 i = 1#1), ∀ a, (k0_off42 v301) a + S8x128.size a ≤ S589824x128.size a := fun i v301 k0_hw14 k0_h1 => k0_hw14.2 k0_h1

def k0_mult22 (k0_t1 : Fin k0_t1_loop.trips) : BitVec 32 :=
  let c8_i32_235 : BitVec 32 := 8#32
  let c0_i32_131 : BitVec 32 := 0#32
  let c1_i32_133 : BitVec 32 := 1#32
  let arg14 : BitVec 32 := Scf.iv c0_i32_131 c1_i32_133 k0_t1
  let v309 : BitVec 32 := Scalar.muli c8_i32_235 arg14
  let c7_i32 : BitVec 32 := 7#32
  let v310 : BitVec 32 := Scalar.addi v309 c7_i32
  let c8_i32_236 : BitVec 32 := 8#32
  let v311 : BitVec 32 := Scalar.muli v310 c8_i32_236
  v311
def k0_off43 (k0_t1 : Fin k0_t1_loop.trips) : Fin 1 → Nat :=
  let c8_i32_235 : BitVec 32 := 8#32
  let c0_i32_131 : BitVec 32 := 0#32
  let c1_i32_133 : BitVec 32 := 1#32
  let arg14 : BitVec 32 := Scf.iv c0_i32_131 c1_i32_133 k0_t1
  let v309 : BitVec 32 := Scalar.muli c8_i32_235 arg14
  let c7_i32 : BitVec 32 := 7#32
  let v310 : BitVec 32 := Scalar.addi v309 c7_i32
  let v313 : Index := Scalar.indexCast v310
  ![v313.toNat]
def k0_mult23 (v314 : BitVec 32) : BitVec 32 :=
  let c8_i32_237 : BitVec 32 := 8#32
  let v315 : BitVec 32 := Scalar.muli v314 c8_i32_237
  v315

def k0_off44 (k0_t1 : Fin k0_t1_loop.trips) : Fin 4 → Nat :=
  let c0_i32_238 : BitVec 32 := 0#32
  let c0_i32_239 : BitVec 32 := 0#32
  let c8_i32_235 : BitVec 32 := 8#32
  let c0_i32_131 : BitVec 32 := 0#32
  let c1_i32_133 : BitVec 32 := 1#32
  let arg14 : BitVec 32 := Scf.iv c0_i32_131 c1_i32_133 k0_t1
  let v309 : BitVec 32 := Scalar.muli c8_i32_235 arg14
  let c7_i32 : BitVec 32 := 7#32
  let v310 : BitVec 32 := Scalar.addi v309 c7_i32
  let c8_i32_236 : BitVec 32 := 8#32
  let v311 : BitVec 32 := Scalar.muli v310 c8_i32_236
  let v312 : BitVec 32 := v311
  let c0_i32_241 : BitVec 32 := 0#32
  ![0, 0, v312.toNat, 0]
def k0_off45 (v314 : BitVec 32) : Fin 2 → Nat :=
  let c8_i32_237 : BitVec 32 := 8#32
  let v315 : BitVec 32 := Scalar.muli v314 c8_i32_237
  let v316 : BitVec 32 := v315
  let c0_i32_242 : BitVec 32 := 0#32
  ![v316.toNat, 0]

def k0_chk15 (i : grid0.Coords) (v314 : BitVec 32) : Prop :=
  (∀ (k0_h1 : k0_cond1 i = 1#1), 8 ∣ (k0_mult23 v314).toNat) ∧
  (∀ (k0_h1 : k0_cond1 i = 1#1), ∀ a, (k0_off45 v314) a + S8x128.size a ≤ S589824x128.size a)
theorem k0_mult23_dvd : ∀ (i : grid0.Coords) (v314 : BitVec 32) (k0_hw15 : k0_chk15 i v314), ∀ (k0_h1 : k0_cond1 i = 1#1), 8 ∣ (k0_mult23 v314).toNat := fun i v314 k0_hw15 k0_h1 => k0_hw15.1 k0_h1
theorem k0_off45_inb : ∀ (i : grid0.Coords) (v314 : BitVec 32) (k0_hw15 : k0_chk15 i v314), ∀ (k0_h1 : k0_cond1 i = 1#1), ∀ a, (k0_off45 v314) a + S8x128.size a ≤ S589824x128.size a := fun i v314 k0_hw15 k0_h1 => k0_hw15.2 k0_h1

def k0_off46 (k0_t1 : Fin k0_t1_loop.trips) : Fin 1 → Nat :=
  let c8_i32_235 : BitVec 32 := 8#32
  let c0_i32_131 : BitVec 32 := 0#32
  let c1_i32_133 : BitVec 32 := 1#32
  let arg14 : BitVec 32 := Scf.iv c0_i32_131 c1_i32_133 k0_t1
  let v309 : BitVec 32 := Scalar.muli c8_i32_235 arg14
  let c7_i32 : BitVec 32 := 7#32
  let v310 : BitVec 32 := Scalar.addi v309 c7_i32
  let v322 : Index := Scalar.indexCast v310
  ![v322.toNat]
def k0_mult24 (v323 : BitVec 32) : BitVec 32 :=
  let c8_i32_243 : BitVec 32 := 8#32
  let v324 : BitVec 32 := Scalar.muli v323 c8_i32_243
  v324

def k0_off47 (k0_t1 : Fin k0_t1_loop.trips) : Fin 4 → Nat :=
  let c0_i32_244 : BitVec 32 := 0#32
  let c1_i32_245 : BitVec 32 := 1#32
  let c8_i32_235 : BitVec 32 := 8#32
  let c0_i32_131 : BitVec 32 := 0#32
  let c1_i32_133 : BitVec 32 := 1#32
  let arg14 : BitVec 32 := Scf.iv c0_i32_131 c1_i32_133 k0_t1
  let v309 : BitVec 32 := Scalar.muli c8_i32_235 arg14
  let c7_i32 : BitVec 32 := 7#32
  let v310 : BitVec 32 := Scalar.addi v309 c7_i32
  let c8_i32_236 : BitVec 32 := 8#32
  let v311 : BitVec 32 := Scalar.muli v310 c8_i32_236
  let v312 : BitVec 32 := v311
  let c0_i32_247 : BitVec 32 := 0#32
  ![0, 1, v312.toNat, 0]
def k0_off48 (v323 : BitVec 32) : Fin 2 → Nat :=
  let c8_i32_243 : BitVec 32 := 8#32
  let v324 : BitVec 32 := Scalar.muli v323 c8_i32_243
  let v325 : BitVec 32 := v324
  let c0_i32_248 : BitVec 32 := 0#32
  ![v325.toNat, 0]

def k0_chk16 (i : grid0.Coords) (v323 : BitVec 32) : Prop :=
  (∀ (k0_h1 : k0_cond1 i = 1#1), 8 ∣ (k0_mult24 v323).toNat) ∧
  (∀ (k0_h1 : k0_cond1 i = 1#1), ∀ a, (k0_off48 v323) a + S8x128.size a ≤ S589824x128.size a)
theorem k0_mult24_dvd : ∀ (i : grid0.Coords) (v323 : BitVec 32) (k0_hw16 : k0_chk16 i v323), ∀ (k0_h1 : k0_cond1 i = 1#1), 8 ∣ (k0_mult24 v323).toNat := fun i v323 k0_hw16 k0_h1 => k0_hw16.1 k0_h1
theorem k0_off48_inb : ∀ (i : grid0.Coords) (v323 : BitVec 32) (k0_hw16 : k0_chk16 i v323), ∀ (k0_h1 : k0_cond1 i = 1#1), ∀ a, (k0_off48 v323) a + S8x128.size a ≤ S589824x128.size a := fun i v323 k0_hw16 k0_h1 => k0_hw16.2 k0_h1

def k0_cond2 (i : grid0.Coords) : BitVec 1 :=
  let arg0 : BitVec 32 := BitVec.ofNat 32 (i 0).val
  let c1_i32_5 : BitVec 32 := 1#32
  let v13 : BitVec 32 := Scalar.addi arg0 c1_i32_5
  let c64_i32 : BitVec 32 := 64#32
  let v14 : BitVec 1 := Scalar.cmpi .slt v13 c64_i32
  let v15 : BitVec 32 := Scalar.extui v14
  let c0_i32_6 : BitVec 32 := 0#32
  let v16 : BitVec 1 := Scalar.cmpi .ne v15 c0_i32_6
  v16

@[reducible] def k0_t2_loop : Scf.Loop 32 :=
  let c0_i32_132 : BitVec 32 := 0#32
  let c64_i32_133 : BitVec 32 := 64#32
  let v155 : BitVec 32 := Scalar.addi c0_i32_132 c64_i32_133
  let c1_i32_134 : BitVec 32 := 1#32
  ⟨c0_i32_132, v155, c1_i32_134⟩
def k0_mult25 (k0_t2 : Fin k0_t2_loop.trips) : BitVec 32 :=
  let c8_i32 : BitVec 32 := 8#32
  let c0_i32_132 : BitVec 32 := 0#32
  let c1_i32_134 : BitVec 32 := 1#32
  let arg14 : BitVec 32 := Scf.iv c0_i32_132 c1_i32_134 k0_t2
  let v156 : BitVec 32 := Scalar.muli c8_i32 arg14
  let c0_i32_136 : BitVec 32 := 0#32
  let v157 : BitVec 32 := Scalar.addi v156 c0_i32_136
  let c8_i32_137 : BitVec 32 := 8#32
  let v158 : BitVec 32 := Scalar.muli v157 c8_i32_137
  v158
def k0_off49 (k0_t2 : Fin k0_t2_loop.trips) : Fin 1 → Nat :=
  let c8_i32 : BitVec 32 := 8#32
  let c0_i32_132 : BitVec 32 := 0#32
  let c1_i32_134 : BitVec 32 := 1#32
  let arg14 : BitVec 32 := Scf.iv c0_i32_132 c1_i32_134 k0_t2
  let v156 : BitVec 32 := Scalar.muli c8_i32 arg14
  let c0_i32_136 : BitVec 32 := 0#32
  let v157 : BitVec 32 := Scalar.addi v156 c0_i32_136
  let v160 : Index := Scalar.indexCast v157
  ![v160.toNat]
def k0_mult26 (v161 : BitVec 32) : BitVec 32 :=
  let c8_i32_138 : BitVec 32 := 8#32
  let v162 : BitVec 32 := Scalar.muli v161 c8_i32_138
  v162

def k0_off50 (i : grid0.Coords) : Fin 1 → Nat :=
  let c1_i32_131 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : BitVec 32 := Scalar.subi c1_i32_131 v9
  ![v154.toNat]
def k0_off51 (i : grid0.Coords) (k0_t2 : Fin k0_t2_loop.trips) : Fin 4 → Nat :=
  let c1_i32_131 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : BitVec 32 := Scalar.subi c1_i32_131 v9
  let c0_i32_139 : BitVec 32 := 0#32
  let c8_i32 : BitVec 32 := 8#32
  let c0_i32_132 : BitVec 32 := 0#32
  let c1_i32_134 : BitVec 32 := 1#32
  let arg14 : BitVec 32 := Scf.iv c0_i32_132 c1_i32_134 k0_t2
  let v156 : BitVec 32 := Scalar.muli c8_i32 arg14
  let c0_i32_136 : BitVec 32 := 0#32
  let v157 : BitVec 32 := Scalar.addi v156 c0_i32_136
  let c8_i32_137 : BitVec 32 := 8#32
  let v158 : BitVec 32 := Scalar.muli v157 c8_i32_137
  let v159 : BitVec 32 := v158
  let c0_i32_140 : BitVec 32 := 0#32
  ![v154.toNat, 0, v159.toNat, 0]
def k0_off52 (v161 : BitVec 32) : Fin 2 → Nat :=
  let c8_i32_138 : BitVec 32 := 8#32
  let v162 : BitVec 32 := Scalar.muli v161 c8_i32_138
  let v163 : BitVec 32 := v162
  let c0_i32_141 : BitVec 32 := 0#32
  ![v163.toNat, 0]

def k0_chk17 (i : grid0.Coords) (v161 : BitVec 32) : Prop :=
  (∀ (k0_h2 : k0_cond2 i = 1#1), 8 ∣ (k0_mult26 v161).toNat) ∧
  (∀ (k0_h2 : k0_cond2 i = 1#1), ∀ a, (k0_off52 v161) a + S8x128.size a ≤ S589824x128.size a)
theorem k0_mult26_dvd : ∀ (i : grid0.Coords) (v161 : BitVec 32) (k0_hw17 : k0_chk17 i v161), ∀ (k0_h2 : k0_cond2 i = 1#1), 8 ∣ (k0_mult26 v161).toNat := fun i v161 k0_hw17 k0_h2 => k0_hw17.1 k0_h2
theorem k0_off52_inb : ∀ (i : grid0.Coords) (v161 : BitVec 32) (k0_hw17 : k0_chk17 i v161), ∀ (k0_h2 : k0_cond2 i = 1#1), ∀ a, (k0_off52 v161) a + S8x128.size a ≤ S589824x128.size a := fun i v161 k0_hw17 k0_h2 => k0_hw17.2 k0_h2

def k0_off53 (k0_t2 : Fin k0_t2_loop.trips) : Fin 1 → Nat :=
  let c8_i32 : BitVec 32 := 8#32
  let c0_i32_132 : BitVec 32 := 0#32
  let c1_i32_134 : BitVec 32 := 1#32
  let arg14 : BitVec 32 := Scf.iv c0_i32_132 c1_i32_134 k0_t2
  let v156 : BitVec 32 := Scalar.muli c8_i32 arg14
  let c0_i32_136 : BitVec 32 := 0#32
  let v157 : BitVec 32 := Scalar.addi v156 c0_i32_136
  let v169 : Index := Scalar.indexCast v157
  ![v169.toNat]
def k0_mult27 (v170 : BitVec 32) : BitVec 32 :=
  let c8_i32_142 : BitVec 32 := 8#32
  let v171 : BitVec 32 := Scalar.muli v170 c8_i32_142
  v171

def k0_off54 (i : grid0.Coords) : Fin 1 → Nat :=
  let c1_i32_131 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : BitVec 32 := Scalar.subi c1_i32_131 v9
  ![v154.toNat]
def k0_off55 (i : grid0.Coords) (k0_t2 : Fin k0_t2_loop.trips) : Fin 4 → Nat :=
  let c1_i32_131 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : BitVec 32 := Scalar.subi c1_i32_131 v9
  let c1_i32_143 : BitVec 32 := 1#32
  let c8_i32 : BitVec 32 := 8#32
  let c0_i32_132 : BitVec 32 := 0#32
  let c1_i32_134 : BitVec 32 := 1#32
  let arg14 : BitVec 32 := Scf.iv c0_i32_132 c1_i32_134 k0_t2
  let v156 : BitVec 32 := Scalar.muli c8_i32 arg14
  let c0_i32_136 : BitVec 32 := 0#32
  let v157 : BitVec 32 := Scalar.addi v156 c0_i32_136
  let c8_i32_137 : BitVec 32 := 8#32
  let v158 : BitVec 32 := Scalar.muli v157 c8_i32_137
  let v159 : BitVec 32 := v158
  let c0_i32_144 : BitVec 32 := 0#32
  ![v154.toNat, 1, v159.toNat, 0]
def k0_off56 (v170 : BitVec 32) : Fin 2 → Nat :=
  let c8_i32_142 : BitVec 32 := 8#32
  let v171 : BitVec 32 := Scalar.muli v170 c8_i32_142
  let v172 : BitVec 32 := v171
  let c0_i32_145 : BitVec 32 := 0#32
  ![v172.toNat, 0]

def k0_chk18 (i : grid0.Coords) (v170 : BitVec 32) : Prop :=
  (∀ (k0_h2 : k0_cond2 i = 1#1), 8 ∣ (k0_mult27 v170).toNat) ∧
  (∀ (k0_h2 : k0_cond2 i = 1#1), ∀ a, (k0_off56 v170) a + S8x128.size a ≤ S589824x128.size a)
theorem k0_mult27_dvd : ∀ (i : grid0.Coords) (v170 : BitVec 32) (k0_hw18 : k0_chk18 i v170), ∀ (k0_h2 : k0_cond2 i = 1#1), 8 ∣ (k0_mult27 v170).toNat := fun i v170 k0_hw18 k0_h2 => k0_hw18.1 k0_h2
theorem k0_off56_inb : ∀ (i : grid0.Coords) (v170 : BitVec 32) (k0_hw18 : k0_chk18 i v170), ∀ (k0_h2 : k0_cond2 i = 1#1), ∀ a, (k0_off56 v170) a + S8x128.size a ≤ S589824x128.size a := fun i v170 k0_hw18 k0_h2 => k0_hw18.2 k0_h2

def k0_mult28 (k0_t2 : Fin k0_t2_loop.trips) : BitVec 32 :=
  let c8_i32_146 : BitVec 32 := 8#32
  let c0_i32_132 : BitVec 32 := 0#32
  let c1_i32_134 : BitVec 32 := 1#32
  let arg14 : BitVec 32 := Scf.iv c0_i32_132 c1_i32_134 k0_t2
  let v178 : BitVec 32 := Scalar.muli c8_i32_146 arg14
  let c1_i32_147 : BitVec 32 := 1#32
  let v179 : BitVec 32 := Scalar.addi v178 c1_i32_147
  let c8_i32_148 : BitVec 32 := 8#32
  let v180 : BitVec 32 := Scalar.muli v179 c8_i32_148
  v180
def k0_off57 (k0_t2 : Fin k0_t2_loop.trips) : Fin 1 → Nat :=
  let c8_i32_146 : BitVec 32 := 8#32
  let c0_i32_132 : BitVec 32 := 0#32
  let c1_i32_134 : BitVec 32 := 1#32
  let arg14 : BitVec 32 := Scf.iv c0_i32_132 c1_i32_134 k0_t2
  let v178 : BitVec 32 := Scalar.muli c8_i32_146 arg14
  let c1_i32_147 : BitVec 32 := 1#32
  let v179 : BitVec 32 := Scalar.addi v178 c1_i32_147
  let v182 : Index := Scalar.indexCast v179
  ![v182.toNat]
def k0_mult29 (v183 : BitVec 32) : BitVec 32 :=
  let c8_i32_149 : BitVec 32 := 8#32
  let v184 : BitVec 32 := Scalar.muli v183 c8_i32_149
  v184

def k0_off58 (i : grid0.Coords) : Fin 1 → Nat :=
  let c1_i32_131 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : BitVec 32 := Scalar.subi c1_i32_131 v9
  ![v154.toNat]
def k0_off59 (i : grid0.Coords) (k0_t2 : Fin k0_t2_loop.trips) : Fin 4 → Nat :=
  let c1_i32_131 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : BitVec 32 := Scalar.subi c1_i32_131 v9
  let c0_i32_150 : BitVec 32 := 0#32
  let c8_i32_146 : BitVec 32 := 8#32
  let c0_i32_132 : BitVec 32 := 0#32
  let c1_i32_134 : BitVec 32 := 1#32
  let arg14 : BitVec 32 := Scf.iv c0_i32_132 c1_i32_134 k0_t2
  let v178 : BitVec 32 := Scalar.muli c8_i32_146 arg14
  let c1_i32_147 : BitVec 32 := 1#32
  let v179 : BitVec 32 := Scalar.addi v178 c1_i32_147
  let c8_i32_148 : BitVec 32 := 8#32
  let v180 : BitVec 32 := Scalar.muli v179 c8_i32_148
  let v181 : BitVec 32 := v180
  let c0_i32_151 : BitVec 32 := 0#32
  ![v154.toNat, 0, v181.toNat, 0]
def k0_off60 (v183 : BitVec 32) : Fin 2 → Nat :=
  let c8_i32_149 : BitVec 32 := 8#32
  let v184 : BitVec 32 := Scalar.muli v183 c8_i32_149
  let v185 : BitVec 32 := v184
  let c0_i32_152 : BitVec 32 := 0#32
  ![v185.toNat, 0]

def k0_chk19 (i : grid0.Coords) (v183 : BitVec 32) : Prop :=
  (∀ (k0_h2 : k0_cond2 i = 1#1), 8 ∣ (k0_mult29 v183).toNat) ∧
  (∀ (k0_h2 : k0_cond2 i = 1#1), ∀ a, (k0_off60 v183) a + S8x128.size a ≤ S589824x128.size a)
theorem k0_mult29_dvd : ∀ (i : grid0.Coords) (v183 : BitVec 32) (k0_hw19 : k0_chk19 i v183), ∀ (k0_h2 : k0_cond2 i = 1#1), 8 ∣ (k0_mult29 v183).toNat := fun i v183 k0_hw19 k0_h2 => k0_hw19.1 k0_h2
theorem k0_off60_inb : ∀ (i : grid0.Coords) (v183 : BitVec 32) (k0_hw19 : k0_chk19 i v183), ∀ (k0_h2 : k0_cond2 i = 1#1), ∀ a, (k0_off60 v183) a + S8x128.size a ≤ S589824x128.size a := fun i v183 k0_hw19 k0_h2 => k0_hw19.2 k0_h2

def k0_off61 (k0_t2 : Fin k0_t2_loop.trips) : Fin 1 → Nat :=
  let c8_i32_146 : BitVec 32 := 8#32
  let c0_i32_132 : BitVec 32 := 0#32
  let c1_i32_134 : BitVec 32 := 1#32
  let arg14 : BitVec 32 := Scf.iv c0_i32_132 c1_i32_134 k0_t2
  let v178 : BitVec 32 := Scalar.muli c8_i32_146 arg14
  let c1_i32_147 : BitVec 32 := 1#32
  let v179 : BitVec 32 := Scalar.addi v178 c1_i32_147
  let v191 : Index := Scalar.indexCast v179
  ![v191.toNat]
def k0_mult30 (v192 : BitVec 32) : BitVec 32 :=
  let c8_i32_153 : BitVec 32 := 8#32
  let v193 : BitVec 32 := Scalar.muli v192 c8_i32_153
  v193

def k0_off62 (i : grid0.Coords) : Fin 1 → Nat :=
  let c1_i32_131 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : BitVec 32 := Scalar.subi c1_i32_131 v9
  ![v154.toNat]
def k0_off63 (i : grid0.Coords) (k0_t2 : Fin k0_t2_loop.trips) : Fin 4 → Nat :=
  let c1_i32_131 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : BitVec 32 := Scalar.subi c1_i32_131 v9
  let c1_i32_154 : BitVec 32 := 1#32
  let c8_i32_146 : BitVec 32 := 8#32
  let c0_i32_132 : BitVec 32 := 0#32
  let c1_i32_134 : BitVec 32 := 1#32
  let arg14 : BitVec 32 := Scf.iv c0_i32_132 c1_i32_134 k0_t2
  let v178 : BitVec 32 := Scalar.muli c8_i32_146 arg14
  let c1_i32_147 : BitVec 32 := 1#32
  let v179 : BitVec 32 := Scalar.addi v178 c1_i32_147
  let c8_i32_148 : BitVec 32 := 8#32
  let v180 : BitVec 32 := Scalar.muli v179 c8_i32_148
  let v181 : BitVec 32 := v180
  let c0_i32_155 : BitVec 32 := 0#32
  ![v154.toNat, 1, v181.toNat, 0]
def k0_off64 (v192 : BitVec 32) : Fin 2 → Nat :=
  let c8_i32_153 : BitVec 32 := 8#32
  let v193 : BitVec 32 := Scalar.muli v192 c8_i32_153
  let v194 : BitVec 32 := v193
  let c0_i32_156 : BitVec 32 := 0#32
  ![v194.toNat, 0]

def k0_chk20 (i : grid0.Coords) (v192 : BitVec 32) : Prop :=
  (∀ (k0_h2 : k0_cond2 i = 1#1), 8 ∣ (k0_mult30 v192).toNat) ∧
  (∀ (k0_h2 : k0_cond2 i = 1#1), ∀ a, (k0_off64 v192) a + S8x128.size a ≤ S589824x128.size a)
theorem k0_mult30_dvd : ∀ (i : grid0.Coords) (v192 : BitVec 32) (k0_hw20 : k0_chk20 i v192), ∀ (k0_h2 : k0_cond2 i = 1#1), 8 ∣ (k0_mult30 v192).toNat := fun i v192 k0_hw20 k0_h2 => k0_hw20.1 k0_h2
theorem k0_off64_inb : ∀ (i : grid0.Coords) (v192 : BitVec 32) (k0_hw20 : k0_chk20 i v192), ∀ (k0_h2 : k0_cond2 i = 1#1), ∀ a, (k0_off64 v192) a + S8x128.size a ≤ S589824x128.size a := fun i v192 k0_hw20 k0_h2 => k0_hw20.2 k0_h2

def k0_mult31 (k0_t2 : Fin k0_t2_loop.trips) : BitVec 32 :=
  let c8_i32_157 : BitVec 32 := 8#32
  let c0_i32_132 : BitVec 32 := 0#32
  let c1_i32_134 : BitVec 32 := 1#32
  let arg14 : BitVec 32 := Scf.iv c0_i32_132 c1_i32_134 k0_t2
  let v200 : BitVec 32 := Scalar.muli c8_i32_157 arg14
  let c2_i32_158 : BitVec 32 := 2#32
  let v201 : BitVec 32 := Scalar.addi v200 c2_i32_158
  let c8_i32_159 : BitVec 32 := 8#32
  let v202 : BitVec 32 := Scalar.muli v201 c8_i32_159
  v202
def k0_off65 (k0_t2 : Fin k0_t2_loop.trips) : Fin 1 → Nat :=
  let c8_i32_157 : BitVec 32 := 8#32
  let c0_i32_132 : BitVec 32 := 0#32
  let c1_i32_134 : BitVec 32 := 1#32
  let arg14 : BitVec 32 := Scf.iv c0_i32_132 c1_i32_134 k0_t2
  let v200 : BitVec 32 := Scalar.muli c8_i32_157 arg14
  let c2_i32_158 : BitVec 32 := 2#32
  let v201 : BitVec 32 := Scalar.addi v200 c2_i32_158
  let v204 : Index := Scalar.indexCast v201
  ![v204.toNat]
def k0_mult32 (v205 : BitVec 32) : BitVec 32 :=
  let c8_i32_160 : BitVec 32 := 8#32
  let v206 : BitVec 32 := Scalar.muli v205 c8_i32_160
  v206

def k0_off66 (i : grid0.Coords) : Fin 1 → Nat :=
  let c1_i32_131 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : BitVec 32 := Scalar.subi c1_i32_131 v9
  ![v154.toNat]
def k0_off67 (i : grid0.Coords) (k0_t2 : Fin k0_t2_loop.trips) : Fin 4 → Nat :=
  let c1_i32_131 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : BitVec 32 := Scalar.subi c1_i32_131 v9
  let c0_i32_161 : BitVec 32 := 0#32
  let c8_i32_157 : BitVec 32 := 8#32
  let c0_i32_132 : BitVec 32 := 0#32
  let c1_i32_134 : BitVec 32 := 1#32
  let arg14 : BitVec 32 := Scf.iv c0_i32_132 c1_i32_134 k0_t2
  let v200 : BitVec 32 := Scalar.muli c8_i32_157 arg14
  let c2_i32_158 : BitVec 32 := 2#32
  let v201 : BitVec 32 := Scalar.addi v200 c2_i32_158
  let c8_i32_159 : BitVec 32 := 8#32
  let v202 : BitVec 32 := Scalar.muli v201 c8_i32_159
  let v203 : BitVec 32 := v202
  let c0_i32_162 : BitVec 32 := 0#32
  ![v154.toNat, 0, v203.toNat, 0]
def k0_off68 (v205 : BitVec 32) : Fin 2 → Nat :=
  let c8_i32_160 : BitVec 32 := 8#32
  let v206 : BitVec 32 := Scalar.muli v205 c8_i32_160
  let v207 : BitVec 32 := v206
  let c0_i32_163 : BitVec 32 := 0#32
  ![v207.toNat, 0]

def k0_chk21 (i : grid0.Coords) (v205 : BitVec 32) : Prop :=
  (∀ (k0_h2 : k0_cond2 i = 1#1), 8 ∣ (k0_mult32 v205).toNat) ∧
  (∀ (k0_h2 : k0_cond2 i = 1#1), ∀ a, (k0_off68 v205) a + S8x128.size a ≤ S589824x128.size a)
theorem k0_mult32_dvd : ∀ (i : grid0.Coords) (v205 : BitVec 32) (k0_hw21 : k0_chk21 i v205), ∀ (k0_h2 : k0_cond2 i = 1#1), 8 ∣ (k0_mult32 v205).toNat := fun i v205 k0_hw21 k0_h2 => k0_hw21.1 k0_h2
theorem k0_off68_inb : ∀ (i : grid0.Coords) (v205 : BitVec 32) (k0_hw21 : k0_chk21 i v205), ∀ (k0_h2 : k0_cond2 i = 1#1), ∀ a, (k0_off68 v205) a + S8x128.size a ≤ S589824x128.size a := fun i v205 k0_hw21 k0_h2 => k0_hw21.2 k0_h2

def k0_off69 (k0_t2 : Fin k0_t2_loop.trips) : Fin 1 → Nat :=
  let c8_i32_157 : BitVec 32 := 8#32
  let c0_i32_132 : BitVec 32 := 0#32
  let c1_i32_134 : BitVec 32 := 1#32
  let arg14 : BitVec 32 := Scf.iv c0_i32_132 c1_i32_134 k0_t2
  let v200 : BitVec 32 := Scalar.muli c8_i32_157 arg14
  let c2_i32_158 : BitVec 32 := 2#32
  let v201 : BitVec 32 := Scalar.addi v200 c2_i32_158
  let v213 : Index := Scalar.indexCast v201
  ![v213.toNat]
def k0_mult33 (v214 : BitVec 32) : BitVec 32 :=
  let c8_i32_164 : BitVec 32 := 8#32
  let v215 : BitVec 32 := Scalar.muli v214 c8_i32_164
  v215

def k0_off70 (i : grid0.Coords) : Fin 1 → Nat :=
  let c1_i32_131 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : BitVec 32 := Scalar.subi c1_i32_131 v9
  ![v154.toNat]
def k0_off71 (i : grid0.Coords) (k0_t2 : Fin k0_t2_loop.trips) : Fin 4 → Nat :=
  let c1_i32_131 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : BitVec 32 := Scalar.subi c1_i32_131 v9
  let c1_i32_165 : BitVec 32 := 1#32
  let c8_i32_157 : BitVec 32 := 8#32
  let c0_i32_132 : BitVec 32 := 0#32
  let c1_i32_134 : BitVec 32 := 1#32
  let arg14 : BitVec 32 := Scf.iv c0_i32_132 c1_i32_134 k0_t2
  let v200 : BitVec 32 := Scalar.muli c8_i32_157 arg14
  let c2_i32_158 : BitVec 32 := 2#32
  let v201 : BitVec 32 := Scalar.addi v200 c2_i32_158
  let c8_i32_159 : BitVec 32 := 8#32
  let v202 : BitVec 32 := Scalar.muli v201 c8_i32_159
  let v203 : BitVec 32 := v202
  let c0_i32_166 : BitVec 32 := 0#32
  ![v154.toNat, 1, v203.toNat, 0]
def k0_off72 (v214 : BitVec 32) : Fin 2 → Nat :=
  let c8_i32_164 : BitVec 32 := 8#32
  let v215 : BitVec 32 := Scalar.muli v214 c8_i32_164
  let v216 : BitVec 32 := v215
  let c0_i32_167 : BitVec 32 := 0#32
  ![v216.toNat, 0]

def k0_chk22 (i : grid0.Coords) (v214 : BitVec 32) : Prop :=
  (∀ (k0_h2 : k0_cond2 i = 1#1), 8 ∣ (k0_mult33 v214).toNat) ∧
  (∀ (k0_h2 : k0_cond2 i = 1#1), ∀ a, (k0_off72 v214) a + S8x128.size a ≤ S589824x128.size a)
theorem k0_mult33_dvd : ∀ (i : grid0.Coords) (v214 : BitVec 32) (k0_hw22 : k0_chk22 i v214), ∀ (k0_h2 : k0_cond2 i = 1#1), 8 ∣ (k0_mult33 v214).toNat := fun i v214 k0_hw22 k0_h2 => k0_hw22.1 k0_h2
theorem k0_off72_inb : ∀ (i : grid0.Coords) (v214 : BitVec 32) (k0_hw22 : k0_chk22 i v214), ∀ (k0_h2 : k0_cond2 i = 1#1), ∀ a, (k0_off72 v214) a + S8x128.size a ≤ S589824x128.size a := fun i v214 k0_hw22 k0_h2 => k0_hw22.2 k0_h2

def k0_mult34 (k0_t2 : Fin k0_t2_loop.trips) : BitVec 32 :=
  let c8_i32_168 : BitVec 32 := 8#32
  let c0_i32_132 : BitVec 32 := 0#32
  let c1_i32_134 : BitVec 32 := 1#32
  let arg14 : BitVec 32 := Scf.iv c0_i32_132 c1_i32_134 k0_t2
  let v222 : BitVec 32 := Scalar.muli c8_i32_168 arg14
  let c3_i32 : BitVec 32 := 3#32
  let v223 : BitVec 32 := Scalar.addi v222 c3_i32
  let c8_i32_169 : BitVec 32 := 8#32
  let v224 : BitVec 32 := Scalar.muli v223 c8_i32_169
  v224
def k0_off73 (k0_t2 : Fin k0_t2_loop.trips) : Fin 1 → Nat :=
  let c8_i32_168 : BitVec 32 := 8#32
  let c0_i32_132 : BitVec 32 := 0#32
  let c1_i32_134 : BitVec 32 := 1#32
  let arg14 : BitVec 32 := Scf.iv c0_i32_132 c1_i32_134 k0_t2
  let v222 : BitVec 32 := Scalar.muli c8_i32_168 arg14
  let c3_i32 : BitVec 32 := 3#32
  let v223 : BitVec 32 := Scalar.addi v222 c3_i32
  let v226 : Index := Scalar.indexCast v223
  ![v226.toNat]
def k0_mult35 (v227 : BitVec 32) : BitVec 32 :=
  let c8_i32_170 : BitVec 32 := 8#32
  let v228 : BitVec 32 := Scalar.muli v227 c8_i32_170
  v228

def k0_off74 (i : grid0.Coords) : Fin 1 → Nat :=
  let c1_i32_131 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : BitVec 32 := Scalar.subi c1_i32_131 v9
  ![v154.toNat]
def k0_off75 (i : grid0.Coords) (k0_t2 : Fin k0_t2_loop.trips) : Fin 4 → Nat :=
  let c1_i32_131 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : BitVec 32 := Scalar.subi c1_i32_131 v9
  let c0_i32_171 : BitVec 32 := 0#32
  let c8_i32_168 : BitVec 32 := 8#32
  let c0_i32_132 : BitVec 32 := 0#32
  let c1_i32_134 : BitVec 32 := 1#32
  let arg14 : BitVec 32 := Scf.iv c0_i32_132 c1_i32_134 k0_t2
  let v222 : BitVec 32 := Scalar.muli c8_i32_168 arg14
  let c3_i32 : BitVec 32 := 3#32
  let v223 : BitVec 32 := Scalar.addi v222 c3_i32
  let c8_i32_169 : BitVec 32 := 8#32
  let v224 : BitVec 32 := Scalar.muli v223 c8_i32_169
  let v225 : BitVec 32 := v224
  let c0_i32_172 : BitVec 32 := 0#32
  ![v154.toNat, 0, v225.toNat, 0]
def k0_off76 (v227 : BitVec 32) : Fin 2 → Nat :=
  let c8_i32_170 : BitVec 32 := 8#32
  let v228 : BitVec 32 := Scalar.muli v227 c8_i32_170
  let v229 : BitVec 32 := v228
  let c0_i32_173 : BitVec 32 := 0#32
  ![v229.toNat, 0]

def k0_chk23 (i : grid0.Coords) (v227 : BitVec 32) : Prop :=
  (∀ (k0_h2 : k0_cond2 i = 1#1), 8 ∣ (k0_mult35 v227).toNat) ∧
  (∀ (k0_h2 : k0_cond2 i = 1#1), ∀ a, (k0_off76 v227) a + S8x128.size a ≤ S589824x128.size a)
theorem k0_mult35_dvd : ∀ (i : grid0.Coords) (v227 : BitVec 32) (k0_hw23 : k0_chk23 i v227), ∀ (k0_h2 : k0_cond2 i = 1#1), 8 ∣ (k0_mult35 v227).toNat := fun i v227 k0_hw23 k0_h2 => k0_hw23.1 k0_h2
theorem k0_off76_inb : ∀ (i : grid0.Coords) (v227 : BitVec 32) (k0_hw23 : k0_chk23 i v227), ∀ (k0_h2 : k0_cond2 i = 1#1), ∀ a, (k0_off76 v227) a + S8x128.size a ≤ S589824x128.size a := fun i v227 k0_hw23 k0_h2 => k0_hw23.2 k0_h2

def k0_off77 (k0_t2 : Fin k0_t2_loop.trips) : Fin 1 → Nat :=
  let c8_i32_168 : BitVec 32 := 8#32
  let c0_i32_132 : BitVec 32 := 0#32
  let c1_i32_134 : BitVec 32 := 1#32
  let arg14 : BitVec 32 := Scf.iv c0_i32_132 c1_i32_134 k0_t2
  let v222 : BitVec 32 := Scalar.muli c8_i32_168 arg14
  let c3_i32 : BitVec 32 := 3#32
  let v223 : BitVec 32 := Scalar.addi v222 c3_i32
  let v235 : Index := Scalar.indexCast v223
  ![v235.toNat]
def k0_mult36 (v236 : BitVec 32) : BitVec 32 :=
  let c8_i32_174 : BitVec 32 := 8#32
  let v237 : BitVec 32 := Scalar.muli v236 c8_i32_174
  v237

def k0_off78 (i : grid0.Coords) : Fin 1 → Nat :=
  let c1_i32_131 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : BitVec 32 := Scalar.subi c1_i32_131 v9
  ![v154.toNat]
def k0_off79 (i : grid0.Coords) (k0_t2 : Fin k0_t2_loop.trips) : Fin 4 → Nat :=
  let c1_i32_131 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : BitVec 32 := Scalar.subi c1_i32_131 v9
  let c1_i32_175 : BitVec 32 := 1#32
  let c8_i32_168 : BitVec 32 := 8#32
  let c0_i32_132 : BitVec 32 := 0#32
  let c1_i32_134 : BitVec 32 := 1#32
  let arg14 : BitVec 32 := Scf.iv c0_i32_132 c1_i32_134 k0_t2
  let v222 : BitVec 32 := Scalar.muli c8_i32_168 arg14
  let c3_i32 : BitVec 32 := 3#32
  let v223 : BitVec 32 := Scalar.addi v222 c3_i32
  let c8_i32_169 : BitVec 32 := 8#32
  let v224 : BitVec 32 := Scalar.muli v223 c8_i32_169
  let v225 : BitVec 32 := v224
  let c0_i32_176 : BitVec 32 := 0#32
  ![v154.toNat, 1, v225.toNat, 0]
def k0_off80 (v236 : BitVec 32) : Fin 2 → Nat :=
  let c8_i32_174 : BitVec 32 := 8#32
  let v237 : BitVec 32 := Scalar.muli v236 c8_i32_174
  let v238 : BitVec 32 := v237
  let c0_i32_177 : BitVec 32 := 0#32
  ![v238.toNat, 0]

def k0_chk24 (i : grid0.Coords) (v236 : BitVec 32) : Prop :=
  (∀ (k0_h2 : k0_cond2 i = 1#1), 8 ∣ (k0_mult36 v236).toNat) ∧
  (∀ (k0_h2 : k0_cond2 i = 1#1), ∀ a, (k0_off80 v236) a + S8x128.size a ≤ S589824x128.size a)
theorem k0_mult36_dvd : ∀ (i : grid0.Coords) (v236 : BitVec 32) (k0_hw24 : k0_chk24 i v236), ∀ (k0_h2 : k0_cond2 i = 1#1), 8 ∣ (k0_mult36 v236).toNat := fun i v236 k0_hw24 k0_h2 => k0_hw24.1 k0_h2
theorem k0_off80_inb : ∀ (i : grid0.Coords) (v236 : BitVec 32) (k0_hw24 : k0_chk24 i v236), ∀ (k0_h2 : k0_cond2 i = 1#1), ∀ a, (k0_off80 v236) a + S8x128.size a ≤ S589824x128.size a := fun i v236 k0_hw24 k0_h2 => k0_hw24.2 k0_h2

def k0_mult37 (k0_t2 : Fin k0_t2_loop.trips) : BitVec 32 :=
  let c8_i32_178 : BitVec 32 := 8#32
  let c0_i32_132 : BitVec 32 := 0#32
  let c1_i32_134 : BitVec 32 := 1#32
  let arg14 : BitVec 32 := Scf.iv c0_i32_132 c1_i32_134 k0_t2
  let v244 : BitVec 32 := Scalar.muli c8_i32_178 arg14
  let c4_i32 : BitVec 32 := 4#32
  let v245 : BitVec 32 := Scalar.addi v244 c4_i32
  let c8_i32_179 : BitVec 32 := 8#32
  let v246 : BitVec 32 := Scalar.muli v245 c8_i32_179
  v246
def k0_off81 (k0_t2 : Fin k0_t2_loop.trips) : Fin 1 → Nat :=
  let c8_i32_178 : BitVec 32 := 8#32
  let c0_i32_132 : BitVec 32 := 0#32
  let c1_i32_134 : BitVec 32 := 1#32
  let arg14 : BitVec 32 := Scf.iv c0_i32_132 c1_i32_134 k0_t2
  let v244 : BitVec 32 := Scalar.muli c8_i32_178 arg14
  let c4_i32 : BitVec 32 := 4#32
  let v245 : BitVec 32 := Scalar.addi v244 c4_i32
  let v248 : Index := Scalar.indexCast v245
  ![v248.toNat]
def k0_mult38 (v249 : BitVec 32) : BitVec 32 :=
  let c8_i32_180 : BitVec 32 := 8#32
  let v250 : BitVec 32 := Scalar.muli v249 c8_i32_180
  v250

def k0_off82 (i : grid0.Coords) : Fin 1 → Nat :=
  let c1_i32_131 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : BitVec 32 := Scalar.subi c1_i32_131 v9
  ![v154.toNat]
def k0_off83 (i : grid0.Coords) (k0_t2 : Fin k0_t2_loop.trips) : Fin 4 → Nat :=
  let c1_i32_131 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : BitVec 32 := Scalar.subi c1_i32_131 v9
  let c0_i32_181 : BitVec 32 := 0#32
  let c8_i32_178 : BitVec 32 := 8#32
  let c0_i32_132 : BitVec 32 := 0#32
  let c1_i32_134 : BitVec 32 := 1#32
  let arg14 : BitVec 32 := Scf.iv c0_i32_132 c1_i32_134 k0_t2
  let v244 : BitVec 32 := Scalar.muli c8_i32_178 arg14
  let c4_i32 : BitVec 32 := 4#32
  let v245 : BitVec 32 := Scalar.addi v244 c4_i32
  let c8_i32_179 : BitVec 32 := 8#32
  let v246 : BitVec 32 := Scalar.muli v245 c8_i32_179
  let v247 : BitVec 32 := v246
  let c0_i32_182 : BitVec 32 := 0#32
  ![v154.toNat, 0, v247.toNat, 0]
def k0_off84 (v249 : BitVec 32) : Fin 2 → Nat :=
  let c8_i32_180 : BitVec 32 := 8#32
  let v250 : BitVec 32 := Scalar.muli v249 c8_i32_180
  let v251 : BitVec 32 := v250
  let c0_i32_183 : BitVec 32 := 0#32
  ![v251.toNat, 0]

def k0_chk25 (i : grid0.Coords) (v249 : BitVec 32) : Prop :=
  (∀ (k0_h2 : k0_cond2 i = 1#1), 8 ∣ (k0_mult38 v249).toNat) ∧
  (∀ (k0_h2 : k0_cond2 i = 1#1), ∀ a, (k0_off84 v249) a + S8x128.size a ≤ S589824x128.size a)
theorem k0_mult38_dvd : ∀ (i : grid0.Coords) (v249 : BitVec 32) (k0_hw25 : k0_chk25 i v249), ∀ (k0_h2 : k0_cond2 i = 1#1), 8 ∣ (k0_mult38 v249).toNat := fun i v249 k0_hw25 k0_h2 => k0_hw25.1 k0_h2
theorem k0_off84_inb : ∀ (i : grid0.Coords) (v249 : BitVec 32) (k0_hw25 : k0_chk25 i v249), ∀ (k0_h2 : k0_cond2 i = 1#1), ∀ a, (k0_off84 v249) a + S8x128.size a ≤ S589824x128.size a := fun i v249 k0_hw25 k0_h2 => k0_hw25.2 k0_h2

def k0_off85 (k0_t2 : Fin k0_t2_loop.trips) : Fin 1 → Nat :=
  let c8_i32_178 : BitVec 32 := 8#32
  let c0_i32_132 : BitVec 32 := 0#32
  let c1_i32_134 : BitVec 32 := 1#32
  let arg14 : BitVec 32 := Scf.iv c0_i32_132 c1_i32_134 k0_t2
  let v244 : BitVec 32 := Scalar.muli c8_i32_178 arg14
  let c4_i32 : BitVec 32 := 4#32
  let v245 : BitVec 32 := Scalar.addi v244 c4_i32
  let v257 : Index := Scalar.indexCast v245
  ![v257.toNat]
def k0_mult39 (v258 : BitVec 32) : BitVec 32 :=
  let c8_i32_184 : BitVec 32 := 8#32
  let v259 : BitVec 32 := Scalar.muli v258 c8_i32_184
  v259

def k0_off86 (i : grid0.Coords) : Fin 1 → Nat :=
  let c1_i32_131 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : BitVec 32 := Scalar.subi c1_i32_131 v9
  ![v154.toNat]
def k0_off87 (i : grid0.Coords) (k0_t2 : Fin k0_t2_loop.trips) : Fin 4 → Nat :=
  let c1_i32_131 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : BitVec 32 := Scalar.subi c1_i32_131 v9
  let c1_i32_185 : BitVec 32 := 1#32
  let c8_i32_178 : BitVec 32 := 8#32
  let c0_i32_132 : BitVec 32 := 0#32
  let c1_i32_134 : BitVec 32 := 1#32
  let arg14 : BitVec 32 := Scf.iv c0_i32_132 c1_i32_134 k0_t2
  let v244 : BitVec 32 := Scalar.muli c8_i32_178 arg14
  let c4_i32 : BitVec 32 := 4#32
  let v245 : BitVec 32 := Scalar.addi v244 c4_i32
  let c8_i32_179 : BitVec 32 := 8#32
  let v246 : BitVec 32 := Scalar.muli v245 c8_i32_179
  let v247 : BitVec 32 := v246
  let c0_i32_186 : BitVec 32 := 0#32
  ![v154.toNat, 1, v247.toNat, 0]
def k0_off88 (v258 : BitVec 32) : Fin 2 → Nat :=
  let c8_i32_184 : BitVec 32 := 8#32
  let v259 : BitVec 32 := Scalar.muli v258 c8_i32_184
  let v260 : BitVec 32 := v259
  let c0_i32_187 : BitVec 32 := 0#32
  ![v260.toNat, 0]

def k0_chk26 (i : grid0.Coords) (v258 : BitVec 32) : Prop :=
  (∀ (k0_h2 : k0_cond2 i = 1#1), 8 ∣ (k0_mult39 v258).toNat) ∧
  (∀ (k0_h2 : k0_cond2 i = 1#1), ∀ a, (k0_off88 v258) a + S8x128.size a ≤ S589824x128.size a)
theorem k0_mult39_dvd : ∀ (i : grid0.Coords) (v258 : BitVec 32) (k0_hw26 : k0_chk26 i v258), ∀ (k0_h2 : k0_cond2 i = 1#1), 8 ∣ (k0_mult39 v258).toNat := fun i v258 k0_hw26 k0_h2 => k0_hw26.1 k0_h2
theorem k0_off88_inb : ∀ (i : grid0.Coords) (v258 : BitVec 32) (k0_hw26 : k0_chk26 i v258), ∀ (k0_h2 : k0_cond2 i = 1#1), ∀ a, (k0_off88 v258) a + S8x128.size a ≤ S589824x128.size a := fun i v258 k0_hw26 k0_h2 => k0_hw26.2 k0_h2

def k0_mult40 (k0_t2 : Fin k0_t2_loop.trips) : BitVec 32 :=
  let c8_i32_188 : BitVec 32 := 8#32
  let c0_i32_132 : BitVec 32 := 0#32
  let c1_i32_134 : BitVec 32 := 1#32
  let arg14 : BitVec 32 := Scf.iv c0_i32_132 c1_i32_134 k0_t2
  let v266 : BitVec 32 := Scalar.muli c8_i32_188 arg14
  let c5_i32 : BitVec 32 := 5#32
  let v267 : BitVec 32 := Scalar.addi v266 c5_i32
  let c8_i32_189 : BitVec 32 := 8#32
  let v268 : BitVec 32 := Scalar.muli v267 c8_i32_189
  v268
def k0_off89 (k0_t2 : Fin k0_t2_loop.trips) : Fin 1 → Nat :=
  let c8_i32_188 : BitVec 32 := 8#32
  let c0_i32_132 : BitVec 32 := 0#32
  let c1_i32_134 : BitVec 32 := 1#32
  let arg14 : BitVec 32 := Scf.iv c0_i32_132 c1_i32_134 k0_t2
  let v266 : BitVec 32 := Scalar.muli c8_i32_188 arg14
  let c5_i32 : BitVec 32 := 5#32
  let v267 : BitVec 32 := Scalar.addi v266 c5_i32
  let v270 : Index := Scalar.indexCast v267
  ![v270.toNat]
def k0_mult41 (v271 : BitVec 32) : BitVec 32 :=
  let c8_i32_190 : BitVec 32 := 8#32
  let v272 : BitVec 32 := Scalar.muli v271 c8_i32_190
  v272

def k0_off90 (i : grid0.Coords) : Fin 1 → Nat :=
  let c1_i32_131 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : BitVec 32 := Scalar.subi c1_i32_131 v9
  ![v154.toNat]
def k0_off91 (i : grid0.Coords) (k0_t2 : Fin k0_t2_loop.trips) : Fin 4 → Nat :=
  let c1_i32_131 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : BitVec 32 := Scalar.subi c1_i32_131 v9
  let c0_i32_191 : BitVec 32 := 0#32
  let c8_i32_188 : BitVec 32 := 8#32
  let c0_i32_132 : BitVec 32 := 0#32
  let c1_i32_134 : BitVec 32 := 1#32
  let arg14 : BitVec 32 := Scf.iv c0_i32_132 c1_i32_134 k0_t2
  let v266 : BitVec 32 := Scalar.muli c8_i32_188 arg14
  let c5_i32 : BitVec 32 := 5#32
  let v267 : BitVec 32 := Scalar.addi v266 c5_i32
  let c8_i32_189 : BitVec 32 := 8#32
  let v268 : BitVec 32 := Scalar.muli v267 c8_i32_189
  let v269 : BitVec 32 := v268
  let c0_i32_192 : BitVec 32 := 0#32
  ![v154.toNat, 0, v269.toNat, 0]
def k0_off92 (v271 : BitVec 32) : Fin 2 → Nat :=
  let c8_i32_190 : BitVec 32 := 8#32
  let v272 : BitVec 32 := Scalar.muli v271 c8_i32_190
  let v273 : BitVec 32 := v272
  let c0_i32_193 : BitVec 32 := 0#32
  ![v273.toNat, 0]

def k0_chk27 (i : grid0.Coords) (v271 : BitVec 32) : Prop :=
  (∀ (k0_h2 : k0_cond2 i = 1#1), 8 ∣ (k0_mult41 v271).toNat) ∧
  (∀ (k0_h2 : k0_cond2 i = 1#1), ∀ a, (k0_off92 v271) a + S8x128.size a ≤ S589824x128.size a)
theorem k0_mult41_dvd : ∀ (i : grid0.Coords) (v271 : BitVec 32) (k0_hw27 : k0_chk27 i v271), ∀ (k0_h2 : k0_cond2 i = 1#1), 8 ∣ (k0_mult41 v271).toNat := fun i v271 k0_hw27 k0_h2 => k0_hw27.1 k0_h2
theorem k0_off92_inb : ∀ (i : grid0.Coords) (v271 : BitVec 32) (k0_hw27 : k0_chk27 i v271), ∀ (k0_h2 : k0_cond2 i = 1#1), ∀ a, (k0_off92 v271) a + S8x128.size a ≤ S589824x128.size a := fun i v271 k0_hw27 k0_h2 => k0_hw27.2 k0_h2

def k0_off93 (k0_t2 : Fin k0_t2_loop.trips) : Fin 1 → Nat :=
  let c8_i32_188 : BitVec 32 := 8#32
  let c0_i32_132 : BitVec 32 := 0#32
  let c1_i32_134 : BitVec 32 := 1#32
  let arg14 : BitVec 32 := Scf.iv c0_i32_132 c1_i32_134 k0_t2
  let v266 : BitVec 32 := Scalar.muli c8_i32_188 arg14
  let c5_i32 : BitVec 32 := 5#32
  let v267 : BitVec 32 := Scalar.addi v266 c5_i32
  let v279 : Index := Scalar.indexCast v267
  ![v279.toNat]
def k0_mult42 (v280 : BitVec 32) : BitVec 32 :=
  let c8_i32_194 : BitVec 32 := 8#32
  let v281 : BitVec 32 := Scalar.muli v280 c8_i32_194
  v281

def k0_off94 (i : grid0.Coords) : Fin 1 → Nat :=
  let c1_i32_131 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : BitVec 32 := Scalar.subi c1_i32_131 v9
  ![v154.toNat]
def k0_off95 (i : grid0.Coords) (k0_t2 : Fin k0_t2_loop.trips) : Fin 4 → Nat :=
  let c1_i32_131 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : BitVec 32 := Scalar.subi c1_i32_131 v9
  let c1_i32_195 : BitVec 32 := 1#32
  let c8_i32_188 : BitVec 32 := 8#32
  let c0_i32_132 : BitVec 32 := 0#32
  let c1_i32_134 : BitVec 32 := 1#32
  let arg14 : BitVec 32 := Scf.iv c0_i32_132 c1_i32_134 k0_t2
  let v266 : BitVec 32 := Scalar.muli c8_i32_188 arg14
  let c5_i32 : BitVec 32 := 5#32
  let v267 : BitVec 32 := Scalar.addi v266 c5_i32
  let c8_i32_189 : BitVec 32 := 8#32
  let v268 : BitVec 32 := Scalar.muli v267 c8_i32_189
  let v269 : BitVec 32 := v268
  let c0_i32_196 : BitVec 32 := 0#32
  ![v154.toNat, 1, v269.toNat, 0]
def k0_off96 (v280 : BitVec 32) : Fin 2 → Nat :=
  let c8_i32_194 : BitVec 32 := 8#32
  let v281 : BitVec 32 := Scalar.muli v280 c8_i32_194
  let v282 : BitVec 32 := v281
  let c0_i32_197 : BitVec 32 := 0#32
  ![v282.toNat, 0]

def k0_chk28 (i : grid0.Coords) (v280 : BitVec 32) : Prop :=
  (∀ (k0_h2 : k0_cond2 i = 1#1), 8 ∣ (k0_mult42 v280).toNat) ∧
  (∀ (k0_h2 : k0_cond2 i = 1#1), ∀ a, (k0_off96 v280) a + S8x128.size a ≤ S589824x128.size a)
theorem k0_mult42_dvd : ∀ (i : grid0.Coords) (v280 : BitVec 32) (k0_hw28 : k0_chk28 i v280), ∀ (k0_h2 : k0_cond2 i = 1#1), 8 ∣ (k0_mult42 v280).toNat := fun i v280 k0_hw28 k0_h2 => k0_hw28.1 k0_h2
theorem k0_off96_inb : ∀ (i : grid0.Coords) (v280 : BitVec 32) (k0_hw28 : k0_chk28 i v280), ∀ (k0_h2 : k0_cond2 i = 1#1), ∀ a, (k0_off96 v280) a + S8x128.size a ≤ S589824x128.size a := fun i v280 k0_hw28 k0_h2 => k0_hw28.2 k0_h2

def k0_mult43 (k0_t2 : Fin k0_t2_loop.trips) : BitVec 32 :=
  let c8_i32_198 : BitVec 32 := 8#32
  let c0_i32_132 : BitVec 32 := 0#32
  let c1_i32_134 : BitVec 32 := 1#32
  let arg14 : BitVec 32 := Scf.iv c0_i32_132 c1_i32_134 k0_t2
  let v288 : BitVec 32 := Scalar.muli c8_i32_198 arg14
  let c6_i32 : BitVec 32 := 6#32
  let v289 : BitVec 32 := Scalar.addi v288 c6_i32
  let c8_i32_199 : BitVec 32 := 8#32
  let v290 : BitVec 32 := Scalar.muli v289 c8_i32_199
  v290
def k0_off97 (k0_t2 : Fin k0_t2_loop.trips) : Fin 1 → Nat :=
  let c8_i32_198 : BitVec 32 := 8#32
  let c0_i32_132 : BitVec 32 := 0#32
  let c1_i32_134 : BitVec 32 := 1#32
  let arg14 : BitVec 32 := Scf.iv c0_i32_132 c1_i32_134 k0_t2
  let v288 : BitVec 32 := Scalar.muli c8_i32_198 arg14
  let c6_i32 : BitVec 32 := 6#32
  let v289 : BitVec 32 := Scalar.addi v288 c6_i32
  let v292 : Index := Scalar.indexCast v289
  ![v292.toNat]
def k0_mult44 (v293 : BitVec 32) : BitVec 32 :=
  let c8_i32_200 : BitVec 32 := 8#32
  let v294 : BitVec 32 := Scalar.muli v293 c8_i32_200
  v294

def k0_off98 (i : grid0.Coords) : Fin 1 → Nat :=
  let c1_i32_131 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : BitVec 32 := Scalar.subi c1_i32_131 v9
  ![v154.toNat]
def k0_off99 (i : grid0.Coords) (k0_t2 : Fin k0_t2_loop.trips) : Fin 4 → Nat :=
  let c1_i32_131 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : BitVec 32 := Scalar.subi c1_i32_131 v9
  let c0_i32_201 : BitVec 32 := 0#32
  let c8_i32_198 : BitVec 32 := 8#32
  let c0_i32_132 : BitVec 32 := 0#32
  let c1_i32_134 : BitVec 32 := 1#32
  let arg14 : BitVec 32 := Scf.iv c0_i32_132 c1_i32_134 k0_t2
  let v288 : BitVec 32 := Scalar.muli c8_i32_198 arg14
  let c6_i32 : BitVec 32 := 6#32
  let v289 : BitVec 32 := Scalar.addi v288 c6_i32
  let c8_i32_199 : BitVec 32 := 8#32
  let v290 : BitVec 32 := Scalar.muli v289 c8_i32_199
  let v291 : BitVec 32 := v290
  let c0_i32_202 : BitVec 32 := 0#32
  ![v154.toNat, 0, v291.toNat, 0]
def k0_off100 (v293 : BitVec 32) : Fin 2 → Nat :=
  let c8_i32_200 : BitVec 32 := 8#32
  let v294 : BitVec 32 := Scalar.muli v293 c8_i32_200
  let v295 : BitVec 32 := v294
  let c0_i32_203 : BitVec 32 := 0#32
  ![v295.toNat, 0]

def k0_chk29 (i : grid0.Coords) (v293 : BitVec 32) : Prop :=
  (∀ (k0_h2 : k0_cond2 i = 1#1), 8 ∣ (k0_mult44 v293).toNat) ∧
  (∀ (k0_h2 : k0_cond2 i = 1#1), ∀ a, (k0_off100 v293) a + S8x128.size a ≤ S589824x128.size a)
theorem k0_mult44_dvd : ∀ (i : grid0.Coords) (v293 : BitVec 32) (k0_hw29 : k0_chk29 i v293), ∀ (k0_h2 : k0_cond2 i = 1#1), 8 ∣ (k0_mult44 v293).toNat := fun i v293 k0_hw29 k0_h2 => k0_hw29.1 k0_h2
theorem k0_off100_inb : ∀ (i : grid0.Coords) (v293 : BitVec 32) (k0_hw29 : k0_chk29 i v293), ∀ (k0_h2 : k0_cond2 i = 1#1), ∀ a, (k0_off100 v293) a + S8x128.size a ≤ S589824x128.size a := fun i v293 k0_hw29 k0_h2 => k0_hw29.2 k0_h2

def k0_off101 (k0_t2 : Fin k0_t2_loop.trips) : Fin 1 → Nat :=
  let c8_i32_198 : BitVec 32 := 8#32
  let c0_i32_132 : BitVec 32 := 0#32
  let c1_i32_134 : BitVec 32 := 1#32
  let arg14 : BitVec 32 := Scf.iv c0_i32_132 c1_i32_134 k0_t2
  let v288 : BitVec 32 := Scalar.muli c8_i32_198 arg14
  let c6_i32 : BitVec 32 := 6#32
  let v289 : BitVec 32 := Scalar.addi v288 c6_i32
  let v301 : Index := Scalar.indexCast v289
  ![v301.toNat]
def k0_mult45 (v302 : BitVec 32) : BitVec 32 :=
  let c8_i32_204 : BitVec 32 := 8#32
  let v303 : BitVec 32 := Scalar.muli v302 c8_i32_204
  v303

def k0_off102 (i : grid0.Coords) : Fin 1 → Nat :=
  let c1_i32_131 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : BitVec 32 := Scalar.subi c1_i32_131 v9
  ![v154.toNat]
def k0_off103 (i : grid0.Coords) (k0_t2 : Fin k0_t2_loop.trips) : Fin 4 → Nat :=
  let c1_i32_131 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : BitVec 32 := Scalar.subi c1_i32_131 v9
  let c1_i32_205 : BitVec 32 := 1#32
  let c8_i32_198 : BitVec 32 := 8#32
  let c0_i32_132 : BitVec 32 := 0#32
  let c1_i32_134 : BitVec 32 := 1#32
  let arg14 : BitVec 32 := Scf.iv c0_i32_132 c1_i32_134 k0_t2
  let v288 : BitVec 32 := Scalar.muli c8_i32_198 arg14
  let c6_i32 : BitVec 32 := 6#32
  let v289 : BitVec 32 := Scalar.addi v288 c6_i32
  let c8_i32_199 : BitVec 32 := 8#32
  let v290 : BitVec 32 := Scalar.muli v289 c8_i32_199
  let v291 : BitVec 32 := v290
  let c0_i32_206 : BitVec 32 := 0#32
  ![v154.toNat, 1, v291.toNat, 0]
def k0_off104 (v302 : BitVec 32) : Fin 2 → Nat :=
  let c8_i32_204 : BitVec 32 := 8#32
  let v303 : BitVec 32 := Scalar.muli v302 c8_i32_204
  let v304 : BitVec 32 := v303
  let c0_i32_207 : BitVec 32 := 0#32
  ![v304.toNat, 0]

def k0_chk30 (i : grid0.Coords) (v302 : BitVec 32) : Prop :=
  (∀ (k0_h2 : k0_cond2 i = 1#1), 8 ∣ (k0_mult45 v302).toNat) ∧
  (∀ (k0_h2 : k0_cond2 i = 1#1), ∀ a, (k0_off104 v302) a + S8x128.size a ≤ S589824x128.size a)
theorem k0_mult45_dvd : ∀ (i : grid0.Coords) (v302 : BitVec 32) (k0_hw30 : k0_chk30 i v302), ∀ (k0_h2 : k0_cond2 i = 1#1), 8 ∣ (k0_mult45 v302).toNat := fun i v302 k0_hw30 k0_h2 => k0_hw30.1 k0_h2
theorem k0_off104_inb : ∀ (i : grid0.Coords) (v302 : BitVec 32) (k0_hw30 : k0_chk30 i v302), ∀ (k0_h2 : k0_cond2 i = 1#1), ∀ a, (k0_off104 v302) a + S8x128.size a ≤ S589824x128.size a := fun i v302 k0_hw30 k0_h2 => k0_hw30.2 k0_h2

def k0_mult46 (k0_t2 : Fin k0_t2_loop.trips) : BitVec 32 :=
  let c8_i32_208 : BitVec 32 := 8#32
  let c0_i32_132 : BitVec 32 := 0#32
  let c1_i32_134 : BitVec 32 := 1#32
  let arg14 : BitVec 32 := Scf.iv c0_i32_132 c1_i32_134 k0_t2
  let v310 : BitVec 32 := Scalar.muli c8_i32_208 arg14
  let c7_i32 : BitVec 32 := 7#32
  let v311 : BitVec 32 := Scalar.addi v310 c7_i32
  let c8_i32_209 : BitVec 32 := 8#32
  let v312 : BitVec 32 := Scalar.muli v311 c8_i32_209
  v312
def k0_off105 (k0_t2 : Fin k0_t2_loop.trips) : Fin 1 → Nat :=
  let c8_i32_208 : BitVec 32 := 8#32
  let c0_i32_132 : BitVec 32 := 0#32
  let c1_i32_134 : BitVec 32 := 1#32
  let arg14 : BitVec 32 := Scf.iv c0_i32_132 c1_i32_134 k0_t2
  let v310 : BitVec 32 := Scalar.muli c8_i32_208 arg14
  let c7_i32 : BitVec 32 := 7#32
  let v311 : BitVec 32 := Scalar.addi v310 c7_i32
  let v314 : Index := Scalar.indexCast v311
  ![v314.toNat]
def k0_mult47 (v315 : BitVec 32) : BitVec 32 :=
  let c8_i32_210 : BitVec 32 := 8#32
  let v316 : BitVec 32 := Scalar.muli v315 c8_i32_210
  v316

def k0_off106 (i : grid0.Coords) : Fin 1 → Nat :=
  let c1_i32_131 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : BitVec 32 := Scalar.subi c1_i32_131 v9
  ![v154.toNat]
def k0_off107 (i : grid0.Coords) (k0_t2 : Fin k0_t2_loop.trips) : Fin 4 → Nat :=
  let c1_i32_131 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : BitVec 32 := Scalar.subi c1_i32_131 v9
  let c0_i32_211 : BitVec 32 := 0#32
  let c8_i32_208 : BitVec 32 := 8#32
  let c0_i32_132 : BitVec 32 := 0#32
  let c1_i32_134 : BitVec 32 := 1#32
  let arg14 : BitVec 32 := Scf.iv c0_i32_132 c1_i32_134 k0_t2
  let v310 : BitVec 32 := Scalar.muli c8_i32_208 arg14
  let c7_i32 : BitVec 32 := 7#32
  let v311 : BitVec 32 := Scalar.addi v310 c7_i32
  let c8_i32_209 : BitVec 32 := 8#32
  let v312 : BitVec 32 := Scalar.muli v311 c8_i32_209
  let v313 : BitVec 32 := v312
  let c0_i32_212 : BitVec 32 := 0#32
  ![v154.toNat, 0, v313.toNat, 0]
def k0_off108 (v315 : BitVec 32) : Fin 2 → Nat :=
  let c8_i32_210 : BitVec 32 := 8#32
  let v316 : BitVec 32 := Scalar.muli v315 c8_i32_210
  let v317 : BitVec 32 := v316
  let c0_i32_213 : BitVec 32 := 0#32
  ![v317.toNat, 0]

def k0_chk31 (i : grid0.Coords) (v315 : BitVec 32) : Prop :=
  (∀ (k0_h2 : k0_cond2 i = 1#1), 8 ∣ (k0_mult47 v315).toNat) ∧
  (∀ (k0_h2 : k0_cond2 i = 1#1), ∀ a, (k0_off108 v315) a + S8x128.size a ≤ S589824x128.size a)
theorem k0_mult47_dvd : ∀ (i : grid0.Coords) (v315 : BitVec 32) (k0_hw31 : k0_chk31 i v315), ∀ (k0_h2 : k0_cond2 i = 1#1), 8 ∣ (k0_mult47 v315).toNat := fun i v315 k0_hw31 k0_h2 => k0_hw31.1 k0_h2
theorem k0_off108_inb : ∀ (i : grid0.Coords) (v315 : BitVec 32) (k0_hw31 : k0_chk31 i v315), ∀ (k0_h2 : k0_cond2 i = 1#1), ∀ a, (k0_off108 v315) a + S8x128.size a ≤ S589824x128.size a := fun i v315 k0_hw31 k0_h2 => k0_hw31.2 k0_h2

def k0_off109 (k0_t2 : Fin k0_t2_loop.trips) : Fin 1 → Nat :=
  let c8_i32_208 : BitVec 32 := 8#32
  let c0_i32_132 : BitVec 32 := 0#32
  let c1_i32_134 : BitVec 32 := 1#32
  let arg14 : BitVec 32 := Scf.iv c0_i32_132 c1_i32_134 k0_t2
  let v310 : BitVec 32 := Scalar.muli c8_i32_208 arg14
  let c7_i32 : BitVec 32 := 7#32
  let v311 : BitVec 32 := Scalar.addi v310 c7_i32
  let v323 : Index := Scalar.indexCast v311
  ![v323.toNat]
def k0_mult48 (v324 : BitVec 32) : BitVec 32 :=
  let c8_i32_214 : BitVec 32 := 8#32
  let v325 : BitVec 32 := Scalar.muli v324 c8_i32_214
  v325

def k0_off110 (i : grid0.Coords) : Fin 1 → Nat :=
  let c1_i32_131 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : BitVec 32 := Scalar.subi c1_i32_131 v9
  ![v154.toNat]
def k0_off111 (i : grid0.Coords) (k0_t2 : Fin k0_t2_loop.trips) : Fin 4 → Nat :=
  let c1_i32_131 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : BitVec 32 := Scalar.subi c1_i32_131 v9
  let c1_i32_215 : BitVec 32 := 1#32
  let c8_i32_208 : BitVec 32 := 8#32
  let c0_i32_132 : BitVec 32 := 0#32
  let c1_i32_134 : BitVec 32 := 1#32
  let arg14 : BitVec 32 := Scf.iv c0_i32_132 c1_i32_134 k0_t2
  let v310 : BitVec 32 := Scalar.muli c8_i32_208 arg14
  let c7_i32 : BitVec 32 := 7#32
  let v311 : BitVec 32 := Scalar.addi v310 c7_i32
  let c8_i32_209 : BitVec 32 := 8#32
  let v312 : BitVec 32 := Scalar.muli v311 c8_i32_209
  let v313 : BitVec 32 := v312
  let c0_i32_216 : BitVec 32 := 0#32
  ![v154.toNat, 1, v313.toNat, 0]
def k0_off112 (v324 : BitVec 32) : Fin 2 → Nat :=
  let c8_i32_214 : BitVec 32 := 8#32
  let v325 : BitVec 32 := Scalar.muli v324 c8_i32_214
  let v326 : BitVec 32 := v325
  let c0_i32_217 : BitVec 32 := 0#32
  ![v326.toNat, 0]

def k0_chk32 (i : grid0.Coords) (v324 : BitVec 32) : Prop :=
  (∀ (k0_h2 : k0_cond2 i = 1#1), 8 ∣ (k0_mult48 v324).toNat) ∧
  (∀ (k0_h2 : k0_cond2 i = 1#1), ∀ a, (k0_off112 v324) a + S8x128.size a ≤ S589824x128.size a)
theorem k0_mult48_dvd : ∀ (i : grid0.Coords) (v324 : BitVec 32) (k0_hw32 : k0_chk32 i v324), ∀ (k0_h2 : k0_cond2 i = 1#1), 8 ∣ (k0_mult48 v324).toNat := fun i v324 k0_hw32 k0_h2 => k0_hw32.1 k0_h2
theorem k0_off112_inb : ∀ (i : grid0.Coords) (v324 : BitVec 32) (k0_hw32 : k0_chk32 i v324), ∀ (k0_h2 : k0_cond2 i = 1#1), ∀ a, (k0_off112 v324) a + S8x128.size a ≤ S589824x128.size a := fun i v324 k0_hw32 k0_h2 => k0_hw32.2 k0_h2

def k0_off113 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off114 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_7 : BitVec 32 := 0#32
  let c0_i32_8 : BitVec 32 := 0#32
  let c0_i32_9 : BitVec 32 := 0#32
  ![v9.toNat, 0, 0, 0]
def k0_off115 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_12 : BitVec 32 := 1#32
  let c0_i32_13 : BitVec 32 := 0#32
  let c0_i32_14 : BitVec 32 := 0#32
  ![v9.toNat, 1, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  ![v1.toNat]

def cc0_transform_3 (i : grid0.Coords) : Fin 1 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  ![v1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 32 := Scalar.divsi v0 c16384_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16384_i32 c0_i32_1
  let v8 : BitVec 32 := Scalar.extui v7
  let c0_i32_2 : BitVec 32 := 0#32
  let v9 : BitVec 1 := Scalar.cmpi .slt c16384_i32 c0_i32_2
  let v10 : BitVec 32 := Scalar.extui v9
  let v11 : BitVec 32 := Scalar.subi v8 v10
  let v12 : BitVec 1 := Scalar.cmpi .ne v6 v11
  let v13 : BitVec 32 := Scalar.remsi v0 c16384_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .smem S512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .smem S512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S589824x128 : Shape := ⟨2, ![589824, 128]⟩
abbrev S32768 : Shape := ⟨1, ![32768]⟩
abbrev S32768x128 : Shape := ⟨2, ![32768, 128]⟩
abbrev S1024 : Shape := ⟨1, ![1024]⟩
abbrev S2x1x1024 : Shape := ⟨3, ![2, 1, 1024]⟩
abbrev S32768x1024 : Shape := ⟨2, ![32768, 1024]⟩
abbrev S73728x1024 : Shape := ⟨2, ![73728, 1024]⟩
abbrev S32768x1 : Shape := ⟨2, ![32768, 1]⟩
abbrev S_ : Shape := ⟨0, ![]⟩
abbrev S1x1024 : Shape := ⟨2, ![1, 1024]⟩
abbrev S2x16384x1024 : Shape := ⟨3, ![2, 16384, 1024]⟩

abbrev nBuf : Space → Nat
  | .hbm => 41
  | .vmem => 0
  | .smem => 0
  | _ => 0

abbrev bufTy : (tb : Table) → Fin (tcTables nBuf tb) → BufTy
  | .hbm, ⟨0, _⟩ => ⟨S589824x128, .f32⟩
  | .hbm, ⟨1, _⟩ => ⟨S32768, .i32⟩
  | .hbm, ⟨2, _⟩ => ⟨S32768, .i32⟩
  | .hbm, ⟨3, _⟩ => ⟨S32768x128, .f32⟩
  | .hbm, ⟨4, _⟩ => ⟨S1024, .f32⟩
  | .hbm, ⟨5, _⟩ => ⟨S2x1x1024, .f32⟩
  | .hbm, ⟨6, _⟩ => ⟨S32768x1024, .f32⟩
  | .hbm, ⟨7, _⟩ => ⟨S73728x1024, .f32⟩
  | .hbm, ⟨8, _⟩ => ⟨S32768x1, .f32⟩
  | .hbm, ⟨9, _⟩ => ⟨S32768x1, .i32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1, .f32⟩
  | .hbm, ⟨14, _⟩ => ⟨S32768x1, .i32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S_, .f32⟩
  | .hbm, ⟨21, _⟩ => ⟨S32768, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x1, .f32⟩
  | .hbm, ⟨30, _⟩ => ⟨S32768x1024, .f32⟩
  | .hbm, ⟨31, _⟩ => ⟨S32768x1024, .f32⟩
  | .hbm, ⟨32, _⟩ => ⟨S1x1024, .f32⟩
  | .hbm, ⟨33, _⟩ => ⟨S32768x1024, .f32⟩
  | .hbm, ⟨34, _⟩ => ⟨S32768x1024, .f32⟩
  | .hbm, ⟨35, _⟩ => ⟨S2x16384x1024, .f32⟩
  | .hbm, ⟨36, _⟩ => ⟨S2x16384x1024, .f32⟩
  | .hbm, ⟨37, _⟩ => ⟨S2x16384x1024, .f32⟩
  | .hbm, ⟨38, _⟩ => ⟨S2x16384x1024, .f32⟩
  | .hbm, ⟨39, _⟩ => ⟨S2x16384x1024, .f32⟩
  | .hbm, ⟨40, _⟩ => ⟨S32768x1024, .f32⟩
  | _, _ => ⟨S589824x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel3.lean ====
abbrev S32768x1024 : Shape := ⟨2, ![32768, 1024]⟩
abbrev S1024 : Shape := ⟨1, ![1024]⟩
abbrev S2x1x1024 : Shape := ⟨3, ![2, 1, 1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1x1x1024 : Shape := ⟨3, ![1, 1, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 15
  | .vmem => 20
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S2x1x1024, .f32⟩
  | .hbm, ⟨9, _⟩ => ⟨S1x1024, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S1x1024, .f32⟩
  | .hbm, ⟨14, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1408x1024, .bf16⟩
  | .local _ .vmem, ⟨12, _⟩ => ⟨S1408x1024, .bf16⟩
  | .local _ .vmem, ⟨13, _⟩ => ⟨S1x1024, .f32⟩
  | .local _ .vmem, ⟨14, _⟩ => ⟨S1x1x1024, .f32⟩
  | .local _ .vmem, ⟨15, _⟩ => ⟨S1x1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![64, 2], ![false, false]⟩

def k0_cond4 (i : grid0.Coords) : BitVec 1 :=
  let arg1 : BitVec 32 := BitVec.ofNat 32 (i 1).val
  let c1_i32 : BitVec 32 := 1#32
  let v29 : BitVec 1 := Scalar.cmpi .eq arg1 c1_i32
  let v30 : BitVec 32 := Scalar.extui v29
  let c0_i32_17 : BitVec 32 := 0#32
  let v31 : BitVec 1 := Scalar.cmpi .ne v30 c0_i32_17
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c16384_i32 : BitVec 32 := 16384#32
  let v1 : BitVec 32 := Scalar.divsi v0 c16384_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16384_i32 c0_i32_1
  let v8 : BitVec 32 := Scalar.extui v7
  let c0_i32_2 : BitVec 32 := 0#32
  let v9 : BitVec 1 := Scalar.cmpi .slt c16384_i32 c0_i32_2
  let v10 : BitVec 32 := Scalar.extui v9
  let v11 : BitVec 32 := Scalar.subi v8 v10
  let v12 : BitVec 1 := Scalar.cmpi .ne v6 v11
  let v13 : BitVec 32 := Scalar.remsi v0 c16384_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c16384_i32 : BitVec 32 := 16384#32
  let v1 : BitVec 32 := Scalar.divsi v0 c16384_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16384_i32 c0_i32_1
  let v8 : BitVec 32 := Scalar.extui v7
  let c0_i32_2 : BitVec 32 := 0#32
  let v9 : BitVec 1 := Scalar.cmpi .slt c16384_i32 c0_i32_2
  let v10 : BitVec 32 := Scalar.extui v9
  let v11 : BitVec 32 := Scalar.subi v8 v10
  let v12 : BitVec 1 := Scalar.cmpi .ne v6 v11
  let v13 : BitVec 32 := Scalar.remsi v0 c16384_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c16384_i32 : BitVec 32 := 16384#32
  let v1 : BitVec 32 := Scalar.divsi v0 c16384_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16384_i32 c0_i32_1
  let v8 : BitVec 32 := Scalar.extui v7
  let c0_i32_2 : BitVec 32 := 0#32
  let v9 : BitVec 1 := Scalar.cmpi .slt c16384_i32 c0_i32_2
  let v10 : BitVec 32 := Scalar.extui v9
  let v11 : BitVec 32 := Scalar.subi v8 v10
  let v12 : BitVec 1 := Scalar.cmpi .ne v6 v11
  let v13 : BitVec 32 := Scalar.remsi v0 c16384_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference3Ideal.lean ====
abbrev S32768x1024 : Shape := ⟨2, ![32768, 1024]⟩
abbrev S1024 : Shape := ⟨1, ![1024]⟩
abbrev S2x1x1024 : Shape := ⟨3, ![2, 1, 1024]⟩
abbrev S1024x2816 : Shape := ⟨2, ![1024, 2816]⟩
abbrev S2816x1024 : Shape := ⟨2, ![2816, 1024]⟩
abbrev S2x16384x1024 : Shape := ⟨3, ![2, 16384, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x2816 : Shape := ⟨3, ![2, 16384, 2816]⟩

abbrev nBuf : Space → Nat
  | .hbm => 66
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S2x1x1024, .f32⟩
  | .hbm, ⟨9, _⟩ => ⟨S2x16384x1024, .f32⟩
  | .hbm, ⟨10, _⟩ => ⟨S2x16384x1024, .f32⟩
  | .hbm, ⟨11, _⟩ => ⟨S_, .f32⟩
  | .hbm, ⟨12, _⟩ => ⟨S2x16384, .f32⟩
  | .hbm, ⟨13, _⟩ => ⟨S2x16384x1, .f32⟩
  | .hbm, ⟨14, _⟩ => ⟨S_, .f32⟩
  | .hbm, ⟨15, _⟩ => ⟨S2x16384x1, .f32⟩
  | .hbm, ⟨16, _⟩ => ⟨S2x16384x1, .f32⟩
  | .hbm, ⟨17, _⟩ => ⟨S_, .f32⟩
  | .hbm, ⟨18, _⟩ => ⟨S2x16384x1, .f32⟩
  | .hbm, ⟨19, _⟩ => ⟨S2x16384x1, .f32⟩
  | .hbm, ⟨20, _⟩ => ⟨S2x16384x1, .f32⟩
  | .hbm, ⟨21, _⟩ => ⟨S2x16384x1024, .f32⟩
  | .hbm, ⟨22, _⟩ => ⟨S2x16384x1024, .f32⟩
  | .hbm, ⟨23, _⟩ => ⟨S1x1x1024, .f32⟩
  | .hbm, ⟨24, _⟩ => ⟨S2x16384x1024, .f32⟩
  | .hbm, ⟨25, _⟩ => ⟨S2x16384x1024, .f32⟩
  | .hbm, ⟨26, _⟩ => ⟨S_, .f32⟩
  | .hbm, ⟨27, _⟩ => ⟨S2x1x1024, .f32⟩
  | .hbm, ⟨28, _⟩ => ⟨S2x1x1024, .f32⟩
  | .hbm, ⟨29, _⟩ => ⟨S2x16384x1024, .f32⟩
  | .hbm, ⟨30, _⟩ => ⟨S2x16384x1024, .f32⟩
  | .hbm, ⟨31, _⟩ => ⟨S2x16384x1024, .f32⟩
  | .hbm, ⟨32, _⟩ => ⟨S2x16384x1024, .f32⟩
  | .hbm, ⟨33, _⟩ => ⟨S2x16384x2816, .f32⟩
  | .hbm, ⟨34, _⟩ => ⟨S2x16384x2816, .f32⟩
  | .hbm, ⟨35, _⟩ => ⟨S2x16384x2816, .f32⟩
  | .hbm, ⟨36, _⟩ => ⟨S_, .f32⟩
  | .hbm, ⟨37, _⟩ => ⟨S2x16384x2816, .f32⟩
  | .hbm, ⟨38, _⟩ => ⟨S2x16384x2816, .f32⟩
  | .hbm, ⟨39, _⟩ => ⟨S_, .f32⟩
  | .hbm, ⟨40, _⟩ => ⟨S2x16384x2816, .f32⟩
  | .hbm, ⟨41, _⟩ => ⟨S2x16384x2816, .f32⟩
  | .hbm, ⟨42, _⟩ => ⟨S2x16384x2816, .f32⟩
  | .hbm, ⟨43, _⟩ => ⟨S2x16384x2816, .f32⟩
  | .hbm, ⟨44, _⟩ => ⟨S2x16384x2816, .f32⟩
  | .hbm, ⟨45, _⟩ => ⟨S2x16384x1024, .f32⟩
  | .hbm, ⟨46, _⟩ => ⟨S2x16384x1024, .f32⟩
  | .hbm, ⟨47, _⟩ => ⟨S_, .f32⟩
  | .hbm, ⟨48, _⟩ => ⟨S2x16384, .f32⟩
  | .hbm, ⟨49, _⟩ => ⟨S2x16384x1, .f32⟩
  | .hbm, ⟨50, _⟩ => ⟨S_, .f32⟩
  | .hbm, ⟨51, _⟩ => ⟨S2x16384x1, .f32⟩
  | .hbm, ⟨52, _⟩ => ⟨S2x16384x1, .f32⟩
  | .hbm, ⟨53, _⟩ => ⟨S_, .f32⟩
  | .hbm, ⟨54, _⟩ => ⟨S2x16384x1, .f32⟩
  | .hbm, ⟨55, _⟩ => ⟨S2x16384x1, .f32⟩
  | .hbm, ⟨56, _⟩ => ⟨S2x16384x1, .f32⟩
  | .hbm, ⟨57, _⟩ => ⟨S2x16384x1024, .f32⟩
  | .hbm, ⟨58, _⟩ => ⟨S2x16384x1024, .f32⟩
  | .hbm, ⟨59, _⟩ => ⟨S1x1x1024, .f32⟩
  | .hbm, ⟨60, _⟩ => ⟨S2x16384x1024, .f32⟩
  | .hbm, ⟨61, _⟩ => ⟨S2x16384x1024, .f32⟩
  | .hbm, ⟨62, _⟩ => ⟨S2x16384x1024, .f32⟩
  | .hbm, ⟨63, _⟩ => ⟨S2x16384x1024, .f32⟩
  | .hbm, ⟨64, _⟩ => ⟨S2x16384x1024, .f32⟩
  | .hbm, ⟨65, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_3 : Ref sig .tc := ⟨.hbm, 47, rfl⟩
abbrev main_v26 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_v29 : Ref sig .tc := ⟨.hbm, 52, rfl⟩
abbrev main_cst_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩

abbrev nD : Nat := 1
abbrev τ : Topo := Topo.v7x

variable {F : FTy → Type} [FloatOps F]
-- ==== Proof.Steps.lean ====
/- One issue of the routed experts' row gather, a step at a time: the load of a slot's token, the check of it and the
   transfer of the token's row into the buffer of rows, each as a rule read backwards over what the core holds meanwhile. -/
module

public import proofs.«01_k».proof.Proof.Gen.KernelIdeal.Launch
public import proofs.«01_k».proof.Proof.Gen.KernelIdeal.Skeleton
public import Idealize.ShloMosaic.Lib.Batch
public import Idealize.ShloMosaic.Lib.ShareLeaves
public import Idealize.ShloMosaic.Lib.ValueIdx
public import Idealize.ShloMosaic.Lib.Tactic
public import Idealize.ShloMosaic.Lib.Pipeline.Frame
public import Idealize.ShloMosaic.Lib.Pipeline.Value
public import Idealize.ShloMosaic.Lib.Exec

@[expose] public section

set_option maxRecDepth 16384

noncomputable section

namespace Cert.Routed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)
open Idealize.ShloMosaic.Transfers (Batch pending)

variable {F : FTy → Type} [FloatOps F]

local notation "𝕄" => MT nD τ sig Unit (Elt F) ℕ (Pipeline.UD sig nD τ) ℕ

/-- Where the transfers' counters live. -/
abbrev EC : UEmb Counters 𝕄 := countersEmb (U := Pipeline.UD sig nD τ)

/-- The buffer of gathered rows, its two slots one after the other, and the tokens' rows in main memory. -/
abbrev rowsM : Memref sig .tc .vmem S2x8192x128 .f32 := Memref.whole cc0_scratch0
abbrev tokM : Memref sig .tc .hbm S262144x128 .f32 := Memref.whole main_arg0

theorem inbS (s : Fin 2) : ∀ a, (![s.val] : Fin 1 → Nat) a + S1.size a ≤ S2.size a := by
  intro a; fin_cases a; show s.val + 1 ≤ 2; omega
theorem inbD (s : Fin 2) (r : Fin 1024) : ∀ a, (![s.val, 8 * r.val, 0] : Fin 3 → Nat) a + S1x8x128.size a ≤ S2x8192x128.size a := by
  intro a; fin_cases a
  · show s.val + 1 ≤ 2; omega
  · show 8 * r.val + 8 ≤ 8192; omega
  · show 0 + 128 ≤ 128; omega
theorem inbH (w : Fin 32768) : ∀ a, (![8 * w.val, 0] : Fin 2 → Nat) a + S8x128.size a ≤ S262144x128.size a := by
  intro a; fin_cases a
  · show 8 * w.val + 8 ≤ 262144; omega
  · show 0 + 128 ≤ 128; omega

/-- Slot `s`'s semaphore, row `r` of slot `s`, and token `w`'s row. -/
abbrev semA (s : Fin 2) : DmaSems sig S_ := (cc0_scratch1.slice (Rect.unit (s := S2) ![s.val] S1.size (inbS s))).squeeze S_ squeezes_S1_S_
abbrev semOf (s : Fin 2) : DmaSem sig := (semA s).sem
abbrev rowM (s : Fin 2) (r : Fin 1024) : Memref sig .tc .vmem S8x128 .f32 :=
  (rowsM.slice (Rect.unit (s := S2x8192x128) ![s.val, 8 * r.val, 0] S1x8x128.size (inbD s r)) (fun _ => rfl)).squeeze S8x128 squeezes_S1x8x128_S8x128
abbrev srcM (w : Fin 32768) : Memref sig .tc .hbm S8x128 .f32 :=
  tokM.slice (Rect.unit (s := S262144x128) ![8 * w.val, 0] S8x128.size (inbH w)) (fun _ => rfl)

/-- The buffer of rows and the tokens' rows, as locations of core `c`, and their contents' types. -/
abbrev rowsL (c : Dev nD) : Loc nD τ sig := (c.tc : Thread nD τ).loc cc0_scratch0
abbrev tokL (c : Dev nD) : Loc nD τ sig := (c.tc : Thread nD τ).loc main_arg0
abbrev RowsB (F : FTy → Type) : Type := S2x8192x128.Idx → Elt F .f32
abbrev TokB (F : FTy → Type) : Type := S262144x128.Idx → Elt F .f32

/-- Row `r`'s elements of slot `s`, and token `w`'s. -/
abbrev rowSet (s : Fin 2) (r : Fin 1024) : Finset S2x8192x128.Idx := (rowM s r).view.set
abbrev srcSet (w : Fin 32768) : Finset S262144x128.Idx := (srcM w).view.set

/-- The buffer of rows with row `r` of the gather — token `wd r`'s — at row `r` of both slots. -/
def gath (wd : Fin 1024 → Fin 32768) (hb : TokB F) : RowsB F := fun j =>
  hb (ix2 ⟨8 * (wd ⟨(j 1).val / 8, by have : (j 1).val < 8192 := (j 1).isLt; omega⟩).val + (j 1).val % 8, by
    have := (wd ⟨(j 1).val / 8, by have : (j 1).val < 8192 := (j 1).isLt; omega⟩).isLt; omega⟩ ⟨(j 2).val, (j 2).isLt⟩)

/-- One row's bytes, as the semaphore counts them. -/
abbrev rowN : ℕ := (rowM 0 0).view.amount (SemLoc.dma (sig := sig) (semOf 0))

/-- The `t`-th of the 1024 shares the tokens' rows are held in while rows are in flight. -/
abbrev tok (t : Fin 1024) : PosShare TreeShare := ShareLeaves.leaf 10 fullShare t

/-- What the `t`-th transfer delivers: row `t` of the slot landed, and the share of the token's row back. -/
def deliv (c : Dev nD) (s : Fin 2) (wd : Fin 1024 → Fin 32768) (hb : TokB F) (t : Fin 1024) : sProp 𝕄 :=
  iprop((rowsL c ↦[rowSet s t]{fullShare} gath wd hb) ∗ (tokL c ↦[srcSet (wd t)]{tok t} hb))

instance deliv_storable (c : Dev nD) (s : Fin 2) (wd : Fin 1024 → Fin 32768) (hb : TokB F) (t : Fin 1024) :
    Storable (upEmb : UEmb _ 𝕄) (deliv c s wd hb t) := by unfold deliv; infer_instance

/-- The transfers started so far. -/
def started (r : ℕ) : Finset (Fin 1024) := Finset.univ.filter fun t => t.val < r
theorem started_zero : started 0 = ∅ := by simp [started]
theorem started_succ {r : ℕ} (h : r < 1024) : started (r + 1) = insert ⟨r, h⟩ (started r) := by
  ext t; simp only [started, Finset.mem_filter, Finset.mem_univ, true_and, Finset.mem_insert, Fin.ext_iff]; omega
theorem not_mem_started {r : ℕ} (h : r < 1024) : (⟨r, h⟩ : Fin 1024) ∉ started r := by simp [started]
theorem started_step {r : ℕ} (h : r < 1024) (Φ : Fin 1024 → sProp 𝕄) :
    bigSep (started (r + 1)) Φ = iprop(Φ ⟨r, h⟩ ∗ bigSep (started r) Φ) := by
  rw [started_succ h, BI.bigSep_insert (not_mem_started h)]; rfl
theorem started_all : started 1024 = Finset.univ := by
  ext t; simp [started]

/-- The first `r` rows of a gather into slot `s` in flight: the batch, the rows still to be issued with their shares of
    the tokens' rows, and of the shares in flight what lies outside the transferred row. -/
def Fly (c : Dev nD) (s : Fin 2) (wd : Fin 1024 → Fin 32768) (hb : TokB F) (r : ℕ) : sProp 𝕄 :=
  iprop(Batch EC (c.tc : Thread nD τ) (.dma (semOf s)) () rowN (deliv c s wd hb) r 0
    ∗ bigSep (pending r) (fun t : Fin 1024 => iprop((∃ fd, rowsL c ↦[rowSet s t]{fullShare} fd) ∗ (tokL c ↦{tok t} hb)))
    ∗ bigSep (started r) (fun t : Fin 1024 => (tokL c ↦[Finset.univ \ srcSet (wd t)]{tok t} hb)))

/-- Element `x` of row `r` of slot `s`, as an index of the buffer of rows. -/
theorem rowM_emb (s : Fin 2) (r : Fin 1024) (x : S8x128.Idx) :
    (rowM s r).view.emb x = ix3 s ⟨8 * r.val + (x 0).val, by have : (x 0).val < 8 := (x 0).isLt; omega⟩ ⟨(x 1).val, (x 1).isLt⟩ := by
  have e := shapeCast_dropUnit_apply (n := 2) ![8, 128] (fun i => i) squeezes_S1x8x128_S8x128.numel_eq x
  have e' : Shape.reshapeEquiv squeezes_S1x8x128_S8x128.numel_eq x = (Fin.cons ⟨0, Nat.one_pos⟩ x : S1x8x128.Idx) := e
  show (Rect.unit (s := S2x8192x128) ![s.val, 8 * r.val, 0] S1x8x128.size (inbD s r)).emb (Shape.reshapeEquiv squeezes_S1x8x128_S8x128.numel_eq x) = _
  rw [e']
  funext a
  apply Fin.ext
  match a with
  | ⟨0, _⟩ => show s.val + 0 * 1 = s.val; omega
  | ⟨1, _⟩ => show 8 * r.val + 1 * (x 0).val = 8 * r.val + (x 0).val; omega
  | ⟨2, _⟩ => show 0 + 1 * (x 1).val = (x 1).val; omega

/-- Element `x` of token `w`'s row, as an index of the tokens' rows. -/
theorem srcM_emb (w : Fin 32768) (x : S8x128.Idx) :
    (srcM w).view.emb x = ix2 ⟨8 * w.val + (x 0).val, by have : (x 0).val < 8 := (x 0).isLt; omega⟩ ⟨(x 1).val, (x 1).isLt⟩ := by
  funext a
  apply Fin.ext
  match a with
  | ⟨0, _⟩ => show 8 * w.val + 1 * (x 0).val = 8 * w.val + (x 0).val; omega
  | ⟨1, _⟩ => show 0 + 1 * (x 1).val = (x 1).val; omega

/-- Row `r` of the slot, rewritten with token `wd r`'s row, is row `r` of the gather. -/
theorem landed (s : Fin 2) (r : Fin 1024) (wd : Fin 1024 → Fin 32768) (hb : TokB F) (fd : RowsB F) :
    ∀ i ∈ rowSet s r, (rowM s r).view.write (Elt F) fd ((ReadAs.same (Val := Elt F) (s := S8x128) (e := .f32)).apply ((srcM (wd r)).view.read (Elt F) hb)) Finset.univ i
      = gath wd hb i := by
  intro i hi
  obtain ⟨x, -, rfl⟩ := Finset.mem_map.mp hi
  rw [View.write_emb_of_mem _ _ (Finset.mem_univ x), rowM_emb]
  show hb ((srcM (wd r)).view.emb x) = _
  rw [srcM_emb]
  unfold gath
  have h0 : (x 0).val < 8 := (x 0).isLt
  have hq : (8 * r.val + (x 0).val) / 8 = r.val := by omega
  have hm : (8 * r.val + (x 0).val) % 8 = (x 0).val := by omega
  congr 1
  funext a
  apply Fin.ext
  match a with
  | ⟨0, _⟩ =>
    show 8 * (wd r).val + (x 0).val = 8 * (wd ⟨(8 * r.val + (x 0).val) / 8, _⟩).val + (8 * r.val + (x 0).val) % 8
    rw [hm]; congr 3; congr 1; exact Fin.ext hq.symm
  | ⟨1, _⟩ => rfl

/-- Issuing row `r`: one more transfer is in flight. The slot, the row and the token's row are named by the program's
    own offsets, equal to these. -/
theorem enq_step (c : Dev nD) (s : Fin 2) (wd : Fin 1024 → Fin 32768) (hb : TokB F) {r : ℕ} (hr : r < 1024) {R : sProp 𝕄}
    {offS : Fin 1 → ℕ} {bS : ∀ a, offS a + S1.size a ≤ S2.size a}
    {offD : Fin 3 → ℕ} {bD : ∀ a, offD a + S1x8x128.size a ≤ S2x8192x128.size a}
    {offH : Fin 2 → ℕ} {bH : ∀ a, offH a + S8x128.size a ≤ S262144x128.size a}
    (hS : offS = ![s.val]) (hD : offD = ![s.val, 8 * r, 0]) (hH : offH = ![8 * (wd ⟨r, hr⟩).val, 0])
    {α : Type} {k : PUnit → Prog (TpuEff nD τ sig (Elt F) Λ₀ .tc) α} {Q : α → sProp 𝕄}
    (h : iprop(Fly c s wd hb (r + 1) ∗ R) ⊢ wp frame (wpE (defs₀ (F := F)) Variants.none (c.tc : Thread nD τ) none) Set.univ (k ⟨⟩) Q) :
    iprop(Fly c s wd hb r ∗ R) ⊢ wp frame (wpE (defs₀ (F := F)) Variants.none (c.tc : Thread nD τ) none) Set.univ
      (Prog.lift (.enqueueDma (tokM.slice (Rect.unit (s := S262144x128) offH S8x128.size bH) (fun _ => rfl))
        (.here ((rowsM.slice (Rect.unit (s := S2x8192x128) offD S1x8x128.size bD) (fun _ => rfl)).squeeze S8x128 squeezes_S1x8x128_S8x128))
        (.dma ((cc0_scratch1.slice (Rect.unit (s := S2) offS S1.size bS)).squeeze S_ squeezes_S1_S_).sem)
        (View.wordExact_bits rfl) ((View.wordExact_bits rfl).reshape _ _) ⟨Or.inl rfl, trivial⟩) >>= k) Q := by
  subst hS hD hH
  unfold Fly at h ⊢
  rw [started_step hr] at h
  rw [Transfers.bigSep_pending_step _ r hr]
  iintro ⟨⟨HB, ⟨⟨⟨%fd, Hrow⟩, Htok⟩, Hpend⟩, Hst⟩, HR⟩
  ihave Htok' := (pointsTo_split_subset (ℓ := tokL c) (I := srcSet (wd ⟨r, hr⟩)) (Finset.subset_univ _)).1 $$ Htok
  icases Htok' with ⟨Hsrc, Hrest⟩
  iapply (Transfers.wp_dmaBatch EC Variants.none (c.tc : Thread nD τ) none (src := srcM (wd ⟨r, hr⟩)) (dst := rowM s ⟨r, hr⟩) () rowN rfl subset_rfl
    (D := deliv c s wd hb) (j := r) (u := 0) hr (Nat.zero_le _)
    (by unfold deliv; exact sep_mono (Entails.of_eq (pointsTo_congr (landed s ⟨r, hr⟩ wd hb fd))) .rfl)) $$ [Hsrc Hrow HB]
  · isplitl [Hsrc]; · iexact Hsrc
    isplitl [Hrow] <;> iassumption
  iintro HB
  iapply h
  isplitr [HR]
  · isplitl [HB]; · iexact HB
    isplitl [Hpend]; · iexact Hpend
    isplitl [Hrest] <;> iassumption
  · iexact HR

/-- Loading word `r` of a table held whole. -/
theorem load_step (c : Dev nD) (arg : Memref sig .tc .smem S1024 .i32) (x : S1024.Idx → Elt F .i32) {P : sProp 𝕄} (r : Fin 1024)
    {off : Fin 1 → ℕ} {b : ∀ a, off a + S1.size a ≤ S1024.size a} (hoff : off = ![r.val])
    {α : Type} {k : Elt F .i32 → Prog (TpuEff nD τ sig (Elt F) Λ₀ .tc) α} {Q : α → sProp 𝕄}
    (h : iprop(P ∗ owns (c.tc : Thread nD τ) arg fullShare x) ⊢ wp frame (wpE (defs₀ (F := F)) Variants.none (c.tc : Thread nD τ) none) Set.univ (k (x (ix1 r))) Q) :
    iprop(P ∗ owns (c.tc : Thread nD τ) arg fullShare x) ⊢ wp frame (wpE (defs₀ (F := F)) Variants.none (c.tc : Thread nD τ) none) Set.univ
      (smemLoad arg (Rect.unit (s := S1024) off S1.size b) numel1_S1 rfl >>= k) Q := by
  subst hoff
  rw [wp_bind]
  unfold owns at h ⊢
  iintro ⟨HP, %f, %hf, Hpt⟩
  unfold smemLoad
  iapply (wp_smemLoadElt_named Variants.none (c.tc : Thread nD τ) none Set.univ (m := arg) (S := arg.view.set) (View.set_slice_subset _ _)) $$ Hpt
  iintro Hpt %w %hw
  have hv : (arg.access (Rect.unit (s := S1024) ![r.val] S1.size b)).read (Elt F) f (Shape.Idx.first (numel1_S1.symm ▸ Nat.one_pos)) = x (ix1 r) := by
    rw [← hf]
    show arg.view.read (Elt F) f ((Rect.unit (s := S1024) ![r.val] S1.size b).emb (Shape.Idx.first _)) = arg.view.read (Elt F) f (ix1 r)
    congr 1
    funext a
    apply Fin.ext
    match a with
    | ⟨0, _⟩ => show r.val + 1 * 0 = r.val; omega
  rw [hv] at hw
  subst hw
  rw [wp_ret]
  imodintro
  iapply h
  isplitl [HP]; · iexact HP
  iexists f
  isplitr; · ipureintro; exact hf
  iexact Hpt

/-- A check that holds. -/
theorem chk_step (c : Dev nD) {P : sProp 𝕄} {p : Prop} {dec : Decidable p} (hp : p)
    {α : Type} {k : PLift p → Prog (TpuEff nD τ sig (Elt F) Λ₀ .tc) α} {Q : α → sProp 𝕄}
    (h : ∀ h, P ⊢ wp frame (wpE (defs₀ (F := F)) Variants.none (c.tc : Thread nD τ) none) Set.univ (k h) Q) :
    P ⊢ wp frame (wpE (defs₀ (F := F)) Variants.none (c.tc : Thread nD τ) none) Set.univ
      (Prog.lift (TpuEff.assume p dec) >>= k) Q :=
  (h ⟨hp⟩).trans (Entails.of_eq (wp_assume_of Variants.none (c.tc : Thread nD τ) none Set.univ hp).symm)

end Cert.Routed

end
-- ==== Proof.Issue.lean ====
/- The 256 issues one grid point makes for the next tile: the offsets the kernel computes for the `k`-th of them, in
   closed form, and one issue's load, check and transfer as the kernel's text has them. -/
module

public import proofs.«01_k».proof.Proof.Steps

@[expose] public section

set_option maxRecDepth 16384

noncomputable section

namespace Cert.Routed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [FloatOps F]

local notation "𝕄" => MT nD τ sig Unit (Elt F) ℕ (Pipeline.UD sig nD τ) ℕ

/-- What a program of the body, run at core `c` of grid point's body, guarantees. -/
abbrev Wp (c : Dev nD) {α : Type} (p : Prog (TpuEff nD τ sig (Elt F) Λ₀ .tc) α) (Q : α → sProp 𝕄) : sProp 𝕄 :=
  wp frame (wpE (defs₀ (F := F)) Variants.none (c.tc : Thread nD τ) none) Set.univ p Q

/-- The slot point `i` fills: not the one its own tile reads. -/
abbrev nxt (i : grid0.Coords) : Fin 2 := ⟨1 - (i 0).val % 2, by omega⟩

/-- The semaphore's offset at point `i`. -/
theorem off8_eq (i : grid0.Coords) : k0_off8 i = ![(nxt i).val] := by
  have h : ∀ a : Fin 72, ![(Scalar.subi 1#32 (Scalar.select (Scalar.andi (Scalar.xori (Scalar.cmpi .slt (Scalar.remsi (BitVec.ofNat 32 a.val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 a.val) (Scalar.select (Scalar.cmpi .eq 2#32 0#32) 1#32 2#32)) 0#32)) (Scalar.addi (Scalar.remsi (BitVec.ofNat 32 a.val) (Scalar.select (Scalar.cmpi .eq 2#32 0#32) 1#32 2#32)) (Scalar.select (Scalar.cmpi .eq 2#32 0#32) 1#32 2#32)) (Scalar.remsi (BitVec.ofNat 32 a.val) (Scalar.select (Scalar.cmpi .eq 2#32 0#32) 1#32 2#32)))).toNat] = ![1 - a.val % 2] := by decide +kernel
  exact h (i 0)

/-- The offset of the `k`-th load at point `i`, as the kernel computes it. -/
def ldOff (k : BitVec 32) (i : grid0.Coords) : Fin 1 → ℕ :=
  ![(Scalar.indexCast (Scalar.addi (Scalar.muli (BitVec.ofNat 32 (i 1).val) 256#32) k)).toNat]
/-- The offsets of the `k`-th row at point `i`, as the kernel computes them. -/
def dstOff (k : BitVec 32) (i : grid0.Coords) : Fin 3 → ℕ :=
  ![k0_off8 i 0, (Scalar.muli (Scalar.addi (Scalar.muli (BitVec.ofNat 32 (i 1).val) 256#32) k) 8#32).toNat, 0]
/-- The offsets of a token's row. -/
def srcOff (v : BitVec 32) : Fin 2 → ℕ := ![(Scalar.muli v 8#32).toNat, 0]

theorem ldOff_eq (i : grid0.Coords) (hj : (i 1).val < 4) (k : ℕ) (hk : k < 256) : ldOff (BitVec.ofNat 32 k) i = ![256 * (i 1).val + k] := by
  unfold ldOff
  congr 1
  simp only [Scalar.indexCast, Scalar.addi, Scalar.muli, IntOp.addi, IntOp.muli]
  simp [BitVec.toNat_ofNat]
  omega

theorem dstOff_eq (i : grid0.Coords) (hj : (i 1).val < 4) (k : ℕ) (hk : k < 256) :
    dstOff (BitVec.ofNat 32 k) i = ![(nxt i).val, 8 * (256 * (i 1).val + k), 0] := by
  have h : (Scalar.muli (Scalar.addi (Scalar.muli (BitVec.ofNat 32 (i 1).val) 256#32) (BitVec.ofNat 32 k)) 8#32).toNat = 8 * (256 * (i 1).val + k) := by
    simp only [Scalar.addi, Scalar.muli, IntOp.addi, IntOp.muli]
    simp [BitVec.toNat_ofNat]
    omega
  unfold dstOff
  rw [h, off8_eq]
  rfl

theorem srcOff_eq (v : BitVec 32) (w : ℕ) (h : v.toNat = w) (hw : w < 32768) : srcOff v = ![8 * w, 0] := by
  unfold srcOff
  congr 1
  simp only [Scalar.muli, IntOp.muli]
  simp [BitVec.toNat_mul, h]
  omega

/-- The `k`-th issue of point `i`: row `256 · j + k` of the slot. -/
abbrev pos (i : grid0.Coords) (hj : (i 1).val < 4) (k : ℕ) (hk : k < 256) : Fin 1024 := ⟨256 * (i 1).val + k, by omega⟩

/-- The check of a token below the tokens' number. -/
theorem chk_ok {i : grid0.Coords} {v0 v28 v : BitVec 32} (hv : v.toNat < 32768) : k0_chk3 i v0 v28 v := by
  have e : k0_off10 v = ![8 * v.toNat, 0] := srcOff_eq v _ rfl hv
  have em : (k0_mult3 v).toNat = 8 * v.toNat := congrFun e 0
  refine ⟨fun _ _ => by rw [em]; exact Nat.dvd_mul_right _ _, fun _ _ a => ?_⟩
  rw [e]
  exact inbH ⟨v.toNat, hv⟩ a

/-- With `k` of point `i`'s rows issued (those of the points before it too), the table of tokens held, and `R` besides. -/
def St (c : Dev nD) (i : grid0.Coords) (arg5 : Memref sig .tc .smem S1024 .i32) (x : S1024.Idx → BitVec 32) (wd : Fin 1024 → Fin 32768)
    (hb : TokB F) (R : sProp 𝕄) (k : ℕ) : sProp 𝕄 :=
  iprop((Fly c (nxt i) wd hb (256 * (i 1).val + k) ∗ R) ∗ owns (c.tc : Thread nD τ) arg5 fullShare (x : S1024.Idx → Elt F .i32))

section Steps

variable {c : Dev nD} {i : grid0.Coords} {arg5 : Memref sig .tc .smem S1024 .i32} {x : S1024.Idx → BitVec 32} {wd : Fin 1024 → Fin 32768}
  (hx : ∀ r, (x (ix1 r)).toNat = (wd r).val) {hb : TokB F} (hj : (i 1).val < 4)

include hj

theorem ld {R : sProp 𝕄} (k : ℕ) (hk : k < 256) {k' : ℕ} {b : ∀ a, ldOff (BitVec.ofNat 32 k) i a + S1.size a ≤ S1024.size a}
    {α : Type} {K : Elt F .i32 → Prog (TpuEff nD τ sig (Elt F) Λ₀ .tc) α} {Q : α → sProp 𝕄}
    (h : St c i arg5 x wd hb R k' ⊢ Wp c (K (x (ix1 (pos i hj k hk)))) Q) :
    St c i arg5 x wd hb R k' ⊢ Wp c (smemLoad arg5 (Rect.unit (s := S1024) (ldOff (BitVec.ofNat 32 k) i) S1.size b) numel1_S1 rfl >>= K) Q :=
  load_step c arg5 x (pos i hj k hk) (ldOff_eq i hj k hk) h

include hx in
theorem ck {R : sProp 𝕄} (k : ℕ) (hk : k < 256) {k' : ℕ} {v0 v28 : BitVec 32} {dec : Decidable (k0_chk3 i v0 v28 (x (ix1 (pos i hj k hk))))}
    {α : Type} {K : PLift (k0_chk3 i v0 v28 (x (ix1 (pos i hj k hk)))) → Prog (TpuEff nD τ sig (Elt F) Λ₀ .tc) α} {Q : α → sProp 𝕄}
    (h : ∀ h, St c i arg5 x wd hb R k' ⊢ Wp c (K h) Q) :
    St c i arg5 x wd hb R k' ⊢ Wp c (Prog.lift (TpuEff.assume (k0_chk3 i v0 v28 (x (ix1 (pos i hj k hk)))) dec) >>= K) Q :=
  chk_step c (chk_ok (by rw [hx]; exact (wd _).isLt)) h

include hx in
theorem eq {R : sProp 𝕄} (k : ℕ) (hk : k < 256)
    {bS : ∀ a, k0_off8 i a + S1.size a ≤ S2.size a}
    {bD : ∀ a, dstOff (BitVec.ofNat 32 k) i a + S1x8x128.size a ≤ S2x8192x128.size a}
    {bH : ∀ a, srcOff (x (ix1 (pos i hj k hk))) a + S8x128.size a ≤ S262144x128.size a}
    {α : Type} {K : PUnit → Prog (TpuEff nD τ sig (Elt F) Λ₀ .tc) α} {Q : α → sProp 𝕄}
    (h : St c i arg5 x wd hb R (k + 1) ⊢ Wp c (K ⟨⟩) Q) :
    St c i arg5 x wd hb R k ⊢ Wp c
      (Prog.lift (.enqueueDma (tokM.slice (Rect.unit (s := S262144x128) (srcOff (x (ix1 (pos i hj k hk)))) S8x128.size bH) (fun _ => rfl))
        (.here ((rowsM.slice (Rect.unit (s := S2x8192x128) (dstOff (BitVec.ofNat 32 k) i) S1x8x128.size bD) (fun _ => rfl)).squeeze S8x128 squeezes_S1x8x128_S8x128))
        (.dma ((cc0_scratch1.slice (Rect.unit (s := S2) (k0_off8 i) S1.size bS)).squeeze S_ squeezes_S1_S_).sem)
        (View.wordExact_bits rfl) ((View.wordExact_bits rfl).reshape _ _) ⟨Or.inl rfl, trivial⟩) >>= K) Q := by
  unfold St at h ⊢
  exact sep_assoc.1.trans (enq_step c (nxt i) wd hb (by omega) (off8_eq i) (dstOff_eq i hj k hk)
    (srcOff_eq _ _ (hx (pos i hj k hk)) (wd (pos i hj k hk)).isLt) (sep_assoc.2.trans h))

omit hj in
/-- A piece of a program, then the rest. -/
theorem sq {P : sProp 𝕄} {α β : Type} {p : Prog (TpuEff nD τ sig (Elt F) Λ₀ .tc) α} {K : α → Prog (TpuEff nD τ sig (Elt F) Λ₀ .tc) β} {Q : β → sProp 𝕄}
    (h : P ⊢ Wp c p fun a => Wp c (K a) Q) : P ⊢ Wp c (p >>= K) Q := by
  unfold Wp; rw [wp_bind]; exact h

omit hj in
/-- A program that ends. -/
theorem rt {P : sProp 𝕄} {α : Type} {a : α} {Q : α → sProp 𝕄} (h : P ⊢ Q a) :
    P ⊢ Wp c (pure a : Prog (TpuEff nD τ sig (Elt F) Λ₀ .tc) α) Q := by
  show P ⊢ wp frame (wpE (defs₀ (F := F)) Variants.none (c.tc : Thread nD τ) none) Set.univ (.ret a) Q
  rw [wp_ret]; exact h.trans fupd_intro

end Steps

end Cert.Routed

end
-- ==== Proof.Slots.lean ====
/- The two slots of the buffer of rows: a slot as the union of its 1024 rows, a slot and its semaphore at rest opened
   into a gather with nothing issued, and a gather with all rows issued waited for. -/
module

public import proofs.«01_k».proof.Proof.Issue

@[expose] public section

set_option maxRecDepth 16384

noncomputable section

namespace Cert.Routed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)
open Idealize.ShloMosaic.Transfers (Batch pending)

variable {F : FTy → Type} [FloatOps F]

local notation "𝕄" => MT nD τ sig Unit (Elt F) ℕ (Pipeline.UD sig nD τ) ℕ

theorem inbSl (s : Fin 2) : ∀ a, (![s.val, 0, 0] : Fin 3 → Nat) a + S1x8192x128.size a ≤ S2x8192x128.size a := by
  intro a; fin_cases a
  · show s.val + 1 ≤ 2; omega
  · show 0 + 8192 ≤ 8192; omega
  · show 0 + 128 ≤ 128; omega

/-- Slot `s`, as a memref and as a set of elements. -/
abbrev slotM (s : Fin 2) : Memref sig .tc .vmem S8192x128 .f32 :=
  (rowsM.slice (Rect.unit (s := S2x8192x128) ![s.val, 0, 0] S1x8192x128.size (inbSl s)) (fun _ => rfl)).squeeze S8192x128 squeezes_S1x8192x128_S8192x128
abbrev slotSet (s : Fin 2) : Finset S2x8192x128.Idx := (slotM s).view.set

theorem slotM_emb (s : Fin 2) (x : S8192x128.Idx) :
    (slotM s).view.emb x = ix3 s ⟨(x 0).val, (x 0).isLt⟩ ⟨(x 1).val, (x 1).isLt⟩ := by
  have e := shapeCast_dropUnit_apply (n := 2) ![8192, 128] (fun i => i) squeezes_S1x8192x128_S8192x128.numel_eq x
  have e' : Shape.reshapeEquiv squeezes_S1x8192x128_S8192x128.numel_eq x = (Fin.cons ⟨0, Nat.one_pos⟩ x : S1x8192x128.Idx) := e
  show (Rect.unit (s := S2x8192x128) ![s.val, 0, 0] S1x8192x128.size (inbSl s)).emb (Shape.reshapeEquiv squeezes_S1x8192x128_S8192x128.numel_eq x) = _
  rw [e']
  funext a
  apply Fin.ext
  match a with
  | ⟨0, _⟩ => rfl
  | ⟨1, _⟩ => show 0 + 1 * (x 0).val = (x 0).val; omega
  | ⟨2, _⟩ => show 0 + 1 * (x 1).val = (x 1).val; omega

theorem mem_slotSet (s : Fin 2) (j : S2x8192x128.Idx) : j ∈ slotSet s ↔ (j 0).val = s.val := by
  constructor
  · intro h
    obtain ⟨x, -, rfl⟩ := Finset.mem_map.mp h
    rw [slotM_emb]
  · intro h
    refine Finset.mem_map.mpr ⟨ix2 ⟨(j 1).val, (j 1).isLt⟩ ⟨(j 2).val, (j 2).isLt⟩, Finset.mem_univ _, ?_⟩
    rw [slotM_emb]
    funext a; apply Fin.ext
    match a with
    | ⟨0, _⟩ => exact h.symm
    | ⟨1, _⟩ => rfl
    | ⟨2, _⟩ => rfl

theorem mem_rowSet (s : Fin 2) (r : Fin 1024) (j : S2x8192x128.Idx) : j ∈ rowSet s r ↔ (j 0).val = s.val ∧ (j 1).val / 8 = r.val := by
  constructor
  · intro h
    obtain ⟨x, -, rfl⟩ := Finset.mem_map.mp h
    rw [rowM_emb]
    have h0 : (x 0).val < 8 := (x 0).isLt
    refine ⟨rfl, ?_⟩
    show (8 * r.val + (x 0).val) / 8 = r.val
    omega
  · rintro ⟨h, h'⟩
    have h1 : (j 1).val < 8192 := (j 1).isLt
    refine Finset.mem_map.mpr ⟨ix2 ⟨(j 1).val % 8, by omega⟩ ⟨(j 2).val, (j 2).isLt⟩, Finset.mem_univ _, ?_⟩
    rw [rowM_emb]
    funext a; apply Fin.ext
    match a with
    | ⟨0, _⟩ => exact h.symm
    | ⟨1, _⟩ => show 8 * r.val + (j 1).val % 8 = (j 1).val; omega
    | ⟨2, _⟩ => rfl

theorem slotSet_eq (s : Fin 2) : slotSet s = (Finset.univ : Finset (Fin 1024)).biUnion (rowSet s) := by
  ext j
  rw [mem_slotSet, Finset.mem_biUnion]
  constructor
  · intro h
    have h1 : (j 1).val < 8192 := (j 1).isLt
    exact ⟨⟨(j 1).val / 8, by omega⟩, Finset.mem_univ _, (mem_rowSet s _ j).mpr ⟨h, rfl⟩⟩
  · rintro ⟨r, -, h⟩
    exact ((mem_rowSet s r j).mp h).1

theorem rowSet_disj (s : Fin 2) : ∀ r ∈ (Finset.univ : Finset (Fin 1024)), ∀ r' ∈ (Finset.univ : Finset (Fin 1024)), r ≠ r' → Disjoint (rowSet s r) (rowSet s r') := by
  intro r _ r' _ h
  refine Finset.disjoint_left.mpr fun j hj hj' => h ?_
  exact Fin.ext (((mem_rowSet s r j).mp hj).2.symm.trans ((mem_rowSet s r' j).mp hj').2)

theorem slots_univ : (Finset.univ : Finset S2x8192x128.Idx) \ slotSet 0 = slotSet 1 := by
  ext j
  rw [Finset.mem_sdiff, mem_slotSet, mem_slotSet]
  have h : (j 0).val < 2 := (j 0).isLt
  constructor
  · rintro ⟨-, h'⟩
    have : (j 0).val ≠ 0 := h'
    show (j 0).val = 1; omega
  · intro h'
    have : (j 0).val = 1 := h'
    refine ⟨Finset.mem_univ _, ?_⟩
    show ¬ (j 0).val = 0; omega

/-- A points-to at the whole share is its `N` leaves' at once. -/
theorem leaves_cast {ℓ : Loc nD τ sig} (I : Finset (Idx ℓ)) (f : Buf (Elt F) ℓ) {n N : ℕ} (h : 2 ^ n = N) :
    (ℓ ↦[I]{fullShare} f : sProp 𝕄) = bigSep Finset.univ fun t : Fin N => (ℓ ↦[I]{ShareLeaves.leaf n fullShare (Fin.cast h.symm t)} f) := by
  subst h
  exact ShareLeaves.pointsTo_leaves I f n fullShare

/-- The tokens' rows held whole are held in 1024 shares. -/
theorem tok_leaves (c : Dev nD) (hb : TokB F) :
    (tokL c ↦{fullShare} hb : sProp 𝕄) = bigSep Finset.univ fun t : Fin 1024 => (tokL c ↦{tok t} hb) :=
  leaves_cast (ℓ := tokL c) _ _ (n := 10) (N := 1024) (by norm_num)

/-- A slot held is its rows held. -/
theorem slot_rows (c : Dev nD) (s : Fin 2) (fd : RowsB F) :
    (rowsL c ↦[slotSet s]{fullShare} fd : sProp 𝕄) = bigSep Finset.univ fun t : Fin 1024 => (rowsL c ↦[rowSet s t]{fullShare} fd) := by
  rw [slotSet_eq]
  exact pointsTo_biUnion _ _ (rowSet_disj s)

theorem rows_any (c : Dev nD) (s : Fin 2) (fd : RowsB F) :
    (bigSep Finset.univ fun t : Fin 1024 => (rowsL c ↦[rowSet s t]{fullShare} fd : sProp 𝕄))
      ⊢ bigSep Finset.univ fun t : Fin 1024 => iprop(∃ fd, rowsL c ↦[rowSet s t]{fullShare} fd) := by
  have h : ∀ t : Fin 1024, (rowsL c ↦[rowSet s t]{fullShare} fd : sProp 𝕄) ⊢ iprop(∃ fd, rowsL c ↦[rowSet s t]{fullShare} fd) := by
    intro t
    iintro H
    iexists fd
    iexact H
  exact BI.bigSep_mono fun t _ => h t

/-- A slot and its semaphore at rest, with the tokens' rows, open a gather with nothing issued yet. -/
theorem fly_alloc (c : Dev nD) (s : Fin 2) (wd : Fin 1024 → Fin 32768) (hb : TokB F) (fd : RowsB F) :
    iprop(semVal ((c.tc : Thread nD τ), .dma (semOf s)) 0 ∗ (rowsL c ↦[slotSet s]{fullShare} fd) ∗ (tokL c ↦{fullShare} hb))
      ⊢ (|={Set.univ}=> Fly c s wd hb 0 : sProp 𝕄) := by
  rw [slot_rows, tok_leaves]
  iintro ⟨Hs, Hr, Ht⟩
  imod (Transfers.batch_alloc' (Lvl := ℕ) EC (c.tc : Thread nD τ) () rowN (deliv c s wd hb) (sm := .dma (semOf s)) (E := Set.univ)) $$ Hs with HB
  imodintro
  unfold Fly
  isplitl [HB]; · iexact HB
  have e : bigSep Finset.univ (fun t : Fin 1024 => iprop((∃ fd, rowsL c ↦[rowSet s t]{fullShare} fd) ∗ (tokL c ↦{tok t} hb)))
      = (iprop((bigSep Finset.univ fun t : Fin 1024 => iprop(∃ fd, rowsL c ↦[rowSet s t]{fullShare} fd)) ∗ (bigSep Finset.univ fun t : Fin 1024 => (tokL c ↦{tok t} hb))) : sProp 𝕄) :=
    BI.bigSep_sep ..
  rw [started_zero, BI.bigSep_empty, ← Transfers.bigSep_pending_zero, e]
  isplitl [Hr Ht]
  · isplitl [Hr]
    · iapply (rows_any c s fd) $$ Hr
    · iexact Ht
  · iempintro

theorem pending_done : pending (n := 1024) 1024 = ∅ := by
  ext t; simp [pending]

/-- All rows delivered, with what stayed behind of the shares: the slot at its gather, and the tokens' rows whole again. -/
theorem fly_drain (c : Dev nD) (s : Fin 2) (wd : Fin 1024 → Fin 32768) (hb : TokB F) :
    iprop(bigSep Finset.univ (deliv c s wd hb) ∗ bigSep Finset.univ (fun t : Fin 1024 => (tokL c ↦[Finset.univ \ srcSet (wd t)]{tok t} hb)))
      ⊢ (iprop((rowsL c ↦[slotSet s]{fullShare} gath wd hb) ∗ (tokL c ↦{fullShare} hb)) : sProp 𝕄) := by
  rw [slot_rows, tok_leaves]
  have h : ∀ t : Fin 1024, iprop(deliv c s wd hb t ∗ (tokL c ↦[Finset.univ \ srcSet (wd t)]{tok t} hb))
      ⊢ (iprop((rowsL c ↦[rowSet s t]{fullShare} gath wd hb) ∗ (tokL c ↦{tok t} hb)) : sProp 𝕄) := by
    intro t
    unfold deliv
    iintro ⟨⟨Hr, Ht⟩, Ht'⟩
    isplitl [Hr]; · iexact Hr
    iapply (pointsTo_split_subset (ℓ := tokL c) (I := srcSet (wd t)) (Finset.subset_univ _)).2
    isplitl [Ht]; · iexact Ht
    iexact Ht'
  have e1 := bigSep_sep' (M := 𝕄) Finset.univ (deliv c s wd hb) (fun t : Fin 1024 => (tokL c ↦[Finset.univ \ srcSet (wd t)]{tok t} hb))
  have e2 := bigSep_sep' (M := 𝕄) Finset.univ (fun t : Fin 1024 => (rowsL c ↦[rowSet s t]{fullShare} gath wd hb)) (fun t : Fin 1024 => (tokL c ↦{tok t} hb))
  rw [← e1, ← e2]
  exact BI.bigSep_mono fun t _ => h t

/-- The slot's gather, by the slot's own indices. -/
def gx (wd : Fin 1024 → Fin 32768) (hb : TokB F) : S8192x128.Idx → Elt F .f32 := fun x =>
  hb (ix2 ⟨8 * (wd ⟨(x 0).val / 8, by have : (x 0).val < 8192 := (x 0).isLt; omega⟩).val + (x 0).val % 8, by
    have := (wd ⟨(x 0).val / 8, by have : (x 0).val < 8192 := (x 0).isLt; omega⟩).isLt; omega⟩ ⟨(x 1).val, (x 1).isLt⟩)

theorem read_gath (s : Fin 2) (wd : Fin 1024 → Fin 32768) (hb : TokB F) : (slotM s).view.read (Elt F) (gath wd hb) = gx wd hb := by
  funext x
  show gath wd hb ((slotM s).view.emb x) = _
  rw [slotM_emb]
  rfl

/-- An operation at the head of a program. -/
theorem lift_eq (c : Dev nD) {α β : Type} (op : TpuEff nD τ sig (Elt F) Λ₀ .tc β) (K : β → Prog (TpuEff nD τ sig (Elt F) Λ₀ .tc) α) (Q : α → sProp 𝕄) :
    Wp c (Prog.lift op >>= K) Q = wp frame (wpE (defs₀ (F := F)) Variants.none (c.tc : Thread nD τ) none) Set.univ (.op op K) Q := rfl

/-- The wait for a gather with every row issued. The slot is named by the program's own offsets, equal to these. -/
theorem wait_step (c : Dev nD) (s : Fin 2) (wd : Fin 1024 → Fin 32768) (hb : TokB F) {W : Waits sig Unit}
    {offS : Fin 1 → ℕ} {bS : ∀ a, offS a + S1.size a ≤ S2.size a}
    {offD : Fin 3 → ℕ} {bD : ∀ a, offD a + S1x8192x128.size a ≤ S2x8192x128.size a}
    {bH : ∀ a, (![0, 0] : Fin 2 → ℕ) a + S8192x128.size a ≤ S262144x128.size a}
    (hS : offS = ![s.val]) (hD : offD = ![s.val, 0, 0])
    {α : Type} {k : PUnit → Prog (TpuEff nD τ sig (Elt F) Λ₀ .tc) α} {Q : α → sProp 𝕄} :
    iprop(Fly c s wd hb 1024 ∗ owes (c.tc : Thread nD τ) 0 W)
      ⊢ iprop((iprop(owns (c.tc : Thread nD τ) (slotM s) fullShare (gx wd hb) ∗ (tokL c ↦{fullShare} hb) ∗ semVal ((c.tc : Thread nD τ), .dma (semOf s)) 0
            ∗ (∃ W', owes (c.tc : Thread nD τ) 0 W')) -∗ Wp c (k ⟨⟩) Q)
        -∗ Wp c (Prog.lift (.waitDma2 ((cc0_scratch1.slice (Rect.unit (s := S2) offS S1.size bS)).squeeze S_ squeezes_S1_S_).sem
            (tokM.slice (Rect.unit (s := S262144x128) ![0, 0] S8192x128.size bH) (fun _ => rfl))
            ((rowsM.slice (Rect.unit (s := S2x8192x128) offD S1x8192x128.size bD) (fun _ => rfl)).squeeze S8192x128 squeezes_S1x8192x128_S8192x128)
            (View.wordExact_bits rfl) ((View.wordExact_bits rfl).reshape _ _)) >>= k) Q) := by
  subst hS hD
  unfold Fly
  rw [pending_done, started_all, BI.bigSep_empty, lift_eq]
  iintro ⟨⟨HB, -, Hst⟩, HO⟩ Hk
  iapply (Transfers.wp_waitBatchAll EC Variants.none (c.tc : Thread nD τ) none () (J := rowN * 1024) (N := rowN) (u := 0) (W := W) (hJ := rfl) (hN0 := by decide) (hu := Nat.zero_add _)) $$ [HB HO]
  · isplitl [HB]; · iexact HB
    iexact HO
  iintro ⟨HD, Hs, HO⟩
  ihave H := (fly_drain c s wd hb) $$ [HD Hst]
  · isplitl [HD]; · iexact HD
    iexact Hst
  icases H with ⟨Hr, Ht⟩
  iapply Hk
  isplitl [Hr]
  · rw [← read_gath s]
    iapply (owns_intro (c.tc : Thread nD τ) (slotM s) fullShare (gath wd hb)) $$ Hr
  isplitl [Ht]; · iexact Ht
  isplitl [Hs]; · iexact Hs
  iexists _
  iexact HO

/-- A slot owned and its semaphore at rest, with the tokens' rows, open a gather with nothing issued yet. -/
theorem fly_open (c : Dev nD) (s : Fin 2) (wd : Fin 1024 → Fin 32768) (hb : TokB F) (X : S8192x128.Idx → Elt F .f32) :
    iprop(semVal ((c.tc : Thread nD τ), .dma (semOf s)) 0 ∗ owns (c.tc : Thread nD τ) (slotM s) fullShare X ∗ (tokL c ↦{fullShare} hb))
      ⊢ (|={Set.univ}=> Fly c s wd hb 0 : sProp 𝕄) := by
  unfold owns
  iintro ⟨Hs, ⟨%f, -, Hf⟩, Ht⟩
  iapply (fly_alloc c s wd hb f)
  isplitl [Hs]; · iexact Hs
  isplitl [Hf]; · iexact Hf
  iexact Ht

/-- The buffer of rows is its two slots, -/
theorem rows_split (c : Dev nD) (f : RowsB F) :
    (rowsL c ↦{fullShare} f : sProp 𝕄) ⊢ iprop((∃ X, owns (c.tc : Thread nD τ) (slotM 0) fullShare X) ∗ (∃ X, owns (c.tc : Thread nD τ) (slotM 1) fullShare X)) := by
  iintro H
  ihave H' := (pointsTo_split_subset (ℓ := rowsL c) (I := slotSet 0) (Finset.subset_univ _)).1 $$ H
  icases H' with ⟨H0, H1⟩
  rw [slots_univ]
  isplitl [H0]
  · iexists (slotM 0).view.read (Elt F) f
    iapply (owns_intro (c.tc : Thread nD τ) (slotM 0) fullShare f) $$ H0
  · iexists (slotM 1).view.read (Elt F) f
    iapply (owns_intro (c.tc : Thread nD τ) (slotM 1) fullShare f) $$ H1

/-- and the two slots the buffer. -/
theorem rows_join (c : Dev nD) :
    iprop((∃ X, owns (c.tc : Thread nD τ) (slotM 0) fullShare X) ∗ (∃ X, owns (c.tc : Thread nD τ) (slotM 1) fullShare X)) ⊢ (iprop(∃ f, rowsL c ↦{fullShare} f) : sProp 𝕄) := by
  unfold owns
  iintro ⟨⟨%X, ⟨%f, -, H0⟩⟩, ⟨%X', ⟨%f', -, H1⟩⟩⟩
  iexists (slotSet 0).piecewise f f'
  iapply (pointsTo_split_subset (ℓ := rowsL c) (I := slotSet 0) (Finset.subset_univ _)).2
  rw [slots_univ]
  isplitl [H0]
  · rw [show (rowsL c ↦[slotSet 0]{fullShare} (slotSet 0).piecewise f f' : sProp 𝕄) = (rowsL c ↦[slotSet 0]{fullShare} f) from
      pointsTo_congr fun i hi => Finset.piecewise_eq_of_mem _ _ _ hi]
    iexact H0
  · rw [show (rowsL c ↦[slotSet 1]{fullShare} (slotSet 0).piecewise f f' : sProp 𝕄) = (rowsL c ↦[slotSet 1]{fullShare} f') from
      pointsTo_congr fun i hi => Finset.piecewise_eq_of_notMem _ _ _ fun h => by
        have h0 := (mem_slotSet 0 i).mp h
        have h1 := (mem_slotSet 1 i).mp hi
        rw [h0] at h1
        exact absurd h1 (by decide)]
    iexact H1

end Cert.Routed

end
-- ==== Proof.Mem.lean ====
/- Loads and stores through owned memrefs, at the head of a program. -/
module

public import proofs.«01_k».proof.Proof.Slots

@[expose] public section

set_option maxRecDepth 16384

noncomputable section

namespace Cert.Routed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [FloatOps F]

local notation "𝕄" => MT nD τ sig Unit (Elt F) ℕ (Pipeline.UD sig nD τ) ℕ

/-- A load through an owned memref reads what is owned. -/
theorem oload (c : Dev nD) {s : Shape} {e : EltTy} {m : Memref sig .tc .vmem s e} {q : PosShare TreeShare} {X : s.Idx → Elt F e}
    {r : LoadRect s} {hl : m.view.LoadsAt r} {α : Type} {K : (r.shape.Idx → Elt F e) → Prog (TpuEff nD τ sig (Elt F) Λ₀ .tc) α} {Q : α → sProp 𝕄} :
    (owns (c.tc : Thread nD τ) m q X : sProp 𝕄) ⊢ iprop((owns (c.tc : Thread nD τ) m q X -∗ Wp c (K fun x => X (r.idx x)) Q)
      -∗ Wp c (Prog.lift (.load m r hl) >>= K) Q) := by
  unfold owns
  rw [lift_eq]
  iintro ⟨%f, %hf, H⟩ Hk
  subst hf
  iapply (wp_load Variants.none (c.tc : Thread nD τ) none Set.univ (m := m) (S := m.view.set) (q := q) (f := f) (Finset.map_subset_map.mpr (Finset.subset_univ _))) $$ H
  iintro H
  iapply Hk
  iexists f
  isplitr; · ipureintro; rfl
  iexact H

/-- A store through an owned memref: what is owned then has the payload at the rectangle's elements and the old values elsewhere. -/
theorem ostore (c : Dev nD) {s : Shape} {e : EltTy} {m : Memref sig .tc .vmem s e} {X : s.Idx → Elt F e}
    {r : Rect s} {w : r.shape.Idx → Elt F e} {hx : (m.access r).Stores Finset.univ} {hm : (Finset.univ : Finset r.shape.Idx) = Finset.univ ∨ ∀ a, r.stride a = 1}
    {α : Type} {K : PUnit → Prog (TpuEff nD τ sig (Elt F) Λ₀ .tc) α} {Q : α → sProp 𝕄} :
    (owns (c.tc : Thread nD τ) m fullShare X : sProp 𝕄) ⊢ iprop((∀ X' : s.Idx → Elt F e, ⌜(∀ x, X' (r.emb x) = w x) ∧ ∀ y, (∀ x, r.emb x ≠ y) → X' y = X y⌝
        -∗ owns (c.tc : Thread nD τ) m fullShare X' -∗ Wp c (K ⟨⟩) Q)
      -∗ Wp c (Prog.lift (.store m r w Finset.univ hx hm) >>= K) Q) := by
  unfold owns
  rw [lift_eq]
  iintro ⟨%f, %hf, H⟩ Hk
  subst hf
  iapply (wp_store Variants.none (c.tc : Thread nD τ) none Set.univ (m := m) (r := r) (S := m.view.set) (f := f) (fun i hi => by obtain ⟨x, -, rfl⟩ := Finset.mem_map.mp hi; exact m.view.emb_mem_set (r.emb x))) $$ H
  iintro H
  iapply Hk $$ %(m.view.read (Elt F) ((m.access r).write (Elt F) f w Finset.univ))
  · ipureintro
    refine ⟨fun x => View.read_slice_write_emb _ _ _ (Finset.mem_univ x), fun y hy => View.read_slice_write_of_not_mem _ _ _ _ fun h => ?_⟩
    obtain ⟨x, -, hx⟩ := Finset.mem_map.mp h
    exact hy x hx
  · iexists _
    isplitr; · ipureintro; rfl
    iexact H

/-- A load of a slot, named by the program's own offset. -/
theorem slot_load (c : Dev nD) (s : Fin 2) {X : S8192x128.Idx → Elt F .f32}
    {offD : Fin 3 → ℕ} {bD : ∀ a, offD a + S1x8192x128.size a ≤ S2x8192x128.size a} (hD : offD = ![s.val, 0, 0])
    {r : LoadRect S8192x128}
    {hl : View.LoadsAt ((rowsM.slice (Rect.unit (s := S2x8192x128) offD S1x8192x128.size bD) (fun _ => rfl)).squeeze S8192x128 squeezes_S1x8192x128_S8192x128).view r}
    {α : Type} {K : (r.shape.Idx → Elt F .f32) → Prog (TpuEff nD τ sig (Elt F) Λ₀ .tc) α} {Q : α → sProp 𝕄} :
    (owns (c.tc : Thread nD τ) (slotM s) fullShare X : sProp 𝕄) ⊢ iprop((owns (c.tc : Thread nD τ) (slotM s) fullShare X -∗ Wp c (K fun x => X (r.idx x)) Q)
      -∗ Wp c (Prog.lift (.load ((rowsM.slice (Rect.unit (s := S2x8192x128) offD S1x8192x128.size bD) (fun _ => rfl)).squeeze S8192x128 squeezes_S1x8192x128_S8192x128) r hl) >>= K) Q) := by
  subst hD
  exact oload c

/-- The end of a program. -/
theorem wret (c : Dev nD) {α : Type} {a : α} {Q : α → sProp 𝕄} : Q a ⊢ Wp c (pure a : Prog (TpuEff nD τ sig (Elt F) Λ₀ .tc) α) Q := rt .rfl

/-- One program after another. -/
theorem wseq (c : Dev nD) {α β : Type} {p : Prog (TpuEff nD τ sig (Elt F) Λ₀ .tc) α} {K : α → Prog (TpuEff nD τ sig (Elt F) Λ₀ .tc) β} {Q : β → sProp 𝕄} :
    Wp c p (fun a => Wp c (K a) Q) ⊢ Wp c (p >>= K) Q := sq .rfl

end Cert.Routed

end
-- ==== Proof.Conds.lean ====
/- The conditions the body branches on, and the offsets of the slot it reads, as statements about the point's coordinates. -/
module

public import proofs.«01_k».proof.Proof.Mem

@[expose] public section

set_option maxRecDepth 16384

noncomputable section

namespace Cert.Routed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [FloatOps F]

local notation "𝕄" => MT nD τ sig Unit (Elt F) ℕ (Pipeline.UD sig nD τ) ℕ

theorem ne_ext (b : BitVec 1) : Scalar.cmpi .ne (Scalar.extui b : BitVec 32) 0#32 = b := by revert b; decide
theorem and_one (a b : BitVec 1) : Scalar.andi a b = 1#1 ↔ a = 1#1 ∧ b = 1#1 := by revert a b; decide
theorem xor_one (a : BitVec 1) : Scalar.xori a 1#1 = 1#1 ↔ ¬ a = 1#1 := by revert a; decide
theorem slt_one (a b : BitVec 32) : Scalar.cmpi .slt a b = 1#1 ↔ a.toInt < b.toInt := by
  have h : Scalar.cmpi .slt a b = BitVec.ofBool (a.slt b) := rfl
  rw [h, ← BitVec.slt_iff_toInt_lt]
  cases a.slt b <;> simp
theorem sgt_one (a b : BitVec 32) : Scalar.cmpi .sgt a b = 1#1 ↔ b.toInt < a.toInt := by
  have h : Scalar.cmpi .sgt a b = BitVec.ofBool (b.slt a) := rfl
  rw [h, ← BitVec.slt_iff_toInt_lt]
  cases b.slt a <;> simp
theorem eq_one (a b : BitVec 32) : Scalar.cmpi .eq a b = 1#1 ↔ a = b := by
  have h : Scalar.cmpi .eq a b = BitVec.ofBool (a == b) := rfl
  rw [h, ← beq_iff_eq (a := a)]
  cases a == b <;> simp

theorem toInt_small (n : ℕ) (h : n < 1000) : (BitVec.ofNat 32 n).toInt = n := by
  rw [BitVec.toInt_eq_toNat_of_lt (by simp [BitVec.toNat_ofNat]; omega)]
  simp [BitVec.toNat_ofNat]; omega
theorem ofNat_eq (n m : ℕ) (h : n < 1000) (h' : m < 1000) : BitVec.ofNat 32 n = BitVec.ofNat 32 m ↔ n = m := by
  constructor
  · intro e
    have := congrArg BitVec.toNat e
    simp only [BitVec.toNat_ofNat] at this
    omega
  · rintro rfl; rfl

theorem i0_lt (i : grid0.Coords) : (i 0).val < 72 := (i 0).isLt
theorem i1_lt (i : grid0.Coords) : (i 1).val < 7 := (i 1).isLt

theorem cond1_iff (i : grid0.Coords) (v0 : BitVec 32) : k0_cond1 i v0 = 1#1 ↔ ((i 0).val : ℤ) < v0.toInt := by
  have h : k0_cond1 i v0 = Scalar.cmpi .ne (Scalar.extui (Scalar.cmpi .slt (BitVec.ofNat 32 (i 0).val) v0) : BitVec 32) 0#32 := rfl
  have := i0_lt i
  rw [h, ne_ext, slt_one, toInt_small _ (by omega)]

theorem cond2_iff (i : grid0.Coords) : k0_cond2 i = 1#1 ↔ (i 0).val = 0 ∧ (i 1).val = 0 := by
  have h : k0_cond2 i = Scalar.cmpi .ne (Scalar.extui (Scalar.andi (Scalar.cmpi .eq (BitVec.ofNat 32 (i 0).val) (BitVec.ofNat 32 0)) (Scalar.cmpi .eq (BitVec.ofNat 32 (i 1).val) (BitVec.ofNat 32 0))) : BitVec 32) 0#32 := rfl
  have := i0_lt i
  have := i1_lt i
  rw [h, ne_ext, and_one, eq_one, eq_one, ofNat_eq _ _ (by omega) (by omega), ofNat_eq _ _ (by omega) (by omega)]

theorem cond3_iff (i : grid0.Coords) : k0_cond3 i = 1#1 ↔ (i 1).val = 0 := by
  have h : k0_cond3 i = Scalar.cmpi .ne (Scalar.extui (Scalar.cmpi .eq (BitVec.ofNat 32 (i 1).val) (BitVec.ofNat 32 0)) : BitVec 32) 0#32 := rfl
  have := i1_lt i
  rw [h, ne_ext, eq_one, ofNat_eq _ _ (by omega) (by omega)]

theorem cond4_iff (i : grid0.Coords) (v28 : BitVec 32) : k0_cond4 i v28 = 1#1 ↔ (((i 0).val + 1 : ℕ) : ℤ) < v28.toInt ∧ (i 1).val < 4 := by
  have h : k0_cond4 i v28 = Scalar.cmpi .ne (Scalar.extui (Scalar.andi (Scalar.cmpi .slt (Scalar.addi (BitVec.ofNat 32 (i 0).val) (BitVec.ofNat 32 1)) v28) (Scalar.cmpi .slt (BitVec.ofNat 32 (i 1).val) (BitVec.ofNat 32 4))) : BitVec 32) 0#32 := rfl
  have h0 := i0_lt i
  have h1 := i1_lt i
  have e : Scalar.addi (BitVec.ofNat 32 (i 0).val) (BitVec.ofNat 32 1) = BitVec.ofNat 32 ((i 0).val + 1) := by
    apply BitVec.eq_of_toNat_eq
    simp only [Scalar.addi, IntOp.addi]
    simp [BitVec.toNat_ofNat]
  rw [h, ne_ext, and_one, slt_one, slt_one, e, toInt_small _ (by omega), toInt_small _ (by omega), toInt_small _ (by omega)]
  norm_cast

theorem cond7_iff (i : grid0.Coords) : k0_cond7 i = 1#1 ↔ (i 1).val = 6 := by
  have h : k0_cond7 i = Scalar.cmpi .ne (Scalar.extui (Scalar.cmpi .eq (BitVec.ofNat 32 (i 1).val) (BitVec.ofNat 32 6)) : BitVec 32) 0#32 := rfl
  have := i1_lt i
  rw [h, ne_ext, eq_one, ofNat_eq _ _ (by omega) (by omega)]

theorem cond8_iff (i : grid0.Coords) (v0 : BitVec 32) : k0_cond8 i v0 = 1#1 ↔ ¬ ((i 0).val : ℤ) < v0.toInt ∧ (i 1).val = 6 := by
  have h : k0_cond8 i v0 = Scalar.cmpi .ne (Scalar.extui (Scalar.andi (Scalar.xori (Scalar.cmpi .slt (BitVec.ofNat 32 (i 0).val) v0) 1#1) (Scalar.cmpi .eq (BitVec.ofNat 32 (i 1).val) (BitVec.ofNat 32 6))) : BitVec 32) 0#32 := rfl
  have := i0_lt i
  have := i1_lt i
  rw [h, ne_ext, and_one, xor_one, slt_one, eq_one, toInt_small _ (by omega), ofNat_eq _ _ (by omega) (by omega)]

/-- "First column of tiles", as the body asks it twice. -/
theorem cond5_iff (i : grid0.Coords) : Scalar.cmpi .ne (Scalar.extui (Scalar.cmpi .eq (BitVec.ofNat 32 (i 1).val) 0#32) : BitVec 32) 0#32 = 1#1 ↔ (i 1).val = 0 :=
  cond3_iff i
theorem cond6_iff (i : grid0.Coords) : Scalar.cmpi .ne (Scalar.extui (Scalar.cmpi .sgt (BitVec.ofNat 32 (i 1).val) 0#32) : BitVec 32) 0#32 = 1#1 ↔ 0 < (i 1).val := by
  have := i1_lt i
  rw [ne_ext, sgt_one, toInt_small _ (by omega), toInt_small _ (by omega)]
  norm_cast

/-- The slot point `i`'s own tile reads. -/
abbrev cur (i : grid0.Coords) : Fin 2 := ⟨(i 0).val % 2, by omega⟩

theorem off5_eq (i : grid0.Coords) : k0_off5 i = ![(cur i).val] := by
  have h : ∀ a : Fin 72, ![(Scalar.select (Scalar.andi (Scalar.xori (Scalar.cmpi .slt (Scalar.remsi (BitVec.ofNat 32 a.val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 a.val) (Scalar.select (Scalar.cmpi .eq 2#32 0#32) 1#32 2#32)) 0#32)) (Scalar.addi (Scalar.remsi (BitVec.ofNat 32 a.val) (Scalar.select (Scalar.cmpi .eq 2#32 0#32) 1#32 2#32)) (Scalar.select (Scalar.cmpi .eq 2#32 0#32) 1#32 2#32)) (Scalar.remsi (BitVec.ofNat 32 a.val) (Scalar.select (Scalar.cmpi .eq 2#32 0#32) 1#32 2#32))).toNat] = ![a.val % 2] := by decide +kernel
  exact h (i 0)

theorem off6_eq (i : grid0.Coords) : k0_off6 i = ![(cur i).val, 0, 0] := by
  have h : k0_off6 i = ![k0_off5 i 0, 0, 0] := rfl
  rw [h, off5_eq]
  rfl

end Cert.Routed

end
-- ==== Proof.Fill.lean ====
/- Point (0, 0)'s loop over the first tile's rows, and the block of rows the first point of a tile gathers into the matrix the products read. -/
module

public import proofs.«01_k».proof.Proof.Conds

@[expose] public section

set_option maxRecDepth 16384

noncomputable section

namespace Cert.Routed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [FloatOps F]

local notation "𝕄" => MT nD τ sig Unit (Elt F) ℕ (Pipeline.UD sig nD τ) ℕ

variable (c : Dev nD) (i : grid0.Coords) (arg2 : Memref sig .tc .smem S72 .i32) (harg2 : arg2.IsWhole) (arg3 : Memref sig .tc .smem S1 .i32)
  (harg3 : arg3.IsWhole) (arg4 : Memref sig .tc .smem S1024 .i32) (harg4 : arg4.IsWhole) (arg5 : Memref sig .tc .smem S1024 .i32) (harg5 : arg5.IsWhole)
  (harg6 : tokM.IsWhole) (arg7 : Memref sig .tc .vmem S1x1024x512 .f32) (harg7 : arg7.IsWhole)
  (arg8 : Memref sig .tc .vmem S1x1024x512 .f32) (harg8 : arg8.IsWhole) (arg9 : Memref sig .tc .vmem S1x512x1024 .f32) (harg9 : arg9.IsWhole)
  (arg10 : Memref sig .tc .vmem S8192x128 .f32) (harg10 : arg10.IsWhole) (harg11 : rowsM.IsWhole)
  (arg13 : Memref sig .tc .vmem S1024x1024 .bf16) (harg13 : arg13.IsWhole) (arg14 : Memref sig .tc .vmem S1024x1024 .f32) (harg14 : arg14.IsWhole)
  (x : S1024.Idx → BitVec 32) (wd : Fin 1024 → Fin 32768) (hx : ∀ r, (x (ix1 r)).toNat = (wd r).val) (hb : TokB F)

/-- The check of a token below the tokens' number, in the loop. -/
theorem chk1_ok {i : grid0.Coords} {v0 v : BitVec 32} (hv : v.toNat < 32768) : k0_chk1 i v0 v := by
  have e : k0_off4 v = ![8 * v.toNat, 0] := srcOff_eq v _ rfl hv
  have em : (k0_mult1 v).toNat = 8 * v.toNat := congrFun e 0
  refine ⟨fun _ _ => by rw [em]; exact Nat.dvd_mul_right _ _, fun _ _ a => ?_⟩
  rw [e]
  exact inbH ⟨v.toNat, hv⟩ a

include hx in
/-- The loop of point (0, 0) issues all of slot 0's rows. -/
theorem loopA (arg0 arg1 : BitVec 32) (v0 : Elt F .i32) (v11 : BitVec 32) (k0_h1 : k0_cond1 i v0 = 1#1) (k0_h2 : k0_cond2 i = 1#1)
    {α : Type} {K : Unit → Prog (TpuEff nD τ sig (Elt F) Λ₀ .tc) α} {Q : α → sProp 𝕄} :
    iprop(Fly c 0 wd hb 0 ∗ owns (c.tc : Thread nD τ) arg4 fullShare (x : S1024.Idx → Elt F .i32))
      ⊢ iprop((iprop(Fly c 0 wd hb 1024 ∗ owns (c.tc : Thread nD τ) arg4 fullShare (x : S1024.Idx → Elt F .i32)) -∗ Wp c (K ⟨⟩) Q)
        -∗ Wp c (Scf.Loop.for k0_t1_loop (k0_t1_ok i k0_h2) ⟨⟩ (k0_t1_body i arg2 harg2 arg3 harg3 arg4 harg4 arg5 harg5 tokM harg6 arg7 harg7 arg8 harg8 arg9 harg9 arg10 harg10 rowsM harg11 cc0_scratch1 arg13 harg13 arg14 harg14 arg0 arg1 v0 v11 k0_h1 k0_h2) >>= K) Q) := by
  iintro H HK
  iapply (Scf.wp_for_bind frame (wpE (defs₀ (F := F)) Variants.none (c.tc : Thread nD τ) none) Set.univ _ _ _ (k0_t1_ok i k0_h2) ()
    (k0_t1_body i arg2 harg2 arg3 harg3 arg4 harg4 arg5 harg5 tokM harg6 arg7 harg7 arg8 harg8 arg9 harg9 arg10 harg10 rowsM harg11 cc0_scratch1 arg13 harg13 arg14 harg14 arg0 arg1 v0 v11 k0_h1 k0_h2)
    (fun n _ => iprop(Fly c 0 wd hb n ∗ owns (c.tc : Thread nD τ) arg4 fullShare (x : S1024.Idx → Elt F .i32))) (fun t _ => ?step)) $$ H
  case step =>
    have ht : t.val < 1024 := t.isLt
    unfold k0_t1_body
    refine load_step c arg4 x ⟨t.val, ht⟩ (k0_off2_eq t) ?_
    refine chk_step c (chk1_ok (by rw [hx]; exact (wd _).isLt)) fun _ => ?_
    refine enq_step c 0 wd hb ht rfl (k0_off3_eq t) (srcOff_eq _ _ (hx ⟨t.val, ht⟩) (wd _).isLt) ?_
    exact rt .rfl
  iintro %_ H
  iapply HK
  iexact H

/-- The rows of the tile as the products read them: row `r` is token `wd r`'s, its 1024 values rounded to 16 bits. -/
def hv (wd : Fin 1024 → Fin 32768) (hb : TokB F) : FVec F S1024x1024 .bf16 :=
  truncf .bf16 (fun j : S1024x1024.Idx => hb (ix2 ⟨8 * (wd ⟨(j 0).val, (j 0).isLt⟩).val + (j 1).val / 128, by
    have := (wd ⟨(j 0).val, (j 0).isLt⟩).isLt; have : (j 1).val < 1024 := (j 1).isLt; omega⟩ ⟨(j 1).val % 128, by omega⟩)) bitsLt_bf16_f32

/-- The first `q` blocks of columns hold the tile's rows. -/
def Filled (wd : Fin 1024 → Fin 32768) (hb : TokB F) (q : ℕ) (X : S1024x1024.Idx → Elt F .bf16) : Prop :=
  ∀ j : S1024x1024.Idx, (j 1).val < 128 * q → X j = hv wd hb j

theorem filled_all {wd : Fin 1024 → Fin 32768} {hb : TokB F} {X : S1024x1024.Idx → Elt F .bf16} (h : Filled wd hb 8 X) : X = hv wd hb :=
  funext fun j => h j (by have : (j 1).val < 1024 := (j 1).isLt; omega)

theorem filled_step {wd : Fin 1024 → Fin 32768} {hb : TokB F} {q : ℕ} (hq : q < 8) {X X' : S1024x1024.Idx → Elt F .bf16}
    {off : Fin 2 → ℕ} {b : ∀ a, off a + S1024x128.size a ≤ S1024x1024.size a} (hoff : off = ![0, 128 * q])
    {bl : ∀ a, S1024x128.size a = 0 ∨ (![q, 0] : Fin 2 → ℕ) a + (![8, 1] : Fin 2 → ℕ) a * (S1024x128.size a - 1) < S8192x128.size a}
    {w : S1024x128.Idx → Elt F .bf16}
    (hw : w = truncf .bf16 (fun z : S1024x128.Idx => gx wd hb ((⟨![q, 0], S1024x128.size, ![8, 1], bl⟩ : LoadRect S8192x128).idx z)) bitsLt_bf16_f32)
    (h : Filled wd hb q X)
    (h' : (∀ z : S1024x128.Idx, X' ((Rect.unit (s := S1024x1024) off S1024x128.size b).emb z) = w z)
      ∧ ∀ y, (∀ z : S1024x128.Idx, (Rect.unit (s := S1024x1024) off S1024x128.size b).emb z ≠ y) → X' y = X y) :
    Filled wd hb (q + 1) X' := by
  subst hoff hw
  intro j hj
  have hj0 : (j 0).val < 1024 := (j 0).isLt
  by_cases hlt : (j 1).val < 128 * q
  · rw [h'.2 j, h j hlt]
    intro z hz
    have := congrArg (fun y : S1024x1024.Idx => (y 1).val) hz
    have e : 128 * q + 1 * (z 1).val = (j 1).val := this
    omega
  · have hz1 : (j 1).val - 128 * q < 128 := by omega
    have ez : (Rect.unit (s := S1024x1024) ![0, 128 * q] S1024x128.size b).emb (ix2 ⟨(j 0).val, hj0⟩ ⟨(j 1).val - 128 * q, hz1⟩ : S1024x128.Idx) = j := by
      funext a; apply Fin.ext
      match a with
      | ⟨0, _⟩ => show 0 + 1 * (j 0).val = (j 0).val; omega
      | ⟨1, _⟩ => show 128 * q + 1 * ((j 1).val - 128 * q) = (j 1).val; omega
    rw [← ez, h'.1, ez]
    show FloatOps.truncf .bf16 bitsLt_bf16_f32 _ = FloatOps.truncf .bf16 bitsLt_bf16_f32 _
    congr 1
    unfold gx
    refine congrArg hb (funext fun a => Fin.ext ?_)
    match a with
    | ⟨0, _⟩ =>
      have ha : (q + 8 * (j 0).val) / 8 = (j 0).val := by omega
      have hc : (q + 8 * (j 0).val) % 8 = q := by omega
      have hd : (j 1).val / 128 = q := by omega
      show 8 * (wd ⟨(q + 8 * (j 0).val) / 8, _⟩).val + (q + 8 * (j 0).val) % 8 = 8 * (wd ⟨(j 0).val, _⟩).val + (j 1).val / 128
      rw [hc, hd]; congr 3; congr 1; exact Fin.ext ha
    | ⟨1, _⟩ => show 0 + 1 * ((j 1).val - 128 * q) = (j 1).val % 128; omega

theorem pay13 (v : Vec F S1024x128 .f32) : k0_pay13 v = truncf .bf16 v bitsLt_bf16_f32 := shapeCast_self _ _
theorem pay14 (v : Vec F S1024x128 .f32) : k0_pay14 v = truncf .bf16 v bitsLt_bf16_f32 := shapeCast_self _ _
theorem pay15 (v : Vec F S1024x128 .f32) : k0_pay15 v = truncf .bf16 v bitsLt_bf16_f32 := shapeCast_self _ _
theorem pay18 (v : Vec F S1024x128 .f32) : k0_pay18 v = truncf .bf16 v bitsLt_bf16_f32 := shapeCast_self _ _
theorem pay19 (v : Vec F S1024x128 .f32) : k0_pay19 v = truncf .bf16 v bitsLt_bf16_f32 := shapeCast_self _ _
theorem pay20 (v : Vec F S1024x128 .f32) : k0_pay20 v = truncf .bf16 v bitsLt_bf16_f32 := shapeCast_self _ _
theorem pay17 (v : Vec F S1024x128 .f32) : k0_pay17 (k0_pay16 v) = truncf .bf16 v bitsLt_bf16_f32 := shapeCast_self _ _
theorem pay22 (v : Vec F S1024x128 .f32) : k0_pay22 (k0_pay21 v) = truncf .bf16 v bitsLt_bf16_f32 := shapeCast_self _ _

/-- The eight blocks of columns, first half: the tile's rows are waited for, and four blocks read. -/
theorem part1 {W : Waits sig Unit} {X : S1024x1024.Idx → Elt F .bf16} (k0_h3 : k0_cond3 i = 1#1) {Q : FVec F S1024x128 .bf16 → sProp 𝕄} :
    iprop(Fly c (cur i) wd hb 1024 ∗ owes (c.tc : Thread nD τ) 0 W ∗ owns (c.tc : Thread nD τ) arg13 fullShare X)
      ⊢ iprop((iprop(owns (c.tc : Thread nD τ) (slotM (cur i)) fullShare (gx wd hb) ∗ (tokL c ↦{fullShare} hb) ∗ semVal ((c.tc : Thread nD τ), .dma (semOf (cur i))) 0
            ∗ (∃ W', owes (c.tc : Thread nD τ) 0 W') ∗ (∃ X', ⌜Filled wd hb 3 X'⌝ ∗ owns (c.tc : Thread nD τ) arg13 fullShare X'))
          -∗ Q (k0_pay16 fun z => gx wd hb ((⟨![3, 0], S1024x128.size, ![8, 1], inb_S8192x128_S1024x128_3_0_s_8_1⟩ : LoadRect S8192x128).idx z)))
        -∗ Wp c (k0_part1 i arg2 harg2 arg3 harg3 arg4 harg4 arg5 harg5 tokM harg6 arg7 harg7 arg8 harg8 arg9 harg9 arg10 harg10 rowsM harg11 cc0_scratch1 arg13 harg13 arg14 harg14 k0_h3) Q) := by
  rw [k0_part1_eq_skeleton]; unfold k0_part1_skel
  iintro ⟨HF, HO, HX⟩ HQ
  iapply (wait_step c (cur i) wd hb (off5_eq i) (off6_eq i)) $$ [HF HO]
  · isplitl [HF]; · iexact HF
    iexact HO
  iintro ⟨Hs, Ht, Hsem, HO⟩
  have f0 : Filled wd hb 0 X := fun j hj => absurd hj (by omega)
  iapply (slot_load c (cur i) (off6_eq i)) $$ Hs
  iintro Hs
  iapply (oload c) $$ HX
  iintro HX
  iapply (ostore c) $$ HX
  iintro %X1 %h1 HX
  have f1 : Filled wd hb 1 X1 := filled_step (q := 0) (by decide) rfl (pay13 _) f0 h1
  iapply (slot_load c (cur i) (off6_eq i)) $$ Hs
  iintro Hs
  iapply (oload c) $$ HX
  iintro HX
  iapply (ostore c) $$ HX
  iintro %X2 %h2 HX
  have f2 : Filled wd hb 2 X2 := filled_step (q := 1) (by decide) rfl (pay14 _) f1 h2
  iapply (slot_load c (cur i) (off6_eq i)) $$ Hs
  iintro Hs
  iapply (oload c) $$ HX
  iintro HX
  iapply (ostore c) $$ HX
  iintro %X3 %h3 HX
  have f3 : Filled wd hb 3 X3 := filled_step (q := 2) (by decide) rfl (pay15 _) f2 h3
  iapply (slot_load c (cur i) (off6_eq i)) $$ Hs
  iintro Hs
  iapply (wret c)
  iapply HQ
  isplitl [Hs]; · iexact Hs
  isplitl [Ht]; · iexact Ht
  isplitl [Hsem]; · iexact Hsem
  isplitl [HO]; · iexact HO
  iexists X3
  isplitr; · ipureintro; exact f3
  iexact HX

/-- The eight blocks of columns, second half. -/
theorem part2 {X3 : S1024x1024.Idx → Elt F .bf16} (f3 : Filled wd hb 3 X3) (k0_h3 : k0_cond3 i = 1#1) {Q : FVec F S1024x128 .bf16 → sProp 𝕄} :
    iprop(owns (c.tc : Thread nD τ) (slotM (cur i)) fullShare (gx wd hb) ∗ owns (c.tc : Thread nD τ) arg13 fullShare X3)
      ⊢ iprop((iprop(owns (c.tc : Thread nD τ) (slotM (cur i)) fullShare (gx wd hb) ∗ (∃ X', ⌜Filled wd hb 7 X'⌝ ∗ owns (c.tc : Thread nD τ) arg13 fullShare X'))
          -∗ Q (k0_pay21 fun z => gx wd hb ((⟨![7, 0], S1024x128.size, ![8, 1], inb_S8192x128_S1024x128_7_0_s_8_1⟩ : LoadRect S8192x128).idx z)))
        -∗ Wp c (k0_part2 i arg2 harg2 arg3 harg3 arg4 harg4 arg5 harg5 tokM harg6 arg7 harg7 arg8 harg8 arg9 harg9 arg10 harg10 rowsM harg11 cc0_scratch1 arg13 harg13 arg14 harg14 k0_h3 (k0_pay16 fun z => gx wd hb ((⟨![3, 0], S1024x128.size, ![8, 1], inb_S8192x128_S1024x128_3_0_s_8_1⟩ : LoadRect S8192x128).idx z))) Q) := by
  rw [k0_part2_eq_skeleton]; unfold k0_part2_skel
  iintro ⟨Hs, HX⟩ HQ
  iapply (oload c) $$ HX
  iintro HX
  iapply (ostore c) $$ HX
  iintro %X4 %h4 HX
  have f4 : Filled wd hb 4 X4 := filled_step (q := 3) (by decide) rfl (pay17 _) f3 h4
  iapply (slot_load c (cur i) (off6_eq i)) $$ Hs
  iintro Hs
  iapply (oload c) $$ HX
  iintro HX
  iapply (ostore c) $$ HX
  iintro %X5 %h5 HX
  have f5 : Filled wd hb 5 X5 := filled_step (q := 4) (by decide) rfl (pay18 _) f4 h5
  iapply (slot_load c (cur i) (off6_eq i)) $$ Hs
  iintro Hs
  iapply (oload c) $$ HX
  iintro HX
  iapply (ostore c) $$ HX
  iintro %X6 %h6 HX
  have f6 : Filled wd hb 6 X6 := filled_step (q := 5) (by decide) rfl (pay19 _) f5 h6
  iapply (slot_load c (cur i) (off6_eq i)) $$ Hs
  iintro Hs
  iapply (oload c) $$ HX
  iintro HX
  iapply (ostore c) $$ HX
  iintro %X7 %h7 HX
  have f7 : Filled wd hb 7 X7 := filled_step (q := 6) (by decide) rfl (pay20 _) f6 h7
  iapply (slot_load c (cur i) (off6_eq i)) $$ Hs
  iintro Hs
  iapply (oload c) $$ HX
  iintro HX
  iapply (wret c)
  iapply HQ
  isplitl [Hs]; · iexact Hs
  iexists X7
  isplitr; · ipureintro; exact f7
  iexact HX

end Cert.Routed

end
-- ==== Proof.Checks.lean ====
/- The bounds the body checks before it issues a point's rows: every load of the table of tokens and every row of the slot is in range. -/
module

public import proofs.«01_k».proof.Proof.Conds

@[expose] public section

set_option maxRecDepth 16384

noncomputable section

namespace Cert.Routed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [FloatOps F]

local notation "𝕄" => MT nD τ sig Unit (Elt F) ℕ (Pipeline.UD sig nD τ) ℕ

theorem ldB (i : grid0.Coords) (v0 v28 : BitVec 32) (k : ℕ) (hk : k < 256) :
    ∀ (_ : k0_cond1 i v0 = 1#1) (_ : k0_cond4 i v28 = 1#1) (a : Fin 1), ldOff (BitVec.ofNat 32 k) i a + S1.size a ≤ S1024.size a := by
  intro _ h4 a
  have hj := ((cond4_iff i v28).mp h4).2
  rw [ldOff_eq i hj k hk]
  fin_cases a
  show 256 * (i 1).val + k + 1 ≤ 1024
  omega

theorem dsB (i : grid0.Coords) (v0 v28 : BitVec 32) (k : ℕ) (hk : k < 256) :
    ∀ (_ : k0_cond1 i v0 = 1#1) (_ : k0_cond4 i v28 = 1#1) (a : Fin 3), dstOff (BitVec.ofNat 32 k) i a + S1x8x128.size a ≤ S2x8192x128.size a := by
  intro _ h4 a
  have hj := ((cond4_iff i v28).mp h4).2
  rw [dstOff_eq i hj k hk]
  exact inbD (nxt i) (pos i hj k hk) a

theorem chk2_0 (i : grid0.Coords) (v0 v28 : BitVec 32) : k0_chk2_0 i v0 v28 :=
  ⟨ldB i v0 v28 0 (by decide), dsB i v0 v28 0 (by decide), ldB i v0 v28 1 (by decide), dsB i v0 v28 1 (by decide), ldB i v0 v28 2 (by decide), dsB i v0 v28 2 (by decide), ldB i v0 v28 3 (by decide), dsB i v0 v28 3 (by decide), ldB i v0 v28 4 (by decide), dsB i v0 v28 4 (by decide), ldB i v0 v28 5 (by decide), dsB i v0 v28 5 (by decide), ldB i v0 v28 6 (by decide), dsB i v0 v28 6 (by decide), ldB i v0 v28 7 (by decide), dsB i v0 v28 7 (by decide), ldB i v0 v28 8 (by decide), dsB i v0 v28 8 (by decide), ldB i v0 v28 9 (by decide), dsB i v0 v28 9 (by decide), ldB i v0 v28 10 (by decide), dsB i v0 v28 10 (by decide), ldB i v0 v28 11 (by decide), dsB i v0 v28 11 (by decide), ldB i v0 v28 12 (by decide), dsB i v0 v28 12 (by decide), ldB i v0 v28 13 (by decide), dsB i v0 v28 13 (by decide), ldB i v0 v28 14 (by decide), dsB i v0 v28 14 (by decide), ldB i v0 v28 15 (by decide), dsB i v0 v28 15 (by decide)⟩

theorem chk2_1 (i : grid0.Coords) (v0 v28 : BitVec 32) : k0_chk2_1 i v0 v28 :=
  ⟨ldB i v0 v28 16 (by decide), dsB i v0 v28 16 (by decide), ldB i v0 v28 17 (by decide), dsB i v0 v28 17 (by decide), ldB i v0 v28 18 (by decide), dsB i v0 v28 18 (by decide), ldB i v0 v28 19 (by decide), dsB i v0 v28 19 (by decide), ldB i v0 v28 20 (by decide), dsB i v0 v28 20 (by decide), ldB i v0 v28 21 (by decide), dsB i v0 v28 21 (by decide), ldB i v0 v28 22 (by decide), dsB i v0 v28 22 (by decide), ldB i v0 v28 23 (by decide), dsB i v0 v28 23 (by decide), ldB i v0 v28 24 (by decide), dsB i v0 v28 24 (by decide), ldB i v0 v28 25 (by decide), dsB i v0 v28 25 (by decide), ldB i v0 v28 26 (by decide), dsB i v0 v28 26 (by decide), ldB i v0 v28 27 (by decide), dsB i v0 v28 27 (by decide), ldB i v0 v28 28 (by decide), dsB i v0 v28 28 (by decide), ldB i v0 v28 29 (by decide), dsB i v0 v28 29 (by decide), ldB i v0 v28 30 (by decide), dsB i v0 v28 30 (by decide), ldB i v0 v28 31 (by decide), dsB i v0 v28 31 (by decide)⟩

theorem chk2_2 (i : grid0.Coords) (v0 v28 : BitVec 32) : k0_chk2_2 i v0 v28 :=
  ⟨ldB i v0 v28 32 (by decide), dsB i v0 v28 32 (by decide), ldB i v0 v28 33 (by decide), dsB i v0 v28 33 (by decide), ldB i v0 v28 34 (by decide), dsB i v0 v28 34 (by decide), ldB i v0 v28 35 (by decide), dsB i v0 v28 35 (by decide), ldB i v0 v28 36 (by decide), dsB i v0 v28 36 (by decide), ldB i v0 v28 37 (by decide), dsB i v0 v28 37 (by decide), ldB i v0 v28 38 (by decide), dsB i v0 v28 38 (by decide), ldB i v0 v28 39 (by decide), dsB i v0 v28 39 (by decide), ldB i v0 v28 40 (by decide), dsB i v0 v28 40 (by decide), ldB i v0 v28 41 (by decide), dsB i v0 v28 41 (by decide), ldB i v0 v28 42 (by decide), dsB i v0 v28 42 (by decide), ldB i v0 v28 43 (by decide), dsB i v0 v28 43 (by decide), ldB i v0 v28 44 (by decide), dsB i v0 v28 44 (by decide), ldB i v0 v28 45 (by decide), dsB i v0 v28 45 (by decide), ldB i v0 v28 46 (by decide), dsB i v0 v28 46 (by decide), ldB i v0 v28 47 (by decide), dsB i v0 v28 47 (by decide)⟩

theorem chk2_3 (i : grid0.Coords) (v0 v28 : BitVec 32) : k0_chk2_3 i v0 v28 :=
  ⟨ldB i v0 v28 48 (by decide), dsB i v0 v28 48 (by decide), ldB i v0 v28 49 (by decide), dsB i v0 v28 49 (by decide), ldB i v0 v28 50 (by decide), dsB i v0 v28 50 (by decide), ldB i v0 v28 51 (by decide), dsB i v0 v28 51 (by decide), ldB i v0 v28 52 (by decide), dsB i v0 v28 52 (by decide), ldB i v0 v28 53 (by decide), dsB i v0 v28 53 (by decide), ldB i v0 v28 54 (by decide), dsB i v0 v28 54 (by decide), ldB i v0 v28 55 (by decide), dsB i v0 v28 55 (by decide), ldB i v0 v28 56 (by decide), dsB i v0 v28 56 (by decide), ldB i v0 v28 57 (by decide), dsB i v0 v28 57 (by decide), ldB i v0 v28 58 (by decide), dsB i v0 v28 58 (by decide), ldB i v0 v28 59 (by decide), dsB i v0 v28 59 (by decide), ldB i v0 v28 60 (by decide), dsB i v0 v28 60 (by decide), ldB i v0 v28 61 (by decide), dsB i v0 v28 61 (by decide), ldB i v0 v28 62 (by decide), dsB i v0 v28 62 (by decide), ldB i v0 v28 63 (by decide), dsB i v0 v28 63 (by decide)⟩

theorem chk2_4 (i : grid0.Coords) (v0 v28 : BitVec 32) : k0_chk2_4 i v0 v28 :=
  ⟨ldB i v0 v28 64 (by decide), dsB i v0 v28 64 (by decide), ldB i v0 v28 65 (by decide), dsB i v0 v28 65 (by decide), ldB i v0 v28 66 (by decide), dsB i v0 v28 66 (by decide), ldB i v0 v28 67 (by decide), dsB i v0 v28 67 (by decide), ldB i v0 v28 68 (by decide), dsB i v0 v28 68 (by decide), ldB i v0 v28 69 (by decide), dsB i v0 v28 69 (by decide), ldB i v0 v28 70 (by decide), dsB i v0 v28 70 (by decide), ldB i v0 v28 71 (by decide), dsB i v0 v28 71 (by decide), ldB i v0 v28 72 (by decide), dsB i v0 v28 72 (by decide), ldB i v0 v28 73 (by decide), dsB i v0 v28 73 (by decide), ldB i v0 v28 74 (by decide), dsB i v0 v28 74 (by decide), ldB i v0 v28 75 (by decide), dsB i v0 v28 75 (by decide), ldB i v0 v28 76 (by decide), dsB i v0 v28 76 (by decide), ldB i v0 v28 77 (by decide), dsB i v0 v28 77 (by decide), ldB i v0 v28 78 (by decide), dsB i v0 v28 78 (by decide), ldB i v0 v28 79 (by decide), dsB i v0 v28 79 (by decide)⟩

theorem chk2_5 (i : grid0.Coords) (v0 v28 : BitVec 32) : k0_chk2_5 i v0 v28 :=
  ⟨ldB i v0 v28 80 (by decide), dsB i v0 v28 80 (by decide), ldB i v0 v28 81 (by decide), dsB i v0 v28 81 (by decide), ldB i v0 v28 82 (by decide), dsB i v0 v28 82 (by decide), ldB i v0 v28 83 (by decide), dsB i v0 v28 83 (by decide), ldB i v0 v28 84 (by decide), dsB i v0 v28 84 (by decide), ldB i v0 v28 85 (by decide), dsB i v0 v28 85 (by decide), ldB i v0 v28 86 (by decide), dsB i v0 v28 86 (by decide), ldB i v0 v28 87 (by decide), dsB i v0 v28 87 (by decide), ldB i v0 v28 88 (by decide), dsB i v0 v28 88 (by decide), ldB i v0 v28 89 (by decide), dsB i v0 v28 89 (by decide), ldB i v0 v28 90 (by decide), dsB i v0 v28 90 (by decide), ldB i v0 v28 91 (by decide), dsB i v0 v28 91 (by decide), ldB i v0 v28 92 (by decide), dsB i v0 v28 92 (by decide), ldB i v0 v28 93 (by decide), dsB i v0 v28 93 (by decide), ldB i v0 v28 94 (by decide), dsB i v0 v28 94 (by decide), ldB i v0 v28 95 (by decide), dsB i v0 v28 95 (by decide)⟩

theorem chk2_6 (i : grid0.Coords) (v0 v28 : BitVec 32) : k0_chk2_6 i v0 v28 :=
  ⟨ldB i v0 v28 96 (by decide), dsB i v0 v28 96 (by decide), ldB i v0 v28 97 (by decide), dsB i v0 v28 97 (by decide), ldB i v0 v28 98 (by decide), dsB i v0 v28 98 (by decide), ldB i v0 v28 99 (by decide), dsB i v0 v28 99 (by decide), ldB i v0 v28 100 (by decide), dsB i v0 v28 100 (by decide), ldB i v0 v28 101 (by decide), dsB i v0 v28 101 (by decide), ldB i v0 v28 102 (by decide), dsB i v0 v28 102 (by decide), ldB i v0 v28 103 (by decide), dsB i v0 v28 103 (by decide), ldB i v0 v28 104 (by decide), dsB i v0 v28 104 (by decide), ldB i v0 v28 105 (by decide), dsB i v0 v28 105 (by decide), ldB i v0 v28 106 (by decide), dsB i v0 v28 106 (by decide), ldB i v0 v28 107 (by decide), dsB i v0 v28 107 (by decide), ldB i v0 v28 108 (by decide), dsB i v0 v28 108 (by decide), ldB i v0 v28 109 (by decide), dsB i v0 v28 109 (by decide), ldB i v0 v28 110 (by decide), dsB i v0 v28 110 (by decide), ldB i v0 v28 111 (by decide), dsB i v0 v28 111 (by decide)⟩

theorem chk2_7 (i : grid0.Coords) (v0 v28 : BitVec 32) : k0_chk2_7 i v0 v28 :=
  ⟨ldB i v0 v28 112 (by decide), dsB i v0 v28 112 (by decide), ldB i v0 v28 113 (by decide), dsB i v0 v28 113 (by decide), ldB i v0 v28 114 (by decide), dsB i v0 v28 114 (by decide), ldB i v0 v28 115 (by decide), dsB i v0 v28 115 (by decide), ldB i v0 v28 116 (by decide), dsB i v0 v28 116 (by decide), ldB i v0 v28 117 (by decide), dsB i v0 v28 117 (by decide), ldB i v0 v28 118 (by decide), dsB i v0 v28 118 (by decide), ldB i v0 v28 119 (by decide), dsB i v0 v28 119 (by decide), ldB i v0 v28 120 (by decide), dsB i v0 v28 120 (by decide), ldB i v0 v28 121 (by decide), dsB i v0 v28 121 (by decide), ldB i v0 v28 122 (by decide), dsB i v0 v28 122 (by decide), ldB i v0 v28 123 (by decide), dsB i v0 v28 123 (by decide), ldB i v0 v28 124 (by decide), dsB i v0 v28 124 (by decide), ldB i v0 v28 125 (by decide), dsB i v0 v28 125 (by decide), ldB i v0 v28 126 (by decide), dsB i v0 v28 126 (by decide), ldB i v0 v28 127 (by decide), dsB i v0 v28 127 (by decide)⟩

theorem chk2_8 (i : grid0.Coords) (v0 v28 : BitVec 32) : k0_chk2_8 i v0 v28 :=
  ⟨ldB i v0 v28 128 (by decide), dsB i v0 v28 128 (by decide), ldB i v0 v28 129 (by decide), dsB i v0 v28 129 (by decide), ldB i v0 v28 130 (by decide), dsB i v0 v28 130 (by decide), ldB i v0 v28 131 (by decide), dsB i v0 v28 131 (by decide), ldB i v0 v28 132 (by decide), dsB i v0 v28 132 (by decide), ldB i v0 v28 133 (by decide), dsB i v0 v28 133 (by decide), ldB i v0 v28 134 (by decide), dsB i v0 v28 134 (by decide), ldB i v0 v28 135 (by decide), dsB i v0 v28 135 (by decide), ldB i v0 v28 136 (by decide), dsB i v0 v28 136 (by decide), ldB i v0 v28 137 (by decide), dsB i v0 v28 137 (by decide), ldB i v0 v28 138 (by decide), dsB i v0 v28 138 (by decide), ldB i v0 v28 139 (by decide), dsB i v0 v28 139 (by decide), ldB i v0 v28 140 (by decide), dsB i v0 v28 140 (by decide), ldB i v0 v28 141 (by decide), dsB i v0 v28 141 (by decide), ldB i v0 v28 142 (by decide), dsB i v0 v28 142 (by decide), ldB i v0 v28 143 (by decide), dsB i v0 v28 143 (by decide)⟩

theorem chk2_9 (i : grid0.Coords) (v0 v28 : BitVec 32) : k0_chk2_9 i v0 v28 :=
  ⟨ldB i v0 v28 144 (by decide), dsB i v0 v28 144 (by decide), ldB i v0 v28 145 (by decide), dsB i v0 v28 145 (by decide), ldB i v0 v28 146 (by decide), dsB i v0 v28 146 (by decide), ldB i v0 v28 147 (by decide), dsB i v0 v28 147 (by decide), ldB i v0 v28 148 (by decide), dsB i v0 v28 148 (by decide), ldB i v0 v28 149 (by decide), dsB i v0 v28 149 (by decide), ldB i v0 v28 150 (by decide), dsB i v0 v28 150 (by decide), ldB i v0 v28 151 (by decide), dsB i v0 v28 151 (by decide), ldB i v0 v28 152 (by decide), dsB i v0 v28 152 (by decide), ldB i v0 v28 153 (by decide), dsB i v0 v28 153 (by decide), ldB i v0 v28 154 (by decide), dsB i v0 v28 154 (by decide), ldB i v0 v28 155 (by decide), dsB i v0 v28 155 (by decide), ldB i v0 v28 156 (by decide), dsB i v0 v28 156 (by decide), ldB i v0 v28 157 (by decide), dsB i v0 v28 157 (by decide), ldB i v0 v28 158 (by decide), dsB i v0 v28 158 (by decide), ldB i v0 v28 159 (by decide), dsB i v0 v28 159 (by decide)⟩

theorem chk2_10 (i : grid0.Coords) (v0 v28 : BitVec 32) : k0_chk2_10 i v0 v28 :=
  ⟨ldB i v0 v28 160 (by decide), dsB i v0 v28 160 (by decide), ldB i v0 v28 161 (by decide), dsB i v0 v28 161 (by decide), ldB i v0 v28 162 (by decide), dsB i v0 v28 162 (by decide), ldB i v0 v28 163 (by decide), dsB i v0 v28 163 (by decide), ldB i v0 v28 164 (by decide), dsB i v0 v28 164 (by decide), ldB i v0 v28 165 (by decide), dsB i v0 v28 165 (by decide), ldB i v0 v28 166 (by decide), dsB i v0 v28 166 (by decide), ldB i v0 v28 167 (by decide), dsB i v0 v28 167 (by decide), ldB i v0 v28 168 (by decide), dsB i v0 v28 168 (by decide), ldB i v0 v28 169 (by decide), dsB i v0 v28 169 (by decide), ldB i v0 v28 170 (by decide), dsB i v0 v28 170 (by decide), ldB i v0 v28 171 (by decide), dsB i v0 v28 171 (by decide), ldB i v0 v28 172 (by decide), dsB i v0 v28 172 (by decide), ldB i v0 v28 173 (by decide), dsB i v0 v28 173 (by decide), ldB i v0 v28 174 (by decide), dsB i v0 v28 174 (by decide), ldB i v0 v28 175 (by decide), dsB i v0 v28 175 (by decide)⟩

theorem chk2_11 (i : grid0.Coords) (v0 v28 : BitVec 32) : k0_chk2_11 i v0 v28 :=
  ⟨ldB i v0 v28 176 (by decide), dsB i v0 v28 176 (by decide), ldB i v0 v28 177 (by decide), dsB i v0 v28 177 (by decide), ldB i v0 v28 178 (by decide), dsB i v0 v28 178 (by decide), ldB i v0 v28 179 (by decide), dsB i v0 v28 179 (by decide), ldB i v0 v28 180 (by decide), dsB i v0 v28 180 (by decide), ldB i v0 v28 181 (by decide), dsB i v0 v28 181 (by decide), ldB i v0 v28 182 (by decide), dsB i v0 v28 182 (by decide), ldB i v0 v28 183 (by decide), dsB i v0 v28 183 (by decide), ldB i v0 v28 184 (by decide), dsB i v0 v28 184 (by decide), ldB i v0 v28 185 (by decide), dsB i v0 v28 185 (by decide), ldB i v0 v28 186 (by decide), dsB i v0 v28 186 (by decide), ldB i v0 v28 187 (by decide), dsB i v0 v28 187 (by decide), ldB i v0 v28 188 (by decide), dsB i v0 v28 188 (by decide), ldB i v0 v28 189 (by decide), dsB i v0 v28 189 (by decide), ldB i v0 v28 190 (by decide), dsB i v0 v28 190 (by decide), ldB i v0 v28 191 (by decide), dsB i v0 v28 191 (by decide)⟩

theorem chk2_12 (i : grid0.Coords) (v0 v28 : BitVec 32) : k0_chk2_12 i v0 v28 :=
  ⟨ldB i v0 v28 192 (by decide), dsB i v0 v28 192 (by decide), ldB i v0 v28 193 (by decide), dsB i v0 v28 193 (by decide), ldB i v0 v28 194 (by decide), dsB i v0 v28 194 (by decide), ldB i v0 v28 195 (by decide), dsB i v0 v28 195 (by decide), ldB i v0 v28 196 (by decide), dsB i v0 v28 196 (by decide), ldB i v0 v28 197 (by decide), dsB i v0 v28 197 (by decide), ldB i v0 v28 198 (by decide), dsB i v0 v28 198 (by decide), ldB i v0 v28 199 (by decide), dsB i v0 v28 199 (by decide), ldB i v0 v28 200 (by decide), dsB i v0 v28 200 (by decide), ldB i v0 v28 201 (by decide), dsB i v0 v28 201 (by decide), ldB i v0 v28 202 (by decide), dsB i v0 v28 202 (by decide), ldB i v0 v28 203 (by decide), dsB i v0 v28 203 (by decide), ldB i v0 v28 204 (by decide), dsB i v0 v28 204 (by decide), ldB i v0 v28 205 (by decide), dsB i v0 v28 205 (by decide), ldB i v0 v28 206 (by decide), dsB i v0 v28 206 (by decide), ldB i v0 v28 207 (by decide), dsB i v0 v28 207 (by decide)⟩

theorem chk2_13 (i : grid0.Coords) (v0 v28 : BitVec 32) : k0_chk2_13 i v0 v28 :=
  ⟨ldB i v0 v28 208 (by decide), dsB i v0 v28 208 (by decide), ldB i v0 v28 209 (by decide), dsB i v0 v28 209 (by decide), ldB i v0 v28 210 (by decide), dsB i v0 v28 210 (by decide), ldB i v0 v28 211 (by decide), dsB i v0 v28 211 (by decide), ldB i v0 v28 212 (by decide), dsB i v0 v28 212 (by decide), ldB i v0 v28 213 (by decide), dsB i v0 v28 213 (by decide), ldB i v0 v28 214 (by decide), dsB i v0 v28 214 (by decide), ldB i v0 v28 215 (by decide), dsB i v0 v28 215 (by decide), ldB i v0 v28 216 (by decide), dsB i v0 v28 216 (by decide), ldB i v0 v28 217 (by decide), dsB i v0 v28 217 (by decide), ldB i v0 v28 218 (by decide), dsB i v0 v28 218 (by decide), ldB i v0 v28 219 (by decide), dsB i v0 v28 219 (by decide), ldB i v0 v28 220 (by decide), dsB i v0 v28 220 (by decide), ldB i v0 v28 221 (by decide), dsB i v0 v28 221 (by decide), ldB i v0 v28 222 (by decide), dsB i v0 v28 222 (by decide), ldB i v0 v28 223 (by decide), dsB i v0 v28 223 (by decide)⟩

theorem chk2_14 (i : grid0.Coords) (v0 v28 : BitVec 32) : k0_chk2_14 i v0 v28 :=
  ⟨ldB i v0 v28 224 (by decide), dsB i v0 v28 224 (by decide), ldB i v0 v28 225 (by decide), dsB i v0 v28 225 (by decide), ldB i v0 v28 226 (by decide), dsB i v0 v28 226 (by decide), ldB i v0 v28 227 (by decide), dsB i v0 v28 227 (by decide), ldB i v0 v28 228 (by decide), dsB i v0 v28 228 (by decide), ldB i v0 v28 229 (by decide), dsB i v0 v28 229 (by decide), ldB i v0 v28 230 (by decide), dsB i v0 v28 230 (by decide), ldB i v0 v28 231 (by decide), dsB i v0 v28 231 (by decide), ldB i v0 v28 232 (by decide), dsB i v0 v28 232 (by decide), ldB i v0 v28 233 (by decide), dsB i v0 v28 233 (by decide), ldB i v0 v28 234 (by decide), dsB i v0 v28 234 (by decide), ldB i v0 v28 235 (by decide), dsB i v0 v28 235 (by decide), ldB i v0 v28 236 (by decide), dsB i v0 v28 236 (by decide), ldB i v0 v28 237 (by decide), dsB i v0 v28 237 (by decide), ldB i v0 v28 238 (by decide), dsB i v0 v28 238 (by decide), ldB i v0 v28 239 (by decide), dsB i v0 v28 239 (by decide)⟩

theorem chk2_15 (i : grid0.Coords) (v0 v28 : BitVec 32) : k0_chk2_15 i v0 v28 :=
  ⟨ldB i v0 v28 240 (by decide), dsB i v0 v28 240 (by decide), ldB i v0 v28 241 (by decide), dsB i v0 v28 241 (by decide), ldB i v0 v28 242 (by decide), dsB i v0 v28 242 (by decide), ldB i v0 v28 243 (by decide), dsB i v0 v28 243 (by decide), ldB i v0 v28 244 (by decide), dsB i v0 v28 244 (by decide), ldB i v0 v28 245 (by decide), dsB i v0 v28 245 (by decide), ldB i v0 v28 246 (by decide), dsB i v0 v28 246 (by decide), ldB i v0 v28 247 (by decide), dsB i v0 v28 247 (by decide), ldB i v0 v28 248 (by decide), dsB i v0 v28 248 (by decide), ldB i v0 v28 249 (by decide), dsB i v0 v28 249 (by decide), ldB i v0 v28 250 (by decide), dsB i v0 v28 250 (by decide), ldB i v0 v28 251 (by decide), dsB i v0 v28 251 (by decide), ldB i v0 v28 252 (by decide), dsB i v0 v28 252 (by decide), ldB i v0 v28 253 (by decide), dsB i v0 v28 253 (by decide), ldB i v0 v28 254 (by decide), dsB i v0 v28 254 (by decide), ldB i v0 v28 255 (by decide), dsB i v0 v28 255 (by decide)⟩

theorem chk2 (i : grid0.Coords) (v0 v28 : BitVec 32) : k0_chk2 i v0 v28 :=
  ⟨chk2_0 i v0 v28, chk2_1 i v0 v28, chk2_2 i v0 v28, chk2_3 i v0 v28, chk2_4 i v0 v28, chk2_5 i v0 v28, chk2_6 i v0 v28, chk2_7 i v0 v28, chk2_8 i v0 v28, chk2_9 i v0 v28, chk2_10 i v0 v28, chk2_11 i v0 v28, chk2_12 i v0 v28, chk2_13 i v0 v28, chk2_14 i v0 v28, chk2_15 i v0 v28⟩

end Cert.Routed

end
-- ==== Proof.IssuesA.lean ====
/- The issues of one grid point, by the stretches the kernel text comes in: each stretch carries the state of the gather
   from the rows issued before it to those issued after it, and hands on the last token it loaded. -/
module

public import proofs.«01_k».proof.Proof.Issue

@[expose] public section

set_option maxRecDepth 16384

noncomputable section

namespace Cert.Routed

open Cert.KernelIdeal Cert.KernelIdeal.Gen
open Idealize.ShloMosaic Idealize.ShloMosaic.TcCoe
open Idealize.SL Idealize.SL.RA Idealize.SL.BI
open scoped Idealize.SL.BI
open Idealize.SL.BI.BIBase
open Idealize.ShloMosaic.ValueIdx (ix1 ix2 ix3)

variable {F : FTy → Type} [FloatOps F]

local notation "𝕄" => MT nD τ sig Unit (Elt F) ℕ (Pipeline.UD sig nD τ) ℕ

variable (c : Dev nD) (i : grid0.Coords) (arg2 : Memref sig .tc .smem S72 .i32) (harg2 : arg2.IsWhole) (arg3 : Memref sig .tc .smem S1 .i32)
  (harg3 : arg3.IsWhole) (arg4 : Memref sig .tc .smem S1024 .i32) (harg4 : arg4.IsWhole) (arg5 : Memref sig .tc .smem S1024 .i32) (harg5 : arg5.IsWhole)
  (harg6 : tokM.IsWhole) (arg7 : Memref sig .tc .vmem S1x1024x512 .f32) (harg7 : arg7.IsWhole)
  (arg8 : Memref sig .tc .vmem S1x1024x512 .f32) (harg8 : arg8.IsWhole) (arg9 : Memref sig .tc .vmem S1x512x1024 .f32) (harg9 : arg9.IsWhole)
  (arg10 : Memref sig .tc .vmem S8192x128 .f32) (harg10 : arg10.IsWhole) (harg11 : rowsM.IsWhole)
  (arg13 : Memref sig .tc .vmem S1024x1024 .bf16) (harg13 : arg13.IsWhole) (arg14 : Memref sig .tc .vmem S1024x1024 .f32) (harg14 : arg14.IsWhole)
  (x : S1024.Idx → BitVec 32) (wd : Fin 1024 → Fin 32768) (hx : ∀ r, (x (ix1 r)).toNat = (wd r).val) (hb : TokB F) (hj : (i 1).val < 4)
  (arg1 : BitVec 32) (v0 : Elt F .i32) (v11 : BitVec 32) (k0_h1 : k0_cond1 i v0 = 1#1) (v28 : Elt F .i32)
  (k0_hw2 : k0_chk2 i v0 v28) (k0_h4 : k0_cond4 i v28 = 1#1)

include hx hj in
theorem part3  {R : sProp 𝕄}
    {Q : (Σ' (v98 : Elt F .i32) (k0_hw5 : k0_chk5 i v0 v28 v98), BitVec 32) → sProp 𝕄} (h : ∀ (w1 : k0_chk5 i v0 v28 (x (ix1 (pos i hj 2 (by decide))))) (d2 : BitVec 32), St c i arg5 x wd hb R 2 ⊢ Q ⟨x (ix1 (pos i hj 2 (by decide))), w1, d2⟩) :
    St c i arg5 x wd hb R 0 ⊢ Wp c (k0_part3 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 ) Q := by
  rw [k0_part3_eq_skeleton]; unfold k0_part3_skel
  refine ld hj 0 (by decide) ?_
  refine ck hx hj 0 (by decide) fun _ => ?_
  refine eq hx hj 0 (by decide) ?_
  refine ld hj 1 (by decide) ?_
  refine ck hx hj 1 (by decide) fun _ => ?_
  refine eq hx hj 1 (by decide) ?_
  refine ld hj 2 (by decide) ?_
  refine ck hx hj 2 (by decide) fun _ => ?_
  exact rt (h _ _)

include hx hj in
theorem part4 (u5 : k0_chk5 i v0 v28 (x (ix1 (pos i hj 2 (by decide))))) (v101 : BitVec 32) {R : sProp 𝕄}
    {Q : (Σ' (v137 : BitVec 32), BitVec 32) → sProp 𝕄} (h : ∀ (d0 : BitVec 32) (d1 : BitVec 32), St c i arg5 x wd hb R 5 ⊢ Q ⟨d0, d1⟩) :
    St c i arg5 x wd hb R 2 ⊢ Wp c (k0_part4 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 2 (by decide)))) u5 v101) Q := by
  rw [k0_part4_eq_skeleton]; unfold k0_part4_skel
  refine eq hx hj 2 (by decide) ?_
  refine ld hj 3 (by decide) ?_
  refine ck hx hj 3 (by decide) fun _ => ?_
  refine eq hx hj 3 (by decide) ?_
  refine ld hj 4 (by decide) ?_
  refine ck hx hj 4 (by decide) fun _ => ?_
  refine eq hx hj 4 (by decide) ?_
  exact rt (h _ _)

include hx hj in
theorem part5 (v137 : BitVec 32) (c1_i32_68 : BitVec 32) {R : sProp 𝕄}
    {Q : (Σ' (v168 : Elt F .i32), k0_chk10 i v0 v28 v168) → sProp 𝕄} (h : ∀ (w1 : k0_chk10 i v0 v28 (x (ix1 (pos i hj 7 (by decide))))), St c i arg5 x wd hb R 7 ⊢ Q ⟨x (ix1 (pos i hj 7 (by decide))), w1⟩) :
    St c i arg5 x wd hb R 5 ⊢ Wp c (k0_part5 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v137 c1_i32_68) Q := by
  rw [k0_part5_eq_skeleton]; unfold k0_part5_skel
  refine ld hj 5 (by decide) ?_
  refine ck hx hj 5 (by decide) fun _ => ?_
  refine eq hx hj 5 (by decide) ?_
  refine ld hj 6 (by decide) ?_
  refine ck hx hj 6 (by decide) fun _ => ?_
  refine eq hx hj 6 (by decide) ?_
  refine ld hj 7 (by decide) ?_
  refine ck hx hj 7 (by decide) fun _ => ?_
  exact rt (h _)

include hx hj in
theorem part6 (u10 : k0_chk10 i v0 v28 (x (ix1 (pos i hj 7 (by decide))))) {R : sProp 𝕄}
    {Q : (Σ' (v207 : BitVec 32) (v210 : Elt F .i32) (k0_hw13 : k0_chk13 i v0 v28 v210), BitVec 32) → sProp 𝕄} (h : ∀ (d0 : BitVec 32) (w2 : k0_chk13 i v0 v28 (x (ix1 (pos i hj 10 (by decide))))) (d3 : BitVec 32), St c i arg5 x wd hb R 10 ⊢ Q ⟨d0, x (ix1 (pos i hj 10 (by decide))), w2, d3⟩) :
    St c i arg5 x wd hb R 7 ⊢ Wp c (k0_part6 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 7 (by decide)))) u10) Q := by
  rw [k0_part6_eq_skeleton]; unfold k0_part6_skel
  refine eq hx hj 7 (by decide) ?_
  refine ld hj 8 (by decide) ?_
  refine ck hx hj 8 (by decide) fun _ => ?_
  refine eq hx hj 8 (by decide) ?_
  refine ld hj 9 (by decide) ?_
  refine ck hx hj 9 (by decide) fun _ => ?_
  refine eq hx hj 9 (by decide) ?_
  refine ld hj 10 (by decide) ?_
  refine ck hx hj 10 (by decide) fun _ => ?_
  exact rt (h _ _ _)

include hx hj in
theorem part7 (v207 : BitVec 32) (u13 : k0_chk13 i v0 v28 (x (ix1 (pos i hj 10 (by decide))))) (c8_i32_101 : BitVec 32) {R : sProp 𝕄}
    {Q : (BitVec 32) → sProp 𝕄} (h : ∀ (d0 : BitVec 32), St c i arg5 x wd hb R 13 ⊢ Q d0) :
    St c i arg5 x wd hb R 10 ⊢ Wp c (k0_part7 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v207 (x (ix1 (pos i hj 10 (by decide)))) u13 c8_i32_101) Q := by
  rw [k0_part7_eq_skeleton]; unfold k0_part7_skel
  refine eq hx hj 10 (by decide) ?_
  refine ld hj 11 (by decide) ?_
  refine ck hx hj 11 (by decide) fun _ => ?_
  refine eq hx hj 11 (by decide) ?_
  refine ld hj 12 (by decide) ?_
  refine ck hx hj 12 (by decide) fun _ => ?_
  refine eq hx hj 12 (by decide) ?_
  exact rt (h _)

include hx hj in
theorem part8 (c256_i32_117 : BitVec 32) {R : sProp 𝕄}
    {Q : (Σ' (v280 : Elt F .i32), k0_chk18 i v0 v28 v280) → sProp 𝕄} (h : ∀ (w1 : k0_chk18 i v0 v28 (x (ix1 (pos i hj 15 (by decide))))), St c i arg5 x wd hb R 15 ⊢ Q ⟨x (ix1 (pos i hj 15 (by decide))), w1⟩) :
    St c i arg5 x wd hb R 13 ⊢ Wp c (k0_part8 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 c256_i32_117) Q := by
  rw [k0_part8_eq_skeleton]; unfold k0_part8_skel
  refine ld hj 13 (by decide) ?_
  refine ck hx hj 13 (by decide) fun _ => ?_
  refine eq hx hj 13 (by decide) ?_
  refine ld hj 14 (by decide) ?_
  refine ck hx hj 14 (by decide) fun _ => ?_
  refine eq hx hj 14 (by decide) ?_
  refine ld hj 15 (by decide) ?_
  refine ck hx hj 15 (by decide) fun _ => ?_
  exact rt (h _)

include hx hj in
theorem part9 (u18 : k0_chk18 i v0 v28 (x (ix1 (pos i hj 15 (by decide))))) {R : sProp 𝕄}
    {Q : (BitVec 32) → sProp 𝕄} (h : ∀ (d0 : BitVec 32), St c i arg5 x wd hb R 18 ⊢ Q d0) :
    St c i arg5 x wd hb R 15 ⊢ Wp c (k0_part9 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 15 (by decide)))) u18) Q := by
  rw [k0_part9_eq_skeleton]; unfold k0_part9_skel
  refine eq hx hj 15 (by decide) ?_
  refine ld hj 16 (by decide) ?_
  refine ck hx hj 16 (by decide) fun _ => ?_
  refine eq hx hj 16 (by decide) ?_
  refine ld hj 17 (by decide) ?_
  refine ck hx hj 17 (by decide) fun _ => ?_
  refine eq hx hj 17 (by decide) ?_
  exact rt (h _)

include hx hj in
theorem part10 (v319 : BitVec 32) {R : sProp 𝕄}
    {Q : (Σ' (v350 : Elt F .i32), k0_chk23 i v0 v28 v350) → sProp 𝕄} (h : ∀ (w1 : k0_chk23 i v0 v28 (x (ix1 (pos i hj 20 (by decide))))), St c i arg5 x wd hb R 20 ⊢ Q ⟨x (ix1 (pos i hj 20 (by decide))), w1⟩) :
    St c i arg5 x wd hb R 18 ⊢ Wp c (k0_part10 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v319) Q := by
  rw [k0_part10_eq_skeleton]; unfold k0_part10_skel
  refine ld hj 18 (by decide) ?_
  refine ck hx hj 18 (by decide) fun _ => ?_
  refine eq hx hj 18 (by decide) ?_
  refine ld hj 19 (by decide) ?_
  refine ck hx hj 19 (by decide) fun _ => ?_
  refine eq hx hj 19 (by decide) ?_
  refine ld hj 20 (by decide) ?_
  refine ck hx hj 20 (by decide) fun _ => ?_
  exact rt (h _)

include hx hj in
theorem part11 (u23 : k0_chk23 i v0 v28 (x (ix1 (pos i hj 20 (by decide))))) {R : sProp 𝕄}
    {Q : (Σ' (v389 : BitVec 32) (v392 : Elt F .i32) (k0_hw26 : k0_chk26 i v0 v28 v392), BitVec 32) → sProp 𝕄} (h : ∀ (d0 : BitVec 32) (w2 : k0_chk26 i v0 v28 (x (ix1 (pos i hj 23 (by decide))))) (d3 : BitVec 32), St c i arg5 x wd hb R 23 ⊢ Q ⟨d0, x (ix1 (pos i hj 23 (by decide))), w2, d3⟩) :
    St c i arg5 x wd hb R 20 ⊢ Wp c (k0_part11 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 20 (by decide)))) u23) Q := by
  rw [k0_part11_eq_skeleton]; unfold k0_part11_skel
  refine eq hx hj 20 (by decide) ?_
  refine ld hj 21 (by decide) ?_
  refine ck hx hj 21 (by decide) fun _ => ?_
  refine eq hx hj 21 (by decide) ?_
  refine ld hj 22 (by decide) ?_
  refine ck hx hj 22 (by decide) fun _ => ?_
  refine eq hx hj 22 (by decide) ?_
  refine ld hj 23 (by decide) ?_
  refine ck hx hj 23 (by decide) fun _ => ?_
  exact rt (h _ _ _)

include hx hj in
theorem part12 (v389 : BitVec 32) (u26 : k0_chk26 i v0 v28 (x (ix1 (pos i hj 23 (by decide))))) (v393 : BitVec 32) {R : sProp 𝕄}
    {Q : (BitVec 32) → sProp 𝕄} (h : ∀ (d0 : BitVec 32), St c i arg5 x wd hb R 26 ⊢ Q d0) :
    St c i arg5 x wd hb R 23 ⊢ Wp c (k0_part12 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v389 (x (ix1 (pos i hj 23 (by decide)))) u26 v393) Q := by
  rw [k0_part12_eq_skeleton]; unfold k0_part12_skel
  refine eq hx hj 23 (by decide) ?_
  refine ld hj 24 (by decide) ?_
  refine ck hx hj 24 (by decide) fun _ => ?_
  refine eq hx hj 24 (by decide) ?_
  refine ld hj 25 (by decide) ?_
  refine ck hx hj 25 (by decide) fun _ => ?_
  refine eq hx hj 25 (by decide) ?_
  exact rt (h _)

include hx hj in
theorem part13 (v430 : BitVec 32) {R : sProp 𝕄}
    {Q : (Σ' (v462 : Elt F .i32), k0_chk31 i v0 v28 v462) → sProp 𝕄} (h : ∀ (w1 : k0_chk31 i v0 v28 (x (ix1 (pos i hj 28 (by decide))))), St c i arg5 x wd hb R 28 ⊢ Q ⟨x (ix1 (pos i hj 28 (by decide))), w1⟩) :
    St c i arg5 x wd hb R 26 ⊢ Wp c (k0_part13 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v430) Q := by
  rw [k0_part13_eq_skeleton]; unfold k0_part13_skel
  refine ld hj 26 (by decide) ?_
  refine ck hx hj 26 (by decide) fun _ => ?_
  refine eq hx hj 26 (by decide) ?_
  refine ld hj 27 (by decide) ?_
  refine ck hx hj 27 (by decide) fun _ => ?_
  refine eq hx hj 27 (by decide) ?_
  refine ld hj 28 (by decide) ?_
  refine ck hx hj 28 (by decide) fun _ => ?_
  exact rt (h _)

include hx hj in
theorem part14 (u31 : k0_chk31 i v0 v28 (x (ix1 (pos i hj 28 (by decide))))) {R : sProp 𝕄}
    {Q : (BitVec 32) → sProp 𝕄} (h : ∀ (d0 : BitVec 32), St c i arg5 x wd hb R 31 ⊢ Q d0) :
    St c i arg5 x wd hb R 28 ⊢ Wp c (k0_part14 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 28 (by decide)))) u31) Q := by
  rw [k0_part14_eq_skeleton]; unfold k0_part14_skel
  refine eq hx hj 28 (by decide) ?_
  refine ld hj 29 (by decide) ?_
  refine ck hx hj 29 (by decide) fun _ => ?_
  refine eq hx hj 29 (by decide) ?_
  refine ld hj 30 (by decide) ?_
  refine ck hx hj 30 (by decide) fun _ => ?_
  refine eq hx hj 30 (by decide) ?_
  exact rt (h _)

include hx hj in
theorem part15 (v501 : BitVec 32) {R : sProp 𝕄}
    {Q : (Σ' (v532 : Elt F .i32), k0_chk36 i v0 v28 v532) → sProp 𝕄} (h : ∀ (w1 : k0_chk36 i v0 v28 (x (ix1 (pos i hj 33 (by decide))))), St c i arg5 x wd hb R 33 ⊢ Q ⟨x (ix1 (pos i hj 33 (by decide))), w1⟩) :
    St c i arg5 x wd hb R 31 ⊢ Wp c (k0_part15 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v501) Q := by
  rw [k0_part15_eq_skeleton]; unfold k0_part15_skel
  refine ld hj 31 (by decide) ?_
  refine ck hx hj 31 (by decide) fun _ => ?_
  refine eq hx hj 31 (by decide) ?_
  refine ld hj 32 (by decide) ?_
  refine ck hx hj 32 (by decide) fun _ => ?_
  refine eq hx hj 32 (by decide) ?_
  refine ld hj 33 (by decide) ?_
  refine ck hx hj 33 (by decide) fun _ => ?_
  exact rt (h _)

include hx hj in
theorem part16 (u36 : k0_chk36 i v0 v28 (x (ix1 (pos i hj 33 (by decide))))) {R : sProp 𝕄}
    {Q : (Σ' (v571 : BitVec 32) (v574 : Elt F .i32), k0_chk39 i v0 v28 v574) → sProp 𝕄} (h : ∀ (d0 : BitVec 32) (w2 : k0_chk39 i v0 v28 (x (ix1 (pos i hj 36 (by decide))))), St c i arg5 x wd hb R 36 ⊢ Q ⟨d0, x (ix1 (pos i hj 36 (by decide))), w2⟩) :
    St c i arg5 x wd hb R 33 ⊢ Wp c (k0_part16 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 33 (by decide)))) u36) Q := by
  rw [k0_part16_eq_skeleton]; unfold k0_part16_skel
  refine eq hx hj 33 (by decide) ?_
  refine ld hj 34 (by decide) ?_
  refine ck hx hj 34 (by decide) fun _ => ?_
  refine eq hx hj 34 (by decide) ?_
  refine ld hj 35 (by decide) ?_
  refine ck hx hj 35 (by decide) fun _ => ?_
  refine eq hx hj 35 (by decide) ?_
  refine ld hj 36 (by decide) ?_
  refine ck hx hj 36 (by decide) fun _ => ?_
  exact rt (h _ _)

include hx hj in
theorem part17 (v571 : BitVec 32) (u39 : k0_chk39 i v0 v28 (x (ix1 (pos i hj 36 (by decide))))) {R : sProp 𝕄}
    {Q : (Σ' (v612 : BitVec 32), BitVec 32) → sProp 𝕄} (h : ∀ (d0 : BitVec 32) (d1 : BitVec 32), St c i arg5 x wd hb R 39 ⊢ Q ⟨d0, d1⟩) :
    St c i arg5 x wd hb R 36 ⊢ Wp c (k0_part17 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v571 (x (ix1 (pos i hj 36 (by decide)))) u39) Q := by
  rw [k0_part17_eq_skeleton]; unfold k0_part17_skel
  refine eq hx hj 36 (by decide) ?_
  refine ld hj 37 (by decide) ?_
  refine ck hx hj 37 (by decide) fun _ => ?_
  refine eq hx hj 37 (by decide) ?_
  refine ld hj 38 (by decide) ?_
  refine ck hx hj 38 (by decide) fun _ => ?_
  refine eq hx hj 38 (by decide) ?_
  exact rt (h _ _)

include hx hj in
theorem part18 (v612 : BitVec 32) (c39_i32 : BitVec 32) {R : sProp 𝕄}
    {Q : (Σ' (v644 : Elt F .i32), k0_chk44 i v0 v28 v644) → sProp 𝕄} (h : ∀ (w1 : k0_chk44 i v0 v28 (x (ix1 (pos i hj 41 (by decide))))), St c i arg5 x wd hb R 41 ⊢ Q ⟨x (ix1 (pos i hj 41 (by decide))), w1⟩) :
    St c i arg5 x wd hb R 39 ⊢ Wp c (k0_part18 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v612 c39_i32) Q := by
  rw [k0_part18_eq_skeleton]; unfold k0_part18_skel
  refine ld hj 39 (by decide) ?_
  refine ck hx hj 39 (by decide) fun _ => ?_
  refine eq hx hj 39 (by decide) ?_
  refine ld hj 40 (by decide) ?_
  refine ck hx hj 40 (by decide) fun _ => ?_
  refine eq hx hj 40 (by decide) ?_
  refine ld hj 41 (by decide) ?_
  refine ck hx hj 41 (by decide) fun _ => ?_
  exact rt (h _)

include hx hj in
theorem part19 (u44 : k0_chk44 i v0 v28 (x (ix1 (pos i hj 41 (by decide))))) {R : sProp 𝕄}
    {Q : (Σ' (v683 : BitVec 32), Elt F .i32) → sProp 𝕄} (h : ∀ (d0 : BitVec 32), St c i arg5 x wd hb R 44 ⊢ Q ⟨d0, x (ix1 (pos i hj 44 (by decide)))⟩) :
    St c i arg5 x wd hb R 41 ⊢ Wp c (k0_part19 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 41 (by decide)))) u44) Q := by
  rw [k0_part19_eq_skeleton]; unfold k0_part19_skel
  refine eq hx hj 41 (by decide) ?_
  refine ld hj 42 (by decide) ?_
  refine ck hx hj 42 (by decide) fun _ => ?_
  refine eq hx hj 42 (by decide) ?_
  refine ld hj 43 (by decide) ?_
  refine ck hx hj 43 (by decide) fun _ => ?_
  refine eq hx hj 43 (by decide) ?_
  refine ld hj 44 (by decide) ?_
  exact rt (h _)

include hx hj in
theorem part20 (v683 : BitVec 32) {R : sProp 𝕄}
    {Q : (Σ' (v714 : Elt F .i32), k0_chk49 i v0 v28 v714) → sProp 𝕄} (h : ∀ (w1 : k0_chk49 i v0 v28 (x (ix1 (pos i hj 46 (by decide))))), St c i arg5 x wd hb R 46 ⊢ Q ⟨x (ix1 (pos i hj 46 (by decide))), w1⟩) :
    St c i arg5 x wd hb R 44 ⊢ Wp c (k0_part20 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v683 (x (ix1 (pos i hj 44 (by decide))))) Q := by
  rw [k0_part20_eq_skeleton]; unfold k0_part20_skel
  refine ck hx hj 44 (by decide) fun _ => ?_
  refine eq hx hj 44 (by decide) ?_
  refine ld hj 45 (by decide) ?_
  refine ck hx hj 45 (by decide) fun _ => ?_
  refine eq hx hj 45 (by decide) ?_
  refine ld hj 46 (by decide) ?_
  refine ck hx hj 46 (by decide) fun _ => ?_
  exact rt (h _)

include hx hj in
theorem part21 (u49 : k0_chk49 i v0 v28 (x (ix1 (pos i hj 46 (by decide))))) {R : sProp 𝕄}
    {Q : (Σ' (v753 : BitVec 32) (v756 : Elt F .i32) (k0_hw52 : k0_chk52 i v0 v28 v756), BitVec 32) → sProp 𝕄} (h : ∀ (d0 : BitVec 32) (w2 : k0_chk52 i v0 v28 (x (ix1 (pos i hj 49 (by decide))))) (d3 : BitVec 32), St c i arg5 x wd hb R 49 ⊢ Q ⟨d0, x (ix1 (pos i hj 49 (by decide))), w2, d3⟩) :
    St c i arg5 x wd hb R 46 ⊢ Wp c (k0_part21 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 46 (by decide)))) u49) Q := by
  rw [k0_part21_eq_skeleton]; unfold k0_part21_skel
  refine eq hx hj 46 (by decide) ?_
  refine ld hj 47 (by decide) ?_
  refine ck hx hj 47 (by decide) fun _ => ?_
  refine eq hx hj 47 (by decide) ?_
  refine ld hj 48 (by decide) ?_
  refine ck hx hj 48 (by decide) fun _ => ?_
  refine eq hx hj 48 (by decide) ?_
  refine ld hj 49 (by decide) ?_
  refine ck hx hj 49 (by decide) fun _ => ?_
  exact rt (h _ _ _)

include hx hj in
theorem part22 (v753 : BitVec 32) (u52 : k0_chk52 i v0 v28 (x (ix1 (pos i hj 49 (by decide))))) (c8_i32_336 : BitVec 32) {R : sProp 𝕄}
    {Q : (BitVec 32) → sProp 𝕄} (h : ∀ (d0 : BitVec 32), St c i arg5 x wd hb R 52 ⊢ Q d0) :
    St c i arg5 x wd hb R 49 ⊢ Wp c (k0_part22 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v753 (x (ix1 (pos i hj 49 (by decide)))) u52 c8_i32_336) Q := by
  rw [k0_part22_eq_skeleton]; unfold k0_part22_skel
  refine eq hx hj 49 (by decide) ?_
  refine ld hj 50 (by decide) ?_
  refine ck hx hj 50 (by decide) fun _ => ?_
  refine eq hx hj 50 (by decide) ?_
  refine ld hj 51 (by decide) ?_
  refine ck hx hj 51 (by decide) fun _ => ?_
  refine eq hx hj 51 (by decide) ?_
  exact rt (h _)

include hx hj in
theorem part23 (v795 : BitVec 32) {R : sProp 𝕄}
    {Q : (Σ' (v826 : Elt F .i32), k0_chk57 i v0 v28 v826) → sProp 𝕄} (h : ∀ (w1 : k0_chk57 i v0 v28 (x (ix1 (pos i hj 54 (by decide))))), St c i arg5 x wd hb R 54 ⊢ Q ⟨x (ix1 (pos i hj 54 (by decide))), w1⟩) :
    St c i arg5 x wd hb R 52 ⊢ Wp c (k0_part23 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v795) Q := by
  rw [k0_part23_eq_skeleton]; unfold k0_part23_skel
  refine ld hj 52 (by decide) ?_
  refine ck hx hj 52 (by decide) fun _ => ?_
  refine eq hx hj 52 (by decide) ?_
  refine ld hj 53 (by decide) ?_
  refine ck hx hj 53 (by decide) fun _ => ?_
  refine eq hx hj 53 (by decide) ?_
  refine ld hj 54 (by decide) ?_
  refine ck hx hj 54 (by decide) fun _ => ?_
  exact rt (h _)

include hx hj in
theorem part24 (u57 : k0_chk57 i v0 v28 (x (ix1 (pos i hj 54 (by decide))))) {R : sProp 𝕄}
    {Q : (Σ' (v865 : BitVec 32) (v868 : Elt F .i32), k0_chk60 i v0 v28 v868) → sProp 𝕄} (h : ∀ (d0 : BitVec 32) (w2 : k0_chk60 i v0 v28 (x (ix1 (pos i hj 57 (by decide))))), St c i arg5 x wd hb R 57 ⊢ Q ⟨d0, x (ix1 (pos i hj 57 (by decide))), w2⟩) :
    St c i arg5 x wd hb R 54 ⊢ Wp c (k0_part24 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 54 (by decide)))) u57) Q := by
  rw [k0_part24_eq_skeleton]; unfold k0_part24_skel
  refine eq hx hj 54 (by decide) ?_
  refine ld hj 55 (by decide) ?_
  refine ck hx hj 55 (by decide) fun _ => ?_
  refine eq hx hj 55 (by decide) ?_
  refine ld hj 56 (by decide) ?_
  refine ck hx hj 56 (by decide) fun _ => ?_
  refine eq hx hj 56 (by decide) ?_
  refine ld hj 57 (by decide) ?_
  refine ck hx hj 57 (by decide) fun _ => ?_
  exact rt (h _ _)

include hx hj in
theorem part25 (v865 : BitVec 32) (u60 : k0_chk60 i v0 v28 (x (ix1 (pos i hj 57 (by decide))))) {R : sProp 𝕄}
    {Q : (PUnit) → sProp 𝕄} (h : St c i arg5 x wd hb R 60 ⊢ Q ⟨⟩) :
    St c i arg5 x wd hb R 57 ⊢ Wp c (k0_part25 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v865 (x (ix1 (pos i hj 57 (by decide)))) u60) Q := by
  rw [k0_part25_eq_skeleton]; unfold k0_part25_skel
  refine eq hx hj 57 (by decide) ?_
  refine ld hj 58 (by decide) ?_
  refine ck hx hj 58 (by decide) fun _ => ?_
  refine eq hx hj 58 (by decide) ?_
  refine ld hj 59 (by decide) ?_
  refine ck hx hj 59 (by decide) fun _ => ?_
  refine eq hx hj 59 (by decide) ?_
  exact rt (h)

include hx hj in
theorem part26  {R : sProp 𝕄}
    {Q : (Σ' (v938 : Elt F .i32) (k0_hw65 : k0_chk65 i v0 v28 v938), BitVec 32) → sProp 𝕄} (h : ∀ (w1 : k0_chk65 i v0 v28 (x (ix1 (pos i hj 62 (by decide))))) (d2 : BitVec 32), St c i arg5 x wd hb R 62 ⊢ Q ⟨x (ix1 (pos i hj 62 (by decide))), w1, d2⟩) :
    St c i arg5 x wd hb R 60 ⊢ Wp c (k0_part26 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 ) Q := by
  rw [k0_part26_eq_skeleton]; unfold k0_part26_skel
  refine ld hj 60 (by decide) ?_
  refine ck hx hj 60 (by decide) fun _ => ?_
  refine eq hx hj 60 (by decide) ?_
  refine ld hj 61 (by decide) ?_
  refine ck hx hj 61 (by decide) fun _ => ?_
  refine eq hx hj 61 (by decide) ?_
  refine ld hj 62 (by decide) ?_
  refine ck hx hj 62 (by decide) fun _ => ?_
  exact rt (h _ _)

include hx hj in
theorem part27 (u65 : k0_chk65 i v0 v28 (x (ix1 (pos i hj 62 (by decide))))) (v941 : BitVec 32) {R : sProp 𝕄}
    {Q : (Σ' (v977 : BitVec 32), BitVec 32) → sProp 𝕄} (h : ∀ (d0 : BitVec 32) (d1 : BitVec 32), St c i arg5 x wd hb R 65 ⊢ Q ⟨d0, d1⟩) :
    St c i arg5 x wd hb R 62 ⊢ Wp c (k0_part27 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 62 (by decide)))) u65 v941) Q := by
  rw [k0_part27_eq_skeleton]; unfold k0_part27_skel
  refine eq hx hj 62 (by decide) ?_
  refine ld hj 63 (by decide) ?_
  refine ck hx hj 63 (by decide) fun _ => ?_
  refine eq hx hj 63 (by decide) ?_
  refine ld hj 64 (by decide) ?_
  refine ck hx hj 64 (by decide) fun _ => ?_
  refine eq hx hj 64 (by decide) ?_
  exact rt (h _ _)

include hx hj in
theorem part28 (v977 : BitVec 32) (c1_i32_430 : BitVec 32) {R : sProp 𝕄}
    {Q : (Σ' (v1008 : Elt F .i32), k0_chk70 i v0 v28 v1008) → sProp 𝕄} (h : ∀ (w1 : k0_chk70 i v0 v28 (x (ix1 (pos i hj 67 (by decide))))), St c i arg5 x wd hb R 67 ⊢ Q ⟨x (ix1 (pos i hj 67 (by decide))), w1⟩) :
    St c i arg5 x wd hb R 65 ⊢ Wp c (k0_part28 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v977 c1_i32_430) Q := by
  rw [k0_part28_eq_skeleton]; unfold k0_part28_skel
  refine ld hj 65 (by decide) ?_
  refine ck hx hj 65 (by decide) fun _ => ?_
  refine eq hx hj 65 (by decide) ?_
  refine ld hj 66 (by decide) ?_
  refine ck hx hj 66 (by decide) fun _ => ?_
  refine eq hx hj 66 (by decide) ?_
  refine ld hj 67 (by decide) ?_
  refine ck hx hj 67 (by decide) fun _ => ?_
  exact rt (h _)

include hx hj in
theorem part29 (u70 : k0_chk70 i v0 v28 (x (ix1 (pos i hj 67 (by decide))))) {R : sProp 𝕄}
    {Q : (Σ' (v1047 : BitVec 32) (v1050 : Elt F .i32) (k0_hw73 : k0_chk73 i v0 v28 v1050), BitVec 32) → sProp 𝕄} (h : ∀ (d0 : BitVec 32) (w2 : k0_chk73 i v0 v28 (x (ix1 (pos i hj 70 (by decide))))) (d3 : BitVec 32), St c i arg5 x wd hb R 70 ⊢ Q ⟨d0, x (ix1 (pos i hj 70 (by decide))), w2, d3⟩) :
    St c i arg5 x wd hb R 67 ⊢ Wp c (k0_part29 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 67 (by decide)))) u70) Q := by
  rw [k0_part29_eq_skeleton]; unfold k0_part29_skel
  refine eq hx hj 67 (by decide) ?_
  refine ld hj 68 (by decide) ?_
  refine ck hx hj 68 (by decide) fun _ => ?_
  refine eq hx hj 68 (by decide) ?_
  refine ld hj 69 (by decide) ?_
  refine ck hx hj 69 (by decide) fun _ => ?_
  refine eq hx hj 69 (by decide) ?_
  refine ld hj 70 (by decide) ?_
  refine ck hx hj 70 (by decide) fun _ => ?_
  exact rt (h _ _ _)

include hx hj in
theorem part30 (v1047 : BitVec 32) (u73 : k0_chk73 i v0 v28 (x (ix1 (pos i hj 70 (by decide))))) (c8_i32_461 : BitVec 32) {R : sProp 𝕄}
    {Q : (BitVec 32) → sProp 𝕄} (h : ∀ (d0 : BitVec 32), St c i arg5 x wd hb R 73 ⊢ Q d0) :
    St c i arg5 x wd hb R 70 ⊢ Wp c (k0_part30 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v1047 (x (ix1 (pos i hj 70 (by decide)))) u73 c8_i32_461) Q := by
  rw [k0_part30_eq_skeleton]; unfold k0_part30_skel
  refine eq hx hj 70 (by decide) ?_
  refine ld hj 71 (by decide) ?_
  refine ck hx hj 71 (by decide) fun _ => ?_
  refine eq hx hj 71 (by decide) ?_
  refine ld hj 72 (by decide) ?_
  refine ck hx hj 72 (by decide) fun _ => ?_
  refine eq hx hj 72 (by decide) ?_
  exact rt (h _)

include hx hj in
theorem part31 (c256_i32_477 : BitVec 32) {R : sProp 𝕄}
    {Q : (Σ' (v1120 : Elt F .i32), k0_chk78 i v0 v28 v1120) → sProp 𝕄} (h : ∀ (w1 : k0_chk78 i v0 v28 (x (ix1 (pos i hj 75 (by decide))))), St c i arg5 x wd hb R 75 ⊢ Q ⟨x (ix1 (pos i hj 75 (by decide))), w1⟩) :
    St c i arg5 x wd hb R 73 ⊢ Wp c (k0_part31 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 c256_i32_477) Q := by
  rw [k0_part31_eq_skeleton]; unfold k0_part31_skel
  refine ld hj 73 (by decide) ?_
  refine ck hx hj 73 (by decide) fun _ => ?_
  refine eq hx hj 73 (by decide) ?_
  refine ld hj 74 (by decide) ?_
  refine ck hx hj 74 (by decide) fun _ => ?_
  refine eq hx hj 74 (by decide) ?_
  refine ld hj 75 (by decide) ?_
  refine ck hx hj 75 (by decide) fun _ => ?_
  exact rt (h _)

include hx hj in
theorem part32 (u78 : k0_chk78 i v0 v28 (x (ix1 (pos i hj 75 (by decide))))) {R : sProp 𝕄}
    {Q : (BitVec 32) → sProp 𝕄} (h : ∀ (d0 : BitVec 32), St c i arg5 x wd hb R 78 ⊢ Q d0) :
    St c i arg5 x wd hb R 75 ⊢ Wp c (k0_part32 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 75 (by decide)))) u78) Q := by
  rw [k0_part32_eq_skeleton]; unfold k0_part32_skel
  refine eq hx hj 75 (by decide) ?_
  refine ld hj 76 (by decide) ?_
  refine ck hx hj 76 (by decide) fun _ => ?_
  refine eq hx hj 76 (by decide) ?_
  refine ld hj 77 (by decide) ?_
  refine ck hx hj 77 (by decide) fun _ => ?_
  refine eq hx hj 77 (by decide) ?_
  exact rt (h _)

include hx hj in
theorem part33 (v1159 : BitVec 32) {R : sProp 𝕄}
    {Q : (Σ' (v1190 : Elt F .i32), k0_chk83 i v0 v28 v1190) → sProp 𝕄} (h : ∀ (w1 : k0_chk83 i v0 v28 (x (ix1 (pos i hj 80 (by decide))))), St c i arg5 x wd hb R 80 ⊢ Q ⟨x (ix1 (pos i hj 80 (by decide))), w1⟩) :
    St c i arg5 x wd hb R 78 ⊢ Wp c (k0_part33 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v1159) Q := by
  rw [k0_part33_eq_skeleton]; unfold k0_part33_skel
  refine ld hj 78 (by decide) ?_
  refine ck hx hj 78 (by decide) fun _ => ?_
  refine eq hx hj 78 (by decide) ?_
  refine ld hj 79 (by decide) ?_
  refine ck hx hj 79 (by decide) fun _ => ?_
  refine eq hx hj 79 (by decide) ?_
  refine ld hj 80 (by decide) ?_
  refine ck hx hj 80 (by decide) fun _ => ?_
  exact rt (h _)

include hx hj in
theorem part34 (u83 : k0_chk83 i v0 v28 (x (ix1 (pos i hj 80 (by decide))))) {R : sProp 𝕄}
    {Q : (Σ' (v1229 : BitVec 32) (v1232 : Elt F .i32) (k0_hw86 : k0_chk86 i v0 v28 v1232), BitVec 32) → sProp 𝕄} (h : ∀ (d0 : BitVec 32) (w2 : k0_chk86 i v0 v28 (x (ix1 (pos i hj 83 (by decide))))) (d3 : BitVec 32), St c i arg5 x wd hb R 83 ⊢ Q ⟨d0, x (ix1 (pos i hj 83 (by decide))), w2, d3⟩) :
    St c i arg5 x wd hb R 80 ⊢ Wp c (k0_part34 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 80 (by decide)))) u83) Q := by
  rw [k0_part34_eq_skeleton]; unfold k0_part34_skel
  refine eq hx hj 80 (by decide) ?_
  refine ld hj 81 (by decide) ?_
  refine ck hx hj 81 (by decide) fun _ => ?_
  refine eq hx hj 81 (by decide) ?_
  refine ld hj 82 (by decide) ?_
  refine ck hx hj 82 (by decide) fun _ => ?_
  refine eq hx hj 82 (by decide) ?_
  refine ld hj 83 (by decide) ?_
  refine ck hx hj 83 (by decide) fun _ => ?_
  exact rt (h _ _ _)

include hx hj in
theorem part35 (v1229 : BitVec 32) (u86 : k0_chk86 i v0 v28 (x (ix1 (pos i hj 83 (by decide))))) (v1233 : BitVec 32) {R : sProp 𝕄}
    {Q : (BitVec 32) → sProp 𝕄} (h : ∀ (d0 : BitVec 32), St c i arg5 x wd hb R 86 ⊢ Q d0) :
    St c i arg5 x wd hb R 83 ⊢ Wp c (k0_part35 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v1229 (x (ix1 (pos i hj 83 (by decide)))) u86 v1233) Q := by
  rw [k0_part35_eq_skeleton]; unfold k0_part35_skel
  refine eq hx hj 83 (by decide) ?_
  refine ld hj 84 (by decide) ?_
  refine ck hx hj 84 (by decide) fun _ => ?_
  refine eq hx hj 84 (by decide) ?_
  refine ld hj 85 (by decide) ?_
  refine ck hx hj 85 (by decide) fun _ => ?_
  refine eq hx hj 85 (by decide) ?_
  exact rt (h _)

end Cert.Routed

end
-- ==== Proof.IssuesB.lean ====
/- The issues of one grid point, by the stretches the kernel text comes in: each stretch carries the state of the gather
   from the rows issued before it to those issued after it, and hands on the last token it loaded. -/
module

public import proofs.«01_k».proof.Proof.Issue

@[expose] public section

set_option maxRecDepth 16384

noncomputable section

namespace Cert.Routed

open Cert.KernelIdeal Cert.KernelIdeal.Gen
open Idealize.ShloMosaic Idealize.ShloMosaic.TcCoe
open Idealize.SL Idealize.SL.RA Idealize.SL.BI
open scoped Idealize.SL.BI
open Idealize.SL.BI.BIBase
open Idealize.ShloMosaic.ValueIdx (ix1 ix2 ix3)

variable {F : FTy → Type} [FloatOps F]

local notation "𝕄" => MT nD τ sig Unit (Elt F) ℕ (Pipeline.UD sig nD τ) ℕ

variable (c : Dev nD) (i : grid0.Coords) (arg2 : Memref sig .tc .smem S72 .i32) (harg2 : arg2.IsWhole) (arg3 : Memref sig .tc .smem S1 .i32)
  (harg3 : arg3.IsWhole) (arg4 : Memref sig .tc .smem S1024 .i32) (harg4 : arg4.IsWhole) (arg5 : Memref sig .tc .smem S1024 .i32) (harg5 : arg5.IsWhole)
  (harg6 : tokM.IsWhole) (arg7 : Memref sig .tc .vmem S1x1024x512 .f32) (harg7 : arg7.IsWhole)
  (arg8 : Memref sig .tc .vmem S1x1024x512 .f32) (harg8 : arg8.IsWhole) (arg9 : Memref sig .tc .vmem S1x512x1024 .f32) (harg9 : arg9.IsWhole)
  (arg10 : Memref sig .tc .vmem S8192x128 .f32) (harg10 : arg10.IsWhole) (harg11 : rowsM.IsWhole)
  (arg13 : Memref sig .tc .vmem S1024x1024 .bf16) (harg13 : arg13.IsWhole) (arg14 : Memref sig .tc .vmem S1024x1024 .f32) (harg14 : arg14.IsWhole)
  (x : S1024.Idx → BitVec 32) (wd : Fin 1024 → Fin 32768) (hx : ∀ r, (x (ix1 r)).toNat = (wd r).val) (hb : TokB F) (hj : (i 1).val < 4)
  (arg1 : BitVec 32) (v0 : Elt F .i32) (v11 : BitVec 32) (k0_h1 : k0_cond1 i v0 = 1#1) (v28 : Elt F .i32)
  (k0_hw2 : k0_chk2 i v0 v28) (k0_h4 : k0_cond4 i v28 = 1#1)

include hx hj in
theorem part36 (v1270 : BitVec 32) {R : sProp 𝕄}
    {Q : (Σ' (v1302 : Elt F .i32), k0_chk91 i v0 v28 v1302) → sProp 𝕄} (h : ∀ (w1 : k0_chk91 i v0 v28 (x (ix1 (pos i hj 88 (by decide))))), St c i arg5 x wd hb R 88 ⊢ Q ⟨x (ix1 (pos i hj 88 (by decide))), w1⟩) :
    St c i arg5 x wd hb R 86 ⊢ Wp c (k0_part36 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v1270) Q := by
  rw [k0_part36_eq_skeleton]; unfold k0_part36_skel
  refine ld hj 86 (by decide) ?_
  refine ck hx hj 86 (by decide) fun _ => ?_
  refine eq hx hj 86 (by decide) ?_
  refine ld hj 87 (by decide) ?_
  refine ck hx hj 87 (by decide) fun _ => ?_
  refine eq hx hj 87 (by decide) ?_
  refine ld hj 88 (by decide) ?_
  refine ck hx hj 88 (by decide) fun _ => ?_
  exact rt (h _)

include hx hj in
theorem part37 (u91 : k0_chk91 i v0 v28 (x (ix1 (pos i hj 88 (by decide))))) {R : sProp 𝕄}
    {Q : (BitVec 32) → sProp 𝕄} (h : ∀ (d0 : BitVec 32), St c i arg5 x wd hb R 91 ⊢ Q d0) :
    St c i arg5 x wd hb R 88 ⊢ Wp c (k0_part37 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 88 (by decide)))) u91) Q := by
  rw [k0_part37_eq_skeleton]; unfold k0_part37_skel
  refine eq hx hj 88 (by decide) ?_
  refine ld hj 89 (by decide) ?_
  refine ck hx hj 89 (by decide) fun _ => ?_
  refine eq hx hj 89 (by decide) ?_
  refine ld hj 90 (by decide) ?_
  refine ck hx hj 90 (by decide) fun _ => ?_
  refine eq hx hj 90 (by decide) ?_
  exact rt (h _)

include hx hj in
theorem part38 (v1341 : BitVec 32) {R : sProp 𝕄}
    {Q : (Σ' (v1372 : Elt F .i32), k0_chk96 i v0 v28 v1372) → sProp 𝕄} (h : ∀ (w1 : k0_chk96 i v0 v28 (x (ix1 (pos i hj 93 (by decide))))), St c i arg5 x wd hb R 93 ⊢ Q ⟨x (ix1 (pos i hj 93 (by decide))), w1⟩) :
    St c i arg5 x wd hb R 91 ⊢ Wp c (k0_part38 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v1341) Q := by
  rw [k0_part38_eq_skeleton]; unfold k0_part38_skel
  refine ld hj 91 (by decide) ?_
  refine ck hx hj 91 (by decide) fun _ => ?_
  refine eq hx hj 91 (by decide) ?_
  refine ld hj 92 (by decide) ?_
  refine ck hx hj 92 (by decide) fun _ => ?_
  refine eq hx hj 92 (by decide) ?_
  refine ld hj 93 (by decide) ?_
  refine ck hx hj 93 (by decide) fun _ => ?_
  exact rt (h _)

include hx hj in
theorem part39 (u96 : k0_chk96 i v0 v28 (x (ix1 (pos i hj 93 (by decide))))) {R : sProp 𝕄}
    {Q : (Σ' (v1411 : BitVec 32) (v1414 : Elt F .i32), k0_chk99 i v0 v28 v1414) → sProp 𝕄} (h : ∀ (d0 : BitVec 32) (w2 : k0_chk99 i v0 v28 (x (ix1 (pos i hj 96 (by decide))))), St c i arg5 x wd hb R 96 ⊢ Q ⟨d0, x (ix1 (pos i hj 96 (by decide))), w2⟩) :
    St c i arg5 x wd hb R 93 ⊢ Wp c (k0_part39 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 93 (by decide)))) u96) Q := by
  rw [k0_part39_eq_skeleton]; unfold k0_part39_skel
  refine eq hx hj 93 (by decide) ?_
  refine ld hj 94 (by decide) ?_
  refine ck hx hj 94 (by decide) fun _ => ?_
  refine eq hx hj 94 (by decide) ?_
  refine ld hj 95 (by decide) ?_
  refine ck hx hj 95 (by decide) fun _ => ?_
  refine eq hx hj 95 (by decide) ?_
  refine ld hj 96 (by decide) ?_
  refine ck hx hj 96 (by decide) fun _ => ?_
  exact rt (h _ _)

include hx hj in
theorem part40 (v1411 : BitVec 32) (u99 : k0_chk99 i v0 v28 (x (ix1 (pos i hj 96 (by decide))))) {R : sProp 𝕄}
    {Q : (Σ' (v1452 : BitVec 32), BitVec 32) → sProp 𝕄} (h : ∀ (d0 : BitVec 32) (d1 : BitVec 32), St c i arg5 x wd hb R 99 ⊢ Q ⟨d0, d1⟩) :
    St c i arg5 x wd hb R 96 ⊢ Wp c (k0_part40 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v1411 (x (ix1 (pos i hj 96 (by decide)))) u99) Q := by
  rw [k0_part40_eq_skeleton]; unfold k0_part40_skel
  refine eq hx hj 96 (by decide) ?_
  refine ld hj 97 (by decide) ?_
  refine ck hx hj 97 (by decide) fun _ => ?_
  refine eq hx hj 97 (by decide) ?_
  refine ld hj 98 (by decide) ?_
  refine ck hx hj 98 (by decide) fun _ => ?_
  refine eq hx hj 98 (by decide) ?_
  exact rt (h _ _)

include hx hj in
theorem part41 (v1452 : BitVec 32) (c99_i32 : BitVec 32) {R : sProp 𝕄}
    {Q : (Σ' (v1484 : Elt F .i32), k0_chk104 i v0 v28 v1484) → sProp 𝕄} (h : ∀ (w1 : k0_chk104 i v0 v28 (x (ix1 (pos i hj 101 (by decide))))), St c i arg5 x wd hb R 101 ⊢ Q ⟨x (ix1 (pos i hj 101 (by decide))), w1⟩) :
    St c i arg5 x wd hb R 99 ⊢ Wp c (k0_part41 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v1452 c99_i32) Q := by
  rw [k0_part41_eq_skeleton]; unfold k0_part41_skel
  refine ld hj 99 (by decide) ?_
  refine ck hx hj 99 (by decide) fun _ => ?_
  refine eq hx hj 99 (by decide) ?_
  refine ld hj 100 (by decide) ?_
  refine ck hx hj 100 (by decide) fun _ => ?_
  refine eq hx hj 100 (by decide) ?_
  refine ld hj 101 (by decide) ?_
  refine ck hx hj 101 (by decide) fun _ => ?_
  exact rt (h _)

include hx hj in
theorem part42 (u104 : k0_chk104 i v0 v28 (x (ix1 (pos i hj 101 (by decide))))) {R : sProp 𝕄}
    {Q : (Σ' (v1523 : BitVec 32), Elt F .i32) → sProp 𝕄} (h : ∀ (d0 : BitVec 32), St c i arg5 x wd hb R 104 ⊢ Q ⟨d0, x (ix1 (pos i hj 104 (by decide)))⟩) :
    St c i arg5 x wd hb R 101 ⊢ Wp c (k0_part42 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 101 (by decide)))) u104) Q := by
  rw [k0_part42_eq_skeleton]; unfold k0_part42_skel
  refine eq hx hj 101 (by decide) ?_
  refine ld hj 102 (by decide) ?_
  refine ck hx hj 102 (by decide) fun _ => ?_
  refine eq hx hj 102 (by decide) ?_
  refine ld hj 103 (by decide) ?_
  refine ck hx hj 103 (by decide) fun _ => ?_
  refine eq hx hj 103 (by decide) ?_
  refine ld hj 104 (by decide) ?_
  exact rt (h _)

include hx hj in
theorem part43 (v1523 : BitVec 32) {R : sProp 𝕄}
    {Q : (Σ' (v1554 : Elt F .i32), k0_chk109 i v0 v28 v1554) → sProp 𝕄} (h : ∀ (w1 : k0_chk109 i v0 v28 (x (ix1 (pos i hj 106 (by decide))))), St c i arg5 x wd hb R 106 ⊢ Q ⟨x (ix1 (pos i hj 106 (by decide))), w1⟩) :
    St c i arg5 x wd hb R 104 ⊢ Wp c (k0_part43 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v1523 (x (ix1 (pos i hj 104 (by decide))))) Q := by
  rw [k0_part43_eq_skeleton]; unfold k0_part43_skel
  refine ck hx hj 104 (by decide) fun _ => ?_
  refine eq hx hj 104 (by decide) ?_
  refine ld hj 105 (by decide) ?_
  refine ck hx hj 105 (by decide) fun _ => ?_
  refine eq hx hj 105 (by decide) ?_
  refine ld hj 106 (by decide) ?_
  refine ck hx hj 106 (by decide) fun _ => ?_
  exact rt (h _)

include hx hj in
theorem part44 (u109 : k0_chk109 i v0 v28 (x (ix1 (pos i hj 106 (by decide))))) {R : sProp 𝕄}
    {Q : (Σ' (v1593 : BitVec 32) (v1596 : Elt F .i32) (k0_hw112 : k0_chk112 i v0 v28 v1596), BitVec 32) → sProp 𝕄} (h : ∀ (d0 : BitVec 32) (w2 : k0_chk112 i v0 v28 (x (ix1 (pos i hj 109 (by decide))))) (d3 : BitVec 32), St c i arg5 x wd hb R 109 ⊢ Q ⟨d0, x (ix1 (pos i hj 109 (by decide))), w2, d3⟩) :
    St c i arg5 x wd hb R 106 ⊢ Wp c (k0_part44 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 106 (by decide)))) u109) Q := by
  rw [k0_part44_eq_skeleton]; unfold k0_part44_skel
  refine eq hx hj 106 (by decide) ?_
  refine ld hj 107 (by decide) ?_
  refine ck hx hj 107 (by decide) fun _ => ?_
  refine eq hx hj 107 (by decide) ?_
  refine ld hj 108 (by decide) ?_
  refine ck hx hj 108 (by decide) fun _ => ?_
  refine eq hx hj 108 (by decide) ?_
  refine ld hj 109 (by decide) ?_
  refine ck hx hj 109 (by decide) fun _ => ?_
  exact rt (h _ _ _)

include hx hj in
theorem part45 (v1593 : BitVec 32) (u112 : k0_chk112 i v0 v28 (x (ix1 (pos i hj 109 (by decide))))) (c8_i32_696 : BitVec 32) {R : sProp 𝕄}
    {Q : (BitVec 32) → sProp 𝕄} (h : ∀ (d0 : BitVec 32), St c i arg5 x wd hb R 112 ⊢ Q d0) :
    St c i arg5 x wd hb R 109 ⊢ Wp c (k0_part45 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v1593 (x (ix1 (pos i hj 109 (by decide)))) u112 c8_i32_696) Q := by
  rw [k0_part45_eq_skeleton]; unfold k0_part45_skel
  refine eq hx hj 109 (by decide) ?_
  refine ld hj 110 (by decide) ?_
  refine ck hx hj 110 (by decide) fun _ => ?_
  refine eq hx hj 110 (by decide) ?_
  refine ld hj 111 (by decide) ?_
  refine ck hx hj 111 (by decide) fun _ => ?_
  refine eq hx hj 111 (by decide) ?_
  exact rt (h _)

include hx hj in
theorem part46 (v1635 : BitVec 32) {R : sProp 𝕄}
    {Q : (Σ' (v1666 : Elt F .i32), k0_chk117 i v0 v28 v1666) → sProp 𝕄} (h : ∀ (w1 : k0_chk117 i v0 v28 (x (ix1 (pos i hj 114 (by decide))))), St c i arg5 x wd hb R 114 ⊢ Q ⟨x (ix1 (pos i hj 114 (by decide))), w1⟩) :
    St c i arg5 x wd hb R 112 ⊢ Wp c (k0_part46 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v1635) Q := by
  rw [k0_part46_eq_skeleton]; unfold k0_part46_skel
  refine ld hj 112 (by decide) ?_
  refine ck hx hj 112 (by decide) fun _ => ?_
  refine eq hx hj 112 (by decide) ?_
  refine ld hj 113 (by decide) ?_
  refine ck hx hj 113 (by decide) fun _ => ?_
  refine eq hx hj 113 (by decide) ?_
  refine ld hj 114 (by decide) ?_
  refine ck hx hj 114 (by decide) fun _ => ?_
  exact rt (h _)

include hx hj in
theorem part47 (u117 : k0_chk117 i v0 v28 (x (ix1 (pos i hj 114 (by decide))))) {R : sProp 𝕄}
    {Q : (Σ' (v1705 : BitVec 32) (v1708 : Elt F .i32), k0_chk120 i v0 v28 v1708) → sProp 𝕄} (h : ∀ (d0 : BitVec 32) (w2 : k0_chk120 i v0 v28 (x (ix1 (pos i hj 117 (by decide))))), St c i arg5 x wd hb R 117 ⊢ Q ⟨d0, x (ix1 (pos i hj 117 (by decide))), w2⟩) :
    St c i arg5 x wd hb R 114 ⊢ Wp c (k0_part47 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 114 (by decide)))) u117) Q := by
  rw [k0_part47_eq_skeleton]; unfold k0_part47_skel
  refine eq hx hj 114 (by decide) ?_
  refine ld hj 115 (by decide) ?_
  refine ck hx hj 115 (by decide) fun _ => ?_
  refine eq hx hj 115 (by decide) ?_
  refine ld hj 116 (by decide) ?_
  refine ck hx hj 116 (by decide) fun _ => ?_
  refine eq hx hj 116 (by decide) ?_
  refine ld hj 117 (by decide) ?_
  refine ck hx hj 117 (by decide) fun _ => ?_
  exact rt (h _ _)

include hx hj in
theorem part48 (v1705 : BitVec 32) (u120 : k0_chk120 i v0 v28 (x (ix1 (pos i hj 117 (by decide))))) {R : sProp 𝕄}
    {Q : (PUnit) → sProp 𝕄} (h : St c i arg5 x wd hb R 120 ⊢ Q ⟨⟩) :
    St c i arg5 x wd hb R 117 ⊢ Wp c (k0_part48 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v1705 (x (ix1 (pos i hj 117 (by decide)))) u120) Q := by
  rw [k0_part48_eq_skeleton]; unfold k0_part48_skel
  refine eq hx hj 117 (by decide) ?_
  refine ld hj 118 (by decide) ?_
  refine ck hx hj 118 (by decide) fun _ => ?_
  refine eq hx hj 118 (by decide) ?_
  refine ld hj 119 (by decide) ?_
  refine ck hx hj 119 (by decide) fun _ => ?_
  refine eq hx hj 119 (by decide) ?_
  exact rt (h)

include hx hj in
theorem part49  {R : sProp 𝕄}
    {Q : (Σ' (v1778 : Elt F .i32) (k0_hw125 : k0_chk125 i v0 v28 v1778), BitVec 32) → sProp 𝕄} (h : ∀ (w1 : k0_chk125 i v0 v28 (x (ix1 (pos i hj 122 (by decide))))) (d2 : BitVec 32), St c i arg5 x wd hb R 122 ⊢ Q ⟨x (ix1 (pos i hj 122 (by decide))), w1, d2⟩) :
    St c i arg5 x wd hb R 120 ⊢ Wp c (k0_part49 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 ) Q := by
  rw [k0_part49_eq_skeleton]; unfold k0_part49_skel
  refine ld hj 120 (by decide) ?_
  refine ck hx hj 120 (by decide) fun _ => ?_
  refine eq hx hj 120 (by decide) ?_
  refine ld hj 121 (by decide) ?_
  refine ck hx hj 121 (by decide) fun _ => ?_
  refine eq hx hj 121 (by decide) ?_
  refine ld hj 122 (by decide) ?_
  refine ck hx hj 122 (by decide) fun _ => ?_
  exact rt (h _ _)

include hx hj in
theorem part50 (u125 : k0_chk125 i v0 v28 (x (ix1 (pos i hj 122 (by decide))))) (v1781 : BitVec 32) {R : sProp 𝕄}
    {Q : (Σ' (v1817 : BitVec 32), BitVec 32) → sProp 𝕄} (h : ∀ (d0 : BitVec 32) (d1 : BitVec 32), St c i arg5 x wd hb R 125 ⊢ Q ⟨d0, d1⟩) :
    St c i arg5 x wd hb R 122 ⊢ Wp c (k0_part50 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 122 (by decide)))) u125 v1781) Q := by
  rw [k0_part50_eq_skeleton]; unfold k0_part50_skel
  refine eq hx hj 122 (by decide) ?_
  refine ld hj 123 (by decide) ?_
  refine ck hx hj 123 (by decide) fun _ => ?_
  refine eq hx hj 123 (by decide) ?_
  refine ld hj 124 (by decide) ?_
  refine ck hx hj 124 (by decide) fun _ => ?_
  refine eq hx hj 124 (by decide) ?_
  exact rt (h _ _)

include hx hj in
theorem part51 (v1817 : BitVec 32) (c1_i32_790 : BitVec 32) {R : sProp 𝕄}
    {Q : (Σ' (v1848 : Elt F .i32), k0_chk130 i v0 v28 v1848) → sProp 𝕄} (h : ∀ (w1 : k0_chk130 i v0 v28 (x (ix1 (pos i hj 127 (by decide))))), St c i arg5 x wd hb R 127 ⊢ Q ⟨x (ix1 (pos i hj 127 (by decide))), w1⟩) :
    St c i arg5 x wd hb R 125 ⊢ Wp c (k0_part51 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v1817 c1_i32_790) Q := by
  rw [k0_part51_eq_skeleton]; unfold k0_part51_skel
  refine ld hj 125 (by decide) ?_
  refine ck hx hj 125 (by decide) fun _ => ?_
  refine eq hx hj 125 (by decide) ?_
  refine ld hj 126 (by decide) ?_
  refine ck hx hj 126 (by decide) fun _ => ?_
  refine eq hx hj 126 (by decide) ?_
  refine ld hj 127 (by decide) ?_
  refine ck hx hj 127 (by decide) fun _ => ?_
  exact rt (h _)

include hx hj in
theorem part52 (u130 : k0_chk130 i v0 v28 (x (ix1 (pos i hj 127 (by decide))))) {R : sProp 𝕄}
    {Q : (Σ' (v1887 : BitVec 32) (v1890 : Elt F .i32) (k0_hw133 : k0_chk133 i v0 v28 v1890), BitVec 32) → sProp 𝕄} (h : ∀ (d0 : BitVec 32) (w2 : k0_chk133 i v0 v28 (x (ix1 (pos i hj 130 (by decide))))) (d3 : BitVec 32), St c i arg5 x wd hb R 130 ⊢ Q ⟨d0, x (ix1 (pos i hj 130 (by decide))), w2, d3⟩) :
    St c i arg5 x wd hb R 127 ⊢ Wp c (k0_part52 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 127 (by decide)))) u130) Q := by
  rw [k0_part52_eq_skeleton]; unfold k0_part52_skel
  refine eq hx hj 127 (by decide) ?_
  refine ld hj 128 (by decide) ?_
  refine ck hx hj 128 (by decide) fun _ => ?_
  refine eq hx hj 128 (by decide) ?_
  refine ld hj 129 (by decide) ?_
  refine ck hx hj 129 (by decide) fun _ => ?_
  refine eq hx hj 129 (by decide) ?_
  refine ld hj 130 (by decide) ?_
  refine ck hx hj 130 (by decide) fun _ => ?_
  exact rt (h _ _ _)

include hx hj in
theorem part53 (v1887 : BitVec 32) (u133 : k0_chk133 i v0 v28 (x (ix1 (pos i hj 130 (by decide))))) (c8_i32_821 : BitVec 32) {R : sProp 𝕄}
    {Q : (BitVec 32) → sProp 𝕄} (h : ∀ (d0 : BitVec 32), St c i arg5 x wd hb R 133 ⊢ Q d0) :
    St c i arg5 x wd hb R 130 ⊢ Wp c (k0_part53 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v1887 (x (ix1 (pos i hj 130 (by decide)))) u133 c8_i32_821) Q := by
  rw [k0_part53_eq_skeleton]; unfold k0_part53_skel
  refine eq hx hj 130 (by decide) ?_
  refine ld hj 131 (by decide) ?_
  refine ck hx hj 131 (by decide) fun _ => ?_
  refine eq hx hj 131 (by decide) ?_
  refine ld hj 132 (by decide) ?_
  refine ck hx hj 132 (by decide) fun _ => ?_
  refine eq hx hj 132 (by decide) ?_
  exact rt (h _)

include hx hj in
theorem part54 (c256_i32_837 : BitVec 32) {R : sProp 𝕄}
    {Q : (Σ' (v1960 : Elt F .i32), k0_chk138 i v0 v28 v1960) → sProp 𝕄} (h : ∀ (w1 : k0_chk138 i v0 v28 (x (ix1 (pos i hj 135 (by decide))))), St c i arg5 x wd hb R 135 ⊢ Q ⟨x (ix1 (pos i hj 135 (by decide))), w1⟩) :
    St c i arg5 x wd hb R 133 ⊢ Wp c (k0_part54 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 c256_i32_837) Q := by
  rw [k0_part54_eq_skeleton]; unfold k0_part54_skel
  refine ld hj 133 (by decide) ?_
  refine ck hx hj 133 (by decide) fun _ => ?_
  refine eq hx hj 133 (by decide) ?_
  refine ld hj 134 (by decide) ?_
  refine ck hx hj 134 (by decide) fun _ => ?_
  refine eq hx hj 134 (by decide) ?_
  refine ld hj 135 (by decide) ?_
  refine ck hx hj 135 (by decide) fun _ => ?_
  exact rt (h _)

include hx hj in
theorem part55 (u138 : k0_chk138 i v0 v28 (x (ix1 (pos i hj 135 (by decide))))) {R : sProp 𝕄}
    {Q : (BitVec 32) → sProp 𝕄} (h : ∀ (d0 : BitVec 32), St c i arg5 x wd hb R 138 ⊢ Q d0) :
    St c i arg5 x wd hb R 135 ⊢ Wp c (k0_part55 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 135 (by decide)))) u138) Q := by
  rw [k0_part55_eq_skeleton]; unfold k0_part55_skel
  refine eq hx hj 135 (by decide) ?_
  refine ld hj 136 (by decide) ?_
  refine ck hx hj 136 (by decide) fun _ => ?_
  refine eq hx hj 136 (by decide) ?_
  refine ld hj 137 (by decide) ?_
  refine ck hx hj 137 (by decide) fun _ => ?_
  refine eq hx hj 137 (by decide) ?_
  exact rt (h _)

include hx hj in
theorem part56 (v1999 : BitVec 32) {R : sProp 𝕄}
    {Q : (Σ' (v2030 : Elt F .i32), k0_chk143 i v0 v28 v2030) → sProp 𝕄} (h : ∀ (w1 : k0_chk143 i v0 v28 (x (ix1 (pos i hj 140 (by decide))))), St c i arg5 x wd hb R 140 ⊢ Q ⟨x (ix1 (pos i hj 140 (by decide))), w1⟩) :
    St c i arg5 x wd hb R 138 ⊢ Wp c (k0_part56 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v1999) Q := by
  rw [k0_part56_eq_skeleton]; unfold k0_part56_skel
  refine ld hj 138 (by decide) ?_
  refine ck hx hj 138 (by decide) fun _ => ?_
  refine eq hx hj 138 (by decide) ?_
  refine ld hj 139 (by decide) ?_
  refine ck hx hj 139 (by decide) fun _ => ?_
  refine eq hx hj 139 (by decide) ?_
  refine ld hj 140 (by decide) ?_
  refine ck hx hj 140 (by decide) fun _ => ?_
  exact rt (h _)

include hx hj in
theorem part57 (u143 : k0_chk143 i v0 v28 (x (ix1 (pos i hj 140 (by decide))))) {R : sProp 𝕄}
    {Q : (Σ' (v2069 : BitVec 32) (v2072 : Elt F .i32) (k0_hw146 : k0_chk146 i v0 v28 v2072), BitVec 32) → sProp 𝕄} (h : ∀ (d0 : BitVec 32) (w2 : k0_chk146 i v0 v28 (x (ix1 (pos i hj 143 (by decide))))) (d3 : BitVec 32), St c i arg5 x wd hb R 143 ⊢ Q ⟨d0, x (ix1 (pos i hj 143 (by decide))), w2, d3⟩) :
    St c i arg5 x wd hb R 140 ⊢ Wp c (k0_part57 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 140 (by decide)))) u143) Q := by
  rw [k0_part57_eq_skeleton]; unfold k0_part57_skel
  refine eq hx hj 140 (by decide) ?_
  refine ld hj 141 (by decide) ?_
  refine ck hx hj 141 (by decide) fun _ => ?_
  refine eq hx hj 141 (by decide) ?_
  refine ld hj 142 (by decide) ?_
  refine ck hx hj 142 (by decide) fun _ => ?_
  refine eq hx hj 142 (by decide) ?_
  refine ld hj 143 (by decide) ?_
  refine ck hx hj 143 (by decide) fun _ => ?_
  exact rt (h _ _ _)

include hx hj in
theorem part58 (v2069 : BitVec 32) (u146 : k0_chk146 i v0 v28 (x (ix1 (pos i hj 143 (by decide))))) (v2073 : BitVec 32) {R : sProp 𝕄}
    {Q : (BitVec 32) → sProp 𝕄} (h : ∀ (d0 : BitVec 32), St c i arg5 x wd hb R 146 ⊢ Q d0) :
    St c i arg5 x wd hb R 143 ⊢ Wp c (k0_part58 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v2069 (x (ix1 (pos i hj 143 (by decide)))) u146 v2073) Q := by
  rw [k0_part58_eq_skeleton]; unfold k0_part58_skel
  refine eq hx hj 143 (by decide) ?_
  refine ld hj 144 (by decide) ?_
  refine ck hx hj 144 (by decide) fun _ => ?_
  refine eq hx hj 144 (by decide) ?_
  refine ld hj 145 (by decide) ?_
  refine ck hx hj 145 (by decide) fun _ => ?_
  refine eq hx hj 145 (by decide) ?_
  exact rt (h _)

include hx hj in
theorem part59 (v2110 : BitVec 32) {R : sProp 𝕄}
    {Q : (Σ' (v2142 : Elt F .i32), k0_chk151 i v0 v28 v2142) → sProp 𝕄} (h : ∀ (w1 : k0_chk151 i v0 v28 (x (ix1 (pos i hj 148 (by decide))))), St c i arg5 x wd hb R 148 ⊢ Q ⟨x (ix1 (pos i hj 148 (by decide))), w1⟩) :
    St c i arg5 x wd hb R 146 ⊢ Wp c (k0_part59 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v2110) Q := by
  rw [k0_part59_eq_skeleton]; unfold k0_part59_skel
  refine ld hj 146 (by decide) ?_
  refine ck hx hj 146 (by decide) fun _ => ?_
  refine eq hx hj 146 (by decide) ?_
  refine ld hj 147 (by decide) ?_
  refine ck hx hj 147 (by decide) fun _ => ?_
  refine eq hx hj 147 (by decide) ?_
  refine ld hj 148 (by decide) ?_
  refine ck hx hj 148 (by decide) fun _ => ?_
  exact rt (h _)

include hx hj in
theorem part60 (u151 : k0_chk151 i v0 v28 (x (ix1 (pos i hj 148 (by decide))))) {R : sProp 𝕄}
    {Q : (BitVec 32) → sProp 𝕄} (h : ∀ (d0 : BitVec 32), St c i arg5 x wd hb R 151 ⊢ Q d0) :
    St c i arg5 x wd hb R 148 ⊢ Wp c (k0_part60 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 148 (by decide)))) u151) Q := by
  rw [k0_part60_eq_skeleton]; unfold k0_part60_skel
  refine eq hx hj 148 (by decide) ?_
  refine ld hj 149 (by decide) ?_
  refine ck hx hj 149 (by decide) fun _ => ?_
  refine eq hx hj 149 (by decide) ?_
  refine ld hj 150 (by decide) ?_
  refine ck hx hj 150 (by decide) fun _ => ?_
  refine eq hx hj 150 (by decide) ?_
  exact rt (h _)

include hx hj in
theorem part61 (v2181 : BitVec 32) {R : sProp 𝕄}
    {Q : (Σ' (v2212 : Elt F .i32), k0_chk156 i v0 v28 v2212) → sProp 𝕄} (h : ∀ (w1 : k0_chk156 i v0 v28 (x (ix1 (pos i hj 153 (by decide))))), St c i arg5 x wd hb R 153 ⊢ Q ⟨x (ix1 (pos i hj 153 (by decide))), w1⟩) :
    St c i arg5 x wd hb R 151 ⊢ Wp c (k0_part61 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v2181) Q := by
  rw [k0_part61_eq_skeleton]; unfold k0_part61_skel
  refine ld hj 151 (by decide) ?_
  refine ck hx hj 151 (by decide) fun _ => ?_
  refine eq hx hj 151 (by decide) ?_
  refine ld hj 152 (by decide) ?_
  refine ck hx hj 152 (by decide) fun _ => ?_
  refine eq hx hj 152 (by decide) ?_
  refine ld hj 153 (by decide) ?_
  refine ck hx hj 153 (by decide) fun _ => ?_
  exact rt (h _)

include hx hj in
theorem part62 (u156 : k0_chk156 i v0 v28 (x (ix1 (pos i hj 153 (by decide))))) {R : sProp 𝕄}
    {Q : (Σ' (v2251 : BitVec 32) (v2254 : Elt F .i32), k0_chk159 i v0 v28 v2254) → sProp 𝕄} (h : ∀ (d0 : BitVec 32) (w2 : k0_chk159 i v0 v28 (x (ix1 (pos i hj 156 (by decide))))), St c i arg5 x wd hb R 156 ⊢ Q ⟨d0, x (ix1 (pos i hj 156 (by decide))), w2⟩) :
    St c i arg5 x wd hb R 153 ⊢ Wp c (k0_part62 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 153 (by decide)))) u156) Q := by
  rw [k0_part62_eq_skeleton]; unfold k0_part62_skel
  refine eq hx hj 153 (by decide) ?_
  refine ld hj 154 (by decide) ?_
  refine ck hx hj 154 (by decide) fun _ => ?_
  refine eq hx hj 154 (by decide) ?_
  refine ld hj 155 (by decide) ?_
  refine ck hx hj 155 (by decide) fun _ => ?_
  refine eq hx hj 155 (by decide) ?_
  refine ld hj 156 (by decide) ?_
  refine ck hx hj 156 (by decide) fun _ => ?_
  exact rt (h _ _)

include hx hj in
theorem part63 (v2251 : BitVec 32) (u159 : k0_chk159 i v0 v28 (x (ix1 (pos i hj 156 (by decide))))) {R : sProp 𝕄}
    {Q : (Σ' (v2292 : BitVec 32), BitVec 32) → sProp 𝕄} (h : ∀ (d0 : BitVec 32) (d1 : BitVec 32), St c i arg5 x wd hb R 159 ⊢ Q ⟨d0, d1⟩) :
    St c i arg5 x wd hb R 156 ⊢ Wp c (k0_part63 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v2251 (x (ix1 (pos i hj 156 (by decide)))) u159) Q := by
  rw [k0_part63_eq_skeleton]; unfold k0_part63_skel
  refine eq hx hj 156 (by decide) ?_
  refine ld hj 157 (by decide) ?_
  refine ck hx hj 157 (by decide) fun _ => ?_
  refine eq hx hj 157 (by decide) ?_
  refine ld hj 158 (by decide) ?_
  refine ck hx hj 158 (by decide) fun _ => ?_
  refine eq hx hj 158 (by decide) ?_
  exact rt (h _ _)

include hx hj in
theorem part64 (v2292 : BitVec 32) (c159_i32 : BitVec 32) {R : sProp 𝕄}
    {Q : (Σ' (v2324 : Elt F .i32), k0_chk164 i v0 v28 v2324) → sProp 𝕄} (h : ∀ (w1 : k0_chk164 i v0 v28 (x (ix1 (pos i hj 161 (by decide))))), St c i arg5 x wd hb R 161 ⊢ Q ⟨x (ix1 (pos i hj 161 (by decide))), w1⟩) :
    St c i arg5 x wd hb R 159 ⊢ Wp c (k0_part64 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v2292 c159_i32) Q := by
  rw [k0_part64_eq_skeleton]; unfold k0_part64_skel
  refine ld hj 159 (by decide) ?_
  refine ck hx hj 159 (by decide) fun _ => ?_
  refine eq hx hj 159 (by decide) ?_
  refine ld hj 160 (by decide) ?_
  refine ck hx hj 160 (by decide) fun _ => ?_
  refine eq hx hj 160 (by decide) ?_
  refine ld hj 161 (by decide) ?_
  refine ck hx hj 161 (by decide) fun _ => ?_
  exact rt (h _)

include hx hj in
theorem part65 (u164 : k0_chk164 i v0 v28 (x (ix1 (pos i hj 161 (by decide))))) {R : sProp 𝕄}
    {Q : (Σ' (v2363 : BitVec 32), Elt F .i32) → sProp 𝕄} (h : ∀ (d0 : BitVec 32), St c i arg5 x wd hb R 164 ⊢ Q ⟨d0, x (ix1 (pos i hj 164 (by decide)))⟩) :
    St c i arg5 x wd hb R 161 ⊢ Wp c (k0_part65 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 161 (by decide)))) u164) Q := by
  rw [k0_part65_eq_skeleton]; unfold k0_part65_skel
  refine eq hx hj 161 (by decide) ?_
  refine ld hj 162 (by decide) ?_
  refine ck hx hj 162 (by decide) fun _ => ?_
  refine eq hx hj 162 (by decide) ?_
  refine ld hj 163 (by decide) ?_
  refine ck hx hj 163 (by decide) fun _ => ?_
  refine eq hx hj 163 (by decide) ?_
  refine ld hj 164 (by decide) ?_
  exact rt (h _)

include hx hj in
theorem part66 (v2363 : BitVec 32) {R : sProp 𝕄}
    {Q : (Σ' (v2394 : Elt F .i32), k0_chk169 i v0 v28 v2394) → sProp 𝕄} (h : ∀ (w1 : k0_chk169 i v0 v28 (x (ix1 (pos i hj 166 (by decide))))), St c i arg5 x wd hb R 166 ⊢ Q ⟨x (ix1 (pos i hj 166 (by decide))), w1⟩) :
    St c i arg5 x wd hb R 164 ⊢ Wp c (k0_part66 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v2363 (x (ix1 (pos i hj 164 (by decide))))) Q := by
  rw [k0_part66_eq_skeleton]; unfold k0_part66_skel
  refine ck hx hj 164 (by decide) fun _ => ?_
  refine eq hx hj 164 (by decide) ?_
  refine ld hj 165 (by decide) ?_
  refine ck hx hj 165 (by decide) fun _ => ?_
  refine eq hx hj 165 (by decide) ?_
  refine ld hj 166 (by decide) ?_
  refine ck hx hj 166 (by decide) fun _ => ?_
  exact rt (h _)

include hx hj in
theorem part67 (u169 : k0_chk169 i v0 v28 (x (ix1 (pos i hj 166 (by decide))))) {R : sProp 𝕄}
    {Q : (Σ' (v2433 : BitVec 32) (v2436 : Elt F .i32) (k0_hw172 : k0_chk172 i v0 v28 v2436), BitVec 32) → sProp 𝕄} (h : ∀ (d0 : BitVec 32) (w2 : k0_chk172 i v0 v28 (x (ix1 (pos i hj 169 (by decide))))) (d3 : BitVec 32), St c i arg5 x wd hb R 169 ⊢ Q ⟨d0, x (ix1 (pos i hj 169 (by decide))), w2, d3⟩) :
    St c i arg5 x wd hb R 166 ⊢ Wp c (k0_part67 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 166 (by decide)))) u169) Q := by
  rw [k0_part67_eq_skeleton]; unfold k0_part67_skel
  refine eq hx hj 166 (by decide) ?_
  refine ld hj 167 (by decide) ?_
  refine ck hx hj 167 (by decide) fun _ => ?_
  refine eq hx hj 167 (by decide) ?_
  refine ld hj 168 (by decide) ?_
  refine ck hx hj 168 (by decide) fun _ => ?_
  refine eq hx hj 168 (by decide) ?_
  refine ld hj 169 (by decide) ?_
  refine ck hx hj 169 (by decide) fun _ => ?_
  exact rt (h _ _ _)

end Cert.Routed

end
-- ==== Proof.IssuesC.lean ====
/- The issues of one grid point, by the stretches the kernel text comes in: each stretch carries the state of the gather
   from the rows issued before it to those issued after it, and hands on the last token it loaded. -/
module

public import proofs.«01_k».proof.Proof.Issue

@[expose] public section

set_option maxRecDepth 16384

noncomputable section

namespace Cert.Routed

open Cert.KernelIdeal Cert.KernelIdeal.Gen
open Idealize.ShloMosaic Idealize.ShloMosaic.TcCoe
open Idealize.SL Idealize.SL.RA Idealize.SL.BI
open scoped Idealize.SL.BI
open Idealize.SL.BI.BIBase
open Idealize.ShloMosaic.ValueIdx (ix1 ix2 ix3)

variable {F : FTy → Type} [FloatOps F]

local notation "𝕄" => MT nD τ sig Unit (Elt F) ℕ (Pipeline.UD sig nD τ) ℕ

variable (c : Dev nD) (i : grid0.Coords) (arg2 : Memref sig .tc .smem S72 .i32) (harg2 : arg2.IsWhole) (arg3 : Memref sig .tc .smem S1 .i32)
  (harg3 : arg3.IsWhole) (arg4 : Memref sig .tc .smem S1024 .i32) (harg4 : arg4.IsWhole) (arg5 : Memref sig .tc .smem S1024 .i32) (harg5 : arg5.IsWhole)
  (harg6 : tokM.IsWhole) (arg7 : Memref sig .tc .vmem S1x1024x512 .f32) (harg7 : arg7.IsWhole)
  (arg8 : Memref sig .tc .vmem S1x1024x512 .f32) (harg8 : arg8.IsWhole) (arg9 : Memref sig .tc .vmem S1x512x1024 .f32) (harg9 : arg9.IsWhole)
  (arg10 : Memref sig .tc .vmem S8192x128 .f32) (harg10 : arg10.IsWhole) (harg11 : rowsM.IsWhole)
  (arg13 : Memref sig .tc .vmem S1024x1024 .bf16) (harg13 : arg13.IsWhole) (arg14 : Memref sig .tc .vmem S1024x1024 .f32) (harg14 : arg14.IsWhole)
  (x : S1024.Idx → BitVec 32) (wd : Fin 1024 → Fin 32768) (hx : ∀ r, (x (ix1 r)).toNat = (wd r).val) (hb : TokB F) (hj : (i 1).val < 4)
  (arg1 : BitVec 32) (v0 : Elt F .i32) (v11 : BitVec 32) (k0_h1 : k0_cond1 i v0 = 1#1) (v28 : Elt F .i32)
  (k0_hw2 : k0_chk2 i v0 v28) (k0_h4 : k0_cond4 i v28 = 1#1)

include hx hj in
theorem part68 (v2433 : BitVec 32) (u172 : k0_chk172 i v0 v28 (x (ix1 (pos i hj 169 (by decide))))) (c8_i32_1056 : BitVec 32) {R : sProp 𝕄}
    {Q : (BitVec 32) → sProp 𝕄} (h : ∀ (d0 : BitVec 32), St c i arg5 x wd hb R 172 ⊢ Q d0) :
    St c i arg5 x wd hb R 169 ⊢ Wp c (k0_part68 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v2433 (x (ix1 (pos i hj 169 (by decide)))) u172 c8_i32_1056) Q := by
  rw [k0_part68_eq_skeleton]; unfold k0_part68_skel
  refine eq hx hj 169 (by decide) ?_
  refine ld hj 170 (by decide) ?_
  refine ck hx hj 170 (by decide) fun _ => ?_
  refine eq hx hj 170 (by decide) ?_
  refine ld hj 171 (by decide) ?_
  refine ck hx hj 171 (by decide) fun _ => ?_
  refine eq hx hj 171 (by decide) ?_
  exact rt (h _)

include hx hj in
theorem part69 (v2475 : BitVec 32) {R : sProp 𝕄}
    {Q : (Σ' (v2506 : Elt F .i32), k0_chk177 i v0 v28 v2506) → sProp 𝕄} (h : ∀ (w1 : k0_chk177 i v0 v28 (x (ix1 (pos i hj 174 (by decide))))), St c i arg5 x wd hb R 174 ⊢ Q ⟨x (ix1 (pos i hj 174 (by decide))), w1⟩) :
    St c i arg5 x wd hb R 172 ⊢ Wp c (k0_part69 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v2475) Q := by
  rw [k0_part69_eq_skeleton]; unfold k0_part69_skel
  refine ld hj 172 (by decide) ?_
  refine ck hx hj 172 (by decide) fun _ => ?_
  refine eq hx hj 172 (by decide) ?_
  refine ld hj 173 (by decide) ?_
  refine ck hx hj 173 (by decide) fun _ => ?_
  refine eq hx hj 173 (by decide) ?_
  refine ld hj 174 (by decide) ?_
  refine ck hx hj 174 (by decide) fun _ => ?_
  exact rt (h _)

include hx hj in
theorem part70 (u177 : k0_chk177 i v0 v28 (x (ix1 (pos i hj 174 (by decide))))) {R : sProp 𝕄}
    {Q : (Σ' (v2545 : BitVec 32) (v2548 : Elt F .i32), k0_chk180 i v0 v28 v2548) → sProp 𝕄} (h : ∀ (d0 : BitVec 32) (w2 : k0_chk180 i v0 v28 (x (ix1 (pos i hj 177 (by decide))))), St c i arg5 x wd hb R 177 ⊢ Q ⟨d0, x (ix1 (pos i hj 177 (by decide))), w2⟩) :
    St c i arg5 x wd hb R 174 ⊢ Wp c (k0_part70 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 174 (by decide)))) u177) Q := by
  rw [k0_part70_eq_skeleton]; unfold k0_part70_skel
  refine eq hx hj 174 (by decide) ?_
  refine ld hj 175 (by decide) ?_
  refine ck hx hj 175 (by decide) fun _ => ?_
  refine eq hx hj 175 (by decide) ?_
  refine ld hj 176 (by decide) ?_
  refine ck hx hj 176 (by decide) fun _ => ?_
  refine eq hx hj 176 (by decide) ?_
  refine ld hj 177 (by decide) ?_
  refine ck hx hj 177 (by decide) fun _ => ?_
  exact rt (h _ _)

include hx hj in
theorem part71 (v2545 : BitVec 32) (u180 : k0_chk180 i v0 v28 (x (ix1 (pos i hj 177 (by decide))))) {R : sProp 𝕄}
    {Q : (PUnit) → sProp 𝕄} (h : St c i arg5 x wd hb R 180 ⊢ Q ⟨⟩) :
    St c i arg5 x wd hb R 177 ⊢ Wp c (k0_part71 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v2545 (x (ix1 (pos i hj 177 (by decide)))) u180) Q := by
  rw [k0_part71_eq_skeleton]; unfold k0_part71_skel
  refine eq hx hj 177 (by decide) ?_
  refine ld hj 178 (by decide) ?_
  refine ck hx hj 178 (by decide) fun _ => ?_
  refine eq hx hj 178 (by decide) ?_
  refine ld hj 179 (by decide) ?_
  refine ck hx hj 179 (by decide) fun _ => ?_
  refine eq hx hj 179 (by decide) ?_
  exact rt (h)

include hx hj in
theorem part72  {R : sProp 𝕄}
    {Q : (Σ' (v2618 : Elt F .i32) (k0_hw185 : k0_chk185 i v0 v28 v2618), BitVec 32) → sProp 𝕄} (h : ∀ (w1 : k0_chk185 i v0 v28 (x (ix1 (pos i hj 182 (by decide))))) (d2 : BitVec 32), St c i arg5 x wd hb R 182 ⊢ Q ⟨x (ix1 (pos i hj 182 (by decide))), w1, d2⟩) :
    St c i arg5 x wd hb R 180 ⊢ Wp c (k0_part72 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 ) Q := by
  rw [k0_part72_eq_skeleton]; unfold k0_part72_skel
  refine ld hj 180 (by decide) ?_
  refine ck hx hj 180 (by decide) fun _ => ?_
  refine eq hx hj 180 (by decide) ?_
  refine ld hj 181 (by decide) ?_
  refine ck hx hj 181 (by decide) fun _ => ?_
  refine eq hx hj 181 (by decide) ?_
  refine ld hj 182 (by decide) ?_
  refine ck hx hj 182 (by decide) fun _ => ?_
  exact rt (h _ _)

include hx hj in
theorem part73 (u185 : k0_chk185 i v0 v28 (x (ix1 (pos i hj 182 (by decide))))) (v2621 : BitVec 32) {R : sProp 𝕄}
    {Q : (Σ' (v2657 : BitVec 32), BitVec 32) → sProp 𝕄} (h : ∀ (d0 : BitVec 32) (d1 : BitVec 32), St c i arg5 x wd hb R 185 ⊢ Q ⟨d0, d1⟩) :
    St c i arg5 x wd hb R 182 ⊢ Wp c (k0_part73 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 182 (by decide)))) u185 v2621) Q := by
  rw [k0_part73_eq_skeleton]; unfold k0_part73_skel
  refine eq hx hj 182 (by decide) ?_
  refine ld hj 183 (by decide) ?_
  refine ck hx hj 183 (by decide) fun _ => ?_
  refine eq hx hj 183 (by decide) ?_
  refine ld hj 184 (by decide) ?_
  refine ck hx hj 184 (by decide) fun _ => ?_
  refine eq hx hj 184 (by decide) ?_
  exact rt (h _ _)

include hx hj in
theorem part74 (v2657 : BitVec 32) (c1_i32_1150 : BitVec 32) {R : sProp 𝕄}
    {Q : (Σ' (v2688 : Elt F .i32), k0_chk190 i v0 v28 v2688) → sProp 𝕄} (h : ∀ (w1 : k0_chk190 i v0 v28 (x (ix1 (pos i hj 187 (by decide))))), St c i arg5 x wd hb R 187 ⊢ Q ⟨x (ix1 (pos i hj 187 (by decide))), w1⟩) :
    St c i arg5 x wd hb R 185 ⊢ Wp c (k0_part74 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v2657 c1_i32_1150) Q := by
  rw [k0_part74_eq_skeleton]; unfold k0_part74_skel
  refine ld hj 185 (by decide) ?_
  refine ck hx hj 185 (by decide) fun _ => ?_
  refine eq hx hj 185 (by decide) ?_
  refine ld hj 186 (by decide) ?_
  refine ck hx hj 186 (by decide) fun _ => ?_
  refine eq hx hj 186 (by decide) ?_
  refine ld hj 187 (by decide) ?_
  refine ck hx hj 187 (by decide) fun _ => ?_
  exact rt (h _)

include hx hj in
theorem part75 (u190 : k0_chk190 i v0 v28 (x (ix1 (pos i hj 187 (by decide))))) {R : sProp 𝕄}
    {Q : (Σ' (v2727 : BitVec 32) (v2730 : Elt F .i32) (k0_hw193 : k0_chk193 i v0 v28 v2730), BitVec 32) → sProp 𝕄} (h : ∀ (d0 : BitVec 32) (w2 : k0_chk193 i v0 v28 (x (ix1 (pos i hj 190 (by decide))))) (d3 : BitVec 32), St c i arg5 x wd hb R 190 ⊢ Q ⟨d0, x (ix1 (pos i hj 190 (by decide))), w2, d3⟩) :
    St c i arg5 x wd hb R 187 ⊢ Wp c (k0_part75 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 187 (by decide)))) u190) Q := by
  rw [k0_part75_eq_skeleton]; unfold k0_part75_skel
  refine eq hx hj 187 (by decide) ?_
  refine ld hj 188 (by decide) ?_
  refine ck hx hj 188 (by decide) fun _ => ?_
  refine eq hx hj 188 (by decide) ?_
  refine ld hj 189 (by decide) ?_
  refine ck hx hj 189 (by decide) fun _ => ?_
  refine eq hx hj 189 (by decide) ?_
  refine ld hj 190 (by decide) ?_
  refine ck hx hj 190 (by decide) fun _ => ?_
  exact rt (h _ _ _)

include hx hj in
theorem part76 (v2727 : BitVec 32) (u193 : k0_chk193 i v0 v28 (x (ix1 (pos i hj 190 (by decide))))) (c8_i32_1181 : BitVec 32) {R : sProp 𝕄}
    {Q : (BitVec 32) → sProp 𝕄} (h : ∀ (d0 : BitVec 32), St c i arg5 x wd hb R 193 ⊢ Q d0) :
    St c i arg5 x wd hb R 190 ⊢ Wp c (k0_part76 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v2727 (x (ix1 (pos i hj 190 (by decide)))) u193 c8_i32_1181) Q := by
  rw [k0_part76_eq_skeleton]; unfold k0_part76_skel
  refine eq hx hj 190 (by decide) ?_
  refine ld hj 191 (by decide) ?_
  refine ck hx hj 191 (by decide) fun _ => ?_
  refine eq hx hj 191 (by decide) ?_
  refine ld hj 192 (by decide) ?_
  refine ck hx hj 192 (by decide) fun _ => ?_
  refine eq hx hj 192 (by decide) ?_
  exact rt (h _)

include hx hj in
theorem part77 (c256_i32_1197 : BitVec 32) {R : sProp 𝕄}
    {Q : (Σ' (v2800 : Elt F .i32), k0_chk198 i v0 v28 v2800) → sProp 𝕄} (h : ∀ (w1 : k0_chk198 i v0 v28 (x (ix1 (pos i hj 195 (by decide))))), St c i arg5 x wd hb R 195 ⊢ Q ⟨x (ix1 (pos i hj 195 (by decide))), w1⟩) :
    St c i arg5 x wd hb R 193 ⊢ Wp c (k0_part77 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 c256_i32_1197) Q := by
  rw [k0_part77_eq_skeleton]; unfold k0_part77_skel
  refine ld hj 193 (by decide) ?_
  refine ck hx hj 193 (by decide) fun _ => ?_
  refine eq hx hj 193 (by decide) ?_
  refine ld hj 194 (by decide) ?_
  refine ck hx hj 194 (by decide) fun _ => ?_
  refine eq hx hj 194 (by decide) ?_
  refine ld hj 195 (by decide) ?_
  refine ck hx hj 195 (by decide) fun _ => ?_
  exact rt (h _)

include hx hj in
theorem part78 (u198 : k0_chk198 i v0 v28 (x (ix1 (pos i hj 195 (by decide))))) {R : sProp 𝕄}
    {Q : (BitVec 32) → sProp 𝕄} (h : ∀ (d0 : BitVec 32), St c i arg5 x wd hb R 198 ⊢ Q d0) :
    St c i arg5 x wd hb R 195 ⊢ Wp c (k0_part78 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 195 (by decide)))) u198) Q := by
  rw [k0_part78_eq_skeleton]; unfold k0_part78_skel
  refine eq hx hj 195 (by decide) ?_
  refine ld hj 196 (by decide) ?_
  refine ck hx hj 196 (by decide) fun _ => ?_
  refine eq hx hj 196 (by decide) ?_
  refine ld hj 197 (by decide) ?_
  refine ck hx hj 197 (by decide) fun _ => ?_
  refine eq hx hj 197 (by decide) ?_
  exact rt (h _)

include hx hj in
theorem part79 (v2839 : BitVec 32) {R : sProp 𝕄}
    {Q : (Σ' (v2870 : Elt F .i32), k0_chk203 i v0 v28 v2870) → sProp 𝕄} (h : ∀ (w1 : k0_chk203 i v0 v28 (x (ix1 (pos i hj 200 (by decide))))), St c i arg5 x wd hb R 200 ⊢ Q ⟨x (ix1 (pos i hj 200 (by decide))), w1⟩) :
    St c i arg5 x wd hb R 198 ⊢ Wp c (k0_part79 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v2839) Q := by
  rw [k0_part79_eq_skeleton]; unfold k0_part79_skel
  refine ld hj 198 (by decide) ?_
  refine ck hx hj 198 (by decide) fun _ => ?_
  refine eq hx hj 198 (by decide) ?_
  refine ld hj 199 (by decide) ?_
  refine ck hx hj 199 (by decide) fun _ => ?_
  refine eq hx hj 199 (by decide) ?_
  refine ld hj 200 (by decide) ?_
  refine ck hx hj 200 (by decide) fun _ => ?_
  exact rt (h _)

include hx hj in
theorem part80 (u203 : k0_chk203 i v0 v28 (x (ix1 (pos i hj 200 (by decide))))) {R : sProp 𝕄}
    {Q : (Σ' (v2909 : BitVec 32) (v2912 : Elt F .i32) (k0_hw206 : k0_chk206 i v0 v28 v2912), BitVec 32) → sProp 𝕄} (h : ∀ (d0 : BitVec 32) (w2 : k0_chk206 i v0 v28 (x (ix1 (pos i hj 203 (by decide))))) (d3 : BitVec 32), St c i arg5 x wd hb R 203 ⊢ Q ⟨d0, x (ix1 (pos i hj 203 (by decide))), w2, d3⟩) :
    St c i arg5 x wd hb R 200 ⊢ Wp c (k0_part80 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 200 (by decide)))) u203) Q := by
  rw [k0_part80_eq_skeleton]; unfold k0_part80_skel
  refine eq hx hj 200 (by decide) ?_
  refine ld hj 201 (by decide) ?_
  refine ck hx hj 201 (by decide) fun _ => ?_
  refine eq hx hj 201 (by decide) ?_
  refine ld hj 202 (by decide) ?_
  refine ck hx hj 202 (by decide) fun _ => ?_
  refine eq hx hj 202 (by decide) ?_
  refine ld hj 203 (by decide) ?_
  refine ck hx hj 203 (by decide) fun _ => ?_
  exact rt (h _ _ _)

include hx hj in
theorem part81 (v2909 : BitVec 32) (u206 : k0_chk206 i v0 v28 (x (ix1 (pos i hj 203 (by decide))))) (v2913 : BitVec 32) {R : sProp 𝕄}
    {Q : (BitVec 32) → sProp 𝕄} (h : ∀ (d0 : BitVec 32), St c i arg5 x wd hb R 206 ⊢ Q d0) :
    St c i arg5 x wd hb R 203 ⊢ Wp c (k0_part81 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v2909 (x (ix1 (pos i hj 203 (by decide)))) u206 v2913) Q := by
  rw [k0_part81_eq_skeleton]; unfold k0_part81_skel
  refine eq hx hj 203 (by decide) ?_
  refine ld hj 204 (by decide) ?_
  refine ck hx hj 204 (by decide) fun _ => ?_
  refine eq hx hj 204 (by decide) ?_
  refine ld hj 205 (by decide) ?_
  refine ck hx hj 205 (by decide) fun _ => ?_
  refine eq hx hj 205 (by decide) ?_
  exact rt (h _)

include hx hj in
theorem part82 (v2950 : BitVec 32) {R : sProp 𝕄}
    {Q : (Σ' (v2982 : Elt F .i32), k0_chk211 i v0 v28 v2982) → sProp 𝕄} (h : ∀ (w1 : k0_chk211 i v0 v28 (x (ix1 (pos i hj 208 (by decide))))), St c i arg5 x wd hb R 208 ⊢ Q ⟨x (ix1 (pos i hj 208 (by decide))), w1⟩) :
    St c i arg5 x wd hb R 206 ⊢ Wp c (k0_part82 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v2950) Q := by
  rw [k0_part82_eq_skeleton]; unfold k0_part82_skel
  refine ld hj 206 (by decide) ?_
  refine ck hx hj 206 (by decide) fun _ => ?_
  refine eq hx hj 206 (by decide) ?_
  refine ld hj 207 (by decide) ?_
  refine ck hx hj 207 (by decide) fun _ => ?_
  refine eq hx hj 207 (by decide) ?_
  refine ld hj 208 (by decide) ?_
  refine ck hx hj 208 (by decide) fun _ => ?_
  exact rt (h _)

include hx hj in
theorem part83 (u211 : k0_chk211 i v0 v28 (x (ix1 (pos i hj 208 (by decide))))) {R : sProp 𝕄}
    {Q : (BitVec 32) → sProp 𝕄} (h : ∀ (d0 : BitVec 32), St c i arg5 x wd hb R 211 ⊢ Q d0) :
    St c i arg5 x wd hb R 208 ⊢ Wp c (k0_part83 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 208 (by decide)))) u211) Q := by
  rw [k0_part83_eq_skeleton]; unfold k0_part83_skel
  refine eq hx hj 208 (by decide) ?_
  refine ld hj 209 (by decide) ?_
  refine ck hx hj 209 (by decide) fun _ => ?_
  refine eq hx hj 209 (by decide) ?_
  refine ld hj 210 (by decide) ?_
  refine ck hx hj 210 (by decide) fun _ => ?_
  refine eq hx hj 210 (by decide) ?_
  exact rt (h _)

include hx hj in
theorem part84 (v3021 : BitVec 32) {R : sProp 𝕄}
    {Q : (Σ' (v3052 : Elt F .i32), k0_chk216 i v0 v28 v3052) → sProp 𝕄} (h : ∀ (w1 : k0_chk216 i v0 v28 (x (ix1 (pos i hj 213 (by decide))))), St c i arg5 x wd hb R 213 ⊢ Q ⟨x (ix1 (pos i hj 213 (by decide))), w1⟩) :
    St c i arg5 x wd hb R 211 ⊢ Wp c (k0_part84 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v3021) Q := by
  rw [k0_part84_eq_skeleton]; unfold k0_part84_skel
  refine ld hj 211 (by decide) ?_
  refine ck hx hj 211 (by decide) fun _ => ?_
  refine eq hx hj 211 (by decide) ?_
  refine ld hj 212 (by decide) ?_
  refine ck hx hj 212 (by decide) fun _ => ?_
  refine eq hx hj 212 (by decide) ?_
  refine ld hj 213 (by decide) ?_
  refine ck hx hj 213 (by decide) fun _ => ?_
  exact rt (h _)

include hx hj in
theorem part85 (u216 : k0_chk216 i v0 v28 (x (ix1 (pos i hj 213 (by decide))))) {R : sProp 𝕄}
    {Q : (Σ' (v3091 : BitVec 32) (v3094 : Elt F .i32), k0_chk219 i v0 v28 v3094) → sProp 𝕄} (h : ∀ (d0 : BitVec 32) (w2 : k0_chk219 i v0 v28 (x (ix1 (pos i hj 216 (by decide))))), St c i arg5 x wd hb R 216 ⊢ Q ⟨d0, x (ix1 (pos i hj 216 (by decide))), w2⟩) :
    St c i arg5 x wd hb R 213 ⊢ Wp c (k0_part85 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 213 (by decide)))) u216) Q := by
  rw [k0_part85_eq_skeleton]; unfold k0_part85_skel
  refine eq hx hj 213 (by decide) ?_
  refine ld hj 214 (by decide) ?_
  refine ck hx hj 214 (by decide) fun _ => ?_
  refine eq hx hj 214 (by decide) ?_
  refine ld hj 215 (by decide) ?_
  refine ck hx hj 215 (by decide) fun _ => ?_
  refine eq hx hj 215 (by decide) ?_
  refine ld hj 216 (by decide) ?_
  refine ck hx hj 216 (by decide) fun _ => ?_
  exact rt (h _ _)

include hx hj in
theorem part86 (v3091 : BitVec 32) (u219 : k0_chk219 i v0 v28 (x (ix1 (pos i hj 216 (by decide))))) {R : sProp 𝕄}
    {Q : (Σ' (v3132 : BitVec 32), BitVec 32) → sProp 𝕄} (h : ∀ (d0 : BitVec 32) (d1 : BitVec 32), St c i arg5 x wd hb R 219 ⊢ Q ⟨d0, d1⟩) :
    St c i arg5 x wd hb R 216 ⊢ Wp c (k0_part86 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v3091 (x (ix1 (pos i hj 216 (by decide)))) u219) Q := by
  rw [k0_part86_eq_skeleton]; unfold k0_part86_skel
  refine eq hx hj 216 (by decide) ?_
  refine ld hj 217 (by decide) ?_
  refine ck hx hj 217 (by decide) fun _ => ?_
  refine eq hx hj 217 (by decide) ?_
  refine ld hj 218 (by decide) ?_
  refine ck hx hj 218 (by decide) fun _ => ?_
  refine eq hx hj 218 (by decide) ?_
  exact rt (h _ _)

include hx hj in
theorem part87 (v3132 : BitVec 32) (c219_i32 : BitVec 32) {R : sProp 𝕄}
    {Q : (Σ' (v3164 : Elt F .i32), k0_chk224 i v0 v28 v3164) → sProp 𝕄} (h : ∀ (w1 : k0_chk224 i v0 v28 (x (ix1 (pos i hj 221 (by decide))))), St c i arg5 x wd hb R 221 ⊢ Q ⟨x (ix1 (pos i hj 221 (by decide))), w1⟩) :
    St c i arg5 x wd hb R 219 ⊢ Wp c (k0_part87 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v3132 c219_i32) Q := by
  rw [k0_part87_eq_skeleton]; unfold k0_part87_skel
  refine ld hj 219 (by decide) ?_
  refine ck hx hj 219 (by decide) fun _ => ?_
  refine eq hx hj 219 (by decide) ?_
  refine ld hj 220 (by decide) ?_
  refine ck hx hj 220 (by decide) fun _ => ?_
  refine eq hx hj 220 (by decide) ?_
  refine ld hj 221 (by decide) ?_
  refine ck hx hj 221 (by decide) fun _ => ?_
  exact rt (h _)

include hx hj in
theorem part88 (u224 : k0_chk224 i v0 v28 (x (ix1 (pos i hj 221 (by decide))))) {R : sProp 𝕄}
    {Q : (Σ' (v3203 : BitVec 32), Elt F .i32) → sProp 𝕄} (h : ∀ (d0 : BitVec 32), St c i arg5 x wd hb R 224 ⊢ Q ⟨d0, x (ix1 (pos i hj 224 (by decide)))⟩) :
    St c i arg5 x wd hb R 221 ⊢ Wp c (k0_part88 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 221 (by decide)))) u224) Q := by
  rw [k0_part88_eq_skeleton]; unfold k0_part88_skel
  refine eq hx hj 221 (by decide) ?_
  refine ld hj 222 (by decide) ?_
  refine ck hx hj 222 (by decide) fun _ => ?_
  refine eq hx hj 222 (by decide) ?_
  refine ld hj 223 (by decide) ?_
  refine ck hx hj 223 (by decide) fun _ => ?_
  refine eq hx hj 223 (by decide) ?_
  refine ld hj 224 (by decide) ?_
  exact rt (h _)

include hx hj in
theorem part89 (v3203 : BitVec 32) {R : sProp 𝕄}
    {Q : (Σ' (v3234 : Elt F .i32), k0_chk229 i v0 v28 v3234) → sProp 𝕄} (h : ∀ (w1 : k0_chk229 i v0 v28 (x (ix1 (pos i hj 226 (by decide))))), St c i arg5 x wd hb R 226 ⊢ Q ⟨x (ix1 (pos i hj 226 (by decide))), w1⟩) :
    St c i arg5 x wd hb R 224 ⊢ Wp c (k0_part89 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v3203 (x (ix1 (pos i hj 224 (by decide))))) Q := by
  rw [k0_part89_eq_skeleton]; unfold k0_part89_skel
  refine ck hx hj 224 (by decide) fun _ => ?_
  refine eq hx hj 224 (by decide) ?_
  refine ld hj 225 (by decide) ?_
  refine ck hx hj 225 (by decide) fun _ => ?_
  refine eq hx hj 225 (by decide) ?_
  refine ld hj 226 (by decide) ?_
  refine ck hx hj 226 (by decide) fun _ => ?_
  exact rt (h _)

include hx hj in
theorem part90 (u229 : k0_chk229 i v0 v28 (x (ix1 (pos i hj 226 (by decide))))) {R : sProp 𝕄}
    {Q : (Σ' (v3273 : BitVec 32) (v3276 : Elt F .i32) (k0_hw232 : k0_chk232 i v0 v28 v3276), BitVec 32) → sProp 𝕄} (h : ∀ (d0 : BitVec 32) (w2 : k0_chk232 i v0 v28 (x (ix1 (pos i hj 229 (by decide))))) (d3 : BitVec 32), St c i arg5 x wd hb R 229 ⊢ Q ⟨d0, x (ix1 (pos i hj 229 (by decide))), w2, d3⟩) :
    St c i arg5 x wd hb R 226 ⊢ Wp c (k0_part90 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 226 (by decide)))) u229) Q := by
  rw [k0_part90_eq_skeleton]; unfold k0_part90_skel
  refine eq hx hj 226 (by decide) ?_
  refine ld hj 227 (by decide) ?_
  refine ck hx hj 227 (by decide) fun _ => ?_
  refine eq hx hj 227 (by decide) ?_
  refine ld hj 228 (by decide) ?_
  refine ck hx hj 228 (by decide) fun _ => ?_
  refine eq hx hj 228 (by decide) ?_
  refine ld hj 229 (by decide) ?_
  refine ck hx hj 229 (by decide) fun _ => ?_
  exact rt (h _ _ _)

include hx hj in
theorem part91 (v3273 : BitVec 32) (u232 : k0_chk232 i v0 v28 (x (ix1 (pos i hj 229 (by decide))))) (c8_i32_1416 : BitVec 32) {R : sProp 𝕄}
    {Q : (BitVec 32) → sProp 𝕄} (h : ∀ (d0 : BitVec 32), St c i arg5 x wd hb R 232 ⊢ Q d0) :
    St c i arg5 x wd hb R 229 ⊢ Wp c (k0_part91 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v3273 (x (ix1 (pos i hj 229 (by decide)))) u232 c8_i32_1416) Q := by
  rw [k0_part91_eq_skeleton]; unfold k0_part91_skel
  refine eq hx hj 229 (by decide) ?_
  refine ld hj 230 (by decide) ?_
  refine ck hx hj 230 (by decide) fun _ => ?_
  refine eq hx hj 230 (by decide) ?_
  refine ld hj 231 (by decide) ?_
  refine ck hx hj 231 (by decide) fun _ => ?_
  refine eq hx hj 231 (by decide) ?_
  exact rt (h _)

include hx hj in
theorem part92 (v3315 : BitVec 32) {R : sProp 𝕄}
    {Q : (Σ' (v3346 : Elt F .i32), k0_chk237 i v0 v28 v3346) → sProp 𝕄} (h : ∀ (w1 : k0_chk237 i v0 v28 (x (ix1 (pos i hj 234 (by decide))))), St c i arg5 x wd hb R 234 ⊢ Q ⟨x (ix1 (pos i hj 234 (by decide))), w1⟩) :
    St c i arg5 x wd hb R 232 ⊢ Wp c (k0_part92 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v3315) Q := by
  rw [k0_part92_eq_skeleton]; unfold k0_part92_skel
  refine ld hj 232 (by decide) ?_
  refine ck hx hj 232 (by decide) fun _ => ?_
  refine eq hx hj 232 (by decide) ?_
  refine ld hj 233 (by decide) ?_
  refine ck hx hj 233 (by decide) fun _ => ?_
  refine eq hx hj 233 (by decide) ?_
  refine ld hj 234 (by decide) ?_
  refine ck hx hj 234 (by decide) fun _ => ?_
  exact rt (h _)

include hx hj in
theorem part93 (u237 : k0_chk237 i v0 v28 (x (ix1 (pos i hj 234 (by decide))))) {R : sProp 𝕄}
    {Q : (Σ' (v3385 : BitVec 32) (v3388 : Elt F .i32), k0_chk240 i v0 v28 v3388) → sProp 𝕄} (h : ∀ (d0 : BitVec 32) (w2 : k0_chk240 i v0 v28 (x (ix1 (pos i hj 237 (by decide))))), St c i arg5 x wd hb R 237 ⊢ Q ⟨d0, x (ix1 (pos i hj 237 (by decide))), w2⟩) :
    St c i arg5 x wd hb R 234 ⊢ Wp c (k0_part93 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 234 (by decide)))) u237) Q := by
  rw [k0_part93_eq_skeleton]; unfold k0_part93_skel
  refine eq hx hj 234 (by decide) ?_
  refine ld hj 235 (by decide) ?_
  refine ck hx hj 235 (by decide) fun _ => ?_
  refine eq hx hj 235 (by decide) ?_
  refine ld hj 236 (by decide) ?_
  refine ck hx hj 236 (by decide) fun _ => ?_
  refine eq hx hj 236 (by decide) ?_
  refine ld hj 237 (by decide) ?_
  refine ck hx hj 237 (by decide) fun _ => ?_
  exact rt (h _ _)

include hx hj in
theorem part94 (v3385 : BitVec 32) (u240 : k0_chk240 i v0 v28 (x (ix1 (pos i hj 237 (by decide))))) {R : sProp 𝕄}
    {Q : (PUnit) → sProp 𝕄} (h : St c i arg5 x wd hb R 240 ⊢ Q ⟨⟩) :
    St c i arg5 x wd hb R 237 ⊢ Wp c (k0_part94 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v3385 (x (ix1 (pos i hj 237 (by decide)))) u240) Q := by
  rw [k0_part94_eq_skeleton]; unfold k0_part94_skel
  refine eq hx hj 237 (by decide) ?_
  refine ld hj 238 (by decide) ?_
  refine ck hx hj 238 (by decide) fun _ => ?_
  refine eq hx hj 238 (by decide) ?_
  refine ld hj 239 (by decide) ?_
  refine ck hx hj 239 (by decide) fun _ => ?_
  refine eq hx hj 239 (by decide) ?_
  exact rt (h)

include hx hj in
theorem part95  {R : sProp 𝕄}
    {Q : (Σ' (v3458 : Elt F .i32) (k0_hw245 : k0_chk245 i v0 v28 v3458), BitVec 32) → sProp 𝕄} (h : ∀ (w1 : k0_chk245 i v0 v28 (x (ix1 (pos i hj 242 (by decide))))) (d2 : BitVec 32), St c i arg5 x wd hb R 242 ⊢ Q ⟨x (ix1 (pos i hj 242 (by decide))), w1, d2⟩) :
    St c i arg5 x wd hb R 240 ⊢ Wp c (k0_part95 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 ) Q := by
  rw [k0_part95_eq_skeleton]; unfold k0_part95_skel
  refine ld hj 240 (by decide) ?_
  refine ck hx hj 240 (by decide) fun _ => ?_
  refine eq hx hj 240 (by decide) ?_
  refine ld hj 241 (by decide) ?_
  refine ck hx hj 241 (by decide) fun _ => ?_
  refine eq hx hj 241 (by decide) ?_
  refine ld hj 242 (by decide) ?_
  refine ck hx hj 242 (by decide) fun _ => ?_
  exact rt (h _ _)

include hx hj in
theorem part96 (u245 : k0_chk245 i v0 v28 (x (ix1 (pos i hj 242 (by decide))))) (v3461 : BitVec 32) {R : sProp 𝕄}
    {Q : (Σ' (v3497 : BitVec 32), BitVec 32) → sProp 𝕄} (h : ∀ (d0 : BitVec 32) (d1 : BitVec 32), St c i arg5 x wd hb R 245 ⊢ Q ⟨d0, d1⟩) :
    St c i arg5 x wd hb R 242 ⊢ Wp c (k0_part96 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 242 (by decide)))) u245 v3461) Q := by
  rw [k0_part96_eq_skeleton]; unfold k0_part96_skel
  refine eq hx hj 242 (by decide) ?_
  refine ld hj 243 (by decide) ?_
  refine ck hx hj 243 (by decide) fun _ => ?_
  refine eq hx hj 243 (by decide) ?_
  refine ld hj 244 (by decide) ?_
  refine ck hx hj 244 (by decide) fun _ => ?_
  refine eq hx hj 244 (by decide) ?_
  exact rt (h _ _)

include hx hj in
theorem part97 (v3497 : BitVec 32) (c1_i32_1510 : BitVec 32) {R : sProp 𝕄}
    {Q : (Σ' (v3528 : Elt F .i32), k0_chk250 i v0 v28 v3528) → sProp 𝕄} (h : ∀ (w1 : k0_chk250 i v0 v28 (x (ix1 (pos i hj 247 (by decide))))), St c i arg5 x wd hb R 247 ⊢ Q ⟨x (ix1 (pos i hj 247 (by decide))), w1⟩) :
    St c i arg5 x wd hb R 245 ⊢ Wp c (k0_part97 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v3497 c1_i32_1510) Q := by
  rw [k0_part97_eq_skeleton]; unfold k0_part97_skel
  refine ld hj 245 (by decide) ?_
  refine ck hx hj 245 (by decide) fun _ => ?_
  refine eq hx hj 245 (by decide) ?_
  refine ld hj 246 (by decide) ?_
  refine ck hx hj 246 (by decide) fun _ => ?_
  refine eq hx hj 246 (by decide) ?_
  refine ld hj 247 (by decide) ?_
  refine ck hx hj 247 (by decide) fun _ => ?_
  exact rt (h _)

include hx hj in
theorem part98 (u250 : k0_chk250 i v0 v28 (x (ix1 (pos i hj 247 (by decide))))) {R : sProp 𝕄}
    {Q : (Σ' (v3567 : BitVec 32) (v3570 : Elt F .i32) (k0_hw253 : k0_chk253 i v0 v28 v3570), BitVec 32) → sProp 𝕄} (h : ∀ (d0 : BitVec 32) (w2 : k0_chk253 i v0 v28 (x (ix1 (pos i hj 250 (by decide))))) (d3 : BitVec 32), St c i arg5 x wd hb R 250 ⊢ Q ⟨d0, x (ix1 (pos i hj 250 (by decide))), w2, d3⟩) :
    St c i arg5 x wd hb R 247 ⊢ Wp c (k0_part98 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 (x (ix1 (pos i hj 247 (by decide)))) u250) Q := by
  rw [k0_part98_eq_skeleton]; unfold k0_part98_skel
  refine eq hx hj 247 (by decide) ?_
  refine ld hj 248 (by decide) ?_
  refine ck hx hj 248 (by decide) fun _ => ?_
  refine eq hx hj 248 (by decide) ?_
  refine ld hj 249 (by decide) ?_
  refine ck hx hj 249 (by decide) fun _ => ?_
  refine eq hx hj 249 (by decide) ?_
  refine ld hj 250 (by decide) ?_
  refine ck hx hj 250 (by decide) fun _ => ?_
  exact rt (h _ _ _)

include hx hj in
theorem part99 (v3567 : BitVec 32) (u253 : k0_chk253 i v0 v28 (x (ix1 (pos i hj 250 (by decide))))) (c8_i32_1541 : BitVec 32) {R : sProp 𝕄}
    {Q : (BitVec 32) → sProp 𝕄} (h : ∀ (d0 : BitVec 32), St c i arg5 x wd hb R 253 ⊢ Q d0) :
    St c i arg5 x wd hb R 250 ⊢ Wp c (k0_part99 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 v3567 (x (ix1 (pos i hj 250 (by decide)))) u253 c8_i32_1541) Q := by
  rw [k0_part99_eq_skeleton]; unfold k0_part99_skel
  refine eq hx hj 250 (by decide) ?_
  refine ld hj 251 (by decide) ?_
  refine ck hx hj 251 (by decide) fun _ => ?_
  refine eq hx hj 251 (by decide) ?_
  refine ld hj 252 (by decide) ?_
  refine ck hx hj 252 (by decide) fun _ => ?_
  refine eq hx hj 252 (by decide) ?_
  exact rt (h _)

include hx hj in
theorem part100 (c256_i32_1557 : BitVec 32) {R : sProp 𝕄}
    {Q : (Σ' (v3640 : Elt F .i32), k0_chk258 i v0 v28 v3640) → sProp 𝕄} (h : ∀ (w1 : k0_chk258 i v0 v28 (x (ix1 (pos i hj 255 (by decide))))), St c i arg5 x wd hb R 255 ⊢ Q ⟨x (ix1 (pos i hj 255 (by decide))), w1⟩) :
    St c i arg5 x wd hb R 253 ⊢ Wp c (k0_part100 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4 c256_i32_1557) Q := by
  rw [k0_part100_eq_skeleton]; unfold k0_part100_skel
  refine ld hj 253 (by decide) ?_
  refine ck hx hj 253 (by decide) fun _ => ?_
  refine eq hx hj 253 (by decide) ?_
  refine ld hj 254 (by decide) ?_
  refine ck hx hj 254 (by decide) fun _ => ?_
  refine eq hx hj 254 (by decide) ?_
  refine ld hj 255 (by decide) ?_
  refine ck hx hj 255 (by decide) fun _ => ?_
  exact rt (h _)

end Cert.Routed

end
-- ==== Proof.Issues.lean ====
/- All 256 issues of one grid point. -/
module

public import proofs.«01_k».proof.Proof.IssuesA
public import proofs.«01_k».proof.Proof.IssuesB
public import proofs.«01_k».proof.Proof.IssuesC

@[expose] public section

set_option maxRecDepth 16384

noncomputable section

namespace Cert.Routed

open Cert.KernelIdeal Cert.KernelIdeal.Gen
open Idealize.ShloMosaic Idealize.ShloMosaic.TcCoe
open Idealize.SL Idealize.SL.RA Idealize.SL.BI
open scoped Idealize.SL.BI
open Idealize.SL.BI.BIBase
open Idealize.ShloMosaic.ValueIdx (ix1 ix2 ix3)

variable {F : FTy → Type} [FloatOps F]

local notation "𝕄" => MT nD τ sig Unit (Elt F) ℕ (Pipeline.UD sig nD τ) ℕ

variable (c : Dev nD) (i : grid0.Coords) (arg2 : Memref sig .tc .smem S72 .i32) (harg2 : arg2.IsWhole) (arg3 : Memref sig .tc .smem S1 .i32)
  (harg3 : arg3.IsWhole) (arg4 : Memref sig .tc .smem S1024 .i32) (harg4 : arg4.IsWhole) (arg5 : Memref sig .tc .smem S1024 .i32) (harg5 : arg5.IsWhole)
  (harg6 : tokM.IsWhole) (arg7 : Memref sig .tc .vmem S1x1024x512 .f32) (harg7 : arg7.IsWhole)
  (arg8 : Memref sig .tc .vmem S1x1024x512 .f32) (harg8 : arg8.IsWhole) (arg9 : Memref sig .tc .vmem S1x512x1024 .f32) (harg9 : arg9.IsWhole)
  (arg10 : Memref sig .tc .vmem S8192x128 .f32) (harg10 : arg10.IsWhole) (harg11 : rowsM.IsWhole)
  (arg13 : Memref sig .tc .vmem S1024x1024 .bf16) (harg13 : arg13.IsWhole) (arg14 : Memref sig .tc .vmem S1024x1024 .f32) (harg14 : arg14.IsWhole)
  (x : S1024.Idx → BitVec 32) (wd : Fin 1024 → Fin 32768) (hx : ∀ r, (x (ix1 r)).toNat = (wd r).val) (hb : TokB F) (hj : (i 1).val < 4)
  (arg1 : BitVec 32) (v0 : Elt F .i32) (v11 : BitVec 32) (k0_h1 : k0_cond1 i v0 = 1#1) (v28 : Elt F .i32)
  (k0_hw2 : k0_chk2 i v0 v28) (k0_h4 : k0_cond4 i v28 = 1#1)

include hx hj in
theorem part101 {R : sProp 𝕄} {Q : (Σ' (v2251 : BitVec 32) (v2254 : Elt F .i32), k0_chk159 i v0 v28 v2254) → sProp 𝕄} (h : ∀ (d0 : BitVec 32) (w2 : k0_chk159 i v0 v28 (x (ix1 (pos i hj 156 (by decide))))), St c i arg5 x wd hb R 156 ⊢ Q ⟨d0, x (ix1 (pos i hj 156 (by decide))), w2⟩) :
    St c i arg5 x wd hb R 0 ⊢ Wp c (k0_part101 i arg2 harg2 arg3 harg3 arg4 harg4 arg5 harg5 tokM harg6 arg7 harg7 arg8 harg8 arg9 harg9 arg10 harg10 rowsM harg11 cc0_scratch1 arg13 harg13 arg14 harg14 arg1 v0 v11 k0_h1 v28 k0_hw2 k0_h4) Q := by
  rw [k0_part101_eq_skeleton]; unfold k0_part101_skel
  refine sq (part3 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4  (h := fun _ _ => ?_))
  refine sq (part4 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ _ (h := fun _ _ => ?_))
  refine sq (part5 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ _ (h := fun _ => ?_))
  refine sq (part6 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ _ _ => ?_))
  refine sq (part7 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ _ _ (h := fun _ => ?_))
  refine sq (part8 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ => ?_))
  refine sq (part9 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ => ?_))
  refine sq (part10 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ => ?_))
  refine sq (part11 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ _ _ => ?_))
  refine sq (part12 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ _ _ (h := fun _ => ?_))
  refine sq (part13 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ => ?_))
  refine sq (part14 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ => ?_))
  refine sq (part15 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ => ?_))
  refine sq (part16 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ _ => ?_))
  refine sq (part17 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ _ (h := fun _ _ => ?_))
  refine sq (part18 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ _ (h := fun _ => ?_))
  refine sq (part19 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ => ?_))
  refine sq (part20 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ => ?_))
  refine sq (part21 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ _ _ => ?_))
  refine sq (part22 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ _ _ (h := fun _ => ?_))
  refine sq (part23 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ => ?_))
  refine sq (part24 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ _ => ?_))
  refine sq (part25 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ _ (h := ?_))
  refine sq (part26 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4  (h := fun _ _ => ?_))
  refine sq (part27 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ _ (h := fun _ _ => ?_))
  refine sq (part28 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ _ (h := fun _ => ?_))
  refine sq (part29 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ _ _ => ?_))
  refine sq (part30 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ _ _ (h := fun _ => ?_))
  refine sq (part31 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ => ?_))
  refine sq (part32 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ => ?_))
  refine sq (part33 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ => ?_))
  refine sq (part34 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ _ _ => ?_))
  refine sq (part35 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ _ _ (h := fun _ => ?_))
  refine sq (part36 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ => ?_))
  refine sq (part37 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ => ?_))
  refine sq (part38 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ => ?_))
  refine sq (part39 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ _ => ?_))
  refine sq (part40 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ _ (h := fun _ _ => ?_))
  refine sq (part41 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ _ (h := fun _ => ?_))
  refine sq (part42 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ => ?_))
  refine sq (part43 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ => ?_))
  refine sq (part44 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ _ _ => ?_))
  refine sq (part45 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ _ _ (h := fun _ => ?_))
  refine sq (part46 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ => ?_))
  refine sq (part47 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ _ => ?_))
  refine sq (part48 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ _ (h := ?_))
  refine sq (part49 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4  (h := fun _ _ => ?_))
  refine sq (part50 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ _ (h := fun _ _ => ?_))
  refine sq (part51 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ _ (h := fun _ => ?_))
  refine sq (part52 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ _ _ => ?_))
  refine sq (part53 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ _ _ (h := fun _ => ?_))
  refine sq (part54 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ => ?_))
  refine sq (part55 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ => ?_))
  refine sq (part56 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ => ?_))
  refine sq (part57 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ _ _ => ?_))
  refine sq (part58 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ _ _ (h := fun _ => ?_))
  refine sq (part59 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ => ?_))
  refine sq (part60 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ => ?_))
  refine sq (part61 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ => ?_))
  refine sq (part62 c i arg2 harg2 arg3 harg3 arg4 harg4 arg5 harg5 harg6 arg7 harg7 arg8 harg8 arg9 harg9 arg10 harg10 harg11 arg13 harg13 arg14 harg14 x wd hx hb hj arg1 v0 v11 k0_h1 v28 k0_hw2 k0_h4 _ (h := fun _ _ => ?_))
  exact rt (h _ _)

end Cert.Routed

end
-- ==== Proof.Tile.lean ====
/- A column of a tile up to the product of the hidden block: the first tile's rows started, the tile's own rows gathered, part of the next tile's rows started. -/
module

public import proofs.«01_k».proof.Proof.Fill
public import proofs.«01_k».proof.Proof.Checks
public import proofs.«01_k».proof.Proof.Issues

@[expose] public section

set_option maxRecDepth 16384

noncomputable section

namespace Cert.Routed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [FloatOps F]

local notation "𝕄" => MT nD τ sig Unit (Elt F) ℕ (Pipeline.UD sig nD τ) ℕ

variable (c : Dev nD)

/-- A slot at rest: whatever it holds, its semaphore at zero. -/
def Rest (s : Fin 2) : sProp 𝕄 := iprop(∃ X, owns (c.tc : Thread nD τ) (slotM s) fullShare X ∗ semVal ((c.tc : Thread nD τ), .dma (semOf s)) 0)

/-- No copy is under way. -/
def Idle (i : grid0.Coords) (hb : TokB F) : sProp 𝕄 := iprop(Rest c (cur i) ∗ Rest c (nxt i) ∗ (tokL c ↦{fullShare} hb))

/-- The next tile's rows under way, `n` columns of the tile having been run, if there is a next tile to compute. -/
def Ahead (i : grid0.Coords) (nx : Prop) [Decidable nx] (wd' : Fin 1024 → Fin 32768) (hb : TokB F) (n : ℕ) : sProp 𝕄 :=
  if nx ∧ 0 < n then iprop(Fly c (nxt i) wd' hb (min (256 * n) 1024) ∗ Rest c (cur i)) else Idle c i hb

/-- The tile's own rows under way as its first column begins, the first tile's having been started. -/
def Mine (i : grid0.Coords) (nx : Prop) [Decidable nx] (wd wd' : Fin 1024 → Fin 32768) (hb : TokB F) : sProp 𝕄 :=
  if (i 1).val = 0 then iprop(Fly c (cur i) wd hb 1024 ∗ Rest c (nxt i)) else Ahead c i nx wd' hb (i 1).val

/-- The copies as point `i` begins. -/
def Before (i : grid0.Coords) (nx : Prop) [Decidable nx] (wd wd' : Fin 1024 → Fin 32768) (hb : TokB F) : sProp 𝕄 :=
  if (i 0).val = 0 ∧ (i 1).val = 0 then Idle c i hb else Mine c i nx wd wd' hb

/-- The number of tiles, read from its table. -/
theorem nu_load (arg : Memref sig .tc .smem S1 .i32) {q : PosShare TreeShare} {nu : Elt F .i32}
    {b : ∀ a, (![0] : Fin 1 → ℕ) a + S1.size a ≤ S1.size a}
    {α : Type} {K : Elt F .i32 → Prog (TpuEff nD τ sig (Elt F) Λ₀ .tc) α} {Q : α → sProp 𝕄} :
    (owns (c.tc : Thread nD τ) arg q (fun _ => nu) : sProp 𝕄) ⊢ iprop((owns (c.tc : Thread nD τ) arg q (fun _ => nu) -∗ Wp c (K nu) Q)
      -∗ Wp c (smemLoad arg (Rect.unit (s := S1) ![0] S1.size b) numel1_S1 rfl >>= K) Q) := by
  unfold owns Wp
  rw [wp_bind]
  iintro ⟨%f, %hf, Hpt⟩ HK
  unfold smemLoad
  iapply (wp_smemLoadElt_named Variants.none (c.tc : Thread nD τ) none Set.univ (m := arg) (S := arg.view.set) (View.set_slice_subset _ _)) $$ Hpt
  iintro Hpt %w %hw
  have hv : (arg.access (Rect.unit (s := S1) ![0] S1.size b)).read (Elt F) f (Shape.Idx.first (numel1_S1.symm ▸ Nat.one_pos)) = nu := by
    show arg.view.read (Elt F) f ((Rect.unit (s := S1) ![0] S1.size b).emb (Shape.Idx.first _)) = nu
    rw [hf]
  rw [hv] at hw
  subst hw
  rw [wp_ret]
  imodintro
  iapply HK
  iexists f
  isplitr; · ipureintro; exact hf
  iexact Hpt

theorem nu_step (arg : Memref sig .tc .smem S1 .i32) {q : PosShare TreeShare} {nu : Elt F .i32} {P : sProp 𝕄}
    {b : ∀ a, (![0] : Fin 1 → ℕ) a + S1.size a ≤ S1.size a}
    {α : Type} {K : Elt F .i32 → Prog (TpuEff nD τ sig (Elt F) Λ₀ .tc) α} {Q : α → sProp 𝕄}
    (h : iprop(P ∗ owns (c.tc : Thread nD τ) arg q (fun _ => nu)) ⊢ Wp c (K nu) Q) :
    iprop(P ∗ owns (c.tc : Thread nD τ) arg q (fun _ => nu)) ⊢ Wp c (smemLoad arg (Rect.unit (s := S1) ![0] S1.size b) numel1_S1 rfl >>= K) Q := by
  iintro ⟨HP, H⟩
  iapply (nu_load c arg) $$ H
  iintro H
  iapply h
  isplitl [HP]; · iexact HP
  iexact H

/-- A load of the whole reads the whole. -/
theorem whole_idx {s : Shape} {e : EltTy} {off : Fin s.rank → ℕ} (ho : ∀ a, off a = 0) {b : ∀ a, off a + s.size a ≤ s.size a} (X : s.Idx → Elt F e) :
    (fun x : s.Idx => X ((Rect.unit (s := s) off s.size b).toLoadRect.idx x)) = X := by
  funext x
  congr 1
  funext a
  apply Fin.ext
  show off a + 1 * (x a).val = (x a).val
  rw [ho]; omega

/-- The same, as a step. -/
theorem oloadw {s : Shape} {e : EltTy} {m : Memref sig .tc .vmem s e} {q : PosShare TreeShare} {X : s.Idx → Elt F e}
    {off : Fin s.rank → ℕ} {b : ∀ a, off a + s.size a ≤ s.size a} (ho : ∀ a, off a = 0) {hl : m.view.LoadsAt (Rect.unit (s := s) off s.size b).toLoadRect}
    {α : Type} {K : (s.Idx → Elt F e) → Prog (TpuEff nD τ sig (Elt F) Λ₀ .tc) α} {Q : α → sProp 𝕄} :
    (owns (c.tc : Thread nD τ) m q X : sProp 𝕄) ⊢ iprop((owns (c.tc : Thread nD τ) m q X -∗ Wp c (K X) Q)
      -∗ Wp c (Prog.lift (.load m (Rect.unit (s := s) off s.size b).toLoadRect hl) >>= K) Q) := by
  have h := oload c (m := m) (q := q) (X := X) (hl := hl) (K := K) (Q := Q)
  have e : (fun x : s.Idx => X ((Rect.unit (s := s) off s.size b).toLoadRect.idx x)) = X := whole_idx ho X
  exact h.trans (by
    have h' : K (fun x : s.Idx => X ((Rect.unit (s := s) off s.size b).toLoadRect.idx x)) = K X := congrArg K e
    show iprop((owns (c.tc : Thread nD τ) m q X -∗ Wp c (K (fun x : s.Idx => X ((Rect.unit (s := s) off s.size b).toLoadRect.idx x))) Q) -∗ _) ⊢ _
    rw [h'])

/-- A step of ownership before a program. -/
theorem openw {P P' : sProp 𝕄} {α : Type} {p : Prog (TpuEff nD τ sig (Elt F) Λ₀ .tc) α} {Q : α → sProp 𝕄}
    (h : P ⊢ (|={Set.univ}=> P' : sProp 𝕄)) (h' : P' ⊢ Wp c p Q) : P ⊢ Wp c p Q :=
  (h.trans (fupd_mono h')).trans (fupd_wp frame (wpE (defs₀ (F := F)) Variants.none (c.tc : Thread nD τ) none) Set.univ p Q)

/-- A slot at rest with the tokens: its rows can be started. -/
theorem rest_open (s : Fin 2) (wd : Fin 1024 → Fin 32768) (hb : TokB F) :
    iprop(Rest c s ∗ (tokL c ↦{fullShare} hb)) ⊢ (|={Set.univ}=> Fly c s wd hb 0 : sProp 𝕄) := by
  unfold Rest
  iintro ⟨⟨%X, Hs, Hv⟩, Ht⟩
  iapply (fly_open c s wd hb X)
  isplitl [Hv]; · iexact Hv
  isplitl [Hs]; · iexact Hs
  iexact Ht

variable (i : grid0.Coords) (arg2 : Memref sig .tc .smem S72 .i32) (harg2 : arg2.IsWhole) (arg3 : Memref sig .tc .smem S1 .i32)
  (harg3 : arg3.IsWhole) (arg4 : Memref sig .tc .smem S1024 .i32) (harg4 : arg4.IsWhole) (arg5 : Memref sig .tc .smem S1024 .i32) (harg5 : arg5.IsWhole)
  (harg6 : tokM.IsWhole) (arg7 : Memref sig .tc .vmem S1x1024x512 .f32) (harg7 : arg7.IsWhole)
  (arg8 : Memref sig .tc .vmem S1x1024x512 .f32) (harg8 : arg8.IsWhole) (arg9 : Memref sig .tc .vmem S1x512x1024 .f32) (harg9 : arg9.IsWhole)
  (arg10 : Memref sig .tc .vmem S8192x128 .f32) (harg10 : arg10.IsWhole) (harg11 : rowsM.IsWhole)
  (arg13 : Memref sig .tc .vmem S1024x1024 .bf16) (harg13 : arg13.IsWhole) (arg14 : Memref sig .tc .vmem S1024x1024 .f32) (harg14 : arg14.IsWhole)

/-- What a column of a computed tile up to the hidden block's product leaves alone or gives back. -/
def Held (q : PosShare TreeShare) (nu : Elt F .i32) (x4 x5 : S1024.Idx → BitVec 32) (wg wu : S1x1024x512.Idx → Elt F .f32) : sProp 𝕄 :=
  iprop((∃ W : Waits sig Unit, owes (c.tc : Thread nD τ) 0 W) ∗ owns (c.tc : Thread nD τ) arg3 q (fun _ => nu)
    ∗ owns (c.tc : Thread nD τ) arg4 fullShare (x4 : S1024.Idx → Elt F .i32) ∗ owns (c.tc : Thread nD τ) arg5 fullShare (x5 : S1024.Idx → Elt F .i32)
    ∗ owns (c.tc : Thread nD τ) arg7 fullShare wg ∗ owns (c.tc : Thread nD τ) arg8 fullShare wu)

set_option maxHeartbeats 4000000 in
theorem part102 (q : PosShare TreeShare) (nu : Elt F .i32) (x4 x5 : S1024.Idx → BitVec 32) (wg wu : S1x1024x512.Idx → Elt F .f32)
    (wd wd' : Fin 1024 → Fin 32768) (hb : TokB F) (nx : Prop) [Decidable nx] (hnx : nx ↔ (((i 0).val + 1 : ℕ) : ℤ) < BitVec.toInt nu)
    (hx4 : (i 0).val = 0 → ∀ r, (x4 (ix1 r)).toNat = (wd r).val) (hx5 : nx → ∀ r, (x5 (ix1 r)).toNat = (wd' r).val)
    (arg0 arg1 v11 : BitVec 32) (k0_h1 : k0_cond1 i nu = 1#1) {Q : FVec F S1024x512 .bf16 → sProp 𝕄} :
    iprop(Before c i nx wd wd' hb ∗ Held c arg3 arg4 arg5 arg7 arg8 q nu x4 x5 wg wu
        ∗ (∃ X, ⌜0 < (i 1).val → X = hv wd hb⌝ ∗ owns (c.tc : Thread nD τ) arg13 fullShare X)
        ∗ ((Ahead c i nx wd' hb ((i 1).val + 1) ∗ Held c arg3 arg4 arg5 arg7 arg8 q nu x4 x5 wg wu ∗ owns (c.tc : Thread nD τ) arg13 fullShare (hv wd hb))
          -∗ Q (k0_pay23 (hv wd hb) wg wu)))
      ⊢ Wp c (k0_part102 i arg2 harg2 arg3 harg3 arg4 harg4 arg5 harg5 tokM harg6 arg7 harg7 arg8 harg8 arg9 harg9 arg10 harg10 rowsM harg11 cc0_scratch1 arg13 harg13 arg14 harg14 arg0 arg1 nu v11 k0_h1) Q := by
  rw [k0_part102_eq_skeleton]; unfold k0_part102_skel
  lift_lets
  extract_lets a1 a2 a3 a4 a5
  generalize hKK : (iprop((Ahead c i nx wd' hb ((i 1).val + 1) ∗ Held c arg3 arg4 arg5 arg7 arg8 q nu x4 x5 wg wu ∗ owns (c.tc : Thread nD τ) arg13 fullShare (hv wd hb))
          -∗ Q (k0_pay23 (hv wd hb) wg wu)) : sProp 𝕄) = KK
  have hj7 := i1_lt i
  have hi7 := i0_lt i
  have e1 : iprop(Ahead c i nx wd' hb ((i 1).val + 1) ∗ Held c arg3 arg4 arg5 arg7 arg8 q nu x4 x5 wg wu ∗ owns (c.tc : Thread nD τ) arg13 fullShare (hv wd hb) ∗ KK)
      ⊢ Wp c (a1 ⟨⟩) Q := by
    subst hKK
    dsimp only [a1]
    unfold Held
    iintro ⟨HD, ⟨HO, H3, H4, H5, H7, H8⟩, H13, HK⟩
    iapply (oloadw c (s := S1024x1024) (off := ![0, 0]) (by decide)) $$ H13
    iintro H13
    iapply (oloadw c (s := S1x1024x512) (off := ![0, 0, 0]) (by decide)) $$ H7
    iintro H7
    iapply (oloadw c (s := S1x1024x512) (off := ![0, 0, 0]) (by decide)) $$ H8
    iintro H8
    iapply (wret c)
    iapply HK
    isplitl [HD]; · iexact HD
    isplitr [H13]
    · isplitl [HO]; · iexact HO
      isplitl [H3]; · iexact H3
      isplitl [H4]; · iexact H4
      isplitl [H5]; · iexact H5
      isplitl [H7]; · iexact H7
      iexact H8
    iexact H13
  have e4 : iprop(Ahead c i nx wd' hb (i 1).val ∗ Held c arg3 arg4 arg5 arg7 arg8 q nu x4 x5 wg wu ∗ owns (c.tc : Thread nD τ) arg13 fullShare (hv wd hb) ∗ KK)
      ⊢ Wp c (a4 ⟨⟩) Q := by
    dsimp only [a4]
    clear_value a1
    clear a5
    unfold Held at e1 ⊢
    have fin : iprop(Ahead c i nx wd' hb ((i 1).val + 1) ∗ (((∃ W : Waits sig Unit, owes (c.tc : Thread nD τ) 0 W)
        ∗ owns (c.tc : Thread nD τ) arg4 fullShare (x4 : S1024.Idx → Elt F .i32) ∗ owns (c.tc : Thread nD τ) arg7 fullShare wg ∗ owns (c.tc : Thread nD τ) arg8 fullShare wu)
        ∗ owns (c.tc : Thread nD τ) arg13 fullShare (hv wd hb) ∗ KK) ∗ owns (c.tc : Thread nD τ) arg5 fullShare (x5 : S1024.Idx → Elt F .i32)
        ∗ owns (c.tc : Thread nD τ) arg3 q (fun _ => nu)) ⊢ Wp c (a1 ⟨⟩) Q := by
      iintro ⟨HD, ⟨⟨HO, H4, H7, H8⟩, H13, HK⟩, H5, H3⟩
      iapply e1
      isplitl [HD]; · iexact HD
      isplitr [H13 HK]
      · isplitl [HO]; · iexact HO
        isplitl [H3]; · iexact H3
        isplitl [H4]; · iexact H4
        isplitl [H5]; · iexact H5
        isplitl [H7]; · iexact H7
        iexact H8
      isplitl [H13]; · iexact H13
      iexact HK
    refine (show _ ⊢ iprop((Ahead c i nx wd' hb (i 1).val ∗ ((((∃ W : Waits sig Unit, owes (c.tc : Thread nD τ) 0 W)
        ∗ owns (c.tc : Thread nD τ) arg4 fullShare (x4 : S1024.Idx → Elt F .i32) ∗ owns (c.tc : Thread nD τ) arg7 fullShare wg ∗ owns (c.tc : Thread nD τ) arg8 fullShare wu)
        ∗ owns (c.tc : Thread nD τ) arg13 fullShare (hv wd hb) ∗ KK)) ∗ owns (c.tc : Thread nD τ) arg5 fullShare (x5 : S1024.Idx → Elt F .i32)) ∗ owns (c.tc : Thread nD τ) arg3 q (fun _ => nu)) from ?_).trans (nu_step c arg3 ?_)
    · iintro ⟨HD, ⟨HO, H3, H4, H5, H7, H8⟩, H13, HK⟩
      isplitr [H3]
      · isplitl [HD]; · iexact HD
        isplitr [H5]
        · isplitr [H13 HK]
          · isplitl [HO]; · iexact HO
            isplitl [H4]; · iexact H4
            isplitl [H7]; · iexact H7
            iexact H8
          isplitl [H13]; · iexact H13
          iexact HK
        iexact H5
      iexact H3
    generalize hR : iprop(((∃ W : Waits sig Unit, owes (c.tc : Thread nD τ) 0 W)
        ∗ owns (c.tc : Thread nD τ) arg4 fullShare (x4 : S1024.Idx → Elt F .i32) ∗ owns (c.tc : Thread nD τ) arg7 fullShare wg ∗ owns (c.tc : Thread nD τ) arg8 fullShare wu)
        ∗ owns (c.tc : Thread nD τ) arg13 fullShare (hv wd hb) ∗ KK) = R at fin ⊢
    refine chk_step c (chk2 i nu nu) fun k0_hw2' => ?_
    obtain ⟨k0_hw2⟩ := k0_hw2'
    by_cases k0_h4 : k0_cond4 i nu = 1#1
    · have ⟨hn, hj4⟩ := (cond4_iff i nu).mp k0_h4
      have nxt_ : nx := hnx.mpr hn
      rw [dif_pos k0_h4]
      refine openw c (P' := St c i arg5 x5 wd' hb iprop(Rest c (cur i) ∗ R ∗ owns (c.tc : Thread nD τ) arg3 q (fun _ => nu)) 0) ?_ ?_
      · unfold St Ahead
        by_cases hz : 0 < (i 1).val
        · rw [if_pos ⟨nxt_, hz⟩, show min (256 * (i 1).val) 1024 = 256 * (i 1).val + 0 by omega]
          iintro ⟨⟨⟨HF, HR⟩, HR', H5⟩, H3⟩
          imodintro
          isplitr [H5]
          · isplitl [HF]; · iexact HF
            isplitl [HR]; · iexact HR
            isplitl [HR']; · iexact HR'
            iexact H3
          iexact H5
        · rw [if_neg (fun h => hz h.2), show 256 * (i 1).val + 0 = 0 by omega]
          unfold Idle
          iintro ⟨⟨⟨HR, HN, Ht⟩, HR', H5⟩, H3⟩
          imod (rest_open c (nxt i) wd' hb) $$ [HN Ht] with HF
          · isplitl [HN]; · iexact HN
            iexact Ht
          imodintro
          isplitr [H5]
          · isplitl [HF]; · iexact HF
            isplitl [HR]; · iexact HR
            isplitl [HR']; · iexact HR'
            iexact H3
          iexact H5
      refine sq (part101 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 (h := fun _ _ => ?_))
      refine sq (part63 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ _ (h := fun _ _ => ?_))
      refine sq (part64 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ _ (h := fun _ => ?_))
      refine sq (part65 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ (h := fun _ => ?_))
      refine sq (part66 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ (h := fun _ => ?_))
      refine sq (part67 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ (h := fun _ _ _ => ?_))
      refine sq (part68 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ _ _ (h := fun _ => ?_))
      refine sq (part69 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ (h := fun _ => ?_))
      refine sq (part70 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ (h := fun _ _ => ?_))
      refine sq (part71 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ _ (h := ?_))
      refine sq (part72 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4  (h := fun _ _ => ?_))
      refine sq (part73 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ _ (h := fun _ _ => ?_))
      refine sq (part74 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ _ (h := fun _ => ?_))
      refine sq (part75 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ (h := fun _ _ _ => ?_))
      refine sq (part76 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ _ _ (h := fun _ => ?_))
      refine sq (part77 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ (h := fun _ => ?_))
      refine sq (part78 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ (h := fun _ => ?_))
      refine sq (part79 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ (h := fun _ => ?_))
      refine sq (part80 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ (h := fun _ _ _ => ?_))
      refine sq (part81 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ _ _ (h := fun _ => ?_))
      refine sq (part82 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ (h := fun _ => ?_))
      refine sq (part83 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ (h := fun _ => ?_))
      refine sq (part84 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ (h := fun _ => ?_))
      refine sq (part85 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ (h := fun _ _ => ?_))
      refine sq (part86 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ _ (h := fun _ _ => ?_))
      refine sq (part87 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ _ (h := fun _ => ?_))
      refine sq (part88 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ (h := fun _ => ?_))
      refine sq (part89 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ (h := fun _ => ?_))
      refine sq (part90 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ (h := fun _ _ _ => ?_))
      refine sq (part91 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ _ _ (h := fun _ => ?_))
      refine sq (part92 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ (h := fun _ => ?_))
      refine sq (part93 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ (h := fun _ _ => ?_))
      refine sq (part94 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ _ (h := ?_))
      refine sq (part95 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4  (h := fun _ _ => ?_))
      refine sq (part96 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ _ (h := fun _ _ => ?_))
      refine sq (part97 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ _ (h := fun _ => ?_))
      refine sq (part98 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ (h := fun _ _ _ => ?_))
      refine sq (part99 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ _ _ (h := fun _ => ?_))
      refine sq (part100 c i arg2 harg2 arg3 harg3 arg4 harg4 arg5 harg5 harg6 arg7 harg7 arg8 harg8 arg9 harg9 arg10 harg10 harg11 arg13 harg13 arg14 harg14 x5 wd' (hx5 nxt_) hb hj4 arg1 nu v11 k0_h1 nu k0_hw2 k0_h4 _ (h := fun _ => ?_))
      refine eq (hx5 nxt_) hj4 255 (by decide) ?_
      refine .trans ?_ fin
      unfold St Ahead
      rw [if_pos ⟨nxt_, Nat.succ_pos _⟩, show min (256 * ((i 1).val + 1)) 1024 = 256 * (i 1).val + (255 + 1) by omega]
      iintro ⟨⟨HF, HR, HR', H3⟩, H5⟩
      isplitl [HF HR]
      · isplitl [HF]; · iexact HF
        iexact HR
      isplitl [HR']; · iexact HR'
      isplitl [H5]; · iexact H5
      iexact H3
    · have hn : ¬ (nx ∧ (i 1).val < 4) := fun h => k0_h4 ((cond4_iff i nu).mpr ⟨hnx.mp h.1, h.2⟩)
      rw [dif_neg k0_h4]
      have e : Ahead c i nx wd' hb (i 1).val = Ahead c i nx wd' hb ((i 1).val + 1) := by
        unfold Ahead
        by_cases hx : nx
        · have : ¬ (i 1).val < 4 := fun h => hn ⟨hx, h⟩
          rw [if_pos ⟨hx, by omega⟩, if_pos ⟨hx, by omega⟩, show min (256 * (i 1).val) 1024 = 1024 by omega, show min (256 * ((i 1).val + 1)) 1024 = 1024 by omega]
        · rw [if_neg (fun h => hx h.1), if_neg (fun h => hx h.1)]
      rw [e]
      refine .trans ?_ fin
      iintro ⟨⟨HD, HR, H5⟩, H3⟩
      isplitl [HD]; · iexact HD
      isplitl [HR]; · iexact HR
      isplitl [H5]; · iexact H5
      iexact H3
  have e5 : iprop(Mine c i nx wd wd' hb ∗ Held c arg3 arg4 arg5 arg7 arg8 q nu x4 x5 wg wu
        ∗ (∃ X, ⌜0 < (i 1).val → X = hv wd hb⌝ ∗ owns (c.tc : Thread nD τ) arg13 fullShare X) ∗ KK) ⊢ Wp c (a5 ⟨⟩) Q := by
    dsimp only [a5]
    clear_value a4
    unfold Mine
    by_cases k0_h3 : k0_cond3 i = 1#1
    · have hj := (cond3_iff i).mp k0_h3
      rw [dif_pos k0_h3, if_pos hj]
      unfold Held at e4 ⊢
      iintro ⟨⟨HF, HR⟩, ⟨⟨%W, HO⟩, HH⟩, ⟨%X, -, H13⟩, HK⟩
      iapply (wseq c)
      iapply (part1 c i arg2 harg2 arg3 harg3 arg4 harg4 arg5 harg5 harg6 arg7 harg7 arg8 harg8 arg9 harg9 arg10 harg10 harg11 arg13 harg13 arg14 harg14 wd hb k0_h3) $$ [HF HO H13]
      · isplitl [HF]; · iexact HF
        isplitl [HO]; · iexact HO
        iexact H13
      iintro ⟨Hs, Ht, Hv, HO, %X3, %f3, H13⟩
      iapply (wseq c)
      iapply (part2 c i arg2 harg2 arg3 harg3 arg4 harg4 arg5 harg5 harg6 arg7 harg7 arg8 harg8 arg9 harg9 arg10 harg10 harg11 arg13 harg13 arg14 harg14 wd hb f3 k0_h3) $$ [Hs H13]
      · isplitl [Hs]; · iexact Hs
        iexact H13
      iintro ⟨Hs, %X7, %f7, H13⟩
      iapply (ostore c) $$ H13
      iintro %X8 %h8 H13
      have e8 : X8 = hv wd hb := filled_all (filled_step (q := 7) (by decide) rfl (pay22 _) f7 h8)
      subst e8
      iapply e4
      isplitl [Hs Hv HR Ht]
      · unfold Ahead
        rw [if_neg (fun h => by omega)]
        unfold Idle
        isplitl [Hs Hv]
        · unfold Rest
          iexists _
          isplitl [Hs]; · iexact Hs
          iexact Hv
        isplitl [HR]; · iexact HR
        iexact Ht
      isplitl [HO HH]
      · isplitl [HO]; · iexact HO
        iexact HH
      isplitl [H13]; · iexact H13
      iexact HK
    · have hj : ¬ (i 1).val = 0 := fun h => k0_h3 ((cond3_iff i).mpr h)
      rw [dif_neg k0_h3, if_neg hj]
      refine .trans ?_ e4
      iintro ⟨HD, HH, ⟨%X, %hX, H13⟩, HK⟩
      have hX' := hX (by omega)
      subst hX'
      isplitl [HD]; · iexact HD
      isplitl [HH]; · iexact HH
      isplitl [H13]; · iexact H13
      iexact HK
  clear_value a5
  unfold Before
  by_cases k0_h2 : k0_cond2 i = 1#1
  · have ⟨hT, hj⟩ := (cond2_iff i).mp k0_h2
    have hc : cur i = 0 := Fin.ext (by show (i 0).val % 2 = 0; omega)
    rw [dif_pos k0_h2, if_pos ⟨hT, hj⟩]
    have e5' := e5
    unfold Mine at e5'
    rw [if_pos hj] at e5'
    unfold Held at e5' ⊢
    unfold Idle
    rw [hc] at e5' ⊢
    iintro ⟨⟨HC, HN, Ht⟩, ⟨HO, H3, H4, H5⟩, H13, HK⟩
    imod (rest_open c 0 wd hb) $$ [HC Ht] with HF
    · isplitl [HC]; · iexact HC
      iexact Ht
    iapply (loopA c i arg2 harg2 arg3 harg3 arg4 harg4 arg5 harg5 harg6 arg7 harg7 arg8 harg8 arg9 harg9 arg10 harg10 harg11 arg13 harg13 arg14 harg14 x4 wd (hx4 hT) hb arg0 arg1 nu v11 k0_h1 k0_h2) $$ [HF H4]
    · isplitl [HF]; · iexact HF
      iexact H4
    iintro ⟨HF, H4⟩
    iapply e5'
    isplitl [HF HN]
    · isplitl [HF]; · iexact HF
      iexact HN
    isplitl [HO H3 H4 H5]
    · isplitl [HO]; · iexact HO
      isplitl [H3]; · iexact H3
      isplitl [H4]; · iexact H4
      iexact H5
    isplitl [H13]; · iexact H13
    iexact HK
  · rw [dif_neg k0_h2, if_neg (fun h => k0_h2 ((cond2_iff i).mpr h))]
    exact e5

end Cert.Routed

end
-- ==== Proof.Body.lean ====
/- The body at one point of the grid: a used tile's column, and a tile past the used ones. -/
module

public import proofs.«01_k».proof.Proof.Tile

@[expose] public section

set_option maxRecDepth 16384

noncomputable section

namespace Cert.Routed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [FloatOps F]

local notation "𝕄" => MT nD τ sig Unit (Elt F) ℕ (Pipeline.UD sig nD τ) ℕ

variable (c : Dev nD)

/-- The accumulator after a column: the column's product, added to what was there unless the column is the tile's first. -/
def accStep (j : ℕ) (a : S1024x1024.Idx → Elt F .f32) (h : FVec F S1024x512 .bf16) (w : S1x512x1024.Idx → Elt F .f32) : FVec F S1024x1024 .f32 :=
  if j = 0 then k0_pay1 h w else addf a (k0_pay1 h w)

/-- A tile's result, laid out in row tiles of eight by 128. -/
def outBlk (a : S1024x1024.Idx → Elt F .f32) : S8192x128.Idx → Elt F .f32 := fun y =>
  a (ix2 ⟨(y 0).val / 8, by have : (y 0).val < 8192 := (y 0).isLt; omega⟩ ⟨128 * ((y 0).val % 8) + (y 1).val, by have : (y 1).val < 128 := (y 1).isLt; omega⟩)

/-- The result's rows of eight residues, the first `q` of them written. -/
def Laid (a : S1024x1024.Idx → Elt F .f32) (q : ℕ) (X : S8192x128.Idx → Elt F .f32) : Prop := ∀ y, (y 0).val % 8 < q → X y = outBlk a y

theorem laid_all {a : S1024x1024.Idx → Elt F .f32} {X : S8192x128.Idx → Elt F .f32} (h : Laid a 8 X) : X = outBlk a :=
  funext fun y => h y (Nat.mod_lt _ (by decide))

theorem laid_step {a : S1024x1024.Idx → Elt F .f32} {q : ℕ} (hq : q < 8) {X X' : S8192x128.Idx → Elt F .f32}
    {bl : ∀ a, S1024x128.size a = 0 ∨ (![q, 0] : Fin 2 → ℕ) a + (![8, 1] : Fin 2 → ℕ) a * (S1024x128.size a - 1) < S8192x128.size a}
    {sp : ∀ a, 0 < (![8, 1] : Fin 2 → ℕ) a}
    {off : Fin 2 → ℕ} (ho : off = ![0, 128 * q]) {hs : S1024x1024.Slices off S1024x128}
    (h : Laid a q X)
    (h' : (∀ z : S1024x128.Idx, X' ((⟨(⟨![q, 0], S1024x128.size, ![8, 1], bl⟩ : LoadRect S8192x128), sp⟩ : Rect S8192x128).emb z) = extractStridedSlice S1024x128 off a hs z)
      ∧ ∀ y, (∀ z : S1024x128.Idx, (⟨(⟨![q, 0], S1024x128.size, ![8, 1], bl⟩ : LoadRect S8192x128), sp⟩ : Rect S8192x128).emb z ≠ y) → X' y = X y) :
    Laid a (q + 1) X' := by
  subst ho
  intro y hy
  have y0 : (y 0).val < 8192 := (y 0).isLt
  have y1 : (y 1).val < 128 := (y 1).isLt
  by_cases hm : (y 0).val % 8 = q
  · have e : (⟨(⟨![q, 0], S1024x128.size, ![8, 1], bl⟩ : LoadRect S8192x128), sp⟩ : Rect S8192x128).emb
        (ix2 (⟨(y 0).val / 8, by omega⟩ : Fin 1024) (⟨(y 1).val, y1⟩ : Fin 128)) = y := by
      funext b
      apply Fin.ext
      match b with
      | ⟨0, _⟩ => show q + 8 * ((y 0).val / 8) = (y 0).val; omega
      | ⟨1, _⟩ => show 0 + 1 * (y 1).val = (y 1).val; omega
    have h1 := h'.1 (ix2 (⟨(y 0).val / 8, by omega⟩ : Fin 1024) (⟨(y 1).val, y1⟩ : Fin 128))
    rw [e] at h1
    rw [h1]
    unfold outBlk
    show a _ = a _
    congr 1
    funext b
    apply Fin.ext
    match b with
    | ⟨0, _⟩ => show 0 + (y 0).val / 8 = (y 0).val / 8; omega
    | ⟨1, _⟩ => show 128 * q + (y 1).val = 128 * ((y 0).val % 8) + (y 1).val; omega
  · rw [h'.2 y (fun z hz => hm (by
      rw [← hz]
      show (q + 8 * (z 0).val) % 8 = q
      omega))]
    exact h y (by omega)

/-- A store over the whole. -/
theorem ostorew {s : Shape} {e : EltTy} {m : Memref sig .tc .vmem s e} {X : s.Idx → Elt F e}
    {off : Fin s.rank → ℕ} {b : ∀ a, off a + s.size a ≤ s.size a} (ho : ∀ a, off a = 0) {w : s.Idx → Elt F e}
    {hx : (m.access (Rect.unit (s := s) off s.size b)).Stores Finset.univ} {hm : (Finset.univ : Finset (Rect.unit (s := s) off s.size b).shape.Idx) = Finset.univ ∨ ∀ a, (Rect.unit (s := s) off s.size b).stride a = 1}
    {α : Type} {K : PUnit → Prog (TpuEff nD τ sig (Elt F) Λ₀ .tc) α} {Q : α → sProp 𝕄} :
    (owns (c.tc : Thread nD τ) m fullShare X : sProp 𝕄) ⊢ iprop((owns (c.tc : Thread nD τ) m fullShare w -∗ Wp c (K ⟨⟩) Q)
      -∗ Wp c (Prog.lift (.store m (Rect.unit (s := s) off s.size b) w Finset.univ hx hm) >>= K) Q) := by
  iintro H HK
  iapply (ostore c) $$ H
  iintro %X' %h H
  have e : X' = w := funext fun y => by
    have := h.1 y
    rwa [show (Rect.unit (s := s) off s.size b).emb y = y from funext fun a => Fin.ext (by show off a + 1 * (y a).val = (y a).val; rw [ho]; omega)] at this
  subst e
  iapply HK
  iexact H

variable (i : grid0.Coords) (arg2 : Memref sig .tc .smem S72 .i32) (harg2 : arg2.IsWhole) (arg3 : Memref sig .tc .smem S1 .i32)
  (harg3 : arg3.IsWhole) (arg4 : Memref sig .tc .smem S1024 .i32) (harg4 : arg4.IsWhole) (arg5 : Memref sig .tc .smem S1024 .i32) (harg5 : arg5.IsWhole)
  (harg6 : tokM.IsWhole) (arg7 : Memref sig .tc .vmem S1x1024x512 .f32) (harg7 : arg7.IsWhole)
  (arg8 : Memref sig .tc .vmem S1x1024x512 .f32) (harg8 : arg8.IsWhole) (arg9 : Memref sig .tc .vmem S1x512x1024 .f32) (harg9 : arg9.IsWhole)
  (arg10 : Memref sig .tc .vmem S8192x128 .f32) (harg10 : arg10.IsWhole) (harg11 : rowsM.IsWhole)
  (arg13 : Memref sig .tc .vmem S1024x1024 .bf16) (harg13 : arg13.IsWhole) (arg14 : Memref sig .tc .vmem S1024x1024 .f32) (harg14 : arg14.IsWhole)

set_option maxHeartbeats 1000000 in
/-- A point of a tile past the used ones: the last column's writes zero. -/
theorem body_unused (q : PosShare TreeShare) (nu : Elt F .i32) (hu : ¬ ((i 0).val : ℤ) < BitVec.toInt nu) (X10 : S8192x128.Idx → Elt F .f32) {Q : PUnit → sProp 𝕄} :
    iprop(owns (c.tc : Thread nD τ) arg3 q (fun _ => nu) ∗ owns (c.tc : Thread nD τ) arg10 fullShare X10
        ∗ ((owns (c.tc : Thread nD τ) arg3 q (fun _ => nu) ∗ owns (c.tc : Thread nD τ) arg10 fullShare (if (i 1).val = 6 then k0_pay12 else X10)) -∗ Q ⟨⟩))
      ⊢ Wp c (cc0_ffn_routed i arg2 harg2 arg3 harg3 arg4 harg4 arg5 harg5 tokM harg6 arg7 harg7 arg8 harg8 arg9 harg9 arg10 harg10 rowsM harg11 cc0_scratch1 arg13 harg13 arg14 harg14) Q := by
  rw [cc0_ffn_routed_eq_skeleton]; unfold cc0_ffn_routed_skel
  iintro ⟨H3, H10, HK⟩
  iapply (nu_load c arg3) $$ H3
  iintro H3
  have k0_h1 : ¬ k0_cond1 i nu = 1#1 := fun h => hu ((cond1_iff i nu).mp h)
  dsimp only []
  rw [dif_neg k0_h1]
  by_cases k0_h8 : k0_cond8 i nu = 1#1
  · rw [dif_pos k0_h8, if_pos ((cond8_iff i nu).mp k0_h8).2]
    iapply (oloadw c (s := S8192x128) (off := ![0, 0]) (by decide)) $$ H10
    iintro H10
    iapply (ostorew c (s := S8192x128) (off := ![0, 0]) (by decide)) $$ H10
    iintro H10
    iapply (wret c)
    iapply HK
    isplitl [H3]; · iexact H3
    iexact H10
  · rw [dif_neg k0_h8, if_neg (fun h => k0_h8 ((cond8_iff i nu).mpr ⟨hu, h⟩))]
    iapply (wret c)
    iapply HK
    isplitl [H3]; · iexact H3
    iexact H10

set_option maxHeartbeats 2000000 in
/-- A column of a used tile: its product goes to the accumulator, and the last column lays the accumulator out. -/
theorem body_used (q : PosShare TreeShare) (nu : Elt F .i32) (hu : ((i 0).val : ℤ) < BitVec.toInt nu) (x4 x5 : S1024.Idx → BitVec 32) (wg wu : S1x1024x512.Idx → Elt F .f32)
    (wdn : S1x512x1024.Idx → Elt F .f32)
    (wd wd' : Fin 1024 → Fin 32768) (hb : TokB F) (nx : Prop) [Decidable nx] (hnx : nx ↔ (((i 0).val + 1 : ℕ) : ℤ) < BitVec.toInt nu)
    (hx4 : (i 0).val = 0 → ∀ r, (x4 (ix1 r)).toNat = (wd r).val) (hx5 : nx → ∀ r, (x5 (ix1 r)).toNat = (wd' r).val)
    (a : S1024x1024.Idx → Elt F .f32) (X10 : S8192x128.Idx → Elt F .f32) {Q : PUnit → sProp 𝕄} :
    iprop(Before c i nx wd wd' hb ∗ Held c arg3 arg4 arg5 arg7 arg8 q nu x4 x5 wg wu
        ∗ (∃ X, ⌜0 < (i 1).val → X = hv wd hb⌝ ∗ owns (c.tc : Thread nD τ) arg13 fullShare X)
        ∗ owns (c.tc : Thread nD τ) arg9 fullShare wdn ∗ owns (c.tc : Thread nD τ) arg10 fullShare X10
        ∗ (∃ A, ⌜0 < (i 1).val → A = a⌝ ∗ owns (c.tc : Thread nD τ) arg14 fullShare A)
        ∗ ((Ahead c i nx wd' hb ((i 1).val + 1) ∗ Held c arg3 arg4 arg5 arg7 arg8 q nu x4 x5 wg wu ∗ owns (c.tc : Thread nD τ) arg13 fullShare (hv wd hb)
            ∗ owns (c.tc : Thread nD τ) arg9 fullShare wdn
            ∗ owns (c.tc : Thread nD τ) arg10 fullShare (if (i 1).val = 6 then outBlk (accStep (i 1).val a (k0_pay23 (hv wd hb) wg wu) wdn) else X10)
            ∗ owns (c.tc : Thread nD τ) arg14 fullShare (accStep (i 1).val a (k0_pay23 (hv wd hb) wg wu) wdn))
          -∗ Q ⟨⟩))
      ⊢ Wp c (cc0_ffn_routed i arg2 harg2 arg3 harg3 arg4 harg4 arg5 harg5 tokM harg6 arg7 harg7 arg8 harg8 arg9 harg9 arg10 harg10 rowsM harg11 cc0_scratch1 arg13 harg13 arg14 harg14) Q := by
  rw [cc0_ffn_routed_eq_skeleton]; unfold cc0_ffn_routed_skel
  have hj7 := i1_lt i
  iintro ⟨HB, HH, H13, H9, H10, ⟨%A, %hA, H14⟩, HK⟩
  unfold Held
  icases HH with ⟨HO, H3, HH⟩
  iapply (nu_load c arg3) $$ H3
  iintro H3
  have k0_h1 : k0_cond1 i nu = 1#1 := (cond1_iff i nu).mpr hu
  have k0_h8 : ¬ k0_cond8 i nu = 1#1 := fun h => ((cond8_iff i nu).mp h).1 hu
  dsimp only []
  rw [dif_pos k0_h1, dif_neg k0_h8]
  iapply (wseq c)
  iapply (part102 c i arg2 harg2 arg3 harg3 arg4 harg4 arg5 harg5 harg6 arg7 harg7 arg8 harg8 arg9 harg9 arg10 harg10 harg11 arg13 harg13 arg14 harg14 q nu x4 x5 wg wu wd wd' hb nx hnx hx4 hx5 _ _ _ k0_h1)
  isplitl [HB]; · iexact HB
  isplitl [HO H3 HH]
  · unfold Held
    isplitl [HO]; · iexact HO
    isplitl [H3]; · iexact H3
    iexact HH
  isplitl [H13]; · iexact H13
  unfold Held
  iintro ⟨HD, HH, H13⟩
  iapply (oloadw c (s := S1x512x1024) (off := ![0, 0, 0]) (by decide)) $$ H9
  iintro H9
  generalize ha' : accStep (i 1).val a (k0_pay23 (hv wd hb) wg wu) wdn = a'
  by_cases hz : (i 1).val = 0
  · have e : k0_pay2 (k0_pay23 (hv wd hb) wg wu) wdn = a' := by
      rw [← ha']; unfold accStep; rw [if_pos hz]; exact shapeCast_self _ _
    rw [dif_pos ((cond5_iff i).mpr hz)]
    iapply (oloadw c (s := S1024x1024) (off := ![0, 0]) (by decide)) $$ H14
    iintro H14
    iapply (ostorew c (s := S1024x1024) (off := ![0, 0]) (by decide)) $$ H14
    iintro H14
    rw [dif_neg (fun h => by have := (cond6_iff i).mp h; omega), dif_neg (fun h => by have := (cond7_iff i).mp h; omega), if_neg (by omega), e]
    iapply (wret c)
    iapply HK
    isplitl [HD]; · iexact HD
    isplitl [HH]; · iexact HH
    isplitl [H13]; · iexact H13
    isplitl [H9]; · iexact H9
    isplitl [H10]; · iexact H10
    iexact H14
  have hA' : A = a := hA (by omega)
  subst hA'
  have e : k0_pay3 (k0_pay23 (hv wd hb) wg wu) wdn A = a' := by
    rw [← ha']; unfold accStep; rw [if_neg hz]; exact shapeCast_self _ _
  rw [dif_neg (fun h => hz ((cond5_iff i).mp h)), dif_pos ((cond6_iff i).mpr (by omega))]
  iapply (oloadw c (s := S1024x1024) (off := ![0, 0]) (by decide)) $$ H14
  iintro H14
  iapply (oloadw c (s := S1024x1024) (off := ![0, 0]) (by decide)) $$ H14
  iintro H14
  iapply (ostorew c (s := S1024x1024) (off := ![0, 0]) (by decide)) $$ H14
  rw [e]
  iintro H14
  by_cases h6 : (i 1).val = 6
  · rw [dif_pos ((cond7_iff i).mpr h6), if_pos h6]
    iapply (oloadw c (s := S1024x1024) (off := ![0, 0]) (by decide)) $$ H14
    iintro H14
    have l0 : Laid a' 0 X10 := fun _ h => absurd h (Nat.not_lt_zero _)
    iapply (oload c) $$ H10
    iintro H10
    iapply (ostore c) $$ H10
    iintro %X1 %s0 H10
    have l1 : Laid a' 1 X1 := laid_step (q := 0) (by decide) (off := ![0, 0]) rfl (hs := slices_S1024x1024_o0_0_S1024x128) l0 s0
    iapply (oload c) $$ H10
    iintro H10
    iapply (ostore c) $$ H10
    iintro %X2 %s1 H10
    have l2 : Laid a' 2 X2 := laid_step (q := 1) (by decide) (off := ![0, 128]) rfl (hs := slices_S1024x1024_o0_128_S1024x128) l1 s1
    iapply (oload c) $$ H10
    iintro H10
    iapply (ostore c) $$ H10
    iintro %X3 %s2 H10
    have l3 : Laid a' 3 X3 := laid_step (q := 2) (by decide) (off := ![0, 256]) rfl (hs := slices_S1024x1024_o0_256_S1024x128) l2 s2
    iapply (oload c) $$ H10
    iintro H10
    iapply (ostore c) $$ H10
    iintro %X4 %s3 H10
    have l4 : Laid a' 4 X4 := laid_step (q := 3) (by decide) (off := ![0, 384]) rfl (hs := slices_S1024x1024_o0_384_S1024x128) l3 s3
    iapply (oload c) $$ H10
    iintro H10
    iapply (ostore c) $$ H10
    iintro %X5 %s4 H10
    have l5 : Laid a' 5 X5 := laid_step (q := 4) (by decide) (off := ![0, 512]) rfl (hs := slices_S1024x1024_o0_512_S1024x128) l4 s4
    iapply (oload c) $$ H10
    iintro H10
    iapply (ostore c) $$ H10
    iintro %X6 %s5 H10
    have l6 : Laid a' 6 X6 := laid_step (q := 5) (by decide) (off := ![0, 640]) rfl (hs := slices_S1024x1024_o0_640_S1024x128) l5 s5
    iapply (oload c) $$ H10
    iintro H10
    iapply (ostore c) $$ H10
    iintro %X7 %s6 H10
    have l7 : Laid a' 7 X7 := laid_step (q := 6) (by decide) (off := ![0, 768]) rfl (hs := slices_S1024x1024_o0_768_S1024x128) l6 s6
    iapply (oload c) $$ H10
    iintro H10
    iapply (ostore c) $$ H10
    iintro %X8 %s7 H10
    have l8 : Laid a' 8 X8 := laid_step (q := 7) (by decide) (off := ![0, 896]) rfl (hs := slices_S1024x1024_o0_896_S1024x128) l7 s7
    have l := laid_all l8
    subst l
    iapply (wret c)
    iapply HK
    isplitl [HD]; · iexact HD
    isplitl [HH]; · iexact HH
    isplitl [H13]; · iexact H13
    isplitl [H9]; · iexact H9
    isplitl [H10]; · iexact H10
    iexact H14
  · rw [dif_neg (fun h => h6 ((cond7_iff i).mp h)), if_neg h6]
    iapply (wret c)
    iapply HK
    isplitl [HD]; · iexact HD
    isplitl [HH]; · iexact HH
    isplitl [H13]; · iexact H13
    isplitl [H9]; · iexact H9
    isplitl [H10]; · iexact H10
    iexact H14

end Cert.Routed

end
-- ==== Proof.Chain.lean ====
/- The copies between the points of the grid: what is under way as each point begins, and how a point leaves it for the next. -/
module

public import proofs.«01_k».proof.Proof.Body

@[expose] public section

set_option maxRecDepth 16384

noncomputable section

namespace Cert.Routed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [FloatOps F]

local notation "𝕄" => MT nD τ sig Unit (Elt F) ℕ (Pipeline.UD sig nD τ) ℕ

/-- The slot of a tile. -/
def slot (n : ℕ) : Fin 2 := ⟨n % 2, Nat.mod_lt _ (by decide)⟩

/-- Whether a tile is one of the `nu` used ones. -/
abbrev Used (nu : BitVec 32) (T : ℕ) : Prop := (T : ℤ) < nu.toInt

variable (c : Dev nD) (nu : BitVec 32) (w : ℕ → Fin 1024 → Fin 32768) (hb : TokB F)

/-- The copies as column `j` of tile `T` begins: the next tile's rows in part, or the tile's own rows in full, or nothing. -/
def Copies (T j : ℕ) : sProp 𝕄 :=
  if 0 < j ∧ Used nu (T + 1) then iprop(Fly c (slot (T + 1)) (w (T + 1)) hb (min (256 * j) 1024) ∗ Rest c (slot T))
  else if j = 0 ∧ 0 < T ∧ Used nu T then iprop(Fly c (slot T) (w T) hb 1024 ∗ Rest c (slot (T + 1)))
  else iprop(Rest c (slot T) ∗ Rest c (slot (T + 1)) ∗ (tokL c ↦{fullShare} hb))

theorem slot_succ2 (T : ℕ) : slot (T + 2) = slot T := Fin.ext (by show (T + 2) % 2 = T % 2; omega)
theorem slot_cur (i : grid0.Coords) : cur i = slot (i 0).val := rfl
theorem slot_nxt (i : grid0.Coords) : nxt i = slot ((i 0).val + 1) := Fin.ext (by show 1 - (i 0).val % 2 = ((i 0).val + 1) % 2; omega)

theorem copies_idle (T j : ℕ) (h : ¬ (0 < j ∧ Used nu (T + 1))) (h' : ¬ (j = 0 ∧ 0 < T ∧ Used nu T)) :
    (Copies c nu w hb T j : sProp 𝕄) = iprop(Rest c (slot T) ∗ Rest c (slot (T + 1)) ∗ (tokL c ↦{fullShare} hb)) := by
  unfold Copies; rw [if_neg h, if_neg h']

/-- A used tile's point begins with what its body takes. -/
theorem copies_before (i : grid0.Coords) (hu : Used nu (i 0).val) :
    (Copies c nu w hb (i 0).val (i 1).val : sProp 𝕄) = Before c i (Used nu ((i 0).val + 1)) (w (i 0).val) (w ((i 0).val + 1)) hb := by
  unfold Copies Before Mine Ahead Idle
  rw [slot_cur, slot_nxt]
  by_cases hj : (i 1).val = 0
  · rw [if_neg (fun h => by omega)]
    by_cases hT : (i 0).val = 0
    · rw [if_neg (fun h => by omega), if_pos ⟨hT, hj⟩]
    · rw [if_pos ⟨hj, by omega, hu⟩, if_neg (fun h => hT h.1), if_pos hj]
  · rw [if_neg (fun h : _ ∧ (i 1).val = 0 => hj h.2), if_neg hj]
    by_cases hn : Used nu ((i 0).val + 1)
    · rw [if_pos ⟨by omega, hn⟩, if_pos ⟨hn, by omega⟩]
    · rw [if_neg (fun h => hn h.2), if_neg (fun h => hj h.1), if_neg (fun h => hn h.1)]

/-- The next point of a tile, or the first of the next tile. -/
def Copies' (T j : ℕ) : sProp 𝕄 := if j = 6 then Copies c nu w hb (T + 1) 0 else Copies c nu w hb T (j + 1)

/-- A used tile's point leaves what the next one begins with. -/
theorem copies_after (i : grid0.Coords) :
    (Ahead c i (Used nu ((i 0).val + 1)) (w ((i 0).val + 1)) hb ((i 1).val + 1) : sProp 𝕄) ⊢ Copies' c nu w hb (i 0).val (i 1).val := by
  unfold Copies' Ahead Idle
  rw [slot_cur, slot_nxt]
  by_cases hj : (i 1).val = 6
  · rw [if_pos hj, hj]
    by_cases hn : Used nu ((i 0).val + 1)
    · have e : (Copies c nu w hb ((i 0).val + 1) 0 : sProp 𝕄)
          = iprop(Fly c (slot ((i 0).val + 1)) (w ((i 0).val + 1)) hb 1024 ∗ Rest c (slot ((i 0).val + 1 + 1))) := by
        unfold Copies
        rw [if_neg (fun h => by omega), if_pos ⟨rfl, by omega, hn⟩]
      rw [if_pos ⟨hn, by omega⟩, e, slot_succ2]
      exact .rfl
    · rw [if_neg (fun h => hn h.1), copies_idle c nu w hb ((i 0).val + 1) 0 (fun h => by omega) (fun h => hn h.2.2), slot_succ2]
      iintro ⟨H, H', H''⟩
      isplitl [H']; · iexact H'
      isplitl [H]; · iexact H
      iexact H''
  · rw [if_neg hj]
    unfold Copies
    by_cases hn : Used nu ((i 0).val + 1)
    · rw [if_pos ⟨hn, by omega⟩, if_pos ⟨by omega, hn⟩]
    · rw [if_neg (fun h => hn h.1), if_neg (fun h => hn h.2), if_neg (fun h => by omega)]

/-- Past the used tiles nothing is under way. -/
theorem copies_unused (T j : ℕ) (hu : ¬ Used nu T) : (Copies c nu w hb T j : sProp 𝕄) ⊢ Copies' c nu w hb T j := by
  have hn : ¬ Used nu (T + 1) := fun h => hu (by unfold Used at *; omega)
  rw [copies_idle c nu w hb T j (fun h => hn h.2) (fun h => hu h.2.2)]
  unfold Copies'
  by_cases hj : j = 6
  · rw [if_pos hj, copies_idle c nu w hb (T + 1) 0 (fun h => by omega) (fun h => hn h.2.2), slot_succ2]
    iintro ⟨H, H', H''⟩
    isplitl [H']; · iexact H'
    isplitl [H]; · iexact H
    iexact H''
  · rw [if_neg hj, copies_idle c nu w hb T (j + 1) (fun h => hn h.2) (fun h => by omega)]

/-- As the first point begins nothing is under way, -/
theorem copies_first : (Copies c nu w hb 0 0 : sProp 𝕄) = iprop(Rest c (slot 0) ∗ Rest c (slot 1) ∗ (tokL c ↦{fullShare} hb)) :=
  copies_idle c nu w hb 0 0 (fun h => by omega) (fun h => by omega)

/-- nor after the last. -/
theorem copies_last (hnu : nu.toInt ≤ 72) : (Copies c nu w hb 72 0 : sProp 𝕄) = iprop(Rest c (slot 72) ∗ Rest c (slot 73) ∗ (tokL c ↦{fullShare} hb)) :=
  copies_idle c nu w hb 72 0 (fun h => by omega) (fun h => by unfold Used at h; omega)

end Cert.Routed

end
-- ==== Proof.Blocks.lean ====
/- What the call is launched on: its tables, the blocks the pipeline brings each point, and what is asked of them. -/
module

public import proofs.«01_k».proof.Proof.Chain
public import Idealize.ShloMosaic.Lib.Pipeline.FrameBody
public import Idealize.ShloMosaic.Lib.Pipeline.Value
public import proofs.«01_k».proof.Proof.Gen.KernelIdeal.Launch

@[expose] public section

set_option maxRecDepth 16384

noncomputable section

namespace Cert.Routed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [FloatOps F]

local notation "𝕄" => MT nD τ sig Unit (Elt F) ℕ (Pipeline.UD sig nD τ) ℕ

open Idealize.ShloMosaic.Pipeline (Dat Cfg Window BodyObligation)

variable (m : (ℓ : Loc nD τ sig) → Buf (Elt F) ℓ) (ρ : Dev nD → PrngReg)

/-- A buffer as launched. -/
abbrev V (c : Dev nD) (b : Ref sig .tc) : Buf (Elt F) ((c : Thread nD τ).loc b) := m ((c : Thread nD τ).loc b)

set_option maxHeartbeats 800000 in
/-- The program is the call alone. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

/-- The two tables. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- The number of tiles in use. -/
def nuW : BitVec 32 := V m (0 : Dev nD) main_arg3 (ix1 (0 : Fin 1))
/-- A tile's expert. -/
def teW (T : Fin 72) : BitVec 32 := V m (0 : Dev nD) main_arg2 (ix1 T)
/-- A slot's token. -/
def srcW (c : Dev nD) (x : Fin 73728) : BitVec 32 := V m c main_arg1 (ix1 x)

theorem tbl1_eq : tbl m 1 = fun _ => nuW m := by
  funext x
  show V m (0 : Dev nD) main_arg3 x = V m (0 : Dev nD) main_arg3 (ix1 (0 : Fin 1))
  congr 1
  funext a
  match a with
  | ⟨0, _⟩ => exact Subsingleton.elim (α := Fin 1) _ _

/-- Every slot names a token, every tile an expert, and no more tiles are in use than there are. -/
structure Ready : Prop where
  src : ∀ c x, (srcW m c x).toNat < 32768
  te : ∀ T, (teW m T).toNat < 16
  nu : (nuW m).toInt ≤ 72

/-- The tile's expert as the index maps read it. -/
theorem te_at (i : grid0.Coords) :
    (tbl m).at 0 (Rect.unit (s := S72) ![(Scalar.indexCast (BitVec.ofNat 32 (i 0).val)).toNat] S1.size (k0_off1_inb i)) numel1_S1 = teW m ⟨(i 0).val, (i 0).isLt⟩ := by
  show V m (0 : Dev nD) main_arg2 _ = V m (0 : Dev nD) main_arg2 _
  congr 1
  funext a
  apply Fin.ext
  match a with
  | ⟨0, _⟩ =>
    have h := congrFun (k0_off1_eq i) 0
    show k0_off1 i 0 + 1 * 0 = (i 0).val
    rw [h]; rfl

theorem ix_gate (i : grid0.Coords) : cc0_transform_3 k0_off1_inb numel1_S1 (tbl m) i = ![(teW m ⟨(i 0).val, (i 0).isLt⟩).toNat, 0, (i 1).val] := by
  unfold cc0_transform_3
  dsimp only
  rw [te_at]
  have h1 := i1_lt i
  have e : (BitVec.ofNat 32 (i 1).val).toNat = (i 1).val := by rw [BitVec.toNat_ofNat]; omega
  rw [e]; rfl
theorem ix_up (i : grid0.Coords) : cc0_transform_4 k0_off1_inb numel1_S1 (tbl m) i = ![(teW m ⟨(i 0).val, (i 0).isLt⟩).toNat, 0, (i 1).val] := ix_gate m i
theorem ix_down (i : grid0.Coords) : cc0_transform_5 k0_off1_inb numel1_S1 (tbl m) i = ![(teW m ⟨(i 0).val, (i 0).isLt⟩).toNat, (i 1).val, 0] := by
  unfold cc0_transform_5
  dsimp only
  rw [te_at]
  have h1 := i1_lt i
  have e : (BitVec.ofNat 32 (i 1).val).toNat = (i 1).val := by rw [BitVec.toNat_ofNat]; omega
  rw [e]; rfl
theorem ix_next (i : grid0.Coords) : cc0_transform_1 i = ![min ((i 0).val + 1) 71] := by
  have h0 := i0_lt i
  have key : ∀ n : Fin 72, (Scalar.minsi (Scalar.addi (BitVec.ofNat 32 n.val) 1#32) 71#32).toNat = min (n.val + 1) 71 := by decide +kernel
  exact congrArg (fun x => ![x]) (key ⟨(i 0).val, h0⟩)
theorem ix_out (i : grid0.Coords) : cc0_transform_6 i = ![(i 0).val, 0] := by
  have h0 := i0_lt i
  unfold cc0_transform_6
  have e : (BitVec.ofNat 32 (i 0).val).toNat = (i 0).val := by rw [BitVec.toNat_ofNat]; omega
  dsimp only
  rw [e]; rfl

abbrev Ok : Prop := ok0 (F := F) (tbl m)

/-- So every weight block lies inside its array. -/
theorem ok_of (h : Ready m) : Ok m := by
  have hte := fun i : grid0.Coords => h.te ⟨(i 0).val, (i 0).isLt⟩
  have hj := i1_lt
  refine ⟨fun i => ⟨?_, .inl rfl⟩, fun i => ⟨?_, .inl rfl⟩, fun i => ⟨?_, .inl rfl⟩⟩
  · rw [ix_gate]; have := hte i; have := hj i
    intro a
    match a with
    | ⟨0, _⟩ => show ((teW m ⟨(i 0).val, (i 0).isLt⟩).toNat + 1) * 1 ≤ 16; omega
    | ⟨1, _⟩ => show (0 + 1) * 1024 ≤ 1024; omega
    | ⟨2, _⟩ => show ((i 1).val + 1) * 512 ≤ 3584; omega
  · rw [ix_up]; have := hte i; have := hj i
    intro a
    match a with
    | ⟨0, _⟩ => show ((teW m ⟨(i 0).val, (i 0).isLt⟩).toNat + 1) * 1 ≤ 16; omega
    | ⟨1, _⟩ => show (0 + 1) * 1024 ≤ 1024; omega
    | ⟨2, _⟩ => show ((i 1).val + 1) * 512 ≤ 3584; omega
  · rw [ix_down]; have := hte i; have := hj i
    intro a
    match a with
    | ⟨0, _⟩ => show ((teW m ⟨(i 0).val, (i 0).isLt⟩).toNat + 1) * 1 ≤ 16; omega
    | ⟨1, _⟩ => show ((i 1).val + 1) * 512 ≤ 3584; omega
    | ⟨2, _⟩ => show (0 + 1) * 1024 ≤ 1024; omega

abbrev adm (hO : Ok m) : (pcfg0 (F := F)).Adm := ⟨tbl m, hO⟩
abbrev cfgM (hO : Ok m) : Pipeline.Cfg sig Λ₀ := cfg0 (adm m hO)

/-- Point `t` is column `t % 7` of tile `t / 7`. -/
theorem coords_at : ∀ t : Fin grid0.N, (grid0.coords t 0).val = t.val / 7 ∧ (grid0.coords t 1).val = t.val % 7 := by decide +kernel

/-- A window's block at a point, as launched. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The tokens of tile `T`, as numbers. -/
def wdT (c : Dev nD) (T : ℕ) (r : Fin 1024) : Fin 32768 :=
  ⟨(srcW m c ⟨(1024 * T + r.val) % 73728, Nat.mod_lt _ (by decide)⟩).toNat % 32768, Nat.mod_lt _ (by decide)⟩

variable (h : Ready m) (hO : Ok m) (c : Dev nD) (t : Fin (cfgM m hO).N)

theorem blk_first (x : Fin 1024) : (iblk m hO c 0 t : S1024.Idx → BitVec 32) (ix1 x) = srcW m c ⟨x.val, by omega⟩ := by
  unfold iblk
  show V m c main_arg1 _ = V m c main_arg1 _
  congr 1
  funext a
  apply Fin.ext
  match a with
  | ⟨0, _⟩ => show 0 * 1024 + 1 * x.val = x.val; omega

theorem blk_next (x : Fin 1024) : (iblk m hO c 1 t : S1024.Idx → BitVec 32) (ix1 x)
    = srcW m c ⟨min ((grid0.coords t 0).val + 1) 71 * 1024 + x.val, by omega⟩ := by
  unfold iblk
  show V m c main_arg1 _ = V m c main_arg1 _
  congr 1
  funext a
  apply Fin.ext
  match a with
  | ⟨0, _⟩ =>
    show cc0_transform_1 (grid0.coords t) 0 * 1024 + 1 * x.val = min ((grid0.coords t 0).val + 1) 71 * 1024 + x.val
    rw [ix_next]
    show min ((grid0.coords t 0).val + 1) 71 * 1024 + 1 * x.val = _
    omega

/-- Tile `T`'s expert, as a number. -/
def teN (T : ℕ) : Fin 16 := ⟨(teW m ⟨T % 72, Nat.mod_lt _ (by decide)⟩).toNat % 16, Nat.mod_lt _ (by decide)⟩

/-- Column `j` of tile `T`'s weights: a block of the gate's, of the up-projection's, of the down-projection's. -/
def wgB (T j : ℕ) : S1x1024x512.Idx → Elt F .f32 := fun y =>
  V m c main_arg4 (ix3 (teN m T) (⟨(y 1).val, (y 1).isLt⟩ : Fin 1024) (⟨(512 * j + (y 2).val) % 3584, Nat.mod_lt _ (by decide)⟩ : Fin 3584))
def wuB (T j : ℕ) : S1x1024x512.Idx → Elt F .f32 := fun y =>
  V m c main_arg5 (ix3 (teN m T) (⟨(y 1).val, (y 1).isLt⟩ : Fin 1024) (⟨(512 * j + (y 2).val) % 3584, Nat.mod_lt _ (by decide)⟩ : Fin 3584))
def wdB (T j : ℕ) : S1x512x1024.Idx → Elt F .f32 := fun y =>
  V m c main_arg6 (ix3 (teN m T) (⟨(512 * j + (y 1).val) % 3584, Nat.mod_lt _ (by decide)⟩ : Fin 3584) (⟨(y 2).val, (y 2).isLt⟩ : Fin 1024))

include h
theorem teN_val (T : ℕ) (hT : T < 72) : (teN m T).val = (teW m ⟨T, hT⟩).toNat := by
  have e : (⟨T % 72, Nat.mod_lt _ (by decide)⟩ : Fin 72) = ⟨T, hT⟩ := Fin.ext (Nat.mod_eq_of_lt hT)
  show (teW m ⟨T % 72, _⟩).toNat % 16 = _
  rw [e, Nat.mod_eq_of_lt (h.te _)]

theorem wdT_first (r : Fin 1024) : ((iblk m hO c 0 t : S1024.Idx → BitVec 32) (ix1 r)).toNat = (wdT m c 0 r).val := by
  rw [blk_first]
  have e : (⟨(1024 * 0 + r.val) % 73728, Nat.mod_lt _ (by decide)⟩ : Fin 73728) = ⟨r.val, by omega⟩ := Fin.ext (by show (1024 * 0 + r.val) % 73728 = r.val; omega)
  show _ = (srcW m c ⟨(1024 * 0 + r.val) % 73728, _⟩).toNat % 32768
  rw [e, Nat.mod_eq_of_lt (h.src _ _)]

theorem wdT_next (hT : (grid0.coords t 0).val + 1 < 72) (r : Fin 1024) :
    ((iblk m hO c 1 t : S1024.Idx → BitVec 32) (ix1 r)).toNat = (wdT m c ((grid0.coords t 0).val + 1) r).val := by
  rw [blk_next]
  have e : (⟨(1024 * ((grid0.coords t 0).val + 1) + r.val) % 73728, Nat.mod_lt _ (by decide)⟩ : Fin 73728)
      = ⟨min ((grid0.coords t 0).val + 1) 71 * 1024 + r.val, by omega⟩ :=
    Fin.ext (by show (1024 * ((grid0.coords t 0).val + 1) + r.val) % 73728 = min ((grid0.coords t 0).val + 1) 71 * 1024 + r.val; omega)
  show _ = (srcW m c ⟨(1024 * ((grid0.coords t 0).val + 1) + r.val) % 73728, _⟩).toNat % 32768
  rw [e, Nat.mod_eq_of_lt (h.src _ _)]

theorem blk_gate : (iblk m hO c 2 t : S1x1024x512.Idx → Elt F .f32) = wgB m c (grid0.coords t 0).val (grid0.coords t 1).val := by
  have h0 := i0_lt (grid0.coords t)
  have h1 := i1_lt (grid0.coords t)
  refine funext fun y : S1x1024x512.Idx => ?_
  unfold iblk
  unfold wgB
  show V m c main_arg4 _ = V m c main_arg4 _
  congr 1
  funext a
  apply Fin.ext
  match a with
  | ⟨0, _⟩ =>
    have y0 : (y 0).val < 1 := (y 0).isLt
    show cc0_transform_3 k0_off1_inb numel1_S1 (tbl m) (grid0.coords t) 0 * 1 + 1 * (y 0).val = (teN m (grid0.coords t 0).val).val
    rw [ix_gate, teN_val m h _ h0]
    show (teW m ⟨(grid0.coords t 0).val, _⟩).toNat * 1 + 1 * (y 0).val = _
    omega
  | ⟨1, _⟩ =>
    show cc0_transform_3 k0_off1_inb numel1_S1 (tbl m) (grid0.coords t) 1 * 1024 + 1 * (y 1).val = (y 1).val
    rw [ix_gate]
    show 0 * 1024 + 1 * (y 1).val = _
    omega
  | ⟨2, _⟩ =>
    have y2 : (y 2).val < 512 := (y 2).isLt
    show cc0_transform_3 k0_off1_inb numel1_S1 (tbl m) (grid0.coords t) 2 * 512 + 1 * (y 2).val = (512 * (grid0.coords t 1).val + (y 2).val) % 3584
    rw [ix_gate]
    show (grid0.coords t 1).val * 512 + 1 * (y 2).val = _
    omega

theorem blk_up : (iblk m hO c 3 t : S1x1024x512.Idx → Elt F .f32) = wuB m c (grid0.coords t 0).val (grid0.coords t 1).val := by
  have h0 := i0_lt (grid0.coords t)
  have h1 := i1_lt (grid0.coords t)
  refine funext fun y : S1x1024x512.Idx => ?_
  unfold iblk
  unfold wuB
  show V m c main_arg5 _ = V m c main_arg5 _
  congr 1
  funext a
  apply Fin.ext
  match a with
  | ⟨0, _⟩ =>
    have y0 : (y 0).val < 1 := (y 0).isLt
    show cc0_transform_4 k0_off1_inb numel1_S1 (tbl m) (grid0.coords t) 0 * 1 + 1 * (y 0).val = (teN m (grid0.coords t 0).val).val
    rw [ix_up, teN_val m h _ h0]
    show (teW m ⟨(grid0.coords t 0).val, _⟩).toNat * 1 + 1 * (y 0).val = _
    omega
  | ⟨1, _⟩ =>
    show cc0_transform_4 k0_off1_inb numel1_S1 (tbl m) (grid0.coords t) 1 * 1024 + 1 * (y 1).val = (y 1).val
    rw [ix_up]
    show 0 * 1024 + 1 * (y 1).val = _
    omega
  | ⟨2, _⟩ =>
    have y2 : (y 2).val < 512 := (y 2).isLt
    show cc0_transform_4 k0_off1_inb numel1_S1 (tbl m) (grid0.coords t) 2 * 512 + 1 * (y 2).val = (512 * (grid0.coords t 1).val + (y 2).val) % 3584
    rw [ix_up]
    show (grid0.coords t 1).val * 512 + 1 * (y 2).val = _
    omega

theorem blk_down : (iblk m hO c 4 t : S1x512x1024.Idx → Elt F .f32) = wdB m c (grid0.coords t 0).val (grid0.coords t 1).val := by
  have h0 := i0_lt (grid0.coords t)
  have h1 := i1_lt (grid0.coords t)
  refine funext fun y : S1x512x1024.Idx => ?_
  unfold iblk
  unfold wdB
  show V m c main_arg6 _ = V m c main_arg6 _
  congr 1
  funext a
  apply Fin.ext
  match a with
  | ⟨0, _⟩ =>
    have y0 : (y 0).val < 1 := (y 0).isLt
    show cc0_transform_5 k0_off1_inb numel1_S1 (tbl m) (grid0.coords t) 0 * 1 + 1 * (y 0).val = (teN m (grid0.coords t 0).val).val
    rw [ix_down, teN_val m h _ h0]
    show (teW m ⟨(grid0.coords t 0).val, _⟩).toNat * 1 + 1 * (y 0).val = _
    omega
  | ⟨1, _⟩ =>
    have y1 : (y 1).val < 512 := (y 1).isLt
    show cc0_transform_5 k0_off1_inb numel1_S1 (tbl m) (grid0.coords t) 1 * 512 + 1 * (y 1).val = (512 * (grid0.coords t 1).val + (y 1).val) % 3584
    rw [ix_down]
    show (grid0.coords t 1).val * 512 + 1 * (y 1).val = _
    omega
  | ⟨2, _⟩ =>
    show cc0_transform_5 k0_off1_inb numel1_S1 (tbl m) (grid0.coords t) 2 * 1024 + 1 * (y 2).val = (y 2).val
    rw [ix_down]
    show 0 * 1024 + 1 * (y 2).val = _
    omega

end Cert.Routed

end
-- ==== Proof.Pre.lean ====
/- The precondition, read: every slot names a token, every tile an expert, at most all the tiles are in use. -/
module

public import proofs.«01_k».proof.Proof.Blocks
public import proofs.«01_k».proof.Proof.Gen.Pre_in_range

public import Idealize.ShloMosaic.Lib.StableHlo.Predicate

@[expose] public section

set_option maxRecDepth 16384

noncomputable section

namespace Cert.Routed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [FloatOps F]

local notation "𝕄" => MT nD τ sig Unit (Elt F) ℕ (Pipeline.UD sig nD τ) ℕ

variable (m : (ℓ : Loc nD τ sig) → Buf (Elt F) ℓ)

theorem andi_one {w : BitVec 1} {v : BitVec 1} (h : w &&& v = 1#1) : w = 1#1 ∧ v = 1#1 := by
  revert w v; decide

theorem below {x : BitVec 32} {n : ℕ} (hn : n < 2147483648) (h0 : 0 ≤ x.toInt) (h1 : x.toInt < (n : ℤ)) : x.toNat < n := by
  have e := BitVec.toInt_eq_toNat_cond x
  have := x.isLt
  split at e <;> omega

theorem parts {s t n : BitVec 32}
    (e : IntOp.andi (IntOp.andi (IntOp.andi (IntOp.cmpi .sge s 0#32) (IntOp.cmpi .slt s 32768#32)) (IntOp.andi (IntOp.cmpi .sge t 0#32) (IntOp.cmpi .slt t 16#32))) (IntOp.cmpi .sle n 72#32) = 1#1) :
    s.toNat < 32768 ∧ t.toNat < 16 ∧ n.toInt ≤ 72 := by
  obtain ⟨e1, en⟩ := andi_one e
  obtain ⟨es, et⟩ := andi_one e1
  obtain ⟨s1, s2⟩ := andi_one es
  obtain ⟨t1, t2⟩ := andi_one et
  simp only [IntOp.cmpi, StableHlo.Predicate.ofBool_eq_one_iff, BitVec.sle_iff_toInt_le, BitVec.slt_iff_toInt_lt] at en s1 s2 t1 t2
  exact ⟨below (by decide) s1 s2, below (by decide) t1 t2, en⟩

theorem src_of (c : Dev nD) (x : Fin 73728) (y : S73728.Idx) (hy : y = ix1 x) (h : BitVec.toNat (m ((c.tc : Thread nD τ).loc main_arg1) y) < 32768) : (srcW m c x).toNat < 32768 := by
  subst hy; exact h
theorem te_of (T : Fin 72) (y : S72.Idx) (hy : (y 0).val = T.val) (h : BitVec.toNat (m (((0 : Dev nD).tc : Thread nD τ).loc main_arg2) y) < 16) : (teW m T).toNat < 16 := by
  have e : y = ix1 T := funext fun a => Fin.ext (match a with | ⟨0, _⟩ => hy)
  subst e; exact h
theorem nu_of (y : S1.Idx) (h : BitVec.toInt (m (((0 : Dev nD).tc : Thread nD τ).loc main_arg3) y) ≤ 72) : (nuW m).toInt ≤ 72 := by
  have e : y = ix1 (0 : Fin 1) := funext fun a => (match a with | ⟨0, _⟩ => Subsingleton.elim (α := Fin 1) _ _)
  subst e; exact h

theorem ready_of (h : ∀ c : Dev nD, (Cert.Pre_in_range.fn (F := F) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))) = fun _ => 1#1) : Ready m := by
  refine ⟨fun c x => ?_, fun T => ?_, ?_⟩
  · have e := congrFun (h c) ((Shape.reshapeEquiv Cert.Pre_in_range.Facts.shapeCasts_S73728_S72x1024).symm (ix1 x))
    simp only [Cert.Pre_in_range.fn, andi, cmpi, constantI, shapeCast, broadcastInDim] at e
    exact src_of m c x _ (Equiv.apply_symm_apply _ _) (parts e).1
  · have e := congrFun (h 0) (ix2 T (0 : Fin 1024))
    simp only [Cert.Pre_in_range.fn, andi, cmpi, constantI, shapeCast, broadcastInDim] at e
    exact te_of m T _ rfl (parts e).2.1
  · have e := congrFun (h 0) (ix2 (0 : Fin 72) (0 : Fin 1024))
    simp only [Cert.Pre_in_range.fn, andi, cmpi, constantI, shapeCast, broadcastInDim] at e
    exact nu_of m _ (parts e).2.2

end Cert.Routed

end
-- ==== Proof.Same.lean ====
/-
  The kernel's program and its reading at the extended reals are one text: over any float values their bodies, their body
  tables and their mains are equal. So the one run of the call serves both.
-/
module

public import proofs.«01_k».proof.Defs
public import proofs.«01_k».proof.Proof.Gen.Kernel
public import proofs.«01_k».proof.Proof.Gen.KernelIdeal
public import Idealize.ShloMosaic.Init

@[expose] public section

set_option maxRecDepth 16384

noncomputable section

namespace Cert.Routed.Same

open Idealize.ShloMosaic

variable {F : FTy → Type} [FloatOps F]

local instance : Cert.Kernel.Facts := Cert.Kernel.Gen.facts
local instance : Cert.KernelIdeal.Facts := Cert.KernelIdeal.Gen.facts

set_option maxHeartbeats 40000000 in
/-- The two bodies, statement by statement. -/
theorem body_eq : @Cert.Kernel.cc0_ffn_routed F _ _ = @Cert.KernelIdeal.cc0_ffn_routed F _ _ := rfl

/-- The tables of the bodies: one label, and the same body on the same buffers at it. -/
theorem defs₀_eq : Cert.Kernel.defs₀ (F := F) = Cert.KernelIdeal.defs₀ := by
  unfold Cert.Kernel.defs₀ Cert.KernelIdeal.defs₀
  rw [body_eq]
  refine congrArg Defs.onTc (funext fun l => funext fun x => ?_)
  match l, x with
  | 0, (t, s) => rfl
  | ⟨_ + 1, h⟩, _ => exact absurd h (Nat.not_lt.2 (Nat.le_add_left _ _))

/-- The tables with the call's pipeline. -/
theorem defs_eq : Cert.Kernel.defs (F := F) = Cert.KernelIdeal.defs := by
  unfold Cert.Kernel.defs
  rw [defs₀_eq]
  rfl

/-- The mains: the one call. -/
theorem main_eq : Cert.Kernel.main (F := F) = Cert.KernelIdeal.main := rfl

end Cert.Routed.Same

end
-- ==== Proof.Run.lean ====
/- The call's run: what each point finds and leaves, from the first column of the first tile to the last of the last. -/
module

public import proofs.«01_k».proof.Proof.Blocks

@[expose] public section

set_option maxRecDepth 16384

noncomputable section

namespace Cert.Routed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [FloatOps F]

local notation "𝕄" => MT nD τ sig Unit (Elt F) ℕ (Pipeline.UD sig nD τ) ℕ

open Idealize.ShloMosaic.Pipeline (Dat Cfg Window BodyObligation)

variable (m : (ℓ : Loc nD τ sig) → Buf (Elt F) ℓ) (ρ : Dev nD → PrngReg)

/-- The tokens' rows. -/
abbrev tokV (c : Dev nD) : TokB F := V m c main_arg0
/-- The hidden block of column `j` of tile `T`. -/
def hidB (c : Dev nD) (T j : ℕ) : FVec F S1024x512 .bf16 := k0_pay23 (hv (wdT m c T) (tokV m c)) (wgB m c T j) (wuB m c T j)

/-- Tile `T`'s sum after its first `j` columns. -/
def accAt (c : Dev nD) (T : ℕ) : ℕ → FVec F S1024x1024 .f32
  | 0 => k0_pay1 (hidB m c T 0) (wdB m c T 0)
  | j + 1 => accStep j (accAt c T j) (hidB m c T j) (wdB m c T j)

/-- Tile `T`'s result. -/
def outV (c : Dev nD) (T : ℕ) : S8192x128.Idx → Elt F .f32 := if Used (nuW m) T then outBlk (accAt m c T 7) else k0_pay12

abbrev hM : Memref sig .tc .vmem S1024x1024 .bf16 := Memref.whole cc0_scratch2
abbrev aM : Memref sig .tc .vmem S1024x1024 .f32 := Memref.whole cc0_scratch3
abbrev teM : Memref sig .tc .smem S72 .i32 := Memref.whole main_arg2
abbrev nuM : Memref sig .tc .smem S1 .i32 := Memref.whole main_arg3

/-- The tables, which the body only reads, and the generator's register, which it does not. -/
def Side (c : Dev nD) : sProp 𝕄 :=
  iprop((∃ r, prngReg c r) ∗ owns (c.tc : Thread nD τ) teM fullShare.right (tbl m 0) ∗ owns (c.tc : Thread nD τ) nuM fullShare.right (fun _ => nuW m))

/-- What stands as column `j` of tile `T` begins: the copies; the tile's rows; the sum so far. -/
def PhiTJ (c : Dev nD) (T j : ℕ) : sProp 𝕄 :=
  iprop(Copies c (nuW m) (wdT m c) (tokV m c) T j
    ∗ (∃ X : S1024x1024.Idx → Elt F .bf16, ⌜0 < j ∧ Used (nuW m) T → X = hv (wdT m c T) (tokV m c)⌝ ∗ owns (c.tc : Thread nD τ) hM fullShare X)
    ∗ (∃ A : S1024x1024.Idx → Elt F .f32, ⌜0 < j ∧ Used (nuW m) T → A = accAt m c T j⌝ ∗ owns (c.tc : Thread nD τ) aM fullShare A)
    ∗ Side m c)

def PhiNext (c : Dev nD) (T j : ℕ) : sProp 𝕄 := if j = 6 then PhiTJ m c (T + 1) 0 else PhiTJ m c T (j + 1)
def PhiAt (c : Dev nD) (n : ℕ) : sProp 𝕄 := PhiTJ m c (n / 7) (n % 7)

theorem phiAt_succ (c : Dev nD) (n : ℕ) : PhiAt m c (n + 1) = PhiNext m c (n / 7) (n % 7) := by
  unfold PhiAt PhiNext
  by_cases hj : n % 7 = 6
  · rw [if_pos hj, show (n + 1) / 7 = n / 7 + 1 by omega, show (n + 1) % 7 = 0 by omega]
  · rw [if_neg hj, show (n + 1) / 7 = n / 7 by omega, show (n + 1) % 7 = n % 7 + 1 by omega]

theorem phi_used (c : Dev nD) (T j : ℕ) :
    iprop(Copies' c (nuW m) (wdT m c) (tokV m c) T j ∗ owns (c.tc : Thread nD τ) hM fullShare (hv (wdT m c T) (tokV m c))
      ∗ owns (c.tc : Thread nD τ) aM fullShare (accAt m c T (j + 1)) ∗ Side m c) ⊢ PhiNext m c T j := by
  unfold Copies' PhiNext
  by_cases hj : j = 6
  · rw [if_pos hj, if_pos hj]
    unfold PhiTJ
    iintro ⟨HC, HX, HA, HS⟩
    isplitl [HC]; · iexact HC
    isplitl [HX]
    · iexists (hv (wdT m c T) (tokV m c))
      isplitr; · ipureintro; exact fun h => absurd h.1 (by decide)
      iexact HX
    isplitl [HA]
    · iexists (accAt m c T (j + 1))
      isplitr; · ipureintro; exact fun h => absurd h.1 (by decide)
      iexact HA
    iexact HS
  · rw [if_neg hj, if_neg hj]
    unfold PhiTJ
    iintro ⟨HC, HX, HA, HS⟩
    isplitl [HC]; · iexact HC
    isplitl [HX]
    · iexists _
      isplitr; · ipureintro; exact fun _ => rfl
      iexact HX
    isplitl [HA]
    · iexists _
      isplitr; · ipureintro; exact fun _ => rfl
      iexact HA
    iexact HS

theorem phi_unused (c : Dev nD) (T j : ℕ) (hu : ¬ Used (nuW m) T) :
    iprop(Copies c (nuW m) (wdT m c) (tokV m c) T j
      ∗ (∃ X : S1024x1024.Idx → Elt F .bf16, owns (c.tc : Thread nD τ) hM fullShare X)
      ∗ (∃ A : S1024x1024.Idx → Elt F .f32, owns (c.tc : Thread nD τ) aM fullShare A) ∗ Side m c) ⊢ PhiNext m c T j := by
  have hC := copies_unused c (nuW m) (wdT m c) (tokV m c) T j hu
  unfold Copies' at hC
  unfold PhiNext
  by_cases hj : j = 6
  · rw [if_pos hj] at hC ⊢
    unfold PhiTJ
    iintro ⟨HC, ⟨%X, HX⟩, ⟨%A, HA⟩, HS⟩
    isplitl [HC]; · iapply hC; iexact HC
    isplitl [HX]
    · iexists X
      isplitr; · ipureintro; exact fun h => absurd h.1 (by decide)
      iexact HX
    isplitl [HA]
    · iexists A
      isplitr; · ipureintro; exact fun h => absurd h.1 (by decide)
      iexact HA
    iexact HS
  · rw [if_neg hj] at hC ⊢
    unfold PhiTJ
    iintro ⟨HC, ⟨%X, HX⟩, ⟨%A, HA⟩, HS⟩
    isplitl [HC]; · iapply hC; iexact HC
    isplitl [HX]
    · iexists X
      isplitr; · ipureintro; exact fun h => absurd h.2 hu
      iexact HX
    isplitl [HA]
    · iexists A
      isplitr; · ipureintro; exact fun h => absurd h.2 hu
      iexact HA
    iexact HS

section
variable (c : Dev nD) (i : grid0.Coords) (a0 a1 : Memref sig .tc .smem S1024 .i32) (h0 : a0.IsWhole) (h1 : a1.IsWhole)
  (a2 a3 : Memref sig .tc .vmem S1x1024x512 .f32) (h2 : a2.IsWhole) (h3 : a3.IsWhole) (a4 : Memref sig .tc .vmem S1x512x1024 .f32) (h4 : a4.IsWhole)
  (a5 : Memref sig .tc .vmem S8192x128 .f32) (h5 : a5.IsWhole)

/-- The body at a point, over the buffers it is handed. -/
abbrev bodyOn : Prog (TpuEff nD τ sig (Elt F) Λ₀ .tc) PUnit :=
  cc0_ffn_routed i teM (Memref.isWhole_whole _) nuM (Memref.isWhole_whole _) a0 h0 a1 h1
    tokM (Memref.isWhole_whole _) a2 h2 a3 h3 a4 h4 a5 h5
    rowsM (Memref.isWhole_whole _) cc0_scratch1 hM (Memref.isWhole_whole _) aM (Memref.isWhole_whole _)

/-- What a point finds and leaves in its blocks: only the result's block changes. -/
def Blocks (x4 x5 : S1024.Idx → Elt F .i32) (T j : ℕ) (X : S8192x128.Idx → Elt F .f32) : sProp 𝕄 :=
  iprop((∃ W, owes (c.tc : Thread nD τ) 0 W) ∗ owns (c.tc : Thread nD τ) a0 fullShare x4 ∗ owns (c.tc : Thread nD τ) a1 fullShare x5
    ∗ owns (c.tc : Thread nD τ) a2 fullShare (wgB m c T j) ∗ owns (c.tc : Thread nD τ) a3 fullShare (wuB m c T j) ∗ owns (c.tc : Thread nD τ) a4 fullShare (wdB m c T j)
    ∗ owns (c.tc : Thread nD τ) a5 fullShare X)

theorem point_used (x4 x5 : S1024.Idx → Elt F .i32) (hu : Used (nuW m) (i 0).val)
    (hx4 : ((i 0).val = 0 → ∀ r, (x4 (ix1 r)).toNat = (wdT m c (i 0).val r).val))
    (hx5 : (Used (nuW m) ((i 0).val + 1) → ∀ r, (x5 (ix1 r)).toNat = (wdT m c ((i 0).val + 1) r).val)) (X : S8192x128.Idx → Elt F .f32) :
    iprop(PhiTJ m c (i 0).val (i 1).val ∗ Blocks m c a0 a1 a2 a3 a4 a5 x4 x5 (i 0).val (i 1).val X)
      ⊢ Wp c (bodyOn i a0 a1 h0 h1 a2 a3 h2 h3 a4 h4 a5 h5) (fun _ => iprop(PhiNext m c (i 0).val (i 1).val
        ∗ Blocks m c a0 a1 a2 a3 a4 a5 x4 x5 (i 0).val (i 1).val (if (i 1).val = 6 then outV m c (i 0).val else X))) := by
  have hB := copies_before c (nuW m) (wdT m c) (tokV m c) i hu
  have eo : (if (i 1).val = 6 then outV m c (i 0).val else X)
      = (if (i 1).val = 6 then outBlk (accStep (i 1).val (accAt m c (i 0).val (i 1).val) (k0_pay23 (hv (wdT m c (i 0).val) (tokV m c)) (wgB m c (i 0).val (i 1).val) (wuB m c (i 0).val (i 1).val)) (wdB m c (i 0).val (i 1).val)) else X) := by
    by_cases hj : (i 1).val = 6
    · rw [if_pos hj, if_pos hj]
      unfold outV
      rw [if_pos hu, hj]
      rfl
    · rw [if_neg hj, if_neg hj]
  rw [eo]
  unfold PhiTJ Blocks
  rw [hB]
  unfold Side
  iintro ⟨⟨HC, ⟨%X', %hX, HX⟩, ⟨%A, %hA, HA⟩, Hg, Ht, Hn⟩, HW, H0, H1, H2, H3, H4, H5⟩
  iapply (body_used c i teM (Memref.isWhole_whole _) nuM (Memref.isWhole_whole _) a0 h0 a1 h1
    (Memref.isWhole_whole _) a2 h2 a3 h3 a4 h4 a5 h5
    (Memref.isWhole_whole _) hM (Memref.isWhole_whole _) aM (Memref.isWhole_whole _) fullShare.right (nuW m) hu
    x4 x5 (wgB m c (i 0).val (i 1).val) (wuB m c (i 0).val (i 1).val) (wdB m c (i 0).val (i 1).val)
    (wdT m c (i 0).val) (wdT m c ((i 0).val + 1)) (tokV m c) (Used (nuW m) ((i 0).val + 1)) Iff.rfl hx4 hx5
    (accAt m c (i 0).val (i 1).val) X)
  isplitl [HC]; · iexact HC
  unfold Held
  isplitl [HW Hn H0 H1 H2 H3]
  · isplitl [HW]; · iexact HW
    isplitl [Hn]; · iexact Hn
    isplitl [H0]; · iexact H0
    isplitl [H1]; · iexact H1
    isplitl [H2]; · iexact H2
    iexact H3
  isplitl [HX]
  · iexists X'
    isplitr; · ipureintro; exact fun hj => hX ⟨hj, hu⟩
    iexact HX
  isplitl [H4]; · iexact H4
  isplitl [H5]; · iexact H5
  isplitl [HA]
  · iexists A
    isplitr; · ipureintro; exact fun hj => hA ⟨hj, hu⟩
    iexact HA
  iintro ⟨HC, ⟨HW, Hn, H0, H1, H2, H3⟩, HX, H4, H5, HA⟩
  isplitl [HC HX HA Hg Ht Hn]
  · iapply (phi_used m c (i 0).val (i 1).val)
    isplitl [HC]; · iapply (copies_after c (nuW m) (wdT m c) (tokV m c) i); iexact HC
    isplitl [HX]; · iexact HX
    isplitl [HA]; · iexact HA
    unfold Side
    isplitl [Hg]; · iexact Hg
    isplitl [Ht]; · iexact Ht
    iexact Hn
  isplitl [HW]; · iexact HW
  isplitl [H0]; · iexact H0
  isplitl [H1]; · iexact H1
  isplitl [H2]; · iexact H2
  isplitl [H3]; · iexact H3
  isplitl [H4]; · iexact H4
  iexact H5

theorem point_unused (x4 x5 : S1024.Idx → Elt F .i32) (hu : ¬ Used (nuW m) (i 0).val) (X : S8192x128.Idx → Elt F .f32) :
    iprop(PhiTJ m c (i 0).val (i 1).val ∗ Blocks m c a0 a1 a2 a3 a4 a5 x4 x5 (i 0).val (i 1).val X)
      ⊢ Wp c (bodyOn i a0 a1 h0 h1 a2 a3 h2 h3 a4 h4 a5 h5) (fun _ => iprop(PhiNext m c (i 0).val (i 1).val
        ∗ Blocks m c a0 a1 a2 a3 a4 a5 x4 x5 (i 0).val (i 1).val (if (i 1).val = 6 then outV m c (i 0).val else X))) := by
  have eo : (if (i 1).val = 6 then outV m c (i 0).val else X) = (if (i 1).val = 6 then k0_pay12 else X) := by
    unfold outV
    rw [if_neg hu]
  rw [eo]
  unfold PhiTJ Blocks Side
  iintro ⟨⟨HC, ⟨%X', %hX, HX⟩, ⟨%A, %hA, HA⟩, Hg, Ht, Hn⟩, HW, H0, H1, H2, H3, H4, H5⟩
  iapply (body_unused c i teM (Memref.isWhole_whole _) nuM (Memref.isWhole_whole _) a0 h0 a1 h1
    (Memref.isWhole_whole _) a2 h2 a3 h3 a4 h4 a5 h5
    (Memref.isWhole_whole _) hM (Memref.isWhole_whole _) aM (Memref.isWhole_whole _) fullShare.right (nuW m) hu X)
  isplitl [Hn]; · iexact Hn
  isplitl [H5]; · iexact H5
  iintro ⟨Hn, H5⟩
  isplitl [HC HX HA Hg Ht Hn]
  · iapply (phi_unused m c (i 0).val (i 1).val hu)
    isplitl [HC]; · iexact HC
    isplitl [HX]; · iexists X'; iexact HX
    isplitl [HA]; · iexists A; iexact HA
    unfold Side
    isplitl [Hg]; · iexact Hg
    isplitl [Ht]; · iexact Ht
    iexact Hn
  isplitl [HW]; · iexact HW
  isplitl [H0]; · iexact H0
  isplitl [H1]; · iexact H1
  isplitl [H2]; · iexact H2
  isplitl [H3]; · iexact H3
  isplitl [H4]; · iexact H4
  iexact H5
end

/-- The proof data. -/
def dats (hO : Ok m) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outV m c (t.val / 7)
  Φ n := PhiAt m c n.val
  q w := Pipeline.shareOf spec0 w
  owed _ := 0

variable (hO : Ok m) (c : Dev nD) (t : Fin (cfgM m hO).N)

theorem A_eq (w : Fin (cfgM m hO).W) : (dats m hO 0 c).A w = V m c (Pipeline.arrRef spec0 w) := by
  dsimp only [dats]

theorem after_0 : (dats m hO 0 c).after 0 t = iblk m hO c 0 t := by dsimp only [dats]; try rfl
theorem after_1 : (dats m hO 0 c).after 1 t = iblk m hO c 1 t := by dsimp only [dats]; try rfl
theorem after_2 : (dats m hO 0 c).after 2 t = iblk m hO c 2 t := by dsimp only [dats]; try rfl
theorem after_3 : (dats m hO 0 c).after 3 t = iblk m hO c 3 t := by dsimp only [dats]; try rfl
theorem after_4 : (dats m hO 0 c).after 4 t = iblk m hO c 4 t := by dsimp only [dats]; try rfl
theorem after_5 : (dats m hO 0 c).after 5 t = outV m c (t.val / 7) := by dsimp only [dats]; try rfl

theorem before_0 (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (d) : (dats m hO 0 c).before 4 t d = iblk m hO c 4 t :=
  ((dats m hO 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

abbrev ms_0 : Memref sig .tc .smem S1024 .i32 := spec0_0.stage ((cfgM m hO).slots t 0)
abbrev ms_1 : Memref sig .tc .smem S1024 .i32 := spec0_1.stage ((cfgM m hO).slots t 1)
abbrev ms_2 : Memref sig .tc .vmem S1x1024x512 .f32 := spec0_2.stage ((cfgM m hO).slots t 2)
abbrev ms_3 : Memref sig .tc .vmem S1x1024x512 .f32 := spec0_3.stage ((cfgM m hO).slots t 3)
abbrev ms_4 : Memref sig .tc .vmem S1x512x1024 .f32 := spec0_4.stage ((cfgM m hO).slots t 4)
abbrev ms_5 : Memref sig .tc .vmem S8192x128 .f32 := spec0_5.stage ((cfgM m hO).slots t 5)
abbrev hs_0 : (ms_0 m hO t).IsWhole := hstage0_0 (((cfgM m hO).slots t 0).cast nbuf0_0)
abbrev hs_1 : (ms_1 m hO t).IsWhole := hstage0_1 (((cfgM m hO).slots t 1).cast nbuf0_1)
abbrev hs_2 : (ms_2 m hO t).IsWhole := hstage0_2 (((cfgM m hO).slots t 2).cast nbuf0_2)
abbrev hs_3 : (ms_3 m hO t).IsWhole := hstage0_3 (((cfgM m hO).slots t 3).cast nbuf0_3)
abbrev hs_4 : (ms_4 m hO t).IsWhole := hstage0_4 (((cfgM m hO).slots t 4).cast nbuf0_4)
abbrev hs_5 : (ms_5 m hO t).IsWhole := hstage0_5 (((cfgM m hO).slots t 5).cast nbuf0_5)

/-- The body at a point. -/
abbrev bodyAt : Prog (TpuEff nD τ sig (Elt F) Λ₀ .tc) PUnit :=
  bodyOn (grid0.coords t) (ms_0 m hO t) (ms_1 m hO t) (hs_0 m hO t) (hs_1 m hO t) (ms_2 m hO t) (ms_3 m hO t) (hs_2 m hO t) (hs_3 m hO t) (ms_4 m hO t) (hs_4 m hO t) (ms_5 m hO t) (hs_5 m hO t)

theorem defs₀_row : defs₀ (F := F) .tc (cfgM m hO).body ((cfgM m hO).bodyArgs t ((cfgM m hO).slots t)) = bodyAt m hO t := by
  unfold defs₀; rw [Defs.onTc_tc]

def bodyPre : sProp 𝕄 :=
  iprop((dats m hO 0 c).Φ t.castSucc ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d))
    ∗ (∃ d, owns (c : Thread nD τ) (ms_3 m hO t) fullShare ((dats m hO 0 c).before 3 t d))
    ∗ (∃ d, owns (c : Thread nD τ) (ms_4 m hO t) fullShare ((dats m hO 0 c).before 4 t d))
    ∗ (∃ d, owns (c : Thread nD τ) (ms_5 m hO t) fullShare ((dats m hO 0 c).before 5 t d)))

/-- The result's block is written by a tile's last column and left alone by the others. -/
def post5 : sProp 𝕄 :=
  if t.val % 7 = 6 then owns (c : Thread nD τ) (ms_5 m hO t) fullShare ((dats m hO 0 c).after 5 t)
  else iprop(∃ d, owns (c : Thread nD τ) (ms_5 m hO t) fullShare ((dats m hO 0 c).before 5 t d))

def bodyPost : sProp 𝕄 :=
  iprop((dats m hO 0 c).Φ t.succ ∗ (dats m hO 0 c).owesAt () t.succ
    ∗ owns (c : Thread nD τ) (ms_0 m hO t) fullShare ((dats m hO 0 c).after 0 t)
    ∗ owns (c : Thread nD τ) (ms_1 m hO t) fullShare ((dats m hO 0 c).after 1 t)
    ∗ owns (c : Thread nD τ) (ms_2 m hO t) fullShare ((dats m hO 0 c).after 2 t)
    ∗ owns (c : Thread nD τ) (ms_3 m hO t) fullShare ((dats m hO 0 c).after 3 t)
    ∗ owns (c : Thread nD τ) (ms_4 m hO t) fullShare ((dats m hO 0 c).after 4 t)
    ∗ post5 m hO c t)

theorem phi_now : (dats m hO 0 c).Φ t.castSucc = PhiTJ m c (grid0.coords t 0).val (grid0.coords t 1).val := by
  rw [(coords_at t).1, (coords_at t).2]
  dsimp only [dats]
  rfl
theorem phi_then : (dats m hO 0 c).Φ t.succ = PhiNext m c (grid0.coords t 0).val (grid0.coords t 1).val := by
  rw [(coords_at t).1, (coords_at t).2, ← phiAt_succ]
  dsimp only [dats]
  rfl

theorem sound_point (h : Ready m) (X : S8192x128.Idx → Elt F .f32) :
    iprop(PhiTJ m c (grid0.coords t 0).val (grid0.coords t 1).val
        ∗ Blocks m c (ms_0 m hO t) (ms_1 m hO t) (ms_2 m hO t) (ms_3 m hO t) (ms_4 m hO t) (ms_5 m hO t) (iblk m hO c 0 t) (iblk m hO c 1 t) (grid0.coords t 0).val (grid0.coords t 1).val X)
      ⊢ Wp c (bodyAt m hO t) (fun _ => iprop(PhiNext m c (grid0.coords t 0).val (grid0.coords t 1).val
        ∗ Blocks m c (ms_0 m hO t) (ms_1 m hO t) (ms_2 m hO t) (ms_3 m hO t) (ms_4 m hO t) (ms_5 m hO t) (iblk m hO c 0 t) (iblk m hO c 1 t) (grid0.coords t 0).val (grid0.coords t 1).val
          (if (grid0.coords t 1).val = 6 then outV m c (grid0.coords t 0).val else X))) := by
  by_cases hu : Used (nuW m) (grid0.coords t 0).val
  · refine point_used m c (grid0.coords t) _ _ _ _ _ _ _ _ _ _ _ _ (iblk m hO c 0 t) (iblk m hO c 1 t) hu (fun hz r => ?_) (fun hn r => ?_) X
    · rw [wdT_first m h, hz]
    · have hlt : (grid0.coords t 0).val + 1 < 72 := by have := h.nu; unfold Used at hn; omega
      exact wdT_next m h hO c t hlt r
  · exact point_unused m c (grid0.coords t) _ _ _ _ _ _ _ _ _ _ _ _ (iblk m hO c 0 t) (iblk m hO c 1 t) hu X

theorem wp_weaken {p : Prog (TpuEff nD τ sig (Elt F) Λ₀ .tc) PUnit} {Q Q' : PUnit → sProp 𝕄} (hQ : ∀ a, Q a ⊢ Q' a) : Wp c p Q ⊢ Wp c p Q' :=
  wp_mono _ _ _ hQ

theorem pick_pos (M : Memref sig .tc .vmem S8192x128 .f32) (O X : S8192x128.Idx → Elt F .f32) (j : ℕ) (hj : j = 6) :
    (owns (c.tc : Thread nD τ) M fullShare (if j = 6 then O else X) : sProp 𝕄) ⊢ owns (c.tc : Thread nD τ) M fullShare O := by rw [if_pos hj]
theorem pick_neg (M : Memref sig .tc .vmem S8192x128 .f32) (O X : S8192x128.Idx → Elt F .f32) (j : ℕ) (hj : ¬ j = 6) :
    (owns (c.tc : Thread nD τ) M fullShare (if j = 6 then O else X) : sProp 𝕄) ⊢ owns (c.tc : Thread nD τ) M fullShare X := by rw [if_neg hj]

theorem leave (h : Ready m) (d5) :
    iprop(PhiNext m c (grid0.coords t 0).val (grid0.coords t 1).val
        ∗ Blocks m c (ms_0 m hO t) (ms_1 m hO t) (ms_2 m hO t) (ms_3 m hO t) (ms_4 m hO t) (ms_5 m hO t) (iblk m hO c 0 t) (iblk m hO c 1 t) (grid0.coords t 0).val (grid0.coords t 1).val
          (if (grid0.coords t 1).val = 6 then outV m c (grid0.coords t 0).val else (dats m hO 0 c).before 5 t d5)) ⊢ bodyPost m hO c t := by
  unfold bodyPost
  rw [phi_then, after_0, after_1, after_2, after_3, after_4, blk_gate m h, blk_up m h, blk_down m h]
  unfold Dat.owesAt Pipeline.owesWithin
  rw [show (dats m hO 0 c).owed t.succ = 0 from rfl]
  unfold post5
  rw [after_5, ← (coords_at t).1, ← (coords_at t).2]
  unfold Blocks
  iintro ⟨HP, ⟨%W, HW⟩, H0, H1, H2, H3, H4, H5⟩
  isplitl [HP]; · iexact HP
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  by_cases hj : (grid0.coords t 1).val = 6
  · rw [if_pos hj]
    iapply (pick_pos c (ms_5 m hO t) (outV m c (grid0.coords t 0).val) ((dats m hO 0 c).before 5 t d5) (grid0.coords t 1).val hj)
    iexact H5
  · rw [if_neg hj]
    iexists d5
    iapply (pick_neg c (ms_5 m hO t) (outV m c (grid0.coords t 0).val) ((dats m hO 0 c).before 5 t d5) (grid0.coords t 1).val hj)
    iexact H5

theorem enter (h : Ready m) : bodyPre m hO c t ⊢ iprop(∃ d5, PhiTJ m c (grid0.coords t 0).val (grid0.coords t 1).val
        ∗ Blocks m c (ms_0 m hO t) (ms_1 m hO t) (ms_2 m hO t) (ms_3 m hO t) (ms_4 m hO t) (ms_5 m hO t) (iblk m hO c 0 t) (iblk m hO c 1 t) (grid0.coords t 0).val (grid0.coords t 1).val
          ((dats m hO 0 c).before 5 t d5)) := by
  unfold bodyPre
  simp only [before_0, before_1, before_2, before_3, before_4]
  rw [phi_now, blk_gate m h, blk_up m h, blk_down m h]
  unfold Dat.owesAt Pipeline.owesWithin Blocks
  rw [show (dats m hO 0 c).owed t.castSucc = 0 from rfl]
  iintro ⟨HP, ⟨%W, -, HW⟩, ⟨%d0, H0⟩, ⟨%d1, H1⟩, ⟨%d2, H2⟩, ⟨%d3, H3⟩, ⟨%d4, H4⟩, ⟨%d5, H5⟩⟩
  iexists d5
  isplitl [HP]; · iexact HP
  isplitl [HW]; · iexists W; iexact HW
  isplitl [H0]; · iexact H0
  isplitl [H1]; · iexact H1
  isplitl [H2]; · iexact H2
  isplitl [H3]; · iexact H3
  isplitl [H4]; · iexact H4
  iexact H5

theorem sound_body (h : Ready m) : bodyPre m hO c t ⊢ Wp c (bodyAt m hO t) (fun _ => bodyPost m hO c t) :=
  (enter m hO c t h).trans (sProp.exists_elim fun d5 =>
    (sound_point m hO c t h ((dats m hO 0 c).before 5 t d5)).trans (wp_weaken c fun _ => leave m hO c t h d5))

end Cert.Routed

end
-- ==== Proof.Launch.lean ====
/- The launch: every point's run put together, from the buffers the call is given to the buffers it leaves. -/
module

public import proofs.«01_k».proof.Proof.Run

@[expose] public section

set_option maxRecDepth 16384

noncomputable section

namespace Cert.Routed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [FloatOps F]

local notation "𝕄" => MT nD τ sig Unit (Elt F) ℕ (Pipeline.UD sig nD τ) ℕ

open Idealize.ShloMosaic.Pipeline (Dat Cfg Window BodyObligation)

variable (m : (ℓ : Loc nD τ sig) → Buf (Elt F) ℓ) (ρ : Dev nD → PrngReg)

theorem flush5 (hO : Ok m) : ∀ t : Fin (cfgM m hO).N, ((cfgM m hO).win 5).flush t = true ↔ t.val % 7 = 6 :=
  (fun t => Pipeline.Window.flushOf_reads cc0_transform_6 reads0_5 hreads0_5 0 (by decide) (by decide)
    (Pipeline.Window.sep_of_coord cc0_transform_6 0 0 (fun _ => rfl) (by decide)) (P := 7) (m := 6) (by decide) rfl t
    : ∀ t : Fin grid0.N, Pipeline.Window.flushOf grid0 true cc0_transform_6 t = true ↔ t.val % 7 = 6)

/-- The second table's word, as the schedule reads it. -/
theorem nu_atD (hO : Ok m) : (adm m hO).1.atD 1 ![0] = nuW m := by
  show (if h : ∀ a, (![0] : Fin 1 → ℕ) a + 1 ≤ S1.size a then (adm m hO).1 1 (fun a => ⟨(![0] : Fin 1 → ℕ) a, h a⟩) else default) = nuW m
  rw [dif_pos (by decide)]
  exact congrFun (tbl1_eq m) _

/-- The result's block is touched by the last column's points only. -/
theorem idle5 (hO : Ok m) (t : Fin (cfgM m hO).N) : (cfgM m hO).idle 5 (grid0.coords t) = !decide (t.val % 7 = 6) := by
  have e1 := (coords_at t).2
  show (!(k0_cond1 (grid0.coords t) ((adm m hO).1.atD 1 ![0]) == 1#1 && k0_cond7 (grid0.coords t) == 1#1) && !(k0_cond8 (grid0.coords t) ((adm m hO).1.atD 1 ![0]) == 1#1)) = _
  rw [nu_atD]
  have a := cond1_iff (grid0.coords t) (nuW m)
  have b := cond7_iff (grid0.coords t)
  have d := cond8_iff (grid0.coords t) (nuW m)
  by_cases hj : t.val % 7 = 6
  · by_cases hu : ((grid0.coords t 0).val : ℤ) < (nuW m).toInt
    · rw [beq_iff_eq.mpr (a.mpr hu), beq_iff_eq.mpr (b.mpr (e1.trans hj)), decide_eq_true hj]; rfl
    · rw [beq_iff_eq.mpr (d.mpr ⟨hu, e1.trans hj⟩), decide_eq_true hj]
      simp
  · have b' : (k0_cond7 (grid0.coords t) == 1#1) = false := beq_eq_false_iff_ne.mpr fun h => hj (e1.symm.trans (b.mp h))
    have d' : (k0_cond8 (grid0.coords t) (nuW m) == 1#1) = false := beq_eq_false_iff_ne.mpr fun h => hj (e1.symm.trans (d.mp h).2)
    rw [b', d', decide_eq_false hj]
    simp

theorem post5_out (hO : Ok m) (c : Dev nD) (t : Fin (cfgM m hO).N) : post5 m hO c t ⊢
    match (cfgM m hO).idle 5 (grid0.coords t) with
    | true => match ((cfgM m hO).win 5).flush t with
      | false => iprop(∃ d, owns (c : Thread nD τ) (ms_5 m hO t) fullShare ((dats m hO 0 c).before 5 t d))
      | true => owns (c : Thread nD τ) (ms_5 m hO t) fullShare ((dats m hO 0 c).after 5 t)
    | false => owns (c : Thread nD τ) (ms_5 m hO t) fullShare ((dats m hO 0 c).after 5 t) := by
  unfold post5
  rw [idle5]
  by_cases hj : t.val % 7 = 6
  · rw [if_pos hj, decide_eq_true hj]; exact .rfl
  · have hf : ((cfgM m hO).win 5).flush t = false := by
      rw [← Bool.not_eq_true, flush5]; exact hj
    rw [if_neg hj, decide_eq_false hj, hf]; exact .rfl

theorem body_obligation (h : Ready m) (hO : Ok m) (c : Dev nD) : BodyObligation (dats (F := F) m hO 0 c) (defs₀ (F := F)) Variants.none () Set.univ := fun t => by
  rw [bigSep_W0, bigSep_W0, defs₀_row m hO]
  exact triple_restated (sound_body m hO c t h) rfl .rfl fun _ =>
    sep_mono .rfl (sep_mono .rfl (sep_mono .rfl (sep_mono .rfl (sep_mono .rfl (sep_mono .rfl (sep_mono .rfl (post5_out m hO c t)))))))

/-- The copies' two cells. -/
abbrev osem0 : Fin 2 → SemLoc sig := fun j => (![.dma (semOf 0), .dma (semOf 1)] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c.tc : Thread nD τ), .dma (semOf 0)) 0 ∗ semVal ((c.tc : Thread nD τ), .dma (semOf 1)) 0) := by
  rw [Pipeline.ownSems0_eq_of_list c osem0 [0, 1] (by decide) (by decide)]; rfl
/-- The tokens, read where they lie. -/
def H0 : Finset (Ref sig .tc) := {main_arg0}
theorem H0_sub : H0 ⊆ Pipeline.restRefsP sig pre0 spec0 := by decide
theorem hbmPts0_eq (c : Dev nD) :
    (bigSep H0 (fun b => ((c : Thread nD τ).loc b) ↦{fullShare} V m c b) : sProp 𝕄) = iprop(tokL c ↦{fullShare} tokV m c) := by
  rw [BI.bigSep_eq_bigSepL_of_eq [main_arg0] (by decide) (by decide)]; rfl
theorem PhiD0_eq (c : Dev nD) :
    (Pipeline.ΦD osem0 spec0 H0 (V m) c : sProp 𝕄)
      = iprop(((∃ f : Buf (Elt F) ((c : Thread nD τ).loc cc0_scratch0), ((c : Thread nD τ).loc cc0_scratch0) ↦{fullShare} f)
          ∗ (∃ f : Buf (Elt F) ((c : Thread nD τ).loc cc0_scratch2), ((c : Thread nD τ).loc cc0_scratch2) ↦{fullShare} f)
          ∗ (∃ f : Buf (Elt F) ((c : Thread nD τ).loc cc0_scratch3), ((c : Thread nD τ).loc cc0_scratch3) ↦{fullShare} f))
        ∗ (∃ r, prngReg c r) ∗ (semVal ((c.tc : Thread nD τ), .dma (semOf 0)) 0 ∗ semVal ((c.tc : Thread nD τ), .dma (semOf 1)) 0)
        ∗ (tokL c ↦{fullShare} tokV m c)) := by
  rw [Pipeline.ΦD_eq, scopedRest0_eq, ownSems00_eq, hbmPts0_eq]
theorem PhiT0_eq (c : Dev nD) : (Pipeline.ΦT pre0 (tbl m) c : sProp 𝕄)
    = iprop(owns (c.tc : Thread nD τ) teM fullShare.right (tbl m 0) ∗ owns (c.tc : Thread nD τ) nuM fullShare.right (fun _ => nuW m)) := by
  rw [show (fun _ => nuW m : S1.Idx → Elt F .i32) = tbl m 1 from (tbl1_eq m).symm]
  refine Eq.trans ?_ (congrArg₂ (fun a b : sProp 𝕄 => iprop(a ∗ b)) (owns_whole (c.tc : Thread nD τ) main_arg2 fullShare.right (tbl m 0)).symm (owns_whole (c.tc : Thread nD τ) main_arg3 fullShare.right (tbl m 1)).symm)
  unfold Pipeline.ΦT Pipeline.prefHeld
  rw [show (Finset.univ : Finset (Fin 2)) = {0, 1} from by decide, bigSep_insert (by decide), bigSep_singleton]
  rfl

theorem whole_in (c : Dev nD) (b : Ref sig .tc) (f : Buf (Elt F) ((c.tc : Thread nD τ).loc b)) :
    (((c.tc : Thread nD τ).loc b) ↦{fullShare} f : sProp 𝕄) ⊢ owns (c.tc : Thread nD τ) (Memref.whole b) fullShare f := by rw [owns_whole]
theorem whole_out (c : Dev nD) (b : Ref sig .tc) (f : Buf (Elt F) ((c.tc : Thread nD τ).loc b)) :
    (owns (c.tc : Thread nD τ) (Memref.whole b) fullShare f : sProp 𝕄) ⊢ (((c.tc : Thread nD τ).loc b) ↦{fullShare} f) := by rw [owns_whole]

theorem phi_in (hO : Ok m) (c : Dev nD) : iprop(Pipeline.ΦD osem0 spec0 H0 (V m) c ∗ Pipeline.ΦT pre0 (tbl m) c) ⊢ PhiAt m c 0 := by
  rw [PhiD0_eq, PhiT0_eq]
  show _ ⊢ PhiTJ m c 0 0
  unfold PhiTJ Side
  rw [copies_first]
  unfold Rest
  iintro ⟨⟨⟨⟨%f0, Hr⟩, ⟨%f2, Hh⟩, ⟨%f3, Ha⟩⟩, Hg, ⟨Hs0, Hs1⟩, Htok⟩, Ht, Hn⟩
  ihave HR := (rows_split c f0) $$ Hr
  icases HR with ⟨⟨%X0, H0⟩, ⟨%X1, H1⟩⟩
  isplitl [H0 H1 Hs0 Hs1 Htok]
  · isplitl [H0 Hs0]
    · iexists X0
      isplitl [H0]; · iexact H0
      iexact Hs0
    isplitl [H1 Hs1]
    · iexists X1
      isplitl [H1]; · iexact H1
      iexact Hs1
    iexact Htok
  isplitl [Hh]
  · iexists f2
    isplitr; · ipureintro; exact fun h => absurd h.1 (by decide)
    iapply (whole_in c cc0_scratch2 f2)
    iexact Hh
  isplitl [Ha]
  · iexists f3
    isplitr; · ipureintro; exact fun h => absurd h.1 (by decide)
    iapply (whole_in c cc0_scratch3 f3)
    iexact Ha
  isplitl [Hg]; · iexact Hg
  isplitl [Ht]; · iexact Ht
  iexact Hn

theorem phi_out (h : Ready m) (c : Dev nD) : PhiAt m c 504 ⊢ Pipeline.ΦD osem0 spec0 H0 (V m) c := by
  rw [PhiD0_eq]
  show PhiTJ m c 72 0 ⊢ _
  unfold PhiTJ Side
  rw [copies_last c _ _ _ h.nu]
  unfold Rest
  iintro ⟨⟨⟨%X0, H0, Hs0⟩, ⟨%X1, H1, Hs1⟩, Htok⟩, ⟨%f2, -, Hh⟩, ⟨%f3, -, Ha⟩, Hg, -, -⟩
  isplitl [H0 H1 Hh Ha]
  · isplitl [H0 H1]
    · iapply (rows_join c)
      isplitl [H0]
      · iexists X0; iexact H0
      iexists X1; iexact H1
    isplitl [Hh]
    · iexists f2
      iapply (whole_out c cc0_scratch2 f2)
      iexact Hh
    iexists f3
    iapply (whole_out c cc0_scratch3 f3)
    iexact Ha
  isplitl [Hg]; · iexact Hg
  isplitl [Hs0 Hs1]
  · isplitl [Hs0]; · iexact Hs0
    iexact Hs1
  iexact Htok

set_option backward.isDefEq.respectTransparency.types false in
/-- The whole run: it ends, every counter at zero, every array as the points leave it. -/
theorem run_main (h : Ready m) (hO : Ok m) :
    θ_run defs (onTc (τ := τ) (main (F := F))) (s₀ m ρ) (fun r => Pipeline.FramePost (Pipeline.pin pcfgs fun _ => adm m hO) (dats m hO) (0 : Fin 1) (V m) r ∧ r.2.sem = fun _ => 0) :=
  Pipeline.θ_run_frameP_dma_shared (Q' := _) pcfgs (fun _ => adm m hO) (dats m hO) (0 : Fin 1) launch₀0 osem0 defs₀ Variants.none ownSemFacts0 H0 H0_sub m ρ main
    (hbody := fun c => (body_obligation m h hO c).loose) (hq := fun _ _ _ => rfl) (howed := fun _ _ => rfl) (V := V m) (hmain := hmain m Variants.none)
    (hA := A_eq m hO) (hpf := V_pre m) (hin := fun c => phi_in m hO c) (hout := fun c => phi_out m h c)

end Cert.Routed

end
-- ==== Proof.Final.lean ====
/- What the run leaves: the result array tile by tile, the arguments as they were. -/
module

public import proofs.«01_k».proof.Proof.Launch

@[expose] public section

set_option maxRecDepth 16384

noncomputable section

namespace Cert.Routed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [FloatOps F]

local notation "𝕄" => MT nD τ sig Unit (Elt F) ℕ (Pipeline.UD sig nD τ) ℕ

open Idealize.ShloMosaic.Pipeline (Dat Cfg Window BodyObligation)

variable (m : (ℓ : Loc nD τ sig) → Buf (Elt F) ℓ) (ρ : Dev nD → PrngReg)

/-- The result array: tile `T`'s result is its rows `8192 T` on. -/
def outG (c : Dev nD) : S589824x128.Idx → Elt F .f32 := fun y =>
  outV m c ((y 0).val / 8192) (ix2 (⟨(y 0).val % 8192, Nat.mod_lt _ (by decide)⟩ : Fin 8192) (⟨(y 1).val, (y 1).isLt⟩ : Fin 128))

variable (hO : Ok m) (c : Dev nD)

/-- Where a point's result block lies in the result. -/
abbrev embOut (t : Fin (cfgM m hO).N) (y : S8192x128.Idx) : S589824x128.Idx := (((cfgM m hO).win 5).blk t).view.emb y

theorem blk_row (t : Fin (cfgM m hO).N) (y : S8192x128.Idx) :
    (embOut m hO t y 0).val = t.val / 7 * 8192 + (y 0).val ∧ (embOut m hO t y 1).val = (y 1).val := by
  have e := ix_out (grid0.coords t)
  have e0 := (coords_at t).1
  constructor
  · show cc0_transform_6 (grid0.coords t) 0 * 8192 + 1 * (y 0).val = _
    rw [e, ← e0]
    show (grid0.coords t 0).val * 8192 + 1 * (y 0).val = _
    omega
  · show cc0_transform_6 (grid0.coords t) 1 * 128 + 1 * (y 1).val = _
    rw [e]
    show 0 * 128 + 1 * (y 1).val = _
    omega

theorem flushed5 (t : Fin (cfgM m hO).N) : (dats m hO 0 c).flushed 5 t = (((cfgM m hO).win 5).blk t).view.read (Elt F) (outG m c) := by
  show ((cfgM m hO).win 5).cut _ ((dats m hO 0 c).after 5 t) = _
  rw [after_5]
  refine funext fun y : S8192x128.Idx => ?_
  show outV m c (t.val / 7) y = outG m c (embOut m hO t y)
  obtain ⟨e0, e1⟩ := blk_row m hO t y
  have hy : (y 0).val < 8192 := (y 0).isLt
  unfold outG
  have d : (embOut m hO t y 0).val / 8192 = t.val / 7 := by rw [e0]; omega
  rw [d]
  congr 1
  funext a
  apply Fin.ext
  match a with
  | ⟨0, _⟩ =>
    show (y 0).val = (embOut m hO t y 0).val % 8192
    rw [e0]; omega
  | ⟨1, _⟩ => exact e1.symm

theorem final_out : (dats m hO 0 c).arrAt 5 (cfgM m hO).N = outG m c :=
  (dats m hO 0 c).arrAt_eq_of_cover 5 (outG m c) (fun t _ => flushed5 m hO c t) fun (y : S589824x128.Idx) => by
    have h0 : (y 0).val < 589824 := (y 0).isLt
    have h1 : (y 1).val < 128 := (y 1).isLt
    have hN : (cfgM m hO).N = 504 := N_0
    refine ⟨⟨(y 0).val / 8192 * 7 + 6, by rw [hN]; omega⟩, (flush5 m hO _).mpr (by show ((y 0).val / 8192 * 7 + 6) % 7 = 6; omega), ?_⟩
    generalize ht : (⟨(y 0).val / 8192 * 7 + 6, _⟩ : Fin (cfgM m hO).N) = t
    have hv : t.val / 7 = (y 0).val / 8192 := by rw [← ht]; show ((y 0).val / 8192 * 7 + 6) / 7 = _; omega
    have e : embOut m hO t (ix2 (⟨(y 0).val % 8192, Nat.mod_lt _ (by decide)⟩ : Fin 8192) (⟨(y 1).val, h1⟩ : Fin 128)) = y := by
      obtain ⟨e0, e1⟩ := blk_row m hO t (ix2 (⟨(y 0).val % 8192, Nat.mod_lt _ (by decide)⟩ : Fin 8192) (⟨(y 1).val, h1⟩ : Fin 128))
      funext a
      apply Fin.ext
      match a with
      | ⟨0, _⟩ => refine e0.trans ?_; rw [hv]; show (y 0).val / 8192 * 8192 + (y 0).val % 8192 = (y 0).val; omega
      | ⟨1, _⟩ => exact e1
    have hm := (((cfgM m hO).win 5).blk t).view.emb_mem_set (ix2 (⟨(y 0).val % 8192, Nat.mod_lt _ (by decide)⟩ : Fin 8192) (⟨(y 1).val, h1⟩ : Fin 128) : S8192x128.Idx)
    exact e ▸ hm

/-- The run, read: the result array at the tiles' results, the arguments as they were, every counter at zero. -/
theorem run_read (h : Ready m) : θ_run defs (onTc (τ := τ) (main (F := F))) ⟨m, fun _ => 0, ρ⟩ (fun r => (∀ c : Dev nD,
    r.2.mem ((c.tc : Thread nD τ).loc main_v0) = outG m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6))
    ∧ r.2.sem = fun _ => 0) :=
  (θ_run defs _ _).mono (fun r (hr : _ ∧ _) => ⟨fun c =>
    ⟨((hr.1 c).1 5).trans (final_out m (ok_of m h) c),
      (hr.1 c).2 main_arg0 (by decide : main_arg0 ∈ Pipeline.restRefs sig spec0),
      ((hr.1 c).1 0).trans ((dats m (ok_of m h) 0 c).arrAt_in 0 rfl _),
      (hr.1 c).2 main_arg2 (by decide : main_arg2 ∈ Pipeline.restRefs sig spec0),
      (hr.1 c).2 main_arg3 (by decide : main_arg3 ∈ Pipeline.restRefs sig spec0),
      ((hr.1 c).1 2).trans ((dats m (ok_of m h) 0 c).arrAt_in 2 rfl _),
      ((hr.1 c).1 3).trans ((dats m (ok_of m h) 0 c).arrAt_in 3 rfl _),
      ((hr.1 c).1 4).trans ((dats m (ok_of m h) 0 c).arrAt_in 4 rfl _)⟩, hr.2⟩)
    (run_main m ρ h (ok_of m h))

end Cert.Routed

end
-- ==== Proof.RefRun.lean ====
/-
  The reference's run: its operations in order, the function calls inlined, and what its result's buffer holds at the
  end as one term of the arguments' launch contents.
-/
module

public import proofs.«01_k».proof.Defs
public import proofs.«01_k».proof.Proof.Gen.ReferenceIdeal
public import Idealize.ShloMosaic.Lib.StableHlo.Run

@[expose] public section

set_option maxRecDepth 16384

noncomputable section

namespace Cert.RoutedRef

open Cert.ReferenceIdeal Cert.ReferenceIdeal.Gen
open Idealize.ShloMosaic Idealize.ShloMosaic.TcCoe Idealize.ShloMosaic.StableHlo Idealize.SL.Sem

variable {F : FTy → Type} [FloatOps F]

/-- The reference's operations: the token rows gathered, each tile's expert weights gathered, the two projections, the
    gate, the product, the down projection, the mask of the used tiles, and the result's reshape. -/
abbrev ops : List (HloOp τ sig (Elt F)) :=
  [ reshape main_arg0 main_v0 rfl shapeCasts_S262144x128_S32768x1024,
    unary main_arg1 main_call0_v0 (broadcastInDim S73728x1 ![0] bcast_S73728_S73728x1_0),
    binary main_v0 main_call0_v0 main_v1
      (fun x i => Host.gather gather_S32768x1024_S73728x1_S73728x1024_1_0_n_n_0_1_11024 x i),
    reshape main_v1 main_v2 rfl shapeCasts_S73728x1024_S72x1024x1024,
    unary main_arg2 main_call1_v0 (broadcastInDim S72x1 ![0] bcast_S72_S72x1_0),
    binary main_arg4 main_call1_v0 main_v3
      (fun x i => Host.gather gather_S16x1024x3584_S72x1_S72x1024x3584_12_0_n_n_0_1_110243584 x i),
    unary main_arg2 main_call2_v0 (broadcastInDim S72x1 ![0] bcast_S72_S72x1_0),
    binary main_arg5 main_call2_v0 main_v4
      (fun x i => Host.gather gather_S16x1024x3584_S72x1_S72x1024x3584_12_0_n_n_0_1_110243584 x i),
    unary main_arg2 main_call3_v0 (broadcastInDim S72x1 ![0] bcast_S72_S72x1_0),
    binary main_arg6 main_call3_v0 main_v5
      (fun x i => Host.gather gather_S16x3584x1024_S72x1_S72x3584x1024_12_0_n_n_0_1_135841024 x i),
    binary main_v2 main_v3 main_v6
      (fun l r => Host.dotGeneral (φ₁ := .f32) (φ₂ := .f32) dot_S72x1024x1024_S72x1024x3584_S72x1024x3584_2_1_1_2_0_0 none l r),
    unary main_v6 main_call4_v0 Host.negf,
    unary main_call4_v0 main_call4_v1 Host.exp,
    nullary main_call4_cst (constant S_ .f32 0x3F800000#32),
    unary main_call4_cst main_call4_v2 (broadcastInDim S72x1024x3584 ![] bcast_S_S72x1024x3584),
    binary main_call4_v2 main_call4_v1 main_call4_v3 addf,
    nullary main_call4_cst_0 (constant S_ .f32 0x3F800000#32),
    unary main_call4_cst_0 main_call4_v4 (broadcastInDim S72x1024x3584 ![] bcast_S_S72x1024x3584),
    binary main_call4_v4 main_call4_v3 main_call4_v5 Host.divf,
    binary main_v6 main_call4_v5 main_v7 mulf,
    binary main_v2 main_v4 main_v8
      (fun l r => Host.dotGeneral (φ₁ := .f32) (φ₂ := .f32) dot_S72x1024x1024_S72x1024x3584_S72x1024x3584_2_1_1_2_0_0 none l r),
    binary main_v7 main_v8 main_v9 mulf,
    binary main_v9 main_v5 main_v10
      (fun l r => Host.dotGeneral (φ₁ := .f32) (φ₂ := .f32) dot_S72x1024x3584_S72x3584x1024_S72x1024x1024_2_1_1_2_0_0 none l r),
    nullary main_v11 (iotaInDim S72 32 0),
    reshape main_arg3 main_v12 rfl shapeCasts_S1_S_,
    unary main_v12 main_v13 (broadcastInDim S72 ![] bcast_S_S72),
    binary main_v11 main_v13 main_v14 (cmpi .slt),
    unary main_v14 main_v15 (broadcastInDim S72x1x1 ![0] bcast_S72_S72x1x1_0),
    nullary main_cst (constant S_ .f32 0x00000000#32),
    unary main_cst main_call5_v0 id,
    unary main_v15 main_call5_v1 (broadcastInDim S72x1024x1024 ![0, 1, 2] bcast_S72x1x1_S72x1024x1024_0_1_2),
    unary main_call5_v0 main_call5_v2 (broadcastInDim S72x1024x1024 ![] bcast_S_S72x1024x1024),
    ternary main_call5_v1 main_v10 main_call5_v2 main_v16 select,
    reshape main_v16 main_v17 rfl shapeCasts_S72x1024x1024_S589824x128 ]

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., unary_bufs_sub .., binary_bufs_sub .., reshape_bufs_sub .., unary_bufs_sub ..,
    binary_bufs_sub .., unary_bufs_sub .., binary_bufs_sub .., unary_bufs_sub .., binary_bufs_sub ..,
    binary_bufs_sub .., unary_bufs_sub .., unary_bufs_sub .., nullary_bufs_sub .., unary_bufs_sub ..,
    binary_bufs_sub .., nullary_bufs_sub .., unary_bufs_sub .., binary_bufs_sub .., binary_bufs_sub ..,
    binary_bufs_sub .., binary_bufs_sub .., binary_bufs_sub .., nullary_bufs_sub .., reshape_bufs_sub ..,
    unary_bufs_sub .., binary_bufs_sub .., unary_bufs_sub .., nullary_bufs_sub .., unary_bufs_sub .., unary_bufs_sub
    .., unary_bufs_sub .., ternary_bufs_sub .., reshape_bufs_sub ..⟩

/-- The tiles' token rows. -/
abbrev rows (h : FVec F S262144x128 .f32) (src : IVec S73728 32) : FVec F S72x1024x1024 .f32 :=
  shapeCast S72x1024x1024
    (Host.gather gather_S32768x1024_S73728x1_S73728x1024_1_0_n_n_0_1_11024
      (shapeCast S32768x1024 h shapeCasts_S262144x128_S32768x1024)
      (broadcastInDim S73728x1 ![0] bcast_S73728_S73728x1_0 src))
    shapeCasts_S73728x1024_S72x1024x1024

/-- A weight stack's matrix of each tile's expert: the gate's and the up projection's shape. -/
abbrev pickUp (w : FVec F S16x1024x3584 .f32) (te : IVec S72 32) : FVec F S72x1024x3584 .f32 :=
  Host.gather gather_S16x1024x3584_S72x1_S72x1024x3584_12_0_n_n_0_1_110243584 w
    (broadcastInDim S72x1 ![0] bcast_S72_S72x1_0 te)

/-- The same of the down projection's stack. -/
abbrev pickDown (w : FVec F S16x3584x1024 .f32) (te : IVec S72 32) : FVec F S72x3584x1024 .f32 :=
  Host.gather gather_S16x3584x1024_S72x1_S72x3584x1024_12_0_n_n_0_1_135841024 w
    (broadcastInDim S72x1 ![0] bcast_S72_S72x1_0 te)

/-- A tile's rows times a matrix of its expert. -/
abbrev dotUp (x : FVec F S72x1024x1024 .f32) (w : FVec F S72x1024x3584 .f32) : FVec F S72x1024x3584 .f32 :=
  Host.dotGeneral (φ₁ := .f32) (φ₂ := .f32) dot_S72x1024x1024_S72x1024x3584_S72x1024x3584_2_1_1_2_0_0 none x w

/-- The hidden rows times the expert's down projection. -/
abbrev dotDown (x : FVec F S72x1024x3584 .f32) (w : FVec F S72x3584x1024 .f32) : FVec F S72x1024x1024 .f32 :=
  Host.dotGeneral (φ₁ := .f32) (φ₂ := .f32) dot_S72x1024x3584_S72x3584x1024_S72x1024x1024_2_1_1_2_0_0 none x w

/-- The gate's activation `a · (1 / (1 + exp (−a)))`. -/
abbrev silu (a : FVec F S72x1024x3584 .f32) : FVec F S72x1024x3584 .f32 :=
  mulf a (Host.divf (broadcastInDim S72x1024x3584 ![] bcast_S_S72x1024x3584 (constant (F := F) S_ .f32 0x3F800000#32))
    (addf (broadcastInDim S72x1024x3584 ![] bcast_S_S72x1024x3584 (constant (F := F) S_ .f32 0x3F800000#32))
      (Host.exp (Host.negf a))))

/-- Each tile's output before the mask. -/
abbrev tiles (h : FVec F S262144x128 .f32) (src : IVec S73728 32) (te : IVec S72 32)
    (wg wu : FVec F S16x1024x3584 .f32) (wd : FVec F S16x3584x1024 .f32) : FVec F S72x1024x1024 .f32 :=
  dotDown (mulf (silu (dotUp (rows h src) (pickUp wg te))) (dotUp (rows h src) (pickUp wu te))) (pickDown wd te)

/-- The mask of the used tiles. -/
abbrev mask (nu : IVec S1 32) : IVec S72x1024x1024 1 :=
  broadcastInDim S72x1024x1024 ![0, 1, 2] bcast_S72x1x1_S72x1024x1024_0_1_2
    (broadcastInDim S72x1x1 ![0] bcast_S72_S72x1x1_0
      (cmpi .slt (iotaInDim S72 32 0) (broadcastInDim S72 ![] bcast_S_S72 (shapeCast S_ nu shapeCasts_S1_S_))))

/-- The reference's result of its arguments. -/
abbrev result (h : FVec F S262144x128 .f32) (src : IVec S73728 32) (te : IVec S72 32) (nu : IVec S1 32)
    (wg wu : FVec F S16x1024x3584 .f32) (wd : FVec F S16x3584x1024 .f32) : FVec F S589824x128 .f32 :=
  shapeCast S589824x128
    (select (mask nu) (tiles h src te wg wu wd)
      (broadcastInDim S72x1024x1024 ![] bcast_S_S72x1024x1024 (constant (F := F) S_ .f32 0x00000000#32)))
    shapeCasts_S72x1024x1024_S589824x128

/-- Every execution of the reference terminates with its result in its buffer and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem (c.tc.loc main_v17) = result (F := F) (m (c.tc.loc main_arg0)) (m (c.tc.loc main_arg1))
        (m (c.tc.loc main_arg2)) (m (c.tc.loc main_arg3)) (m (c.tc.loc main_arg4)) (m (c.tc.loc main_arg5))
        (m (c.tc.loc main_arg6))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6) :=
  (θ_run defs _ _).mono
    (fun _ h c => ⟨(h c main_v17).trans (by after_results; rfl),
      (h c main_arg0).trans (by after_results), (h c main_arg1).trans (by after_results),
      (h c main_arg2).trans (by after_results), (h c main_arg3).trans (by after_results),
      (h c main_arg4).trans (by after_results), (h c main_arg5).trans (by after_results),
      (h c main_arg6).trans (by after_results)⟩)
    (run_seq scopedRefs_eq scopedSems_eq defs main (fun _ => ops) main_eq (fun _ => ops_sub) m ρ)

end Cert.RoutedRef
-- ==== Proof.ValueKer.lean ====
/-
  What the call's steps compute at an element, over the extended reals: a step's hidden entry is the gated product of two
  rows' sums, a step's addend a sum over the step's hidden columns.
-/
module

public import proofs.«01_k».proof.Proof.Gen.KernelIdeal.Skeleton
public import Idealize.ShloMosaic.Lib.Pointwise

@[expose] public section

set_option maxRecDepth 16384

noncomputable section

namespace Cert.Routed

open Cert.KernelIdeal Cert.KernelIdeal.Gen
open Idealize.ShloMosaic

/-- The gate's activation. -/
def act (a : EReal) : EReal := a * Ideal.div 1 (1 + Ideal.exp (-a))

theorem pay1_apply (h : FVec Ideal S1024x512 .bf16) (w : FVec Ideal S1x512x1024 .f32) (r : Fin 1024) (c : Fin 1024) :
    k0_pay1 (F := Ideal) h w (ix2 r c) = ∑ k : Fin 512, h (ix2 r k) * w (ix3 0 k c) := by
  pointwise [k0_pay1]

theorem pay23_apply (x : FVec Ideal S1024x1024 .bf16) (wg wu : FVec Ideal S1x1024x512 .f32) (r : Fin 1024) (f : Fin 512) :
    k0_pay23 (F := Ideal) x wg wu (ix2 r f)
      = act (∑ k : Fin 1024, x (ix2 r k) * wg (ix3 0 k f)) * ∑ k : Fin 1024, x (ix2 r k) * wu (ix3 0 k f) := by
  pointwise [k0_pay23, act]
  rw [zero_sub]

theorem pay12_apply (y : S8192x128.Idx) : k0_pay12 (F := Ideal) y = (0 : EReal) := by
  pointwise [k0_pay12]

end Cert.Routed
-- ==== Proof.ValueRef.lean ====
/-
  The reference's result at an element, over the extended reals.
-/
module

public import proofs.«01_k».proof.Proof.RefRun
public import proofs.«01_k».proof.Proof.ValueKer

@[expose] public section

set_option maxRecDepth 16384

noncomputable section

namespace Cert.RoutedRef

open Cert.ReferenceIdeal Cert.ReferenceIdeal.Gen
open Idealize.ShloMosaic
open Cert.Routed (act)

/-- The gathered token row: the index word names a row of the table. -/
theorem takeRow {α : Type} (x : S32768x1024.Idx → α) (idx : IVec S73728x1 32) (n : Fin 73728) (k : Fin 1024) (e : Fin 32768)
    (he : (idx (ix2 n 0)).toInt.toNat = e.val) :
    Host.gather gather_S32768x1024_S73728x1_S73728x1024_1_0_n_n_0_1_11024 x idx (ix2 n k) = x (ix2 e k) := by
  set d := gather_S32768x1024_S73728x1_S73728x1024_1_0_n_n_0_1_11024 with hd
  unfold Host.gather
  congr 1
  funext a
  refine Fin.ext ?_
  show d.start (ix2 n k) idx a + d.batchCoord (ix2 n k) a + d.offCoord (ix2 n k) a = _
  rw [GatherDims.batchCoord_eq_zero _ _ _ List.not_mem_nil, Nat.add_zero]
  match a with
  | ⟨0, _⟩ =>
    have hs : d.siIdx (ix2 n k) ⟨0, by decide⟩ = ix2 n 0 := by
      funext b
      match b with
      | ⟨0, _⟩ => rfl
      | ⟨1, _⟩ => rfl
    show min (idx (d.siIdx (ix2 n k) ⟨0, _⟩)).toInt.toNat (32768 - 1) + 0 = e.val
    rw [hs, he]
    have := e.isLt
    omega
  | ⟨1, _⟩ =>
    show 0 + k.val = k.val
    omega

/-- The gathered matrix of a stack: the index word names a matrix. -/
theorem takeUp {α : Type} (x : S16x1024x3584.Idx → α) (idx : IVec S72x1 32) (T : Fin 72) (k : Fin 1024) (f : Fin 3584)
    (e : Fin 16) (he : (idx (ix2 T 0)).toInt.toNat = e.val) :
    Host.gather gather_S16x1024x3584_S72x1_S72x1024x3584_12_0_n_n_0_1_110243584 x idx (ix3 T k f) = x (ix3 e k f) := by
  set d := gather_S16x1024x3584_S72x1_S72x1024x3584_12_0_n_n_0_1_110243584 with hd
  unfold Host.gather
  congr 1
  funext a
  refine Fin.ext ?_
  show d.start (ix3 T k f) idx a + d.batchCoord (ix3 T k f) a + d.offCoord (ix3 T k f) a = _
  rw [GatherDims.batchCoord_eq_zero _ _ _ List.not_mem_nil, Nat.add_zero]
  match a with
  | ⟨0, _⟩ =>
    have hs : d.siIdx (ix3 T k f) ⟨0, by decide⟩ = ix2 T 0 := by
      funext b
      match b with
      | ⟨0, _⟩ => rfl
      | ⟨1, _⟩ => rfl
    show min (idx (d.siIdx (ix3 T k f) ⟨0, _⟩)).toInt.toNat (16 - 1) + 0 = e.val
    rw [hs, he]
    have := e.isLt
    omega
  | ⟨1, _⟩ =>
    show 0 + k.val = k.val
    omega
  | ⟨2, _⟩ =>
    show 0 + f.val = f.val
    omega

theorem takeDown {α : Type} (x : S16x3584x1024.Idx → α) (idx : IVec S72x1 32) (T : Fin 72) (f : Fin 3584) (k : Fin 1024)
    (e : Fin 16) (he : (idx (ix2 T 0)).toInt.toNat = e.val) :
    Host.gather gather_S16x3584x1024_S72x1_S72x3584x1024_12_0_n_n_0_1_135841024 x idx (ix3 T f k) = x (ix3 e f k) := by
  set d := gather_S16x3584x1024_S72x1_S72x3584x1024_12_0_n_n_0_1_135841024 with hd
  unfold Host.gather
  congr 1
  funext a
  refine Fin.ext ?_
  show d.start (ix3 T f k) idx a + d.batchCoord (ix3 T f k) a + d.offCoord (ix3 T f k) a = _
  rw [GatherDims.batchCoord_eq_zero _ _ _ List.not_mem_nil, Nat.add_zero]
  match a with
  | ⟨0, _⟩ =>
    have hs : d.siIdx (ix3 T f k) ⟨0, by decide⟩ = ix2 T 0 := by
      funext b
      match b with
      | ⟨0, _⟩ => rfl
      | ⟨1, _⟩ => rfl
    show min (idx (d.siIdx (ix3 T f k) ⟨0, _⟩)).toInt.toNat (16 - 1) + 0 = e.val
    rw [hs, he]
    have := e.isLt
    omega
  | ⟨1, _⟩ =>
    show 0 + f.val = f.val
    omega
  | ⟨2, _⟩ =>
    show 0 + k.val = k.val
    omega

theorem dotUp_apply (x : FVec Ideal S72x1024x1024 .f32) (w : FVec Ideal S72x1024x3584 .f32) (T : Fin 72) (r : Fin 1024)
    (f : Fin 3584) : dotUp x w (ix3 T r f) = ∑ k : Fin 1024, x (ix3 T r k) * w (ix3 T k f) := by
  pointwise [dotUp]

theorem dotDown_apply (x : FVec Ideal S72x1024x3584 .f32) (w : FVec Ideal S72x3584x1024 .f32) (T : Fin 72) (r : Fin 1024)
    (k : Fin 1024) : dotDown x w (ix3 T r k) = ∑ f : Fin 3584, x (ix3 T r f) * w (ix3 T f k) := by
  pointwise [dotDown]

theorem silu_apply (a : FVec Ideal S72x1024x3584 .f32) (T : Fin 72) (r : Fin 1024) (f : Fin 3584) :
    silu a (ix3 T r f) = act (a (ix3 T r f)) := by
  pointwise [silu, act]

theorem mask_apply (nu : IVec S1 32) (T : Fin 72) (r k : Fin 1024) :
    mask nu (ix3 T r k) = BitVec.ofBool ((BitVec.ofNat 32 T.val).slt (nu (ix1 0))) := by
  pointwise [mask]
  rfl

theorem slt_iff (T : Fin 72) (w : BitVec 32) : (BitVec.ofNat 32 T.val).slt w = decide ((T.val : ℤ) < w.toInt) := by
  have hT := T.isLt
  have e : (BitVec.ofNat 32 T.val).toInt = (T.val : ℤ) := by
    rw [BitVec.toInt_eq_toNat_of_lt] <;> rw [BitVec.toNat_ofNat, Nat.mod_eq_of_lt (by omega)]
    omega
  simp only [BitVec.slt, e]

/-- The masked tiles at an element. -/
theorem picked (nu : IVec S1 32) (t : FVec Ideal S72x1024x1024 .f32) (T : Fin 72) (r k : Fin 1024) :
    select (mask nu) t (broadcastInDim S72x1024x1024 ![] bcast_S_S72x1024x1024 (constant (F := Ideal) S_ .f32 0x00000000#32))
        (ix3 T r k)
      = if ((T.val : ℤ) < (nu (ix1 0)).toInt) then t (ix3 T r k) else (0 : EReal) := by
  show Scalar.select (mask nu (ix3 T r k)) (t (ix3 T r k)) _ = _
  rw [mask_apply, slt_iff]
  have z : broadcastInDim S72x1024x1024 ![] bcast_S_S72x1024x1024 (constant (F := Ideal) S_ .f32 0x00000000#32) (ix3 T r k)
      = (0 : EReal) := by
    pointwise
  rw [z]
  by_cases h : (T.val : ℤ) < (nu (ix1 0)).toInt
  · rw [if_pos h, decide_eq_true h]
    rfl
  · rw [if_neg h, decide_eq_false h]
    rfl

/-- The result's reshape: result row `8192 T + 8 r + q`, lane `l` is tile `T`'s row `r`, column `128 q + l`. -/
theorem result_apply (h : FVec Ideal S262144x128 .f32) (src : IVec S73728 32) (te : IVec S72 32) (nu : IVec S1 32)
    (wg wu : FVec Ideal S16x1024x3584 .f32) (wd : FVec Ideal S16x3584x1024 .f32) (y : S589824x128.Idx)
    (T : Fin 72) (r k : Fin 1024) (e : (y 0).val * 128 + (y 1).val = T.val * 1048576 + r.val * 1024 + k.val) :
    result h src te nu wg wu wd y
      = if ((T.val : ℤ) < (nu (ix1 0)).toInt) then tiles h src te wg wu wd (ix3 T r k) else (0 : EReal) := by
  have hy : Shape.reshapeEquiv shapeCasts_S72x1024x1024_S589824x128 y = ix3 T r k :=
    Shape.reshapeEquiv_eq_of_vals _ y (ix3 T r k) _ _ (rowMajor_val3 _ 1048576 1024 rfl rfl) (rowMajor_val2 _ 128 rfl) e.symm
  show select _ _ _ (Shape.reshapeEquiv shapeCasts_S72x1024x1024_S589824x128 y) = _
  rw [hy]
  exact picked nu _ T r k

/-- A tile's row. -/
theorem rows_apply (h : FVec Ideal S262144x128 .f32) (src : IVec S73728 32) (T : Fin 72) (r k : Fin 1024) (e : Fin 32768)
    (he : (src (ix1 ⟨1024 * T.val + r.val, by omega⟩)).toInt.toNat = e.val) :
    rows h src (ix3 T r k) = h (ix2 (⟨8 * e.val + k.val / 128, by omega⟩ : Fin 262144) (⟨k.val % 128, by omega⟩ : Fin 128)) := by
  have hy : Shape.reshapeEquiv shapeCasts_S73728x1024_S72x1024x1024 (ix3 T r k)
      = ix2 (⟨1024 * T.val + r.val, by omega⟩ : Fin 73728) k :=
    Shape.reshapeEquiv_eq_of_vals _ _ _ _ _ (rowMajor_val2 _ 1024 rfl) (rowMajor_val3 _ 1048576 1024 rfl rfl) (by
      show (1024 * T.val + r.val) * 1024 + k.val = T.val * 1048576 + r.val * 1024 + k.val
      omega)
  have hz : Shape.reshapeEquiv shapeCasts_S262144x128_S32768x1024 (ix2 e k)
      = ix2 (⟨8 * e.val + k.val / 128, by omega⟩ : Fin 262144) (⟨k.val % 128, by omega⟩ : Fin 128) :=
    Shape.reshapeEquiv_eq_of_vals _ _ _ _ _ (rowMajor_val2 _ 128 rfl) (rowMajor_val2 _ 1024 rfl) (by
      show (8 * e.val + k.val / 128) * 128 + k.val % 128 = e.val * 1024 + k.val
      omega)
  show Host.gather _ _ _ (Shape.reshapeEquiv shapeCasts_S73728x1024_S72x1024x1024 (ix3 T r k)) = _
  rw [hy, takeRow _ _ _ _ e ?_]
  · show h (Shape.reshapeEquiv shapeCasts_S262144x128_S32768x1024 (ix2 e k)) = _
    rw [hz]
  · rw [← he]
    pointwise

/-- A tile's output at an element: the gated product of the row's sums with its expert's two matrices, summed against the
    expert's third. -/
theorem tiles_apply (h : FVec Ideal S262144x128 .f32) (src : IVec S73728 32) (te : IVec S72 32)
    (wg wu : FVec Ideal S16x1024x3584 .f32) (wd : FVec Ideal S16x3584x1024 .f32) (T : Fin 72) (r c : Fin 1024)
    (e : Fin 32768) (he : (src (ix1 ⟨1024 * T.val + r.val, by omega⟩)).toInt.toNat = e.val)
    (x : Fin 16) (hx : (te (ix1 T)).toInt.toNat = x.val) :
    tiles h src te wg wu wd (ix3 T r c)
      = ∑ f : Fin 3584,
          (act (∑ k : Fin 1024, h (ix2 (⟨8 * e.val + k.val / 128, by omega⟩ : Fin 262144) (⟨k.val % 128, by omega⟩ : Fin 128))
              * wg (ix3 x k f))
            * ∑ k : Fin 1024, h (ix2 (⟨8 * e.val + k.val / 128, by omega⟩ : Fin 262144) (⟨k.val % 128, by omega⟩ : Fin 128))
              * wu (ix3 x k f))
          * wd (ix3 x f c) := by
  have hx' : (broadcastInDim S72x1 ![0] bcast_S72_S72x1_0 te (ix2 T 0)).toInt.toNat = x.val := by
    rw [← hx]
    pointwise
  rw [tiles, dotDown_apply]
  refine Finset.sum_congr rfl fun f _ => ?_
  congr 1
  · show silu _ (ix3 T r f) * dotUp _ _ (ix3 T r f) = _
    rw [silu_apply, dotUp_apply, dotUp_apply]
    refine congrArg₂ (fun a b : EReal => act a * b) ?_ ?_
    · refine Finset.sum_congr rfl fun k _ => ?_
      rw [rows_apply h src T r k e he, pickUp, takeUp wg _ T k f x hx']
    · refine Finset.sum_congr rfl fun k _ => ?_
      rw [rows_apply h src T r k e he, pickUp, takeUp wu _ T k f x hx']
  · exact takeDown wd _ T f c x hx'

end Cert.RoutedRef
-- ==== Proof.ValueEq.lean ====
/-
  The call's result is the reference's, over the extended reals: a used tile's seven partial sums of 512 hidden columns are
  the sum over the 3584, an unused tile is zero.
-/
module

public import proofs.«01_k».proof.Proof.Final
public import proofs.«01_k».proof.Proof.ValueRef

@[expose] public section

set_option maxRecDepth 16384

noncomputable section

namespace Cert.Routed

open Cert.KernelIdeal Cert.KernelIdeal.Gen
open Idealize.ShloMosaic Idealize.ShloMosaic.TcCoe

variable (m : (ℓ : Loc nD τ sig) → Buf (Elt Ideal) ℓ) (c : Dev nD)

/-- A tile's row of tokens. -/
theorem hv_apply (wd : Fin 1024 → Fin 32768) (hb : TokB Ideal) (r k : Fin 1024) :
    (hv wd hb : FVec Ideal S1024x1024 .bf16) (ix2 r k)
      = hb (ix2 (⟨8 * (wd r).val + k.val / 128, by omega⟩ : Fin 262144) (⟨k.val % 128, by omega⟩ : Fin 128)) := by
  rw [ix2_eq_valueIdx, ix2_eq_valueIdx]
  rfl

/-- The arguments as vectors. -/
abbrev tokA : FVec Ideal S262144x128 .f32 := V m c main_arg0
abbrev wgA : FVec Ideal S16x1024x3584 .f32 := V m c main_arg4
abbrev wuA : FVec Ideal S16x1024x3584 .f32 := V m c main_arg5
abbrev wdA : FVec Ideal S16x3584x1024 .f32 := V m c main_arg6

/-- Hidden column `f` of tile `T`'s row `r`. -/
def hid (T : ℕ) (r : Fin 1024) (f : Fin 3584) : EReal :=
  act (∑ k : Fin 1024, tokA m c (ix2 (⟨8 * (wdT m c T r).val + k.val / 128, by omega⟩ : Fin 262144) (⟨k.val % 128, by omega⟩ : Fin 128))
      * wgA m c (ix3 (teN m T) k f))
    * ∑ k : Fin 1024, tokA m c (ix2 (⟨8 * (wdT m c T r).val + k.val / 128, by omega⟩ : Fin 262144) (⟨k.val % 128, by omega⟩ : Fin 128))
      * wuA m c (ix3 (teN m T) k f)

/-- Its addend to the row's entry `k`. -/
def term (T : ℕ) (r k : Fin 1024) (f : Fin 3584) : EReal := hid m c T r f * wdA m c (ix3 (teN m T) f k)

theorem hidB_apply (T j : ℕ) (r : Fin 1024) (f : Fin 512) :
    (hidB m c T j : FVec Ideal S1024x512 .bf16) (ix2 r f) = hid m c T r ⟨(512 * j + f.val) % 3584, Nat.mod_lt _ (by decide)⟩ := by
  rw [hidB, pay23_apply, hid]
  refine congrArg₂ (fun a b : EReal => act a * b) ?_ ?_
  · refine Finset.sum_congr rfl fun k _ => ?_
    rw [hv_apply, ix3_eq_valueIdx, ix3_eq_valueIdx]
    rfl
  · refine Finset.sum_congr rfl fun k _ => ?_
    rw [hv_apply, ix3_eq_valueIdx, ix3_eq_valueIdx]
    rfl

/-- A step's addend. -/
theorem add_apply (T j : ℕ) (r k : Fin 1024) :
    k0_pay1 (F := Ideal) (hidB m c T j) (wdB m c T j) (ix2 r k)
      = ∑ f : Fin 512, term m c T r k ⟨(512 * j + f.val) % 3584, Nat.mod_lt _ (by decide)⟩ := by
  rw [pay1_apply]
  refine Finset.sum_congr rfl fun f _ => ?_
  rw [hidB_apply, term, ix3_eq_valueIdx, ix3_eq_valueIdx]
  rfl

/-- The sum after `j + 1` steps. -/
theorem accAt_apply (T j : ℕ) (r k : Fin 1024) :
    (accAt m c T (j + 1) : FVec Ideal S1024x1024 .f32) (ix2 r k)
      = ∑ i ∈ Finset.range (j + 1), k0_pay1 (F := Ideal) (hidB m c T i) (wdB m c T i) (ix2 r k) := by
  induction j with
  | zero =>
    rw [Finset.sum_range_one, accAt, accStep, if_pos rfl]
  | succ j ih =>
    rw [Finset.sum_range_succ, ← ih, accAt, accStep, if_neg (by omega)]
    rfl

/-- A used tile's sum is over all hidden columns. -/
theorem acc_all (T : ℕ) (r k : Fin 1024) :
    (accAt m c T 7 : FVec Ideal S1024x1024 .f32) (ix2 r k) = ∑ f : Fin 3584, term m c T r k f := by
  rw [accAt_apply, Finset.sum_range, Fin.sum_univ_tiles 7 512 rfl]
  refine Finset.sum_congr rfl fun j _ => ?_
  rw [add_apply]
  refine Finset.sum_congr rfl fun f _ => ?_
  congr 1
  refine Fin.ext ?_
  show (512 * j.val + f.val) % 3584 = j.val * 512 + f.val
  have := j.isLt
  have := f.isLt
  rw [Nat.mod_eq_of_lt (by omega), Nat.mul_comm]

theorem toInt_nat (w : BitVec 32) (h : w.toNat < 32768) : w.toInt.toNat = w.toNat := by
  rw [BitVec.toInt_eq_toNat_of_lt (by omega)]
  rfl

variable {m}

/-- The call's result at an element. -/
theorem outG_apply (y : S589824x128.Idx) (T : Fin 72) (r k : Fin 1024)
    (e : (y 0).val * 128 + (y 1).val = T.val * 1048576 + r.val * 1024 + k.val) :
    (outG m c : FVec Ideal S589824x128 .f32) y
      = if ((T.val : ℤ) < (nuW m).toInt) then ∑ f : Fin 3584, term m c T.val r k f else (0 : EReal) := by
  have hy1 : (y 1).val < 128 := (y 1).isLt
  have hr := r.isLt
  have hk := k.isLt
  have hT : (y 0).val / 8192 = T.val := by omega
  show outV m c ((y 0).val / 8192) _ = _
  rw [hT, outV]
  by_cases hu : (T.val : ℤ) < (nuW m).toInt
  · rw [if_pos hu, if_pos hu, ← acc_all]
    show accAt m c T.val 7 _ = _
    rw [ix2_eq_valueIdx]
    have e0 : (y 0).val % 8192 / 8 = r.val := by omega
    have e1 : 128 * ((y 0).val % 8192 % 8) + (y 1).val = k.val := by omega
    exact congrArg₂ (fun (a b : Fin 1024) => accAt m c T.val 7 (ValueIdx.ix2 a b)) (Fin.ext e0) (Fin.ext e1)
  · rw [if_neg hu, if_neg hu]
    exact pay12_apply _

/-- The call's result is the reference's of the same arguments. -/
theorem outG_eq (h : Ready m) :
    (outG m c : FVec Ideal S589824x128 .f32) = Cert.RoutedRef.result (F := Ideal) (V m c main_arg0) (V m c main_arg1)
      (V m c main_arg2) (V m c main_arg3) (V m c main_arg4) (V m c main_arg5) (V m c main_arg6) := by
  refine funext fun y => ?_
  have hy0 : (y 0).val < 589824 := (y 0).isLt
  have hy1 : (y 1).val < 128 := (y 1).isLt
  obtain ⟨T, r, k, e⟩ : ∃ (T : Fin 72) (r k : Fin 1024), (y 0).val * 128 + (y 1).val = T.val * 1048576 + r.val * 1024 + k.val :=
    ⟨⟨(y 0).val / 8192, by omega⟩, ⟨(y 0).val % 8192 / 8, by omega⟩, ⟨(y 0).val % 8 * 128 + (y 1).val, by omega⟩, by
      show (y 0).val * 128 + (y 1).val
        = (y 0).val / 8192 * 1048576 + (y 0).val % 8192 / 8 * 1024 + ((y 0).val % 8 * 128 + (y 1).val)
      omega⟩
  have hT := T.isLt
  have hr := r.isLt
  have hc : c = (0 : Dev nD) := Subsingleton.elim (α := Fin 1) _ _
  have hn : (V m c main_arg3 : IVec S1 32) (ix1 0) = nuW m := by
    rw [hc, ix1_eq_valueIdx]
    rfl
  have hs : ((V m c main_arg1 : IVec S73728 32) (ix1 ⟨1024 * T.val + r.val, by omega⟩)).toInt.toNat = (wdT m c T.val r).val := by
    have e1 : (⟨(1024 * T.val + r.val) % 73728, Nat.mod_lt _ (by decide)⟩ : Fin 73728) = ⟨1024 * T.val + r.val, by omega⟩ :=
      Fin.ext (Nat.mod_eq_of_lt (by omega))
    show _ = (srcW m c ⟨(1024 * T.val + r.val) % 73728, _⟩).toNat % 32768
    rw [e1, Nat.mod_eq_of_lt (h.src c _), ← toInt_nat _ (h.src c _), ix1_eq_valueIdx]
    rfl
  have ht : ((V m c main_arg2 : IVec S72 32) (ix1 T)).toInt.toNat = (teN m T.val).val := by
    have hl := h.te T
    rw [teN_val m h T.val hT, ← toInt_nat _ (by have := h.te ⟨T.val, hT⟩; omega), hc, ix1_eq_valueIdx]
    rfl
  rw [outG_apply c y T r k e, Cert.RoutedRef.result_apply _ _ _ _ _ _ _ y T r k e, hn,
    Cert.RoutedRef.tiles_apply _ _ _ _ _ _ T r k _ hs _ ht]
  rfl

end Cert.Routed
-- ==== Proof.CombSteps.lean ====
/- One issue of the combine's row gather, a step at a time: the load of a token's slot, the check of it and the transfer
   of the slot's row into the buffer of rows, each as a rule read backwards over what the core holds meanwhile. Transfer
   `r` of a tile is the row of its token `r / 2` for choice `r % 2`. -/
module

public import proofs.«01_k».proof.Proof.Gen.Kernel2Ideal.Launch
public import proofs.«01_k».proof.Proof.Gen.Kernel2Ideal.Skeleton
public import Idealize.ShloMosaic.Lib.Batch
public import Idealize.ShloMosaic.Lib.ShareLeaves
public import Idealize.ShloMosaic.Lib.ValueIdx
public import Idealize.ShloMosaic.Lib.Pointwise
public import Idealize.ShloMosaic.Lib.Tactic
public import Idealize.ShloMosaic.Lib.Pipeline.Frame
public import Idealize.ShloMosaic.Lib.Pipeline.Value
public import Idealize.ShloMosaic.Lib.Exec

@[expose] public section

set_option maxRecDepth 16384

noncomputable section

namespace Cert.Comb

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)

variable {F : FTy → Type} [FloatOps F]

local notation "𝕄" => MT nD τ sig Unit (Elt F) ℕ (Pipeline.UD sig nD τ) ℕ

/-- Where the transfers' counters live. -/
abbrev EC : UEmb Counters 𝕄 := countersEmb (U := Pipeline.UD sig nD τ)

/-- The buffer of gathered rows, its two slots one after the other, and the slots' rows in main memory. -/
abbrev rowsM : Memref sig .tc .vmem S2x2x4096x128 .f32 := Memref.whole cc0_scratch0
abbrev tokM : Memref sig .tc .hbm S589824x128 .f32 := Memref.whole main_arg0

theorem inbS (s : Fin 2) : ∀ a, (![s.val] : Fin 1 → Nat) a + S1.size a ≤ S2.size a := by
  intro a; fin_cases a; show s.val + 1 ≤ 2; omega
theorem inbD (s : Fin 2) (r : Fin 1024) : ∀ a, (![s.val, r.val % 2, 8 * (r.val / 2), 0] : Fin 4 → Nat) a + S1x1x8x128.size a ≤ S2x2x4096x128.size a := by
  intro a; fin_cases a
  · show s.val + 1 ≤ 2; omega
  · show r.val % 2 + 1 ≤ 2; omega
  · show 8 * (r.val / 2) + 8 ≤ 4096; omega
  · show 0 + 128 ≤ 128; omega
theorem inbH (w : Fin 73728) : ∀ a, (![8 * w.val, 0] : Fin 2 → Nat) a + S8x128.size a ≤ S589824x128.size a := by
  intro a; fin_cases a
  · show 8 * w.val + 8 ≤ 589824; omega
  · show 0 + 128 ≤ 128; omega

/-- Slot `s`'s semaphore, row `r` of slot `s`, and the row of slot `w`. -/
abbrev semA (s : Fin 2) : DmaSems sig S_ := (cc0_scratch1.slice (Rect.unit (s := S2) ![s.val] S1.size (inbS s))).squeeze S_ squeezes_S1_S_
abbrev semOf (s : Fin 2) : DmaSem sig := (semA s).sem
abbrev rowM (s : Fin 2) (r : Fin 1024) : Memref sig .tc .vmem S8x128 .f32 :=
  (rowsM.slice (Rect.unit (s := S2x2x4096x128) ![s.val, r.val % 2, 8 * (r.val / 2), 0] S1x1x8x128.size (inbD s r)) (fun _ => rfl)).squeeze S8x128 squeezes_S1x1x8x128_S8x128
abbrev srcM (w : Fin 73728) : Memref sig .tc .hbm S8x128 .f32 :=
  tokM.slice (Rect.unit (s := S589824x128) ![8 * w.val, 0] S8x128.size (inbH w)) (fun _ => rfl)

/-- The buffer of rows and the tokens' rows, as locations of core `c`, and their contents' types. -/
abbrev rowsL (c : Dev nD) : Loc nD τ sig := (c.tc : Thread nD τ).loc cc0_scratch0
abbrev tokL (c : Dev nD) : Loc nD τ sig := (c.tc : Thread nD τ).loc main_arg0
abbrev RowsB (F : FTy → Type) : Type := S2x2x4096x128.Idx → Elt F .f32
abbrev TokB (F : FTy → Type) : Type := S589824x128.Idx → Elt F .f32

/-- Row `r`'s elements of slot `s`, and the row of slot `w`'s. -/
abbrev rowSet (s : Fin 2) (r : Fin 1024) : Finset S2x2x4096x128.Idx := (rowM s r).view.set
abbrev srcSet (w : Fin 73728) : Finset S589824x128.Idx := (srcM w).view.set

/-- The buffer of rows with transfer `r`'s row — slot `wd r`'s — at row `r / 2` of choice `r % 2`, in both slots. -/
def gath (wd : Fin 1024 → Fin 73728) (hb : TokB F) : RowsB F := fun j =>
  hb (ix2 ⟨8 * (wd ⟨2 * ((j 2).val / 8) + (j 1).val, by
      have : (j 2).val < 4096 := (j 2).isLt
      have : (j 1).val < 2 := (j 1).isLt
      omega⟩).val + (j 2).val % 8, by
    have := (wd ⟨2 * ((j 2).val / 8) + (j 1).val, by
      have : (j 2).val < 4096 := (j 2).isLt
      have : (j 1).val < 2 := (j 1).isLt
      omega⟩).isLt
    omega⟩ ⟨(j 3).val, (j 3).isLt⟩)

/-- One row's bytes, as the semaphore counts them. -/
abbrev rowN : ℕ := (rowM 0 0).view.amount (SemLoc.dma (sig := sig) (semOf 0))

/-- The half of the rows in main memory slot `s` reads with: both slots' gathers may be in flight at once. -/
abbrev half (s : Fin 2) : PosShare TreeShare := if s = 0 then fullShare.left else fullShare.right

/-- The `t`-th of the 1024 shares slot `s`'s half is held in while rows are in flight. -/
abbrev tok (s : Fin 2) (t : Fin 1024) : PosShare TreeShare := ShareLeaves.leaf 10 (half s) t

/-- What the `t`-th transfer delivers: row `t` of the slot landed, and the share of the token's row back. -/
def deliv (c : Dev nD) (s : Fin 2) (wd : Fin 1024 → Fin 73728) (hb : TokB F) (t : Fin 1024) : sProp 𝕄 :=
  iprop((rowsL c ↦[rowSet s t]{fullShare} gath wd hb) ∗ (tokL c ↦[srcSet (wd t)]{tok s t} hb))

instance deliv_storable (c : Dev nD) (s : Fin 2) (wd : Fin 1024 → Fin 73728) (hb : TokB F) (t : Fin 1024) :
    Storable (upEmb : UEmb _ 𝕄) (deliv c s wd hb t) := by unfold deliv; infer_instance

/-- The transfers started so far. -/
def started (r : ℕ) : Finset (Fin 1024) := Finset.univ.filter fun t => t.val < r
theorem started_zero : started 0 = ∅ := by simp [started]
theorem started_succ {r : ℕ} (h : r < 1024) : started (r + 1) = insert ⟨r, h⟩ (started r) := by
  ext t; simp only [started, Finset.mem_filter, Finset.mem_univ, true_and, Finset.mem_insert, Fin.ext_iff]; omega
theorem not_mem_started {r : ℕ} (h : r < 1024) : (⟨r, h⟩ : Fin 1024) ∉ started r := by simp [started]
theorem started_step {r : ℕ} (h : r < 1024) (Φ : Fin 1024 → sProp 𝕄) :
    bigSep (started (r + 1)) Φ = iprop(Φ ⟨r, h⟩ ∗ bigSep (started r) Φ) := by
  rw [started_succ h, BI.bigSep_insert (not_mem_started h)]; rfl
theorem started_all : started 1024 = Finset.univ := by
  ext t; simp [started]

/-- The first `r` rows of a gather into slot `s` in flight: the batch, the rows still to be issued with their shares of
    the tokens' rows, and of the shares in flight what lies outside the transferred row. -/
def Fly (c : Dev nD) (s : Fin 2) (wd : Fin 1024 → Fin 73728) (hb : TokB F) (r : ℕ) : sProp 𝕄 :=
  iprop(Batch EC (c.tc : Thread nD τ) (.dma (semOf s)) () rowN (deliv c s wd hb) r 0
    ∗ bigSep (pending r) (fun t : Fin 1024 => iprop((∃ fd, rowsL c ↦[rowSet s t]{fullShare} fd) ∗ (tokL c ↦{tok s t} hb)))
    ∗ bigSep (started r) (fun t : Fin 1024 => (tokL c ↦[Finset.univ \ srcSet (wd t)]{tok s t} hb)))

/-- Dropping two unit dimensions ahead of a block's own. -/
theorem drop2 {n m : ℕ} (h : Shape.ShapeCasts ⟨4, ![1, 1, n, m]⟩ ⟨2, ![n, m]⟩) (x : Shape.Idx ⟨2, ![n, m]⟩) :
    Shape.reshapeEquiv h x = (ix4 (0 : Fin 1) (0 : Fin 1) ⟨(x 0).val, (x 0).isLt⟩ ⟨(x 1).val, (x 1).isLt⟩ : Shape.Idx ⟨4, ![1, 1, n, m]⟩) := by
  refine Shape.reshapeEquiv_eq_of_vals h x _ _ _ (rowMajor_val4 _ (1 * (n * m)) (n * m) m rfl rfl rfl) (rowMajor_val2 _ m rfl) ?_
  show 0 * (1 * (n * m)) + 0 * (n * m) + (x 0).val * m + (x 1).val = (x 0).val * m + (x 1).val
  ring

/-- Element `x` of transfer `r`'s row of slot `s`, as an index of the buffer of rows. -/
theorem rowM_emb (s : Fin 2) (r : Fin 1024) (x : S8x128.Idx) :
    (rowM s r).view.emb x = ix4 s ⟨r.val % 2, by omega⟩ ⟨8 * (r.val / 2) + (x 0).val, by have : (x 0).val < 8 := (x 0).isLt; omega⟩ ⟨(x 1).val, (x 1).isLt⟩ := by
  have e' := drop2 squeezes_S1x1x8x128_S8x128.numel_eq x
  show (Rect.unit (s := S2x2x4096x128) ![s.val, r.val % 2, 8 * (r.val / 2), 0] S1x1x8x128.size (inbD s r)).emb (Shape.reshapeEquiv squeezes_S1x1x8x128_S8x128.numel_eq x) = _
  rw [e']
  funext a
  apply Fin.ext
  match a with
  | ⟨0, _⟩ => show s.val + 1 * 0 = s.val; omega
  | ⟨1, _⟩ => show r.val % 2 + 1 * 0 = r.val % 2; omega
  | ⟨2, _⟩ => show 8 * (r.val / 2) + 1 * (x 0).val = 8 * (r.val / 2) + (x 0).val; omega
  | ⟨3, _⟩ => show 0 + 1 * (x 1).val = (x 1).val; omega

/-- Element `x` of the row of slot `w`, as an index of the tokens' rows. -/
theorem srcM_emb (w : Fin 73728) (x : S8x128.Idx) :
    (srcM w).view.emb x = ix2 ⟨8 * w.val + (x 0).val, by have : (x 0).val < 8 := (x 0).isLt; omega⟩ ⟨(x 1).val, (x 1).isLt⟩ := by
  funext a
  apply Fin.ext
  match a with
  | ⟨0, _⟩ => show 8 * w.val + 1 * (x 0).val = 8 * w.val + (x 0).val; omega
  | ⟨1, _⟩ => show 0 + 1 * (x 1).val = (x 1).val; omega

/-- Row `r` of the slot, rewritten with the row of slot `wd r`, is row `r` of the gather. -/
theorem landed (s : Fin 2) (r : Fin 1024) (wd : Fin 1024 → Fin 73728) (hb : TokB F) (fd : RowsB F) :
    ∀ i ∈ rowSet s r, (rowM s r).view.write (Elt F) fd ((ReadAs.same (Val := Elt F) (s := S8x128) (e := .f32)).apply ((srcM (wd r)).view.read (Elt F) hb)) Finset.univ i
      = gath wd hb i := by
  intro i hi
  obtain ⟨x, -, rfl⟩ := Finset.mem_map.mp hi
  rw [View.write_emb_of_mem _ _ (Finset.mem_univ x), rowM_emb]
  show hb ((srcM (wd r)).view.emb x) = _
  rw [srcM_emb]
  unfold gath
  have h0 : (x 0).val < 8 := (x 0).isLt
  have hq : 2 * ((8 * (r.val / 2) + (x 0).val) / 8) + r.val % 2 = r.val := by omega
  have hm : (8 * (r.val / 2) + (x 0).val) % 8 = (x 0).val := by omega
  congr 1
  funext a
  apply Fin.ext
  match a with
  | ⟨0, _⟩ =>
    show 8 * (wd r).val + (x 0).val = 8 * (wd ⟨2 * ((8 * (r.val / 2) + (x 0).val) / 8) + r.val % 2, _⟩).val + (8 * (r.val / 2) + (x 0).val) % 8
    rw [hm]; congr 3; congr 1; exact Fin.ext hq.symm
  | ⟨1, _⟩ => rfl

/-- Issuing row `r`: one more transfer is in flight. The slot, the row and the token's row are named by the program's
    own offsets, equal to these. -/
theorem enq_step (c : Dev nD) (s : Fin 2) (wd : Fin 1024 → Fin 73728) (hb : TokB F) {r : ℕ} (hr : r < 1024) {R : sProp 𝕄}
    {offS : Fin 1 → ℕ} {bS : ∀ a, offS a + S1.size a ≤ S2.size a}
    {offD : Fin 4 → ℕ} {bD : ∀ a, offD a + S1x1x8x128.size a ≤ S2x2x4096x128.size a}
    {offH : Fin 2 → ℕ} {bH : ∀ a, offH a + S8x128.size a ≤ S589824x128.size a}
    (hS : offS = ![s.val]) (hD : offD = ![s.val, r % 2, 8 * (r / 2), 0]) (hH : offH = ![8 * (wd ⟨r, hr⟩).val, 0])
    {α : Type} {k : PUnit → Prog (TpuEff nD τ sig (Elt F) Λ₀ .tc) α} {Q : α → sProp 𝕄}
    (h : iprop(Fly c s wd hb (r + 1) ∗ R) ⊢ wp frame (wpE (defs₀ (F := F)) Variants.none (c.tc : Thread nD τ) none) Set.univ (k ⟨⟩) Q) :
    iprop(Fly c s wd hb r ∗ R) ⊢ wp frame (wpE (defs₀ (F := F)) Variants.none (c.tc : Thread nD τ) none) Set.univ
      (Prog.lift (.enqueueDma (tokM.slice (Rect.unit (s := S589824x128) offH S8x128.size bH) (fun _ => rfl))
        (.here ((rowsM.slice (Rect.unit (s := S2x2x4096x128) offD S1x1x8x128.size bD) (fun _ => rfl)).squeeze S8x128 squeezes_S1x1x8x128_S8x128))
        (.dma ((cc0_scratch1.slice (Rect.unit (s := S2) offS S1.size bS)).squeeze S_ squeezes_S1_S_).sem)
        (View.wordExact_bits rfl) ((View.wordExact_bits rfl).reshape _ _) ⟨Or.inl rfl, trivial⟩) >>= k) Q := by
  subst hS hD hH
  unfold Fly at h ⊢
  rw [started_step hr] at h
  rw [Transfers.bigSep_pending_step _ r hr]
  iintro ⟨⟨HB, ⟨⟨⟨%fd, Hrow⟩, Htok⟩, Hpend⟩, Hst⟩, HR⟩
  ihave Htok' := (pointsTo_split_subset (ℓ := tokL c) (I := srcSet (wd ⟨r, hr⟩)) (Finset.subset_univ _)).1 $$ Htok
  icases Htok' with ⟨Hsrc, Hrest⟩
  iapply (Transfers.wp_dmaBatch EC Variants.none (c.tc : Thread nD τ) none (src := srcM (wd ⟨r, hr⟩)) (dst := rowM s ⟨r, hr⟩) () rowN rfl subset_rfl
    (D := deliv c s wd hb) (j := r) (u := 0) hr (Nat.zero_le _)
    (by unfold deliv; exact sep_mono (Entails.of_eq (pointsTo_congr (landed s ⟨r, hr⟩ wd hb fd))) .rfl)) $$ [Hsrc Hrow HB]
  · isplitl [Hsrc]; · iexact Hsrc
    isplitl [Hrow] <;> iassumption
  iintro HB
  iapply h
  isplitr [HR]
  · isplitl [HB]; · iexact HB
    isplitl [Hpend]; · iexact Hpend
    isplitl [Hrest] <;> iassumption
  · iexact HR

/-- Loading word `r` of a table held whole. -/
theorem load_step (c : Dev nD) (arg : Memref sig .tc .smem S512 .i32) (x : S512.Idx → Elt F .i32) {P : sProp 𝕄} (r : Fin 512)
    {off : Fin 1 → ℕ} {b : ∀ a, off a + S1.size a ≤ S512.size a} (hoff : off = ![r.val])
    {α : Type} {k : Elt F .i32 → Prog (TpuEff nD τ sig (Elt F) Λ₀ .tc) α} {Q : α → sProp 𝕄}
    (h : iprop(P ∗ owns (c.tc : Thread nD τ) arg fullShare x) ⊢ wp frame (wpE (defs₀ (F := F)) Variants.none (c.tc : Thread nD τ) none) Set.univ (k (x (ix1 r))) Q) :
    iprop(P ∗ owns (c.tc : Thread nD τ) arg fullShare x) ⊢ wp frame (wpE (defs₀ (F := F)) Variants.none (c.tc : Thread nD τ) none) Set.univ
      (smemLoad arg (Rect.unit (s := S512) off S1.size b) numel1_S1 rfl >>= k) Q := by
  subst hoff
  rw [wp_bind]
  unfold owns at h ⊢
  iintro ⟨HP, %f, %hf, Hpt⟩
  unfold smemLoad
  iapply (wp_smemLoadElt_named Variants.none (c.tc : Thread nD τ) none Set.univ (m := arg) (S := arg.view.set) (View.set_slice_subset _ _)) $$ Hpt
  iintro Hpt %w %hw
  have hv : (arg.access (Rect.unit (s := S512) ![r.val] S1.size b)).read (Elt F) f (Shape.Idx.first (numel1_S1.symm ▸ Nat.one_pos)) = x (ix1 r) := by
    rw [← hf]
    show arg.view.read (Elt F) f ((Rect.unit (s := S512) ![r.val] S1.size b).emb (Shape.Idx.first _)) = arg.view.read (Elt F) f (ix1 r)
    congr 1
    funext a
    apply Fin.ext
    match a with
    | ⟨0, _⟩ => show r.val + 1 * 0 = r.val; omega
  rw [hv] at hw
  subst hw
  rw [wp_ret]
  imodintro
  iapply h
  isplitl [HP]; · iexact HP
  iexists f
  isplitr; · ipureintro; exact hf
  iexact Hpt

/-- A check that holds. -/
theorem chk_step (c : Dev nD) {P : sProp 𝕄} {p : Prop} {dec : Decidable p} (hp : p)
    {α : Type} {k : PLift p → Prog (TpuEff nD τ sig (Elt F) Λ₀ .tc) α} {Q : α → sProp 𝕄}
    (h : ∀ h, P ⊢ wp frame (wpE (defs₀ (F := F)) Variants.none (c.tc : Thread nD τ) none) Set.univ (k h) Q) :
    P ⊢ wp frame (wpE (defs₀ (F := F)) Variants.none (c.tc : Thread nD τ) none) Set.univ
      (Prog.lift (TpuEff.assume p dec) >>= k) Q :=
  (h ⟨hp⟩).trans (Entails.of_eq (wp_assume_of Variants.none (c.tc : Thread nD τ) none Set.univ hp).symm)

end Cert.Comb

end
-- ==== Proof.CombIssue.lean ====
/- The issues the combine makes for a tile, sixteen a trip of its loops: the offsets the kernel computes in closed form,
   and one issue's load, check and transfer as the kernel's text has them. -/
module

public import proofs.«01_k».proof.Proof.CombSteps

@[expose] public section

set_option maxRecDepth 16384

noncomputable section

namespace Cert.Comb

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

local notation "𝕄" => MT nD τ sig Unit (Elt F) ℕ (Pipeline.UD sig nD τ) ℕ

/-- What a program of the body, run at core `c` of grid point's body, guarantees. -/
abbrev Wp (c : Dev nD) {α : Type} (p : Prog (TpuEff nD τ sig (Elt F) Λ₀ .tc) α) (Q : α → sProp 𝕄) : sProp 𝕄 :=
  wp frame (wpE (defs₀ (F := F)) Variants.none (c.tc : Thread nD τ) none) Set.univ p Q

/-- The slot point `i`'s own tile is in, and the slot the next tile's rows go to. -/
abbrev cur (i : grid0.Coords) : Fin 2 := ⟨(i 0).val % 2, by omega⟩
abbrev nxt (i : grid0.Coords) : Fin 2 := ⟨1 - (i 0).val % 2, by omega⟩

/-- `i % 2` as the kernel computes it. -/
def par (a : ℕ) : BitVec 32 :=
  Scalar.select (Scalar.andi (Scalar.xori (Scalar.cmpi .slt (Scalar.remsi (BitVec.ofNat 32 a) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 a) (Scalar.select (Scalar.cmpi .eq 2#32 0#32) 1#32 2#32)) 0#32)) (Scalar.addi (Scalar.remsi (BitVec.ofNat 32 a) (Scalar.select (Scalar.cmpi .eq 2#32 0#32) 1#32 2#32)) (Scalar.select (Scalar.cmpi .eq 2#32 0#32) 1#32 2#32)) (Scalar.remsi (BitVec.ofNat 32 a) (Scalar.select (Scalar.cmpi .eq 2#32 0#32) 1#32 2#32))

theorem par_eq (i : grid0.Coords) : (par (i 0).val).toNat = (cur i).val := by
  have h : ∀ a : Fin 64, (par a.val).toNat = a.val % 2 := by decide +kernel
  exact h (i 0)
theorem par_sub (i : grid0.Coords) : (Scalar.subi 1#32 (par (i 0).val)).toNat = (nxt i).val := by
  have h : ∀ a : Fin 64, (Scalar.subi 1#32 (par a.val)).toNat = 1 - a.val % 2 := by decide +kernel
  exact h (i 0)

theorem off50_eq (i : grid0.Coords) : k0_off50 i = ![(nxt i).val] := by
  show ![(Scalar.subi 1#32 (par (i 0).val)).toNat] = _
  rw [par_sub]
theorem off113_eq (i : grid0.Coords) : k0_off113 i = ![(cur i).val] := by
  show ![(par (i 0).val).toNat] = _
  rw [par_eq]
theorem off114_eq (i : grid0.Coords) : k0_off114 i = ![(cur i).val, (0 : Fin 2).val, 0, 0] := by
  show ![(par (i 0).val).toNat, 0, 0, 0] = _
  rw [par_eq]; rfl
theorem off115_eq (i : grid0.Coords) : k0_off115 i = ![(cur i).val, (1 : Fin 2).val, 0, 0] := by
  show ![(par (i 0).val).toNat, 1, 0, 0] = _
  rw [par_eq]; rfl

/-- The row trip `t` issues as its `k`-th, as the kernel computes it. -/
abbrev rowO (k : BitVec 32) (t : ℕ) : BitVec 32 := Scalar.addi (Scalar.muli 8#32 (Scf.iv 0#32 1#32 t)) k
/-- The offset of its load, of its destination, and of the row of a slot. -/
def ldO (k : BitVec 32) (t : ℕ) : Fin 1 → ℕ := ![(Scalar.indexCast (rowO k t)).toNat]
def dstO (s b : ℕ) (k : BitVec 32) (t : ℕ) : Fin 4 → ℕ := ![s, b, (Scalar.muli (rowO k t) 8#32).toNat, 0]
def srcO (v : BitVec 32) : Fin 2 → ℕ := ![(Scalar.muli v 8#32).toNat, 0]

theorem ldO_eq (t : ℕ) (ht : t < 64) (k : ℕ) (hk : k < 8) : ldO (BitVec.ofNat 32 k) t = ![8 * t + k] := by
  have h : ∀ (t : Fin 64) (k : Fin 8), (Scalar.indexCast (rowO (BitVec.ofNat 32 k.val) t.val)).toNat = 8 * t.val + k.val := by decide +kernel
  unfold ldO
  rw [h ⟨t, ht⟩ ⟨k, hk⟩]

theorem dstO_eq (s b t : ℕ) (ht : t < 64) (k : ℕ) (hk : k < 8) : dstO s b (BitVec.ofNat 32 k) t = ![s, b, 8 * (8 * t + k), 0] := by
  have h : ∀ (t : Fin 64) (k : Fin 8), (Scalar.muli (rowO (BitVec.ofNat 32 k.val) t.val) 8#32).toNat = 8 * (8 * t.val + k.val) := by decide +kernel
  unfold dstO
  rw [h ⟨t, ht⟩ ⟨k, hk⟩]

theorem srcO_eq (v : BitVec 32) (w : ℕ) (h : v.toNat = w) (hw : w < 73728) : srcO v = ![8 * w, 0] := by
  unfold srcO
  congr 1
  simp only [Scalar.muli, IntOp.muli]
  simp [BitVec.toNat_mul, h]
  omega

/-- The check of a slot below the slots' number. -/
theorem chk1_ok {i : grid0.Coords} {v : BitVec 32} (hv : v.toNat < 73728) : k0_chk1 i v := by
  have e : k0_off3 v = ![8 * v.toNat, 0] := srcO_eq v _ rfl hv
  have em : (k0_mult2 v).toNat = 8 * v.toNat := congrFun e 0
  refine ⟨fun _ => by rw [em]; exact Nat.dvd_mul_right _ _, fun _ a => ?_⟩
  rw [e]
  exact inbH ⟨v.toNat, hv⟩ a
theorem chk2_ok {i : grid0.Coords} {v : BitVec 32} (hv : v.toNat < 73728) : k0_chk17 i v := by
  have e : k0_off52 v = ![8 * v.toNat, 0] := srcO_eq v _ rfl hv
  have em : (k0_mult2 v).toNat = 8 * v.toNat := congrFun e 0
  refine ⟨fun _ => by show 8 ∣ (k0_mult2 v).toNat; rw [em]; exact Nat.dvd_mul_right _ _, fun _ a => ?_⟩
  rw [e]
  exact inbH ⟨v.toNat, hv⟩ a

/-- With `k` of a tile's rows issued and the tile's two tables held. -/
def St (c : Dev nD) (s : Fin 2) (argA argB : Memref sig .tc .smem S512 .i32) (x0 x1 : S512.Idx → BitVec 32) (wd : Fin 1024 → Fin 73728)
    (hb : TokB F) (k : ℕ) : sProp 𝕄 :=
  iprop((Fly c s wd hb k ∗ owns (c.tc : Thread nD τ) argA fullShare (x0 : S512.Idx → Elt F .i32)) ∗ owns (c.tc : Thread nD τ) argB fullShare (x1 : S512.Idx → Elt F .i32))

/-- A piece of a program, then the rest. -/
theorem sq {c : Dev nD} {P : sProp 𝕄} {α β : Type} {p : Prog (TpuEff nD τ sig (Elt F) Λ₀ .tc) α} {K : α → Prog (TpuEff nD τ sig (Elt F) Λ₀ .tc) β} {Q : β → sProp 𝕄}
    (h : P ⊢ Wp c p fun a => Wp c (K a) Q) : P ⊢ Wp c (p >>= K) Q := by
  unfold Wp; rw [wp_bind]; exact h

/-- A program that ends. -/
theorem rt {c : Dev nD} {P : sProp 𝕄} {α : Type} {a : α} {Q : α → sProp 𝕄} (h : P ⊢ Q a) :
    P ⊢ Wp c (pure a : Prog (TpuEff nD τ sig (Elt F) Λ₀ .tc) α) Q := by
  show P ⊢ wp frame (wpE (defs₀ (F := F)) Variants.none (c.tc : Thread nD τ) none) Set.univ (.ret a) Q
  rw [wp_ret]; exact h.trans fupd_intro

/-- The transfers' slots, read off the two tables. -/
structure Tab (x0 x1 : S512.Idx → BitVec 32) (wd : Fin 1024 → Fin 73728) : Prop where
  a : ∀ r : Fin 512, (x0 (ix1 r)).toNat = (wd ⟨2 * r.val, by omega⟩).val
  b : ∀ r : Fin 512, (x1 (ix1 r)).toNat = (wd ⟨2 * r.val + 1, by omega⟩).val

/-- The row trip `t` issues as its `m`-th. -/
abbrev pos {t : ℕ} (ht : t < 64) (m : ℕ) (hm : m < 8) : Fin 512 := ⟨8 * t + m, by omega⟩

section Steps

variable {c : Dev nD} {s : Fin 2} {i : grid0.Coords} {argA argB : Memref sig .tc .smem S512 .i32} {x0 x1 : S512.Idx → BitVec 32} {wd : Fin 1024 → Fin 73728}
  (hx : Tab x0 x1 wd) {hb : TokB F} {t : ℕ} (ht : t < 64)

theorem ldB (m : ℕ) (hm : m < 8) {k' : ℕ} {b : ∀ a, ldO (BitVec.ofNat 32 m) t a + S1.size a ≤ S512.size a}
    {α : Type} {K : Elt F .i32 → Prog (TpuEff nD τ sig (Elt F) Λ₀ .tc) α} {Q : α → sProp 𝕄}
    (h : St c s argA argB x0 x1 wd hb k' ⊢ Wp c (K (x1 (ix1 (pos ht m hm)))) Q) :
    St c s argA argB x0 x1 wd hb k' ⊢ Wp c (smemLoad argB (Rect.unit (s := S512) (ldO (BitVec.ofNat 32 m) t) S1.size b) numel1_S1 rfl >>= K) Q :=
  load_step c argB x1 (pos ht m hm) (ldO_eq t ht m hm) h

/-- The two tables, one before the other. -/
theorem swapT {P A B : sProp 𝕄} : iprop((P ∗ A) ∗ B) ⊢ iprop((P ∗ B) ∗ A) := by
  iintro ⟨⟨HP, HA⟩, HB⟩
  isplitr [HA]
  · isplitl [HP]; · iexact HP
    iexact HB
  · iexact HA

theorem ldA (m : ℕ) (hm : m < 8) {k' : ℕ} {b : ∀ a, ldO (BitVec.ofNat 32 m) t a + S1.size a ≤ S512.size a}
    {α : Type} {K : Elt F .i32 → Prog (TpuEff nD τ sig (Elt F) Λ₀ .tc) α} {Q : α → sProp 𝕄}
    (h : St c s argA argB x0 x1 wd hb k' ⊢ Wp c (K (x0 (ix1 (pos ht m hm)))) Q) :
    St c s argA argB x0 x1 wd hb k' ⊢ Wp c (smemLoad argA (Rect.unit (s := S512) (ldO (BitVec.ofNat 32 m) t) S1.size b) numel1_S1 rfl >>= K) Q := by
  unfold St at h ⊢
  exact swapT.trans (load_step c argA x0 (pos ht m hm) (ldO_eq t ht m hm) (swapT.trans h))

theorem ck1 {P : sProp 𝕄} {v : BitVec 32} (hv : v.toNat < 73728) {dec : Decidable (k0_chk1 i v)}
    {α : Type} {K : PLift (k0_chk1 i v) → Prog (TpuEff nD τ sig (Elt F) Λ₀ .tc) α} {Q : α → sProp 𝕄} (h : ∀ h, P ⊢ Wp c (K h) Q) :
    P ⊢ Wp c (Prog.lift (TpuEff.assume (k0_chk1 i v) dec) >>= K) Q :=
  chk_step c (chk1_ok hv) h
theorem ck2 {P : sProp 𝕄} {v : BitVec 32} (hv : v.toNat < 73728) {dec : Decidable (k0_chk17 i v)}
    {α : Type} {K : PLift (k0_chk17 i v) → Prog (TpuEff nD τ sig (Elt F) Λ₀ .tc) α} {Q : α → sProp 𝕄} (h : ∀ h, P ⊢ Wp c (K h) Q) :
    P ⊢ Wp c (Prog.lift (TpuEff.assume (k0_chk17 i v) dec) >>= K) Q :=
  chk_step c (chk2_ok hv) h

include hx in
theorem ltA (m : ℕ) (hm : m < 8) : (x0 (ix1 (pos ht m hm))).toNat < 73728 := by rw [hx.a]; exact (wd _).isLt
include hx in
theorem ltB (m : ℕ) (hm : m < 8) : (x1 (ix1 (pos ht m hm))).toNat < 73728 := by rw [hx.b]; exact (wd _).isLt

include hx in
theorem eqA (m : ℕ) (hm : m < 8) {s' : ℕ} (hs : s' = s.val) {offS : Fin 1 → ℕ} {bS : ∀ a, offS a + S1.size a ≤ S2.size a} (hS : offS = ![s.val])
    {bD : ∀ a, dstO s' 0 (BitVec.ofNat 32 m) t a + S1x1x8x128.size a ≤ S2x2x4096x128.size a}
    {bH : ∀ a, srcO (x0 (ix1 (pos ht m hm))) a + S8x128.size a ≤ S589824x128.size a}
    {α : Type} {K : PUnit → Prog (TpuEff nD τ sig (Elt F) Λ₀ .tc) α} {Q : α → sProp 𝕄}
    (h : St c s argA argB x0 x1 wd hb (16 * t + (2 * m + 1)) ⊢ Wp c (K ⟨⟩) Q) :
    St c s argA argB x0 x1 wd hb (16 * t + 2 * m) ⊢ Wp c
      (Prog.lift (.enqueueDma (tokM.slice (Rect.unit (s := S589824x128) (srcO (x0 (ix1 (pos ht m hm)))) S8x128.size bH) (fun _ => rfl))
        (.here ((rowsM.slice (Rect.unit (s := S2x2x4096x128) (dstO s' 0 (BitVec.ofNat 32 m) t) S1x1x8x128.size bD) (fun _ => rfl)).squeeze S8x128 squeezes_S1x1x8x128_S8x128))
        (.dma ((cc0_scratch1.slice (Rect.unit (s := S2) offS S1.size bS)).squeeze S_ squeezes_S1_S_).sem)
        (View.wordExact_bits rfl) ((View.wordExact_bits rfl).reshape _ _) ⟨Or.inl rfl, trivial⟩) >>= K) Q := by
  subst hs
  unfold St at h ⊢
  have e0 : (16 * t + 2 * m) % 2 = 0 := by omega
  have e1 : (16 * t + 2 * m) / 2 = 8 * t + m := by omega
  have hw := hx.a (pos ht m hm)
  have e2 : (⟨2 * (pos ht m hm).val, by have := (pos ht m hm).isLt; omega⟩ : Fin 1024) = ⟨16 * t + 2 * m, by omega⟩ := Fin.ext (show 2 * (8 * t + m) = 16 * t + 2 * m by omega)
  rw [e2] at hw
  exact sep_assoc.1.trans (enq_step c s wd hb (r := 16 * t + 2 * m) (by omega) hS (by rw [e0, e1]; exact dstO_eq s.val 0 t ht m hm)
    (srcO_eq _ _ hw (wd _).isLt) (sep_assoc.2.trans h))

include hx in
theorem eqB (m : ℕ) (hm : m < 8) {s' : ℕ} (hs : s' = s.val) {offS : Fin 1 → ℕ} {bS : ∀ a, offS a + S1.size a ≤ S2.size a} (hS : offS = ![s.val])
    {bD : ∀ a, dstO s' 1 (BitVec.ofNat 32 m) t a + S1x1x8x128.size a ≤ S2x2x4096x128.size a}
    {bH : ∀ a, srcO (x1 (ix1 (pos ht m hm))) a + S8x128.size a ≤ S589824x128.size a}
    {α : Type} {K : PUnit → Prog (TpuEff nD τ sig (Elt F) Λ₀ .tc) α} {Q : α → sProp 𝕄}
    (h : St c s argA argB x0 x1 wd hb (16 * t + 2 * (m + 1)) ⊢ Wp c (K ⟨⟩) Q) :
    St c s argA argB x0 x1 wd hb (16 * t + (2 * m + 1)) ⊢ Wp c
      (Prog.lift (.enqueueDma (tokM.slice (Rect.unit (s := S589824x128) (srcO (x1 (ix1 (pos ht m hm)))) S8x128.size bH) (fun _ => rfl))
        (.here ((rowsM.slice (Rect.unit (s := S2x2x4096x128) (dstO s' 1 (BitVec.ofNat 32 m) t) S1x1x8x128.size bD) (fun _ => rfl)).squeeze S8x128 squeezes_S1x1x8x128_S8x128))
        (.dma ((cc0_scratch1.slice (Rect.unit (s := S2) offS S1.size bS)).squeeze S_ squeezes_S1_S_).sem)
        (View.wordExact_bits rfl) ((View.wordExact_bits rfl).reshape _ _) ⟨Or.inl rfl, trivial⟩) >>= K) Q := by
  subst hs
  unfold St at h ⊢
  have e0 : (16 * t + (2 * m + 1)) % 2 = 1 := by omega
  have e1 : (16 * t + (2 * m + 1)) / 2 = 8 * t + m := by omega
  have hw := hx.b (pos ht m hm)
  have e2 : (⟨2 * (pos ht m hm).val + 1, by have := (pos ht m hm).isLt; omega⟩ : Fin 1024) = ⟨16 * t + (2 * m + 1), by omega⟩ :=
    Fin.ext (show 2 * (8 * t + m) + 1 = 16 * t + (2 * m + 1) by omega)
  rw [e2] at hw
  exact sep_assoc.1.trans (enq_step c s wd hb (r := 16 * t + (2 * m + 1)) (by omega) hS (by rw [e0, e1]; exact dstO_eq s.val 1 t ht m hm)
    (srcO_eq _ _ hw (wd _).isLt) (sep_assoc.2.trans h))

end Steps

end Cert.Comb

end
-- ==== Proof.CombLoops.lean ====
/- The combine's two issue loops: each issues the 1024 rows of a tile. -/
module

public import proofs.«01_k».proof.Proof.CombIssue

@[expose] public section

set_option maxRecDepth 16384

noncomputable section

namespace Cert.Comb

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

local notation "𝕄" => MT nD τ sig Unit (Elt F) ℕ (Pipeline.UD sig nD τ) ℕ

section Loops

variable (c : Dev nD) (i : grid0.Coords) (arg1 : Memref sig .tc .smem S512 .i32) (harg1 : arg1.IsWhole) (arg2 : Memref sig .tc .smem S512 .i32) (harg2 : arg2.IsWhole)
  (arg3 : Memref sig .tc .smem S512 .i32) (harg3 : arg3.IsWhole) (arg4 : Memref sig .tc .smem S512 .i32) (harg4 : arg4.IsWhole)
  (harg5 : tokM.IsWhole) (arg6 : Memref sig .tc .vmem S512x128 .f32) (harg6 : arg6.IsWhole)
  (arg7 : Memref sig .tc .vmem S1x1024 .f32) (harg7 : arg7.IsWhole) (arg8 : Memref sig .tc .vmem S1x1x1024 .f32) (harg8 : arg8.IsWhole)
  (arg9 : Memref sig .tc .vmem S512x1024 .f32) (harg9 : arg9.IsWhole) (arg10 : Memref sig .tc .vmem S512x1024 .f32) (harg10 : arg10.IsWhole)
  (harg11 : rowsM.IsWhole) (arg13 : Memref sig .tc .vmem S512x1024 .f32) (harg13 : arg13.IsWhole)
  {x0 x1 : S512.Idx → BitVec 32} {wd : Fin 1024 → Fin 73728} (hx : Tab x0 x1 wd) {hb : TokB F}

include hx in
set_option maxHeartbeats 4000000 in
/-- One trip of it. -/
theorem trip1 (k0_h1 : k0_cond1 i = 1#1) (T : Fin k0_t1_loop.trips) (u : Unit) :
    St c 0 arg1 arg2 x0 x1 wd hb (16 * T.val) ⊢ Wp c (k0_t1_body i arg1 harg1 arg2 harg2 arg3 harg3 arg4 harg4 tokM harg5 arg6 harg6 arg7 harg7 arg8 harg8 arg9 harg9 arg10 harg10 rowsM harg11 cc0_scratch1 arg13 harg13 k0_h1 T u)
      fun _ => St c 0 arg1 arg2 x0 x1 wd hb (16 * (T.val + 1)) := by
  have ht : T.val < 64 := T.isLt
  unfold k0_t1_body
  refine sq ?_
  rw [k0_part1_eq_skeleton]; unfold k0_part1_skel
  refine ldA ht 0 (by decide) ?_
  refine ck1 (ltA hx ht 0 (by decide)) fun _ => ?_
  refine eqA hx ht 0 (by decide) (s' := 0) rfl rfl ?_
  refine ldB ht 0 (by decide) ?_
  refine ck1 (ltB hx ht 0 (by decide)) fun _ => ?_
  refine eqB hx ht 0 (by decide) (s' := 0) rfl rfl ?_
  refine ldA ht 1 (by decide) ?_
  refine ck1 (ltA hx ht 1 (by decide)) fun _ => ?_
  refine rt ?_
  refine sq ?_
  rw [k0_part2_eq_skeleton]; unfold k0_part2_skel
  refine eqA hx ht 1 (by decide) (s' := 0) rfl rfl ?_
  refine ldB ht 1 (by decide) ?_
  refine ck1 (ltB hx ht 1 (by decide)) fun _ => ?_
  refine eqB hx ht 1 (by decide) (s' := 0) rfl rfl ?_
  refine ldA ht 2 (by decide) ?_
  refine ck1 (ltA hx ht 2 (by decide)) fun _ => ?_
  refine eqA hx ht 2 (by decide) (s' := 0) rfl rfl ?_
  refine ldB ht 2 (by decide) ?_
  refine ck1 (ltB hx ht 2 (by decide)) fun _ => ?_
  refine rt ?_
  refine sq ?_
  rw [k0_part3_eq_skeleton]; unfold k0_part3_skel
  refine eqB hx ht 2 (by decide) (s' := 0) rfl rfl ?_
  refine ldA ht 3 (by decide) ?_
  refine ck1 (ltA hx ht 3 (by decide)) fun _ => ?_
  refine eqA hx ht 3 (by decide) (s' := 0) rfl rfl ?_
  refine ldB ht 3 (by decide) ?_
  refine ck1 (ltB hx ht 3 (by decide)) fun _ => ?_
  refine eqB hx ht 3 (by decide) (s' := 0) rfl rfl ?_
  refine ldA ht 4 (by decide) ?_
  refine ck1 (ltA hx ht 4 (by decide)) fun _ => ?_
  refine rt ?_
  refine sq ?_
  rw [k0_part4_eq_skeleton]; unfold k0_part4_skel
  refine eqA hx ht 4 (by decide) (s' := 0) rfl rfl ?_
  refine ldB ht 4 (by decide) ?_
  refine ck1 (ltB hx ht 4 (by decide)) fun _ => ?_
  refine eqB hx ht 4 (by decide) (s' := 0) rfl rfl ?_
  refine ldA ht 5 (by decide) ?_
  refine ck1 (ltA hx ht 5 (by decide)) fun _ => ?_
  refine eqA hx ht 5 (by decide) (s' := 0) rfl rfl ?_
  refine ldB ht 5 (by decide) ?_
  refine ck1 (ltB hx ht 5 (by decide)) fun _ => ?_
  refine rt ?_
  refine sq ?_
  rw [k0_part5_eq_skeleton]; unfold k0_part5_skel
  refine eqB hx ht 5 (by decide) (s' := 0) rfl rfl ?_
  refine ldA ht 6 (by decide) ?_
  refine ck1 (ltA hx ht 6 (by decide)) fun _ => ?_
  refine eqA hx ht 6 (by decide) (s' := 0) rfl rfl ?_
  refine ldB ht 6 (by decide) ?_
  refine ck1 (ltB hx ht 6 (by decide)) fun _ => ?_
  refine eqB hx ht 6 (by decide) (s' := 0) rfl rfl ?_
  refine ldA ht 7 (by decide) ?_
  refine ck1 (ltA hx ht 7 (by decide)) fun _ => ?_
  refine rt ?_
  refine eqA hx ht 7 (by decide) (s' := 0) rfl rfl ?_
  refine ldB ht 7 (by decide) ?_
  refine ck1 (ltB hx ht 7 (by decide)) fun _ => ?_
  refine eqB hx ht 7 (by decide) (s' := 0) rfl rfl ?_
  exact rt .rfl

include hx in
/-- The loop of point 0 issues its own tile's rows, into slot 0. -/
theorem loop1 (k0_h1 : k0_cond1 i = 1#1) {α : Type} {K : Unit → Prog (TpuEff nD τ sig (Elt F) Λ₀ .tc) α} {Q : α → sProp 𝕄} :
    St c 0 arg1 arg2 x0 x1 wd hb 0
      ⊢ iprop((St c 0 arg1 arg2 x0 x1 wd hb 1024 -∗ Wp c (K ⟨⟩) Q)
        -∗ Wp c (Scf.Loop.for k0_t1_loop (k0_t1_ok i k0_h1) ⟨⟩ (k0_t1_body i arg1 harg1 arg2 harg2 arg3 harg3 arg4 harg4 tokM harg5 arg6 harg6 arg7 harg7 arg8 harg8 arg9 harg9 arg10 harg10 rowsM harg11 cc0_scratch1 arg13 harg13 k0_h1) >>= K) Q) := by
  iintro H HK
  iapply (Scf.wp_for_bind frame (wpE (defs₀ (F := F)) Variants.none (c.tc : Thread nD τ) none) Set.univ _ _ _ (k0_t1_ok i k0_h1) ()
    (k0_t1_body i arg1 harg1 arg2 harg2 arg3 harg3 arg4 harg4 tokM harg5 arg6 harg6 arg7 harg7 arg8 harg8 arg9 harg9 arg10 harg10 rowsM harg11 cc0_scratch1 arg13 harg13 k0_h1)
    (fun n _ => St c 0 arg1 arg2 x0 x1 wd hb (16 * n)) (fun t u =>
      trip1 c i arg1 harg1 arg2 harg2 arg3 harg3 arg4 harg4 harg5 arg6 harg6 arg7 harg7 arg8 harg8 arg9 harg9 arg10 harg10 harg11 arg13 harg13 hx k0_h1 t u)) $$ H
  iintro %_ H
  iapply HK
  iexact H

include hx in
set_option maxHeartbeats 4000000 in
/-- One trip of it. -/
theorem trip2 (k0_h2 : k0_cond2 i = 1#1) (T : Fin k0_t2_loop.trips) (u : Unit) :
    St c (nxt i) arg3 arg4 x0 x1 wd hb (16 * T.val) ⊢ Wp c (k0_t2_body i arg1 harg1 arg2 harg2 arg3 harg3 arg4 harg4 tokM harg5 arg6 harg6 arg7 harg7 arg8 harg8 arg9 harg9 arg10 harg10 rowsM harg11 cc0_scratch1 arg13 harg13 k0_h2 T u)
      fun _ => St c (nxt i) arg3 arg4 x0 x1 wd hb (16 * (T.val + 1)) := by
  have ht : T.val < 64 := T.isLt
  unfold k0_t2_body
  refine sq ?_
  rw [k0_part10_eq_skeleton]; unfold k0_part10_skel
  refine sq ?_
  rw [k0_part6_eq_skeleton]; unfold k0_part6_skel
  refine ldA ht 0 (by decide) ?_
  refine ck2 (ltA hx ht 0 (by decide)) fun _ => ?_
  refine eqA hx ht 0 (by decide) (s' := k0_off50 i 0) (congrFun (off50_eq i) 0) (off50_eq i) ?_
  refine ldB ht 0 (by decide) ?_
  refine ck2 (ltB hx ht 0 (by decide)) fun _ => ?_
  refine eqB hx ht 0 (by decide) (s' := k0_off50 i 0) (congrFun (off50_eq i) 0) (off50_eq i) ?_
  refine ldA ht 1 (by decide) ?_
  refine ck2 (ltA hx ht 1 (by decide)) fun _ => ?_
  refine eqA hx ht 1 (by decide) (s' := k0_off50 i 0) (congrFun (off50_eq i) 0) (off50_eq i) ?_
  refine rt ?_
  refine sq ?_
  rw [k0_part7_eq_skeleton]; unfold k0_part7_skel
  refine ldB ht 1 (by decide) ?_
  refine ck2 (ltB hx ht 1 (by decide)) fun _ => ?_
  refine eqB hx ht 1 (by decide) (s' := k0_off50 i 0) (congrFun (off50_eq i) 0) (off50_eq i) ?_
  refine ldA ht 2 (by decide) ?_
  refine ck2 (ltA hx ht 2 (by decide)) fun _ => ?_
  refine eqA hx ht 2 (by decide) (s' := k0_off50 i 0) (congrFun (off50_eq i) 0) (off50_eq i) ?_
  refine ldB ht 2 (by decide) ?_
  refine ck2 (ltB hx ht 2 (by decide)) fun _ => ?_
  refine eqB hx ht 2 (by decide) (s' := k0_off50 i 0) (congrFun (off50_eq i) 0) (off50_eq i) ?_
  refine rt ?_
  refine sq ?_
  rw [k0_part8_eq_skeleton]; unfold k0_part8_skel
  refine ldA ht 3 (by decide) ?_
  refine ck2 (ltA hx ht 3 (by decide)) fun _ => ?_
  refine eqA hx ht 3 (by decide) (s' := k0_off50 i 0) (congrFun (off50_eq i) 0) (off50_eq i) ?_
  refine ldB ht 3 (by decide) ?_
  refine ck2 (ltB hx ht 3 (by decide)) fun _ => ?_
  refine eqB hx ht 3 (by decide) (s' := k0_off50 i 0) (congrFun (off50_eq i) 0) (off50_eq i) ?_
  refine ldA ht 4 (by decide) ?_
  refine ck2 (ltA hx ht 4 (by decide)) fun _ => ?_
  refine eqA hx ht 4 (by decide) (s' := k0_off50 i 0) (congrFun (off50_eq i) 0) (off50_eq i) ?_
  refine ldB ht 4 (by decide) ?_
  refine ck2 (ltB hx ht 4 (by decide)) fun _ => ?_
  refine rt ?_
  refine sq ?_
  rw [k0_part9_eq_skeleton]; unfold k0_part9_skel
  refine eqB hx ht 4 (by decide) (s' := k0_off50 i 0) (congrFun (off50_eq i) 0) (off50_eq i) ?_
  refine ldA ht 5 (by decide) ?_
  refine ck2 (ltA hx ht 5 (by decide)) fun _ => ?_
  refine eqA hx ht 5 (by decide) (s' := k0_off50 i 0) (congrFun (off50_eq i) 0) (off50_eq i) ?_
  refine ldB ht 5 (by decide) ?_
  refine ck2 (ltB hx ht 5 (by decide)) fun _ => ?_
  refine eqB hx ht 5 (by decide) (s' := k0_off50 i 0) (congrFun (off50_eq i) 0) (off50_eq i) ?_
  refine ldA ht 6 (by decide) ?_
  refine ck2 (ltA hx ht 6 (by decide)) fun _ => ?_
  refine rt ?_
  refine eqA hx ht 6 (by decide) (s' := k0_off50 i 0) (congrFun (off50_eq i) 0) (off50_eq i) ?_
  refine ldB ht 6 (by decide) ?_
  refine ck2 (ltB hx ht 6 (by decide)) fun _ => ?_
  refine eqB hx ht 6 (by decide) (s' := k0_off50 i 0) (congrFun (off50_eq i) 0) (off50_eq i) ?_
  refine ldA ht 7 (by decide) ?_
  refine ck2 (ltA hx ht 7 (by decide)) fun _ => ?_
  refine eqA hx ht 7 (by decide) (s' := k0_off50 i 0) (congrFun (off50_eq i) 0) (off50_eq i) ?_
  refine ldB ht 7 (by decide) ?_
  refine ck2 (ltB hx ht 7 (by decide)) fun _ => ?_
  refine rt ?_
  refine eqB hx ht 7 (by decide) (s' := k0_off50 i 0) (congrFun (off50_eq i) 0) (off50_eq i) ?_
  exact rt .rfl

include hx in
/-- The loop of a point before the last issues the next tile's rows, into the slot its own tile is not in. -/
theorem loop2 (k0_h2 : k0_cond2 i = 1#1) {α : Type} {K : Unit → Prog (TpuEff nD τ sig (Elt F) Λ₀ .tc) α} {Q : α → sProp 𝕄} :
    St c (nxt i) arg3 arg4 x0 x1 wd hb 0
      ⊢ iprop((St c (nxt i) arg3 arg4 x0 x1 wd hb 1024 -∗ Wp c (K ⟨⟩) Q)
        -∗ Wp c (Scf.Loop.for k0_t2_loop (k0_t2_ok i k0_h2) ⟨⟩ (k0_t2_body i arg1 harg1 arg2 harg2 arg3 harg3 arg4 harg4 tokM harg5 arg6 harg6 arg7 harg7 arg8 harg8 arg9 harg9 arg10 harg10 rowsM harg11 cc0_scratch1 arg13 harg13 k0_h2) >>= K) Q) := by
  iintro H HK
  iapply (Scf.wp_for_bind frame (wpE (defs₀ (F := F)) Variants.none (c.tc : Thread nD τ) none) Set.univ _ _ _ (k0_t2_ok i k0_h2) ()
    (k0_t2_body i arg1 harg1 arg2 harg2 arg3 harg3 arg4 harg4 tokM harg5 arg6 harg6 arg7 harg7 arg8 harg8 arg9 harg9 arg10 harg10 rowsM harg11 cc0_scratch1 arg13 harg13 k0_h2)
    (fun n _ => St c (nxt i) arg3 arg4 x0 x1 wd hb (16 * n)) (fun t u =>
      trip2 c i arg1 harg1 arg2 harg2 arg3 harg3 arg4 harg4 harg5 arg6 harg6 arg7 harg7 arg8 harg8 arg9 harg9 arg10 harg10 harg11 arg13 harg13 hx k0_h2 t u)) $$ H
  iintro %_ H
  iapply HK
  iexact H

end Loops

end Cert.Comb

end
-- ==== Proof.CombSlots.lean ====
/- The two slots of the buffer of rows: a slot as the union of its 1024 rows and of its two choices' rows, a slot and its
   semaphore at rest opened into a gather with nothing issued, a gather with all rows issued waited for, and the loads
   and stores of memory held. -/
module

public import proofs.«01_k».proof.Proof.CombIssue

@[expose] public section

set_option maxRecDepth 16384

noncomputable section

namespace Cert.Comb

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Batch pending)

variable {F : FTy → Type} [FloatOps F]

local notation "𝕄" => MT nD τ sig Unit (Elt F) ℕ (Pipeline.UD sig nD τ) ℕ

theorem inbCh (s b : Fin 2) : ∀ a, (![s.val, b.val, 0, 0] : Fin 4 → Nat) a + S1x1x4096x128.size a ≤ S2x2x4096x128.size a := by
  intro a; fin_cases a
  · show s.val + 1 ≤ 2; omega
  · show b.val + 1 ≤ 2; omega
  · show 0 + 4096 ≤ 4096; omega
  · show 0 + 128 ≤ 128; omega

/-- Choice `b`'s rows of slot `s`, as a memref and as a set of elements, and the slot's elements. -/
abbrev chM (s b : Fin 2) : Memref sig .tc .vmem S4096x128 .f32 :=
  (rowsM.slice (Rect.unit (s := S2x2x4096x128) ![s.val, b.val, 0, 0] S1x1x4096x128.size (inbCh s b)) (fun _ => rfl)).squeeze S4096x128 squeezes_S1x1x4096x128_S4096x128
abbrev chSet (s b : Fin 2) : Finset S2x2x4096x128.Idx := (chM s b).view.set
def slotSet (s : Fin 2) : Finset S2x2x4096x128.Idx := Finset.univ.filter fun j => (j 0).val = s.val

theorem chM_emb (s b : Fin 2) (x : S4096x128.Idx) :
    (chM s b).view.emb x = ix4 s b ⟨(x 0).val, (x 0).isLt⟩ ⟨(x 1).val, (x 1).isLt⟩ := by
  have e' := drop2 squeezes_S1x1x4096x128_S4096x128.numel_eq x
  show (Rect.unit (s := S2x2x4096x128) ![s.val, b.val, 0, 0] S1x1x4096x128.size (inbCh s b)).emb (Shape.reshapeEquiv squeezes_S1x1x4096x128_S4096x128.numel_eq x) = _
  rw [e']
  funext a
  apply Fin.ext
  match a with
  | ⟨0, _⟩ => show s.val + 1 * 0 = s.val; omega
  | ⟨1, _⟩ => show b.val + 1 * 0 = b.val; omega
  | ⟨2, _⟩ => show 0 + 1 * (x 0).val = (x 0).val; omega
  | ⟨3, _⟩ => show 0 + 1 * (x 1).val = (x 1).val; omega

theorem mem_slotSet (s : Fin 2) (j : S2x2x4096x128.Idx) : j ∈ slotSet s ↔ (j 0).val = s.val := by
  unfold slotSet; rw [Finset.mem_filter]; exact ⟨fun h => h.2, fun h => ⟨Finset.mem_univ _, h⟩⟩

theorem mem_chSet (s b : Fin 2) (j : S2x2x4096x128.Idx) : j ∈ chSet s b ↔ (j 0).val = s.val ∧ (j 1).val = b.val := by
  constructor
  · intro h
    obtain ⟨x, -, rfl⟩ := Finset.mem_map.mp h
    rw [chM_emb]
    exact ⟨rfl, rfl⟩
  · rintro ⟨h, h'⟩
    refine Finset.mem_map.mpr ⟨ix2 ⟨(j 2).val, (j 2).isLt⟩ ⟨(j 3).val, (j 3).isLt⟩, Finset.mem_univ _, ?_⟩
    rw [chM_emb]
    funext a; apply Fin.ext
    match a with
    | ⟨0, _⟩ => exact h.symm
    | ⟨1, _⟩ => exact h'.symm
    | ⟨2, _⟩ => rfl
    | ⟨3, _⟩ => rfl

theorem mem_rowSet (s : Fin 2) (r : Fin 1024) (j : S2x2x4096x128.Idx) :
    j ∈ rowSet s r ↔ (j 0).val = s.val ∧ 2 * ((j 2).val / 8) + (j 1).val = r.val := by
  have h1 : (j 1).val < 2 := (j 1).isLt
  have h2 : (j 2).val < 4096 := (j 2).isLt
  constructor
  · intro h
    obtain ⟨x, -, rfl⟩ := Finset.mem_map.mp h
    rw [rowM_emb]
    have h0 : (x 0).val < 8 := (x 0).isLt
    refine ⟨rfl, ?_⟩
    show 2 * ((8 * (r.val / 2) + (x 0).val) / 8) + r.val % 2 = r.val
    omega
  · rintro ⟨h, h'⟩
    refine Finset.mem_map.mpr ⟨ix2 ⟨(j 2).val % 8, by omega⟩ ⟨(j 3).val, (j 3).isLt⟩, Finset.mem_univ _, ?_⟩
    rw [rowM_emb]
    funext a; apply Fin.ext
    match a with
    | ⟨0, _⟩ => exact h.symm
    | ⟨1, _⟩ => show r.val % 2 = (j 1).val; omega
    | ⟨2, _⟩ => show 8 * (r.val / 2) + (j 2).val % 8 = (j 2).val; omega
    | ⟨3, _⟩ => rfl

theorem slotSet_eq (s : Fin 2) : slotSet s = (Finset.univ : Finset (Fin 1024)).biUnion (rowSet s) := by
  ext j
  have h1 : (j 1).val < 2 := (j 1).isLt
  have h2 : (j 2).val < 4096 := (j 2).isLt
  rw [mem_slotSet, Finset.mem_biUnion]
  constructor
  · intro h
    exact ⟨⟨2 * ((j 2).val / 8) + (j 1).val, by omega⟩, Finset.mem_univ _, (mem_rowSet s _ j).mpr ⟨h, rfl⟩⟩
  · rintro ⟨r, -, h⟩
    exact ((mem_rowSet s r j).mp h).1

theorem rowSet_disj (s : Fin 2) : ∀ r ∈ (Finset.univ : Finset (Fin 1024)), ∀ r' ∈ (Finset.univ : Finset (Fin 1024)), r ≠ r' → Disjoint (rowSet s r) (rowSet s r') := by
  intro r _ r' _ h
  refine Finset.disjoint_left.mpr fun j hj hj' => h ?_
  exact Fin.ext (((mem_rowSet s r j).mp hj).2.symm.trans ((mem_rowSet s r' j).mp hj').2)

theorem slots_univ : (Finset.univ : Finset S2x2x4096x128.Idx) \ slotSet 0 = slotSet 1 := by
  ext j
  rw [Finset.mem_sdiff, mem_slotSet, mem_slotSet]
  have h : (j 0).val < 2 := (j 0).isLt
  constructor
  · rintro ⟨-, h'⟩
    have : (j 0).val ≠ 0 := h'
    show (j 0).val = 1; omega
  · intro h'
    have : (j 0).val = 1 := h'
    refine ⟨Finset.mem_univ _, ?_⟩
    show ¬ (j 0).val = 0; omega

theorem ch_sub (s : Fin 2) : chSet s 0 ⊆ slotSet s := fun j h => (mem_slotSet s j).mpr ((mem_chSet s 0 j).mp h).1
theorem ch_rest (s : Fin 2) : slotSet s \ chSet s 0 = chSet s 1 := by
  ext j
  rw [Finset.mem_sdiff, mem_slotSet, mem_chSet, mem_chSet]
  have h : (j 1).val < 2 := (j 1).isLt
  constructor
  · rintro ⟨h0, h'⟩
    refine ⟨h0, ?_⟩
    have : (j 1).val ≠ 0 := fun e => h' ⟨h0, e⟩
    show (j 1).val = 1; omega
  · rintro ⟨h0, h'⟩
    have : (j 1).val = 1 := h'
    refine ⟨h0, fun e => ?_⟩
    have : (j 1).val = 0 := e.2
    omega

/-- A points-to at a share is its `N` leaves' at once. -/
theorem leaves_cast {ℓ : Loc nD τ sig} (I : Finset (Idx ℓ)) (f : Buf (Elt F) ℓ) (q : PosShare TreeShare) {n N : ℕ} (h : 2 ^ n = N) :
    (ℓ ↦[I]{q} f : sProp 𝕄) = bigSep Finset.univ fun t : Fin N => (ℓ ↦[I]{ShareLeaves.leaf n q (Fin.cast h.symm t)} f) := by
  subst h
  exact ShareLeaves.pointsTo_leaves I f n q

/-- A slot's half of the rows in main memory is held in 1024 shares. -/
theorem tok_leaves (c : Dev nD) (s : Fin 2) (hb : TokB F) :
    (tokL c ↦{half s} hb : sProp 𝕄) = bigSep Finset.univ fun t : Fin 1024 => (tokL c ↦{tok s t} hb) :=
  leaves_cast (ℓ := tokL c) _ _ (half s) (n := 10) (N := 1024) (by norm_num)

/-- The rows in main memory are the slots' halves. -/
theorem halves (c : Dev nD) (hb : TokB F) :
    (tokL c ↦{fullShare} hb : sProp 𝕄) ⊣⊢ iprop((tokL c ↦{half 0} hb) ∗ (tokL c ↦{half 1} hb)) :=
  pointsTo_share (PosShare.mem_left_op_right fullShare)

/-- A slot held is its rows held. -/
theorem slot_rows (c : Dev nD) (s : Fin 2) (fd : RowsB F) :
    (rowsL c ↦[slotSet s]{fullShare} fd : sProp 𝕄) = bigSep Finset.univ fun t : Fin 1024 => (rowsL c ↦[rowSet s t]{fullShare} fd) := by
  rw [slotSet_eq]
  exact pointsTo_biUnion _ _ (rowSet_disj s)

theorem rows_any (c : Dev nD) (s : Fin 2) (fd : RowsB F) :
    (bigSep Finset.univ fun t : Fin 1024 => (rowsL c ↦[rowSet s t]{fullShare} fd : sProp 𝕄))
      ⊢ bigSep Finset.univ fun t : Fin 1024 => iprop(∃ fd, rowsL c ↦[rowSet s t]{fullShare} fd) := by
  have h : ∀ t : Fin 1024, (rowsL c ↦[rowSet s t]{fullShare} fd : sProp 𝕄) ⊢ iprop(∃ fd, rowsL c ↦[rowSet s t]{fullShare} fd) := by
    intro t
    iintro H
    iexists fd
    iexact H
  exact BI.bigSep_mono fun t _ => h t

/-- A slot and its semaphore at rest, with the tokens' rows, open a gather with nothing issued yet. -/
theorem fly_alloc (c : Dev nD) (s : Fin 2) (wd : Fin 1024 → Fin 73728) (hb : TokB F) (fd : RowsB F) :
    iprop(semVal ((c.tc : Thread nD τ), .dma (semOf s)) 0 ∗ (rowsL c ↦[slotSet s]{fullShare} fd) ∗ (tokL c ↦{half s} hb))
      ⊢ (|={Set.univ}=> Fly c s wd hb 0 : sProp 𝕄) := by
  rw [slot_rows, tok_leaves]
  iintro ⟨Hs, Hr, Ht⟩
  imod (Transfers.batch_alloc' (Lvl := ℕ) EC (c.tc : Thread nD τ) () rowN (deliv c s wd hb) (sm := .dma (semOf s)) (E := Set.univ)) $$ Hs with HB
  imodintro
  unfold Fly
  isplitl [HB]; · iexact HB
  have e : bigSep Finset.univ (fun t : Fin 1024 => iprop((∃ fd, rowsL c ↦[rowSet s t]{fullShare} fd) ∗ (tokL c ↦{tok s t} hb)))
      = (iprop((bigSep Finset.univ fun t : Fin 1024 => iprop(∃ fd, rowsL c ↦[rowSet s t]{fullShare} fd)) ∗ (bigSep Finset.univ fun t : Fin 1024 => (tokL c ↦{tok s t} hb))) : sProp 𝕄) :=
    BI.bigSep_sep ..
  rw [started_zero, BI.bigSep_empty, ← Transfers.bigSep_pending_zero, e]
  isplitl [Hr Ht]
  · isplitl [Hr]
    · iapply (rows_any c s fd) $$ Hr
    · iexact Ht
  · iempintro

theorem pending_done : pending (n := 1024) 1024 = ∅ := by
  ext t; simp [pending]

/-- All rows delivered, with what stayed behind of the shares: the slot at its gather, and the tokens' rows whole again. -/
theorem fly_drain (c : Dev nD) (s : Fin 2) (wd : Fin 1024 → Fin 73728) (hb : TokB F) :
    iprop(bigSep Finset.univ (deliv c s wd hb) ∗ bigSep Finset.univ (fun t : Fin 1024 => (tokL c ↦[Finset.univ \ srcSet (wd t)]{tok s t} hb)))
      ⊢ (iprop((rowsL c ↦[slotSet s]{fullShare} gath wd hb) ∗ (tokL c ↦{half s} hb)) : sProp 𝕄) := by
  rw [slot_rows, tok_leaves]
  have h : ∀ t : Fin 1024, iprop(deliv c s wd hb t ∗ (tokL c ↦[Finset.univ \ srcSet (wd t)]{tok s t} hb))
      ⊢ (iprop((rowsL c ↦[rowSet s t]{fullShare} gath wd hb) ∗ (tokL c ↦{tok s t} hb)) : sProp 𝕄) := by
    intro t
    unfold deliv
    iintro ⟨⟨Hr, Ht⟩, Ht'⟩
    isplitl [Hr]; · iexact Hr
    iapply (pointsTo_split_subset (ℓ := tokL c) (I := srcSet (wd t)) (Finset.subset_univ _)).2
    isplitl [Ht]; · iexact Ht
    iexact Ht'
  have e1 := bigSep_sep' (M := 𝕄) Finset.univ (deliv c s wd hb) (fun t : Fin 1024 => (tokL c ↦[Finset.univ \ srcSet (wd t)]{tok s t} hb))
  have e2 := bigSep_sep' (M := 𝕄) Finset.univ (fun t : Fin 1024 => (rowsL c ↦[rowSet s t]{fullShare} gath wd hb)) (fun t : Fin 1024 => (tokL c ↦{tok s t} hb))
  rw [← e1, ← e2]
  exact BI.bigSep_mono fun t _ => h t

/-- A choice's rows of the gather, by its own indices. -/
def gx (b : Fin 2) (wd : Fin 1024 → Fin 73728) (hb : TokB F) : S4096x128.Idx → Elt F .f32 := fun x =>
  hb (ix2 ⟨8 * (wd ⟨2 * ((x 0).val / 8) + b.val, by have : (x 0).val < 4096 := (x 0).isLt; omega⟩).val + (x 0).val % 8, by
    have := (wd ⟨2 * ((x 0).val / 8) + b.val, by have : (x 0).val < 4096 := (x 0).isLt; omega⟩).isLt; omega⟩ ⟨(x 1).val, (x 1).isLt⟩)

theorem read_gath (s b : Fin 2) (wd : Fin 1024 → Fin 73728) (hb : TokB F) : (chM s b).view.read (Elt F) (gath wd hb) = gx b wd hb := by
  funext x
  show gath wd hb ((chM s b).view.emb x) = _
  rw [chM_emb]
  rfl

/-- A slot is its two choices' rows, -/
theorem slot_split (c : Dev nD) (s : Fin 2) (wd : Fin 1024 → Fin 73728) (hb : TokB F) :
    (rowsL c ↦[slotSet s]{fullShare} gath wd hb : sProp 𝕄)
      ⊢ iprop(owns (c.tc : Thread nD τ) (chM s 0) fullShare (gx 0 wd hb) ∗ owns (c.tc : Thread nD τ) (chM s 1) fullShare (gx 1 wd hb)) := by
  iintro H
  ihave H' := (pointsTo_split_subset (ℓ := rowsL c) (ch_sub s)).1 $$ H
  icases H' with ⟨H0, H1⟩
  rw [ch_rest, ← read_gath s, ← read_gath s]
  isplitl [H0]
  · iapply (owns_intro (c.tc : Thread nD τ) (chM s 0) fullShare (gath wd hb)) $$ H0
  · iapply (owns_intro (c.tc : Thread nD τ) (chM s 1) fullShare (gath wd hb)) $$ H1

/-- and the two choices' rows a slot. -/
theorem slot_join (c : Dev nD) (s : Fin 2) {X X' : S4096x128.Idx → Elt F .f32} :
    iprop(owns (c.tc : Thread nD τ) (chM s 0) fullShare X ∗ owns (c.tc : Thread nD τ) (chM s 1) fullShare X') ⊢ (iprop(∃ f, rowsL c ↦[slotSet s]{fullShare} f) : sProp 𝕄) := by
  unfold owns
  iintro ⟨⟨%f, -, H0⟩, ⟨%f', -, H1⟩⟩
  iexists (chSet s 0).piecewise f f'
  iapply (pointsTo_split_subset (ℓ := rowsL c) (ch_sub s)).2
  rw [ch_rest]
  isplitl [H0]
  · rw [show (rowsL c ↦[chSet s 0]{fullShare} (chSet s 0).piecewise f f' : sProp 𝕄) = (rowsL c ↦[chSet s 0]{fullShare} f) from
      pointsTo_congr fun i hi => Finset.piecewise_eq_of_mem _ _ _ hi]
    iexact H0
  · rw [show (rowsL c ↦[chSet s 1]{fullShare} (chSet s 0).piecewise f f' : sProp 𝕄) = (rowsL c ↦[chSet s 1]{fullShare} f') from
      pointsTo_congr fun i hi => Finset.piecewise_eq_of_notMem _ _ _ fun h => by
        have h0 := ((mem_chSet s 0 i).mp h).2
        have h1 := ((mem_chSet s 1 i).mp hi).2
        rw [h0] at h1
        exact absurd h1 (by decide)]
    iexact H1

/-- A slot and its semaphore at rest, with its half of the rows in main memory. -/
def Rest (c : Dev nD) (s : Fin 2) (hb : TokB F) : sProp 𝕄 :=
  iprop((∃ f, rowsL c ↦[slotSet s]{fullShare} f) ∗ semVal ((c.tc : Thread nD τ), .dma (semOf s)) 0 ∗ (tokL c ↦{half s} hb))

/-- A slot at rest: its rows can be started. -/
theorem rest_open (c : Dev nD) (s : Fin 2) (wd : Fin 1024 → Fin 73728) (hb : TokB F) :
    Rest c s hb ⊢ (|={Set.univ}=> Fly c s wd hb 0 : sProp 𝕄) := by
  unfold Rest
  iintro ⟨⟨%f, Hs⟩, Hv, Ht⟩
  iapply (fly_alloc c s wd hb f)
  isplitl [Hv]; · iexact Hv
  isplitl [Hs]; · iexact Hs
  iexact Ht

/-- An operation at the head of a program. -/
theorem lift_eq (c : Dev nD) {α β : Type} (op : TpuEff nD τ sig (Elt F) Λ₀ .tc β) (K : β → Prog (TpuEff nD τ sig (Elt F) Λ₀ .tc) α) (Q : α → sProp 𝕄) :
    Wp c (Prog.lift op >>= K) Q = wp frame (wpE (defs₀ (F := F)) Variants.none (c.tc : Thread nD τ) none) Set.univ (.op op K) Q := rfl

/-- The second wait for a gather with every row issued: every row has landed. -/
theorem wait_last (c : Dev nD) (s : Fin 2) (wd : Fin 1024 → Fin 73728) (hb : TokB F) {W : Waits sig Unit}
    {offS : Fin 1 → ℕ} {bS' : ∀ a, offS a + S1.size a ≤ S2.size a}
    {offD' : Fin 4 → ℕ} {bD' : ∀ a, offD' a + S1x1x4096x128.size a ≤ S2x2x4096x128.size a}
    {bH' : ∀ a, (![0, 0] : Fin 2 → ℕ) a + S4096x128.size a ≤ S589824x128.size a}
    (hS : offS = ![s.val]) (hD' : offD' = ![s.val, (1 : Fin 2).val, 0, 0])
    {α : Type} {k : PUnit → Prog (TpuEff nD τ sig (Elt F) Λ₀ .tc) α} {Q : α → sProp 𝕄} :
    iprop(Batch EC (c.tc : Thread nD τ) (.dma (semOf s)) () rowN (deliv c s wd hb) 1024 (0 + 512 * rowN) ∗ owes (c.tc : Thread nD τ) 0 W
        ∗ bigSep Finset.univ (fun t : Fin 1024 => (tokL c ↦[Finset.univ \ srcSet (wd t)]{tok s t} hb)))
      ⊢ iprop((iprop(owns (c.tc : Thread nD τ) (chM s 0) fullShare (gx 0 wd hb) ∗ owns (c.tc : Thread nD τ) (chM s 1) fullShare (gx 1 wd hb)
            ∗ semVal ((c.tc : Thread nD τ), .dma (semOf s)) 0 ∗ (tokL c ↦{half s} hb) ∗ (∃ W', owes (c.tc : Thread nD τ) 0 W')) -∗ Wp c (k ⟨⟩) Q)
        -∗ Wp c (Prog.lift (.waitDma2 ((cc0_scratch1.slice (Rect.unit (s := S2) offS S1.size bS')).squeeze S_ squeezes_S1_S_).sem
            (tokM.slice (Rect.unit (s := S589824x128) ![0, 0] S4096x128.size bH') (fun _ => rfl))
            ((rowsM.slice (Rect.unit (s := S2x2x4096x128) offD' S1x1x4096x128.size bD') (fun _ => rfl)).squeeze S4096x128 squeezes_S1x1x4096x128_S4096x128)
            (View.wordExact_bits rfl) ((View.wordExact_bits rfl).reshape _ _)) >>= k) Q) := by
  subst hS hD'
  rw [lift_eq]
  iintro ⟨HB, HO, Hst⟩ Hk
  iapply (Transfers.wp_waitBatchAll EC Variants.none (c.tc : Thread nD τ) none () (J := rowN * 512) (N := rowN) (u := 0 + 512 * rowN) (n := 1024) (hJ := rfl) (hN0 := by decide) (hu := by rw [Nat.zero_add, Nat.mul_comm 512, ← Nat.mul_add])) $$ [HB HO]
  · isplitl [HB]; · iexact HB
    iexact HO
  iintro ⟨HD, Hs, HO⟩
  ihave H := (fly_drain c s wd hb) $$ [HD Hst]
  · isplitl [HD]; · iexact HD
    iexact Hst
  icases H with ⟨Hr, Ht⟩
  ihave Hr' := (slot_split c s wd hb) $$ Hr
  icases Hr' with ⟨H0, H1⟩
  iapply Hk
  isplitl [H0]; · iexact H0
  isplitl [H1]; · iexact H1
  isplitl [Hs]; · iexact Hs
  isplitl [Ht]; · iexact Ht
  iexists _
  iexact HO

/-- The waits for a gather with every row issued: each waits for as many rows as a choice has. The choices are named by
    the program's own offsets, equal to these. -/
theorem wait_step (c : Dev nD) (s : Fin 2) (wd : Fin 1024 → Fin 73728) (hb : TokB F) {W : Waits sig Unit}
    {offS : Fin 1 → ℕ} {bS bS' : ∀ a, offS a + S1.size a ≤ S2.size a}
    {offD offD' : Fin 4 → ℕ} {bD : ∀ a, offD a + S1x1x4096x128.size a ≤ S2x2x4096x128.size a} {bD' : ∀ a, offD' a + S1x1x4096x128.size a ≤ S2x2x4096x128.size a}
    {bH bH' : ∀ a, (![0, 0] : Fin 2 → ℕ) a + S4096x128.size a ≤ S589824x128.size a}
    (hS : offS = ![s.val]) (hD : offD = ![s.val, (0 : Fin 2).val, 0, 0]) (hD' : offD' = ![s.val, (1 : Fin 2).val, 0, 0])
    {α : Type} {k : PUnit → Prog (TpuEff nD τ sig (Elt F) Λ₀ .tc) α} {Q : α → sProp 𝕄} :
    iprop(Fly c s wd hb 1024 ∗ owes (c.tc : Thread nD τ) 0 W)
      ⊢ iprop((iprop(owns (c.tc : Thread nD τ) (chM s 0) fullShare (gx 0 wd hb) ∗ owns (c.tc : Thread nD τ) (chM s 1) fullShare (gx 1 wd hb)
            ∗ semVal ((c.tc : Thread nD τ), .dma (semOf s)) 0 ∗ (tokL c ↦{half s} hb) ∗ (∃ W', owes (c.tc : Thread nD τ) 0 W')) -∗ Wp c (k ⟨⟩) Q)
        -∗ Wp c (Prog.lift (.waitDma2 ((cc0_scratch1.slice (Rect.unit (s := S2) offS S1.size bS)).squeeze S_ squeezes_S1_S_).sem
            (tokM.slice (Rect.unit (s := S589824x128) ![0, 0] S4096x128.size bH) (fun _ => rfl))
            ((rowsM.slice (Rect.unit (s := S2x2x4096x128) offD S1x1x4096x128.size bD) (fun _ => rfl)).squeeze S4096x128 squeezes_S1x1x4096x128_S4096x128)
            (View.wordExact_bits rfl) ((View.wordExact_bits rfl).reshape _ _)) >>= fun _ =>
          Prog.lift (.waitDma2 ((cc0_scratch1.slice (Rect.unit (s := S2) offS S1.size bS')).squeeze S_ squeezes_S1_S_).sem
            (tokM.slice (Rect.unit (s := S589824x128) ![0, 0] S4096x128.size bH') (fun _ => rfl))
            ((rowsM.slice (Rect.unit (s := S2x2x4096x128) offD' S1x1x4096x128.size bD') (fun _ => rfl)).squeeze S4096x128 squeezes_S1x1x4096x128_S4096x128)
            (View.wordExact_bits rfl) ((View.wordExact_bits rfl).reshape _ _)) >>= k) Q) := by
  subst hS hD hD'
  unfold Fly
  rw [pending_done, started_all, BI.bigSep_empty, lift_eq]
  iintro ⟨⟨HB, -, Hst⟩, HO⟩ Hk
  iapply (Transfers.wp_waitBatchMul EC Variants.none (c.tc : Thread nD τ) none () (N := rowN) (q := 512) (j := 1024) (u := 0) (W := W) (hJ := (Nat.mul_comm rowN 512).symm ▸ rfl) (hu := by decide)) $$ [HB HO]
  · isplitl [HB]; · iexact HB
    iexact HO
  iintro ⟨HB, HO⟩
  iapply (wait_last c s wd hb rfl rfl) $$ [HB HO Hst]
  · isplitl [HB]; · iexact HB
    isplitl [HO]; · iexact HO
    iexact Hst
  iexact Hk

/-- The buffer of rows is its two slots, -/
theorem rows_split (c : Dev nD) (f : RowsB F) :
    (rowsL c ↦{fullShare} f : sProp 𝕄) ⊢ iprop((∃ f, rowsL c ↦[slotSet 0]{fullShare} f) ∗ (∃ f, rowsL c ↦[slotSet 1]{fullShare} f)) := by
  iintro H
  ihave H' := (pointsTo_split_subset (ℓ := rowsL c) (I := slotSet 0) (Finset.subset_univ _)).1 $$ H
  icases H' with ⟨H0, H1⟩
  rw [slots_univ]
  isplitl [H0]
  · iexists f; iexact H0
  · iexists f; iexact H1

/-- and the two slots the buffer. -/
theorem rows_join (c : Dev nD) :
    iprop((∃ f, rowsL c ↦[slotSet 0]{fullShare} f) ∗ (∃ f, rowsL c ↦[slotSet 1]{fullShare} f)) ⊢ (iprop(∃ f, rowsL c ↦{fullShare} f) : sProp 𝕄) := by
  iintro ⟨⟨%f, H0⟩, ⟨%f', H1⟩⟩
  iexists (slotSet 0).piecewise f f'
  iapply (pointsTo_split_subset (ℓ := rowsL c) (I := slotSet 0) (Finset.subset_univ _)).2
  rw [slots_univ]
  isplitl [H0]
  · rw [show (rowsL c ↦[slotSet 0]{fullShare} (slotSet 0).piecewise f f' : sProp 𝕄) = (rowsL c ↦[slotSet 0]{fullShare} f) from
      pointsTo_congr fun i hi => Finset.piecewise_eq_of_mem _ _ _ hi]
    iexact H0
  · rw [show (rowsL c ↦[slotSet 1]{fullShare} (slotSet 0).piecewise f f' : sProp 𝕄) = (rowsL c ↦[slotSet 1]{fullShare} f') from
      pointsTo_congr fun i hi => Finset.piecewise_eq_of_notMem _ _ _ fun h => by
        have h0 := (mem_slotSet 0 i).mp h
        have h1 := (mem_slotSet 1 i).mp hi
        rw [h0] at h1
        exact absurd h1 (by decide)]
    iexact H1

/-- A load through an owned memref reads what is owned. -/
theorem oload (c : Dev nD) {s : Shape} {e : EltTy} {m : Memref sig .tc .vmem s e} {q : PosShare TreeShare} {X : s.Idx → Elt F e}
    {r : LoadRect s} {hl : m.view.LoadsAt r} {α : Type} {K : (r.shape.Idx → Elt F e) → Prog (TpuEff nD τ sig (Elt F) Λ₀ .tc) α} {Q : α → sProp 𝕄} :
    (owns (c.tc : Thread nD τ) m q X : sProp 𝕄) ⊢ iprop((owns (c.tc : Thread nD τ) m q X -∗ Wp c (K fun x => X (r.idx x)) Q)
      -∗ Wp c (Prog.lift (.load m r hl) >>= K) Q) := by
  unfold owns
  rw [lift_eq]
  iintro ⟨%f, %hf, H⟩ Hk
  subst hf
  iapply (wp_load Variants.none (c.tc : Thread nD τ) none Set.univ (m := m) (S := m.view.set) (q := q) (f := f) (Finset.map_subset_map.mpr (Finset.subset_univ _))) $$ H
  iintro H
  iapply Hk
  iexists f
  isplitr; · ipureintro; rfl
  iexact H

/-- A store through an owned memref: what is owned then has the payload at the rectangle's elements and the old values elsewhere. -/
theorem ostore (c : Dev nD) {s : Shape} {e : EltTy} {m : Memref sig .tc .vmem s e} {X : s.Idx → Elt F e}
    {r : Rect s} {w : r.shape.Idx → Elt F e} {hx : (m.access r).Stores Finset.univ} {hm : (Finset.univ : Finset r.shape.Idx) = Finset.univ ∨ ∀ a, r.stride a = 1}
    {α : Type} {K : PUnit → Prog (TpuEff nD τ sig (Elt F) Λ₀ .tc) α} {Q : α → sProp 𝕄} :
    (owns (c.tc : Thread nD τ) m fullShare X : sProp 𝕄) ⊢ iprop((∀ X' : s.Idx → Elt F e, ⌜(∀ x, X' (r.emb x) = w x) ∧ ∀ y, (∀ x, r.emb x ≠ y) → X' y = X y⌝
        -∗ owns (c.tc : Thread nD τ) m fullShare X' -∗ Wp c (K ⟨⟩) Q)
      -∗ Wp c (Prog.lift (.store m r w Finset.univ hx hm) >>= K) Q) := by
  unfold owns
  rw [lift_eq]
  iintro ⟨%f, %hf, H⟩ Hk
  subst hf
  iapply (wp_store Variants.none (c.tc : Thread nD τ) none Set.univ (m := m) (r := r) (S := m.view.set) (f := f) (fun i hi => by obtain ⟨x, -, rfl⟩ := Finset.mem_map.mp hi; exact m.view.emb_mem_set (r.emb x))) $$ H
  iintro H
  iapply Hk $$ %(m.view.read (Elt F) ((m.access r).write (Elt F) f w Finset.univ))
  · ipureintro
    refine ⟨fun x => View.read_slice_write_emb _ _ _ (Finset.mem_univ x), fun y hy => View.read_slice_write_of_not_mem _ _ _ _ fun h => ?_⟩
    obtain ⟨x, -, hx⟩ := Finset.mem_map.mp h
    exact hy x hx
  · iexists _
    isplitr; · ipureintro; rfl
    iexact H

/-- A load of a choice's rows, named by the program's own offset. -/
theorem ch_load (c : Dev nD) (s b : Fin 2) {X : S4096x128.Idx → Elt F .f32}
    {offD : Fin 4 → ℕ} {bD : ∀ a, offD a + S1x1x4096x128.size a ≤ S2x2x4096x128.size a} (hD : offD = ![s.val, b.val, 0, 0])
    {r : LoadRect S4096x128}
    {hl : View.LoadsAt ((rowsM.slice (Rect.unit (s := S2x2x4096x128) offD S1x1x4096x128.size bD) (fun _ => rfl)).squeeze S4096x128 squeezes_S1x1x4096x128_S4096x128).view r}
    {α : Type} {K : (r.shape.Idx → Elt F .f32) → Prog (TpuEff nD τ sig (Elt F) Λ₀ .tc) α} {Q : α → sProp 𝕄} :
    (owns (c.tc : Thread nD τ) (chM s b) fullShare X : sProp 𝕄) ⊢ iprop((owns (c.tc : Thread nD τ) (chM s b) fullShare X -∗ Wp c (K fun x => X (r.idx x)) Q)
      -∗ Wp c (Prog.lift (.load ((rowsM.slice (Rect.unit (s := S2x2x4096x128) offD S1x1x4096x128.size bD) (fun _ => rfl)).squeeze S4096x128 squeezes_S1x1x4096x128_S4096x128) r hl) >>= K) Q) := by
  subst hD
  exact oload c

/-- The end of a program. -/
theorem wret (c : Dev nD) {α : Type} {a : α} {Q : α → sProp 𝕄} : Q a ⊢ Wp c (pure a : Prog (TpuEff nD τ sig (Elt F) Λ₀ .tc) α) Q := rt .rfl

/-- One program after another. -/
theorem wseq (c : Dev nD) {α β : Type} {p : Prog (TpuEff nD τ sig (Elt F) Λ₀ .tc) α} {K : α → Prog (TpuEff nD τ sig (Elt F) Λ₀ .tc) β} {Q : β → sProp 𝕄} :
    Wp c p (fun a => Wp c (K a) Q) ⊢ Wp c (p >>= K) Q := sq .rfl

/-- A whole rectangle reads what is there. -/
theorem whole_idx {s : Shape} {e : EltTy} {off : Fin s.rank → ℕ} (ho : ∀ a, off a = 0) {b : ∀ a, off a + s.size a ≤ s.size a} (X : s.Idx → Elt F e) :
    (fun x : s.Idx => X ((Rect.unit (s := s) off s.size b).toLoadRect.idx x)) = X := by
  funext x
  congr 1
  funext a
  apply Fin.ext
  show off a + 1 * (x a).val = (x a).val
  rw [ho]; omega

/-- The same, as a step. -/
theorem oloadw (c : Dev nD) {s : Shape} {e : EltTy} {m : Memref sig .tc .vmem s e} {q : PosShare TreeShare} {X : s.Idx → Elt F e}
    {off : Fin s.rank → ℕ} {b : ∀ a, off a + s.size a ≤ s.size a} (ho : ∀ a, off a = 0) {hl : m.view.LoadsAt (Rect.unit (s := s) off s.size b).toLoadRect}
    {α : Type} {K : (s.Idx → Elt F e) → Prog (TpuEff nD τ sig (Elt F) Λ₀ .tc) α} {Q : α → sProp 𝕄} :
    (owns (c.tc : Thread nD τ) m q X : sProp 𝕄) ⊢ iprop((owns (c.tc : Thread nD τ) m q X -∗ Wp c (K X) Q)
      -∗ Wp c (Prog.lift (.load m (Rect.unit (s := s) off s.size b).toLoadRect hl) >>= K) Q) := by
  have h := oload c (m := m) (q := q) (X := X) (hl := hl) (K := K) (Q := Q)
  have e : (fun x : s.Idx => X ((Rect.unit (s := s) off s.size b).toLoadRect.idx x)) = X := whole_idx ho X
  exact h.trans (by
    have h' : K (fun x : s.Idx => X ((Rect.unit (s := s) off s.size b).toLoadRect.idx x)) = K X := congrArg K e
    show iprop((owns (c.tc : Thread nD τ) m q X -∗ Wp c (K (fun x : s.Idx => X ((Rect.unit (s := s) off s.size b).toLoadRect.idx x))) Q) -∗ _) ⊢ _
    rw [h'])

/-- A step of ownership before a program. -/
theorem openw (c : Dev nD) {P P' : sProp 𝕄} {α : Type} {p : Prog (TpuEff nD τ sig (Elt F) Λ₀ .tc) α} {Q : α → sProp 𝕄}
    (h : P ⊢ (|={Set.univ}=> P' : sProp 𝕄)) (h' : P' ⊢ Wp c p Q) : P ⊢ Wp c p Q :=
  (h.trans (fupd_mono h')).trans (fupd_wp frame (wpE (defs₀ (F := F)) Variants.none (c.tc : Thread nD τ) none) Set.univ p Q)

end Cert.Comb

end
-- ==== Proof.CombTile.lean ====
/- One point's copies: its own tile's rows waited for, the next tile's started. -/
module

public import proofs.«01_k».proof.Proof.CombLoops
public import proofs.«01_k».proof.Proof.CombSlots

@[expose] public section

set_option maxRecDepth 16384

noncomputable section

namespace Cert.Comb

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

local notation "𝕄" => MT nD τ sig Unit (Elt F) ℕ (Pipeline.UD sig nD τ) ℕ

theorem cond1_iff (i : grid0.Coords) : k0_cond1 i = 1#1 ↔ (i 0).val = 0 := by
  have h : ∀ a : Fin 64, Scalar.cmpi .ne (Scalar.extui (Scalar.cmpi .eq (BitVec.ofNat 32 a.val) 0#32) : BitVec 32) 0#32 = 1#1 ↔ a.val = 0 := by decide +kernel
  exact h (i 0)
theorem cond2_iff (i : grid0.Coords) : k0_cond2 i = 1#1 ↔ (i 0).val + 1 < 64 := by
  have h : ∀ a : Fin 64, Scalar.cmpi .ne (Scalar.extui (Scalar.cmpi .slt (Scalar.addi (BitVec.ofNat 32 a.val) 1#32) 64#32) : BitVec 32) 0#32 = 1#1 ↔ a.val + 1 < 64 := by decide +kernel
  exact h (i 0)

/-- The slot of a tile. -/
def slot (n : ℕ) : Fin 2 := ⟨n % 2, Nat.mod_lt _ (by decide)⟩
theorem slot_succ2 (T : ℕ) : slot (T + 2) = slot T := Fin.ext (by show (T + 2) % 2 = T % 2; omega)
theorem slot_cur (i : grid0.Coords) : cur i = slot (i 0).val := rfl
theorem slot_nxt (i : grid0.Coords) : nxt i = slot ((i 0).val + 1) := Fin.ext (by show 1 - (i 0).val % 2 = ((i 0).val + 1) % 2; omega)

/-- The copies as tile `T` begins: its own rows under way, the first tile's excepted, and the other slot at rest. -/
def Copies (c : Dev nD) (w : ℕ → Fin 1024 → Fin 73728) (hb : TokB F) (T : ℕ) : sProp 𝕄 :=
  if 0 < T ∧ T < 64 then iprop(Fly c (slot T) (w T) hb 1024 ∗ Rest c (slot (T + 1)) hb) else iprop(Rest c (slot T) hb ∗ Rest c (slot (T + 1)) hb)

/-- The next tile's rows under way, if there is a next tile. -/
def Next (c : Dev nD) (i : grid0.Coords) (wd' : Fin 1024 → Fin 73728) (hb : TokB F) : sProp 𝕄 :=
  if (i 0).val + 1 < 64 then Fly c (nxt i) wd' hb 1024 else Rest c (nxt i) hb

theorem next_copies (c : Dev nD) (i : grid0.Coords) (w : ℕ → Fin 1024 → Fin 73728) (hb : TokB F) :
    iprop(Next c i (w ((i 0).val + 1)) hb ∗ Rest c (cur i) hb) ⊢ (Copies c w hb ((i 0).val + 1) : sProp 𝕄) := by
  unfold Next Copies
  rw [slot_succ2, slot_cur, slot_nxt]
  by_cases h : (i 0).val + 1 < 64
  · rw [if_pos h, if_pos ⟨by omega, h⟩]
  · rw [if_neg h, if_neg (fun h' => h h'.2)]

section Tile

variable (c : Dev nD) (i : grid0.Coords) (arg1 : Memref sig .tc .smem S512 .i32) (harg1 : arg1.IsWhole) (arg2 : Memref sig .tc .smem S512 .i32) (harg2 : arg2.IsWhole)
  (arg3 : Memref sig .tc .smem S512 .i32) (harg3 : arg3.IsWhole) (arg4 : Memref sig .tc .smem S512 .i32) (harg4 : arg4.IsWhole)
  (harg5 : tokM.IsWhole) (arg6 : Memref sig .tc .vmem S512x128 .f32) (harg6 : arg6.IsWhole)
  (arg7 : Memref sig .tc .vmem S1x1024 .f32) (harg7 : arg7.IsWhole) (arg8 : Memref sig .tc .vmem S1x1x1024 .f32) (harg8 : arg8.IsWhole)
  (arg9 : Memref sig .tc .vmem S512x1024 .f32) (harg9 : arg9.IsWhole) (arg10 : Memref sig .tc .vmem S512x1024 .f32) (harg10 : arg10.IsWhole)
  (harg11 : rowsM.IsWhole) (arg13 : Memref sig .tc .vmem S512x1024 .f32) (harg13 : arg13.IsWhole)
  (x0 x1 x2 x3 : S512.Idx → BitVec 32) (w : ℕ → Fin 1024 → Fin 73728) (hb : TokB F)

/-- What the loops and the waits leave as they were. -/
def Held (route : S512x128.Idx → Elt F .f32) : sProp 𝕄 :=
  iprop(owns (c.tc : Thread nD τ) arg1 fullShare (x0 : S512.Idx → Elt F .i32) ∗ owns (c.tc : Thread nD τ) arg2 fullShare (x1 : S512.Idx → Elt F .i32)
    ∗ owns (c.tc : Thread nD τ) arg3 fullShare (x2 : S512.Idx → Elt F .i32) ∗ owns (c.tc : Thread nD τ) arg4 fullShare (x3 : S512.Idx → Elt F .i32)
    ∗ owns (c.tc : Thread nD τ) arg6 fullShare route)

theorem i0_lt (i : grid0.Coords) : (i 0).val < 64 := (i 0).isLt

set_option maxHeartbeats 4000000 in
theorem part11 (route : S512x128.Idx → Elt F .f32) (hx : (i 0).val = 0 → Tab x0 x1 (w (i 0).val)) (hx' : (i 0).val + 1 < 64 → Tab x2 x3 (w ((i 0).val + 1)))
    {Q : (Σ' (_ : FVec F S512x1 .f32), FVec F S512x1 .f32) → sProp 𝕄} :
    iprop(Copies c w hb (i 0).val ∗ (∃ W : Waits sig Unit, owes (c.tc : Thread nD τ) 0 W) ∗ Held c arg1 arg2 arg3 arg4 arg6 x0 x1 x2 x3 route
        ∗ ((owns (c.tc : Thread nD τ) (chM (cur i) 0) fullShare (gx 0 (w (i 0).val) hb) ∗ owns (c.tc : Thread nD τ) (chM (cur i) 1) fullShare (gx 1 (w (i 0).val) hb)
            ∗ semVal ((c.tc : Thread nD τ), .dma (semOf (cur i))) 0 ∗ (tokL c ↦{half (cur i)} hb) ∗ (∃ W' : Waits sig Unit, owes (c.tc : Thread nD τ) 0 W')
            ∗ Next c i (w ((i 0).val + 1)) hb ∗ Held c arg1 arg2 arg3 arg4 arg6 x0 x1 x2 x3 route) -∗ Q ⟨k0_pay2 route, k0_pay3 route⟩))
      ⊢ Wp c (k0_part11 i arg1 harg1 arg2 harg2 arg3 harg3 arg4 harg4 tokM harg5 arg6 harg6 arg7 harg7 arg8 harg8 arg9 harg9 arg10 harg10 rowsM harg11 cc0_scratch1 arg13 harg13) Q := by
  rw [k0_part11_eq_skeleton]; unfold k0_part11_skel
  lift_lets
  extract_lets v17 v18 v19 v20 v21 v24 v25 a1 a2
  generalize hKK : (iprop((owns (c.tc : Thread nD τ) (chM (cur i) 0) fullShare (gx 0 (w (i 0).val) hb) ∗ owns (c.tc : Thread nD τ) (chM (cur i) 1) fullShare (gx 1 (w (i 0).val) hb)
            ∗ semVal ((c.tc : Thread nD τ), .dma (semOf (cur i))) 0 ∗ (tokL c ↦{half (cur i)} hb) ∗ (∃ W' : Waits sig Unit, owes (c.tc : Thread nD τ) 0 W')
            ∗ Next c i (w ((i 0).val + 1)) hb ∗ Held c arg1 arg2 arg3 arg4 arg6 x0 x1 x2 x3 route) -∗ Q ⟨k0_pay2 route, k0_pay3 route⟩) : sProp 𝕄) = KK
  have hi := i0_lt i
  have e1 : iprop(Fly c (cur i) (w (i 0).val) hb 1024 ∗ Next c i (w ((i 0).val + 1)) hb ∗ (∃ W : Waits sig Unit, owes (c.tc : Thread nD τ) 0 W)
      ∗ Held c arg1 arg2 arg3 arg4 arg6 x0 x1 x2 x3 route ∗ KK) ⊢ Wp c (a1 ⟨⟩) Q := by
    subst hKK
    dsimp only [a1]
    unfold Held
    iintro ⟨HF, HN, ⟨%W, HO⟩, ⟨H1, H2, H3, H4, H6⟩, HK⟩
    iapply (wait_step c (cur i) (w (i 0).val) hb (off113_eq i) (off114_eq i) (off115_eq i)) $$ [HF HO]
    · isplitl [HF]; · iexact HF
      iexact HO
    iintro ⟨HX, HY, Hs, Ht, HO⟩
    iapply (oloadw c (s := S512x128) (off := ![0, 0]) (by decide)) $$ H6
    iintro H6
    iapply (wret c)
    iapply HK
    isplitl [HX]; · iexact HX
    isplitl [HY]; · iexact HY
    isplitl [Hs]; · iexact Hs
    isplitl [Ht]; · iexact Ht
    isplitl [HO]; · iexact HO
    isplitl [HN]; · iexact HN
    isplitl [H1]; · iexact H1
    isplitl [H2]; · iexact H2
    isplitl [H3]; · iexact H3
    isplitl [H4]; · iexact H4
    iexact H6
  have e2 : iprop(Fly c (cur i) (w (i 0).val) hb 1024 ∗ Rest c (nxt i) hb ∗ (∃ W : Waits sig Unit, owes (c.tc : Thread nD τ) 0 W)
      ∗ Held c arg1 arg2 arg3 arg4 arg6 x0 x1 x2 x3 route ∗ KK) ⊢ Wp c (a2 ⟨⟩) Q := by
    dsimp only [a2]
    clear_value a1
    by_cases h2 : k0_cond2 i = 1#1
    · have hn := (cond2_iff i).mp h2
      rw [dif_pos h2]
      refine openw c (P' := iprop(Fly c (cur i) (w (i 0).val) hb 1024 ∗ Fly c (nxt i) (w ((i 0).val + 1)) hb 0 ∗ (∃ W : Waits sig Unit, owes (c.tc : Thread nD τ) 0 W)
        ∗ Held c arg1 arg2 arg3 arg4 arg6 x0 x1 x2 x3 route ∗ KK)) ?_ ?_
      · iintro ⟨HF, HN, HR⟩
        imod (rest_open c (nxt i) (w ((i 0).val + 1)) hb) $$ HN with HN
        imodintro
        isplitl [HF]; · iexact HF
        isplitl [HN]; · iexact HN
        iexact HR
      unfold Held Next at e1
      rw [if_pos hn] at e1
      unfold Held
      iintro ⟨HF, HN, HO, ⟨H1, H2, H3, H4, H6⟩, HK⟩
      iapply (loop2 c i arg1 harg1 arg2 harg2 arg3 harg3 arg4 harg4 harg5 arg6 harg6 arg7 harg7 arg8 harg8 arg9 harg9 arg10 harg10 harg11 arg13 harg13 (hx' hn) h2) $$ [HN H3 H4]
      · unfold St
        isplitr [H4]
        · isplitl [HN]; · iexact HN
          iexact H3
        iexact H4
      unfold St
      iintro ⟨⟨HN, H3⟩, H4⟩
      iapply e1
      isplitl [HF]; · iexact HF
      isplitl [HN]; · iexact HN
      isplitl [HO]; · iexact HO
      isplitr [HK]
      · isplitl [H1]; · iexact H1
        isplitl [H2]; · iexact H2
        isplitl [H3]; · iexact H3
        isplitl [H4]; · iexact H4
        iexact H6
      iexact HK
    · rw [dif_neg h2]
      unfold Next at e1
      rw [if_neg (fun h => h2 ((cond2_iff i).mpr h))] at e1
      exact e1
  clear_value a2
  unfold Copies
  by_cases h1 : k0_cond1 i = 1#1
  · have h0 := (cond1_iff i).mp h1
    have hc : cur i = 0 := Fin.ext (by show (i 0).val % 2 = 0; rw [h0])
    rw [dif_pos h1, if_neg (fun h => by omega), ← slot_cur, ← slot_nxt]
    refine openw c (P' := iprop(Fly c (cur i) (w (i 0).val) hb 0 ∗ Rest c (nxt i) hb ∗ (∃ W : Waits sig Unit, owes (c.tc : Thread nD τ) 0 W)
      ∗ Held c arg1 arg2 arg3 arg4 arg6 x0 x1 x2 x3 route ∗ KK)) ?_ ?_
    · iintro ⟨⟨HF, HN⟩, HR⟩
      imod (rest_open c (cur i) (w (i 0).val) hb) $$ HF with HF
      imodintro
      isplitl [HF]; · iexact HF
      isplitl [HN]; · iexact HN
      iexact HR
    unfold Held at e2 ⊢
    rw [hc] at e2 ⊢
    iintro ⟨HF, HN, HO, ⟨H1, H2, H3, H4, H6⟩, HK⟩
    iapply (loop1 c i arg1 harg1 arg2 harg2 arg3 harg3 arg4 harg4 harg5 arg6 harg6 arg7 harg7 arg8 harg8 arg9 harg9 arg10 harg10 harg11 arg13 harg13 (hx h0) h1) $$ [HF H1 H2]
    · unfold St
      isplitr [H2]
      · isplitl [HF]; · iexact HF
        iexact H1
      iexact H2
    unfold St
    iintro ⟨⟨HF, H1⟩, H2⟩
    iapply e2
    isplitl [HF]; · iexact HF
    isplitl [HN]; · iexact HN
    isplitl [HO]; · iexact HO
    isplitr [HK]
    · isplitl [H1]; · iexact H1
      isplitl [H2]; · iexact H2
      isplitl [H3]; · iexact H3
      isplitl [H4]; · iexact H4
      iexact H6
    iexact HK
  · have h0 : (i 0).val ≠ 0 := fun h => h1 ((cond1_iff i).mpr h)
    rw [dif_neg h1, if_pos ⟨by omega, hi⟩, ← slot_cur, ← slot_nxt]
    exact sep_assoc.1.trans e2

end Tile

end Cert.Comb

end
-- ==== Proof.CombFill.lean ====
/- The rows of one choice, gathered into the tile that the weighted sum reads. -/
module

public import proofs.«01_k».proof.Proof.CombTile

@[expose] public section

set_option maxRecDepth 16384

noncomputable section

namespace Cert.Comb

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

local notation "𝕄" => MT nD τ sig Unit (Elt F) ℕ (Pipeline.UD sig nD τ) ℕ

/-- The rows of choice `b` of a tile: row `r` is the row of the experts' rows that the slot of `r`'s choice `b` names. -/
def hv (b : Fin 2) (wd : Fin 1024 → Fin 73728) (hb : TokB F) : S512x1024.Idx → Elt F .f32 :=
  fun j => hb (ix2 ⟨8 * (wd ⟨2 * (j 0).val + b.val, by have : (j 0).val < 512 := (j 0).isLt; omega⟩).val + (j 1).val / 128, by
    have := (wd ⟨2 * (j 0).val + b.val, by have : (j 0).val < 512 := (j 0).isLt; omega⟩).isLt; have : (j 1).val < 1024 := (j 1).isLt; omega⟩ ⟨(j 1).val % 128, by omega⟩)

/-- The first `q` blocks of columns hold the choice's rows. -/
def Filled (b : Fin 2) (wd : Fin 1024 → Fin 73728) (hb : TokB F) (q : ℕ) (X : S512x1024.Idx → Elt F .f32) : Prop :=
  ∀ j : S512x1024.Idx, (j 1).val < 128 * q → X j = hv b wd hb j

theorem filled_all {b : Fin 2} {wd : Fin 1024 → Fin 73728} {hb : TokB F} {X : S512x1024.Idx → Elt F .f32} (h : Filled b wd hb 8 X) : X = hv b wd hb :=
  funext fun j => h j (by have : (j 1).val < 1024 := (j 1).isLt; omega)

theorem filled_step {b : Fin 2} {wd : Fin 1024 → Fin 73728} {hb : TokB F} {q : ℕ} (hq : q < 8) {X X' : S512x1024.Idx → Elt F .f32}
    {off : Fin 2 → ℕ} {hin : ∀ a, off a + S512x128.size a ≤ S512x1024.size a} (hoff : off = ![0, 128 * q])
    {bl : ∀ a, S512x128.size a = 0 ∨ (![q, 0] : Fin 2 → ℕ) a + (![8, 1] : Fin 2 → ℕ) a * (S512x128.size a - 1) < S4096x128.size a}
    {w : S512x128.Idx → Elt F .f32}
    (hw : w = fun z : S512x128.Idx => gx b wd hb ((⟨![q, 0], S512x128.size, ![8, 1], bl⟩ : LoadRect S4096x128).idx z))
    (h : Filled b wd hb q X)
    (h' : (∀ z : S512x128.Idx, X' ((Rect.unit (s := S512x1024) off S512x128.size hin).emb z) = w z)
      ∧ ∀ y, (∀ z : S512x128.Idx, (Rect.unit (s := S512x1024) off S512x128.size hin).emb z ≠ y) → X' y = X y) :
    Filled b wd hb (q + 1) X' := by
  subst hoff hw
  intro j hj
  have hj0 : (j 0).val < 512 := (j 0).isLt
  by_cases hlt : (j 1).val < 128 * q
  · rw [h'.2 j, h j hlt]
    intro z hz
    have := congrArg (fun y : S512x1024.Idx => (y 1).val) hz
    have e : 128 * q + 1 * (z 1).val = (j 1).val := this
    omega
  · have hz1 : (j 1).val - 128 * q < 128 := by omega
    have ez : (Rect.unit (s := S512x1024) ![0, 128 * q] S512x128.size hin).emb (ix2 ⟨(j 0).val, hj0⟩ ⟨(j 1).val - 128 * q, hz1⟩ : S512x128.Idx) = j := by
      funext a; apply Fin.ext
      match a with
      | ⟨0, _⟩ => show 0 + 1 * (j 0).val = (j 0).val; omega
      | ⟨1, _⟩ => show 128 * q + 1 * ((j 1).val - 128 * q) = (j 1).val; omega
    rw [← ez, h'.1, ez]
    unfold gx hv
    refine congrArg hb (funext fun a => Fin.ext ?_)
    match a with
    | ⟨0, _⟩ =>
      have ha : (q + 8 * (j 0).val) / 8 = (j 0).val := by omega
      have hc : (q + 8 * (j 0).val) % 8 = q := by omega
      have hd : (j 1).val / 128 = q := by omega
      show 8 * (wd ⟨2 * ((q + 8 * (j 0).val) / 8) + b.val, _⟩).val + (q + 8 * (j 0).val) % 8 = 8 * (wd ⟨2 * (j 0).val + b.val, _⟩).val + (j 1).val / 128
      rw [hc, hd]; congr 3; congr 1; exact Fin.ext (by show 2 * ((q + 8 * (j 0).val) / 8) + b.val = 2 * (j 0).val + b.val; rw [ha])
    | ⟨1, _⟩ => show 0 + 1 * ((j 1).val - 128 * q) = (j 1).val % 128; omega

theorem pay4 (v : Vec F S512x128 .f32) : k0_pay4 v = v := shapeCast_self _ _
theorem pay5 (v : Vec F S512x128 .f32) : k0_pay5 v = v := shapeCast_self _ _
theorem pay6 (v : Vec F S512x128 .f32) : k0_pay6 v = v := shapeCast_self _ _
theorem pay7 (v : Vec F S512x128 .f32) : k0_pay7 v = v := shapeCast_self _ _
theorem pay8 (v : Vec F S512x128 .f32) : k0_pay8 v = v := shapeCast_self _ _
theorem pay9 (v : Vec F S512x128 .f32) : k0_pay9 v = v := shapeCast_self _ _
theorem pay10 (v : Vec F S512x128 .f32) : k0_pay10 v = v := shapeCast_self _ _
theorem pay11 (v : Vec F S512x128 .f32) : k0_pay11 v = v := shapeCast_self _ _
theorem pay13 (v : Vec F S512x128 .f32) : k0_pay13 v = v := shapeCast_self _ _
theorem pay14 (v : Vec F S512x128 .f32) : k0_pay14 v = v := shapeCast_self _ _
theorem pay15 (v : Vec F S512x128 .f32) : k0_pay15 v = v := shapeCast_self _ _
theorem pay16 (v : Vec F S512x128 .f32) : k0_pay16 v = v := shapeCast_self _ _
theorem pay17 (v : Vec F S512x128 .f32) : k0_pay17 v = v := shapeCast_self _ _
theorem pay18 (v : Vec F S512x128 .f32) : k0_pay18 v = v := shapeCast_self _ _
theorem pay19 (v : Vec F S512x128 .f32) : k0_pay19 v = v := shapeCast_self _ _
theorem pay20 (v : Vec F S512x128 .f32) : k0_pay20 v = v := shapeCast_self _ _

section Fill

variable (c : Dev nD) (i : grid0.Coords) (arg1 : Memref sig .tc .smem S512 .i32) (harg1 : arg1.IsWhole) (arg2 : Memref sig .tc .smem S512 .i32) (harg2 : arg2.IsWhole)
  (arg3 : Memref sig .tc .smem S512 .i32) (harg3 : arg3.IsWhole) (arg4 : Memref sig .tc .smem S512 .i32) (harg4 : arg4.IsWhole)
  (harg5 : tokM.IsWhole) (arg6 : Memref sig .tc .vmem S512x128 .f32) (harg6 : arg6.IsWhole)
  (arg7 : Memref sig .tc .vmem S1x1024 .f32) (harg7 : arg7.IsWhole) (arg8 : Memref sig .tc .vmem S1x1x1024 .f32) (harg8 : arg8.IsWhole)
  (arg9 : Memref sig .tc .vmem S512x1024 .f32) (harg9 : arg9.IsWhole) (arg10 : Memref sig .tc .vmem S512x1024 .f32) (harg10 : arg10.IsWhole)
  (harg11 : rowsM.IsWhole) (arg13 : Memref sig .tc .vmem S512x1024 .f32) (harg13 : arg13.IsWhole)
  (wd : Fin 1024 → Fin 73728) (hb : TokB F)

/-- The first choice's rows, first four blocks of columns. -/
theorem part12 {X0 : S512x1024.Idx → Elt F .f32} {Q : PUnit → sProp 𝕄} :
    iprop(owns (c.tc : Thread nD τ) (chM (cur i) 0) fullShare (gx 0 wd hb) ∗ owns (c.tc : Thread nD τ) arg13 fullShare  X0)
      ⊢ iprop((iprop(owns (c.tc : Thread nD τ) (chM (cur i) 0) fullShare (gx 0 wd hb) ∗ (∃ X', ⌜Filled 0 wd hb 4 X'⌝ ∗ owns (c.tc : Thread nD τ) arg13 fullShare  X')) -∗ Q ⟨⟩)
        -∗ Wp c (k0_part12 i arg1 harg1 arg2 harg2 arg3 harg3 arg4 harg4 tokM harg5 arg6 harg6 arg7 harg7 arg8 harg8 arg9 harg9 arg10 harg10 rowsM harg11 cc0_scratch1 arg13 harg13) Q) := by
  rw [k0_part12_eq_skeleton]; unfold k0_part12_skel
  iintro ⟨Hs, HX⟩ HQ
  have f0 : Filled 0 wd hb 0 X0 := fun j hj => absurd hj (by omega)
  iapply (ch_load c (cur i) 0 (off114_eq i)) $$ Hs
  iintro Hs
  iapply (oload c) $$ HX
  iintro HX
  iapply (ostore c) $$ HX
  iintro %X1 %h1 HX
  have f1 : Filled 0 wd hb 1 X1 := filled_step (q := 0) (by decide) rfl (pay4 _) f0 h1
  iapply (ch_load c (cur i) 0 (off114_eq i)) $$ Hs
  iintro Hs
  iapply (oload c) $$ HX
  iintro HX
  iapply (ostore c) $$ HX
  iintro %X2 %h2 HX
  have f2 : Filled 0 wd hb 2 X2 := filled_step (q := 1) (by decide) rfl (pay5 _) f1 h2
  iapply (ch_load c (cur i) 0 (off114_eq i)) $$ Hs
  iintro Hs
  iapply (oload c) $$ HX
  iintro HX
  iapply (ostore c) $$ HX
  iintro %X3 %h3 HX
  have f3 : Filled 0 wd hb 3 X3 := filled_step (q := 2) (by decide) rfl (pay6 _) f2 h3
  iapply (ch_load c (cur i) 0 (off114_eq i)) $$ Hs
  iintro Hs
  iapply (oload c) $$ HX
  iintro HX
  iapply (ostore c) $$ HX
  iintro %X4 %h4 HX
  have f4 : Filled 0 wd hb 4 X4 := filled_step (q := 3) (by decide) rfl (pay7 _) f3 h4
  iapply (wret c)
  iapply HQ
  isplitl [Hs]; · iexact Hs
  iexists X4
  isplitr; · ipureintro; exact f4
  iexact HX

/-- The first choice's rows, the rest, and the rows weighted. -/
theorem part13 (v28 : FVec F S512x1 .f32) {X4 : S512x1024.Idx → Elt F .f32} (f4 : Filled 0 wd hb 4 X4) {Q : FVec F S512x1024 .f32 → sProp 𝕄} :
    iprop(owns (c.tc : Thread nD τ) (chM (cur i) 0) fullShare (gx 0 wd hb) ∗ owns (c.tc : Thread nD τ) arg13 fullShare  X4)
      ⊢ iprop((iprop(owns (c.tc : Thread nD τ) (chM (cur i) 0) fullShare (gx 0 wd hb) ∗ owns (c.tc : Thread nD τ) arg13 fullShare  (hv 0 wd hb)) -∗ Q (k0_pay12 v28 (hv 0 wd hb)))
        -∗ Wp c (k0_part13 i arg1 harg1 arg2 harg2 arg3 harg3 arg4 harg4 tokM harg5 arg6 harg6 arg7 harg7 arg8 harg8 arg9 harg9 arg10 harg10 rowsM harg11 cc0_scratch1 arg13 harg13 v28) Q) := by
  rw [k0_part13_eq_skeleton]; unfold k0_part13_skel
  iintro ⟨Hs, HX⟩ HQ
  iapply (ch_load c (cur i) 0 (off114_eq i)) $$ Hs
  iintro Hs
  iapply (oload c) $$ HX
  iintro HX
  iapply (ostore c) $$ HX
  iintro %X5 %h5 HX
  have f5 : Filled 0 wd hb 5 X5 := filled_step (q := 4) (by decide) rfl (pay8 _) f4 h5
  iapply (ch_load c (cur i) 0 (off114_eq i)) $$ Hs
  iintro Hs
  iapply (oload c) $$ HX
  iintro HX
  iapply (ostore c) $$ HX
  iintro %X6 %h6 HX
  have f6 : Filled 0 wd hb 6 X6 := filled_step (q := 5) (by decide) rfl (pay9 _) f5 h6
  iapply (ch_load c (cur i) 0 (off114_eq i)) $$ Hs
  iintro Hs
  iapply (oload c) $$ HX
  iintro HX
  iapply (ostore c) $$ HX
  iintro %X7 %h7 HX
  have f7 : Filled 0 wd hb 7 X7 := filled_step (q := 6) (by decide) rfl (pay10 _) f6 h7
  iapply (ch_load c (cur i) 0 (off114_eq i)) $$ Hs
  iintro Hs
  iapply (oload c) $$ HX
  iintro HX
  iapply (ostore c) $$ HX
  iintro %X8 %h8 HX
  have f8 : Filled 0 wd hb 8 X8 := filled_step (q := 7) (by decide) rfl (pay11 _) f7 h8
  have e : X8 = hv 0 wd hb := filled_all f8
  subst e
  iapply (oloadw c (s := S512x1024) (off := ![0, 0]) (by decide)) $$ HX
  iintro HX
  iapply (wret c)
  iapply HQ
  isplitl [Hs]; · iexact Hs
  iexact HX

/-- The second choice's rows, first four blocks of columns, and the fifth read. -/
theorem part14 {X0 : S512x1024.Idx → Elt F .f32} {Q : Vec F S512x128 .f32 → sProp 𝕄} :
    iprop(owns (c.tc : Thread nD τ) (chM (cur i) 1) fullShare (gx 1 wd hb) ∗ owns (c.tc : Thread nD τ) arg13 fullShare  X0)
      ⊢ iprop((iprop(owns (c.tc : Thread nD τ) (chM (cur i) 1) fullShare (gx 1 wd hb) ∗ (∃ X', ⌜Filled 1 wd hb 4 X'⌝ ∗ owns (c.tc : Thread nD τ) arg13 fullShare  X')) -∗ Q (fun z => gx 1 wd hb ((⟨![4, 0], S512x128.size, ![8, 1], inb_S4096x128_S512x128_4_0_s_8_1⟩ : LoadRect S4096x128).idx z)))
        -∗ Wp c (k0_part14 i arg1 harg1 arg2 harg2 arg3 harg3 arg4 harg4 tokM harg5 arg6 harg6 arg7 harg7 arg8 harg8 arg9 harg9 arg10 harg10 rowsM harg11 cc0_scratch1 arg13 harg13) Q) := by
  rw [k0_part14_eq_skeleton]; unfold k0_part14_skel
  iintro ⟨Hs, HX⟩ HQ
  have f0 : Filled 1 wd hb 0 X0 := fun j hj => absurd hj (by omega)
  iapply (ch_load c (cur i) 1 (off115_eq i)) $$ Hs
  iintro Hs
  iapply (oload c) $$ HX
  iintro HX
  iapply (ostore c) $$ HX
  iintro %X1 %h1 HX
  have f1 : Filled 1 wd hb 1 X1 := filled_step (q := 0) (by decide) rfl (pay13 _) f0 h1
  iapply (ch_load c (cur i) 1 (off115_eq i)) $$ Hs
  iintro Hs
  iapply (oload c) $$ HX
  iintro HX
  iapply (ostore c) $$ HX
  iintro %X2 %h2 HX
  have f2 : Filled 1 wd hb 2 X2 := filled_step (q := 1) (by decide) rfl (pay14 _) f1 h2
  iapply (ch_load c (cur i) 1 (off115_eq i)) $$ Hs
  iintro Hs
  iapply (oload c) $$ HX
  iintro HX
  iapply (ostore c) $$ HX
  iintro %X3 %h3 HX
  have f3 : Filled 1 wd hb 3 X3 := filled_step (q := 2) (by decide) rfl (pay15 _) f2 h3
  iapply (ch_load c (cur i) 1 (off115_eq i)) $$ Hs
  iintro Hs
  iapply (oload c) $$ HX
  iintro HX
  iapply (ostore c) $$ HX
  iintro %X4 %h4 HX
  have f4 : Filled 1 wd hb 4 X4 := filled_step (q := 3) (by decide) rfl (pay16 _) f3 h4
  iapply (ch_load c (cur i) 1 (off115_eq i)) $$ Hs
  iintro Hs
  iapply (wret c)
  iapply HQ
  isplitl [Hs]; · iexact Hs
  iexists X4
  isplitr; · ipureintro; exact f4
  iexact HX

/-- The second choice's rows, the rest; the weighted sum; the residual stream and the gate. -/
theorem part15 (v29 : FVec F S512x1 .f32) (v80 : FVec F S512x1024 .f32) (x : S512x1024.Idx → Elt F .f32) (gt : S1x1x1024.Idx → Elt F .f32)
    {X4 : S512x1024.Idx → Elt F .f32} (f4 : Filled 1 wd hb 4 X4) {Q : (Σ' (_ : FVec F S512x1024 .f32) (_ : Vec F S512x1024 .f32), Vec F S1x1x1024 .f32) → sProp 𝕄} :
    iprop(owns (c.tc : Thread nD τ) (chM (cur i) 1) fullShare (gx 1 wd hb) ∗ owns (c.tc : Thread nD τ) arg13 fullShare  X4 ∗ owns (c.tc : Thread nD τ) arg9 fullShare x ∗ owns (c.tc : Thread nD τ) arg8 fullShare gt)
      ⊢ iprop((iprop(owns (c.tc : Thread nD τ) (chM (cur i) 1) fullShare (gx 1 wd hb) ∗ owns (c.tc : Thread nD τ) arg13 fullShare  (hv 1 wd hb) ∗ owns (c.tc : Thread nD τ) arg9 fullShare x ∗ owns (c.tc : Thread nD τ) arg8 fullShare gt)
          -∗ Q ⟨k0_pay21 v29 v80 (hv 1 wd hb), x, gt⟩)
        -∗ Wp c (k0_part15 i arg1 harg1 arg2 harg2 arg3 harg3 arg4 harg4 tokM harg5 arg6 harg6 arg7 harg7 arg8 harg8 arg9 harg9 arg10 harg10 rowsM harg11 cc0_scratch1 arg13 harg13 v29 v80 (fun z => gx 1 wd hb ((⟨![4, 0], S512x128.size, ![8, 1], inb_S4096x128_S512x128_4_0_s_8_1⟩ : LoadRect S4096x128).idx z))) Q) := by
  rw [k0_part15_eq_skeleton]; unfold k0_part15_skel
  iintro ⟨Hs, HX, H9, H8⟩ HQ
  iapply (oload c) $$ HX
  iintro HX
  iapply (ostore c) $$ HX
  iintro %X5 %h5 HX
  have f5 : Filled 1 wd hb 5 X5 := filled_step (q := 4) (by decide) rfl (pay17 _) f4 h5
  iapply (ch_load c (cur i) 1 (off115_eq i)) $$ Hs
  iintro Hs
  iapply (oload c) $$ HX
  iintro HX
  iapply (ostore c) $$ HX
  iintro %X6 %h6 HX
  have f6 : Filled 1 wd hb 6 X6 := filled_step (q := 5) (by decide) rfl (pay18 _) f5 h6
  iapply (ch_load c (cur i) 1 (off115_eq i)) $$ Hs
  iintro Hs
  iapply (oload c) $$ HX
  iintro HX
  iapply (ostore c) $$ HX
  iintro %X7 %h7 HX
  have f7 : Filled 1 wd hb 7 X7 := filled_step (q := 6) (by decide) rfl (pay19 _) f6 h7
  iapply (ch_load c (cur i) 1 (off115_eq i)) $$ Hs
  iintro Hs
  iapply (oload c) $$ HX
  iintro HX
  iapply (ostore c) $$ HX
  iintro %X8 %h8 HX
  have f8 : Filled 1 wd hb 8 X8 := filled_step (q := 7) (by decide) rfl (pay20 _) f7 h8
  have e : X8 = hv 1 wd hb := filled_all f8
  subst e
  iapply (oloadw c (s := S512x1024) (off := ![0, 0]) (by decide)) $$ HX
  iintro HX
  iapply (oloadw c (s := S512x1024) (off := ![0, 0]) (by decide)) $$ H9
  iintro H9
  iapply (oloadw c (s := S1x1x1024) (off := ![0, 0, 0]) (by decide)) $$ H8
  iintro H8
  iapply (wret c)
  iapply HQ
  isplitl [Hs]; · iexact Hs
  isplitl [HX]; · iexact HX
  isplitl [H9]; · iexact H9
  iexact H8

end Fill

end Cert.Comb

end
-- ==== Proof.CombBody.lean ====
/- The body at one point of the grid: a tile's rows waited for, weighted, normalized, gated and added. -/
module

public import proofs.«01_k».proof.Proof.CombFill

@[expose] public section

set_option maxRecDepth 16384

noncomputable section

namespace Cert.Comb

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

local notation "𝕄" => MT nD τ sig Unit (Elt F) ℕ (Pipeline.UD sig nD τ) ℕ

/-- A store over the whole. -/
theorem ostorew (c : Dev nD) {s : Shape} {e : EltTy} {m : Memref sig .tc .vmem s e} {X : s.Idx → Elt F e}
    {off : Fin s.rank → ℕ} {b : ∀ a, off a + s.size a ≤ s.size a} (ho : ∀ a, off a = 0) {w : s.Idx → Elt F e}
    {hx : (m.access (Rect.unit (s := s) off s.size b)).Stores Finset.univ} {hm : (Finset.univ : Finset (Rect.unit (s := s) off s.size b).shape.Idx) = Finset.univ ∨ ∀ a, (Rect.unit (s := s) off s.size b).stride a = 1}
    {α : Type} {K : PUnit → Prog (TpuEff nD τ sig (Elt F) Λ₀ .tc) α} {Q : α → sProp 𝕄} :
    (owns (c.tc : Thread nD τ) m fullShare X : sProp 𝕄) ⊢ iprop((owns (c.tc : Thread nD τ) m fullShare w -∗ Wp c (K ⟨⟩) Q)
      -∗ Wp c (Prog.lift (.store m (Rect.unit (s := s) off s.size b) w Finset.univ hx hm) >>= K) Q) := by
  iintro H HK
  iapply (ostore c) $$ H
  iintro %X' %h H
  have e : X' = w := funext fun y => by
    have := h.1 y
    rwa [show (Rect.unit (s := s) off s.size b).emb y = y from funext fun a => Fin.ext (by show off a + 1 * (y a).val = (y a).val; rw [ho]; omega)] at this
  subst e
  iapply HK
  iexact H

/-- A tile's result from its routing, its two choices' rows, and the blocks of the residual stream, the gate and the scale. -/
def tileOut (route : S512x128.Idx → Elt F .f32) (y0 y1 x : S512x1024.Idx → Elt F .f32) (gt : S1x1x1024.Idx → Elt F .f32) (g : S1x1024.Idx → Elt F .f32) : FVec F S512x1024 .f32 :=
  k0_pay1 (k0_pay21 (k0_pay3 route) (k0_pay12 (k0_pay2 route) y0) y1) x gt g

section Body

variable (c : Dev nD) (i : grid0.Coords) (arg1 : Memref sig .tc .smem S512 .i32) (harg1 : arg1.IsWhole) (arg2 : Memref sig .tc .smem S512 .i32) (harg2 : arg2.IsWhole)
  (arg3 : Memref sig .tc .smem S512 .i32) (harg3 : arg3.IsWhole) (arg4 : Memref sig .tc .smem S512 .i32) (harg4 : arg4.IsWhole)
  (harg5 : tokM.IsWhole) (arg6 : Memref sig .tc .vmem S512x128 .f32) (harg6 : arg6.IsWhole)
  (arg7 : Memref sig .tc .vmem S1x1024 .f32) (harg7 : arg7.IsWhole) (arg8 : Memref sig .tc .vmem S1x1x1024 .f32) (harg8 : arg8.IsWhole)
  (arg9 : Memref sig .tc .vmem S512x1024 .f32) (harg9 : arg9.IsWhole) (arg10 : Memref sig .tc .vmem S512x1024 .f32) (harg10 : arg10.IsWhole)
  (harg11 : rowsM.IsWhole) (arg13 : Memref sig .tc .vmem S512x1024 .f32) (harg13 : arg13.IsWhole)
  (x0 x1 x2 x3 : S512.Idx → BitVec 32) (w : ℕ → Fin 1024 → Fin 73728) (hb : TokB F)

set_option maxHeartbeats 2000000 in
theorem body (route : S512x128.Idx → Elt F .f32) (x : S512x1024.Idx → Elt F .f32) (gt : S1x1x1024.Idx → Elt F .f32) (g : S1x1024.Idx → Elt F .f32)
    (hx : (i 0).val = 0 → Tab x0 x1 (w (i 0).val)) (hx' : (i 0).val + 1 < 64 → Tab x2 x3 (w ((i 0).val + 1)))
    (X10 X13 : S512x1024.Idx → Elt F .f32) {Q : PUnit → sProp 𝕄} :
    iprop(Copies c w hb (i 0).val ∗ (∃ W : Waits sig Unit, owes (c.tc : Thread nD τ) 0 W) ∗ Held c arg1 arg2 arg3 arg4 arg6 x0 x1 x2 x3 route
        ∗ owns (c.tc : Thread nD τ) arg7 fullShare g ∗ owns (c.tc : Thread nD τ) arg8 fullShare gt ∗ owns (c.tc : Thread nD τ) arg9 fullShare x
        ∗ owns (c.tc : Thread nD τ) arg10 fullShare X10 ∗ owns (c.tc : Thread nD τ) arg13 fullShare X13
        ∗ ((Copies c w hb ((i 0).val + 1) ∗ (∃ W : Waits sig Unit, owes (c.tc : Thread nD τ) 0 W) ∗ Held c arg1 arg2 arg3 arg4 arg6 x0 x1 x2 x3 route
            ∗ owns (c.tc : Thread nD τ) arg7 fullShare g ∗ owns (c.tc : Thread nD τ) arg8 fullShare gt ∗ owns (c.tc : Thread nD τ) arg9 fullShare x
            ∗ owns (c.tc : Thread nD τ) arg10 fullShare (tileOut route (hv 0 (w (i 0).val) hb) (hv 1 (w (i 0).val) hb) x gt g)
            ∗ owns (c.tc : Thread nD τ) arg13 fullShare (hv 1 (w (i 0).val) hb)) -∗ Q ⟨⟩))
      ⊢ Wp c (cc0_moe_combine i arg1 harg1 arg2 harg2 arg3 harg3 arg4 harg4 tokM harg5 arg6 harg6 arg7 harg7 arg8 harg8 arg9 harg9 arg10 harg10 rowsM harg11 cc0_scratch1 arg13 harg13) Q := by
  rw [cc0_moe_combine_eq_skeleton]; unfold cc0_moe_combine_skel
  iintro ⟨HC, HO, HH, H7, H8, H9, H10, HX, HK⟩
  iapply (wseq c)
  iapply (part11 c i arg1 harg1 arg2 harg2 arg3 harg3 arg4 harg4 harg5 arg6 harg6 arg7 harg7 arg8 harg8 arg9 harg9 arg10 harg10 harg11 arg13 harg13 x0 x1 x2 x3 w hb route hx hx')
  isplitl [HC]; · iexact HC
  isplitl [HO]; · iexact HO
  isplitl [HH]; · iexact HH
  iintro ⟨Hs0, Hs1, Hv, Ht, HO, HN, HH⟩
  dsimp only []
  iapply (wseq c)
  iapply (part12 c i arg1 harg1 arg2 harg2 arg3 harg3 arg4 harg4 harg5 arg6 harg6 arg7 harg7 arg8 harg8 arg9 harg9 arg10 harg10 harg11 arg13 harg13 (w (i 0).val) hb) $$ [Hs0 HX]
  · isplitl [Hs0]; · iexact Hs0
    iexact HX
  iintro ⟨Hs0, %Y, %fY, HX⟩
  iapply (wseq c)
  iapply (part13 c i arg1 harg1 arg2 harg2 arg3 harg3 arg4 harg4 harg5 arg6 harg6 arg7 harg7 arg8 harg8 arg9 harg9 arg10 harg10 harg11 arg13 harg13 (w (i 0).val) hb (k0_pay2 route) fY) $$ [Hs0 HX]
  · isplitl [Hs0]; · iexact Hs0
    iexact HX
  iintro ⟨Hs0, HX⟩
  iapply (wseq c)
  iapply (part14 c i arg1 harg1 arg2 harg2 arg3 harg3 arg4 harg4 harg5 arg6 harg6 arg7 harg7 arg8 harg8 arg9 harg9 arg10 harg10 harg11 arg13 harg13 (w (i 0).val) hb) $$ [Hs1 HX]
  · isplitl [Hs1]; · iexact Hs1
    iexact HX
  iintro ⟨Hs1, %Z, %fZ, HX⟩
  iapply (wseq c)
  iapply (part15 c i arg1 harg1 arg2 harg2 arg3 harg3 arg4 harg4 harg5 arg6 harg6 arg7 harg7 arg8 harg8 arg9 harg9 arg10 harg10 harg11 arg13 harg13 (w (i 0).val) hb (k0_pay3 route) _ x gt fZ) $$ [Hs1 HX H9 H8]
  · isplitl [Hs1]; · iexact Hs1
    isplitl [HX]; · iexact HX
    isplitl [H9]; · iexact H9
    iexact H8
  iintro ⟨Hs1, HX, H9, H8⟩
  dsimp only []
  iapply (oloadw c (s := S1x1024) (off := ![0, 0]) (by decide)) $$ H7
  iintro H7
  iapply (oloadw c (s := S512x1024) (off := ![0, 0]) (by decide)) $$ H10
  iintro H10
  iapply (ostorew c (s := S512x1024) (off := ![0, 0]) (by decide)) $$ H10
  iintro H10
  iapply (wret c)
  iapply HK
  isplitl [HN Hs0 Hs1 Hv Ht]
  · iapply (next_copies c i w hb)
    isplitl [HN]; · iexact HN
    unfold Rest
    isplitl [Hs0 Hs1]
    · iapply (slot_join c (cur i))
      isplitl [Hs0]; · iexact Hs0
      iexact Hs1
    isplitl [Hv]; · iexact Hv
    iexact Ht
  isplitl [HO]; · iexact HO
  isplitl [HH]; · iexact HH
  isplitl [H7]; · iexact H7
  isplitl [H8]; · iexact H8
  isplitl [H9]; · iexact H9
  isplitl [H10]; · iexact H10
  iexact HX

end Body

/-- As the first tile begins nothing is under way, -/
theorem copies_first (c : Dev nD) (w : ℕ → Fin 1024 → Fin 73728) (hb : TokB F) : (Copies c w hb 0 : sProp 𝕄) = iprop(Rest c 0 hb ∗ Rest c 1 hb) := by
  unfold Copies; rw [if_neg (fun h => by omega)]; rfl

/-- nor after the last. -/
theorem copies_last (c : Dev nD) (w : ℕ → Fin 1024 → Fin 73728) (hb : TokB F) : (Copies c w hb 64 : sProp 𝕄) = iprop(Rest c 0 hb ∗ Rest c 1 hb) := by
  unfold Copies; rw [if_neg (fun h => by omega)]; rfl

end Cert.Comb

end
-- ==== Proof.CombRun.lean ====
/- What the combining call is launched on: the blocks the pipeline brings each point, and what each point finds and leaves. -/
module

public import proofs.«01_k».proof.Proof.CombBody
public import Idealize.ShloMosaic.Lib.Pipeline.FrameBody
public import Idealize.ShloMosaic.Lib.Pipeline.Value
public import proofs.«01_k».proof.Proof.Gen.Kernel2Ideal.Launch
public import proofs.«01_k».proof.Proof.Gen.Kernel2Ideal.Points

@[expose] public section

set_option maxRecDepth 16384

noncomputable section

namespace Cert.Comb

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

local notation "𝕄" => MT nD τ sig Unit (Elt F) ℕ (Pipeline.UD sig nD τ) ℕ

open Idealize.ShloMosaic.Pipeline (Dat Cfg Window BodyObligation)

variable (m : (ℓ : Loc nD τ sig) → Buf (Elt F) ℓ) (ρ : Dev nD → PrngReg)

/-- A buffer as the region finds it: the scale as one row, the others as launched. -/
abbrev V (c : Dev nD) (b : Ref sig .tc) : Buf (Elt F) ((c : Thread nD τ).loc b) := StableHlo.after hostOps0 (fun b => m (c, b)) b

theorem hostOps0_new : (hostOps0 : List (HloOp τ sig (Elt F))).Forall fun op => op.fresh = ∅ := rfl

/-- The program is the scale's reshape and then the call. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_new main_chain

theorem V_arg0 (c : Dev nD) : V m c main_arg0 = m ((c : Thread nD τ).loc main_arg0) := by unfold V; after_results
theorem V_arg1 (c : Dev nD) : V m c main_arg1 = m ((c : Thread nD τ).loc main_arg1) := by unfold V; after_results
theorem V_arg2 (c : Dev nD) : V m c main_arg2 = m ((c : Thread nD τ).loc main_arg2) := by unfold V; after_results
theorem V_arg3 (c : Dev nD) : V m c main_arg3 = m ((c : Thread nD τ).loc main_arg3) := by unfold V; after_results
theorem V_arg4 (c : Dev nD) : V m c main_arg4 = m ((c : Thread nD τ).loc main_arg4) := by unfold V; after_results
theorem V_arg5 (c : Dev nD) : V m c main_arg5 = m ((c : Thread nD τ).loc main_arg5) := by unfold V; after_results
theorem V_arg6 (c : Dev nD) : V m c main_arg6 = m ((c : Thread nD τ).loc main_arg6) := by unfold V; after_results
theorem V_scale (c : Dev nD) : V m c main_v0 = shapeCast S1x1024 (m ((c : Thread nD τ).loc main_arg4) : S1024.Idx → Elt F .f32) shapeCasts_S1024_S1x1024 := by unfold V; after_results; rfl

/-- A token's slot of its first choice, and of its second. -/
def slW (b : ℕ) (c : Dev nD) (x : Fin 32768) : BitVec 32 := if b = 0 then V m c main_arg1 (ix1 x) else V m c main_arg2 (ix1 x)

/-- Every slot is one of the experts' rows. -/
def Ready : Prop := ∀ b c x, (slW m b c x).toNat < 73728

theorem coords_at : ∀ t : Fin grid0.N, (grid0.coords t 0).val = t.val := by decide +kernel

theorem ix_next0 (i : grid0.Coords) : cc0_transform_2 i = ![min ((i 0).val + 1) 63] := by
  have key : ∀ n : Fin 64, (Scalar.minsi (Scalar.addi (BitVec.ofNat 32 n.val) 1#32) 63#32).toNat = min (n.val + 1) 63 := by decide +kernel
  exact congrArg (fun x => ![x]) (key ⟨(i 0).val, i0_lt i⟩)
theorem ix_next1 (i : grid0.Coords) : cc0_transform_3 i = ![min ((i 0).val + 1) 63] := ix_next0 i
theorem ix_row (i : grid0.Coords) : cc0_transform_5 i = ![(i 0).val, 0] := by
  have h0 := i0_lt i
  unfold cc0_transform_5
  have e : (BitVec.ofNat 32 (i 0).val).toNat = (i 0).val := by rw [BitVec.toNat_ofNat]; omega
  dsimp only
  rw [e]; rfl
theorem ix_gate : ∀ i : grid0.Coords, cc0_transform_7 i = ![(i 0).val / 32, 0, 0] := by decide +kernel

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The slots of tile `T`, as numbers: of its token `r / 2` the choice `r % 2`. -/
def wdT (c : Dev nD) (T : ℕ) (r : Fin 1024) : Fin 73728 :=
  ⟨(slW m (r.val % 2) c ⟨(512 * T + r.val / 2) % 32768, Nat.mod_lt _ (by decide)⟩).toNat % 73728, Nat.mod_lt _ (by decide)⟩

/-- Tile `T`'s blocks: the routing's, the gate's, the residual stream's; and the scale. -/
def routeB (c : Dev nD) (T : ℕ) : S512x128.Idx → Elt F .f32 := fun y =>
  V m c main_arg3 (ix2 (⟨(512 * T + (y 0).val) % 32768, Nat.mod_lt _ (by decide)⟩ : Fin 32768) (⟨(y 1).val, (y 1).isLt⟩ : Fin 128))
def scaleB (c : Dev nD) : S1x1024.Idx → Elt F .f32 := fun y => V m c main_v0 y
def gateB (c : Dev nD) (T : ℕ) : S1x1x1024.Idx → Elt F .f32 := fun y =>
  V m c main_arg5 (ix3 (⟨T / 32 % 2, Nat.mod_lt _ (by decide)⟩ : Fin 2) (0 : Fin 1) (⟨(y 2).val, (y 2).isLt⟩ : Fin 1024))
def xB (c : Dev nD) (T : ℕ) : S512x1024.Idx → Elt F .f32 := fun y =>
  V m c main_arg6 (ix2 (⟨(512 * T + (y 0).val) % 32768, Nat.mod_lt _ (by decide)⟩ : Fin 32768) (⟨(y 1).val, (y 1).isLt⟩ : Fin 1024))

section
variable (h : Ready m) (c : Dev nD) (t : Fin cfg0.N)

theorem blk_0 (x : Fin 512) : (iblk m c 0 t : S512.Idx → BitVec 32) (ix1 x) = slW m 0 c ⟨x.val, by omega⟩ := by
  unfold iblk slW
  show V m c main_arg1 _ = V m c main_arg1 _
  congr 1
  funext a
  apply Fin.ext
  match a with
  | ⟨0, _⟩ => show 0 * 512 + 1 * x.val = x.val; omega

theorem blk_2 (x : Fin 512) : (iblk m c 2 t : S512.Idx → BitVec 32) (ix1 x)
    = slW m 0 c ⟨min ((grid0.coords t 0).val + 1) 63 * 512 + x.val, by omega⟩ := by
  unfold iblk slW
  show V m c main_arg1 _ = V m c main_arg1 _
  congr 1
  funext a
  apply Fin.ext
  match a with
  | ⟨0, _⟩ =>
    show cc0_transform_2 (grid0.coords t) 0 * 512 + 1 * x.val = min ((grid0.coords t 0).val + 1) 63 * 512 + x.val
    rw [ix_next0]
    show min ((grid0.coords t 0).val + 1) 63 * 512 + 1 * x.val = _
    omega

theorem blk_1 (x : Fin 512) : (iblk m c 1 t : S512.Idx → BitVec 32) (ix1 x) = slW m 1 c ⟨x.val, by omega⟩ := by
  unfold iblk slW
  show V m c main_arg2 _ = V m c main_arg2 _
  congr 1
  funext a
  apply Fin.ext
  match a with
  | ⟨0, _⟩ => show 0 * 512 + 1 * x.val = x.val; omega

theorem blk_3 (x : Fin 512) : (iblk m c 3 t : S512.Idx → BitVec 32) (ix1 x)
    = slW m 1 c ⟨min ((grid0.coords t 0).val + 1) 63 * 512 + x.val, by omega⟩ := by
  unfold iblk slW
  show V m c main_arg2 _ = V m c main_arg2 _
  congr 1
  funext a
  apply Fin.ext
  match a with
  | ⟨0, _⟩ =>
    show cc0_transform_3 (grid0.coords t) 0 * 512 + 1 * x.val = min ((grid0.coords t 0).val + 1) 63 * 512 + x.val
    rw [ix_next1]
    show min ((grid0.coords t 0).val + 1) 63 * 512 + 1 * x.val = _
    omega

include h
theorem tab_first : Tab (iblk m c 0 t : S512.Idx → BitVec 32) (iblk m c 1 t : S512.Idx → BitVec 32) (wdT m c 0) where
  a r := by
    rw [blk_0, ← Nat.mod_eq_of_lt (h 0 c ⟨r.val, by omega⟩)]
    have e : (⟨(512 * 0 + 2 * r.val / 2) % 32768, Nat.mod_lt _ (by decide)⟩ : Fin 32768) = ⟨r.val, by omega⟩ := Fin.ext (by show (512 * 0 + 2 * r.val / 2) % 32768 = r.val; omega)
    show _ = (slW m (2 * r.val % 2) c ⟨(512 * 0 + 2 * r.val / 2) % 32768, _⟩).toNat % 73728
    rw [e, show 2 * r.val % 2 = 0 by omega]
  b r := by
    rw [blk_1, ← Nat.mod_eq_of_lt (h 1 c ⟨r.val, by omega⟩)]
    have e : (⟨(512 * 0 + (2 * r.val + 1) / 2) % 32768, Nat.mod_lt _ (by decide)⟩ : Fin 32768) = ⟨r.val, by omega⟩ := Fin.ext (by show (512 * 0 + (2 * r.val + 1) / 2) % 32768 = r.val; omega)
    show _ = (slW m ((2 * r.val + 1) % 2) c ⟨(512 * 0 + (2 * r.val + 1) / 2) % 32768, _⟩).toNat % 73728
    rw [e, show (2 * r.val + 1) % 2 = 1 by omega]

theorem tab_next (hT : (grid0.coords t 0).val + 1 < 64) :
    Tab (iblk m c 2 t : S512.Idx → BitVec 32) (iblk m c 3 t : S512.Idx → BitVec 32) (wdT m c ((grid0.coords t 0).val + 1)) where
  a r := by
    rw [blk_2, ← Nat.mod_eq_of_lt (h 0 c ⟨min ((grid0.coords t 0).val + 1) 63 * 512 + r.val, by omega⟩)]
    have e : (⟨(512 * ((grid0.coords t 0).val + 1) + 2 * r.val / 2) % 32768, Nat.mod_lt _ (by decide)⟩ : Fin 32768) = ⟨min ((grid0.coords t 0).val + 1) 63 * 512 + r.val, by omega⟩ :=
      Fin.ext (by show (512 * ((grid0.coords t 0).val + 1) + 2 * r.val / 2) % 32768 = min ((grid0.coords t 0).val + 1) 63 * 512 + r.val; omega)
    show _ = (slW m (2 * r.val % 2) c ⟨(512 * ((grid0.coords t 0).val + 1) + 2 * r.val / 2) % 32768, _⟩).toNat % 73728
    rw [e, show 2 * r.val % 2 = 0 by omega]
  b r := by
    rw [blk_3, ← Nat.mod_eq_of_lt (h 1 c ⟨min ((grid0.coords t 0).val + 1) 63 * 512 + r.val, by omega⟩)]
    have e : (⟨(512 * ((grid0.coords t 0).val + 1) + (2 * r.val + 1) / 2) % 32768, Nat.mod_lt _ (by decide)⟩ : Fin 32768) = ⟨min ((grid0.coords t 0).val + 1) 63 * 512 + r.val, by omega⟩ :=
      Fin.ext (by show (512 * ((grid0.coords t 0).val + 1) + (2 * r.val + 1) / 2) % 32768 = min ((grid0.coords t 0).val + 1) 63 * 512 + r.val; omega)
    show _ = (slW m ((2 * r.val + 1) % 2) c ⟨(512 * ((grid0.coords t 0).val + 1) + (2 * r.val + 1) / 2) % 32768, _⟩).toNat % 73728
    rw [e, show (2 * r.val + 1) % 2 = 1 by omega]
omit h

theorem blk_4 : (iblk m c 4 t : S512x128.Idx → Elt F .f32) = routeB m c (grid0.coords t 0).val := by
  have h0 := i0_lt (grid0.coords t)
  refine funext fun y : S512x128.Idx => ?_
  unfold iblk routeB
  show V m c main_arg3 _ = V m c main_arg3 _
  congr 1
  funext a
  apply Fin.ext
  match a with
  | ⟨0, _⟩ =>
    have y0 : (y 0).val < 512 := (y 0).isLt
    show cc0_transform_5 (grid0.coords t) 0 * 512 + 1 * (y 0).val = (512 * (grid0.coords t 0).val + (y 0).val) % 32768
    rw [ix_row]
    show (grid0.coords t 0).val * 512 + 1 * (y 0).val = _
    omega
  | ⟨1, _⟩ =>
    show cc0_transform_5 (grid0.coords t) 1 * 128 + 1 * (y 1).val = (y 1).val
    rw [ix_row]
    show 0 * 128 + 1 * (y 1).val = _
    omega

theorem blk_7 : (iblk m c 7 t : S512x1024.Idx → Elt F .f32) = xB m c (grid0.coords t 0).val := by
  have h0 := i0_lt (grid0.coords t)
  refine funext fun y : S512x1024.Idx => ?_
  unfold iblk xB
  show V m c main_arg6 _ = V m c main_arg6 _
  congr 1
  funext a
  apply Fin.ext
  match a with
  | ⟨0, _⟩ =>
    have y0 : (y 0).val < 512 := (y 0).isLt
    show cc0_transform_5 (grid0.coords t) 0 * 512 + 1 * (y 0).val = (512 * (grid0.coords t 0).val + (y 0).val) % 32768
    rw [ix_row]
    show (grid0.coords t 0).val * 512 + 1 * (y 0).val = _
    omega
  | ⟨1, _⟩ =>
    show cc0_transform_5 (grid0.coords t) 1 * 1024 + 1 * (y 1).val = (y 1).val
    rw [ix_row]
    show 0 * 1024 + 1 * (y 1).val = _
    omega

theorem blk_5 : (iblk m c 5 t : S1x1024.Idx → Elt F .f32) = scaleB m c := by
  refine funext fun y : S1x1024.Idx => ?_
  unfold iblk scaleB
  show V m c main_v0 _ = V m c main_v0 _
  congr 1
  funext a
  apply Fin.ext
  match a with
  | ⟨0, _⟩ => show 0 * 1 + 1 * (y 0).val = (y 0).val; omega
  | ⟨1, _⟩ => show 0 * 1024 + 1 * (y 1).val = (y 1).val; omega

theorem blk_6 : (iblk m c 6 t : S1x1x1024.Idx → Elt F .f32) = gateB m c (grid0.coords t 0).val := by
  have h0 := i0_lt (grid0.coords t)
  refine funext fun y : S1x1x1024.Idx => ?_
  unfold iblk gateB
  show V m c main_arg5 _ = V m c main_arg5 _
  congr 1
  funext a
  apply Fin.ext
  have e := ix_gate (grid0.coords t)
  match a with
  | ⟨0, _⟩ =>
    have y0 : (y 0).val < 1 := (y 0).isLt
    show cc0_transform_7 (grid0.coords t) 0 * 1 + 1 * (y 0).val = (grid0.coords t 0).val / 32 % 2
    rw [e]
    show (grid0.coords t 0).val / 32 * 1 + 1 * (y 0).val = _
    omega
  | ⟨1, _⟩ =>
    have y1 : (y 1).val < 1 := (y 1).isLt
    show cc0_transform_7 (grid0.coords t) 1 * 1 + 1 * (y 1).val = 0
    rw [e]
    show 0 * 1 + 1 * (y 1).val = _
    omega
  | ⟨2, _⟩ =>
    show cc0_transform_7 (grid0.coords t) 2 * 1024 + 1 * (y 2).val = (y 2).val
    rw [e]
    show 0 * 1024 + 1 * (y 2).val = _
    omega
end

/-- The experts' rows. -/
abbrev tokV (c : Dev nD) : TokB F := V m c main_arg0

/-- Tile `T`'s result. -/
def outV (c : Dev nD) (T : ℕ) : S512x1024.Idx → Elt F .f32 :=
  tileOut (routeB m c T) (hv 0 (wdT m c T) (tokV m c)) (hv 1 (wdT m c T) (tokV m c)) (xB m c T) (gateB m c T) (scaleB m c)

abbrev hM : Memref sig .tc .vmem S512x1024 .f32 := Memref.whole cc0_scratch2

/-- What stands as tile `T` begins: the copies, the tile the rows are gathered in, and the generator's register. -/
def PhiT (c : Dev nD) (T : ℕ) : sProp 𝕄 :=
  iprop(Copies c (wdT m c) (tokV m c) T ∗ (∃ X : S512x1024.Idx → Elt F .f32, owns (c.tc : Thread nD τ) hM fullShare X) ∗ (∃ r, prngReg c r))

section
variable (c : Dev nD) (i : grid0.Coords) (a0 a1 a2 a3 : Memref sig .tc .smem S512 .i32) (h0 : a0.IsWhole) (h1 : a1.IsWhole) (h2 : a2.IsWhole) (h3 : a3.IsWhole)
  (a4 : Memref sig .tc .vmem S512x128 .f32) (h4 : a4.IsWhole) (a5 : Memref sig .tc .vmem S1x1024 .f32) (h5 : a5.IsWhole)
  (a6 : Memref sig .tc .vmem S1x1x1024 .f32) (h6 : a6.IsWhole) (a7 a8 : Memref sig .tc .vmem S512x1024 .f32) (h7 : a7.IsWhole) (h8 : a8.IsWhole)

/-- The body at a point, over the buffers it is handed. -/
abbrev bodyOn : Prog (TpuEff nD τ sig (Elt F) Λ₀ .tc) PUnit :=
  cc0_moe_combine i a0 h0 a1 h1 a2 h2 a3 h3 tokM (Memref.isWhole_whole _) a4 h4 a5 h5 a6 h6 a7 h7 a8 h8
    rowsM (Memref.isWhole_whole _) cc0_scratch1 hM (Memref.isWhole_whole _)

/-- What a point finds and leaves in its blocks: only the result's block changes. -/
def Blocks (x0 x1 x2 x3 : S512.Idx → BitVec 32) (T : ℕ) (X : S512x1024.Idx → Elt F .f32) : sProp 𝕄 :=
  iprop((∃ W, owes (c.tc : Thread nD τ) 0 W) ∗ owns (c.tc : Thread nD τ) a0 fullShare (x0 : S512.Idx → Elt F .i32) ∗ owns (c.tc : Thread nD τ) a1 fullShare (x1 : S512.Idx → Elt F .i32)
    ∗ owns (c.tc : Thread nD τ) a2 fullShare (x2 : S512.Idx → Elt F .i32) ∗ owns (c.tc : Thread nD τ) a3 fullShare (x3 : S512.Idx → Elt F .i32)
    ∗ owns (c.tc : Thread nD τ) a4 fullShare (routeB m c T) ∗ owns (c.tc : Thread nD τ) a5 fullShare (scaleB m c) ∗ owns (c.tc : Thread nD τ) a6 fullShare (gateB m c T)
    ∗ owns (c.tc : Thread nD τ) a7 fullShare (xB m c T) ∗ owns (c.tc : Thread nD τ) a8 fullShare X)

theorem point (x0 x1 x2 x3 : S512.Idx → BitVec 32) (hx : (i 0).val = 0 → Tab x0 x1 (wdT m c (i 0).val)) (hx' : (i 0).val + 1 < 64 → Tab x2 x3 (wdT m c ((i 0).val + 1)))
    (X : S512x1024.Idx → Elt F .f32) :
    iprop(PhiT m c (i 0).val ∗ Blocks m c a0 a1 a2 a3 a4 a5 a6 a7 a8 x0 x1 x2 x3 (i 0).val X)
      ⊢ Wp c (bodyOn i a0 a1 a2 a3 h0 h1 h2 h3 a4 h4 a5 h5 a6 h6 a7 a8 h7 h8) (fun _ => iprop(PhiT m c ((i 0).val + 1)
        ∗ Blocks m c a0 a1 a2 a3 a4 a5 a6 a7 a8 x0 x1 x2 x3 (i 0).val (outV m c (i 0).val))) := by
  unfold PhiT Blocks
  iintro ⟨⟨HC, ⟨%X', HX⟩, Hg⟩, HW, H0, H1, H2, H3, H4, H5, H6, H7, H8⟩
  iapply (body c i a0 h0 a1 h1 a2 h2 a3 h3 (Memref.isWhole_whole _) a4 h4 a5 h5 a6 h6 a7 h7 a8 h8 (Memref.isWhole_whole _) hM (Memref.isWhole_whole _)
    x0 x1 x2 x3 (wdT m c) (tokV m c) (routeB m c (i 0).val) (xB m c (i 0).val) (gateB m c (i 0).val) (scaleB m c) hx hx' X X')
  isplitl [HC]; · iexact HC
  isplitl [HW]; · iexact HW
  unfold Held
  isplitl [H0 H1 H2 H3 H4]
  · isplitl [H0]; · iexact H0
    isplitl [H1]; · iexact H1
    isplitl [H2]; · iexact H2
    isplitl [H3]; · iexact H3
    iexact H4
  isplitl [H5]; · iexact H5
  isplitl [H6]; · iexact H6
  isplitl [H7]; · iexact H7
  isplitl [H8]; · iexact H8
  isplitl [HX]; · iexact HX
  iintro ⟨HC, HW, ⟨H0, H1, H2, H3, H4⟩, H5, H6, H7, H8, HX⟩
  isplitl [HC HX Hg]
  · isplitl [HC]; · iexact HC
    isplitl [HX]; · iexists _; iexact HX
    iexact Hg
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold outV
  iexact H8
end

/-- The proof data. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outV m c t.val
  Φ n := PhiT m c n.val
  q w := Pipeline.shareOf spec0 w
  owed _ := 0

variable (c : Dev nD) (t : Fin cfg0.N)

theorem A_eq (w : Fin cfg0.W) : (dats m 0 c).A w = V m c (Pipeline.arrRef spec0 w) := by
  dsimp only [dats]

theorem after_0 : (dats m 0 c).after 0 t = iblk m c 0 t := by dsimp only [dats]; try rfl
theorem after_1 : (dats m 0 c).after 1 t = iblk m c 1 t := by dsimp only [dats]; try rfl
theorem after_2 : (dats m 0 c).after 2 t = iblk m c 2 t := by dsimp only [dats]; try rfl
theorem after_3 : (dats m 0 c).after 3 t = iblk m c 3 t := by dsimp only [dats]; try rfl
theorem after_4 : (dats m 0 c).after 4 t = iblk m c 4 t := by dsimp only [dats]; try rfl
theorem after_5 : (dats m 0 c).after 5 t = iblk m c 5 t := by dsimp only [dats]; try rfl
theorem after_6 : (dats m 0 c).after 6 t = iblk m c 6 t := by dsimp only [dats]; try rfl
theorem after_7 : (dats m 0 c).after 7 t = iblk m c 7 t := by dsimp only [dats]; try rfl
theorem after_8 : (dats m 0 c).after 8 t = outV m c t.val := by dsimp only [dats]; try rfl

theorem before_0 (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)

abbrev ms_0 : Memref sig .tc .smem S512 .i32 := win0_0.stage (cfg0.slots t 0)
abbrev ms_1 : Memref sig .tc .smem S512 .i32 := win0_1.stage (cfg0.slots t 1)
abbrev ms_2 : Memref sig .tc .smem S512 .i32 := win0_2.stage (cfg0.slots t 2)
abbrev ms_3 : Memref sig .tc .smem S512 .i32 := win0_3.stage (cfg0.slots t 3)
abbrev ms_4 : Memref sig .tc .vmem S512x128 .f32 := win0_4.stage (cfg0.slots t 4)
abbrev ms_5 : Memref sig .tc .vmem S1x1024 .f32 := win0_5.stage (cfg0.slots t 5)
abbrev ms_6 : Memref sig .tc .vmem S1x1x1024 .f32 := win0_6.stage (cfg0.slots t 6)
abbrev ms_7 : Memref sig .tc .vmem S512x1024 .f32 := win0_7.stage (cfg0.slots t 7)
abbrev ms_8 : Memref sig .tc .vmem S512x1024 .f32 := win0_8.stage (cfg0.slots t 8)
abbrev hs_0 : (ms_0 t).IsWhole := hstage0_0 ((cfg0.slots t 0).cast nbuf0_0)
abbrev hs_1 : (ms_1 t).IsWhole := hstage0_1 ((cfg0.slots t 1).cast nbuf0_1)
abbrev hs_2 : (ms_2 t).IsWhole := hstage0_2 ((cfg0.slots t 2).cast nbuf0_2)
abbrev hs_3 : (ms_3 t).IsWhole := hstage0_3 ((cfg0.slots t 3).cast nbuf0_3)
abbrev hs_4 : (ms_4 t).IsWhole := hstage0_4 ((cfg0.slots t 4).cast nbuf0_4)
abbrev hs_5 : (ms_5 t).IsWhole := hstage0_5 ((cfg0.slots t 5).cast nbuf0_5)
abbrev hs_6 : (ms_6 t).IsWhole := hstage0_6 ((cfg0.slots t 6).cast nbuf0_6)
abbrev hs_7 : (ms_7 t).IsWhole := hstage0_7 ((cfg0.slots t 7).cast nbuf0_7)
abbrev hs_8 : (ms_8 t).IsWhole := hstage0_8 ((cfg0.slots t 8).cast nbuf0_8)

/-- The body at a point. -/
abbrev bodyAt : Prog (TpuEff nD τ sig (Elt F) Λ₀ .tc) PUnit :=
  bodyOn (grid0.coords t) (ms_0 t) (ms_1 t) (ms_2 t) (ms_3 t) (hs_0 t) (hs_1 t) (hs_2 t) (hs_3 t) (ms_4 t) (hs_4 t) (ms_5 t) (hs_5 t) (ms_6 t) (hs_6 t) (ms_7 t) (ms_8 t) (hs_7 t) (hs_8 t)

theorem defs₀_row : defs₀ (F := F) .tc cfg0.body (cfg0.bodyArgs t (cfg0.slots t)) = bodyAt t := by
  unfold defs₀; rw [Defs.onTc_tc]

def bodyPre : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d)))

def bodyPost : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t)
    ∗ owns (c : Thread nD τ) (ms_8 t) fullShare ((dats m 0 c).after 8 t))

theorem phi_now : (dats m 0 c).Φ t.castSucc = PhiT m c (grid0.coords t 0).val := by
  rw [coords_at t]
  dsimp only [dats]
  rfl
theorem phi_then : (dats m 0 c).Φ t.succ = PhiT m c ((grid0.coords t 0).val + 1) := by
  rw [coords_at t]
  dsimp only [dats]
  rfl

/-- A point's blocks at its own contents. -/
abbrev BlocksAt (X : S512x1024.Idx → Elt F .f32) : sProp 𝕄 :=
  Blocks m c (ms_0 t) (ms_1 t) (ms_2 t) (ms_3 t) (ms_4 t) (ms_5 t) (ms_6 t) (ms_7 t) (ms_8 t) (iblk m c 0 t) (iblk m c 1 t) (iblk m c 2 t) (iblk m c 3 t) (grid0.coords t 0).val X

theorem sound_point (h : Ready m) (X : S512x1024.Idx → Elt F .f32) :
    iprop(PhiT m c (grid0.coords t 0).val ∗ BlocksAt m c t X)
      ⊢ Wp c (bodyAt t) (fun _ => iprop(PhiT m c ((grid0.coords t 0).val + 1) ∗ BlocksAt m c t (outV m c (grid0.coords t 0).val))) :=
  point m c (grid0.coords t) _ _ _ _ _ _ _ _ _ _ _ _ _ _ _ _ _ _ (iblk m c 0 t) (iblk m c 1 t) (iblk m c 2 t) (iblk m c 3 t)
    (fun hz => by rw [hz]; exact tab_first m h c t) (fun hT => tab_next m h c t hT) X

theorem wp_weaken {p : Prog (TpuEff nD τ sig (Elt F) Λ₀ .tc) PUnit} {Q Q' : PUnit → sProp 𝕄} (hQ : ∀ a, Q a ⊢ Q' a) : Wp c p Q ⊢ Wp c p Q' :=
  wp_mono _ _ _ hQ

theorem leave : iprop(PhiT m c ((grid0.coords t 0).val + 1) ∗ BlocksAt m c t (outV m c (grid0.coords t 0).val)) ⊢ bodyPost m c t := by
  unfold bodyPost
  rw [phi_then, after_0, after_1, after_2, after_3, after_4, after_5, after_6, after_7, after_8, blk_4, blk_5, blk_6, blk_7]
  unfold Dat.owesAt Pipeline.owesWithin
  rw [show (dats m 0 c).owed t.succ = 0 from rfl, ← coords_at t]
  unfold BlocksAt Blocks
  iintro ⟨HP, ⟨%W, HW⟩, H0, H1, H2, H3, H4, H5, H6, H7, H8⟩
  isplitl [HP]; · iexact HP
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem enter : bodyPre m c t ⊢ iprop(∃ d8, PhiT m c (grid0.coords t 0).val ∗ BlocksAt m c t ((dats m 0 c).before 8 t d8)) := by
  unfold bodyPre
  simp only [before_0, before_1, before_2, before_3, before_4, before_5, before_6, before_7]
  rw [phi_now, blk_4, blk_5, blk_6, blk_7]
  unfold Dat.owesAt Pipeline.owesWithin BlocksAt Blocks
  rw [show (dats m 0 c).owed t.castSucc = 0 from rfl]
  iintro ⟨HP, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iexists d8
  isplitl [HP]; · iexact HP
  isplitl [HW]; · iexists W; iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem sound_body (h : Ready m) : bodyPre m c t ⊢ Wp c (bodyAt t) (fun _ => bodyPost m c t) :=
  (enter m c t).trans (sProp.exists_elim fun d8 =>
    (sound_point m c t h ((dats m 0 c).before 8 t d8)).trans (wp_weaken c fun _ => leave m c t))

end Cert.Comb

end
-- ==== Proof.CombPre.lean ====
/- The combination's precondition, read: both slots of every token name a row of the experts'. -/
module

public import proofs.«01_k».proof.Proof.CombRun
public import proofs.«01_k».proof.Proof.Gen.Pre_slots_in_range

public import Idealize.ShloMosaic.Lib.StableHlo.Predicate

@[expose] public section

set_option maxRecDepth 16384

noncomputable section

namespace Cert.Comb

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

local notation "𝕄" => MT nD τ sig Unit (Elt F) ℕ (Pipeline.UD sig nD τ) ℕ

variable (m : (ℓ : Loc nD τ sig) → Buf (Elt F) ℓ)

theorem andi_one {w : BitVec 1} {v : BitVec 1} (h : w &&& v = 1#1) : w = 1#1 ∧ v = 1#1 := by
  revert w v; decide

theorem below {x : BitVec 32} {n : ℕ} (hn : n < 2147483648) (h0 : 0 ≤ x.toInt) (h1 : x.toInt < (n : ℤ)) : x.toNat < n := by
  have e := BitVec.toInt_eq_toNat_cond x
  have := x.isLt
  split at e <;> omega

theorem parts {s t : BitVec 32}
    (e : IntOp.andi (IntOp.andi (IntOp.andi (IntOp.cmpi .sge s 0#32) (IntOp.cmpi .slt s 73728#32)) (IntOp.cmpi .sge t 0#32)) (IntOp.cmpi .slt t 73728#32) = 1#1) :
    s.toNat < 73728 ∧ t.toNat < 73728 := by
  obtain ⟨e1, t2⟩ := andi_one e
  obtain ⟨es, t1⟩ := andi_one e1
  obtain ⟨s1, s2⟩ := andi_one es
  simp only [IntOp.cmpi, StableHlo.Predicate.ofBool_eq_one_iff, BitVec.sle_iff_toInt_le, BitVec.slt_iff_toInt_lt] at t1 t2 s1 s2
  exact ⟨below (by decide) s1 s2, below (by decide) t1 t2⟩

theorem ready_of (h : ∀ c : Dev nD, (Cert.Pre_slots_in_range.fn (F := F) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))) = fun _ => 1#1) : Ready m := by
  intro b c x
  have e := congrFun (h c) (ix1 x)
  simp only [Cert.Pre_slots_in_range.fn, andi, cmpi, constantI, broadcastInDim] at e
  have p := parts e
  unfold slW
  rw [V_arg1, V_arg2]
  by_cases hb : b = 0
  · rw [if_pos hb]; exact p.1
  · rw [if_neg hb]; exact p.2

end Cert.Comb

end
-- ==== Proof.CombSame.lean ====
/-
  The combining call's program and its reading at the extended reals are one text: over any float values their bodies, their body
  tables and their mains are equal. So the one run of the call serves both.
-/
module

public import proofs.«01_k».proof.Defs
public import proofs.«01_k».proof.Proof.Gen.Kernel2
public import proofs.«01_k».proof.Proof.Gen.Kernel2Ideal
public import Idealize.ShloMosaic.Init

@[expose] public section

set_option maxRecDepth 16384

noncomputable section

namespace Cert.Comb.Same

open Idealize.ShloMosaic

variable {F : FTy → Type} [FloatOps F]

local instance : Cert.Kernel2.Facts := Cert.Kernel2.Gen.facts
local instance : Cert.Kernel2Ideal.Facts := Cert.Kernel2Ideal.Gen.facts

set_option maxHeartbeats 40000000 in
/-- The two bodies, statement by statement. -/
theorem body_eq : @Cert.Kernel2.cc0_moe_combine F _ _ = @Cert.Kernel2Ideal.cc0_moe_combine F _ _ := rfl

/-- The tables of the bodies: one label, and the same body on the same buffers at it. -/
theorem defs₀_eq : Cert.Kernel2.defs₀ (F := F) = Cert.Kernel2Ideal.defs₀ := by
  unfold Cert.Kernel2.defs₀ Cert.Kernel2Ideal.defs₀
  rw [body_eq]
  refine congrArg Defs.onTc (funext fun l => funext fun x => ?_)
  match l, x with
  | 0, (t, s) => rfl
  | ⟨_ + 1, h⟩, _ => exact absurd h (Nat.not_lt.2 (Nat.le_add_left _ _))

/-- The tables with the call's pipeline. -/
theorem defs_eq : Cert.Kernel2.defs (F := F) = Cert.Kernel2Ideal.defs := by
  unfold Cert.Kernel2.defs
  rw [defs₀_eq]
  rfl

/-- The mains: the scale's reshape and the call. -/
theorem main_eq : Cert.Kernel2.main (F := F) = Cert.Kernel2Ideal.main := rfl

end Cert.Comb.Same

end
-- ==== Proof.CombLaunch.lean ====
/- The combining call's launch: every point's run put together, from the buffers it is given to the buffers it leaves. -/
module

public import proofs.«01_k».proof.Proof.CombRun

@[expose] public section

set_option maxRecDepth 16384

noncomputable section

namespace Cert.Comb

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

local notation "𝕄" => MT nD τ sig Unit (Elt F) ℕ (Pipeline.UD sig nD τ) ℕ

open Idealize.ShloMosaic.Pipeline (Dat Cfg Window BodyObligation)

variable (m : (ℓ : Loc nD τ sig) → Buf (Elt F) ℓ) (ρ : Dev nD → PrngReg)

theorem body_obligation (h : Ready m) (c : Dev nD) : BodyObligation (dats (F := F) m 0 c) (defs₀ (F := F)) Variants.none () Set.univ := fun t => by
  rw [bigSep_W0, bigSep_W0, defs₀_row]
  exact triple_restated (sound_body m c t h) rfl .rfl fun _ => .rfl

/-- The copies' two cells. -/
abbrev osem0 : Fin 2 → SemLoc sig := fun j => (![.dma (semOf 0), .dma (semOf 1)] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c.tc : Thread nD τ), .dma (semOf 0)) 0 ∗ semVal ((c.tc : Thread nD τ), .dma (semOf 1)) 0) := by
  rw [Pipeline.ownSems0_eq_of_list c osem0 [0, 1] (by decide) (by decide)]; rfl
/-- The experts' rows, read where they lie. -/
def H0 : Finset (Ref sig .tc) := {main_arg0}
theorem H0_sub : H0 ⊆ Pipeline.restRefs sig spec0 := by decide
theorem hbmPts0_eq (c : Dev nD) :
    (bigSep H0 (fun b => ((c : Thread nD τ).loc b) ↦{fullShare} V m c b) : sProp 𝕄) = iprop(tokL c ↦{fullShare} tokV m c) := by
  rw [BI.bigSep_eq_bigSepL_of_eq [main_arg0] (by decide) (by decide)]; rfl
theorem PhiD0_eq (c : Dev nD) :
    (Pipeline.ΦD osem0 spec0 H0 (V m) c : sProp 𝕄)
      = iprop(((∃ f : Buf (Elt F) ((c : Thread nD τ).loc cc0_scratch0), ((c : Thread nD τ).loc cc0_scratch0) ↦{fullShare} f)
          ∗ (∃ f : Buf (Elt F) ((c : Thread nD τ).loc cc0_scratch2), ((c : Thread nD τ).loc cc0_scratch2) ↦{fullShare} f))
        ∗ (∃ r, prngReg c r) ∗ (semVal ((c.tc : Thread nD τ), .dma (semOf 0)) 0 ∗ semVal ((c.tc : Thread nD τ), .dma (semOf 1)) 0)
        ∗ (tokL c ↦{fullShare} tokV m c)) := by
  rw [Pipeline.ΦD_eq, scopedRest0_eq, ownSems00_eq, hbmPts0_eq]

theorem whole_in (c : Dev nD) (b : Ref sig .tc) (f : Buf (Elt F) ((c.tc : Thread nD τ).loc b)) :
    (((c.tc : Thread nD τ).loc b) ↦{fullShare} f : sProp 𝕄) ⊢ owns (c.tc : Thread nD τ) (Memref.whole b) fullShare f := by rw [owns_whole]
theorem whole_out (c : Dev nD) (b : Ref sig .tc) (f : Buf (Elt F) ((c.tc : Thread nD τ).loc b)) :
    (owns (c.tc : Thread nD τ) (Memref.whole b) fullShare f : sProp 𝕄) ⊢ (((c.tc : Thread nD τ).loc b) ↦{fullShare} f) := by rw [owns_whole]

theorem tok_split (c : Dev nD) : (tokL c ↦{fullShare} tokV m c : sProp 𝕄) ⊢ iprop((tokL c ↦{half 0} tokV m c) ∗ (tokL c ↦{half 1} tokV m c)) := (halves c (tokV m c)).1
theorem tok_join (c : Dev nD) : iprop((tokL c ↦{half 0} tokV m c) ∗ (tokL c ↦{half 1} tokV m c)) ⊢ (tokL c ↦{fullShare} tokV m c : sProp 𝕄) := (halves c (tokV m c)).2

theorem phi_in (c : Dev nD) : Pipeline.ΦD osem0 spec0 H0 (V m) c ⊢ PhiT m c 0 := by
  rw [PhiD0_eq]
  unfold PhiT
  rw [copies_first]
  unfold Rest
  iintro ⟨⟨⟨%f0, Hr⟩, ⟨%f2, Hh⟩⟩, Hg, ⟨Hs0, Hs1⟩, Htok⟩
  ihave HR := (rows_split c f0) $$ Hr
  icases HR with ⟨H0, H1⟩
  ihave HT := (tok_split m c) $$ Htok
  icases HT with ⟨T0, T1⟩
  isplitl [H0 H1 Hs0 Hs1 T0 T1]
  · isplitl [H0 Hs0 T0]
    · isplitl [H0]; · iexact H0
      isplitl [Hs0]; · iexact Hs0
      iexact T0
    isplitl [H1]; · iexact H1
    isplitl [Hs1]; · iexact Hs1
    iexact T1
  isplitl [Hh]
  · iexists f2
    iapply (whole_in c cc0_scratch2 f2)
    iexact Hh
  iexact Hg

theorem phi_out (c : Dev nD) : PhiT m c 64 ⊢ Pipeline.ΦD osem0 spec0 H0 (V m) c := by
  rw [PhiD0_eq]
  unfold PhiT
  rw [copies_last]
  unfold Rest
  iintro ⟨⟨⟨H0, Hs0, T0⟩, ⟨H1, Hs1, T1⟩⟩, ⟨%f2, Hh⟩, Hg⟩
  isplitl [H0 H1 Hh]
  · isplitl [H0 H1]
    · iapply (rows_join c)
      isplitl [H0]; · iexact H0
      iexact H1
    iexists f2
    iapply (whole_out c cc0_scratch2 f2)
    iexact Hh
  isplitl [Hg]; · iexact Hg
  isplitl [Hs0 Hs1]
  · isplitl [Hs0]; · iexact Hs0
    iexact Hs1
  iapply (tok_join m c)
  isplitl [T0]; · iexact T0
  iexact T1

set_option backward.isDefEq.respectTransparency.types false in
/-- The whole run: it ends, every counter at zero, every array as the points leave it. -/
theorem run_main (h : Ready m) :
    θ_run defs (onTc (τ := τ) (main (F := F))) (s₀ m ρ) (fun r => Pipeline.FramePost cfgs (dats m) (0 : Fin 1) (V m) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m h c).loose) (hq := fun _ _ _ => rfl) (howed := fun _ _ => rfl) (V := V m) (hmain := hmain m Variants.none)
    (hA := A_eq m) (hin := fun c => phi_in m c) (hout := fun c => phi_out m c)

/-- The result array: tile `T`'s result is its rows `512 T` on. -/
def outG (c : Dev nD) : S32768x1024.Idx → Elt F .f32 := fun y =>
  outV m c ((y 0).val / 512) (ix2 (⟨(y 0).val % 512, Nat.mod_lt _ (by decide)⟩ : Fin 512) (⟨(y 1).val, (y 1).isLt⟩ : Fin 1024))

section
variable (c : Dev nD)

/-- Where a point's result block lies in the result. -/
abbrev embOut (t : Fin cfg0.N) (y : S512x1024.Idx) : S32768x1024.Idx := ((cfg0.win 8).blk t).view.emb y

theorem blk_row (t : Fin cfg0.N) (y : S512x1024.Idx) :
    (embOut t y 0).val = t.val * 512 + (y 0).val ∧ (embOut t y 1).val = (y 1).val := by
  have e := ix_row (grid0.coords t)
  have e0 := coords_at t
  constructor
  · show cc0_transform_5 (grid0.coords t) 0 * 512 + 1 * (y 0).val = _
    rw [e, ← e0]
    show (grid0.coords t 0).val * 512 + 1 * (y 0).val = _
    omega
  · show cc0_transform_5 (grid0.coords t) 1 * 1024 + 1 * (y 1).val = _
    rw [e]
    show 0 * 1024 + 1 * (y 1).val = _
    omega

theorem flushed8 (t : Fin cfg0.N) : (dats m 0 c).flushed 8 t = ((cfg0.win 8).blk t).view.read (Elt F) (outG m c) := by
  show (cfg0.win 8).cut _ ((dats m 0 c).after 8 t) = _
  rw [after_8]
  refine funext fun y : S512x1024.Idx => ?_
  show outV m c t.val y = outG m c (embOut t y)
  obtain ⟨e0, e1⟩ := blk_row t y
  have hy : (y 0).val < 512 := (y 0).isLt
  unfold outG
  have d : (embOut t y 0).val / 512 = t.val := by rw [e0]; omega
  rw [d]
  congr 1
  funext a
  apply Fin.ext
  match a with
  | ⟨0, _⟩ =>
    show (y 0).val = (embOut t y 0).val % 512
    rw [e0]; omega
  | ⟨1, _⟩ => exact e1.symm

theorem final_out : (dats m 0 c).arrAt 8 cfg0.N = outG m c :=
  (dats m 0 c).arrAt_eq_of_cover 8 (outG m c) (fun t _ => flushed8 m c t) fun (y : S32768x1024.Idx) => by
    have h0 : (y 0).val < 32768 := (y 0).isLt
    have h1 : (y 1).val < 1024 := (y 1).isLt
    have hN : cfg0.N = 64 := N_0
    refine ⟨⟨(y 0).val / 512, by rw [hN]; omega⟩, flush0_8 _, ?_⟩
    generalize ht : (⟨(y 0).val / 512, _⟩ : Fin cfg0.N) = t
    have hv : t.val = (y 0).val / 512 := by rw [← ht]
    have e : embOut t (ix2 (⟨(y 0).val % 512, Nat.mod_lt _ (by decide)⟩ : Fin 512) (⟨(y 1).val, h1⟩ : Fin 1024)) = y := by
      obtain ⟨e0, e1⟩ := blk_row t (ix2 (⟨(y 0).val % 512, Nat.mod_lt _ (by decide)⟩ : Fin 512) (⟨(y 1).val, h1⟩ : Fin 1024))
      funext a
      apply Fin.ext
      match a with
      | ⟨0, _⟩ => refine e0.trans ?_; rw [hv]; show (y 0).val / 512 * 512 + (y 0).val % 512 = (y 0).val; omega
      | ⟨1, _⟩ => exact e1
    have hm := ((cfg0.win 8).blk t).view.emb_mem_set (ix2 (⟨(y 0).val % 512, Nat.mod_lt _ (by decide)⟩ : Fin 512) (⟨(y 1).val, h1⟩ : Fin 1024) : S512x1024.Idx)
    exact e ▸ hm
end

/-- The run, read: the result array at the tiles' results, the arguments as they were, every counter at zero. -/
theorem run_read (h : Ready m) : θ_run defs (onTc (τ := τ) (main (F := F))) ⟨m, fun _ => 0, ρ⟩ (fun r => (∀ c : Dev nD,
    r.2.mem ((c.tc : Thread nD τ).loc main_v1) = outG m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6))
    ∧ r.2.sem = fun _ => 0) :=
  (θ_run defs _ _).mono (fun r (hr : _ ∧ _) => ⟨fun c =>
    ⟨((hr.1 c).1 8).trans (final_out m c),
      ((hr.1 c).2 main_arg0 (by decide : main_arg0 ∈ Pipeline.restRefs sig spec0)).trans (V_arg0 m c),
      ((hr.1 c).1 0).trans (((dats m 0 c).arrAt_in 0 rfl _).trans (V_arg1 m c)),
      ((hr.1 c).1 1).trans (((dats m 0 c).arrAt_in 1 rfl _).trans (V_arg2 m c)),
      ((hr.1 c).1 4).trans (((dats m 0 c).arrAt_in 4 rfl _).trans (V_arg3 m c)),
      ((hr.1 c).2 main_arg4 (by decide : main_arg4 ∈ Pipeline.restRefs sig spec0)).trans (V_arg4 m c),
      ((hr.1 c).1 6).trans (((dats m 0 c).arrAt_in 6 rfl _).trans (V_arg5 m c)),
      ((hr.1 c).1 7).trans (((dats m 0 c).arrAt_in 7 rfl _).trans (V_arg6 m c))⟩, hr.2⟩)
    (run_main m ρ h)

end Cert.Comb

end
-- ==== Proof.CombRefRun.lean ====
/-
  The combination's reference: its run, its operations in order with the function calls inlined, and what its result's
  buffer holds at the end as one term of the arguments' launch contents.
-/
module

public import proofs.«01_k».proof.Defs
public import proofs.«01_k».proof.Proof.Gen.Reference2Ideal
public import Idealize.ShloMosaic.Lib.StableHlo.Run

@[expose] public section

set_option maxRecDepth 16384

noncomputable section

namespace Cert.CombRef

open Cert.Reference2Ideal Cert.Reference2Ideal.Gen
open Idealize.ShloMosaic Idealize.ShloMosaic.TcCoe Idealize.ShloMosaic.StableHlo Idealize.SL.Sem

variable {F : FTy → Type} [FloatOps F]

/-- The reference's operations: each token's two rows gathered, weighed and added, the sum normalised, scaled by the gains,
    gated, and added to the stream. -/
abbrev ops : List (HloOp τ sig (Elt F)) :=
  [ reshape main_arg0 main_v0 rfl shapeCasts_S589824x128_S73728x1024,
    unary main_arg3 main_v1 (extractStridedSlice S32768x1 ![0, 10] · slices_S32768x128_S32768x1_0_10),
    unary main_arg1 main_call0_v0 (broadcastInDim S32768x1 ![0] bcast_S32768_S32768x1_0),
    binary main_v0 main_call0_v0 main_v2
      (fun x i => Host.gather gather_S73728x1024_S32768x1_S32768x1024_1_0_n_n_0_1_11024 x i),
    unary main_v1 main_v3 (broadcastInDim S32768x1024 ![0, 1] bcast_S32768x1_S32768x1024_0_1),
    binary main_v3 main_v2 main_v4 mulf,
    unary main_arg3 main_v5 (extractStridedSlice S32768x1 ![0, 11] · slices_S32768x128_S32768x1_0_11),
    unary main_arg2 main_call1_v0 (broadcastInDim S32768x1 ![0] bcast_S32768_S32768x1_0),
    binary main_v0 main_call1_v0 main_v6
      (fun x i => Host.gather gather_S73728x1024_S32768x1_S32768x1024_1_0_n_n_0_1_11024 x i),
    unary main_v5 main_v7 (broadcastInDim S32768x1024 ![0, 1] bcast_S32768x1_S32768x1024_0_1),
    binary main_v7 main_v6 main_v8 mulf,
    binary main_v4 main_v8 main_v9 addf,
    binary main_v9 main_v9 main_v10 mulf,
    nullary main_cst (constant S_ .f32 0x00000000#32),
    binary main_v10 main_cst main_v11 (fun x v => Host.reduceAdd x v reducesTo_S32768x1024_S32768_d1 h_S_),
    unary main_v11 main_v12 (broadcastInDim S32768x1 ![0] bcast_S32768_S32768x1_0),
    nullary main_cst_0 (constant S_ .f32 0x44800000#32),
    unary main_cst_0 main_v13 (broadcastInDim S32768x1 ![] bcast_S_S32768x1),
    binary main_v12 main_v13 main_v14 Host.divf,
    nullary main_cst_1 (constant S_ .f32 0x358637BD#32),
    unary main_cst_1 main_v15 (broadcastInDim S32768x1 ![] bcast_S_S32768x1),
    binary main_v14 main_v15 main_v16 addf,
    unary main_v16 main_v17 Host.rsqrt,
    unary main_v17 main_v18 (broadcastInDim S32768x1024 ![0, 1] bcast_S32768x1_S32768x1024_0_1),
    binary main_v9 main_v18 main_v19 mulf,
    unary main_arg4 main_v20 (broadcastInDim S1x1024 ![1] bcast_S1024_S1x1024_1),
    unary main_v20 main_v21 (broadcastInDim S32768x1024 ![0, 1] bcast_S1x1024_S32768x1024_0_1),
    binary main_v19 main_v21 main_v22 mulf,
    reshape main_v22 main_v23 rfl shapeCasts_S32768x1024_S2x16384x1024,
    reshape main_arg6 main_v24 rfl shapeCasts_S32768x1024_S2x16384x1024,
    unary main_arg5 main_v25 (broadcastInDim S2x16384x1024 ![0, 1, 2] bcast_S2x1x1024_S2x16384x1024_0_1_2),
    binary main_v25 main_v23 main_v26 mulf,
    binary main_v24 main_v26 main_v27 addf,
    reshape main_v27 main_v28 rfl shapeCasts_S2x16384x1024_S32768x1024 ]

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., unary_bufs_sub .., unary_bufs_sub .., binary_bufs_sub .., unary_bufs_sub ..,
    binary_bufs_sub .., unary_bufs_sub .., unary_bufs_sub .., binary_bufs_sub .., unary_bufs_sub ..,
    binary_bufs_sub .., binary_bufs_sub .., binary_bufs_sub .., nullary_bufs_sub .., binary_bufs_sub ..,
    unary_bufs_sub .., nullary_bufs_sub .., unary_bufs_sub .., binary_bufs_sub .., nullary_bufs_sub ..,
    unary_bufs_sub .., binary_bufs_sub .., unary_bufs_sub .., unary_bufs_sub .., binary_bufs_sub ..,
    unary_bufs_sub .., unary_bufs_sub .., binary_bufs_sub .., reshape_bufs_sub .., reshape_bufs_sub ..,
    unary_bufs_sub .., binary_bufs_sub .., binary_bufs_sub .., reshape_bufs_sub ..⟩

/-- Each token's row by slot. -/
abbrev take (ys : FVec F S589824x128 .f32) (s : IVec S32768 32) : FVec F S32768x1024 .f32 :=
  Host.gather gather_S73728x1024_S32768x1_S32768x1024_1_0_n_n_0_1_11024
    (shapeCast S73728x1024 ys shapeCasts_S589824x128_S73728x1024)
    (broadcastInDim S32768x1 ![0] bcast_S32768_S32768x1_0 s)

/-- The two rows weighed and added. -/
abbrev mix (ys : FVec F S589824x128 .f32) (s0 s1 : IVec S32768 32) (route : FVec F S32768x128 .f32) : FVec F S32768x1024 .f32 :=
  addf
    (mulf (broadcastInDim S32768x1024 ![0, 1] bcast_S32768x1_S32768x1024_0_1
      (extractStridedSlice S32768x1 ![0, 10] route slices_S32768x128_S32768x1_0_10)) (take ys s0))
    (mulf (broadcastInDim S32768x1024 ![0, 1] bcast_S32768x1_S32768x1024_0_1
      (extractStridedSlice S32768x1 ![0, 11] route slices_S32768x128_S32768x1_0_11)) (take ys s1))

/-- One over the root mean square of each row. -/
abbrev irms (t : FVec F S32768x1024 .f32) : FVec F S32768x1 .f32 :=
  Host.rsqrt (addf
    (Host.divf (broadcastInDim S32768x1 ![0] bcast_S32768_S32768x1_0
        (Host.reduceAdd (mulf t t) (constant (F := F) S_ .f32 0x00000000#32) reducesTo_S32768x1024_S32768_d1 h_S_))
      (broadcastInDim S32768x1 ![] bcast_S_S32768x1 (constant (F := F) S_ .f32 0x44800000#32)))
    (broadcastInDim S32768x1 ![] bcast_S_S32768x1 (constant (F := F) S_ .f32 0x358637BD#32)))

/-- The rows normalised, with the gains. -/
abbrev normed (t : FVec F S32768x1024 .f32) (g : FVec F S1024 .f32) : FVec F S32768x1024 .f32 :=
  mulf (mulf t (broadcastInDim S32768x1024 ![0, 1] bcast_S32768x1_S32768x1024_0_1 (irms t)))
    (broadcastInDim S32768x1024 ![0, 1] bcast_S1x1024_S32768x1024_0_1 (broadcastInDim S1x1024 ![1] bcast_S1024_S1x1024_1 g))

/-- The stream plus the gated rows. -/
abbrev added (x n : FVec F S32768x1024 .f32) (gate : FVec F S2x1x1024 .f32) : FVec F S32768x1024 .f32 :=
  shapeCast S32768x1024
    (addf (shapeCast S2x16384x1024 x shapeCasts_S32768x1024_S2x16384x1024)
      (mulf (broadcastInDim S2x16384x1024 ![0, 1, 2] bcast_S2x1x1024_S2x16384x1024_0_1_2 gate)
        (shapeCast S2x16384x1024 n shapeCasts_S32768x1024_S2x16384x1024)))
    shapeCasts_S2x16384x1024_S32768x1024

/-- The reference's result of its arguments. -/
abbrev result (ys : FVec F S589824x128 .f32) (s0 s1 : IVec S32768 32) (route : FVec F S32768x128 .f32)
    (g : FVec F S1024 .f32) (gate : FVec F S2x1x1024 .f32) (x : FVec F S32768x1024 .f32) : FVec F S32768x1024 .f32 :=
  added x (normed (mix ys s0 s1 route) g) gate

/-- Every execution of the reference terminates with its result in its buffer and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem (c.tc.loc main_v28) = result (F := F) (m (c.tc.loc main_arg0)) (m (c.tc.loc main_arg1))
        (m (c.tc.loc main_arg2)) (m (c.tc.loc main_arg3)) (m (c.tc.loc main_arg4)) (m (c.tc.loc main_arg5))
        (m (c.tc.loc main_arg6))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6) :=
  (θ_run defs _ _).mono
    (fun _ h c => ⟨(h c main_v28).trans (by after_results; rfl),
      (h c main_arg0).trans (by after_results), (h c main_arg1).trans (by after_results),
      (h c main_arg2).trans (by after_results), (h c main_arg3).trans (by after_results),
      (h c main_arg4).trans (by after_results), (h c main_arg5).trans (by after_results),
      (h c main_arg6).trans (by after_results)⟩)
    (run_seq scopedRefs_eq scopedSems_eq defs main (fun _ => ops) main_eq (fun _ => ops_sub) m ρ)

end Cert.CombRef
-- ==== Proof.CombVal.lean ====
/-
  What the combination's tile, and its reference, compute at an element, over the extended reals.
-/
module

public import proofs.«01_k».proof.Proof.CombRefRun
public import proofs.«01_k».proof.Proof.Gen.Kernel2Ideal.Skeleton
public import Idealize.ShloMosaic.Lib.Pointwise

@[expose] public section

set_option maxRecDepth 16384

noncomputable section

namespace Cert.Comb

open Idealize.ShloMosaic

/-- One over the root mean square of a row. -/
def rms (row : Fin 1024 → EReal) : EReal :=
  Ideal.rsqrt (Ideal.div (∑ k, row k * row k) (Ideal.ofBits .f32 0x44800000#32) + Ideal.ofBits .f32 0x358637BD#32)

section
open Cert.Kernel2Ideal Cert.Kernel2Ideal.Gen

/-- A tile's two rows weighed and added. -/
abbrev mixT (route : FVec Ideal S512x128 .f32) (y0 y1 : FVec Ideal S512x1024 .f32) : FVec Ideal S512x1024 .f32 :=
  k0_pay21 (F := Ideal) (k0_pay3 route) (k0_pay12 (k0_pay2 route) y0) y1

theorem mixT_apply (route : FVec Ideal S512x128 .f32) (y0 y1 : FVec Ideal S512x1024 .f32) (r : Fin 512) (k : Fin 1024) :
    mixT route y0 y1 (ix2 r k) = route (ix2 r 10) * y0 (ix2 r k) + route (ix2 r 11) * y1 (ix2 r k) := by
  pointwise [mixT, k0_pay21, k0_pay12, k0_pay3, k0_pay2]

theorem tail_apply (t x : FVec Ideal S512x1024 .f32) (gate : FVec Ideal S1x1x1024 .f32) (g : FVec Ideal S1x1024 .f32) (r : Fin 512) (k : Fin 1024) :
    k0_pay1 (F := Ideal) t x gate g (ix2 r k)
      = x (ix2 r k) + gate (ix3 0 0 k) * (t (ix2 r k) * rms (fun j => t (ix2 r j)) * g (ix2 0 k)) := by
  pointwise [k0_pay1, rms]
end

section
open Cert.Reference2Ideal Cert.Reference2Ideal.Gen Cert.CombRef

theorem normed_apply (t : FVec Ideal S32768x1024 .f32) (g : FVec Ideal S1024 .f32) (n : Fin 32768) (k : Fin 1024) :
    normed t g (ix2 n k) = t (ix2 n k) * rms (fun j => t (ix2 n j)) * g (ix1 k) := by
  pointwise [normed, irms, rms]

theorem takeRow {α : Type} (x : S73728x1024.Idx → α) (idx : IVec S32768x1 32) (n : Fin 32768) (k : Fin 1024) (e : Fin 73728)
    (he : (idx (ix2 n 0)).toInt.toNat = e.val) :
    Host.gather gather_S73728x1024_S32768x1_S32768x1024_1_0_n_n_0_1_11024 x idx (ix2 n k) = x (ix2 e k) := by
  set d := gather_S73728x1024_S32768x1_S32768x1024_1_0_n_n_0_1_11024 with hd
  unfold Host.gather
  congr 1
  funext a
  refine Fin.ext ?_
  show d.start (ix2 n k) idx a + d.batchCoord (ix2 n k) a + d.offCoord (ix2 n k) a = _
  rw [GatherDims.batchCoord_eq_zero _ _ _ List.not_mem_nil, Nat.add_zero]
  match a with
  | ⟨0, _⟩ =>
    have hs : d.siIdx (ix2 n k) ⟨0, by decide⟩ = ix2 n 0 := by
      funext b
      match b with
      | ⟨0, _⟩ => rfl
      | ⟨1, _⟩ => rfl
    show min (idx (d.siIdx (ix2 n k) ⟨0, _⟩)).toInt.toNat (73728 - 1) + 0 = e.val
    rw [hs, he]
    have := e.isLt
    omega
  | ⟨1, _⟩ =>
    show 0 + k.val = k.val
    omega

/-- A token's row by slot: row `e` of 1024 is rows `8 e` to `8 e + 7` of 128. -/
theorem take_apply (ys : FVec Ideal S589824x128 .f32) (s : IVec S32768 32) (n : Fin 32768) (k : Fin 1024) (e : Fin 73728)
    (he : (s (ix1 n)).toInt.toNat = e.val) :
    take ys s (ix2 n k) = ys (ix2 (⟨8 * e.val + k.val / 128, by omega⟩ : Fin 589824) (⟨k.val % 128, by omega⟩ : Fin 128)) := by
  have hz : Shape.reshapeEquiv shapeCasts_S589824x128_S73728x1024 (ix2 e k)
      = ix2 (⟨8 * e.val + k.val / 128, by omega⟩ : Fin 589824) (⟨k.val % 128, by omega⟩ : Fin 128) :=
    Shape.reshapeEquiv_eq_of_vals _ _ _ _ _ (rowMajor_val2 _ 128 rfl) (rowMajor_val2 _ 1024 rfl) (by
      show (8 * e.val + k.val / 128) * 128 + k.val % 128 = e.val * 1024 + k.val
      omega)
  rw [take, takeRow _ _ _ _ e ?_]
  · show ys (Shape.reshapeEquiv shapeCasts_S589824x128_S73728x1024 (ix2 e k)) = _
    rw [hz]
  · rw [← he]
    pointwise

theorem mix_apply (ys : FVec Ideal S589824x128 .f32) (s0 s1 : IVec S32768 32) (route : FVec Ideal S32768x128 .f32) (n : Fin 32768) (k : Fin 1024) :
    mix ys s0 s1 route (ix2 n k) = route (ix2 n 10) * take ys s0 (ix2 n k) + route (ix2 n 11) * take ys s1 (ix2 n k) := by
  generalize ha : take ys s0 = a
  generalize hb : take ys s1 = b
  rw [mix, ha, hb]
  pointwise

theorem added_apply (x t : FVec Ideal S32768x1024 .f32) (gate : FVec Ideal S2x1x1024 .f32) (n : Fin 32768) (k : Fin 1024) :
    added x t gate (ix2 n k) = x (ix2 n k) + gate (ix3 (⟨n.val / 16384, by omega⟩ : Fin 2) 0 k) * t (ix2 n k) := by
  have hy : Shape.reshapeEquiv shapeCasts_S2x16384x1024_S32768x1024 (ix2 n k)
      = ix3 (⟨n.val / 16384, by omega⟩ : Fin 2) (⟨n.val % 16384, by omega⟩ : Fin 16384) k :=
    Shape.reshapeEquiv_eq_of_vals _ _ _ _ _ (rowMajor_val3 _ 16777216 1024 rfl rfl) (rowMajor_val2 _ 1024 rfl) (by
      show n.val / 16384 * 16777216 + n.val % 16384 * 1024 + k.val = n.val * 1024 + k.val
      omega)
  have hz : Shape.reshapeEquiv shapeCasts_S32768x1024_S2x16384x1024 (ix3 (⟨n.val / 16384, by omega⟩ : Fin 2) (⟨n.val % 16384, by omega⟩ : Fin 16384) k)
      = ix2 n k :=
    Shape.reshapeEquiv_eq_of_vals _ _ _ _ _ (rowMajor_val2 _ 1024 rfl) (rowMajor_val3 _ 16777216 1024 rfl rfl) (by
      show n.val * 1024 + k.val = n.val / 16384 * 16777216 + n.val % 16384 * 1024 + k.val
      omega)
  have hb : broadcastInDim S2x16384x1024 ![0, 1, 2] bcast_S2x1x1024_S2x16384x1024_0_1_2 gate
      (ix3 (⟨n.val / 16384, by omega⟩ : Fin 2) (⟨n.val % 16384, by omega⟩ : Fin 16384) k) = gate (ix3 (⟨n.val / 16384, by omega⟩ : Fin 2) 0 k) := by
    pointwise
  show x (Shape.reshapeEquiv _ (Shape.reshapeEquiv shapeCasts_S2x16384x1024_S32768x1024 (ix2 n k)))
    + broadcastInDim S2x16384x1024 ![0, 1, 2] bcast_S2x1x1024_S2x16384x1024_0_1_2 gate (Shape.reshapeEquiv shapeCasts_S2x16384x1024_S32768x1024 (ix2 n k))
      * t (Shape.reshapeEquiv _ (Shape.reshapeEquiv shapeCasts_S2x16384x1024_S32768x1024 (ix2 n k))) = _
  rw [hy, hz, hb]

end

end Cert.Comb
-- ==== Proof.CombEq.lean ====
/-
  The combining call's result is its reference's, over the extended reals: the two compute each token's row alike.
-/
module

public import proofs.«01_k».proof.Proof.CombLaunch
public import proofs.«01_k».proof.Proof.CombVal

@[expose] public section

set_option maxRecDepth 16384

noncomputable section

namespace Cert.Comb

open Cert.Kernel2Ideal Cert.Kernel2Ideal.Gen
open Idealize.ShloMosaic Idealize.ShloMosaic.TcCoe

variable {m : (ℓ : Loc nD τ sig) → Buf (Elt Ideal) ℓ} (c : Dev nD)

theorem toInt_nat (w : BitVec 32) (h : w.toNat < 73728) : w.toInt.toNat = w.toNat := by
  rw [BitVec.toInt_eq_toNat_of_lt (by omega)]
  rfl

/-- The arguments as vectors. -/
abbrev ysA (m : (ℓ : Loc nD τ sig) → Buf (Elt Ideal) ℓ) : FVec Ideal S589824x128 .f32 := V m c main_arg0
abbrev s0A (m : (ℓ : Loc nD τ sig) → Buf (Elt Ideal) ℓ) : IVec S32768 32 := V m c main_arg1
abbrev s1A (m : (ℓ : Loc nD τ sig) → Buf (Elt Ideal) ℓ) : IVec S32768 32 := V m c main_arg2
abbrev rtA (m : (ℓ : Loc nD τ sig) → Buf (Elt Ideal) ℓ) : FVec Ideal S32768x128 .f32 := V m c main_arg3
abbrev gA (m : (ℓ : Loc nD τ sig) → Buf (Elt Ideal) ℓ) : FVec Ideal S1024 .f32 := V m c main_arg4
abbrev gtA (m : (ℓ : Loc nD τ sig) → Buf (Elt Ideal) ℓ) : FVec Ideal S2x1x1024 .f32 := V m c main_arg5
abbrev xA (m : (ℓ : Loc nD τ sig) → Buf (Elt Ideal) ℓ) : FVec Ideal S32768x1024 .f32 := V m c main_arg6

section
variable (T : Fin 64) (r : Fin 512)

/-- A tile's token. -/
abbrev tkn : Fin 32768 := ⟨512 * T.val + r.val, by omega⟩

theorem tkn_mod (x : ℕ) (hx : x = 512 * T.val + r.val) : (⟨x % 32768, Nat.mod_lt _ (by decide)⟩ : Fin 32768) = tkn T r :=
  Fin.ext (by have := T.isLt; have := r.isLt; show x % 32768 = 512 * T.val + r.val; omega)

theorem hv0_apply (h : Ready m) (k : Fin 1024) :
    (hv 0 (wdT m c T.val) (tokV m c) : FVec Ideal S512x1024 .f32) (ix2 r k) = Cert.CombRef.take (ysA c m) (s0A c m) (ix2 (tkn T r) k) := by
  have hs : (s0A c m (ix1 (tkn T r))).toInt.toNat = (wdT m c T.val ⟨2 * r.val, by omega⟩).val := by
    have e : wdT m c T.val ⟨2 * r.val, by omega⟩ = ⟨(slW m 0 c (tkn T r)).toNat % 73728, Nat.mod_lt _ (by decide)⟩ := by
      refine Fin.ext ?_
      show (slW m (2 * r.val % 2) c ⟨(512 * T.val + 2 * r.val / 2) % 32768, _⟩).toNat % 73728 = (slW m 0 c (tkn T r)).toNat % 73728
      rw [show (⟨(512 * T.val + 2 * r.val / 2) % 32768, Nat.mod_lt _ (by decide)⟩ : Fin 32768) = tkn T r from tkn_mod T r _ (by omega)]
      rw [show 2 * r.val % 2 = 0 by omega]
    rw [e]
    show _ = (slW m 0 c (tkn T r)).toNat % 73728
    rw [Nat.mod_eq_of_lt (h 0 c _), ← toInt_nat _ (h 0 c _)]
    rfl
  rw [take_apply _ _ _ _ _ hs]
  rfl

theorem hv1_apply (h : Ready m) (k : Fin 1024) :
    (hv 1 (wdT m c T.val) (tokV m c) : FVec Ideal S512x1024 .f32) (ix2 r k) = Cert.CombRef.take (ysA c m) (s1A c m) (ix2 (tkn T r) k) := by
  have hs : (s1A c m (ix1 (tkn T r))).toInt.toNat = (wdT m c T.val ⟨2 * r.val + 1, by omega⟩).val := by
    have e : wdT m c T.val ⟨2 * r.val + 1, by omega⟩ = ⟨(slW m 1 c (tkn T r)).toNat % 73728, Nat.mod_lt _ (by decide)⟩ := by
      refine Fin.ext ?_
      show (slW m ((2 * r.val + 1) % 2) c ⟨(512 * T.val + (2 * r.val + 1) / 2) % 32768, _⟩).toNat % 73728 = (slW m 1 c (tkn T r)).toNat % 73728
      rw [show (⟨(512 * T.val + (2 * r.val + 1) / 2) % 32768, Nat.mod_lt _ (by decide)⟩ : Fin 32768) = tkn T r from tkn_mod T r _ (by omega)]
      rw [show (2 * r.val + 1) % 2 = 1 by omega]
    rw [e]
    show _ = (slW m 1 c (tkn T r)).toNat % 73728
    rw [Nat.mod_eq_of_lt (h 1 c _), ← toInt_nat _ (h 1 c _)]
    rfl
  rw [take_apply _ _ _ _ _ hs]
  rfl

theorem route_apply (k : Fin 128) : (routeB m c T.val : FVec Ideal S512x128 .f32) (ix2 r k) = rtA c m (ix2 (tkn T r) k) :=
  congrArg (fun n => rtA c m (ix2 n k)) (tkn_mod T r (512 * T.val + r.val) rfl)

theorem x_apply (k : Fin 1024) : (xB m c T.val : FVec Ideal S512x1024 .f32) (ix2 r k) = xA c m (ix2 (tkn T r) k) :=
  congrArg (fun n => xA c m (ix2 n k)) (tkn_mod T r (512 * T.val + r.val) rfl)

theorem gate_apply (k : Fin 1024) : (gateB m c T.val : FVec Ideal S1x1x1024 .f32) (ix3 0 0 k)
    = gtA c m (ix3 (⟨(tkn T r).val / 16384, by omega⟩ : Fin 2) 0 k) :=
  congrArg (fun n => gtA c m (ix3 n 0 k)) (Fin.ext (by
    have := T.isLt; have := r.isLt
    show T.val / 32 % 2 = (512 * T.val + r.val) / 16384
    omega))

theorem scale_apply (k : Fin 1024) : (scaleB m c : FVec Ideal S1x1024 .f32) (ix2 0 k) = gA c m (ix1 k) := by
  show (V m c main_v0 : FVec Ideal S1x1024 .f32) (ix2 0 k) = _
  rw [V_scale, gA, V_arg4]
  show (m ((c.tc : Thread nD τ).loc main_arg4) : FVec Ideal S1024 .f32) (Shape.reshapeEquiv shapeCasts_S1024_S1x1024 (ix2 0 k)) = _
  congr 1
  exact Shape.reshapeEquiv_eq_of_vals _ _ _ _ _ (rowMajor_val1 _) (rowMajor_val2 _ 1024 rfl) (by
    show k.val = 0 * 1024 + k.val
    omega)

/-- A tile's sum of the two weighed rows is the reference's. -/
theorem mixT_eq (h : Ready m) (k : Fin 1024) :
    mixT (routeB m c T.val) (hv 0 (wdT m c T.val) (tokV m c)) (hv 1 (wdT m c T.val) (tokV m c)) (ix2 r k)
      = Cert.CombRef.mix (ysA c m) (s0A c m) (s1A c m) (rtA c m) (ix2 (tkn T r) k) := by
  rw [mixT_apply, mix_apply, hv0_apply c T r h, hv1_apply c T r h, route_apply, route_apply]

theorem out_apply (h : Ready m) (k : Fin 1024) :
    (outV m c T.val : FVec Ideal S512x1024 .f32) (ix2 r k)
      = Cert.CombRef.result (ysA c m) (s0A c m) (s1A c m) (rtA c m) (gA c m) (gtA c m) (xA c m) (ix2 (tkn T r) k) := by
  rw [Cert.CombRef.result, added_apply, normed_apply]
  show k0_pay1 (F := Ideal) (mixT (routeB m c T.val) (hv 0 (wdT m c T.val) (tokV m c)) (hv 1 (wdT m c T.val) (tokV m c))) (xB m c T.val) (gateB m c T.val) (scaleB m c) (ix2 r k) = _
  rw [tail_apply, x_apply, gate_apply c T r, scale_apply]
  have e : (fun j => mixT (routeB m c T.val) (hv 0 (wdT m c T.val) (tokV m c)) (hv 1 (wdT m c T.val) (tokV m c)) (ix2 r j))
      = fun j => Cert.CombRef.mix (ysA c m) (s0A c m) (s1A c m) (rtA c m) (ix2 (tkn T r) j) := funext fun j => mixT_eq c T r h j
  rw [e, mixT_eq c T r h]
end

/-- The call's result is the reference's of the same arguments. -/
theorem outG_eq (h : Ready m) :
    (outG m c : FVec Ideal S32768x1024 .f32) = Cert.CombRef.result (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  refine funext fun y => ?_
  have hy0 : (y 0).val < 32768 := (y 0).isLt
  have hy1 : (y 1).val < 1024 := (y 1).isLt
  have key := out_apply c (⟨(y 0).val / 512, by omega⟩ : Fin 64) (⟨(y 0).val % 512, by omega⟩ : Fin 512) h (⟨(y 1).val, hy1⟩ : Fin 1024)
  have ey : ix2 (tkn (⟨(y 0).val / 512, by omega⟩ : Fin 64) (⟨(y 0).val % 512, by omega⟩ : Fin 512)) (⟨(y 1).val, hy1⟩ : Fin 1024) = y := by
    funext a
    apply Fin.ext
    match a with
    | ⟨0, _⟩ => show 512 * ((y 0).val / 512) + (y 0).val % 512 = (y 0).val; omega
    | ⟨1, _⟩ => rfl
  rw [ey] at key
  refine Eq.trans key ?_
  rw [ysA, s0A, s1A, rtA, gA, gtA, xA, V_arg0, V_arg1, V_arg2, V_arg3, V_arg4, V_arg5, V_arg6]

end Cert.Comb
-- ==== Proof.DenseOut.lean ====
/-
  The dense call's two kinds of point: the first of a tile leaves the normed rows and the first half's product, the second
  adds the other half's product and leaves the tile's result.
-/
module

public import proofs.«01_k».proof.Proof.Gen.Kernel3Ideal.Frame
public import proofs.«01_k».proof.Proof.Gen.Kernel3Ideal.Value

@[expose] public section

set_option maxRecDepth 16384

noncomputable section

namespace Cert.Dense

open Cert.Kernel3Ideal Cert.Kernel3Ideal.Gen
open Idealize.ShloMosaic Idealize.ShloMosaic.TcCoe Idealize.ShloMosaic.Tactic

variable {F : FTy → Type} [FloatOps F]

theorem zero2 : (![0, 0] : Fin 2 → ℕ) = fun _ => 0 := funext fun a => by fin_cases a <;> rfl
theorem zero3 : (![0, 0, 0] : Fin 3 → ℕ) = fun _ => 0 := funext fun a => by fin_cases a <;> rfl

/-- The normed rows. -/
theorem rows_first (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x1408 .bf16) (harg6 : arg6.IsWhole) (arg7 : Memref sig .tc .vmem S1024x1408 .bf16) (harg7 : arg7.IsWhole) (arg8 : Memref sig .tc .vmem S1408x1024 .bf16) (harg8 : arg8.IsWhole) (arg9 : Memref sig .tc .vmem S1x1024 .f32) (harg9 : arg9.IsWhole) (arg10 : Memref sig .tc .vmem S1x1x1024 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .f32) (harg13 : arg13.IsWhole) (hc0 : cond0_0 i) (hc1 : cond0_1 i) (hc2 : ¬cond0_2 i) (hc3 : ¬cond0_3 i)
    (x0 : Vec F S512x1024 .f32) (x1 : Vec F S1x1024 .f32) (x2 : Vec F S1x1x1024 .f32) (x3 : Vec F S1x1x1024 .f32) (x4 : Vec F S1024x1408 .bf16) (x5 : Vec F S1024x1408 .bf16) (x6 : Vec F S1408x1024 .bf16) (x7 : Vec F S1x1024 .f32) (x8 : Vec F S1x1x1024 .f32) :
    sout0_A_0 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 = k0_pay1 x0 x1 x3 x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8)]
  unfold kernelRun0_A
  dsimp only
  sl_unfold_words
  simp only [View.canon_unit_zero (S := S512x1024) zero2, View.canon_cons_unit_zero (S := S512x1024) zero2,
    View.readCov_unit_zero (S := S512x1024) _ zero2, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) zero2, View.ld_unit_zero (S := S1x1024) zero2,
    View.ld_unit_zero (S := S1024x1408) zero2, View.ld_unit_zero (S := S1408x1024) zero2, View.ld_unit_zero (S := S1x1x1024) zero3]

/-- The first half's product. -/
theorem sum_first (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x1408 .bf16) (harg6 : arg6.IsWhole) (arg7 : Memref sig .tc .vmem S1024x1408 .bf16) (harg7 : arg7.IsWhole) (arg8 : Memref sig .tc .vmem S1408x1024 .bf16) (harg8 : arg8.IsWhole) (arg9 : Memref sig .tc .vmem S1x1024 .f32) (harg9 : arg9.IsWhole) (arg10 : Memref sig .tc .vmem S1x1x1024 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .f32) (harg13 : arg13.IsWhole) (hc0 : cond0_0 i) (hc1 : cond0_1 i) (hc2 : ¬cond0_2 i) (hc3 : ¬cond0_3 i)
    (x0 : Vec F S512x1024 .f32) (x1 : Vec F S1x1024 .f32) (x2 : Vec F S1x1x1024 .f32) (x3 : Vec F S1x1x1024 .f32) (x4 : Vec F S1024x1408 .bf16) (x5 : Vec F S1024x1408 .bf16) (x6 : Vec F S1408x1024 .bf16) (x7 : Vec F S1x1024 .f32) (x8 : Vec F S1x1x1024 .f32) :
    sout0_A_1 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 = k0_pay3 (k0_pay1 x0 x1 x3 x2) x4 x5 x6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8)]
  unfold kernelRun0_A
  dsimp only
  sl_unfold_words
  simp only [View.canon_unit_zero (S := S512x1024) zero2, View.canon_cons_unit_zero (S := S512x1024) zero2,
    View.readCov_unit_zero (S := S512x1024) _ zero2, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) zero2, View.ld_unit_zero (S := S1x1024) zero2,
    View.ld_unit_zero (S := S1024x1408) zero2, View.ld_unit_zero (S := S1408x1024) zero2, View.ld_unit_zero (S := S1x1x1024) zero3]

/-- The tile's result. -/
theorem out_second (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x1408 .bf16) (harg6 : arg6.IsWhole) (arg7 : Memref sig .tc .vmem S1024x1408 .bf16) (harg7 : arg7.IsWhole) (arg8 : Memref sig .tc .vmem S1408x1024 .bf16) (harg8 : arg8.IsWhole) (arg9 : Memref sig .tc .vmem S1x1024 .f32) (harg9 : arg9.IsWhole) (arg10 : Memref sig .tc .vmem S1x1x1024 .f32) (harg10 : arg10.IsWhole) (arg11 : Memref sig .tc .vmem S512x1024 .f32) (harg11 : arg11.IsWhole) (arg12 : Memref sig .tc .vmem S512x1024 .bf16) (harg12 : arg12.IsWhole) (arg13 : Memref sig .tc .vmem S512x1024 .f32) (harg13 : arg13.IsWhole) (hc0 : ¬cond0_0 i) (hc1 : ¬cond0_1 i) (hc2 : cond0_2 i) (hc3 : cond0_3 i)
    (x0 : Vec F S512x1024 .f32) (x1 : Vec F S1x1024 .f32) (x2 : Vec F S1x1x1024 .f32) (x3 : Vec F S1x1x1024 .f32) (x4 : Vec F S1024x1408 .bf16) (x5 : Vec F S1024x1408 .bf16) (x6 : Vec F S1408x1024 .bf16) (x7 : Vec F S1x1024 .f32) (x8 : Vec F S1x1x1024 .f32) (xs0 : Vec F S512x1024 .bf16) (xs1 : Vec F S512x1024 .f32) :
    out0_B_9 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 xs0 xs1 = k0_pay5 x0 x8 (k0_pay4 xs0 x4 x5 x6 xs1) x7 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 xs0 xs1)]
  unfold kernelRun0_B
  dsimp only
  sl_unfold_words
  simp only [View.canon_unit_zero (S := S512x1024) zero2, View.canon_cons_unit_zero (S := S512x1024) zero2,
    View.readCov_unit_zero (S := S512x1024) _ zero2, View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) zero2, View.ld_unit_zero (S := S1x1024) zero2,
    View.ld_unit_zero (S := S1024x1408) zero2, View.ld_unit_zero (S := S1408x1024) zero2, View.ld_unit_zero (S := S1x1x1024) zero3]

end Cert.Dense
-- ==== Proof.DenseVal.lean ====
/-
  What the dense call's tile, and its reference, compute at an element, over the extended reals: one row's arithmetic, of the
  row, the gains, the modulation's vectors and the three matrices.
-/
module

public import proofs.«01_k».proof.Proof.CombVal
public import proofs.«01_k».proof.Proof.ValueKer
public import proofs.«01_k».proof.Proof.Gen.Kernel3Ideal.Skeleton
public import proofs.«01_k».proof.Proof.Gen.Reference3Ideal.Read
public import Idealize.ShloMosaic.Lib.Pointwise

@[expose] public section

set_option maxRecDepth 16384

noncomputable section

namespace Cert.Dense

open Idealize.ShloMosaic
open Cert.Comb (rms)
open Cert.Routed (act)

/-- A row normed and modulated. -/
def hid (x g scale shift : Fin 1024 → EReal) (k : Fin 1024) : EReal :=
  x k * rms x * g k * (1 + scale k) + shift k

/-- A hidden column of a row: the gated product of the row's two sums. -/
def hcol (h wg wu : Fin 1024 → EReal) : EReal :=
  act (∑ k, h k * wg k) * ∑ k, h k * wu k

/-- A row normed, gained and gated, added to the stream. -/
def res (x gate g y : Fin 1024 → EReal) (k : Fin 1024) : EReal :=
  x k + gate k * (y k * rms y * g k)

section
open Cert.Kernel3Ideal Cert.Kernel3Ideal.Gen

theorem norm_apply (x : FVec Ideal S512x1024 .f32) (g : FVec Ideal S1x1024 .f32) (scale shift : FVec Ideal S1x1x1024 .f32) (r : Fin 512) (k : Fin 1024) :
    k0_pay1 (F := Ideal) x g scale shift (ix2 r k)
      = hid (fun j => x (ix2 r j)) (fun j => g (ix2 0 j)) (fun j => scale (ix3 0 0 j)) (fun j => shift (ix3 0 0 j)) k := by
  pointwise [k0_pay1, hid, rms]

theorem part_apply (h : FVec Ideal S512x1024 .bf16) (wg wu : FVec Ideal S1024x1408 .bf16) (wd : FVec Ideal S1408x1024 .bf16) (r : Fin 512) (k : Fin 1024) :
    k0_pay2 (F := Ideal) h wg wu wd (ix2 r k)
      = ∑ f : Fin 1408, hcol (fun j => h (ix2 r j)) (fun j => wg (ix2 j f)) (fun j => wu (ix2 j f)) * wd (ix2 f k) := by
  pointwise [k0_pay2, hcol, act]
  simp only [zero_sub]

theorem first_apply (h : FVec Ideal S512x1024 .bf16) (wg wu : FVec Ideal S1024x1408 .bf16) (wd : FVec Ideal S1408x1024 .bf16) (r : Fin 512) (k : Fin 1024) :
    k0_pay3 (F := Ideal) h wg wu wd (ix2 r k) = k0_pay2 (F := Ideal) h wg wu wd (ix2 r k) := by
  unfold k0_pay3
  generalize k0_pay2 (F := Ideal) h wg wu wd = p
  pointwise

theorem second_apply (h : FVec Ideal S512x1024 .bf16) (wg wu : FVec Ideal S1024x1408 .bf16) (wd : FVec Ideal S1408x1024 .bf16) (acc : FVec Ideal S512x1024 .f32) (r : Fin 512) (k : Fin 1024) :
    k0_pay4 (F := Ideal) h wg wu wd acc (ix2 r k) = acc (ix2 r k) + k0_pay2 (F := Ideal) h wg wu wd (ix2 r k) := by
  unfold k0_pay4
  generalize k0_pay2 (F := Ideal) h wg wu wd = p
  pointwise

theorem last_apply (x y : FVec Ideal S512x1024 .f32) (gate : FVec Ideal S1x1x1024 .f32) (g : FVec Ideal S1x1024 .f32) (r : Fin 512) (k : Fin 1024) :
    k0_pay5 (F := Ideal) x gate y g (ix2 r k)
      = res (fun j => x (ix2 r j)) (fun j => gate (ix3 0 0 j)) (fun j => g (ix2 0 j)) (fun j => y (ix2 r j)) k := by
  pointwise [k0_pay5, res, rms]
end

section
open Cert.Reference3Ideal Cert.Reference3Ideal.Gen Cert.Reference3Ideal.Read

variable (x : FVec Ideal S32768x1024 .f32) (g1 : FVec Ideal S1024 .f32) (shift scale : FVec Ideal S2x1x1024 .f32)
  (wg wu : FVec Ideal S1024x2816 .f32) (wd : FVec Ideal S2816x1024 .f32) (g2 : FVec Ideal S1024 .f32) (gate : FVec Ideal S2x1x1024 .f32)
  (b : Fin 2) (s : Fin 16384) (k : Fin 1024)

/-- A sequence's token among the tokens. -/
abbrev tokenOf (b : Fin 2) (s : Fin 16384) : Fin 32768 := ⟨16384 * b.val + s.val, by omega⟩

theorem stream_apply : val_main_v0 (F := Ideal) x (ix3 b s k) = x (ix2 (tokenOf b s) k) := by
  show x (Shape.reshapeEquiv shapeCasts_S32768x1024_S2x16384x1024 (ix3 b s k)) = _
  congr 1
  exact Shape.reshapeEquiv_eq_of_vals _ _ _ _ _ (rowMajor_val2 _ 1024 rfl) (rowMajor_val3 _ 16777216 1024 rfl rfl) (by
    show (16384 * b.val + s.val) * 1024 + k.val = b.val * 16777216 + s.val * 1024 + k.val
    omega)

theorem ref_norm : val_main_v19 (F := Ideal) x g1 shift scale (ix3 b s k)
    = hid (fun j => x (ix2 (tokenOf b s) j)) (fun j => g1 (ix1 j)) (fun j => scale (ix3 b 0 j)) (fun j => shift (ix3 b 0 j)) k := by
  simp only [← stream_apply x b s]
  simp only [val_main_v19, val_main_v18, val_main_v17, val_main_v16, val_main_v15, val_main_v14, val_main_cst_2, val_main_v13, val_main_v12,
    val_main_v11, val_main_v10, val_main_v9, val_main_v8, val_main_v7, val_main_v6, val_main_cst_1, val_main_v5, val_main_v4, val_main_cst_0,
    val_main_v3, val_main_v2, val_main_cst, val_main_v1]
  generalize val_main_v0 (F := Ideal) x = t
  pointwise [hid, rms]

theorem ref_prod : val_main_v24 (F := Ideal) x g1 shift scale wg wu wd (ix3 b s k)
    = ∑ f : Fin 2816, hcol (fun j => val_main_v19 (F := Ideal) x g1 shift scale (ix3 b s j)) (fun j => wg (ix2 j f)) (fun j => wu (ix2 j f)) * wd (ix2 f k) := by
  simp only [val_main_v24, val_main_v23, val_main_v22, val_main_v21, val_main_call0_v5, val_main_call0_v4, val_main_call0_cst_0, val_main_call0_v3,
    val_main_call0_v2, val_main_call0_cst, val_main_call0_v1, val_main_call0_v0, val_main_v20]
  generalize val_main_v19 (F := Ideal) x g1 shift scale = t
  pointwise [hcol, act]

theorem ref_last : val_main_v40 (F := Ideal) x g1 shift scale wg wu wd g2 gate (ix3 b s k)
    = res (fun j => x (ix2 (tokenOf b s) j)) (fun j => gate (ix3 b 0 j)) (fun j => g2 (ix1 j))
        (fun j => val_main_v24 (F := Ideal) x g1 shift scale wg wu wd (ix3 b s j)) k := by
  simp only [← stream_apply x b s]
  simp only [val_main_v40, val_main_v39, val_main_v38, val_main_v37, val_main_v36, val_main_v35, val_main_v34, val_main_v33, val_main_v32,
    val_main_v31, val_main_v30, val_main_cst_5, val_main_v29, val_main_v28, val_main_cst_4, val_main_v27, val_main_v26, val_main_cst_3, val_main_v25]
  generalize val_main_v0 (F := Ideal) x = t
  generalize val_main_v24 (F := Ideal) x g1 shift scale wg wu wd = y
  pointwise [res, rms]

theorem ref_out : val_main_v41 (F := Ideal) x g1 shift scale wg wu wd g2 gate (ix2 (tokenOf b s) k)
    = val_main_v40 (F := Ideal) x g1 shift scale wg wu wd g2 gate (ix3 b s k) := by
  show val_main_v40 (F := Ideal) x g1 shift scale wg wu wd g2 gate (Shape.reshapeEquiv shapeCasts_S2x16384x1024_S32768x1024 (ix2 (tokenOf b s) k)) = _
  congr 1
  exact Shape.reshapeEquiv_eq_of_vals _ _ _ _ _ (rowMajor_val3 _ 16777216 1024 rfl rfl) (rowMajor_val2 _ 1024 rfl) (by
    show b.val * 16777216 + s.val * 1024 + k.val = (16384 * b.val + s.val) * 1024 + k.val
    omega)
end

end Cert.Dense
-- ==== Proof.DenseEq.lean ====
/-
  The dense call's result is its reference's, over the extended reals: each point's blocks read off the arguments, a tile's two
  halves put together, row by row.
-/
module

public import proofs.«01_k».proof.Proof.DenseOut
public import proofs.«01_k».proof.Proof.DenseVal
public import Idealize.ShloMosaic.Lib.Pointwise

@[expose] public section

set_option maxRecDepth 16384

noncomputable section

namespace Cert.Dense

open Cert.Kernel3Ideal Cert.Kernel3Ideal.Gen
open Idealize.ShloMosaic Idealize.ShloMosaic.TcCoe Idealize.ShloMosaic.Tactic

variable (m : (ℓ : Loc nD τ sig) → Buf (Elt Ideal) ℓ) (c : Dev nD)

/-- The arguments as vectors. -/
abbrev xA : FVec Ideal S32768x1024 .f32 := m ((c : Thread nD τ).loc main_arg0)
abbrev g1A : FVec Ideal S1024 .f32 := m ((c : Thread nD τ).loc main_arg1)
abbrev shA : FVec Ideal S2x1x1024 .f32 := m ((c : Thread nD τ).loc main_arg2)
abbrev scA : FVec Ideal S2x1x1024 .f32 := m ((c : Thread nD τ).loc main_arg3)
abbrev wgA : FVec Ideal S1024x2816 .f32 := m ((c : Thread nD τ).loc main_arg4)
abbrev wuA : FVec Ideal S1024x2816 .f32 := m ((c : Thread nD τ).loc main_arg5)
abbrev wdA : FVec Ideal S2816x1024 .f32 := m ((c : Thread nD τ).loc main_arg6)
abbrev g2A : FVec Ideal S1024 .f32 := m ((c : Thread nD τ).loc main_arg7)
abbrev gtA : FVec Ideal S2x1x1024 .f32 := m ((c : Thread nD τ).loc main_arg8)

theorem V_x : V m c main_arg0 = xA m c := by unfold V; after_results
theorem V_shift : V m c main_arg2 = shA m c := by unfold V; after_results
theorem V_scale : V m c main_arg3 = scA m c := by unfold V; after_results
theorem V_gate : V m c main_arg8 = gtA m c := by unfold V; after_results
theorem V_g1 : (V m c main_v0 : FVec Ideal S1x1024 .f32) = shapeCast S1x1024 (g1A m c) shapeCasts_S1024_S1x1024 := by unfold V; after_results; rfl
theorem V_g2 : (V m c main_v4 : FVec Ideal S1x1024 .f32) = shapeCast S1x1024 (g2A m c) shapeCasts_S1024_S1x1024 := by unfold V; after_results; rfl
theorem V_wg : (V m c main_v1 : FVec Ideal S1024x2816 .bf16) = truncf .bf16 (wgA m c) bitsLt_bf16_f32 := by unfold V; after_results
theorem V_wu : (V m c main_v2 : FVec Ideal S1024x2816 .bf16) = truncf .bf16 (wuA m c) bitsLt_bf16_f32 := by unfold V; after_results
theorem V_wd : (V m c main_v3 : FVec Ideal S2816x1024 .bf16) = truncf .bf16 (wdA m c) bitsLt_bf16_f32 := by unfold V; after_results

theorem ix_row : ∀ t : Fin grid0.N, cc0_transform_0 (grid0.coords t) = ![t.val / 2, 0] := by decide +kernel
theorem ix_vec : ∀ t : Fin grid0.N, cc0_transform_1 (grid0.coords t) = ![0, 0] := by decide +kernel
theorem ix_seq : ∀ t : Fin grid0.N, cc0_transform_2 (grid0.coords t) = ![t.val / 64, 0, 0] := by decide +kernel
theorem ix_col : ∀ t : Fin grid0.N, cc0_transform_4 (grid0.coords t) = ![0, t.val % 2] := by decide +kernel
theorem ix_down : ∀ t : Fin grid0.N, cc0_transform_6 (grid0.coords t) = ![t.val % 2, 0] := by decide +kernel

theorem N_lt (t : Fin cfg0.N) : t.val < 128 := lt_of_lt_of_eq t.isLt N_0

section
variable (t : Fin cfg0.N)

/-- A row of a point's tile among the tokens. -/
abbrev rowAt (r : Fin 512) : Fin 32768 := ⟨512 * (t.val / 2) + r.val, by have := N_lt t; omega⟩
/-- A tile's sequence. -/
abbrev seqAt : Fin 2 := ⟨t.val / 64, by have := N_lt t; omega⟩
/-- A hidden column of a point's half. -/
abbrev colAt (f : Fin 1408) : Fin 2816 := ⟨1408 * (t.val % 2) + f.val, by omega⟩

theorem blk_x (r : Fin 512) (k : Fin 1024) : (iblk m c 0 t : FVec Ideal S512x1024 .f32) (ix2 r k) = xA m c (ix2 (rowAt t r) k) := by
  unfold iblk
  rw [← V_x]
  show V m c main_arg0 _ = V m c main_arg0 _
  congr 1
  funext a
  apply Fin.ext
  match a with
  | ⟨0, _⟩ =>
    show cc0_transform_0 (grid0.coords t) 0 * 512 + 1 * r.val = 512 * (t.val / 2) + r.val
    rw [ix_row]
    show t.val / 2 * 512 + 1 * r.val = _
    omega
  | ⟨1, _⟩ =>
    show cc0_transform_0 (grid0.coords t) 1 * 1024 + 1 * k.val = k.val
    rw [ix_row]
    show 0 * 1024 + 1 * k.val = _
    omega

theorem blk_g1 (k : Fin 1024) : (iblk m c 1 t : FVec Ideal S1x1024 .f32) (ix2 0 k) = g1A m c (ix1 k) := by
  unfold iblk
  trans (V m c main_v0 : FVec Ideal S1x1024 .f32) (ix2 0 k)
  · show V m c main_v0 _ = V m c main_v0 _
    congr 1
    funext a
    apply Fin.ext
    match a with
    | ⟨0, _⟩ => show 0 * 1 + 1 * 0 = 0; rfl
    | ⟨1, _⟩ => show 0 * 1024 + 1 * k.val = k.val; omega
  rw [V_g1]
  show g1A m c (Shape.reshapeEquiv shapeCasts_S1024_S1x1024 (ix2 0 k)) = _
  congr 1
  exact Shape.reshapeEquiv_eq_of_vals _ _ _ _ _ (rowMajor_val1 _) (rowMajor_val2 _ 1024 rfl) (by
    show k.val = 0 * 1024 + k.val
    omega)

theorem blk_g2 (k : Fin 1024) : (iblk m c 7 t : FVec Ideal S1x1024 .f32) (ix2 0 k) = g2A m c (ix1 k) := by
  unfold iblk
  trans (V m c main_v4 : FVec Ideal S1x1024 .f32) (ix2 0 k)
  · show V m c main_v4 _ = V m c main_v4 _
    congr 1
    funext a
    apply Fin.ext
    match a with
    | ⟨0, _⟩ => show 0 * 1 + 1 * 0 = 0; rfl
    | ⟨1, _⟩ => show 0 * 1024 + 1 * k.val = k.val; omega
  rw [V_g2]
  show g2A m c (Shape.reshapeEquiv shapeCasts_S1024_S1x1024 (ix2 0 k)) = _
  congr 1
  exact Shape.reshapeEquiv_eq_of_vals _ _ _ _ _ (rowMajor_val1 _) (rowMajor_val2 _ 1024 rfl) (by
    show k.val = 0 * 1024 + k.val
    omega)

theorem blk_shift (k : Fin 1024) : (iblk m c 2 t : FVec Ideal S1x1x1024 .f32) (ix3 0 0 k) = shA m c (ix3 (seqAt t) 0 k) := by
  unfold iblk
  rw [← V_shift]
  show V m c main_arg2 _ = V m c main_arg2 _
  congr 1
  funext a
  apply Fin.ext
  match a with
  | ⟨0, _⟩ =>
    show cc0_transform_2 (grid0.coords t) 0 * 1 + 1 * 0 = t.val / 64
    rw [ix_seq]
    show t.val / 64 * 1 + 1 * 0 = _
    omega
  | ⟨1, _⟩ =>
    show cc0_transform_2 (grid0.coords t) 1 * 1 + 1 * 0 = 0
    rw [ix_seq]
    rfl
  | ⟨2, _⟩ =>
    show cc0_transform_2 (grid0.coords t) 2 * 1024 + 1 * k.val = k.val
    rw [ix_seq]
    show 0 * 1024 + 1 * k.val = _
    omega

theorem blk_scale (k : Fin 1024) : (iblk m c 3 t : FVec Ideal S1x1x1024 .f32) (ix3 0 0 k) = scA m c (ix3 (seqAt t) 0 k) := by
  unfold iblk
  rw [← V_scale]
  show V m c main_arg3 _ = V m c main_arg3 _
  congr 1
  funext a
  apply Fin.ext
  match a with
  | ⟨0, _⟩ =>
    show cc0_transform_2 (grid0.coords t) 0 * 1 + 1 * 0 = t.val / 64
    rw [ix_seq]
    show t.val / 64 * 1 + 1 * 0 = _
    omega
  | ⟨1, _⟩ =>
    show cc0_transform_2 (grid0.coords t) 1 * 1 + 1 * 0 = 0
    rw [ix_seq]
    rfl
  | ⟨2, _⟩ =>
    show cc0_transform_2 (grid0.coords t) 2 * 1024 + 1 * k.val = k.val
    rw [ix_seq]
    show 0 * 1024 + 1 * k.val = _
    omega

theorem blk_gate (k : Fin 1024) : (iblk m c 8 t : FVec Ideal S1x1x1024 .f32) (ix3 0 0 k) = gtA m c (ix3 (seqAt t) 0 k) := by
  unfold iblk
  rw [← V_gate]
  show V m c main_arg8 _ = V m c main_arg8 _
  congr 1
  funext a
  apply Fin.ext
  match a with
  | ⟨0, _⟩ =>
    show cc0_transform_2 (grid0.coords t) 0 * 1 + 1 * 0 = t.val / 64
    rw [ix_seq]
    show t.val / 64 * 1 + 1 * 0 = _
    omega
  | ⟨1, _⟩ =>
    show cc0_transform_2 (grid0.coords t) 1 * 1 + 1 * 0 = 0
    rw [ix_seq]
    rfl
  | ⟨2, _⟩ =>
    show cc0_transform_2 (grid0.coords t) 2 * 1024 + 1 * k.val = k.val
    rw [ix_seq]
    show 0 * 1024 + 1 * k.val = _
    omega

theorem blk_wg (k : Fin 1024) (f : Fin 1408) : (iblk m c 4 t : FVec Ideal S1024x1408 .bf16) (ix2 k f) = wgA m c (ix2 k (colAt t f)) := by
  unfold iblk
  trans (V m c main_v1 : FVec Ideal S1024x2816 .bf16) (ix2 k (colAt t f))
  · show V m c main_v1 _ = V m c main_v1 _
    congr 1
    funext a
    apply Fin.ext
    match a with
    | ⟨0, _⟩ =>
      show cc0_transform_4 (grid0.coords t) 0 * 1024 + 1 * k.val = k.val
      rw [ix_col]
      show 0 * 1024 + 1 * k.val = _
      omega
    | ⟨1, _⟩ =>
      show cc0_transform_4 (grid0.coords t) 1 * 1408 + 1 * f.val = 1408 * (t.val % 2) + f.val
      rw [ix_col]
      show t.val % 2 * 1408 + 1 * f.val = _
      omega
  rw [V_wg]
  rfl

theorem blk_wu (k : Fin 1024) (f : Fin 1408) : (iblk m c 5 t : FVec Ideal S1024x1408 .bf16) (ix2 k f) = wuA m c (ix2 k (colAt t f)) := by
  unfold iblk
  trans (V m c main_v2 : FVec Ideal S1024x2816 .bf16) (ix2 k (colAt t f))
  · show V m c main_v2 _ = V m c main_v2 _
    congr 1
    funext a
    apply Fin.ext
    match a with
    | ⟨0, _⟩ =>
      show cc0_transform_4 (grid0.coords t) 0 * 1024 + 1 * k.val = k.val
      rw [ix_col]
      show 0 * 1024 + 1 * k.val = _
      omega
    | ⟨1, _⟩ =>
      show cc0_transform_4 (grid0.coords t) 1 * 1408 + 1 * f.val = 1408 * (t.val % 2) + f.val
      rw [ix_col]
      show t.val % 2 * 1408 + 1 * f.val = _
      omega
  rw [V_wu]
  rfl

theorem blk_wd (f : Fin 1408) (k : Fin 1024) : (iblk m c 6 t : FVec Ideal S1408x1024 .bf16) (ix2 f k) = wdA m c (ix2 (colAt t f) k) := by
  unfold iblk
  trans (V m c main_v3 : FVec Ideal S2816x1024 .bf16) (ix2 (colAt t f) k)
  · show V m c main_v3 _ = V m c main_v3 _
    congr 1
    funext a
    apply Fin.ext
    match a with
    | ⟨0, _⟩ =>
      show cc0_transform_6 (grid0.coords t) 0 * 1408 + 1 * f.val = 1408 * (t.val % 2) + f.val
      rw [ix_down]
      show t.val % 2 * 1408 + 1 * f.val = _
      omega
    | ⟨1, _⟩ =>
      show cc0_transform_6 (grid0.coords t) 1 * 1024 + 1 * k.val = k.val
      rw [ix_down]
      show 0 * 1024 + 1 * k.val = _
      omega
  rw [V_wd]
  rfl

/-- A tile's normed rows, as its first point leaves them. -/
abbrev normT : FVec Ideal S512x1024 .bf16 := k0_pay1 (F := Ideal) (iblk m c 0 t) (iblk m c 1 t) (iblk m c 3 t) (iblk m c 2 t)

/-- A row of the stream normed and modulated. -/
abbrev hidA (n : Fin 32768) (b : Fin 2) : Fin 1024 → EReal :=
  hid (fun j => xA m c (ix2 n j)) (fun j => g1A m c (ix1 j)) (fun j => scA m c (ix3 b 0 j)) (fun j => shA m c (ix3 b 0 j))

/-- A hidden column's share of a row's element. -/
abbrev termA (h : Fin 1024 → EReal) (k : Fin 1024) (f : Fin 2816) : EReal :=
  hcol h (fun j => wgA m c (ix2 j f)) (fun j => wuA m c (ix2 j f)) * wdA m c (ix2 f k)

theorem normT_apply (r : Fin 512) (k : Fin 1024) : normT m c t (ix2 r k) = hidA m c (rowAt t r) (seqAt t) k := by
  rw [normT, norm_apply]
  simp only [blk_x, blk_g1, blk_scale, blk_shift]

theorem half_apply (h : FVec Ideal S512x1024 .bf16) (r : Fin 512) (k : Fin 1024) :
    k0_pay2 (F := Ideal) h (iblk m c 4 t) (iblk m c 5 t) (iblk m c 6 t) (ix2 r k)
      = ∑ f : Fin 1408, termA m c (fun j => h (ix2 r j)) k (colAt t f) := by
  rw [part_apply]
  simp only [blk_wg, blk_wu, blk_wd]
end

section
variable (T : Fin 64)

/-- A tile's two points. -/
abbrev pt0 : Fin cfg0.N := ⟨2 * T.val, by rw [show cfg0.N = 128 from N_0]; omega⟩
abbrev pt1 : Fin cfg0.N := ⟨2 * T.val + 1, by rw [show cfg0.N = 128 from N_0]; omega⟩

/-- What a tile's second point leaves as its result. -/
abbrev outT : FVec Ideal S512x1024 .f32 :=
  k0_pay5 (F := Ideal) (iblk m c 0 (pt1 T)) (iblk m c 8 (pt1 T))
    (k0_pay4 (normT m c (pt0 T)) (iblk m c 4 (pt1 T)) (iblk m c 5 (pt1 T)) (iblk m c 6 (pt1 T))
      (k0_pay3 (normT m c (pt0 T)) (iblk m c 4 (pt0 T)) (iblk m c 5 (pt0 T)) (iblk m c 6 (pt0 T)))) (iblk m c 7 (pt1 T))

theorem outs_eq : (outsAt0 m c (2 * T.val + 1) (pt1 T).isLt).1 = outT m c T := by
  have e1 := outsAt0_B m c (pt1 T) (by dsimp only; omega) (by dsimp only; omega) (by dsimp only; omega) (by dsimp only; omega)
  have e0 := outsAt0_A m c (pt0 T) (by dsimp only; omega) (by dsimp only; omega) (by dsimp only; omega) (by dsimp only; omega)
  have e0a := congrArg (fun p => p.2.1) e0
  have e0b := congrArg (fun p => p.2.2) e0
  have e1a := congrArg (fun p => p.1) e1
  dsimp only at e0a e0b e1a
  rw [rows_first] at e0a
  rw [sum_first] at e0b
  rw [out_second] at e1a
  refine e1a.trans ?_
  have k0 : ∀ (n : ℕ) (h : n < cfg0.N), n = 2 * T.val → outsAt0 m c n h = outsAt0 m c (2 * T.val) (pt0 T).isLt := by
    intro n h e
    subst e
    rfl
  rw [k0 (2 * T.val + 1 - 1) _ (by omega), e0a, e0b]

theorem outT_apply (r : Fin 512) (k : Fin 1024) :
    outT m c T (ix2 r k) = res (fun j => xA m c (ix2 (rowAt (pt1 T) r) j)) (fun j => gtA m c (ix3 (seqAt (pt1 T)) 0 j)) (fun j => g2A m c (ix1 j))
      (fun j => ∑ f : Fin 2816, termA m c (hidA m c (rowAt (pt1 T) r) (seqAt (pt1 T))) j f) k := by
  rw [outT, last_apply]
  simp only [blk_x, blk_g2, blk_gate]
  congr 1
  funext j
  rw [second_apply, first_apply, half_apply, half_apply]
  have hr : rowAt (pt0 T) r = rowAt (pt1 T) r := Fin.ext (by show 512 * (2 * T.val / 2) + r.val = 512 * ((2 * T.val + 1) / 2) + r.val; omega)
  have hs : seqAt (pt0 T) = seqAt (pt1 T) := Fin.ext (by show 2 * T.val / 64 = (2 * T.val + 1) / 64; omega)
  simp only [normT_apply, hr, hs]
  rw [Fin.sum_univ_tiles 2 1408 rfl, Fin.sum_univ_two]
  have c0 : ∀ f : Fin 1408, colAt (pt0 T) f = ⟨(0 : Fin 2).val * 1408 + f.val, by have := f.isLt; show 0 * 1408 + f.val < 2816; omega⟩ := fun f =>
    Fin.ext (by show 1408 * (2 * T.val % 2) + f.val = 0 * 1408 + f.val; omega)
  have c1 : ∀ f : Fin 1408, colAt (pt1 T) f = ⟨(1 : Fin 2).val * 1408 + f.val, by have := f.isLt; show 1 * 1408 + f.val < 2816; omega⟩ := fun f =>
    Fin.ext (by show 1408 * ((2 * T.val + 1) % 2) + f.val = 1 * 1408 + f.val; omega)
  exact congrArg₂ (fun p q : EReal => p + q) (Finset.sum_congr rfl fun f _ => congrArg (termA m c _ j) (c0 f))
    (Finset.sum_congr rfl fun f _ => congrArg (termA m c _ j) (c1 f))
end

/-- The result array, element by element. -/
theorem G_apply (T : Fin 64) (r : Fin 512) (k : Fin 1024) :
    (Value.G9 m c : FVec Ideal S32768x1024 .f32) (ix2 (rowAt (pt1 T) r) k) = outT m c T (ix2 r k) := by
  have hp : Value.pt9Of (ix2 (rowAt (pt1 T) r) k) = 2 * T.val + 1 := by
    show 2 * (1 * ((512 * ((2 * T.val + 1) / 2) + r.val) / 512 - 0) + 1 * (k.val / 1024 - 0)) + 1 = _
    omega
  have hl : Value.loc9Of (ix2 (rowAt (pt1 T) r) k) = ix2 r k := by
    funext a
    apply Fin.ext
    match a with
    | ⟨0, _⟩ => show (512 * ((2 * T.val + 1) / 2) + r.val) % 512 = r.val; omega
    | ⟨1, _⟩ => show k.val % 1024 = k.val; omega
  have hN : Value.pt9Of (ix2 (rowAt (pt1 T) r) k) < cfg0.N := by rw [hp]; exact (pt1 T).isLt
  unfold Value.G9
  rw [dif_pos hN, ← Value.outsAt0_sweep m c _ hN, hl]
  have e : ∀ (n : ℕ) (h : n < cfg0.N), n = 2 * T.val + 1 → outsAt0 m c n h = outsAt0 m c (2 * T.val + 1) (pt1 T).isLt := by
    intro n h e
    subst e
    rfl
  rw [e _ hN hp, outs_eq]

/-- The call's result is the reference's of the same arguments. -/
theorem G_eq : (Value.G9 m c : FVec Ideal S32768x1024 .f32)
    = Cert.Reference3Ideal.Read.val_main_v41 (F := Ideal) (xA m c) (g1A m c) (shA m c) (scA m c) (wgA m c) (wuA m c) (wdA m c) (g2A m c) (gtA m c) := by
  refine funext fun y => ?_
  have hy0 : (y 0).val < 32768 := (y 0).isLt
  have hy1 : (y 1).val < 1024 := (y 1).isLt
  obtain ⟨T, r, k, rfl⟩ : ∃ (T : Fin 64) (r : Fin 512) (k : Fin 1024), y = ix2 (rowAt (pt1 T) r) k :=
    ⟨⟨(y 0).val / 512, by omega⟩, ⟨(y 0).val % 512, by omega⟩, ⟨(y 1).val, hy1⟩, by
      funext a
      apply Fin.ext
      match a with
      | ⟨0, _⟩ => show (y 0).val = 512 * ((2 * ((y 0).val / 512) + 1) / 2) + (y 0).val % 512; omega
      | ⟨1, _⟩ => rfl⟩
  have hb : rowAt (pt1 T) r = tokenOf (seqAt (pt1 T)) ⟨(512 * T.val + r.val) % 16384, by omega⟩ := Fin.ext (by
    show 512 * ((2 * T.val + 1) / 2) + r.val = 16384 * ((2 * T.val + 1) / 64) + (512 * T.val + r.val) % 16384
    omega)
  rw [G_apply, outT_apply, hb, ref_out, ref_last]
  congr 1
  funext j
  rw [ref_prod]
  simp only [ref_norm]

end Cert.Dense
-- ==== Proof.lean ====
/-
  The proof of `Cert.Claim`. For each of the first two calls one run, over any float values (`Cert.Routed.run_read` of the
  experts' call, `Cert.Comb.run_read` of the combining call), gives both frames and the kernel's half of the value claim; the
  references' runs are `Cert.RoutedRef.run` and `Cert.CombRef.run`; that the two results are one function over the extended
  reals is `Cert.Routed.outG_eq` and `Cert.Comb.outG_eq`. The dense call's frames and runs are the generated ones; that its
  result is its reference's is `Cert.Dense.G_eq`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Reference2Ideal
public import proofs.«01_k».proof.Proof.Gen.Pre_slots_in_range
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Frame
public import proofs.«01_k».proof.Proof.Gen.Kernel3Ideal.Value
public import proofs.«01_k».proof.Proof.Gen.Kernel3.Frame
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Run
public import proofs.«01_k».proof.Proof.Gen.Reference3Ideal.Read
public import proofs.«01_k».proof.Proof.Pre
public import proofs.«01_k».proof.Proof.Same
public import proofs.«01_k».proof.Proof.ValueEq
public import proofs.«01_k».proof.Proof.CombPre
public import proofs.«01_k».proof.Proof.CombSame
public import proofs.«01_k».proof.Proof.CombEq
public import proofs.«01_k».proof.Proof.DenseEq
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The call runs, leaves its arguments and every semaphore counter at zero. -/
theorem frame_kernel : Cert.quiescent_Kernel := by
  intro m ρ hpre
  have run := (θ_run Cert.KernelIdeal.defs _ _).mono
    (fun _ h => And.intro (fun c => (h.1 c).2) h.2)
    (Cert.Routed.run_read (F := Bits) m ρ (Cert.Routed.ready_of m hpre))
  rw [Cert.Routed.Same.defs_eq, Cert.Routed.Same.main_eq]
  exact run

/-- The same at the extended reals. -/
theorem frame_ideal : Cert.quiescent_KernelIdeal := fun m ρ hpre =>
  (θ_run Cert.KernelIdeal.defs _ _).mono (fun _ h => ⟨fun c => (h.1 c).2, h.2⟩)
    (Cert.Routed.run_read (F := Ideal) m ρ (Cert.Routed.ready_of m hpre))

/-- The reference runs and leaves its arguments; it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.RoutedRef.run (F := Ideal) m ρ)

/-- The call and the reference compute one function. -/
theorem same : Cert.algebraic_KernelIdeal_ReferenceIdeal := fun m ρ m' ρ' hpre hm =>
  have hr : Cert.Routed.Ready m := Cert.Routed.ready_of m hpre
  ⟨fun c => Cert.Routed.outG m c,
    (θ_run Cert.KernelIdeal.defs _ _).mono (fun _ h => h.1) (Cert.Routed.run_read (F := Ideal) m ρ hr),
    (θ_run Cert.ReferenceIdeal.defs _ _).mono
      (fun r h c => ⟨(h c).1.trans (by
        obtain ⟨e0, e1, e2, e3, e4, e5, e6⟩ := hm c
        rw [e0, e1, e2, e3, e4, e5, e6]
        exact (Cert.Routed.outG_eq c hr).symm), (h c).2⟩)
      (Cert.RoutedRef.run (F := Ideal) m' ρ')⟩

/-- The combining call runs, leaves its arguments and every semaphore counter at zero. -/
theorem frame_comb : Cert.quiescent_Kernel2 := by
  intro m ρ hpre
  have run := (θ_run Cert.Kernel2Ideal.defs _ _).mono
    (fun _ h => And.intro (fun c => (h.1 c).2) h.2)
    (Cert.Comb.run_read (F := Bits) m ρ (Cert.Comb.ready_of m hpre))
  rw [Cert.Comb.Same.defs_eq, Cert.Comb.Same.main_eq]
  exact run

/-- The same at the extended reals. -/
theorem frame_comb_ideal : Cert.quiescent_Kernel2Ideal := fun m ρ hpre =>
  (θ_run Cert.Kernel2Ideal.defs _ _).mono (fun _ h => ⟨fun c => (h.1 c).2, h.2⟩)
    (Cert.Comb.run_read (F := Ideal) m ρ (Cert.Comb.ready_of m hpre))

/-- Its reference runs and leaves its arguments; it has no semaphore. -/
theorem frame_comb_reference : Cert.quiescent_Reference2Ideal := fun m ρ _ =>
  (θ_run Cert.Reference2Ideal.defs _ _).mono
    (fun r h => ⟨fun c => (h c).2, sem_eq_zero_of_no_sems (by decide) r.2⟩)
    (Cert.CombRef.run (F := Ideal) m ρ)

/-- The combining call and its reference compute one function. -/
theorem same_comb : Cert.algebraic_Kernel2Ideal_Reference2Ideal := fun m ρ m' ρ' hpre hm =>
  have hr : Cert.Comb.Ready m := Cert.Comb.ready_of m hpre
  ⟨fun c => Cert.Comb.outG m c,
    (θ_run Cert.Kernel2Ideal.defs _ _).mono (fun _ h => h.1) (Cert.Comb.run_read (F := Ideal) m ρ hr),
    (θ_run Cert.Reference2Ideal.defs _ _).mono
      (fun r h c => ⟨(h c).1.trans (by
        obtain ⟨e0, e1, e2, e3, e4, e5, e6⟩ := hm c
        rw [e0, e1, e2, e3, e4, e5, e6]
        exact (Cert.Comb.outG_eq c hr).symm), (h c).2⟩)
      (Cert.CombRef.run (F := Ideal) m' ρ')⟩

/-- The dense call runs, leaves its arguments and every semaphore counter at zero. -/
theorem frame_dense : Cert.quiescent_Kernel3 := fun m ρ _ => Cert.Kernel3.Gen.frame (F := Bits) m ρ

/-- The same at the extended reals. -/
theorem frame_dense_ideal : Cert.quiescent_Kernel3Ideal := fun m ρ _ => Cert.Kernel3Ideal.Gen.frame (F := Ideal) m ρ

/-- Its reference runs and leaves its arguments; it has no semaphore. -/
theorem frame_dense_reference : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- The dense call and its reference compute one function. -/
theorem same_dense : Cert.algebraic_Kernel3Ideal_Reference3Ideal := fun m ρ m' ρ' _ hm =>
  ⟨fun c => Cert.Kernel3Ideal.Value.G9 m c,
    Cert.Kernel3Ideal.Value.run (F := Ideal) m ρ,
    (θ_run Cert.Reference3Ideal.defs _ _).mono
      (fun r h c => ⟨(h c).1.trans (by
        obtain ⟨e0, e1, e2, e3, e4, e5, e6, e7, e8⟩ := hm c
        rw [Cert.Reference3Ideal.Read.val_main_v41_eq, e0, e1, e2, e3, e4, e5, e6, e7, e8]
        exact (Cert.Dense.G_eq m c).symm), (h c).2⟩)
      (Cert.Reference3Ideal.Value.run (F := Ideal) m' ρ')⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Pre_in_range.Gen.facts, Cert.Pre_slots_in_range.Gen.facts,
    frame_kernel, frame_ideal, frame_reference, frame_comb, frame_comb_ideal, frame_comb_reference, frame_dense, frame_dense_ideal,
    frame_dense_reference, trivial, same, trivial, same_comb, trivial, same_dense⟩

end Cert.Proof

end
